-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_SsmOutDgrad (m : (ℓ : Loc Cert.SsmOutDgrad.nD Cert.SsmOutDgrad.τ Cert.SsmOutDgrad.sig) → Buf (Elt Bits) ℓ) : Prop :=
  True

def Pre_SsmOutDgradIdeal (m : (ℓ : Loc Cert.SsmOutDgradIdeal.nD Cert.SsmOutDgradIdeal.τ Cert.SsmOutDgradIdeal.sig) → Buf (Elt Ideal) ℓ) : Prop :=
  True

def Pre_SsmOutDgradPlainIdeal (m : (ℓ : Loc Cert.SsmOutDgradPlainIdeal.nD Cert.SsmOutDgradPlainIdeal.τ Cert.SsmOutDgradPlainIdeal.sig) → Buf (Elt Ideal) ℓ) : Prop :=
  True

def Pre_AttnOutDgrad (m : (ℓ : Loc Cert.AttnOutDgrad.nD Cert.AttnOutDgrad.τ Cert.AttnOutDgrad.sig) → Buf (Elt Bits) ℓ) : Prop :=
  True

def Pre_AttnOutDgradIdeal (m : (ℓ : Loc Cert.AttnOutDgradIdeal.nD Cert.AttnOutDgradIdeal.τ Cert.AttnOutDgradIdeal.sig) → Buf (Elt Ideal) ℓ) : Prop :=
  True

def Pre_AttnOutDgradIdeal_finite_gate [hPre_finite_gate : Cert.Pre_finite_gate.Facts] (m : (ℓ : Loc Cert.AttnOutDgradIdeal.nD Cert.AttnOutDgradIdeal.τ Cert.AttnOutDgradIdeal.sig) → Buf (Elt Ideal) ℓ) : Prop :=
  ∀ c : Dev Cert.AttnOutDgradIdeal.nD,
    (Cert.Pre_finite_gate.fn (F := Ideal) (m ((c.tc : Thread Cert.AttnOutDgradIdeal.nD Cert.AttnOutDgradIdeal.τ).loc Cert.AttnOutDgradIdeal.main_arg0)) (m ((c.tc : Thread Cert.AttnOutDgradIdeal.nD Cert.AttnOutDgradIdeal.τ).loc Cert.AttnOutDgradIdeal.main_arg1)) (m ((c.tc : Thread Cert.AttnOutDgradIdeal.nD Cert.AttnOutDgradIdeal.τ).loc Cert.AttnOutDgradIdeal.main_arg2)) (m ((c.tc : Thread Cert.AttnOutDgradIdeal.nD Cert.AttnOutDgradIdeal.τ).loc Cert.AttnOutDgradIdeal.main_arg3)) (m ((c.tc : Thread Cert.AttnOutDgradIdeal.nD Cert.AttnOutDgradIdeal.τ).loc Cert.AttnOutDgradIdeal.main_arg4)) (m ((c.tc : Thread Cert.AttnOutDgradIdeal.nD Cert.AttnOutDgradIdeal.τ).loc Cert.AttnOutDgradIdeal.main_arg5)) (m ((c.tc : Thread Cert.AttnOutDgradIdeal.nD Cert.AttnOutDgradIdeal.τ).loc Cert.AttnOutDgradIdeal.main_arg6))) = (fun _ => 1#1)

def Pre_AttnOutDgradPlainIdeal (m : (ℓ : Loc Cert.AttnOutDgradPlainIdeal.nD Cert.AttnOutDgradPlainIdeal.τ Cert.AttnOutDgradPlainIdeal.sig) → Buf (Elt Ideal) ℓ) : Prop :=
  True

def Pre_AttnOutDgradPlainIdeal_finite_gate [hPre_finite_gate : Cert.Pre_finite_gate.Facts] (m : (ℓ : Loc Cert.AttnOutDgradPlainIdeal.nD Cert.AttnOutDgradPlainIdeal.τ Cert.AttnOutDgradPlainIdeal.sig) → Buf (Elt Ideal) ℓ) : Prop :=
  ∀ c : Dev Cert.AttnOutDgradPlainIdeal.nD,
    (Cert.Pre_finite_gate.fn (F := Ideal) (m ((c.tc : Thread Cert.AttnOutDgradPlainIdeal.nD Cert.AttnOutDgradPlainIdeal.τ).loc Cert.AttnOutDgradPlainIdeal.main_arg0)) (m ((c.tc : Thread Cert.AttnOutDgradPlainIdeal.nD Cert.AttnOutDgradPlainIdeal.τ).loc Cert.AttnOutDgradPlainIdeal.main_arg1)) (m ((c.tc : Thread Cert.AttnOutDgradPlainIdeal.nD Cert.AttnOutDgradPlainIdeal.τ).loc Cert.AttnOutDgradPlainIdeal.main_arg2)) (m ((c.tc : Thread Cert.AttnOutDgradPlainIdeal.nD Cert.AttnOutDgradPlainIdeal.τ).loc Cert.AttnOutDgradPlainIdeal.main_arg3)) (m ((c.tc : Thread Cert.AttnOutDgradPlainIdeal.nD Cert.AttnOutDgradPlainIdeal.τ).loc Cert.AttnOutDgradPlainIdeal.main_arg4)) (m ((c.tc : Thread Cert.AttnOutDgradPlainIdeal.nD Cert.AttnOutDgradPlainIdeal.τ).loc Cert.AttnOutDgradPlainIdeal.main_arg5)) (m ((c.tc : Thread Cert.AttnOutDgradPlainIdeal.nD Cert.AttnOutDgradPlainIdeal.τ).loc Cert.AttnOutDgradPlainIdeal.main_arg6))) = (fun _ => 1#1)

def Pre_GluDgrad (m : (ℓ : Loc Cert.GluDgrad.nD Cert.GluDgrad.τ Cert.GluDgrad.sig) → Buf (Elt Bits) ℓ) : Prop :=
  True

def Pre_GluDgradIdeal (m : (ℓ : Loc Cert.GluDgradIdeal.nD Cert.GluDgradIdeal.τ Cert.GluDgradIdeal.sig) → Buf (Elt Ideal) ℓ) : Prop :=
  True

def Pre_GluDgradIdeal_finite_glu [hPre_finite_glu : Cert.Pre_finite_glu.Facts] (m : (ℓ : Loc Cert.GluDgradIdeal.nD Cert.GluDgradIdeal.τ Cert.GluDgradIdeal.sig) → Buf (Elt Ideal) ℓ) : Prop :=
  ∀ c : Dev Cert.GluDgradIdeal.nD,
    (Cert.Pre_finite_glu.fn (F := Ideal) (m ((c.tc : Thread Cert.GluDgradIdeal.nD Cert.GluDgradIdeal.τ).loc Cert.GluDgradIdeal.main_arg0)) (m ((c.tc : Thread Cert.GluDgradIdeal.nD Cert.GluDgradIdeal.τ).loc Cert.GluDgradIdeal.main_arg1)) (m ((c.tc : Thread Cert.GluDgradIdeal.nD Cert.GluDgradIdeal.τ).loc Cert.GluDgradIdeal.main_arg2)) (m ((c.tc : Thread Cert.GluDgradIdeal.nD Cert.GluDgradIdeal.τ).loc Cert.GluDgradIdeal.main_arg3)) (m ((c.tc : Thread Cert.GluDgradIdeal.nD Cert.GluDgradIdeal.τ).loc Cert.GluDgradIdeal.main_arg4)) (m ((c.tc : Thread Cert.GluDgradIdeal.nD Cert.GluDgradIdeal.τ).loc Cert.GluDgradIdeal.main_arg5)) (m ((c.tc : Thread Cert.GluDgradIdeal.nD Cert.GluDgradIdeal.τ).loc Cert.GluDgradIdeal.main_arg6))) = (fun _ => 1#1)

def Pre_GluDgradPlainIdeal (m : (ℓ : Loc Cert.GluDgradPlainIdeal.nD Cert.GluDgradPlainIdeal.τ Cert.GluDgradPlainIdeal.sig) → Buf (Elt Ideal) ℓ) : Prop :=
  True

def Pre_GluDgradPlainIdeal_finite_glu [hPre_finite_glu : Cert.Pre_finite_glu.Facts] (m : (ℓ : Loc Cert.GluDgradPlainIdeal.nD Cert.GluDgradPlainIdeal.τ Cert.GluDgradPlainIdeal.sig) → Buf (Elt Ideal) ℓ) : Prop :=
  ∀ c : Dev Cert.GluDgradPlainIdeal.nD,
    (Cert.Pre_finite_glu.fn (F := Ideal) (m ((c.tc : Thread Cert.GluDgradPlainIdeal.nD Cert.GluDgradPlainIdeal.τ).loc Cert.GluDgradPlainIdeal.main_arg0)) (m ((c.tc : Thread Cert.GluDgradPlainIdeal.nD Cert.GluDgradPlainIdeal.τ).loc Cert.GluDgradPlainIdeal.main_arg1)) (m ((c.tc : Thread Cert.GluDgradPlainIdeal.nD Cert.GluDgradPlainIdeal.τ).loc Cert.GluDgradPlainIdeal.main_arg2)) (m ((c.tc : Thread Cert.GluDgradPlainIdeal.nD Cert.GluDgradPlainIdeal.τ).loc Cert.GluDgradPlainIdeal.main_arg3)) (m ((c.tc : Thread Cert.GluDgradPlainIdeal.nD Cert.GluDgradPlainIdeal.τ).loc Cert.GluDgradPlainIdeal.main_arg4)) (m ((c.tc : Thread Cert.GluDgradPlainIdeal.nD Cert.GluDgradPlainIdeal.τ).loc Cert.GluDgradPlainIdeal.main_arg5)) (m ((c.tc : Thread Cert.GluDgradPlainIdeal.nD Cert.GluDgradPlainIdeal.τ).loc Cert.GluDgradPlainIdeal.main_arg6))) = (fun _ => 1#1)

def Pre_SsmInDgradU (m : (ℓ : Loc Cert.SsmInDgradU.nD Cert.SsmInDgradU.τ Cert.SsmInDgradU.sig) → Buf (Elt Bits) ℓ) : Prop :=
  True

def Pre_SsmInDgradUIdeal (m : (ℓ : Loc Cert.SsmInDgradUIdeal.nD Cert.SsmInDgradUIdeal.τ Cert.SsmInDgradUIdeal.sig) → Buf (Elt Ideal) ℓ) : Prop :=
  True

def Pre_SsmInDgradUPlainIdeal (m : (ℓ : Loc Cert.SsmInDgradUPlainIdeal.nD Cert.SsmInDgradUPlainIdeal.τ Cert.SsmInDgradUPlainIdeal.sig) → Buf (Elt Ideal) ℓ) : Prop :=
  True

def Pre_SsmInDgradGate (m : (ℓ : Loc Cert.SsmInDgradGate.nD Cert.SsmInDgradGate.τ Cert.SsmInDgradGate.sig) → Buf (Elt Bits) ℓ) : Prop :=
  True

def Pre_SsmInDgradGateIdeal (m : (ℓ : Loc Cert.SsmInDgradGateIdeal.nD Cert.SsmInDgradGateIdeal.τ Cert.SsmInDgradGateIdeal.sig) → Buf (Elt Ideal) ℓ) : Prop :=
  True

def Pre_SsmInDgradGatePlainIdeal (m : (ℓ : Loc Cert.SsmInDgradGatePlainIdeal.nD Cert.SsmInDgradGatePlainIdeal.τ Cert.SsmInDgradGatePlainIdeal.sig) → Buf (Elt Ideal) ℓ) : Prop :=
  True

def Pre_AttnInDgrad0 (m : (ℓ : Loc Cert.AttnInDgrad0.nD Cert.AttnInDgrad0.τ Cert.AttnInDgrad0.sig) → Buf (Elt Bits) ℓ) : Prop :=
  True

def Pre_AttnInDgrad0Ideal (m : (ℓ : Loc Cert.AttnInDgrad0Ideal.nD Cert.AttnInDgrad0Ideal.τ Cert.AttnInDgrad0Ideal.sig) → Buf (Elt Ideal) ℓ) : Prop :=
  True

def Pre_AttnInDgrad0PlainIdeal (m : (ℓ : Loc Cert.AttnInDgrad0PlainIdeal.nD Cert.AttnInDgrad0PlainIdeal.τ Cert.AttnInDgrad0PlainIdeal.sig) → Buf (Elt Ideal) ℓ) : Prop :=
  True

def Pre_AttnInDgrad1 (m : (ℓ : Loc Cert.AttnInDgrad1.nD Cert.AttnInDgrad1.τ Cert.AttnInDgrad1.sig) → Buf (Elt Bits) ℓ) : Prop :=
  True

def Pre_AttnInDgrad1Ideal (m : (ℓ : Loc Cert.AttnInDgrad1Ideal.nD Cert.AttnInDgrad1Ideal.τ Cert.AttnInDgrad1Ideal.sig) → Buf (Elt Ideal) ℓ) : Prop :=
  True

def Pre_AttnInDgrad1PlainIdeal (m : (ℓ : Loc Cert.AttnInDgrad1PlainIdeal.nD Cert.AttnInDgrad1PlainIdeal.τ Cert.AttnInDgrad1PlainIdeal.sig) → Buf (Elt Ideal) ℓ) : Prop :=
  True

def Pre_AttnInDgrad2 (m : (ℓ : Loc Cert.AttnInDgrad2.nD Cert.AttnInDgrad2.τ Cert.AttnInDgrad2.sig) → Buf (Elt Bits) ℓ) : Prop :=
  True

def Pre_AttnInDgrad2Ideal (m : (ℓ : Loc Cert.AttnInDgrad2Ideal.nD Cert.AttnInDgrad2Ideal.τ Cert.AttnInDgrad2Ideal.sig) → Buf (Elt Ideal) ℓ) : Prop :=
  True

def Pre_AttnInDgrad2PlainIdeal (m : (ℓ : Loc Cert.AttnInDgrad2PlainIdeal.nD Cert.AttnInDgrad2PlainIdeal.τ Cert.AttnInDgrad2PlainIdeal.sig) → Buf (Elt Ideal) ℓ) : Prop :=
  True

def Pre_AttnInDgrad3 (m : (ℓ : Loc Cert.AttnInDgrad3.nD Cert.AttnInDgrad3.τ Cert.AttnInDgrad3.sig) → Buf (Elt Bits) ℓ) : Prop :=
  True

def Pre_AttnInDgrad3Ideal (m : (ℓ : Loc Cert.AttnInDgrad3Ideal.nD Cert.AttnInDgrad3Ideal.τ Cert.AttnInDgrad3Ideal.sig) → Buf (Elt Ideal) ℓ) : Prop :=
  True

def Pre_AttnInDgrad3PlainIdeal (m : (ℓ : Loc Cert.AttnInDgrad3PlainIdeal.nD Cert.AttnInDgrad3PlainIdeal.τ Cert.AttnInDgrad3PlainIdeal.sig) → Buf (Elt Ideal) ℓ) : Prop :=
  True

def Pre_SsmOutWgrad (m : (ℓ : Loc Cert.SsmOutWgrad.nD Cert.SsmOutWgrad.τ Cert.SsmOutWgrad.sig) → Buf (Elt Bits) ℓ) : Prop :=
  True

def Pre_SsmOutWgradIdeal (m : (ℓ : Loc Cert.SsmOutWgradIdeal.nD Cert.SsmOutWgradIdeal.τ Cert.SsmOutWgradIdeal.sig) → Buf (Elt Ideal) ℓ) : Prop :=
  True

def Pre_SsmOutWgradPlainIdeal (m : (ℓ : Loc Cert.SsmOutWgradPlainIdeal.nD Cert.SsmOutWgradPlainIdeal.τ Cert.SsmOutWgradPlainIdeal.sig) → Buf (Elt Ideal) ℓ) : Prop :=
  True

def Pre_GluWgrad (m : (ℓ : Loc Cert.GluWgrad.nD Cert.GluWgrad.τ Cert.GluWgrad.sig) → Buf (Elt Bits) ℓ) : Prop :=
  True

def Pre_GluWgradIdeal (m : (ℓ : Loc Cert.GluWgradIdeal.nD Cert.GluWgradIdeal.τ Cert.GluWgradIdeal.sig) → Buf (Elt Ideal) ℓ) : Prop :=
  True

def Pre_GluWgradPlainIdeal (m : (ℓ : Loc Cert.GluWgradPlainIdeal.nD Cert.GluWgradPlainIdeal.τ Cert.GluWgradPlainIdeal.sig) → Buf (Elt Ideal) ℓ) : Prop :=
  True

def Pre_SsmInWgradU (m : (ℓ : Loc Cert.SsmInWgradU.nD Cert.SsmInWgradU.τ Cert.SsmInWgradU.sig) → Buf (Elt Bits) ℓ) : Prop :=
  True

def Pre_SsmInWgradUIdeal (m : (ℓ : Loc Cert.SsmInWgradUIdeal.nD Cert.SsmInWgradUIdeal.τ Cert.SsmInWgradUIdeal.sig) → Buf (Elt Ideal) ℓ) : Prop :=
  True

def Pre_SsmInWgradUPlainIdeal (m : (ℓ : Loc Cert.SsmInWgradUPlainIdeal.nD Cert.SsmInWgradUPlainIdeal.τ Cert.SsmInWgradUPlainIdeal.sig) → Buf (Elt Ideal) ℓ) : Prop :=
  True

def Pre_SsmInWgradGate (m : (ℓ : Loc Cert.SsmInWgradGate.nD Cert.SsmInWgradGate.τ Cert.SsmInWgradGate.sig) → Buf (Elt Bits) ℓ) : Prop :=
  True

def Pre_SsmInWgradGateIdeal (m : (ℓ : Loc Cert.SsmInWgradGateIdeal.nD Cert.SsmInWgradGateIdeal.τ Cert.SsmInWgradGateIdeal.sig) → Buf (Elt Ideal) ℓ) : Prop :=
  True

def Pre_SsmInWgradGatePlainIdeal (m : (ℓ : Loc Cert.SsmInWgradGatePlainIdeal.nD Cert.SsmInWgradGatePlainIdeal.τ Cert.SsmInWgradGatePlainIdeal.sig) → Buf (Elt Ideal) ℓ) : Prop :=
  True

def Pre_AttnOutWgrad (m : (ℓ : Loc Cert.AttnOutWgrad.nD Cert.AttnOutWgrad.τ Cert.AttnOutWgrad.sig) → Buf (Elt Bits) ℓ) : Prop :=
  True

def Pre_AttnOutWgradIdeal (m : (ℓ : Loc Cert.AttnOutWgradIdeal.nD Cert.AttnOutWgradIdeal.τ Cert.AttnOutWgradIdeal.sig) → Buf (Elt Ideal) ℓ) : Prop :=
  True

def Pre_AttnOutWgradPlainIdeal (m : (ℓ : Loc Cert.AttnOutWgradPlainIdeal.nD Cert.AttnOutWgradPlainIdeal.τ Cert.AttnOutWgradPlainIdeal.sig) → Buf (Elt Ideal) ℓ) : Prop :=
  True

def Pre_AttnInWgrad0 (m : (ℓ : Loc Cert.AttnInWgrad0.nD Cert.AttnInWgrad0.τ Cert.AttnInWgrad0.sig) → Buf (Elt Bits) ℓ) : Prop :=
  True

def Pre_AttnInWgrad0Ideal (m : (ℓ : Loc Cert.AttnInWgrad0Ideal.nD Cert.AttnInWgrad0Ideal.τ Cert.AttnInWgrad0Ideal.sig) → Buf (Elt Ideal) ℓ) : Prop :=
  True

def Pre_AttnInWgrad0PlainIdeal (m : (ℓ : Loc Cert.AttnInWgrad0PlainIdeal.nD Cert.AttnInWgrad0PlainIdeal.τ Cert.AttnInWgrad0PlainIdeal.sig) → Buf (Elt Ideal) ℓ) : Prop :=
  True

def Pre_AttnInWgrad1 (m : (ℓ : Loc Cert.AttnInWgrad1.nD Cert.AttnInWgrad1.τ Cert.AttnInWgrad1.sig) → Buf (Elt Bits) ℓ) : Prop :=
  True

def Pre_AttnInWgrad1Ideal (m : (ℓ : Loc Cert.AttnInWgrad1Ideal.nD Cert.AttnInWgrad1Ideal.τ Cert.AttnInWgrad1Ideal.sig) → Buf (Elt Ideal) ℓ) : Prop :=
  True

def Pre_AttnInWgrad1PlainIdeal (m : (ℓ : Loc Cert.AttnInWgrad1PlainIdeal.nD Cert.AttnInWgrad1PlainIdeal.τ Cert.AttnInWgrad1PlainIdeal.sig) → Buf (Elt Ideal) ℓ) : Prop :=
  True

def Pre_AttnInWgrad2 (m : (ℓ : Loc Cert.AttnInWgrad2.nD Cert.AttnInWgrad2.τ Cert.AttnInWgrad2.sig) → Buf (Elt Bits) ℓ) : Prop :=
  True

def Pre_AttnInWgrad2Ideal (m : (ℓ : Loc Cert.AttnInWgrad2Ideal.nD Cert.AttnInWgrad2Ideal.τ Cert.AttnInWgrad2Ideal.sig) → Buf (Elt Ideal) ℓ) : Prop :=
  True

def Pre_AttnInWgrad2PlainIdeal (m : (ℓ : Loc Cert.AttnInWgrad2PlainIdeal.nD Cert.AttnInWgrad2PlainIdeal.τ Cert.AttnInWgrad2PlainIdeal.sig) → Buf (Elt Ideal) ℓ) : Prop :=
  True

def Pre_AttnInWgrad3 (m : (ℓ : Loc Cert.AttnInWgrad3.nD Cert.AttnInWgrad3.τ Cert.AttnInWgrad3.sig) → Buf (Elt Bits) ℓ) : Prop :=
  True

def Pre_AttnInWgrad3Ideal (m : (ℓ : Loc Cert.AttnInWgrad3Ideal.nD Cert.AttnInWgrad3Ideal.τ Cert.AttnInWgrad3Ideal.sig) → Buf (Elt Ideal) ℓ) : Prop :=
  True

def Pre_AttnInWgrad3PlainIdeal (m : (ℓ : Loc Cert.AttnInWgrad3PlainIdeal.nD Cert.AttnInWgrad3PlainIdeal.τ Cert.AttnInWgrad3PlainIdeal.sig) → Buf (Elt Ideal) ℓ) : Prop :=
  True

def Pre_AttnIn0 (m : (ℓ : Loc Cert.AttnIn0.nD Cert.AttnIn0.τ Cert.AttnIn0.sig) → Buf (Elt Bits) ℓ) : Prop :=
  True

def Pre_AttnIn0Ideal (m : (ℓ : Loc Cert.AttnIn0Ideal.nD Cert.AttnIn0Ideal.τ Cert.AttnIn0Ideal.sig) → Buf (Elt Ideal) ℓ) : Prop :=
  True

def Pre_AttnIn0PlainIdeal (m : (ℓ : Loc Cert.AttnIn0PlainIdeal.nD Cert.AttnIn0PlainIdeal.τ Cert.AttnIn0PlainIdeal.sig) → Buf (Elt Ideal) ℓ) : Prop :=
  True

def Pre_AttnIn1 (m : (ℓ : Loc Cert.AttnIn1.nD Cert.AttnIn1.τ Cert.AttnIn1.sig) → Buf (Elt Bits) ℓ) : Prop :=
  True

def Pre_AttnIn1Ideal (m : (ℓ : Loc Cert.AttnIn1Ideal.nD Cert.AttnIn1Ideal.τ Cert.AttnIn1Ideal.sig) → Buf (Elt Ideal) ℓ) : Prop :=
  True

def Pre_AttnIn1PlainIdeal (m : (ℓ : Loc Cert.AttnIn1PlainIdeal.nD Cert.AttnIn1PlainIdeal.τ Cert.AttnIn1PlainIdeal.sig) → Buf (Elt Ideal) ℓ) : Prop :=
  True

def Pre_AttnIn2 (m : (ℓ : Loc Cert.AttnIn2.nD Cert.AttnIn2.τ Cert.AttnIn2.sig) → Buf (Elt Bits) ℓ) : Prop :=
  True

def Pre_AttnIn2Ideal (m : (ℓ : Loc Cert.AttnIn2Ideal.nD Cert.AttnIn2Ideal.τ Cert.AttnIn2Ideal.sig) → Buf (Elt Ideal) ℓ) : Prop :=
  True

def Pre_AttnIn2PlainIdeal (m : (ℓ : Loc Cert.AttnIn2PlainIdeal.nD Cert.AttnIn2PlainIdeal.τ Cert.AttnIn2PlainIdeal.sig) → Buf (Elt Ideal) ℓ) : Prop :=
  True

def Pre_AttnIn3 (m : (ℓ : Loc Cert.AttnIn3.nD Cert.AttnIn3.τ Cert.AttnIn3.sig) → Buf (Elt Bits) ℓ) : Prop :=
  True

def Pre_AttnIn3Ideal (m : (ℓ : Loc Cert.AttnIn3Ideal.nD Cert.AttnIn3Ideal.τ Cert.AttnIn3Ideal.sig) → Buf (Elt Ideal) ℓ) : Prop :=
  True

def Pre_AttnIn3PlainIdeal (m : (ℓ : Loc Cert.AttnIn3PlainIdeal.nD Cert.AttnIn3PlainIdeal.τ Cert.AttnIn3PlainIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutPlainIdeal (m : (ℓ : Loc Cert.AttnOutPlainIdeal.nD Cert.AttnOutPlainIdeal.τ Cert.AttnOutPlainIdeal.sig) → Buf (Elt Ideal) ℓ) : Prop :=
  True

def Pre_SsmInU (m : (ℓ : Loc Cert.SsmInU.nD Cert.SsmInU.τ Cert.SsmInU.sig) → Buf (Elt Bits) ℓ) : Prop :=
  True

def Pre_SsmInUIdeal (m : (ℓ : Loc Cert.SsmInUIdeal.nD Cert.SsmInUIdeal.τ Cert.SsmInUIdeal.sig) → Buf (Elt Ideal) ℓ) : Prop :=
  True

def Pre_SsmInUPlainIdeal (m : (ℓ : Loc Cert.SsmInUPlainIdeal.nD Cert.SsmInUPlainIdeal.τ Cert.SsmInUPlainIdeal.sig) → Buf (Elt Ideal) ℓ) : Prop :=
  True

def Pre_SsmInGate (m : (ℓ : Loc Cert.SsmInGate.nD Cert.SsmInGate.τ Cert.SsmInGate.sig) → Buf (Elt Bits) ℓ) : Prop :=
  True

def Pre_SsmInGateIdeal (m : (ℓ : Loc Cert.SsmInGateIdeal.nD Cert.SsmInGateIdeal.τ Cert.SsmInGateIdeal.sig) → Buf (Elt Ideal) ℓ) : Prop :=
  True

def Pre_SsmInGatePlainIdeal (m : (ℓ : Loc Cert.SsmInGatePlainIdeal.nD Cert.SsmInGatePlainIdeal.τ Cert.SsmInGatePlainIdeal.sig) → Buf (Elt Ideal) ℓ) : Prop :=
  True

def Pre_GluMm (m : (ℓ : Loc Cert.GluMm.nD Cert.GluMm.τ Cert.GluMm.sig) → Buf (Elt Bits) ℓ) : Prop :=
  True

def Pre_GluMmIdeal (m : (ℓ : Loc Cert.GluMmIdeal.nD Cert.GluMmIdeal.τ Cert.GluMmIdeal.sig) → Buf (Elt Ideal) ℓ) : Prop :=
  True

def Pre_GluMmPlainIdeal (m : (ℓ : Loc Cert.GluMmPlainIdeal.nD Cert.GluMmPlainIdeal.τ Cert.GluMmPlainIdeal.sig) → Buf (Elt Ideal) ℓ) : Prop :=
  True

def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_SsmOutPlainIdeal (m : (ℓ : Loc Cert.SsmOutPlainIdeal.nD Cert.SsmOutPlainIdeal.τ Cert.SsmOutPlainIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_SsmOutDgrad [hSsmOutDgrad : Cert.SsmOutDgrad.Facts] : Prop :=
  ∀ (m : (ℓ : Loc Cert.SsmOutDgrad.nD Cert.SsmOutDgrad.τ Cert.SsmOutDgrad.sig) → Buf (Elt Bits) ℓ) (g : Dev Cert.SsmOutDgrad.nD → PrngReg), Pre_SsmOutDgrad m →
    θ_run (Cert.SsmOutDgrad.defs (F := Bits)) (onTc (τ := Cert.SsmOutDgrad.τ) (Cert.SsmOutDgrad.main (F := Bits))) ⟨m, fun _ => 0, g⟩ (fun r => (∀ c : Dev Cert.SsmOutDgrad.nD,
      r.2.mem ((c.tc : Thread Cert.SsmOutDgrad.nD Cert.SsmOutDgrad.τ).loc Cert.SsmOutDgrad.main_arg0) = m ((c.tc : Thread Cert.SsmOutDgrad.nD Cert.SsmOutDgrad.τ).loc Cert.SsmOutDgrad.main_arg0)
      ∧ r.2.mem ((c.tc : Thread Cert.SsmOutDgrad.nD Cert.SsmOutDgrad.τ).loc Cert.SsmOutDgrad.main_arg1) = m ((c.tc : Thread Cert.SsmOutDgrad.nD Cert.SsmOutDgrad.τ).loc Cert.SsmOutDgrad.main_arg1)
      ∧ r.2.mem ((c.tc : Thread Cert.SsmOutDgrad.nD Cert.SsmOutDgrad.τ).loc Cert.SsmOutDgrad.main_arg2) = m ((c.tc : Thread Cert.SsmOutDgrad.nD Cert.SsmOutDgrad.τ).loc Cert.SsmOutDgrad.main_arg2)
      ∧ r.2.mem ((c.tc : Thread Cert.SsmOutDgrad.nD Cert.SsmOutDgrad.τ).loc Cert.SsmOutDgrad.main_arg3) = m ((c.tc : Thread Cert.SsmOutDgrad.nD Cert.SsmOutDgrad.τ).loc Cert.SsmOutDgrad.main_arg3)
      ∧ r.2.mem ((c.tc : Thread Cert.SsmOutDgrad.nD Cert.SsmOutDgrad.τ).loc Cert.SsmOutDgrad.main_arg4) = m ((c.tc : Thread Cert.SsmOutDgrad.nD Cert.SsmOutDgrad.τ).loc Cert.SsmOutDgrad.main_arg4)
      ∧ r.2.mem ((c.tc : Thread Cert.SsmOutDgrad.nD Cert.SsmOutDgrad.τ).loc Cert.SsmOutDgrad.main_arg5) = m ((c.tc : Thread Cert.SsmOutDgrad.nD Cert.SsmOutDgrad.τ).loc Cert.SsmOutDgrad.main_arg5))
      ∧ r.2.sem = fun _ => 0)

def quiescent_SsmOutDgradIdeal [hSsmOutDgradIdeal : Cert.SsmOutDgradIdeal.Facts] : Prop :=
  ∀ (m : (ℓ : Loc Cert.SsmOutDgradIdeal.nD Cert.SsmOutDgradIdeal.τ Cert.SsmOutDgradIdeal.sig) → Buf (Elt Ideal) ℓ) (g : Dev Cert.SsmOutDgradIdeal.nD → PrngReg), Pre_SsmOutDgradIdeal m →
    θ_run (Cert.SsmOutDgradIdeal.defs (F := Ideal)) (onTc (τ := Cert.SsmOutDgradIdeal.τ) (Cert.SsmOutDgradIdeal.main (F := Ideal))) ⟨m, fun _ => 0, g⟩ (fun r => (∀ c : Dev Cert.SsmOutDgradIdeal.nD,
      r.2.mem ((c.tc : Thread Cert.SsmOutDgradIdeal.nD Cert.SsmOutDgradIdeal.τ).loc Cert.SsmOutDgradIdeal.main_arg0) = m ((c.tc : Thread Cert.SsmOutDgradIdeal.nD Cert.SsmOutDgradIdeal.τ).loc Cert.SsmOutDgradIdeal.main_arg0)
      ∧ r.2.mem ((c.tc : Thread Cert.SsmOutDgradIdeal.nD Cert.SsmOutDgradIdeal.τ).loc Cert.SsmOutDgradIdeal.main_arg1) = m ((c.tc : Thread Cert.SsmOutDgradIdeal.nD Cert.SsmOutDgradIdeal.τ).loc Cert.SsmOutDgradIdeal.main_arg1)
      ∧ r.2.mem ((c.tc : Thread Cert.SsmOutDgradIdeal.nD Cert.SsmOutDgradIdeal.τ).loc Cert.SsmOutDgradIdeal.main_arg2) = m ((c.tc : Thread Cert.SsmOutDgradIdeal.nD Cert.SsmOutDgradIdeal.τ).loc Cert.SsmOutDgradIdeal.main_arg2)
      ∧ r.2.mem ((c.tc : Thread Cert.SsmOutDgradIdeal.nD Cert.SsmOutDgradIdeal.τ).loc Cert.SsmOutDgradIdeal.main_arg3) = m ((c.tc : Thread Cert.SsmOutDgradIdeal.nD Cert.SsmOutDgradIdeal.τ).loc Cert.SsmOutDgradIdeal.main_arg3)
      ∧ r.2.mem ((c.tc : Thread Cert.SsmOutDgradIdeal.nD Cert.SsmOutDgradIdeal.τ).loc Cert.SsmOutDgradIdeal.main_arg4) = m ((c.tc : Thread Cert.SsmOutDgradIdeal.nD Cert.SsmOutDgradIdeal.τ).loc Cert.SsmOutDgradIdeal.main_arg4)
      ∧ r.2.mem ((c.tc : Thread Cert.SsmOutDgradIdeal.nD Cert.SsmOutDgradIdeal.τ).loc Cert.SsmOutDgradIdeal.main_arg5) = m ((c.tc : Thread Cert.SsmOutDgradIdeal.nD Cert.SsmOutDgradIdeal.τ).loc Cert.SsmOutDgradIdeal.main_arg5))
      ∧ r.2.sem = fun _ => 0)

def quiescent_SsmOutDgradPlainIdeal [hSsmOutDgradPlainIdeal : Cert.SsmOutDgradPlainIdeal.Facts] : Prop :=
  ∀ (m : (ℓ : Loc Cert.SsmOutDgradPlainIdeal.nD Cert.SsmOutDgradPlainIdeal.τ Cert.SsmOutDgradPlainIdeal.sig) → Buf (Elt Ideal) ℓ) (g : Dev Cert.SsmOutDgradPlainIdeal.nD → PrngReg), Pre_SsmOutDgradPlainIdeal m →
    θ_run (Cert.SsmOutDgradPlainIdeal.defs (F := Ideal)) (onTc (τ := Cert.SsmOutDgradPlainIdeal.τ) (Cert.SsmOutDgradPlainIdeal.main (F := Ideal))) ⟨m, fun _ => 0, g⟩ (fun r => (∀ c : Dev Cert.SsmOutDgradPlainIdeal.nD,
      r.2.mem ((c.tc : Thread Cert.SsmOutDgradPlainIdeal.nD Cert.SsmOutDgradPlainIdeal.τ).loc Cert.SsmOutDgradPlainIdeal.main_arg0) = m ((c.tc : Thread Cert.SsmOutDgradPlainIdeal.nD Cert.SsmOutDgradPlainIdeal.τ).loc Cert.SsmOutDgradPlainIdeal.main_arg0)
      ∧ r.2.mem ((c.tc : Thread Cert.SsmOutDgradPlainIdeal.nD Cert.SsmOutDgradPlainIdeal.τ).loc Cert.SsmOutDgradPlainIdeal.main_arg1) = m ((c.tc : Thread Cert.SsmOutDgradPlainIdeal.nD Cert.SsmOutDgradPlainIdeal.τ).loc Cert.SsmOutDgradPlainIdeal.main_arg1)
      ∧ r.2.mem ((c.tc : Thread Cert.SsmOutDgradPlainIdeal.nD Cert.SsmOutDgradPlainIdeal.τ).loc Cert.SsmOutDgradPlainIdeal.main_arg2) = m ((c.tc : Thread Cert.SsmOutDgradPlainIdeal.nD Cert.SsmOutDgradPlainIdeal.τ).loc Cert.SsmOutDgradPlainIdeal.main_arg2)
      ∧ r.2.mem ((c.tc : Thread Cert.SsmOutDgradPlainIdeal.nD Cert.SsmOutDgradPlainIdeal.τ).loc Cert.SsmOutDgradPlainIdeal.main_arg3) = m ((c.tc : Thread Cert.SsmOutDgradPlainIdeal.nD Cert.SsmOutDgradPlainIdeal.τ).loc Cert.SsmOutDgradPlainIdeal.main_arg3)
      ∧ r.2.mem ((c.tc : Thread Cert.SsmOutDgradPlainIdeal.nD Cert.SsmOutDgradPlainIdeal.τ).loc Cert.SsmOutDgradPlainIdeal.main_arg4) = m ((c.tc : Thread Cert.SsmOutDgradPlainIdeal.nD Cert.SsmOutDgradPlainIdeal.τ).loc Cert.SsmOutDgradPlainIdeal.main_arg4)
      ∧ r.2.mem ((c.tc : Thread Cert.SsmOutDgradPlainIdeal.nD Cert.SsmOutDgradPlainIdeal.τ).loc Cert.SsmOutDgradPlainIdeal.main_arg5) = m ((c.tc : Thread Cert.SsmOutDgradPlainIdeal.nD Cert.SsmOutDgradPlainIdeal.τ).loc Cert.SsmOutDgradPlainIdeal.main_arg5))
      ∧ r.2.sem = fun _ => 0)

def quiescent_AttnOutDgrad [hAttnOutDgrad : Cert.AttnOutDgrad.Facts] : Prop :=
  ∀ (m : (ℓ : Loc Cert.AttnOutDgrad.nD Cert.AttnOutDgrad.τ Cert.AttnOutDgrad.sig) → Buf (Elt Bits) ℓ) (g : Dev Cert.AttnOutDgrad.nD → PrngReg), Pre_AttnOutDgrad m →
    θ_run (Cert.AttnOutDgrad.defs (F := Bits)) (onTc (τ := Cert.AttnOutDgrad.τ) (Cert.AttnOutDgrad.main (F := Bits))) ⟨m, fun _ => 0, g⟩ (fun r => (∀ c : Dev Cert.AttnOutDgrad.nD,
      r.2.mem ((c.tc : Thread Cert.AttnOutDgrad.nD Cert.AttnOutDgrad.τ).loc Cert.AttnOutDgrad.main_arg0) = m ((c.tc : Thread Cert.AttnOutDgrad.nD Cert.AttnOutDgrad.τ).loc Cert.AttnOutDgrad.main_arg0)
      ∧ r.2.mem ((c.tc : Thread Cert.AttnOutDgrad.nD Cert.AttnOutDgrad.τ).loc Cert.AttnOutDgrad.main_arg1) = m ((c.tc : Thread Cert.AttnOutDgrad.nD Cert.AttnOutDgrad.τ).loc Cert.AttnOutDgrad.main_arg1)
      ∧ r.2.mem ((c.tc : Thread Cert.AttnOutDgrad.nD Cert.AttnOutDgrad.τ).loc Cert.AttnOutDgrad.main_arg2) = m ((c.tc : Thread Cert.AttnOutDgrad.nD Cert.AttnOutDgrad.τ).loc Cert.AttnOutDgrad.main_arg2)
      ∧ r.2.mem ((c.tc : Thread Cert.AttnOutDgrad.nD Cert.AttnOutDgrad.τ).loc Cert.AttnOutDgrad.main_arg3) = m ((c.tc : Thread Cert.AttnOutDgrad.nD Cert.AttnOutDgrad.τ).loc Cert.AttnOutDgrad.main_arg3)
      ∧ r.2.mem ((c.tc : Thread Cert.AttnOutDgrad.nD Cert.AttnOutDgrad.τ).loc Cert.AttnOutDgrad.main_arg4) = m ((c.tc : Thread Cert.AttnOutDgrad.nD Cert.AttnOutDgrad.τ).loc Cert.AttnOutDgrad.main_arg4)
      ∧ r.2.mem ((c.tc : Thread Cert.AttnOutDgrad.nD Cert.AttnOutDgrad.τ).loc Cert.AttnOutDgrad.main_arg5) = m ((c.tc : Thread Cert.AttnOutDgrad.nD Cert.AttnOutDgrad.τ).loc Cert.AttnOutDgrad.main_arg5)
      ∧ r.2.mem ((c.tc : Thread Cert.AttnOutDgrad.nD Cert.AttnOutDgrad.τ).loc Cert.AttnOutDgrad.main_arg6) = m ((c.tc : Thread Cert.AttnOutDgrad.nD Cert.AttnOutDgrad.τ).loc Cert.AttnOutDgrad.main_arg6))
      ∧ r.2.sem = fun _ => 0)

def quiescent_AttnOutDgradIdeal [hAttnOutDgradIdeal : Cert.AttnOutDgradIdeal.Facts] : Prop :=
  ∀ (m : (ℓ : Loc Cert.AttnOutDgradIdeal.nD Cert.AttnOutDgradIdeal.τ Cert.AttnOutDgradIdeal.sig) → Buf (Elt Ideal) ℓ) (g : Dev Cert.AttnOutDgradIdeal.nD → PrngReg), Pre_AttnOutDgradIdeal m →
    θ_run (Cert.AttnOutDgradIdeal.defs (F := Ideal)) (onTc (τ := Cert.AttnOutDgradIdeal.τ) (Cert.AttnOutDgradIdeal.main (F := Ideal))) ⟨m, fun _ => 0, g⟩ (fun r => (∀ c : Dev Cert.AttnOutDgradIdeal.nD,
      r.2.mem ((c.tc : Thread Cert.AttnOutDgradIdeal.nD Cert.AttnOutDgradIdeal.τ).loc Cert.AttnOutDgradIdeal.main_arg0) = m ((c.tc : Thread Cert.AttnOutDgradIdeal.nD Cert.AttnOutDgradIdeal.τ).loc Cert.AttnOutDgradIdeal.main_arg0)
      ∧ r.2.mem ((c.tc : Thread Cert.AttnOutDgradIdeal.nD Cert.AttnOutDgradIdeal.τ).loc Cert.AttnOutDgradIdeal.main_arg1) = m ((c.tc : Thread Cert.AttnOutDgradIdeal.nD Cert.AttnOutDgradIdeal.τ).loc Cert.AttnOutDgradIdeal.main_arg1)
      ∧ r.2.mem ((c.tc : Thread Cert.AttnOutDgradIdeal.nD Cert.AttnOutDgradIdeal.τ).loc Cert.AttnOutDgradIdeal.main_arg2) = m ((c.tc : Thread Cert.AttnOutDgradIdeal.nD Cert.AttnOutDgradIdeal.τ).loc Cert.AttnOutDgradIdeal.main_arg2)
      ∧ r.2.mem ((c.tc : Thread Cert.AttnOutDgradIdeal.nD Cert.AttnOutDgradIdeal.τ).loc Cert.AttnOutDgradIdeal.main_arg3) = m ((c.tc : Thread Cert.AttnOutDgradIdeal.nD Cert.AttnOutDgradIdeal.τ).loc Cert.AttnOutDgradIdeal.main_arg3)
      ∧ r.2.mem ((c.tc : Thread Cert.AttnOutDgradIdeal.nD Cert.AttnOutDgradIdeal.τ).loc Cert.AttnOutDgradIdeal.main_arg4) = m ((c.tc : Thread Cert.AttnOutDgradIdeal.nD Cert.AttnOutDgradIdeal.τ).loc Cert.AttnOutDgradIdeal.main_arg4)
      ∧ r.2.mem ((c.tc : Thread Cert.AttnOutDgradIdeal.nD Cert.AttnOutDgradIdeal.τ).loc Cert.AttnOutDgradIdeal.main_arg5) = m ((c.tc : Thread Cert.AttnOutDgradIdeal.nD Cert.AttnOutDgradIdeal.τ).loc Cert.AttnOutDgradIdeal.main_arg5)
      ∧ r.2.mem ((c.tc : Thread Cert.AttnOutDgradIdeal.nD Cert.AttnOutDgradIdeal.τ).loc Cert.AttnOutDgradIdeal.main_arg6) = m ((c.tc : Thread Cert.AttnOutDgradIdeal.nD Cert.AttnOutDgradIdeal.τ).loc Cert.AttnOutDgradIdeal.main_arg6))
      ∧ r.2.sem = fun _ => 0)

def quiescent_AttnOutDgradIdeal_pre_finite_gate [hAttnOutDgradIdeal : Cert.AttnOutDgradIdeal.Facts] [hPre_finite_gate : Cert.Pre_finite_gate.Facts] : Prop :=
  ∀ (m : (ℓ : Loc Cert.AttnOutDgradIdeal.nD Cert.AttnOutDgradIdeal.τ Cert.AttnOutDgradIdeal.sig) → Buf (Elt Ideal) ℓ) (g : Dev Cert.AttnOutDgradIdeal.nD → PrngReg), Pre_AttnOutDgradIdeal_finite_gate m →
    θ_run (Cert.AttnOutDgradIdeal.defs (F := Ideal)) (onTc (τ := Cert.AttnOutDgradIdeal.τ) (Cert.AttnOutDgradIdeal.main (F := Ideal))) ⟨m, fun _ => 0, g⟩ (fun r => (∀ c : Dev Cert.AttnOutDgradIdeal.nD,
      r.2.mem ((c.tc : Thread Cert.AttnOutDgradIdeal.nD Cert.AttnOutDgradIdeal.τ).loc Cert.AttnOutDgradIdeal.main_arg0) = m ((c.tc : Thread Cert.AttnOutDgradIdeal.nD Cert.AttnOutDgradIdeal.τ).loc Cert.AttnOutDgradIdeal.main_arg0)
      ∧ r.2.mem ((c.tc : Thread Cert.AttnOutDgradIdeal.nD Cert.AttnOutDgradIdeal.τ).loc Cert.AttnOutDgradIdeal.main_arg1) = m ((c.tc : Thread Cert.AttnOutDgradIdeal.nD Cert.AttnOutDgradIdeal.τ).loc Cert.AttnOutDgradIdeal.main_arg1)
      ∧ r.2.mem ((c.tc : Thread Cert.AttnOutDgradIdeal.nD Cert.AttnOutDgradIdeal.τ).loc Cert.AttnOutDgradIdeal.main_arg2) = m ((c.tc : Thread Cert.AttnOutDgradIdeal.nD Cert.AttnOutDgradIdeal.τ).loc Cert.AttnOutDgradIdeal.main_arg2)
      ∧ r.2.mem ((c.tc : Thread Cert.AttnOutDgradIdeal.nD Cert.AttnOutDgradIdeal.τ).loc Cert.AttnOutDgradIdeal.main_arg3) = m ((c.tc : Thread Cert.AttnOutDgradIdeal.nD Cert.AttnOutDgradIdeal.τ).loc Cert.AttnOutDgradIdeal.main_arg3)
      ∧ r.2.mem ((c.tc : Thread Cert.AttnOutDgradIdeal.nD Cert.AttnOutDgradIdeal.τ).loc Cert.AttnOutDgradIdeal.main_arg4) = m ((c.tc : Thread Cert.AttnOutDgradIdeal.nD Cert.AttnOutDgradIdeal.τ).loc Cert.AttnOutDgradIdeal.main_arg4)
      ∧ r.2.mem ((c.tc : Thread Cert.AttnOutDgradIdeal.nD Cert.AttnOutDgradIdeal.τ).loc Cert.AttnOutDgradIdeal.main_arg5) = m ((c.tc : Thread Cert.AttnOutDgradIdeal.nD Cert.AttnOutDgradIdeal.τ).loc Cert.AttnOutDgradIdeal.main_arg5)
      ∧ r.2.mem ((c.tc : Thread Cert.AttnOutDgradIdeal.nD Cert.AttnOutDgradIdeal.τ).loc Cert.AttnOutDgradIdeal.main_arg6) = m ((c.tc : Thread Cert.AttnOutDgradIdeal.nD Cert.AttnOutDgradIdeal.τ).loc Cert.AttnOutDgradIdeal.main_arg6))
      ∧ r.2.sem = fun _ => 0)

def quiescent_AttnOutDgradPlainIdeal [hAttnOutDgradPlainIdeal : Cert.AttnOutDgradPlainIdeal.Facts] : Prop :=
  ∀ (m : (ℓ : Loc Cert.AttnOutDgradPlainIdeal.nD Cert.AttnOutDgradPlainIdeal.τ Cert.AttnOutDgradPlainIdeal.sig) → Buf (Elt Ideal) ℓ) (g : Dev Cert.AttnOutDgradPlainIdeal.nD → PrngReg), Pre_AttnOutDgradPlainIdeal m →
    θ_run (Cert.AttnOutDgradPlainIdeal.defs (F := Ideal)) (onTc (τ := Cert.AttnOutDgradPlainIdeal.τ) (Cert.AttnOutDgradPlainIdeal.main (F := Ideal))) ⟨m, fun _ => 0, g⟩ (fun r => (∀ c : Dev Cert.AttnOutDgradPlainIdeal.nD,
      r.2.mem ((c.tc : Thread Cert.AttnOutDgradPlainIdeal.nD Cert.AttnOutDgradPlainIdeal.τ).loc Cert.AttnOutDgradPlainIdeal.main_arg0) = m ((c.tc : Thread Cert.AttnOutDgradPlainIdeal.nD Cert.AttnOutDgradPlainIdeal.τ).loc Cert.AttnOutDgradPlainIdeal.main_arg0)
      ∧ r.2.mem ((c.tc : Thread Cert.AttnOutDgradPlainIdeal.nD Cert.AttnOutDgradPlainIdeal.τ).loc Cert.AttnOutDgradPlainIdeal.main_arg1) = m ((c.tc : Thread Cert.AttnOutDgradPlainIdeal.nD Cert.AttnOutDgradPlainIdeal.τ).loc Cert.AttnOutDgradPlainIdeal.main_arg1)
      ∧ r.2.mem ((c.tc : Thread Cert.AttnOutDgradPlainIdeal.nD Cert.AttnOutDgradPlainIdeal.τ).loc Cert.AttnOutDgradPlainIdeal.main_arg2) = m ((c.tc : Thread Cert.AttnOutDgradPlainIdeal.nD Cert.AttnOutDgradPlainIdeal.τ).loc Cert.AttnOutDgradPlainIdeal.main_arg2)
      ∧ r.2.mem ((c.tc : Thread Cert.AttnOutDgradPlainIdeal.nD Cert.AttnOutDgradPlainIdeal.τ).loc Cert.AttnOutDgradPlainIdeal.main_arg3) = m ((c.tc : Thread Cert.AttnOutDgradPlainIdeal.nD Cert.AttnOutDgradPlainIdeal.τ).loc Cert.AttnOutDgradPlainIdeal.main_arg3)
      ∧ r.2.mem ((c.tc : Thread Cert.AttnOutDgradPlainIdeal.nD Cert.AttnOutDgradPlainIdeal.τ).loc Cert.AttnOutDgradPlainIdeal.main_arg4) = m ((c.tc : Thread Cert.AttnOutDgradPlainIdeal.nD Cert.AttnOutDgradPlainIdeal.τ).loc Cert.AttnOutDgradPlainIdeal.main_arg4)
      ∧ r.2.mem ((c.tc : Thread Cert.AttnOutDgradPlainIdeal.nD Cert.AttnOutDgradPlainIdeal.τ).loc Cert.AttnOutDgradPlainIdeal.main_arg5) = m ((c.tc : Thread Cert.AttnOutDgradPlainIdeal.nD Cert.AttnOutDgradPlainIdeal.τ).loc Cert.AttnOutDgradPlainIdeal.main_arg5)
      ∧ r.2.mem ((c.tc : Thread Cert.AttnOutDgradPlainIdeal.nD Cert.AttnOutDgradPlainIdeal.τ).loc Cert.AttnOutDgradPlainIdeal.main_arg6) = m ((c.tc : Thread Cert.AttnOutDgradPlainIdeal.nD Cert.AttnOutDgradPlainIdeal.τ).loc Cert.AttnOutDgradPlainIdeal.main_arg6))
      ∧ r.2.sem = fun _ => 0)

def quiescent_AttnOutDgradPlainIdeal_pre_finite_gate [hAttnOutDgradPlainIdeal : Cert.AttnOutDgradPlainIdeal.Facts] [hPre_finite_gate : Cert.Pre_finite_gate.Facts] : Prop :=
  ∀ (m : (ℓ : Loc Cert.AttnOutDgradPlainIdeal.nD Cert.AttnOutDgradPlainIdeal.τ Cert.AttnOutDgradPlainIdeal.sig) → Buf (Elt Ideal) ℓ) (g : Dev Cert.AttnOutDgradPlainIdeal.nD → PrngReg), Pre_AttnOutDgradPlainIdeal_finite_gate m →
    θ_run (Cert.AttnOutDgradPlainIdeal.defs (F := Ideal)) (onTc (τ := Cert.AttnOutDgradPlainIdeal.τ) (Cert.AttnOutDgradPlainIdeal.main (F := Ideal))) ⟨m, fun _ => 0, g⟩ (fun r => (∀ c : Dev Cert.AttnOutDgradPlainIdeal.nD,
      r.2.mem ((c.tc : Thread Cert.AttnOutDgradPlainIdeal.nD Cert.AttnOutDgradPlainIdeal.τ).loc Cert.AttnOutDgradPlainIdeal.main_arg0) = m ((c.tc : Thread Cert.AttnOutDgradPlainIdeal.nD Cert.AttnOutDgradPlainIdeal.τ).loc Cert.AttnOutDgradPlainIdeal.main_arg0)
      ∧ r.2.mem ((c.tc : Thread Cert.AttnOutDgradPlainIdeal.nD Cert.AttnOutDgradPlainIdeal.τ).loc Cert.AttnOutDgradPlainIdeal.main_arg1) = m ((c.tc : Thread Cert.AttnOutDgradPlainIdeal.nD Cert.AttnOutDgradPlainIdeal.τ).loc Cert.AttnOutDgradPlainIdeal.main_arg1)
      ∧ r.2.mem ((c.tc : Thread Cert.AttnOutDgradPlainIdeal.nD Cert.AttnOutDgradPlainIdeal.τ).loc Cert.AttnOutDgradPlainIdeal.main_arg2) = m ((c.tc : Thread Cert.AttnOutDgradPlainIdeal.nD Cert.AttnOutDgradPlainIdeal.τ).loc Cert.AttnOutDgradPlainIdeal.main_arg2)
      ∧ r.2.mem ((c.tc : Thread Cert.AttnOutDgradPlainIdeal.nD Cert.AttnOutDgradPlainIdeal.τ).loc Cert.AttnOutDgradPlainIdeal.main_arg3) = m ((c.tc : Thread Cert.AttnOutDgradPlainIdeal.nD Cert.AttnOutDgradPlainIdeal.τ).loc Cert.AttnOutDgradPlainIdeal.main_arg3)
      ∧ r.2.mem ((c.tc : Thread Cert.AttnOutDgradPlainIdeal.nD Cert.AttnOutDgradPlainIdeal.τ).loc Cert.AttnOutDgradPlainIdeal.main_arg4) = m ((c.tc : Thread Cert.AttnOutDgradPlainIdeal.nD Cert.AttnOutDgradPlainIdeal.τ).loc Cert.AttnOutDgradPlainIdeal.main_arg4)
      ∧ r.2.mem ((c.tc : Thread Cert.AttnOutDgradPlainIdeal.nD Cert.AttnOutDgradPlainIdeal.τ).loc Cert.AttnOutDgradPlainIdeal.main_arg5) = m ((c.tc : Thread Cert.AttnOutDgradPlainIdeal.nD Cert.AttnOutDgradPlainIdeal.τ).loc Cert.AttnOutDgradPlainIdeal.main_arg5)
      ∧ r.2.mem ((c.tc : Thread Cert.AttnOutDgradPlainIdeal.nD Cert.AttnOutDgradPlainIdeal.τ).loc Cert.AttnOutDgradPlainIdeal.main_arg6) = m ((c.tc : Thread Cert.AttnOutDgradPlainIdeal.nD Cert.AttnOutDgradPlainIdeal.τ).loc Cert.AttnOutDgradPlainIdeal.main_arg6))
      ∧ r.2.sem = fun _ => 0)

def quiescent_GluDgrad [hGluDgrad : Cert.GluDgrad.Facts] : Prop :=
  ∀ (m : (ℓ : Loc Cert.GluDgrad.nD Cert.GluDgrad.τ Cert.GluDgrad.sig) → Buf (Elt Bits) ℓ) (g : Dev Cert.GluDgrad.nD → PrngReg), Pre_GluDgrad m →
    θ_run (Cert.GluDgrad.defs (F := Bits)) (onTc (τ := Cert.GluDgrad.τ) (Cert.GluDgrad.main (F := Bits))) ⟨m, fun _ => 0, g⟩ (fun r => (∀ c : Dev Cert.GluDgrad.nD,
      r.2.mem ((c.tc : Thread Cert.GluDgrad.nD Cert.GluDgrad.τ).loc Cert.GluDgrad.main_arg0) = m ((c.tc : Thread Cert.GluDgrad.nD Cert.GluDgrad.τ).loc Cert.GluDgrad.main_arg0)
      ∧ r.2.mem ((c.tc : Thread Cert.GluDgrad.nD Cert.GluDgrad.τ).loc Cert.GluDgrad.main_arg1) = m ((c.tc : Thread Cert.GluDgrad.nD Cert.GluDgrad.τ).loc Cert.GluDgrad.main_arg1)
      ∧ r.2.mem ((c.tc : Thread Cert.GluDgrad.nD Cert.GluDgrad.τ).loc Cert.GluDgrad.main_arg2) = m ((c.tc : Thread Cert.GluDgrad.nD Cert.GluDgrad.τ).loc Cert.GluDgrad.main_arg2)
      ∧ r.2.mem ((c.tc : Thread Cert.GluDgrad.nD Cert.GluDgrad.τ).loc Cert.GluDgrad.main_arg3) = m ((c.tc : Thread Cert.GluDgrad.nD Cert.GluDgrad.τ).loc Cert.GluDgrad.main_arg3)
      ∧ r.2.mem ((c.tc : Thread Cert.GluDgrad.nD Cert.GluDgrad.τ).loc Cert.GluDgrad.main_arg4) = m ((c.tc : Thread Cert.GluDgrad.nD Cert.GluDgrad.τ).loc Cert.GluDgrad.main_arg4)
      ∧ r.2.mem ((c.tc : Thread Cert.GluDgrad.nD Cert.GluDgrad.τ).loc Cert.GluDgrad.main_arg5) = m ((c.tc : Thread Cert.GluDgrad.nD Cert.GluDgrad.τ).loc Cert.GluDgrad.main_arg5)
      ∧ r.2.mem ((c.tc : Thread Cert.GluDgrad.nD Cert.GluDgrad.τ).loc Cert.GluDgrad.main_arg6) = m ((c.tc : Thread Cert.GluDgrad.nD Cert.GluDgrad.τ).loc Cert.GluDgrad.main_arg6))
      ∧ r.2.sem = fun _ => 0)

def quiescent_GluDgradIdeal [hGluDgradIdeal : Cert.GluDgradIdeal.Facts] : Prop :=
  ∀ (m : (ℓ : Loc Cert.GluDgradIdeal.nD Cert.GluDgradIdeal.τ Cert.GluDgradIdeal.sig) → Buf (Elt Ideal) ℓ) (g : Dev Cert.GluDgradIdeal.nD → PrngReg), Pre_GluDgradIdeal m →
    θ_run (Cert.GluDgradIdeal.defs (F := Ideal)) (onTc (τ := Cert.GluDgradIdeal.τ) (Cert.GluDgradIdeal.main (F := Ideal))) ⟨m, fun _ => 0, g⟩ (fun r => (∀ c : Dev Cert.GluDgradIdeal.nD,
      r.2.mem ((c.tc : Thread Cert.GluDgradIdeal.nD Cert.GluDgradIdeal.τ).loc Cert.GluDgradIdeal.main_arg0) = m ((c.tc : Thread Cert.GluDgradIdeal.nD Cert.GluDgradIdeal.τ).loc Cert.GluDgradIdeal.main_arg0)
      ∧ r.2.mem ((c.tc : Thread Cert.GluDgradIdeal.nD Cert.GluDgradIdeal.τ).loc Cert.GluDgradIdeal.main_arg1) = m ((c.tc : Thread Cert.GluDgradIdeal.nD Cert.GluDgradIdeal.τ).loc Cert.GluDgradIdeal.main_arg1)
      ∧ r.2.mem ((c.tc : Thread Cert.GluDgradIdeal.nD Cert.GluDgradIdeal.τ).loc Cert.GluDgradIdeal.main_arg2) = m ((c.tc : Thread Cert.GluDgradIdeal.nD Cert.GluDgradIdeal.τ).loc Cert.GluDgradIdeal.main_arg2)
      ∧ r.2.mem ((c.tc : Thread Cert.GluDgradIdeal.nD Cert.GluDgradIdeal.τ).loc Cert.GluDgradIdeal.main_arg3) = m ((c.tc : Thread Cert.GluDgradIdeal.nD Cert.GluDgradIdeal.τ).loc Cert.GluDgradIdeal.main_arg3)
      ∧ r.2.mem ((c.tc : Thread Cert.GluDgradIdeal.nD Cert.GluDgradIdeal.τ).loc Cert.GluDgradIdeal.main_arg4) = m ((c.tc : Thread Cert.GluDgradIdeal.nD Cert.GluDgradIdeal.τ).loc Cert.GluDgradIdeal.main_arg4)
      ∧ r.2.mem ((c.tc : Thread Cert.GluDgradIdeal.nD Cert.GluDgradIdeal.τ).loc Cert.GluDgradIdeal.main_arg5) = m ((c.tc : Thread Cert.GluDgradIdeal.nD Cert.GluDgradIdeal.τ).loc Cert.GluDgradIdeal.main_arg5)
      ∧ r.2.mem ((c.tc : Thread Cert.GluDgradIdeal.nD Cert.GluDgradIdeal.τ).loc Cert.GluDgradIdeal.main_arg6) = m ((c.tc : Thread Cert.GluDgradIdeal.nD Cert.GluDgradIdeal.τ).loc Cert.GluDgradIdeal.main_arg6))
      ∧ r.2.sem = fun _ => 0)

def quiescent_GluDgradIdeal_pre_finite_glu [hGluDgradIdeal : Cert.GluDgradIdeal.Facts] [hPre_finite_glu : Cert.Pre_finite_glu.Facts] : Prop :=
  ∀ (m : (ℓ : Loc Cert.GluDgradIdeal.nD Cert.GluDgradIdeal.τ Cert.GluDgradIdeal.sig) → Buf (Elt Ideal) ℓ) (g : Dev Cert.GluDgradIdeal.nD → PrngReg), Pre_GluDgradIdeal_finite_glu m →
    θ_run (Cert.GluDgradIdeal.defs (F := Ideal)) (onTc (τ := Cert.GluDgradIdeal.τ) (Cert.GluDgradIdeal.main (F := Ideal))) ⟨m, fun _ => 0, g⟩ (fun r => (∀ c : Dev Cert.GluDgradIdeal.nD,
      r.2.mem ((c.tc : Thread Cert.GluDgradIdeal.nD Cert.GluDgradIdeal.τ).loc Cert.GluDgradIdeal.main_arg0) = m ((c.tc : Thread Cert.GluDgradIdeal.nD Cert.GluDgradIdeal.τ).loc Cert.GluDgradIdeal.main_arg0)
      ∧ r.2.mem ((c.tc : Thread Cert.GluDgradIdeal.nD Cert.GluDgradIdeal.τ).loc Cert.GluDgradIdeal.main_arg1) = m ((c.tc : Thread Cert.GluDgradIdeal.nD Cert.GluDgradIdeal.τ).loc Cert.GluDgradIdeal.main_arg1)
      ∧ r.2.mem ((c.tc : Thread Cert.GluDgradIdeal.nD Cert.GluDgradIdeal.τ).loc Cert.GluDgradIdeal.main_arg2) = m ((c.tc : Thread Cert.GluDgradIdeal.nD Cert.GluDgradIdeal.τ).loc Cert.GluDgradIdeal.main_arg2)
      ∧ r.2.mem ((c.tc : Thread Cert.GluDgradIdeal.nD Cert.GluDgradIdeal.τ).loc Cert.GluDgradIdeal.main_arg3) = m ((c.tc : Thread Cert.GluDgradIdeal.nD Cert.GluDgradIdeal.τ).loc Cert.GluDgradIdeal.main_arg3)
      ∧ r.2.mem ((c.tc : Thread Cert.GluDgradIdeal.nD Cert.GluDgradIdeal.τ).loc Cert.GluDgradIdeal.main_arg4) = m ((c.tc : Thread Cert.GluDgradIdeal.nD Cert.GluDgradIdeal.τ).loc Cert.GluDgradIdeal.main_arg4)
      ∧ r.2.mem ((c.tc : Thread Cert.GluDgradIdeal.nD Cert.GluDgradIdeal.τ).loc Cert.GluDgradIdeal.main_arg5) = m ((c.tc : Thread Cert.GluDgradIdeal.nD Cert.GluDgradIdeal.τ).loc Cert.GluDgradIdeal.main_arg5)
      ∧ r.2.mem ((c.tc : Thread Cert.GluDgradIdeal.nD Cert.GluDgradIdeal.τ).loc Cert.GluDgradIdeal.main_arg6) = m ((c.tc : Thread Cert.GluDgradIdeal.nD Cert.GluDgradIdeal.τ).loc Cert.GluDgradIdeal.main_arg6))
      ∧ r.2.sem = fun _ => 0)

def quiescent_GluDgradPlainIdeal [hGluDgradPlainIdeal : Cert.GluDgradPlainIdeal.Facts] : Prop :=
  ∀ (m : (ℓ : Loc Cert.GluDgradPlainIdeal.nD Cert.GluDgradPlainIdeal.τ Cert.GluDgradPlainIdeal.sig) → Buf (Elt Ideal) ℓ) (g : Dev Cert.GluDgradPlainIdeal.nD → PrngReg), Pre_GluDgradPlainIdeal m →
    θ_run (Cert.GluDgradPlainIdeal.defs (F := Ideal)) (onTc (τ := Cert.GluDgradPlainIdeal.τ) (Cert.GluDgradPlainIdeal.main (F := Ideal))) ⟨m, fun _ => 0, g⟩ (fun r => (∀ c : Dev Cert.GluDgradPlainIdeal.nD,
      r.2.mem ((c.tc : Thread Cert.GluDgradPlainIdeal.nD Cert.GluDgradPlainIdeal.τ).loc Cert.GluDgradPlainIdeal.main_arg0) = m ((c.tc : Thread Cert.GluDgradPlainIdeal.nD Cert.GluDgradPlainIdeal.τ).loc Cert.GluDgradPlainIdeal.main_arg0)
      ∧ r.2.mem ((c.tc : Thread Cert.GluDgradPlainIdeal.nD Cert.GluDgradPlainIdeal.τ).loc Cert.GluDgradPlainIdeal.main_arg1) = m ((c.tc : Thread Cert.GluDgradPlainIdeal.nD Cert.GluDgradPlainIdeal.τ).loc Cert.GluDgradPlainIdeal.main_arg1)
      ∧ r.2.mem ((c.tc : Thread Cert.GluDgradPlainIdeal.nD Cert.GluDgradPlainIdeal.τ).loc Cert.GluDgradPlainIdeal.main_arg2) = m ((c.tc : Thread Cert.GluDgradPlainIdeal.nD Cert.GluDgradPlainIdeal.τ).loc Cert.GluDgradPlainIdeal.main_arg2)
      ∧ r.2.mem ((c.tc : Thread Cert.GluDgradPlainIdeal.nD Cert.GluDgradPlainIdeal.τ).loc Cert.GluDgradPlainIdeal.main_arg3) = m ((c.tc : Thread Cert.GluDgradPlainIdeal.nD Cert.GluDgradPlainIdeal.τ).loc Cert.GluDgradPlainIdeal.main_arg3)
      ∧ r.2.mem ((c.tc : Thread Cert.GluDgradPlainIdeal.nD Cert.GluDgradPlainIdeal.τ).loc Cert.GluDgradPlainIdeal.main_arg4) = m ((c.tc : Thread Cert.GluDgradPlainIdeal.nD Cert.GluDgradPlainIdeal.τ).loc Cert.GluDgradPlainIdeal.main_arg4)
      ∧ r.2.mem ((c.tc : Thread Cert.GluDgradPlainIdeal.nD Cert.GluDgradPlainIdeal.τ).loc Cert.GluDgradPlainIdeal.main_arg5) = m ((c.tc : Thread Cert.GluDgradPlainIdeal.nD Cert.GluDgradPlainIdeal.τ).loc Cert.GluDgradPlainIdeal.main_arg5)
      ∧ r.2.mem ((c.tc : Thread Cert.GluDgradPlainIdeal.nD Cert.GluDgradPlainIdeal.τ).loc Cert.GluDgradPlainIdeal.main_arg6) = m ((c.tc : Thread Cert.GluDgradPlainIdeal.nD Cert.GluDgradPlainIdeal.τ).loc Cert.GluDgradPlainIdeal.main_arg6))
      ∧ r.2.sem = fun _ => 0)

def quiescent_GluDgradPlainIdeal_pre_finite_glu [hGluDgradPlainIdeal : Cert.GluDgradPlainIdeal.Facts] [hPre_finite_glu : Cert.Pre_finite_glu.Facts] : Prop :=
  ∀ (m : (ℓ : Loc Cert.GluDgradPlainIdeal.nD Cert.GluDgradPlainIdeal.τ Cert.GluDgradPlainIdeal.sig) → Buf (Elt Ideal) ℓ) (g : Dev Cert.GluDgradPlainIdeal.nD → PrngReg), Pre_GluDgradPlainIdeal_finite_glu m →
    θ_run (Cert.GluDgradPlainIdeal.defs (F := Ideal)) (onTc (τ := Cert.GluDgradPlainIdeal.τ) (Cert.GluDgradPlainIdeal.main (F := Ideal))) ⟨m, fun _ => 0, g⟩ (fun r => (∀ c : Dev Cert.GluDgradPlainIdeal.nD,
      r.2.mem ((c.tc : Thread Cert.GluDgradPlainIdeal.nD Cert.GluDgradPlainIdeal.τ).loc Cert.GluDgradPlainIdeal.main_arg0) = m ((c.tc : Thread Cert.GluDgradPlainIdeal.nD Cert.GluDgradPlainIdeal.τ).loc Cert.GluDgradPlainIdeal.main_arg0)
      ∧ r.2.mem ((c.tc : Thread Cert.GluDgradPlainIdeal.nD Cert.GluDgradPlainIdeal.τ).loc Cert.GluDgradPlainIdeal.main_arg1) = m ((c.tc : Thread Cert.GluDgradPlainIdeal.nD Cert.GluDgradPlainIdeal.τ).loc Cert.GluDgradPlainIdeal.main_arg1)
      ∧ r.2.mem ((c.tc : Thread Cert.GluDgradPlainIdeal.nD Cert.GluDgradPlainIdeal.τ).loc Cert.GluDgradPlainIdeal.main_arg2) = m ((c.tc : Thread Cert.GluDgradPlainIdeal.nD Cert.GluDgradPlainIdeal.τ).loc Cert.GluDgradPlainIdeal.main_arg2)
      ∧ r.2.mem ((c.tc : Thread Cert.GluDgradPlainIdeal.nD Cert.GluDgradPlainIdeal.τ).loc Cert.GluDgradPlainIdeal.main_arg3) = m ((c.tc : Thread Cert.GluDgradPlainIdeal.nD Cert.GluDgradPlainIdeal.τ).loc Cert.GluDgradPlainIdeal.main_arg3)
      ∧ r.2.mem ((c.tc : Thread Cert.GluDgradPlainIdeal.nD Cert.GluDgradPlainIdeal.τ).loc Cert.GluDgradPlainIdeal.main_arg4) = m ((c.tc : Thread Cert.GluDgradPlainIdeal.nD Cert.GluDgradPlainIdeal.τ).loc Cert.GluDgradPlainIdeal.main_arg4)
      ∧ r.2.mem ((c.tc : Thread Cert.GluDgradPlainIdeal.nD Cert.GluDgradPlainIdeal.τ).loc Cert.GluDgradPlainIdeal.main_arg5) = m ((c.tc : Thread Cert.GluDgradPlainIdeal.nD Cert.GluDgradPlainIdeal.τ).loc Cert.GluDgradPlainIdeal.main_arg5)
      ∧ r.2.mem ((c.tc : Thread Cert.GluDgradPlainIdeal.nD Cert.GluDgradPlainIdeal.τ).loc Cert.GluDgradPlainIdeal.main_arg6) = m ((c.tc : Thread Cert.GluDgradPlainIdeal.nD Cert.GluDgradPlainIdeal.τ).loc Cert.GluDgradPlainIdeal.main_arg6))
      ∧ r.2.sem = fun _ => 0)

def quiescent_SsmInDgradU [hSsmInDgradU : Cert.SsmInDgradU.Facts] : Prop :=
  ∀ (m : (ℓ : Loc Cert.SsmInDgradU.nD Cert.SsmInDgradU.τ Cert.SsmInDgradU.sig) → Buf (Elt Bits) ℓ) (g : Dev Cert.SsmInDgradU.nD → PrngReg), Pre_SsmInDgradU m →
    θ_run (Cert.SsmInDgradU.defs (F := Bits)) (onTc (τ := Cert.SsmInDgradU.τ) (Cert.SsmInDgradU.main (F := Bits))) ⟨m, fun _ => 0, g⟩ (fun r => (∀ c : Dev Cert.SsmInDgradU.nD,
      r.2.mem ((c.tc : Thread Cert.SsmInDgradU.nD Cert.SsmInDgradU.τ).loc Cert.SsmInDgradU.main_arg0) = m ((c.tc : Thread Cert.SsmInDgradU.nD Cert.SsmInDgradU.τ).loc Cert.SsmInDgradU.main_arg0)
      ∧ r.2.mem ((c.tc : Thread Cert.SsmInDgradU.nD Cert.SsmInDgradU.τ).loc Cert.SsmInDgradU.main_arg1) = m ((c.tc : Thread Cert.SsmInDgradU.nD Cert.SsmInDgradU.τ).loc Cert.SsmInDgradU.main_arg1)
      ∧ r.2.mem ((c.tc : Thread Cert.SsmInDgradU.nD Cert.SsmInDgradU.τ).loc Cert.SsmInDgradU.main_arg2) = m ((c.tc : Thread Cert.SsmInDgradU.nD Cert.SsmInDgradU.τ).loc Cert.SsmInDgradU.main_arg2)
      ∧ r.2.mem ((c.tc : Thread Cert.SsmInDgradU.nD Cert.SsmInDgradU.τ).loc Cert.SsmInDgradU.main_arg3) = m ((c.tc : Thread Cert.SsmInDgradU.nD Cert.SsmInDgradU.τ).loc Cert.SsmInDgradU.main_arg3)
      ∧ r.2.mem ((c.tc : Thread Cert.SsmInDgradU.nD Cert.SsmInDgradU.τ).loc Cert.SsmInDgradU.main_arg4) = m ((c.tc : Thread Cert.SsmInDgradU.nD Cert.SsmInDgradU.τ).loc Cert.SsmInDgradU.main_arg4)
      ∧ r.2.mem ((c.tc : Thread Cert.SsmInDgradU.nD Cert.SsmInDgradU.τ).loc Cert.SsmInDgradU.main_arg5) = m ((c.tc : Thread Cert.SsmInDgradU.nD Cert.SsmInDgradU.τ).loc Cert.SsmInDgradU.main_arg5))
      ∧ r.2.sem = fun _ => 0)

def quiescent_SsmInDgradUIdeal [hSsmInDgradUIdeal : Cert.SsmInDgradUIdeal.Facts] : Prop :=
  ∀ (m : (ℓ : Loc Cert.SsmInDgradUIdeal.nD Cert.SsmInDgradUIdeal.τ Cert.SsmInDgradUIdeal.sig) → Buf (Elt Ideal) ℓ) (g : Dev Cert.SsmInDgradUIdeal.nD → PrngReg), Pre_SsmInDgradUIdeal m →
    θ_run (Cert.SsmInDgradUIdeal.defs (F := Ideal)) (onTc (τ := Cert.SsmInDgradUIdeal.τ) (Cert.SsmInDgradUIdeal.main (F := Ideal))) ⟨m, fun _ => 0, g⟩ (fun r => (∀ c : Dev Cert.SsmInDgradUIdeal.nD,
      r.2.mem ((c.tc : Thread Cert.SsmInDgradUIdeal.nD Cert.SsmInDgradUIdeal.τ).loc Cert.SsmInDgradUIdeal.main_arg0) = m ((c.tc : Thread Cert.SsmInDgradUIdeal.nD Cert.SsmInDgradUIdeal.τ).loc Cert.SsmInDgradUIdeal.main_arg0)
      ∧ r.2.mem ((c.tc : Thread Cert.SsmInDgradUIdeal.nD Cert.SsmInDgradUIdeal.τ).loc Cert.SsmInDgradUIdeal.main_arg1) = m ((c.tc : Thread Cert.SsmInDgradUIdeal.nD Cert.SsmInDgradUIdeal.τ).loc Cert.SsmInDgradUIdeal.main_arg1)
      ∧ r.2.mem ((c.tc : Thread Cert.SsmInDgradUIdeal.nD Cert.SsmInDgradUIdeal.τ).loc Cert.SsmInDgradUIdeal.main_arg2) = m ((c.tc : Thread Cert.SsmInDgradUIdeal.nD Cert.SsmInDgradUIdeal.τ).loc Cert.SsmInDgradUIdeal.main_arg2)
      ∧ r.2.mem ((c.tc : Thread Cert.SsmInDgradUIdeal.nD Cert.SsmInDgradUIdeal.τ).loc Cert.SsmInDgradUIdeal.main_arg3) = m ((c.tc : Thread Cert.SsmInDgradUIdeal.nD Cert.SsmInDgradUIdeal.τ).loc Cert.SsmInDgradUIdeal.main_arg3)
      ∧ r.2.mem ((c.tc : Thread Cert.SsmInDgradUIdeal.nD Cert.SsmInDgradUIdeal.τ).loc Cert.SsmInDgradUIdeal.main_arg4) = m ((c.tc : Thread Cert.SsmInDgradUIdeal.nD Cert.SsmInDgradUIdeal.τ).loc Cert.SsmInDgradUIdeal.main_arg4)
      ∧ r.2.mem ((c.tc : Thread Cert.SsmInDgradUIdeal.nD Cert.SsmInDgradUIdeal.τ).loc Cert.SsmInDgradUIdeal.main_arg5) = m ((c.tc : Thread Cert.SsmInDgradUIdeal.nD Cert.SsmInDgradUIdeal.τ).loc Cert.SsmInDgradUIdeal.main_arg5))
      ∧ r.2.sem = fun _ => 0)

def quiescent_SsmInDgradUPlainIdeal [hSsmInDgradUPlainIdeal : Cert.SsmInDgradUPlainIdeal.Facts] : Prop :=
  ∀ (m : (ℓ : Loc Cert.SsmInDgradUPlainIdeal.nD Cert.SsmInDgradUPlainIdeal.τ Cert.SsmInDgradUPlainIdeal.sig) → Buf (Elt Ideal) ℓ) (g : Dev Cert.SsmInDgradUPlainIdeal.nD → PrngReg), Pre_SsmInDgradUPlainIdeal m →
    θ_run (Cert.SsmInDgradUPlainIdeal.defs (F := Ideal)) (onTc (τ := Cert.SsmInDgradUPlainIdeal.τ) (Cert.SsmInDgradUPlainIdeal.main (F := Ideal))) ⟨m, fun _ => 0, g⟩ (fun r => (∀ c : Dev Cert.SsmInDgradUPlainIdeal.nD,
      r.2.mem ((c.tc : Thread Cert.SsmInDgradUPlainIdeal.nD Cert.SsmInDgradUPlainIdeal.τ).loc Cert.SsmInDgradUPlainIdeal.main_arg0) = m ((c.tc : Thread Cert.SsmInDgradUPlainIdeal.nD Cert.SsmInDgradUPlainIdeal.τ).loc Cert.SsmInDgradUPlainIdeal.main_arg0)
      ∧ r.2.mem ((c.tc : Thread Cert.SsmInDgradUPlainIdeal.nD Cert.SsmInDgradUPlainIdeal.τ).loc Cert.SsmInDgradUPlainIdeal.main_arg1) = m ((c.tc : Thread Cert.SsmInDgradUPlainIdeal.nD Cert.SsmInDgradUPlainIdeal.τ).loc Cert.SsmInDgradUPlainIdeal.main_arg1)
      ∧ r.2.mem ((c.tc : Thread Cert.SsmInDgradUPlainIdeal.nD Cert.SsmInDgradUPlainIdeal.τ).loc Cert.SsmInDgradUPlainIdeal.main_arg2) = m ((c.tc : Thread Cert.SsmInDgradUPlainIdeal.nD Cert.SsmInDgradUPlainIdeal.τ).loc Cert.SsmInDgradUPlainIdeal.main_arg2)
      ∧ r.2.mem ((c.tc : Thread Cert.SsmInDgradUPlainIdeal.nD Cert.SsmInDgradUPlainIdeal.τ).loc Cert.SsmInDgradUPlainIdeal.main_arg3) = m ((c.tc : Thread Cert.SsmInDgradUPlainIdeal.nD Cert.SsmInDgradUPlainIdeal.τ).loc Cert.SsmInDgradUPlainIdeal.main_arg3)
      ∧ r.2.mem ((c.tc : Thread Cert.SsmInDgradUPlainIdeal.nD Cert.SsmInDgradUPlainIdeal.τ).loc Cert.SsmInDgradUPlainIdeal.main_arg4) = m ((c.tc : Thread Cert.SsmInDgradUPlainIdeal.nD Cert.SsmInDgradUPlainIdeal.τ).loc Cert.SsmInDgradUPlainIdeal.main_arg4)
      ∧ r.2.mem ((c.tc : Thread Cert.SsmInDgradUPlainIdeal.nD Cert.SsmInDgradUPlainIdeal.τ).loc Cert.SsmInDgradUPlainIdeal.main_arg5) = m ((c.tc : Thread Cert.SsmInDgradUPlainIdeal.nD Cert.SsmInDgradUPlainIdeal.τ).loc Cert.SsmInDgradUPlainIdeal.main_arg5))
      ∧ r.2.sem = fun _ => 0)

def quiescent_SsmInDgradGate [hSsmInDgradGate : Cert.SsmInDgradGate.Facts] : Prop :=
  ∀ (m : (ℓ : Loc Cert.SsmInDgradGate.nD Cert.SsmInDgradGate.τ Cert.SsmInDgradGate.sig) → Buf (Elt Bits) ℓ) (g : Dev Cert.SsmInDgradGate.nD → PrngReg), Pre_SsmInDgradGate m →
    θ_run (Cert.SsmInDgradGate.defs (F := Bits)) (onTc (τ := Cert.SsmInDgradGate.τ) (Cert.SsmInDgradGate.main (F := Bits))) ⟨m, fun _ => 0, g⟩ (fun r => (∀ c : Dev Cert.SsmInDgradGate.nD,
      r.2.mem ((c.tc : Thread Cert.SsmInDgradGate.nD Cert.SsmInDgradGate.τ).loc Cert.SsmInDgradGate.main_arg0) = m ((c.tc : Thread Cert.SsmInDgradGate.nD Cert.SsmInDgradGate.τ).loc Cert.SsmInDgradGate.main_arg0)
      ∧ r.2.mem ((c.tc : Thread Cert.SsmInDgradGate.nD Cert.SsmInDgradGate.τ).loc Cert.SsmInDgradGate.main_arg1) = m ((c.tc : Thread Cert.SsmInDgradGate.nD Cert.SsmInDgradGate.τ).loc Cert.SsmInDgradGate.main_arg1)
      ∧ r.2.mem ((c.tc : Thread Cert.SsmInDgradGate.nD Cert.SsmInDgradGate.τ).loc Cert.SsmInDgradGate.main_arg2) = m ((c.tc : Thread Cert.SsmInDgradGate.nD Cert.SsmInDgradGate.τ).loc Cert.SsmInDgradGate.main_arg2)
      ∧ r.2.mem ((c.tc : Thread Cert.SsmInDgradGate.nD Cert.SsmInDgradGate.τ).loc Cert.SsmInDgradGate.main_arg3) = m ((c.tc : Thread Cert.SsmInDgradGate.nD Cert.SsmInDgradGate.τ).loc Cert.SsmInDgradGate.main_arg3)
      ∧ r.2.mem ((c.tc : Thread Cert.SsmInDgradGate.nD Cert.SsmInDgradGate.τ).loc Cert.SsmInDgradGate.main_arg4) = m ((c.tc : Thread Cert.SsmInDgradGate.nD Cert.SsmInDgradGate.τ).loc Cert.SsmInDgradGate.main_arg4)
      ∧ r.2.mem ((c.tc : Thread Cert.SsmInDgradGate.nD Cert.SsmInDgradGate.τ).loc Cert.SsmInDgradGate.main_arg5) = m ((c.tc : Thread Cert.SsmInDgradGate.nD Cert.SsmInDgradGate.τ).loc Cert.SsmInDgradGate.main_arg5)
      ∧ r.2.mem ((c.tc : Thread Cert.SsmInDgradGate.nD Cert.SsmInDgradGate.τ).loc Cert.SsmInDgradGate.main_arg6) = m ((c.tc : Thread Cert.SsmInDgradGate.nD Cert.SsmInDgradGate.τ).loc Cert.SsmInDgradGate.main_arg6))
      ∧ r.2.sem = fun _ => 0)

def quiescent_SsmInDgradGateIdeal [hSsmInDgradGateIdeal : Cert.SsmInDgradGateIdeal.Facts] : Prop :=
  ∀ (m : (ℓ : Loc Cert.SsmInDgradGateIdeal.nD Cert.SsmInDgradGateIdeal.τ Cert.SsmInDgradGateIdeal.sig) → Buf (Elt Ideal) ℓ) (g : Dev Cert.SsmInDgradGateIdeal.nD → PrngReg), Pre_SsmInDgradGateIdeal m →
    θ_run (Cert.SsmInDgradGateIdeal.defs (F := Ideal)) (onTc (τ := Cert.SsmInDgradGateIdeal.τ) (Cert.SsmInDgradGateIdeal.main (F := Ideal))) ⟨m, fun _ => 0, g⟩ (fun r => (∀ c : Dev Cert.SsmInDgradGateIdeal.nD,
      r.2.mem ((c.tc : Thread Cert.SsmInDgradGateIdeal.nD Cert.SsmInDgradGateIdeal.τ).loc Cert.SsmInDgradGateIdeal.main_arg0) = m ((c.tc : Thread Cert.SsmInDgradGateIdeal.nD Cert.SsmInDgradGateIdeal.τ).loc Cert.SsmInDgradGateIdeal.main_arg0)
      ∧ r.2.mem ((c.tc : Thread Cert.SsmInDgradGateIdeal.nD Cert.SsmInDgradGateIdeal.τ).loc Cert.SsmInDgradGateIdeal.main_arg1) = m ((c.tc : Thread Cert.SsmInDgradGateIdeal.nD Cert.SsmInDgradGateIdeal.τ).loc Cert.SsmInDgradGateIdeal.main_arg1)
      ∧ r.2.mem ((c.tc : Thread Cert.SsmInDgradGateIdeal.nD Cert.SsmInDgradGateIdeal.τ).loc Cert.SsmInDgradGateIdeal.main_arg2) = m ((c.tc : Thread Cert.SsmInDgradGateIdeal.nD Cert.SsmInDgradGateIdeal.τ).loc Cert.SsmInDgradGateIdeal.main_arg2)
      ∧ r.2.mem ((c.tc : Thread Cert.SsmInDgradGateIdeal.nD Cert.SsmInDgradGateIdeal.τ).loc Cert.SsmInDgradGateIdeal.main_arg3) = m ((c.tc : Thread Cert.SsmInDgradGateIdeal.nD Cert.SsmInDgradGateIdeal.τ).loc Cert.SsmInDgradGateIdeal.main_arg3)
      ∧ r.2.mem ((c.tc : Thread Cert.SsmInDgradGateIdeal.nD Cert.SsmInDgradGateIdeal.τ).loc Cert.SsmInDgradGateIdeal.main_arg4) = m ((c.tc : Thread Cert.SsmInDgradGateIdeal.nD Cert.SsmInDgradGateIdeal.τ).loc Cert.SsmInDgradGateIdeal.main_arg4)
      ∧ r.2.mem ((c.tc : Thread Cert.SsmInDgradGateIdeal.nD Cert.SsmInDgradGateIdeal.τ).loc Cert.SsmInDgradGateIdeal.main_arg5) = m ((c.tc : Thread Cert.SsmInDgradGateIdeal.nD Cert.SsmInDgradGateIdeal.τ).loc Cert.SsmInDgradGateIdeal.main_arg5)
      ∧ r.2.mem ((c.tc : Thread Cert.SsmInDgradGateIdeal.nD Cert.SsmInDgradGateIdeal.τ).loc Cert.SsmInDgradGateIdeal.main_arg6) = m ((c.tc : Thread Cert.SsmInDgradGateIdeal.nD Cert.SsmInDgradGateIdeal.τ).loc Cert.SsmInDgradGateIdeal.main_arg6))
      ∧ r.2.sem = fun _ => 0)

def quiescent_SsmInDgradGatePlainIdeal [hSsmInDgradGatePlainIdeal : Cert.SsmInDgradGatePlainIdeal.Facts] : Prop :=
  ∀ (m : (ℓ : Loc Cert.SsmInDgradGatePlainIdeal.nD Cert.SsmInDgradGatePlainIdeal.τ Cert.SsmInDgradGatePlainIdeal.sig) → Buf (Elt Ideal) ℓ) (g : Dev Cert.SsmInDgradGatePlainIdeal.nD → PrngReg), Pre_SsmInDgradGatePlainIdeal m →
    θ_run (Cert.SsmInDgradGatePlainIdeal.defs (F := Ideal)) (onTc (τ := Cert.SsmInDgradGatePlainIdeal.τ) (Cert.SsmInDgradGatePlainIdeal.main (F := Ideal))) ⟨m, fun _ => 0, g⟩ (fun r => (∀ c : Dev Cert.SsmInDgradGatePlainIdeal.nD,
      r.2.mem ((c.tc : Thread Cert.SsmInDgradGatePlainIdeal.nD Cert.SsmInDgradGatePlainIdeal.τ).loc Cert.SsmInDgradGatePlainIdeal.main_arg0) = m ((c.tc : Thread Cert.SsmInDgradGatePlainIdeal.nD Cert.SsmInDgradGatePlainIdeal.τ).loc Cert.SsmInDgradGatePlainIdeal.main_arg0)
      ∧ r.2.mem ((c.tc : Thread Cert.SsmInDgradGatePlainIdeal.nD Cert.SsmInDgradGatePlainIdeal.τ).loc Cert.SsmInDgradGatePlainIdeal.main_arg1) = m ((c.tc : Thread Cert.SsmInDgradGatePlainIdeal.nD Cert.SsmInDgradGatePlainIdeal.τ).loc Cert.SsmInDgradGatePlainIdeal.main_arg1)
      ∧ r.2.mem ((c.tc : Thread Cert.SsmInDgradGatePlainIdeal.nD Cert.SsmInDgradGatePlainIdeal.τ).loc Cert.SsmInDgradGatePlainIdeal.main_arg2) = m ((c.tc : Thread Cert.SsmInDgradGatePlainIdeal.nD Cert.SsmInDgradGatePlainIdeal.τ).loc Cert.SsmInDgradGatePlainIdeal.main_arg2)
      ∧ r.2.mem ((c.tc : Thread Cert.SsmInDgradGatePlainIdeal.nD Cert.SsmInDgradGatePlainIdeal.τ).loc Cert.SsmInDgradGatePlainIdeal.main_arg3) = m ((c.tc : Thread Cert.SsmInDgradGatePlainIdeal.nD Cert.SsmInDgradGatePlainIdeal.τ).loc Cert.SsmInDgradGatePlainIdeal.main_arg3)
      ∧ r.2.mem ((c.tc : Thread Cert.SsmInDgradGatePlainIdeal.nD Cert.SsmInDgradGatePlainIdeal.τ).loc Cert.SsmInDgradGatePlainIdeal.main_arg4) = m ((c.tc : Thread Cert.SsmInDgradGatePlainIdeal.nD Cert.SsmInDgradGatePlainIdeal.τ).loc Cert.SsmInDgradGatePlainIdeal.main_arg4)
      ∧ r.2.mem ((c.tc : Thread Cert.SsmInDgradGatePlainIdeal.nD Cert.SsmInDgradGatePlainIdeal.τ).loc Cert.SsmInDgradGatePlainIdeal.main_arg5) = m ((c.tc : Thread Cert.SsmInDgradGatePlainIdeal.nD Cert.SsmInDgradGatePlainIdeal.τ).loc Cert.SsmInDgradGatePlainIdeal.main_arg5)
      ∧ r.2.mem ((c.tc : Thread Cert.SsmInDgradGatePlainIdeal.nD Cert.SsmInDgradGatePlainIdeal.τ).loc Cert.SsmInDgradGatePlainIdeal.main_arg6) = m ((c.tc : Thread Cert.SsmInDgradGatePlainIdeal.nD Cert.SsmInDgradGatePlainIdeal.τ).loc Cert.SsmInDgradGatePlainIdeal.main_arg6))
      ∧ r.2.sem = fun _ => 0)

def quiescent_AttnInDgrad0 [hAttnInDgrad0 : Cert.AttnInDgrad0.Facts] : Prop :=
  ∀ (m : (ℓ : Loc Cert.AttnInDgrad0.nD Cert.AttnInDgrad0.τ Cert.AttnInDgrad0.sig) → Buf (Elt Bits) ℓ) (g : Dev Cert.AttnInDgrad0.nD → PrngReg), Pre_AttnInDgrad0 m →
    θ_run (Cert.AttnInDgrad0.defs (F := Bits)) (onTc (τ := Cert.AttnInDgrad0.τ) (Cert.AttnInDgrad0.main (F := Bits))) ⟨m, fun _ => 0, g⟩ (fun r => (∀ c : Dev Cert.AttnInDgrad0.nD,
      r.2.mem ((c.tc : Thread Cert.AttnInDgrad0.nD Cert.AttnInDgrad0.τ).loc Cert.AttnInDgrad0.main_arg0) = m ((c.tc : Thread Cert.AttnInDgrad0.nD Cert.AttnInDgrad0.τ).loc Cert.AttnInDgrad0.main_arg0)
      ∧ r.2.mem ((c.tc : Thread Cert.AttnInDgrad0.nD Cert.AttnInDgrad0.τ).loc Cert.AttnInDgrad0.main_arg1) = m ((c.tc : Thread Cert.AttnInDgrad0.nD Cert.AttnInDgrad0.τ).loc Cert.AttnInDgrad0.main_arg1)
      ∧ r.2.mem ((c.tc : Thread Cert.AttnInDgrad0.nD Cert.AttnInDgrad0.τ).loc Cert.AttnInDgrad0.main_arg2) = m ((c.tc : Thread Cert.AttnInDgrad0.nD Cert.AttnInDgrad0.τ).loc Cert.AttnInDgrad0.main_arg2))
      ∧ r.2.sem = fun _ => 0)

def quiescent_AttnInDgrad0Ideal [hAttnInDgrad0Ideal : Cert.AttnInDgrad0Ideal.Facts] : Prop :=
  ∀ (m : (ℓ : Loc Cert.AttnInDgrad0Ideal.nD Cert.AttnInDgrad0Ideal.τ Cert.AttnInDgrad0Ideal.sig) → Buf (Elt Ideal) ℓ) (g : Dev Cert.AttnInDgrad0Ideal.nD → PrngReg), Pre_AttnInDgrad0Ideal m →
    θ_run (Cert.AttnInDgrad0Ideal.defs (F := Ideal)) (onTc (τ := Cert.AttnInDgrad0Ideal.τ) (Cert.AttnInDgrad0Ideal.main (F := Ideal))) ⟨m, fun _ => 0, g⟩ (fun r => (∀ c : Dev Cert.AttnInDgrad0Ideal.nD,
      r.2.mem ((c.tc : Thread Cert.AttnInDgrad0Ideal.nD Cert.AttnInDgrad0Ideal.τ).loc Cert.AttnInDgrad0Ideal.main_arg0) = m ((c.tc : Thread Cert.AttnInDgrad0Ideal.nD Cert.AttnInDgrad0Ideal.τ).loc Cert.AttnInDgrad0Ideal.main_arg0)
      ∧ r.2.mem ((c.tc : Thread Cert.AttnInDgrad0Ideal.nD Cert.AttnInDgrad0Ideal.τ).loc Cert.AttnInDgrad0Ideal.main_arg1) = m ((c.tc : Thread Cert.AttnInDgrad0Ideal.nD Cert.AttnInDgrad0Ideal.τ).loc Cert.AttnInDgrad0Ideal.main_arg1)
      ∧ r.2.mem ((c.tc : Thread Cert.AttnInDgrad0Ideal.nD Cert.AttnInDgrad0Ideal.τ).loc Cert.AttnInDgrad0Ideal.main_arg2) = m ((c.tc : Thread Cert.AttnInDgrad0Ideal.nD Cert.AttnInDgrad0Ideal.τ).loc Cert.AttnInDgrad0Ideal.main_arg2))
      ∧ r.2.sem = fun _ => 0)

def quiescent_AttnInDgrad0PlainIdeal [hAttnInDgrad0PlainIdeal : Cert.AttnInDgrad0PlainIdeal.Facts] : Prop :=
  ∀ (m : (ℓ : Loc Cert.AttnInDgrad0PlainIdeal.nD Cert.AttnInDgrad0PlainIdeal.τ Cert.AttnInDgrad0PlainIdeal.sig) → Buf (Elt Ideal) ℓ) (g : Dev Cert.AttnInDgrad0PlainIdeal.nD → PrngReg), Pre_AttnInDgrad0PlainIdeal m →
    θ_run (Cert.AttnInDgrad0PlainIdeal.defs (F := Ideal)) (onTc (τ := Cert.AttnInDgrad0PlainIdeal.τ) (Cert.AttnInDgrad0PlainIdeal.main (F := Ideal))) ⟨m, fun _ => 0, g⟩ (fun r => (∀ c : Dev Cert.AttnInDgrad0PlainIdeal.nD,
      r.2.mem ((c.tc : Thread Cert.AttnInDgrad0PlainIdeal.nD Cert.AttnInDgrad0PlainIdeal.τ).loc Cert.AttnInDgrad0PlainIdeal.main_arg0) = m ((c.tc : Thread Cert.AttnInDgrad0PlainIdeal.nD Cert.AttnInDgrad0PlainIdeal.τ).loc Cert.AttnInDgrad0PlainIdeal.main_arg0)
      ∧ r.2.mem ((c.tc : Thread Cert.AttnInDgrad0PlainIdeal.nD Cert.AttnInDgrad0PlainIdeal.τ).loc Cert.AttnInDgrad0PlainIdeal.main_arg1) = m ((c.tc : Thread Cert.AttnInDgrad0PlainIdeal.nD Cert.AttnInDgrad0PlainIdeal.τ).loc Cert.AttnInDgrad0PlainIdeal.main_arg1)
      ∧ r.2.mem ((c.tc : Thread Cert.AttnInDgrad0PlainIdeal.nD Cert.AttnInDgrad0PlainIdeal.τ).loc Cert.AttnInDgrad0PlainIdeal.main_arg2) = m ((c.tc : Thread Cert.AttnInDgrad0PlainIdeal.nD Cert.AttnInDgrad0PlainIdeal.τ).loc Cert.AttnInDgrad0PlainIdeal.main_arg2))
      ∧ r.2.sem = fun _ => 0)

def quiescent_AttnInDgrad1 [hAttnInDgrad1 : Cert.AttnInDgrad1.Facts] : Prop :=
  ∀ (m : (ℓ : Loc Cert.AttnInDgrad1.nD Cert.AttnInDgrad1.τ Cert.AttnInDgrad1.sig) → Buf (Elt Bits) ℓ) (g : Dev Cert.AttnInDgrad1.nD → PrngReg), Pre_AttnInDgrad1 m →
    θ_run (Cert.AttnInDgrad1.defs (F := Bits)) (onTc (τ := Cert.AttnInDgrad1.τ) (Cert.AttnInDgrad1.main (F := Bits))) ⟨m, fun _ => 0, g⟩ (fun r => (∀ c : Dev Cert.AttnInDgrad1.nD,
      r.2.mem ((c.tc : Thread Cert.AttnInDgrad1.nD Cert.AttnInDgrad1.τ).loc Cert.AttnInDgrad1.main_arg0) = m ((c.tc : Thread Cert.AttnInDgrad1.nD Cert.AttnInDgrad1.τ).loc Cert.AttnInDgrad1.main_arg0)
      ∧ r.2.mem ((c.tc : Thread Cert.AttnInDgrad1.nD Cert.AttnInDgrad1.τ).loc Cert.AttnInDgrad1.main_arg1) = m ((c.tc : Thread Cert.AttnInDgrad1.nD Cert.AttnInDgrad1.τ).loc Cert.AttnInDgrad1.main_arg1)
      ∧ r.2.mem ((c.tc : Thread Cert.AttnInDgrad1.nD Cert.AttnInDgrad1.τ).loc Cert.AttnInDgrad1.main_arg2) = m ((c.tc : Thread Cert.AttnInDgrad1.nD Cert.AttnInDgrad1.τ).loc Cert.AttnInDgrad1.main_arg2)
      ∧ r.2.mem ((c.tc : Thread Cert.AttnInDgrad1.nD Cert.AttnInDgrad1.τ).loc Cert.AttnInDgrad1.main_arg3) = m ((c.tc : Thread Cert.AttnInDgrad1.nD Cert.AttnInDgrad1.τ).loc Cert.AttnInDgrad1.main_arg3))
      ∧ r.2.sem = fun _ => 0)

def quiescent_AttnInDgrad1Ideal [hAttnInDgrad1Ideal : Cert.AttnInDgrad1Ideal.Facts] : Prop :=
  ∀ (m : (ℓ : Loc Cert.AttnInDgrad1Ideal.nD Cert.AttnInDgrad1Ideal.τ Cert.AttnInDgrad1Ideal.sig) → Buf (Elt Ideal) ℓ) (g : Dev Cert.AttnInDgrad1Ideal.nD → PrngReg), Pre_AttnInDgrad1Ideal m →
    θ_run (Cert.AttnInDgrad1Ideal.defs (F := Ideal)) (onTc (τ := Cert.AttnInDgrad1Ideal.τ) (Cert.AttnInDgrad1Ideal.main (F := Ideal))) ⟨m, fun _ => 0, g⟩ (fun r => (∀ c : Dev Cert.AttnInDgrad1Ideal.nD,
      r.2.mem ((c.tc : Thread Cert.AttnInDgrad1Ideal.nD Cert.AttnInDgrad1Ideal.τ).loc Cert.AttnInDgrad1Ideal.main_arg0) = m ((c.tc : Thread Cert.AttnInDgrad1Ideal.nD Cert.AttnInDgrad1Ideal.τ).loc Cert.AttnInDgrad1Ideal.main_arg0)
      ∧ r.2.mem ((c.tc : Thread Cert.AttnInDgrad1Ideal.nD Cert.AttnInDgrad1Ideal.τ).loc Cert.AttnInDgrad1Ideal.main_arg1) = m ((c.tc : Thread Cert.AttnInDgrad1Ideal.nD Cert.AttnInDgrad1Ideal.τ).loc Cert.AttnInDgrad1Ideal.main_arg1)
      ∧ r.2.mem ((c.tc : Thread Cert.AttnInDgrad1Ideal.nD Cert.AttnInDgrad1Ideal.τ).loc Cert.AttnInDgrad1Ideal.main_arg2) = m ((c.tc : Thread Cert.AttnInDgrad1Ideal.nD Cert.AttnInDgrad1Ideal.τ).loc Cert.AttnInDgrad1Ideal.main_arg2)
      ∧ r.2.mem ((c.tc : Thread Cert.AttnInDgrad1Ideal.nD Cert.AttnInDgrad1Ideal.τ).loc Cert.AttnInDgrad1Ideal.main_arg3) = m ((c.tc : Thread Cert.AttnInDgrad1Ideal.nD Cert.AttnInDgrad1Ideal.τ).loc Cert.AttnInDgrad1Ideal.main_arg3))
      ∧ r.2.sem = fun _ => 0)

def quiescent_AttnInDgrad1PlainIdeal [hAttnInDgrad1PlainIdeal : Cert.AttnInDgrad1PlainIdeal.Facts] : Prop :=
  ∀ (m : (ℓ : Loc Cert.AttnInDgrad1PlainIdeal.nD Cert.AttnInDgrad1PlainIdeal.τ Cert.AttnInDgrad1PlainIdeal.sig) → Buf (Elt Ideal) ℓ) (g : Dev Cert.AttnInDgrad1PlainIdeal.nD → PrngReg), Pre_AttnInDgrad1PlainIdeal m →
    θ_run (Cert.AttnInDgrad1PlainIdeal.defs (F := Ideal)) (onTc (τ := Cert.AttnInDgrad1PlainIdeal.τ) (Cert.AttnInDgrad1PlainIdeal.main (F := Ideal))) ⟨m, fun _ => 0, g⟩ (fun r => (∀ c : Dev Cert.AttnInDgrad1PlainIdeal.nD,
      r.2.mem ((c.tc : Thread Cert.AttnInDgrad1PlainIdeal.nD Cert.AttnInDgrad1PlainIdeal.τ).loc Cert.AttnInDgrad1PlainIdeal.main_arg0) = m ((c.tc : Thread Cert.AttnInDgrad1PlainIdeal.nD Cert.AttnInDgrad1PlainIdeal.τ).loc Cert.AttnInDgrad1PlainIdeal.main_arg0)
      ∧ r.2.mem ((c.tc : Thread Cert.AttnInDgrad1PlainIdeal.nD Cert.AttnInDgrad1PlainIdeal.τ).loc Cert.AttnInDgrad1PlainIdeal.main_arg1) = m ((c.tc : Thread Cert.AttnInDgrad1PlainIdeal.nD Cert.AttnInDgrad1PlainIdeal.τ).loc Cert.AttnInDgrad1PlainIdeal.main_arg1)
      ∧ r.2.mem ((c.tc : Thread Cert.AttnInDgrad1PlainIdeal.nD Cert.AttnInDgrad1PlainIdeal.τ).loc Cert.AttnInDgrad1PlainIdeal.main_arg2) = m ((c.tc : Thread Cert.AttnInDgrad1PlainIdeal.nD Cert.AttnInDgrad1PlainIdeal.τ).loc Cert.AttnInDgrad1PlainIdeal.main_arg2)
      ∧ r.2.mem ((c.tc : Thread Cert.AttnInDgrad1PlainIdeal.nD Cert.AttnInDgrad1PlainIdeal.τ).loc Cert.AttnInDgrad1PlainIdeal.main_arg3) = m ((c.tc : Thread Cert.AttnInDgrad1PlainIdeal.nD Cert.AttnInDgrad1PlainIdeal.τ).loc Cert.AttnInDgrad1PlainIdeal.main_arg3))
      ∧ r.2.sem = fun _ => 0)

def quiescent_AttnInDgrad2 [hAttnInDgrad2 : Cert.AttnInDgrad2.Facts] : Prop :=
  ∀ (m : (ℓ : Loc Cert.AttnInDgrad2.nD Cert.AttnInDgrad2.τ Cert.AttnInDgrad2.sig) → Buf (Elt Bits) ℓ) (g : Dev Cert.AttnInDgrad2.nD → PrngReg), Pre_AttnInDgrad2 m →
    θ_run (Cert.AttnInDgrad2.defs (F := Bits)) (onTc (τ := Cert.AttnInDgrad2.τ) (Cert.AttnInDgrad2.main (F := Bits))) ⟨m, fun _ => 0, g⟩ (fun r => (∀ c : Dev Cert.AttnInDgrad2.nD,
      r.2.mem ((c.tc : Thread Cert.AttnInDgrad2.nD Cert.AttnInDgrad2.τ).loc Cert.AttnInDgrad2.main_arg0) = m ((c.tc : Thread Cert.AttnInDgrad2.nD Cert.AttnInDgrad2.τ).loc Cert.AttnInDgrad2.main_arg0)
      ∧ r.2.mem ((c.tc : Thread Cert.AttnInDgrad2.nD Cert.AttnInDgrad2.τ).loc Cert.AttnInDgrad2.main_arg1) = m ((c.tc : Thread Cert.AttnInDgrad2.nD Cert.AttnInDgrad2.τ).loc Cert.AttnInDgrad2.main_arg1)
      ∧ r.2.mem ((c.tc : Thread Cert.AttnInDgrad2.nD Cert.AttnInDgrad2.τ).loc Cert.AttnInDgrad2.main_arg2) = m ((c.tc : Thread Cert.AttnInDgrad2.nD Cert.AttnInDgrad2.τ).loc Cert.AttnInDgrad2.main_arg2)
      ∧ r.2.mem ((c.tc : Thread Cert.AttnInDgrad2.nD Cert.AttnInDgrad2.τ).loc Cert.AttnInDgrad2.main_arg3) = m ((c.tc : Thread Cert.AttnInDgrad2.nD Cert.AttnInDgrad2.τ).loc Cert.AttnInDgrad2.main_arg3))
      ∧ r.2.sem = fun _ => 0)

def quiescent_AttnInDgrad2Ideal [hAttnInDgrad2Ideal : Cert.AttnInDgrad2Ideal.Facts] : Prop :=
  ∀ (m : (ℓ : Loc Cert.AttnInDgrad2Ideal.nD Cert.AttnInDgrad2Ideal.τ Cert.AttnInDgrad2Ideal.sig) → Buf (Elt Ideal) ℓ) (g : Dev Cert.AttnInDgrad2Ideal.nD → PrngReg), Pre_AttnInDgrad2Ideal m →
    θ_run (Cert.AttnInDgrad2Ideal.defs (F := Ideal)) (onTc (τ := Cert.AttnInDgrad2Ideal.τ) (Cert.AttnInDgrad2Ideal.main (F := Ideal))) ⟨m, fun _ => 0, g⟩ (fun r => (∀ c : Dev Cert.AttnInDgrad2Ideal.nD,
      r.2.mem ((c.tc : Thread Cert.AttnInDgrad2Ideal.nD Cert.AttnInDgrad2Ideal.τ).loc Cert.AttnInDgrad2Ideal.main_arg0) = m ((c.tc : Thread Cert.AttnInDgrad2Ideal.nD Cert.AttnInDgrad2Ideal.τ).loc Cert.AttnInDgrad2Ideal.main_arg0)
      ∧ r.2.mem ((c.tc : Thread Cert.AttnInDgrad2Ideal.nD Cert.AttnInDgrad2Ideal.τ).loc Cert.AttnInDgrad2Ideal.main_arg1) = m ((c.tc : Thread Cert.AttnInDgrad2Ideal.nD Cert.AttnInDgrad2Ideal.τ).loc Cert.AttnInDgrad2Ideal.main_arg1)
      ∧ r.2.mem ((c.tc : Thread Cert.AttnInDgrad2Ideal.nD Cert.AttnInDgrad2Ideal.τ).loc Cert.AttnInDgrad2Ideal.main_arg2) = m ((c.tc : Thread Cert.AttnInDgrad2Ideal.nD Cert.AttnInDgrad2Ideal.τ).loc Cert.AttnInDgrad2Ideal.main_arg2)
      ∧ r.2.mem ((c.tc : Thread Cert.AttnInDgrad2Ideal.nD Cert.AttnInDgrad2Ideal.τ).loc Cert.AttnInDgrad2Ideal.main_arg3) = m ((c.tc : Thread Cert.AttnInDgrad2Ideal.nD Cert.AttnInDgrad2Ideal.τ).loc Cert.AttnInDgrad2Ideal.main_arg3))
      ∧ r.2.sem = fun _ => 0)

def quiescent_AttnInDgrad2PlainIdeal [hAttnInDgrad2PlainIdeal : Cert.AttnInDgrad2PlainIdeal.Facts] : Prop :=
  ∀ (m : (ℓ : Loc Cert.AttnInDgrad2PlainIdeal.nD Cert.AttnInDgrad2PlainIdeal.τ Cert.AttnInDgrad2PlainIdeal.sig) → Buf (Elt Ideal) ℓ) (g : Dev Cert.AttnInDgrad2PlainIdeal.nD → PrngReg), Pre_AttnInDgrad2PlainIdeal m →
    θ_run (Cert.AttnInDgrad2PlainIdeal.defs (F := Ideal)) (onTc (τ := Cert.AttnInDgrad2PlainIdeal.τ) (Cert.AttnInDgrad2PlainIdeal.main (F := Ideal))) ⟨m, fun _ => 0, g⟩ (fun r => (∀ c : Dev Cert.AttnInDgrad2PlainIdeal.nD,
      r.2.mem ((c.tc : Thread Cert.AttnInDgrad2PlainIdeal.nD Cert.AttnInDgrad2PlainIdeal.τ).loc Cert.AttnInDgrad2PlainIdeal.main_arg0) = m ((c.tc : Thread Cert.AttnInDgrad2PlainIdeal.nD Cert.AttnInDgrad2PlainIdeal.τ).loc Cert.AttnInDgrad2PlainIdeal.main_arg0)
      ∧ r.2.mem ((c.tc : Thread Cert.AttnInDgrad2PlainIdeal.nD Cert.AttnInDgrad2PlainIdeal.τ).loc Cert.AttnInDgrad2PlainIdeal.main_arg1) = m ((c.tc : Thread Cert.AttnInDgrad2PlainIdeal.nD Cert.AttnInDgrad2PlainIdeal.τ).loc Cert.AttnInDgrad2PlainIdeal.main_arg1)
      ∧ r.2.mem ((c.tc : Thread Cert.AttnInDgrad2PlainIdeal.nD Cert.AttnInDgrad2PlainIdeal.τ).loc Cert.AttnInDgrad2PlainIdeal.main_arg2) = m ((c.tc : Thread Cert.AttnInDgrad2PlainIdeal.nD Cert.AttnInDgrad2PlainIdeal.τ).loc Cert.AttnInDgrad2PlainIdeal.main_arg2)
      ∧ r.2.mem ((c.tc : Thread Cert.AttnInDgrad2PlainIdeal.nD Cert.AttnInDgrad2PlainIdeal.τ).loc Cert.AttnInDgrad2PlainIdeal.main_arg3) = m ((c.tc : Thread Cert.AttnInDgrad2PlainIdeal.nD Cert.AttnInDgrad2PlainIdeal.τ).loc Cert.AttnInDgrad2PlainIdeal.main_arg3))
      ∧ r.2.sem = fun _ => 0)

def quiescent_AttnInDgrad3 [hAttnInDgrad3 : Cert.AttnInDgrad3.Facts] : Prop :=
  ∀ (m : (ℓ : Loc Cert.AttnInDgrad3.nD Cert.AttnInDgrad3.τ Cert.AttnInDgrad3.sig) → Buf (Elt Bits) ℓ) (g : Dev Cert.AttnInDgrad3.nD → PrngReg), Pre_AttnInDgrad3 m →
    θ_run (Cert.AttnInDgrad3.defs (F := Bits)) (onTc (τ := Cert.AttnInDgrad3.τ) (Cert.AttnInDgrad3.main (F := Bits))) ⟨m, fun _ => 0, g⟩ (fun r => (∀ c : Dev Cert.AttnInDgrad3.nD,
      r.2.mem ((c.tc : Thread Cert.AttnInDgrad3.nD Cert.AttnInDgrad3.τ).loc Cert.AttnInDgrad3.main_arg0) = m ((c.tc : Thread Cert.AttnInDgrad3.nD Cert.AttnInDgrad3.τ).loc Cert.AttnInDgrad3.main_arg0)
      ∧ r.2.mem ((c.tc : Thread Cert.AttnInDgrad3.nD Cert.AttnInDgrad3.τ).loc Cert.AttnInDgrad3.main_arg1) = m ((c.tc : Thread Cert.AttnInDgrad3.nD Cert.AttnInDgrad3.τ).loc Cert.AttnInDgrad3.main_arg1)
      ∧ r.2.mem ((c.tc : Thread Cert.AttnInDgrad3.nD Cert.AttnInDgrad3.τ).loc Cert.AttnInDgrad3.main_arg2) = m ((c.tc : Thread Cert.AttnInDgrad3.nD Cert.AttnInDgrad3.τ).loc Cert.AttnInDgrad3.main_arg2)
      ∧ r.2.mem ((c.tc : Thread Cert.AttnInDgrad3.nD Cert.AttnInDgrad3.τ).loc Cert.AttnInDgrad3.main_arg3) = m ((c.tc : Thread Cert.AttnInDgrad3.nD Cert.AttnInDgrad3.τ).loc Cert.AttnInDgrad3.main_arg3))
      ∧ r.2.sem = fun _ => 0)

def quiescent_AttnInDgrad3Ideal [hAttnInDgrad3Ideal : Cert.AttnInDgrad3Ideal.Facts] : Prop :=
  ∀ (m : (ℓ : Loc Cert.AttnInDgrad3Ideal.nD Cert.AttnInDgrad3Ideal.τ Cert.AttnInDgrad3Ideal.sig) → Buf (Elt Ideal) ℓ) (g : Dev Cert.AttnInDgrad3Ideal.nD → PrngReg), Pre_AttnInDgrad3Ideal m →
    θ_run (Cert.AttnInDgrad3Ideal.defs (F := Ideal)) (onTc (τ := Cert.AttnInDgrad3Ideal.τ) (Cert.AttnInDgrad3Ideal.main (F := Ideal))) ⟨m, fun _ => 0, g⟩ (fun r => (∀ c : Dev Cert.AttnInDgrad3Ideal.nD,
      r.2.mem ((c.tc : Thread Cert.AttnInDgrad3Ideal.nD Cert.AttnInDgrad3Ideal.τ).loc Cert.AttnInDgrad3Ideal.main_arg0) = m ((c.tc : Thread Cert.AttnInDgrad3Ideal.nD Cert.AttnInDgrad3Ideal.τ).loc Cert.AttnInDgrad3Ideal.main_arg0)
      ∧ r.2.mem ((c.tc : Thread Cert.AttnInDgrad3Ideal.nD Cert.AttnInDgrad3Ideal.τ).loc Cert.AttnInDgrad3Ideal.main_arg1) = m ((c.tc : Thread Cert.AttnInDgrad3Ideal.nD Cert.AttnInDgrad3Ideal.τ).loc Cert.AttnInDgrad3Ideal.main_arg1)
      ∧ r.2.mem ((c.tc : Thread Cert.AttnInDgrad3Ideal.nD Cert.AttnInDgrad3Ideal.τ).loc Cert.AttnInDgrad3Ideal.main_arg2) = m ((c.tc : Thread Cert.AttnInDgrad3Ideal.nD Cert.AttnInDgrad3Ideal.τ).loc Cert.AttnInDgrad3Ideal.main_arg2)
      ∧ r.2.mem ((c.tc : Thread Cert.AttnInDgrad3Ideal.nD Cert.AttnInDgrad3Ideal.τ).loc Cert.AttnInDgrad3Ideal.main_arg3) = m ((c.tc : Thread Cert.AttnInDgrad3Ideal.nD Cert.AttnInDgrad3Ideal.τ).loc Cert.AttnInDgrad3Ideal.main_arg3))
      ∧ r.2.sem = fun _ => 0)

def quiescent_AttnInDgrad3PlainIdeal [hAttnInDgrad3PlainIdeal : Cert.AttnInDgrad3PlainIdeal.Facts] : Prop :=
  ∀ (m : (ℓ : Loc Cert.AttnInDgrad3PlainIdeal.nD Cert.AttnInDgrad3PlainIdeal.τ Cert.AttnInDgrad3PlainIdeal.sig) → Buf (Elt Ideal) ℓ) (g : Dev Cert.AttnInDgrad3PlainIdeal.nD → PrngReg), Pre_AttnInDgrad3PlainIdeal m →
    θ_run (Cert.AttnInDgrad3PlainIdeal.defs (F := Ideal)) (onTc (τ := Cert.AttnInDgrad3PlainIdeal.τ) (Cert.AttnInDgrad3PlainIdeal.main (F := Ideal))) ⟨m, fun _ => 0, g⟩ (fun r => (∀ c : Dev Cert.AttnInDgrad3PlainIdeal.nD,
      r.2.mem ((c.tc : Thread Cert.AttnInDgrad3PlainIdeal.nD Cert.AttnInDgrad3PlainIdeal.τ).loc Cert.AttnInDgrad3PlainIdeal.main_arg0) = m ((c.tc : Thread Cert.AttnInDgrad3PlainIdeal.nD Cert.AttnInDgrad3PlainIdeal.τ).loc Cert.AttnInDgrad3PlainIdeal.main_arg0)
      ∧ r.2.mem ((c.tc : Thread Cert.AttnInDgrad3PlainIdeal.nD Cert.AttnInDgrad3PlainIdeal.τ).loc Cert.AttnInDgrad3PlainIdeal.main_arg1) = m ((c.tc : Thread Cert.AttnInDgrad3PlainIdeal.nD Cert.AttnInDgrad3PlainIdeal.τ).loc Cert.AttnInDgrad3PlainIdeal.main_arg1)
      ∧ r.2.mem ((c.tc : Thread Cert.AttnInDgrad3PlainIdeal.nD Cert.AttnInDgrad3PlainIdeal.τ).loc Cert.AttnInDgrad3PlainIdeal.main_arg2) = m ((c.tc : Thread Cert.AttnInDgrad3PlainIdeal.nD Cert.AttnInDgrad3PlainIdeal.τ).loc Cert.AttnInDgrad3PlainIdeal.main_arg2)
      ∧ r.2.mem ((c.tc : Thread Cert.AttnInDgrad3PlainIdeal.nD Cert.AttnInDgrad3PlainIdeal.τ).loc Cert.AttnInDgrad3PlainIdeal.main_arg3) = m ((c.tc : Thread Cert.AttnInDgrad3PlainIdeal.nD Cert.AttnInDgrad3PlainIdeal.τ).loc Cert.AttnInDgrad3PlainIdeal.main_arg3))
      ∧ r.2.sem = fun _ => 0)

def quiescent_SsmOutWgrad [hSsmOutWgrad : Cert.SsmOutWgrad.Facts] : Prop :=
  ∀ (m : (ℓ : Loc Cert.SsmOutWgrad.nD Cert.SsmOutWgrad.τ Cert.SsmOutWgrad.sig) → Buf (Elt Bits) ℓ) (g : Dev Cert.SsmOutWgrad.nD → PrngReg), Pre_SsmOutWgrad m →
    θ_run (Cert.SsmOutWgrad.defs (F := Bits)) (onTc (τ := Cert.SsmOutWgrad.τ) (Cert.SsmOutWgrad.main (F := Bits))) ⟨m, fun _ => 0, g⟩ (fun r => (∀ c : Dev Cert.SsmOutWgrad.nD,
      r.2.mem ((c.tc : Thread Cert.SsmOutWgrad.nD Cert.SsmOutWgrad.τ).loc Cert.SsmOutWgrad.main_arg0) = m ((c.tc : Thread Cert.SsmOutWgrad.nD Cert.SsmOutWgrad.τ).loc Cert.SsmOutWgrad.main_arg0)
      ∧ r.2.mem ((c.tc : Thread Cert.SsmOutWgrad.nD Cert.SsmOutWgrad.τ).loc Cert.SsmOutWgrad.main_arg1) = m ((c.tc : Thread Cert.SsmOutWgrad.nD Cert.SsmOutWgrad.τ).loc Cert.SsmOutWgrad.main_arg1)
      ∧ r.2.mem ((c.tc : Thread Cert.SsmOutWgrad.nD Cert.SsmOutWgrad.τ).loc Cert.SsmOutWgrad.main_arg2) = m ((c.tc : Thread Cert.SsmOutWgrad.nD Cert.SsmOutWgrad.τ).loc Cert.SsmOutWgrad.main_arg2)
      ∧ r.2.mem ((c.tc : Thread Cert.SsmOutWgrad.nD Cert.SsmOutWgrad.τ).loc Cert.SsmOutWgrad.main_arg3) = m ((c.tc : Thread Cert.SsmOutWgrad.nD Cert.SsmOutWgrad.τ).loc Cert.SsmOutWgrad.main_arg3))
      ∧ r.2.sem = fun _ => 0)

def quiescent_SsmOutWgradIdeal [hSsmOutWgradIdeal : Cert.SsmOutWgradIdeal.Facts] : Prop :=
  ∀ (m : (ℓ : Loc Cert.SsmOutWgradIdeal.nD Cert.SsmOutWgradIdeal.τ Cert.SsmOutWgradIdeal.sig) → Buf (Elt Ideal) ℓ) (g : Dev Cert.SsmOutWgradIdeal.nD → PrngReg), Pre_SsmOutWgradIdeal m →
    θ_run (Cert.SsmOutWgradIdeal.defs (F := Ideal)) (onTc (τ := Cert.SsmOutWgradIdeal.τ) (Cert.SsmOutWgradIdeal.main (F := Ideal))) ⟨m, fun _ => 0, g⟩ (fun r => (∀ c : Dev Cert.SsmOutWgradIdeal.nD,
      r.2.mem ((c.tc : Thread Cert.SsmOutWgradIdeal.nD Cert.SsmOutWgradIdeal.τ).loc Cert.SsmOutWgradIdeal.main_arg0) = m ((c.tc : Thread Cert.SsmOutWgradIdeal.nD Cert.SsmOutWgradIdeal.τ).loc Cert.SsmOutWgradIdeal.main_arg0)
      ∧ r.2.mem ((c.tc : Thread Cert.SsmOutWgradIdeal.nD Cert.SsmOutWgradIdeal.τ).loc Cert.SsmOutWgradIdeal.main_arg1) = m ((c.tc : Thread Cert.SsmOutWgradIdeal.nD Cert.SsmOutWgradIdeal.τ).loc Cert.SsmOutWgradIdeal.main_arg1)
      ∧ r.2.mem ((c.tc : Thread Cert.SsmOutWgradIdeal.nD Cert.SsmOutWgradIdeal.τ).loc Cert.SsmOutWgradIdeal.main_arg2) = m ((c.tc : Thread Cert.SsmOutWgradIdeal.nD Cert.SsmOutWgradIdeal.τ).loc Cert.SsmOutWgradIdeal.main_arg2)
      ∧ r.2.mem ((c.tc : Thread Cert.SsmOutWgradIdeal.nD Cert.SsmOutWgradIdeal.τ).loc Cert.SsmOutWgradIdeal.main_arg3) = m ((c.tc : Thread Cert.SsmOutWgradIdeal.nD Cert.SsmOutWgradIdeal.τ).loc Cert.SsmOutWgradIdeal.main_arg3))
      ∧ r.2.sem = fun _ => 0)

def quiescent_SsmOutWgradPlainIdeal [hSsmOutWgradPlainIdeal : Cert.SsmOutWgradPlainIdeal.Facts] : Prop :=
  ∀ (m : (ℓ : Loc Cert.SsmOutWgradPlainIdeal.nD Cert.SsmOutWgradPlainIdeal.τ Cert.SsmOutWgradPlainIdeal.sig) → Buf (Elt Ideal) ℓ) (g : Dev Cert.SsmOutWgradPlainIdeal.nD → PrngReg), Pre_SsmOutWgradPlainIdeal m →
    θ_run (Cert.SsmOutWgradPlainIdeal.defs (F := Ideal)) (onTc (τ := Cert.SsmOutWgradPlainIdeal.τ) (Cert.SsmOutWgradPlainIdeal.main (F := Ideal))) ⟨m, fun _ => 0, g⟩ (fun r => (∀ c : Dev Cert.SsmOutWgradPlainIdeal.nD,
      r.2.mem ((c.tc : Thread Cert.SsmOutWgradPlainIdeal.nD Cert.SsmOutWgradPlainIdeal.τ).loc Cert.SsmOutWgradPlainIdeal.main_arg0) = m ((c.tc : Thread Cert.SsmOutWgradPlainIdeal.nD Cert.SsmOutWgradPlainIdeal.τ).loc Cert.SsmOutWgradPlainIdeal.main_arg0)
      ∧ r.2.mem ((c.tc : Thread Cert.SsmOutWgradPlainIdeal.nD Cert.SsmOutWgradPlainIdeal.τ).loc Cert.SsmOutWgradPlainIdeal.main_arg1) = m ((c.tc : Thread Cert.SsmOutWgradPlainIdeal.nD Cert.SsmOutWgradPlainIdeal.τ).loc Cert.SsmOutWgradPlainIdeal.main_arg1)
      ∧ r.2.mem ((c.tc : Thread Cert.SsmOutWgradPlainIdeal.nD Cert.SsmOutWgradPlainIdeal.τ).loc Cert.SsmOutWgradPlainIdeal.main_arg2) = m ((c.tc : Thread Cert.SsmOutWgradPlainIdeal.nD Cert.SsmOutWgradPlainIdeal.τ).loc Cert.SsmOutWgradPlainIdeal.main_arg2)
      ∧ r.2.mem ((c.tc : Thread Cert.SsmOutWgradPlainIdeal.nD Cert.SsmOutWgradPlainIdeal.τ).loc Cert.SsmOutWgradPlainIdeal.main_arg3) = m ((c.tc : Thread Cert.SsmOutWgradPlainIdeal.nD Cert.SsmOutWgradPlainIdeal.τ).loc Cert.SsmOutWgradPlainIdeal.main_arg3))
      ∧ r.2.sem = fun _ => 0)

def quiescent_GluWgrad [hGluWgrad : Cert.GluWgrad.Facts] : Prop :=
  ∀ (m : (ℓ : Loc Cert.GluWgrad.nD Cert.GluWgrad.τ Cert.GluWgrad.sig) → Buf (Elt Bits) ℓ) (g : Dev Cert.GluWgrad.nD → PrngReg), Pre_GluWgrad m →
    θ_run (Cert.GluWgrad.defs (F := Bits)) (onTc (τ := Cert.GluWgrad.τ) (Cert.GluWgrad.main (F := Bits))) ⟨m, fun _ => 0, g⟩ (fun r => (∀ c : Dev Cert.GluWgrad.nD,
      r.2.mem ((c.tc : Thread Cert.GluWgrad.nD Cert.GluWgrad.τ).loc Cert.GluWgrad.main_arg0) = m ((c.tc : Thread Cert.GluWgrad.nD Cert.GluWgrad.τ).loc Cert.GluWgrad.main_arg0)
      ∧ r.2.mem ((c.tc : Thread Cert.GluWgrad.nD Cert.GluWgrad.τ).loc Cert.GluWgrad.main_arg1) = m ((c.tc : Thread Cert.GluWgrad.nD Cert.GluWgrad.τ).loc Cert.GluWgrad.main_arg1)
      ∧ r.2.mem ((c.tc : Thread Cert.GluWgrad.nD Cert.GluWgrad.τ).loc Cert.GluWgrad.main_arg2) = m ((c.tc : Thread Cert.GluWgrad.nD Cert.GluWgrad.τ).loc Cert.GluWgrad.main_arg2)
      ∧ r.2.mem ((c.tc : Thread Cert.GluWgrad.nD Cert.GluWgrad.τ).loc Cert.GluWgrad.main_arg3) = m ((c.tc : Thread Cert.GluWgrad.nD Cert.GluWgrad.τ).loc Cert.GluWgrad.main_arg3))
      ∧ r.2.sem = fun _ => 0)

def quiescent_GluWgradIdeal [hGluWgradIdeal : Cert.GluWgradIdeal.Facts] : Prop :=
  ∀ (m : (ℓ : Loc Cert.GluWgradIdeal.nD Cert.GluWgradIdeal.τ Cert.GluWgradIdeal.sig) → Buf (Elt Ideal) ℓ) (g : Dev Cert.GluWgradIdeal.nD → PrngReg), Pre_GluWgradIdeal m →
    θ_run (Cert.GluWgradIdeal.defs (F := Ideal)) (onTc (τ := Cert.GluWgradIdeal.τ) (Cert.GluWgradIdeal.main (F := Ideal))) ⟨m, fun _ => 0, g⟩ (fun r => (∀ c : Dev Cert.GluWgradIdeal.nD,
      r.2.mem ((c.tc : Thread Cert.GluWgradIdeal.nD Cert.GluWgradIdeal.τ).loc Cert.GluWgradIdeal.main_arg0) = m ((c.tc : Thread Cert.GluWgradIdeal.nD Cert.GluWgradIdeal.τ).loc Cert.GluWgradIdeal.main_arg0)
      ∧ r.2.mem ((c.tc : Thread Cert.GluWgradIdeal.nD Cert.GluWgradIdeal.τ).loc Cert.GluWgradIdeal.main_arg1) = m ((c.tc : Thread Cert.GluWgradIdeal.nD Cert.GluWgradIdeal.τ).loc Cert.GluWgradIdeal.main_arg1)
      ∧ r.2.mem ((c.tc : Thread Cert.GluWgradIdeal.nD Cert.GluWgradIdeal.τ).loc Cert.GluWgradIdeal.main_arg2) = m ((c.tc : Thread Cert.GluWgradIdeal.nD Cert.GluWgradIdeal.τ).loc Cert.GluWgradIdeal.main_arg2)
      ∧ r.2.mem ((c.tc : Thread Cert.GluWgradIdeal.nD Cert.GluWgradIdeal.τ).loc Cert.GluWgradIdeal.main_arg3) = m ((c.tc : Thread Cert.GluWgradIdeal.nD Cert.GluWgradIdeal.τ).loc Cert.GluWgradIdeal.main_arg3))
      ∧ r.2.sem = fun _ => 0)

def quiescent_GluWgradPlainIdeal [hGluWgradPlainIdeal : Cert.GluWgradPlainIdeal.Facts] : Prop :=
  ∀ (m : (ℓ : Loc Cert.GluWgradPlainIdeal.nD Cert.GluWgradPlainIdeal.τ Cert.GluWgradPlainIdeal.sig) → Buf (Elt Ideal) ℓ) (g : Dev Cert.GluWgradPlainIdeal.nD → PrngReg), Pre_GluWgradPlainIdeal m →
    θ_run (Cert.GluWgradPlainIdeal.defs (F := Ideal)) (onTc (τ := Cert.GluWgradPlainIdeal.τ) (Cert.GluWgradPlainIdeal.main (F := Ideal))) ⟨m, fun _ => 0, g⟩ (fun r => (∀ c : Dev Cert.GluWgradPlainIdeal.nD,
      r.2.mem ((c.tc : Thread Cert.GluWgradPlainIdeal.nD Cert.GluWgradPlainIdeal.τ).loc Cert.GluWgradPlainIdeal.main_arg0) = m ((c.tc : Thread Cert.GluWgradPlainIdeal.nD Cert.GluWgradPlainIdeal.τ).loc Cert.GluWgradPlainIdeal.main_arg0)
      ∧ r.2.mem ((c.tc : Thread Cert.GluWgradPlainIdeal.nD Cert.GluWgradPlainIdeal.τ).loc Cert.GluWgradPlainIdeal.main_arg1) = m ((c.tc : Thread Cert.GluWgradPlainIdeal.nD Cert.GluWgradPlainIdeal.τ).loc Cert.GluWgradPlainIdeal.main_arg1)
      ∧ r.2.mem ((c.tc : Thread Cert.GluWgradPlainIdeal.nD Cert.GluWgradPlainIdeal.τ).loc Cert.GluWgradPlainIdeal.main_arg2) = m ((c.tc : Thread Cert.GluWgradPlainIdeal.nD Cert.GluWgradPlainIdeal.τ).loc Cert.GluWgradPlainIdeal.main_arg2)
      ∧ r.2.mem ((c.tc : Thread Cert.GluWgradPlainIdeal.nD Cert.GluWgradPlainIdeal.τ).loc Cert.GluWgradPlainIdeal.main_arg3) = m ((c.tc : Thread Cert.GluWgradPlainIdeal.nD Cert.GluWgradPlainIdeal.τ).loc Cert.GluWgradPlainIdeal.main_arg3))
      ∧ r.2.sem = fun _ => 0)

def quiescent_SsmInWgradU [hSsmInWgradU : Cert.SsmInWgradU.Facts] : Prop :=
  ∀ (m : (ℓ : Loc Cert.SsmInWgradU.nD Cert.SsmInWgradU.τ Cert.SsmInWgradU.sig) → Buf (Elt Bits) ℓ) (g : Dev Cert.SsmInWgradU.nD → PrngReg), Pre_SsmInWgradU m →
    θ_run (Cert.SsmInWgradU.defs (F := Bits)) (onTc (τ := Cert.SsmInWgradU.τ) (Cert.SsmInWgradU.main (F := Bits))) ⟨m, fun _ => 0, g⟩ (fun r => (∀ c : Dev Cert.SsmInWgradU.nD,
      r.2.mem ((c.tc : Thread Cert.SsmInWgradU.nD Cert.SsmInWgradU.τ).loc Cert.SsmInWgradU.main_arg0) = m ((c.tc : Thread Cert.SsmInWgradU.nD Cert.SsmInWgradU.τ).loc Cert.SsmInWgradU.main_arg0)
      ∧ r.2.mem ((c.tc : Thread Cert.SsmInWgradU.nD Cert.SsmInWgradU.τ).loc Cert.SsmInWgradU.main_arg1) = m ((c.tc : Thread Cert.SsmInWgradU.nD Cert.SsmInWgradU.τ).loc Cert.SsmInWgradU.main_arg1)
      ∧ r.2.mem ((c.tc : Thread Cert.SsmInWgradU.nD Cert.SsmInWgradU.τ).loc Cert.SsmInWgradU.main_arg2) = m ((c.tc : Thread Cert.SsmInWgradU.nD Cert.SsmInWgradU.τ).loc Cert.SsmInWgradU.main_arg2)
      ∧ r.2.mem ((c.tc : Thread Cert.SsmInWgradU.nD Cert.SsmInWgradU.τ).loc Cert.SsmInWgradU.main_arg3) = m ((c.tc : Thread Cert.SsmInWgradU.nD Cert.SsmInWgradU.τ).loc Cert.SsmInWgradU.main_arg3))
      ∧ r.2.sem = fun _ => 0)

def quiescent_SsmInWgradUIdeal [hSsmInWgradUIdeal : Cert.SsmInWgradUIdeal.Facts] : Prop :=
  ∀ (m : (ℓ : Loc Cert.SsmInWgradUIdeal.nD Cert.SsmInWgradUIdeal.τ Cert.SsmInWgradUIdeal.sig) → Buf (Elt Ideal) ℓ) (g : Dev Cert.SsmInWgradUIdeal.nD → PrngReg), Pre_SsmInWgradUIdeal m →
    θ_run (Cert.SsmInWgradUIdeal.defs (F := Ideal)) (onTc (τ := Cert.SsmInWgradUIdeal.τ) (Cert.SsmInWgradUIdeal.main (F := Ideal))) ⟨m, fun _ => 0, g⟩ (fun r => (∀ c : Dev Cert.SsmInWgradUIdeal.nD,
      r.2.mem ((c.tc : Thread Cert.SsmInWgradUIdeal.nD Cert.SsmInWgradUIdeal.τ).loc Cert.SsmInWgradUIdeal.main_arg0) = m ((c.tc : Thread Cert.SsmInWgradUIdeal.nD Cert.SsmInWgradUIdeal.τ).loc Cert.SsmInWgradUIdeal.main_arg0)
      ∧ r.2.mem ((c.tc : Thread Cert.SsmInWgradUIdeal.nD Cert.SsmInWgradUIdeal.τ).loc Cert.SsmInWgradUIdeal.main_arg1) = m ((c.tc : Thread Cert.SsmInWgradUIdeal.nD Cert.SsmInWgradUIdeal.τ).loc Cert.SsmInWgradUIdeal.main_arg1)
      ∧ r.2.mem ((c.tc : Thread Cert.SsmInWgradUIdeal.nD Cert.SsmInWgradUIdeal.τ).loc Cert.SsmInWgradUIdeal.main_arg2) = m ((c.tc : Thread Cert.SsmInWgradUIdeal.nD Cert.SsmInWgradUIdeal.τ).loc Cert.SsmInWgradUIdeal.main_arg2)
      ∧ r.2.mem ((c.tc : Thread Cert.SsmInWgradUIdeal.nD Cert.SsmInWgradUIdeal.τ).loc Cert.SsmInWgradUIdeal.main_arg3) = m ((c.tc : Thread Cert.SsmInWgradUIdeal.nD Cert.SsmInWgradUIdeal.τ).loc Cert.SsmInWgradUIdeal.main_arg3))
      ∧ r.2.sem = fun _ => 0)

def quiescent_SsmInWgradUPlainIdeal [hSsmInWgradUPlainIdeal : Cert.SsmInWgradUPlainIdeal.Facts] : Prop :=
  ∀ (m : (ℓ : Loc Cert.SsmInWgradUPlainIdeal.nD Cert.SsmInWgradUPlainIdeal.τ Cert.SsmInWgradUPlainIdeal.sig) → Buf (Elt Ideal) ℓ) (g : Dev Cert.SsmInWgradUPlainIdeal.nD → PrngReg), Pre_SsmInWgradUPlainIdeal m →
    θ_run (Cert.SsmInWgradUPlainIdeal.defs (F := Ideal)) (onTc (τ := Cert.SsmInWgradUPlainIdeal.τ) (Cert.SsmInWgradUPlainIdeal.main (F := Ideal))) ⟨m, fun _ => 0, g⟩ (fun r => (∀ c : Dev Cert.SsmInWgradUPlainIdeal.nD,
      r.2.mem ((c.tc : Thread Cert.SsmInWgradUPlainIdeal.nD Cert.SsmInWgradUPlainIdeal.τ).loc Cert.SsmInWgradUPlainIdeal.main_arg0) = m ((c.tc : Thread Cert.SsmInWgradUPlainIdeal.nD Cert.SsmInWgradUPlainIdeal.τ).loc Cert.SsmInWgradUPlainIdeal.main_arg0)
      ∧ r.2.mem ((c.tc : Thread Cert.SsmInWgradUPlainIdeal.nD Cert.SsmInWgradUPlainIdeal.τ).loc Cert.SsmInWgradUPlainIdeal.main_arg1) = m ((c.tc : Thread Cert.SsmInWgradUPlainIdeal.nD Cert.SsmInWgradUPlainIdeal.τ).loc Cert.SsmInWgradUPlainIdeal.main_arg1)
      ∧ r.2.mem ((c.tc : Thread Cert.SsmInWgradUPlainIdeal.nD Cert.SsmInWgradUPlainIdeal.τ).loc Cert.SsmInWgradUPlainIdeal.main_arg2) = m ((c.tc : Thread Cert.SsmInWgradUPlainIdeal.nD Cert.SsmInWgradUPlainIdeal.τ).loc Cert.SsmInWgradUPlainIdeal.main_arg2)
      ∧ r.2.mem ((c.tc : Thread Cert.SsmInWgradUPlainIdeal.nD Cert.SsmInWgradUPlainIdeal.τ).loc Cert.SsmInWgradUPlainIdeal.main_arg3) = m ((c.tc : Thread Cert.SsmInWgradUPlainIdeal.nD Cert.SsmInWgradUPlainIdeal.τ).loc Cert.SsmInWgradUPlainIdeal.main_arg3))
      ∧ r.2.sem = fun _ => 0)

def quiescent_SsmInWgradGate [hSsmInWgradGate : Cert.SsmInWgradGate.Facts] : Prop :=
  ∀ (m : (ℓ : Loc Cert.SsmInWgradGate.nD Cert.SsmInWgradGate.τ Cert.SsmInWgradGate.sig) → Buf (Elt Bits) ℓ) (g : Dev Cert.SsmInWgradGate.nD → PrngReg), Pre_SsmInWgradGate m →
    θ_run (Cert.SsmInWgradGate.defs (F := Bits)) (onTc (τ := Cert.SsmInWgradGate.τ) (Cert.SsmInWgradGate.main (F := Bits))) ⟨m, fun _ => 0, g⟩ (fun r => (∀ c : Dev Cert.SsmInWgradGate.nD,
      r.2.mem ((c.tc : Thread Cert.SsmInWgradGate.nD Cert.SsmInWgradGate.τ).loc Cert.SsmInWgradGate.main_arg0) = m ((c.tc : Thread Cert.SsmInWgradGate.nD Cert.SsmInWgradGate.τ).loc Cert.SsmInWgradGate.main_arg0)
      ∧ r.2.mem ((c.tc : Thread Cert.SsmInWgradGate.nD Cert.SsmInWgradGate.τ).loc Cert.SsmInWgradGate.main_arg1) = m ((c.tc : Thread Cert.SsmInWgradGate.nD Cert.SsmInWgradGate.τ).loc Cert.SsmInWgradGate.main_arg1)
      ∧ r.2.mem ((c.tc : Thread Cert.SsmInWgradGate.nD Cert.SsmInWgradGate.τ).loc Cert.SsmInWgradGate.main_arg2) = m ((c.tc : Thread Cert.SsmInWgradGate.nD Cert.SsmInWgradGate.τ).loc Cert.SsmInWgradGate.main_arg2)
      ∧ r.2.mem ((c.tc : Thread Cert.SsmInWgradGate.nD Cert.SsmInWgradGate.τ).loc Cert.SsmInWgradGate.main_arg3) = m ((c.tc : Thread Cert.SsmInWgradGate.nD Cert.SsmInWgradGate.τ).loc Cert.SsmInWgradGate.main_arg3))
      ∧ r.2.sem = fun _ => 0)

def quiescent_SsmInWgradGateIdeal [hSsmInWgradGateIdeal : Cert.SsmInWgradGateIdeal.Facts] : Prop :=
  ∀ (m : (ℓ : Loc Cert.SsmInWgradGateIdeal.nD Cert.SsmInWgradGateIdeal.τ Cert.SsmInWgradGateIdeal.sig) → Buf (Elt Ideal) ℓ) (g : Dev Cert.SsmInWgradGateIdeal.nD → PrngReg), Pre_SsmInWgradGateIdeal m →
    θ_run (Cert.SsmInWgradGateIdeal.defs (F := Ideal)) (onTc (τ := Cert.SsmInWgradGateIdeal.τ) (Cert.SsmInWgradGateIdeal.main (F := Ideal))) ⟨m, fun _ => 0, g⟩ (fun r => (∀ c : Dev Cert.SsmInWgradGateIdeal.nD,
      r.2.mem ((c.tc : Thread Cert.SsmInWgradGateIdeal.nD Cert.SsmInWgradGateIdeal.τ).loc Cert.SsmInWgradGateIdeal.main_arg0) = m ((c.tc : Thread Cert.SsmInWgradGateIdeal.nD Cert.SsmInWgradGateIdeal.τ).loc Cert.SsmInWgradGateIdeal.main_arg0)
      ∧ r.2.mem ((c.tc : Thread Cert.SsmInWgradGateIdeal.nD Cert.SsmInWgradGateIdeal.τ).loc Cert.SsmInWgradGateIdeal.main_arg1) = m ((c.tc : Thread Cert.SsmInWgradGateIdeal.nD Cert.SsmInWgradGateIdeal.τ).loc Cert.SsmInWgradGateIdeal.main_arg1)
      ∧ r.2.mem ((c.tc : Thread Cert.SsmInWgradGateIdeal.nD Cert.SsmInWgradGateIdeal.τ).loc Cert.SsmInWgradGateIdeal.main_arg2) = m ((c.tc : Thread Cert.SsmInWgradGateIdeal.nD Cert.SsmInWgradGateIdeal.τ).loc Cert.SsmInWgradGateIdeal.main_arg2)
      ∧ r.2.mem ((c.tc : Thread Cert.SsmInWgradGateIdeal.nD Cert.SsmInWgradGateIdeal.τ).loc Cert.SsmInWgradGateIdeal.main_arg3) = m ((c.tc : Thread Cert.SsmInWgradGateIdeal.nD Cert.SsmInWgradGateIdeal.τ).loc Cert.SsmInWgradGateIdeal.main_arg3))
      ∧ r.2.sem = fun _ => 0)

def quiescent_SsmInWgradGatePlainIdeal [hSsmInWgradGatePlainIdeal : Cert.SsmInWgradGatePlainIdeal.Facts] : Prop :=
  ∀ (m : (ℓ : Loc Cert.SsmInWgradGatePlainIdeal.nD Cert.SsmInWgradGatePlainIdeal.τ Cert.SsmInWgradGatePlainIdeal.sig) → Buf (Elt Ideal) ℓ) (g : Dev Cert.SsmInWgradGatePlainIdeal.nD → PrngReg), Pre_SsmInWgradGatePlainIdeal m →
    θ_run (Cert.SsmInWgradGatePlainIdeal.defs (F := Ideal)) (onTc (τ := Cert.SsmInWgradGatePlainIdeal.τ) (Cert.SsmInWgradGatePlainIdeal.main (F := Ideal))) ⟨m, fun _ => 0, g⟩ (fun r => (∀ c : Dev Cert.SsmInWgradGatePlainIdeal.nD,
      r.2.mem ((c.tc : Thread Cert.SsmInWgradGatePlainIdeal.nD Cert.SsmInWgradGatePlainIdeal.τ).loc Cert.SsmInWgradGatePlainIdeal.main_arg0) = m ((c.tc : Thread Cert.SsmInWgradGatePlainIdeal.nD Cert.SsmInWgradGatePlainIdeal.τ).loc Cert.SsmInWgradGatePlainIdeal.main_arg0)
      ∧ r.2.mem ((c.tc : Thread Cert.SsmInWgradGatePlainIdeal.nD Cert.SsmInWgradGatePlainIdeal.τ).loc Cert.SsmInWgradGatePlainIdeal.main_arg1) = m ((c.tc : Thread Cert.SsmInWgradGatePlainIdeal.nD Cert.SsmInWgradGatePlainIdeal.τ).loc Cert.SsmInWgradGatePlainIdeal.main_arg1)
      ∧ r.2.mem ((c.tc : Thread Cert.SsmInWgradGatePlainIdeal.nD Cert.SsmInWgradGatePlainIdeal.τ).loc Cert.SsmInWgradGatePlainIdeal.main_arg2) = m ((c.tc : Thread Cert.SsmInWgradGatePlainIdeal.nD Cert.SsmInWgradGatePlainIdeal.τ).loc Cert.SsmInWgradGatePlainIdeal.main_arg2)
      ∧ r.2.mem ((c.tc : Thread Cert.SsmInWgradGatePlainIdeal.nD Cert.SsmInWgradGatePlainIdeal.τ).loc Cert.SsmInWgradGatePlainIdeal.main_arg3) = m ((c.tc : Thread Cert.SsmInWgradGatePlainIdeal.nD Cert.SsmInWgradGatePlainIdeal.τ).loc Cert.SsmInWgradGatePlainIdeal.main_arg3))
      ∧ r.2.sem = fun _ => 0)

def quiescent_AttnOutWgrad [hAttnOutWgrad : Cert.AttnOutWgrad.Facts] : Prop :=
  ∀ (m : (ℓ : Loc Cert.AttnOutWgrad.nD Cert.AttnOutWgrad.τ Cert.AttnOutWgrad.sig) → Buf (Elt Bits) ℓ) (g : Dev Cert.AttnOutWgrad.nD → PrngReg), Pre_AttnOutWgrad m →
    θ_run (Cert.AttnOutWgrad.defs (F := Bits)) (onTc (τ := Cert.AttnOutWgrad.τ) (Cert.AttnOutWgrad.main (F := Bits))) ⟨m, fun _ => 0, g⟩ (fun r => (∀ c : Dev Cert.AttnOutWgrad.nD,
      r.2.mem ((c.tc : Thread Cert.AttnOutWgrad.nD Cert.AttnOutWgrad.τ).loc Cert.AttnOutWgrad.main_arg0) = m ((c.tc : Thread Cert.AttnOutWgrad.nD Cert.AttnOutWgrad.τ).loc Cert.AttnOutWgrad.main_arg0)
      ∧ r.2.mem ((c.tc : Thread Cert.AttnOutWgrad.nD Cert.AttnOutWgrad.τ).loc Cert.AttnOutWgrad.main_arg1) = m ((c.tc : Thread Cert.AttnOutWgrad.nD Cert.AttnOutWgrad.τ).loc Cert.AttnOutWgrad.main_arg1)
      ∧ r.2.mem ((c.tc : Thread Cert.AttnOutWgrad.nD Cert.AttnOutWgrad.τ).loc Cert.AttnOutWgrad.main_arg2) = m ((c.tc : Thread Cert.AttnOutWgrad.nD Cert.AttnOutWgrad.τ).loc Cert.AttnOutWgrad.main_arg2)
      ∧ r.2.mem ((c.tc : Thread Cert.AttnOutWgrad.nD Cert.AttnOutWgrad.τ).loc Cert.AttnOutWgrad.main_arg3) = m ((c.tc : Thread Cert.AttnOutWgrad.nD Cert.AttnOutWgrad.τ).loc Cert.AttnOutWgrad.main_arg3))
      ∧ r.2.sem = fun _ => 0)

def quiescent_AttnOutWgradIdeal [hAttnOutWgradIdeal : Cert.AttnOutWgradIdeal.Facts] : Prop :=
  ∀ (m : (ℓ : Loc Cert.AttnOutWgradIdeal.nD Cert.AttnOutWgradIdeal.τ Cert.AttnOutWgradIdeal.sig) → Buf (Elt Ideal) ℓ) (g : Dev Cert.AttnOutWgradIdeal.nD → PrngReg), Pre_AttnOutWgradIdeal m →
    θ_run (Cert.AttnOutWgradIdeal.defs (F := Ideal)) (onTc (τ := Cert.AttnOutWgradIdeal.τ) (Cert.AttnOutWgradIdeal.main (F := Ideal))) ⟨m, fun _ => 0, g⟩ (fun r => (∀ c : Dev Cert.AttnOutWgradIdeal.nD,
      r.2.mem ((c.tc : Thread Cert.AttnOutWgradIdeal.nD Cert.AttnOutWgradIdeal.τ).loc Cert.AttnOutWgradIdeal.main_arg0) = m ((c.tc : Thread Cert.AttnOutWgradIdeal.nD Cert.AttnOutWgradIdeal.τ).loc Cert.AttnOutWgradIdeal.main_arg0)
      ∧ r.2.mem ((c.tc : Thread Cert.AttnOutWgradIdeal.nD Cert.AttnOutWgradIdeal.τ).loc Cert.AttnOutWgradIdeal.main_arg1) = m ((c.tc : Thread Cert.AttnOutWgradIdeal.nD Cert.AttnOutWgradIdeal.τ).loc Cert.AttnOutWgradIdeal.main_arg1)
      ∧ r.2.mem ((c.tc : Thread Cert.AttnOutWgradIdeal.nD Cert.AttnOutWgradIdeal.τ).loc Cert.AttnOutWgradIdeal.main_arg2) = m ((c.tc : Thread Cert.AttnOutWgradIdeal.nD Cert.AttnOutWgradIdeal.τ).loc Cert.AttnOutWgradIdeal.main_arg2)
      ∧ r.2.mem ((c.tc : Thread Cert.AttnOutWgradIdeal.nD Cert.AttnOutWgradIdeal.τ).loc Cert.AttnOutWgradIdeal.main_arg3) = m ((c.tc : Thread Cert.AttnOutWgradIdeal.nD Cert.AttnOutWgradIdeal.τ).loc Cert.AttnOutWgradIdeal.main_arg3))
      ∧ r.2.sem = fun _ => 0)

def quiescent_AttnOutWgradPlainIdeal [hAttnOutWgradPlainIdeal : Cert.AttnOutWgradPlainIdeal.Facts] : Prop :=
  ∀ (m : (ℓ : Loc Cert.AttnOutWgradPlainIdeal.nD Cert.AttnOutWgradPlainIdeal.τ Cert.AttnOutWgradPlainIdeal.sig) → Buf (Elt Ideal) ℓ) (g : Dev Cert.AttnOutWgradPlainIdeal.nD → PrngReg), Pre_AttnOutWgradPlainIdeal m →
    θ_run (Cert.AttnOutWgradPlainIdeal.defs (F := Ideal)) (onTc (τ := Cert.AttnOutWgradPlainIdeal.τ) (Cert.AttnOutWgradPlainIdeal.main (F := Ideal))) ⟨m, fun _ => 0, g⟩ (fun r => (∀ c : Dev Cert.AttnOutWgradPlainIdeal.nD,
      r.2.mem ((c.tc : Thread Cert.AttnOutWgradPlainIdeal.nD Cert.AttnOutWgradPlainIdeal.τ).loc Cert.AttnOutWgradPlainIdeal.main_arg0) = m ((c.tc : Thread Cert.AttnOutWgradPlainIdeal.nD Cert.AttnOutWgradPlainIdeal.τ).loc Cert.AttnOutWgradPlainIdeal.main_arg0)
      ∧ r.2.mem ((c.tc : Thread Cert.AttnOutWgradPlainIdeal.nD Cert.AttnOutWgradPlainIdeal.τ).loc Cert.AttnOutWgradPlainIdeal.main_arg1) = m ((c.tc : Thread Cert.AttnOutWgradPlainIdeal.nD Cert.AttnOutWgradPlainIdeal.τ).loc Cert.AttnOutWgradPlainIdeal.main_arg1)
      ∧ r.2.mem ((c.tc : Thread Cert.AttnOutWgradPlainIdeal.nD Cert.AttnOutWgradPlainIdeal.τ).loc Cert.AttnOutWgradPlainIdeal.main_arg2) = m ((c.tc : Thread Cert.AttnOutWgradPlainIdeal.nD Cert.AttnOutWgradPlainIdeal.τ).loc Cert.AttnOutWgradPlainIdeal.main_arg2)
      ∧ r.2.mem ((c.tc : Thread Cert.AttnOutWgradPlainIdeal.nD Cert.AttnOutWgradPlainIdeal.τ).loc Cert.AttnOutWgradPlainIdeal.main_arg3) = m ((c.tc : Thread Cert.AttnOutWgradPlainIdeal.nD Cert.AttnOutWgradPlainIdeal.τ).loc Cert.AttnOutWgradPlainIdeal.main_arg3))
      ∧ r.2.sem = fun _ => 0)

def quiescent_AttnInWgrad0 [hAttnInWgrad0 : Cert.AttnInWgrad0.Facts] : Prop :=
  ∀ (m : (ℓ : Loc Cert.AttnInWgrad0.nD Cert.AttnInWgrad0.τ Cert.AttnInWgrad0.sig) → Buf (Elt Bits) ℓ) (g : Dev Cert.AttnInWgrad0.nD → PrngReg), Pre_AttnInWgrad0 m →
    θ_run (Cert.AttnInWgrad0.defs (F := Bits)) (onTc (τ := Cert.AttnInWgrad0.τ) (Cert.AttnInWgrad0.main (F := Bits))) ⟨m, fun _ => 0, g⟩ (fun r => (∀ c : Dev Cert.AttnInWgrad0.nD,
      r.2.mem ((c.tc : Thread Cert.AttnInWgrad0.nD Cert.AttnInWgrad0.τ).loc Cert.AttnInWgrad0.main_arg0) = m ((c.tc : Thread Cert.AttnInWgrad0.nD Cert.AttnInWgrad0.τ).loc Cert.AttnInWgrad0.main_arg0)
      ∧ r.2.mem ((c.tc : Thread Cert.AttnInWgrad0.nD Cert.AttnInWgrad0.τ).loc Cert.AttnInWgrad0.main_arg1) = m ((c.tc : Thread Cert.AttnInWgrad0.nD Cert.AttnInWgrad0.τ).loc Cert.AttnInWgrad0.main_arg1)
      ∧ r.2.mem ((c.tc : Thread Cert.AttnInWgrad0.nD Cert.AttnInWgrad0.τ).loc Cert.AttnInWgrad0.main_arg2) = m ((c.tc : Thread Cert.AttnInWgrad0.nD Cert.AttnInWgrad0.τ).loc Cert.AttnInWgrad0.main_arg2)
      ∧ r.2.mem ((c.tc : Thread Cert.AttnInWgrad0.nD Cert.AttnInWgrad0.τ).loc Cert.AttnInWgrad0.main_arg3) = m ((c.tc : Thread Cert.AttnInWgrad0.nD Cert.AttnInWgrad0.τ).loc Cert.AttnInWgrad0.main_arg3))
      ∧ r.2.sem = fun _ => 0)

def quiescent_AttnInWgrad0Ideal [hAttnInWgrad0Ideal : Cert.AttnInWgrad0Ideal.Facts] : Prop :=
  ∀ (m : (ℓ : Loc Cert.AttnInWgrad0Ideal.nD Cert.AttnInWgrad0Ideal.τ Cert.AttnInWgrad0Ideal.sig) → Buf (Elt Ideal) ℓ) (g : Dev Cert.AttnInWgrad0Ideal.nD → PrngReg), Pre_AttnInWgrad0Ideal m →
    θ_run (Cert.AttnInWgrad0Ideal.defs (F := Ideal)) (onTc (τ := Cert.AttnInWgrad0Ideal.τ) (Cert.AttnInWgrad0Ideal.main (F := Ideal))) ⟨m, fun _ => 0, g⟩ (fun r => (∀ c : Dev Cert.AttnInWgrad0Ideal.nD,
      r.2.mem ((c.tc : Thread Cert.AttnInWgrad0Ideal.nD Cert.AttnInWgrad0Ideal.τ).loc Cert.AttnInWgrad0Ideal.main_arg0) = m ((c.tc : Thread Cert.AttnInWgrad0Ideal.nD Cert.AttnInWgrad0Ideal.τ).loc Cert.AttnInWgrad0Ideal.main_arg0)
      ∧ r.2.mem ((c.tc : Thread Cert.AttnInWgrad0Ideal.nD Cert.AttnInWgrad0Ideal.τ).loc Cert.AttnInWgrad0Ideal.main_arg1) = m ((c.tc : Thread Cert.AttnInWgrad0Ideal.nD Cert.AttnInWgrad0Ideal.τ).loc Cert.AttnInWgrad0Ideal.main_arg1)
      ∧ r.2.mem ((c.tc : Thread Cert.AttnInWgrad0Ideal.nD Cert.AttnInWgrad0Ideal.τ).loc Cert.AttnInWgrad0Ideal.main_arg2) = m ((c.tc : Thread Cert.AttnInWgrad0Ideal.nD Cert.AttnInWgrad0Ideal.τ).loc Cert.AttnInWgrad0Ideal.main_arg2)
      ∧ r.2.mem ((c.tc : Thread Cert.AttnInWgrad0Ideal.nD Cert.AttnInWgrad0Ideal.τ).loc Cert.AttnInWgrad0Ideal.main_arg3) = m ((c.tc : Thread Cert.AttnInWgrad0Ideal.nD Cert.AttnInWgrad0Ideal.τ).loc Cert.AttnInWgrad0Ideal.main_arg3))
      ∧ r.2.sem = fun _ => 0)

def quiescent_AttnInWgrad0PlainIdeal [hAttnInWgrad0PlainIdeal : Cert.AttnInWgrad0PlainIdeal.Facts] : Prop :=
  ∀ (m : (ℓ : Loc Cert.AttnInWgrad0PlainIdeal.nD Cert.AttnInWgrad0PlainIdeal.τ Cert.AttnInWgrad0PlainIdeal.sig) → Buf (Elt Ideal) ℓ) (g : Dev Cert.AttnInWgrad0PlainIdeal.nD → PrngReg), Pre_AttnInWgrad0PlainIdeal m →
    θ_run (Cert.AttnInWgrad0PlainIdeal.defs (F := Ideal)) (onTc (τ := Cert.AttnInWgrad0PlainIdeal.τ) (Cert.AttnInWgrad0PlainIdeal.main (F := Ideal))) ⟨m, fun _ => 0, g⟩ (fun r => (∀ c : Dev Cert.AttnInWgrad0PlainIdeal.nD,
      r.2.mem ((c.tc : Thread Cert.AttnInWgrad0PlainIdeal.nD Cert.AttnInWgrad0PlainIdeal.τ).loc Cert.AttnInWgrad0PlainIdeal.main_arg0) = m ((c.tc : Thread Cert.AttnInWgrad0PlainIdeal.nD Cert.AttnInWgrad0PlainIdeal.τ).loc Cert.AttnInWgrad0PlainIdeal.main_arg0)
      ∧ r.2.mem ((c.tc : Thread Cert.AttnInWgrad0PlainIdeal.nD Cert.AttnInWgrad0PlainIdeal.τ).loc Cert.AttnInWgrad0PlainIdeal.main_arg1) = m ((c.tc : Thread Cert.AttnInWgrad0PlainIdeal.nD Cert.AttnInWgrad0PlainIdeal.τ).loc Cert.AttnInWgrad0PlainIdeal.main_arg1)
      ∧ r.2.mem ((c.tc : Thread Cert.AttnInWgrad0PlainIdeal.nD Cert.AttnInWgrad0PlainIdeal.τ).loc Cert.AttnInWgrad0PlainIdeal.main_arg2) = m ((c.tc : Thread Cert.AttnInWgrad0PlainIdeal.nD Cert.AttnInWgrad0PlainIdeal.τ).loc Cert.AttnInWgrad0PlainIdeal.main_arg2)
      ∧ r.2.mem ((c.tc : Thread Cert.AttnInWgrad0PlainIdeal.nD Cert.AttnInWgrad0PlainIdeal.τ).loc Cert.AttnInWgrad0PlainIdeal.main_arg3) = m ((c.tc : Thread Cert.AttnInWgrad0PlainIdeal.nD Cert.AttnInWgrad0PlainIdeal.τ).loc Cert.AttnInWgrad0PlainIdeal.main_arg3))
      ∧ r.2.sem = fun _ => 0)

def quiescent_AttnInWgrad1 [hAttnInWgrad1 : Cert.AttnInWgrad1.Facts] : Prop :=
  ∀ (m : (ℓ : Loc Cert.AttnInWgrad1.nD Cert.AttnInWgrad1.τ Cert.AttnInWgrad1.sig) → Buf (Elt Bits) ℓ) (g : Dev Cert.AttnInWgrad1.nD → PrngReg), Pre_AttnInWgrad1 m →
    θ_run (Cert.AttnInWgrad1.defs (F := Bits)) (onTc (τ := Cert.AttnInWgrad1.τ) (Cert.AttnInWgrad1.main (F := Bits))) ⟨m, fun _ => 0, g⟩ (fun r => (∀ c : Dev Cert.AttnInWgrad1.nD,
      r.2.mem ((c.tc : Thread Cert.AttnInWgrad1.nD Cert.AttnInWgrad1.τ).loc Cert.AttnInWgrad1.main_arg0) = m ((c.tc : Thread Cert.AttnInWgrad1.nD Cert.AttnInWgrad1.τ).loc Cert.AttnInWgrad1.main_arg0)
      ∧ r.2.mem ((c.tc : Thread Cert.AttnInWgrad1.nD Cert.AttnInWgrad1.τ).loc Cert.AttnInWgrad1.main_arg1) = m ((c.tc : Thread Cert.AttnInWgrad1.nD Cert.AttnInWgrad1.τ).loc Cert.AttnInWgrad1.main_arg1)
      ∧ r.2.mem ((c.tc : Thread Cert.AttnInWgrad1.nD Cert.AttnInWgrad1.τ).loc Cert.AttnInWgrad1.main_arg2) = m ((c.tc : Thread Cert.AttnInWgrad1.nD Cert.AttnInWgrad1.τ).loc Cert.AttnInWgrad1.main_arg2)
      ∧ r.2.mem ((c.tc : Thread Cert.AttnInWgrad1.nD Cert.AttnInWgrad1.τ).loc Cert.AttnInWgrad1.main_arg3) = m ((c.tc : Thread Cert.AttnInWgrad1.nD Cert.AttnInWgrad1.τ).loc Cert.AttnInWgrad1.main_arg3))
      ∧ r.2.sem = fun _ => 0)

def quiescent_AttnInWgrad1Ideal [hAttnInWgrad1Ideal : Cert.AttnInWgrad1Ideal.Facts] : Prop :=
  ∀ (m : (ℓ : Loc Cert.AttnInWgrad1Ideal.nD Cert.AttnInWgrad1Ideal.τ Cert.AttnInWgrad1Ideal.sig) → Buf (Elt Ideal) ℓ) (g : Dev Cert.AttnInWgrad1Ideal.nD → PrngReg), Pre_AttnInWgrad1Ideal m →
    θ_run (Cert.AttnInWgrad1Ideal.defs (F := Ideal)) (onTc (τ := Cert.AttnInWgrad1Ideal.τ) (Cert.AttnInWgrad1Ideal.main (F := Ideal))) ⟨m, fun _ => 0, g⟩ (fun r => (∀ c : Dev Cert.AttnInWgrad1Ideal.nD,
      r.2.mem ((c.tc : Thread Cert.AttnInWgrad1Ideal.nD Cert.AttnInWgrad1Ideal.τ).loc Cert.AttnInWgrad1Ideal.main_arg0) = m ((c.tc : Thread Cert.AttnInWgrad1Ideal.nD Cert.AttnInWgrad1Ideal.τ).loc Cert.AttnInWgrad1Ideal.main_arg0)
      ∧ r.2.mem ((c.tc : Thread Cert.AttnInWgrad1Ideal.nD Cert.AttnInWgrad1Ideal.τ).loc Cert.AttnInWgrad1Ideal.main_arg1) = m ((c.tc : Thread Cert.AttnInWgrad1Ideal.nD Cert.AttnInWgrad1Ideal.τ).loc Cert.AttnInWgrad1Ideal.main_arg1)
      ∧ r.2.mem ((c.tc : Thread Cert.AttnInWgrad1Ideal.nD Cert.AttnInWgrad1Ideal.τ).loc Cert.AttnInWgrad1Ideal.main_arg2) = m ((c.tc : Thread Cert.AttnInWgrad1Ideal.nD Cert.AttnInWgrad1Ideal.τ).loc Cert.AttnInWgrad1Ideal.main_arg2)
      ∧ r.2.mem ((c.tc : Thread Cert.AttnInWgrad1Ideal.nD Cert.AttnInWgrad1Ideal.τ).loc Cert.AttnInWgrad1Ideal.main_arg3) = m ((c.tc : Thread Cert.AttnInWgrad1Ideal.nD Cert.AttnInWgrad1Ideal.τ).loc Cert.AttnInWgrad1Ideal.main_arg3))
      ∧ r.2.sem = fun _ => 0)

def quiescent_AttnInWgrad1PlainIdeal [hAttnInWgrad1PlainIdeal : Cert.AttnInWgrad1PlainIdeal.Facts] : Prop :=
  ∀ (m : (ℓ : Loc Cert.AttnInWgrad1PlainIdeal.nD Cert.AttnInWgrad1PlainIdeal.τ Cert.AttnInWgrad1PlainIdeal.sig) → Buf (Elt Ideal) ℓ) (g : Dev Cert.AttnInWgrad1PlainIdeal.nD → PrngReg), Pre_AttnInWgrad1PlainIdeal m →
    θ_run (Cert.AttnInWgrad1PlainIdeal.defs (F := Ideal)) (onTc (τ := Cert.AttnInWgrad1PlainIdeal.τ) (Cert.AttnInWgrad1PlainIdeal.main (F := Ideal))) ⟨m, fun _ => 0, g⟩ (fun r => (∀ c : Dev Cert.AttnInWgrad1PlainIdeal.nD,
      r.2.mem ((c.tc : Thread Cert.AttnInWgrad1PlainIdeal.nD Cert.AttnInWgrad1PlainIdeal.τ).loc Cert.AttnInWgrad1PlainIdeal.main_arg0) = m ((c.tc : Thread Cert.AttnInWgrad1PlainIdeal.nD Cert.AttnInWgrad1PlainIdeal.τ).loc Cert.AttnInWgrad1PlainIdeal.main_arg0)
      ∧ r.2.mem ((c.tc : Thread Cert.AttnInWgrad1PlainIdeal.nD Cert.AttnInWgrad1PlainIdeal.τ).loc Cert.AttnInWgrad1PlainIdeal.main_arg1) = m ((c.tc : Thread Cert.AttnInWgrad1PlainIdeal.nD Cert.AttnInWgrad1PlainIdeal.τ).loc Cert.AttnInWgrad1PlainIdeal.main_arg1)
      ∧ r.2.mem ((c.tc : Thread Cert.AttnInWgrad1PlainIdeal.nD Cert.AttnInWgrad1PlainIdeal.τ).loc Cert.AttnInWgrad1PlainIdeal.main_arg2) = m ((c.tc : Thread Cert.AttnInWgrad1PlainIdeal.nD Cert.AttnInWgrad1PlainIdeal.τ).loc Cert.AttnInWgrad1PlainIdeal.main_arg2)
      ∧ r.2.mem ((c.tc : Thread Cert.AttnInWgrad1PlainIdeal.nD Cert.AttnInWgrad1PlainIdeal.τ).loc Cert.AttnInWgrad1PlainIdeal.main_arg3) = m ((c.tc : Thread Cert.AttnInWgrad1PlainIdeal.nD Cert.AttnInWgrad1PlainIdeal.τ).loc Cert.AttnInWgrad1PlainIdeal.main_arg3))
      ∧ r.2.sem = fun _ => 0)

def quiescent_AttnInWgrad2 [hAttnInWgrad2 : Cert.AttnInWgrad2.Facts] : Prop :=
  ∀ (m : (ℓ : Loc Cert.AttnInWgrad2.nD Cert.AttnInWgrad2.τ Cert.AttnInWgrad2.sig) → Buf (Elt Bits) ℓ) (g : Dev Cert.AttnInWgrad2.nD → PrngReg), Pre_AttnInWgrad2 m →
    θ_run (Cert.AttnInWgrad2.defs (F := Bits)) (onTc (τ := Cert.AttnInWgrad2.τ) (Cert.AttnInWgrad2.main (F := Bits))) ⟨m, fun _ => 0, g⟩ (fun r => (∀ c : Dev Cert.AttnInWgrad2.nD,
      r.2.mem ((c.tc : Thread Cert.AttnInWgrad2.nD Cert.AttnInWgrad2.τ).loc Cert.AttnInWgrad2.main_arg0) = m ((c.tc : Thread Cert.AttnInWgrad2.nD Cert.AttnInWgrad2.τ).loc Cert.AttnInWgrad2.main_arg0)
      ∧ r.2.mem ((c.tc : Thread Cert.AttnInWgrad2.nD Cert.AttnInWgrad2.τ).loc Cert.AttnInWgrad2.main_arg1) = m ((c.tc : Thread Cert.AttnInWgrad2.nD Cert.AttnInWgrad2.τ).loc Cert.AttnInWgrad2.main_arg1)
      ∧ r.2.mem ((c.tc : Thread Cert.AttnInWgrad2.nD Cert.AttnInWgrad2.τ).loc Cert.AttnInWgrad2.main_arg2) = m ((c.tc : Thread Cert.AttnInWgrad2.nD Cert.AttnInWgrad2.τ).loc Cert.AttnInWgrad2.main_arg2)
      ∧ r.2.mem ((c.tc : Thread Cert.AttnInWgrad2.nD Cert.AttnInWgrad2.τ).loc Cert.AttnInWgrad2.main_arg3) = m ((c.tc : Thread Cert.AttnInWgrad2.nD Cert.AttnInWgrad2.τ).loc Cert.AttnInWgrad2.main_arg3))
      ∧ r.2.sem = fun _ => 0)

def quiescent_AttnInWgrad2Ideal [hAttnInWgrad2Ideal : Cert.AttnInWgrad2Ideal.Facts] : Prop :=
  ∀ (m : (ℓ : Loc Cert.AttnInWgrad2Ideal.nD Cert.AttnInWgrad2Ideal.τ Cert.AttnInWgrad2Ideal.sig) → Buf (Elt Ideal) ℓ) (g : Dev Cert.AttnInWgrad2Ideal.nD → PrngReg), Pre_AttnInWgrad2Ideal m →
    θ_run (Cert.AttnInWgrad2Ideal.defs (F := Ideal)) (onTc (τ := Cert.AttnInWgrad2Ideal.τ) (Cert.AttnInWgrad2Ideal.main (F := Ideal))) ⟨m, fun _ => 0, g⟩ (fun r => (∀ c : Dev Cert.AttnInWgrad2Ideal.nD,
      r.2.mem ((c.tc : Thread Cert.AttnInWgrad2Ideal.nD Cert.AttnInWgrad2Ideal.τ).loc Cert.AttnInWgrad2Ideal.main_arg0) = m ((c.tc : Thread Cert.AttnInWgrad2Ideal.nD Cert.AttnInWgrad2Ideal.τ).loc Cert.AttnInWgrad2Ideal.main_arg0)
      ∧ r.2.mem ((c.tc : Thread Cert.AttnInWgrad2Ideal.nD Cert.AttnInWgrad2Ideal.τ).loc Cert.AttnInWgrad2Ideal.main_arg1) = m ((c.tc : Thread Cert.AttnInWgrad2Ideal.nD Cert.AttnInWgrad2Ideal.τ).loc Cert.AttnInWgrad2Ideal.main_arg1)
      ∧ r.2.mem ((c.tc : Thread Cert.AttnInWgrad2Ideal.nD Cert.AttnInWgrad2Ideal.τ).loc Cert.AttnInWgrad2Ideal.main_arg2) = m ((c.tc : Thread Cert.AttnInWgrad2Ideal.nD Cert.AttnInWgrad2Ideal.τ).loc Cert.AttnInWgrad2Ideal.main_arg2)
      ∧ r.2.mem ((c.tc : Thread Cert.AttnInWgrad2Ideal.nD Cert.AttnInWgrad2Ideal.τ).loc Cert.AttnInWgrad2Ideal.main_arg3) = m ((c.tc : Thread Cert.AttnInWgrad2Ideal.nD Cert.AttnInWgrad2Ideal.τ).loc Cert.AttnInWgrad2Ideal.main_arg3))
      ∧ r.2.sem = fun _ => 0)

def quiescent_AttnInWgrad2PlainIdeal [hAttnInWgrad2PlainIdeal : Cert.AttnInWgrad2PlainIdeal.Facts] : Prop :=
  ∀ (m : (ℓ : Loc Cert.AttnInWgrad2PlainIdeal.nD Cert.AttnInWgrad2PlainIdeal.τ Cert.AttnInWgrad2PlainIdeal.sig) → Buf (Elt Ideal) ℓ) (g : Dev Cert.AttnInWgrad2PlainIdeal.nD → PrngReg), Pre_AttnInWgrad2PlainIdeal m →
    θ_run (Cert.AttnInWgrad2PlainIdeal.defs (F := Ideal)) (onTc (τ := Cert.AttnInWgrad2PlainIdeal.τ) (Cert.AttnInWgrad2PlainIdeal.main (F := Ideal))) ⟨m, fun _ => 0, g⟩ (fun r => (∀ c : Dev Cert.AttnInWgrad2PlainIdeal.nD,
      r.2.mem ((c.tc : Thread Cert.AttnInWgrad2PlainIdeal.nD Cert.AttnInWgrad2PlainIdeal.τ).loc Cert.AttnInWgrad2PlainIdeal.main_arg0) = m ((c.tc : Thread Cert.AttnInWgrad2PlainIdeal.nD Cert.AttnInWgrad2PlainIdeal.τ).loc Cert.AttnInWgrad2PlainIdeal.main_arg0)
      ∧ r.2.mem ((c.tc : Thread Cert.AttnInWgrad2PlainIdeal.nD Cert.AttnInWgrad2PlainIdeal.τ).loc Cert.AttnInWgrad2PlainIdeal.main_arg1) = m ((c.tc : Thread Cert.AttnInWgrad2PlainIdeal.nD Cert.AttnInWgrad2PlainIdeal.τ).loc Cert.AttnInWgrad2PlainIdeal.main_arg1)
      ∧ r.2.mem ((c.tc : Thread Cert.AttnInWgrad2PlainIdeal.nD Cert.AttnInWgrad2PlainIdeal.τ).loc Cert.AttnInWgrad2PlainIdeal.main_arg2) = m ((c.tc : Thread Cert.AttnInWgrad2PlainIdeal.nD Cert.AttnInWgrad2PlainIdeal.τ).loc Cert.AttnInWgrad2PlainIdeal.main_arg2)
      ∧ r.2.mem ((c.tc : Thread Cert.AttnInWgrad2PlainIdeal.nD Cert.AttnInWgrad2PlainIdeal.τ).loc Cert.AttnInWgrad2PlainIdeal.main_arg3) = m ((c.tc : Thread Cert.AttnInWgrad2PlainIdeal.nD Cert.AttnInWgrad2PlainIdeal.τ).loc Cert.AttnInWgrad2PlainIdeal.main_arg3))
      ∧ r.2.sem = fun _ => 0)

def quiescent_AttnInWgrad3 [hAttnInWgrad3 : Cert.AttnInWgrad3.Facts] : Prop :=
  ∀ (m : (ℓ : Loc Cert.AttnInWgrad3.nD Cert.AttnInWgrad3.τ Cert.AttnInWgrad3.sig) → Buf (Elt Bits) ℓ) (g : Dev Cert.AttnInWgrad3.nD → PrngReg), Pre_AttnInWgrad3 m →
    θ_run (Cert.AttnInWgrad3.defs (F := Bits)) (onTc (τ := Cert.AttnInWgrad3.τ) (Cert.AttnInWgrad3.main (F := Bits))) ⟨m, fun _ => 0, g⟩ (fun r => (∀ c : Dev Cert.AttnInWgrad3.nD,
      r.2.mem ((c.tc : Thread Cert.AttnInWgrad3.nD Cert.AttnInWgrad3.τ).loc Cert.AttnInWgrad3.main_arg0) = m ((c.tc : Thread Cert.AttnInWgrad3.nD Cert.AttnInWgrad3.τ).loc Cert.AttnInWgrad3.main_arg0)
      ∧ r.2.mem ((c.tc : Thread Cert.AttnInWgrad3.nD Cert.AttnInWgrad3.τ).loc Cert.AttnInWgrad3.main_arg1) = m ((c.tc : Thread Cert.AttnInWgrad3.nD Cert.AttnInWgrad3.τ).loc Cert.AttnInWgrad3.main_arg1)
      ∧ r.2.mem ((c.tc : Thread Cert.AttnInWgrad3.nD Cert.AttnInWgrad3.τ).loc Cert.AttnInWgrad3.main_arg2) = m ((c.tc : Thread Cert.AttnInWgrad3.nD Cert.AttnInWgrad3.τ).loc Cert.AttnInWgrad3.main_arg2)
      ∧ r.2.mem ((c.tc : Thread Cert.AttnInWgrad3.nD Cert.AttnInWgrad3.τ).loc Cert.AttnInWgrad3.main_arg3) = m ((c.tc : Thread Cert.AttnInWgrad3.nD Cert.AttnInWgrad3.τ).loc Cert.AttnInWgrad3.main_arg3))
      ∧ r.2.sem = fun _ => 0)

def quiescent_AttnInWgrad3Ideal [hAttnInWgrad3Ideal : Cert.AttnInWgrad3Ideal.Facts] : Prop :=
  ∀ (m : (ℓ : Loc Cert.AttnInWgrad3Ideal.nD Cert.AttnInWgrad3Ideal.τ Cert.AttnInWgrad3Ideal.sig) → Buf (Elt Ideal) ℓ) (g : Dev Cert.AttnInWgrad3Ideal.nD → PrngReg), Pre_AttnInWgrad3Ideal m →
    θ_run (Cert.AttnInWgrad3Ideal.defs (F := Ideal)) (onTc (τ := Cert.AttnInWgrad3Ideal.τ) (Cert.AttnInWgrad3Ideal.main (F := Ideal))) ⟨m, fun _ => 0, g⟩ (fun r => (∀ c : Dev Cert.AttnInWgrad3Ideal.nD,
      r.2.mem ((c.tc : Thread Cert.AttnInWgrad3Ideal.nD Cert.AttnInWgrad3Ideal.τ).loc Cert.AttnInWgrad3Ideal.main_arg0) = m ((c.tc : Thread Cert.AttnInWgrad3Ideal.nD Cert.AttnInWgrad3Ideal.τ).loc Cert.AttnInWgrad3Ideal.main_arg0)
      ∧ r.2.mem ((c.tc : Thread Cert.AttnInWgrad3Ideal.nD Cert.AttnInWgrad3Ideal.τ).loc Cert.AttnInWgrad3Ideal.main_arg1) = m ((c.tc : Thread Cert.AttnInWgrad3Ideal.nD Cert.AttnInWgrad3Ideal.τ).loc Cert.AttnInWgrad3Ideal.main_arg1)
      ∧ r.2.mem ((c.tc : Thread Cert.AttnInWgrad3Ideal.nD Cert.AttnInWgrad3Ideal.τ).loc Cert.AttnInWgrad3Ideal.main_arg2) = m ((c.tc : Thread Cert.AttnInWgrad3Ideal.nD Cert.AttnInWgrad3Ideal.τ).loc Cert.AttnInWgrad3Ideal.main_arg2)
      ∧ r.2.mem ((c.tc : Thread Cert.AttnInWgrad3Ideal.nD Cert.AttnInWgrad3Ideal.τ).loc Cert.AttnInWgrad3Ideal.main_arg3) = m ((c.tc : Thread Cert.AttnInWgrad3Ideal.nD Cert.AttnInWgrad3Ideal.τ).loc Cert.AttnInWgrad3Ideal.main_arg3))
      ∧ r.2.sem = fun _ => 0)

def quiescent_AttnInWgrad3PlainIdeal [hAttnInWgrad3PlainIdeal : Cert.AttnInWgrad3PlainIdeal.Facts] : Prop :=
  ∀ (m : (ℓ : Loc Cert.AttnInWgrad3PlainIdeal.nD Cert.AttnInWgrad3PlainIdeal.τ Cert.AttnInWgrad3PlainIdeal.sig) → Buf (Elt Ideal) ℓ) (g : Dev Cert.AttnInWgrad3PlainIdeal.nD → PrngReg), Pre_AttnInWgrad3PlainIdeal m →
    θ_run (Cert.AttnInWgrad3PlainIdeal.defs (F := Ideal)) (onTc (τ := Cert.AttnInWgrad3PlainIdeal.τ) (Cert.AttnInWgrad3PlainIdeal.main (F := Ideal))) ⟨m, fun _ => 0, g⟩ (fun r => (∀ c : Dev Cert.AttnInWgrad3PlainIdeal.nD,
      r.2.mem ((c.tc : Thread Cert.AttnInWgrad3PlainIdeal.nD Cert.AttnInWgrad3PlainIdeal.τ).loc Cert.AttnInWgrad3PlainIdeal.main_arg0) = m ((c.tc : Thread Cert.AttnInWgrad3PlainIdeal.nD Cert.AttnInWgrad3PlainIdeal.τ).loc Cert.AttnInWgrad3PlainIdeal.main_arg0)
      ∧ r.2.mem ((c.tc : Thread Cert.AttnInWgrad3PlainIdeal.nD Cert.AttnInWgrad3PlainIdeal.τ).loc Cert.AttnInWgrad3PlainIdeal.main_arg1) = m ((c.tc : Thread Cert.AttnInWgrad3PlainIdeal.nD Cert.AttnInWgrad3PlainIdeal.τ).loc Cert.AttnInWgrad3PlainIdeal.main_arg1)
      ∧ r.2.mem ((c.tc : Thread Cert.AttnInWgrad3PlainIdeal.nD Cert.AttnInWgrad3PlainIdeal.τ).loc Cert.AttnInWgrad3PlainIdeal.main_arg2) = m ((c.tc : Thread Cert.AttnInWgrad3PlainIdeal.nD Cert.AttnInWgrad3PlainIdeal.τ).loc Cert.AttnInWgrad3PlainIdeal.main_arg2)
      ∧ r.2.mem ((c.tc : Thread Cert.AttnInWgrad3PlainIdeal.nD Cert.AttnInWgrad3PlainIdeal.τ).loc Cert.AttnInWgrad3PlainIdeal.main_arg3) = m ((c.tc : Thread Cert.AttnInWgrad3PlainIdeal.nD Cert.AttnInWgrad3PlainIdeal.τ).loc Cert.AttnInWgrad3PlainIdeal.main_arg3))
      ∧ r.2.sem = fun _ => 0)

def quiescent_AttnIn0 [hAttnIn0 : Cert.AttnIn0.Facts] : Prop :=
  ∀ (m : (ℓ : Loc Cert.AttnIn0.nD Cert.AttnIn0.τ Cert.AttnIn0.sig) → Buf (Elt Bits) ℓ) (g : Dev Cert.AttnIn0.nD → PrngReg), Pre_AttnIn0 m →
    θ_run (Cert.AttnIn0.defs (F := Bits)) (onTc (τ := Cert.AttnIn0.τ) (Cert.AttnIn0.main (F := Bits))) ⟨m, fun _ => 0, g⟩ (fun r => (∀ c : Dev Cert.AttnIn0.nD,
      r.2.mem ((c.tc : Thread Cert.AttnIn0.nD Cert.AttnIn0.τ).loc Cert.AttnIn0.main_arg0) = m ((c.tc : Thread Cert.AttnIn0.nD Cert.AttnIn0.τ).loc Cert.AttnIn0.main_arg0)
      ∧ r.2.mem ((c.tc : Thread Cert.AttnIn0.nD Cert.AttnIn0.τ).loc Cert.AttnIn0.main_arg1) = m ((c.tc : Thread Cert.AttnIn0.nD Cert.AttnIn0.τ).loc Cert.AttnIn0.main_arg1))
      ∧ r.2.sem = fun _ => 0)

def quiescent_AttnIn0Ideal [hAttnIn0Ideal : Cert.AttnIn0Ideal.Facts] : Prop :=
  ∀ (m : (ℓ : Loc Cert.AttnIn0Ideal.nD Cert.AttnIn0Ideal.τ Cert.AttnIn0Ideal.sig) → Buf (Elt Ideal) ℓ) (g : Dev Cert.AttnIn0Ideal.nD → PrngReg), Pre_AttnIn0Ideal m →
    θ_run (Cert.AttnIn0Ideal.defs (F := Ideal)) (onTc (τ := Cert.AttnIn0Ideal.τ) (Cert.AttnIn0Ideal.main (F := Ideal))) ⟨m, fun _ => 0, g⟩ (fun r => (∀ c : Dev Cert.AttnIn0Ideal.nD,
      r.2.mem ((c.tc : Thread Cert.AttnIn0Ideal.nD Cert.AttnIn0Ideal.τ).loc Cert.AttnIn0Ideal.main_arg0) = m ((c.tc : Thread Cert.AttnIn0Ideal.nD Cert.AttnIn0Ideal.τ).loc Cert.AttnIn0Ideal.main_arg0)
      ∧ r.2.mem ((c.tc : Thread Cert.AttnIn0Ideal.nD Cert.AttnIn0Ideal.τ).loc Cert.AttnIn0Ideal.main_arg1) = m ((c.tc : Thread Cert.AttnIn0Ideal.nD Cert.AttnIn0Ideal.τ).loc Cert.AttnIn0Ideal.main_arg1))
      ∧ r.2.sem = fun _ => 0)

def quiescent_AttnIn0PlainIdeal [hAttnIn0PlainIdeal : Cert.AttnIn0PlainIdeal.Facts] : Prop :=
  ∀ (m : (ℓ : Loc Cert.AttnIn0PlainIdeal.nD Cert.AttnIn0PlainIdeal.τ Cert.AttnIn0PlainIdeal.sig) → Buf (Elt Ideal) ℓ) (g : Dev Cert.AttnIn0PlainIdeal.nD → PrngReg), Pre_AttnIn0PlainIdeal m →
    θ_run (Cert.AttnIn0PlainIdeal.defs (F := Ideal)) (onTc (τ := Cert.AttnIn0PlainIdeal.τ) (Cert.AttnIn0PlainIdeal.main (F := Ideal))) ⟨m, fun _ => 0, g⟩ (fun r => (∀ c : Dev Cert.AttnIn0PlainIdeal.nD,
      r.2.mem ((c.tc : Thread Cert.AttnIn0PlainIdeal.nD Cert.AttnIn0PlainIdeal.τ).loc Cert.AttnIn0PlainIdeal.main_arg0) = m ((c.tc : Thread Cert.AttnIn0PlainIdeal.nD Cert.AttnIn0PlainIdeal.τ).loc Cert.AttnIn0PlainIdeal.main_arg0)
      ∧ r.2.mem ((c.tc : Thread Cert.AttnIn0PlainIdeal.nD Cert.AttnIn0PlainIdeal.τ).loc Cert.AttnIn0PlainIdeal.main_arg1) = m ((c.tc : Thread Cert.AttnIn0PlainIdeal.nD Cert.AttnIn0PlainIdeal.τ).loc Cert.AttnIn0PlainIdeal.main_arg1))
      ∧ r.2.sem = fun _ => 0)

def quiescent_AttnIn1 [hAttnIn1 : Cert.AttnIn1.Facts] : Prop :=
  ∀ (m : (ℓ : Loc Cert.AttnIn1.nD Cert.AttnIn1.τ Cert.AttnIn1.sig) → Buf (Elt Bits) ℓ) (g : Dev Cert.AttnIn1.nD → PrngReg), Pre_AttnIn1 m →
    θ_run (Cert.AttnIn1.defs (F := Bits)) (onTc (τ := Cert.AttnIn1.τ) (Cert.AttnIn1.main (F := Bits))) ⟨m, fun _ => 0, g⟩ (fun r => (∀ c : Dev Cert.AttnIn1.nD,
      r.2.mem ((c.tc : Thread Cert.AttnIn1.nD Cert.AttnIn1.τ).loc Cert.AttnIn1.main_arg0) = m ((c.tc : Thread Cert.AttnIn1.nD Cert.AttnIn1.τ).loc Cert.AttnIn1.main_arg0)
      ∧ r.2.mem ((c.tc : Thread Cert.AttnIn1.nD Cert.AttnIn1.τ).loc Cert.AttnIn1.main_arg1) = m ((c.tc : Thread Cert.AttnIn1.nD Cert.AttnIn1.τ).loc Cert.AttnIn1.main_arg1))
      ∧ r.2.sem = fun _ => 0)

def quiescent_AttnIn1Ideal [hAttnIn1Ideal : Cert.AttnIn1Ideal.Facts] : Prop :=
  ∀ (m : (ℓ : Loc Cert.AttnIn1Ideal.nD Cert.AttnIn1Ideal.τ Cert.AttnIn1Ideal.sig) → Buf (Elt Ideal) ℓ) (g : Dev Cert.AttnIn1Ideal.nD → PrngReg), Pre_AttnIn1Ideal m →
    θ_run (Cert.AttnIn1Ideal.defs (F := Ideal)) (onTc (τ := Cert.AttnIn1Ideal.τ) (Cert.AttnIn1Ideal.main (F := Ideal))) ⟨m, fun _ => 0, g⟩ (fun r => (∀ c : Dev Cert.AttnIn1Ideal.nD,
      r.2.mem ((c.tc : Thread Cert.AttnIn1Ideal.nD Cert.AttnIn1Ideal.τ).loc Cert.AttnIn1Ideal.main_arg0) = m ((c.tc : Thread Cert.AttnIn1Ideal.nD Cert.AttnIn1Ideal.τ).loc Cert.AttnIn1Ideal.main_arg0)
      ∧ r.2.mem ((c.tc : Thread Cert.AttnIn1Ideal.nD Cert.AttnIn1Ideal.τ).loc Cert.AttnIn1Ideal.main_arg1) = m ((c.tc : Thread Cert.AttnIn1Ideal.nD Cert.AttnIn1Ideal.τ).loc Cert.AttnIn1Ideal.main_arg1))
      ∧ r.2.sem = fun _ => 0)

def quiescent_AttnIn1PlainIdeal [hAttnIn1PlainIdeal : Cert.AttnIn1PlainIdeal.Facts] : Prop :=
  ∀ (m : (ℓ : Loc Cert.AttnIn1PlainIdeal.nD Cert.AttnIn1PlainIdeal.τ Cert.AttnIn1PlainIdeal.sig) → Buf (Elt Ideal) ℓ) (g : Dev Cert.AttnIn1PlainIdeal.nD → PrngReg), Pre_AttnIn1PlainIdeal m →
    θ_run (Cert.AttnIn1PlainIdeal.defs (F := Ideal)) (onTc (τ := Cert.AttnIn1PlainIdeal.τ) (Cert.AttnIn1PlainIdeal.main (F := Ideal))) ⟨m, fun _ => 0, g⟩ (fun r => (∀ c : Dev Cert.AttnIn1PlainIdeal.nD,
      r.2.mem ((c.tc : Thread Cert.AttnIn1PlainIdeal.nD Cert.AttnIn1PlainIdeal.τ).loc Cert.AttnIn1PlainIdeal.main_arg0) = m ((c.tc : Thread Cert.AttnIn1PlainIdeal.nD Cert.AttnIn1PlainIdeal.τ).loc Cert.AttnIn1PlainIdeal.main_arg0)
      ∧ r.2.mem ((c.tc : Thread Cert.AttnIn1PlainIdeal.nD Cert.AttnIn1PlainIdeal.τ).loc Cert.AttnIn1PlainIdeal.main_arg1) = m ((c.tc : Thread Cert.AttnIn1PlainIdeal.nD Cert.AttnIn1PlainIdeal.τ).loc Cert.AttnIn1PlainIdeal.main_arg1))
      ∧ r.2.sem = fun _ => 0)

def quiescent_AttnIn2 [hAttnIn2 : Cert.AttnIn2.Facts] : Prop :=
  ∀ (m : (ℓ : Loc Cert.AttnIn2.nD Cert.AttnIn2.τ Cert.AttnIn2.sig) → Buf (Elt Bits) ℓ) (g : Dev Cert.AttnIn2.nD → PrngReg), Pre_AttnIn2 m →
    θ_run (Cert.AttnIn2.defs (F := Bits)) (onTc (τ := Cert.AttnIn2.τ) (Cert.AttnIn2.main (F := Bits))) ⟨m, fun _ => 0, g⟩ (fun r => (∀ c : Dev Cert.AttnIn2.nD,
      r.2.mem ((c.tc : Thread Cert.AttnIn2.nD Cert.AttnIn2.τ).loc Cert.AttnIn2.main_arg0) = m ((c.tc : Thread Cert.AttnIn2.nD Cert.AttnIn2.τ).loc Cert.AttnIn2.main_arg0)
      ∧ r.2.mem ((c.tc : Thread Cert.AttnIn2.nD Cert.AttnIn2.τ).loc Cert.AttnIn2.main_arg1) = m ((c.tc : Thread Cert.AttnIn2.nD Cert.AttnIn2.τ).loc Cert.AttnIn2.main_arg1))
      ∧ r.2.sem = fun _ => 0)

def quiescent_AttnIn2Ideal [hAttnIn2Ideal : Cert.AttnIn2Ideal.Facts] : Prop :=
  ∀ (m : (ℓ : Loc Cert.AttnIn2Ideal.nD Cert.AttnIn2Ideal.τ Cert.AttnIn2Ideal.sig) → Buf (Elt Ideal) ℓ) (g : Dev Cert.AttnIn2Ideal.nD → PrngReg), Pre_AttnIn2Ideal m →
    θ_run (Cert.AttnIn2Ideal.defs (F := Ideal)) (onTc (τ := Cert.AttnIn2Ideal.τ) (Cert.AttnIn2Ideal.main (F := Ideal))) ⟨m, fun _ => 0, g⟩ (fun r => (∀ c : Dev Cert.AttnIn2Ideal.nD,
      r.2.mem ((c.tc : Thread Cert.AttnIn2Ideal.nD Cert.AttnIn2Ideal.τ).loc Cert.AttnIn2Ideal.main_arg0) = m ((c.tc : Thread Cert.AttnIn2Ideal.nD Cert.AttnIn2Ideal.τ).loc Cert.AttnIn2Ideal.main_arg0)
      ∧ r.2.mem ((c.tc : Thread Cert.AttnIn2Ideal.nD Cert.AttnIn2Ideal.τ).loc Cert.AttnIn2Ideal.main_arg1) = m ((c.tc : Thread Cert.AttnIn2Ideal.nD Cert.AttnIn2Ideal.τ).loc Cert.AttnIn2Ideal.main_arg1))
      ∧ r.2.sem = fun _ => 0)

def quiescent_AttnIn2PlainIdeal [hAttnIn2PlainIdeal : Cert.AttnIn2PlainIdeal.Facts] : Prop :=
  ∀ (m : (ℓ : Loc Cert.AttnIn2PlainIdeal.nD Cert.AttnIn2PlainIdeal.τ Cert.AttnIn2PlainIdeal.sig) → Buf (Elt Ideal) ℓ) (g : Dev Cert.AttnIn2PlainIdeal.nD → PrngReg), Pre_AttnIn2PlainIdeal m →
    θ_run (Cert.AttnIn2PlainIdeal.defs (F := Ideal)) (onTc (τ := Cert.AttnIn2PlainIdeal.τ) (Cert.AttnIn2PlainIdeal.main (F := Ideal))) ⟨m, fun _ => 0, g⟩ (fun r => (∀ c : Dev Cert.AttnIn2PlainIdeal.nD,
      r.2.mem ((c.tc : Thread Cert.AttnIn2PlainIdeal.nD Cert.AttnIn2PlainIdeal.τ).loc Cert.AttnIn2PlainIdeal.main_arg0) = m ((c.tc : Thread Cert.AttnIn2PlainIdeal.nD Cert.AttnIn2PlainIdeal.τ).loc Cert.AttnIn2PlainIdeal.main_arg0)
      ∧ r.2.mem ((c.tc : Thread Cert.AttnIn2PlainIdeal.nD Cert.AttnIn2PlainIdeal.τ).loc Cert.AttnIn2PlainIdeal.main_arg1) = m ((c.tc : Thread Cert.AttnIn2PlainIdeal.nD Cert.AttnIn2PlainIdeal.τ).loc Cert.AttnIn2PlainIdeal.main_arg1))
      ∧ r.2.sem = fun _ => 0)

def quiescent_AttnIn3 [hAttnIn3 : Cert.AttnIn3.Facts] : Prop :=
  ∀ (m : (ℓ : Loc Cert.AttnIn3.nD Cert.AttnIn3.τ Cert.AttnIn3.sig) → Buf (Elt Bits) ℓ) (g : Dev Cert.AttnIn3.nD → PrngReg), Pre_AttnIn3 m →
    θ_run (Cert.AttnIn3.defs (F := Bits)) (onTc (τ := Cert.AttnIn3.τ) (Cert.AttnIn3.main (F := Bits))) ⟨m, fun _ => 0, g⟩ (fun r => (∀ c : Dev Cert.AttnIn3.nD,
      r.2.mem ((c.tc : Thread Cert.AttnIn3.nD Cert.AttnIn3.τ).loc Cert.AttnIn3.main_arg0) = m ((c.tc : Thread Cert.AttnIn3.nD Cert.AttnIn3.τ).loc Cert.AttnIn3.main_arg0)
      ∧ r.2.mem ((c.tc : Thread Cert.AttnIn3.nD Cert.AttnIn3.τ).loc Cert.AttnIn3.main_arg1) = m ((c.tc : Thread Cert.AttnIn3.nD Cert.AttnIn3.τ).loc Cert.AttnIn3.main_arg1))
      ∧ r.2.sem = fun _ => 0)

def quiescent_AttnIn3Ideal [hAttnIn3Ideal : Cert.AttnIn3Ideal.Facts] : Prop :=
  ∀ (m : (ℓ : Loc Cert.AttnIn3Ideal.nD Cert.AttnIn3Ideal.τ Cert.AttnIn3Ideal.sig) → Buf (Elt Ideal) ℓ) (g : Dev Cert.AttnIn3Ideal.nD → PrngReg), Pre_AttnIn3Ideal m →
    θ_run (Cert.AttnIn3Ideal.defs (F := Ideal)) (onTc (τ := Cert.AttnIn3Ideal.τ) (Cert.AttnIn3Ideal.main (F := Ideal))) ⟨m, fun _ => 0, g⟩ (fun r => (∀ c : Dev Cert.AttnIn3Ideal.nD,
      r.2.mem ((c.tc : Thread Cert.AttnIn3Ideal.nD Cert.AttnIn3Ideal.τ).loc Cert.AttnIn3Ideal.main_arg0) = m ((c.tc : Thread Cert.AttnIn3Ideal.nD Cert.AttnIn3Ideal.τ).loc Cert.AttnIn3Ideal.main_arg0)
      ∧ r.2.mem ((c.tc : Thread Cert.AttnIn3Ideal.nD Cert.AttnIn3Ideal.τ).loc Cert.AttnIn3Ideal.main_arg1) = m ((c.tc : Thread Cert.AttnIn3Ideal.nD Cert.AttnIn3Ideal.τ).loc Cert.AttnIn3Ideal.main_arg1))
      ∧ r.2.sem = fun _ => 0)

def quiescent_AttnIn3PlainIdeal [hAttnIn3PlainIdeal : Cert.AttnIn3PlainIdeal.Facts] : Prop :=
  ∀ (m : (ℓ : Loc Cert.AttnIn3PlainIdeal.nD Cert.AttnIn3PlainIdeal.τ Cert.AttnIn3PlainIdeal.sig) → Buf (Elt Ideal) ℓ) (g : Dev Cert.AttnIn3PlainIdeal.nD → PrngReg), Pre_AttnIn3PlainIdeal m →
    θ_run (Cert.AttnIn3PlainIdeal.defs (F := Ideal)) (onTc (τ := Cert.AttnIn3PlainIdeal.τ) (Cert.AttnIn3PlainIdeal.main (F := Ideal))) ⟨m, fun _ => 0, g⟩ (fun r => (∀ c : Dev Cert.AttnIn3PlainIdeal.nD,
      r.2.mem ((c.tc : Thread Cert.AttnIn3PlainIdeal.nD Cert.AttnIn3PlainIdeal.τ).loc Cert.AttnIn3PlainIdeal.main_arg0) = m ((c.tc : Thread Cert.AttnIn3PlainIdeal.nD Cert.AttnIn3PlainIdeal.τ).loc Cert.AttnIn3PlainIdeal.main_arg0)
      ∧ r.2.mem ((c.tc : Thread Cert.AttnIn3PlainIdeal.nD Cert.AttnIn3PlainIdeal.τ).loc Cert.AttnIn3PlainIdeal.main_arg1) = m ((c.tc : Thread Cert.AttnIn3PlainIdeal.nD Cert.AttnIn3PlainIdeal.τ).loc Cert.AttnIn3PlainIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3)
      ∧ r.2.mem ((c.tc : Thread Cert.AttnOut.nD Cert.AttnOut.τ).loc Cert.AttnOut.main_arg4) = m ((c.tc : Thread Cert.AttnOut.nD Cert.AttnOut.τ).loc Cert.AttnOut.main_arg4)
      ∧ r.2.mem ((c.tc : Thread Cert.AttnOut.nD Cert.AttnOut.τ).loc Cert.AttnOut.main_arg5) = m ((c.tc : Thread Cert.AttnOut.nD Cert.AttnOut.τ).loc Cert.AttnOut.main_arg5))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
      ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5))
      ∧ r.2.sem = fun _ => 0)

def quiescent_AttnOutPlainIdeal [hAttnOutPlainIdeal : Cert.AttnOutPlainIdeal.Facts] : Prop :=
  ∀ (m : (ℓ : Loc Cert.AttnOutPlainIdeal.nD Cert.AttnOutPlainIdeal.τ Cert.AttnOutPlainIdeal.sig) → Buf (Elt Ideal) ℓ) (g : Dev Cert.AttnOutPlainIdeal.nD → PrngReg), Pre_AttnOutPlainIdeal m →
    θ_run (Cert.AttnOutPlainIdeal.defs (F := Ideal)) (onTc (τ := Cert.AttnOutPlainIdeal.τ) (Cert.AttnOutPlainIdeal.main (F := Ideal))) ⟨m, fun _ => 0, g⟩ (fun r => (∀ c : Dev Cert.AttnOutPlainIdeal.nD,
      r.2.mem ((c.tc : Thread Cert.AttnOutPlainIdeal.nD Cert.AttnOutPlainIdeal.τ).loc Cert.AttnOutPlainIdeal.main_arg0) = m ((c.tc : Thread Cert.AttnOutPlainIdeal.nD Cert.AttnOutPlainIdeal.τ).loc Cert.AttnOutPlainIdeal.main_arg0)
      ∧ r.2.mem ((c.tc : Thread Cert.AttnOutPlainIdeal.nD Cert.AttnOutPlainIdeal.τ).loc Cert.AttnOutPlainIdeal.main_arg1) = m ((c.tc : Thread Cert.AttnOutPlainIdeal.nD Cert.AttnOutPlainIdeal.τ).loc Cert.AttnOutPlainIdeal.main_arg1)
      ∧ r.2.mem ((c.tc : Thread Cert.AttnOutPlainIdeal.nD Cert.AttnOutPlainIdeal.τ).loc Cert.AttnOutPlainIdeal.main_arg2) = m ((c.tc : Thread Cert.AttnOutPlainIdeal.nD Cert.AttnOutPlainIdeal.τ).loc Cert.AttnOutPlainIdeal.main_arg2)
      ∧ r.2.mem ((c.tc : Thread Cert.AttnOutPlainIdeal.nD Cert.AttnOutPlainIdeal.τ).loc Cert.AttnOutPlainIdeal.main_arg3) = m ((c.tc : Thread Cert.AttnOutPlainIdeal.nD Cert.AttnOutPlainIdeal.τ).loc Cert.AttnOutPlainIdeal.main_arg3)
      ∧ r.2.mem ((c.tc : Thread Cert.AttnOutPlainIdeal.nD Cert.AttnOutPlainIdeal.τ).loc Cert.AttnOutPlainIdeal.main_arg4) = m ((c.tc : Thread Cert.AttnOutPlainIdeal.nD Cert.AttnOutPlainIdeal.τ).loc Cert.AttnOutPlainIdeal.main_arg4)
      ∧ r.2.mem ((c.tc : Thread Cert.AttnOutPlainIdeal.nD Cert.AttnOutPlainIdeal.τ).loc Cert.AttnOutPlainIdeal.main_arg5) = m ((c.tc : Thread Cert.AttnOutPlainIdeal.nD Cert.AttnOutPlainIdeal.τ).loc Cert.AttnOutPlainIdeal.main_arg5))
      ∧ r.2.sem = fun _ => 0)

def quiescent_SsmInU [hSsmInU : Cert.SsmInU.Facts] : Prop :=
  ∀ (m : (ℓ : Loc Cert.SsmInU.nD Cert.SsmInU.τ Cert.SsmInU.sig) → Buf (Elt Bits) ℓ) (g : Dev Cert.SsmInU.nD → PrngReg), Pre_SsmInU m →
    θ_run (Cert.SsmInU.defs (F := Bits)) (onTc (τ := Cert.SsmInU.τ) (Cert.SsmInU.main (F := Bits))) ⟨m, fun _ => 0, g⟩ (fun r => (∀ c : Dev Cert.SsmInU.nD,
      r.2.mem ((c.tc : Thread Cert.SsmInU.nD Cert.SsmInU.τ).loc Cert.SsmInU.main_arg0) = m ((c.tc : Thread Cert.SsmInU.nD Cert.SsmInU.τ).loc Cert.SsmInU.main_arg0)
      ∧ r.2.mem ((c.tc : Thread Cert.SsmInU.nD Cert.SsmInU.τ).loc Cert.SsmInU.main_arg1) = m ((c.tc : Thread Cert.SsmInU.nD Cert.SsmInU.τ).loc Cert.SsmInU.main_arg1)
      ∧ r.2.mem ((c.tc : Thread Cert.SsmInU.nD Cert.SsmInU.τ).loc Cert.SsmInU.main_arg2) = m ((c.tc : Thread Cert.SsmInU.nD Cert.SsmInU.τ).loc Cert.SsmInU.main_arg2)
      ∧ r.2.mem ((c.tc : Thread Cert.SsmInU.nD Cert.SsmInU.τ).loc Cert.SsmInU.main_arg3) = m ((c.tc : Thread Cert.SsmInU.nD Cert.SsmInU.τ).loc Cert.SsmInU.main_arg3)
      ∧ r.2.mem ((c.tc : Thread Cert.SsmInU.nD Cert.SsmInU.τ).loc Cert.SsmInU.main_arg4) = m ((c.tc : Thread Cert.SsmInU.nD Cert.SsmInU.τ).loc Cert.SsmInU.main_arg4))
      ∧ r.2.sem = fun _ => 0)

def quiescent_SsmInUIdeal [hSsmInUIdeal : Cert.SsmInUIdeal.Facts] : Prop :=
  ∀ (m : (ℓ : Loc Cert.SsmInUIdeal.nD Cert.SsmInUIdeal.τ Cert.SsmInUIdeal.sig) → Buf (Elt Ideal) ℓ) (g : Dev Cert.SsmInUIdeal.nD → PrngReg), Pre_SsmInUIdeal m →
    θ_run (Cert.SsmInUIdeal.defs (F := Ideal)) (onTc (τ := Cert.SsmInUIdeal.τ) (Cert.SsmInUIdeal.main (F := Ideal))) ⟨m, fun _ => 0, g⟩ (fun r => (∀ c : Dev Cert.SsmInUIdeal.nD,
      r.2.mem ((c.tc : Thread Cert.SsmInUIdeal.nD Cert.SsmInUIdeal.τ).loc Cert.SsmInUIdeal.main_arg0) = m ((c.tc : Thread Cert.SsmInUIdeal.nD Cert.SsmInUIdeal.τ).loc Cert.SsmInUIdeal.main_arg0)
      ∧ r.2.mem ((c.tc : Thread Cert.SsmInUIdeal.nD Cert.SsmInUIdeal.τ).loc Cert.SsmInUIdeal.main_arg1) = m ((c.tc : Thread Cert.SsmInUIdeal.nD Cert.SsmInUIdeal.τ).loc Cert.SsmInUIdeal.main_arg1)
      ∧ r.2.mem ((c.tc : Thread Cert.SsmInUIdeal.nD Cert.SsmInUIdeal.τ).loc Cert.SsmInUIdeal.main_arg2) = m ((c.tc : Thread Cert.SsmInUIdeal.nD Cert.SsmInUIdeal.τ).loc Cert.SsmInUIdeal.main_arg2)
      ∧ r.2.mem ((c.tc : Thread Cert.SsmInUIdeal.nD Cert.SsmInUIdeal.τ).loc Cert.SsmInUIdeal.main_arg3) = m ((c.tc : Thread Cert.SsmInUIdeal.nD Cert.SsmInUIdeal.τ).loc Cert.SsmInUIdeal.main_arg3)
      ∧ r.2.mem ((c.tc : Thread Cert.SsmInUIdeal.nD Cert.SsmInUIdeal.τ).loc Cert.SsmInUIdeal.main_arg4) = m ((c.tc : Thread Cert.SsmInUIdeal.nD Cert.SsmInUIdeal.τ).loc Cert.SsmInUIdeal.main_arg4))
      ∧ r.2.sem = fun _ => 0)

def quiescent_SsmInUPlainIdeal [hSsmInUPlainIdeal : Cert.SsmInUPlainIdeal.Facts] : Prop :=
  ∀ (m : (ℓ : Loc Cert.SsmInUPlainIdeal.nD Cert.SsmInUPlainIdeal.τ Cert.SsmInUPlainIdeal.sig) → Buf (Elt Ideal) ℓ) (g : Dev Cert.SsmInUPlainIdeal.nD → PrngReg), Pre_SsmInUPlainIdeal m →
    θ_run (Cert.SsmInUPlainIdeal.defs (F := Ideal)) (onTc (τ := Cert.SsmInUPlainIdeal.τ) (Cert.SsmInUPlainIdeal.main (F := Ideal))) ⟨m, fun _ => 0, g⟩ (fun r => (∀ c : Dev Cert.SsmInUPlainIdeal.nD,
      r.2.mem ((c.tc : Thread Cert.SsmInUPlainIdeal.nD Cert.SsmInUPlainIdeal.τ).loc Cert.SsmInUPlainIdeal.main_arg0) = m ((c.tc : Thread Cert.SsmInUPlainIdeal.nD Cert.SsmInUPlainIdeal.τ).loc Cert.SsmInUPlainIdeal.main_arg0)
      ∧ r.2.mem ((c.tc : Thread Cert.SsmInUPlainIdeal.nD Cert.SsmInUPlainIdeal.τ).loc Cert.SsmInUPlainIdeal.main_arg1) = m ((c.tc : Thread Cert.SsmInUPlainIdeal.nD Cert.SsmInUPlainIdeal.τ).loc Cert.SsmInUPlainIdeal.main_arg1)
      ∧ r.2.mem ((c.tc : Thread Cert.SsmInUPlainIdeal.nD Cert.SsmInUPlainIdeal.τ).loc Cert.SsmInUPlainIdeal.main_arg2) = m ((c.tc : Thread Cert.SsmInUPlainIdeal.nD Cert.SsmInUPlainIdeal.τ).loc Cert.SsmInUPlainIdeal.main_arg2)
      ∧ r.2.mem ((c.tc : Thread Cert.SsmInUPlainIdeal.nD Cert.SsmInUPlainIdeal.τ).loc Cert.SsmInUPlainIdeal.main_arg3) = m ((c.tc : Thread Cert.SsmInUPlainIdeal.nD Cert.SsmInUPlainIdeal.τ).loc Cert.SsmInUPlainIdeal.main_arg3)
      ∧ r.2.mem ((c.tc : Thread Cert.SsmInUPlainIdeal.nD Cert.SsmInUPlainIdeal.τ).loc Cert.SsmInUPlainIdeal.main_arg4) = m ((c.tc : Thread Cert.SsmInUPlainIdeal.nD Cert.SsmInUPlainIdeal.τ).loc Cert.SsmInUPlainIdeal.main_arg4))
      ∧ r.2.sem = fun _ => 0)

def quiescent_SsmInGate [hSsmInGate : Cert.SsmInGate.Facts] : Prop :=
  ∀ (m : (ℓ : Loc Cert.SsmInGate.nD Cert.SsmInGate.τ Cert.SsmInGate.sig) → Buf (Elt Bits) ℓ) (g : Dev Cert.SsmInGate.nD → PrngReg), Pre_SsmInGate m →
    θ_run (Cert.SsmInGate.defs (F := Bits)) (onTc (τ := Cert.SsmInGate.τ) (Cert.SsmInGate.main (F := Bits))) ⟨m, fun _ => 0, g⟩ (fun r => (∀ c : Dev Cert.SsmInGate.nD,
      r.2.mem ((c.tc : Thread Cert.SsmInGate.nD Cert.SsmInGate.τ).loc Cert.SsmInGate.main_arg0) = m ((c.tc : Thread Cert.SsmInGate.nD Cert.SsmInGate.τ).loc Cert.SsmInGate.main_arg0)
      ∧ r.2.mem ((c.tc : Thread Cert.SsmInGate.nD Cert.SsmInGate.τ).loc Cert.SsmInGate.main_arg1) = m ((c.tc : Thread Cert.SsmInGate.nD Cert.SsmInGate.τ).loc Cert.SsmInGate.main_arg1)
      ∧ r.2.mem ((c.tc : Thread Cert.SsmInGate.nD Cert.SsmInGate.τ).loc Cert.SsmInGate.main_arg2) = m ((c.tc : Thread Cert.SsmInGate.nD Cert.SsmInGate.τ).loc Cert.SsmInGate.main_arg2)
      ∧ r.2.mem ((c.tc : Thread Cert.SsmInGate.nD Cert.SsmInGate.τ).loc Cert.SsmInGate.main_arg3) = m ((c.tc : Thread Cert.SsmInGate.nD Cert.SsmInGate.τ).loc Cert.SsmInGate.main_arg3)
      ∧ r.2.mem ((c.tc : Thread Cert.SsmInGate.nD Cert.SsmInGate.τ).loc Cert.SsmInGate.main_arg4) = m ((c.tc : Thread Cert.SsmInGate.nD Cert.SsmInGate.τ).loc Cert.SsmInGate.main_arg4))
      ∧ r.2.sem = fun _ => 0)

def quiescent_SsmInGateIdeal [hSsmInGateIdeal : Cert.SsmInGateIdeal.Facts] : Prop :=
  ∀ (m : (ℓ : Loc Cert.SsmInGateIdeal.nD Cert.SsmInGateIdeal.τ Cert.SsmInGateIdeal.sig) → Buf (Elt Ideal) ℓ) (g : Dev Cert.SsmInGateIdeal.nD → PrngReg), Pre_SsmInGateIdeal m →
    θ_run (Cert.SsmInGateIdeal.defs (F := Ideal)) (onTc (τ := Cert.SsmInGateIdeal.τ) (Cert.SsmInGateIdeal.main (F := Ideal))) ⟨m, fun _ => 0, g⟩ (fun r => (∀ c : Dev Cert.SsmInGateIdeal.nD,
      r.2.mem ((c.tc : Thread Cert.SsmInGateIdeal.nD Cert.SsmInGateIdeal.τ).loc Cert.SsmInGateIdeal.main_arg0) = m ((c.tc : Thread Cert.SsmInGateIdeal.nD Cert.SsmInGateIdeal.τ).loc Cert.SsmInGateIdeal.main_arg0)
      ∧ r.2.mem ((c.tc : Thread Cert.SsmInGateIdeal.nD Cert.SsmInGateIdeal.τ).loc Cert.SsmInGateIdeal.main_arg1) = m ((c.tc : Thread Cert.SsmInGateIdeal.nD Cert.SsmInGateIdeal.τ).loc Cert.SsmInGateIdeal.main_arg1)
      ∧ r.2.mem ((c.tc : Thread Cert.SsmInGateIdeal.nD Cert.SsmInGateIdeal.τ).loc Cert.SsmInGateIdeal.main_arg2) = m ((c.tc : Thread Cert.SsmInGateIdeal.nD Cert.SsmInGateIdeal.τ).loc Cert.SsmInGateIdeal.main_arg2)
      ∧ r.2.mem ((c.tc : Thread Cert.SsmInGateIdeal.nD Cert.SsmInGateIdeal.τ).loc Cert.SsmInGateIdeal.main_arg3) = m ((c.tc : Thread Cert.SsmInGateIdeal.nD Cert.SsmInGateIdeal.τ).loc Cert.SsmInGateIdeal.main_arg3)
      ∧ r.2.mem ((c.tc : Thread Cert.SsmInGateIdeal.nD Cert.SsmInGateIdeal.τ).loc Cert.SsmInGateIdeal.main_arg4) = m ((c.tc : Thread Cert.SsmInGateIdeal.nD Cert.SsmInGateIdeal.τ).loc Cert.SsmInGateIdeal.main_arg4))
      ∧ r.2.sem = fun _ => 0)

def quiescent_SsmInGatePlainIdeal [hSsmInGatePlainIdeal : Cert.SsmInGatePlainIdeal.Facts] : Prop :=
  ∀ (m : (ℓ : Loc Cert.SsmInGatePlainIdeal.nD Cert.SsmInGatePlainIdeal.τ Cert.SsmInGatePlainIdeal.sig) → Buf (Elt Ideal) ℓ) (g : Dev Cert.SsmInGatePlainIdeal.nD → PrngReg), Pre_SsmInGatePlainIdeal m →
    θ_run (Cert.SsmInGatePlainIdeal.defs (F := Ideal)) (onTc (τ := Cert.SsmInGatePlainIdeal.τ) (Cert.SsmInGatePlainIdeal.main (F := Ideal))) ⟨m, fun _ => 0, g⟩ (fun r => (∀ c : Dev Cert.SsmInGatePlainIdeal.nD,
      r.2.mem ((c.tc : Thread Cert.SsmInGatePlainIdeal.nD Cert.SsmInGatePlainIdeal.τ).loc Cert.SsmInGatePlainIdeal.main_arg0) = m ((c.tc : Thread Cert.SsmInGatePlainIdeal.nD Cert.SsmInGatePlainIdeal.τ).loc Cert.SsmInGatePlainIdeal.main_arg0)
      ∧ r.2.mem ((c.tc : Thread Cert.SsmInGatePlainIdeal.nD Cert.SsmInGatePlainIdeal.τ).loc Cert.SsmInGatePlainIdeal.main_arg1) = m ((c.tc : Thread Cert.SsmInGatePlainIdeal.nD Cert.SsmInGatePlainIdeal.τ).loc Cert.SsmInGatePlainIdeal.main_arg1)
      ∧ r.2.mem ((c.tc : Thread Cert.SsmInGatePlainIdeal.nD Cert.SsmInGatePlainIdeal.τ).loc Cert.SsmInGatePlainIdeal.main_arg2) = m ((c.tc : Thread Cert.SsmInGatePlainIdeal.nD Cert.SsmInGatePlainIdeal.τ).loc Cert.SsmInGatePlainIdeal.main_arg2)
      ∧ r.2.mem ((c.tc : Thread Cert.SsmInGatePlainIdeal.nD Cert.SsmInGatePlainIdeal.τ).loc Cert.SsmInGatePlainIdeal.main_arg3) = m ((c.tc : Thread Cert.SsmInGatePlainIdeal.nD Cert.SsmInGatePlainIdeal.τ).loc Cert.SsmInGatePlainIdeal.main_arg3)
      ∧ r.2.mem ((c.tc : Thread Cert.SsmInGatePlainIdeal.nD Cert.SsmInGatePlainIdeal.τ).loc Cert.SsmInGatePlainIdeal.main_arg4) = m ((c.tc : Thread Cert.SsmInGatePlainIdeal.nD Cert.SsmInGatePlainIdeal.τ).loc Cert.SsmInGatePlainIdeal.main_arg4))
      ∧ r.2.sem = fun _ => 0)

def quiescent_GluMm [hGluMm : Cert.GluMm.Facts] : Prop :=
  ∀ (m : (ℓ : Loc Cert.GluMm.nD Cert.GluMm.τ Cert.GluMm.sig) → Buf (Elt Bits) ℓ) (g : Dev Cert.GluMm.nD → PrngReg), Pre_GluMm m →
    θ_run (Cert.GluMm.defs (F := Bits)) (onTc (τ := Cert.GluMm.τ) (Cert.GluMm.main (F := Bits))) ⟨m, fun _ => 0, g⟩ (fun r => (∀ c : Dev Cert.GluMm.nD,
      r.2.mem ((c.tc : Thread Cert.GluMm.nD Cert.GluMm.τ).loc Cert.GluMm.main_arg0) = m ((c.tc : Thread Cert.GluMm.nD Cert.GluMm.τ).loc Cert.GluMm.main_arg0)
      ∧ r.2.mem ((c.tc : Thread Cert.GluMm.nD Cert.GluMm.τ).loc Cert.GluMm.main_arg1) = m ((c.tc : Thread Cert.GluMm.nD Cert.GluMm.τ).loc Cert.GluMm.main_arg1)
      ∧ r.2.mem ((c.tc : Thread Cert.GluMm.nD Cert.GluMm.τ).loc Cert.GluMm.main_arg2) = m ((c.tc : Thread Cert.GluMm.nD Cert.GluMm.τ).loc Cert.GluMm.main_arg2)
      ∧ r.2.mem ((c.tc : Thread Cert.GluMm.nD Cert.GluMm.τ).loc Cert.GluMm.main_arg3) = m ((c.tc : Thread Cert.GluMm.nD Cert.GluMm.τ).loc Cert.GluMm.main_arg3)
      ∧ r.2.mem ((c.tc : Thread Cert.GluMm.nD Cert.GluMm.τ).loc Cert.GluMm.main_arg4) = m ((c.tc : Thread Cert.GluMm.nD Cert.GluMm.τ).loc Cert.GluMm.main_arg4)
      ∧ r.2.mem ((c.tc : Thread Cert.GluMm.nD Cert.GluMm.τ).loc Cert.GluMm.main_arg5) = m ((c.tc : Thread Cert.GluMm.nD Cert.GluMm.τ).loc Cert.GluMm.main_arg5)
      ∧ r.2.mem ((c.tc : Thread Cert.GluMm.nD Cert.GluMm.τ).loc Cert.GluMm.main_arg6) = m ((c.tc : Thread Cert.GluMm.nD Cert.GluMm.τ).loc Cert.GluMm.main_arg6))
      ∧ r.2.sem = fun _ => 0)

def quiescent_GluMmIdeal [hGluMmIdeal : Cert.GluMmIdeal.Facts] : Prop :=
  ∀ (m : (ℓ : Loc Cert.GluMmIdeal.nD Cert.GluMmIdeal.τ Cert.GluMmIdeal.sig) → Buf (Elt Ideal) ℓ) (g : Dev Cert.GluMmIdeal.nD → PrngReg), Pre_GluMmIdeal m →
    θ_run (Cert.GluMmIdeal.defs (F := Ideal)) (onTc (τ := Cert.GluMmIdeal.τ) (Cert.GluMmIdeal.main (F := Ideal))) ⟨m, fun _ => 0, g⟩ (fun r => (∀ c : Dev Cert.GluMmIdeal.nD,
      r.2.mem ((c.tc : Thread Cert.GluMmIdeal.nD Cert.GluMmIdeal.τ).loc Cert.GluMmIdeal.main_arg0) = m ((c.tc : Thread Cert.GluMmIdeal.nD Cert.GluMmIdeal.τ).loc Cert.GluMmIdeal.main_arg0)
      ∧ r.2.mem ((c.tc : Thread Cert.GluMmIdeal.nD Cert.GluMmIdeal.τ).loc Cert.GluMmIdeal.main_arg1) = m ((c.tc : Thread Cert.GluMmIdeal.nD Cert.GluMmIdeal.τ).loc Cert.GluMmIdeal.main_arg1)
      ∧ r.2.mem ((c.tc : Thread Cert.GluMmIdeal.nD Cert.GluMmIdeal.τ).loc Cert.GluMmIdeal.main_arg2) = m ((c.tc : Thread Cert.GluMmIdeal.nD Cert.GluMmIdeal.τ).loc Cert.GluMmIdeal.main_arg2)
      ∧ r.2.mem ((c.tc : Thread Cert.GluMmIdeal.nD Cert.GluMmIdeal.τ).loc Cert.GluMmIdeal.main_arg3) = m ((c.tc : Thread Cert.GluMmIdeal.nD Cert.GluMmIdeal.τ).loc Cert.GluMmIdeal.main_arg3)
      ∧ r.2.mem ((c.tc : Thread Cert.GluMmIdeal.nD Cert.GluMmIdeal.τ).loc Cert.GluMmIdeal.main_arg4) = m ((c.tc : Thread Cert.GluMmIdeal.nD Cert.GluMmIdeal.τ).loc Cert.GluMmIdeal.main_arg4)
      ∧ r.2.mem ((c.tc : Thread Cert.GluMmIdeal.nD Cert.GluMmIdeal.τ).loc Cert.GluMmIdeal.main_arg5) = m ((c.tc : Thread Cert.GluMmIdeal.nD Cert.GluMmIdeal.τ).loc Cert.GluMmIdeal.main_arg5)
      ∧ r.2.mem ((c.tc : Thread Cert.GluMmIdeal.nD Cert.GluMmIdeal.τ).loc Cert.GluMmIdeal.main_arg6) = m ((c.tc : Thread Cert.GluMmIdeal.nD Cert.GluMmIdeal.τ).loc Cert.GluMmIdeal.main_arg6))
      ∧ r.2.sem = fun _ => 0)

def quiescent_GluMmPlainIdeal [hGluMmPlainIdeal : Cert.GluMmPlainIdeal.Facts] : Prop :=
  ∀ (m : (ℓ : Loc Cert.GluMmPlainIdeal.nD Cert.GluMmPlainIdeal.τ Cert.GluMmPlainIdeal.sig) → Buf (Elt Ideal) ℓ) (g : Dev Cert.GluMmPlainIdeal.nD → PrngReg), Pre_GluMmPlainIdeal m →
    θ_run (Cert.GluMmPlainIdeal.defs (F := Ideal)) (onTc (τ := Cert.GluMmPlainIdeal.τ) (Cert.GluMmPlainIdeal.main (F := Ideal))) ⟨m, fun _ => 0, g⟩ (fun r => (∀ c : Dev Cert.GluMmPlainIdeal.nD,
      r.2.mem ((c.tc : Thread Cert.GluMmPlainIdeal.nD Cert.GluMmPlainIdeal.τ).loc Cert.GluMmPlainIdeal.main_arg0) = m ((c.tc : Thread Cert.GluMmPlainIdeal.nD Cert.GluMmPlainIdeal.τ).loc Cert.GluMmPlainIdeal.main_arg0)
      ∧ r.2.mem ((c.tc : Thread Cert.GluMmPlainIdeal.nD Cert.GluMmPlainIdeal.τ).loc Cert.GluMmPlainIdeal.main_arg1) = m ((c.tc : Thread Cert.GluMmPlainIdeal.nD Cert.GluMmPlainIdeal.τ).loc Cert.GluMmPlainIdeal.main_arg1)
      ∧ r.2.mem ((c.tc : Thread Cert.GluMmPlainIdeal.nD Cert.GluMmPlainIdeal.τ).loc Cert.GluMmPlainIdeal.main_arg2) = m ((c.tc : Thread Cert.GluMmPlainIdeal.nD Cert.GluMmPlainIdeal.τ).loc Cert.GluMmPlainIdeal.main_arg2)
      ∧ r.2.mem ((c.tc : Thread Cert.GluMmPlainIdeal.nD Cert.GluMmPlainIdeal.τ).loc Cert.GluMmPlainIdeal.main_arg3) = m ((c.tc : Thread Cert.GluMmPlainIdeal.nD Cert.GluMmPlainIdeal.τ).loc Cert.GluMmPlainIdeal.main_arg3)
      ∧ r.2.mem ((c.tc : Thread Cert.GluMmPlainIdeal.nD Cert.GluMmPlainIdeal.τ).loc Cert.GluMmPlainIdeal.main_arg4) = m ((c.tc : Thread Cert.GluMmPlainIdeal.nD Cert.GluMmPlainIdeal.τ).loc Cert.GluMmPlainIdeal.main_arg4)
      ∧ r.2.mem ((c.tc : Thread Cert.GluMmPlainIdeal.nD Cert.GluMmPlainIdeal.τ).loc Cert.GluMmPlainIdeal.main_arg5) = m ((c.tc : Thread Cert.GluMmPlainIdeal.nD Cert.GluMmPlainIdeal.τ).loc Cert.GluMmPlainIdeal.main_arg5)
      ∧ r.2.mem ((c.tc : Thread Cert.GluMmPlainIdeal.nD Cert.GluMmPlainIdeal.τ).loc Cert.GluMmPlainIdeal.main_arg6) = m ((c.tc : Thread Cert.GluMmPlainIdeal.nD Cert.GluMmPlainIdeal.τ).loc Cert.GluMmPlainIdeal.main_arg6))
      ∧ r.2.sem = fun _ => 0)

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1)
      ∧ r.2.mem ((c.tc : Thread Cert.SsmOut.nD Cert.SsmOut.τ).loc Cert.SsmOut.main_arg2) = m ((c.tc : Thread Cert.SsmOut.nD Cert.SsmOut.τ).loc Cert.SsmOut.main_arg2)
      ∧ r.2.mem ((c.tc : Thread Cert.SsmOut.nD Cert.SsmOut.τ).loc Cert.SsmOut.main_arg3) = m ((c.tc : Thread Cert.SsmOut.nD Cert.SsmOut.τ).loc Cert.SsmOut.main_arg3)
      ∧ r.2.mem ((c.tc : Thread Cert.SsmOut.nD Cert.SsmOut.τ).loc Cert.SsmOut.main_arg4) = m ((c.tc : Thread Cert.SsmOut.nD Cert.SsmOut.τ).loc Cert.SsmOut.main_arg4)
      ∧ r.2.mem ((c.tc : Thread Cert.SsmOut.nD Cert.SsmOut.τ).loc Cert.SsmOut.main_arg5) = m ((c.tc : Thread Cert.SsmOut.nD Cert.SsmOut.τ).loc Cert.SsmOut.main_arg5))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
      ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2)
      ∧ r.2.mem ((c.tc : Thread Cert.SsmOutIdeal.nD Cert.SsmOutIdeal.τ).loc Cert.SsmOutIdeal.main_arg3) = m ((c.tc : Thread Cert.SsmOutIdeal.nD Cert.SsmOutIdeal.τ).loc Cert.SsmOutIdeal.main_arg3)
      ∧ r.2.mem ((c.tc : Thread Cert.SsmOutIdeal.nD Cert.SsmOutIdeal.τ).loc Cert.SsmOutIdeal.main_arg4) = m ((c.tc : Thread Cert.SsmOutIdeal.nD Cert.SsmOutIdeal.τ).loc Cert.SsmOutIdeal.main_arg4)
      ∧ r.2.mem ((c.tc : Thread Cert.SsmOutIdeal.nD Cert.SsmOutIdeal.τ).loc Cert.SsmOutIdeal.main_arg5) = m ((c.tc : Thread Cert.SsmOutIdeal.nD Cert.SsmOutIdeal.τ).loc Cert.SsmOutIdeal.main_arg5))
      ∧ r.2.sem = fun _ => 0)

def quiescent_SsmOutPlainIdeal [hSsmOutPlainIdeal : Cert.SsmOutPlainIdeal.Facts] : Prop :=
  ∀ (m : (ℓ : Loc Cert.SsmOutPlainIdeal.nD Cert.SsmOutPlainIdeal.τ Cert.SsmOutPlainIdeal.sig) → Buf (Elt Ideal) ℓ) (g : Dev Cert.SsmOutPlainIdeal.nD → PrngReg), Pre_SsmOutPlainIdeal m →
    θ_run (Cert.SsmOutPlainIdeal.defs (F := Ideal)) (onTc (τ := Cert.SsmOutPlainIdeal.τ) (Cert.SsmOutPlainIdeal.main (F := Ideal))) ⟨m, fun _ => 0, g⟩ (fun r => (∀ c : Dev Cert.SsmOutPlainIdeal.nD,
      r.2.mem ((c.tc : Thread Cert.SsmOutPlainIdeal.nD Cert.SsmOutPlainIdeal.τ).loc Cert.SsmOutPlainIdeal.main_arg0) = m ((c.tc : Thread Cert.SsmOutPlainIdeal.nD Cert.SsmOutPlainIdeal.τ).loc Cert.SsmOutPlainIdeal.main_arg0)
      ∧ r.2.mem ((c.tc : Thread Cert.SsmOutPlainIdeal.nD Cert.SsmOutPlainIdeal.τ).loc Cert.SsmOutPlainIdeal.main_arg1) = m ((c.tc : Thread Cert.SsmOutPlainIdeal.nD Cert.SsmOutPlainIdeal.τ).loc Cert.SsmOutPlainIdeal.main_arg1)
      ∧ r.2.mem ((c.tc : Thread Cert.SsmOutPlainIdeal.nD Cert.SsmOutPlainIdeal.τ).loc Cert.SsmOutPlainIdeal.main_arg2) = m ((c.tc : Thread Cert.SsmOutPlainIdeal.nD Cert.SsmOutPlainIdeal.τ).loc Cert.SsmOutPlainIdeal.main_arg2)
      ∧ r.2.mem ((c.tc : Thread Cert.SsmOutPlainIdeal.nD Cert.SsmOutPlainIdeal.τ).loc Cert.SsmOutPlainIdeal.main_arg3) = m ((c.tc : Thread Cert.SsmOutPlainIdeal.nD Cert.SsmOutPlainIdeal.τ).loc Cert.SsmOutPlainIdeal.main_arg3)
      ∧ r.2.mem ((c.tc : Thread Cert.SsmOutPlainIdeal.nD Cert.SsmOutPlainIdeal.τ).loc Cert.SsmOutPlainIdeal.main_arg4) = m ((c.tc : Thread Cert.SsmOutPlainIdeal.nD Cert.SsmOutPlainIdeal.τ).loc Cert.SsmOutPlainIdeal.main_arg4)
      ∧ r.2.mem ((c.tc : Thread Cert.SsmOutPlainIdeal.nD Cert.SsmOutPlainIdeal.τ).loc Cert.SsmOutPlainIdeal.main_arg5) = m ((c.tc : Thread Cert.SsmOutPlainIdeal.nD Cert.SsmOutPlainIdeal.τ).loc Cert.SsmOutPlainIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_SsmOutDgrad_SsmOutDgradIdeal : Prop :=
  True

def algebraic_SsmOutDgradIdeal_SsmOutDgradPlainIdeal [hSsmOutDgradIdeal : Cert.SsmOutDgradIdeal.Facts] [hSsmOutDgradPlainIdeal : Cert.SsmOutDgradPlainIdeal.Facts] : Prop :=
  ∀ (m : (ℓ : Loc Cert.SsmOutDgradIdeal.nD Cert.SsmOutDgradIdeal.τ Cert.SsmOutDgradIdeal.sig) → Buf (Elt Ideal) ℓ) (g : Dev Cert.SsmOutDgradIdeal.nD → PrngReg)
    (m' : (ℓ : Loc Cert.SsmOutDgradPlainIdeal.nD Cert.SsmOutDgradPlainIdeal.τ Cert.SsmOutDgradPlainIdeal.sig) → Buf (Elt Ideal) ℓ) (g' : Dev Cert.SsmOutDgradPlainIdeal.nD → PrngReg), Pre_SsmOutDgradIdeal m →
    (∀ c : Dev Cert.SsmOutDgradIdeal.nD,
      m' ((c.tc : Thread Cert.SsmOutDgradPlainIdeal.nD Cert.SsmOutDgradPlainIdeal.τ).loc Cert.SsmOutDgradPlainIdeal.main_arg0) = m ((c.tc : Thread Cert.SsmOutDgradIdeal.nD Cert.SsmOutDgradIdeal.τ).loc Cert.SsmOutDgradIdeal.main_arg0)
      ∧ m' ((c.tc : Thread Cert.SsmOutDgradPlainIdeal.nD Cert.SsmOutDgradPlainIdeal.τ).loc Cert.SsmOutDgradPlainIdeal.main_arg1) = m ((c.tc : Thread Cert.SsmOutDgradIdeal.nD Cert.SsmOutDgradIdeal.τ).loc Cert.SsmOutDgradIdeal.main_arg1)
      ∧ m' ((c.tc : Thread Cert.SsmOutDgradPlainIdeal.nD Cert.SsmOutDgradPlainIdeal.τ).loc Cert.SsmOutDgradPlainIdeal.main_arg2) = m ((c.tc : Thread Cert.SsmOutDgradIdeal.nD Cert.SsmOutDgradIdeal.τ).loc Cert.SsmOutDgradIdeal.main_arg2)
      ∧ m' ((c.tc : Thread Cert.SsmOutDgradPlainIdeal.nD Cert.SsmOutDgradPlainIdeal.τ).loc Cert.SsmOutDgradPlainIdeal.main_arg3) = m ((c.tc : Thread Cert.SsmOutDgradIdeal.nD Cert.SsmOutDgradIdeal.τ).loc Cert.SsmOutDgradIdeal.main_arg3)
      ∧ m' ((c.tc : Thread Cert.SsmOutDgradPlainIdeal.nD Cert.SsmOutDgradPlainIdeal.τ).loc Cert.SsmOutDgradPlainIdeal.main_arg4) = m ((c.tc : Thread Cert.SsmOutDgradIdeal.nD Cert.SsmOutDgradIdeal.τ).loc Cert.SsmOutDgradIdeal.main_arg4)
      ∧ m' ((c.tc : Thread Cert.SsmOutDgradPlainIdeal.nD Cert.SsmOutDgradPlainIdeal.τ).loc Cert.SsmOutDgradPlainIdeal.main_arg5) = m ((c.tc : Thread Cert.SsmOutDgradIdeal.nD Cert.SsmOutDgradIdeal.τ).loc Cert.SsmOutDgradIdeal.main_arg5)) →
    ∃ (v0 : (c : Dev Cert.SsmOutDgradIdeal.nD) → Buf (Elt Ideal) ((c.tc : Thread Cert.SsmOutDgradIdeal.nD Cert.SsmOutDgradIdeal.τ).loc Cert.SsmOutDgradIdeal.main_v8)),
      θ_run (Cert.SsmOutDgradIdeal.defs (F := Ideal)) (onTc (τ := Cert.SsmOutDgradIdeal.τ) (Cert.SsmOutDgradIdeal.main (F := Ideal))) ⟨m, fun _ => 0, g⟩ (fun r => ∀ c : Dev Cert.SsmOutDgradIdeal.nD,
          r.2.mem ((c.tc : Thread Cert.SsmOutDgradIdeal.nD Cert.SsmOutDgradIdeal.τ).loc Cert.SsmOutDgradIdeal.main_v8) = v0 c
          ∧ r.2.mem ((c.tc : Thread Cert.SsmOutDgradIdeal.nD Cert.SsmOutDgradIdeal.τ).loc Cert.SsmOutDgradIdeal.main_arg0) = m ((c.tc : Thread Cert.SsmOutDgradIdeal.nD Cert.SsmOutDgradIdeal.τ).loc Cert.SsmOutDgradIdeal.main_arg0)
          ∧ r.2.mem ((c.tc : Thread Cert.SsmOutDgradIdeal.nD Cert.SsmOutDgradIdeal.τ).loc Cert.SsmOutDgradIdeal.main_arg1) = m ((c.tc : Thread Cert.SsmOutDgradIdeal.nD Cert.SsmOutDgradIdeal.τ).loc Cert.SsmOutDgradIdeal.main_arg1)
          ∧ r.2.mem ((c.tc : Thread Cert.SsmOutDgradIdeal.nD Cert.SsmOutDgradIdeal.τ).loc Cert.SsmOutDgradIdeal.main_arg2) = m ((c.tc : Thread Cert.SsmOutDgradIdeal.nD Cert.SsmOutDgradIdeal.τ).loc Cert.SsmOutDgradIdeal.main_arg2)
          ∧ r.2.mem ((c.tc : Thread Cert.SsmOutDgradIdeal.nD Cert.SsmOutDgradIdeal.τ).loc Cert.SsmOutDgradIdeal.main_arg3) = m ((c.tc : Thread Cert.SsmOutDgradIdeal.nD Cert.SsmOutDgradIdeal.τ).loc Cert.SsmOutDgradIdeal.main_arg3)
          ∧ r.2.mem ((c.tc : Thread Cert.SsmOutDgradIdeal.nD Cert.SsmOutDgradIdeal.τ).loc Cert.SsmOutDgradIdeal.main_arg4) = m ((c.tc : Thread Cert.SsmOutDgradIdeal.nD Cert.SsmOutDgradIdeal.τ).loc Cert.SsmOutDgradIdeal.main_arg4)
          ∧ r.2.mem ((c.tc : Thread Cert.SsmOutDgradIdeal.nD Cert.SsmOutDgradIdeal.τ).loc Cert.SsmOutDgradIdeal.main_arg5) = m ((c.tc : Thread Cert.SsmOutDgradIdeal.nD Cert.SsmOutDgradIdeal.τ).loc Cert.SsmOutDgradIdeal.main_arg5))
      ∧ θ_run (Cert.SsmOutDgradPlainIdeal.defs (F := Ideal)) (onTc (τ := Cert.SsmOutDgradPlainIdeal.τ) (Cert.SsmOutDgradPlainIdeal.main (F := Ideal))) ⟨m', fun _ => 0, g'⟩ (fun r => ∀ c : Dev Cert.SsmOutDgradPlainIdeal.nD,
          r.2.mem ((c.tc : Thread Cert.SsmOutDgradPlainIdeal.nD Cert.SsmOutDgradPlainIdeal.τ).loc Cert.SsmOutDgradPlainIdeal.main_v2) = v0 c
          ∧ r.2.mem ((c.tc : Thread Cert.SsmOutDgradPlainIdeal.nD Cert.SsmOutDgradPlainIdeal.τ).loc Cert.SsmOutDgradPlainIdeal.main_arg0) = m' ((c.tc : Thread Cert.SsmOutDgradPlainIdeal.nD Cert.SsmOutDgradPlainIdeal.τ).loc Cert.SsmOutDgradPlainIdeal.main_arg0)
          ∧ r.2.mem ((c.tc : Thread Cert.SsmOutDgradPlainIdeal.nD Cert.SsmOutDgradPlainIdeal.τ).loc Cert.SsmOutDgradPlainIdeal.main_arg1) = m' ((c.tc : Thread Cert.SsmOutDgradPlainIdeal.nD Cert.SsmOutDgradPlainIdeal.τ).loc Cert.SsmOutDgradPlainIdeal.main_arg1)
          ∧ r.2.mem ((c.tc : Thread Cert.SsmOutDgradPlainIdeal.nD Cert.SsmOutDgradPlainIdeal.τ).loc Cert.SsmOutDgradPlainIdeal.main_arg2) = m' ((c.tc : Thread Cert.SsmOutDgradPlainIdeal.nD Cert.SsmOutDgradPlainIdeal.τ).loc Cert.SsmOutDgradPlainIdeal.main_arg2)
          ∧ r.2.mem ((c.tc : Thread Cert.SsmOutDgradPlainIdeal.nD Cert.SsmOutDgradPlainIdeal.τ).loc Cert.SsmOutDgradPlainIdeal.main_arg3) = m' ((c.tc : Thread Cert.SsmOutDgradPlainIdeal.nD Cert.SsmOutDgradPlainIdeal.τ).loc Cert.SsmOutDgradPlainIdeal.main_arg3)
          ∧ r.2.mem ((c.tc : Thread Cert.SsmOutDgradPlainIdeal.nD Cert.SsmOutDgradPlainIdeal.τ).loc Cert.SsmOutDgradPlainIdeal.main_arg4) = m' ((c.tc : Thread Cert.SsmOutDgradPlainIdeal.nD Cert.SsmOutDgradPlainIdeal.τ).loc Cert.SsmOutDgradPlainIdeal.main_arg4)
          ∧ r.2.mem ((c.tc : Thread Cert.SsmOutDgradPlainIdeal.nD Cert.SsmOutDgradPlainIdeal.τ).loc Cert.SsmOutDgradPlainIdeal.main_arg5) = m' ((c.tc : Thread Cert.SsmOutDgradPlainIdeal.nD Cert.SsmOutDgradPlainIdeal.τ).loc Cert.SsmOutDgradPlainIdeal.main_arg5))

def preserves_AttnOutDgrad_AttnOutDgradIdeal : Prop :=
  True

def algebraic_AttnOutDgradIdeal_AttnOutDgradPlainIdeal_pre_finite_gate [hAttnOutDgradIdeal : Cert.AttnOutDgradIdeal.Facts] [hAttnOutDgradPlainIdeal : Cert.AttnOutDgradPlainIdeal.Facts] [hPre_finite_gate : Cert.Pre_finite_gate.Facts] : Prop :=
  ∀ (m : (ℓ : Loc Cert.AttnOutDgradIdeal.nD Cert.AttnOutDgradIdeal.τ Cert.AttnOutDgradIdeal.sig) → Buf (Elt Ideal) ℓ) (g : Dev Cert.AttnOutDgradIdeal.nD → PrngReg)
    (m' : (ℓ : Loc Cert.AttnOutDgradPlainIdeal.nD Cert.AttnOutDgradPlainIdeal.τ Cert.AttnOutDgradPlainIdeal.sig) → Buf (Elt Ideal) ℓ) (g' : Dev Cert.AttnOutDgradPlainIdeal.nD → PrngReg), Pre_AttnOutDgradIdeal_finite_gate m →
    (∀ c : Dev Cert.AttnOutDgradIdeal.nD,
      m' ((c.tc : Thread Cert.AttnOutDgradPlainIdeal.nD Cert.AttnOutDgradPlainIdeal.τ).loc Cert.AttnOutDgradPlainIdeal.main_arg0) = m ((c.tc : Thread Cert.AttnOutDgradIdeal.nD Cert.AttnOutDgradIdeal.τ).loc Cert.AttnOutDgradIdeal.main_arg0)
      ∧ m' ((c.tc : Thread Cert.AttnOutDgradPlainIdeal.nD Cert.AttnOutDgradPlainIdeal.τ).loc Cert.AttnOutDgradPlainIdeal.main_arg1) = m ((c.tc : Thread Cert.AttnOutDgradIdeal.nD Cert.AttnOutDgradIdeal.τ).loc Cert.AttnOutDgradIdeal.main_arg1)
      ∧ m' ((c.tc : Thread Cert.AttnOutDgradPlainIdeal.nD Cert.AttnOutDgradPlainIdeal.τ).loc Cert.AttnOutDgradPlainIdeal.main_arg2) = m ((c.tc : Thread Cert.AttnOutDgradIdeal.nD Cert.AttnOutDgradIdeal.τ).loc Cert.AttnOutDgradIdeal.main_arg2)
      ∧ m' ((c.tc : Thread Cert.AttnOutDgradPlainIdeal.nD Cert.AttnOutDgradPlainIdeal.τ).loc Cert.AttnOutDgradPlainIdeal.main_arg3) = m ((c.tc : Thread Cert.AttnOutDgradIdeal.nD Cert.AttnOutDgradIdeal.τ).loc Cert.AttnOutDgradIdeal.main_arg3)
      ∧ m' ((c.tc : Thread Cert.AttnOutDgradPlainIdeal.nD Cert.AttnOutDgradPlainIdeal.τ).loc Cert.AttnOutDgradPlainIdeal.main_arg4) = m ((c.tc : Thread Cert.AttnOutDgradIdeal.nD Cert.AttnOutDgradIdeal.τ).loc Cert.AttnOutDgradIdeal.main_arg4)
      ∧ m' ((c.tc : Thread Cert.AttnOutDgradPlainIdeal.nD Cert.AttnOutDgradPlainIdeal.τ).loc Cert.AttnOutDgradPlainIdeal.main_arg5) = m ((c.tc : Thread Cert.AttnOutDgradIdeal.nD Cert.AttnOutDgradIdeal.τ).loc Cert.AttnOutDgradIdeal.main_arg5)
      ∧ m' ((c.tc : Thread Cert.AttnOutDgradPlainIdeal.nD Cert.AttnOutDgradPlainIdeal.τ).loc Cert.AttnOutDgradPlainIdeal.main_arg6) = m ((c.tc : Thread Cert.AttnOutDgradIdeal.nD Cert.AttnOutDgradIdeal.τ).loc Cert.AttnOutDgradIdeal.main_arg6)) →
    ∃ (v0 : (c : Dev Cert.AttnOutDgradIdeal.nD) → Buf (Elt Ideal) ((c.tc : Thread Cert.AttnOutDgradIdeal.nD Cert.AttnOutDgradIdeal.τ).loc Cert.AttnOutDgradIdeal.main_v8_0)) (v1 : (c : Dev Cert.AttnOutDgradIdeal.nD) → Buf (Elt Ideal) ((c.tc : Thread Cert.AttnOutDgradIdeal.nD Cert.AttnOutDgradIdeal.τ).loc Cert.AttnOutDgradIdeal.main_v8_1)),
      θ_run (Cert.AttnOutDgradIdeal.defs (F := Ideal)) (onTc (τ := Cert.AttnOutDgradIdeal.τ) (Cert.AttnOutDgradIdeal.main (F := Ideal))) ⟨m, fun _ => 0, g⟩ (fun r => ∀ c : Dev Cert.AttnOutDgradIdeal.nD,
          r.2.mem ((c.tc : Thread Cert.AttnOutDgradIdeal.nD Cert.AttnOutDgradIdeal.τ).loc Cert.AttnOutDgradIdeal.main_v8_0) = v0 c
          ∧ r.2.mem ((c.tc : Thread Cert.AttnOutDgradIdeal.nD Cert.AttnOutDgradIdeal.τ).loc Cert.AttnOutDgradIdeal.main_v8_1) = v1 c
          ∧ r.2.mem ((c.tc : Thread Cert.AttnOutDgradIdeal.nD Cert.AttnOutDgradIdeal.τ).loc Cert.AttnOutDgradIdeal.main_arg0) = m ((c.tc : Thread Cert.AttnOutDgradIdeal.nD Cert.AttnOutDgradIdeal.τ).loc Cert.AttnOutDgradIdeal.main_arg0)
          ∧ r.2.mem ((c.tc : Thread Cert.AttnOutDgradIdeal.nD Cert.AttnOutDgradIdeal.τ).loc Cert.AttnOutDgradIdeal.main_arg1) = m ((c.tc : Thread Cert.AttnOutDgradIdeal.nD Cert.AttnOutDgradIdeal.τ).loc Cert.AttnOutDgradIdeal.main_arg1)
          ∧ r.2.mem ((c.tc : Thread Cert.AttnOutDgradIdeal.nD Cert.AttnOutDgradIdeal.τ).loc Cert.AttnOutDgradIdeal.main_arg2) = m ((c.tc : Thread Cert.AttnOutDgradIdeal.nD Cert.AttnOutDgradIdeal.τ).loc Cert.AttnOutDgradIdeal.main_arg2)
          ∧ r.2.mem ((c.tc : Thread Cert.AttnOutDgradIdeal.nD Cert.AttnOutDgradIdeal.τ).loc Cert.AttnOutDgradIdeal.main_arg3) = m ((c.tc : Thread Cert.AttnOutDgradIdeal.nD Cert.AttnOutDgradIdeal.τ).loc Cert.AttnOutDgradIdeal.main_arg3)
          ∧ r.2.mem ((c.tc : Thread Cert.AttnOutDgradIdeal.nD Cert.AttnOutDgradIdeal.τ).loc Cert.AttnOutDgradIdeal.main_arg4) = m ((c.tc : Thread Cert.AttnOutDgradIdeal.nD Cert.AttnOutDgradIdeal.τ).loc Cert.AttnOutDgradIdeal.main_arg4)
          ∧ r.2.mem ((c.tc : Thread Cert.AttnOutDgradIdeal.nD Cert.AttnOutDgradIdeal.τ).loc Cert.AttnOutDgradIdeal.main_arg5) = m ((c.tc : Thread Cert.AttnOutDgradIdeal.nD Cert.AttnOutDgradIdeal.τ).loc Cert.AttnOutDgradIdeal.main_arg5)
          ∧ r.2.mem ((c.tc : Thread Cert.AttnOutDgradIdeal.nD Cert.AttnOutDgradIdeal.τ).loc Cert.AttnOutDgradIdeal.main_arg6) = m ((c.tc : Thread Cert.AttnOutDgradIdeal.nD Cert.AttnOutDgradIdeal.τ).loc Cert.AttnOutDgradIdeal.main_arg6))
      ∧ θ_run (Cert.AttnOutDgradPlainIdeal.defs (F := Ideal)) (onTc (τ := Cert.AttnOutDgradPlainIdeal.τ) (Cert.AttnOutDgradPlainIdeal.main (F := Ideal))) ⟨m', fun _ => 0, g'⟩ (fun r => ∀ c : Dev Cert.AttnOutDgradPlainIdeal.nD,
          r.2.mem ((c.tc : Thread Cert.AttnOutDgradPlainIdeal.nD Cert.AttnOutDgradPlainIdeal.τ).loc Cert.AttnOutDgradPlainIdeal.main_v8) = v0 c
          ∧ r.2.mem ((c.tc : Thread Cert.AttnOutDgradPlainIdeal.nD Cert.AttnOutDgradPlainIdeal.τ).loc Cert.AttnOutDgradPlainIdeal.main_v9) = v1 c
          ∧ r.2.mem ((c.tc : Thread Cert.AttnOutDgradPlainIdeal.nD Cert.AttnOutDgradPlainIdeal.τ).loc Cert.AttnOutDgradPlainIdeal.main_arg0) = m' ((c.tc : Thread Cert.AttnOutDgradPlainIdeal.nD Cert.AttnOutDgradPlainIdeal.τ).loc Cert.AttnOutDgradPlainIdeal.main_arg0)
          ∧ r.2.mem ((c.tc : Thread Cert.AttnOutDgradPlainIdeal.nD Cert.AttnOutDgradPlainIdeal.τ).loc Cert.AttnOutDgradPlainIdeal.main_arg1) = m' ((c.tc : Thread Cert.AttnOutDgradPlainIdeal.nD Cert.AttnOutDgradPlainIdeal.τ).loc Cert.AttnOutDgradPlainIdeal.main_arg1)
          ∧ r.2.mem ((c.tc : Thread Cert.AttnOutDgradPlainIdeal.nD Cert.AttnOutDgradPlainIdeal.τ).loc Cert.AttnOutDgradPlainIdeal.main_arg2) = m' ((c.tc : Thread Cert.AttnOutDgradPlainIdeal.nD Cert.AttnOutDgradPlainIdeal.τ).loc Cert.AttnOutDgradPlainIdeal.main_arg2)
          ∧ r.2.mem ((c.tc : Thread Cert.AttnOutDgradPlainIdeal.nD Cert.AttnOutDgradPlainIdeal.τ).loc Cert.AttnOutDgradPlainIdeal.main_arg3) = m' ((c.tc : Thread Cert.AttnOutDgradPlainIdeal.nD Cert.AttnOutDgradPlainIdeal.τ).loc Cert.AttnOutDgradPlainIdeal.main_arg3)
          ∧ r.2.mem ((c.tc : Thread Cert.AttnOutDgradPlainIdeal.nD Cert.AttnOutDgradPlainIdeal.τ).loc Cert.AttnOutDgradPlainIdeal.main_arg4) = m' ((c.tc : Thread Cert.AttnOutDgradPlainIdeal.nD Cert.AttnOutDgradPlainIdeal.τ).loc Cert.AttnOutDgradPlainIdeal.main_arg4)
          ∧ r.2.mem ((c.tc : Thread Cert.AttnOutDgradPlainIdeal.nD Cert.AttnOutDgradPlainIdeal.τ).loc Cert.AttnOutDgradPlainIdeal.main_arg5) = m' ((c.tc : Thread Cert.AttnOutDgradPlainIdeal.nD Cert.AttnOutDgradPlainIdeal.τ).loc Cert.AttnOutDgradPlainIdeal.main_arg5)
          ∧ r.2.mem ((c.tc : Thread Cert.AttnOutDgradPlainIdeal.nD Cert.AttnOutDgradPlainIdeal.τ).loc Cert.AttnOutDgradPlainIdeal.main_arg6) = m' ((c.tc : Thread Cert.AttnOutDgradPlainIdeal.nD Cert.AttnOutDgradPlainIdeal.τ).loc Cert.AttnOutDgradPlainIdeal.main_arg6))

def preserves_GluDgrad_GluDgradIdeal : Prop :=
  IdealRules.named_const.Statement Cert.GluDgradIdeal.κ "cubic" .f32 0x3D372713#32 ((8943 / 200000 : ℝ) : EReal)
  ∧ IdealRules.named_const.Statement Cert.GluDgradIdeal.κ "three_cubic" .f32 0x3E095D4F#32 ((26829 / 200000 : ℝ) : EReal)

def algebraic_GluDgradIdeal_GluDgradPlainIdeal_pre_finite_glu [hGluDgradIdeal : Cert.GluDgradIdeal.Facts] [hGluDgradPlainIdeal : Cert.GluDgradPlainIdeal.Facts] [hPre_finite_glu : Cert.Pre_finite_glu.Facts] : Prop :=
  ∀ (m : (ℓ : Loc Cert.GluDgradIdeal.nD Cert.GluDgradIdeal.τ Cert.GluDgradIdeal.sig) → Buf (Elt Ideal) ℓ) (g : Dev Cert.GluDgradIdeal.nD → PrngReg)
    (m' : (ℓ : Loc Cert.GluDgradPlainIdeal.nD Cert.GluDgradPlainIdeal.τ Cert.GluDgradPlainIdeal.sig) → Buf (Elt Ideal) ℓ) (g' : Dev Cert.GluDgradPlainIdeal.nD → PrngReg), Pre_GluDgradIdeal_finite_glu m →
    (∀ c : Dev Cert.GluDgradIdeal.nD,
      m' ((c.tc : Thread Cert.GluDgradPlainIdeal.nD Cert.GluDgradPlainIdeal.τ).loc Cert.GluDgradPlainIdeal.main_arg0) = m ((c.tc : Thread Cert.GluDgradIdeal.nD Cert.GluDgradIdeal.τ).loc Cert.GluDgradIdeal.main_arg0)
      ∧ m' ((c.tc : Thread Cert.GluDgradPlainIdeal.nD Cert.GluDgradPlainIdeal.τ).loc Cert.GluDgradPlainIdeal.main_arg1) = m ((c.tc : Thread Cert.GluDgradIdeal.nD Cert.GluDgradIdeal.τ).loc Cert.GluDgradIdeal.main_arg1)
      ∧ m' ((c.tc : Thread Cert.GluDgradPlainIdeal.nD Cert.GluDgradPlainIdeal.τ).loc Cert.GluDgradPlainIdeal.main_arg2) = m ((c.tc : Thread Cert.GluDgradIdeal.nD Cert.GluDgradIdeal.τ).loc Cert.GluDgradIdeal.main_arg2)
      ∧ m' ((c.tc : Thread Cert.GluDgradPlainIdeal.nD Cert.GluDgradPlainIdeal.τ).loc Cert.GluDgradPlainIdeal.main_arg3) = m ((c.tc : Thread Cert.GluDgradIdeal.nD Cert.GluDgradIdeal.τ).loc Cert.GluDgradIdeal.main_arg3)
      ∧ m' ((c.tc : Thread Cert.GluDgradPlainIdeal.nD Cert.GluDgradPlainIdeal.τ).loc Cert.GluDgradPlainIdeal.main_arg4) = m ((c.tc : Thread Cert.GluDgradIdeal.nD Cert.GluDgradIdeal.τ).loc Cert.GluDgradIdeal.main_arg4)
      ∧ m' ((c.tc : Thread Cert.GluDgradPlainIdeal.nD Cert.GluDgradPlainIdeal.τ).loc Cert.GluDgradPlainIdeal.main_arg5) = m ((c.tc : Thread Cert.GluDgradIdeal.nD Cert.GluDgradIdeal.τ).loc Cert.GluDgradIdeal.main_arg5)
      ∧ m' ((c.tc : Thread Cert.GluDgradPlainIdeal.nD Cert.GluDgradPlainIdeal.τ).loc Cert.GluDgradPlainIdeal.main_arg6) = m ((c.tc : Thread Cert.GluDgradIdeal.nD Cert.GluDgradIdeal.τ).loc Cert.GluDgradIdeal.main_arg6)) →
    ∃ (v0 : (c : Dev Cert.GluDgradIdeal.nD) → Buf (Elt Ideal) ((c.tc : Thread Cert.GluDgradIdeal.nD Cert.GluDgradIdeal.τ).loc Cert.GluDgradIdeal.main_v8)),
      θ_run (Cert.GluDgradIdeal.defs (F := Ideal)) (onTc (τ := Cert.GluDgradIdeal.τ) (Cert.GluDgradIdeal.main (F := Ideal))) ⟨m, fun _ => 0, g⟩ (fun r => ∀ c : Dev Cert.GluDgradIdeal.nD,
          r.2.mem ((c.tc : Thread Cert.GluDgradIdeal.nD Cert.GluDgradIdeal.τ).loc Cert.GluDgradIdeal.main_v8) = v0 c
          ∧ r.2.mem ((c.tc : Thread Cert.GluDgradIdeal.nD Cert.GluDgradIdeal.τ).loc Cert.GluDgradIdeal.main_arg0) = m ((c.tc : Thread Cert.GluDgradIdeal.nD Cert.GluDgradIdeal.τ).loc Cert.GluDgradIdeal.main_arg0)
          ∧ r.2.mem ((c.tc : Thread Cert.GluDgradIdeal.nD Cert.GluDgradIdeal.τ).loc Cert.GluDgradIdeal.main_arg1) = m ((c.tc : Thread Cert.GluDgradIdeal.nD Cert.GluDgradIdeal.τ).loc Cert.GluDgradIdeal.main_arg1)
          ∧ r.2.mem ((c.tc : Thread Cert.GluDgradIdeal.nD Cert.GluDgradIdeal.τ).loc Cert.GluDgradIdeal.main_arg2) = m ((c.tc : Thread Cert.GluDgradIdeal.nD Cert.GluDgradIdeal.τ).loc Cert.GluDgradIdeal.main_arg2)
          ∧ r.2.mem ((c.tc : Thread Cert.GluDgradIdeal.nD Cert.GluDgradIdeal.τ).loc Cert.GluDgradIdeal.main_arg3) = m ((c.tc : Thread Cert.GluDgradIdeal.nD Cert.GluDgradIdeal.τ).loc Cert.GluDgradIdeal.main_arg3)
          ∧ r.2.mem ((c.tc : Thread Cert.GluDgradIdeal.nD Cert.GluDgradIdeal.τ).loc Cert.GluDgradIdeal.main_arg4) = m ((c.tc : Thread Cert.GluDgradIdeal.nD Cert.GluDgradIdeal.τ).loc Cert.GluDgradIdeal.main_arg4)
          ∧ r.2.mem ((c.tc : Thread Cert.GluDgradIdeal.nD Cert.GluDgradIdeal.τ).loc Cert.GluDgradIdeal.main_arg5) = m ((c.tc : Thread Cert.GluDgradIdeal.nD Cert.GluDgradIdeal.τ).loc Cert.GluDgradIdeal.main_arg5)
          ∧ r.2.mem ((c.tc : Thread Cert.GluDgradIdeal.nD Cert.GluDgradIdeal.τ).loc Cert.GluDgradIdeal.main_arg6) = m ((c.tc : Thread Cert.GluDgradIdeal.nD Cert.GluDgradIdeal.τ).loc Cert.GluDgradIdeal.main_arg6))
      ∧ θ_run (Cert.GluDgradPlainIdeal.defs (F := Ideal)) (onTc (τ := Cert.GluDgradPlainIdeal.τ) (Cert.GluDgradPlainIdeal.main (F := Ideal))) ⟨m', fun _ => 0, g'⟩ (fun r => ∀ c : Dev Cert.GluDgradPlainIdeal.nD,
          r.2.mem ((c.tc : Thread Cert.GluDgradPlainIdeal.nD Cert.GluDgradPlainIdeal.τ).loc Cert.GluDgradPlainIdeal.main_v40) = v0 c
          ∧ r.2.mem ((c.tc : Thread Cert.GluDgradPlainIdeal.nD Cert.GluDgradPlainIdeal.τ).loc Cert.GluDgradPlainIdeal.main_arg0) = m' ((c.tc : Thread Cert.GluDgradPlainIdeal.nD Cert.GluDgradPlainIdeal.τ).loc Cert.GluDgradPlainIdeal.main_arg0)
          ∧ r.2.mem ((c.tc : Thread Cert.GluDgradPlainIdeal.nD Cert.GluDgradPlainIdeal.τ).loc Cert.GluDgradPlainIdeal.main_arg1) = m' ((c.tc : Thread Cert.GluDgradPlainIdeal.nD Cert.GluDgradPlainIdeal.τ).loc Cert.GluDgradPlainIdeal.main_arg1)
          ∧ r.2.mem ((c.tc : Thread Cert.GluDgradPlainIdeal.nD Cert.GluDgradPlainIdeal.τ).loc Cert.GluDgradPlainIdeal.main_arg2) = m' ((c.tc : Thread Cert.GluDgradPlainIdeal.nD Cert.GluDgradPlainIdeal.τ).loc Cert.GluDgradPlainIdeal.main_arg2)
          ∧ r.2.mem ((c.tc : Thread Cert.GluDgradPlainIdeal.nD Cert.GluDgradPlainIdeal.τ).loc Cert.GluDgradPlainIdeal.main_arg3) = m' ((c.tc : Thread Cert.GluDgradPlainIdeal.nD Cert.GluDgradPlainIdeal.τ).loc Cert.GluDgradPlainIdeal.main_arg3)
          ∧ r.2.mem ((c.tc : Thread Cert.GluDgradPlainIdeal.nD Cert.GluDgradPlainIdeal.τ).loc Cert.GluDgradPlainIdeal.main_arg4) = m' ((c.tc : Thread Cert.GluDgradPlainIdeal.nD Cert.GluDgradPlainIdeal.τ).loc Cert.GluDgradPlainIdeal.main_arg4)
          ∧ r.2.mem ((c.tc : Thread Cert.GluDgradPlainIdeal.nD Cert.GluDgradPlainIdeal.τ).loc Cert.GluDgradPlainIdeal.main_arg5) = m' ((c.tc : Thread Cert.GluDgradPlainIdeal.nD Cert.GluDgradPlainIdeal.τ).loc Cert.GluDgradPlainIdeal.main_arg5)
          ∧ r.2.mem ((c.tc : Thread Cert.GluDgradPlainIdeal.nD Cert.GluDgradPlainIdeal.τ).loc Cert.GluDgradPlainIdeal.main_arg6) = m' ((c.tc : Thread Cert.GluDgradPlainIdeal.nD Cert.GluDgradPlainIdeal.τ).loc Cert.GluDgradPlainIdeal.main_arg6))

def preserves_SsmInDgradU_SsmInDgradUIdeal : Prop :=
  True

def algebraic_SsmInDgradUIdeal_SsmInDgradUPlainIdeal [hSsmInDgradUIdeal : Cert.SsmInDgradUIdeal.Facts] [hSsmInDgradUPlainIdeal : Cert.SsmInDgradUPlainIdeal.Facts] : Prop :=
  ∀ (m : (ℓ : Loc Cert.SsmInDgradUIdeal.nD Cert.SsmInDgradUIdeal.τ Cert.SsmInDgradUIdeal.sig) → Buf (Elt Ideal) ℓ) (g : Dev Cert.SsmInDgradUIdeal.nD → PrngReg)
    (m' : (ℓ : Loc Cert.SsmInDgradUPlainIdeal.nD Cert.SsmInDgradUPlainIdeal.τ Cert.SsmInDgradUPlainIdeal.sig) → Buf (Elt Ideal) ℓ) (g' : Dev Cert.SsmInDgradUPlainIdeal.nD → PrngReg), Pre_SsmInDgradUIdeal m →
    (∀ c : Dev Cert.SsmInDgradUIdeal.nD,
      m' ((c.tc : Thread Cert.SsmInDgradUPlainIdeal.nD Cert.SsmInDgradUPlainIdeal.τ).loc Cert.SsmInDgradUPlainIdeal.main_arg0) = m ((c.tc : Thread Cert.SsmInDgradUIdeal.nD Cert.SsmInDgradUIdeal.τ).loc Cert.SsmInDgradUIdeal.main_arg0)
      ∧ m' ((c.tc : Thread Cert.SsmInDgradUPlainIdeal.nD Cert.SsmInDgradUPlainIdeal.τ).loc Cert.SsmInDgradUPlainIdeal.main_arg1) = m ((c.tc : Thread Cert.SsmInDgradUIdeal.nD Cert.SsmInDgradUIdeal.τ).loc Cert.SsmInDgradUIdeal.main_arg1)
      ∧ m' ((c.tc : Thread Cert.SsmInDgradUPlainIdeal.nD Cert.SsmInDgradUPlainIdeal.τ).loc Cert.SsmInDgradUPlainIdeal.main_arg2) = m ((c.tc : Thread Cert.SsmInDgradUIdeal.nD Cert.SsmInDgradUIdeal.τ).loc Cert.SsmInDgradUIdeal.main_arg2)
      ∧ m' ((c.tc : Thread Cert.SsmInDgradUPlainIdeal.nD Cert.SsmInDgradUPlainIdeal.τ).loc Cert.SsmInDgradUPlainIdeal.main_arg3) = m ((c.tc : Thread Cert.SsmInDgradUIdeal.nD Cert.SsmInDgradUIdeal.τ).loc Cert.SsmInDgradUIdeal.main_arg3)
      ∧ m' ((c.tc : Thread Cert.SsmInDgradUPlainIdeal.nD Cert.SsmInDgradUPlainIdeal.τ).loc Cert.SsmInDgradUPlainIdeal.main_arg4) = m ((c.tc : Thread Cert.SsmInDgradUIdeal.nD Cert.SsmInDgradUIdeal.τ).loc Cert.SsmInDgradUIdeal.main_arg4)
      ∧ m' ((c.tc : Thread Cert.SsmInDgradUPlainIdeal.nD Cert.SsmInDgradUPlainIdeal.τ).loc Cert.SsmInDgradUPlainIdeal.main_arg5) = m ((c.tc : Thread Cert.SsmInDgradUIdeal.nD Cert.SsmInDgradUIdeal.τ).loc Cert.SsmInDgradUIdeal.main_arg5)) →
    ∃ (v0 : (c : Dev Cert.SsmInDgradUIdeal.nD) → Buf (Elt Ideal) ((c.tc : Thread Cert.SsmInDgradUIdeal.nD Cert.SsmInDgradUIdeal.τ).loc Cert.SsmInDgradUIdeal.main_v8)),
      θ_run (Cert.SsmInDgradUIdeal.defs (F := Ideal)) (onTc (τ := Cert.SsmInDgradUIdeal.τ) (Cert.SsmInDgradUIdeal.main (F := Ideal))) ⟨m, fun _ => 0, g⟩ (fun r => ∀ c : Dev Cert.SsmInDgradUIdeal.nD,
          r.2.mem ((c.tc : Thread Cert.SsmInDgradUIdeal.nD Cert.SsmInDgradUIdeal.τ).loc Cert.SsmInDgradUIdeal.main_v8) = v0 c
          ∧ r.2.mem ((c.tc : Thread Cert.SsmInDgradUIdeal.nD Cert.SsmInDgradUIdeal.τ).loc Cert.SsmInDgradUIdeal.main_arg0) = m ((c.tc : Thread Cert.SsmInDgradUIdeal.nD Cert.SsmInDgradUIdeal.τ).loc Cert.SsmInDgradUIdeal.main_arg0)
          ∧ r.2.mem ((c.tc : Thread Cert.SsmInDgradUIdeal.nD Cert.SsmInDgradUIdeal.τ).loc Cert.SsmInDgradUIdeal.main_arg1) = m ((c.tc : Thread Cert.SsmInDgradUIdeal.nD Cert.SsmInDgradUIdeal.τ).loc Cert.SsmInDgradUIdeal.main_arg1)
          ∧ r.2.mem ((c.tc : Thread Cert.SsmInDgradUIdeal.nD Cert.SsmInDgradUIdeal.τ).loc Cert.SsmInDgradUIdeal.main_arg2) = m ((c.tc : Thread Cert.SsmInDgradUIdeal.nD Cert.SsmInDgradUIdeal.τ).loc Cert.SsmInDgradUIdeal.main_arg2)
          ∧ r.2.mem ((c.tc : Thread Cert.SsmInDgradUIdeal.nD Cert.SsmInDgradUIdeal.τ).loc Cert.SsmInDgradUIdeal.main_arg3) = m ((c.tc : Thread Cert.SsmInDgradUIdeal.nD Cert.SsmInDgradUIdeal.τ).loc Cert.SsmInDgradUIdeal.main_arg3)
          ∧ r.2.mem ((c.tc : Thread Cert.SsmInDgradUIdeal.nD Cert.SsmInDgradUIdeal.τ).loc Cert.SsmInDgradUIdeal.main_arg4) = m ((c.tc : Thread Cert.SsmInDgradUIdeal.nD Cert.SsmInDgradUIdeal.τ).loc Cert.SsmInDgradUIdeal.main_arg4)
          ∧ r.2.mem ((c.tc : Thread Cert.SsmInDgradUIdeal.nD Cert.SsmInDgradUIdeal.τ).loc Cert.SsmInDgradUIdeal.main_arg5) = m ((c.tc : Thread Cert.SsmInDgradUIdeal.nD Cert.SsmInDgradUIdeal.τ).loc Cert.SsmInDgradUIdeal.main_arg5))
      ∧ θ_run (Cert.SsmInDgradUPlainIdeal.defs (F := Ideal)) (onTc (τ := Cert.SsmInDgradUPlainIdeal.τ) (Cert.SsmInDgradUPlainIdeal.main (F := Ideal))) ⟨m', fun _ => 0, g'⟩ (fun r => ∀ c : Dev Cert.SsmInDgradUPlainIdeal.nD,
          r.2.mem ((c.tc : Thread Cert.SsmInDgradUPlainIdeal.nD Cert.SsmInDgradUPlainIdeal.τ).loc Cert.SsmInDgradUPlainIdeal.main_v3) = v0 c
          ∧ r.2.mem ((c.tc : Thread Cert.SsmInDgradUPlainIdeal.nD Cert.SsmInDgradUPlainIdeal.τ).loc Cert.SsmInDgradUPlainIdeal.main_arg0) = m' ((c.tc : Thread Cert.SsmInDgradUPlainIdeal.nD Cert.SsmInDgradUPlainIdeal.τ).loc Cert.SsmInDgradUPlainIdeal.main_arg0)
          ∧ r.2.mem ((c.tc : Thread Cert.SsmInDgradUPlainIdeal.nD Cert.SsmInDgradUPlainIdeal.τ).loc Cert.SsmInDgradUPlainIdeal.main_arg1) = m' ((c.tc : Thread Cert.SsmInDgradUPlainIdeal.nD Cert.SsmInDgradUPlainIdeal.τ).loc Cert.SsmInDgradUPlainIdeal.main_arg1)
          ∧ r.2.mem ((c.tc : Thread Cert.SsmInDgradUPlainIdeal.nD Cert.SsmInDgradUPlainIdeal.τ).loc Cert.SsmInDgradUPlainIdeal.main_arg2) = m' ((c.tc : Thread Cert.SsmInDgradUPlainIdeal.nD Cert.SsmInDgradUPlainIdeal.τ).loc Cert.SsmInDgradUPlainIdeal.main_arg2)
          ∧ r.2.mem ((c.tc : Thread Cert.SsmInDgradUPlainIdeal.nD Cert.SsmInDgradUPlainIdeal.τ).loc Cert.SsmInDgradUPlainIdeal.main_arg3) = m' ((c.tc : Thread Cert.SsmInDgradUPlainIdeal.nD Cert.SsmInDgradUPlainIdeal.τ).loc Cert.SsmInDgradUPlainIdeal.main_arg3)
          ∧ r.2.mem ((c.tc : Thread Cert.SsmInDgradUPlainIdeal.nD Cert.SsmInDgradUPlainIdeal.τ).loc Cert.SsmInDgradUPlainIdeal.main_arg4) = m' ((c.tc : Thread Cert.SsmInDgradUPlainIdeal.nD Cert.SsmInDgradUPlainIdeal.τ).loc Cert.SsmInDgradUPlainIdeal.main_arg4)
          ∧ r.2.mem ((c.tc : Thread Cert.SsmInDgradUPlainIdeal.nD Cert.SsmInDgradUPlainIdeal.τ).loc Cert.SsmInDgradUPlainIdeal.main_arg5) = m' ((c.tc : Thread Cert.SsmInDgradUPlainIdeal.nD Cert.SsmInDgradUPlainIdeal.τ).loc Cert.SsmInDgradUPlainIdeal.main_arg5))

def preserves_SsmInDgradGate_SsmInDgradGateIdeal : Prop :=
  True

def algebraic_SsmInDgradGateIdeal_SsmInDgradGatePlainIdeal [hSsmInDgradGateIdeal : Cert.SsmInDgradGateIdeal.Facts] [hSsmInDgradGatePlainIdeal : Cert.SsmInDgradGatePlainIdeal.Facts] : Prop :=
  ∀ (m : (ℓ : Loc Cert.SsmInDgradGateIdeal.nD Cert.SsmInDgradGateIdeal.τ Cert.SsmInDgradGateIdeal.sig) → Buf (Elt Ideal) ℓ) (g : Dev Cert.SsmInDgradGateIdeal.nD → PrngReg)
    (m' : (ℓ : Loc Cert.SsmInDgradGatePlainIdeal.nD Cert.SsmInDgradGatePlainIdeal.τ Cert.SsmInDgradGatePlainIdeal.sig) → Buf (Elt Ideal) ℓ) (g' : Dev Cert.SsmInDgradGatePlainIdeal.nD → PrngReg), Pre_SsmInDgradGateIdeal m →
    (∀ c : Dev Cert.SsmInDgradGateIdeal.nD,
      m' ((c.tc : Thread Cert.SsmInDgradGatePlainIdeal.nD Cert.SsmInDgradGatePlainIdeal.τ).loc Cert.SsmInDgradGatePlainIdeal.main_arg0) = m ((c.tc : Thread Cert.SsmInDgradGateIdeal.nD Cert.SsmInDgradGateIdeal.τ).loc Cert.SsmInDgradGateIdeal.main_arg0)
      ∧ m' ((c.tc : Thread Cert.SsmInDgradGatePlainIdeal.nD Cert.SsmInDgradGatePlainIdeal.τ).loc Cert.SsmInDgradGatePlainIdeal.main_arg1) = m ((c.tc : Thread Cert.SsmInDgradGateIdeal.nD Cert.SsmInDgradGateIdeal.τ).loc Cert.SsmInDgradGateIdeal.main_arg1)
      ∧ m' ((c.tc : Thread Cert.SsmInDgradGatePlainIdeal.nD Cert.SsmInDgradGatePlainIdeal.τ).loc Cert.SsmInDgradGatePlainIdeal.main_arg2) = m ((c.tc : Thread Cert.SsmInDgradGateIdeal.nD Cert.SsmInDgradGateIdeal.τ).loc Cert.SsmInDgradGateIdeal.main_arg2)
      ∧ m' ((c.tc : Thread Cert.SsmInDgradGatePlainIdeal.nD Cert.SsmInDgradGatePlainIdeal.τ).loc Cert.SsmInDgradGatePlainIdeal.main_arg3) = m ((c.tc : Thread Cert.SsmInDgradGateIdeal.nD Cert.SsmInDgradGateIdeal.τ).loc Cert.SsmInDgradGateIdeal.main_arg3)
      ∧ m' ((c.tc : Thread Cert.SsmInDgradGatePlainIdeal.nD Cert.SsmInDgradGatePlainIdeal.τ).loc Cert.SsmInDgradGatePlainIdeal.main_arg4) = m ((c.tc : Thread Cert.SsmInDgradGateIdeal.nD Cert.SsmInDgradGateIdeal.τ).loc Cert.SsmInDgradGateIdeal.main_arg4)
      ∧ m' ((c.tc : Thread Cert.SsmInDgradGatePlainIdeal.nD Cert.SsmInDgradGatePlainIdeal.τ).loc Cert.SsmInDgradGatePlainIdeal.main_arg5) = m ((c.tc : Thread Cert.SsmInDgradGateIdeal.nD Cert.SsmInDgradGateIdeal.τ).loc Cert.SsmInDgradGateIdeal.main_arg5)
      ∧ m' ((c.tc : Thread Cert.SsmInDgradGatePlainIdeal.nD Cert.SsmInDgradGatePlainIdeal.τ).loc Cert.SsmInDgradGatePlainIdeal.main_arg6) = m ((c.tc : Thread Cert.SsmInDgradGateIdeal.nD Cert.SsmInDgradGateIdeal.τ).loc Cert.SsmInDgradGateIdeal.main_arg6)) →
    ∃ (v0 : (c : Dev Cert.SsmInDgradGateIdeal.nD) → Buf (Elt Ideal) ((c.tc : Thread Cert.SsmInDgradGateIdeal.nD Cert.SsmInDgradGateIdeal.τ).loc Cert.SsmInDgradGateIdeal.main_v8)),
      θ_run (Cert.SsmInDgradGateIdeal.defs (F := Ideal)) (onTc (τ := Cert.SsmInDgradGateIdeal.τ) (Cert.SsmInDgradGateIdeal.main (F := Ideal))) ⟨m, fun _ => 0, g⟩ (fun r => ∀ c : Dev Cert.SsmInDgradGateIdeal.nD,
          r.2.mem ((c.tc : Thread Cert.SsmInDgradGateIdeal.nD Cert.SsmInDgradGateIdeal.τ).loc Cert.SsmInDgradGateIdeal.main_v8) = v0 c
          ∧ r.2.mem ((c.tc : Thread Cert.SsmInDgradGateIdeal.nD Cert.SsmInDgradGateIdeal.τ).loc Cert.SsmInDgradGateIdeal.main_arg0) = m ((c.tc : Thread Cert.SsmInDgradGateIdeal.nD Cert.SsmInDgradGateIdeal.τ).loc Cert.SsmInDgradGateIdeal.main_arg0)
          ∧ r.2.mem ((c.tc : Thread Cert.SsmInDgradGateIdeal.nD Cert.SsmInDgradGateIdeal.τ).loc Cert.SsmInDgradGateIdeal.main_arg1) = m ((c.tc : Thread Cert.SsmInDgradGateIdeal.nD Cert.SsmInDgradGateIdeal.τ).loc Cert.SsmInDgradGateIdeal.main_arg1)
          ∧ r.2.mem ((c.tc : Thread Cert.SsmInDgradGateIdeal.nD Cert.SsmInDgradGateIdeal.τ).loc Cert.SsmInDgradGateIdeal.main_arg2) = m ((c.tc : Thread Cert.SsmInDgradGateIdeal.nD Cert.SsmInDgradGateIdeal.τ).loc Cert.SsmInDgradGateIdeal.main_arg2)
          ∧ r.2.mem ((c.tc : Thread Cert.SsmInDgradGateIdeal.nD Cert.SsmInDgradGateIdeal.τ).loc Cert.SsmInDgradGateIdeal.main_arg3) = m ((c.tc : Thread Cert.SsmInDgradGateIdeal.nD Cert.SsmInDgradGateIdeal.τ).loc Cert.SsmInDgradGateIdeal.main_arg3)
          ∧ r.2.mem ((c.tc : Thread Cert.SsmInDgradGateIdeal.nD Cert.SsmInDgradGateIdeal.τ).loc Cert.SsmInDgradGateIdeal.main_arg4) = m ((c.tc : Thread Cert.SsmInDgradGateIdeal.nD Cert.SsmInDgradGateIdeal.τ).loc Cert.SsmInDgradGateIdeal.main_arg4)
          ∧ r.2.mem ((c.tc : Thread Cert.SsmInDgradGateIdeal.nD Cert.SsmInDgradGateIdeal.τ).loc Cert.SsmInDgradGateIdeal.main_arg5) = m ((c.tc : Thread Cert.SsmInDgradGateIdeal.nD Cert.SsmInDgradGateIdeal.τ).loc Cert.SsmInDgradGateIdeal.main_arg5)
          ∧ r.2.mem ((c.tc : Thread Cert.SsmInDgradGateIdeal.nD Cert.SsmInDgradGateIdeal.τ).loc Cert.SsmInDgradGateIdeal.main_arg6) = m ((c.tc : Thread Cert.SsmInDgradGateIdeal.nD Cert.SsmInDgradGateIdeal.τ).loc Cert.SsmInDgradGateIdeal.main_arg6))
      ∧ θ_run (Cert.SsmInDgradGatePlainIdeal.defs (F := Ideal)) (onTc (τ := Cert.SsmInDgradGatePlainIdeal.τ) (Cert.SsmInDgradGatePlainIdeal.main (F := Ideal))) ⟨m', fun _ => 0, g'⟩ (fun r => ∀ c : Dev Cert.SsmInDgradGatePlainIdeal.nD,
          r.2.mem ((c.tc : Thread Cert.SsmInDgradGatePlainIdeal.nD Cert.SsmInDgradGatePlainIdeal.τ).loc Cert.SsmInDgradGatePlainIdeal.main_v4) = v0 c
          ∧ r.2.mem ((c.tc : Thread Cert.SsmInDgradGatePlainIdeal.nD Cert.SsmInDgradGatePlainIdeal.τ).loc Cert.SsmInDgradGatePlainIdeal.main_arg0) = m' ((c.tc : Thread Cert.SsmInDgradGatePlainIdeal.nD Cert.SsmInDgradGatePlainIdeal.τ).loc Cert.SsmInDgradGatePlainIdeal.main_arg0)
          ∧ r.2.mem ((c.tc : Thread Cert.SsmInDgradGatePlainIdeal.nD Cert.SsmInDgradGatePlainIdeal.τ).loc Cert.SsmInDgradGatePlainIdeal.main_arg1) = m' ((c.tc : Thread Cert.SsmInDgradGatePlainIdeal.nD Cert.SsmInDgradGatePlainIdeal.τ).loc Cert.SsmInDgradGatePlainIdeal.main_arg1)
          ∧ r.2.mem ((c.tc : Thread Cert.SsmInDgradGatePlainIdeal.nD Cert.SsmInDgradGatePlainIdeal.τ).loc Cert.SsmInDgradGatePlainIdeal.main_arg2) = m' ((c.tc : Thread Cert.SsmInDgradGatePlainIdeal.nD Cert.SsmInDgradGatePlainIdeal.τ).loc Cert.SsmInDgradGatePlainIdeal.main_arg2)
          ∧ r.2.mem ((c.tc : Thread Cert.SsmInDgradGatePlainIdeal.nD Cert.SsmInDgradGatePlainIdeal.τ).loc Cert.SsmInDgradGatePlainIdeal.main_arg3) = m' ((c.tc : Thread Cert.SsmInDgradGatePlainIdeal.nD Cert.SsmInDgradGatePlainIdeal.τ).loc Cert.SsmInDgradGatePlainIdeal.main_arg3)
          ∧ r.2.mem ((c.tc : Thread Cert.SsmInDgradGatePlainIdeal.nD Cert.SsmInDgradGatePlainIdeal.τ).loc Cert.SsmInDgradGatePlainIdeal.main_arg4) = m' ((c.tc : Thread Cert.SsmInDgradGatePlainIdeal.nD Cert.SsmInDgradGatePlainIdeal.τ).loc Cert.SsmInDgradGatePlainIdeal.main_arg4)
          ∧ r.2.mem ((c.tc : Thread Cert.SsmInDgradGatePlainIdeal.nD Cert.SsmInDgradGatePlainIdeal.τ).loc Cert.SsmInDgradGatePlainIdeal.main_arg5) = m' ((c.tc : Thread Cert.SsmInDgradGatePlainIdeal.nD Cert.SsmInDgradGatePlainIdeal.τ).loc Cert.SsmInDgradGatePlainIdeal.main_arg5)
          ∧ r.2.mem ((c.tc : Thread Cert.SsmInDgradGatePlainIdeal.nD Cert.SsmInDgradGatePlainIdeal.τ).loc Cert.SsmInDgradGatePlainIdeal.main_arg6) = m' ((c.tc : Thread Cert.SsmInDgradGatePlainIdeal.nD Cert.SsmInDgradGatePlainIdeal.τ).loc Cert.SsmInDgradGatePlainIdeal.main_arg6))

def preserves_AttnInDgrad0_AttnInDgrad0Ideal : Prop :=
  True

def algebraic_AttnInDgrad0Ideal_AttnInDgrad0PlainIdeal [hAttnInDgrad0Ideal : Cert.AttnInDgrad0Ideal.Facts] [hAttnInDgrad0PlainIdeal : Cert.AttnInDgrad0PlainIdeal.Facts] : Prop :=
  ∀ (m : (ℓ : Loc Cert.AttnInDgrad0Ideal.nD Cert.AttnInDgrad0Ideal.τ Cert.AttnInDgrad0Ideal.sig) → Buf (Elt Ideal) ℓ) (g : Dev Cert.AttnInDgrad0Ideal.nD → PrngReg)
    (m' : (ℓ : Loc Cert.AttnInDgrad0PlainIdeal.nD Cert.AttnInDgrad0PlainIdeal.τ Cert.AttnInDgrad0PlainIdeal.sig) → Buf (Elt Ideal) ℓ) (g' : Dev Cert.AttnInDgrad0PlainIdeal.nD → PrngReg), Pre_AttnInDgrad0Ideal m →
    (∀ c : Dev Cert.AttnInDgrad0Ideal.nD,
      m' ((c.tc : Thread Cert.AttnInDgrad0PlainIdeal.nD Cert.AttnInDgrad0PlainIdeal.τ).loc Cert.AttnInDgrad0PlainIdeal.main_arg0) = m ((c.tc : Thread Cert.AttnInDgrad0Ideal.nD Cert.AttnInDgrad0Ideal.τ).loc Cert.AttnInDgrad0Ideal.main_arg0)
      ∧ m' ((c.tc : Thread Cert.AttnInDgrad0PlainIdeal.nD Cert.AttnInDgrad0PlainIdeal.τ).loc Cert.AttnInDgrad0PlainIdeal.main_arg1) = m ((c.tc : Thread Cert.AttnInDgrad0Ideal.nD Cert.AttnInDgrad0Ideal.τ).loc Cert.AttnInDgrad0Ideal.main_arg1)
      ∧ m' ((c.tc : Thread Cert.AttnInDgrad0PlainIdeal.nD Cert.AttnInDgrad0PlainIdeal.τ).loc Cert.AttnInDgrad0PlainIdeal.main_arg2) = m ((c.tc : Thread Cert.AttnInDgrad0Ideal.nD Cert.AttnInDgrad0Ideal.τ).loc Cert.AttnInDgrad0Ideal.main_arg2)) →
    ∃ (v0 : (c : Dev Cert.AttnInDgrad0Ideal.nD) → Buf (Elt Ideal) ((c.tc : Thread Cert.AttnInDgrad0Ideal.nD Cert.AttnInDgrad0Ideal.τ).loc Cert.AttnInDgrad0Ideal.main_v3)),
      θ_run (Cert.AttnInDgrad0Ideal.defs (F := Ideal)) (onTc (τ := Cert.AttnInDgrad0Ideal.τ) (Cert.AttnInDgrad0Ideal.main (F := Ideal))) ⟨m, fun _ => 0, g⟩ (fun r => ∀ c : Dev Cert.AttnInDgrad0Ideal.nD,
          r.2.mem ((c.tc : Thread Cert.AttnInDgrad0Ideal.nD Cert.AttnInDgrad0Ideal.τ).loc Cert.AttnInDgrad0Ideal.main_v3) = v0 c
          ∧ r.2.mem ((c.tc : Thread Cert.AttnInDgrad0Ideal.nD Cert.AttnInDgrad0Ideal.τ).loc Cert.AttnInDgrad0Ideal.main_arg0) = m ((c.tc : Thread Cert.AttnInDgrad0Ideal.nD Cert.AttnInDgrad0Ideal.τ).loc Cert.AttnInDgrad0Ideal.main_arg0)
          ∧ r.2.mem ((c.tc : Thread Cert.AttnInDgrad0Ideal.nD Cert.AttnInDgrad0Ideal.τ).loc Cert.AttnInDgrad0Ideal.main_arg1) = m ((c.tc : Thread Cert.AttnInDgrad0Ideal.nD Cert.AttnInDgrad0Ideal.τ).loc Cert.AttnInDgrad0Ideal.main_arg1)
          ∧ r.2.mem ((c.tc : Thread Cert.AttnInDgrad0Ideal.nD Cert.AttnInDgrad0Ideal.τ).loc Cert.AttnInDgrad0Ideal.main_arg2) = m ((c.tc : Thread Cert.AttnInDgrad0Ideal.nD Cert.AttnInDgrad0Ideal.τ).loc Cert.AttnInDgrad0Ideal.main_arg2))
      ∧ θ_run (Cert.AttnInDgrad0PlainIdeal.defs (F := Ideal)) (onTc (τ := Cert.AttnInDgrad0PlainIdeal.τ) (Cert.AttnInDgrad0PlainIdeal.main (F := Ideal))) ⟨m', fun _ => 0, g'⟩ (fun r => ∀ c : Dev Cert.AttnInDgrad0PlainIdeal.nD,
          r.2.mem ((c.tc : Thread Cert.AttnInDgrad0PlainIdeal.nD Cert.AttnInDgrad0PlainIdeal.τ).loc Cert.AttnInDgrad0PlainIdeal.main_v3) = v0 c
          ∧ r.2.mem ((c.tc : Thread Cert.AttnInDgrad0PlainIdeal.nD Cert.AttnInDgrad0PlainIdeal.τ).loc Cert.AttnInDgrad0PlainIdeal.main_arg0) = m' ((c.tc : Thread Cert.AttnInDgrad0PlainIdeal.nD Cert.AttnInDgrad0PlainIdeal.τ).loc Cert.AttnInDgrad0PlainIdeal.main_arg0)
          ∧ r.2.mem ((c.tc : Thread Cert.AttnInDgrad0PlainIdeal.nD Cert.AttnInDgrad0PlainIdeal.τ).loc Cert.AttnInDgrad0PlainIdeal.main_arg1) = m' ((c.tc : Thread Cert.AttnInDgrad0PlainIdeal.nD Cert.AttnInDgrad0PlainIdeal.τ).loc Cert.AttnInDgrad0PlainIdeal.main_arg1)
          ∧ r.2.mem ((c.tc : Thread Cert.AttnInDgrad0PlainIdeal.nD Cert.AttnInDgrad0PlainIdeal.τ).loc Cert.AttnInDgrad0PlainIdeal.main_arg2) = m' ((c.tc : Thread Cert.AttnInDgrad0PlainIdeal.nD Cert.AttnInDgrad0PlainIdeal.τ).loc Cert.AttnInDgrad0PlainIdeal.main_arg2))

def preserves_AttnInDgrad1_AttnInDgrad1Ideal : Prop :=
  True

def algebraic_AttnInDgrad1Ideal_AttnInDgrad1PlainIdeal [hAttnInDgrad1Ideal : Cert.AttnInDgrad1Ideal.Facts] [hAttnInDgrad1PlainIdeal : Cert.AttnInDgrad1PlainIdeal.Facts] : Prop :=
  ∀ (m : (ℓ : Loc Cert.AttnInDgrad1Ideal.nD Cert.AttnInDgrad1Ideal.τ Cert.AttnInDgrad1Ideal.sig) → Buf (Elt Ideal) ℓ) (g : Dev Cert.AttnInDgrad1Ideal.nD → PrngReg)
    (m' : (ℓ : Loc Cert.AttnInDgrad1PlainIdeal.nD Cert.AttnInDgrad1PlainIdeal.τ Cert.AttnInDgrad1PlainIdeal.sig) → Buf (Elt Ideal) ℓ) (g' : Dev Cert.AttnInDgrad1PlainIdeal.nD → PrngReg), Pre_AttnInDgrad1Ideal m →
    (∀ c : Dev Cert.AttnInDgrad1Ideal.nD,
      m' ((c.tc : Thread Cert.AttnInDgrad1PlainIdeal.nD Cert.AttnInDgrad1PlainIdeal.τ).loc Cert.AttnInDgrad1PlainIdeal.main_arg0) = m ((c.tc : Thread Cert.AttnInDgrad1Ideal.nD Cert.AttnInDgrad1Ideal.τ).loc Cert.AttnInDgrad1Ideal.main_arg0)
      ∧ m' ((c.tc : Thread Cert.AttnInDgrad1PlainIdeal.nD Cert.AttnInDgrad1PlainIdeal.τ).loc Cert.AttnInDgrad1PlainIdeal.main_arg1) = m ((c.tc : Thread Cert.AttnInDgrad1Ideal.nD Cert.AttnInDgrad1Ideal.τ).loc Cert.AttnInDgrad1Ideal.main_arg1)
      ∧ m' ((c.tc : Thread Cert.AttnInDgrad1PlainIdeal.nD Cert.AttnInDgrad1PlainIdeal.τ).loc Cert.AttnInDgrad1PlainIdeal.main_arg2) = m ((c.tc : Thread Cert.AttnInDgrad1Ideal.nD Cert.AttnInDgrad1Ideal.τ).loc Cert.AttnInDgrad1Ideal.main_arg2)
      ∧ m' ((c.tc : Thread Cert.AttnInDgrad1PlainIdeal.nD Cert.AttnInDgrad1PlainIdeal.τ).loc Cert.AttnInDgrad1PlainIdeal.main_arg3) = m ((c.tc : Thread Cert.AttnInDgrad1Ideal.nD Cert.AttnInDgrad1Ideal.τ).loc Cert.AttnInDgrad1Ideal.main_arg3)) →
    ∃ (v0 : (c : Dev Cert.AttnInDgrad1Ideal.nD) → Buf (Elt Ideal) ((c.tc : Thread Cert.AttnInDgrad1Ideal.nD Cert.AttnInDgrad1Ideal.τ).loc Cert.AttnInDgrad1Ideal.main_v3)),
      θ_run (Cert.AttnInDgrad1Ideal.defs (F := Ideal)) (onTc (τ := Cert.AttnInDgrad1Ideal.τ) (Cert.AttnInDgrad1Ideal.main (F := Ideal))) ⟨m, fun _ => 0, g⟩ (fun r => ∀ c : Dev Cert.AttnInDgrad1Ideal.nD,
          r.2.mem ((c.tc : Thread Cert.AttnInDgrad1Ideal.nD Cert.AttnInDgrad1Ideal.τ).loc Cert.AttnInDgrad1Ideal.main_v3) = v0 c
          ∧ r.2.mem ((c.tc : Thread Cert.AttnInDgrad1Ideal.nD Cert.AttnInDgrad1Ideal.τ).loc Cert.AttnInDgrad1Ideal.main_arg0) = m ((c.tc : Thread Cert.AttnInDgrad1Ideal.nD Cert.AttnInDgrad1Ideal.τ).loc Cert.AttnInDgrad1Ideal.main_arg0)
          ∧ r.2.mem ((c.tc : Thread Cert.AttnInDgrad1Ideal.nD Cert.AttnInDgrad1Ideal.τ).loc Cert.AttnInDgrad1Ideal.main_arg1) = m ((c.tc : Thread Cert.AttnInDgrad1Ideal.nD Cert.AttnInDgrad1Ideal.τ).loc Cert.AttnInDgrad1Ideal.main_arg1)
          ∧ r.2.mem ((c.tc : Thread Cert.AttnInDgrad1Ideal.nD Cert.AttnInDgrad1Ideal.τ).loc Cert.AttnInDgrad1Ideal.main_arg2) = m ((c.tc : Thread Cert.AttnInDgrad1Ideal.nD Cert.AttnInDgrad1Ideal.τ).loc Cert.AttnInDgrad1Ideal.main_arg2)
          ∧ r.2.mem ((c.tc : Thread Cert.AttnInDgrad1Ideal.nD Cert.AttnInDgrad1Ideal.τ).loc Cert.AttnInDgrad1Ideal.main_arg3) = m ((c.tc : Thread Cert.AttnInDgrad1Ideal.nD Cert.AttnInDgrad1Ideal.τ).loc Cert.AttnInDgrad1Ideal.main_arg3))
      ∧ θ_run (Cert.AttnInDgrad1PlainIdeal.defs (F := Ideal)) (onTc (τ := Cert.AttnInDgrad1PlainIdeal.τ) (Cert.AttnInDgrad1PlainIdeal.main (F := Ideal))) ⟨m', fun _ => 0, g'⟩ (fun r => ∀ c : Dev Cert.AttnInDgrad1PlainIdeal.nD,
          r.2.mem ((c.tc : Thread Cert.AttnInDgrad1PlainIdeal.nD Cert.AttnInDgrad1PlainIdeal.τ).loc Cert.AttnInDgrad1PlainIdeal.main_v4) = v0 c
          ∧ r.2.mem ((c.tc : Thread Cert.AttnInDgrad1PlainIdeal.nD Cert.AttnInDgrad1PlainIdeal.τ).loc Cert.AttnInDgrad1PlainIdeal.main_arg0) = m' ((c.tc : Thread Cert.AttnInDgrad1PlainIdeal.nD Cert.AttnInDgrad1PlainIdeal.τ).loc Cert.AttnInDgrad1PlainIdeal.main_arg0)
          ∧ r.2.mem ((c.tc : Thread Cert.AttnInDgrad1PlainIdeal.nD Cert.AttnInDgrad1PlainIdeal.τ).loc Cert.AttnInDgrad1PlainIdeal.main_arg1) = m' ((c.tc : Thread Cert.AttnInDgrad1PlainIdeal.nD Cert.AttnInDgrad1PlainIdeal.τ).loc Cert.AttnInDgrad1PlainIdeal.main_arg1)
          ∧ r.2.mem ((c.tc : Thread Cert.AttnInDgrad1PlainIdeal.nD Cert.AttnInDgrad1PlainIdeal.τ).loc Cert.AttnInDgrad1PlainIdeal.main_arg2) = m' ((c.tc : Thread Cert.AttnInDgrad1PlainIdeal.nD Cert.AttnInDgrad1PlainIdeal.τ).loc Cert.AttnInDgrad1PlainIdeal.main_arg2)
          ∧ r.2.mem ((c.tc : Thread Cert.AttnInDgrad1PlainIdeal.nD Cert.AttnInDgrad1PlainIdeal.τ).loc Cert.AttnInDgrad1PlainIdeal.main_arg3) = m' ((c.tc : Thread Cert.AttnInDgrad1PlainIdeal.nD Cert.AttnInDgrad1PlainIdeal.τ).loc Cert.AttnInDgrad1PlainIdeal.main_arg3))

def preserves_AttnInDgrad2_AttnInDgrad2Ideal : Prop :=
  True

def algebraic_AttnInDgrad2Ideal_AttnInDgrad2PlainIdeal [hAttnInDgrad2Ideal : Cert.AttnInDgrad2Ideal.Facts] [hAttnInDgrad2PlainIdeal : Cert.AttnInDgrad2PlainIdeal.Facts] : Prop :=
  ∀ (m : (ℓ : Loc Cert.AttnInDgrad2Ideal.nD Cert.AttnInDgrad2Ideal.τ Cert.AttnInDgrad2Ideal.sig) → Buf (Elt Ideal) ℓ) (g : Dev Cert.AttnInDgrad2Ideal.nD → PrngReg)
    (m' : (ℓ : Loc Cert.AttnInDgrad2PlainIdeal.nD Cert.AttnInDgrad2PlainIdeal.τ Cert.AttnInDgrad2PlainIdeal.sig) → Buf (Elt Ideal) ℓ) (g' : Dev Cert.AttnInDgrad2PlainIdeal.nD → PrngReg), Pre_AttnInDgrad2Ideal m →
    (∀ c : Dev Cert.AttnInDgrad2Ideal.nD,
      m' ((c.tc : Thread Cert.AttnInDgrad2PlainIdeal.nD Cert.AttnInDgrad2PlainIdeal.τ).loc Cert.AttnInDgrad2PlainIdeal.main_arg0) = m ((c.tc : Thread Cert.AttnInDgrad2Ideal.nD Cert.AttnInDgrad2Ideal.τ).loc Cert.AttnInDgrad2Ideal.main_arg0)
      ∧ m' ((c.tc : Thread Cert.AttnInDgrad2PlainIdeal.nD Cert.AttnInDgrad2PlainIdeal.τ).loc Cert.AttnInDgrad2PlainIdeal.main_arg1) = m ((c.tc : Thread Cert.AttnInDgrad2Ideal.nD Cert.AttnInDgrad2Ideal.τ).loc Cert.AttnInDgrad2Ideal.main_arg1)
      ∧ m' ((c.tc : Thread Cert.AttnInDgrad2PlainIdeal.nD Cert.AttnInDgrad2PlainIdeal.τ).loc Cert.AttnInDgrad2PlainIdeal.main_arg2) = m ((c.tc : Thread Cert.AttnInDgrad2Ideal.nD Cert.AttnInDgrad2Ideal.τ).loc Cert.AttnInDgrad2Ideal.main_arg2)
      ∧ m' ((c.tc : Thread Cert.AttnInDgrad2PlainIdeal.nD Cert.AttnInDgrad2PlainIdeal.τ).loc Cert.AttnInDgrad2PlainIdeal.main_arg3) = m ((c.tc : Thread Cert.AttnInDgrad2Ideal.nD Cert.AttnInDgrad2Ideal.τ).loc Cert.AttnInDgrad2Ideal.main_arg3)) →
    ∃ (v0 : (c : Dev Cert.AttnInDgrad2Ideal.nD) → Buf (Elt Ideal) ((c.tc : Thread Cert.AttnInDgrad2Ideal.nD Cert.AttnInDgrad2Ideal.τ).loc Cert.AttnInDgrad2Ideal.main_v3)),
      θ_run (Cert.AttnInDgrad2Ideal.defs (F := Ideal)) (onTc (τ := Cert.AttnInDgrad2Ideal.τ) (Cert.AttnInDgrad2Ideal.main (F := Ideal))) ⟨m, fun _ => 0, g⟩ (fun r => ∀ c : Dev Cert.AttnInDgrad2Ideal.nD,
          r.2.mem ((c.tc : Thread Cert.AttnInDgrad2Ideal.nD Cert.AttnInDgrad2Ideal.τ).loc Cert.AttnInDgrad2Ideal.main_v3) = v0 c
          ∧ r.2.mem ((c.tc : Thread Cert.AttnInDgrad2Ideal.nD Cert.AttnInDgrad2Ideal.τ).loc Cert.AttnInDgrad2Ideal.main_arg0) = m ((c.tc : Thread Cert.AttnInDgrad2Ideal.nD Cert.AttnInDgrad2Ideal.τ).loc Cert.AttnInDgrad2Ideal.main_arg0)
          ∧ r.2.mem ((c.tc : Thread Cert.AttnInDgrad2Ideal.nD Cert.AttnInDgrad2Ideal.τ).loc Cert.AttnInDgrad2Ideal.main_arg1) = m ((c.tc : Thread Cert.AttnInDgrad2Ideal.nD Cert.AttnInDgrad2Ideal.τ).loc Cert.AttnInDgrad2Ideal.main_arg1)
          ∧ r.2.mem ((c.tc : Thread Cert.AttnInDgrad2Ideal.nD Cert.AttnInDgrad2Ideal.τ).loc Cert.AttnInDgrad2Ideal.main_arg2) = m ((c.tc : Thread Cert.AttnInDgrad2Ideal.nD Cert.AttnInDgrad2Ideal.τ).loc Cert.AttnInDgrad2Ideal.main_arg2)
          ∧ r.2.mem ((c.tc : Thread Cert.AttnInDgrad2Ideal.nD Cert.AttnInDgrad2Ideal.τ).loc Cert.AttnInDgrad2Ideal.main_arg3) = m ((c.tc : Thread Cert.AttnInDgrad2Ideal.nD Cert.AttnInDgrad2Ideal.τ).loc Cert.AttnInDgrad2Ideal.main_arg3))
      ∧ θ_run (Cert.AttnInDgrad2PlainIdeal.defs (F := Ideal)) (onTc (τ := Cert.AttnInDgrad2PlainIdeal.τ) (Cert.AttnInDgrad2PlainIdeal.main (F := Ideal))) ⟨m', fun _ => 0, g'⟩ (fun r => ∀ c : Dev Cert.AttnInDgrad2PlainIdeal.nD,
          r.2.mem ((c.tc : Thread Cert.AttnInDgrad2PlainIdeal.nD Cert.AttnInDgrad2PlainIdeal.τ).loc Cert.AttnInDgrad2PlainIdeal.main_v4) = v0 c
          ∧ r.2.mem ((c.tc : Thread Cert.AttnInDgrad2PlainIdeal.nD Cert.AttnInDgrad2PlainIdeal.τ).loc Cert.AttnInDgrad2PlainIdeal.main_arg0) = m' ((c.tc : Thread Cert.AttnInDgrad2PlainIdeal.nD Cert.AttnInDgrad2PlainIdeal.τ).loc Cert.AttnInDgrad2PlainIdeal.main_arg0)
          ∧ r.2.mem ((c.tc : Thread Cert.AttnInDgrad2PlainIdeal.nD Cert.AttnInDgrad2PlainIdeal.τ).loc Cert.AttnInDgrad2PlainIdeal.main_arg1) = m' ((c.tc : Thread Cert.AttnInDgrad2PlainIdeal.nD Cert.AttnInDgrad2PlainIdeal.τ).loc Cert.AttnInDgrad2PlainIdeal.main_arg1)
          ∧ r.2.mem ((c.tc : Thread Cert.AttnInDgrad2PlainIdeal.nD Cert.AttnInDgrad2PlainIdeal.τ).loc Cert.AttnInDgrad2PlainIdeal.main_arg2) = m' ((c.tc : Thread Cert.AttnInDgrad2PlainIdeal.nD Cert.AttnInDgrad2PlainIdeal.τ).loc Cert.AttnInDgrad2PlainIdeal.main_arg2)
          ∧ r.2.mem ((c.tc : Thread Cert.AttnInDgrad2PlainIdeal.nD Cert.AttnInDgrad2PlainIdeal.τ).loc Cert.AttnInDgrad2PlainIdeal.main_arg3) = m' ((c.tc : Thread Cert.AttnInDgrad2PlainIdeal.nD Cert.AttnInDgrad2PlainIdeal.τ).loc Cert.AttnInDgrad2PlainIdeal.main_arg3))

def preserves_AttnInDgrad3_AttnInDgrad3Ideal : Prop :=
  True

def algebraic_AttnInDgrad3Ideal_AttnInDgrad3PlainIdeal [hAttnInDgrad3Ideal : Cert.AttnInDgrad3Ideal.Facts] [hAttnInDgrad3PlainIdeal : Cert.AttnInDgrad3PlainIdeal.Facts] : Prop :=
  ∀ (m : (ℓ : Loc Cert.AttnInDgrad3Ideal.nD Cert.AttnInDgrad3Ideal.τ Cert.AttnInDgrad3Ideal.sig) → Buf (Elt Ideal) ℓ) (g : Dev Cert.AttnInDgrad3Ideal.nD → PrngReg)
    (m' : (ℓ : Loc Cert.AttnInDgrad3PlainIdeal.nD Cert.AttnInDgrad3PlainIdeal.τ Cert.AttnInDgrad3PlainIdeal.sig) → Buf (Elt Ideal) ℓ) (g' : Dev Cert.AttnInDgrad3PlainIdeal.nD → PrngReg), Pre_AttnInDgrad3Ideal m →
    (∀ c : Dev Cert.AttnInDgrad3Ideal.nD,
      m' ((c.tc : Thread Cert.AttnInDgrad3PlainIdeal.nD Cert.AttnInDgrad3PlainIdeal.τ).loc Cert.AttnInDgrad3PlainIdeal.main_arg0) = m ((c.tc : Thread Cert.AttnInDgrad3Ideal.nD Cert.AttnInDgrad3Ideal.τ).loc Cert.AttnInDgrad3Ideal.main_arg0)
      ∧ m' ((c.tc : Thread Cert.AttnInDgrad3PlainIdeal.nD Cert.AttnInDgrad3PlainIdeal.τ).loc Cert.AttnInDgrad3PlainIdeal.main_arg1) = m ((c.tc : Thread Cert.AttnInDgrad3Ideal.nD Cert.AttnInDgrad3Ideal.τ).loc Cert.AttnInDgrad3Ideal.main_arg1)
      ∧ m' ((c.tc : Thread Cert.AttnInDgrad3PlainIdeal.nD Cert.AttnInDgrad3PlainIdeal.τ).loc Cert.AttnInDgrad3PlainIdeal.main_arg2) = m ((c.tc : Thread Cert.AttnInDgrad3Ideal.nD Cert.AttnInDgrad3Ideal.τ).loc Cert.AttnInDgrad3Ideal.main_arg2)
      ∧ m' ((c.tc : Thread Cert.AttnInDgrad3PlainIdeal.nD Cert.AttnInDgrad3PlainIdeal.τ).loc Cert.AttnInDgrad3PlainIdeal.main_arg3) = m ((c.tc : Thread Cert.AttnInDgrad3Ideal.nD Cert.AttnInDgrad3Ideal.τ).loc Cert.AttnInDgrad3Ideal.main_arg3)) →
    ∃ (v0 : (c : Dev Cert.AttnInDgrad3Ideal.nD) → Buf (Elt Ideal) ((c.tc : Thread Cert.AttnInDgrad3Ideal.nD Cert.AttnInDgrad3Ideal.τ).loc Cert.AttnInDgrad3Ideal.main_v3)),
      θ_run (Cert.AttnInDgrad3Ideal.defs (F := Ideal)) (onTc (τ := Cert.AttnInDgrad3Ideal.τ) (Cert.AttnInDgrad3Ideal.main (F := Ideal))) ⟨m, fun _ => 0, g⟩ (fun r => ∀ c : Dev Cert.AttnInDgrad3Ideal.nD,
          r.2.mem ((c.tc : Thread Cert.AttnInDgrad3Ideal.nD Cert.AttnInDgrad3Ideal.τ).loc Cert.AttnInDgrad3Ideal.main_v3) = v0 c
          ∧ r.2.mem ((c.tc : Thread Cert.AttnInDgrad3Ideal.nD Cert.AttnInDgrad3Ideal.τ).loc Cert.AttnInDgrad3Ideal.main_arg0) = m ((c.tc : Thread Cert.AttnInDgrad3Ideal.nD Cert.AttnInDgrad3Ideal.τ).loc Cert.AttnInDgrad3Ideal.main_arg0)
          ∧ r.2.mem ((c.tc : Thread Cert.AttnInDgrad3Ideal.nD Cert.AttnInDgrad3Ideal.τ).loc Cert.AttnInDgrad3Ideal.main_arg1) = m ((c.tc : Thread Cert.AttnInDgrad3Ideal.nD Cert.AttnInDgrad3Ideal.τ).loc Cert.AttnInDgrad3Ideal.main_arg1)
          ∧ r.2.mem ((c.tc : Thread Cert.AttnInDgrad3Ideal.nD Cert.AttnInDgrad3Ideal.τ).loc Cert.AttnInDgrad3Ideal.main_arg2) = m ((c.tc : Thread Cert.AttnInDgrad3Ideal.nD Cert.AttnInDgrad3Ideal.τ).loc Cert.AttnInDgrad3Ideal.main_arg2)
          ∧ r.2.mem ((c.tc : Thread Cert.AttnInDgrad3Ideal.nD Cert.AttnInDgrad3Ideal.τ).loc Cert.AttnInDgrad3Ideal.main_arg3) = m ((c.tc : Thread Cert.AttnInDgrad3Ideal.nD Cert.AttnInDgrad3Ideal.τ).loc Cert.AttnInDgrad3Ideal.main_arg3))
      ∧ θ_run (Cert.AttnInDgrad3PlainIdeal.defs (F := Ideal)) (onTc (τ := Cert.AttnInDgrad3PlainIdeal.τ) (Cert.AttnInDgrad3PlainIdeal.main (F := Ideal))) ⟨m', fun _ => 0, g'⟩ (fun r => ∀ c : Dev Cert.AttnInDgrad3PlainIdeal.nD,
          r.2.mem ((c.tc : Thread Cert.AttnInDgrad3PlainIdeal.nD Cert.AttnInDgrad3PlainIdeal.τ).loc Cert.AttnInDgrad3PlainIdeal.main_v4) = v0 c
          ∧ r.2.mem ((c.tc : Thread Cert.AttnInDgrad3PlainIdeal.nD Cert.AttnInDgrad3PlainIdeal.τ).loc Cert.AttnInDgrad3PlainIdeal.main_arg0) = m' ((c.tc : Thread Cert.AttnInDgrad3PlainIdeal.nD Cert.AttnInDgrad3PlainIdeal.τ).loc Cert.AttnInDgrad3PlainIdeal.main_arg0)
          ∧ r.2.mem ((c.tc : Thread Cert.AttnInDgrad3PlainIdeal.nD Cert.AttnInDgrad3PlainIdeal.τ).loc Cert.AttnInDgrad3PlainIdeal.main_arg1) = m' ((c.tc : Thread Cert.AttnInDgrad3PlainIdeal.nD Cert.AttnInDgrad3PlainIdeal.τ).loc Cert.AttnInDgrad3PlainIdeal.main_arg1)
          ∧ r.2.mem ((c.tc : Thread Cert.AttnInDgrad3PlainIdeal.nD Cert.AttnInDgrad3PlainIdeal.τ).loc Cert.AttnInDgrad3PlainIdeal.main_arg2) = m' ((c.tc : Thread Cert.AttnInDgrad3PlainIdeal.nD Cert.AttnInDgrad3PlainIdeal.τ).loc Cert.AttnInDgrad3PlainIdeal.main_arg2)
          ∧ r.2.mem ((c.tc : Thread Cert.AttnInDgrad3PlainIdeal.nD Cert.AttnInDgrad3PlainIdeal.τ).loc Cert.AttnInDgrad3PlainIdeal.main_arg3) = m' ((c.tc : Thread Cert.AttnInDgrad3PlainIdeal.nD Cert.AttnInDgrad3PlainIdeal.τ).loc Cert.AttnInDgrad3PlainIdeal.main_arg3))

def preserves_SsmOutWgrad_SsmOutWgradIdeal : Prop :=
  True

def algebraic_SsmOutWgradIdeal_SsmOutWgradPlainIdeal [hSsmOutWgradIdeal : Cert.SsmOutWgradIdeal.Facts] [hSsmOutWgradPlainIdeal : Cert.SsmOutWgradPlainIdeal.Facts] : Prop :=
  ∀ (m : (ℓ : Loc Cert.SsmOutWgradIdeal.nD Cert.SsmOutWgradIdeal.τ Cert.SsmOutWgradIdeal.sig) → Buf (Elt Ideal) ℓ) (g : Dev Cert.SsmOutWgradIdeal.nD → PrngReg)
    (m' : (ℓ : Loc Cert.SsmOutWgradPlainIdeal.nD Cert.SsmOutWgradPlainIdeal.τ Cert.SsmOutWgradPlainIdeal.sig) → Buf (Elt Ideal) ℓ) (g' : Dev Cert.SsmOutWgradPlainIdeal.nD → PrngReg), Pre_SsmOutWgradIdeal m →
    (∀ c : Dev Cert.SsmOutWgradIdeal.nD,
      m' ((c.tc : Thread Cert.SsmOutWgradPlainIdeal.nD Cert.SsmOutWgradPlainIdeal.τ).loc Cert.SsmOutWgradPlainIdeal.main_arg0) = m ((c.tc : Thread Cert.SsmOutWgradIdeal.nD Cert.SsmOutWgradIdeal.τ).loc Cert.SsmOutWgradIdeal.main_arg0)
      ∧ m' ((c.tc : Thread Cert.SsmOutWgradPlainIdeal.nD Cert.SsmOutWgradPlainIdeal.τ).loc Cert.SsmOutWgradPlainIdeal.main_arg1) = m ((c.tc : Thread Cert.SsmOutWgradIdeal.nD Cert.SsmOutWgradIdeal.τ).loc Cert.SsmOutWgradIdeal.main_arg1)
      ∧ m' ((c.tc : Thread Cert.SsmOutWgradPlainIdeal.nD Cert.SsmOutWgradPlainIdeal.τ).loc Cert.SsmOutWgradPlainIdeal.main_arg2) = m ((c.tc : Thread Cert.SsmOutWgradIdeal.nD Cert.SsmOutWgradIdeal.τ).loc Cert.SsmOutWgradIdeal.main_arg2)
      ∧ m' ((c.tc : Thread Cert.SsmOutWgradPlainIdeal.nD Cert.SsmOutWgradPlainIdeal.τ).loc Cert.SsmOutWgradPlainIdeal.main_arg3) = m ((c.tc : Thread Cert.SsmOutWgradIdeal.nD Cert.SsmOutWgradIdeal.τ).loc Cert.SsmOutWgradIdeal.main_arg3)) →
    ∃ (v0 : (c : Dev Cert.SsmOutWgradIdeal.nD) → Buf (Elt Ideal) ((c.tc : Thread Cert.SsmOutWgradIdeal.nD Cert.SsmOutWgradIdeal.τ).loc Cert.SsmOutWgradIdeal.main_v0)),
      θ_run (Cert.SsmOutWgradIdeal.defs (F := Ideal)) (onTc (τ := Cert.SsmOutWgradIdeal.τ) (Cert.SsmOutWgradIdeal.main (F := Ideal))) ⟨m, fun _ => 0, g⟩ (fun r => ∀ c : Dev Cert.SsmOutWgradIdeal.nD,
          r.2.mem ((c.tc : Thread Cert.SsmOutWgradIdeal.nD Cert.SsmOutWgradIdeal.τ).loc Cert.SsmOutWgradIdeal.main_v0) = v0 c
          ∧ r.2.mem ((c.tc : Thread Cert.SsmOutWgradIdeal.nD Cert.SsmOutWgradIdeal.τ).loc Cert.SsmOutWgradIdeal.main_arg0) = m ((c.tc : Thread Cert.SsmOutWgradIdeal.nD Cert.SsmOutWgradIdeal.τ).loc Cert.SsmOutWgradIdeal.main_arg0)
          ∧ r.2.mem ((c.tc : Thread Cert.SsmOutWgradIdeal.nD Cert.SsmOutWgradIdeal.τ).loc Cert.SsmOutWgradIdeal.main_arg1) = m ((c.tc : Thread Cert.SsmOutWgradIdeal.nD Cert.SsmOutWgradIdeal.τ).loc Cert.SsmOutWgradIdeal.main_arg1)
          ∧ r.2.mem ((c.tc : Thread Cert.SsmOutWgradIdeal.nD Cert.SsmOutWgradIdeal.τ).loc Cert.SsmOutWgradIdeal.main_arg2) = m ((c.tc : Thread Cert.SsmOutWgradIdeal.nD Cert.SsmOutWgradIdeal.τ).loc Cert.SsmOutWgradIdeal.main_arg2)
          ∧ r.2.mem ((c.tc : Thread Cert.SsmOutWgradIdeal.nD Cert.SsmOutWgradIdeal.τ).loc Cert.SsmOutWgradIdeal.main_arg3) = m ((c.tc : Thread Cert.SsmOutWgradIdeal.nD Cert.SsmOutWgradIdeal.τ).loc Cert.SsmOutWgradIdeal.main_arg3))
      ∧ θ_run (Cert.SsmOutWgradPlainIdeal.defs (F := Ideal)) (onTc (τ := Cert.SsmOutWgradPlainIdeal.τ) (Cert.SsmOutWgradPlainIdeal.main (F := Ideal))) ⟨m', fun _ => 0, g'⟩ (fun r => ∀ c : Dev Cert.SsmOutWgradPlainIdeal.nD,
          r.2.mem ((c.tc : Thread Cert.SsmOutWgradPlainIdeal.nD Cert.SsmOutWgradPlainIdeal.τ).loc Cert.SsmOutWgradPlainIdeal.main_v6) = v0 c
          ∧ r.2.mem ((c.tc : Thread Cert.SsmOutWgradPlainIdeal.nD Cert.SsmOutWgradPlainIdeal.τ).loc Cert.SsmOutWgradPlainIdeal.main_arg0) = m' ((c.tc : Thread Cert.SsmOutWgradPlainIdeal.nD Cert.SsmOutWgradPlainIdeal.τ).loc Cert.SsmOutWgradPlainIdeal.main_arg0)
          ∧ r.2.mem ((c.tc : Thread Cert.SsmOutWgradPlainIdeal.nD Cert.SsmOutWgradPlainIdeal.τ).loc Cert.SsmOutWgradPlainIdeal.main_arg1) = m' ((c.tc : Thread Cert.SsmOutWgradPlainIdeal.nD Cert.SsmOutWgradPlainIdeal.τ).loc Cert.SsmOutWgradPlainIdeal.main_arg1)
          ∧ r.2.mem ((c.tc : Thread Cert.SsmOutWgradPlainIdeal.nD Cert.SsmOutWgradPlainIdeal.τ).loc Cert.SsmOutWgradPlainIdeal.main_arg2) = m' ((c.tc : Thread Cert.SsmOutWgradPlainIdeal.nD Cert.SsmOutWgradPlainIdeal.τ).loc Cert.SsmOutWgradPlainIdeal.main_arg2)
          ∧ r.2.mem ((c.tc : Thread Cert.SsmOutWgradPlainIdeal.nD Cert.SsmOutWgradPlainIdeal.τ).loc Cert.SsmOutWgradPlainIdeal.main_arg3) = m' ((c.tc : Thread Cert.SsmOutWgradPlainIdeal.nD Cert.SsmOutWgradPlainIdeal.τ).loc Cert.SsmOutWgradPlainIdeal.main_arg3))

def preserves_GluWgrad_GluWgradIdeal : Prop :=
  True

def algebraic_GluWgradIdeal_GluWgradPlainIdeal [hGluWgradIdeal : Cert.GluWgradIdeal.Facts] [hGluWgradPlainIdeal : Cert.GluWgradPlainIdeal.Facts] : Prop :=
  ∀ (m : (ℓ : Loc Cert.GluWgradIdeal.nD Cert.GluWgradIdeal.τ Cert.GluWgradIdeal.sig) → Buf (Elt Ideal) ℓ) (g : Dev Cert.GluWgradIdeal.nD → PrngReg)
    (m' : (ℓ : Loc Cert.GluWgradPlainIdeal.nD Cert.GluWgradPlainIdeal.τ Cert.GluWgradPlainIdeal.sig) → Buf (Elt Ideal) ℓ) (g' : Dev Cert.GluWgradPlainIdeal.nD → PrngReg), Pre_GluWgradIdeal m →
    (∀ c : Dev Cert.GluWgradIdeal.nD,
      m' ((c.tc : Thread Cert.GluWgradPlainIdeal.nD Cert.GluWgradPlainIdeal.τ).loc Cert.GluWgradPlainIdeal.main_arg0) = m ((c.tc : Thread Cert.GluWgradIdeal.nD Cert.GluWgradIdeal.τ).loc Cert.GluWgradIdeal.main_arg0)
      ∧ m' ((c.tc : Thread Cert.GluWgradPlainIdeal.nD Cert.GluWgradPlainIdeal.τ).loc Cert.GluWgradPlainIdeal.main_arg1) = m ((c.tc : Thread Cert.GluWgradIdeal.nD Cert.GluWgradIdeal.τ).loc Cert.GluWgradIdeal.main_arg1)
      ∧ m' ((c.tc : Thread Cert.GluWgradPlainIdeal.nD Cert.GluWgradPlainIdeal.τ).loc Cert.GluWgradPlainIdeal.main_arg2) = m ((c.tc : Thread Cert.GluWgradIdeal.nD Cert.GluWgradIdeal.τ).loc Cert.GluWgradIdeal.main_arg2)
      ∧ m' ((c.tc : Thread Cert.GluWgradPlainIdeal.nD Cert.GluWgradPlainIdeal.τ).loc Cert.GluWgradPlainIdeal.main_arg3) = m ((c.tc : Thread Cert.GluWgradIdeal.nD Cert.GluWgradIdeal.τ).loc Cert.GluWgradIdeal.main_arg3)) →
    ∃ (v0 : (c : Dev Cert.GluWgradIdeal.nD) → Buf (Elt Ideal) ((c.tc : Thread Cert.GluWgradIdeal.nD Cert.GluWgradIdeal.τ).loc Cert.GluWgradIdeal.main_v0)),
      θ_run (Cert.GluWgradIdeal.defs (F := Ideal)) (onTc (τ := Cert.GluWgradIdeal.τ) (Cert.GluWgradIdeal.main (F := Ideal))) ⟨m, fun _ => 0, g⟩ (fun r => ∀ c : Dev Cert.GluWgradIdeal.nD,
          r.2.mem ((c.tc : Thread Cert.GluWgradIdeal.nD Cert.GluWgradIdeal.τ).loc Cert.GluWgradIdeal.main_v0) = v0 c
          ∧ r.2.mem ((c.tc : Thread Cert.GluWgradIdeal.nD Cert.GluWgradIdeal.τ).loc Cert.GluWgradIdeal.main_arg0) = m ((c.tc : Thread Cert.GluWgradIdeal.nD Cert.GluWgradIdeal.τ).loc Cert.GluWgradIdeal.main_arg0)
          ∧ r.2.mem ((c.tc : Thread Cert.GluWgradIdeal.nD Cert.GluWgradIdeal.τ).loc Cert.GluWgradIdeal.main_arg1) = m ((c.tc : Thread Cert.GluWgradIdeal.nD Cert.GluWgradIdeal.τ).loc Cert.GluWgradIdeal.main_arg1)
          ∧ r.2.mem ((c.tc : Thread Cert.GluWgradIdeal.nD Cert.GluWgradIdeal.τ).loc Cert.GluWgradIdeal.main_arg2) = m ((c.tc : Thread Cert.GluWgradIdeal.nD Cert.GluWgradIdeal.τ).loc Cert.GluWgradIdeal.main_arg2)
          ∧ r.2.mem ((c.tc : Thread Cert.GluWgradIdeal.nD Cert.GluWgradIdeal.τ).loc Cert.GluWgradIdeal.main_arg3) = m ((c.tc : Thread Cert.GluWgradIdeal.nD Cert.GluWgradIdeal.τ).loc Cert.GluWgradIdeal.main_arg3))
      ∧ θ_run (Cert.GluWgradPlainIdeal.defs (F := Ideal)) (onTc (τ := Cert.GluWgradPlainIdeal.τ) (Cert.GluWgradPlainIdeal.main (F := Ideal))) ⟨m', fun _ => 0, g'⟩ (fun r => ∀ c : Dev Cert.GluWgradPlainIdeal.nD,
          r.2.mem ((c.tc : Thread Cert.GluWgradPlainIdeal.nD Cert.GluWgradPlainIdeal.τ).loc Cert.GluWgradPlainIdeal.main_v6) = v0 c
          ∧ r.2.mem ((c.tc : Thread Cert.GluWgradPlainIdeal.nD Cert.GluWgradPlainIdeal.τ).loc Cert.GluWgradPlainIdeal.main_arg0) = m' ((c.tc : Thread Cert.GluWgradPlainIdeal.nD Cert.GluWgradPlainIdeal.τ).loc Cert.GluWgradPlainIdeal.main_arg0)
          ∧ r.2.mem ((c.tc : Thread Cert.GluWgradPlainIdeal.nD Cert.GluWgradPlainIdeal.τ).loc Cert.GluWgradPlainIdeal.main_arg1) = m' ((c.tc : Thread Cert.GluWgradPlainIdeal.nD Cert.GluWgradPlainIdeal.τ).loc Cert.GluWgradPlainIdeal.main_arg1)
          ∧ r.2.mem ((c.tc : Thread Cert.GluWgradPlainIdeal.nD Cert.GluWgradPlainIdeal.τ).loc Cert.GluWgradPlainIdeal.main_arg2) = m' ((c.tc : Thread Cert.GluWgradPlainIdeal.nD Cert.GluWgradPlainIdeal.τ).loc Cert.GluWgradPlainIdeal.main_arg2)
          ∧ r.2.mem ((c.tc : Thread Cert.GluWgradPlainIdeal.nD Cert.GluWgradPlainIdeal.τ).loc Cert.GluWgradPlainIdeal.main_arg3) = m' ((c.tc : Thread Cert.GluWgradPlainIdeal.nD Cert.GluWgradPlainIdeal.τ).loc Cert.GluWgradPlainIdeal.main_arg3))

def preserves_SsmInWgradU_SsmInWgradUIdeal : Prop :=
  True

def algebraic_SsmInWgradUIdeal_SsmInWgradUPlainIdeal [hSsmInWgradUIdeal : Cert.SsmInWgradUIdeal.Facts] [hSsmInWgradUPlainIdeal : Cert.SsmInWgradUPlainIdeal.Facts] : Prop :=
  ∀ (m : (ℓ : Loc Cert.SsmInWgradUIdeal.nD Cert.SsmInWgradUIdeal.τ Cert.SsmInWgradUIdeal.sig) → Buf (Elt Ideal) ℓ) (g : Dev Cert.SsmInWgradUIdeal.nD → PrngReg)
    (m' : (ℓ : Loc Cert.SsmInWgradUPlainIdeal.nD Cert.SsmInWgradUPlainIdeal.τ Cert.SsmInWgradUPlainIdeal.sig) → Buf (Elt Ideal) ℓ) (g' : Dev Cert.SsmInWgradUPlainIdeal.nD → PrngReg), Pre_SsmInWgradUIdeal m →
    (∀ c : Dev Cert.SsmInWgradUIdeal.nD,
      m' ((c.tc : Thread Cert.SsmInWgradUPlainIdeal.nD Cert.SsmInWgradUPlainIdeal.τ).loc Cert.SsmInWgradUPlainIdeal.main_arg0) = m ((c.tc : Thread Cert.SsmInWgradUIdeal.nD Cert.SsmInWgradUIdeal.τ).loc Cert.SsmInWgradUIdeal.main_arg0)
      ∧ m' ((c.tc : Thread Cert.SsmInWgradUPlainIdeal.nD Cert.SsmInWgradUPlainIdeal.τ).loc Cert.SsmInWgradUPlainIdeal.main_arg1) = m ((c.tc : Thread Cert.SsmInWgradUIdeal.nD Cert.SsmInWgradUIdeal.τ).loc Cert.SsmInWgradUIdeal.main_arg1)
      ∧ m' ((c.tc : Thread Cert.SsmInWgradUPlainIdeal.nD Cert.SsmInWgradUPlainIdeal.τ).loc Cert.SsmInWgradUPlainIdeal.main_arg2) = m ((c.tc : Thread Cert.SsmInWgradUIdeal.nD Cert.SsmInWgradUIdeal.τ).loc Cert.SsmInWgradUIdeal.main_arg2)
      ∧ m' ((c.tc : Thread Cert.SsmInWgradUPlainIdeal.nD Cert.SsmInWgradUPlainIdeal.τ).loc Cert.SsmInWgradUPlainIdeal.main_arg3) = m ((c.tc : Thread Cert.SsmInWgradUIdeal.nD Cert.SsmInWgradUIdeal.τ).loc Cert.SsmInWgradUIdeal.main_arg3)) →
    ∃ (v0 : (c : Dev Cert.SsmInWgradUIdeal.nD) → Buf (Elt Ideal) ((c.tc : Thread Cert.SsmInWgradUIdeal.nD Cert.SsmInWgradUIdeal.τ).loc Cert.SsmInWgradUIdeal.main_v0)),
      θ_run (Cert.SsmInWgradUIdeal.defs (F := Ideal)) (onTc (τ := Cert.SsmInWgradUIdeal.τ) (Cert.SsmInWgradUIdeal.main (F := Ideal))) ⟨m, fun _ => 0, g⟩ (fun r => ∀ c : Dev Cert.SsmInWgradUIdeal.nD,
          r.2.mem ((c.tc : Thread Cert.SsmInWgradUIdeal.nD Cert.SsmInWgradUIdeal.τ).loc Cert.SsmInWgradUIdeal.main_v0) = v0 c
          ∧ r.2.mem ((c.tc : Thread Cert.SsmInWgradUIdeal.nD Cert.SsmInWgradUIdeal.τ).loc Cert.SsmInWgradUIdeal.main_arg0) = m ((c.tc : Thread Cert.SsmInWgradUIdeal.nD Cert.SsmInWgradUIdeal.τ).loc Cert.SsmInWgradUIdeal.main_arg0)
          ∧ r.2.mem ((c.tc : Thread Cert.SsmInWgradUIdeal.nD Cert.SsmInWgradUIdeal.τ).loc Cert.SsmInWgradUIdeal.main_arg1) = m ((c.tc : Thread Cert.SsmInWgradUIdeal.nD Cert.SsmInWgradUIdeal.τ).loc Cert.SsmInWgradUIdeal.main_arg1)
          ∧ r.2.mem ((c.tc : Thread Cert.SsmInWgradUIdeal.nD Cert.SsmInWgradUIdeal.τ).loc Cert.SsmInWgradUIdeal.main_arg2) = m ((c.tc : Thread Cert.SsmInWgradUIdeal.nD Cert.SsmInWgradUIdeal.τ).loc Cert.SsmInWgradUIdeal.main_arg2)
          ∧ r.2.mem ((c.tc : Thread Cert.SsmInWgradUIdeal.nD Cert.SsmInWgradUIdeal.τ).loc Cert.SsmInWgradUIdeal.main_arg3) = m ((c.tc : Thread Cert.SsmInWgradUIdeal.nD Cert.SsmInWgradUIdeal.τ).loc Cert.SsmInWgradUIdeal.main_arg3))
      ∧ θ_run (Cert.SsmInWgradUPlainIdeal.defs (F := Ideal)) (onTc (τ := Cert.SsmInWgradUPlainIdeal.τ) (Cert.SsmInWgradUPlainIdeal.main (F := Ideal))) ⟨m', fun _ => 0, g'⟩ (fun r => ∀ c : Dev Cert.SsmInWgradUPlainIdeal.nD,
          r.2.mem ((c.tc : Thread Cert.SsmInWgradUPlainIdeal.nD Cert.SsmInWgradUPlainIdeal.τ).loc Cert.SsmInWgradUPlainIdeal.main_v9) = v0 c
          ∧ r.2.mem ((c.tc : Thread Cert.SsmInWgradUPlainIdeal.nD Cert.SsmInWgradUPlainIdeal.τ).loc Cert.SsmInWgradUPlainIdeal.main_arg0) = m' ((c.tc : Thread Cert.SsmInWgradUPlainIdeal.nD Cert.SsmInWgradUPlainIdeal.τ).loc Cert.SsmInWgradUPlainIdeal.main_arg0)
          ∧ r.2.mem ((c.tc : Thread Cert.SsmInWgradUPlainIdeal.nD Cert.SsmInWgradUPlainIdeal.τ).loc Cert.SsmInWgradUPlainIdeal.main_arg1) = m' ((c.tc : Thread Cert.SsmInWgradUPlainIdeal.nD Cert.SsmInWgradUPlainIdeal.τ).loc Cert.SsmInWgradUPlainIdeal.main_arg1)
          ∧ r.2.mem ((c.tc : Thread Cert.SsmInWgradUPlainIdeal.nD Cert.SsmInWgradUPlainIdeal.τ).loc Cert.SsmInWgradUPlainIdeal.main_arg2) = m' ((c.tc : Thread Cert.SsmInWgradUPlainIdeal.nD Cert.SsmInWgradUPlainIdeal.τ).loc Cert.SsmInWgradUPlainIdeal.main_arg2)
          ∧ r.2.mem ((c.tc : Thread Cert.SsmInWgradUPlainIdeal.nD Cert.SsmInWgradUPlainIdeal.τ).loc Cert.SsmInWgradUPlainIdeal.main_arg3) = m' ((c.tc : Thread Cert.SsmInWgradUPlainIdeal.nD Cert.SsmInWgradUPlainIdeal.τ).loc Cert.SsmInWgradUPlainIdeal.main_arg3))

def preserves_SsmInWgradGate_SsmInWgradGateIdeal : Prop :=
  True

def algebraic_SsmInWgradGateIdeal_SsmInWgradGatePlainIdeal [hSsmInWgradGateIdeal : Cert.SsmInWgradGateIdeal.Facts] [hSsmInWgradGatePlainIdeal : Cert.SsmInWgradGatePlainIdeal.Facts] : Prop :=
  ∀ (m : (ℓ : Loc Cert.SsmInWgradGateIdeal.nD Cert.SsmInWgradGateIdeal.τ Cert.SsmInWgradGateIdeal.sig) → Buf (Elt Ideal) ℓ) (g : Dev Cert.SsmInWgradGateIdeal.nD → PrngReg)
    (m' : (ℓ : Loc Cert.SsmInWgradGatePlainIdeal.nD Cert.SsmInWgradGatePlainIdeal.τ Cert.SsmInWgradGatePlainIdeal.sig) → Buf (Elt Ideal) ℓ) (g' : Dev Cert.SsmInWgradGatePlainIdeal.nD → PrngReg), Pre_SsmInWgradGateIdeal m →
    (∀ c : Dev Cert.SsmInWgradGateIdeal.nD,
      m' ((c.tc : Thread Cert.SsmInWgradGatePlainIdeal.nD Cert.SsmInWgradGatePlainIdeal.τ).loc Cert.SsmInWgradGatePlainIdeal.main_arg0) = m ((c.tc : Thread Cert.SsmInWgradGateIdeal.nD Cert.SsmInWgradGateIdeal.τ).loc Cert.SsmInWgradGateIdeal.main_arg0)
      ∧ m' ((c.tc : Thread Cert.SsmInWgradGatePlainIdeal.nD Cert.SsmInWgradGatePlainIdeal.τ).loc Cert.SsmInWgradGatePlainIdeal.main_arg1) = m ((c.tc : Thread Cert.SsmInWgradGateIdeal.nD Cert.SsmInWgradGateIdeal.τ).loc Cert.SsmInWgradGateIdeal.main_arg1)
      ∧ m' ((c.tc : Thread Cert.SsmInWgradGatePlainIdeal.nD Cert.SsmInWgradGatePlainIdeal.τ).loc Cert.SsmInWgradGatePlainIdeal.main_arg2) = m ((c.tc : Thread Cert.SsmInWgradGateIdeal.nD Cert.SsmInWgradGateIdeal.τ).loc Cert.SsmInWgradGateIdeal.main_arg2)
      ∧ m' ((c.tc : Thread Cert.SsmInWgradGatePlainIdeal.nD Cert.SsmInWgradGatePlainIdeal.τ).loc Cert.SsmInWgradGatePlainIdeal.main_arg3) = m ((c.tc : Thread Cert.SsmInWgradGateIdeal.nD Cert.SsmInWgradGateIdeal.τ).loc Cert.SsmInWgradGateIdeal.main_arg3)) →
    ∃ (v0 : (c : Dev Cert.SsmInWgradGateIdeal.nD) → Buf (Elt Ideal) ((c.tc : Thread Cert.SsmInWgradGateIdeal.nD Cert.SsmInWgradGateIdeal.τ).loc Cert.SsmInWgradGateIdeal.main_v0)),
      θ_run (Cert.SsmInWgradGateIdeal.defs (F := Ideal)) (onTc (τ := Cert.SsmInWgradGateIdeal.τ) (Cert.SsmInWgradGateIdeal.main (F := Ideal))) ⟨m, fun _ => 0, g⟩ (fun r => ∀ c : Dev Cert.SsmInWgradGateIdeal.nD,
          r.2.mem ((c.tc : Thread Cert.SsmInWgradGateIdeal.nD Cert.SsmInWgradGateIdeal.τ).loc Cert.SsmInWgradGateIdeal.main_v0) = v0 c
          ∧ r.2.mem ((c.tc : Thread Cert.SsmInWgradGateIdeal.nD Cert.SsmInWgradGateIdeal.τ).loc Cert.SsmInWgradGateIdeal.main_arg0) = m ((c.tc : Thread Cert.SsmInWgradGateIdeal.nD Cert.SsmInWgradGateIdeal.τ).loc Cert.SsmInWgradGateIdeal.main_arg0)
          ∧ r.2.mem ((c.tc : Thread Cert.SsmInWgradGateIdeal.nD Cert.SsmInWgradGateIdeal.τ).loc Cert.SsmInWgradGateIdeal.main_arg1) = m ((c.tc : Thread Cert.SsmInWgradGateIdeal.nD Cert.SsmInWgradGateIdeal.τ).loc Cert.SsmInWgradGateIdeal.main_arg1)
          ∧ r.2.mem ((c.tc : Thread Cert.SsmInWgradGateIdeal.nD Cert.SsmInWgradGateIdeal.τ).loc Cert.SsmInWgradGateIdeal.main_arg2) = m ((c.tc : Thread Cert.SsmInWgradGateIdeal.nD Cert.SsmInWgradGateIdeal.τ).loc Cert.SsmInWgradGateIdeal.main_arg2)
          ∧ r.2.mem ((c.tc : Thread Cert.SsmInWgradGateIdeal.nD Cert.SsmInWgradGateIdeal.τ).loc Cert.SsmInWgradGateIdeal.main_arg3) = m ((c.tc : Thread Cert.SsmInWgradGateIdeal.nD Cert.SsmInWgradGateIdeal.τ).loc Cert.SsmInWgradGateIdeal.main_arg3))
      ∧ θ_run (Cert.SsmInWgradGatePlainIdeal.defs (F := Ideal)) (onTc (τ := Cert.SsmInWgradGatePlainIdeal.τ) (Cert.SsmInWgradGatePlainIdeal.main (F := Ideal))) ⟨m', fun _ => 0, g'⟩ (fun r => ∀ c : Dev Cert.SsmInWgradGatePlainIdeal.nD,
          r.2.mem ((c.tc : Thread Cert.SsmInWgradGatePlainIdeal.nD Cert.SsmInWgradGatePlainIdeal.τ).loc Cert.SsmInWgradGatePlainIdeal.main_v9) = v0 c
          ∧ r.2.mem ((c.tc : Thread Cert.SsmInWgradGatePlainIdeal.nD Cert.SsmInWgradGatePlainIdeal.τ).loc Cert.SsmInWgradGatePlainIdeal.main_arg0) = m' ((c.tc : Thread Cert.SsmInWgradGatePlainIdeal.nD Cert.SsmInWgradGatePlainIdeal.τ).loc Cert.SsmInWgradGatePlainIdeal.main_arg0)
          ∧ r.2.mem ((c.tc : Thread Cert.SsmInWgradGatePlainIdeal.nD Cert.SsmInWgradGatePlainIdeal.τ).loc Cert.SsmInWgradGatePlainIdeal.main_arg1) = m' ((c.tc : Thread Cert.SsmInWgradGatePlainIdeal.nD Cert.SsmInWgradGatePlainIdeal.τ).loc Cert.SsmInWgradGatePlainIdeal.main_arg1)
          ∧ r.2.mem ((c.tc : Thread Cert.SsmInWgradGatePlainIdeal.nD Cert.SsmInWgradGatePlainIdeal.τ).loc Cert.SsmInWgradGatePlainIdeal.main_arg2) = m' ((c.tc : Thread Cert.SsmInWgradGatePlainIdeal.nD Cert.SsmInWgradGatePlainIdeal.τ).loc Cert.SsmInWgradGatePlainIdeal.main_arg2)
          ∧ r.2.mem ((c.tc : Thread Cert.SsmInWgradGatePlainIdeal.nD Cert.SsmInWgradGatePlainIdeal.τ).loc Cert.SsmInWgradGatePlainIdeal.main_arg3) = m' ((c.tc : Thread Cert.SsmInWgradGatePlainIdeal.nD Cert.SsmInWgradGatePlainIdeal.τ).loc Cert.SsmInWgradGatePlainIdeal.main_arg3))

def preserves_AttnOutWgrad_AttnOutWgradIdeal : Prop :=
  True

def algebraic_AttnOutWgradIdeal_AttnOutWgradPlainIdeal [hAttnOutWgradIdeal : Cert.AttnOutWgradIdeal.Facts] [hAttnOutWgradPlainIdeal : Cert.AttnOutWgradPlainIdeal.Facts] : Prop :=
  ∀ (m : (ℓ : Loc Cert.AttnOutWgradIdeal.nD Cert.AttnOutWgradIdeal.τ Cert.AttnOutWgradIdeal.sig) → Buf (Elt Ideal) ℓ) (g : Dev Cert.AttnOutWgradIdeal.nD → PrngReg)
    (m' : (ℓ : Loc Cert.AttnOutWgradPlainIdeal.nD Cert.AttnOutWgradPlainIdeal.τ Cert.AttnOutWgradPlainIdeal.sig) → Buf (Elt Ideal) ℓ) (g' : Dev Cert.AttnOutWgradPlainIdeal.nD → PrngReg), Pre_AttnOutWgradIdeal m →
    (∀ c : Dev Cert.AttnOutWgradIdeal.nD,
      m' ((c.tc : Thread Cert.AttnOutWgradPlainIdeal.nD Cert.AttnOutWgradPlainIdeal.τ).loc Cert.AttnOutWgradPlainIdeal.main_arg0) = m ((c.tc : Thread Cert.AttnOutWgradIdeal.nD Cert.AttnOutWgradIdeal.τ).loc Cert.AttnOutWgradIdeal.main_arg0)
      ∧ m' ((c.tc : Thread Cert.AttnOutWgradPlainIdeal.nD Cert.AttnOutWgradPlainIdeal.τ).loc Cert.AttnOutWgradPlainIdeal.main_arg1) = m ((c.tc : Thread Cert.AttnOutWgradIdeal.nD Cert.AttnOutWgradIdeal.τ).loc Cert.AttnOutWgradIdeal.main_arg1)
      ∧ m' ((c.tc : Thread Cert.AttnOutWgradPlainIdeal.nD Cert.AttnOutWgradPlainIdeal.τ).loc Cert.AttnOutWgradPlainIdeal.main_arg2) = m ((c.tc : Thread Cert.AttnOutWgradIdeal.nD Cert.AttnOutWgradIdeal.τ).loc Cert.AttnOutWgradIdeal.main_arg2)
      ∧ m' ((c.tc : Thread Cert.AttnOutWgradPlainIdeal.nD Cert.AttnOutWgradPlainIdeal.τ).loc Cert.AttnOutWgradPlainIdeal.main_arg3) = m ((c.tc : Thread Cert.AttnOutWgradIdeal.nD Cert.AttnOutWgradIdeal.τ).loc Cert.AttnOutWgradIdeal.main_arg3)) →
    ∃ (v0 : (c : Dev Cert.AttnOutWgradIdeal.nD) → Buf (Elt Ideal) ((c.tc : Thread Cert.AttnOutWgradIdeal.nD Cert.AttnOutWgradIdeal.τ).loc Cert.AttnOutWgradIdeal.main_v0)),
      θ_run (Cert.AttnOutWgradIdeal.defs (F := Ideal)) (onTc (τ := Cert.AttnOutWgradIdeal.τ) (Cert.AttnOutWgradIdeal.main (F := Ideal))) ⟨m, fun _ => 0, g⟩ (fun r => ∀ c : Dev Cert.AttnOutWgradIdeal.nD,
          r.2.mem ((c.tc : Thread Cert.AttnOutWgradIdeal.nD Cert.AttnOutWgradIdeal.τ).loc Cert.AttnOutWgradIdeal.main_v0) = v0 c
          ∧ r.2.mem ((c.tc : Thread Cert.AttnOutWgradIdeal.nD Cert.AttnOutWgradIdeal.τ).loc Cert.AttnOutWgradIdeal.main_arg0) = m ((c.tc : Thread Cert.AttnOutWgradIdeal.nD Cert.AttnOutWgradIdeal.τ).loc Cert.AttnOutWgradIdeal.main_arg0)
          ∧ r.2.mem ((c.tc : Thread Cert.AttnOutWgradIdeal.nD Cert.AttnOutWgradIdeal.τ).loc Cert.AttnOutWgradIdeal.main_arg1) = m ((c.tc : Thread Cert.AttnOutWgradIdeal.nD Cert.AttnOutWgradIdeal.τ).loc Cert.AttnOutWgradIdeal.main_arg1)
          ∧ r.2.mem ((c.tc : Thread Cert.AttnOutWgradIdeal.nD Cert.AttnOutWgradIdeal.τ).loc Cert.AttnOutWgradIdeal.main_arg2) = m ((c.tc : Thread Cert.AttnOutWgradIdeal.nD Cert.AttnOutWgradIdeal.τ).loc Cert.AttnOutWgradIdeal.main_arg2)
          ∧ r.2.mem ((c.tc : Thread Cert.AttnOutWgradIdeal.nD Cert.AttnOutWgradIdeal.τ).loc Cert.AttnOutWgradIdeal.main_arg3) = m ((c.tc : Thread Cert.AttnOutWgradIdeal.nD Cert.AttnOutWgradIdeal.τ).loc Cert.AttnOutWgradIdeal.main_arg3))
      ∧ θ_run (Cert.AttnOutWgradPlainIdeal.defs (F := Ideal)) (onTc (τ := Cert.AttnOutWgradPlainIdeal.τ) (Cert.AttnOutWgradPlainIdeal.main (F := Ideal))) ⟨m', fun _ => 0, g'⟩ (fun r => ∀ c : Dev Cert.AttnOutWgradPlainIdeal.nD,
          r.2.mem ((c.tc : Thread Cert.AttnOutWgradPlainIdeal.nD Cert.AttnOutWgradPlainIdeal.τ).loc Cert.AttnOutWgradPlainIdeal.main_v6) = v0 c
          ∧ r.2.mem ((c.tc : Thread Cert.AttnOutWgradPlainIdeal.nD Cert.AttnOutWgradPlainIdeal.τ).loc Cert.AttnOutWgradPlainIdeal.main_arg0) = m' ((c.tc : Thread Cert.AttnOutWgradPlainIdeal.nD Cert.AttnOutWgradPlainIdeal.τ).loc Cert.AttnOutWgradPlainIdeal.main_arg0)
          ∧ r.2.mem ((c.tc : Thread Cert.AttnOutWgradPlainIdeal.nD Cert.AttnOutWgradPlainIdeal.τ).loc Cert.AttnOutWgradPlainIdeal.main_arg1) = m' ((c.tc : Thread Cert.AttnOutWgradPlainIdeal.nD Cert.AttnOutWgradPlainIdeal.τ).loc Cert.AttnOutWgradPlainIdeal.main_arg1)
          ∧ r.2.mem ((c.tc : Thread Cert.AttnOutWgradPlainIdeal.nD Cert.AttnOutWgradPlainIdeal.τ).loc Cert.AttnOutWgradPlainIdeal.main_arg2) = m' ((c.tc : Thread Cert.AttnOutWgradPlainIdeal.nD Cert.AttnOutWgradPlainIdeal.τ).loc Cert.AttnOutWgradPlainIdeal.main_arg2)
          ∧ r.2.mem ((c.tc : Thread Cert.AttnOutWgradPlainIdeal.nD Cert.AttnOutWgradPlainIdeal.τ).loc Cert.AttnOutWgradPlainIdeal.main_arg3) = m' ((c.tc : Thread Cert.AttnOutWgradPlainIdeal.nD Cert.AttnOutWgradPlainIdeal.τ).loc Cert.AttnOutWgradPlainIdeal.main_arg3))

def preserves_AttnInWgrad0_AttnInWgrad0Ideal : Prop :=
  True

def algebraic_AttnInWgrad0Ideal_AttnInWgrad0PlainIdeal [hAttnInWgrad0Ideal : Cert.AttnInWgrad0Ideal.Facts] [hAttnInWgrad0PlainIdeal : Cert.AttnInWgrad0PlainIdeal.Facts] : Prop :=
  ∀ (m : (ℓ : Loc Cert.AttnInWgrad0Ideal.nD Cert.AttnInWgrad0Ideal.τ Cert.AttnInWgrad0Ideal.sig) → Buf (Elt Ideal) ℓ) (g : Dev Cert.AttnInWgrad0Ideal.nD → PrngReg)
    (m' : (ℓ : Loc Cert.AttnInWgrad0PlainIdeal.nD Cert.AttnInWgrad0PlainIdeal.τ Cert.AttnInWgrad0PlainIdeal.sig) → Buf (Elt Ideal) ℓ) (g' : Dev Cert.AttnInWgrad0PlainIdeal.nD → PrngReg), Pre_AttnInWgrad0Ideal m →
    (∀ c : Dev Cert.AttnInWgrad0Ideal.nD,
      m' ((c.tc : Thread Cert.AttnInWgrad0PlainIdeal.nD Cert.AttnInWgrad0PlainIdeal.τ).loc Cert.AttnInWgrad0PlainIdeal.main_arg0) = m ((c.tc : Thread Cert.AttnInWgrad0Ideal.nD Cert.AttnInWgrad0Ideal.τ).loc Cert.AttnInWgrad0Ideal.main_arg0)
      ∧ m' ((c.tc : Thread Cert.AttnInWgrad0PlainIdeal.nD Cert.AttnInWgrad0PlainIdeal.τ).loc Cert.AttnInWgrad0PlainIdeal.main_arg1) = m ((c.tc : Thread Cert.AttnInWgrad0Ideal.nD Cert.AttnInWgrad0Ideal.τ).loc Cert.AttnInWgrad0Ideal.main_arg1)
      ∧ m' ((c.tc : Thread Cert.AttnInWgrad0PlainIdeal.nD Cert.AttnInWgrad0PlainIdeal.τ).loc Cert.AttnInWgrad0PlainIdeal.main_arg2) = m ((c.tc : Thread Cert.AttnInWgrad0Ideal.nD Cert.AttnInWgrad0Ideal.τ).loc Cert.AttnInWgrad0Ideal.main_arg2)
      ∧ m' ((c.tc : Thread Cert.AttnInWgrad0PlainIdeal.nD Cert.AttnInWgrad0PlainIdeal.τ).loc Cert.AttnInWgrad0PlainIdeal.main_arg3) = m ((c.tc : Thread Cert.AttnInWgrad0Ideal.nD Cert.AttnInWgrad0Ideal.τ).loc Cert.AttnInWgrad0Ideal.main_arg3)) →
    ∃ (v0 : (c : Dev Cert.AttnInWgrad0Ideal.nD) → Buf (Elt Ideal) ((c.tc : Thread Cert.AttnInWgrad0Ideal.nD Cert.AttnInWgrad0Ideal.τ).loc Cert.AttnInWgrad0Ideal.main_v0)),
      θ_run (Cert.AttnInWgrad0Ideal.defs (F := Ideal)) (onTc (τ := Cert.AttnInWgrad0Ideal.τ) (Cert.AttnInWgrad0Ideal.main (F := Ideal))) ⟨m, fun _ => 0, g⟩ (fun r => ∀ c : Dev Cert.AttnInWgrad0Ideal.nD,
          r.2.mem ((c.tc : Thread Cert.AttnInWgrad0Ideal.nD Cert.AttnInWgrad0Ideal.τ).loc Cert.AttnInWgrad0Ideal.main_v0) = v0 c
          ∧ r.2.mem ((c.tc : Thread Cert.AttnInWgrad0Ideal.nD Cert.AttnInWgrad0Ideal.τ).loc Cert.AttnInWgrad0Ideal.main_arg0) = m ((c.tc : Thread Cert.AttnInWgrad0Ideal.nD Cert.AttnInWgrad0Ideal.τ).loc Cert.AttnInWgrad0Ideal.main_arg0)
          ∧ r.2.mem ((c.tc : Thread Cert.AttnInWgrad0Ideal.nD Cert.AttnInWgrad0Ideal.τ).loc Cert.AttnInWgrad0Ideal.main_arg1) = m ((c.tc : Thread Cert.AttnInWgrad0Ideal.nD Cert.AttnInWgrad0Ideal.τ).loc Cert.AttnInWgrad0Ideal.main_arg1)
          ∧ r.2.mem ((c.tc : Thread Cert.AttnInWgrad0Ideal.nD Cert.AttnInWgrad0Ideal.τ).loc Cert.AttnInWgrad0Ideal.main_arg2) = m ((c.tc : Thread Cert.AttnInWgrad0Ideal.nD Cert.AttnInWgrad0Ideal.τ).loc Cert.AttnInWgrad0Ideal.main_arg2)
          ∧ r.2.mem ((c.tc : Thread Cert.AttnInWgrad0Ideal.nD Cert.AttnInWgrad0Ideal.τ).loc Cert.AttnInWgrad0Ideal.main_arg3) = m ((c.tc : Thread Cert.AttnInWgrad0Ideal.nD Cert.AttnInWgrad0Ideal.τ).loc Cert.AttnInWgrad0Ideal.main_arg3))
      ∧ θ_run (Cert.AttnInWgrad0PlainIdeal.defs (F := Ideal)) (onTc (τ := Cert.AttnInWgrad0PlainIdeal.τ) (Cert.AttnInWgrad0PlainIdeal.main (F := Ideal))) ⟨m', fun _ => 0, g'⟩ (fun r => ∀ c : Dev Cert.AttnInWgrad0PlainIdeal.nD,
          r.2.mem ((c.tc : Thread Cert.AttnInWgrad0PlainIdeal.nD Cert.AttnInWgrad0PlainIdeal.τ).loc Cert.AttnInWgrad0PlainIdeal.main_v7) = v0 c
          ∧ r.2.mem ((c.tc : Thread Cert.AttnInWgrad0PlainIdeal.nD Cert.AttnInWgrad0PlainIdeal.τ).loc Cert.AttnInWgrad0PlainIdeal.main_arg0) = m' ((c.tc : Thread Cert.AttnInWgrad0PlainIdeal.nD Cert.AttnInWgrad0PlainIdeal.τ).loc Cert.AttnInWgrad0PlainIdeal.main_arg0)
          ∧ r.2.mem ((c.tc : Thread Cert.AttnInWgrad0PlainIdeal.nD Cert.AttnInWgrad0PlainIdeal.τ).loc Cert.AttnInWgrad0PlainIdeal.main_arg1) = m' ((c.tc : Thread Cert.AttnInWgrad0PlainIdeal.nD Cert.AttnInWgrad0PlainIdeal.τ).loc Cert.AttnInWgrad0PlainIdeal.main_arg1)
          ∧ r.2.mem ((c.tc : Thread Cert.AttnInWgrad0PlainIdeal.nD Cert.AttnInWgrad0PlainIdeal.τ).loc Cert.AttnInWgrad0PlainIdeal.main_arg2) = m' ((c.tc : Thread Cert.AttnInWgrad0PlainIdeal.nD Cert.AttnInWgrad0PlainIdeal.τ).loc Cert.AttnInWgrad0PlainIdeal.main_arg2)
          ∧ r.2.mem ((c.tc : Thread Cert.AttnInWgrad0PlainIdeal.nD Cert.AttnInWgrad0PlainIdeal.τ).loc Cert.AttnInWgrad0PlainIdeal.main_arg3) = m' ((c.tc : Thread Cert.AttnInWgrad0PlainIdeal.nD Cert.AttnInWgrad0PlainIdeal.τ).loc Cert.AttnInWgrad0PlainIdeal.main_arg3))

def preserves_AttnInWgrad1_AttnInWgrad1Ideal : Prop :=
  True

def algebraic_AttnInWgrad1Ideal_AttnInWgrad1PlainIdeal [hAttnInWgrad1Ideal : Cert.AttnInWgrad1Ideal.Facts] [hAttnInWgrad1PlainIdeal : Cert.AttnInWgrad1PlainIdeal.Facts] : Prop :=
  ∀ (m : (ℓ : Loc Cert.AttnInWgrad1Ideal.nD Cert.AttnInWgrad1Ideal.τ Cert.AttnInWgrad1Ideal.sig) → Buf (Elt Ideal) ℓ) (g : Dev Cert.AttnInWgrad1Ideal.nD → PrngReg)
    (m' : (ℓ : Loc Cert.AttnInWgrad1PlainIdeal.nD Cert.AttnInWgrad1PlainIdeal.τ Cert.AttnInWgrad1PlainIdeal.sig) → Buf (Elt Ideal) ℓ) (g' : Dev Cert.AttnInWgrad1PlainIdeal.nD → PrngReg), Pre_AttnInWgrad1Ideal m →
    (∀ c : Dev Cert.AttnInWgrad1Ideal.nD,
      m' ((c.tc : Thread Cert.AttnInWgrad1PlainIdeal.nD Cert.AttnInWgrad1PlainIdeal.τ).loc Cert.AttnInWgrad1PlainIdeal.main_arg0) = m ((c.tc : Thread Cert.AttnInWgrad1Ideal.nD Cert.AttnInWgrad1Ideal.τ).loc Cert.AttnInWgrad1Ideal.main_arg0)
      ∧ m' ((c.tc : Thread Cert.AttnInWgrad1PlainIdeal.nD Cert.AttnInWgrad1PlainIdeal.τ).loc Cert.AttnInWgrad1PlainIdeal.main_arg1) = m ((c.tc : Thread Cert.AttnInWgrad1Ideal.nD Cert.AttnInWgrad1Ideal.τ).loc Cert.AttnInWgrad1Ideal.main_arg1)
      ∧ m' ((c.tc : Thread Cert.AttnInWgrad1PlainIdeal.nD Cert.AttnInWgrad1PlainIdeal.τ).loc Cert.AttnInWgrad1PlainIdeal.main_arg2) = m ((c.tc : Thread Cert.AttnInWgrad1Ideal.nD Cert.AttnInWgrad1Ideal.τ).loc Cert.AttnInWgrad1Ideal.main_arg2)
      ∧ m' ((c.tc : Thread Cert.AttnInWgrad1PlainIdeal.nD Cert.AttnInWgrad1PlainIdeal.τ).loc Cert.AttnInWgrad1PlainIdeal.main_arg3) = m ((c.tc : Thread Cert.AttnInWgrad1Ideal.nD Cert.AttnInWgrad1Ideal.τ).loc Cert.AttnInWgrad1Ideal.main_arg3)) →
    ∃ (v0 : (c : Dev Cert.AttnInWgrad1Ideal.nD) → Buf (Elt Ideal) ((c.tc : Thread Cert.AttnInWgrad1Ideal.nD Cert.AttnInWgrad1Ideal.τ).loc Cert.AttnInWgrad1Ideal.main_v0)),
      θ_run (Cert.AttnInWgrad1Ideal.defs (F := Ideal)) (onTc (τ := Cert.AttnInWgrad1Ideal.τ) (Cert.AttnInWgrad1Ideal.main (F := Ideal))) ⟨m, fun _ => 0, g⟩ (fun r => ∀ c : Dev Cert.AttnInWgrad1Ideal.nD,
          r.2.mem ((c.tc : Thread Cert.AttnInWgrad1Ideal.nD Cert.AttnInWgrad1Ideal.τ).loc Cert.AttnInWgrad1Ideal.main_v0) = v0 c
          ∧ r.2.mem ((c.tc : Thread Cert.AttnInWgrad1Ideal.nD Cert.AttnInWgrad1Ideal.τ).loc Cert.AttnInWgrad1Ideal.main_arg0) = m ((c.tc : Thread Cert.AttnInWgrad1Ideal.nD Cert.AttnInWgrad1Ideal.τ).loc Cert.AttnInWgrad1Ideal.main_arg0)
          ∧ r.2.mem ((c.tc : Thread Cert.AttnInWgrad1Ideal.nD Cert.AttnInWgrad1Ideal.τ).loc Cert.AttnInWgrad1Ideal.main_arg1) = m ((c.tc : Thread Cert.AttnInWgrad1Ideal.nD Cert.AttnInWgrad1Ideal.τ).loc Cert.AttnInWgrad1Ideal.main_arg1)
          ∧ r.2.mem ((c.tc : Thread Cert.AttnInWgrad1Ideal.nD Cert.AttnInWgrad1Ideal.τ).loc Cert.AttnInWgrad1Ideal.main_arg2) = m ((c.tc : Thread Cert.AttnInWgrad1Ideal.nD Cert.AttnInWgrad1Ideal.τ).loc Cert.AttnInWgrad1Ideal.main_arg2)
          ∧ r.2.mem ((c.tc : Thread Cert.AttnInWgrad1Ideal.nD Cert.AttnInWgrad1Ideal.τ).loc Cert.AttnInWgrad1Ideal.main_arg3) = m ((c.tc : Thread Cert.AttnInWgrad1Ideal.nD Cert.AttnInWgrad1Ideal.τ).loc Cert.AttnInWgrad1Ideal.main_arg3))
      ∧ θ_run (Cert.AttnInWgrad1PlainIdeal.defs (F := Ideal)) (onTc (τ := Cert.AttnInWgrad1PlainIdeal.τ) (Cert.AttnInWgrad1PlainIdeal.main (F := Ideal))) ⟨m', fun _ => 0, g'⟩ (fun r => ∀ c : Dev Cert.AttnInWgrad1PlainIdeal.nD,
          r.2.mem ((c.tc : Thread Cert.AttnInWgrad1PlainIdeal.nD Cert.AttnInWgrad1PlainIdeal.τ).loc Cert.AttnInWgrad1PlainIdeal.main_v7) = v0 c
          ∧ r.2.mem ((c.tc : Thread Cert.AttnInWgrad1PlainIdeal.nD Cert.AttnInWgrad1PlainIdeal.τ).loc Cert.AttnInWgrad1PlainIdeal.main_arg0) = m' ((c.tc : Thread Cert.AttnInWgrad1PlainIdeal.nD Cert.AttnInWgrad1PlainIdeal.τ).loc Cert.AttnInWgrad1PlainIdeal.main_arg0)
          ∧ r.2.mem ((c.tc : Thread Cert.AttnInWgrad1PlainIdeal.nD Cert.AttnInWgrad1PlainIdeal.τ).loc Cert.AttnInWgrad1PlainIdeal.main_arg1) = m' ((c.tc : Thread Cert.AttnInWgrad1PlainIdeal.nD Cert.AttnInWgrad1PlainIdeal.τ).loc Cert.AttnInWgrad1PlainIdeal.main_arg1)
          ∧ r.2.mem ((c.tc : Thread Cert.AttnInWgrad1PlainIdeal.nD Cert.AttnInWgrad1PlainIdeal.τ).loc Cert.AttnInWgrad1PlainIdeal.main_arg2) = m' ((c.tc : Thread Cert.AttnInWgrad1PlainIdeal.nD Cert.AttnInWgrad1PlainIdeal.τ).loc Cert.AttnInWgrad1PlainIdeal.main_arg2)
          ∧ r.2.mem ((c.tc : Thread Cert.AttnInWgrad1PlainIdeal.nD Cert.AttnInWgrad1PlainIdeal.τ).loc Cert.AttnInWgrad1PlainIdeal.main_arg3) = m' ((c.tc : Thread Cert.AttnInWgrad1PlainIdeal.nD Cert.AttnInWgrad1PlainIdeal.τ).loc Cert.AttnInWgrad1PlainIdeal.main_arg3))

def preserves_AttnInWgrad2_AttnInWgrad2Ideal : Prop :=
  True

def algebraic_AttnInWgrad2Ideal_AttnInWgrad2PlainIdeal [hAttnInWgrad2Ideal : Cert.AttnInWgrad2Ideal.Facts] [hAttnInWgrad2PlainIdeal : Cert.AttnInWgrad2PlainIdeal.Facts] : Prop :=
  ∀ (m : (ℓ : Loc Cert.AttnInWgrad2Ideal.nD Cert.AttnInWgrad2Ideal.τ Cert.AttnInWgrad2Ideal.sig) → Buf (Elt Ideal) ℓ) (g : Dev Cert.AttnInWgrad2Ideal.nD → PrngReg)
    (m' : (ℓ : Loc Cert.AttnInWgrad2PlainIdeal.nD Cert.AttnInWgrad2PlainIdeal.τ Cert.AttnInWgrad2PlainIdeal.sig) → Buf (Elt Ideal) ℓ) (g' : Dev Cert.AttnInWgrad2PlainIdeal.nD → PrngReg), Pre_AttnInWgrad2Ideal m →
    (∀ c : Dev Cert.AttnInWgrad2Ideal.nD,
      m' ((c.tc : Thread Cert.AttnInWgrad2PlainIdeal.nD Cert.AttnInWgrad2PlainIdeal.τ).loc Cert.AttnInWgrad2PlainIdeal.main_arg0) = m ((c.tc : Thread Cert.AttnInWgrad2Ideal.nD Cert.AttnInWgrad2Ideal.τ).loc Cert.AttnInWgrad2Ideal.main_arg0)
      ∧ m' ((c.tc : Thread Cert.AttnInWgrad2PlainIdeal.nD Cert.AttnInWgrad2PlainIdeal.τ).loc Cert.AttnInWgrad2PlainIdeal.main_arg1) = m ((c.tc : Thread Cert.AttnInWgrad2Ideal.nD Cert.AttnInWgrad2Ideal.τ).loc Cert.AttnInWgrad2Ideal.main_arg1)
      ∧ m' ((c.tc : Thread Cert.AttnInWgrad2PlainIdeal.nD Cert.AttnInWgrad2PlainIdeal.τ).loc Cert.AttnInWgrad2PlainIdeal.main_arg2) = m ((c.tc : Thread Cert.AttnInWgrad2Ideal.nD Cert.AttnInWgrad2Ideal.τ).loc Cert.AttnInWgrad2Ideal.main_arg2)
      ∧ m' ((c.tc : Thread Cert.AttnInWgrad2PlainIdeal.nD Cert.AttnInWgrad2PlainIdeal.τ).loc Cert.AttnInWgrad2PlainIdeal.main_arg3) = m ((c.tc : Thread Cert.AttnInWgrad2Ideal.nD Cert.AttnInWgrad2Ideal.τ).loc Cert.AttnInWgrad2Ideal.main_arg3)) →
    ∃ (v0 : (c : Dev Cert.AttnInWgrad2Ideal.nD) → Buf (Elt Ideal) ((c.tc : Thread Cert.AttnInWgrad2Ideal.nD Cert.AttnInWgrad2Ideal.τ).loc Cert.AttnInWgrad2Ideal.main_v0)),
      θ_run (Cert.AttnInWgrad2Ideal.defs (F := Ideal)) (onTc (τ := Cert.AttnInWgrad2Ideal.τ) (Cert.AttnInWgrad2Ideal.main (F := Ideal))) ⟨m, fun _ => 0, g⟩ (fun r => ∀ c : Dev Cert.AttnInWgrad2Ideal.nD,
          r.2.mem ((c.tc : Thread Cert.AttnInWgrad2Ideal.nD Cert.AttnInWgrad2Ideal.τ).loc Cert.AttnInWgrad2Ideal.main_v0) = v0 c
          ∧ r.2.mem ((c.tc : Thread Cert.AttnInWgrad2Ideal.nD Cert.AttnInWgrad2Ideal.τ).loc Cert.AttnInWgrad2Ideal.main_arg0) = m ((c.tc : Thread Cert.AttnInWgrad2Ideal.nD Cert.AttnInWgrad2Ideal.τ).loc Cert.AttnInWgrad2Ideal.main_arg0)
          ∧ r.2.mem ((c.tc : Thread Cert.AttnInWgrad2Ideal.nD Cert.AttnInWgrad2Ideal.τ).loc Cert.AttnInWgrad2Ideal.main_arg1) = m ((c.tc : Thread Cert.AttnInWgrad2Ideal.nD Cert.AttnInWgrad2Ideal.τ).loc Cert.AttnInWgrad2Ideal.main_arg1)
          ∧ r.2.mem ((c.tc : Thread Cert.AttnInWgrad2Ideal.nD Cert.AttnInWgrad2Ideal.τ).loc Cert.AttnInWgrad2Ideal.main_arg2) = m ((c.tc : Thread Cert.AttnInWgrad2Ideal.nD Cert.AttnInWgrad2Ideal.τ).loc Cert.AttnInWgrad2Ideal.main_arg2)
          ∧ r.2.mem ((c.tc : Thread Cert.AttnInWgrad2Ideal.nD Cert.AttnInWgrad2Ideal.τ).loc Cert.AttnInWgrad2Ideal.main_arg3) = m ((c.tc : Thread Cert.AttnInWgrad2Ideal.nD Cert.AttnInWgrad2Ideal.τ).loc Cert.AttnInWgrad2Ideal.main_arg3))
      ∧ θ_run (Cert.AttnInWgrad2PlainIdeal.defs (F := Ideal)) (onTc (τ := Cert.AttnInWgrad2PlainIdeal.τ) (Cert.AttnInWgrad2PlainIdeal.main (F := Ideal))) ⟨m', fun _ => 0, g'⟩ (fun r => ∀ c : Dev Cert.AttnInWgrad2PlainIdeal.nD,
          r.2.mem ((c.tc : Thread Cert.AttnInWgrad2PlainIdeal.nD Cert.AttnInWgrad2PlainIdeal.τ).loc Cert.AttnInWgrad2PlainIdeal.main_v7) = v0 c
          ∧ r.2.mem ((c.tc : Thread Cert.AttnInWgrad2PlainIdeal.nD Cert.AttnInWgrad2PlainIdeal.τ).loc Cert.AttnInWgrad2PlainIdeal.main_arg0) = m' ((c.tc : Thread Cert.AttnInWgrad2PlainIdeal.nD Cert.AttnInWgrad2PlainIdeal.τ).loc Cert.AttnInWgrad2PlainIdeal.main_arg0)
          ∧ r.2.mem ((c.tc : Thread Cert.AttnInWgrad2PlainIdeal.nD Cert.AttnInWgrad2PlainIdeal.τ).loc Cert.AttnInWgrad2PlainIdeal.main_arg1) = m' ((c.tc : Thread Cert.AttnInWgrad2PlainIdeal.nD Cert.AttnInWgrad2PlainIdeal.τ).loc Cert.AttnInWgrad2PlainIdeal.main_arg1)
          ∧ r.2.mem ((c.tc : Thread Cert.AttnInWgrad2PlainIdeal.nD Cert.AttnInWgrad2PlainIdeal.τ).loc Cert.AttnInWgrad2PlainIdeal.main_arg2) = m' ((c.tc : Thread Cert.AttnInWgrad2PlainIdeal.nD Cert.AttnInWgrad2PlainIdeal.τ).loc Cert.AttnInWgrad2PlainIdeal.main_arg2)
          ∧ r.2.mem ((c.tc : Thread Cert.AttnInWgrad2PlainIdeal.nD Cert.AttnInWgrad2PlainIdeal.τ).loc Cert.AttnInWgrad2PlainIdeal.main_arg3) = m' ((c.tc : Thread Cert.AttnInWgrad2PlainIdeal.nD Cert.AttnInWgrad2PlainIdeal.τ).loc Cert.AttnInWgrad2PlainIdeal.main_arg3))

def preserves_AttnInWgrad3_AttnInWgrad3Ideal : Prop :=
  True

def algebraic_AttnInWgrad3Ideal_AttnInWgrad3PlainIdeal [hAttnInWgrad3Ideal : Cert.AttnInWgrad3Ideal.Facts] [hAttnInWgrad3PlainIdeal : Cert.AttnInWgrad3PlainIdeal.Facts] : Prop :=
  ∀ (m : (ℓ : Loc Cert.AttnInWgrad3Ideal.nD Cert.AttnInWgrad3Ideal.τ Cert.AttnInWgrad3Ideal.sig) → Buf (Elt Ideal) ℓ) (g : Dev Cert.AttnInWgrad3Ideal.nD → PrngReg)
    (m' : (ℓ : Loc Cert.AttnInWgrad3PlainIdeal.nD Cert.AttnInWgrad3PlainIdeal.τ Cert.AttnInWgrad3PlainIdeal.sig) → Buf (Elt Ideal) ℓ) (g' : Dev Cert.AttnInWgrad3PlainIdeal.nD → PrngReg), Pre_AttnInWgrad3Ideal m →
    (∀ c : Dev Cert.AttnInWgrad3Ideal.nD,
      m' ((c.tc : Thread Cert.AttnInWgrad3PlainIdeal.nD Cert.AttnInWgrad3PlainIdeal.τ).loc Cert.AttnInWgrad3PlainIdeal.main_arg0) = m ((c.tc : Thread Cert.AttnInWgrad3Ideal.nD Cert.AttnInWgrad3Ideal.τ).loc Cert.AttnInWgrad3Ideal.main_arg0)
      ∧ m' ((c.tc : Thread Cert.AttnInWgrad3PlainIdeal.nD Cert.AttnInWgrad3PlainIdeal.τ).loc Cert.AttnInWgrad3PlainIdeal.main_arg1) = m ((c.tc : Thread Cert.AttnInWgrad3Ideal.nD Cert.AttnInWgrad3Ideal.τ).loc Cert.AttnInWgrad3Ideal.main_arg1)
      ∧ m' ((c.tc : Thread Cert.AttnInWgrad3PlainIdeal.nD Cert.AttnInWgrad3PlainIdeal.τ).loc Cert.AttnInWgrad3PlainIdeal.main_arg2) = m ((c.tc : Thread Cert.AttnInWgrad3Ideal.nD Cert.AttnInWgrad3Ideal.τ).loc Cert.AttnInWgrad3Ideal.main_arg2)
      ∧ m' ((c.tc : Thread Cert.AttnInWgrad3PlainIdeal.nD Cert.AttnInWgrad3PlainIdeal.τ).loc Cert.AttnInWgrad3PlainIdeal.main_arg3) = m ((c.tc : Thread Cert.AttnInWgrad3Ideal.nD Cert.AttnInWgrad3Ideal.τ).loc Cert.AttnInWgrad3Ideal.main_arg3)) →
    ∃ (v0 : (c : Dev Cert.AttnInWgrad3Ideal.nD) → Buf (Elt Ideal) ((c.tc : Thread Cert.AttnInWgrad3Ideal.nD Cert.AttnInWgrad3Ideal.τ).loc Cert.AttnInWgrad3Ideal.main_v0)),
      θ_run (Cert.AttnInWgrad3Ideal.defs (F := Ideal)) (onTc (τ := Cert.AttnInWgrad3Ideal.τ) (Cert.AttnInWgrad3Ideal.main (F := Ideal))) ⟨m, fun _ => 0, g⟩ (fun r => ∀ c : Dev Cert.AttnInWgrad3Ideal.nD,
          r.2.mem ((c.tc : Thread Cert.AttnInWgrad3Ideal.nD Cert.AttnInWgrad3Ideal.τ).loc Cert.AttnInWgrad3Ideal.main_v0) = v0 c
          ∧ r.2.mem ((c.tc : Thread Cert.AttnInWgrad3Ideal.nD Cert.AttnInWgrad3Ideal.τ).loc Cert.AttnInWgrad3Ideal.main_arg0) = m ((c.tc : Thread Cert.AttnInWgrad3Ideal.nD Cert.AttnInWgrad3Ideal.τ).loc Cert.AttnInWgrad3Ideal.main_arg0)
          ∧ r.2.mem ((c.tc : Thread Cert.AttnInWgrad3Ideal.nD Cert.AttnInWgrad3Ideal.τ).loc Cert.AttnInWgrad3Ideal.main_arg1) = m ((c.tc : Thread Cert.AttnInWgrad3Ideal.nD Cert.AttnInWgrad3Ideal.τ).loc Cert.AttnInWgrad3Ideal.main_arg1)
          ∧ r.2.mem ((c.tc : Thread Cert.AttnInWgrad3Ideal.nD Cert.AttnInWgrad3Ideal.τ).loc Cert.AttnInWgrad3Ideal.main_arg2) = m ((c.tc : Thread Cert.AttnInWgrad3Ideal.nD Cert.AttnInWgrad3Ideal.τ).loc Cert.AttnInWgrad3Ideal.main_arg2)
          ∧ r.2.mem ((c.tc : Thread Cert.AttnInWgrad3Ideal.nD Cert.AttnInWgrad3Ideal.τ).loc Cert.AttnInWgrad3Ideal.main_arg3) = m ((c.tc : Thread Cert.AttnInWgrad3Ideal.nD Cert.AttnInWgrad3Ideal.τ).loc Cert.AttnInWgrad3Ideal.main_arg3))
      ∧ θ_run (Cert.AttnInWgrad3PlainIdeal.defs (F := Ideal)) (onTc (τ := Cert.AttnInWgrad3PlainIdeal.τ) (Cert.AttnInWgrad3PlainIdeal.main (F := Ideal))) ⟨m', fun _ => 0, g'⟩ (fun r => ∀ c : Dev Cert.AttnInWgrad3PlainIdeal.nD,
          r.2.mem ((c.tc : Thread Cert.AttnInWgrad3PlainIdeal.nD Cert.AttnInWgrad3PlainIdeal.τ).loc Cert.AttnInWgrad3PlainIdeal.main_v7) = v0 c
          ∧ r.2.mem ((c.tc : Thread Cert.AttnInWgrad3PlainIdeal.nD Cert.AttnInWgrad3PlainIdeal.τ).loc Cert.AttnInWgrad3PlainIdeal.main_arg0) = m' ((c.tc : Thread Cert.AttnInWgrad3PlainIdeal.nD Cert.AttnInWgrad3PlainIdeal.τ).loc Cert.AttnInWgrad3PlainIdeal.main_arg0)
          ∧ r.2.mem ((c.tc : Thread Cert.AttnInWgrad3PlainIdeal.nD Cert.AttnInWgrad3PlainIdeal.τ).loc Cert.AttnInWgrad3PlainIdeal.main_arg1) = m' ((c.tc : Thread Cert.AttnInWgrad3PlainIdeal.nD Cert.AttnInWgrad3PlainIdeal.τ).loc Cert.AttnInWgrad3PlainIdeal.main_arg1)
          ∧ r.2.mem ((c.tc : Thread Cert.AttnInWgrad3PlainIdeal.nD Cert.AttnInWgrad3PlainIdeal.τ).loc Cert.AttnInWgrad3PlainIdeal.main_arg2) = m' ((c.tc : Thread Cert.AttnInWgrad3PlainIdeal.nD Cert.AttnInWgrad3PlainIdeal.τ).loc Cert.AttnInWgrad3PlainIdeal.main_arg2)
          ∧ r.2.mem ((c.tc : Thread Cert.AttnInWgrad3PlainIdeal.nD Cert.AttnInWgrad3PlainIdeal.τ).loc Cert.AttnInWgrad3PlainIdeal.main_arg3) = m' ((c.tc : Thread Cert.AttnInWgrad3PlainIdeal.nD Cert.AttnInWgrad3PlainIdeal.τ).loc Cert.AttnInWgrad3PlainIdeal.main_arg3))

def preserves_AttnIn0_AttnIn0Ideal : Prop :=
  True

def algebraic_AttnIn0Ideal_AttnIn0PlainIdeal [hAttnIn0Ideal : Cert.AttnIn0Ideal.Facts] [hAttnIn0PlainIdeal : Cert.AttnIn0PlainIdeal.Facts] : Prop :=
  ∀ (m : (ℓ : Loc Cert.AttnIn0Ideal.nD Cert.AttnIn0Ideal.τ Cert.AttnIn0Ideal.sig) → Buf (Elt Ideal) ℓ) (g : Dev Cert.AttnIn0Ideal.nD → PrngReg)
    (m' : (ℓ : Loc Cert.AttnIn0PlainIdeal.nD Cert.AttnIn0PlainIdeal.τ Cert.AttnIn0PlainIdeal.sig) → Buf (Elt Ideal) ℓ) (g' : Dev Cert.AttnIn0PlainIdeal.nD → PrngReg), Pre_AttnIn0Ideal m →
    (∀ c : Dev Cert.AttnIn0Ideal.nD,
      m' ((c.tc : Thread Cert.AttnIn0PlainIdeal.nD Cert.AttnIn0PlainIdeal.τ).loc Cert.AttnIn0PlainIdeal.main_arg0) = m ((c.tc : Thread Cert.AttnIn0Ideal.nD Cert.AttnIn0Ideal.τ).loc Cert.AttnIn0Ideal.main_arg0)
      ∧ m' ((c.tc : Thread Cert.AttnIn0PlainIdeal.nD Cert.AttnIn0PlainIdeal.τ).loc Cert.AttnIn0PlainIdeal.main_arg1) = m ((c.tc : Thread Cert.AttnIn0Ideal.nD Cert.AttnIn0Ideal.τ).loc Cert.AttnIn0Ideal.main_arg1)) →
    ∃ (v0 : (c : Dev Cert.AttnIn0Ideal.nD) → Buf (Elt Ideal) ((c.tc : Thread Cert.AttnIn0Ideal.nD Cert.AttnIn0Ideal.τ).loc Cert.AttnIn0Ideal.main_v3)),
      θ_run (Cert.AttnIn0Ideal.defs (F := Ideal)) (onTc (τ := Cert.AttnIn0Ideal.τ) (Cert.AttnIn0Ideal.main (F := Ideal))) ⟨m, fun _ => 0, g⟩ (fun r => ∀ c : Dev Cert.AttnIn0Ideal.nD,
          r.2.mem ((c.tc : Thread Cert.AttnIn0Ideal.nD Cert.AttnIn0Ideal.τ).loc Cert.AttnIn0Ideal.main_v3) = v0 c
          ∧ r.2.mem ((c.tc : Thread Cert.AttnIn0Ideal.nD Cert.AttnIn0Ideal.τ).loc Cert.AttnIn0Ideal.main_arg0) = m ((c.tc : Thread Cert.AttnIn0Ideal.nD Cert.AttnIn0Ideal.τ).loc Cert.AttnIn0Ideal.main_arg0)
          ∧ r.2.mem ((c.tc : Thread Cert.AttnIn0Ideal.nD Cert.AttnIn0Ideal.τ).loc Cert.AttnIn0Ideal.main_arg1) = m ((c.tc : Thread Cert.AttnIn0Ideal.nD Cert.AttnIn0Ideal.τ).loc Cert.AttnIn0Ideal.main_arg1))
      ∧ θ_run (Cert.AttnIn0PlainIdeal.defs (F := Ideal)) (onTc (τ := Cert.AttnIn0PlainIdeal.τ) (Cert.AttnIn0PlainIdeal.main (F := Ideal))) ⟨m', fun _ => 0, g'⟩ (fun r => ∀ c : Dev Cert.AttnIn0PlainIdeal.nD,
          r.2.mem ((c.tc : Thread Cert.AttnIn0PlainIdeal.nD Cert.AttnIn0PlainIdeal.τ).loc Cert.AttnIn0PlainIdeal.main_v2) = v0 c
          ∧ r.2.mem ((c.tc : Thread Cert.AttnIn0PlainIdeal.nD Cert.AttnIn0PlainIdeal.τ).loc Cert.AttnIn0PlainIdeal.main_arg0) = m' ((c.tc : Thread Cert.AttnIn0PlainIdeal.nD Cert.AttnIn0PlainIdeal.τ).loc Cert.AttnIn0PlainIdeal.main_arg0)
          ∧ r.2.mem ((c.tc : Thread Cert.AttnIn0PlainIdeal.nD Cert.AttnIn0PlainIdeal.τ).loc Cert.AttnIn0PlainIdeal.main_arg1) = m' ((c.tc : Thread Cert.AttnIn0PlainIdeal.nD Cert.AttnIn0PlainIdeal.τ).loc Cert.AttnIn0PlainIdeal.main_arg1))

def preserves_AttnIn1_AttnIn1Ideal : Prop :=
  True

def algebraic_AttnIn1Ideal_AttnIn1PlainIdeal [hAttnIn1Ideal : Cert.AttnIn1Ideal.Facts] [hAttnIn1PlainIdeal : Cert.AttnIn1PlainIdeal.Facts] : Prop :=
  ∀ (m : (ℓ : Loc Cert.AttnIn1Ideal.nD Cert.AttnIn1Ideal.τ Cert.AttnIn1Ideal.sig) → Buf (Elt Ideal) ℓ) (g : Dev Cert.AttnIn1Ideal.nD → PrngReg)
    (m' : (ℓ : Loc Cert.AttnIn1PlainIdeal.nD Cert.AttnIn1PlainIdeal.τ Cert.AttnIn1PlainIdeal.sig) → Buf (Elt Ideal) ℓ) (g' : Dev Cert.AttnIn1PlainIdeal.nD → PrngReg), Pre_AttnIn1Ideal m →
    (∀ c : Dev Cert.AttnIn1Ideal.nD,
      m' ((c.tc : Thread Cert.AttnIn1PlainIdeal.nD Cert.AttnIn1PlainIdeal.τ).loc Cert.AttnIn1PlainIdeal.main_arg0) = m ((c.tc : Thread Cert.AttnIn1Ideal.nD Cert.AttnIn1Ideal.τ).loc Cert.AttnIn1Ideal.main_arg0)
      ∧ m' ((c.tc : Thread Cert.AttnIn1PlainIdeal.nD Cert.AttnIn1PlainIdeal.τ).loc Cert.AttnIn1PlainIdeal.main_arg1) = m ((c.tc : Thread Cert.AttnIn1Ideal.nD Cert.AttnIn1Ideal.τ).loc Cert.AttnIn1Ideal.main_arg1)) →
    ∃ (v0 : (c : Dev Cert.AttnIn1Ideal.nD) → Buf (Elt Ideal) ((c.tc : Thread Cert.AttnIn1Ideal.nD Cert.AttnIn1Ideal.τ).loc Cert.AttnIn1Ideal.main_v3)),
      θ_run (Cert.AttnIn1Ideal.defs (F := Ideal)) (onTc (τ := Cert.AttnIn1Ideal.τ) (Cert.AttnIn1Ideal.main (F := Ideal))) ⟨m, fun _ => 0, g⟩ (fun r => ∀ c : Dev Cert.AttnIn1Ideal.nD,
          r.2.mem ((c.tc : Thread Cert.AttnIn1Ideal.nD Cert.AttnIn1Ideal.τ).loc Cert.AttnIn1Ideal.main_v3) = v0 c
          ∧ r.2.mem ((c.tc : Thread Cert.AttnIn1Ideal.nD Cert.AttnIn1Ideal.τ).loc Cert.AttnIn1Ideal.main_arg0) = m ((c.tc : Thread Cert.AttnIn1Ideal.nD Cert.AttnIn1Ideal.τ).loc Cert.AttnIn1Ideal.main_arg0)
          ∧ r.2.mem ((c.tc : Thread Cert.AttnIn1Ideal.nD Cert.AttnIn1Ideal.τ).loc Cert.AttnIn1Ideal.main_arg1) = m ((c.tc : Thread Cert.AttnIn1Ideal.nD Cert.AttnIn1Ideal.τ).loc Cert.AttnIn1Ideal.main_arg1))
      ∧ θ_run (Cert.AttnIn1PlainIdeal.defs (F := Ideal)) (onTc (τ := Cert.AttnIn1PlainIdeal.τ) (Cert.AttnIn1PlainIdeal.main (F := Ideal))) ⟨m', fun _ => 0, g'⟩ (fun r => ∀ c : Dev Cert.AttnIn1PlainIdeal.nD,
          r.2.mem ((c.tc : Thread Cert.AttnIn1PlainIdeal.nD Cert.AttnIn1PlainIdeal.τ).loc Cert.AttnIn1PlainIdeal.main_v3) = v0 c
          ∧ r.2.mem ((c.tc : Thread Cert.AttnIn1PlainIdeal.nD Cert.AttnIn1PlainIdeal.τ).loc Cert.AttnIn1PlainIdeal.main_arg0) = m' ((c.tc : Thread Cert.AttnIn1PlainIdeal.nD Cert.AttnIn1PlainIdeal.τ).loc Cert.AttnIn1PlainIdeal.main_arg0)
          ∧ r.2.mem ((c.tc : Thread Cert.AttnIn1PlainIdeal.nD Cert.AttnIn1PlainIdeal.τ).loc Cert.AttnIn1PlainIdeal.main_arg1) = m' ((c.tc : Thread Cert.AttnIn1PlainIdeal.nD Cert.AttnIn1PlainIdeal.τ).loc Cert.AttnIn1PlainIdeal.main_arg1))

def preserves_AttnIn2_AttnIn2Ideal : Prop :=
  True

def algebraic_AttnIn2Ideal_AttnIn2PlainIdeal [hAttnIn2Ideal : Cert.AttnIn2Ideal.Facts] [hAttnIn2PlainIdeal : Cert.AttnIn2PlainIdeal.Facts] : Prop :=
  ∀ (m : (ℓ : Loc Cert.AttnIn2Ideal.nD Cert.AttnIn2Ideal.τ Cert.AttnIn2Ideal.sig) → Buf (Elt Ideal) ℓ) (g : Dev Cert.AttnIn2Ideal.nD → PrngReg)
    (m' : (ℓ : Loc Cert.AttnIn2PlainIdeal.nD Cert.AttnIn2PlainIdeal.τ Cert.AttnIn2PlainIdeal.sig) → Buf (Elt Ideal) ℓ) (g' : Dev Cert.AttnIn2PlainIdeal.nD → PrngReg), Pre_AttnIn2Ideal m →
    (∀ c : Dev Cert.AttnIn2Ideal.nD,
      m' ((c.tc : Thread Cert.AttnIn2PlainIdeal.nD Cert.AttnIn2PlainIdeal.τ).loc Cert.AttnIn2PlainIdeal.main_arg0) = m ((c.tc : Thread Cert.AttnIn2Ideal.nD Cert.AttnIn2Ideal.τ).loc Cert.AttnIn2Ideal.main_arg0)
      ∧ m' ((c.tc : Thread Cert.AttnIn2PlainIdeal.nD Cert.AttnIn2PlainIdeal.τ).loc Cert.AttnIn2PlainIdeal.main_arg1) = m ((c.tc : Thread Cert.AttnIn2Ideal.nD Cert.AttnIn2Ideal.τ).loc Cert.AttnIn2Ideal.main_arg1)) →
    ∃ (v0 : (c : Dev Cert.AttnIn2Ideal.nD) → Buf (Elt Ideal) ((c.tc : Thread Cert.AttnIn2Ideal.nD Cert.AttnIn2Ideal.τ).loc Cert.AttnIn2Ideal.main_v3)),
      θ_run (Cert.AttnIn2Ideal.defs (F := Ideal)) (onTc (τ := Cert.AttnIn2Ideal.τ) (Cert.AttnIn2Ideal.main (F := Ideal))) ⟨m, fun _ => 0, g⟩ (fun r => ∀ c : Dev Cert.AttnIn2Ideal.nD,
          r.2.mem ((c.tc : Thread Cert.AttnIn2Ideal.nD Cert.AttnIn2Ideal.τ).loc Cert.AttnIn2Ideal.main_v3) = v0 c
          ∧ r.2.mem ((c.tc : Thread Cert.AttnIn2Ideal.nD Cert.AttnIn2Ideal.τ).loc Cert.AttnIn2Ideal.main_arg0) = m ((c.tc : Thread Cert.AttnIn2Ideal.nD Cert.AttnIn2Ideal.τ).loc Cert.AttnIn2Ideal.main_arg0)
          ∧ r.2.mem ((c.tc : Thread Cert.AttnIn2Ideal.nD Cert.AttnIn2Ideal.τ).loc Cert.AttnIn2Ideal.main_arg1) = m ((c.tc : Thread Cert.AttnIn2Ideal.nD Cert.AttnIn2Ideal.τ).loc Cert.AttnIn2Ideal.main_arg1))
      ∧ θ_run (Cert.AttnIn2PlainIdeal.defs (F := Ideal)) (onTc (τ := Cert.AttnIn2PlainIdeal.τ) (Cert.AttnIn2PlainIdeal.main (F := Ideal))) ⟨m', fun _ => 0, g'⟩ (fun r => ∀ c : Dev Cert.AttnIn2PlainIdeal.nD,
          r.2.mem ((c.tc : Thread Cert.AttnIn2PlainIdeal.nD Cert.AttnIn2PlainIdeal.τ).loc Cert.AttnIn2PlainIdeal.main_v6) = v0 c
          ∧ r.2.mem ((c.tc : Thread Cert.AttnIn2PlainIdeal.nD Cert.AttnIn2PlainIdeal.τ).loc Cert.AttnIn2PlainIdeal.main_arg0) = m' ((c.tc : Thread Cert.AttnIn2PlainIdeal.nD Cert.AttnIn2PlainIdeal.τ).loc Cert.AttnIn2PlainIdeal.main_arg0)
          ∧ r.2.mem ((c.tc : Thread Cert.AttnIn2PlainIdeal.nD Cert.AttnIn2PlainIdeal.τ).loc Cert.AttnIn2PlainIdeal.main_arg1) = m' ((c.tc : Thread Cert.AttnIn2PlainIdeal.nD Cert.AttnIn2PlainIdeal.τ).loc Cert.AttnIn2PlainIdeal.main_arg1))

def preserves_AttnIn3_AttnIn3Ideal : Prop :=
  True

def algebraic_AttnIn3Ideal_AttnIn3PlainIdeal [hAttnIn3Ideal : Cert.AttnIn3Ideal.Facts] [hAttnIn3PlainIdeal : Cert.AttnIn3PlainIdeal.Facts] : Prop :=
  ∀ (m : (ℓ : Loc Cert.AttnIn3Ideal.nD Cert.AttnIn3Ideal.τ Cert.AttnIn3Ideal.sig) → Buf (Elt Ideal) ℓ) (g : Dev Cert.AttnIn3Ideal.nD → PrngReg)
    (m' : (ℓ : Loc Cert.AttnIn3PlainIdeal.nD Cert.AttnIn3PlainIdeal.τ Cert.AttnIn3PlainIdeal.sig) → Buf (Elt Ideal) ℓ) (g' : Dev Cert.AttnIn3PlainIdeal.nD → PrngReg), Pre_AttnIn3Ideal m →
    (∀ c : Dev Cert.AttnIn3Ideal.nD,
      m' ((c.tc : Thread Cert.AttnIn3PlainIdeal.nD Cert.AttnIn3PlainIdeal.τ).loc Cert.AttnIn3PlainIdeal.main_arg0) = m ((c.tc : Thread Cert.AttnIn3Ideal.nD Cert.AttnIn3Ideal.τ).loc Cert.AttnIn3Ideal.main_arg0)
      ∧ m' ((c.tc : Thread Cert.AttnIn3PlainIdeal.nD Cert.AttnIn3PlainIdeal.τ).loc Cert.AttnIn3PlainIdeal.main_arg1) = m ((c.tc : Thread Cert.AttnIn3Ideal.nD Cert.AttnIn3Ideal.τ).loc Cert.AttnIn3Ideal.main_arg1)) →
    ∃ (v0 : (c : Dev Cert.AttnIn3Ideal.nD) → Buf (Elt Ideal) ((c.tc : Thread Cert.AttnIn3Ideal.nD Cert.AttnIn3Ideal.τ).loc Cert.AttnIn3Ideal.main_v3)),
      θ_run (Cert.AttnIn3Ideal.defs (F := Ideal)) (onTc (τ := Cert.AttnIn3Ideal.τ) (Cert.AttnIn3Ideal.main (F := Ideal))) ⟨m, fun _ => 0, g⟩ (fun r => ∀ c : Dev Cert.AttnIn3Ideal.nD,
          r.2.mem ((c.tc : Thread Cert.AttnIn3Ideal.nD Cert.AttnIn3Ideal.τ).loc Cert.AttnIn3Ideal.main_v3) = v0 c
          ∧ r.2.mem ((c.tc : Thread Cert.AttnIn3Ideal.nD Cert.AttnIn3Ideal.τ).loc Cert.AttnIn3Ideal.main_arg0) = m ((c.tc : Thread Cert.AttnIn3Ideal.nD Cert.AttnIn3Ideal.τ).loc Cert.AttnIn3Ideal.main_arg0)
          ∧ r.2.mem ((c.tc : Thread Cert.AttnIn3Ideal.nD Cert.AttnIn3Ideal.τ).loc Cert.AttnIn3Ideal.main_arg1) = m ((c.tc : Thread Cert.AttnIn3Ideal.nD Cert.AttnIn3Ideal.τ).loc Cert.AttnIn3Ideal.main_arg1))
      ∧ θ_run (Cert.AttnIn3PlainIdeal.defs (F := Ideal)) (onTc (τ := Cert.AttnIn3PlainIdeal.τ) (Cert.AttnIn3PlainIdeal.main (F := Ideal))) ⟨m', fun _ => 0, g'⟩ (fun r => ∀ c : Dev Cert.AttnIn3PlainIdeal.nD,
          r.2.mem ((c.tc : Thread Cert.AttnIn3PlainIdeal.nD Cert.AttnIn3PlainIdeal.τ).loc Cert.AttnIn3PlainIdeal.main_v5) = v0 c
          ∧ r.2.mem ((c.tc : Thread Cert.AttnIn3PlainIdeal.nD Cert.AttnIn3PlainIdeal.τ).loc Cert.AttnIn3PlainIdeal.main_arg0) = m' ((c.tc : Thread Cert.AttnIn3PlainIdeal.nD Cert.AttnIn3PlainIdeal.τ).loc Cert.AttnIn3PlainIdeal.main_arg0)
          ∧ r.2.mem ((c.tc : Thread Cert.AttnIn3PlainIdeal.nD Cert.AttnIn3PlainIdeal.τ).loc Cert.AttnIn3PlainIdeal.main_arg1) = m' ((c.tc : Thread Cert.AttnIn3PlainIdeal.nD Cert.AttnIn3PlainIdeal.τ).loc Cert.AttnIn3PlainIdeal.main_arg1))

def preserves_AttnOut_AttnOutIdeal : Prop :=
  True

def algebraic_AttnOutIdeal_AttnOutPlainIdeal [hAttnOutIdeal : Cert.AttnOutIdeal.Facts] [hAttnOutPlainIdeal : Cert.AttnOutPlainIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutPlainIdeal.nD Cert.AttnOutPlainIdeal.τ Cert.AttnOutPlainIdeal.sig) → Buf (Elt Ideal) ℓ) (g' : Dev Cert.AttnOutPlainIdeal.nD → PrngReg), Pre_AttnOutIdeal m →
    (∀ c : Dev Cert.AttnOutIdeal.nD,
      m' ((c.tc : Thread Cert.AttnOutPlainIdeal.nD Cert.AttnOutPlainIdeal.τ).loc Cert.AttnOutPlainIdeal.main_arg0) = m ((c.tc : Thread Cert.AttnOutIdeal.nD Cert.AttnOutIdeal.τ).loc Cert.AttnOutIdeal.main_arg0)
      ∧ m' ((c.tc : Thread Cert.AttnOutPlainIdeal.nD Cert.AttnOutPlainIdeal.τ).loc Cert.AttnOutPlainIdeal.main_arg1) = m ((c.tc : Thread Cert.AttnOutIdeal.nD Cert.AttnOutIdeal.τ).loc Cert.AttnOutIdeal.main_arg1)
      ∧ m' ((c.tc : Thread Cert.AttnOutPlainIdeal.nD Cert.AttnOutPlainIdeal.τ).loc Cert.AttnOutPlainIdeal.main_arg2) = m ((c.tc : Thread Cert.AttnOutIdeal.nD Cert.AttnOutIdeal.τ).loc Cert.AttnOutIdeal.main_arg2)
      ∧ m' ((c.tc : Thread Cert.AttnOutPlainIdeal.nD Cert.AttnOutPlainIdeal.τ).loc Cert.AttnOutPlainIdeal.main_arg3) = m ((c.tc : Thread Cert.AttnOutIdeal.nD Cert.AttnOutIdeal.τ).loc Cert.AttnOutIdeal.main_arg3)
      ∧ m' ((c.tc : Thread Cert.AttnOutPlainIdeal.nD Cert.AttnOutPlainIdeal.τ).loc Cert.AttnOutPlainIdeal.main_arg4) = m ((c.tc : Thread Cert.AttnOutIdeal.nD Cert.AttnOutIdeal.τ).loc Cert.AttnOutIdeal.main_arg4)
      ∧ m' ((c.tc : Thread Cert.AttnOutPlainIdeal.nD Cert.AttnOutPlainIdeal.τ).loc Cert.AttnOutPlainIdeal.main_arg5) = m ((c.tc : Thread Cert.AttnOutIdeal.nD Cert.AttnOutIdeal.τ).loc Cert.AttnOutIdeal.main_arg5)) →
    ∃ (v0 : (c : Dev Cert.AttnOutIdeal.nD) → Buf (Elt Ideal) ((c.tc : Thread Cert.AttnOutIdeal.nD Cert.AttnOutIdeal.τ).loc Cert.AttnOutIdeal.main_v8)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v8) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
          ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
          ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5))
      ∧ θ_run (Cert.AttnOutPlainIdeal.defs (F := Ideal)) (onTc (τ := Cert.AttnOutPlainIdeal.τ) (Cert.AttnOutPlainIdeal.main (F := Ideal))) ⟨m', fun _ => 0, g'⟩ (fun r => ∀ c : Dev Cert.AttnOutPlainIdeal.nD,
          r.2.mem ((c.tc : Thread Cert.AttnOutPlainIdeal.nD Cert.AttnOutPlainIdeal.τ).loc Cert.AttnOutPlainIdeal.main_v2) = v0 c
          ∧ r.2.mem ((c.tc : Thread Cert.AttnOutPlainIdeal.nD Cert.AttnOutPlainIdeal.τ).loc Cert.AttnOutPlainIdeal.main_arg0) = m' ((c.tc : Thread Cert.AttnOutPlainIdeal.nD Cert.AttnOutPlainIdeal.τ).loc Cert.AttnOutPlainIdeal.main_arg0)
          ∧ r.2.mem ((c.tc : Thread Cert.AttnOutPlainIdeal.nD Cert.AttnOutPlainIdeal.τ).loc Cert.AttnOutPlainIdeal.main_arg1) = m' ((c.tc : Thread Cert.AttnOutPlainIdeal.nD Cert.AttnOutPlainIdeal.τ).loc Cert.AttnOutPlainIdeal.main_arg1)
          ∧ r.2.mem ((c.tc : Thread Cert.AttnOutPlainIdeal.nD Cert.AttnOutPlainIdeal.τ).loc Cert.AttnOutPlainIdeal.main_arg2) = m' ((c.tc : Thread Cert.AttnOutPlainIdeal.nD Cert.AttnOutPlainIdeal.τ).loc Cert.AttnOutPlainIdeal.main_arg2)
          ∧ r.2.mem ((c.tc : Thread Cert.AttnOutPlainIdeal.nD Cert.AttnOutPlainIdeal.τ).loc Cert.AttnOutPlainIdeal.main_arg3) = m' ((c.tc : Thread Cert.AttnOutPlainIdeal.nD Cert.AttnOutPlainIdeal.τ).loc Cert.AttnOutPlainIdeal.main_arg3)
          ∧ r.2.mem ((c.tc : Thread Cert.AttnOutPlainIdeal.nD Cert.AttnOutPlainIdeal.τ).loc Cert.AttnOutPlainIdeal.main_arg4) = m' ((c.tc : Thread Cert.AttnOutPlainIdeal.nD Cert.AttnOutPlainIdeal.τ).loc Cert.AttnOutPlainIdeal.main_arg4)
          ∧ r.2.mem ((c.tc : Thread Cert.AttnOutPlainIdeal.nD Cert.AttnOutPlainIdeal.τ).loc Cert.AttnOutPlainIdeal.main_arg5) = m' ((c.tc : Thread Cert.AttnOutPlainIdeal.nD Cert.AttnOutPlainIdeal.τ).loc Cert.AttnOutPlainIdeal.main_arg5))

def preserves_SsmInU_SsmInUIdeal : Prop :=
  True

def algebraic_SsmInUIdeal_SsmInUPlainIdeal [hSsmInUIdeal : Cert.SsmInUIdeal.Facts] [hSsmInUPlainIdeal : Cert.SsmInUPlainIdeal.Facts] : Prop :=
  ∀ (m : (ℓ : Loc Cert.SsmInUIdeal.nD Cert.SsmInUIdeal.τ Cert.SsmInUIdeal.sig) → Buf (Elt Ideal) ℓ) (g : Dev Cert.SsmInUIdeal.nD → PrngReg)
    (m' : (ℓ : Loc Cert.SsmInUPlainIdeal.nD Cert.SsmInUPlainIdeal.τ Cert.SsmInUPlainIdeal.sig) → Buf (Elt Ideal) ℓ) (g' : Dev Cert.SsmInUPlainIdeal.nD → PrngReg), Pre_SsmInUIdeal m →
    (∀ c : Dev Cert.SsmInUIdeal.nD,
      m' ((c.tc : Thread Cert.SsmInUPlainIdeal.nD Cert.SsmInUPlainIdeal.τ).loc Cert.SsmInUPlainIdeal.main_arg0) = m ((c.tc : Thread Cert.SsmInUIdeal.nD Cert.SsmInUIdeal.τ).loc Cert.SsmInUIdeal.main_arg0)
      ∧ m' ((c.tc : Thread Cert.SsmInUPlainIdeal.nD Cert.SsmInUPlainIdeal.τ).loc Cert.SsmInUPlainIdeal.main_arg1) = m ((c.tc : Thread Cert.SsmInUIdeal.nD Cert.SsmInUIdeal.τ).loc Cert.SsmInUIdeal.main_arg1)
      ∧ m' ((c.tc : Thread Cert.SsmInUPlainIdeal.nD Cert.SsmInUPlainIdeal.τ).loc Cert.SsmInUPlainIdeal.main_arg2) = m ((c.tc : Thread Cert.SsmInUIdeal.nD Cert.SsmInUIdeal.τ).loc Cert.SsmInUIdeal.main_arg2)
      ∧ m' ((c.tc : Thread Cert.SsmInUPlainIdeal.nD Cert.SsmInUPlainIdeal.τ).loc Cert.SsmInUPlainIdeal.main_arg3) = m ((c.tc : Thread Cert.SsmInUIdeal.nD Cert.SsmInUIdeal.τ).loc Cert.SsmInUIdeal.main_arg3)
      ∧ m' ((c.tc : Thread Cert.SsmInUPlainIdeal.nD Cert.SsmInUPlainIdeal.τ).loc Cert.SsmInUPlainIdeal.main_arg4) = m ((c.tc : Thread Cert.SsmInUIdeal.nD Cert.SsmInUIdeal.τ).loc Cert.SsmInUIdeal.main_arg4)) →
    ∃ (v0 : (c : Dev Cert.SsmInUIdeal.nD) → Buf (Elt Ideal) ((c.tc : Thread Cert.SsmInUIdeal.nD Cert.SsmInUIdeal.τ).loc Cert.SsmInUIdeal.main_v8)),
      θ_run (Cert.SsmInUIdeal.defs (F := Ideal)) (onTc (τ := Cert.SsmInUIdeal.τ) (Cert.SsmInUIdeal.main (F := Ideal))) ⟨m, fun _ => 0, g⟩ (fun r => ∀ c : Dev Cert.SsmInUIdeal.nD,
          r.2.mem ((c.tc : Thread Cert.SsmInUIdeal.nD Cert.SsmInUIdeal.τ).loc Cert.SsmInUIdeal.main_v8) = v0 c
          ∧ r.2.mem ((c.tc : Thread Cert.SsmInUIdeal.nD Cert.SsmInUIdeal.τ).loc Cert.SsmInUIdeal.main_arg0) = m ((c.tc : Thread Cert.SsmInUIdeal.nD Cert.SsmInUIdeal.τ).loc Cert.SsmInUIdeal.main_arg0)
          ∧ r.2.mem ((c.tc : Thread Cert.SsmInUIdeal.nD Cert.SsmInUIdeal.τ).loc Cert.SsmInUIdeal.main_arg1) = m ((c.tc : Thread Cert.SsmInUIdeal.nD Cert.SsmInUIdeal.τ).loc Cert.SsmInUIdeal.main_arg1)
          ∧ r.2.mem ((c.tc : Thread Cert.SsmInUIdeal.nD Cert.SsmInUIdeal.τ).loc Cert.SsmInUIdeal.main_arg2) = m ((c.tc : Thread Cert.SsmInUIdeal.nD Cert.SsmInUIdeal.τ).loc Cert.SsmInUIdeal.main_arg2)
          ∧ r.2.mem ((c.tc : Thread Cert.SsmInUIdeal.nD Cert.SsmInUIdeal.τ).loc Cert.SsmInUIdeal.main_arg3) = m ((c.tc : Thread Cert.SsmInUIdeal.nD Cert.SsmInUIdeal.τ).loc Cert.SsmInUIdeal.main_arg3)
          ∧ r.2.mem ((c.tc : Thread Cert.SsmInUIdeal.nD Cert.SsmInUIdeal.τ).loc Cert.SsmInUIdeal.main_arg4) = m ((c.tc : Thread Cert.SsmInUIdeal.nD Cert.SsmInUIdeal.τ).loc Cert.SsmInUIdeal.main_arg4))
      ∧ θ_run (Cert.SsmInUPlainIdeal.defs (F := Ideal)) (onTc (τ := Cert.SsmInUPlainIdeal.τ) (Cert.SsmInUPlainIdeal.main (F := Ideal))) ⟨m', fun _ => 0, g'⟩ (fun r => ∀ c : Dev Cert.SsmInUPlainIdeal.nD,
          r.2.mem ((c.tc : Thread Cert.SsmInUPlainIdeal.nD Cert.SsmInUPlainIdeal.τ).loc Cert.SsmInUPlainIdeal.main_v2) = v0 c
          ∧ r.2.mem ((c.tc : Thread Cert.SsmInUPlainIdeal.nD Cert.SsmInUPlainIdeal.τ).loc Cert.SsmInUPlainIdeal.main_arg0) = m' ((c.tc : Thread Cert.SsmInUPlainIdeal.nD Cert.SsmInUPlainIdeal.τ).loc Cert.SsmInUPlainIdeal.main_arg0)
          ∧ r.2.mem ((c.tc : Thread Cert.SsmInUPlainIdeal.nD Cert.SsmInUPlainIdeal.τ).loc Cert.SsmInUPlainIdeal.main_arg1) = m' ((c.tc : Thread Cert.SsmInUPlainIdeal.nD Cert.SsmInUPlainIdeal.τ).loc Cert.SsmInUPlainIdeal.main_arg1)
          ∧ r.2.mem ((c.tc : Thread Cert.SsmInUPlainIdeal.nD Cert.SsmInUPlainIdeal.τ).loc Cert.SsmInUPlainIdeal.main_arg2) = m' ((c.tc : Thread Cert.SsmInUPlainIdeal.nD Cert.SsmInUPlainIdeal.τ).loc Cert.SsmInUPlainIdeal.main_arg2)
          ∧ r.2.mem ((c.tc : Thread Cert.SsmInUPlainIdeal.nD Cert.SsmInUPlainIdeal.τ).loc Cert.SsmInUPlainIdeal.main_arg3) = m' ((c.tc : Thread Cert.SsmInUPlainIdeal.nD Cert.SsmInUPlainIdeal.τ).loc Cert.SsmInUPlainIdeal.main_arg3)
          ∧ r.2.mem ((c.tc : Thread Cert.SsmInUPlainIdeal.nD Cert.SsmInUPlainIdeal.τ).loc Cert.SsmInUPlainIdeal.main_arg4) = m' ((c.tc : Thread Cert.SsmInUPlainIdeal.nD Cert.SsmInUPlainIdeal.τ).loc Cert.SsmInUPlainIdeal.main_arg4))

def preserves_SsmInGate_SsmInGateIdeal : Prop :=
  True

def algebraic_SsmInGateIdeal_SsmInGatePlainIdeal [hSsmInGateIdeal : Cert.SsmInGateIdeal.Facts] [hSsmInGatePlainIdeal : Cert.SsmInGatePlainIdeal.Facts] : Prop :=
  ∀ (m : (ℓ : Loc Cert.SsmInGateIdeal.nD Cert.SsmInGateIdeal.τ Cert.SsmInGateIdeal.sig) → Buf (Elt Ideal) ℓ) (g : Dev Cert.SsmInGateIdeal.nD → PrngReg)
    (m' : (ℓ : Loc Cert.SsmInGatePlainIdeal.nD Cert.SsmInGatePlainIdeal.τ Cert.SsmInGatePlainIdeal.sig) → Buf (Elt Ideal) ℓ) (g' : Dev Cert.SsmInGatePlainIdeal.nD → PrngReg), Pre_SsmInGateIdeal m →
    (∀ c : Dev Cert.SsmInGateIdeal.nD,
      m' ((c.tc : Thread Cert.SsmInGatePlainIdeal.nD Cert.SsmInGatePlainIdeal.τ).loc Cert.SsmInGatePlainIdeal.main_arg0) = m ((c.tc : Thread Cert.SsmInGateIdeal.nD Cert.SsmInGateIdeal.τ).loc Cert.SsmInGateIdeal.main_arg0)
      ∧ m' ((c.tc : Thread Cert.SsmInGatePlainIdeal.nD Cert.SsmInGatePlainIdeal.τ).loc Cert.SsmInGatePlainIdeal.main_arg1) = m ((c.tc : Thread Cert.SsmInGateIdeal.nD Cert.SsmInGateIdeal.τ).loc Cert.SsmInGateIdeal.main_arg1)
      ∧ m' ((c.tc : Thread Cert.SsmInGatePlainIdeal.nD Cert.SsmInGatePlainIdeal.τ).loc Cert.SsmInGatePlainIdeal.main_arg2) = m ((c.tc : Thread Cert.SsmInGateIdeal.nD Cert.SsmInGateIdeal.τ).loc Cert.SsmInGateIdeal.main_arg2)
      ∧ m' ((c.tc : Thread Cert.SsmInGatePlainIdeal.nD Cert.SsmInGatePlainIdeal.τ).loc Cert.SsmInGatePlainIdeal.main_arg3) = m ((c.tc : Thread Cert.SsmInGateIdeal.nD Cert.SsmInGateIdeal.τ).loc Cert.SsmInGateIdeal.main_arg3)
      ∧ m' ((c.tc : Thread Cert.SsmInGatePlainIdeal.nD Cert.SsmInGatePlainIdeal.τ).loc Cert.SsmInGatePlainIdeal.main_arg4) = m ((c.tc : Thread Cert.SsmInGateIdeal.nD Cert.SsmInGateIdeal.τ).loc Cert.SsmInGateIdeal.main_arg4)) →
    ∃ (v0 : (c : Dev Cert.SsmInGateIdeal.nD) → Buf (Elt Ideal) ((c.tc : Thread Cert.SsmInGateIdeal.nD Cert.SsmInGateIdeal.τ).loc Cert.SsmInGateIdeal.main_v8)),
      θ_run (Cert.SsmInGateIdeal.defs (F := Ideal)) (onTc (τ := Cert.SsmInGateIdeal.τ) (Cert.SsmInGateIdeal.main (F := Ideal))) ⟨m, fun _ => 0, g⟩ (fun r => ∀ c : Dev Cert.SsmInGateIdeal.nD,
          r.2.mem ((c.tc : Thread Cert.SsmInGateIdeal.nD Cert.SsmInGateIdeal.τ).loc Cert.SsmInGateIdeal.main_v8) = v0 c
          ∧ r.2.mem ((c.tc : Thread Cert.SsmInGateIdeal.nD Cert.SsmInGateIdeal.τ).loc Cert.SsmInGateIdeal.main_arg0) = m ((c.tc : Thread Cert.SsmInGateIdeal.nD Cert.SsmInGateIdeal.τ).loc Cert.SsmInGateIdeal.main_arg0)
          ∧ r.2.mem ((c.tc : Thread Cert.SsmInGateIdeal.nD Cert.SsmInGateIdeal.τ).loc Cert.SsmInGateIdeal.main_arg1) = m ((c.tc : Thread Cert.SsmInGateIdeal.nD Cert.SsmInGateIdeal.τ).loc Cert.SsmInGateIdeal.main_arg1)
          ∧ r.2.mem ((c.tc : Thread Cert.SsmInGateIdeal.nD Cert.SsmInGateIdeal.τ).loc Cert.SsmInGateIdeal.main_arg2) = m ((c.tc : Thread Cert.SsmInGateIdeal.nD Cert.SsmInGateIdeal.τ).loc Cert.SsmInGateIdeal.main_arg2)
          ∧ r.2.mem ((c.tc : Thread Cert.SsmInGateIdeal.nD Cert.SsmInGateIdeal.τ).loc Cert.SsmInGateIdeal.main_arg3) = m ((c.tc : Thread Cert.SsmInGateIdeal.nD Cert.SsmInGateIdeal.τ).loc Cert.SsmInGateIdeal.main_arg3)
          ∧ r.2.mem ((c.tc : Thread Cert.SsmInGateIdeal.nD Cert.SsmInGateIdeal.τ).loc Cert.SsmInGateIdeal.main_arg4) = m ((c.tc : Thread Cert.SsmInGateIdeal.nD Cert.SsmInGateIdeal.τ).loc Cert.SsmInGateIdeal.main_arg4))
      ∧ θ_run (Cert.SsmInGatePlainIdeal.defs (F := Ideal)) (onTc (τ := Cert.SsmInGatePlainIdeal.τ) (Cert.SsmInGatePlainIdeal.main (F := Ideal))) ⟨m', fun _ => 0, g'⟩ (fun r => ∀ c : Dev Cert.SsmInGatePlainIdeal.nD,
          r.2.mem ((c.tc : Thread Cert.SsmInGatePlainIdeal.nD Cert.SsmInGatePlainIdeal.τ).loc Cert.SsmInGatePlainIdeal.main_v3) = v0 c
          ∧ r.2.mem ((c.tc : Thread Cert.SsmInGatePlainIdeal.nD Cert.SsmInGatePlainIdeal.τ).loc Cert.SsmInGatePlainIdeal.main_arg0) = m' ((c.tc : Thread Cert.SsmInGatePlainIdeal.nD Cert.SsmInGatePlainIdeal.τ).loc Cert.SsmInGatePlainIdeal.main_arg0)
          ∧ r.2.mem ((c.tc : Thread Cert.SsmInGatePlainIdeal.nD Cert.SsmInGatePlainIdeal.τ).loc Cert.SsmInGatePlainIdeal.main_arg1) = m' ((c.tc : Thread Cert.SsmInGatePlainIdeal.nD Cert.SsmInGatePlainIdeal.τ).loc Cert.SsmInGatePlainIdeal.main_arg1)
          ∧ r.2.mem ((c.tc : Thread Cert.SsmInGatePlainIdeal.nD Cert.SsmInGatePlainIdeal.τ).loc Cert.SsmInGatePlainIdeal.main_arg2) = m' ((c.tc : Thread Cert.SsmInGatePlainIdeal.nD Cert.SsmInGatePlainIdeal.τ).loc Cert.SsmInGatePlainIdeal.main_arg2)
          ∧ r.2.mem ((c.tc : Thread Cert.SsmInGatePlainIdeal.nD Cert.SsmInGatePlainIdeal.τ).loc Cert.SsmInGatePlainIdeal.main_arg3) = m' ((c.tc : Thread Cert.SsmInGatePlainIdeal.nD Cert.SsmInGatePlainIdeal.τ).loc Cert.SsmInGatePlainIdeal.main_arg3)
          ∧ r.2.mem ((c.tc : Thread Cert.SsmInGatePlainIdeal.nD Cert.SsmInGatePlainIdeal.τ).loc Cert.SsmInGatePlainIdeal.main_arg4) = m' ((c.tc : Thread Cert.SsmInGatePlainIdeal.nD Cert.SsmInGatePlainIdeal.τ).loc Cert.SsmInGatePlainIdeal.main_arg4))

def preserves_GluMm_GluMmIdeal : Prop :=
  True

def algebraic_GluMmIdeal_GluMmPlainIdeal [hGluMmIdeal : Cert.GluMmIdeal.Facts] [hGluMmPlainIdeal : Cert.GluMmPlainIdeal.Facts] : Prop :=
  ∀ (m : (ℓ : Loc Cert.GluMmIdeal.nD Cert.GluMmIdeal.τ Cert.GluMmIdeal.sig) → Buf (Elt Ideal) ℓ) (g : Dev Cert.GluMmIdeal.nD → PrngReg)
    (m' : (ℓ : Loc Cert.GluMmPlainIdeal.nD Cert.GluMmPlainIdeal.τ Cert.GluMmPlainIdeal.sig) → Buf (Elt Ideal) ℓ) (g' : Dev Cert.GluMmPlainIdeal.nD → PrngReg), Pre_GluMmIdeal m →
    (∀ c : Dev Cert.GluMmIdeal.nD,
      m' ((c.tc : Thread Cert.GluMmPlainIdeal.nD Cert.GluMmPlainIdeal.τ).loc Cert.GluMmPlainIdeal.main_arg0) = m ((c.tc : Thread Cert.GluMmIdeal.nD Cert.GluMmIdeal.τ).loc Cert.GluMmIdeal.main_arg0)
      ∧ m' ((c.tc : Thread Cert.GluMmPlainIdeal.nD Cert.GluMmPlainIdeal.τ).loc Cert.GluMmPlainIdeal.main_arg1) = m ((c.tc : Thread Cert.GluMmIdeal.nD Cert.GluMmIdeal.τ).loc Cert.GluMmIdeal.main_arg1)
      ∧ m' ((c.tc : Thread Cert.GluMmPlainIdeal.nD Cert.GluMmPlainIdeal.τ).loc Cert.GluMmPlainIdeal.main_arg2) = m ((c.tc : Thread Cert.GluMmIdeal.nD Cert.GluMmIdeal.τ).loc Cert.GluMmIdeal.main_arg2)
      ∧ m' ((c.tc : Thread Cert.GluMmPlainIdeal.nD Cert.GluMmPlainIdeal.τ).loc Cert.GluMmPlainIdeal.main_arg3) = m ((c.tc : Thread Cert.GluMmIdeal.nD Cert.GluMmIdeal.τ).loc Cert.GluMmIdeal.main_arg3)
      ∧ m' ((c.tc : Thread Cert.GluMmPlainIdeal.nD Cert.GluMmPlainIdeal.τ).loc Cert.GluMmPlainIdeal.main_arg4) = m ((c.tc : Thread Cert.GluMmIdeal.nD Cert.GluMmIdeal.τ).loc Cert.GluMmIdeal.main_arg4)
      ∧ m' ((c.tc : Thread Cert.GluMmPlainIdeal.nD Cert.GluMmPlainIdeal.τ).loc Cert.GluMmPlainIdeal.main_arg5) = m ((c.tc : Thread Cert.GluMmIdeal.nD Cert.GluMmIdeal.τ).loc Cert.GluMmIdeal.main_arg5)
      ∧ m' ((c.tc : Thread Cert.GluMmPlainIdeal.nD Cert.GluMmPlainIdeal.τ).loc Cert.GluMmPlainIdeal.main_arg6) = m ((c.tc : Thread Cert.GluMmIdeal.nD Cert.GluMmIdeal.τ).loc Cert.GluMmIdeal.main_arg6)) →
    ∃ (v0 : (c : Dev Cert.GluMmIdeal.nD) → Buf (Elt Ideal) ((c.tc : Thread Cert.GluMmIdeal.nD Cert.GluMmIdeal.τ).loc Cert.GluMmIdeal.main_v41_0)) (v1 : (c : Dev Cert.GluMmIdeal.nD) → Buf (Elt Ideal) ((c.tc : Thread Cert.GluMmIdeal.nD Cert.GluMmIdeal.τ).loc Cert.GluMmIdeal.main_v41_1)),
      θ_run (Cert.GluMmIdeal.defs (F := Ideal)) (onTc (τ := Cert.GluMmIdeal.τ) (Cert.GluMmIdeal.main (F := Ideal))) ⟨m, fun _ => 0, g⟩ (fun r => ∀ c : Dev Cert.GluMmIdeal.nD,
          r.2.mem ((c.tc : Thread Cert.GluMmIdeal.nD Cert.GluMmIdeal.τ).loc Cert.GluMmIdeal.main_v41_0) = v0 c
          ∧ r.2.mem ((c.tc : Thread Cert.GluMmIdeal.nD Cert.GluMmIdeal.τ).loc Cert.GluMmIdeal.main_v41_1) = v1 c
          ∧ r.2.mem ((c.tc : Thread Cert.GluMmIdeal.nD Cert.GluMmIdeal.τ).loc Cert.GluMmIdeal.main_arg0) = m ((c.tc : Thread Cert.GluMmIdeal.nD Cert.GluMmIdeal.τ).loc Cert.GluMmIdeal.main_arg0)
          ∧ r.2.mem ((c.tc : Thread Cert.GluMmIdeal.nD Cert.GluMmIdeal.τ).loc Cert.GluMmIdeal.main_arg1) = m ((c.tc : Thread Cert.GluMmIdeal.nD Cert.GluMmIdeal.τ).loc Cert.GluMmIdeal.main_arg1)
          ∧ r.2.mem ((c.tc : Thread Cert.GluMmIdeal.nD Cert.GluMmIdeal.τ).loc Cert.GluMmIdeal.main_arg2) = m ((c.tc : Thread Cert.GluMmIdeal.nD Cert.GluMmIdeal.τ).loc Cert.GluMmIdeal.main_arg2)
          ∧ r.2.mem ((c.tc : Thread Cert.GluMmIdeal.nD Cert.GluMmIdeal.τ).loc Cert.GluMmIdeal.main_arg3) = m ((c.tc : Thread Cert.GluMmIdeal.nD Cert.GluMmIdeal.τ).loc Cert.GluMmIdeal.main_arg3)
          ∧ r.2.mem ((c.tc : Thread Cert.GluMmIdeal.nD Cert.GluMmIdeal.τ).loc Cert.GluMmIdeal.main_arg4) = m ((c.tc : Thread Cert.GluMmIdeal.nD Cert.GluMmIdeal.τ).loc Cert.GluMmIdeal.main_arg4)
          ∧ r.2.mem ((c.tc : Thread Cert.GluMmIdeal.nD Cert.GluMmIdeal.τ).loc Cert.GluMmIdeal.main_arg5) = m ((c.tc : Thread Cert.GluMmIdeal.nD Cert.GluMmIdeal.τ).loc Cert.GluMmIdeal.main_arg5)
          ∧ r.2.mem ((c.tc : Thread Cert.GluMmIdeal.nD Cert.GluMmIdeal.τ).loc Cert.GluMmIdeal.main_arg6) = m ((c.tc : Thread Cert.GluMmIdeal.nD Cert.GluMmIdeal.τ).loc Cert.GluMmIdeal.main_arg6))
      ∧ θ_run (Cert.GluMmPlainIdeal.defs (F := Ideal)) (onTc (τ := Cert.GluMmPlainIdeal.τ) (Cert.GluMmPlainIdeal.main (F := Ideal))) ⟨m', fun _ => 0, g'⟩ (fun r => ∀ c : Dev Cert.GluMmPlainIdeal.nD,
          r.2.mem ((c.tc : Thread Cert.GluMmPlainIdeal.nD Cert.GluMmPlainIdeal.τ).loc Cert.GluMmPlainIdeal.main_v13) = v0 c
          ∧ r.2.mem ((c.tc : Thread Cert.GluMmPlainIdeal.nD Cert.GluMmPlainIdeal.τ).loc Cert.GluMmPlainIdeal.main_v26) = v1 c
          ∧ r.2.mem ((c.tc : Thread Cert.GluMmPlainIdeal.nD Cert.GluMmPlainIdeal.τ).loc Cert.GluMmPlainIdeal.main_arg0) = m' ((c.tc : Thread Cert.GluMmPlainIdeal.nD Cert.GluMmPlainIdeal.τ).loc Cert.GluMmPlainIdeal.main_arg0)
          ∧ r.2.mem ((c.tc : Thread Cert.GluMmPlainIdeal.nD Cert.GluMmPlainIdeal.τ).loc Cert.GluMmPlainIdeal.main_arg1) = m' ((c.tc : Thread Cert.GluMmPlainIdeal.nD Cert.GluMmPlainIdeal.τ).loc Cert.GluMmPlainIdeal.main_arg1)
          ∧ r.2.mem ((c.tc : Thread Cert.GluMmPlainIdeal.nD Cert.GluMmPlainIdeal.τ).loc Cert.GluMmPlainIdeal.main_arg2) = m' ((c.tc : Thread Cert.GluMmPlainIdeal.nD Cert.GluMmPlainIdeal.τ).loc Cert.GluMmPlainIdeal.main_arg2)
          ∧ r.2.mem ((c.tc : Thread Cert.GluMmPlainIdeal.nD Cert.GluMmPlainIdeal.τ).loc Cert.GluMmPlainIdeal.main_arg3) = m' ((c.tc : Thread Cert.GluMmPlainIdeal.nD Cert.GluMmPlainIdeal.τ).loc Cert.GluMmPlainIdeal.main_arg3)
          ∧ r.2.mem ((c.tc : Thread Cert.GluMmPlainIdeal.nD Cert.GluMmPlainIdeal.τ).loc Cert.GluMmPlainIdeal.main_arg4) = m' ((c.tc : Thread Cert.GluMmPlainIdeal.nD Cert.GluMmPlainIdeal.τ).loc Cert.GluMmPlainIdeal.main_arg4)
          ∧ r.2.mem ((c.tc : Thread Cert.GluMmPlainIdeal.nD Cert.GluMmPlainIdeal.τ).loc Cert.GluMmPlainIdeal.main_arg5) = m' ((c.tc : Thread Cert.GluMmPlainIdeal.nD Cert.GluMmPlainIdeal.τ).loc Cert.GluMmPlainIdeal.main_arg5)
          ∧ r.2.mem ((c.tc : Thread Cert.GluMmPlainIdeal.nD Cert.GluMmPlainIdeal.τ).loc Cert.GluMmPlainIdeal.main_arg6) = m' ((c.tc : Thread Cert.GluMmPlainIdeal.nD Cert.GluMmPlainIdeal.τ).loc Cert.GluMmPlainIdeal.main_arg6))

def preserves_SsmOut_SsmOutIdeal : Prop :=
  True

def algebraic_SsmOutIdeal_SsmOutPlainIdeal [hSsmOutIdeal : Cert.SsmOutIdeal.Facts] [hSsmOutPlainIdeal : Cert.SsmOutPlainIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.SsmOutPlainIdeal.nD Cert.SsmOutPlainIdeal.τ Cert.SsmOutPlainIdeal.sig) → Buf (Elt Ideal) ℓ) (g' : Dev Cert.SsmOutPlainIdeal.nD → PrngReg), Pre_SsmOutIdeal m →
    (∀ c : Dev Cert.SsmOutIdeal.nD,
      m' ((c.tc : Thread Cert.SsmOutPlainIdeal.nD Cert.SsmOutPlainIdeal.τ).loc Cert.SsmOutPlainIdeal.main_arg0) = m ((c.tc : Thread Cert.SsmOutIdeal.nD Cert.SsmOutIdeal.τ).loc Cert.SsmOutIdeal.main_arg0)
      ∧ m' ((c.tc : Thread Cert.SsmOutPlainIdeal.nD Cert.SsmOutPlainIdeal.τ).loc Cert.SsmOutPlainIdeal.main_arg1) = m ((c.tc : Thread Cert.SsmOutIdeal.nD Cert.SsmOutIdeal.τ).loc Cert.SsmOutIdeal.main_arg1)
      ∧ m' ((c.tc : Thread Cert.SsmOutPlainIdeal.nD Cert.SsmOutPlainIdeal.τ).loc Cert.SsmOutPlainIdeal.main_arg2) = m ((c.tc : Thread Cert.SsmOutIdeal.nD Cert.SsmOutIdeal.τ).loc Cert.SsmOutIdeal.main_arg2)
      ∧ m' ((c.tc : Thread Cert.SsmOutPlainIdeal.nD Cert.SsmOutPlainIdeal.τ).loc Cert.SsmOutPlainIdeal.main_arg3) = m ((c.tc : Thread Cert.SsmOutIdeal.nD Cert.SsmOutIdeal.τ).loc Cert.SsmOutIdeal.main_arg3)
      ∧ m' ((c.tc : Thread Cert.SsmOutPlainIdeal.nD Cert.SsmOutPlainIdeal.τ).loc Cert.SsmOutPlainIdeal.main_arg4) = m ((c.tc : Thread Cert.SsmOutIdeal.nD Cert.SsmOutIdeal.τ).loc Cert.SsmOutIdeal.main_arg4)
      ∧ m' ((c.tc : Thread Cert.SsmOutPlainIdeal.nD Cert.SsmOutPlainIdeal.τ).loc Cert.SsmOutPlainIdeal.main_arg5) = m ((c.tc : Thread Cert.SsmOutIdeal.nD Cert.SsmOutIdeal.τ).loc Cert.SsmOutIdeal.main_arg5)) →
    ∃ (v0 : (c : Dev Cert.SsmOutIdeal.nD) → Buf (Elt Ideal) ((c.tc : Thread Cert.SsmOutIdeal.nD Cert.SsmOutIdeal.τ).loc Cert.SsmOutIdeal.main_v8)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v8) = v0 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
          ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2)
          ∧ r.2.mem ((c.tc : Thread Cert.SsmOutIdeal.nD Cert.SsmOutIdeal.τ).loc Cert.SsmOutIdeal.main_arg3) = m ((c.tc : Thread Cert.SsmOutIdeal.nD Cert.SsmOutIdeal.τ).loc Cert.SsmOutIdeal.main_arg3)
          ∧ r.2.mem ((c.tc : Thread Cert.SsmOutIdeal.nD Cert.SsmOutIdeal.τ).loc Cert.SsmOutIdeal.main_arg4) = m ((c.tc : Thread Cert.SsmOutIdeal.nD Cert.SsmOutIdeal.τ).loc Cert.SsmOutIdeal.main_arg4)
          ∧ r.2.mem ((c.tc : Thread Cert.SsmOutIdeal.nD Cert.SsmOutIdeal.τ).loc Cert.SsmOutIdeal.main_arg5) = m ((c.tc : Thread Cert.SsmOutIdeal.nD Cert.SsmOutIdeal.τ).loc Cert.SsmOutIdeal.main_arg5))
      ∧ θ_run (Cert.SsmOutPlainIdeal.defs (F := Ideal)) (onTc (τ := Cert.SsmOutPlainIdeal.τ) (Cert.SsmOutPlainIdeal.main (F := Ideal))) ⟨m', fun _ => 0, g'⟩ (fun r => ∀ c : Dev Cert.SsmOutPlainIdeal.nD,
          r.2.mem ((c.tc : Thread Cert.SsmOutPlainIdeal.nD Cert.SsmOutPlainIdeal.τ).loc Cert.SsmOutPlainIdeal.main_v2) = v0 c
          ∧ r.2.mem ((c.tc : Thread Cert.SsmOutPlainIdeal.nD Cert.SsmOutPlainIdeal.τ).loc Cert.SsmOutPlainIdeal.main_arg0) = m' ((c.tc : Thread Cert.SsmOutPlainIdeal.nD Cert.SsmOutPlainIdeal.τ).loc Cert.SsmOutPlainIdeal.main_arg0)
          ∧ r.2.mem ((c.tc : Thread Cert.SsmOutPlainIdeal.nD Cert.SsmOutPlainIdeal.τ).loc Cert.SsmOutPlainIdeal.main_arg1) = m' ((c.tc : Thread Cert.SsmOutPlainIdeal.nD Cert.SsmOutPlainIdeal.τ).loc Cert.SsmOutPlainIdeal.main_arg1)
          ∧ r.2.mem ((c.tc : Thread Cert.SsmOutPlainIdeal.nD Cert.SsmOutPlainIdeal.τ).loc Cert.SsmOutPlainIdeal.main_arg2) = m' ((c.tc : Thread Cert.SsmOutPlainIdeal.nD Cert.SsmOutPlainIdeal.τ).loc Cert.SsmOutPlainIdeal.main_arg2)
          ∧ r.2.mem ((c.tc : Thread Cert.SsmOutPlainIdeal.nD Cert.SsmOutPlainIdeal.τ).loc Cert.SsmOutPlainIdeal.main_arg3) = m' ((c.tc : Thread Cert.SsmOutPlainIdeal.nD Cert.SsmOutPlainIdeal.τ).loc Cert.SsmOutPlainIdeal.main_arg3)
          ∧ r.2.mem ((c.tc : Thread Cert.SsmOutPlainIdeal.nD Cert.SsmOutPlainIdeal.τ).loc Cert.SsmOutPlainIdeal.main_arg4) = m' ((c.tc : Thread Cert.SsmOutPlainIdeal.nD Cert.SsmOutPlainIdeal.τ).loc Cert.SsmOutPlainIdeal.main_arg4)
          ∧ r.2.mem ((c.tc : Thread Cert.SsmOutPlainIdeal.nD Cert.SsmOutPlainIdeal.τ).loc Cert.SsmOutPlainIdeal.main_arg5) = m' ((c.tc : Thread Cert.SsmOutPlainIdeal.nD Cert.SsmOutPlainIdeal.τ).loc Cert.SsmOutPlainIdeal.main_arg5))

def Claim : Prop :=
  ∃ (hKernel : Cert.Kernel.Facts) (hKernelIdeal : Cert.KernelIdeal.Facts) (hReferenceIdeal : Cert.ReferenceIdeal.Facts) (hSsmOutDgrad : Cert.SsmOutDgrad.Facts) (hSsmOutDgradIdeal : Cert.SsmOutDgradIdeal.Facts) (hSsmOutDgradPlainIdeal : Cert.SsmOutDgradPlainIdeal.Facts) (hAttnOutDgrad : Cert.AttnOutDgrad.Facts) (hAttnOutDgradIdeal : Cert.AttnOutDgradIdeal.Facts) (hAttnOutDgradPlainIdeal : Cert.AttnOutDgradPlainIdeal.Facts) (hGluDgrad : Cert.GluDgrad.Facts) (hGluDgradIdeal : Cert.GluDgradIdeal.Facts) (hGluDgradPlainIdeal : Cert.GluDgradPlainIdeal.Facts) (hSsmInDgradU : Cert.SsmInDgradU.Facts) (hSsmInDgradUIdeal : Cert.SsmInDgradUIdeal.Facts) (hSsmInDgradUPlainIdeal : Cert.SsmInDgradUPlainIdeal.Facts) (hSsmInDgradGate : Cert.SsmInDgradGate.Facts) (hSsmInDgradGateIdeal : Cert.SsmInDgradGateIdeal.Facts) (hSsmInDgradGatePlainIdeal : Cert.SsmInDgradGatePlainIdeal.Facts) (hAttnInDgrad0 : Cert.AttnInDgrad0.Facts) (hAttnInDgrad0Ideal : Cert.AttnInDgrad0Ideal.Facts) (hAttnInDgrad0PlainIdeal : Cert.AttnInDgrad0PlainIdeal.Facts) (hAttnInDgrad1 : Cert.AttnInDgrad1.Facts) (hAttnInDgrad1Ideal : Cert.AttnInDgrad1Ideal.Facts) (hAttnInDgrad1PlainIdeal : Cert.AttnInDgrad1PlainIdeal.Facts) (hAttnInDgrad2 : Cert.AttnInDgrad2.Facts) (hAttnInDgrad2Ideal : Cert.AttnInDgrad2Ideal.Facts) (hAttnInDgrad2PlainIdeal : Cert.AttnInDgrad2PlainIdeal.Facts) (hAttnInDgrad3 : Cert.AttnInDgrad3.Facts) (hAttnInDgrad3Ideal : Cert.AttnInDgrad3Ideal.Facts) (hAttnInDgrad3PlainIdeal : Cert.AttnInDgrad3PlainIdeal.Facts) (hSsmOutWgrad : Cert.SsmOutWgrad.Facts) (hSsmOutWgradIdeal : Cert.SsmOutWgradIdeal.Facts) (hSsmOutWgradPlainIdeal : Cert.SsmOutWgradPlainIdeal.Facts) (hGluWgrad : Cert.GluWgrad.Facts) (hGluWgradIdeal : Cert.GluWgradIdeal.Facts) (hGluWgradPlainIdeal : Cert.GluWgradPlainIdeal.Facts) (hSsmInWgradU : Cert.SsmInWgradU.Facts) (hSsmInWgradUIdeal : Cert.SsmInWgradUIdeal.Facts) (hSsmInWgradUPlainIdeal : Cert.SsmInWgradUPlainIdeal.Facts) (hSsmInWgradGate : Cert.SsmInWgradGate.Facts) (hSsmInWgradGateIdeal : Cert.SsmInWgradGateIdeal.Facts) (hSsmInWgradGatePlainIdeal : Cert.SsmInWgradGatePlainIdeal.Facts) (hAttnOutWgrad : Cert.AttnOutWgrad.Facts) (hAttnOutWgradIdeal : Cert.AttnOutWgradIdeal.Facts) (hAttnOutWgradPlainIdeal : Cert.AttnOutWgradPlainIdeal.Facts) (hAttnInWgrad0 : Cert.AttnInWgrad0.Facts) (hAttnInWgrad0Ideal : Cert.AttnInWgrad0Ideal.Facts) (hAttnInWgrad0PlainIdeal : Cert.AttnInWgrad0PlainIdeal.Facts) (hAttnInWgrad1 : Cert.AttnInWgrad1.Facts) (hAttnInWgrad1Ideal : Cert.AttnInWgrad1Ideal.Facts) (hAttnInWgrad1PlainIdeal : Cert.AttnInWgrad1PlainIdeal.Facts) (hAttnInWgrad2 : Cert.AttnInWgrad2.Facts) (hAttnInWgrad2Ideal : Cert.AttnInWgrad2Ideal.Facts) (hAttnInWgrad2PlainIdeal : Cert.AttnInWgrad2PlainIdeal.Facts) (hAttnInWgrad3 : Cert.AttnInWgrad3.Facts) (hAttnInWgrad3Ideal : Cert.AttnInWgrad3Ideal.Facts) (hAttnInWgrad3PlainIdeal : Cert.AttnInWgrad3PlainIdeal.Facts) (hAttnIn0 : Cert.AttnIn0.Facts) (hAttnIn0Ideal : Cert.AttnIn0Ideal.Facts) (hAttnIn0PlainIdeal : Cert.AttnIn0PlainIdeal.Facts) (hAttnIn1 : Cert.AttnIn1.Facts) (hAttnIn1Ideal : Cert.AttnIn1Ideal.Facts) (hAttnIn1PlainIdeal : Cert.AttnIn1PlainIdeal.Facts) (hAttnIn2 : Cert.AttnIn2.Facts) (hAttnIn2Ideal : Cert.AttnIn2Ideal.Facts) (hAttnIn2PlainIdeal : Cert.AttnIn2PlainIdeal.Facts) (hAttnIn3 : Cert.AttnIn3.Facts) (hAttnIn3Ideal : Cert.AttnIn3Ideal.Facts) (hAttnIn3PlainIdeal : Cert.AttnIn3PlainIdeal.Facts) (hAttnOut : Cert.AttnOut.Facts) (hAttnOutIdeal : Cert.AttnOutIdeal.Facts) (hAttnOutPlainIdeal : Cert.AttnOutPlainIdeal.Facts) (hSsmInU : Cert.SsmInU.Facts) (hSsmInUIdeal : Cert.SsmInUIdeal.Facts) (hSsmInUPlainIdeal : Cert.SsmInUPlainIdeal.Facts) (hSsmInGate : Cert.SsmInGate.Facts) (hSsmInGateIdeal : Cert.SsmInGateIdeal.Facts) (hSsmInGatePlainIdeal : Cert.SsmInGatePlainIdeal.Facts) (hGluMm : Cert.GluMm.Facts) (hGluMmIdeal : Cert.GluMmIdeal.Facts) (hGluMmPlainIdeal : Cert.GluMmPlainIdeal.Facts) (hSsmOut : Cert.SsmOut.Facts) (hSsmOutIdeal : Cert.SsmOutIdeal.Facts) (hSsmOutPlainIdeal : Cert.SsmOutPlainIdeal.Facts) (hPre_finite : Cert.Pre_finite.Facts) (hPre_finite_gate : Cert.Pre_finite_gate.Facts) (hPre_finite_glu : Cert.Pre_finite_glu.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_SsmOutDgrad (hSsmOutDgrad := hSsmOutDgrad)
    ∧ quiescent_SsmOutDgradIdeal (hSsmOutDgradIdeal := hSsmOutDgradIdeal)
    ∧ quiescent_SsmOutDgradPlainIdeal (hSsmOutDgradPlainIdeal := hSsmOutDgradPlainIdeal)
    ∧ quiescent_AttnOutDgrad (hAttnOutDgrad := hAttnOutDgrad)
    ∧ quiescent_AttnOutDgradIdeal (hAttnOutDgradIdeal := hAttnOutDgradIdeal)
    ∧ quiescent_AttnOutDgradIdeal_pre_finite_gate (hAttnOutDgradIdeal := hAttnOutDgradIdeal) (hPre_finite_gate := hPre_finite_gate)
    ∧ quiescent_AttnOutDgradPlainIdeal (hAttnOutDgradPlainIdeal := hAttnOutDgradPlainIdeal)
    ∧ quiescent_AttnOutDgradPlainIdeal_pre_finite_gate (hAttnOutDgradPlainIdeal := hAttnOutDgradPlainIdeal) (hPre_finite_gate := hPre_finite_gate)
    ∧ quiescent_GluDgrad (hGluDgrad := hGluDgrad)
    ∧ quiescent_GluDgradIdeal (hGluDgradIdeal := hGluDgradIdeal)
    ∧ quiescent_GluDgradIdeal_pre_finite_glu (hGluDgradIdeal := hGluDgradIdeal) (hPre_finite_glu := hPre_finite_glu)
    ∧ quiescent_GluDgradPlainIdeal (hGluDgradPlainIdeal := hGluDgradPlainIdeal)
    ∧ quiescent_GluDgradPlainIdeal_pre_finite_glu (hGluDgradPlainIdeal := hGluDgradPlainIdeal) (hPre_finite_glu := hPre_finite_glu)
    ∧ quiescent_SsmInDgradU (hSsmInDgradU := hSsmInDgradU)
    ∧ quiescent_SsmInDgradUIdeal (hSsmInDgradUIdeal := hSsmInDgradUIdeal)
    ∧ quiescent_SsmInDgradUPlainIdeal (hSsmInDgradUPlainIdeal := hSsmInDgradUPlainIdeal)
    ∧ quiescent_SsmInDgradGate (hSsmInDgradGate := hSsmInDgradGate)
    ∧ quiescent_SsmInDgradGateIdeal (hSsmInDgradGateIdeal := hSsmInDgradGateIdeal)
    ∧ quiescent_SsmInDgradGatePlainIdeal (hSsmInDgradGatePlainIdeal := hSsmInDgradGatePlainIdeal)
    ∧ quiescent_AttnInDgrad0 (hAttnInDgrad0 := hAttnInDgrad0)
    ∧ quiescent_AttnInDgrad0Ideal (hAttnInDgrad0Ideal := hAttnInDgrad0Ideal)
    ∧ quiescent_AttnInDgrad0PlainIdeal (hAttnInDgrad0PlainIdeal := hAttnInDgrad0PlainIdeal)
    ∧ quiescent_AttnInDgrad1 (hAttnInDgrad1 := hAttnInDgrad1)
    ∧ quiescent_AttnInDgrad1Ideal (hAttnInDgrad1Ideal := hAttnInDgrad1Ideal)
    ∧ quiescent_AttnInDgrad1PlainIdeal (hAttnInDgrad1PlainIdeal := hAttnInDgrad1PlainIdeal)
    ∧ quiescent_AttnInDgrad2 (hAttnInDgrad2 := hAttnInDgrad2)
    ∧ quiescent_AttnInDgrad2Ideal (hAttnInDgrad2Ideal := hAttnInDgrad2Ideal)
    ∧ quiescent_AttnInDgrad2PlainIdeal (hAttnInDgrad2PlainIdeal := hAttnInDgrad2PlainIdeal)
    ∧ quiescent_AttnInDgrad3 (hAttnInDgrad3 := hAttnInDgrad3)
    ∧ quiescent_AttnInDgrad3Ideal (hAttnInDgrad3Ideal := hAttnInDgrad3Ideal)
    ∧ quiescent_AttnInDgrad3PlainIdeal (hAttnInDgrad3PlainIdeal := hAttnInDgrad3PlainIdeal)
    ∧ quiescent_SsmOutWgrad (hSsmOutWgrad := hSsmOutWgrad)
    ∧ quiescent_SsmOutWgradIdeal (hSsmOutWgradIdeal := hSsmOutWgradIdeal)
    ∧ quiescent_SsmOutWgradPlainIdeal (hSsmOutWgradPlainIdeal := hSsmOutWgradPlainIdeal)
    ∧ quiescent_GluWgrad (hGluWgrad := hGluWgrad)
    ∧ quiescent_GluWgradIdeal (hGluWgradIdeal := hGluWgradIdeal)
    ∧ quiescent_GluWgradPlainIdeal (hGluWgradPlainIdeal := hGluWgradPlainIdeal)
    ∧ quiescent_SsmInWgradU (hSsmInWgradU := hSsmInWgradU)
    ∧ quiescent_SsmInWgradUIdeal (hSsmInWgradUIdeal := hSsmInWgradUIdeal)
    ∧ quiescent_SsmInWgradUPlainIdeal (hSsmInWgradUPlainIdeal := hSsmInWgradUPlainIdeal)
    ∧ quiescent_SsmInWgradGate (hSsmInWgradGate := hSsmInWgradGate)
    ∧ quiescent_SsmInWgradGateIdeal (hSsmInWgradGateIdeal := hSsmInWgradGateIdeal)
    ∧ quiescent_SsmInWgradGatePlainIdeal (hSsmInWgradGatePlainIdeal := hSsmInWgradGatePlainIdeal)
    ∧ quiescent_AttnOutWgrad (hAttnOutWgrad := hAttnOutWgrad)
    ∧ quiescent_AttnOutWgradIdeal (hAttnOutWgradIdeal := hAttnOutWgradIdeal)
    ∧ quiescent_AttnOutWgradPlainIdeal (hAttnOutWgradPlainIdeal := hAttnOutWgradPlainIdeal)
    ∧ quiescent_AttnInWgrad0 (hAttnInWgrad0 := hAttnInWgrad0)
    ∧ quiescent_AttnInWgrad0Ideal (hAttnInWgrad0Ideal := hAttnInWgrad0Ideal)
    ∧ quiescent_AttnInWgrad0PlainIdeal (hAttnInWgrad0PlainIdeal := hAttnInWgrad0PlainIdeal)
    ∧ quiescent_AttnInWgrad1 (hAttnInWgrad1 := hAttnInWgrad1)
    ∧ quiescent_AttnInWgrad1Ideal (hAttnInWgrad1Ideal := hAttnInWgrad1Ideal)
    ∧ quiescent_AttnInWgrad1PlainIdeal (hAttnInWgrad1PlainIdeal := hAttnInWgrad1PlainIdeal)
    ∧ quiescent_AttnInWgrad2 (hAttnInWgrad2 := hAttnInWgrad2)
    ∧ quiescent_AttnInWgrad2Ideal (hAttnInWgrad2Ideal := hAttnInWgrad2Ideal)
    ∧ quiescent_AttnInWgrad2PlainIdeal (hAttnInWgrad2PlainIdeal := hAttnInWgrad2PlainIdeal)
    ∧ quiescent_AttnInWgrad3 (hAttnInWgrad3 := hAttnInWgrad3)
    ∧ quiescent_AttnInWgrad3Ideal (hAttnInWgrad3Ideal := hAttnInWgrad3Ideal)
    ∧ quiescent_AttnInWgrad3PlainIdeal (hAttnInWgrad3PlainIdeal := hAttnInWgrad3PlainIdeal)
    ∧ quiescent_AttnIn0 (hAttnIn0 := hAttnIn0)
    ∧ quiescent_AttnIn0Ideal (hAttnIn0Ideal := hAttnIn0Ideal)
    ∧ quiescent_AttnIn0PlainIdeal (hAttnIn0PlainIdeal := hAttnIn0PlainIdeal)
    ∧ quiescent_AttnIn1 (hAttnIn1 := hAttnIn1)
    ∧ quiescent_AttnIn1Ideal (hAttnIn1Ideal := hAttnIn1Ideal)
    ∧ quiescent_AttnIn1PlainIdeal (hAttnIn1PlainIdeal := hAttnIn1PlainIdeal)
    ∧ quiescent_AttnIn2 (hAttnIn2 := hAttnIn2)
    ∧ quiescent_AttnIn2Ideal (hAttnIn2Ideal := hAttnIn2Ideal)
    ∧ quiescent_AttnIn2PlainIdeal (hAttnIn2PlainIdeal := hAttnIn2PlainIdeal)
    ∧ quiescent_AttnIn3 (hAttnIn3 := hAttnIn3)
    ∧ quiescent_AttnIn3Ideal (hAttnIn3Ideal := hAttnIn3Ideal)
    ∧ quiescent_AttnIn3PlainIdeal (hAttnIn3PlainIdeal := hAttnIn3PlainIdeal)
    ∧ quiescent_AttnOut (hAttnOut := hAttnOut)
    ∧ quiescent_AttnOutIdeal (hAttnOutIdeal := hAttnOutIdeal)
    ∧ quiescent_AttnOutPlainIdeal (hAttnOutPlainIdeal := hAttnOutPlainIdeal)
    ∧ quiescent_SsmInU (hSsmInU := hSsmInU)
    ∧ quiescent_SsmInUIdeal (hSsmInUIdeal := hSsmInUIdeal)
    ∧ quiescent_SsmInUPlainIdeal (hSsmInUPlainIdeal := hSsmInUPlainIdeal)
    ∧ quiescent_SsmInGate (hSsmInGate := hSsmInGate)
    ∧ quiescent_SsmInGateIdeal (hSsmInGateIdeal := hSsmInGateIdeal)
    ∧ quiescent_SsmInGatePlainIdeal (hSsmInGatePlainIdeal := hSsmInGatePlainIdeal)
    ∧ quiescent_GluMm (hGluMm := hGluMm)
    ∧ quiescent_GluMmIdeal (hGluMmIdeal := hGluMmIdeal)
    ∧ quiescent_GluMmPlainIdeal (hGluMmPlainIdeal := hGluMmPlainIdeal)
    ∧ quiescent_SsmOut (hSsmOut := hSsmOut)
    ∧ quiescent_SsmOutIdeal (hSsmOutIdeal := hSsmOutIdeal)
    ∧ quiescent_SsmOutPlainIdeal (hSsmOutPlainIdeal := hSsmOutPlainIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_SsmOutDgrad_SsmOutDgradIdeal
    ∧ algebraic_SsmOutDgradIdeal_SsmOutDgradPlainIdeal (hSsmOutDgradIdeal := hSsmOutDgradIdeal) (hSsmOutDgradPlainIdeal := hSsmOutDgradPlainIdeal)
    ∧ preserves_AttnOutDgrad_AttnOutDgradIdeal
    ∧ algebraic_AttnOutDgradIdeal_AttnOutDgradPlainIdeal_pre_finite_gate (hAttnOutDgradIdeal := hAttnOutDgradIdeal) (hAttnOutDgradPlainIdeal := hAttnOutDgradPlainIdeal) (hPre_finite_gate := hPre_finite_gate)
    ∧ preserves_GluDgrad_GluDgradIdeal
    ∧ algebraic_GluDgradIdeal_GluDgradPlainIdeal_pre_finite_glu (hGluDgradIdeal := hGluDgradIdeal) (hGluDgradPlainIdeal := hGluDgradPlainIdeal) (hPre_finite_glu := hPre_finite_glu)
    ∧ preserves_SsmInDgradU_SsmInDgradUIdeal
    ∧ algebraic_SsmInDgradUIdeal_SsmInDgradUPlainIdeal (hSsmInDgradUIdeal := hSsmInDgradUIdeal) (hSsmInDgradUPlainIdeal := hSsmInDgradUPlainIdeal)
    ∧ preserves_SsmInDgradGate_SsmInDgradGateIdeal
    ∧ algebraic_SsmInDgradGateIdeal_SsmInDgradGatePlainIdeal (hSsmInDgradGateIdeal := hSsmInDgradGateIdeal) (hSsmInDgradGatePlainIdeal := hSsmInDgradGatePlainIdeal)
    ∧ preserves_AttnInDgrad0_AttnInDgrad0Ideal
    ∧ algebraic_AttnInDgrad0Ideal_AttnInDgrad0PlainIdeal (hAttnInDgrad0Ideal := hAttnInDgrad0Ideal) (hAttnInDgrad0PlainIdeal := hAttnInDgrad0PlainIdeal)
    ∧ preserves_AttnInDgrad1_AttnInDgrad1Ideal
    ∧ algebraic_AttnInDgrad1Ideal_AttnInDgrad1PlainIdeal (hAttnInDgrad1Ideal := hAttnInDgrad1Ideal) (hAttnInDgrad1PlainIdeal := hAttnInDgrad1PlainIdeal)
    ∧ preserves_AttnInDgrad2_AttnInDgrad2Ideal
    ∧ algebraic_AttnInDgrad2Ideal_AttnInDgrad2PlainIdeal (hAttnInDgrad2Ideal := hAttnInDgrad2Ideal) (hAttnInDgrad2PlainIdeal := hAttnInDgrad2PlainIdeal)
    ∧ preserves_AttnInDgrad3_AttnInDgrad3Ideal
    ∧ algebraic_AttnInDgrad3Ideal_AttnInDgrad3PlainIdeal (hAttnInDgrad3Ideal := hAttnInDgrad3Ideal) (hAttnInDgrad3PlainIdeal := hAttnInDgrad3PlainIdeal)
    ∧ preserves_SsmOutWgrad_SsmOutWgradIdeal
    ∧ algebraic_SsmOutWgradIdeal_SsmOutWgradPlainIdeal (hSsmOutWgradIdeal := hSsmOutWgradIdeal) (hSsmOutWgradPlainIdeal := hSsmOutWgradPlainIdeal)
    ∧ preserves_GluWgrad_GluWgradIdeal
    ∧ algebraic_GluWgradIdeal_GluWgradPlainIdeal (hGluWgradIdeal := hGluWgradIdeal) (hGluWgradPlainIdeal := hGluWgradPlainIdeal)
    ∧ preserves_SsmInWgradU_SsmInWgradUIdeal
    ∧ algebraic_SsmInWgradUIdeal_SsmInWgradUPlainIdeal (hSsmInWgradUIdeal := hSsmInWgradUIdeal) (hSsmInWgradUPlainIdeal := hSsmInWgradUPlainIdeal)
    ∧ preserves_SsmInWgradGate_SsmInWgradGateIdeal
    ∧ algebraic_SsmInWgradGateIdeal_SsmInWgradGatePlainIdeal (hSsmInWgradGateIdeal := hSsmInWgradGateIdeal) (hSsmInWgradGatePlainIdeal := hSsmInWgradGatePlainIdeal)
    ∧ preserves_AttnOutWgrad_AttnOutWgradIdeal
    ∧ algebraic_AttnOutWgradIdeal_AttnOutWgradPlainIdeal (hAttnOutWgradIdeal := hAttnOutWgradIdeal) (hAttnOutWgradPlainIdeal := hAttnOutWgradPlainIdeal)
    ∧ preserves_AttnInWgrad0_AttnInWgrad0Ideal
    ∧ algebraic_AttnInWgrad0Ideal_AttnInWgrad0PlainIdeal (hAttnInWgrad0Ideal := hAttnInWgrad0Ideal) (hAttnInWgrad0PlainIdeal := hAttnInWgrad0PlainIdeal)
    ∧ preserves_AttnInWgrad1_AttnInWgrad1Ideal
    ∧ algebraic_AttnInWgrad1Ideal_AttnInWgrad1PlainIdeal (hAttnInWgrad1Ideal := hAttnInWgrad1Ideal) (hAttnInWgrad1PlainIdeal := hAttnInWgrad1PlainIdeal)
    ∧ preserves_AttnInWgrad2_AttnInWgrad2Ideal
    ∧ algebraic_AttnInWgrad2Ideal_AttnInWgrad2PlainIdeal (hAttnInWgrad2Ideal := hAttnInWgrad2Ideal) (hAttnInWgrad2PlainIdeal := hAttnInWgrad2PlainIdeal)
    ∧ preserves_AttnInWgrad3_AttnInWgrad3Ideal
    ∧ algebraic_AttnInWgrad3Ideal_AttnInWgrad3PlainIdeal (hAttnInWgrad3Ideal := hAttnInWgrad3Ideal) (hAttnInWgrad3PlainIdeal := hAttnInWgrad3PlainIdeal)
    ∧ preserves_AttnIn0_AttnIn0Ideal
    ∧ algebraic_AttnIn0Ideal_AttnIn0PlainIdeal (hAttnIn0Ideal := hAttnIn0Ideal) (hAttnIn0PlainIdeal := hAttnIn0PlainIdeal)
    ∧ preserves_AttnIn1_AttnIn1Ideal
    ∧ algebraic_AttnIn1Ideal_AttnIn1PlainIdeal (hAttnIn1Ideal := hAttnIn1Ideal) (hAttnIn1PlainIdeal := hAttnIn1PlainIdeal)
    ∧ preserves_AttnIn2_AttnIn2Ideal
    ∧ algebraic_AttnIn2Ideal_AttnIn2PlainIdeal (hAttnIn2Ideal := hAttnIn2Ideal) (hAttnIn2PlainIdeal := hAttnIn2PlainIdeal)
    ∧ preserves_AttnIn3_AttnIn3Ideal
    ∧ algebraic_AttnIn3Ideal_AttnIn3PlainIdeal (hAttnIn3Ideal := hAttnIn3Ideal) (hAttnIn3PlainIdeal := hAttnIn3PlainIdeal)
    ∧ preserves_AttnOut_AttnOutIdeal
    ∧ algebraic_AttnOutIdeal_AttnOutPlainIdeal (hAttnOutIdeal := hAttnOutIdeal) (hAttnOutPlainIdeal := hAttnOutPlainIdeal)
    ∧ preserves_SsmInU_SsmInUIdeal
    ∧ algebraic_SsmInUIdeal_SsmInUPlainIdeal (hSsmInUIdeal := hSsmInUIdeal) (hSsmInUPlainIdeal := hSsmInUPlainIdeal)
    ∧ preserves_SsmInGate_SsmInGateIdeal
    ∧ algebraic_SsmInGateIdeal_SsmInGatePlainIdeal (hSsmInGateIdeal := hSsmInGateIdeal) (hSsmInGatePlainIdeal := hSsmInGatePlainIdeal)
    ∧ preserves_GluMm_GluMmIdeal
    ∧ algebraic_GluMmIdeal_GluMmPlainIdeal (hGluMmIdeal := hGluMmIdeal) (hGluMmPlainIdeal := hGluMmPlainIdeal)
    ∧ preserves_SsmOut_SsmOutIdeal
    ∧ algebraic_SsmOutIdeal_SsmOutPlainIdeal (hSsmOutIdeal := hSsmOutIdeal) (hSsmOutPlainIdeal := hSsmOutPlainIdeal)
-- ==== Pre_finite.lean ====
abbrev S4096x4096 : Shape := ⟨2, ![4096, 4096]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn_part1 {F : FTy → Type} [FloatOps F] (main_v16 : IVec S_ 1) (main_v17 : FVec F S4096x4096 .f32) : IVec S_ 1 :=
  let main_v18 : FVec F S4096x4096 .f32 := Host.absf main_v17
  let main_cst_4 : FVec F S_ .f32 := constant S_ .f32 0x7F800000#32
  let main_v19 : FVec F S4096x4096 .f32 := broadcastInDim S4096x4096 ![] bcast_S_S4096x4096 main_cst_4
  let main_v20 : IVec S4096x4096 1 := cmpf .olt main_v18 main_v19
  let main_c_5 : IVec S_ 1 := constantI S_ 1 1#1
  let main_v21 : IVec S_ 1 := (fun x v => Host.reduce IntOp.andi x v reducesTo_S4096x4096_S_d0_1 h_S_) main_v20 main_c_5
  let main_v22 : IVec S_ 1 := andi main_v16 main_v21
  main_v22

def fn {F : FTy → Type} [FloatOps F] (main_arg0 : FVec F S4096x4096 .bf16) (main_arg1 : FVec F S4096x4096 .bf16) (main_arg2 : FVec F S4096x4096 .bf16) (main_arg3 : FVec F S4096x4096 .bf16) : IVec S_ 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_c : IVec S_ 1 := constantI S_ 1 1#1
  let main_v4 : IVec S_ 1 := (fun x v => Host.reduce IntOp.andi x v reducesTo_S4096x4096_S_d0_1 h_S_) main_v3 main_c
  let main_v5 : FVec F S4096x4096 .f32 := (extf .f32 · bitsLt_bf16_f32) main_arg1
  let main_v6 : FVec F S4096x4096 .f32 := Host.absf main_v5
  let main_cst_0 : FVec F S_ .f32 := constant S_ .f32 0x7F800000#32
  let main_v7 : FVec F S4096x4096 .f32 := broadcastInDim S4096x4096 ![] bcast_S_S4096x4096 main_cst_0
  let main_v8 : IVec S4096x4096 1 := cmpf .olt main_v6 main_v7
  let main_c_1 : IVec S_ 1 := constantI S_ 1 1#1
  let main_v9 : IVec S_ 1 := (fun x v => Host.reduce IntOp.andi x v reducesTo_S4096x4096_S_d0_1 h_S_) main_v8 main_c_1
  let main_v10 : IVec S_ 1 := andi main_v4 main_v9
  let main_v11 : FVec F S4096x4096 .f32 := (extf .f32 · bitsLt_bf16_f32) main_arg2
  let main_v12 : FVec F S4096x4096 .f32 := Host.absf main_v11
  let main_cst_2 : FVec F S_ .f32 := constant S_ .f32 0x7F800000#32
  let main_v13 : FVec F S4096x4096 .f32 := broadcastInDim S4096x4096 ![] bcast_S_S4096x4096 main_cst_2
  let main_v14 : IVec S4096x4096 1 := cmpf .olt main_v12 main_v13
  let main_c_3 : IVec S_ 1 := constantI S_ 1 1#1
  let main_v15 : IVec S_ 1 := (fun x v => Host.reduce IntOp.andi x v reducesTo_S4096x4096_S_d0_1 h_S_) main_v14 main_c_3
  let main_v16 : IVec S_ 1 := andi main_v10 main_v15
  let main_v17 : FVec F S4096x4096 .f32 := (extf .f32 · bitsLt_bf16_f32) main_arg3
  fn_part1 (F := F) main_v16 main_v17
-- ==== Pre_finite_gate.lean ====
abbrev S4096x4096 : Shape := ⟨2, ![4096, 4096]⟩
abbrev S4096x8192 : Shape := ⟨2, ![4096, 8192]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .bf16) (main_arg1 : FVec F S4096x4096 .f32) (main_arg2 : FVec F S4096x8192 .f32) (main_arg3 : FVec F S4096x4096 .f32) (main_arg4 : FVec F S4096x4096 .f32) (main_arg5 : FVec F S4096x4096 .f32) (main_arg6 : FVec F S4096x4096 .f32) : IVec S_ 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_c : IVec S_ 1 := constantI S_ 1 1#1
  let main_v4 : IVec S_ 1 := (fun x v => Host.reduce IntOp.andi x v reducesTo_S4096x4096_S_d0_1 h_S_) main_v3 main_c
  let main_v5 : FVec F S4096x4096 .f32 := Host.absf main_arg1
  let main_cst_0 : FVec F S_ .f32 := constant S_ .f32 0x7F800000#32
  let main_v6 : FVec F S4096x4096 .f32 := broadcastInDim S4096x4096 ![] bcast_S_S4096x4096 main_cst_0
  let main_v7 : IVec S4096x4096 1 := cmpf .olt main_v5 main_v6
  let main_c_1 : IVec S_ 1 := constantI S_ 1 1#1
  let main_v8 : IVec S_ 1 := (fun x v => Host.reduce IntOp.andi x v reducesTo_S4096x4096_S_d0_1 h_S_) main_v7 main_c_1
  let main_v9 : IVec S_ 1 := andi main_v4 main_v8
  let main_v10 : FVec F S4096x4096 .f32 := Host.absf main_arg5
  let main_cst_2 : FVec F S_ .f32 := constant S_ .f32 0x7F800000#32
  let main_v11 : FVec F S4096x4096 .f32 := broadcastInDim S4096x4096 ![] bcast_S_S4096x4096 main_cst_2
  let main_v12 : IVec S4096x4096 1 := cmpf .olt main_v10 main_v11
  let main_c_3 : IVec S_ 1 := constantI S_ 1 1#1
  let main_v13 : IVec S_ 1 := (fun x v => Host.reduce IntOp.andi x v reducesTo_S4096x4096_S_d0_1 h_S_) main_v12 main_c_3
  let main_v14 : IVec S_ 1 := andi main_v9 main_v13
  main_v14
-- ==== Pre_finite_glu.lean ====
abbrev S4096x4096 : Shape := ⟨2, ![4096, 4096]⟩
abbrev S4096x8192 : Shape := ⟨2, ![4096, 8192]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .bf16) (main_arg1 : FVec F S4096x4096 .f32) (main_arg2 : FVec F S4096x4096 .f32) (main_arg3 : FVec F S4096x4096 .f32) (main_arg4 : FVec F S4096x8192 .f32) (main_arg5 : FVec F S4096x4096 .f32) (main_arg6 : FVec F S4096x4096 .f32) : IVec S_ 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_c : IVec S_ 1 := constantI S_ 1 1#1
  let main_v4 : IVec S_ 1 := (fun x v => Host.reduce IntOp.andi x v reducesTo_S4096x4096_S_d0_1 h_S_) main_v3 main_c
  let main_v5 : FVec F S4096x4096 .f32 := Host.absf main_arg1
  let main_cst_0 : FVec F S_ .f32 := constant S_ .f32 0x7F800000#32
  let main_v6 : FVec F S4096x4096 .f32 := broadcastInDim S4096x4096 ![] bcast_S_S4096x4096 main_cst_0
  let main_v7 : IVec S4096x4096 1 := cmpf .olt main_v5 main_v6
  let main_c_1 : IVec S_ 1 := constantI S_ 1 1#1
  let main_v8 : IVec S_ 1 := (fun x v => Host.reduce IntOp.andi x v reducesTo_S4096x4096_S_d0_1 h_S_) main_v7 main_c_1
  let main_v9 : IVec S_ 1 := andi main_v4 main_v8
  let main_v10 : FVec F S4096x4096 .f32 := Host.absf main_arg5
  let main_cst_2 : FVec F S_ .f32 := constant S_ .f32 0x7F800000#32
  let main_v11 : FVec F S4096x4096 .f32 := broadcastInDim S4096x4096 ![] bcast_S_S4096x4096 main_cst_2
  let main_v12 : IVec S4096x4096 1 := cmpf .olt main_v10 main_v11
  let main_c_3 : IVec S_ 1 := constantI S_ 1 1#1
  let main_v13 : IVec S_ 1 := (fun x v => Host.reduce IntOp.andi x v reducesTo_S4096x4096_S_d0_1 h_S_) main_v12 main_c_3
  let main_v14 : IVec S_ 1 := andi main_v9 main_v13
  main_v14
-- ==== Kernel.lean ====
abbrev S4096x4096 : Shape := ⟨2, ![4096, 4096]⟩
abbrev S2x2048x32x128 : Shape := ⟨4, ![2, 2048, 32, 128]⟩
abbrev S2x32x2048x128 : Shape := ⟨4, ![2, 32, 2048, 128]⟩
abbrev S2x32x2048x2048 : Shape := ⟨4, ![2, 32, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x32x2048 : Shape := ⟨3, ![2, 32, 2048]⟩
abbrev S2x32x2048x1 : Shape := ⟨4, ![2, 32, 2048, 1]⟩
abbrev S512x256 : Shape := ⟨2, ![512, 256]⟩
abbrev S2048x256 : Shape := ⟨2, ![2048, 256]⟩
abbrev S1x2x512x1 : Shape := ⟨4, ![1, 2, 512, 1]⟩
abbrev S2x512x1 : Shape := ⟨3, ![2, 512, 1]⟩
abbrev S256x256 : Shape := ⟨2, ![256, 256]⟩
abbrev S512x128 : Shape := ⟨2, ![512, 128]⟩
abbrev S256x128 : Shape := ⟨2, ![256, 128]⟩
abbrev S1x512x1 : Shape := ⟨3, ![1, 512, 1]⟩
abbrev S512x1 : Shape := ⟨2, ![512, 1]⟩
abbrev S512 : Shape := ⟨1, ![512]⟩
abbrev S1x256x1 : Shape := ⟨3, ![1, 256, 1]⟩
abbrev S256x1 : Shape := ⟨2, ![256, 1]⟩
abbrev S256 : Shape := ⟨1, ![256]⟩

abbrev nBuf : Space → Nat
  | .hbm => 49
  | .vmem => 19
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .hbm, ⟨3, _⟩ => ⟨S4096x4096, .bf16⟩
  | .hbm, ⟨4, _⟩ => ⟨S4096x4096, .f32⟩
  | .hbm, ⟨5, _⟩ => ⟨S2x2048x32x128, .f32⟩
  | .hbm, ⟨6, _⟩ => ⟨S2x32x2048x128, .f32⟩
  | .hbm, ⟨7, _⟩ => ⟨S4096x4096, .f32⟩
  | .hbm, ⟨8, _⟩ => ⟨S2x2048x32x128, .f32⟩
  | .hbm, ⟨9, _⟩ => ⟨S2x32x2048x128, .f32⟩
  | .hbm, ⟨10, _⟩ => ⟨S2x32x2048x2048, .f32⟩
  | .hbm, ⟨11, _⟩ => ⟨S_, .f32⟩
  | .hbm, ⟨12, _⟩ => ⟨S2x32x2048x2048, .f32⟩
  | .hbm, ⟨13, _⟩ => ⟨S2x32x2048x2048, .f32⟩
  | .hbm, ⟨14, _⟩ => ⟨S2048, .i32⟩
  | .hbm, ⟨15, _⟩ => ⟨S1x2048, .i32⟩
  | .hbm, ⟨16, _⟩ => ⟨S2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S2x32x2048x2048, .f32⟩
  | .hbm, ⟨22, _⟩ => ⟨S2x32x2048x2048, .f32⟩
  | .hbm, ⟨23, _⟩ => ⟨S_, .f32⟩
  | .hbm, ⟨24, _⟩ => ⟨S2x32x2048x2048, .f32⟩
  | .hbm, ⟨25, _⟩ => ⟨S2x32x2048x2048, .f32⟩
  | .hbm, ⟨26, _⟩ => ⟨S2x32x2048x2048, .f32⟩
  | .hbm, ⟨27, _⟩ => ⟨S2x32x2048x2048, .f32⟩
  | .hbm, ⟨28, _⟩ => ⟨S2x32x2048x2048, .i1⟩
  | .hbm, ⟨29, _⟩ => ⟨S2x32x2048x2048, .f32⟩
  | .hbm, ⟨30, _⟩ => ⟨S2x32x2048x2048, .f32⟩
  | .hbm, ⟨31, _⟩ => ⟨S2x32x2048x2048, .f32⟩
  | .hbm, ⟨32, _⟩ => ⟨S2x32x2048x2048, .f32⟩
  | .hbm, ⟨33, _⟩ => ⟨S2x32x2048x2048, .f32⟩
  | .hbm, ⟨34, _⟩ => ⟨S2x32x2048x2048, .f32⟩
  | .hbm, ⟨35, _⟩ => ⟨S2x32x2048x2048, .f32⟩
  | .hbm, ⟨36, _⟩ => ⟨S2x32x2048x2048, .f32⟩
  | .hbm, ⟨37, _⟩ => ⟨S2x32x2048x2048, .f32⟩
  | .hbm, ⟨38, _⟩ => ⟨S_, .f32⟩
  | .hbm, ⟨39, _⟩ => ⟨S_, .f32⟩
  | .hbm, ⟨40, _⟩ => ⟨S2x32x2048x2048, .i1⟩
  | .hbm, ⟨41, _⟩ => ⟨S2x32x2048x2048, .f32⟩
  | .hbm, ⟨42, _⟩ => ⟨S2x32x2048x2048, .f32⟩
  | .hbm, ⟨43, _⟩ => ⟨S_, .f32⟩
  | .hbm, ⟨44, _⟩ => ⟨S2x32x2048, .f32⟩
  | .hbm, ⟨45, _⟩ => ⟨S2x32x2048x1, .f32⟩
  | .hbm, ⟨46, _⟩ => ⟨S4096x4096, .f32⟩
  | .hbm, ⟨47, _⟩ => ⟨S4096x4096, .f32⟩
  | .hbm, ⟨48, _⟩ => ⟨S4096x4096, .bf16⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S512x256, .bf16⟩
  | .local _ .vmem, ⟨7, _⟩ => ⟨S512x256, .bf16⟩
  | .local _ .vmem, ⟨8, _⟩ => ⟨S1x2x512x1, .f32⟩
  | .local _ .vmem, ⟨9, _⟩ => ⟨S1x2x512x1, .f32⟩
  | .local _ .vmem, ⟨10, _⟩ => ⟨S512x256, .f32⟩
  | .local _ .vmem, ⟨11, _⟩ => ⟨S512x256, .f32⟩
  | .local _ .vmem, ⟨12, _⟩ => ⟨S2048x256, .f32⟩
  | .local _ .vmem, ⟨13, _⟩ => ⟨S2048x256, .f32⟩
  | .local _ .vmem, ⟨14, _⟩ => ⟨S2048x256, .bf16⟩
  | .local _ .vmem, ⟨15, _⟩ => ⟨S2048x256, .bf16⟩
  | .local _ .vmem, ⟨16, _⟩ => ⟨S2x512x1, .f32⟩
  | .local _ .vmem, ⟨17, _⟩ => ⟨S2x512x1, .f32⟩
  | .local _ .vmem, ⟨18, _⟩ => ⟨S2048x256, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v17 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v18 : Ref sig .tc := ⟨.hbm, 42, rfl⟩
abbrev main_cst_1 : Ref sig .tc := ⟨.hbm, 43, rfl⟩
abbrev main_v19 : Ref sig .tc := ⟨.hbm, 44, rfl⟩
abbrev main_v20 : Ref sig .tc := ⟨.hbm, 45, rfl⟩
abbrev main_v21_0 : Ref sig .tc := ⟨.hbm, 46, rfl⟩
abbrev main_v21_1 : Ref sig .tc := ⟨.hbm, 47, rfl⟩
abbrev main_v21_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 16, 4], ![false, false, false]⟩

@[reducible] def k0_t1_loop (i : grid0.Coords) : Scf.Loop 32 :=
  let c0_i32_18 : BitVec 32 := 0#32
  let arg2 : BitVec 32 := BitVec.ofNat 32 (i 2).val
  let v33 : BitVec 32 := Scalar.subi arg2 c0_i32_18
  let c1_i32 : BitVec 32 := 1#32
  let v35 : BitVec 32 := Scalar.divsi v33 c1_i32
  let v36 : BitVec 32 := Scalar.muli v35 c1_i32
  let v37 : BitVec 32 := Scalar.addi c0_i32_18 v36
  let c1_i32_19 : BitVec 32 := 1#32
  ⟨c0_i32_18, v37, c1_i32_19⟩
def k0_mult1 (i : grid0.Coords) (k0_t1 : Fin (k0_t1_loop i).trips) : BitVec 32 :=
  let c0_i32_18 : BitVec 32 := 0#32
  let c1_i32_19 : BitVec 32 := 1#32
  let arg14 : BitVec 32 := Scf.iv c0_i32_18 c1_i32_19 k0_t1
  let c2_i32_253 : BitVec 32 := 2#32
  let v467 : BitVec 32 := Scalar.muli arg14 c2_i32_253
  let c0_i32_254 : BitVec 32 := 0#32
  let v468 : BitVec 32 := Scalar.addi v467 c0_i32_254
  let c256_i32_255 : BitVec 32 := 256#32
  let v469 : BitVec 32 := Scalar.muli v468 c256_i32_255
  v469
def k0_off1 (i : grid0.Coords) (k0_t1 : Fin (k0_t1_loop i).trips) (c0_i32_254 : BitVec 32) : Fin 2 → Nat :=
  let c0_i32_18 : BitVec 32 := 0#32
  let c1_i32_19 : BitVec 32 := 1#32
  let arg14 : BitVec 32 := Scf.iv c0_i32_18 c1_i32_19 k0_t1
  let c2_i32_253 : BitVec 32 := 2#32
  let v467 : BitVec 32 := Scalar.muli arg14 c2_i32_253
  let v468 : BitVec 32 := Scalar.addi v467 c0_i32_254
  let c256_i32_255 : BitVec 32 := 256#32
  let v469 : BitVec 32 := Scalar.muli v468 c256_i32_255
  let v470 : BitVec 32 := v469
  let v472 : Index := Scalar.indexCast v470
  let c0_258 : Index := 0#32
  ![v472.toNat, 0]
def k0_off2 (i : grid0.Coords) (k0_t1 : Fin (k0_t1_loop i).trips) (c0_i32_254 : BitVec 32) : Fin 2 → Nat :=
  let c0_i32_18 : BitVec 32 := 0#32
  let c1_i32_19 : BitVec 32 := 1#32
  let arg14 : BitVec 32 := Scf.iv c0_i32_18 c1_i32_19 k0_t1
  let c2_i32_253 : BitVec 32 := 2#32
  let v467 : BitVec 32 := Scalar.muli arg14 c2_i32_253
  let v468 : BitVec 32 := Scalar.addi v467 c0_i32_254
  let c256_i32_255 : BitVec 32 := 256#32
  let v469 : BitVec 32 := Scalar.muli v468 c256_i32_255
  let v470 : BitVec 32 := v469
  let v500 : Index := Scalar.indexCast v470
  let c128_272 : Index := 128#32
  ![v500.toNat, 128]
def k0_mult2 (i : grid0.Coords) (k0_t1 : Fin (k0_t1_loop i).trips) : BitVec 32 :=
  let c0_i32_18 : BitVec 32 := 0#32
  let c1_i32_19 : BitVec 32 := 1#32
  let arg14 : BitVec 32 := Scf.iv c0_i32_18 c1_i32_19 k0_t1
  let c2_i32_284 : BitVec 32 := 2#32
  let v527 : BitVec 32 := Scalar.muli arg14 c2_i32_284
  let c1_i32_285 : BitVec 32 := 1#32
  let v528 : BitVec 32 := Scalar.addi v527 c1_i32_285
  let c256_i32_286 : BitVec 32 := 256#32
  let v529 : BitVec 32 := Scalar.muli v528 c256_i32_286
  v529
@[reducible] def k0_t2_loop (i : grid0.Coords) : Scf.Loop 32 :=
  let c0_i32_18 : BitVec 32 := 0#32
  let arg2 : BitVec 32 := BitVec.ofNat 32 (i 2).val
  let v33 : BitVec 32 := Scalar.subi arg2 c0_i32_18
  let c1_i32 : BitVec 32 := 1#32
  let v35 : BitVec 32 := Scalar.divsi v33 c1_i32
  let v36 : BitVec 32 := Scalar.muli v35 c1_i32
  let v37 : BitVec 32 := Scalar.addi c0_i32_18 v36
  let v34 : BitVec 32 := Scalar.addi c0_i32_18 v33
  let c1_i32_20 : BitVec 32 := 1#32
  ⟨v37, v34, c1_i32_20⟩
def k0_mult3 (i : grid0.Coords) (k0_t2 : Fin (k0_t2_loop i).trips) : BitVec 32 :=
  let c0_i32_18 : BitVec 32 := 0#32
  let arg2 : BitVec 32 := BitVec.ofNat 32 (i 2).val
  let v33 : BitVec 32 := Scalar.subi arg2 c0_i32_18
  let c1_i32 : BitVec 32 := 1#32
  let v35 : BitVec 32 := Scalar.divsi v33 c1_i32
  let v36 : BitVec 32 := Scalar.muli v35 c1_i32
  let v37 : BitVec 32 := Scalar.addi c0_i32_18 v36
  let c1_i32_20 : BitVec 32 := 1#32
  let arg14 : BitVec 32 := Scf.iv v37 c1_i32_20 k0_t2
  let c2_i32_253 : BitVec 32 := 2#32
  let v467 : BitVec 32 := Scalar.muli arg14 c2_i32_253
  let c0_i32_254 : BitVec 32 := 0#32
  let v468 : BitVec 32 := Scalar.addi v467 c0_i32_254
  let c256_i32_255 : BitVec 32 := 256#32
  let v469 : BitVec 32 := Scalar.muli v468 c256_i32_255
  v469
def k0_off3 (i : grid0.Coords) (k0_t2 : Fin (k0_t2_loop i).trips) (c0_i32_254 : BitVec 32) : Fin 2 → Nat :=
  let c0_i32_18 : BitVec 32 := 0#32
  let arg2 : BitVec 32 := BitVec.ofNat 32 (i 2).val
  let v33 : BitVec 32 := Scalar.subi arg2 c0_i32_18
  let c1_i32 : BitVec 32 := 1#32
  let v35 : BitVec 32 := Scalar.divsi v33 c1_i32
  let v36 : BitVec 32 := Scalar.muli v35 c1_i32
  let v37 : BitVec 32 := Scalar.addi c0_i32_18 v36
  let c1_i32_20 : BitVec 32 := 1#32
  let arg14 : BitVec 32 := Scf.iv v37 c1_i32_20 k0_t2
  let c2_i32_253 : BitVec 32 := 2#32
  let v467 : BitVec 32 := Scalar.muli arg14 c2_i32_253
  let v468 : BitVec 32 := Scalar.addi v467 c0_i32_254
  let c256_i32_255 : BitVec 32 := 256#32
  let v469 : BitVec 32 := Scalar.muli v468 c256_i32_255
  let v470 : BitVec 32 := v469
  let v472 : Index := Scalar.indexCast v470
  let c0_258 : Index := 0#32
  ![v472.toNat, 0]
def k0_off4 (i : grid0.Coords) (k0_t2 : Fin (k0_t2_loop i).trips) (c0_i32_254 : BitVec 32) : Fin 2 → Nat :=
  let c0_i32_18 : BitVec 32 := 0#32
  let arg2 : BitVec 32 := BitVec.ofNat 32 (i 2).val
  let v33 : BitVec 32 := Scalar.subi arg2 c0_i32_18
  let c1_i32 : BitVec 32 := 1#32
  let v35 : BitVec 32 := Scalar.divsi v33 c1_i32
  let v36 : BitVec 32 := Scalar.muli v35 c1_i32
  let v37 : BitVec 32 := Scalar.addi c0_i32_18 v36
  let c1_i32_20 : BitVec 32 := 1#32
  let arg14 : BitVec 32 := Scf.iv v37 c1_i32_20 k0_t2
  let c2_i32_253 : BitVec 32 := 2#32
  let v467 : BitVec 32 := Scalar.muli arg14 c2_i32_253
  let v468 : BitVec 32 := Scalar.addi v467 c0_i32_254
  let c256_i32_255 : BitVec 32 := 256#32
  let v469 : BitVec 32 := Scalar.muli v468 c256_i32_255
  let v470 : BitVec 32 := v469
  let v500 : Index := Scalar.indexCast v470
  let c128_272 : Index := 128#32
  ![v500.toNat, 128]
def k0_mult4 (i : grid0.Coords) (k0_t2 : Fin (k0_t2_loop i).trips) : BitVec 32 :=
  let c0_i32_18 : BitVec 32 := 0#32
  let arg2 : BitVec 32 := BitVec.ofNat 32 (i 2).val
  let v33 : BitVec 32 := Scalar.subi arg2 c0_i32_18
  let c1_i32 : BitVec 32 := 1#32
  let v35 : BitVec 32 := Scalar.divsi v33 c1_i32
  let v36 : BitVec 32 := Scalar.muli v35 c1_i32
  let v37 : BitVec 32 := Scalar.addi c0_i32_18 v36
  let c1_i32_20 : BitVec 32 := 1#32
  let arg14 : BitVec 32 := Scf.iv v37 c1_i32_20 k0_t2
  let c2_i32_284 : BitVec 32 := 2#32
  let v527 : BitVec 32 := Scalar.muli arg14 c2_i32_284
  let c1_i32_285 : BitVec 32 := 1#32
  let v528 : BitVec 32 := Scalar.addi v527 c1_i32_285
  let c256_i32_286 : BitVec 32 := 256#32
  let v529 : BitVec 32 := Scalar.muli v528 c256_i32_286
  v529
def k0_mult5 (i : grid0.Coords) : BitVec 32 :=
  let arg2 : BitVec 32 := BitVec.ofNat 32 (i 2).val
  let c2_i32 : BitVec 32 := 2#32
  let v38 : BitVec 32 := Scalar.muli arg2 c2_i32
  let c0_i32_21 : BitVec 32 := 0#32
  let v39 : BitVec 32 := Scalar.addi v38 c0_i32_21
  let c256_i32 : BitVec 32 := 256#32
  let v40 : BitVec 32 := Scalar.muli v39 c256_i32
  v40
def k0_off5 (i : grid0.Coords) (c0_i32_21 : BitVec 32) : Fin 2 → Nat :=
  let arg2 : BitVec 32 := BitVec.ofNat 32 (i 2).val
  let c2_i32 : BitVec 32 := 2#32
  let v38 : BitVec 32 := Scalar.muli arg2 c2_i32
  let v39 : BitVec 32 := Scalar.addi v38 c0_i32_21
  let c256_i32 : BitVec 32 := 256#32
  let v40 : BitVec 32 := Scalar.muli v39 c256_i32
  let v41 : BitVec 32 := v40
  let v47 : Index := Scalar.indexCast v41
  let c0_25 : Index := 0#32
  ![v47.toNat, 0]
def k0_off6 (i : grid0.Coords) (c0_i32_21 : BitVec 32) : Fin 2 → Nat :=
  let arg2 : BitVec 32 := BitVec.ofNat 32 (i 2).val
  let c2_i32 : BitVec 32 := 2#32
  let v38 : BitVec 32 := Scalar.muli arg2 c2_i32
  let v39 : BitVec 32 := Scalar.addi v38 c0_i32_21
  let c256_i32 : BitVec 32 := 256#32
  let v40 : BitVec 32 := Scalar.muli v39 c256_i32
  let v41 : BitVec 32 := v40
  let v77 : Index := Scalar.indexCast v41
  let c128_39 : Index := 128#32
  ![v77.toNat, 128]
def k0_mult6 (i : grid0.Coords) : BitVec 32 :=
  let arg2 : BitVec 32 := BitVec.ofNat 32 (i 2).val
  let c2_i32_52 : BitVec 32 := 2#32
  let v106 : BitVec 32 := Scalar.muli arg2 c2_i32_52
  let c1_i32_53 : BitVec 32 := 1#32
  let v107 : BitVec 32 := Scalar.addi v106 c1_i32_53
  let c256_i32_54 : BitVec 32 := 256#32
  let v108 : BitVec 32 := Scalar.muli v107 c256_i32_54
  v108
def k0_cond2 (i : grid0.Coords) : BitVec 1 :=
  let arg2 : BitVec 32 := BitVec.ofNat 32 (i 2).val
  let c3_i32 : BitVec 32 := 3#32
  let v464 : BitVec 1 := Scalar.cmpi .eq arg2 c3_i32
  let v465 : BitVec 32 := Scalar.extui v464
  let c0_i32_252 : BitVec 32 := 0#32
  let v466 : BitVec 1 := Scalar.cmpi .ne v465 c0_i32_252
  v466

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== KernelIdeal.lean ====
abbrev S4096x4096 : Shape := ⟨2, ![4096, 4096]⟩
abbrev S2x2048x32x128 : Shape := ⟨4, ![2, 2048, 32, 128]⟩
abbrev S2x32x2048x128 : Shape := ⟨4, ![2, 32, 2048, 128]⟩
abbrev S2x32x2048x2048 : Shape := ⟨4, ![2, 32, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x32x2048 : Shape := ⟨3, ![2, 32, 2048]⟩
abbrev S2x32x2048x1 : Shape := ⟨4, ![2, 32, 2048, 1]⟩
abbrev S512x256 : Shape := ⟨2, ![512, 256]⟩
abbrev S2048x256 : Shape := ⟨2, ![2048, 256]⟩
abbrev S1x2x512x1 : Shape := ⟨4, ![1, 2, 512, 1]⟩
abbrev S2x512x1 : Shape := ⟨3, ![2, 512, 1]⟩
abbrev S256x256 : Shape := ⟨2, ![256, 256]⟩
abbrev S512x128 : Shape := ⟨2, ![512, 128]⟩
abbrev S256x128 : Shape := ⟨2, ![256, 128]⟩
abbrev S1x512x1 : Shape := ⟨3, ![1, 512, 1]⟩
abbrev S512x1 : Shape := ⟨2, ![512, 1]⟩
abbrev S512 : Shape := ⟨1, ![512]⟩
abbrev S1x256x1 : Shape := ⟨3, ![1, 256, 1]⟩
abbrev S256x1 : Shape := ⟨2, ![256, 1]⟩
abbrev S256 : Shape := ⟨1, ![256]⟩

abbrev nBuf : Space → Nat
  | .hbm => 49
  | .vmem => 19
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .hbm, ⟨3, _⟩ => ⟨S4096x4096, .bf16⟩
  | .hbm, ⟨4, _⟩ => ⟨S4096x4096, .f32⟩
  | .hbm, ⟨5, _⟩ => ⟨S2x2048x32x128, .f32⟩
  | .hbm, ⟨6, _⟩ => ⟨S2x32x2048x128, .f32⟩
  | .hbm, ⟨7, _⟩ => ⟨S4096x4096, .f32⟩
  | .hbm, ⟨8, _⟩ => ⟨S2x2048x32x128, .f32⟩
  | .hbm, ⟨9, _⟩ => ⟨S2x32x2048x128, .f32⟩
  | .hbm, ⟨10, _⟩ => ⟨S2x32x2048x2048, .f32⟩
  | .hbm, ⟨11, _⟩ => ⟨S_, .f32⟩
  | .hbm, ⟨12, _⟩ => ⟨S2x32x2048x2048, .f32⟩
  | .hbm, ⟨13, _⟩ => ⟨S2x32x2048x2048, .f32⟩
  | .hbm, ⟨14, _⟩ => ⟨S2048, .i32⟩
  | .hbm, ⟨15, _⟩ => ⟨S1x2048, .i32⟩
  | .hbm, ⟨16, _⟩ => ⟨S2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S2x32x2048x2048, .f32⟩
  | .hbm, ⟨22, _⟩ => ⟨S2x32x2048x2048, .f32⟩
  | .hbm, ⟨23, _⟩ => ⟨S_, .f32⟩
  | .hbm, ⟨24, _⟩ => ⟨S2x32x2048x2048, .f32⟩
  | .hbm, ⟨25, _⟩ => ⟨S2x32x2048x2048, .f32⟩
  | .hbm, ⟨26, _⟩ => ⟨S2x32x2048x2048, .f32⟩
  | .hbm, ⟨27, _⟩ => ⟨S2x32x2048x2048, .f32⟩
  | .hbm, ⟨28, _⟩ => ⟨S2x32x2048x2048, .i1⟩
  | .hbm, ⟨29, _⟩ => ⟨S2x32x2048x2048, .f32⟩
  | .hbm, ⟨30, _⟩ => ⟨S2x32x2048x2048, .f32⟩
  | .hbm, ⟨31, _⟩ => ⟨S2x32x2048x2048, .f32⟩
  | .hbm, ⟨32, _⟩ => ⟨S2x32x2048x2048, .f32⟩
  | .hbm, ⟨33, _⟩ => ⟨S2x32x2048x2048, .f32⟩
  | .hbm, ⟨34, _⟩ => ⟨S2x32x2048x2048, .f32⟩
  | .hbm, ⟨35, _⟩ => ⟨S2x32x2048x2048, .f32⟩
  | .hbm, ⟨36, _⟩ => ⟨S2x32x2048x2048, .f32⟩
  | .hbm, ⟨37, _⟩ => ⟨S2x32x2048x2048, .f32⟩
  | .hbm, ⟨38, _⟩ => ⟨S_, .f32⟩
  | .hbm, ⟨39, _⟩ => ⟨S_, .f32⟩
  | .hbm, ⟨40, _⟩ => ⟨S2x32x2048x2048, .i1⟩
  | .hbm, ⟨41, _⟩ => ⟨S2x32x2048x2048, .f32⟩
  | .hbm, ⟨42, _⟩ => ⟨S2x32x2048x2048, .f32⟩
  | .hbm, ⟨43, _⟩ => ⟨S_, .f32⟩
  | .hbm, ⟨44, _⟩ => ⟨S2x32x2048, .f32⟩
  | .hbm, ⟨45, _⟩ => ⟨S2x32x2048x1, .f32⟩
  | .hbm, ⟨46, _⟩ => ⟨S4096x4096, .f32⟩
  | .hbm, ⟨47, _⟩ => ⟨S4096x4096, .f32⟩
  | .hbm, ⟨48, _⟩ => ⟨S4096x4096, .bf16⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S512x256, .bf16⟩
  | .local _ .vmem, ⟨7, _⟩ => ⟨S512x256, .bf16⟩
  | .local _ .vmem, ⟨8, _⟩ => ⟨S1x2x512x1, .f32⟩
  | .local _ .vmem, ⟨9, _⟩ => ⟨S1x2x512x1, .f32⟩
  | .local _ .vmem, ⟨10, _⟩ => ⟨S512x256, .f32⟩
  | .local _ .vmem, ⟨11, _⟩ => ⟨S512x256, .f32⟩
  | .local _ .vmem, ⟨12, _⟩ => ⟨S2048x256, .f32⟩
  | .local _ .vmem, ⟨13, _⟩ => ⟨S2048x256, .f32⟩
  | .local _ .vmem, ⟨14, _⟩ => ⟨S2048x256, .bf16⟩
  | .local _ .vmem, ⟨15, _⟩ => ⟨S2048x256, .bf16⟩
  | .local _ .vmem, ⟨16, _⟩ => ⟨S2x512x1, .f32⟩
  | .local _ .vmem, ⟨17, _⟩ => ⟨S2x512x1, .f32⟩
  | .local _ .vmem, ⟨18, _⟩ => ⟨S2048x256, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v17 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v18 : Ref sig .tc := ⟨.hbm, 42, rfl⟩
abbrev main_cst_1 : Ref sig .tc := ⟨.hbm, 43, rfl⟩
abbrev main_v19 : Ref sig .tc := ⟨.hbm, 44, rfl⟩
abbrev main_v20 : Ref sig .tc := ⟨.hbm, 45, rfl⟩
abbrev main_v21_0 : Ref sig .tc := ⟨.hbm, 46, rfl⟩
abbrev main_v21_1 : Ref sig .tc := ⟨.hbm, 47, rfl⟩
abbrev main_v21_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 16, 4], ![false, false, false]⟩

@[reducible] def k0_t1_loop (i : grid0.Coords) : Scf.Loop 32 :=
  let c0_i32_18 : BitVec 32 := 0#32
  let arg2 : BitVec 32 := BitVec.ofNat 32 (i 2).val
  let v33 : BitVec 32 := Scalar.subi arg2 c0_i32_18
  let c1_i32 : BitVec 32 := 1#32
  let v35 : BitVec 32 := Scalar.divsi v33 c1_i32
  let v36 : BitVec 32 := Scalar.muli v35 c1_i32
  let v37 : BitVec 32 := Scalar.addi c0_i32_18 v36
  let c1_i32_19 : BitVec 32 := 1#32
  ⟨c0_i32_18, v37, c1_i32_19⟩
def k0_mult1 (i : grid0.Coords) (k0_t1 : Fin (k0_t1_loop i).trips) : BitVec 32 :=
  let c0_i32_18 : BitVec 32 := 0#32
  let c1_i32_19 : BitVec 32 := 1#32
  let arg14 : BitVec 32 := Scf.iv c0_i32_18 c1_i32_19 k0_t1
  let c2_i32_253 : BitVec 32 := 2#32
  let v467 : BitVec 32 := Scalar.muli arg14 c2_i32_253
  let c0_i32_254 : BitVec 32 := 0#32
  let v468 : BitVec 32 := Scalar.addi v467 c0_i32_254
  let c256_i32_255 : BitVec 32 := 256#32
  let v469 : BitVec 32 := Scalar.muli v468 c256_i32_255
  v469
def k0_off1 (i : grid0.Coords) (k0_t1 : Fin (k0_t1_loop i).trips) (c0_i32_254 : BitVec 32) : Fin 2 → Nat :=
  let c0_i32_18 : BitVec 32 := 0#32
  let c1_i32_19 : BitVec 32 := 1#32
  let arg14 : BitVec 32 := Scf.iv c0_i32_18 c1_i32_19 k0_t1
  let c2_i32_253 : BitVec 32 := 2#32
  let v467 : BitVec 32 := Scalar.muli arg14 c2_i32_253
  let v468 : BitVec 32 := Scalar.addi v467 c0_i32_254
  let c256_i32_255 : BitVec 32 := 256#32
  let v469 : BitVec 32 := Scalar.muli v468 c256_i32_255
  let v470 : BitVec 32 := v469
  let v472 : Index := Scalar.indexCast v470
  let c0_258 : Index := 0#32
  ![v472.toNat, 0]
def k0_off2 (i : grid0.Coords) (k0_t1 : Fin (k0_t1_loop i).trips) (c0_i32_254 : BitVec 32) : Fin 2 → Nat :=
  let c0_i32_18 : BitVec 32 := 0#32
  let c1_i32_19 : BitVec 32 := 1#32
  let arg14 : BitVec 32 := Scf.iv c0_i32_18 c1_i32_19 k0_t1
  let c2_i32_253 : BitVec 32 := 2#32
  let v467 : BitVec 32 := Scalar.muli arg14 c2_i32_253
  let v468 : BitVec 32 := Scalar.addi v467 c0_i32_254
  let c256_i32_255 : BitVec 32 := 256#32
  let v469 : BitVec 32 := Scalar.muli v468 c256_i32_255
  let v470 : BitVec 32 := v469
  let v500 : Index := Scalar.indexCast v470
  let c128_272 : Index := 128#32
  ![v500.toNat, 128]
def k0_mult2 (i : grid0.Coords) (k0_t1 : Fin (k0_t1_loop i).trips) : BitVec 32 :=
  let c0_i32_18 : BitVec 32 := 0#32
  let c1_i32_19 : BitVec 32 := 1#32
  let arg14 : BitVec 32 := Scf.iv c0_i32_18 c1_i32_19 k0_t1
  let c2_i32_284 : BitVec 32 := 2#32
  let v527 : BitVec 32 := Scalar.muli arg14 c2_i32_284
  let c1_i32_285 : BitVec 32 := 1#32
  let v528 : BitVec 32 := Scalar.addi v527 c1_i32_285
  let c256_i32_286 : BitVec 32 := 256#32
  let v529 : BitVec 32 := Scalar.muli v528 c256_i32_286
  v529
@[reducible] def k0_t2_loop (i : grid0.Coords) : Scf.Loop 32 :=
  let c0_i32_18 : BitVec 32 := 0#32
  let arg2 : BitVec 32 := BitVec.ofNat 32 (i 2).val
  let v33 : BitVec 32 := Scalar.subi arg2 c0_i32_18
  let c1_i32 : BitVec 32 := 1#32
  let v35 : BitVec 32 := Scalar.divsi v33 c1_i32
  let v36 : BitVec 32 := Scalar.muli v35 c1_i32
  let v37 : BitVec 32 := Scalar.addi c0_i32_18 v36
  let v34 : BitVec 32 := Scalar.addi c0_i32_18 v33
  let c1_i32_20 : BitVec 32 := 1#32
  ⟨v37, v34, c1_i32_20⟩
def k0_mult3 (i : grid0.Coords) (k0_t2 : Fin (k0_t2_loop i).trips) : BitVec 32 :=
  let c0_i32_18 : BitVec 32 := 0#32
  let arg2 : BitVec 32 := BitVec.ofNat 32 (i 2).val
  let v33 : BitVec 32 := Scalar.subi arg2 c0_i32_18
  let c1_i32 : BitVec 32 := 1#32
  let v35 : BitVec 32 := Scalar.divsi v33 c1_i32
  let v36 : BitVec 32 := Scalar.muli v35 c1_i32
  let v37 : BitVec 32 := Scalar.addi c0_i32_18 v36
  let c1_i32_20 : BitVec 32 := 1#32
  let arg14 : BitVec 32 := Scf.iv v37 c1_i32_20 k0_t2
  let c2_i32_253 : BitVec 32 := 2#32
  let v467 : BitVec 32 := Scalar.muli arg14 c2_i32_253
  let c0_i32_254 : BitVec 32 := 0#32
  let v468 : BitVec 32 := Scalar.addi v467 c0_i32_254
  let c256_i32_255 : BitVec 32 := 256#32
  let v469 : BitVec 32 := Scalar.muli v468 c256_i32_255
  v469
def k0_off3 (i : grid0.Coords) (k0_t2 : Fin (k0_t2_loop i).trips) (c0_i32_254 : BitVec 32) : Fin 2 → Nat :=
  let c0_i32_18 : BitVec 32 := 0#32
  let arg2 : BitVec 32 := BitVec.ofNat 32 (i 2).val
  let v33 : BitVec 32 := Scalar.subi arg2 c0_i32_18
  let c1_i32 : BitVec 32 := 1#32
  let v35 : BitVec 32 := Scalar.divsi v33 c1_i32
  let v36 : BitVec 32 := Scalar.muli v35 c1_i32
  let v37 : BitVec 32 := Scalar.addi c0_i32_18 v36
  let c1_i32_20 : BitVec 32 := 1#32
  let arg14 : BitVec 32 := Scf.iv v37 c1_i32_20 k0_t2
  let c2_i32_253 : BitVec 32 := 2#32
  let v467 : BitVec 32 := Scalar.muli arg14 c2_i32_253
  let v468 : BitVec 32 := Scalar.addi v467 c0_i32_254
  let c256_i32_255 : BitVec 32 := 256#32
  let v469 : BitVec 32 := Scalar.muli v468 c256_i32_255
  let v470 : BitVec 32 := v469
  let v472 : Index := Scalar.indexCast v470
  let c0_258 : Index := 0#32
  ![v472.toNat, 0]
def k0_off4 (i : grid0.Coords) (k0_t2 : Fin (k0_t2_loop i).trips) (c0_i32_254 : BitVec 32) : Fin 2 → Nat :=
  let c0_i32_18 : BitVec 32 := 0#32
  let arg2 : BitVec 32 := BitVec.ofNat 32 (i 2).val
  let v33 : BitVec 32 := Scalar.subi arg2 c0_i32_18
  let c1_i32 : BitVec 32 := 1#32
  let v35 : BitVec 32 := Scalar.divsi v33 c1_i32
  let v36 : BitVec 32 := Scalar.muli v35 c1_i32
  let v37 : BitVec 32 := Scalar.addi c0_i32_18 v36
  let c1_i32_20 : BitVec 32 := 1#32
  let arg14 : BitVec 32 := Scf.iv v37 c1_i32_20 k0_t2
  let c2_i32_253 : BitVec 32 := 2#32
  let v467 : BitVec 32 := Scalar.muli arg14 c2_i32_253
  let v468 : BitVec 32 := Scalar.addi v467 c0_i32_254
  let c256_i32_255 : BitVec 32 := 256#32
  let v469 : BitVec 32 := Scalar.muli v468 c256_i32_255
  let v470 : BitVec 32 := v469
  let v500 : Index := Scalar.indexCast v470
  let c128_272 : Index := 128#32
  ![v500.toNat, 128]
def k0_mult4 (i : grid0.Coords) (k0_t2 : Fin (k0_t2_loop i).trips) : BitVec 32 :=
  let c0_i32_18 : BitVec 32 := 0#32
  let arg2 : BitVec 32 := BitVec.ofNat 32 (i 2).val
  let v33 : BitVec 32 := Scalar.subi arg2 c0_i32_18
  let c1_i32 : BitVec 32 := 1#32
  let v35 : BitVec 32 := Scalar.divsi v33 c1_i32
  let v36 : BitVec 32 := Scalar.muli v35 c1_i32
  let v37 : BitVec 32 := Scalar.addi c0_i32_18 v36
  let c1_i32_20 : BitVec 32 := 1#32
  let arg14 : BitVec 32 := Scf.iv v37 c1_i32_20 k0_t2
  let c2_i32_284 : BitVec 32 := 2#32
  let v527 : BitVec 32 := Scalar.muli arg14 c2_i32_284
  let c1_i32_285 : BitVec 32 := 1#32
  let v528 : BitVec 32 := Scalar.addi v527 c1_i32_285
  let c256_i32_286 : BitVec 32 := 256#32
  let v529 : BitVec 32 := Scalar.muli v528 c256_i32_286
  v529
def k0_mult5 (i : grid0.Coords) : BitVec 32 :=
  let arg2 : BitVec 32 := BitVec.ofNat 32 (i 2).val
  let c2_i32 : BitVec 32 := 2#32
  let v38 : BitVec 32 := Scalar.muli arg2 c2_i32
  let c0_i32_21 : BitVec 32 := 0#32
  let v39 : BitVec 32 := Scalar.addi v38 c0_i32_21
  let c256_i32 : BitVec 32 := 256#32
  let v40 : BitVec 32 := Scalar.muli v39 c256_i32
  v40
def k0_off5 (i : grid0.Coords) (c0_i32_21 : BitVec 32) : Fin 2 → Nat :=
  let arg2 : BitVec 32 := BitVec.ofNat 32 (i 2).val
  let c2_i32 : BitVec 32 := 2#32
  let v38 : BitVec 32 := Scalar.muli arg2 c2_i32
  let v39 : BitVec 32 := Scalar.addi v38 c0_i32_21
  let c256_i32 : BitVec 32 := 256#32
  let v40 : BitVec 32 := Scalar.muli v39 c256_i32
  let v41 : BitVec 32 := v40
  let v47 : Index := Scalar.indexCast v41
  let c0_25 : Index := 0#32
  ![v47.toNat, 0]
def k0_off6 (i : grid0.Coords) (c0_i32_21 : BitVec 32) : Fin 2 → Nat :=
  let arg2 : BitVec 32 := BitVec.ofNat 32 (i 2).val
  let c2_i32 : BitVec 32 := 2#32
  let v38 : BitVec 32 := Scalar.muli arg2 c2_i32
  let v39 : BitVec 32 := Scalar.addi v38 c0_i32_21
  let c256_i32 : BitVec 32 := 256#32
  let v40 : BitVec 32 := Scalar.muli v39 c256_i32
  let v41 : BitVec 32 := v40
  let v77 : Index := Scalar.indexCast v41
  let c128_39 : Index := 128#32
  ![v77.toNat, 128]
def k0_mult6 (i : grid0.Coords) : BitVec 32 :=
  let arg2 : BitVec 32 := BitVec.ofNat 32 (i 2).val
  let c2_i32_52 : BitVec 32 := 2#32
  let v106 : BitVec 32 := Scalar.muli arg2 c2_i32_52
  let c1_i32_53 : BitVec 32 := 1#32
  let v107 : BitVec 32 := Scalar.addi v106 c1_i32_53
  let c256_i32_54 : BitVec 32 := 256#32
  let v108 : BitVec 32 := Scalar.muli v107 c256_i32_54
  v108
def k0_cond2 (i : grid0.Coords) : BitVec 1 :=
  let arg2 : BitVec 32 := BitVec.ofNat 32 (i 2).val
  let c3_i32 : BitVec 32 := 3#32
  let v464 : BitVec 1 := Scalar.cmpi .eq arg2 c3_i32
  let v465 : BitVec 32 := Scalar.extui v464
  let c0_i32_252 : BitVec 32 := 0#32
  let v466 : BitVec 1 := Scalar.cmpi .ne v465 c0_i32_252
  v466

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferenceIdeal.lean ====
abbrev S4096x4096 : Shape := ⟨2, ![4096, 4096]⟩
abbrev S2x2048x32x128 : Shape := ⟨4, ![2, 2048, 32, 128]⟩
abbrev S2x32x2048x128 : Shape := ⟨4, ![2, 32, 2048, 128]⟩
abbrev S2x32x2048x2048 : Shape := ⟨4, ![2, 32, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x32x128x2048 : Shape := ⟨4, ![2, 32, 128, 2048]⟩

abbrev nBuf : Space → Nat
  | .hbm => 182
  | .vmem => 0
  | .smem => 0
  | _ => 0

abbrev hbmTy0_0 (i : Nat) : BufTy := match i % 128 with
  | 0 => ⟨S4096x4096, .bf16⟩
  | 1 => ⟨S4096x4096, .bf16⟩
  | 2 => ⟨S4096x4096, .bf16⟩
  | 3 => ⟨S4096x4096, .bf16⟩
  | 4 => ⟨S4096x4096, .f32⟩
  | 5 => ⟨S4096x4096, .f32⟩
  | 6 => ⟨S4096x4096, .f32⟩
  | 7 => ⟨S2x2048x32x128, .f32⟩
  | 8 => ⟨S2x32x2048x128, .f32⟩
  | 9 => ⟨S2x2048x32x128, .f32⟩
  | 10 => ⟨S2x32x2048x128, .f32⟩
  | 11 => ⟨S2x32x2048x2048, .f32⟩
  | 12 => ⟨S_, .f32⟩
  | 13 => ⟨S2x32x2048x2048, .f32⟩
  | 14 => ⟨S2x32x2048x2048, .f32⟩
  | 15 => ⟨S2048, .i32⟩
  | 16 => ⟨S1x2048, .i32⟩
  | 17 => ⟨S2048, .i32⟩
  | 18 => ⟨S2048x1, .i32⟩
  | 19 => ⟨S2048x2048, .i32⟩
  | 20 => ⟨S2048x2048, .i32⟩
  | 21 => ⟨S2048x2048, .i1⟩
  | 22 => ⟨S2x32x2048x2048, .f32⟩
  | 23 => ⟨S2x32x2048x2048, .f32⟩
  | 24 => ⟨S_, .f32⟩
  | 25 => ⟨S2x32x2048x2048, .f32⟩
  | 26 => ⟨S2x32x2048x2048, .f32⟩
  | 27 => ⟨S2x32x2048x2048, .f32⟩
  | 28 => ⟨S2x32x2048x2048, .f32⟩
  | 29 => ⟨S2x32x2048x2048, .i1⟩
  | 30 => ⟨S2x32x2048x2048, .f32⟩
  | 31 => ⟨S2x32x2048x2048, .f32⟩
  | 32 => ⟨S2x32x2048x2048, .f32⟩
  | 33 => ⟨S2x32x2048x2048, .f32⟩
  | 34 => ⟨S2x32x2048x2048, .f32⟩
  | 35 => ⟨S2x32x2048x2048, .f32⟩
  | 36 => ⟨S2x32x2048x2048, .f32⟩
  | 37 => ⟨S2x32x2048x2048, .f32⟩
  | 38 => ⟨S_, .f32⟩
  | 39 => ⟨S2x32x2048x2048, .f32⟩
  | 40 => ⟨S2x32x2048x2048, .i1⟩
  | 41 => ⟨S_, .f32⟩
  | 42 => ⟨S2x32x2048x2048, .f32⟩
  | 43 => ⟨S2x32x2048x2048, .f32⟩
  | 44 => ⟨S_, .f32⟩
  | 45 => ⟨S2x32x2048x2048, .f32⟩
  | 46 => ⟨S2x32x2048x2048, .i1⟩
  | 47 => ⟨S_, .f32⟩
  | 48 => ⟨S2x32x2048x2048, .f32⟩
  | 49 => ⟨S2x32x2048x2048, .f32⟩
  | 50 => ⟨S2x32x2048x2048, .f32⟩
  | 51 => ⟨S2x32x2048x2048, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S2x32x2048x2048, .f32⟩
  | 60 => ⟨S2x32x2048x2048, .i1⟩
  | 61 => ⟨S_, .f32⟩
  | 62 => ⟨S2x32x2048x2048, .f32⟩
  | 63 => ⟨S2x32x2048x2048, .f32⟩
  | 64 => ⟨S2x32x2048x2048, .f32⟩
  | 65 => ⟨S2x32x2048x2048, .f32⟩
  | 66 => ⟨S2x32x2048x2048, .f32⟩
  | 67 => ⟨S_, .f32⟩
  | 68 => ⟨S2x32x2048x2048, .f32⟩
  | 69 => ⟨S2x32x2048x2048, .f32⟩
  | 70 => ⟨S2x32x2048x2048, .f32⟩
  | 71 => ⟨S_, .f32⟩
  | 72 => ⟨S_, .f32⟩
  | 73 => ⟨S2x32x2048x2048, .i1⟩
  | 74 => ⟨S2x32x2048x2048, .f32⟩
  | 75 => ⟨S2x32x2048x2048, .f32⟩
  | 76 => ⟨S_, .f32⟩
  | 77 => ⟨S2x32x2048x2048, .f32⟩
  | 78 => ⟨S_, .f32⟩
  | 79 => ⟨S_, .f32⟩
  | 80 => ⟨S2x32x2048x2048, .f32⟩
  | 81 => ⟨S2x32x2048x2048, .f32⟩
  | 82 => ⟨S2x32x2048x2048, .f32⟩
  | 83 => ⟨S_, .f32⟩
  | 84 => ⟨S2x32x2048x2048, .f32⟩
  | 85 => ⟨S2x32x2048x2048, .f32⟩
  | 86 => ⟨S2x32x2048x2048, .f32⟩
  | 87 => ⟨S2x32x2048x2048, .f32⟩
  | 88 => ⟨S2x32x2048x2048, .i1⟩
  | 89 => ⟨S2x32x2048x2048, .f32⟩
  | 90 => ⟨S2x32x2048x2048, .f32⟩
  | 91 => ⟨S2x32x2048x2048, .f32⟩
  | 92 => ⟨S2x32x2048x2048, .f32⟩
  | 93 => ⟨S2x32x2048x2048, .f32⟩
  | 94 => ⟨S2x32x2048x2048, .f32⟩
  | 95 => ⟨S2x32x2048x2048, .f32⟩
  | 96 => ⟨S2x32x2048x2048, .f32⟩
  | 97 => ⟨S_, .f32⟩
  | 98 => ⟨S2x32x2048x2048, .f32⟩
  | 99 => ⟨S2x32x2048x2048, .i1⟩
  | 100 => ⟨S_, .f32⟩
  | 101 => ⟨S2x32x2048x2048, .f32⟩
  | 102 => ⟨S2x32x2048x2048, .f32⟩
  | 103 => ⟨S_, .f32⟩
  | 104 => ⟨S2x32x2048x2048, .f32⟩
  | 105 => ⟨S2x32x2048x2048, .i1⟩
  | 106 => ⟨S_, .f32⟩
  | 107 => ⟨S2x32x2048x2048, .f32⟩
  | 108 => ⟨S2x32x2048x2048, .f32⟩
  | 109 => ⟨S2x32x2048x2048, .f32⟩
  | 110 => ⟨S2x32x2048x2048, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S2x32x2048x2048, .f32⟩
  | 119 => ⟨S2x32x2048x2048, .i1⟩
  | 120 => ⟨S_, .f32⟩
  | 121 => ⟨S2x32x2048x2048, .f32⟩
  | 122 => ⟨S2x32x2048x2048, .f32⟩
  | 123 => ⟨S2x32x2048x2048, .f32⟩
  | 124 => ⟨S2x32x2048x2048, .f32⟩
  | 125 => ⟨S2x32x2048x2048, .f32⟩
  | 126 => ⟨S_, .f32⟩
  | 127 => ⟨S2x32x2048x2048, .f32⟩
  | _ => ⟨S4096x4096, .bf16⟩

abbrev hbmTy0_1 (i : Nat) : BufTy := match i % 128 with
  | 0 => ⟨S2x32x2048x2048, .f32⟩
  | 1 => ⟨S2x32x2048x2048, .f32⟩
  | 2 => ⟨S2x32x2048x2048, .f32⟩
  | 3 => ⟨S2x32x2048x2048, .f32⟩
  | 4 => ⟨S_, .f32⟩
  | 5 => ⟨S_, .f32⟩
  | 6 => ⟨S2x32x2048x2048, .i1⟩
  | 7 => ⟨S2x32x2048x2048, .f32⟩
  | 8 => ⟨S2x32x2048x2048, .f32⟩
  | 9 => ⟨S_, .f32⟩
  | 10 => ⟨S2x32x2048x2048, .f32⟩
  | 11 => ⟨S2x2048x32x128, .f32⟩
  | 12 => ⟨S2x32x2048x128, .f32⟩
  | 13 => ⟨S2x32x2048x128, .f32⟩
  | 14 => ⟨S2x2048x32x128, .f32⟩
  | 15 => ⟨S4096x4096, .f32⟩
  | 16 => ⟨S4096x4096, .f32⟩
  | 17 => ⟨S2x2048x32x128, .f32⟩
  | 18 => ⟨S2x32x2048x128, .f32⟩
  | 19 => ⟨S2x32x128x2048, .f32⟩
  | 20 => ⟨S2x32x2048x128, .f32⟩
  | 21 => ⟨S2x32x2048x2048, .f32⟩
  | 22 => ⟨S2x2048x32x128, .f32⟩
  | 23 => ⟨S4096x4096, .f32⟩
  | 24 => ⟨S_, .f32⟩
  | 25 => ⟨S2x32x2048x2048, .f32⟩
  | 26 => ⟨S2x32x2048x2048, .f32⟩
  | 27 => ⟨S2x32x2048x2048, .f32⟩
  | 28 => ⟨S2x32x2048x2048, .f32⟩
  | 29 => ⟨S2x32x2048x2048, .f32⟩
  | 30 => ⟨S2x32x2048x2048, .f32⟩
  | 31 => ⟨S2x32x2048x2048, .f32⟩
  | 32 => ⟨S_, .f32⟩
  | 33 => ⟨S_, .f32⟩
  | 34 => ⟨S2x32x2048x2048, .f32⟩
  | 35 => ⟨S2x32x2048x2048, .f32⟩
  | 36 => ⟨S_, .f32⟩
  | 37 => ⟨S2x32x2048x2048, .f32⟩
  | 38 => ⟨S2x32x2048x2048, .f32⟩
  | 39 => ⟨S2x32x2048x2048, .f32⟩
  | 40 => ⟨S2x32x2048x2048, .f32⟩
  | 41 => ⟨S2x32x2048x2048, .f32⟩
  | 42 => ⟨S2x32x2048x2048, .f32⟩
  | 43 => ⟨S2x32x2048x2048, .f32⟩
  | 44 => ⟨S_, .f32⟩
  | 45 => ⟨S2x32x2048x2048, .f32⟩
  | 46 => ⟨S2x32x2048x2048, .f32⟩
  | 47 => ⟨S2x32x2048x128, .f32⟩
  | 48 => ⟨S2x32x2048x128, .f32⟩
  | 49 => ⟨S2x2048x32x128, .f32⟩
  | 50 => ⟨S4096x4096, .f32⟩
  | 51 => ⟨S2x2048x32x128, .f32⟩
  | 52 => ⟨S4096x4096, .f32⟩
  | 53 => ⟨S4096x4096, .bf16⟩
  | _ => ⟨S4096x4096, .bf16⟩

abbrev hbmTy (i : Nat) : BufTy := match i / 128 with
  | 0 => hbmTy0_0 i
  | 1 => hbmTy0_1 i
  | _ => ⟨S4096x4096, .bf16⟩

abbrev bufTy : (tb : Table) → Fin (tcTables nBuf tb) → BufTy
  | .hbm, ⟨i, _⟩ => hbmTy i
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v18_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v18_2 : Ref sig .tc := ⟨.hbm, 69, rfl⟩
abbrev main_v18_0 : Ref sig .tc := ⟨.hbm, 70, rfl⟩
abbrev main_cst_0 : Ref sig .tc := ⟨.hbm, 71, rfl⟩
abbrev main_call1_v0 : Ref sig .tc := ⟨.hbm, 72, rfl⟩
abbrev main_v19_1 : Ref sig .tc := ⟨.hbm, 73, rfl⟩
abbrev main_call1_v2 : Ref sig .tc := ⟨.hbm, 74, rfl⟩
abbrev main_v19_0 : Ref sig .tc := ⟨.hbm, 75, rfl⟩
abbrev main_call1_cst : Ref sig .tc := ⟨.hbm, 76, rfl⟩
abbrev main_v19_2 : Ref sig .tc := ⟨.hbm, 77, rfl⟩
abbrev main_call2_cst : Ref sig .tc := ⟨.hbm, 78, rfl⟩
abbrev main_call2_v0 : Ref sig .tc := ⟨.hbm, 79, rfl⟩
abbrev main_v20 : Ref sig .tc := ⟨.hbm, 80, rfl⟩
abbrev main_v21 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1_0 : Ref sig .tc := ⟨.hbm, 96, rfl⟩
abbrev main_call3_call0_cst_0 : Ref sig .tc := ⟨.hbm, 97, rfl⟩
abbrev main_call3_call0_v13 : Ref sig .tc := ⟨.hbm, 98, rfl⟩
abbrev main_call3_call0_v14 : Ref sig .tc := ⟨.hbm, 99, rfl⟩
abbrev main_call3_call0_cst_1 : Ref sig .tc := ⟨.hbm, 100, rfl⟩
abbrev main_call3_call0_v15 : Ref sig .tc := ⟨.hbm, 101, rfl⟩
abbrev main_call3_call0_v16 : Ref sig .tc := ⟨.hbm, 102, rfl⟩
abbrev main_call3_call0_cst_2 : Ref sig .tc := ⟨.hbm, 103, rfl⟩
abbrev main_call3_call0_v17 : Ref sig .tc := ⟨.hbm, 104, rfl⟩
abbrev main_call3_call0_v18 : Ref sig .tc := ⟨.hbm, 105, rfl⟩
abbrev main_call3_call0_cst_3 : Ref sig .tc := ⟨.hbm, 106, rfl⟩
abbrev main_call3_call0_v19 : Ref sig .tc := ⟨.hbm, 107, rfl⟩
abbrev main_call3_call0_v20 : Ref sig .tc := ⟨.hbm, 108, rfl⟩
abbrev main_call3_call0_v21 : Ref sig .tc := ⟨.hbm, 109, rfl⟩
abbrev main_v22_1 : Ref sig .tc := ⟨.hbm, 110, rfl⟩
abbrev main_call3_call0_cst_4 : Ref sig .tc := ⟨.hbm, 111, rfl⟩
abbrev main_call3_call0_cst_5 : Ref sig .tc := ⟨.hbm, 112, rfl⟩
abbrev main_call3_call0_v23 : Ref sig .tc := ⟨.hbm, 113, rfl⟩
abbrev main_call3_call0_cst_6 : Ref sig .tc := ⟨.hbm, 114, rfl⟩
abbrev main_call3_call0_cst_7 : Ref sig .tc := ⟨.hbm, 115, rfl⟩
abbrev main_call3_call0_v24 : Ref sig .tc := ⟨.hbm, 116, rfl⟩
abbrev main_call3_call0_cst_8 : Ref sig .tc := ⟨.hbm, 117, rfl⟩
abbrev main_call3_call0_v25 : Ref sig .tc := ⟨.hbm, 118, rfl⟩
abbrev main_call3_call0_v26 : Ref sig .tc := ⟨.hbm, 119, rfl⟩
abbrev main_call3_call0_cst_9 : Ref sig .tc := ⟨.hbm, 120, rfl⟩
abbrev main_call3_call0_v27 : Ref sig .tc := ⟨.hbm, 121, rfl⟩
abbrev main_call3_call0_v28 : Ref sig .tc := ⟨.hbm, 122, rfl⟩
abbrev main_call3_call0_v29 : Ref sig .tc := ⟨.hbm, 123, rfl⟩
abbrev main_call3_call0_v30 : Ref sig .tc := ⟨.hbm, 124, rfl⟩
abbrev main_call3_call0_v31 : Ref sig .tc := ⟨.hbm, 125, rfl⟩
abbrev main_call3_call0_cst_10 : Ref sig .tc := ⟨.hbm, 126, rfl⟩
abbrev main_call3_call0_v32 : Ref sig .tc := ⟨.hbm, 127, rfl⟩
abbrev main_v22_2 : Ref sig .tc := ⟨.hbm, 128, rfl⟩
abbrev main_v22_0 : Ref sig .tc := ⟨.hbm, 129, rfl⟩
abbrev main_v23 : Ref sig .tc := ⟨.hbm, 130, rfl⟩
abbrev main_v24 : Ref sig .tc := ⟨.hbm, 131, rfl⟩
abbrev main_cst_1 : Ref sig .tc := ⟨.hbm, 132, rfl⟩
abbrev main_call4_v0 : Ref sig .tc := ⟨.hbm, 133, rfl⟩
abbrev main_v25_1 : Ref sig .tc := ⟨.hbm, 134, rfl⟩
abbrev main_call4_v2 : Ref sig .tc := ⟨.hbm, 135, rfl⟩
abbrev main_v25_0 : Ref sig .tc := ⟨.hbm, 136, rfl⟩
abbrev main_call4_cst : Ref sig .tc := ⟨.hbm, 137, rfl⟩
abbrev main_v25_2 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_call5_cst : Ref sig .tc := ⟨.hbm, 152, rfl⟩
abbrev main_call5_v0 : Ref sig .tc := ⟨.hbm, 153, rfl⟩
abbrev main_v39 : Ref sig .tc := ⟨.hbm, 154, rfl⟩
abbrev main_v40 : Ref sig .tc := ⟨.hbm, 155, rfl⟩
abbrev main_call6_v0 : Ref sig .tc := ⟨.hbm, 156, rfl⟩
abbrev main_call6_v1 : Ref sig .tc := ⟨.hbm, 157, rfl⟩
abbrev main_v41 : Ref sig .tc := ⟨.hbm, 158, rfl⟩
abbrev main_v42 : Ref sig .tc := ⟨.hbm, 159, rfl⟩
abbrev main_call7_cst : Ref sig .tc := ⟨.hbm, 160, rfl⟩
abbrev main_call7_v0 : Ref sig .tc := ⟨.hbm, 161, rfl⟩
abbrev main_v43 : Ref sig .tc := ⟨.hbm, 162, rfl⟩
abbrev main_v44 : Ref sig .tc := ⟨.hbm, 163, rfl⟩
abbrev main_call8_cst : Ref sig .tc := ⟨.hbm, 164, rfl⟩
abbrev main_call8_v0 : Ref sig .tc := ⟨.hbm, 165, rfl⟩
abbrev main_v45 : Ref sig .tc := ⟨.hbm, 166, rfl⟩
abbrev main_call9_v0 : Ref sig .tc := ⟨.hbm, 167, rfl⟩
abbrev main_call9_v1 : Ref sig .tc := ⟨.hbm, 168, rfl⟩
abbrev main_v46 : Ref sig .tc := ⟨.hbm, 169, rfl⟩
abbrev main_v47 : Ref sig .tc := ⟨.hbm, 170, rfl⟩
abbrev main_v48 : Ref sig .tc := ⟨.hbm, 171, rfl⟩
abbrev main_cst_2 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_v55 : Ref sig .tc := ⟨.hbm, 179, rfl⟩
abbrev main_v56 : Ref sig .tc := ⟨.hbm, 180, rfl⟩
abbrev main_v57 : Ref sig .tc := ⟨.hbm, 181, rfl⟩

abbrev nD : Nat := 1
abbrev τ : Topo := Topo.v7x

variable {F : FTy → Type} [FloatOps F]
-- ==== SsmOutDgrad.lean ====
abbrev S4096x4096 : Shape := ⟨2, ![4096, 4096]⟩
abbrev S4096x8192 : Shape := ⟨2, ![4096, 8192]⟩
abbrev S2x2048x4x2048 : Shape := ⟨4, ![2, 2048, 4, 2048]⟩
abbrev S4x2048x2x2048 : Shape := ⟨4, ![4, 2048, 2, 2048]⟩
abbrev S4x2048x4096 : Shape := ⟨3, ![4, 2048, 4096]⟩
abbrev S4x1024x4096 : Shape := ⟨3, ![4, 1024, 4096]⟩
abbrev S4x5120x4096 : Shape := ⟨3, ![4, 5120, 4096]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 15
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x8192, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S2x2048x4x2048, .f32⟩
  | .hbm, ⟨7, _⟩ => ⟨S4x2048x2x2048, .f32⟩
  | .hbm, ⟨8, _⟩ => ⟨S4x2048x4096, .f32⟩
  | .hbm, ⟨9, _⟩ => ⟨S4x1024x4096, .f32⟩
  | .hbm, ⟨10, _⟩ => ⟨S4x1024x4096, .f32⟩
  | .hbm, ⟨11, _⟩ => ⟨S4x1024x4096, .f32⟩
  | .hbm, ⟨12, _⟩ => ⟨S4x5120x4096, .f32⟩
  | .hbm, ⟨13, _⟩ => ⟨S4x5120x4096, .bf16⟩
  | .hbm, ⟨14, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .f32⟩
  | .local _ .vmem, ⟨5, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c1024_i32 : BitVec 32 := 1024#32
  let v2 : BitVec 32 := Scalar.muli arg1 c1024_i32
  let c4096_i32 : BitVec 32 := 4096#32
  let v3 : BitVec 32 := Scalar.muli v1 c4096_i32
  let c1024_i32_0 : BitVec 32 := 1024#32
  let v4 : BitVec 32 := Scalar.divsi v2 c1024_i32_0
  let c0_i32_1 : BitVec 32 := 0#32
  let v5 : BitVec 1 := Scalar.cmpi .sgt v2 c0_i32_1
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c1024_i32_0 c0_i32_3
  let v11 : BitVec 32 := Scalar.extui v10
  let c0_i32_4 : BitVec 32 := 0#32
  let v12 : BitVec 1 := Scalar.cmpi .slt c1024_i32_0 c0_i32_4
  let v13 : BitVec 32 := Scalar.extui v12
  let v14 : BitVec 32 := Scalar.subi v11 v13
  let v15 : BitVec 1 := Scalar.cmpi .ne v9 v14
  let v16 : BitVec 32 := Scalar.remsi v2 c1024_i32_0
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c1024_i32_7 : BitVec 32 := 1024#32
  let c0_i32_8 : BitVec 32 := 0#32
  let v21 : BitVec 1 := Scalar.cmpi .eq c1024_i32_7 c0_i32_8
  let c1_i32_9 : BitVec 32 := 1#32
  let v22 : BitVec 32 := Scalar.select v21 c1_i32_9 c1024_i32_7
  let v23 : BitVec 32 := Scalar.remsi v2 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c4096_i32_13 : BitVec 32 := 4096#32
  let v31 : BitVec 32 := Scalar.addi c4096_i32_13 v30
  let c1024_i32_14 : BitVec 32 := 1024#32
  let v32 : BitVec 32 := Scalar.divsi v31 c1024_i32_14
  let c0_i32_15 : BitVec 32 := 0#32
  let v33 : BitVec 1 := Scalar.cmpi .sgt v31 c0_i32_15
  let v34 : BitVec 32 := Scalar.extui v33
  let c0_i32_16 : BitVec 32 := 0#32
  let v35 : BitVec 1 := Scalar.cmpi .slt v31 c0_i32_16
  let v36 : BitVec 32 := Scalar.extui v35
  let v37 : BitVec 32 := Scalar.subi v34 v36
  let c0_i32_17 : BitVec 32 := 0#32
  let v38 : BitVec 1 := Scalar.cmpi .sgt c1024_i32_14 c0_i32_17
  let v39 : BitVec 32 := Scalar.extui v38
  let c0_i32_18 : BitVec 32 := 0#32
  let v40 : BitVec 1 := Scalar.cmpi .slt c1024_i32_14 c0_i32_18
  let v41 : BitVec 32 := Scalar.extui v40
  let v42 : BitVec 32 := Scalar.subi v39 v41
  let v43 : BitVec 1 := Scalar.cmpi .ne v37 v42
  let v44 : BitVec 32 := Scalar.remsi v31 c1024_i32_14
  let c0_i32_19 : BitVec 32 := 0#32
  let v45 : BitVec 1 := Scalar.cmpi .ne v44 c0_i32_19
  let v46 : BitVec 1 := Scalar.andi v43 v45
  let c1_i32_20 : BitVec 32 := 1#32
  let v47 : BitVec 32 := Scalar.subi v32 c1_i32_20
  let v48 : BitVec 32 := Scalar.select v46 v47 v32
  let c4096_i32_21 : BitVec 32 := 4096#32
  let v49 : BitVec 32 := Scalar.divsi v3 c4096_i32_21
  let c0_i32_22 : BitVec 32 := 0#32
  let v50 : BitVec 1 := Scalar.cmpi .sgt v3 c0_i32_22
  let v51 : BitVec 32 := Scalar.extui v50
  let c0_i32_23 : BitVec 32 := 0#32
  let v52 : BitVec 1 := Scalar.cmpi .slt v3 c0_i32_23
  let v53 : BitVec 32 := Scalar.extui v52
  let v54 : BitVec 32 := Scalar.subi v51 v53
  let c0_i32_24 : BitVec 32 := 0#32
  let v55 : BitVec 1 := Scalar.cmpi .sgt c4096_i32_21 c0_i32_24
  let v56 : BitVec 32 := Scalar.extui v55
  let c0_i32_25 : BitVec 32 := 0#32
  let v57 : BitVec 1 := Scalar.cmpi .slt c4096_i32_21 c0_i32_25
  let v58 : BitVec 32 := Scalar.extui v57
  let v59 : BitVec 32 := Scalar.subi v56 v58
  let v60 : BitVec 1 := Scalar.cmpi .ne v54 v59
  let v61 : BitVec 32 := Scalar.remsi v3 c4096_i32_21
  let c0_i32_26 : BitVec 32 := 0#32
  let v62 : BitVec 1 := Scalar.cmpi .ne v61 c0_i32_26
  let v63 : BitVec 1 := Scalar.andi v60 v62
  let c1_i32_27 : BitVec 32 := 1#32
  let v64 : BitVec 32 := Scalar.subi v49 c1_i32_27
  let v65 : BitVec 32 := Scalar.select v63 v64 v49
  let c0_i32_28 : BitVec 32 := 0#32
  ![v20.toNat, v48.toNat, v65.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutDgradPlainIdeal.lean ====
abbrev S4096x4096 : Shape := ⟨2, ![4096, 4096]⟩
abbrev S4096x8192 : Shape := ⟨2, ![4096, 8192]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x8192, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S4096x4096, .f32⟩
  | .hbm, ⟨7, _⟩ => ⟨S4096x4096, .f32⟩
  | .hbm, ⟨8, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩

abbrev nD : Nat := 1
abbrev τ : Topo := Topo.v7x

variable {F : FTy → Type} [FloatOps F]
-- ==== AttnOutDgrad.lean ====
abbrev S4096x4096 : Shape := ⟨2, ![4096, 4096]⟩
abbrev S4096x8192 : Shape := ⟨2, ![4096, 8192]⟩
abbrev S2x2048x4x2048 : Shape := ⟨4, ![2, 2048, 4, 2048]⟩
abbrev S4x2048x2x2048 : Shape := ⟨4, ![4, 2048, 2, 2048]⟩
abbrev S4x2048x4096 : Shape := ⟨3, ![4, 2048, 4096]⟩
abbrev S4x1024x4096 : Shape := ⟨3, ![4, 1024, 4096]⟩
abbrev S4x5120x4096 : Shape := ⟨3, ![4, 5120, 4096]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 17
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x8192, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S2x2048x4x2048, .f32⟩
  | .hbm, ⟨8, _⟩ => ⟨S4x2048x2x2048, .f32⟩
  | .hbm, ⟨9, _⟩ => ⟨S4x2048x4096, .f32⟩
  | .hbm, ⟨10, _⟩ => ⟨S4x1024x4096, .f32⟩
  | .hbm, ⟨11, _⟩ => ⟨S4x1024x4096, .f32⟩
  | .hbm, ⟨12, _⟩ => ⟨S4x1024x4096, .f32⟩
  | .hbm, ⟨13, _⟩ => ⟨S4x5120x4096, .f32⟩
  | .hbm, ⟨14, _⟩ => ⟨S4x5120x4096, .bf16⟩
  | .hbm, ⟨15, _⟩ => ⟨S4096x4096, .bf16⟩
  | .hbm, ⟨16, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .bf16⟩
  | .local _ .vmem, ⟨3, _⟩ => ⟨S1x512x4096, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c512_i32 : BitVec 32 := 512#32
  let v2 : BitVec 32 := Scalar.muli arg1 c512_i32
  let c4096_i32 : BitVec 32 := 4096#32
  let v3 : BitVec 32 := Scalar.muli v1 c4096_i32
  let c1024_i32 : BitVec 32 := 1024#32
  let v4 : BitVec 32 := Scalar.divsi v2 c1024_i32
  let c0_i32_0 : BitVec 32 := 0#32
  let v5 : BitVec 1 := Scalar.cmpi .sgt v2 c0_i32_0
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c0_i32_2 : BitVec 32 := 0#32
  let v10 : BitVec 1 := Scalar.cmpi .sgt c1024_i32 c0_i32_2
  let v11 : BitVec 32 := Scalar.extui v10
  let c0_i32_3 : BitVec 32 := 0#32
  let v12 : BitVec 1 := Scalar.cmpi .slt c1024_i32 c0_i32_3
  let v13 : BitVec 32 := Scalar.extui v12
  let v14 : BitVec 32 := Scalar.subi v11 v13
  let v15 : BitVec 1 := Scalar.cmpi .ne v9 v14
  let v16 : BitVec 32 := Scalar.remsi v2 c1024_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1024_i32_6 : BitVec 32 := 1024#32
  let c0_i32_7 : BitVec 32 := 0#32
  let v21 : BitVec 1 := Scalar.cmpi .eq c1024_i32_6 c0_i32_7
  let c1_i32_8 : BitVec 32 := 1#32
  let v22 : BitVec 32 := Scalar.select v21 c1_i32_8 c1024_i32_6
  let v23 : BitVec 32 := Scalar.remsi v2 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let v31 : BitVec 32 := Scalar.addi c0_i32_12 v30
  let c512_i32_13 : BitVec 32 := 512#32
  let v32 : BitVec 32 := Scalar.divsi v31 c512_i32_13
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c0_i32_16 : BitVec 32 := 0#32
  let v38 : BitVec 1 := Scalar.cmpi .sgt c512_i32_13 c0_i32_16
  let v39 : BitVec 32 := Scalar.extui v38
  let c0_i32_17 : BitVec 32 := 0#32
  let v40 : BitVec 1 := Scalar.cmpi .slt c512_i32_13 c0_i32_17
  let v41 : BitVec 32 := Scalar.extui v40
  let v42 : BitVec 32 := Scalar.subi v39 v41
  let v43 : BitVec 1 := Scalar.cmpi .ne v37 v42
  let v44 : BitVec 32 := Scalar.remsi v31 c512_i32_13
  let c0_i32_18 : BitVec 32 := 0#32
  let v45 : BitVec 1 := Scalar.cmpi .ne v44 c0_i32_18
  let v46 : BitVec 1 := Scalar.andi v43 v45
  let c1_i32_19 : BitVec 32 := 1#32
  let v47 : BitVec 32 := Scalar.subi v32 c1_i32_19
  let v48 : BitVec 32 := Scalar.select v46 v47 v32
  let c4096_i32_20 : BitVec 32 := 4096#32
  let v49 : BitVec 32 := Scalar.divsi v3 c4096_i32_20
  let c0_i32_21 : BitVec 32 := 0#32
  let v50 : BitVec 1 := Scalar.cmpi .sgt v3 c0_i32_21
  let v51 : BitVec 32 := Scalar.extui v50
  let c0_i32_22 : BitVec 32 := 0#32
  let v52 : BitVec 1 := Scalar.cmpi .slt v3 c0_i32_22
  let v53 : BitVec 32 := Scalar.extui v52
  let v54 : BitVec 32 := Scalar.subi v51 v53
  let c0_i32_23 : BitVec 32 := 0#32
  let v55 : BitVec 1 := Scalar.cmpi .sgt c4096_i32_20 c0_i32_23
  let v56 : BitVec 32 := Scalar.extui v55
  let c0_i32_24 : BitVec 32 := 0#32
  let v57 : BitVec 1 := Scalar.cmpi .slt c4096_i32_20 c0_i32_24
  let v58 : BitVec 32 := Scalar.extui v57
  let v59 : BitVec 32 := Scalar.subi v56 v58
  let v60 : BitVec 1 := Scalar.cmpi .ne v54 v59
  let v61 : BitVec 32 := Scalar.remsi v3 c4096_i32_20
  let c0_i32_25 : BitVec 32 := 0#32
  let v62 : BitVec 1 := Scalar.cmpi .ne v61 c0_i32_25
  let v63 : BitVec 1 := Scalar.andi v60 v62
  let c1_i32_26 : BitVec 32 := 1#32
  let v64 : BitVec 32 := Scalar.subi v49 c1_i32_26
  let v65 : BitVec 32 := Scalar.select v63 v64 v49
  let c0_i32_27 : BitVec 32 := 0#32
  ![v20.toNat, v48.toNat, v65.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== AttnOutDgradPlainIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x8192, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .bf16⟩
  | .hbm, ⟨31, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v0_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v0_1 : Ref sig .tc := ⟨.hbm, 18, rfl⟩
abbrev main_v0_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩

abbrev nD : Nat := 1
abbrev τ : Topo := Topo.v7x

variable {F : FTy → Type} [FloatOps F]
-- ==== GluDgrad.lean ====
abbrev S4096x4096 : Shape := ⟨2, ![4096, 4096]⟩
abbrev S4096x8192 : Shape := ⟨2, ![4096, 8192]⟩
abbrev S2x2048x4x2048 : Shape := ⟨4, ![2, 2048, 4, 2048]⟩
abbrev S4x2048x2x2048 : Shape := ⟨4, ![4, 2048, 2, 2048]⟩
abbrev S4x2048x4096 : Shape := ⟨3, ![4, 2048, 4096]⟩
abbrev S4x1024x4096 : Shape := ⟨3, ![4, 1024, 4096]⟩
abbrev S4x5120x4096 : Shape := ⟨3, ![4, 5120, 4096]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 16
  | .vmem => 10
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x8192, .f32⟩
  | .hbm, ⟨5, _⟩ => ⟨S4096x4096, .f32⟩
  | .hbm, ⟨6, _⟩ => ⟨S4096x4096, .f32⟩
  | .hbm, ⟨7, _⟩ => ⟨S2x2048x4x2048, .f32⟩
  | .hbm, ⟨8, _⟩ => ⟨S4x2048x2x2048, .f32⟩
  | .hbm, ⟨9, _⟩ => ⟨S4x2048x4096, .f32⟩
  | .hbm, ⟨10, _⟩ => ⟨S4x1024x4096, .f32⟩
  | .hbm, ⟨11, _⟩ => ⟨S4x1024x4096, .f32⟩
  | .hbm, ⟨12, _⟩ => ⟨S4x1024x4096, .f32⟩
  | .hbm, ⟨13, _⟩ => ⟨S4x5120x4096, .f32⟩
  | .hbm, ⟨14, _⟩ => ⟨S4x5120x4096, .bf16⟩
  | .hbm, ⟨15, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x512x4096, .bf16⟩
  | .local _ .vmem, ⟨3, _⟩ => ⟨S1x512x4096, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c512_i32 : BitVec 32 := 512#32
  let v2 : BitVec 32 := Scalar.muli arg1 c512_i32
  let c4096_i32 : BitVec 32 := 4096#32
  let v3 : BitVec 32 := Scalar.muli v1 c4096_i32
  let c1024_i32 : BitVec 32 := 1024#32
  let v4 : BitVec 32 := Scalar.divsi v2 c1024_i32
  let c0_i32_0 : BitVec 32 := 0#32
  let v5 : BitVec 1 := Scalar.cmpi .sgt v2 c0_i32_0
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c0_i32_2 : BitVec 32 := 0#32
  let v10 : BitVec 1 := Scalar.cmpi .sgt c1024_i32 c0_i32_2
  let v11 : BitVec 32 := Scalar.extui v10
  let c0_i32_3 : BitVec 32 := 0#32
  let v12 : BitVec 1 := Scalar.cmpi .slt c1024_i32 c0_i32_3
  let v13 : BitVec 32 := Scalar.extui v12
  let v14 : BitVec 32 := Scalar.subi v11 v13
  let v15 : BitVec 1 := Scalar.cmpi .ne v9 v14
  let v16 : BitVec 32 := Scalar.remsi v2 c1024_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1024_i32_6 : BitVec 32 := 1024#32
  let c0_i32_7 : BitVec 32 := 0#32
  let v21 : BitVec 1 := Scalar.cmpi .eq c1024_i32_6 c0_i32_7
  let c1_i32_8 : BitVec 32 := 1#32
  let v22 : BitVec 32 := Scalar.select v21 c1_i32_8 c1024_i32_6
  let v23 : BitVec 32 := Scalar.remsi v2 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c3072_i32 : BitVec 32 := 3072#32
  let v31 : BitVec 32 := Scalar.addi c3072_i32 v30
  let c512_i32_12 : BitVec 32 := 512#32
  let v32 : BitVec 32 := Scalar.divsi v31 c512_i32_12
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c0_i32_15 : BitVec 32 := 0#32
  let v38 : BitVec 1 := Scalar.cmpi .sgt c512_i32_12 c0_i32_15
  let v39 : BitVec 32 := Scalar.extui v38
  let c0_i32_16 : BitVec 32 := 0#32
  let v40 : BitVec 1 := Scalar.cmpi .slt c512_i32_12 c0_i32_16
  let v41 : BitVec 32 := Scalar.extui v40
  let v42 : BitVec 32 := Scalar.subi v39 v41
  let v43 : BitVec 1 := Scalar.cmpi .ne v37 v42
  let v44 : BitVec 32 := Scalar.remsi v31 c512_i32_12
  let c0_i32_17 : BitVec 32 := 0#32
  let v45 : BitVec 1 := Scalar.cmpi .ne v44 c0_i32_17
  let v46 : BitVec 1 := Scalar.andi v43 v45
  let c1_i32_18 : BitVec 32 := 1#32
  let v47 : BitVec 32 := Scalar.subi v32 c1_i32_18
  let v48 : BitVec 32 := Scalar.select v46 v47 v32
  let c4096_i32_19 : BitVec 32 := 4096#32
  let v49 : BitVec 32 := Scalar.divsi v3 c4096_i32_19
  let c0_i32_20 : BitVec 32 := 0#32
  let v50 : BitVec 1 := Scalar.cmpi .sgt v3 c0_i32_20
  let v51 : BitVec 32 := Scalar.extui v50
  let c0_i32_21 : BitVec 32 := 0#32
  let v52 : BitVec 1 := Scalar.cmpi .slt v3 c0_i32_21
  let v53 : BitVec 32 := Scalar.extui v52
  let v54 : BitVec 32 := Scalar.subi v51 v53
  let c0_i32_22 : BitVec 32 := 0#32
  let v55 : BitVec 1 := Scalar.cmpi .sgt c4096_i32_19 c0_i32_22
  let v56 : BitVec 32 := Scalar.extui v55
  let c0_i32_23 : BitVec 32 := 0#32
  let v57 : BitVec 1 := Scalar.cmpi .slt c4096_i32_19 c0_i32_23
  let v58 : BitVec 32 := Scalar.extui v57
  let v59 : BitVec 32 := Scalar.subi v56 v58
  let v60 : BitVec 1 := Scalar.cmpi .ne v54 v59
  let v61 : BitVec 32 := Scalar.remsi v3 c4096_i32_19
  let c0_i32_24 : BitVec 32 := 0#32
  let v62 : BitVec 1 := Scalar.cmpi .ne v61 c0_i32_24
  let v63 : BitVec 1 := Scalar.andi v60 v62
  let c1_i32_25 : BitVec 32 := 1#32
  let v64 : BitVec 32 := Scalar.subi v49 c1_i32_25
  let v65 : BitVec 32 := Scalar.select v63 v64 v49
  let c0_i32_26 : BitVec 32 := 0#32
  ![v20.toNat, v48.toNat, v65.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== GluDgradIdeal.lean ====
variable {F : FTy → Type} [FloatOps F] [Named F]
def κ : String → Option EReal := fun
  | "cubic" => some ((8943 / 200000 : ℝ) : EReal)
  | "three_cubic" => some ((26829 / 200000 : ℝ) : EReal)
  | _ => none
-- ==== GluDgradPlainIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x8192, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== SsmInDgradU.lean ====
abbrev S4096x4096 : Shape := ⟨2, ![4096, 4096]⟩
abbrev S4096x8192 : Shape := ⟨2, ![4096, 8192]⟩
abbrev S2x2048x4x2048 : Shape := ⟨4, ![2, 2048, 4, 2048]⟩
abbrev S4x2048x2x2048 : Shape := ⟨4, ![4, 2048, 2, 2048]⟩
abbrev S4x2048x4096 : Shape := ⟨3, ![4, 2048, 4096]⟩
abbrev S4x1024x4096 : Shape := ⟨3, ![4, 1024, 4096]⟩
abbrev S4x5120x4096 : Shape := ⟨3, ![4, 5120, 4096]⟩
abbrev S1024x4096 : Shape := ⟨2, ![1024, 4096]⟩
abbrev S1x1024x2048 : Shape := ⟨3, ![1, 1024, 2048]⟩
abbrev S1024x1024 : Shape := ⟨2, ![1024, 1024]⟩
abbrev S1024x2048 : Shape := ⟨2, ![1024, 2048]⟩

abbrev nBuf : Space → Nat
  | .hbm => 15
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x8192, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S2x2048x4x2048, .f32⟩
  | .hbm, ⟨7, _⟩ => ⟨S4x2048x2x2048, .f32⟩
  | .hbm, ⟨8, _⟩ => ⟨S4x2048x4096, .f32⟩
  | .hbm, ⟨9, _⟩ => ⟨S4x1024x4096, .f32⟩
  | .hbm, ⟨10, _⟩ => ⟨S4x1024x4096, .f32⟩
  | .hbm, ⟨11, _⟩ => ⟨S4x1024x4096, .f32⟩
  | .hbm, ⟨12, _⟩ => ⟨S4x5120x4096, .f32⟩
  | .hbm, ⟨13, _⟩ => ⟨S4x5120x4096, .bf16⟩
  | .hbm, ⟨14, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1024x1024, .f32⟩
  | .local _ .vmem, ⟨7, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c1024_i32 : BitVec 32 := 1024#32
  let v2 : BitVec 32 := Scalar.muli arg1 c1024_i32
  let c2048_i32 : BitVec 32 := 2048#32
  let v3 : BitVec 32 := Scalar.muli v1 c2048_i32
  let c2048_i32_0 : BitVec 32 := 2048#32
  let v4 : BitVec 32 := Scalar.divsi v3 c2048_i32_0
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c2048_i32_0 c0_i32_3
  let v11 : BitVec 32 := Scalar.extui v10
  let c0_i32_4 : BitVec 32 := 0#32
  let v12 : BitVec 1 := Scalar.cmpi .slt c2048_i32_0 c0_i32_4
  let v13 : BitVec 32 := Scalar.extui v12
  let v14 : BitVec 32 := Scalar.subi v11 v13
  let v15 : BitVec 1 := Scalar.cmpi .ne v9 v14
  let v16 : BitVec 32 := Scalar.remsi v3 c2048_i32_0
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c0_i32_6 : BitVec 32 := 0#32
  let v21 : BitVec 32 := Scalar.addi c0_i32_6 v20
  let c2048_i32_7 : BitVec 32 := 2048#32
  let c0_i32_8 : BitVec 32 := 0#32
  let v22 : BitVec 1 := Scalar.cmpi .eq c2048_i32_7 c0_i32_8
  let c1_i32_9 : BitVec 32 := 1#32
  let v23 : BitVec 32 := Scalar.select v22 c1_i32_9 c2048_i32_7
  let v24 : BitVec 32 := Scalar.remsi v2 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let c1024_i32_13 : BitVec 32 := 1024#32
  let v32 : BitVec 32 := Scalar.addi c1024_i32_13 v31
  let c2048_i32_14 : BitVec 32 := 2048#32
  let v33 : BitVec 32 := Scalar.divsi v2 c2048_i32_14
  let c0_i32_15 : BitVec 32 := 0#32
  let v34 : BitVec 1 := Scalar.cmpi .sgt v2 c0_i32_15
  let v35 : BitVec 32 := Scalar.extui v34
  let c0_i32_16 : BitVec 32 := 0#32
  let v36 : BitVec 1 := Scalar.cmpi .slt v2 c0_i32_16
  let v37 : BitVec 32 := Scalar.extui v36
  let v38 : BitVec 32 := Scalar.subi v35 v37
  let c0_i32_17 : BitVec 32 := 0#32
  let v39 : BitVec 1 := Scalar.cmpi .sgt c2048_i32_14 c0_i32_17
  let v40 : BitVec 32 := Scalar.extui v39
  let c0_i32_18 : BitVec 32 := 0#32
  let v41 : BitVec 1 := Scalar.cmpi .slt c2048_i32_14 c0_i32_18
  let v42 : BitVec 32 := Scalar.extui v41
  let v43 : BitVec 32 := Scalar.subi v40 v42
  let v44 : BitVec 1 := Scalar.cmpi .ne v38 v43
  let v45 : BitVec 32 := Scalar.remsi v2 c2048_i32_14
  let c0_i32_19 : BitVec 32 := 0#32
  let v46 : BitVec 1 := Scalar.cmpi .ne v45 c0_i32_19
  let v47 : BitVec 1 := Scalar.andi v44 v46
  let c1_i32_20 : BitVec 32 := 1#32
  let v48 : BitVec 32 := Scalar.subi v33 c1_i32_20
  let v49 : BitVec 32 := Scalar.select v47 v48 v33
  let c2048_i32_21 : BitVec 32 := 2048#32
  let v50 : BitVec 32 := Scalar.muli v49 c2048_i32_21
  let c2048_i32_22 : BitVec 32 := 2048#32
  let c0_i32_23 : BitVec 32 := 0#32
  let v51 : BitVec 1 := Scalar.cmpi .eq c2048_i32_22 c0_i32_23
  let c1_i32_24 : BitVec 32 := 1#32
  let v52 : BitVec 32 := Scalar.select v51 c1_i32_24 c2048_i32_22
  let v53 : BitVec 32 := Scalar.remsi v3 v52
  let c0_i32_25 : BitVec 32 := 0#32
  let v54 : BitVec 1 := Scalar.cmpi .ne v53 c0_i32_25
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c1024_i32_28 : BitVec 32 := 1024#32
  let v62 : BitVec 32 := Scalar.divsi v32 c1024_i32_28
  let c0_i32_29 : BitVec 32 := 0#32
  let v63 : BitVec 1 := Scalar.cmpi .sgt v32 c0_i32_29
  let v64 : BitVec 32 := Scalar.extui v63
  let c0_i32_30 : BitVec 32 := 0#32
  let v65 : BitVec 1 := Scalar.cmpi .slt v32 c0_i32_30
  let v66 : BitVec 32 := Scalar.extui v65
  let v67 : BitVec 32 := Scalar.subi v64 v66
  let c0_i32_31 : BitVec 32 := 0#32
  let v68 : BitVec 1 := Scalar.cmpi .sgt c1024_i32_28 c0_i32_31
  let v69 : BitVec 32 := Scalar.extui v68
  let c0_i32_32 : BitVec 32 := 0#32
  let v70 : BitVec 1 := Scalar.cmpi .slt c1024_i32_28 c0_i32_32
  let v71 : BitVec 32 := Scalar.extui v70
  let v72 : BitVec 32 := Scalar.subi v69 v71
  let v73 : BitVec 1 := Scalar.cmpi .ne v67 v72
  let v74 : BitVec 32 := Scalar.remsi v32 c1024_i32_28
  let c0_i32_33 : BitVec 32 := 0#32
  let v75 : BitVec 1 := Scalar.cmpi .ne v74 c0_i32_33
  let v76 : BitVec 1 := Scalar.andi v73 v75
  let c1_i32_34 : BitVec 32 := 1#32
  let v77 : BitVec 32 := Scalar.subi v62 c1_i32_34
  let v78 : BitVec 32 := Scalar.select v76 v77 v62
  let c2048_i32_35 : BitVec 32 := 2048#32
  let v79 : BitVec 32 := Scalar.divsi v61 c2048_i32_35
  let c0_i32_36 : BitVec 32 := 0#32
  let v80 : BitVec 1 := Scalar.cmpi .sgt v61 c0_i32_36
  let v81 : BitVec 32 := Scalar.extui v80
  let c0_i32_37 : BitVec 32 := 0#32
  let v82 : BitVec 1 := Scalar.cmpi .slt v61 c0_i32_37
  let v83 : BitVec 32 := Scalar.extui v82
  let v84 : BitVec 32 := Scalar.subi v81 v83
  let c0_i32_38 : BitVec 32 := 0#32
  let v85 : BitVec 1 := Scalar.cmpi .sgt c2048_i32_35 c0_i32_38
  let v86 : BitVec 32 := Scalar.extui v85
  let c0_i32_39 : BitVec 32 := 0#32
  let v87 : BitVec 1 := Scalar.cmpi .slt c2048_i32_35 c0_i32_39
  let v88 : BitVec 32 := Scalar.extui v87
  let v89 : BitVec 32 := Scalar.subi v86 v88
  let v90 : BitVec 1 := Scalar.cmpi .ne v84 v89
  let v91 : BitVec 32 := Scalar.remsi v61 c2048_i32_35
  let c0_i32_40 : BitVec 32 := 0#32
  let v92 : BitVec 1 := Scalar.cmpi .ne v91 c0_i32_40
  let v93 : BitVec 1 := Scalar.andi v90 v92
  let c1_i32_41 : BitVec 32 := 1#32
  let v94 : BitVec 32 := Scalar.subi v79 c1_i32_41
  let v95 : BitVec 32 := Scalar.select v93 v94 v79
  let c0_i32_42 : BitVec 32 := 0#32
  ![v21.toNat, v78.toNat, v95.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let c1024_i32 : BitVec 32 := 1024#32
  let v2 : BitVec 32 := Scalar.muli arg1 c1024_i32
  let c2048_i32 : BitVec 32 := 2048#32
  let v3 : BitVec 32 := Scalar.muli v1 c2048_i32
  let c2048_i32_0 : BitVec 32 := 2048#32
  let v4 : BitVec 32 := Scalar.divsi v3 c2048_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32_0 c0_i32_2
  let v11 : BitVec 32 := Scalar.extui v10
  let c0_i32_3 : BitVec 32 := 0#32
  let v12 : BitVec 1 := Scalar.cmpi .slt c2048_i32_0 c0_i32_3
  let v13 : BitVec 32 := Scalar.extui v12
  let v14 : BitVec 32 := Scalar.subi v11 v13
  let v15 : BitVec 1 := Scalar.cmpi .ne v9 v14
  let v16 : BitVec 32 := Scalar.remsi v3 c2048_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let v21 : BitVec 32 := Scalar.addi c0_i32_6 v20
  let c2048_i32_7 : BitVec 32 := 2048#32
  let c0_i32_8 : BitVec 32 := 0#32
  let v22 : BitVec 1 := Scalar.cmpi .eq c2048_i32_7 c0_i32_8
  let c1_i32_9 : BitVec 32 := 1#32
  let v23 : BitVec 32 := Scalar.select v22 c1_i32_9 c2048_i32_7
  let v24 : BitVec 32 := Scalar.remsi v2 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let c1024_i32_13 : BitVec 32 := 1024#32
  let v32 : BitVec 32 := Scalar.addi c1024_i32_13 v31
  let c2048_i32_14 : BitVec 32 := 2048#32
  let v33 : BitVec 32 := Scalar.divsi v2 c2048_i32_14
  let c0_i32_15 : BitVec 32 := 0#32
  let v34 : BitVec 1 := Scalar.cmpi .sgt v2 c0_i32_15
  let v35 : BitVec 32 := Scalar.extui v34
  let c0_i32_16 : BitVec 32 := 0#32
  let v36 : BitVec 1 := Scalar.cmpi .slt v2 c0_i32_16
  let v37 : BitVec 32 := Scalar.extui v36
  let v38 : BitVec 32 := Scalar.subi v35 v37
  let c0_i32_17 : BitVec 32 := 0#32
  let v39 : BitVec 1 := Scalar.cmpi .sgt c2048_i32_14 c0_i32_17
  let v40 : BitVec 32 := Scalar.extui v39
  let c0_i32_18 : BitVec 32 := 0#32
  let v41 : BitVec 1 := Scalar.cmpi .slt c2048_i32_14 c0_i32_18
  let v42 : BitVec 32 := Scalar.extui v41
  let v43 : BitVec 32 := Scalar.subi v40 v42
  let v44 : BitVec 1 := Scalar.cmpi .ne v38 v43
  let v45 : BitVec 32 := Scalar.remsi v2 c2048_i32_14
  let c0_i32_19 : BitVec 32 := 0#32
  let v46 : BitVec 1 := Scalar.cmpi .ne v45 c0_i32_19
  let v47 : BitVec 1 := Scalar.andi v44 v46
  let c1_i32_20 : BitVec 32 := 1#32
  let v48 : BitVec 32 := Scalar.subi v33 c1_i32_20
  let v49 : BitVec 32 := Scalar.select v47 v48 v33
  let c2048_i32_21 : BitVec 32 := 2048#32
  let v50 : BitVec 32 := Scalar.muli v49 c2048_i32_21
  let c2048_i32_22 : BitVec 32 := 2048#32
  let c0_i32_23 : BitVec 32 := 0#32
  let v51 : BitVec 1 := Scalar.cmpi .eq c2048_i32_22 c0_i32_23
  let c1_i32_24 : BitVec 32 := 1#32
  let v52 : BitVec 32 := Scalar.select v51 c1_i32_24 c2048_i32_22
  let v53 : BitVec 32 := Scalar.remsi v3 v52
  let c0_i32_25 : BitVec 32 := 0#32
  let v54 : BitVec 1 := Scalar.cmpi .ne v53 c0_i32_25
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c1024_i32_28 : BitVec 32 := 1024#32
  let v62 : BitVec 32 := Scalar.divsi v32 c1024_i32_28
  let c0_i32_29 : BitVec 32 := 0#32
  let v63 : BitVec 1 := Scalar.cmpi .sgt v32 c0_i32_29
  let v64 : BitVec 32 := Scalar.extui v63
  let c0_i32_30 : BitVec 32 := 0#32
  let v65 : BitVec 1 := Scalar.cmpi .slt v32 c0_i32_30
  let v66 : BitVec 32 := Scalar.extui v65
  let v67 : BitVec 32 := Scalar.subi v64 v66
  let c0_i32_31 : BitVec 32 := 0#32
  let v68 : BitVec 1 := Scalar.cmpi .sgt c1024_i32_28 c0_i32_31
  let v69 : BitVec 32 := Scalar.extui v68
  let c0_i32_32 : BitVec 32 := 0#32
  let v70 : BitVec 1 := Scalar.cmpi .slt c1024_i32_28 c0_i32_32
  let v71 : BitVec 32 := Scalar.extui v70
  let v72 : BitVec 32 := Scalar.subi v69 v71
  let v73 : BitVec 1 := Scalar.cmpi .ne v67 v72
  let v74 : BitVec 32 := Scalar.remsi v32 c1024_i32_28
  let c0_i32_33 : BitVec 32 := 0#32
  let v75 : BitVec 1 := Scalar.cmpi .ne v74 c0_i32_33
  let v76 : BitVec 1 := Scalar.andi v73 v75
  let c1_i32_34 : BitVec 32 := 1#32
  let v77 : BitVec 32 := Scalar.subi v62 c1_i32_34
  let v78 : BitVec 32 := Scalar.select v76 v77 v62
  let c2048_i32_35 : BitVec 32 := 2048#32
  let v79 : BitVec 32 := Scalar.divsi v61 c2048_i32_35
  let c0_i32_36 : BitVec 32 := 0#32
  let v80 : BitVec 1 := Scalar.cmpi .sgt v61 c0_i32_36
  let v81 : BitVec 32 := Scalar.extui v80
  let c0_i32_37 : BitVec 32 := 0#32
  let v82 : BitVec 1 := Scalar.cmpi .slt v61 c0_i32_37
  let v83 : BitVec 32 := Scalar.extui v82
  let v84 : BitVec 32 := Scalar.subi v81 v83
  let c0_i32_38 : BitVec 32 := 0#32
  let v85 : BitVec 1 := Scalar.cmpi .sgt c2048_i32_35 c0_i32_38
  let v86 : BitVec 32 := Scalar.extui v85
  let c0_i32_39 : BitVec 32 := 0#32
  let v87 : BitVec 1 := Scalar.cmpi .slt c2048_i32_35 c0_i32_39
  let v88 : BitVec 32 := Scalar.extui v87
  let v89 : BitVec 32 := Scalar.subi v86 v88
  let v90 : BitVec 1 := Scalar.cmpi .ne v84 v89
  let v91 : BitVec 32 := Scalar.remsi v61 c2048_i32_35
  let c0_i32_40 : BitVec 32 := 0#32
  let v92 : BitVec 1 := Scalar.cmpi .ne v91 c0_i32_40
  let v93 : BitVec 1 := Scalar.andi v90 v92
  let c1_i32_41 : BitVec 32 := 1#32
  let v94 : BitVec 32 := Scalar.subi v79 c1_i32_41
  let v95 : BitVec 32 := Scalar.select v93 v94 v79
  let c0_i32_42 : BitVec 32 := 0#32
  ![v21.toNat, v78.toNat, v95.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SsmInDgradUIdeal.lean ====
abbrev S4096x4096 : Shape := ⟨2, ![4096, 4096]⟩
abbrev S4096x8192 : Shape := ⟨2, ![4096, 8192]⟩
abbrev S2x2048x4x2048 : Shape := ⟨4, ![2, 2048, 4, 2048]⟩
abbrev S4x2048x2x2048 : Shape := ⟨4, ![4, 2048, 2, 2048]⟩
abbrev S4x2048x4096 : Shape := ⟨3, ![4, 2048, 4096]⟩
abbrev S4x1024x4096 : Shape := ⟨3, ![4, 1024, 4096]⟩
abbrev S4x5120x4096 : Shape := ⟨3, ![4, 5120, 4096]⟩
abbrev S1024x4096 : Shape := ⟨2, ![1024, 4096]⟩
abbrev S1x1024x2048 : Shape := ⟨3, ![1, 1024, 2048]⟩
abbrev S1024x1024 : Shape := ⟨2, ![1024, 1024]⟩
abbrev S1024x2048 : Shape := ⟨2, ![1024, 2048]⟩

abbrev nBuf : Space → Nat
  | .hbm => 15
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x8192, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S2x2048x4x2048, .f32⟩
  | .hbm, ⟨7, _⟩ => ⟨S4x2048x2x2048, .f32⟩
  | .hbm, ⟨8, _⟩ => ⟨S4x2048x4096, .f32⟩
  | .hbm, ⟨9, _⟩ => ⟨S4x1024x4096, .f32⟩
  | .hbm, ⟨10, _⟩ => ⟨S4x1024x4096, .f32⟩
  | .hbm, ⟨11, _⟩ => ⟨S4x1024x4096, .f32⟩
  | .hbm, ⟨12, _⟩ => ⟨S4x5120x4096, .f32⟩
  | .hbm, ⟨13, _⟩ => ⟨S4x5120x4096, .bf16⟩
  | .hbm, ⟨14, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1024x1024, .f32⟩
  | .local _ .vmem, ⟨7, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c1024_i32 : BitVec 32 := 1024#32
  let v2 : BitVec 32 := Scalar.muli arg1 c1024_i32
  let c2048_i32 : BitVec 32 := 2048#32
  let v3 : BitVec 32 := Scalar.muli v1 c2048_i32
  let c2048_i32_0 : BitVec 32 := 2048#32
  let v4 : BitVec 32 := Scalar.divsi v3 c2048_i32_0
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c2048_i32_0 c0_i32_3
  let v11 : BitVec 32 := Scalar.extui v10
  let c0_i32_4 : BitVec 32 := 0#32
  let v12 : BitVec 1 := Scalar.cmpi .slt c2048_i32_0 c0_i32_4
  let v13 : BitVec 32 := Scalar.extui v12
  let v14 : BitVec 32 := Scalar.subi v11 v13
  let v15 : BitVec 1 := Scalar.cmpi .ne v9 v14
  let v16 : BitVec 32 := Scalar.remsi v3 c2048_i32_0
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c0_i32_6 : BitVec 32 := 0#32
  let v21 : BitVec 32 := Scalar.addi c0_i32_6 v20
  let c2048_i32_7 : BitVec 32 := 2048#32
  let c0_i32_8 : BitVec 32 := 0#32
  let v22 : BitVec 1 := Scalar.cmpi .eq c2048_i32_7 c0_i32_8
  let c1_i32_9 : BitVec 32 := 1#32
  let v23 : BitVec 32 := Scalar.select v22 c1_i32_9 c2048_i32_7
  let v24 : BitVec 32 := Scalar.remsi v2 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let c1024_i32_13 : BitVec 32 := 1024#32
  let v32 : BitVec 32 := Scalar.addi c1024_i32_13 v31
  let c2048_i32_14 : BitVec 32 := 2048#32
  let v33 : BitVec 32 := Scalar.divsi v2 c2048_i32_14
  let c0_i32_15 : BitVec 32 := 0#32
  let v34 : BitVec 1 := Scalar.cmpi .sgt v2 c0_i32_15
  let v35 : BitVec 32 := Scalar.extui v34
  let c0_i32_16 : BitVec 32 := 0#32
  let v36 : BitVec 1 := Scalar.cmpi .slt v2 c0_i32_16
  let v37 : BitVec 32 := Scalar.extui v36
  let v38 : BitVec 32 := Scalar.subi v35 v37
  let c0_i32_17 : BitVec 32 := 0#32
  let v39 : BitVec 1 := Scalar.cmpi .sgt c2048_i32_14 c0_i32_17
  let v40 : BitVec 32 := Scalar.extui v39
  let c0_i32_18 : BitVec 32 := 0#32
  let v41 : BitVec 1 := Scalar.cmpi .slt c2048_i32_14 c0_i32_18
  let v42 : BitVec 32 := Scalar.extui v41
  let v43 : BitVec 32 := Scalar.subi v40 v42
  let v44 : BitVec 1 := Scalar.cmpi .ne v38 v43
  let v45 : BitVec 32 := Scalar.remsi v2 c2048_i32_14
  let c0_i32_19 : BitVec 32 := 0#32
  let v46 : BitVec 1 := Scalar.cmpi .ne v45 c0_i32_19
  let v47 : BitVec 1 := Scalar.andi v44 v46
  let c1_i32_20 : BitVec 32 := 1#32
  let v48 : BitVec 32 := Scalar.subi v33 c1_i32_20
  let v49 : BitVec 32 := Scalar.select v47 v48 v33
  let c2048_i32_21 : BitVec 32 := 2048#32
  let v50 : BitVec 32 := Scalar.muli v49 c2048_i32_21
  let c2048_i32_22 : BitVec 32 := 2048#32
  let c0_i32_23 : BitVec 32 := 0#32
  let v51 : BitVec 1 := Scalar.cmpi .eq c2048_i32_22 c0_i32_23
  let c1_i32_24 : BitVec 32 := 1#32
  let v52 : BitVec 32 := Scalar.select v51 c1_i32_24 c2048_i32_22
  let v53 : BitVec 32 := Scalar.remsi v3 v52
  let c0_i32_25 : BitVec 32 := 0#32
  let v54 : BitVec 1 := Scalar.cmpi .ne v53 c0_i32_25
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c1024_i32_28 : BitVec 32 := 1024#32
  let v62 : BitVec 32 := Scalar.divsi v32 c1024_i32_28
  let c0_i32_29 : BitVec 32 := 0#32
  let v63 : BitVec 1 := Scalar.cmpi .sgt v32 c0_i32_29
  let v64 : BitVec 32 := Scalar.extui v63
  let c0_i32_30 : BitVec 32 := 0#32
  let v65 : BitVec 1 := Scalar.cmpi .slt v32 c0_i32_30
  let v66 : BitVec 32 := Scalar.extui v65
  let v67 : BitVec 32 := Scalar.subi v64 v66
  let c0_i32_31 : BitVec 32 := 0#32
  let v68 : BitVec 1 := Scalar.cmpi .sgt c1024_i32_28 c0_i32_31
  let v69 : BitVec 32 := Scalar.extui v68
  let c0_i32_32 : BitVec 32 := 0#32
  let v70 : BitVec 1 := Scalar.cmpi .slt c1024_i32_28 c0_i32_32
  let v71 : BitVec 32 := Scalar.extui v70
  let v72 : BitVec 32 := Scalar.subi v69 v71
  let v73 : BitVec 1 := Scalar.cmpi .ne v67 v72
  let v74 : BitVec 32 := Scalar.remsi v32 c1024_i32_28
  let c0_i32_33 : BitVec 32 := 0#32
  let v75 : BitVec 1 := Scalar.cmpi .ne v74 c0_i32_33
  let v76 : BitVec 1 := Scalar.andi v73 v75
  let c1_i32_34 : BitVec 32 := 1#32
  let v77 : BitVec 32 := Scalar.subi v62 c1_i32_34
  let v78 : BitVec 32 := Scalar.select v76 v77 v62
  let c2048_i32_35 : BitVec 32 := 2048#32
  let v79 : BitVec 32 := Scalar.divsi v61 c2048_i32_35
  let c0_i32_36 : BitVec 32 := 0#32
  let v80 : BitVec 1 := Scalar.cmpi .sgt v61 c0_i32_36
  let v81 : BitVec 32 := Scalar.extui v80
  let c0_i32_37 : BitVec 32 := 0#32
  let v82 : BitVec 1 := Scalar.cmpi .slt v61 c0_i32_37
  let v83 : BitVec 32 := Scalar.extui v82
  let v84 : BitVec 32 := Scalar.subi v81 v83
  let c0_i32_38 : BitVec 32 := 0#32
  let v85 : BitVec 1 := Scalar.cmpi .sgt c2048_i32_35 c0_i32_38
  let v86 : BitVec 32 := Scalar.extui v85
  let c0_i32_39 : BitVec 32 := 0#32
  let v87 : BitVec 1 := Scalar.cmpi .slt c2048_i32_35 c0_i32_39
  let v88 : BitVec 32 := Scalar.extui v87
  let v89 : BitVec 32 := Scalar.subi v86 v88
  let v90 : BitVec 1 := Scalar.cmpi .ne v84 v89
  let v91 : BitVec 32 := Scalar.remsi v61 c2048_i32_35
  let c0_i32_40 : BitVec 32 := 0#32
  let v92 : BitVec 1 := Scalar.cmpi .ne v91 c0_i32_40
  let v93 : BitVec 1 := Scalar.andi v90 v92
  let c1_i32_41 : BitVec 32 := 1#32
  let v94 : BitVec 32 := Scalar.subi v79 c1_i32_41
  let v95 : BitVec 32 := Scalar.select v93 v94 v79
  let c0_i32_42 : BitVec 32 := 0#32
  ![v21.toNat, v78.toNat, v95.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let c1024_i32 : BitVec 32 := 1024#32
  let v2 : BitVec 32 := Scalar.muli arg1 c1024_i32
  let c2048_i32 : BitVec 32 := 2048#32
  let v3 : BitVec 32 := Scalar.muli v1 c2048_i32
  let c2048_i32_0 : BitVec 32 := 2048#32
  let v4 : BitVec 32 := Scalar.divsi v3 c2048_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32_0 c0_i32_2
  let v11 : BitVec 32 := Scalar.extui v10
  let c0_i32_3 : BitVec 32 := 0#32
  let v12 : BitVec 1 := Scalar.cmpi .slt c2048_i32_0 c0_i32_3
  let v13 : BitVec 32 := Scalar.extui v12
  let v14 : BitVec 32 := Scalar.subi v11 v13
  let v15 : BitVec 1 := Scalar.cmpi .ne v9 v14
  let v16 : BitVec 32 := Scalar.remsi v3 c2048_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let v21 : BitVec 32 := Scalar.addi c0_i32_6 v20
  let c2048_i32_7 : BitVec 32 := 2048#32
  let c0_i32_8 : BitVec 32 := 0#32
  let v22 : BitVec 1 := Scalar.cmpi .eq c2048_i32_7 c0_i32_8
  let c1_i32_9 : BitVec 32 := 1#32
  let v23 : BitVec 32 := Scalar.select v22 c1_i32_9 c2048_i32_7
  let v24 : BitVec 32 := Scalar.remsi v2 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let c1024_i32_13 : BitVec 32 := 1024#32
  let v32 : BitVec 32 := Scalar.addi c1024_i32_13 v31
  let c2048_i32_14 : BitVec 32 := 2048#32
  let v33 : BitVec 32 := Scalar.divsi v2 c2048_i32_14
  let c0_i32_15 : BitVec 32 := 0#32
  let v34 : BitVec 1 := Scalar.cmpi .sgt v2 c0_i32_15
  let v35 : BitVec 32 := Scalar.extui v34
  let c0_i32_16 : BitVec 32 := 0#32
  let v36 : BitVec 1 := Scalar.cmpi .slt v2 c0_i32_16
  let v37 : BitVec 32 := Scalar.extui v36
  let v38 : BitVec 32 := Scalar.subi v35 v37
  let c0_i32_17 : BitVec 32 := 0#32
  let v39 : BitVec 1 := Scalar.cmpi .sgt c2048_i32_14 c0_i32_17
  let v40 : BitVec 32 := Scalar.extui v39
  let c0_i32_18 : BitVec 32 := 0#32
  let v41 : BitVec 1 := Scalar.cmpi .slt c2048_i32_14 c0_i32_18
  let v42 : BitVec 32 := Scalar.extui v41
  let v43 : BitVec 32 := Scalar.subi v40 v42
  let v44 : BitVec 1 := Scalar.cmpi .ne v38 v43
  let v45 : BitVec 32 := Scalar.remsi v2 c2048_i32_14
  let c0_i32_19 : BitVec 32 := 0#32
  let v46 : BitVec 1 := Scalar.cmpi .ne v45 c0_i32_19
  let v47 : BitVec 1 := Scalar.andi v44 v46
  let c1_i32_20 : BitVec 32 := 1#32
  let v48 : BitVec 32 := Scalar.subi v33 c1_i32_20
  let v49 : BitVec 32 := Scalar.select v47 v48 v33
  let c2048_i32_21 : BitVec 32 := 2048#32
  let v50 : BitVec 32 := Scalar.muli v49 c2048_i32_21
  let c2048_i32_22 : BitVec 32 := 2048#32
  let c0_i32_23 : BitVec 32 := 0#32
  let v51 : BitVec 1 := Scalar.cmpi .eq c2048_i32_22 c0_i32_23
  let c1_i32_24 : BitVec 32 := 1#32
  let v52 : BitVec 32 := Scalar.select v51 c1_i32_24 c2048_i32_22
  let v53 : BitVec 32 := Scalar.remsi v3 v52
  let c0_i32_25 : BitVec 32 := 0#32
  let v54 : BitVec 1 := Scalar.cmpi .ne v53 c0_i32_25
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c1024_i32_28 : BitVec 32 := 1024#32
  let v62 : BitVec 32 := Scalar.divsi v32 c1024_i32_28
  let c0_i32_29 : BitVec 32 := 0#32
  let v63 : BitVec 1 := Scalar.cmpi .sgt v32 c0_i32_29
  let v64 : BitVec 32 := Scalar.extui v63
  let c0_i32_30 : BitVec 32 := 0#32
  let v65 : BitVec 1 := Scalar.cmpi .slt v32 c0_i32_30
  let v66 : BitVec 32 := Scalar.extui v65
  let v67 : BitVec 32 := Scalar.subi v64 v66
  let c0_i32_31 : BitVec 32 := 0#32
  let v68 : BitVec 1 := Scalar.cmpi .sgt c1024_i32_28 c0_i32_31
  let v69 : BitVec 32 := Scalar.extui v68
  let c0_i32_32 : BitVec 32 := 0#32
  let v70 : BitVec 1 := Scalar.cmpi .slt c1024_i32_28 c0_i32_32
  let v71 : BitVec 32 := Scalar.extui v70
  let v72 : BitVec 32 := Scalar.subi v69 v71
  let v73 : BitVec 1 := Scalar.cmpi .ne v67 v72
  let v74 : BitVec 32 := Scalar.remsi v32 c1024_i32_28
  let c0_i32_33 : BitVec 32 := 0#32
  let v75 : BitVec 1 := Scalar.cmpi .ne v74 c0_i32_33
  let v76 : BitVec 1 := Scalar.andi v73 v75
  let c1_i32_34 : BitVec 32 := 1#32
  let v77 : BitVec 32 := Scalar.subi v62 c1_i32_34
  let v78 : BitVec 32 := Scalar.select v76 v77 v62
  let c2048_i32_35 : BitVec 32 := 2048#32
  let v79 : BitVec 32 := Scalar.divsi v61 c2048_i32_35
  let c0_i32_36 : BitVec 32 := 0#32
  let v80 : BitVec 1 := Scalar.cmpi .sgt v61 c0_i32_36
  let v81 : BitVec 32 := Scalar.extui v80
  let c0_i32_37 : BitVec 32 := 0#32
  let v82 : BitVec 1 := Scalar.cmpi .slt v61 c0_i32_37
  let v83 : BitVec 32 := Scalar.extui v82
  let v84 : BitVec 32 := Scalar.subi v81 v83
  let c0_i32_38 : BitVec 32 := 0#32
  let v85 : BitVec 1 := Scalar.cmpi .sgt c2048_i32_35 c0_i32_38
  let v86 : BitVec 32 := Scalar.extui v85
  let c0_i32_39 : BitVec 32 := 0#32
  let v87 : BitVec 1 := Scalar.cmpi .slt c2048_i32_35 c0_i32_39
  let v88 : BitVec 32 := Scalar.extui v87
  let v89 : BitVec 32 := Scalar.subi v86 v88
  let v90 : BitVec 1 := Scalar.cmpi .ne v84 v89
  let v91 : BitVec 32 := Scalar.remsi v61 c2048_i32_35
  let c0_i32_40 : BitVec 32 := 0#32
  let v92 : BitVec 1 := Scalar.cmpi .ne v91 c0_i32_40
  let v93 : BitVec 1 := Scalar.andi v90 v92
  let c1_i32_41 : BitVec 32 := 1#32
  let v94 : BitVec 32 := Scalar.subi v79 c1_i32_41
  let v95 : BitVec 32 := Scalar.select v93 v94 v79
  let c0_i32_42 : BitVec 32 := 0#32
  ![v21.toNat, v78.toNat, v95.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SsmInDgradUPlainIdeal.lean ====
abbrev S4096x4096 : Shape := ⟨2, ![4096, 4096]⟩
abbrev S4096x8192 : Shape := ⟨2, ![4096, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x8192, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩

abbrev nD : Nat := 1
abbrev τ : Topo := Topo.v7x

variable {F : FTy → Type} [FloatOps F]
-- ==== SsmInDgradGate.lean ====
abbrev S4096x4096 : Shape := ⟨2, ![4096, 4096]⟩
abbrev S4096x8192 : Shape := ⟨2, ![4096, 8192]⟩
abbrev S2x2048x4x2048 : Shape := ⟨4, ![2, 2048, 4, 2048]⟩
abbrev S4x2048x2x2048 : Shape := ⟨4, ![4, 2048, 2, 2048]⟩
abbrev S4x2048x4096 : Shape := ⟨3, ![4, 2048, 4096]⟩
abbrev S4x1024x4096 : Shape := ⟨3, ![4, 1024, 4096]⟩
abbrev S4x5120x4096 : Shape := ⟨3, ![4, 5120, 4096]⟩
abbrev S1024x4096 : Shape := ⟨2, ![1024, 4096]⟩
abbrev S1x1024x2048 : Shape := ⟨3, ![1, 1024, 2048]⟩
abbrev S1024x1024 : Shape := ⟨2, ![1024, 1024]⟩
abbrev S1024x2048 : Shape := ⟨2, ![1024, 2048]⟩

abbrev nBuf : Space → Nat
  | .hbm => 16
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x8192, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S4096x4096, .f32⟩
  | .hbm, ⟨7, _⟩ => ⟨S2x2048x4x2048, .f32⟩
  | .hbm, ⟨8, _⟩ => ⟨S4x2048x2x2048, .f32⟩
  | .hbm, ⟨9, _⟩ => ⟨S4x2048x4096, .f32⟩
  | .hbm, ⟨10, _⟩ => ⟨S4x1024x4096, .f32⟩
  | .hbm, ⟨11, _⟩ => ⟨S4x1024x4096, .f32⟩
  | .hbm, ⟨12, _⟩ => ⟨S4x1024x4096, .f32⟩
  | .hbm, ⟨13, _⟩ => ⟨S4x5120x4096, .f32⟩
  | .hbm, ⟨14, _⟩ => ⟨S4x5120x4096, .bf16⟩
  | .hbm, ⟨15, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c1024_i32 : BitVec 32 := 1024#32
  let v2 : BitVec 32 := Scalar.muli arg1 c1024_i32
  let c2048_i32 : BitVec 32 := 2048#32
  let v3 : BitVec 32 := Scalar.muli v1 c2048_i32
  let c2048_i32_0 : BitVec 32 := 2048#32
  let v4 : BitVec 32 := Scalar.divsi v3 c2048_i32_0
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c2048_i32_0 c0_i32_3
  let v11 : BitVec 32 := Scalar.extui v10
  let c0_i32_4 : BitVec 32 := 0#32
  let v12 : BitVec 1 := Scalar.cmpi .slt c2048_i32_0 c0_i32_4
  let v13 : BitVec 32 := Scalar.extui v12
  let v14 : BitVec 32 := Scalar.subi v11 v13
  let v15 : BitVec 1 := Scalar.cmpi .ne v9 v14
  let v16 : BitVec 32 := Scalar.remsi v3 c2048_i32_0
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c2_i32_6 : BitVec 32 := 2#32
  let v21 : BitVec 32 := Scalar.addi c2_i32_6 v20
  let c2048_i32_7 : BitVec 32 := 2048#32
  let c0_i32_8 : BitVec 32 := 0#32
  let v22 : BitVec 1 := Scalar.cmpi .eq c2048_i32_7 c0_i32_8
  let c1_i32_9 : BitVec 32 := 1#32
  let v23 : BitVec 32 := Scalar.select v22 c1_i32_9 c2048_i32_7
  let v24 : BitVec 32 := Scalar.remsi v2 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let c1024_i32_13 : BitVec 32 := 1024#32
  let v32 : BitVec 32 := Scalar.addi c1024_i32_13 v31
  let c2048_i32_14 : BitVec 32 := 2048#32
  let v33 : BitVec 32 := Scalar.divsi v2 c2048_i32_14
  let c0_i32_15 : BitVec 32 := 0#32
  let v34 : BitVec 1 := Scalar.cmpi .sgt v2 c0_i32_15
  let v35 : BitVec 32 := Scalar.extui v34
  let c0_i32_16 : BitVec 32 := 0#32
  let v36 : BitVec 1 := Scalar.cmpi .slt v2 c0_i32_16
  let v37 : BitVec 32 := Scalar.extui v36
  let v38 : BitVec 32 := Scalar.subi v35 v37
  let c0_i32_17 : BitVec 32 := 0#32
  let v39 : BitVec 1 := Scalar.cmpi .sgt c2048_i32_14 c0_i32_17
  let v40 : BitVec 32 := Scalar.extui v39
  let c0_i32_18 : BitVec 32 := 0#32
  let v41 : BitVec 1 := Scalar.cmpi .slt c2048_i32_14 c0_i32_18
  let v42 : BitVec 32 := Scalar.extui v41
  let v43 : BitVec 32 := Scalar.subi v40 v42
  let v44 : BitVec 1 := Scalar.cmpi .ne v38 v43
  let v45 : BitVec 32 := Scalar.remsi v2 c2048_i32_14
  let c0_i32_19 : BitVec 32 := 0#32
  let v46 : BitVec 1 := Scalar.cmpi .ne v45 c0_i32_19
  let v47 : BitVec 1 := Scalar.andi v44 v46
  let c1_i32_20 : BitVec 32 := 1#32
  let v48 : BitVec 32 := Scalar.subi v33 c1_i32_20
  let v49 : BitVec 32 := Scalar.select v47 v48 v33
  let c2048_i32_21 : BitVec 32 := 2048#32
  let v50 : BitVec 32 := Scalar.muli v49 c2048_i32_21
  let c2048_i32_22 : BitVec 32 := 2048#32
  let c0_i32_23 : BitVec 32 := 0#32
  let v51 : BitVec 1 := Scalar.cmpi .eq c2048_i32_22 c0_i32_23
  let c1_i32_24 : BitVec 32 := 1#32
  let v52 : BitVec 32 := Scalar.select v51 c1_i32_24 c2048_i32_22
  let v53 : BitVec 32 := Scalar.remsi v3 v52
  let c0_i32_25 : BitVec 32 := 0#32
  let v54 : BitVec 1 := Scalar.cmpi .ne v53 c0_i32_25
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c1024_i32_28 : BitVec 32 := 1024#32
  let v62 : BitVec 32 := Scalar.divsi v32 c1024_i32_28
  let c0_i32_29 : BitVec 32 := 0#32
  let v63 : BitVec 1 := Scalar.cmpi .sgt v32 c0_i32_29
  let v64 : BitVec 32 := Scalar.extui v63
  let c0_i32_30 : BitVec 32 := 0#32
  let v65 : BitVec 1 := Scalar.cmpi .slt v32 c0_i32_30
  let v66 : BitVec 32 := Scalar.extui v65
  let v67 : BitVec 32 := Scalar.subi v64 v66
  let c0_i32_31 : BitVec 32 := 0#32
  let v68 : BitVec 1 := Scalar.cmpi .sgt c1024_i32_28 c0_i32_31
  let v69 : BitVec 32 := Scalar.extui v68
  let c0_i32_32 : BitVec 32 := 0#32
  let v70 : BitVec 1 := Scalar.cmpi .slt c1024_i32_28 c0_i32_32
  let v71 : BitVec 32 := Scalar.extui v70
  let v72 : BitVec 32 := Scalar.subi v69 v71
  let v73 : BitVec 1 := Scalar.cmpi .ne v67 v72
  let v74 : BitVec 32 := Scalar.remsi v32 c1024_i32_28
  let c0_i32_33 : BitVec 32 := 0#32
  let v75 : BitVec 1 := Scalar.cmpi .ne v74 c0_i32_33
  let v76 : BitVec 1 := Scalar.andi v73 v75
  let c1_i32_34 : BitVec 32 := 1#32
  let v77 : BitVec 32 := Scalar.subi v62 c1_i32_34
  let v78 : BitVec 32 := Scalar.select v76 v77 v62
  let c2048_i32_35 : BitVec 32 := 2048#32
  let v79 : BitVec 32 := Scalar.divsi v61 c2048_i32_35
  let c0_i32_36 : BitVec 32 := 0#32
  let v80 : BitVec 1 := Scalar.cmpi .sgt v61 c0_i32_36
  let v81 : BitVec 32 := Scalar.extui v80
  let c0_i32_37 : BitVec 32 := 0#32
  let v82 : BitVec 1 := Scalar.cmpi .slt v61 c0_i32_37
  let v83 : BitVec 32 := Scalar.extui v82
  let v84 : BitVec 32 := Scalar.subi v81 v83
  let c0_i32_38 : BitVec 32 := 0#32
  let v85 : BitVec 1 := Scalar.cmpi .sgt c2048_i32_35 c0_i32_38
  let v86 : BitVec 32 := Scalar.extui v85
  let c0_i32_39 : BitVec 32 := 0#32
  let v87 : BitVec 1 := Scalar.cmpi .slt c2048_i32_35 c0_i32_39
  let v88 : BitVec 32 := Scalar.extui v87
  let v89 : BitVec 32 := Scalar.subi v86 v88
  let v90 : BitVec 1 := Scalar.cmpi .ne v84 v89
  let v91 : BitVec 32 := Scalar.remsi v61 c2048_i32_35
  let c0_i32_40 : BitVec 32 := 0#32
  let v92 : BitVec 1 := Scalar.cmpi .ne v91 c0_i32_40
  let v93 : BitVec 1 := Scalar.andi v90 v92
  let c1_i32_41 : BitVec 32 := 1#32
  let v94 : BitVec 32 := Scalar.subi v79 c1_i32_41
  let v95 : BitVec 32 := Scalar.select v93 v94 v79
  let c0_i32_42 : BitVec 32 := 0#32
  ![v21.toNat, v78.toNat, v95.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let c1024_i32 : BitVec 32 := 1024#32
  let v2 : BitVec 32 := Scalar.muli arg1 c1024_i32
  let c2048_i32 : BitVec 32 := 2048#32
  let v3 : BitVec 32 := Scalar.muli v1 c2048_i32
  let c2048_i32_0 : BitVec 32 := 2048#32
  let v4 : BitVec 32 := Scalar.divsi v3 c2048_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32_0 c0_i32_2
  let v11 : BitVec 32 := Scalar.extui v10
  let c0_i32_3 : BitVec 32 := 0#32
  let v12 : BitVec 1 := Scalar.cmpi .slt c2048_i32_0 c0_i32_3
  let v13 : BitVec 32 := Scalar.extui v12
  let v14 : BitVec 32 := Scalar.subi v11 v13
  let v15 : BitVec 1 := Scalar.cmpi .ne v9 v14
  let v16 : BitVec 32 := Scalar.remsi v3 c2048_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c2_i32_6 : BitVec 32 := 2#32
  let v21 : BitVec 32 := Scalar.addi c2_i32_6 v20
  let c2048_i32_7 : BitVec 32 := 2048#32
  let c0_i32_8 : BitVec 32 := 0#32
  let v22 : BitVec 1 := Scalar.cmpi .eq c2048_i32_7 c0_i32_8
  let c1_i32_9 : BitVec 32 := 1#32
  let v23 : BitVec 32 := Scalar.select v22 c1_i32_9 c2048_i32_7
  let v24 : BitVec 32 := Scalar.remsi v2 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let c1024_i32_13 : BitVec 32 := 1024#32
  let v32 : BitVec 32 := Scalar.addi c1024_i32_13 v31
  let c2048_i32_14 : BitVec 32 := 2048#32
  let v33 : BitVec 32 := Scalar.divsi v2 c2048_i32_14
  let c0_i32_15 : BitVec 32 := 0#32
  let v34 : BitVec 1 := Scalar.cmpi .sgt v2 c0_i32_15
  let v35 : BitVec 32 := Scalar.extui v34
  let c0_i32_16 : BitVec 32 := 0#32
  let v36 : BitVec 1 := Scalar.cmpi .slt v2 c0_i32_16
  let v37 : BitVec 32 := Scalar.extui v36
  let v38 : BitVec 32 := Scalar.subi v35 v37
  let c0_i32_17 : BitVec 32 := 0#32
  let v39 : BitVec 1 := Scalar.cmpi .sgt c2048_i32_14 c0_i32_17
  let v40 : BitVec 32 := Scalar.extui v39
  let c0_i32_18 : BitVec 32 := 0#32
  let v41 : BitVec 1 := Scalar.cmpi .slt c2048_i32_14 c0_i32_18
  let v42 : BitVec 32 := Scalar.extui v41
  let v43 : BitVec 32 := Scalar.subi v40 v42
  let v44 : BitVec 1 := Scalar.cmpi .ne v38 v43
  let v45 : BitVec 32 := Scalar.remsi v2 c2048_i32_14
  let c0_i32_19 : BitVec 32 := 0#32
  let v46 : BitVec 1 := Scalar.cmpi .ne v45 c0_i32_19
  let v47 : BitVec 1 := Scalar.andi v44 v46
  let c1_i32_20 : BitVec 32 := 1#32
  let v48 : BitVec 32 := Scalar.subi v33 c1_i32_20
  let v49 : BitVec 32 := Scalar.select v47 v48 v33
  let c2048_i32_21 : BitVec 32 := 2048#32
  let v50 : BitVec 32 := Scalar.muli v49 c2048_i32_21
  let c2048_i32_22 : BitVec 32 := 2048#32
  let c0_i32_23 : BitVec 32 := 0#32
  let v51 : BitVec 1 := Scalar.cmpi .eq c2048_i32_22 c0_i32_23
  let c1_i32_24 : BitVec 32 := 1#32
  let v52 : BitVec 32 := Scalar.select v51 c1_i32_24 c2048_i32_22
  let v53 : BitVec 32 := Scalar.remsi v3 v52
  let c0_i32_25 : BitVec 32 := 0#32
  let v54 : BitVec 1 := Scalar.cmpi .ne v53 c0_i32_25
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c1024_i32_28 : BitVec 32 := 1024#32
  let v62 : BitVec 32 := Scalar.divsi v32 c1024_i32_28
  let c0_i32_29 : BitVec 32 := 0#32
  let v63 : BitVec 1 := Scalar.cmpi .sgt v32 c0_i32_29
  let v64 : BitVec 32 := Scalar.extui v63
  let c0_i32_30 : BitVec 32 := 0#32
  let v65 : BitVec 1 := Scalar.cmpi .slt v32 c0_i32_30
  let v66 : BitVec 32 := Scalar.extui v65
  let v67 : BitVec 32 := Scalar.subi v64 v66
  let c0_i32_31 : BitVec 32 := 0#32
  let v68 : BitVec 1 := Scalar.cmpi .sgt c1024_i32_28 c0_i32_31
  let v69 : BitVec 32 := Scalar.extui v68
  let c0_i32_32 : BitVec 32 := 0#32
  let v70 : BitVec 1 := Scalar.cmpi .slt c1024_i32_28 c0_i32_32
  let v71 : BitVec 32 := Scalar.extui v70
  let v72 : BitVec 32 := Scalar.subi v69 v71
  let v73 : BitVec 1 := Scalar.cmpi .ne v67 v72
  let v74 : BitVec 32 := Scalar.remsi v32 c1024_i32_28
  let c0_i32_33 : BitVec 32 := 0#32
  let v75 : BitVec 1 := Scalar.cmpi .ne v74 c0_i32_33
  let v76 : BitVec 1 := Scalar.andi v73 v75
  let c1_i32_34 : BitVec 32 := 1#32
  let v77 : BitVec 32 := Scalar.subi v62 c1_i32_34
  let v78 : BitVec 32 := Scalar.select v76 v77 v62
  let c2048_i32_35 : BitVec 32 := 2048#32
  let v79 : BitVec 32 := Scalar.divsi v61 c2048_i32_35
  let c0_i32_36 : BitVec 32 := 0#32
  let v80 : BitVec 1 := Scalar.cmpi .sgt v61 c0_i32_36
  let v81 : BitVec 32 := Scalar.extui v80
  let c0_i32_37 : BitVec 32 := 0#32
  let v82 : BitVec 1 := Scalar.cmpi .slt v61 c0_i32_37
  let v83 : BitVec 32 := Scalar.extui v82
  let v84 : BitVec 32 := Scalar.subi v81 v83
  let c0_i32_38 : BitVec 32 := 0#32
  let v85 : BitVec 1 := Scalar.cmpi .sgt c2048_i32_35 c0_i32_38
  let v86 : BitVec 32 := Scalar.extui v85
  let c0_i32_39 : BitVec 32 := 0#32
  let v87 : BitVec 1 := Scalar.cmpi .slt c2048_i32_35 c0_i32_39
  let v88 : BitVec 32 := Scalar.extui v87
  let v89 : BitVec 32 := Scalar.subi v86 v88
  let v90 : BitVec 1 := Scalar.cmpi .ne v84 v89
  let v91 : BitVec 32 := Scalar.remsi v61 c2048_i32_35
  let c0_i32_40 : BitVec 32 := 0#32
  let v92 : BitVec 1 := Scalar.cmpi .ne v91 c0_i32_40
  let v93 : BitVec 1 := Scalar.andi v90 v92
  let c1_i32_41 : BitVec 32 := 1#32
  let v94 : BitVec 32 := Scalar.subi v79 c1_i32_41
  let v95 : BitVec 32 := Scalar.select v93 v94 v79
  let c0_i32_42 : BitVec 32 := 0#32
  ![v21.toNat, v78.toNat, v95.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== SsmInDgradGateIdeal.lean ====
abbrev S4096x4096 : Shape := ⟨2, ![4096, 4096]⟩
abbrev S4096x8192 : Shape := ⟨2, ![4096, 8192]⟩
abbrev S2x2048x4x2048 : Shape := ⟨4, ![2, 2048, 4, 2048]⟩
abbrev S4x2048x2x2048 : Shape := ⟨4, ![4, 2048, 2, 2048]⟩
abbrev S4x2048x4096 : Shape := ⟨3, ![4, 2048, 4096]⟩
abbrev S4x1024x4096 : Shape := ⟨3, ![4, 1024, 4096]⟩
abbrev S4x5120x4096 : Shape := ⟨3, ![4, 5120, 4096]⟩
abbrev S1024x4096 : Shape := ⟨2, ![1024, 4096]⟩
abbrev S1x1024x2048 : Shape := ⟨3, ![1, 1024, 2048]⟩
abbrev S1024x1024 : Shape := ⟨2, ![1024, 1024]⟩
abbrev S1024x2048 : Shape := ⟨2, ![1024, 2048]⟩

abbrev nBuf : Space → Nat
  | .hbm => 16
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x8192, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S4096x4096, .f32⟩
  | .hbm, ⟨7, _⟩ => ⟨S2x2048x4x2048, .f32⟩
  | .hbm, ⟨8, _⟩ => ⟨S4x2048x2x2048, .f32⟩
  | .hbm, ⟨9, _⟩ => ⟨S4x2048x4096, .f32⟩
  | .hbm, ⟨10, _⟩ => ⟨S4x1024x4096, .f32⟩
  | .hbm, ⟨11, _⟩ => ⟨S4x1024x4096, .f32⟩
  | .hbm, ⟨12, _⟩ => ⟨S4x1024x4096, .f32⟩
  | .hbm, ⟨13, _⟩ => ⟨S4x5120x4096, .f32⟩
  | .hbm, ⟨14, _⟩ => ⟨S4x5120x4096, .bf16⟩
  | .hbm, ⟨15, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c1024_i32 : BitVec 32 := 1024#32
  let v2 : BitVec 32 := Scalar.muli arg1 c1024_i32
  let c2048_i32 : BitVec 32 := 2048#32
  let v3 : BitVec 32 := Scalar.muli v1 c2048_i32
  let c2048_i32_0 : BitVec 32 := 2048#32
  let v4 : BitVec 32 := Scalar.divsi v3 c2048_i32_0
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c2048_i32_0 c0_i32_3
  let v11 : BitVec 32 := Scalar.extui v10
  let c0_i32_4 : BitVec 32 := 0#32
  let v12 : BitVec 1 := Scalar.cmpi .slt c2048_i32_0 c0_i32_4
  let v13 : BitVec 32 := Scalar.extui v12
  let v14 : BitVec 32 := Scalar.subi v11 v13
  let v15 : BitVec 1 := Scalar.cmpi .ne v9 v14
  let v16 : BitVec 32 := Scalar.remsi v3 c2048_i32_0
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c2_i32_6 : BitVec 32 := 2#32
  let v21 : BitVec 32 := Scalar.addi c2_i32_6 v20
  let c2048_i32_7 : BitVec 32 := 2048#32
  let c0_i32_8 : BitVec 32 := 0#32
  let v22 : BitVec 1 := Scalar.cmpi .eq c2048_i32_7 c0_i32_8
  let c1_i32_9 : BitVec 32 := 1#32
  let v23 : BitVec 32 := Scalar.select v22 c1_i32_9 c2048_i32_7
  let v24 : BitVec 32 := Scalar.remsi v2 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let c1024_i32_13 : BitVec 32 := 1024#32
  let v32 : BitVec 32 := Scalar.addi c1024_i32_13 v31
  let c2048_i32_14 : BitVec 32 := 2048#32
  let v33 : BitVec 32 := Scalar.divsi v2 c2048_i32_14
  let c0_i32_15 : BitVec 32 := 0#32
  let v34 : BitVec 1 := Scalar.cmpi .sgt v2 c0_i32_15
  let v35 : BitVec 32 := Scalar.extui v34
  let c0_i32_16 : BitVec 32 := 0#32
  let v36 : BitVec 1 := Scalar.cmpi .slt v2 c0_i32_16
  let v37 : BitVec 32 := Scalar.extui v36
  let v38 : BitVec 32 := Scalar.subi v35 v37
  let c0_i32_17 : BitVec 32 := 0#32
  let v39 : BitVec 1 := Scalar.cmpi .sgt c2048_i32_14 c0_i32_17
  let v40 : BitVec 32 := Scalar.extui v39
  let c0_i32_18 : BitVec 32 := 0#32
  let v41 : BitVec 1 := Scalar.cmpi .slt c2048_i32_14 c0_i32_18
  let v42 : BitVec 32 := Scalar.extui v41
  let v43 : BitVec 32 := Scalar.subi v40 v42
  let v44 : BitVec 1 := Scalar.cmpi .ne v38 v43
  let v45 : BitVec 32 := Scalar.remsi v2 c2048_i32_14
  let c0_i32_19 : BitVec 32 := 0#32
  let v46 : BitVec 1 := Scalar.cmpi .ne v45 c0_i32_19
  let v47 : BitVec 1 := Scalar.andi v44 v46
  let c1_i32_20 : BitVec 32 := 1#32
  let v48 : BitVec 32 := Scalar.subi v33 c1_i32_20
  let v49 : BitVec 32 := Scalar.select v47 v48 v33
  let c2048_i32_21 : BitVec 32 := 2048#32
  let v50 : BitVec 32 := Scalar.muli v49 c2048_i32_21
  let c2048_i32_22 : BitVec 32 := 2048#32
  let c0_i32_23 : BitVec 32 := 0#32
  let v51 : BitVec 1 := Scalar.cmpi .eq c2048_i32_22 c0_i32_23
  let c1_i32_24 : BitVec 32 := 1#32
  let v52 : BitVec 32 := Scalar.select v51 c1_i32_24 c2048_i32_22
  let v53 : BitVec 32 := Scalar.remsi v3 v52
  let c0_i32_25 : BitVec 32 := 0#32
  let v54 : BitVec 1 := Scalar.cmpi .ne v53 c0_i32_25
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c1024_i32_28 : BitVec 32 := 1024#32
  let v62 : BitVec 32 := Scalar.divsi v32 c1024_i32_28
  let c0_i32_29 : BitVec 32 := 0#32
  let v63 : BitVec 1 := Scalar.cmpi .sgt v32 c0_i32_29
  let v64 : BitVec 32 := Scalar.extui v63
  let c0_i32_30 : BitVec 32 := 0#32
  let v65 : BitVec 1 := Scalar.cmpi .slt v32 c0_i32_30
  let v66 : BitVec 32 := Scalar.extui v65
  let v67 : BitVec 32 := Scalar.subi v64 v66
  let c0_i32_31 : BitVec 32 := 0#32
  let v68 : BitVec 1 := Scalar.cmpi .sgt c1024_i32_28 c0_i32_31
  let v69 : BitVec 32 := Scalar.extui v68
  let c0_i32_32 : BitVec 32 := 0#32
  let v70 : BitVec 1 := Scalar.cmpi .slt c1024_i32_28 c0_i32_32
  let v71 : BitVec 32 := Scalar.extui v70
  let v72 : BitVec 32 := Scalar.subi v69 v71
  let v73 : BitVec 1 := Scalar.cmpi .ne v67 v72
  let v74 : BitVec 32 := Scalar.remsi v32 c1024_i32_28
  let c0_i32_33 : BitVec 32 := 0#32
  let v75 : BitVec 1 := Scalar.cmpi .ne v74 c0_i32_33
  let v76 : BitVec 1 := Scalar.andi v73 v75
  let c1_i32_34 : BitVec 32 := 1#32
  let v77 : BitVec 32 := Scalar.subi v62 c1_i32_34
  let v78 : BitVec 32 := Scalar.select v76 v77 v62
  let c2048_i32_35 : BitVec 32 := 2048#32
  let v79 : BitVec 32 := Scalar.divsi v61 c2048_i32_35
  let c0_i32_36 : BitVec 32 := 0#32
  let v80 : BitVec 1 := Scalar.cmpi .sgt v61 c0_i32_36
  let v81 : BitVec 32 := Scalar.extui v80
  let c0_i32_37 : BitVec 32 := 0#32
  let v82 : BitVec 1 := Scalar.cmpi .slt v61 c0_i32_37
  let v83 : BitVec 32 := Scalar.extui v82
  let v84 : BitVec 32 := Scalar.subi v81 v83
  let c0_i32_38 : BitVec 32 := 0#32
  let v85 : BitVec 1 := Scalar.cmpi .sgt c2048_i32_35 c0_i32_38
  let v86 : BitVec 32 := Scalar.extui v85
  let c0_i32_39 : BitVec 32 := 0#32
  let v87 : BitVec 1 := Scalar.cmpi .slt c2048_i32_35 c0_i32_39
  let v88 : BitVec 32 := Scalar.extui v87
  let v89 : BitVec 32 := Scalar.subi v86 v88
  let v90 : BitVec 1 := Scalar.cmpi .ne v84 v89
  let v91 : BitVec 32 := Scalar.remsi v61 c2048_i32_35
  let c0_i32_40 : BitVec 32 := 0#32
  let v92 : BitVec 1 := Scalar.cmpi .ne v91 c0_i32_40
  let v93 : BitVec 1 := Scalar.andi v90 v92
  let c1_i32_41 : BitVec 32 := 1#32
  let v94 : BitVec 32 := Scalar.subi v79 c1_i32_41
  let v95 : BitVec 32 := Scalar.select v93 v94 v79
  let c0_i32_42 : BitVec 32 := 0#32
  ![v21.toNat, v78.toNat, v95.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let c1024_i32 : BitVec 32 := 1024#32
  let v2 : BitVec 32 := Scalar.muli arg1 c1024_i32
  let c2048_i32 : BitVec 32 := 2048#32
  let v3 : BitVec 32 := Scalar.muli v1 c2048_i32
  let c2048_i32_0 : BitVec 32 := 2048#32
  let v4 : BitVec 32 := Scalar.divsi v3 c2048_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32_0 c0_i32_2
  let v11 : BitVec 32 := Scalar.extui v10
  let c0_i32_3 : BitVec 32 := 0#32
  let v12 : BitVec 1 := Scalar.cmpi .slt c2048_i32_0 c0_i32_3
  let v13 : BitVec 32 := Scalar.extui v12
  let v14 : BitVec 32 := Scalar.subi v11 v13
  let v15 : BitVec 1 := Scalar.cmpi .ne v9 v14
  let v16 : BitVec 32 := Scalar.remsi v3 c2048_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c2_i32_6 : BitVec 32 := 2#32
  let v21 : BitVec 32 := Scalar.addi c2_i32_6 v20
  let c2048_i32_7 : BitVec 32 := 2048#32
  let c0_i32_8 : BitVec 32 := 0#32
  let v22 : BitVec 1 := Scalar.cmpi .eq c2048_i32_7 c0_i32_8
  let c1_i32_9 : BitVec 32 := 1#32
  let v23 : BitVec 32 := Scalar.select v22 c1_i32_9 c2048_i32_7
  let v24 : BitVec 32 := Scalar.remsi v2 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let c1024_i32_13 : BitVec 32 := 1024#32
  let v32 : BitVec 32 := Scalar.addi c1024_i32_13 v31
  let c2048_i32_14 : BitVec 32 := 2048#32
  let v33 : BitVec 32 := Scalar.divsi v2 c2048_i32_14
  let c0_i32_15 : BitVec 32 := 0#32
  let v34 : BitVec 1 := Scalar.cmpi .sgt v2 c0_i32_15
  let v35 : BitVec 32 := Scalar.extui v34
  let c0_i32_16 : BitVec 32 := 0#32
  let v36 : BitVec 1 := Scalar.cmpi .slt v2 c0_i32_16
  let v37 : BitVec 32 := Scalar.extui v36
  let v38 : BitVec 32 := Scalar.subi v35 v37
  let c0_i32_17 : BitVec 32 := 0#32
  let v39 : BitVec 1 := Scalar.cmpi .sgt c2048_i32_14 c0_i32_17
  let v40 : BitVec 32 := Scalar.extui v39
  let c0_i32_18 : BitVec 32 := 0#32
  let v41 : BitVec 1 := Scalar.cmpi .slt c2048_i32_14 c0_i32_18
  let v42 : BitVec 32 := Scalar.extui v41
  let v43 : BitVec 32 := Scalar.subi v40 v42
  let v44 : BitVec 1 := Scalar.cmpi .ne v38 v43
  let v45 : BitVec 32 := Scalar.remsi v2 c2048_i32_14
  let c0_i32_19 : BitVec 32 := 0#32
  let v46 : BitVec 1 := Scalar.cmpi .ne v45 c0_i32_19
  let v47 : BitVec 1 := Scalar.andi v44 v46
  let c1_i32_20 : BitVec 32 := 1#32
  let v48 : BitVec 32 := Scalar.subi v33 c1_i32_20
  let v49 : BitVec 32 := Scalar.select v47 v48 v33
  let c2048_i32_21 : BitVec 32 := 2048#32
  let v50 : BitVec 32 := Scalar.muli v49 c2048_i32_21
  let c2048_i32_22 : BitVec 32 := 2048#32
  let c0_i32_23 : BitVec 32 := 0#32
  let v51 : BitVec 1 := Scalar.cmpi .eq c2048_i32_22 c0_i32_23
  let c1_i32_24 : BitVec 32 := 1#32
  let v52 : BitVec 32 := Scalar.select v51 c1_i32_24 c2048_i32_22
  let v53 : BitVec 32 := Scalar.remsi v3 v52
  let c0_i32_25 : BitVec 32 := 0#32
  let v54 : BitVec 1 := Scalar.cmpi .ne v53 c0_i32_25
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c1024_i32_28 : BitVec 32 := 1024#32
  let v62 : BitVec 32 := Scalar.divsi v32 c1024_i32_28
  let c0_i32_29 : BitVec 32 := 0#32
  let v63 : BitVec 1 := Scalar.cmpi .sgt v32 c0_i32_29
  let v64 : BitVec 32 := Scalar.extui v63
  let c0_i32_30 : BitVec 32 := 0#32
  let v65 : BitVec 1 := Scalar.cmpi .slt v32 c0_i32_30
  let v66 : BitVec 32 := Scalar.extui v65
  let v67 : BitVec 32 := Scalar.subi v64 v66
  let c0_i32_31 : BitVec 32 := 0#32
  let v68 : BitVec 1 := Scalar.cmpi .sgt c1024_i32_28 c0_i32_31
  let v69 : BitVec 32 := Scalar.extui v68
  let c0_i32_32 : BitVec 32 := 0#32
  let v70 : BitVec 1 := Scalar.cmpi .slt c1024_i32_28 c0_i32_32
  let v71 : BitVec 32 := Scalar.extui v70
  let v72 : BitVec 32 := Scalar.subi v69 v71
  let v73 : BitVec 1 := Scalar.cmpi .ne v67 v72
  let v74 : BitVec 32 := Scalar.remsi v32 c1024_i32_28
  let c0_i32_33 : BitVec 32 := 0#32
  let v75 : BitVec 1 := Scalar.cmpi .ne v74 c0_i32_33
  let v76 : BitVec 1 := Scalar.andi v73 v75
  let c1_i32_34 : BitVec 32 := 1#32
  let v77 : BitVec 32 := Scalar.subi v62 c1_i32_34
  let v78 : BitVec 32 := Scalar.select v76 v77 v62
  let c2048_i32_35 : BitVec 32 := 2048#32
  let v79 : BitVec 32 := Scalar.divsi v61 c2048_i32_35
  let c0_i32_36 : BitVec 32 := 0#32
  let v80 : BitVec 1 := Scalar.cmpi .sgt v61 c0_i32_36
  let v81 : BitVec 32 := Scalar.extui v80
  let c0_i32_37 : BitVec 32 := 0#32
  let v82 : BitVec 1 := Scalar.cmpi .slt v61 c0_i32_37
  let v83 : BitVec 32 := Scalar.extui v82
  let v84 : BitVec 32 := Scalar.subi v81 v83
  let c0_i32_38 : BitVec 32 := 0#32
  let v85 : BitVec 1 := Scalar.cmpi .sgt c2048_i32_35 c0_i32_38
  let v86 : BitVec 32 := Scalar.extui v85
  let c0_i32_39 : BitVec 32 := 0#32
  let v87 : BitVec 1 := Scalar.cmpi .slt c2048_i32_35 c0_i32_39
  let v88 : BitVec 32 := Scalar.extui v87
  let v89 : BitVec 32 := Scalar.subi v86 v88
  let v90 : BitVec 1 := Scalar.cmpi .ne v84 v89
  let v91 : BitVec 32 := Scalar.remsi v61 c2048_i32_35
  let c0_i32_40 : BitVec 32 := 0#32
  let v92 : BitVec 1 := Scalar.cmpi .ne v91 c0_i32_40
  let v93 : BitVec 1 := Scalar.andi v90 v92
  let c1_i32_41 : BitVec 32 := 1#32
  let v94 : BitVec 32 := Scalar.subi v79 c1_i32_41
  let v95 : BitVec 32 := Scalar.select v93 v94 v79
  let c0_i32_42 : BitVec 32 := 0#32
  ![v21.toNat, v78.toNat, v95.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== SsmInDgradGatePlainIdeal.lean ====
abbrev S4096x4096 : Shape := ⟨2, ![4096, 4096]⟩
abbrev S4096x8192 : Shape := ⟨2, ![4096, 8192]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x8192, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩

abbrev nD : Nat := 1
abbrev τ : Topo := Topo.v7x

variable {F : FTy → Type} [FloatOps F]
-- ==== AttnInDgrad0.lean ====
abbrev S4096x4096 : Shape := ⟨2, ![4096, 4096]⟩
abbrev S4096x16384 : Shape := ⟨2, ![4096, 16384]⟩
abbrev S4096x4x4096 : Shape := ⟨3, ![4096, 4, 4096]⟩
abbrev S4x4096x4096 : Shape := ⟨3, ![4, 4096, 4096]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x4096, .bf16⟩
  | .hbm, ⟨3, _⟩ => ⟨S4096x4x4096, .f32⟩
  | .hbm, ⟨4, _⟩ => ⟨S4x4096x4096, .f32⟩
  | .hbm, ⟨5, _⟩ => ⟨S4x4096x4096, .bf16⟩
  | .hbm, ⟨6, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .f32⟩
  | .local _ .vmem, ⟨5, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c1024_i32 : BitVec 32 := 1024#32
  let v2 : BitVec 32 := Scalar.muli arg1 c1024_i32
  let c4096_i32 : BitVec 32 := 4096#32
  let v3 : BitVec 32 := Scalar.muli v1 c4096_i32
  let c1024_i32_0 : BitVec 32 := 1024#32
  let v4 : BitVec 32 := Scalar.divsi v2 c1024_i32_0
  let c0_i32_1 : BitVec 32 := 0#32
  let v5 : BitVec 1 := Scalar.cmpi .sgt v2 c0_i32_1
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c1024_i32_0 c0_i32_3
  let v11 : BitVec 32 := Scalar.extui v10
  let c0_i32_4 : BitVec 32 := 0#32
  let v12 : BitVec 1 := Scalar.cmpi .slt c1024_i32_0 c0_i32_4
  let v13 : BitVec 32 := Scalar.extui v12
  let v14 : BitVec 32 := Scalar.subi v11 v13
  let v15 : BitVec 1 := Scalar.cmpi .ne v9 v14
  let v16 : BitVec 32 := Scalar.remsi v2 c1024_i32_0
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c4096_i32_7 : BitVec 32 := 4096#32
  let v21 : BitVec 32 := Scalar.divsi v3 c4096_i32_7
  let c0_i32_8 : BitVec 32 := 0#32
  let v22 : BitVec 1 := Scalar.cmpi .sgt v3 c0_i32_8
  let v23 : BitVec 32 := Scalar.extui v22
  let c0_i32_9 : BitVec 32 := 0#32
  let v24 : BitVec 1 := Scalar.cmpi .slt v3 c0_i32_9
  let v25 : BitVec 32 := Scalar.extui v24
  let v26 : BitVec 32 := Scalar.subi v23 v25
  let c0_i32_10 : BitVec 32 := 0#32
  let v27 : BitVec 1 := Scalar.cmpi .sgt c4096_i32_7 c0_i32_10
  let v28 : BitVec 32 := Scalar.extui v27
  let c0_i32_11 : BitVec 32 := 0#32
  let v29 : BitVec 1 := Scalar.cmpi .slt c4096_i32_7 c0_i32_11
  let v30 : BitVec 32 := Scalar.extui v29
  let v31 : BitVec 32 := Scalar.subi v28 v30
  let v32 : BitVec 1 := Scalar.cmpi .ne v26 v31
  let v33 : BitVec 32 := Scalar.remsi v3 c4096_i32_7
  let c0_i32_12 : BitVec 32 := 0#32
  let v34 : BitVec 1 := Scalar.cmpi .ne v33 c0_i32_12
  let v35 : BitVec 1 := Scalar.andi v32 v34
  let c1_i32_13 : BitVec 32 := 1#32
  let v36 : BitVec 32 := Scalar.subi v21 c1_i32_13
  let v37 : BitVec 32 := Scalar.select v35 v36 v21
  let c0_i32_14 : BitVec 32 := 0#32
  let c0_i32_15 : BitVec 32 := 0#32
  ![c0_i32_14.toNat, v20.toNat, v37.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInDgrad0Ideal.lean ====
abbrev S4096x4096 : Shape := ⟨2, ![4096, 4096]⟩
abbrev S4096x16384 : Shape := ⟨2, ![4096, 16384]⟩
abbrev S4096x4x4096 : Shape := ⟨3, ![4096, 4, 4096]⟩
abbrev S4x4096x4096 : Shape := ⟨3, ![4, 4096, 4096]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x4096, .bf16⟩
  | .hbm, ⟨3, _⟩ => ⟨S4096x4x4096, .f32⟩
  | .hbm, ⟨4, _⟩ => ⟨S4x4096x4096, .f32⟩
  | .hbm, ⟨5, _⟩ => ⟨S4x4096x4096, .bf16⟩
  | .hbm, ⟨6, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .f32⟩
  | .local _ .vmem, ⟨5, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c1024_i32 : BitVec 32 := 1024#32
  let v2 : BitVec 32 := Scalar.muli arg1 c1024_i32
  let c4096_i32 : BitVec 32 := 4096#32
  let v3 : BitVec 32 := Scalar.muli v1 c4096_i32
  let c1024_i32_0 : BitVec 32 := 1024#32
  let v4 : BitVec 32 := Scalar.divsi v2 c1024_i32_0
  let c0_i32_1 : BitVec 32 := 0#32
  let v5 : BitVec 1 := Scalar.cmpi .sgt v2 c0_i32_1
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c1024_i32_0 c0_i32_3
  let v11 : BitVec 32 := Scalar.extui v10
  let c0_i32_4 : BitVec 32 := 0#32
  let v12 : BitVec 1 := Scalar.cmpi .slt c1024_i32_0 c0_i32_4
  let v13 : BitVec 32 := Scalar.extui v12
  let v14 : BitVec 32 := Scalar.subi v11 v13
  let v15 : BitVec 1 := Scalar.cmpi .ne v9 v14
  let v16 : BitVec 32 := Scalar.remsi v2 c1024_i32_0
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c4096_i32_7 : BitVec 32 := 4096#32
  let v21 : BitVec 32 := Scalar.divsi v3 c4096_i32_7
  let c0_i32_8 : BitVec 32 := 0#32
  let v22 : BitVec 1 := Scalar.cmpi .sgt v3 c0_i32_8
  let v23 : BitVec 32 := Scalar.extui v22
  let c0_i32_9 : BitVec 32 := 0#32
  let v24 : BitVec 1 := Scalar.cmpi .slt v3 c0_i32_9
  let v25 : BitVec 32 := Scalar.extui v24
  let v26 : BitVec 32 := Scalar.subi v23 v25
  let c0_i32_10 : BitVec 32 := 0#32
  let v27 : BitVec 1 := Scalar.cmpi .sgt c4096_i32_7 c0_i32_10
  let v28 : BitVec 32 := Scalar.extui v27
  let c0_i32_11 : BitVec 32 := 0#32
  let v29 : BitVec 1 := Scalar.cmpi .slt c4096_i32_7 c0_i32_11
  let v30 : BitVec 32 := Scalar.extui v29
  let v31 : BitVec 32 := Scalar.subi v28 v30
  let v32 : BitVec 1 := Scalar.cmpi .ne v26 v31
  let v33 : BitVec 32 := Scalar.remsi v3 c4096_i32_7
  let c0_i32_12 : BitVec 32 := 0#32
  let v34 : BitVec 1 := Scalar.cmpi .ne v33 c0_i32_12
  let v35 : BitVec 1 := Scalar.andi v32 v34
  let c1_i32_13 : BitVec 32 := 1#32
  let v36 : BitVec 32 := Scalar.subi v21 c1_i32_13
  let v37 : BitVec 32 := Scalar.select v35 v36 v21
  let c0_i32_14 : BitVec 32 := 0#32
  let c0_i32_15 : BitVec 32 := 0#32
  ![c0_i32_14.toNat, v20.toNat, v37.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInDgrad0PlainIdeal.lean ====
abbrev S4096x4096 : Shape := ⟨2, ![4096, 4096]⟩
abbrev S4096x16384 : Shape := ⟨2, ![4096, 16384]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x4096, .bf16⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AttnInDgrad1.lean ====
abbrev S4096x4096 : Shape := ⟨2, ![4096, 4096]⟩
abbrev S4096x16384 : Shape := ⟨2, ![4096, 16384]⟩
abbrev S4096x4x4096 : Shape := ⟨3, ![4096, 4, 4096]⟩
abbrev S4x4096x4096 : Shape := ⟨3, ![4, 4096, 4096]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x4096, .bf16⟩
  | .hbm, ⟨3, _⟩ => ⟨S4096x4096, .f32⟩
  | .hbm, ⟨4, _⟩ => ⟨S4096x4x4096, .f32⟩
  | .hbm, ⟨5, _⟩ => ⟨S4x4096x4096, .f32⟩
  | .hbm, ⟨6, _⟩ => ⟨S4x4096x4096, .bf16⟩
  | .hbm, ⟨7, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c1024_i32 : BitVec 32 := 1024#32
  let v2 : BitVec 32 := Scalar.muli arg1 c1024_i32
  let c4096_i32 : BitVec 32 := 4096#32
  let v3 : BitVec 32 := Scalar.muli v1 c4096_i32
  let c1024_i32_0 : BitVec 32 := 1024#32
  let v4 : BitVec 32 := Scalar.divsi v2 c1024_i32_0
  let c0_i32_1 : BitVec 32 := 0#32
  let v5 : BitVec 1 := Scalar.cmpi .sgt v2 c0_i32_1
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c1024_i32_0 c0_i32_3
  let v11 : BitVec 32 := Scalar.extui v10
  let c0_i32_4 : BitVec 32 := 0#32
  let v12 : BitVec 1 := Scalar.cmpi .slt c1024_i32_0 c0_i32_4
  let v13 : BitVec 32 := Scalar.extui v12
  let v14 : BitVec 32 := Scalar.subi v11 v13
  let v15 : BitVec 1 := Scalar.cmpi .ne v9 v14
  let v16 : BitVec 32 := Scalar.remsi v2 c1024_i32_0
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c4096_i32_7 : BitVec 32 := 4096#32
  let v21 : BitVec 32 := Scalar.divsi v3 c4096_i32_7
  let c0_i32_8 : BitVec 32 := 0#32
  let v22 : BitVec 1 := Scalar.cmpi .sgt v3 c0_i32_8
  let v23 : BitVec 32 := Scalar.extui v22
  let c0_i32_9 : BitVec 32 := 0#32
  let v24 : BitVec 1 := Scalar.cmpi .slt v3 c0_i32_9
  let v25 : BitVec 32 := Scalar.extui v24
  let v26 : BitVec 32 := Scalar.subi v23 v25
  let c0_i32_10 : BitVec 32 := 0#32
  let v27 : BitVec 1 := Scalar.cmpi .sgt c4096_i32_7 c0_i32_10
  let v28 : BitVec 32 := Scalar.extui v27
  let c0_i32_11 : BitVec 32 := 0#32
  let v29 : BitVec 1 := Scalar.cmpi .slt c4096_i32_7 c0_i32_11
  let v30 : BitVec 32 := Scalar.extui v29
  let v31 : BitVec 32 := Scalar.subi v28 v30
  let v32 : BitVec 1 := Scalar.cmpi .ne v26 v31
  let v33 : BitVec 32 := Scalar.remsi v3 c4096_i32_7
  let c0_i32_12 : BitVec 32 := 0#32
  let v34 : BitVec 1 := Scalar.cmpi .ne v33 c0_i32_12
  let v35 : BitVec 1 := Scalar.andi v32 v34
  let c1_i32_13 : BitVec 32 := 1#32
  let v36 : BitVec 32 := Scalar.subi v21 c1_i32_13
  let v37 : BitVec 32 := Scalar.select v35 v36 v21
  let c1_i32_14 : BitVec 32 := 1#32
  let c0_i32_15 : BitVec 32 := 0#32
  ![c1_i32_14.toNat, v20.toNat, v37.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AttnInDgrad1Ideal.lean ====
abbrev S4096x4096 : Shape := ⟨2, ![4096, 4096]⟩
abbrev S4096x16384 : Shape := ⟨2, ![4096, 16384]⟩
abbrev S4096x4x4096 : Shape := ⟨3, ![4096, 4, 4096]⟩
abbrev S4x4096x4096 : Shape := ⟨3, ![4, 4096, 4096]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x4096, .bf16⟩
  | .hbm, ⟨3, _⟩ => ⟨S4096x4096, .f32⟩
  | .hbm, ⟨4, _⟩ => ⟨S4096x4x4096, .f32⟩
  | .hbm, ⟨5, _⟩ => ⟨S4x4096x4096, .f32⟩
  | .hbm, ⟨6, _⟩ => ⟨S4x4096x4096, .bf16⟩
  | .hbm, ⟨7, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c1024_i32 : BitVec 32 := 1024#32
  let v2 : BitVec 32 := Scalar.muli arg1 c1024_i32
  let c4096_i32 : BitVec 32 := 4096#32
  let v3 : BitVec 32 := Scalar.muli v1 c4096_i32
  let c1024_i32_0 : BitVec 32 := 1024#32
  let v4 : BitVec 32 := Scalar.divsi v2 c1024_i32_0
  let c0_i32_1 : BitVec 32 := 0#32
  let v5 : BitVec 1 := Scalar.cmpi .sgt v2 c0_i32_1
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c1024_i32_0 c0_i32_3
  let v11 : BitVec 32 := Scalar.extui v10
  let c0_i32_4 : BitVec 32 := 0#32
  let v12 : BitVec 1 := Scalar.cmpi .slt c1024_i32_0 c0_i32_4
  let v13 : BitVec 32 := Scalar.extui v12
  let v14 : BitVec 32 := Scalar.subi v11 v13
  let v15 : BitVec 1 := Scalar.cmpi .ne v9 v14
  let v16 : BitVec 32 := Scalar.remsi v2 c1024_i32_0
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c4096_i32_7 : BitVec 32 := 4096#32
  let v21 : BitVec 32 := Scalar.divsi v3 c4096_i32_7
  let c0_i32_8 : BitVec 32 := 0#32
  let v22 : BitVec 1 := Scalar.cmpi .sgt v3 c0_i32_8
  let v23 : BitVec 32 := Scalar.extui v22
  let c0_i32_9 : BitVec 32 := 0#32
  let v24 : BitVec 1 := Scalar.cmpi .slt v3 c0_i32_9
  let v25 : BitVec 32 := Scalar.extui v24
  let v26 : BitVec 32 := Scalar.subi v23 v25
  let c0_i32_10 : BitVec 32 := 0#32
  let v27 : BitVec 1 := Scalar.cmpi .sgt c4096_i32_7 c0_i32_10
  let v28 : BitVec 32 := Scalar.extui v27
  let c0_i32_11 : BitVec 32 := 0#32
  let v29 : BitVec 1 := Scalar.cmpi .slt c4096_i32_7 c0_i32_11
  let v30 : BitVec 32 := Scalar.extui v29
  let v31 : BitVec 32 := Scalar.subi v28 v30
  let v32 : BitVec 1 := Scalar.cmpi .ne v26 v31
  let v33 : BitVec 32 := Scalar.remsi v3 c4096_i32_7
  let c0_i32_12 : BitVec 32 := 0#32
  let v34 : BitVec 1 := Scalar.cmpi .ne v33 c0_i32_12
  let v35 : BitVec 1 := Scalar.andi v32 v34
  let c1_i32_13 : BitVec 32 := 1#32
  let v36 : BitVec 32 := Scalar.subi v21 c1_i32_13
  let v37 : BitVec 32 := Scalar.select v35 v36 v21
  let c1_i32_14 : BitVec 32 := 1#32
  let c0_i32_15 : BitVec 32 := 0#32
  ![c1_i32_14.toNat, v20.toNat, v37.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AttnInDgrad1PlainIdeal.lean ====
abbrev S4096x4096 : Shape := ⟨2, ![4096, 4096]⟩
abbrev S4096x16384 : Shape := ⟨2, ![4096, 16384]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x4096, .bf16⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== AttnInDgrad2.lean ====
abbrev S4096x4096 : Shape := ⟨2, ![4096, 4096]⟩
abbrev S4096x16384 : Shape := ⟨2, ![4096, 16384]⟩
abbrev S4096x4x4096 : Shape := ⟨3, ![4096, 4, 4096]⟩
abbrev S4x4096x4096 : Shape := ⟨3, ![4, 4096, 4096]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x4096, .bf16⟩
  | .hbm, ⟨3, _⟩ => ⟨S4096x4096, .f32⟩
  | .hbm, ⟨4, _⟩ => ⟨S4096x4x4096, .f32⟩
  | .hbm, ⟨5, _⟩ => ⟨S4x4096x4096, .f32⟩
  | .hbm, ⟨6, _⟩ => ⟨S4x4096x4096, .bf16⟩
  | .hbm, ⟨7, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c1024_i32 : BitVec 32 := 1024#32
  let v2 : BitVec 32 := Scalar.muli arg1 c1024_i32
  let c4096_i32 : BitVec 32 := 4096#32
  let v3 : BitVec 32 := Scalar.muli v1 c4096_i32
  let c1024_i32_0 : BitVec 32 := 1024#32
  let v4 : BitVec 32 := Scalar.divsi v2 c1024_i32_0
  let c0_i32_1 : BitVec 32 := 0#32
  let v5 : BitVec 1 := Scalar.cmpi .sgt v2 c0_i32_1
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c1024_i32_0 c0_i32_3
  let v11 : BitVec 32 := Scalar.extui v10
  let c0_i32_4 : BitVec 32 := 0#32
  let v12 : BitVec 1 := Scalar.cmpi .slt c1024_i32_0 c0_i32_4
  let v13 : BitVec 32 := Scalar.extui v12
  let v14 : BitVec 32 := Scalar.subi v11 v13
  let v15 : BitVec 1 := Scalar.cmpi .ne v9 v14
  let v16 : BitVec 32 := Scalar.remsi v2 c1024_i32_0
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c4096_i32_7 : BitVec 32 := 4096#32
  let v21 : BitVec 32 := Scalar.divsi v3 c4096_i32_7
  let c0_i32_8 : BitVec 32 := 0#32
  let v22 : BitVec 1 := Scalar.cmpi .sgt v3 c0_i32_8
  let v23 : BitVec 32 := Scalar.extui v22
  let c0_i32_9 : BitVec 32 := 0#32
  let v24 : BitVec 1 := Scalar.cmpi .slt v3 c0_i32_9
  let v25 : BitVec 32 := Scalar.extui v24
  let v26 : BitVec 32 := Scalar.subi v23 v25
  let c0_i32_10 : BitVec 32 := 0#32
  let v27 : BitVec 1 := Scalar.cmpi .sgt c4096_i32_7 c0_i32_10
  let v28 : BitVec 32 := Scalar.extui v27
  let c0_i32_11 : BitVec 32 := 0#32
  let v29 : BitVec 1 := Scalar.cmpi .slt c4096_i32_7 c0_i32_11
  let v30 : BitVec 32 := Scalar.extui v29
  let v31 : BitVec 32 := Scalar.subi v28 v30
  let v32 : BitVec 1 := Scalar.cmpi .ne v26 v31
  let v33 : BitVec 32 := Scalar.remsi v3 c4096_i32_7
  let c0_i32_12 : BitVec 32 := 0#32
  let v34 : BitVec 1 := Scalar.cmpi .ne v33 c0_i32_12
  let v35 : BitVec 1 := Scalar.andi v32 v34
  let c1_i32_13 : BitVec 32 := 1#32
  let v36 : BitVec 32 := Scalar.subi v21 c1_i32_13
  let v37 : BitVec 32 := Scalar.select v35 v36 v21
  let c2_i32 : BitVec 32 := 2#32
  let c0_i32_14 : BitVec 32 := 0#32
  ![c2_i32.toNat, v20.toNat, v37.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AttnInDgrad2Ideal.lean ====
abbrev S4096x4096 : Shape := ⟨2, ![4096, 4096]⟩
abbrev S4096x16384 : Shape := ⟨2, ![4096, 16384]⟩
abbrev S4096x4x4096 : Shape := ⟨3, ![4096, 4, 4096]⟩
abbrev S4x4096x4096 : Shape := ⟨3, ![4, 4096, 4096]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x4096, .bf16⟩
  | .hbm, ⟨3, _⟩ => ⟨S4096x4096, .f32⟩
  | .hbm, ⟨4, _⟩ => ⟨S4096x4x4096, .f32⟩
  | .hbm, ⟨5, _⟩ => ⟨S4x4096x4096, .f32⟩
  | .hbm, ⟨6, _⟩ => ⟨S4x4096x4096, .bf16⟩
  | .hbm, ⟨7, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c1024_i32 : BitVec 32 := 1024#32
  let v2 : BitVec 32 := Scalar.muli arg1 c1024_i32
  let c4096_i32 : BitVec 32 := 4096#32
  let v3 : BitVec 32 := Scalar.muli v1 c4096_i32
  let c1024_i32_0 : BitVec 32 := 1024#32
  let v4 : BitVec 32 := Scalar.divsi v2 c1024_i32_0
  let c0_i32_1 : BitVec 32 := 0#32
  let v5 : BitVec 1 := Scalar.cmpi .sgt v2 c0_i32_1
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c1024_i32_0 c0_i32_3
  let v11 : BitVec 32 := Scalar.extui v10
  let c0_i32_4 : BitVec 32 := 0#32
  let v12 : BitVec 1 := Scalar.cmpi .slt c1024_i32_0 c0_i32_4
  let v13 : BitVec 32 := Scalar.extui v12
  let v14 : BitVec 32 := Scalar.subi v11 v13
  let v15 : BitVec 1 := Scalar.cmpi .ne v9 v14
  let v16 : BitVec 32 := Scalar.remsi v2 c1024_i32_0
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c4096_i32_7 : BitVec 32 := 4096#32
  let v21 : BitVec 32 := Scalar.divsi v3 c4096_i32_7
  let c0_i32_8 : BitVec 32 := 0#32
  let v22 : BitVec 1 := Scalar.cmpi .sgt v3 c0_i32_8
  let v23 : BitVec 32 := Scalar.extui v22
  let c0_i32_9 : BitVec 32 := 0#32
  let v24 : BitVec 1 := Scalar.cmpi .slt v3 c0_i32_9
  let v25 : BitVec 32 := Scalar.extui v24
  let v26 : BitVec 32 := Scalar.subi v23 v25
  let c0_i32_10 : BitVec 32 := 0#32
  let v27 : BitVec 1 := Scalar.cmpi .sgt c4096_i32_7 c0_i32_10
  let v28 : BitVec 32 := Scalar.extui v27
  let c0_i32_11 : BitVec 32 := 0#32
  let v29 : BitVec 1 := Scalar.cmpi .slt c4096_i32_7 c0_i32_11
  let v30 : BitVec 32 := Scalar.extui v29
  let v31 : BitVec 32 := Scalar.subi v28 v30
  let v32 : BitVec 1 := Scalar.cmpi .ne v26 v31
  let v33 : BitVec 32 := Scalar.remsi v3 c4096_i32_7
  let c0_i32_12 : BitVec 32 := 0#32
  let v34 : BitVec 1 := Scalar.cmpi .ne v33 c0_i32_12
  let v35 : BitVec 1 := Scalar.andi v32 v34
  let c1_i32_13 : BitVec 32 := 1#32
  let v36 : BitVec 32 := Scalar.subi v21 c1_i32_13
  let v37 : BitVec 32 := Scalar.select v35 v36 v21
  let c2_i32 : BitVec 32 := 2#32
  let c0_i32_14 : BitVec 32 := 0#32
  ![c2_i32.toNat, v20.toNat, v37.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AttnInDgrad2PlainIdeal.lean ====
abbrev S4096x4096 : Shape := ⟨2, ![4096, 4096]⟩
abbrev S4096x16384 : Shape := ⟨2, ![4096, 16384]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x4096, .bf16⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== AttnInDgrad3.lean ====
abbrev S4096x4096 : Shape := ⟨2, ![4096, 4096]⟩
abbrev S4096x16384 : Shape := ⟨2, ![4096, 16384]⟩
abbrev S4096x4x4096 : Shape := ⟨3, ![4096, 4, 4096]⟩
abbrev S4x4096x4096 : Shape := ⟨3, ![4, 4096, 4096]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x4096, .bf16⟩
  | .hbm, ⟨3, _⟩ => ⟨S4096x4096, .f32⟩
  | .hbm, ⟨4, _⟩ => ⟨S4096x4x4096, .f32⟩
  | .hbm, ⟨5, _⟩ => ⟨S4x4096x4096, .f32⟩
  | .hbm, ⟨6, _⟩ => ⟨S4x4096x4096, .bf16⟩
  | .hbm, ⟨7, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c1024_i32 : BitVec 32 := 1024#32
  let v2 : BitVec 32 := Scalar.muli arg1 c1024_i32
  let c4096_i32 : BitVec 32 := 4096#32
  let v3 : BitVec 32 := Scalar.muli v1 c4096_i32
  let c1024_i32_0 : BitVec 32 := 1024#32
  let v4 : BitVec 32 := Scalar.divsi v2 c1024_i32_0
  let c0_i32_1 : BitVec 32 := 0#32
  let v5 : BitVec 1 := Scalar.cmpi .sgt v2 c0_i32_1
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c1024_i32_0 c0_i32_3
  let v11 : BitVec 32 := Scalar.extui v10
  let c0_i32_4 : BitVec 32 := 0#32
  let v12 : BitVec 1 := Scalar.cmpi .slt c1024_i32_0 c0_i32_4
  let v13 : BitVec 32 := Scalar.extui v12
  let v14 : BitVec 32 := Scalar.subi v11 v13
  let v15 : BitVec 1 := Scalar.cmpi .ne v9 v14
  let v16 : BitVec 32 := Scalar.remsi v2 c1024_i32_0
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c4096_i32_7 : BitVec 32 := 4096#32
  let v21 : BitVec 32 := Scalar.divsi v3 c4096_i32_7
  let c0_i32_8 : BitVec 32 := 0#32
  let v22 : BitVec 1 := Scalar.cmpi .sgt v3 c0_i32_8
  let v23 : BitVec 32 := Scalar.extui v22
  let c0_i32_9 : BitVec 32 := 0#32
  let v24 : BitVec 1 := Scalar.cmpi .slt v3 c0_i32_9
  let v25 : BitVec 32 := Scalar.extui v24
  let v26 : BitVec 32 := Scalar.subi v23 v25
  let c0_i32_10 : BitVec 32 := 0#32
  let v27 : BitVec 1 := Scalar.cmpi .sgt c4096_i32_7 c0_i32_10
  let v28 : BitVec 32 := Scalar.extui v27
  let c0_i32_11 : BitVec 32 := 0#32
  let v29 : BitVec 1 := Scalar.cmpi .slt c4096_i32_7 c0_i32_11
  let v30 : BitVec 32 := Scalar.extui v29
  let v31 : BitVec 32 := Scalar.subi v28 v30
  let v32 : BitVec 1 := Scalar.cmpi .ne v26 v31
  let v33 : BitVec 32 := Scalar.remsi v3 c4096_i32_7
  let c0_i32_12 : BitVec 32 := 0#32
  let v34 : BitVec 1 := Scalar.cmpi .ne v33 c0_i32_12
  let v35 : BitVec 1 := Scalar.andi v32 v34
  let c1_i32_13 : BitVec 32 := 1#32
  let v36 : BitVec 32 := Scalar.subi v21 c1_i32_13
  let v37 : BitVec 32 := Scalar.select v35 v36 v21
  let c3_i32 : BitVec 32 := 3#32
  let c0_i32_14 : BitVec 32 := 0#32
  ![c3_i32.toNat, v20.toNat, v37.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AttnInDgrad3Ideal.lean ====
abbrev S4096x4096 : Shape := ⟨2, ![4096, 4096]⟩
abbrev S4096x16384 : Shape := ⟨2, ![4096, 16384]⟩
abbrev S4096x4x4096 : Shape := ⟨3, ![4096, 4, 4096]⟩
abbrev S4x4096x4096 : Shape := ⟨3, ![4, 4096, 4096]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x4096, .bf16⟩
  | .hbm, ⟨3, _⟩ => ⟨S4096x4096, .f32⟩
  | .hbm, ⟨4, _⟩ => ⟨S4096x4x4096, .f32⟩
  | .hbm, ⟨5, _⟩ => ⟨S4x4096x4096, .f32⟩
  | .hbm, ⟨6, _⟩ => ⟨S4x4096x4096, .bf16⟩
  | .hbm, ⟨7, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c1024_i32 : BitVec 32 := 1024#32
  let v2 : BitVec 32 := Scalar.muli arg1 c1024_i32
  let c4096_i32 : BitVec 32 := 4096#32
  let v3 : BitVec 32 := Scalar.muli v1 c4096_i32
  let c1024_i32_0 : BitVec 32 := 1024#32
  let v4 : BitVec 32 := Scalar.divsi v2 c1024_i32_0
  let c0_i32_1 : BitVec 32 := 0#32
  let v5 : BitVec 1 := Scalar.cmpi .sgt v2 c0_i32_1
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c1024_i32_0 c0_i32_3
  let v11 : BitVec 32 := Scalar.extui v10
  let c0_i32_4 : BitVec 32 := 0#32
  let v12 : BitVec 1 := Scalar.cmpi .slt c1024_i32_0 c0_i32_4
  let v13 : BitVec 32 := Scalar.extui v12
  let v14 : BitVec 32 := Scalar.subi v11 v13
  let v15 : BitVec 1 := Scalar.cmpi .ne v9 v14
  let v16 : BitVec 32 := Scalar.remsi v2 c1024_i32_0
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c4096_i32_7 : BitVec 32 := 4096#32
  let v21 : BitVec 32 := Scalar.divsi v3 c4096_i32_7
  let c0_i32_8 : BitVec 32 := 0#32
  let v22 : BitVec 1 := Scalar.cmpi .sgt v3 c0_i32_8
  let v23 : BitVec 32 := Scalar.extui v22
  let c0_i32_9 : BitVec 32 := 0#32
  let v24 : BitVec 1 := Scalar.cmpi .slt v3 c0_i32_9
  let v25 : BitVec 32 := Scalar.extui v24
  let v26 : BitVec 32 := Scalar.subi v23 v25
  let c0_i32_10 : BitVec 32 := 0#32
  let v27 : BitVec 1 := Scalar.cmpi .sgt c4096_i32_7 c0_i32_10
  let v28 : BitVec 32 := Scalar.extui v27
  let c0_i32_11 : BitVec 32 := 0#32
  let v29 : BitVec 1 := Scalar.cmpi .slt c4096_i32_7 c0_i32_11
  let v30 : BitVec 32 := Scalar.extui v29
  let v31 : BitVec 32 := Scalar.subi v28 v30
  let v32 : BitVec 1 := Scalar.cmpi .ne v26 v31
  let v33 : BitVec 32 := Scalar.remsi v3 c4096_i32_7
  let c0_i32_12 : BitVec 32 := 0#32
  let v34 : BitVec 1 := Scalar.cmpi .ne v33 c0_i32_12
  let v35 : BitVec 1 := Scalar.andi v32 v34
  let c1_i32_13 : BitVec 32 := 1#32
  let v36 : BitVec 32 := Scalar.subi v21 c1_i32_13
  let v37 : BitVec 32 := Scalar.select v35 v36 v21
  let c3_i32 : BitVec 32 := 3#32
  let c0_i32_14 : BitVec 32 := 0#32
  ![c3_i32.toNat, v20.toNat, v37.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AttnInDgrad3PlainIdeal.lean ====
abbrev S4096x4096 : Shape := ⟨2, ![4096, 4096]⟩
abbrev S4096x16384 : Shape := ⟨2, ![4096, 16384]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x4096, .bf16⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== SsmOutWgrad.lean ====
abbrev S4096x4096 : Shape := ⟨2, ![4096, 4096]⟩
abbrev S4x5120x4096 : Shape := ⟨3, ![4, 5120, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .bf16⟩
  | .hbm, ⟨3, _⟩ => ⟨S4x5120x4096, .f32⟩
  | .hbm, ⟨4, _⟩ => ⟨S4x5120x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c1024_i32_0 : BitVec 32 := 1024#32
  let v1 : BitVec 32 := Scalar.muli arg1 c1024_i32_0
  let c1024_i32_1 : BitVec 32 := 1024#32
  let v2 : BitVec 32 := Scalar.divsi v0 c1024_i32_1
  let c0_i32 : BitVec 32 := 0#32
  let v3 : BitVec 1 := Scalar.cmpi .sgt v0 c0_i32
  let v4 : BitVec 32 := Scalar.extui v3
  let c0_i32_2 : BitVec 32 := 0#32
  let v5 : BitVec 1 := Scalar.cmpi .slt v0 c0_i32_2
  let v6 : BitVec 32 := Scalar.extui v5
  let v7 : BitVec 32 := Scalar.subi v4 v6
  let c0_i32_3 : BitVec 32 := 0#32
  let v8 : BitVec 1 := Scalar.cmpi .sgt c1024_i32_1 c0_i32_3
  let v9 : BitVec 32 := Scalar.extui v8
  let c0_i32_4 : BitVec 32 := 0#32
  let v10 : BitVec 1 := Scalar.cmpi .slt c1024_i32_1 c0_i32_4
  let v11 : BitVec 32 := Scalar.extui v10
  let v12 : BitVec 32 := Scalar.subi v9 v11
  let v13 : BitVec 1 := Scalar.cmpi .ne v7 v12
  let v14 : BitVec 32 := Scalar.remsi v0 c1024_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1024_i32_6 : BitVec 32 := 1024#32
  let c0_i32_7 : BitVec 32 := 0#32
  let v19 : BitVec 1 := Scalar.cmpi .eq c1024_i32_6 c0_i32_7
  let c1_i32_8 : BitVec 32 := 1#32
  let v20 : BitVec 32 := Scalar.select v19 c1_i32_8 c1024_i32_6
  let v21 : BitVec 32 := Scalar.remsi v0 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c4096_i32 : BitVec 32 := 4096#32
  let v29 : BitVec 32 := Scalar.addi c4096_i32 v28
  let c1024_i32_12 : BitVec 32 := 1024#32
  let v30 : BitVec 32 := Scalar.divsi v29 c1024_i32_12
  let c0_i32_13 : BitVec 32 := 0#32
  let v31 : BitVec 1 := Scalar.cmpi .sgt v29 c0_i32_13
  let v32 : BitVec 32 := Scalar.extui v31
  let c0_i32_14 : BitVec 32 := 0#32
  let v33 : BitVec 1 := Scalar.cmpi .slt v29 c0_i32_14
  let v34 : BitVec 32 := Scalar.extui v33
  let v35 : BitVec 32 := Scalar.subi v32 v34
  let c0_i32_15 : BitVec 32 := 0#32
  let v36 : BitVec 1 := Scalar.cmpi .sgt c1024_i32_12 c0_i32_15
  let v37 : BitVec 32 := Scalar.extui v36
  let c0_i32_16 : BitVec 32 := 0#32
  let v38 : BitVec 1 := Scalar.cmpi .slt c1024_i32_12 c0_i32_16
  let v39 : BitVec 32 := Scalar.extui v38
  let v40 : BitVec 32 := Scalar.subi v37 v39
  let v41 : BitVec 1 := Scalar.cmpi .ne v35 v40
  let v42 : BitVec 32 := Scalar.remsi v29 c1024_i32_12
  let c0_i32_17 : BitVec 32 := 0#32
  let v43 : BitVec 1 := Scalar.cmpi .ne v42 c0_i32_17
  let v44 : BitVec 1 := Scalar.andi v41 v43
  let c1_i32_18 : BitVec 32 := 1#32
  let v45 : BitVec 32 := Scalar.subi v30 c1_i32_18
  let v46 : BitVec 32 := Scalar.select v44 v45 v30
  let c1024_i32_19 : BitVec 32 := 1024#32
  let v47 : BitVec 32 := Scalar.divsi v1 c1024_i32_19
  let c0_i32_20 : BitVec 32 := 0#32
  let v48 : BitVec 1 := Scalar.cmpi .sgt v1 c0_i32_20
  let v49 : BitVec 32 := Scalar.extui v48
  let c0_i32_21 : BitVec 32 := 0#32
  let v50 : BitVec 1 := Scalar.cmpi .slt v1 c0_i32_21
  let v51 : BitVec 32 := Scalar.extui v50
  let v52 : BitVec 32 := Scalar.subi v49 v51
  let c0_i32_22 : BitVec 32 := 0#32
  let v53 : BitVec 1 := Scalar.cmpi .sgt c1024_i32_19 c0_i32_22
  let v54 : BitVec 32 := Scalar.extui v53
  let c0_i32_23 : BitVec 32 := 0#32
  let v55 : BitVec 1 := Scalar.cmpi .slt c1024_i32_19 c0_i32_23
  let v56 : BitVec 32 := Scalar.extui v55
  let v57 : BitVec 32 := Scalar.subi v54 v56
  let v58 : BitVec 1 := Scalar.cmpi .ne v52 v57
  let v59 : BitVec 32 := Scalar.remsi v1 c1024_i32_19
  let c0_i32_24 : BitVec 32 := 0#32
  let v60 : BitVec 1 := Scalar.cmpi .ne v59 c0_i32_24
  let v61 : BitVec 1 := Scalar.andi v58 v60
  let c1_i32_25 : BitVec 32 := 1#32
  let v62 : BitVec 32 := Scalar.subi v47 c1_i32_25
  let v63 : BitVec 32 := Scalar.select v61 v62 v47
  let c0_i32_26 : BitVec 32 := 0#32
  ![v18.toNat, v46.toNat, v63.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutWgradIdeal.lean ====
abbrev S4096x4096 : Shape := ⟨2, ![4096, 4096]⟩
abbrev S4x5120x4096 : Shape := ⟨3, ![4, 5120, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .bf16⟩
  | .hbm, ⟨3, _⟩ => ⟨S4x5120x4096, .f32⟩
  | .hbm, ⟨4, _⟩ => ⟨S4x5120x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c1024_i32_0 : BitVec 32 := 1024#32
  let v1 : BitVec 32 := Scalar.muli arg1 c1024_i32_0
  let c1024_i32_1 : BitVec 32 := 1024#32
  let v2 : BitVec 32 := Scalar.divsi v0 c1024_i32_1
  let c0_i32 : BitVec 32 := 0#32
  let v3 : BitVec 1 := Scalar.cmpi .sgt v0 c0_i32
  let v4 : BitVec 32 := Scalar.extui v3
  let c0_i32_2 : BitVec 32 := 0#32
  let v5 : BitVec 1 := Scalar.cmpi .slt v0 c0_i32_2
  let v6 : BitVec 32 := Scalar.extui v5
  let v7 : BitVec 32 := Scalar.subi v4 v6
  let c0_i32_3 : BitVec 32 := 0#32
  let v8 : BitVec 1 := Scalar.cmpi .sgt c1024_i32_1 c0_i32_3
  let v9 : BitVec 32 := Scalar.extui v8
  let c0_i32_4 : BitVec 32 := 0#32
  let v10 : BitVec 1 := Scalar.cmpi .slt c1024_i32_1 c0_i32_4
  let v11 : BitVec 32 := Scalar.extui v10
  let v12 : BitVec 32 := Scalar.subi v9 v11
  let v13 : BitVec 1 := Scalar.cmpi .ne v7 v12
  let v14 : BitVec 32 := Scalar.remsi v0 c1024_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1024_i32_6 : BitVec 32 := 1024#32
  let c0_i32_7 : BitVec 32 := 0#32
  let v19 : BitVec 1 := Scalar.cmpi .eq c1024_i32_6 c0_i32_7
  let c1_i32_8 : BitVec 32 := 1#32
  let v20 : BitVec 32 := Scalar.select v19 c1_i32_8 c1024_i32_6
  let v21 : BitVec 32 := Scalar.remsi v0 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c4096_i32 : BitVec 32 := 4096#32
  let v29 : BitVec 32 := Scalar.addi c4096_i32 v28
  let c1024_i32_12 : BitVec 32 := 1024#32
  let v30 : BitVec 32 := Scalar.divsi v29 c1024_i32_12
  let c0_i32_13 : BitVec 32 := 0#32
  let v31 : BitVec 1 := Scalar.cmpi .sgt v29 c0_i32_13
  let v32 : BitVec 32 := Scalar.extui v31
  let c0_i32_14 : BitVec 32 := 0#32
  let v33 : BitVec 1 := Scalar.cmpi .slt v29 c0_i32_14
  let v34 : BitVec 32 := Scalar.extui v33
  let v35 : BitVec 32 := Scalar.subi v32 v34
  let c0_i32_15 : BitVec 32 := 0#32
  let v36 : BitVec 1 := Scalar.cmpi .sgt c1024_i32_12 c0_i32_15
  let v37 : BitVec 32 := Scalar.extui v36
  let c0_i32_16 : BitVec 32 := 0#32
  let v38 : BitVec 1 := Scalar.cmpi .slt c1024_i32_12 c0_i32_16
  let v39 : BitVec 32 := Scalar.extui v38
  let v40 : BitVec 32 := Scalar.subi v37 v39
  let v41 : BitVec 1 := Scalar.cmpi .ne v35 v40
  let v42 : BitVec 32 := Scalar.remsi v29 c1024_i32_12
  let c0_i32_17 : BitVec 32 := 0#32
  let v43 : BitVec 1 := Scalar.cmpi .ne v42 c0_i32_17
  let v44 : BitVec 1 := Scalar.andi v41 v43
  let c1_i32_18 : BitVec 32 := 1#32
  let v45 : BitVec 32 := Scalar.subi v30 c1_i32_18
  let v46 : BitVec 32 := Scalar.select v44 v45 v30
  let c1024_i32_19 : BitVec 32 := 1024#32
  let v47 : BitVec 32 := Scalar.divsi v1 c1024_i32_19
  let c0_i32_20 : BitVec 32 := 0#32
  let v48 : BitVec 1 := Scalar.cmpi .sgt v1 c0_i32_20
  let v49 : BitVec 32 := Scalar.extui v48
  let c0_i32_21 : BitVec 32 := 0#32
  let v50 : BitVec 1 := Scalar.cmpi .slt v1 c0_i32_21
  let v51 : BitVec 32 := Scalar.extui v50
  let v52 : BitVec 32 := Scalar.subi v49 v51
  let c0_i32_22 : BitVec 32 := 0#32
  let v53 : BitVec 1 := Scalar.cmpi .sgt c1024_i32_19 c0_i32_22
  let v54 : BitVec 32 := Scalar.extui v53
  let c0_i32_23 : BitVec 32 := 0#32
  let v55 : BitVec 1 := Scalar.cmpi .slt c1024_i32_19 c0_i32_23
  let v56 : BitVec 32 := Scalar.extui v55
  let v57 : BitVec 32 := Scalar.subi v54 v56
  let v58 : BitVec 1 := Scalar.cmpi .ne v52 v57
  let v59 : BitVec 32 := Scalar.remsi v1 c1024_i32_19
  let c0_i32_24 : BitVec 32 := 0#32
  let v60 : BitVec 1 := Scalar.cmpi .ne v59 c0_i32_24
  let v61 : BitVec 1 := Scalar.andi v58 v60
  let c1_i32_25 : BitVec 32 := 1#32
  let v62 : BitVec 32 := Scalar.subi v47 c1_i32_25
  let v63 : BitVec 32 := Scalar.select v61 v62 v47
  let c0_i32_26 : BitVec 32 := 0#32
  ![v18.toNat, v46.toNat, v63.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutWgradPlainIdeal.lean ====
abbrev S4096x4096 : Shape := ⟨2, ![4096, 4096]⟩
abbrev S4x5120x4096 : Shape := ⟨3, ![4, 5120, 4096]⟩
abbrev S4x1024x4096 : Shape := ⟨3, ![4, 1024, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .bf16⟩
  | .hbm, ⟨3, _⟩ => ⟨S4x5120x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4x1024x4096, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S4x5120x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== GluWgrad.lean ====
abbrev S4096x4096 : Shape := ⟨2, ![4096, 4096]⟩
abbrev S4x5120x4096 : Shape := ⟨3, ![4, 5120, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .bf16⟩
  | .hbm, ⟨3, _⟩ => ⟨S4x5120x4096, .f32⟩
  | .hbm, ⟨4, _⟩ => ⟨S4x5120x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c1024_i32_0 : BitVec 32 := 1024#32
  let v1 : BitVec 32 := Scalar.muli arg1 c1024_i32_0
  let c1024_i32_1 : BitVec 32 := 1024#32
  let v2 : BitVec 32 := Scalar.divsi v0 c1024_i32_1
  let c0_i32 : BitVec 32 := 0#32
  let v3 : BitVec 1 := Scalar.cmpi .sgt v0 c0_i32
  let v4 : BitVec 32 := Scalar.extui v3
  let c0_i32_2 : BitVec 32 := 0#32
  let v5 : BitVec 1 := Scalar.cmpi .slt v0 c0_i32_2
  let v6 : BitVec 32 := Scalar.extui v5
  let v7 : BitVec 32 := Scalar.subi v4 v6
  let c0_i32_3 : BitVec 32 := 0#32
  let v8 : BitVec 1 := Scalar.cmpi .sgt c1024_i32_1 c0_i32_3
  let v9 : BitVec 32 := Scalar.extui v8
  let c0_i32_4 : BitVec 32 := 0#32
  let v10 : BitVec 1 := Scalar.cmpi .slt c1024_i32_1 c0_i32_4
  let v11 : BitVec 32 := Scalar.extui v10
  let v12 : BitVec 32 := Scalar.subi v9 v11
  let v13 : BitVec 1 := Scalar.cmpi .ne v7 v12
  let v14 : BitVec 32 := Scalar.remsi v0 c1024_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1024_i32_6 : BitVec 32 := 1024#32
  let c0_i32_7 : BitVec 32 := 0#32
  let v19 : BitVec 1 := Scalar.cmpi .eq c1024_i32_6 c0_i32_7
  let c1_i32_8 : BitVec 32 := 1#32
  let v20 : BitVec 32 := Scalar.select v19 c1_i32_8 c1024_i32_6
  let v21 : BitVec 32 := Scalar.remsi v0 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c3072_i32 : BitVec 32 := 3072#32
  let v29 : BitVec 32 := Scalar.addi c3072_i32 v28
  let c1024_i32_12 : BitVec 32 := 1024#32
  let v30 : BitVec 32 := Scalar.divsi v29 c1024_i32_12
  let c0_i32_13 : BitVec 32 := 0#32
  let v31 : BitVec 1 := Scalar.cmpi .sgt v29 c0_i32_13
  let v32 : BitVec 32 := Scalar.extui v31
  let c0_i32_14 : BitVec 32 := 0#32
  let v33 : BitVec 1 := Scalar.cmpi .slt v29 c0_i32_14
  let v34 : BitVec 32 := Scalar.extui v33
  let v35 : BitVec 32 := Scalar.subi v32 v34
  let c0_i32_15 : BitVec 32 := 0#32
  let v36 : BitVec 1 := Scalar.cmpi .sgt c1024_i32_12 c0_i32_15
  let v37 : BitVec 32 := Scalar.extui v36
  let c0_i32_16 : BitVec 32 := 0#32
  let v38 : BitVec 1 := Scalar.cmpi .slt c1024_i32_12 c0_i32_16
  let v39 : BitVec 32 := Scalar.extui v38
  let v40 : BitVec 32 := Scalar.subi v37 v39
  let v41 : BitVec 1 := Scalar.cmpi .ne v35 v40
  let v42 : BitVec 32 := Scalar.remsi v29 c1024_i32_12
  let c0_i32_17 : BitVec 32 := 0#32
  let v43 : BitVec 1 := Scalar.cmpi .ne v42 c0_i32_17
  let v44 : BitVec 1 := Scalar.andi v41 v43
  let c1_i32_18 : BitVec 32 := 1#32
  let v45 : BitVec 32 := Scalar.subi v30 c1_i32_18
  let v46 : BitVec 32 := Scalar.select v44 v45 v30
  let c1024_i32_19 : BitVec 32 := 1024#32
  let v47 : BitVec 32 := Scalar.divsi v1 c1024_i32_19
  let c0_i32_20 : BitVec 32 := 0#32
  let v48 : BitVec 1 := Scalar.cmpi .sgt v1 c0_i32_20
  let v49 : BitVec 32 := Scalar.extui v48
  let c0_i32_21 : BitVec 32 := 0#32
  let v50 : BitVec 1 := Scalar.cmpi .slt v1 c0_i32_21
  let v51 : BitVec 32 := Scalar.extui v50
  let v52 : BitVec 32 := Scalar.subi v49 v51
  let c0_i32_22 : BitVec 32 := 0#32
  let v53 : BitVec 1 := Scalar.cmpi .sgt c1024_i32_19 c0_i32_22
  let v54 : BitVec 32 := Scalar.extui v53
  let c0_i32_23 : BitVec 32 := 0#32
  let v55 : BitVec 1 := Scalar.cmpi .slt c1024_i32_19 c0_i32_23
  let v56 : BitVec 32 := Scalar.extui v55
  let v57 : BitVec 32 := Scalar.subi v54 v56
  let v58 : BitVec 1 := Scalar.cmpi .ne v52 v57
  let v59 : BitVec 32 := Scalar.remsi v1 c1024_i32_19
  let c0_i32_24 : BitVec 32 := 0#32
  let v60 : BitVec 1 := Scalar.cmpi .ne v59 c0_i32_24
  let v61 : BitVec 1 := Scalar.andi v58 v60
  let c1_i32_25 : BitVec 32 := 1#32
  let v62 : BitVec 32 := Scalar.subi v47 c1_i32_25
  let v63 : BitVec 32 := Scalar.select v61 v62 v47
  let c0_i32_26 : BitVec 32 := 0#32
  ![v18.toNat, v46.toNat, v63.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluWgradIdeal.lean ====
abbrev S4096x4096 : Shape := ⟨2, ![4096, 4096]⟩
abbrev S4x5120x4096 : Shape := ⟨3, ![4, 5120, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .bf16⟩
  | .hbm, ⟨3, _⟩ => ⟨S4x5120x4096, .f32⟩
  | .hbm, ⟨4, _⟩ => ⟨S4x5120x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c1024_i32_0 : BitVec 32 := 1024#32
  let v1 : BitVec 32 := Scalar.muli arg1 c1024_i32_0
  let c1024_i32_1 : BitVec 32 := 1024#32
  let v2 : BitVec 32 := Scalar.divsi v0 c1024_i32_1
  let c0_i32 : BitVec 32 := 0#32
  let v3 : BitVec 1 := Scalar.cmpi .sgt v0 c0_i32
  let v4 : BitVec 32 := Scalar.extui v3
  let c0_i32_2 : BitVec 32 := 0#32
  let v5 : BitVec 1 := Scalar.cmpi .slt v0 c0_i32_2
  let v6 : BitVec 32 := Scalar.extui v5
  let v7 : BitVec 32 := Scalar.subi v4 v6
  let c0_i32_3 : BitVec 32 := 0#32
  let v8 : BitVec 1 := Scalar.cmpi .sgt c1024_i32_1 c0_i32_3
  let v9 : BitVec 32 := Scalar.extui v8
  let c0_i32_4 : BitVec 32 := 0#32
  let v10 : BitVec 1 := Scalar.cmpi .slt c1024_i32_1 c0_i32_4
  let v11 : BitVec 32 := Scalar.extui v10
  let v12 : BitVec 32 := Scalar.subi v9 v11
  let v13 : BitVec 1 := Scalar.cmpi .ne v7 v12
  let v14 : BitVec 32 := Scalar.remsi v0 c1024_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1024_i32_6 : BitVec 32 := 1024#32
  let c0_i32_7 : BitVec 32 := 0#32
  let v19 : BitVec 1 := Scalar.cmpi .eq c1024_i32_6 c0_i32_7
  let c1_i32_8 : BitVec 32 := 1#32
  let v20 : BitVec 32 := Scalar.select v19 c1_i32_8 c1024_i32_6
  let v21 : BitVec 32 := Scalar.remsi v0 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c3072_i32 : BitVec 32 := 3072#32
  let v29 : BitVec 32 := Scalar.addi c3072_i32 v28
  let c1024_i32_12 : BitVec 32 := 1024#32
  let v30 : BitVec 32 := Scalar.divsi v29 c1024_i32_12
  let c0_i32_13 : BitVec 32 := 0#32
  let v31 : BitVec 1 := Scalar.cmpi .sgt v29 c0_i32_13
  let v32 : BitVec 32 := Scalar.extui v31
  let c0_i32_14 : BitVec 32 := 0#32
  let v33 : BitVec 1 := Scalar.cmpi .slt v29 c0_i32_14
  let v34 : BitVec 32 := Scalar.extui v33
  let v35 : BitVec 32 := Scalar.subi v32 v34
  let c0_i32_15 : BitVec 32 := 0#32
  let v36 : BitVec 1 := Scalar.cmpi .sgt c1024_i32_12 c0_i32_15
  let v37 : BitVec 32 := Scalar.extui v36
  let c0_i32_16 : BitVec 32 := 0#32
  let v38 : BitVec 1 := Scalar.cmpi .slt c1024_i32_12 c0_i32_16
  let v39 : BitVec 32 := Scalar.extui v38
  let v40 : BitVec 32 := Scalar.subi v37 v39
  let v41 : BitVec 1 := Scalar.cmpi .ne v35 v40
  let v42 : BitVec 32 := Scalar.remsi v29 c1024_i32_12
  let c0_i32_17 : BitVec 32 := 0#32
  let v43 : BitVec 1 := Scalar.cmpi .ne v42 c0_i32_17
  let v44 : BitVec 1 := Scalar.andi v41 v43
  let c1_i32_18 : BitVec 32 := 1#32
  let v45 : BitVec 32 := Scalar.subi v30 c1_i32_18
  let v46 : BitVec 32 := Scalar.select v44 v45 v30
  let c1024_i32_19 : BitVec 32 := 1024#32
  let v47 : BitVec 32 := Scalar.divsi v1 c1024_i32_19
  let c0_i32_20 : BitVec 32 := 0#32
  let v48 : BitVec 1 := Scalar.cmpi .sgt v1 c0_i32_20
  let v49 : BitVec 32 := Scalar.extui v48
  let c0_i32_21 : BitVec 32 := 0#32
  let v50 : BitVec 1 := Scalar.cmpi .slt v1 c0_i32_21
  let v51 : BitVec 32 := Scalar.extui v50
  let v52 : BitVec 32 := Scalar.subi v49 v51
  let c0_i32_22 : BitVec 32 := 0#32
  let v53 : BitVec 1 := Scalar.cmpi .sgt c1024_i32_19 c0_i32_22
  let v54 : BitVec 32 := Scalar.extui v53
  let c0_i32_23 : BitVec 32 := 0#32
  let v55 : BitVec 1 := Scalar.cmpi .slt c1024_i32_19 c0_i32_23
  let v56 : BitVec 32 := Scalar.extui v55
  let v57 : BitVec 32 := Scalar.subi v54 v56
  let v58 : BitVec 1 := Scalar.cmpi .ne v52 v57
  let v59 : BitVec 32 := Scalar.remsi v1 c1024_i32_19
  let c0_i32_24 : BitVec 32 := 0#32
  let v60 : BitVec 1 := Scalar.cmpi .ne v59 c0_i32_24
  let v61 : BitVec 1 := Scalar.andi v58 v60
  let c1_i32_25 : BitVec 32 := 1#32
  let v62 : BitVec 32 := Scalar.subi v47 c1_i32_25
  let v63 : BitVec 32 := Scalar.select v61 v62 v47
  let c0_i32_26 : BitVec 32 := 0#32
  ![v18.toNat, v46.toNat, v63.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluWgradPlainIdeal.lean ====
abbrev S4096x4096 : Shape := ⟨2, ![4096, 4096]⟩
abbrev S4x5120x4096 : Shape := ⟨3, ![4, 5120, 4096]⟩
abbrev S4x1024x4096 : Shape := ⟨3, ![4, 1024, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .bf16⟩
  | .hbm, ⟨3, _⟩ => ⟨S4x5120x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4x1024x4096, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S4x5120x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== SsmInWgradU.lean ====
abbrev S4096x4096 : Shape := ⟨2, ![4096, 4096]⟩
abbrev S4096x8192 : Shape := ⟨2, ![4096, 8192]⟩
abbrev S4x5120x4096 : Shape := ⟨3, ![4, 5120, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .f32⟩
  | .hbm, ⟨2, _⟩ => ⟨S4096x4096, .bf16⟩
  | .hbm, ⟨3, _⟩ => ⟨S4x5120x4096, .f32⟩
  | .hbm, ⟨4, _⟩ => ⟨S4x5120x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c1024_i32_0 : BitVec 32 := 1024#32
  let v1 : BitVec 32 := Scalar.muli arg1 c1024_i32_0
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2048_i32 c0_i32_2
  let v9 : BitVec 32 := Scalar.extui v8
  let c0_i32_3 : BitVec 32 := 0#32
  let v10 : BitVec 1 := Scalar.cmpi .slt c2048_i32 c0_i32_3
  let v11 : BitVec 32 := Scalar.extui v10
  let v12 : BitVec 32 := Scalar.subi v9 v11
  let v13 : BitVec 1 := Scalar.cmpi .ne v7 v12
  let v14 : BitVec 32 := Scalar.remsi v1 c2048_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let v19 : BitVec 32 := Scalar.addi c0_i32_5 v18
  let c2048_i32_6 : BitVec 32 := 2048#32
  let c0_i32_7 : BitVec 32 := 0#32
  let v20 : BitVec 1 := Scalar.cmpi .eq c2048_i32_6 c0_i32_7
  let c1_i32_8 : BitVec 32 := 1#32
  let v21 : BitVec 32 := Scalar.select v20 c1_i32_8 c2048_i32_6
  let v22 : BitVec 32 := Scalar.remsi v0 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c1024_i32_12 : BitVec 32 := 1024#32
  let v30 : BitVec 32 := Scalar.addi c1024_i32_12 v29
  let c2048_i32_13 : BitVec 32 := 2048#32
  let v31 : BitVec 32 := Scalar.divsi v0 c2048_i32_13
  let c0_i32_14 : BitVec 32 := 0#32
  let v32 : BitVec 1 := Scalar.cmpi .sgt v0 c0_i32_14
  let v33 : BitVec 32 := Scalar.extui v32
  let c0_i32_15 : BitVec 32 := 0#32
  let v34 : BitVec 1 := Scalar.cmpi .slt v0 c0_i32_15
  let v35 : BitVec 32 := Scalar.extui v34
  let v36 : BitVec 32 := Scalar.subi v33 v35
  let c0_i32_16 : BitVec 32 := 0#32
  let v37 : BitVec 1 := Scalar.cmpi .sgt c2048_i32_13 c0_i32_16
  let v38 : BitVec 32 := Scalar.extui v37
  let c0_i32_17 : BitVec 32 := 0#32
  let v39 : BitVec 1 := Scalar.cmpi .slt c2048_i32_13 c0_i32_17
  let v40 : BitVec 32 := Scalar.extui v39
  let v41 : BitVec 32 := Scalar.subi v38 v40
  let v42 : BitVec 1 := Scalar.cmpi .ne v36 v41
  let v43 : BitVec 32 := Scalar.remsi v0 c2048_i32_13
  let c0_i32_18 : BitVec 32 := 0#32
  let v44 : BitVec 1 := Scalar.cmpi .ne v43 c0_i32_18
  let v45 : BitVec 1 := Scalar.andi v42 v44
  let c1_i32_19 : BitVec 32 := 1#32
  let v46 : BitVec 32 := Scalar.subi v31 c1_i32_19
  let v47 : BitVec 32 := Scalar.select v45 v46 v31
  let c2048_i32_20 : BitVec 32 := 2048#32
  let v48 : BitVec 32 := Scalar.muli v47 c2048_i32_20
  let c2048_i32_21 : BitVec 32 := 2048#32
  let c0_i32_22 : BitVec 32 := 0#32
  let v49 : BitVec 1 := Scalar.cmpi .eq c2048_i32_21 c0_i32_22
  let c1_i32_23 : BitVec 32 := 1#32
  let v50 : BitVec 32 := Scalar.select v49 c1_i32_23 c2048_i32_21
  let v51 : BitVec 32 := Scalar.remsi v1 v50
  let c0_i32_24 : BitVec 32 := 0#32
  let v52 : BitVec 1 := Scalar.cmpi .ne v51 c0_i32_24
  let c0_i32_25 : BitVec 32 := 0#32
  let v53 : BitVec 1 := Scalar.cmpi .slt v51 c0_i32_25
  let c0_i32_26 : BitVec 32 := 0#32
  let v54 : BitVec 1 := Scalar.cmpi .slt v50 c0_i32_26
  let v55 : BitVec 1 := Scalar.xori v53 v54
  let v56 : BitVec 1 := Scalar.andi v55 v52
  let v57 : BitVec 32 := Scalar.addi v51 v50
  let v58 : BitVec 32 := Scalar.select v56 v57 v51
  let v59 : BitVec 32 := Scalar.addi v48 v58
  let c1024_i32_27 : BitVec 32 := 1024#32
  let v60 : BitVec 32 := Scalar.divsi v30 c1024_i32_27
  let c0_i32_28 : BitVec 32 := 0#32
  let v61 : BitVec 1 := Scalar.cmpi .sgt v30 c0_i32_28
  let v62 : BitVec 32 := Scalar.extui v61
  let c0_i32_29 : BitVec 32 := 0#32
  let v63 : BitVec 1 := Scalar.cmpi .slt v30 c0_i32_29
  let v64 : BitVec 32 := Scalar.extui v63
  let v65 : BitVec 32 := Scalar.subi v62 v64
  let c0_i32_30 : BitVec 32 := 0#32
  let v66 : BitVec 1 := Scalar.cmpi .sgt c1024_i32_27 c0_i32_30
  let v67 : BitVec 32 := Scalar.extui v66
  let c0_i32_31 : BitVec 32 := 0#32
  let v68 : BitVec 1 := Scalar.cmpi .slt c1024_i32_27 c0_i32_31
  let v69 : BitVec 32 := Scalar.extui v68
  let v70 : BitVec 32 := Scalar.subi v67 v69
  let v71 : BitVec 1 := Scalar.cmpi .ne v65 v70
  let v72 : BitVec 32 := Scalar.remsi v30 c1024_i32_27
  let c0_i32_32 : BitVec 32 := 0#32
  let v73 : BitVec 1 := Scalar.cmpi .ne v72 c0_i32_32
  let v74 : BitVec 1 := Scalar.andi v71 v73
  let c1_i32_33 : BitVec 32 := 1#32
  let v75 : BitVec 32 := Scalar.subi v60 c1_i32_33
  let v76 : BitVec 32 := Scalar.select v74 v75 v60
  let c1024_i32_34 : BitVec 32 := 1024#32
  let v77 : BitVec 32 := Scalar.divsi v59 c1024_i32_34
  let c0_i32_35 : BitVec 32 := 0#32
  let v78 : BitVec 1 := Scalar.cmpi .sgt v59 c0_i32_35
  let v79 : BitVec 32 := Scalar.extui v78
  let c0_i32_36 : BitVec 32 := 0#32
  let v80 : BitVec 1 := Scalar.cmpi .slt v59 c0_i32_36
  let v81 : BitVec 32 := Scalar.extui v80
  let v82 : BitVec 32 := Scalar.subi v79 v81
  let c0_i32_37 : BitVec 32 := 0#32
  let v83 : BitVec 1 := Scalar.cmpi .sgt c1024_i32_34 c0_i32_37
  let v84 : BitVec 32 := Scalar.extui v83
  let c0_i32_38 : BitVec 32 := 0#32
  let v85 : BitVec 1 := Scalar.cmpi .slt c1024_i32_34 c0_i32_38
  let v86 : BitVec 32 := Scalar.extui v85
  let v87 : BitVec 32 := Scalar.subi v84 v86
  let v88 : BitVec 1 := Scalar.cmpi .ne v82 v87
  let v89 : BitVec 32 := Scalar.remsi v59 c1024_i32_34
  let c0_i32_39 : BitVec 32 := 0#32
  let v90 : BitVec 1 := Scalar.cmpi .ne v89 c0_i32_39
  let v91 : BitVec 1 := Scalar.andi v88 v90
  let c1_i32_40 : BitVec 32 := 1#32
  let v92 : BitVec 32 := Scalar.subi v77 c1_i32_40
  let v93 : BitVec 32 := Scalar.select v91 v92 v77
  let c0_i32_41 : BitVec 32 := 0#32
  ![v19.toNat, v76.toNat, v93.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmInWgradUIdeal.lean ====
abbrev S4096x4096 : Shape := ⟨2, ![4096, 4096]⟩
abbrev S4096x8192 : Shape := ⟨2, ![4096, 8192]⟩
abbrev S4x5120x4096 : Shape := ⟨3, ![4, 5120, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .f32⟩
  | .hbm, ⟨2, _⟩ => ⟨S4096x4096, .bf16⟩
  | .hbm, ⟨3, _⟩ => ⟨S4x5120x4096, .f32⟩
  | .hbm, ⟨4, _⟩ => ⟨S4x5120x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c1024_i32_0 : BitVec 32 := 1024#32
  let v1 : BitVec 32 := Scalar.muli arg1 c1024_i32_0
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2048_i32 c0_i32_2
  let v9 : BitVec 32 := Scalar.extui v8
  let c0_i32_3 : BitVec 32 := 0#32
  let v10 : BitVec 1 := Scalar.cmpi .slt c2048_i32 c0_i32_3
  let v11 : BitVec 32 := Scalar.extui v10
  let v12 : BitVec 32 := Scalar.subi v9 v11
  let v13 : BitVec 1 := Scalar.cmpi .ne v7 v12
  let v14 : BitVec 32 := Scalar.remsi v1 c2048_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let v19 : BitVec 32 := Scalar.addi c0_i32_5 v18
  let c2048_i32_6 : BitVec 32 := 2048#32
  let c0_i32_7 : BitVec 32 := 0#32
  let v20 : BitVec 1 := Scalar.cmpi .eq c2048_i32_6 c0_i32_7
  let c1_i32_8 : BitVec 32 := 1#32
  let v21 : BitVec 32 := Scalar.select v20 c1_i32_8 c2048_i32_6
  let v22 : BitVec 32 := Scalar.remsi v0 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c1024_i32_12 : BitVec 32 := 1024#32
  let v30 : BitVec 32 := Scalar.addi c1024_i32_12 v29
  let c2048_i32_13 : BitVec 32 := 2048#32
  let v31 : BitVec 32 := Scalar.divsi v0 c2048_i32_13
  let c0_i32_14 : BitVec 32 := 0#32
  let v32 : BitVec 1 := Scalar.cmpi .sgt v0 c0_i32_14
  let v33 : BitVec 32 := Scalar.extui v32
  let c0_i32_15 : BitVec 32 := 0#32
  let v34 : BitVec 1 := Scalar.cmpi .slt v0 c0_i32_15
  let v35 : BitVec 32 := Scalar.extui v34
  let v36 : BitVec 32 := Scalar.subi v33 v35
  let c0_i32_16 : BitVec 32 := 0#32
  let v37 : BitVec 1 := Scalar.cmpi .sgt c2048_i32_13 c0_i32_16
  let v38 : BitVec 32 := Scalar.extui v37
  let c0_i32_17 : BitVec 32 := 0#32
  let v39 : BitVec 1 := Scalar.cmpi .slt c2048_i32_13 c0_i32_17
  let v40 : BitVec 32 := Scalar.extui v39
  let v41 : BitVec 32 := Scalar.subi v38 v40
  let v42 : BitVec 1 := Scalar.cmpi .ne v36 v41
  let v43 : BitVec 32 := Scalar.remsi v0 c2048_i32_13
  let c0_i32_18 : BitVec 32 := 0#32
  let v44 : BitVec 1 := Scalar.cmpi .ne v43 c0_i32_18
  let v45 : BitVec 1 := Scalar.andi v42 v44
  let c1_i32_19 : BitVec 32 := 1#32
  let v46 : BitVec 32 := Scalar.subi v31 c1_i32_19
  let v47 : BitVec 32 := Scalar.select v45 v46 v31
  let c2048_i32_20 : BitVec 32 := 2048#32
  let v48 : BitVec 32 := Scalar.muli v47 c2048_i32_20
  let c2048_i32_21 : BitVec 32 := 2048#32
  let c0_i32_22 : BitVec 32 := 0#32
  let v49 : BitVec 1 := Scalar.cmpi .eq c2048_i32_21 c0_i32_22
  let c1_i32_23 : BitVec 32 := 1#32
  let v50 : BitVec 32 := Scalar.select v49 c1_i32_23 c2048_i32_21
  let v51 : BitVec 32 := Scalar.remsi v1 v50
  let c0_i32_24 : BitVec 32 := 0#32
  let v52 : BitVec 1 := Scalar.cmpi .ne v51 c0_i32_24
  let c0_i32_25 : BitVec 32 := 0#32
  let v53 : BitVec 1 := Scalar.cmpi .slt v51 c0_i32_25
  let c0_i32_26 : BitVec 32 := 0#32
  let v54 : BitVec 1 := Scalar.cmpi .slt v50 c0_i32_26
  let v55 : BitVec 1 := Scalar.xori v53 v54
  let v56 : BitVec 1 := Scalar.andi v55 v52
  let v57 : BitVec 32 := Scalar.addi v51 v50
  let v58 : BitVec 32 := Scalar.select v56 v57 v51
  let v59 : BitVec 32 := Scalar.addi v48 v58
  let c1024_i32_27 : BitVec 32 := 1024#32
  let v60 : BitVec 32 := Scalar.divsi v30 c1024_i32_27
  let c0_i32_28 : BitVec 32 := 0#32
  let v61 : BitVec 1 := Scalar.cmpi .sgt v30 c0_i32_28
  let v62 : BitVec 32 := Scalar.extui v61
  let c0_i32_29 : BitVec 32 := 0#32
  let v63 : BitVec 1 := Scalar.cmpi .slt v30 c0_i32_29
  let v64 : BitVec 32 := Scalar.extui v63
  let v65 : BitVec 32 := Scalar.subi v62 v64
  let c0_i32_30 : BitVec 32 := 0#32
  let v66 : BitVec 1 := Scalar.cmpi .sgt c1024_i32_27 c0_i32_30
  let v67 : BitVec 32 := Scalar.extui v66
  let c0_i32_31 : BitVec 32 := 0#32
  let v68 : BitVec 1 := Scalar.cmpi .slt c1024_i32_27 c0_i32_31
  let v69 : BitVec 32 := Scalar.extui v68
  let v70 : BitVec 32 := Scalar.subi v67 v69
  let v71 : BitVec 1 := Scalar.cmpi .ne v65 v70
  let v72 : BitVec 32 := Scalar.remsi v30 c1024_i32_27
  let c0_i32_32 : BitVec 32 := 0#32
  let v73 : BitVec 1 := Scalar.cmpi .ne v72 c0_i32_32
  let v74 : BitVec 1 := Scalar.andi v71 v73
  let c1_i32_33 : BitVec 32 := 1#32
  let v75 : BitVec 32 := Scalar.subi v60 c1_i32_33
  let v76 : BitVec 32 := Scalar.select v74 v75 v60
  let c1024_i32_34 : BitVec 32 := 1024#32
  let v77 : BitVec 32 := Scalar.divsi v59 c1024_i32_34
  let c0_i32_35 : BitVec 32 := 0#32
  let v78 : BitVec 1 := Scalar.cmpi .sgt v59 c0_i32_35
  let v79 : BitVec 32 := Scalar.extui v78
  let c0_i32_36 : BitVec 32 := 0#32
  let v80 : BitVec 1 := Scalar.cmpi .slt v59 c0_i32_36
  let v81 : BitVec 32 := Scalar.extui v80
  let v82 : BitVec 32 := Scalar.subi v79 v81
  let c0_i32_37 : BitVec 32 := 0#32
  let v83 : BitVec 1 := Scalar.cmpi .sgt c1024_i32_34 c0_i32_37
  let v84 : BitVec 32 := Scalar.extui v83
  let c0_i32_38 : BitVec 32 := 0#32
  let v85 : BitVec 1 := Scalar.cmpi .slt c1024_i32_34 c0_i32_38
  let v86 : BitVec 32 := Scalar.extui v85
  let v87 : BitVec 32 := Scalar.subi v84 v86
  let v88 : BitVec 1 := Scalar.cmpi .ne v82 v87
  let v89 : BitVec 32 := Scalar.remsi v59 c1024_i32_34
  let c0_i32_39 : BitVec 32 := 0#32
  let v90 : BitVec 1 := Scalar.cmpi .ne v89 c0_i32_39
  let v91 : BitVec 1 := Scalar.andi v88 v90
  let c1_i32_40 : BitVec 32 := 1#32
  let v92 : BitVec 32 := Scalar.subi v77 c1_i32_40
  let v93 : BitVec 32 := Scalar.select v91 v92 v77
  let c0_i32_41 : BitVec 32 := 0#32
  ![v19.toNat, v76.toNat, v93.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmInWgradUPlainIdeal.lean ====
abbrev S4096x4096 : Shape := ⟨2, ![4096, 4096]⟩
abbrev S4096x8192 : Shape := ⟨2, ![4096, 8192]⟩
abbrev S4x5120x4096 : Shape := ⟨3, ![4, 5120, 4096]⟩
abbrev S2x2048x2x2048 : Shape := ⟨4, ![2, 2048, 2, 2048]⟩
abbrev S2x2048x4096 : Shape := ⟨3, ![2, 2048, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .f32⟩
  | .hbm, ⟨2, _⟩ => ⟨S4096x4096, .bf16⟩
  | .hbm, ⟨3, _⟩ => ⟨S4x5120x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S2x2048x2x2048, .f32⟩
  | .hbm, ⟨11, _⟩ => ⟨S2x2048x2x2048, .f32⟩
  | .hbm, ⟨12, _⟩ => ⟨S2x2048x4096, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S4x5120x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== SsmInWgradGate.lean ====
abbrev S4096x4096 : Shape := ⟨2, ![4096, 4096]⟩
abbrev S4096x8192 : Shape := ⟨2, ![4096, 8192]⟩
abbrev S4x5120x4096 : Shape := ⟨3, ![4, 5120, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .f32⟩
  | .hbm, ⟨2, _⟩ => ⟨S4096x4096, .bf16⟩
  | .hbm, ⟨3, _⟩ => ⟨S4x5120x4096, .f32⟩
  | .hbm, ⟨4, _⟩ => ⟨S4x5120x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c1024_i32_0 : BitVec 32 := 1024#32
  let v1 : BitVec 32 := Scalar.muli arg1 c1024_i32_0
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2048_i32 c0_i32_2
  let v9 : BitVec 32 := Scalar.extui v8
  let c0_i32_3 : BitVec 32 := 0#32
  let v10 : BitVec 1 := Scalar.cmpi .slt c2048_i32 c0_i32_3
  let v11 : BitVec 32 := Scalar.extui v10
  let v12 : BitVec 32 := Scalar.subi v9 v11
  let v13 : BitVec 1 := Scalar.cmpi .ne v7 v12
  let v14 : BitVec 32 := Scalar.remsi v1 c2048_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32 : BitVec 32 := 2#32
  let v19 : BitVec 32 := Scalar.addi c2_i32 v18
  let c2048_i32_5 : BitVec 32 := 2048#32
  let c0_i32_6 : BitVec 32 := 0#32
  let v20 : BitVec 1 := Scalar.cmpi .eq c2048_i32_5 c0_i32_6
  let c1_i32_7 : BitVec 32 := 1#32
  let v21 : BitVec 32 := Scalar.select v20 c1_i32_7 c2048_i32_5
  let v22 : BitVec 32 := Scalar.remsi v0 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c1024_i32_11 : BitVec 32 := 1024#32
  let v30 : BitVec 32 := Scalar.addi c1024_i32_11 v29
  let c2048_i32_12 : BitVec 32 := 2048#32
  let v31 : BitVec 32 := Scalar.divsi v0 c2048_i32_12
  let c0_i32_13 : BitVec 32 := 0#32
  let v32 : BitVec 1 := Scalar.cmpi .sgt v0 c0_i32_13
  let v33 : BitVec 32 := Scalar.extui v32
  let c0_i32_14 : BitVec 32 := 0#32
  let v34 : BitVec 1 := Scalar.cmpi .slt v0 c0_i32_14
  let v35 : BitVec 32 := Scalar.extui v34
  let v36 : BitVec 32 := Scalar.subi v33 v35
  let c0_i32_15 : BitVec 32 := 0#32
  let v37 : BitVec 1 := Scalar.cmpi .sgt c2048_i32_12 c0_i32_15
  let v38 : BitVec 32 := Scalar.extui v37
  let c0_i32_16 : BitVec 32 := 0#32
  let v39 : BitVec 1 := Scalar.cmpi .slt c2048_i32_12 c0_i32_16
  let v40 : BitVec 32 := Scalar.extui v39
  let v41 : BitVec 32 := Scalar.subi v38 v40
  let v42 : BitVec 1 := Scalar.cmpi .ne v36 v41
  let v43 : BitVec 32 := Scalar.remsi v0 c2048_i32_12
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c2048_i32_19 : BitVec 32 := 2048#32
  let v48 : BitVec 32 := Scalar.muli v47 c2048_i32_19
  let c2048_i32_20 : BitVec 32 := 2048#32
  let c0_i32_21 : BitVec 32 := 0#32
  let v49 : BitVec 1 := Scalar.cmpi .eq c2048_i32_20 c0_i32_21
  let c1_i32_22 : BitVec 32 := 1#32
  let v50 : BitVec 32 := Scalar.select v49 c1_i32_22 c2048_i32_20
  let v51 : BitVec 32 := Scalar.remsi v1 v50
  let c0_i32_23 : BitVec 32 := 0#32
  let v52 : BitVec 1 := Scalar.cmpi .ne v51 c0_i32_23
  let c0_i32_24 : BitVec 32 := 0#32
  let v53 : BitVec 1 := Scalar.cmpi .slt v51 c0_i32_24
  let c0_i32_25 : BitVec 32 := 0#32
  let v54 : BitVec 1 := Scalar.cmpi .slt v50 c0_i32_25
  let v55 : BitVec 1 := Scalar.xori v53 v54
  let v56 : BitVec 1 := Scalar.andi v55 v52
  let v57 : BitVec 32 := Scalar.addi v51 v50
  let v58 : BitVec 32 := Scalar.select v56 v57 v51
  let v59 : BitVec 32 := Scalar.addi v48 v58
  let c1024_i32_26 : BitVec 32 := 1024#32
  let v60 : BitVec 32 := Scalar.divsi v30 c1024_i32_26
  let c0_i32_27 : BitVec 32 := 0#32
  let v61 : BitVec 1 := Scalar.cmpi .sgt v30 c0_i32_27
  let v62 : BitVec 32 := Scalar.extui v61
  let c0_i32_28 : BitVec 32 := 0#32
  let v63 : BitVec 1 := Scalar.cmpi .slt v30 c0_i32_28
  let v64 : BitVec 32 := Scalar.extui v63
  let v65 : BitVec 32 := Scalar.subi v62 v64
  let c0_i32_29 : BitVec 32 := 0#32
  let v66 : BitVec 1 := Scalar.cmpi .sgt c1024_i32_26 c0_i32_29
  let v67 : BitVec 32 := Scalar.extui v66
  let c0_i32_30 : BitVec 32 := 0#32
  let v68 : BitVec 1 := Scalar.cmpi .slt c1024_i32_26 c0_i32_30
  let v69 : BitVec 32 := Scalar.extui v68
  let v70 : BitVec 32 := Scalar.subi v67 v69
  let v71 : BitVec 1 := Scalar.cmpi .ne v65 v70
  let v72 : BitVec 32 := Scalar.remsi v30 c1024_i32_26
  let c0_i32_31 : BitVec 32 := 0#32
  let v73 : BitVec 1 := Scalar.cmpi .ne v72 c0_i32_31
  let v74 : BitVec 1 := Scalar.andi v71 v73
  let c1_i32_32 : BitVec 32 := 1#32
  let v75 : BitVec 32 := Scalar.subi v60 c1_i32_32
  let v76 : BitVec 32 := Scalar.select v74 v75 v60
  let c1024_i32_33 : BitVec 32 := 1024#32
  let v77 : BitVec 32 := Scalar.divsi v59 c1024_i32_33
  let c0_i32_34 : BitVec 32 := 0#32
  let v78 : BitVec 1 := Scalar.cmpi .sgt v59 c0_i32_34
  let v79 : BitVec 32 := Scalar.extui v78
  let c0_i32_35 : BitVec 32 := 0#32
  let v80 : BitVec 1 := Scalar.cmpi .slt v59 c0_i32_35
  let v81 : BitVec 32 := Scalar.extui v80
  let v82 : BitVec 32 := Scalar.subi v79 v81
  let c0_i32_36 : BitVec 32 := 0#32
  let v83 : BitVec 1 := Scalar.cmpi .sgt c1024_i32_33 c0_i32_36
  let v84 : BitVec 32 := Scalar.extui v83
  let c0_i32_37 : BitVec 32 := 0#32
  let v85 : BitVec 1 := Scalar.cmpi .slt c1024_i32_33 c0_i32_37
  let v86 : BitVec 32 := Scalar.extui v85
  let v87 : BitVec 32 := Scalar.subi v84 v86
  let v88 : BitVec 1 := Scalar.cmpi .ne v82 v87
  let v89 : BitVec 32 := Scalar.remsi v59 c1024_i32_33
  let c0_i32_38 : BitVec 32 := 0#32
  let v90 : BitVec 1 := Scalar.cmpi .ne v89 c0_i32_38
  let v91 : BitVec 1 := Scalar.andi v88 v90
  let c1_i32_39 : BitVec 32 := 1#32
  let v92 : BitVec 32 := Scalar.subi v77 c1_i32_39
  let v93 : BitVec 32 := Scalar.select v91 v92 v77
  let c0_i32_40 : BitVec 32 := 0#32
  ![v19.toNat, v76.toNat, v93.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmInWgradGateIdeal.lean ====
abbrev S4096x4096 : Shape := ⟨2, ![4096, 4096]⟩
abbrev S4096x8192 : Shape := ⟨2, ![4096, 8192]⟩
abbrev S4x5120x4096 : Shape := ⟨3, ![4, 5120, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .f32⟩
  | .hbm, ⟨2, _⟩ => ⟨S4096x4096, .bf16⟩
  | .hbm, ⟨3, _⟩ => ⟨S4x5120x4096, .f32⟩
  | .hbm, ⟨4, _⟩ => ⟨S4x5120x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c1024_i32_0 : BitVec 32 := 1024#32
  let v1 : BitVec 32 := Scalar.muli arg1 c1024_i32_0
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2048_i32 c0_i32_2
  let v9 : BitVec 32 := Scalar.extui v8
  let c0_i32_3 : BitVec 32 := 0#32
  let v10 : BitVec 1 := Scalar.cmpi .slt c2048_i32 c0_i32_3
  let v11 : BitVec 32 := Scalar.extui v10
  let v12 : BitVec 32 := Scalar.subi v9 v11
  let v13 : BitVec 1 := Scalar.cmpi .ne v7 v12
  let v14 : BitVec 32 := Scalar.remsi v1 c2048_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32 : BitVec 32 := 2#32
  let v19 : BitVec 32 := Scalar.addi c2_i32 v18
  let c2048_i32_5 : BitVec 32 := 2048#32
  let c0_i32_6 : BitVec 32 := 0#32
  let v20 : BitVec 1 := Scalar.cmpi .eq c2048_i32_5 c0_i32_6
  let c1_i32_7 : BitVec 32 := 1#32
  let v21 : BitVec 32 := Scalar.select v20 c1_i32_7 c2048_i32_5
  let v22 : BitVec 32 := Scalar.remsi v0 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c1024_i32_11 : BitVec 32 := 1024#32
  let v30 : BitVec 32 := Scalar.addi c1024_i32_11 v29
  let c2048_i32_12 : BitVec 32 := 2048#32
  let v31 : BitVec 32 := Scalar.divsi v0 c2048_i32_12
  let c0_i32_13 : BitVec 32 := 0#32
  let v32 : BitVec 1 := Scalar.cmpi .sgt v0 c0_i32_13
  let v33 : BitVec 32 := Scalar.extui v32
  let c0_i32_14 : BitVec 32 := 0#32
  let v34 : BitVec 1 := Scalar.cmpi .slt v0 c0_i32_14
  let v35 : BitVec 32 := Scalar.extui v34
  let v36 : BitVec 32 := Scalar.subi v33 v35
  let c0_i32_15 : BitVec 32 := 0#32
  let v37 : BitVec 1 := Scalar.cmpi .sgt c2048_i32_12 c0_i32_15
  let v38 : BitVec 32 := Scalar.extui v37
  let c0_i32_16 : BitVec 32 := 0#32
  let v39 : BitVec 1 := Scalar.cmpi .slt c2048_i32_12 c0_i32_16
  let v40 : BitVec 32 := Scalar.extui v39
  let v41 : BitVec 32 := Scalar.subi v38 v40
  let v42 : BitVec 1 := Scalar.cmpi .ne v36 v41
  let v43 : BitVec 32 := Scalar.remsi v0 c2048_i32_12
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c2048_i32_19 : BitVec 32 := 2048#32
  let v48 : BitVec 32 := Scalar.muli v47 c2048_i32_19
  let c2048_i32_20 : BitVec 32 := 2048#32
  let c0_i32_21 : BitVec 32 := 0#32
  let v49 : BitVec 1 := Scalar.cmpi .eq c2048_i32_20 c0_i32_21
  let c1_i32_22 : BitVec 32 := 1#32
  let v50 : BitVec 32 := Scalar.select v49 c1_i32_22 c2048_i32_20
  let v51 : BitVec 32 := Scalar.remsi v1 v50
  let c0_i32_23 : BitVec 32 := 0#32
  let v52 : BitVec 1 := Scalar.cmpi .ne v51 c0_i32_23
  let c0_i32_24 : BitVec 32 := 0#32
  let v53 : BitVec 1 := Scalar.cmpi .slt v51 c0_i32_24
  let c0_i32_25 : BitVec 32 := 0#32
  let v54 : BitVec 1 := Scalar.cmpi .slt v50 c0_i32_25
  let v55 : BitVec 1 := Scalar.xori v53 v54
  let v56 : BitVec 1 := Scalar.andi v55 v52
  let v57 : BitVec 32 := Scalar.addi v51 v50
  let v58 : BitVec 32 := Scalar.select v56 v57 v51
  let v59 : BitVec 32 := Scalar.addi v48 v58
  let c1024_i32_26 : BitVec 32 := 1024#32
  let v60 : BitVec 32 := Scalar.divsi v30 c1024_i32_26
  let c0_i32_27 : BitVec 32 := 0#32
  let v61 : BitVec 1 := Scalar.cmpi .sgt v30 c0_i32_27
  let v62 : BitVec 32 := Scalar.extui v61
  let c0_i32_28 : BitVec 32 := 0#32
  let v63 : BitVec 1 := Scalar.cmpi .slt v30 c0_i32_28
  let v64 : BitVec 32 := Scalar.extui v63
  let v65 : BitVec 32 := Scalar.subi v62 v64
  let c0_i32_29 : BitVec 32 := 0#32
  let v66 : BitVec 1 := Scalar.cmpi .sgt c1024_i32_26 c0_i32_29
  let v67 : BitVec 32 := Scalar.extui v66
  let c0_i32_30 : BitVec 32 := 0#32
  let v68 : BitVec 1 := Scalar.cmpi .slt c1024_i32_26 c0_i32_30
  let v69 : BitVec 32 := Scalar.extui v68
  let v70 : BitVec 32 := Scalar.subi v67 v69
  let v71 : BitVec 1 := Scalar.cmpi .ne v65 v70
  let v72 : BitVec 32 := Scalar.remsi v30 c1024_i32_26
  let c0_i32_31 : BitVec 32 := 0#32
  let v73 : BitVec 1 := Scalar.cmpi .ne v72 c0_i32_31
  let v74 : BitVec 1 := Scalar.andi v71 v73
  let c1_i32_32 : BitVec 32 := 1#32
  let v75 : BitVec 32 := Scalar.subi v60 c1_i32_32
  let v76 : BitVec 32 := Scalar.select v74 v75 v60
  let c1024_i32_33 : BitVec 32 := 1024#32
  let v77 : BitVec 32 := Scalar.divsi v59 c1024_i32_33
  let c0_i32_34 : BitVec 32 := 0#32
  let v78 : BitVec 1 := Scalar.cmpi .sgt v59 c0_i32_34
  let v79 : BitVec 32 := Scalar.extui v78
  let c0_i32_35 : BitVec 32 := 0#32
  let v80 : BitVec 1 := Scalar.cmpi .slt v59 c0_i32_35
  let v81 : BitVec 32 := Scalar.extui v80
  let v82 : BitVec 32 := Scalar.subi v79 v81
  let c0_i32_36 : BitVec 32 := 0#32
  let v83 : BitVec 1 := Scalar.cmpi .sgt c1024_i32_33 c0_i32_36
  let v84 : BitVec 32 := Scalar.extui v83
  let c0_i32_37 : BitVec 32 := 0#32
  let v85 : BitVec 1 := Scalar.cmpi .slt c1024_i32_33 c0_i32_37
  let v86 : BitVec 32 := Scalar.extui v85
  let v87 : BitVec 32 := Scalar.subi v84 v86
  let v88 : BitVec 1 := Scalar.cmpi .ne v82 v87
  let v89 : BitVec 32 := Scalar.remsi v59 c1024_i32_33
  let c0_i32_38 : BitVec 32 := 0#32
  let v90 : BitVec 1 := Scalar.cmpi .ne v89 c0_i32_38
  let v91 : BitVec 1 := Scalar.andi v88 v90
  let c1_i32_39 : BitVec 32 := 1#32
  let v92 : BitVec 32 := Scalar.subi v77 c1_i32_39
  let v93 : BitVec 32 := Scalar.select v91 v92 v77
  let c0_i32_40 : BitVec 32 := 0#32
  ![v19.toNat, v76.toNat, v93.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmInWgradGatePlainIdeal.lean ====
abbrev S4096x4096 : Shape := ⟨2, ![4096, 4096]⟩
abbrev S4096x8192 : Shape := ⟨2, ![4096, 8192]⟩
abbrev S4x5120x4096 : Shape := ⟨3, ![4, 5120, 4096]⟩
abbrev S2x2048x2x2048 : Shape := ⟨4, ![2, 2048, 2, 2048]⟩
abbrev S2x2048x4096 : Shape := ⟨3, ![2, 2048, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .f32⟩
  | .hbm, ⟨2, _⟩ => ⟨S4096x4096, .bf16⟩
  | .hbm, ⟨3, _⟩ => ⟨S4x5120x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S2x2048x2x2048, .f32⟩
  | .hbm, ⟨11, _⟩ => ⟨S2x2048x2x2048, .f32⟩
  | .hbm, ⟨12, _⟩ => ⟨S2x2048x4096, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S4x5120x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== AttnOutWgrad.lean ====
abbrev S4096x4096 : Shape := ⟨2, ![4096, 4096]⟩
abbrev S4x5120x4096 : Shape := ⟨3, ![4, 5120, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .bf16⟩
  | .hbm, ⟨3, _⟩ => ⟨S4x5120x4096, .f32⟩
  | .hbm, ⟨4, _⟩ => ⟨S4x5120x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c1024_i32_0 : BitVec 32 := 1024#32
  let v1 : BitVec 32 := Scalar.muli arg1 c1024_i32_0
  let c1024_i32_1 : BitVec 32 := 1024#32
  let v2 : BitVec 32 := Scalar.divsi v0 c1024_i32_1
  let c0_i32 : BitVec 32 := 0#32
  let v3 : BitVec 1 := Scalar.cmpi .sgt v0 c0_i32
  let v4 : BitVec 32 := Scalar.extui v3
  let c0_i32_2 : BitVec 32 := 0#32
  let v5 : BitVec 1 := Scalar.cmpi .slt v0 c0_i32_2
  let v6 : BitVec 32 := Scalar.extui v5
  let v7 : BitVec 32 := Scalar.subi v4 v6
  let c0_i32_3 : BitVec 32 := 0#32
  let v8 : BitVec 1 := Scalar.cmpi .sgt c1024_i32_1 c0_i32_3
  let v9 : BitVec 32 := Scalar.extui v8
  let c0_i32_4 : BitVec 32 := 0#32
  let v10 : BitVec 1 := Scalar.cmpi .slt c1024_i32_1 c0_i32_4
  let v11 : BitVec 32 := Scalar.extui v10
  let v12 : BitVec 32 := Scalar.subi v9 v11
  let v13 : BitVec 1 := Scalar.cmpi .ne v7 v12
  let v14 : BitVec 32 := Scalar.remsi v0 c1024_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1024_i32_6 : BitVec 32 := 1024#32
  let c0_i32_7 : BitVec 32 := 0#32
  let v19 : BitVec 1 := Scalar.cmpi .eq c1024_i32_6 c0_i32_7
  let c1_i32_8 : BitVec 32 := 1#32
  let v20 : BitVec 32 := Scalar.select v19 c1_i32_8 c1024_i32_6
  let v21 : BitVec 32 := Scalar.remsi v0 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let v29 : BitVec 32 := Scalar.addi c0_i32_12 v28
  let c1024_i32_13 : BitVec 32 := 1024#32
  let v30 : BitVec 32 := Scalar.divsi v29 c1024_i32_13
  let c0_i32_14 : BitVec 32 := 0#32
  let v31 : BitVec 1 := Scalar.cmpi .sgt v29 c0_i32_14
  let v32 : BitVec 32 := Scalar.extui v31
  let c0_i32_15 : BitVec 32 := 0#32
  let v33 : BitVec 1 := Scalar.cmpi .slt v29 c0_i32_15
  let v34 : BitVec 32 := Scalar.extui v33
  let v35 : BitVec 32 := Scalar.subi v32 v34
  let c0_i32_16 : BitVec 32 := 0#32
  let v36 : BitVec 1 := Scalar.cmpi .sgt c1024_i32_13 c0_i32_16
  let v37 : BitVec 32 := Scalar.extui v36
  let c0_i32_17 : BitVec 32 := 0#32
  let v38 : BitVec 1 := Scalar.cmpi .slt c1024_i32_13 c0_i32_17
  let v39 : BitVec 32 := Scalar.extui v38
  let v40 : BitVec 32 := Scalar.subi v37 v39
  let v41 : BitVec 1 := Scalar.cmpi .ne v35 v40
  let v42 : BitVec 32 := Scalar.remsi v29 c1024_i32_13
  let c0_i32_18 : BitVec 32 := 0#32
  let v43 : BitVec 1 := Scalar.cmpi .ne v42 c0_i32_18
  let v44 : BitVec 1 := Scalar.andi v41 v43
  let c1_i32_19 : BitVec 32 := 1#32
  let v45 : BitVec 32 := Scalar.subi v30 c1_i32_19
  let v46 : BitVec 32 := Scalar.select v44 v45 v30
  let c1024_i32_20 : BitVec 32 := 1024#32
  let v47 : BitVec 32 := Scalar.divsi v1 c1024_i32_20
  let c0_i32_21 : BitVec 32 := 0#32
  let v48 : BitVec 1 := Scalar.cmpi .sgt v1 c0_i32_21
  let v49 : BitVec 32 := Scalar.extui v48
  let c0_i32_22 : BitVec 32 := 0#32
  let v50 : BitVec 1 := Scalar.cmpi .slt v1 c0_i32_22
  let v51 : BitVec 32 := Scalar.extui v50
  let v52 : BitVec 32 := Scalar.subi v49 v51
  let c0_i32_23 : BitVec 32 := 0#32
  let v53 : BitVec 1 := Scalar.cmpi .sgt c1024_i32_20 c0_i32_23
  let v54 : BitVec 32 := Scalar.extui v53
  let c0_i32_24 : BitVec 32 := 0#32
  let v55 : BitVec 1 := Scalar.cmpi .slt c1024_i32_20 c0_i32_24
  let v56 : BitVec 32 := Scalar.extui v55
  let v57 : BitVec 32 := Scalar.subi v54 v56
  let v58 : BitVec 1 := Scalar.cmpi .ne v52 v57
  let v59 : BitVec 32 := Scalar.remsi v1 c1024_i32_20
  let c0_i32_25 : BitVec 32 := 0#32
  let v60 : BitVec 1 := Scalar.cmpi .ne v59 c0_i32_25
  let v61 : BitVec 1 := Scalar.andi v58 v60
  let c1_i32_26 : BitVec 32 := 1#32
  let v62 : BitVec 32 := Scalar.subi v47 c1_i32_26
  let v63 : BitVec 32 := Scalar.select v61 v62 v47
  let c0_i32_27 : BitVec 32 := 0#32
  ![v18.toNat, v46.toNat, v63.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutWgradIdeal.lean ====
abbrev S4096x4096 : Shape := ⟨2, ![4096, 4096]⟩
abbrev S4x5120x4096 : Shape := ⟨3, ![4, 5120, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .bf16⟩
  | .hbm, ⟨3, _⟩ => ⟨S4x5120x4096, .f32⟩
  | .hbm, ⟨4, _⟩ => ⟨S4x5120x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c1024_i32_0 : BitVec 32 := 1024#32
  let v1 : BitVec 32 := Scalar.muli arg1 c1024_i32_0
  let c1024_i32_1 : BitVec 32 := 1024#32
  let v2 : BitVec 32 := Scalar.divsi v0 c1024_i32_1
  let c0_i32 : BitVec 32 := 0#32
  let v3 : BitVec 1 := Scalar.cmpi .sgt v0 c0_i32
  let v4 : BitVec 32 := Scalar.extui v3
  let c0_i32_2 : BitVec 32 := 0#32
  let v5 : BitVec 1 := Scalar.cmpi .slt v0 c0_i32_2
  let v6 : BitVec 32 := Scalar.extui v5
  let v7 : BitVec 32 := Scalar.subi v4 v6
  let c0_i32_3 : BitVec 32 := 0#32
  let v8 : BitVec 1 := Scalar.cmpi .sgt c1024_i32_1 c0_i32_3
  let v9 : BitVec 32 := Scalar.extui v8
  let c0_i32_4 : BitVec 32 := 0#32
  let v10 : BitVec 1 := Scalar.cmpi .slt c1024_i32_1 c0_i32_4
  let v11 : BitVec 32 := Scalar.extui v10
  let v12 : BitVec 32 := Scalar.subi v9 v11
  let v13 : BitVec 1 := Scalar.cmpi .ne v7 v12
  let v14 : BitVec 32 := Scalar.remsi v0 c1024_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1024_i32_6 : BitVec 32 := 1024#32
  let c0_i32_7 : BitVec 32 := 0#32
  let v19 : BitVec 1 := Scalar.cmpi .eq c1024_i32_6 c0_i32_7
  let c1_i32_8 : BitVec 32 := 1#32
  let v20 : BitVec 32 := Scalar.select v19 c1_i32_8 c1024_i32_6
  let v21 : BitVec 32 := Scalar.remsi v0 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let v29 : BitVec 32 := Scalar.addi c0_i32_12 v28
  let c1024_i32_13 : BitVec 32 := 1024#32
  let v30 : BitVec 32 := Scalar.divsi v29 c1024_i32_13
  let c0_i32_14 : BitVec 32 := 0#32
  let v31 : BitVec 1 := Scalar.cmpi .sgt v29 c0_i32_14
  let v32 : BitVec 32 := Scalar.extui v31
  let c0_i32_15 : BitVec 32 := 0#32
  let v33 : BitVec 1 := Scalar.cmpi .slt v29 c0_i32_15
  let v34 : BitVec 32 := Scalar.extui v33
  let v35 : BitVec 32 := Scalar.subi v32 v34
  let c0_i32_16 : BitVec 32 := 0#32
  let v36 : BitVec 1 := Scalar.cmpi .sgt c1024_i32_13 c0_i32_16
  let v37 : BitVec 32 := Scalar.extui v36
  let c0_i32_17 : BitVec 32 := 0#32
  let v38 : BitVec 1 := Scalar.cmpi .slt c1024_i32_13 c0_i32_17
  let v39 : BitVec 32 := Scalar.extui v38
  let v40 : BitVec 32 := Scalar.subi v37 v39
  let v41 : BitVec 1 := Scalar.cmpi .ne v35 v40
  let v42 : BitVec 32 := Scalar.remsi v29 c1024_i32_13
  let c0_i32_18 : BitVec 32 := 0#32
  let v43 : BitVec 1 := Scalar.cmpi .ne v42 c0_i32_18
  let v44 : BitVec 1 := Scalar.andi v41 v43
  let c1_i32_19 : BitVec 32 := 1#32
  let v45 : BitVec 32 := Scalar.subi v30 c1_i32_19
  let v46 : BitVec 32 := Scalar.select v44 v45 v30
  let c1024_i32_20 : BitVec 32 := 1024#32
  let v47 : BitVec 32 := Scalar.divsi v1 c1024_i32_20
  let c0_i32_21 : BitVec 32 := 0#32
  let v48 : BitVec 1 := Scalar.cmpi .sgt v1 c0_i32_21
  let v49 : BitVec 32 := Scalar.extui v48
  let c0_i32_22 : BitVec 32 := 0#32
  let v50 : BitVec 1 := Scalar.cmpi .slt v1 c0_i32_22
  let v51 : BitVec 32 := Scalar.extui v50
  let v52 : BitVec 32 := Scalar.subi v49 v51
  let c0_i32_23 : BitVec 32 := 0#32
  let v53 : BitVec 1 := Scalar.cmpi .sgt c1024_i32_20 c0_i32_23
  let v54 : BitVec 32 := Scalar.extui v53
  let c0_i32_24 : BitVec 32 := 0#32
  let v55 : BitVec 1 := Scalar.cmpi .slt c1024_i32_20 c0_i32_24
  let v56 : BitVec 32 := Scalar.extui v55
  let v57 : BitVec 32 := Scalar.subi v54 v56
  let v58 : BitVec 1 := Scalar.cmpi .ne v52 v57
  let v59 : BitVec 32 := Scalar.remsi v1 c1024_i32_20
  let c0_i32_25 : BitVec 32 := 0#32
  let v60 : BitVec 1 := Scalar.cmpi .ne v59 c0_i32_25
  let v61 : BitVec 1 := Scalar.andi v58 v60
  let c1_i32_26 : BitVec 32 := 1#32
  let v62 : BitVec 32 := Scalar.subi v47 c1_i32_26
  let v63 : BitVec 32 := Scalar.select v61 v62 v47
  let c0_i32_27 : BitVec 32 := 0#32
  ![v18.toNat, v46.toNat, v63.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutWgradPlainIdeal.lean ====
abbrev S4096x4096 : Shape := ⟨2, ![4096, 4096]⟩
abbrev S4x5120x4096 : Shape := ⟨3, ![4, 5120, 4096]⟩
abbrev S4x1024x4096 : Shape := ⟨3, ![4, 1024, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .bf16⟩
  | .hbm, ⟨3, _⟩ => ⟨S4x5120x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4x1024x4096, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S4x5120x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== AttnInWgrad0.lean ====
abbrev S4096x4096 : Shape := ⟨2, ![4096, 4096]⟩
abbrev S4096x16384 : Shape := ⟨2, ![4096, 16384]⟩
abbrev S4x4096x4096 : Shape := ⟨3, ![4, 4096, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .f32⟩
  | .hbm, ⟨2, _⟩ => ⟨S4096x4096, .bf16⟩
  | .hbm, ⟨3, _⟩ => ⟨S4x4096x4096, .f32⟩
  | .hbm, ⟨4, _⟩ => ⟨S4x4096x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c1024_i32_0 : BitVec 32 := 1024#32
  let v1 : BitVec 32 := Scalar.muli arg1 c1024_i32_0
  let c1024_i32_1 : BitVec 32 := 1024#32
  let v2 : BitVec 32 := Scalar.divsi v0 c1024_i32_1
  let c0_i32 : BitVec 32 := 0#32
  let v3 : BitVec 1 := Scalar.cmpi .sgt v0 c0_i32
  let v4 : BitVec 32 := Scalar.extui v3
  let c0_i32_2 : BitVec 32 := 0#32
  let v5 : BitVec 1 := Scalar.cmpi .slt v0 c0_i32_2
  let v6 : BitVec 32 := Scalar.extui v5
  let v7 : BitVec 32 := Scalar.subi v4 v6
  let c0_i32_3 : BitVec 32 := 0#32
  let v8 : BitVec 1 := Scalar.cmpi .sgt c1024_i32_1 c0_i32_3
  let v9 : BitVec 32 := Scalar.extui v8
  let c0_i32_4 : BitVec 32 := 0#32
  let v10 : BitVec 1 := Scalar.cmpi .slt c1024_i32_1 c0_i32_4
  let v11 : BitVec 32 := Scalar.extui v10
  let v12 : BitVec 32 := Scalar.subi v9 v11
  let v13 : BitVec 1 := Scalar.cmpi .ne v7 v12
  let v14 : BitVec 32 := Scalar.remsi v0 c1024_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1024_i32_6 : BitVec 32 := 1024#32
  let v19 : BitVec 32 := Scalar.divsi v1 c1024_i32_6
  let c0_i32_7 : BitVec 32 := 0#32
  let v20 : BitVec 1 := Scalar.cmpi .sgt v1 c0_i32_7
  let v21 : BitVec 32 := Scalar.extui v20
  let c0_i32_8 : BitVec 32 := 0#32
  let v22 : BitVec 1 := Scalar.cmpi .slt v1 c0_i32_8
  let v23 : BitVec 32 := Scalar.extui v22
  let v24 : BitVec 32 := Scalar.subi v21 v23
  let c0_i32_9 : BitVec 32 := 0#32
  let v25 : BitVec 1 := Scalar.cmpi .sgt c1024_i32_6 c0_i32_9
  let v26 : BitVec 32 := Scalar.extui v25
  let c0_i32_10 : BitVec 32 := 0#32
  let v27 : BitVec 1 := Scalar.cmpi .slt c1024_i32_6 c0_i32_10
  let v28 : BitVec 32 := Scalar.extui v27
  let v29 : BitVec 32 := Scalar.subi v26 v28
  let v30 : BitVec 1 := Scalar.cmpi .ne v24 v29
  let v31 : BitVec 32 := Scalar.remsi v1 c1024_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c0_i32_13 : BitVec 32 := 0#32
  let c0_i32_14 : BitVec 32 := 0#32
  ![c0_i32_13.toNat, v18.toNat, v35.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInWgrad0Ideal.lean ====
abbrev S4096x4096 : Shape := ⟨2, ![4096, 4096]⟩
abbrev S4096x16384 : Shape := ⟨2, ![4096, 16384]⟩
abbrev S4x4096x4096 : Shape := ⟨3, ![4, 4096, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .f32⟩
  | .hbm, ⟨2, _⟩ => ⟨S4096x4096, .bf16⟩
  | .hbm, ⟨3, _⟩ => ⟨S4x4096x4096, .f32⟩
  | .hbm, ⟨4, _⟩ => ⟨S4x4096x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c1024_i32_0 : BitVec 32 := 1024#32
  let v1 : BitVec 32 := Scalar.muli arg1 c1024_i32_0
  let c1024_i32_1 : BitVec 32 := 1024#32
  let v2 : BitVec 32 := Scalar.divsi v0 c1024_i32_1
  let c0_i32 : BitVec 32 := 0#32
  let v3 : BitVec 1 := Scalar.cmpi .sgt v0 c0_i32
  let v4 : BitVec 32 := Scalar.extui v3
  let c0_i32_2 : BitVec 32 := 0#32
  let v5 : BitVec 1 := Scalar.cmpi .slt v0 c0_i32_2
  let v6 : BitVec 32 := Scalar.extui v5
  let v7 : BitVec 32 := Scalar.subi v4 v6
  let c0_i32_3 : BitVec 32 := 0#32
  let v8 : BitVec 1 := Scalar.cmpi .sgt c1024_i32_1 c0_i32_3
  let v9 : BitVec 32 := Scalar.extui v8
  let c0_i32_4 : BitVec 32 := 0#32
  let v10 : BitVec 1 := Scalar.cmpi .slt c1024_i32_1 c0_i32_4
  let v11 : BitVec 32 := Scalar.extui v10
  let v12 : BitVec 32 := Scalar.subi v9 v11
  let v13 : BitVec 1 := Scalar.cmpi .ne v7 v12
  let v14 : BitVec 32 := Scalar.remsi v0 c1024_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1024_i32_6 : BitVec 32 := 1024#32
  let v19 : BitVec 32 := Scalar.divsi v1 c1024_i32_6
  let c0_i32_7 : BitVec 32 := 0#32
  let v20 : BitVec 1 := Scalar.cmpi .sgt v1 c0_i32_7
  let v21 : BitVec 32 := Scalar.extui v20
  let c0_i32_8 : BitVec 32 := 0#32
  let v22 : BitVec 1 := Scalar.cmpi .slt v1 c0_i32_8
  let v23 : BitVec 32 := Scalar.extui v22
  let v24 : BitVec 32 := Scalar.subi v21 v23
  let c0_i32_9 : BitVec 32 := 0#32
  let v25 : BitVec 1 := Scalar.cmpi .sgt c1024_i32_6 c0_i32_9
  let v26 : BitVec 32 := Scalar.extui v25
  let c0_i32_10 : BitVec 32 := 0#32
  let v27 : BitVec 1 := Scalar.cmpi .slt c1024_i32_6 c0_i32_10
  let v28 : BitVec 32 := Scalar.extui v27
  let v29 : BitVec 32 := Scalar.subi v26 v28
  let v30 : BitVec 1 := Scalar.cmpi .ne v24 v29
  let v31 : BitVec 32 := Scalar.remsi v1 c1024_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c0_i32_13 : BitVec 32 := 0#32
  let c0_i32_14 : BitVec 32 := 0#32
  ![c0_i32_13.toNat, v18.toNat, v35.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInWgrad0PlainIdeal.lean ====
abbrev S4096x4096 : Shape := ⟨2, ![4096, 4096]⟩
abbrev S4096x16384 : Shape := ⟨2, ![4096, 16384]⟩
abbrev S4x4096x4096 : Shape := ⟨3, ![4, 4096, 4096]⟩
abbrev S1x4096x4096 : Shape := ⟨3, ![1, 4096, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .f32⟩
  | .hbm, ⟨2, _⟩ => ⟨S4096x4096, .bf16⟩
  | .hbm, ⟨3, _⟩ => ⟨S4x4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S1x4096x4096, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S4x4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== AttnInWgrad1.lean ====
abbrev S4096x4096 : Shape := ⟨2, ![4096, 4096]⟩
abbrev S4096x16384 : Shape := ⟨2, ![4096, 16384]⟩
abbrev S4x4096x4096 : Shape := ⟨3, ![4, 4096, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .f32⟩
  | .hbm, ⟨2, _⟩ => ⟨S4096x4096, .bf16⟩
  | .hbm, ⟨3, _⟩ => ⟨S4x4096x4096, .f32⟩
  | .hbm, ⟨4, _⟩ => ⟨S4x4096x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c1024_i32_0 : BitVec 32 := 1024#32
  let v1 : BitVec 32 := Scalar.muli arg1 c1024_i32_0
  let c1024_i32_1 : BitVec 32 := 1024#32
  let v2 : BitVec 32 := Scalar.divsi v0 c1024_i32_1
  let c0_i32 : BitVec 32 := 0#32
  let v3 : BitVec 1 := Scalar.cmpi .sgt v0 c0_i32
  let v4 : BitVec 32 := Scalar.extui v3
  let c0_i32_2 : BitVec 32 := 0#32
  let v5 : BitVec 1 := Scalar.cmpi .slt v0 c0_i32_2
  let v6 : BitVec 32 := Scalar.extui v5
  let v7 : BitVec 32 := Scalar.subi v4 v6
  let c0_i32_3 : BitVec 32 := 0#32
  let v8 : BitVec 1 := Scalar.cmpi .sgt c1024_i32_1 c0_i32_3
  let v9 : BitVec 32 := Scalar.extui v8
  let c0_i32_4 : BitVec 32 := 0#32
  let v10 : BitVec 1 := Scalar.cmpi .slt c1024_i32_1 c0_i32_4
  let v11 : BitVec 32 := Scalar.extui v10
  let v12 : BitVec 32 := Scalar.subi v9 v11
  let v13 : BitVec 1 := Scalar.cmpi .ne v7 v12
  let v14 : BitVec 32 := Scalar.remsi v0 c1024_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1024_i32_6 : BitVec 32 := 1024#32
  let v19 : BitVec 32 := Scalar.divsi v1 c1024_i32_6
  let c0_i32_7 : BitVec 32 := 0#32
  let v20 : BitVec 1 := Scalar.cmpi .sgt v1 c0_i32_7
  let v21 : BitVec 32 := Scalar.extui v20
  let c0_i32_8 : BitVec 32 := 0#32
  let v22 : BitVec 1 := Scalar.cmpi .slt v1 c0_i32_8
  let v23 : BitVec 32 := Scalar.extui v22
  let v24 : BitVec 32 := Scalar.subi v21 v23
  let c0_i32_9 : BitVec 32 := 0#32
  let v25 : BitVec 1 := Scalar.cmpi .sgt c1024_i32_6 c0_i32_9
  let v26 : BitVec 32 := Scalar.extui v25
  let c0_i32_10 : BitVec 32 := 0#32
  let v27 : BitVec 1 := Scalar.cmpi .slt c1024_i32_6 c0_i32_10
  let v28 : BitVec 32 := Scalar.extui v27
  let v29 : BitVec 32 := Scalar.subi v26 v28
  let v30 : BitVec 1 := Scalar.cmpi .ne v24 v29
  let v31 : BitVec 32 := Scalar.remsi v1 c1024_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c1_i32_13 : BitVec 32 := 1#32
  let c0_i32_14 : BitVec 32 := 0#32
  ![c1_i32_13.toNat, v18.toNat, v35.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInWgrad1Ideal.lean ====
abbrev S4096x4096 : Shape := ⟨2, ![4096, 4096]⟩
abbrev S4096x16384 : Shape := ⟨2, ![4096, 16384]⟩
abbrev S4x4096x4096 : Shape := ⟨3, ![4, 4096, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .f32⟩
  | .hbm, ⟨2, _⟩ => ⟨S4096x4096, .bf16⟩
  | .hbm, ⟨3, _⟩ => ⟨S4x4096x4096, .f32⟩
  | .hbm, ⟨4, _⟩ => ⟨S4x4096x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c1024_i32_0 : BitVec 32 := 1024#32
  let v1 : BitVec 32 := Scalar.muli arg1 c1024_i32_0
  let c1024_i32_1 : BitVec 32 := 1024#32
  let v2 : BitVec 32 := Scalar.divsi v0 c1024_i32_1
  let c0_i32 : BitVec 32 := 0#32
  let v3 : BitVec 1 := Scalar.cmpi .sgt v0 c0_i32
  let v4 : BitVec 32 := Scalar.extui v3
  let c0_i32_2 : BitVec 32 := 0#32
  let v5 : BitVec 1 := Scalar.cmpi .slt v0 c0_i32_2
  let v6 : BitVec 32 := Scalar.extui v5
  let v7 : BitVec 32 := Scalar.subi v4 v6
  let c0_i32_3 : BitVec 32 := 0#32
  let v8 : BitVec 1 := Scalar.cmpi .sgt c1024_i32_1 c0_i32_3
  let v9 : BitVec 32 := Scalar.extui v8
  let c0_i32_4 : BitVec 32 := 0#32
  let v10 : BitVec 1 := Scalar.cmpi .slt c1024_i32_1 c0_i32_4
  let v11 : BitVec 32 := Scalar.extui v10
  let v12 : BitVec 32 := Scalar.subi v9 v11
  let v13 : BitVec 1 := Scalar.cmpi .ne v7 v12
  let v14 : BitVec 32 := Scalar.remsi v0 c1024_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1024_i32_6 : BitVec 32 := 1024#32
  let v19 : BitVec 32 := Scalar.divsi v1 c1024_i32_6
  let c0_i32_7 : BitVec 32 := 0#32
  let v20 : BitVec 1 := Scalar.cmpi .sgt v1 c0_i32_7
  let v21 : BitVec 32 := Scalar.extui v20
  let c0_i32_8 : BitVec 32 := 0#32
  let v22 : BitVec 1 := Scalar.cmpi .slt v1 c0_i32_8
  let v23 : BitVec 32 := Scalar.extui v22
  let v24 : BitVec 32 := Scalar.subi v21 v23
  let c0_i32_9 : BitVec 32 := 0#32
  let v25 : BitVec 1 := Scalar.cmpi .sgt c1024_i32_6 c0_i32_9
  let v26 : BitVec 32 := Scalar.extui v25
  let c0_i32_10 : BitVec 32 := 0#32
  let v27 : BitVec 1 := Scalar.cmpi .slt c1024_i32_6 c0_i32_10
  let v28 : BitVec 32 := Scalar.extui v27
  let v29 : BitVec 32 := Scalar.subi v26 v28
  let v30 : BitVec 1 := Scalar.cmpi .ne v24 v29
  let v31 : BitVec 32 := Scalar.remsi v1 c1024_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c1_i32_13 : BitVec 32 := 1#32
  let c0_i32_14 : BitVec 32 := 0#32
  ![c1_i32_13.toNat, v18.toNat, v35.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInWgrad1PlainIdeal.lean ====
abbrev S4096x4096 : Shape := ⟨2, ![4096, 4096]⟩
abbrev S4096x16384 : Shape := ⟨2, ![4096, 16384]⟩
abbrev S4x4096x4096 : Shape := ⟨3, ![4, 4096, 4096]⟩
abbrev S1x4096x4096 : Shape := ⟨3, ![1, 4096, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .f32⟩
  | .hbm, ⟨2, _⟩ => ⟨S4096x4096, .bf16⟩
  | .hbm, ⟨3, _⟩ => ⟨S4x4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S1x4096x4096, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S4x4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== AttnInWgrad2.lean ====
abbrev S4096x4096 : Shape := ⟨2, ![4096, 4096]⟩
abbrev S4096x16384 : Shape := ⟨2, ![4096, 16384]⟩
abbrev S4x4096x4096 : Shape := ⟨3, ![4, 4096, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .f32⟩
  | .hbm, ⟨2, _⟩ => ⟨S4096x4096, .bf16⟩
  | .hbm, ⟨3, _⟩ => ⟨S4x4096x4096, .f32⟩
  | .hbm, ⟨4, _⟩ => ⟨S4x4096x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c1024_i32_0 : BitVec 32 := 1024#32
  let v1 : BitVec 32 := Scalar.muli arg1 c1024_i32_0
  let c1024_i32_1 : BitVec 32 := 1024#32
  let v2 : BitVec 32 := Scalar.divsi v0 c1024_i32_1
  let c0_i32 : BitVec 32 := 0#32
  let v3 : BitVec 1 := Scalar.cmpi .sgt v0 c0_i32
  let v4 : BitVec 32 := Scalar.extui v3
  let c0_i32_2 : BitVec 32 := 0#32
  let v5 : BitVec 1 := Scalar.cmpi .slt v0 c0_i32_2
  let v6 : BitVec 32 := Scalar.extui v5
  let v7 : BitVec 32 := Scalar.subi v4 v6
  let c0_i32_3 : BitVec 32 := 0#32
  let v8 : BitVec 1 := Scalar.cmpi .sgt c1024_i32_1 c0_i32_3
  let v9 : BitVec 32 := Scalar.extui v8
  let c0_i32_4 : BitVec 32 := 0#32
  let v10 : BitVec 1 := Scalar.cmpi .slt c1024_i32_1 c0_i32_4
  let v11 : BitVec 32 := Scalar.extui v10
  let v12 : BitVec 32 := Scalar.subi v9 v11
  let v13 : BitVec 1 := Scalar.cmpi .ne v7 v12
  let v14 : BitVec 32 := Scalar.remsi v0 c1024_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1024_i32_6 : BitVec 32 := 1024#32
  let v19 : BitVec 32 := Scalar.divsi v1 c1024_i32_6
  let c0_i32_7 : BitVec 32 := 0#32
  let v20 : BitVec 1 := Scalar.cmpi .sgt v1 c0_i32_7
  let v21 : BitVec 32 := Scalar.extui v20
  let c0_i32_8 : BitVec 32 := 0#32
  let v22 : BitVec 1 := Scalar.cmpi .slt v1 c0_i32_8
  let v23 : BitVec 32 := Scalar.extui v22
  let v24 : BitVec 32 := Scalar.subi v21 v23
  let c0_i32_9 : BitVec 32 := 0#32
  let v25 : BitVec 1 := Scalar.cmpi .sgt c1024_i32_6 c0_i32_9
  let v26 : BitVec 32 := Scalar.extui v25
  let c0_i32_10 : BitVec 32 := 0#32
  let v27 : BitVec 1 := Scalar.cmpi .slt c1024_i32_6 c0_i32_10
  let v28 : BitVec 32 := Scalar.extui v27
  let v29 : BitVec 32 := Scalar.subi v26 v28
  let v30 : BitVec 1 := Scalar.cmpi .ne v24 v29
  let v31 : BitVec 32 := Scalar.remsi v1 c1024_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c2_i32 : BitVec 32 := 2#32
  let c0_i32_13 : BitVec 32 := 0#32
  ![c2_i32.toNat, v18.toNat, v35.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInWgrad2Ideal.lean ====
abbrev S4096x4096 : Shape := ⟨2, ![4096, 4096]⟩
abbrev S4096x16384 : Shape := ⟨2, ![4096, 16384]⟩
abbrev S4x4096x4096 : Shape := ⟨3, ![4, 4096, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .f32⟩
  | .hbm, ⟨2, _⟩ => ⟨S4096x4096, .bf16⟩
  | .hbm, ⟨3, _⟩ => ⟨S4x4096x4096, .f32⟩
  | .hbm, ⟨4, _⟩ => ⟨S4x4096x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c1024_i32_0 : BitVec 32 := 1024#32
  let v1 : BitVec 32 := Scalar.muli arg1 c1024_i32_0
  let c1024_i32_1 : BitVec 32 := 1024#32
  let v2 : BitVec 32 := Scalar.divsi v0 c1024_i32_1
  let c0_i32 : BitVec 32 := 0#32
  let v3 : BitVec 1 := Scalar.cmpi .sgt v0 c0_i32
  let v4 : BitVec 32 := Scalar.extui v3
  let c0_i32_2 : BitVec 32 := 0#32
  let v5 : BitVec 1 := Scalar.cmpi .slt v0 c0_i32_2
  let v6 : BitVec 32 := Scalar.extui v5
  let v7 : BitVec 32 := Scalar.subi v4 v6
  let c0_i32_3 : BitVec 32 := 0#32
  let v8 : BitVec 1 := Scalar.cmpi .sgt c1024_i32_1 c0_i32_3
  let v9 : BitVec 32 := Scalar.extui v8
  let c0_i32_4 : BitVec 32 := 0#32
  let v10 : BitVec 1 := Scalar.cmpi .slt c1024_i32_1 c0_i32_4
  let v11 : BitVec 32 := Scalar.extui v10
  let v12 : BitVec 32 := Scalar.subi v9 v11
  let v13 : BitVec 1 := Scalar.cmpi .ne v7 v12
  let v14 : BitVec 32 := Scalar.remsi v0 c1024_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1024_i32_6 : BitVec 32 := 1024#32
  let v19 : BitVec 32 := Scalar.divsi v1 c1024_i32_6
  let c0_i32_7 : BitVec 32 := 0#32
  let v20 : BitVec 1 := Scalar.cmpi .sgt v1 c0_i32_7
  let v21 : BitVec 32 := Scalar.extui v20
  let c0_i32_8 : BitVec 32 := 0#32
  let v22 : BitVec 1 := Scalar.cmpi .slt v1 c0_i32_8
  let v23 : BitVec 32 := Scalar.extui v22
  let v24 : BitVec 32 := Scalar.subi v21 v23
  let c0_i32_9 : BitVec 32 := 0#32
  let v25 : BitVec 1 := Scalar.cmpi .sgt c1024_i32_6 c0_i32_9
  let v26 : BitVec 32 := Scalar.extui v25
  let c0_i32_10 : BitVec 32 := 0#32
  let v27 : BitVec 1 := Scalar.cmpi .slt c1024_i32_6 c0_i32_10
  let v28 : BitVec 32 := Scalar.extui v27
  let v29 : BitVec 32 := Scalar.subi v26 v28
  let v30 : BitVec 1 := Scalar.cmpi .ne v24 v29
  let v31 : BitVec 32 := Scalar.remsi v1 c1024_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c2_i32 : BitVec 32 := 2#32
  let c0_i32_13 : BitVec 32 := 0#32
  ![c2_i32.toNat, v18.toNat, v35.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInWgrad2PlainIdeal.lean ====
abbrev S4096x4096 : Shape := ⟨2, ![4096, 4096]⟩
abbrev S4096x16384 : Shape := ⟨2, ![4096, 16384]⟩
abbrev S4x4096x4096 : Shape := ⟨3, ![4, 4096, 4096]⟩
abbrev S1x4096x4096 : Shape := ⟨3, ![1, 4096, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .f32⟩
  | .hbm, ⟨2, _⟩ => ⟨S4096x4096, .bf16⟩
  | .hbm, ⟨3, _⟩ => ⟨S4x4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S1x4096x4096, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S4x4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== AttnInWgrad3.lean ====
abbrev S4096x4096 : Shape := ⟨2, ![4096, 4096]⟩
abbrev S4096x16384 : Shape := ⟨2, ![4096, 16384]⟩
abbrev S4x4096x4096 : Shape := ⟨3, ![4, 4096, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .f32⟩
  | .hbm, ⟨2, _⟩ => ⟨S4096x4096, .bf16⟩
  | .hbm, ⟨3, _⟩ => ⟨S4x4096x4096, .f32⟩
  | .hbm, ⟨4, _⟩ => ⟨S4x4096x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c1024_i32_0 : BitVec 32 := 1024#32
  let v1 : BitVec 32 := Scalar.muli arg1 c1024_i32_0
  let c1024_i32_1 : BitVec 32 := 1024#32
  let v2 : BitVec 32 := Scalar.divsi v0 c1024_i32_1
  let c0_i32 : BitVec 32 := 0#32
  let v3 : BitVec 1 := Scalar.cmpi .sgt v0 c0_i32
  let v4 : BitVec 32 := Scalar.extui v3
  let c0_i32_2 : BitVec 32 := 0#32
  let v5 : BitVec 1 := Scalar.cmpi .slt v0 c0_i32_2
  let v6 : BitVec 32 := Scalar.extui v5
  let v7 : BitVec 32 := Scalar.subi v4 v6
  let c0_i32_3 : BitVec 32 := 0#32
  let v8 : BitVec 1 := Scalar.cmpi .sgt c1024_i32_1 c0_i32_3
  let v9 : BitVec 32 := Scalar.extui v8
  let c0_i32_4 : BitVec 32 := 0#32
  let v10 : BitVec 1 := Scalar.cmpi .slt c1024_i32_1 c0_i32_4
  let v11 : BitVec 32 := Scalar.extui v10
  let v12 : BitVec 32 := Scalar.subi v9 v11
  let v13 : BitVec 1 := Scalar.cmpi .ne v7 v12
  let v14 : BitVec 32 := Scalar.remsi v0 c1024_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1024_i32_6 : BitVec 32 := 1024#32
  let v19 : BitVec 32 := Scalar.divsi v1 c1024_i32_6
  let c0_i32_7 : BitVec 32 := 0#32
  let v20 : BitVec 1 := Scalar.cmpi .sgt v1 c0_i32_7
  let v21 : BitVec 32 := Scalar.extui v20
  let c0_i32_8 : BitVec 32 := 0#32
  let v22 : BitVec 1 := Scalar.cmpi .slt v1 c0_i32_8
  let v23 : BitVec 32 := Scalar.extui v22
  let v24 : BitVec 32 := Scalar.subi v21 v23
  let c0_i32_9 : BitVec 32 := 0#32
  let v25 : BitVec 1 := Scalar.cmpi .sgt c1024_i32_6 c0_i32_9
  let v26 : BitVec 32 := Scalar.extui v25
  let c0_i32_10 : BitVec 32 := 0#32
  let v27 : BitVec 1 := Scalar.cmpi .slt c1024_i32_6 c0_i32_10
  let v28 : BitVec 32 := Scalar.extui v27
  let v29 : BitVec 32 := Scalar.subi v26 v28
  let v30 : BitVec 1 := Scalar.cmpi .ne v24 v29
  let v31 : BitVec 32 := Scalar.remsi v1 c1024_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c3_i32 : BitVec 32 := 3#32
  let c0_i32_13 : BitVec 32 := 0#32
  ![c3_i32.toNat, v18.toNat, v35.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInWgrad3Ideal.lean ====
abbrev S4096x4096 : Shape := ⟨2, ![4096, 4096]⟩
abbrev S4096x16384 : Shape := ⟨2, ![4096, 16384]⟩
abbrev S4x4096x4096 : Shape := ⟨3, ![4, 4096, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .f32⟩
  | .hbm, ⟨2, _⟩ => ⟨S4096x4096, .bf16⟩
  | .hbm, ⟨3, _⟩ => ⟨S4x4096x4096, .f32⟩
  | .hbm, ⟨4, _⟩ => ⟨S4x4096x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c1024_i32_0 : BitVec 32 := 1024#32
  let v1 : BitVec 32 := Scalar.muli arg1 c1024_i32_0
  let c1024_i32_1 : BitVec 32 := 1024#32
  let v2 : BitVec 32 := Scalar.divsi v0 c1024_i32_1
  let c0_i32 : BitVec 32 := 0#32
  let v3 : BitVec 1 := Scalar.cmpi .sgt v0 c0_i32
  let v4 : BitVec 32 := Scalar.extui v3
  let c0_i32_2 : BitVec 32 := 0#32
  let v5 : BitVec 1 := Scalar.cmpi .slt v0 c0_i32_2
  let v6 : BitVec 32 := Scalar.extui v5
  let v7 : BitVec 32 := Scalar.subi v4 v6
  let c0_i32_3 : BitVec 32 := 0#32
  let v8 : BitVec 1 := Scalar.cmpi .sgt c1024_i32_1 c0_i32_3
  let v9 : BitVec 32 := Scalar.extui v8
  let c0_i32_4 : BitVec 32 := 0#32
  let v10 : BitVec 1 := Scalar.cmpi .slt c1024_i32_1 c0_i32_4
  let v11 : BitVec 32 := Scalar.extui v10
  let v12 : BitVec 32 := Scalar.subi v9 v11
  let v13 : BitVec 1 := Scalar.cmpi .ne v7 v12
  let v14 : BitVec 32 := Scalar.remsi v0 c1024_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1024_i32_6 : BitVec 32 := 1024#32
  let v19 : BitVec 32 := Scalar.divsi v1 c1024_i32_6
  let c0_i32_7 : BitVec 32 := 0#32
  let v20 : BitVec 1 := Scalar.cmpi .sgt v1 c0_i32_7
  let v21 : BitVec 32 := Scalar.extui v20
  let c0_i32_8 : BitVec 32 := 0#32
  let v22 : BitVec 1 := Scalar.cmpi .slt v1 c0_i32_8
  let v23 : BitVec 32 := Scalar.extui v22
  let v24 : BitVec 32 := Scalar.subi v21 v23
  let c0_i32_9 : BitVec 32 := 0#32
  let v25 : BitVec 1 := Scalar.cmpi .sgt c1024_i32_6 c0_i32_9
  let v26 : BitVec 32 := Scalar.extui v25
  let c0_i32_10 : BitVec 32 := 0#32
  let v27 : BitVec 1 := Scalar.cmpi .slt c1024_i32_6 c0_i32_10
  let v28 : BitVec 32 := Scalar.extui v27
  let v29 : BitVec 32 := Scalar.subi v26 v28
  let v30 : BitVec 1 := Scalar.cmpi .ne v24 v29
  let v31 : BitVec 32 := Scalar.remsi v1 c1024_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c3_i32 : BitVec 32 := 3#32
  let c0_i32_13 : BitVec 32 := 0#32
  ![c3_i32.toNat, v18.toNat, v35.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInWgrad3PlainIdeal.lean ====
abbrev S4096x4096 : Shape := ⟨2, ![4096, 4096]⟩
abbrev S4096x16384 : Shape := ⟨2, ![4096, 16384]⟩
abbrev S4x4096x4096 : Shape := ⟨3, ![4, 4096, 4096]⟩
abbrev S1x4096x4096 : Shape := ⟨3, ![1, 4096, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .f32⟩
  | .hbm, ⟨2, _⟩ => ⟨S4096x4096, .bf16⟩
  | .hbm, ⟨3, _⟩ => ⟨S4x4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S1x4096x4096, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S4x4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== AttnIn0.lean ====
abbrev S4096x4096 : Shape := ⟨2, ![4096, 4096]⟩
abbrev S4096x16384 : Shape := ⟨2, ![4096, 16384]⟩
abbrev S4096x4x4096 : Shape := ⟨3, ![4096, 4, 4096]⟩
abbrev S4x4096x4096 : Shape := ⟨3, ![4, 4096, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .f32⟩
  | .hbm, ⟨2, _⟩ => ⟨S4096x4x4096, .f32⟩
  | .hbm, ⟨3, _⟩ => ⟨S4x4096x4096, .f32⟩
  | .hbm, ⟨4, _⟩ => ⟨S4x4096x4096, .bf16⟩
  | .hbm, ⟨5, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c4096_i32 : BitVec 32 := 4096#32
  let v2 : BitVec 32 := Scalar.muli v1 c4096_i32
  let c1024_i32 : BitVec 32 := 1024#32
  let v3 : BitVec 32 := Scalar.muli arg1 c1024_i32
  let c4096_i32_0 : BitVec 32 := 4096#32
  let v4 : BitVec 32 := Scalar.divsi v2 c4096_i32_0
  let c0_i32_1 : BitVec 32 := 0#32
  let v5 : BitVec 1 := Scalar.cmpi .sgt v2 c0_i32_1
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c4096_i32_0 c0_i32_3
  let v11 : BitVec 32 := Scalar.extui v10
  let c0_i32_4 : BitVec 32 := 0#32
  let v12 : BitVec 1 := Scalar.cmpi .slt c4096_i32_0 c0_i32_4
  let v13 : BitVec 32 := Scalar.extui v12
  let v14 : BitVec 32 := Scalar.subi v11 v13
  let v15 : BitVec 1 := Scalar.cmpi .ne v9 v14
  let v16 : BitVec 32 := Scalar.remsi v2 c4096_i32_0
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c1024_i32_7 : BitVec 32 := 1024#32
  let v21 : BitVec 32 := Scalar.divsi v3 c1024_i32_7
  let c0_i32_8 : BitVec 32 := 0#32
  let v22 : BitVec 1 := Scalar.cmpi .sgt v3 c0_i32_8
  let v23 : BitVec 32 := Scalar.extui v22
  let c0_i32_9 : BitVec 32 := 0#32
  let v24 : BitVec 1 := Scalar.cmpi .slt v3 c0_i32_9
  let v25 : BitVec 32 := Scalar.extui v24
  let v26 : BitVec 32 := Scalar.subi v23 v25
  let c0_i32_10 : BitVec 32 := 0#32
  let v27 : BitVec 1 := Scalar.cmpi .sgt c1024_i32_7 c0_i32_10
  let v28 : BitVec 32 := Scalar.extui v27
  let c0_i32_11 : BitVec 32 := 0#32
  let v29 : BitVec 1 := Scalar.cmpi .slt c1024_i32_7 c0_i32_11
  let v30 : BitVec 32 := Scalar.extui v29
  let v31 : BitVec 32 := Scalar.subi v28 v30
  let v32 : BitVec 1 := Scalar.cmpi .ne v26 v31
  let v33 : BitVec 32 := Scalar.remsi v3 c1024_i32_7
  let c0_i32_12 : BitVec 32 := 0#32
  let v34 : BitVec 1 := Scalar.cmpi .ne v33 c0_i32_12
  let v35 : BitVec 1 := Scalar.andi v32 v34
  let c1_i32_13 : BitVec 32 := 1#32
  let v36 : BitVec 32 := Scalar.subi v21 c1_i32_13
  let v37 : BitVec 32 := Scalar.select v35 v36 v21
  let c0_i32_14 : BitVec 32 := 0#32
  let c0_i32_15 : BitVec 32 := 0#32
  ![c0_i32_14.toNat, v20.toNat, v37.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnIn0Ideal.lean ====
abbrev S4096x4096 : Shape := ⟨2, ![4096, 4096]⟩
abbrev S4096x16384 : Shape := ⟨2, ![4096, 16384]⟩
abbrev S4096x4x4096 : Shape := ⟨3, ![4096, 4, 4096]⟩
abbrev S4x4096x4096 : Shape := ⟨3, ![4, 4096, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .f32⟩
  | .hbm, ⟨2, _⟩ => ⟨S4096x4x4096, .f32⟩
  | .hbm, ⟨3, _⟩ => ⟨S4x4096x4096, .f32⟩
  | .hbm, ⟨4, _⟩ => ⟨S4x4096x4096, .bf16⟩
  | .hbm, ⟨5, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c4096_i32 : BitVec 32 := 4096#32
  let v2 : BitVec 32 := Scalar.muli v1 c4096_i32
  let c1024_i32 : BitVec 32 := 1024#32
  let v3 : BitVec 32 := Scalar.muli arg1 c1024_i32
  let c4096_i32_0 : BitVec 32 := 4096#32
  let v4 : BitVec 32 := Scalar.divsi v2 c4096_i32_0
  let c0_i32_1 : BitVec 32 := 0#32
  let v5 : BitVec 1 := Scalar.cmpi .sgt v2 c0_i32_1
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c4096_i32_0 c0_i32_3
  let v11 : BitVec 32 := Scalar.extui v10
  let c0_i32_4 : BitVec 32 := 0#32
  let v12 : BitVec 1 := Scalar.cmpi .slt c4096_i32_0 c0_i32_4
  let v13 : BitVec 32 := Scalar.extui v12
  let v14 : BitVec 32 := Scalar.subi v11 v13
  let v15 : BitVec 1 := Scalar.cmpi .ne v9 v14
  let v16 : BitVec 32 := Scalar.remsi v2 c4096_i32_0
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c1024_i32_7 : BitVec 32 := 1024#32
  let v21 : BitVec 32 := Scalar.divsi v3 c1024_i32_7
  let c0_i32_8 : BitVec 32 := 0#32
  let v22 : BitVec 1 := Scalar.cmpi .sgt v3 c0_i32_8
  let v23 : BitVec 32 := Scalar.extui v22
  let c0_i32_9 : BitVec 32 := 0#32
  let v24 : BitVec 1 := Scalar.cmpi .slt v3 c0_i32_9
  let v25 : BitVec 32 := Scalar.extui v24
  let v26 : BitVec 32 := Scalar.subi v23 v25
  let c0_i32_10 : BitVec 32 := 0#32
  let v27 : BitVec 1 := Scalar.cmpi .sgt c1024_i32_7 c0_i32_10
  let v28 : BitVec 32 := Scalar.extui v27
  let c0_i32_11 : BitVec 32 := 0#32
  let v29 : BitVec 1 := Scalar.cmpi .slt c1024_i32_7 c0_i32_11
  let v30 : BitVec 32 := Scalar.extui v29
  let v31 : BitVec 32 := Scalar.subi v28 v30
  let v32 : BitVec 1 := Scalar.cmpi .ne v26 v31
  let v33 : BitVec 32 := Scalar.remsi v3 c1024_i32_7
  let c0_i32_12 : BitVec 32 := 0#32
  let v34 : BitVec 1 := Scalar.cmpi .ne v33 c0_i32_12
  let v35 : BitVec 1 := Scalar.andi v32 v34
  let c1_i32_13 : BitVec 32 := 1#32
  let v36 : BitVec 32 := Scalar.subi v21 c1_i32_13
  let v37 : BitVec 32 := Scalar.select v35 v36 v21
  let c0_i32_14 : BitVec 32 := 0#32
  let c0_i32_15 : BitVec 32 := 0#32
  ![c0_i32_14.toNat, v20.toNat, v37.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnIn0PlainIdeal.lean ====
abbrev S4096x4096 : Shape := ⟨2, ![4096, 4096]⟩
abbrev S4096x16384 : Shape := ⟨2, ![4096, 16384]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .f32⟩
  | .hbm, ⟨2, _⟩ => ⟨S4096x4096, .f32⟩
  | .hbm, ⟨3, _⟩ => ⟨S4096x16384, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== AttnIn1.lean ====
abbrev S4096x4096 : Shape := ⟨2, ![4096, 4096]⟩
abbrev S4096x16384 : Shape := ⟨2, ![4096, 16384]⟩
abbrev S4096x4x4096 : Shape := ⟨3, ![4096, 4, 4096]⟩
abbrev S4x4096x4096 : Shape := ⟨3, ![4, 4096, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .f32⟩
  | .hbm, ⟨2, _⟩ => ⟨S4096x4x4096, .f32⟩
  | .hbm, ⟨3, _⟩ => ⟨S4x4096x4096, .f32⟩
  | .hbm, ⟨4, _⟩ => ⟨S4x4096x4096, .bf16⟩
  | .hbm, ⟨5, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c4096_i32 : BitVec 32 := 4096#32
  let v2 : BitVec 32 := Scalar.muli v1 c4096_i32
  let c1024_i32 : BitVec 32 := 1024#32
  let v3 : BitVec 32 := Scalar.muli arg1 c1024_i32
  let c4096_i32_0 : BitVec 32 := 4096#32
  let v4 : BitVec 32 := Scalar.divsi v2 c4096_i32_0
  let c0_i32_1 : BitVec 32 := 0#32
  let v5 : BitVec 1 := Scalar.cmpi .sgt v2 c0_i32_1
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c4096_i32_0 c0_i32_3
  let v11 : BitVec 32 := Scalar.extui v10
  let c0_i32_4 : BitVec 32 := 0#32
  let v12 : BitVec 1 := Scalar.cmpi .slt c4096_i32_0 c0_i32_4
  let v13 : BitVec 32 := Scalar.extui v12
  let v14 : BitVec 32 := Scalar.subi v11 v13
  let v15 : BitVec 1 := Scalar.cmpi .ne v9 v14
  let v16 : BitVec 32 := Scalar.remsi v2 c4096_i32_0
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c1024_i32_7 : BitVec 32 := 1024#32
  let v21 : BitVec 32 := Scalar.divsi v3 c1024_i32_7
  let c0_i32_8 : BitVec 32 := 0#32
  let v22 : BitVec 1 := Scalar.cmpi .sgt v3 c0_i32_8
  let v23 : BitVec 32 := Scalar.extui v22
  let c0_i32_9 : BitVec 32 := 0#32
  let v24 : BitVec 1 := Scalar.cmpi .slt v3 c0_i32_9
  let v25 : BitVec 32 := Scalar.extui v24
  let v26 : BitVec 32 := Scalar.subi v23 v25
  let c0_i32_10 : BitVec 32 := 0#32
  let v27 : BitVec 1 := Scalar.cmpi .sgt c1024_i32_7 c0_i32_10
  let v28 : BitVec 32 := Scalar.extui v27
  let c0_i32_11 : BitVec 32 := 0#32
  let v29 : BitVec 1 := Scalar.cmpi .slt c1024_i32_7 c0_i32_11
  let v30 : BitVec 32 := Scalar.extui v29
  let v31 : BitVec 32 := Scalar.subi v28 v30
  let v32 : BitVec 1 := Scalar.cmpi .ne v26 v31
  let v33 : BitVec 32 := Scalar.remsi v3 c1024_i32_7
  let c0_i32_12 : BitVec 32 := 0#32
  let v34 : BitVec 1 := Scalar.cmpi .ne v33 c0_i32_12
  let v35 : BitVec 1 := Scalar.andi v32 v34
  let c1_i32_13 : BitVec 32 := 1#32
  let v36 : BitVec 32 := Scalar.subi v21 c1_i32_13
  let v37 : BitVec 32 := Scalar.select v35 v36 v21
  let c1_i32_14 : BitVec 32 := 1#32
  let c0_i32_15 : BitVec 32 := 0#32
  ![c1_i32_14.toNat, v20.toNat, v37.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnIn1Ideal.lean ====
abbrev S4096x4096 : Shape := ⟨2, ![4096, 4096]⟩
abbrev S4096x16384 : Shape := ⟨2, ![4096, 16384]⟩
abbrev S4096x4x4096 : Shape := ⟨3, ![4096, 4, 4096]⟩
abbrev S4x4096x4096 : Shape := ⟨3, ![4, 4096, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .f32⟩
  | .hbm, ⟨2, _⟩ => ⟨S4096x4x4096, .f32⟩
  | .hbm, ⟨3, _⟩ => ⟨S4x4096x4096, .f32⟩
  | .hbm, ⟨4, _⟩ => ⟨S4x4096x4096, .bf16⟩
  | .hbm, ⟨5, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c4096_i32 : BitVec 32 := 4096#32
  let v2 : BitVec 32 := Scalar.muli v1 c4096_i32
  let c1024_i32 : BitVec 32 := 1024#32
  let v3 : BitVec 32 := Scalar.muli arg1 c1024_i32
  let c4096_i32_0 : BitVec 32 := 4096#32
  let v4 : BitVec 32 := Scalar.divsi v2 c4096_i32_0
  let c0_i32_1 : BitVec 32 := 0#32
  let v5 : BitVec 1 := Scalar.cmpi .sgt v2 c0_i32_1
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c4096_i32_0 c0_i32_3
  let v11 : BitVec 32 := Scalar.extui v10
  let c0_i32_4 : BitVec 32 := 0#32
  let v12 : BitVec 1 := Scalar.cmpi .slt c4096_i32_0 c0_i32_4
  let v13 : BitVec 32 := Scalar.extui v12
  let v14 : BitVec 32 := Scalar.subi v11 v13
  let v15 : BitVec 1 := Scalar.cmpi .ne v9 v14
  let v16 : BitVec 32 := Scalar.remsi v2 c4096_i32_0
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c1024_i32_7 : BitVec 32 := 1024#32
  let v21 : BitVec 32 := Scalar.divsi v3 c1024_i32_7
  let c0_i32_8 : BitVec 32 := 0#32
  let v22 : BitVec 1 := Scalar.cmpi .sgt v3 c0_i32_8
  let v23 : BitVec 32 := Scalar.extui v22
  let c0_i32_9 : BitVec 32 := 0#32
  let v24 : BitVec 1 := Scalar.cmpi .slt v3 c0_i32_9
  let v25 : BitVec 32 := Scalar.extui v24
  let v26 : BitVec 32 := Scalar.subi v23 v25
  let c0_i32_10 : BitVec 32 := 0#32
  let v27 : BitVec 1 := Scalar.cmpi .sgt c1024_i32_7 c0_i32_10
  let v28 : BitVec 32 := Scalar.extui v27
  let c0_i32_11 : BitVec 32 := 0#32
  let v29 : BitVec 1 := Scalar.cmpi .slt c1024_i32_7 c0_i32_11
  let v30 : BitVec 32 := Scalar.extui v29
  let v31 : BitVec 32 := Scalar.subi v28 v30
  let v32 : BitVec 1 := Scalar.cmpi .ne v26 v31
  let v33 : BitVec 32 := Scalar.remsi v3 c1024_i32_7
  let c0_i32_12 : BitVec 32 := 0#32
  let v34 : BitVec 1 := Scalar.cmpi .ne v33 c0_i32_12
  let v35 : BitVec 1 := Scalar.andi v32 v34
  let c1_i32_13 : BitVec 32 := 1#32
  let v36 : BitVec 32 := Scalar.subi v21 c1_i32_13
  let v37 : BitVec 32 := Scalar.select v35 v36 v21
  let c1_i32_14 : BitVec 32 := 1#32
  let c0_i32_15 : BitVec 32 := 0#32
  ![c1_i32_14.toNat, v20.toNat, v37.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnIn1PlainIdeal.lean ====
abbrev S4096x4096 : Shape := ⟨2, ![4096, 4096]⟩
abbrev S4096x16384 : Shape := ⟨2, ![4096, 16384]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .f32⟩
  | .hbm, ⟨2, _⟩ => ⟨S4096x4096, .f32⟩
  | .hbm, ⟨3, _⟩ => ⟨S4096x16384, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== AttnIn2.lean ====
abbrev S4096x4096 : Shape := ⟨2, ![4096, 4096]⟩
abbrev S4096x16384 : Shape := ⟨2, ![4096, 16384]⟩
abbrev S4096x4x4096 : Shape := ⟨3, ![4096, 4, 4096]⟩
abbrev S4x4096x4096 : Shape := ⟨3, ![4, 4096, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .f32⟩
  | .hbm, ⟨2, _⟩ => ⟨S4096x4x4096, .f32⟩
  | .hbm, ⟨3, _⟩ => ⟨S4x4096x4096, .f32⟩
  | .hbm, ⟨4, _⟩ => ⟨S4x4096x4096, .bf16⟩
  | .hbm, ⟨5, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c4096_i32 : BitVec 32 := 4096#32
  let v2 : BitVec 32 := Scalar.muli v1 c4096_i32
  let c1024_i32 : BitVec 32 := 1024#32
  let v3 : BitVec 32 := Scalar.muli arg1 c1024_i32
  let c4096_i32_0 : BitVec 32 := 4096#32
  let v4 : BitVec 32 := Scalar.divsi v2 c4096_i32_0
  let c0_i32_1 : BitVec 32 := 0#32
  let v5 : BitVec 1 := Scalar.cmpi .sgt v2 c0_i32_1
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c4096_i32_0 c0_i32_3
  let v11 : BitVec 32 := Scalar.extui v10
  let c0_i32_4 : BitVec 32 := 0#32
  let v12 : BitVec 1 := Scalar.cmpi .slt c4096_i32_0 c0_i32_4
  let v13 : BitVec 32 := Scalar.extui v12
  let v14 : BitVec 32 := Scalar.subi v11 v13
  let v15 : BitVec 1 := Scalar.cmpi .ne v9 v14
  let v16 : BitVec 32 := Scalar.remsi v2 c4096_i32_0
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c1024_i32_7 : BitVec 32 := 1024#32
  let v21 : BitVec 32 := Scalar.divsi v3 c1024_i32_7
  let c0_i32_8 : BitVec 32 := 0#32
  let v22 : BitVec 1 := Scalar.cmpi .sgt v3 c0_i32_8
  let v23 : BitVec 32 := Scalar.extui v22
  let c0_i32_9 : BitVec 32 := 0#32
  let v24 : BitVec 1 := Scalar.cmpi .slt v3 c0_i32_9
  let v25 : BitVec 32 := Scalar.extui v24
  let v26 : BitVec 32 := Scalar.subi v23 v25
  let c0_i32_10 : BitVec 32 := 0#32
  let v27 : BitVec 1 := Scalar.cmpi .sgt c1024_i32_7 c0_i32_10
  let v28 : BitVec 32 := Scalar.extui v27
  let c0_i32_11 : BitVec 32 := 0#32
  let v29 : BitVec 1 := Scalar.cmpi .slt c1024_i32_7 c0_i32_11
  let v30 : BitVec 32 := Scalar.extui v29
  let v31 : BitVec 32 := Scalar.subi v28 v30
  let v32 : BitVec 1 := Scalar.cmpi .ne v26 v31
  let v33 : BitVec 32 := Scalar.remsi v3 c1024_i32_7
  let c0_i32_12 : BitVec 32 := 0#32
  let v34 : BitVec 1 := Scalar.cmpi .ne v33 c0_i32_12
  let v35 : BitVec 1 := Scalar.andi v32 v34
  let c1_i32_13 : BitVec 32 := 1#32
  let v36 : BitVec 32 := Scalar.subi v21 c1_i32_13
  let v37 : BitVec 32 := Scalar.select v35 v36 v21
  let c2_i32 : BitVec 32 := 2#32
  let c0_i32_14 : BitVec 32 := 0#32
  ![c2_i32.toNat, v20.toNat, v37.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnIn2Ideal.lean ====
abbrev S4096x4096 : Shape := ⟨2, ![4096, 4096]⟩
abbrev S4096x16384 : Shape := ⟨2, ![4096, 16384]⟩
abbrev S4096x4x4096 : Shape := ⟨3, ![4096, 4, 4096]⟩
abbrev S4x4096x4096 : Shape := ⟨3, ![4, 4096, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .f32⟩
  | .hbm, ⟨2, _⟩ => ⟨S4096x4x4096, .f32⟩
  | .hbm, ⟨3, _⟩ => ⟨S4x4096x4096, .f32⟩
  | .hbm, ⟨4, _⟩ => ⟨S4x4096x4096, .bf16⟩
  | .hbm, ⟨5, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c4096_i32 : BitVec 32 := 4096#32
  let v2 : BitVec 32 := Scalar.muli v1 c4096_i32
  let c1024_i32 : BitVec 32 := 1024#32
  let v3 : BitVec 32 := Scalar.muli arg1 c1024_i32
  let c4096_i32_0 : BitVec 32 := 4096#32
  let v4 : BitVec 32 := Scalar.divsi v2 c4096_i32_0
  let c0_i32_1 : BitVec 32 := 0#32
  let v5 : BitVec 1 := Scalar.cmpi .sgt v2 c0_i32_1
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c4096_i32_0 c0_i32_3
  let v11 : BitVec 32 := Scalar.extui v10
  let c0_i32_4 : BitVec 32 := 0#32
  let v12 : BitVec 1 := Scalar.cmpi .slt c4096_i32_0 c0_i32_4
  let v13 : BitVec 32 := Scalar.extui v12
  let v14 : BitVec 32 := Scalar.subi v11 v13
  let v15 : BitVec 1 := Scalar.cmpi .ne v9 v14
  let v16 : BitVec 32 := Scalar.remsi v2 c4096_i32_0
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c1024_i32_7 : BitVec 32 := 1024#32
  let v21 : BitVec 32 := Scalar.divsi v3 c1024_i32_7
  let c0_i32_8 : BitVec 32 := 0#32
  let v22 : BitVec 1 := Scalar.cmpi .sgt v3 c0_i32_8
  let v23 : BitVec 32 := Scalar.extui v22
  let c0_i32_9 : BitVec 32 := 0#32
  let v24 : BitVec 1 := Scalar.cmpi .slt v3 c0_i32_9
  let v25 : BitVec 32 := Scalar.extui v24
  let v26 : BitVec 32 := Scalar.subi v23 v25
  let c0_i32_10 : BitVec 32 := 0#32
  let v27 : BitVec 1 := Scalar.cmpi .sgt c1024_i32_7 c0_i32_10
  let v28 : BitVec 32 := Scalar.extui v27
  let c0_i32_11 : BitVec 32 := 0#32
  let v29 : BitVec 1 := Scalar.cmpi .slt c1024_i32_7 c0_i32_11
  let v30 : BitVec 32 := Scalar.extui v29
  let v31 : BitVec 32 := Scalar.subi v28 v30
  let v32 : BitVec 1 := Scalar.cmpi .ne v26 v31
  let v33 : BitVec 32 := Scalar.remsi v3 c1024_i32_7
  let c0_i32_12 : BitVec 32 := 0#32
  let v34 : BitVec 1 := Scalar.cmpi .ne v33 c0_i32_12
  let v35 : BitVec 1 := Scalar.andi v32 v34
  let c1_i32_13 : BitVec 32 := 1#32
  let v36 : BitVec 32 := Scalar.subi v21 c1_i32_13
  let v37 : BitVec 32 := Scalar.select v35 v36 v21
  let c2_i32 : BitVec 32 := 2#32
  let c0_i32_14 : BitVec 32 := 0#32
  ![c2_i32.toNat, v20.toNat, v37.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnIn2PlainIdeal.lean ====
abbrev S4096x4096 : Shape := ⟨2, ![4096, 4096]⟩
abbrev S4096x16384 : Shape := ⟨2, ![4096, 16384]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .f32⟩
  | .hbm, ⟨2, _⟩ => ⟨S4096x4096, .f32⟩
  | .hbm, ⟨3, _⟩ => ⟨S4096x16384, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== AttnIn3.lean ====
abbrev S4096x4096 : Shape := ⟨2, ![4096, 4096]⟩
abbrev S4096x16384 : Shape := ⟨2, ![4096, 16384]⟩
abbrev S4096x4x4096 : Shape := ⟨3, ![4096, 4, 4096]⟩
abbrev S4x4096x4096 : Shape := ⟨3, ![4, 4096, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .f32⟩
  | .hbm, ⟨2, _⟩ => ⟨S4096x4x4096, .f32⟩
  | .hbm, ⟨3, _⟩ => ⟨S4x4096x4096, .f32⟩
  | .hbm, ⟨4, _⟩ => ⟨S4x4096x4096, .bf16⟩
  | .hbm, ⟨5, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c4096_i32 : BitVec 32 := 4096#32
  let v2 : BitVec 32 := Scalar.muli v1 c4096_i32
  let c1024_i32 : BitVec 32 := 1024#32
  let v3 : BitVec 32 := Scalar.muli arg1 c1024_i32
  let c4096_i32_0 : BitVec 32 := 4096#32
  let v4 : BitVec 32 := Scalar.divsi v2 c4096_i32_0
  let c0_i32_1 : BitVec 32 := 0#32
  let v5 : BitVec 1 := Scalar.cmpi .sgt v2 c0_i32_1
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c4096_i32_0 c0_i32_3
  let v11 : BitVec 32 := Scalar.extui v10
  let c0_i32_4 : BitVec 32 := 0#32
  let v12 : BitVec 1 := Scalar.cmpi .slt c4096_i32_0 c0_i32_4
  let v13 : BitVec 32 := Scalar.extui v12
  let v14 : BitVec 32 := Scalar.subi v11 v13
  let v15 : BitVec 1 := Scalar.cmpi .ne v9 v14
  let v16 : BitVec 32 := Scalar.remsi v2 c4096_i32_0
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c1024_i32_7 : BitVec 32 := 1024#32
  let v21 : BitVec 32 := Scalar.divsi v3 c1024_i32_7
  let c0_i32_8 : BitVec 32 := 0#32
  let v22 : BitVec 1 := Scalar.cmpi .sgt v3 c0_i32_8
  let v23 : BitVec 32 := Scalar.extui v22
  let c0_i32_9 : BitVec 32 := 0#32
  let v24 : BitVec 1 := Scalar.cmpi .slt v3 c0_i32_9
  let v25 : BitVec 32 := Scalar.extui v24
  let v26 : BitVec 32 := Scalar.subi v23 v25
  let c0_i32_10 : BitVec 32 := 0#32
  let v27 : BitVec 1 := Scalar.cmpi .sgt c1024_i32_7 c0_i32_10
  let v28 : BitVec 32 := Scalar.extui v27
  let c0_i32_11 : BitVec 32 := 0#32
  let v29 : BitVec 1 := Scalar.cmpi .slt c1024_i32_7 c0_i32_11
  let v30 : BitVec 32 := Scalar.extui v29
  let v31 : BitVec 32 := Scalar.subi v28 v30
  let v32 : BitVec 1 := Scalar.cmpi .ne v26 v31
  let v33 : BitVec 32 := Scalar.remsi v3 c1024_i32_7
  let c0_i32_12 : BitVec 32 := 0#32
  let v34 : BitVec 1 := Scalar.cmpi .ne v33 c0_i32_12
  let v35 : BitVec 1 := Scalar.andi v32 v34
  let c1_i32_13 : BitVec 32 := 1#32
  let v36 : BitVec 32 := Scalar.subi v21 c1_i32_13
  let v37 : BitVec 32 := Scalar.select v35 v36 v21
  let c3_i32 : BitVec 32 := 3#32
  let c0_i32_14 : BitVec 32 := 0#32
  ![c3_i32.toNat, v20.toNat, v37.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnIn3Ideal.lean ====
abbrev S4096x4096 : Shape := ⟨2, ![4096, 4096]⟩
abbrev S4096x16384 : Shape := ⟨2, ![4096, 16384]⟩
abbrev S4096x4x4096 : Shape := ⟨3, ![4096, 4, 4096]⟩
abbrev S4x4096x4096 : Shape := ⟨3, ![4, 4096, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .f32⟩
  | .hbm, ⟨2, _⟩ => ⟨S4096x4x4096, .f32⟩
  | .hbm, ⟨3, _⟩ => ⟨S4x4096x4096, .f32⟩
  | .hbm, ⟨4, _⟩ => ⟨S4x4096x4096, .bf16⟩
  | .hbm, ⟨5, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c4096_i32 : BitVec 32 := 4096#32
  let v2 : BitVec 32 := Scalar.muli v1 c4096_i32
  let c1024_i32 : BitVec 32 := 1024#32
  let v3 : BitVec 32 := Scalar.muli arg1 c1024_i32
  let c4096_i32_0 : BitVec 32 := 4096#32
  let v4 : BitVec 32 := Scalar.divsi v2 c4096_i32_0
  let c0_i32_1 : BitVec 32 := 0#32
  let v5 : BitVec 1 := Scalar.cmpi .sgt v2 c0_i32_1
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c4096_i32_0 c0_i32_3
  let v11 : BitVec 32 := Scalar.extui v10
  let c0_i32_4 : BitVec 32 := 0#32
  let v12 : BitVec 1 := Scalar.cmpi .slt c4096_i32_0 c0_i32_4
  let v13 : BitVec 32 := Scalar.extui v12
  let v14 : BitVec 32 := Scalar.subi v11 v13
  let v15 : BitVec 1 := Scalar.cmpi .ne v9 v14
  let v16 : BitVec 32 := Scalar.remsi v2 c4096_i32_0
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c1024_i32_7 : BitVec 32 := 1024#32
  let v21 : BitVec 32 := Scalar.divsi v3 c1024_i32_7
  let c0_i32_8 : BitVec 32 := 0#32
  let v22 : BitVec 1 := Scalar.cmpi .sgt v3 c0_i32_8
  let v23 : BitVec 32 := Scalar.extui v22
  let c0_i32_9 : BitVec 32 := 0#32
  let v24 : BitVec 1 := Scalar.cmpi .slt v3 c0_i32_9
  let v25 : BitVec 32 := Scalar.extui v24
  let v26 : BitVec 32 := Scalar.subi v23 v25
  let c0_i32_10 : BitVec 32 := 0#32
  let v27 : BitVec 1 := Scalar.cmpi .sgt c1024_i32_7 c0_i32_10
  let v28 : BitVec 32 := Scalar.extui v27
  let c0_i32_11 : BitVec 32 := 0#32
  let v29 : BitVec 1 := Scalar.cmpi .slt c1024_i32_7 c0_i32_11
  let v30 : BitVec 32 := Scalar.extui v29
  let v31 : BitVec 32 := Scalar.subi v28 v30
  let v32 : BitVec 1 := Scalar.cmpi .ne v26 v31
  let v33 : BitVec 32 := Scalar.remsi v3 c1024_i32_7
  let c0_i32_12 : BitVec 32 := 0#32
  let v34 : BitVec 1 := Scalar.cmpi .ne v33 c0_i32_12
  let v35 : BitVec 1 := Scalar.andi v32 v34
  let c1_i32_13 : BitVec 32 := 1#32
  let v36 : BitVec 32 := Scalar.subi v21 c1_i32_13
  let v37 : BitVec 32 := Scalar.select v35 v36 v21
  let c3_i32 : BitVec 32 := 3#32
  let c0_i32_14 : BitVec 32 := 0#32
  ![c3_i32.toNat, v20.toNat, v37.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnIn3PlainIdeal.lean ====
abbrev S4096x4096 : Shape := ⟨2, ![4096, 4096]⟩
abbrev S4096x16384 : Shape := ⟨2, ![4096, 16384]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .f32⟩
  | .hbm, ⟨2, _⟩ => ⟨S4096x4096, .f32⟩
  | .hbm, ⟨3, _⟩ => ⟨S4096x16384, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== AttnOut.lean ====
abbrev S4096x4096 : Shape := ⟨2, ![4096, 4096]⟩
abbrev S4096x8192 : Shape := ⟨2, ![4096, 8192]⟩
abbrev S2x2048x4x2048 : Shape := ⟨4, ![2, 2048, 4, 2048]⟩
abbrev S4x2048x2x2048 : Shape := ⟨4, ![4, 2048, 2, 2048]⟩
abbrev S4x2048x4096 : Shape := ⟨3, ![4, 2048, 4096]⟩
abbrev S4x1024x4096 : Shape := ⟨3, ![4, 1024, 4096]⟩
abbrev S4x5120x4096 : Shape := ⟨3, ![4, 5120, 4096]⟩
abbrev S1024x4096 : Shape := ⟨2, ![1024, 4096]⟩
abbrev S1x1024x1024 : Shape := ⟨3, ![1, 1024, 1024]⟩
abbrev S1024x1024 : Shape := ⟨2, ![1024, 1024]⟩

abbrev nBuf : Space → Nat
  | .hbm => 15
  | .vmem => 14
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .f32⟩
  | .hbm, ⟨3, _⟩ => ⟨S4096x8192, .f32⟩
  | .hbm, ⟨4, _⟩ => ⟨S4096x4096, .f32⟩
  | .hbm, ⟨5, _⟩ => ⟨S4096x4096, .f32⟩
  | .hbm, ⟨6, _⟩ => ⟨S2x2048x4x2048, .f32⟩
  | .hbm, ⟨7, _⟩ => ⟨S4x2048x2x2048, .f32⟩
  | .hbm, ⟨8, _⟩ => ⟨S4x2048x4096, .f32⟩
  | .hbm, ⟨9, _⟩ => ⟨S4x1024x4096, .f32⟩
  | .hbm, ⟨10, _⟩ => ⟨S4x1024x4096, .f32⟩
  | .hbm, ⟨11, _⟩ => ⟨S4x1024x4096, .f32⟩
  | .hbm, ⟨12, _⟩ => ⟨S4x5120x4096, .f32⟩
  | .hbm, ⟨13, _⟩ => ⟨S4x5120x4096, .bf16⟩
  | .hbm, ⟨14, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1024_i32 : BitVec 32 := 1024#32
  let v2 : BitVec 32 := Scalar.muli v1 c1024_i32
  let c1024_i32_0 : BitVec 32 := 1024#32
  let v3 : BitVec 32 := Scalar.muli arg1 c1024_i32_0
  let c1024_i32_1 : BitVec 32 := 1024#32
  let v4 : BitVec 32 := Scalar.divsi v2 c1024_i32_1
  let c0_i32_2 : BitVec 32 := 0#32
  let v5 : BitVec 1 := Scalar.cmpi .sgt v2 c0_i32_2
  let v6 : BitVec 32 := Scalar.extui v5
  let c0_i32_3 : BitVec 32 := 0#32
  let v7 : BitVec 1 := Scalar.cmpi .slt v2 c0_i32_3
  let v8 : BitVec 32 := Scalar.extui v7
  let v9 : BitVec 32 := Scalar.subi v6 v8
  let c0_i32_4 : BitVec 32 := 0#32
  let v10 : BitVec 1 := Scalar.cmpi .sgt c1024_i32_1 c0_i32_4
  let v11 : BitVec 32 := Scalar.extui v10
  let c0_i32_5 : BitVec 32 := 0#32
  let v12 : BitVec 1 := Scalar.cmpi .slt c1024_i32_1 c0_i32_5
  let v13 : BitVec 32 := Scalar.extui v12
  let v14 : BitVec 32 := Scalar.subi v11 v13
  let v15 : BitVec 1 := Scalar.cmpi .ne v9 v14
  let v16 : BitVec 32 := Scalar.remsi v2 c1024_i32_1
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c1024_i32_7 : BitVec 32 := 1024#32
  let c0_i32_8 : BitVec 32 := 0#32
  let v21 : BitVec 1 := Scalar.cmpi .eq c1024_i32_7 c0_i32_8
  let c1_i32_9 : BitVec 32 := 1#32
  let v22 : BitVec 32 := Scalar.select v21 c1_i32_9 c1024_i32_7
  let v23 : BitVec 32 := Scalar.remsi v2 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let v31 : BitVec 32 := Scalar.addi c0_i32_13 v30
  let c1024_i32_14 : BitVec 32 := 1024#32
  let v32 : BitVec 32 := Scalar.divsi v31 c1024_i32_14
  let c0_i32_15 : BitVec 32 := 0#32
  let v33 : BitVec 1 := Scalar.cmpi .sgt v31 c0_i32_15
  let v34 : BitVec 32 := Scalar.extui v33
  let c0_i32_16 : BitVec 32 := 0#32
  let v35 : BitVec 1 := Scalar.cmpi .slt v31 c0_i32_16
  let v36 : BitVec 32 := Scalar.extui v35
  let v37 : BitVec 32 := Scalar.subi v34 v36
  let c0_i32_17 : BitVec 32 := 0#32
  let v38 : BitVec 1 := Scalar.cmpi .sgt c1024_i32_14 c0_i32_17
  let v39 : BitVec 32 := Scalar.extui v38
  let c0_i32_18 : BitVec 32 := 0#32
  let v40 : BitVec 1 := Scalar.cmpi .slt c1024_i32_14 c0_i32_18
  let v41 : BitVec 32 := Scalar.extui v40
  let v42 : BitVec 32 := Scalar.subi v39 v41
  let v43 : BitVec 1 := Scalar.cmpi .ne v37 v42
  let v44 : BitVec 32 := Scalar.remsi v31 c1024_i32_14
  let c0_i32_19 : BitVec 32 := 0#32
  let v45 : BitVec 1 := Scalar.cmpi .ne v44 c0_i32_19
  let v46 : BitVec 1 := Scalar.andi v43 v45
  let c1_i32_20 : BitVec 32 := 1#32
  let v47 : BitVec 32 := Scalar.subi v32 c1_i32_20
  let v48 : BitVec 32 := Scalar.select v46 v47 v32
  let c1024_i32_21 : BitVec 32 := 1024#32
  let v49 : BitVec 32 := Scalar.divsi v3 c1024_i32_21
  let c0_i32_22 : BitVec 32 := 0#32
  let v50 : BitVec 1 := Scalar.cmpi .sgt v3 c0_i32_22
  let v51 : BitVec 32 := Scalar.extui v50
  let c0_i32_23 : BitVec 32 := 0#32
  let v52 : BitVec 1 := Scalar.cmpi .slt v3 c0_i32_23
  let v53 : BitVec 32 := Scalar.extui v52
  let v54 : BitVec 32 := Scalar.subi v51 v53
  let c0_i32_24 : BitVec 32 := 0#32
  let v55 : BitVec 1 := Scalar.cmpi .sgt c1024_i32_21 c0_i32_24
  let v56 : BitVec 32 := Scalar.extui v55
  let c0_i32_25 : BitVec 32 := 0#32
  let v57 : BitVec 1 := Scalar.cmpi .slt c1024_i32_21 c0_i32_25
  let v58 : BitVec 32 := Scalar.extui v57
  let v59 : BitVec 32 := Scalar.subi v56 v58
  let v60 : BitVec 1 := Scalar.cmpi .ne v54 v59
  let v61 : BitVec 32 := Scalar.remsi v3 c1024_i32_21
  let c0_i32_26 : BitVec 32 := 0#32
  let v62 : BitVec 1 := Scalar.cmpi .ne v61 c0_i32_26
  let v63 : BitVec 1 := Scalar.andi v60 v62
  let c1_i32_27 : BitVec 32 := 1#32
  let v64 : BitVec 32 := Scalar.subi v49 c1_i32_27
  let v65 : BitVec 32 := Scalar.select v63 v64 v49
  let c0_i32_28 : BitVec 32 := 0#32
  ![v20.toNat, v48.toNat, v65.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.addi v0 c1_i32
  let c1024_i32 : BitVec 32 := 1024#32
  let v2 : BitVec 32 := Scalar.muli v1 c1024_i32
  let c1024_i32_0 : BitVec 32 := 1024#32
  let v3 : BitVec 32 := Scalar.muli arg1 c1024_i32_0
  let c1024_i32_1 : BitVec 32 := 1024#32
  let v4 : BitVec 32 := Scalar.divsi v2 c1024_i32_1
  let c0_i32 : BitVec 32 := 0#32
  let v5 : BitVec 1 := Scalar.cmpi .sgt v2 c0_i32
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c1024_i32_1 c0_i32_3
  let v11 : BitVec 32 := Scalar.extui v10
  let c0_i32_4 : BitVec 32 := 0#32
  let v12 : BitVec 1 := Scalar.cmpi .slt c1024_i32_1 c0_i32_4
  let v13 : BitVec 32 := Scalar.extui v12
  let v14 : BitVec 32 := Scalar.subi v11 v13
  let v15 : BitVec 1 := Scalar.cmpi .ne v9 v14
  let v16 : BitVec 32 := Scalar.remsi v2 c1024_i32_1
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c1024_i32_7 : BitVec 32 := 1024#32
  let c0_i32_8 : BitVec 32 := 0#32
  let v21 : BitVec 1 := Scalar.cmpi .eq c1024_i32_7 c0_i32_8
  let c1_i32_9 : BitVec 32 := 1#32
  let v22 : BitVec 32 := Scalar.select v21 c1_i32_9 c1024_i32_7
  let v23 : BitVec 32 := Scalar.remsi v2 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let v31 : BitVec 32 := Scalar.addi c0_i32_13 v30
  let c1024_i32_14 : BitVec 32 := 1024#32
  let v32 : BitVec 32 := Scalar.divsi v31 c1024_i32_14
  let c0_i32_15 : BitVec 32 := 0#32
  let v33 : BitVec 1 := Scalar.cmpi .sgt v31 c0_i32_15
  let v34 : BitVec 32 := Scalar.extui v33
  let c0_i32_16 : BitVec 32 := 0#32
  let v35 : BitVec 1 := Scalar.cmpi .slt v31 c0_i32_16
  let v36 : BitVec 32 := Scalar.extui v35
  let v37 : BitVec 32 := Scalar.subi v34 v36
  let c0_i32_17 : BitVec 32 := 0#32
  let v38 : BitVec 1 := Scalar.cmpi .sgt c1024_i32_14 c0_i32_17
  let v39 : BitVec 32 := Scalar.extui v38
  let c0_i32_18 : BitVec 32 := 0#32
  let v40 : BitVec 1 := Scalar.cmpi .slt c1024_i32_14 c0_i32_18
  let v41 : BitVec 32 := Scalar.extui v40
  let v42 : BitVec 32 := Scalar.subi v39 v41
  let v43 : BitVec 1 := Scalar.cmpi .ne v37 v42
  let v44 : BitVec 32 := Scalar.remsi v31 c1024_i32_14
  let c0_i32_19 : BitVec 32 := 0#32
  let v45 : BitVec 1 := Scalar.cmpi .ne v44 c0_i32_19
  let v46 : BitVec 1 := Scalar.andi v43 v45
  let c1_i32_20 : BitVec 32 := 1#32
  let v47 : BitVec 32 := Scalar.subi v32 c1_i32_20
  let v48 : BitVec 32 := Scalar.select v46 v47 v32
  let c1024_i32_21 : BitVec 32 := 1024#32
  let v49 : BitVec 32 := Scalar.divsi v3 c1024_i32_21
  let c0_i32_22 : BitVec 32 := 0#32
  let v50 : BitVec 1 := Scalar.cmpi .sgt v3 c0_i32_22
  let v51 : BitVec 32 := Scalar.extui v50
  let c0_i32_23 : BitVec 32 := 0#32
  let v52 : BitVec 1 := Scalar.cmpi .slt v3 c0_i32_23
  let v53 : BitVec 32 := Scalar.extui v52
  let v54 : BitVec 32 := Scalar.subi v51 v53
  let c0_i32_24 : BitVec 32 := 0#32
  let v55 : BitVec 1 := Scalar.cmpi .sgt c1024_i32_21 c0_i32_24
  let v56 : BitVec 32 := Scalar.extui v55
  let c0_i32_25 : BitVec 32 := 0#32
  let v57 : BitVec 1 := Scalar.cmpi .slt c1024_i32_21 c0_i32_25
  let v58 : BitVec 32 := Scalar.extui v57
  let v59 : BitVec 32 := Scalar.subi v56 v58
  let v60 : BitVec 1 := Scalar.cmpi .ne v54 v59
  let v61 : BitVec 32 := Scalar.remsi v3 c1024_i32_21
  let c0_i32_26 : BitVec 32 := 0#32
  let v62 : BitVec 1 := Scalar.cmpi .ne v61 c0_i32_26
  let v63 : BitVec 1 := Scalar.andi v60 v62
  let c1_i32_27 : BitVec 32 := 1#32
  let v64 : BitVec 32 := Scalar.subi v49 c1_i32_27
  let v65 : BitVec 32 := Scalar.select v63 v64 v49
  let c0_i32_28 : BitVec 32 := 0#32
  ![v20.toNat, v48.toNat, v65.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c2_i32 : BitVec 32 := 2#32
  let v1 : BitVec 32 := Scalar.addi v0 c2_i32
  let c1024_i32 : BitVec 32 := 1024#32
  let v2 : BitVec 32 := Scalar.muli v1 c1024_i32
  let c1024_i32_0 : BitVec 32 := 1024#32
  let v3 : BitVec 32 := Scalar.muli arg1 c1024_i32_0
  let c1024_i32_1 : BitVec 32 := 1024#32
  let v4 : BitVec 32 := Scalar.divsi v2 c1024_i32_1
  let c0_i32 : BitVec 32 := 0#32
  let v5 : BitVec 1 := Scalar.cmpi .sgt v2 c0_i32
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c1024_i32_1 c0_i32_3
  let v11 : BitVec 32 := Scalar.extui v10
  let c0_i32_4 : BitVec 32 := 0#32
  let v12 : BitVec 1 := Scalar.cmpi .slt c1024_i32_1 c0_i32_4
  let v13 : BitVec 32 := Scalar.extui v12
  let v14 : BitVec 32 := Scalar.subi v11 v13
  let v15 : BitVec 1 := Scalar.cmpi .ne v9 v14
  let v16 : BitVec 32 := Scalar.remsi v2 c1024_i32_1
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1024_i32_6 : BitVec 32 := 1024#32
  let c0_i32_7 : BitVec 32 := 0#32
  let v21 : BitVec 1 := Scalar.cmpi .eq c1024_i32_6 c0_i32_7
  let c1_i32_8 : BitVec 32 := 1#32
  let v22 : BitVec 32 := Scalar.select v21 c1_i32_8 c1024_i32_6
  let v23 : BitVec 32 := Scalar.remsi v2 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let v31 : BitVec 32 := Scalar.addi c0_i32_12 v30
  let c1024_i32_13 : BitVec 32 := 1024#32
  let v32 : BitVec 32 := Scalar.divsi v31 c1024_i32_13
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c0_i32_16 : BitVec 32 := 0#32
  let v38 : BitVec 1 := Scalar.cmpi .sgt c1024_i32_13 c0_i32_16
  let v39 : BitVec 32 := Scalar.extui v38
  let c0_i32_17 : BitVec 32 := 0#32
  let v40 : BitVec 1 := Scalar.cmpi .slt c1024_i32_13 c0_i32_17
  let v41 : BitVec 32 := Scalar.extui v40
  let v42 : BitVec 32 := Scalar.subi v39 v41
  let v43 : BitVec 1 := Scalar.cmpi .ne v37 v42
  let v44 : BitVec 32 := Scalar.remsi v31 c1024_i32_13
  let c0_i32_18 : BitVec 32 := 0#32
  let v45 : BitVec 1 := Scalar.cmpi .ne v44 c0_i32_18
  let v46 : BitVec 1 := Scalar.andi v43 v45
  let c1_i32_19 : BitVec 32 := 1#32
  let v47 : BitVec 32 := Scalar.subi v32 c1_i32_19
  let v48 : BitVec 32 := Scalar.select v46 v47 v32
  let c1024_i32_20 : BitVec 32 := 1024#32
  let v49 : BitVec 32 := Scalar.divsi v3 c1024_i32_20
  let c0_i32_21 : BitVec 32 := 0#32
  let v50 : BitVec 1 := Scalar.cmpi .sgt v3 c0_i32_21
  let v51 : BitVec 32 := Scalar.extui v50
  let c0_i32_22 : BitVec 32 := 0#32
  let v52 : BitVec 1 := Scalar.cmpi .slt v3 c0_i32_22
  let v53 : BitVec 32 := Scalar.extui v52
  let v54 : BitVec 32 := Scalar.subi v51 v53
  let c0_i32_23 : BitVec 32 := 0#32
  let v55 : BitVec 1 := Scalar.cmpi .sgt c1024_i32_20 c0_i32_23
  let v56 : BitVec 32 := Scalar.extui v55
  let c0_i32_24 : BitVec 32 := 0#32
  let v57 : BitVec 1 := Scalar.cmpi .slt c1024_i32_20 c0_i32_24
  let v58 : BitVec 32 := Scalar.extui v57
  let v59 : BitVec 32 := Scalar.subi v56 v58
  let v60 : BitVec 1 := Scalar.cmpi .ne v54 v59
  let v61 : BitVec 32 := Scalar.remsi v3 c1024_i32_20
  let c0_i32_25 : BitVec 32 := 0#32
  let v62 : BitVec 1 := Scalar.cmpi .ne v61 c0_i32_25
  let v63 : BitVec 1 := Scalar.andi v60 v62
  let c1_i32_26 : BitVec 32 := 1#32
  let v64 : BitVec 32 := Scalar.subi v49 c1_i32_26
  let v65 : BitVec 32 := Scalar.select v63 v64 v49
  let c0_i32_27 : BitVec 32 := 0#32
  ![v20.toNat, v48.toNat, v65.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c3_i32 : BitVec 32 := 3#32
  let v1 : BitVec 32 := Scalar.addi v0 c3_i32
  let c1024_i32 : BitVec 32 := 1024#32
  let v2 : BitVec 32 := Scalar.muli v1 c1024_i32
  let c1024_i32_0 : BitVec 32 := 1024#32
  let v3 : BitVec 32 := Scalar.muli arg1 c1024_i32_0
  let c1024_i32_1 : BitVec 32 := 1024#32
  let v4 : BitVec 32 := Scalar.divsi v2 c1024_i32_1
  let c0_i32 : BitVec 32 := 0#32
  let v5 : BitVec 1 := Scalar.cmpi .sgt v2 c0_i32
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c1024_i32_1 c0_i32_3
  let v11 : BitVec 32 := Scalar.extui v10
  let c0_i32_4 : BitVec 32 := 0#32
  let v12 : BitVec 1 := Scalar.cmpi .slt c1024_i32_1 c0_i32_4
  let v13 : BitVec 32 := Scalar.extui v12
  let v14 : BitVec 32 := Scalar.subi v11 v13
  let v15 : BitVec 1 := Scalar.cmpi .ne v9 v14
  let v16 : BitVec 32 := Scalar.remsi v2 c1024_i32_1
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1024_i32_6 : BitVec 32 := 1024#32
  let c0_i32_7 : BitVec 32 := 0#32
  let v21 : BitVec 1 := Scalar.cmpi .eq c1024_i32_6 c0_i32_7
  let c1_i32_8 : BitVec 32 := 1#32
  let v22 : BitVec 32 := Scalar.select v21 c1_i32_8 c1024_i32_6
  let v23 : BitVec 32 := Scalar.remsi v2 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let v31 : BitVec 32 := Scalar.addi c0_i32_12 v30
  let c1024_i32_13 : BitVec 32 := 1024#32
  let v32 : BitVec 32 := Scalar.divsi v31 c1024_i32_13
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c0_i32_16 : BitVec 32 := 0#32
  let v38 : BitVec 1 := Scalar.cmpi .sgt c1024_i32_13 c0_i32_16
  let v39 : BitVec 32 := Scalar.extui v38
  let c0_i32_17 : BitVec 32 := 0#32
  let v40 : BitVec 1 := Scalar.cmpi .slt c1024_i32_13 c0_i32_17
  let v41 : BitVec 32 := Scalar.extui v40
  let v42 : BitVec 32 := Scalar.subi v39 v41
  let v43 : BitVec 1 := Scalar.cmpi .ne v37 v42
  let v44 : BitVec 32 := Scalar.remsi v31 c1024_i32_13
  let c0_i32_18 : BitVec 32 := 0#32
  let v45 : BitVec 1 := Scalar.cmpi .ne v44 c0_i32_18
  let v46 : BitVec 1 := Scalar.andi v43 v45
  let c1_i32_19 : BitVec 32 := 1#32
  let v47 : BitVec 32 := Scalar.subi v32 c1_i32_19
  let v48 : BitVec 32 := Scalar.select v46 v47 v32
  let c1024_i32_20 : BitVec 32 := 1024#32
  let v49 : BitVec 32 := Scalar.divsi v3 c1024_i32_20
  let c0_i32_21 : BitVec 32 := 0#32
  let v50 : BitVec 1 := Scalar.cmpi .sgt v3 c0_i32_21
  let v51 : BitVec 32 := Scalar.extui v50
  let c0_i32_22 : BitVec 32 := 0#32
  let v52 : BitVec 1 := Scalar.cmpi .slt v3 c0_i32_22
  let v53 : BitVec 32 := Scalar.extui v52
  let v54 : BitVec 32 := Scalar.subi v51 v53
  let c0_i32_23 : BitVec 32 := 0#32
  let v55 : BitVec 1 := Scalar.cmpi .sgt c1024_i32_20 c0_i32_23
  let v56 : BitVec 32 := Scalar.extui v55
  let c0_i32_24 : BitVec 32 := 0#32
  let v57 : BitVec 1 := Scalar.cmpi .slt c1024_i32_20 c0_i32_24
  let v58 : BitVec 32 := Scalar.extui v57
  let v59 : BitVec 32 := Scalar.subi v56 v58
  let v60 : BitVec 1 := Scalar.cmpi .ne v54 v59
  let v61 : BitVec 32 := Scalar.remsi v3 c1024_i32_20
  let c0_i32_25 : BitVec 32 := 0#32
  let v62 : BitVec 1 := Scalar.cmpi .ne v61 c0_i32_25
  let v63 : BitVec 1 := Scalar.andi v60 v62
  let c1_i32_26 : BitVec 32 := 1#32
  let v64 : BitVec 32 := Scalar.subi v49 c1_i32_26
  let v65 : BitVec 32 := Scalar.select v63 v64 v49
  let c0_i32_27 : BitVec 32 := 0#32
  ![v20.toNat, v48.toNat, v65.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== AttnOutIdeal.lean ====
abbrev S4096x4096 : Shape := ⟨2, ![4096, 4096]⟩
abbrev S4096x8192 : Shape := ⟨2, ![4096, 8192]⟩
abbrev S2x2048x4x2048 : Shape := ⟨4, ![2, 2048, 4, 2048]⟩
abbrev S4x2048x2x2048 : Shape := ⟨4, ![4, 2048, 2, 2048]⟩
abbrev S4x2048x4096 : Shape := ⟨3, ![4, 2048, 4096]⟩
abbrev S4x1024x4096 : Shape := ⟨3, ![4, 1024, 4096]⟩
abbrev S4x5120x4096 : Shape := ⟨3, ![4, 5120, 4096]⟩
abbrev S1024x4096 : Shape := ⟨2, ![1024, 4096]⟩
abbrev S1x1024x1024 : Shape := ⟨3, ![1, 1024, 1024]⟩
abbrev S1024x1024 : Shape := ⟨2, ![1024, 1024]⟩

abbrev nBuf : Space → Nat
  | .hbm => 15
  | .vmem => 14
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .f32⟩
  | .hbm, ⟨3, _⟩ => ⟨S4096x8192, .f32⟩
  | .hbm, ⟨4, _⟩ => ⟨S4096x4096, .f32⟩
  | .hbm, ⟨5, _⟩ => ⟨S4096x4096, .f32⟩
  | .hbm, ⟨6, _⟩ => ⟨S2x2048x4x2048, .f32⟩
  | .hbm, ⟨7, _⟩ => ⟨S4x2048x2x2048, .f32⟩
  | .hbm, ⟨8, _⟩ => ⟨S4x2048x4096, .f32⟩
  | .hbm, ⟨9, _⟩ => ⟨S4x1024x4096, .f32⟩
  | .hbm, ⟨10, _⟩ => ⟨S4x1024x4096, .f32⟩
  | .hbm, ⟨11, _⟩ => ⟨S4x1024x4096, .f32⟩
  | .hbm, ⟨12, _⟩ => ⟨S4x5120x4096, .f32⟩
  | .hbm, ⟨13, _⟩ => ⟨S4x5120x4096, .bf16⟩
  | .hbm, ⟨14, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1024_i32 : BitVec 32 := 1024#32
  let v2 : BitVec 32 := Scalar.muli v1 c1024_i32
  let c1024_i32_0 : BitVec 32 := 1024#32
  let v3 : BitVec 32 := Scalar.muli arg1 c1024_i32_0
  let c1024_i32_1 : BitVec 32 := 1024#32
  let v4 : BitVec 32 := Scalar.divsi v2 c1024_i32_1
  let c0_i32_2 : BitVec 32 := 0#32
  let v5 : BitVec 1 := Scalar.cmpi .sgt v2 c0_i32_2
  let v6 : BitVec 32 := Scalar.extui v5
  let c0_i32_3 : BitVec 32 := 0#32
  let v7 : BitVec 1 := Scalar.cmpi .slt v2 c0_i32_3
  let v8 : BitVec 32 := Scalar.extui v7
  let v9 : BitVec 32 := Scalar.subi v6 v8
  let c0_i32_4 : BitVec 32 := 0#32
  let v10 : BitVec 1 := Scalar.cmpi .sgt c1024_i32_1 c0_i32_4
  let v11 : BitVec 32 := Scalar.extui v10
  let c0_i32_5 : BitVec 32 := 0#32
  let v12 : BitVec 1 := Scalar.cmpi .slt c1024_i32_1 c0_i32_5
  let v13 : BitVec 32 := Scalar.extui v12
  let v14 : BitVec 32 := Scalar.subi v11 v13
  let v15 : BitVec 1 := Scalar.cmpi .ne v9 v14
  let v16 : BitVec 32 := Scalar.remsi v2 c1024_i32_1
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c1024_i32_7 : BitVec 32 := 1024#32
  let c0_i32_8 : BitVec 32 := 0#32
  let v21 : BitVec 1 := Scalar.cmpi .eq c1024_i32_7 c0_i32_8
  let c1_i32_9 : BitVec 32 := 1#32
  let v22 : BitVec 32 := Scalar.select v21 c1_i32_9 c1024_i32_7
  let v23 : BitVec 32 := Scalar.remsi v2 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let v31 : BitVec 32 := Scalar.addi c0_i32_13 v30
  let c1024_i32_14 : BitVec 32 := 1024#32
  let v32 : BitVec 32 := Scalar.divsi v31 c1024_i32_14
  let c0_i32_15 : BitVec 32 := 0#32
  let v33 : BitVec 1 := Scalar.cmpi .sgt v31 c0_i32_15
  let v34 : BitVec 32 := Scalar.extui v33
  let c0_i32_16 : BitVec 32 := 0#32
  let v35 : BitVec 1 := Scalar.cmpi .slt v31 c0_i32_16
  let v36 : BitVec 32 := Scalar.extui v35
  let v37 : BitVec 32 := Scalar.subi v34 v36
  let c0_i32_17 : BitVec 32 := 0#32
  let v38 : BitVec 1 := Scalar.cmpi .sgt c1024_i32_14 c0_i32_17
  let v39 : BitVec 32 := Scalar.extui v38
  let c0_i32_18 : BitVec 32 := 0#32
  let v40 : BitVec 1 := Scalar.cmpi .slt c1024_i32_14 c0_i32_18
  let v41 : BitVec 32 := Scalar.extui v40
  let v42 : BitVec 32 := Scalar.subi v39 v41
  let v43 : BitVec 1 := Scalar.cmpi .ne v37 v42
  let v44 : BitVec 32 := Scalar.remsi v31 c1024_i32_14
  let c0_i32_19 : BitVec 32 := 0#32
  let v45 : BitVec 1 := Scalar.cmpi .ne v44 c0_i32_19
  let v46 : BitVec 1 := Scalar.andi v43 v45
  let c1_i32_20 : BitVec 32 := 1#32
  let v47 : BitVec 32 := Scalar.subi v32 c1_i32_20
  let v48 : BitVec 32 := Scalar.select v46 v47 v32
  let c1024_i32_21 : BitVec 32 := 1024#32
  let v49 : BitVec 32 := Scalar.divsi v3 c1024_i32_21
  let c0_i32_22 : BitVec 32 := 0#32
  let v50 : BitVec 1 := Scalar.cmpi .sgt v3 c0_i32_22
  let v51 : BitVec 32 := Scalar.extui v50
  let c0_i32_23 : BitVec 32 := 0#32
  let v52 : BitVec 1 := Scalar.cmpi .slt v3 c0_i32_23
  let v53 : BitVec 32 := Scalar.extui v52
  let v54 : BitVec 32 := Scalar.subi v51 v53
  let c0_i32_24 : BitVec 32 := 0#32
  let v55 : BitVec 1 := Scalar.cmpi .sgt c1024_i32_21 c0_i32_24
  let v56 : BitVec 32 := Scalar.extui v55
  let c0_i32_25 : BitVec 32 := 0#32
  let v57 : BitVec 1 := Scalar.cmpi .slt c1024_i32_21 c0_i32_25
  let v58 : BitVec 32 := Scalar.extui v57
  let v59 : BitVec 32 := Scalar.subi v56 v58
  let v60 : BitVec 1 := Scalar.cmpi .ne v54 v59
  let v61 : BitVec 32 := Scalar.remsi v3 c1024_i32_21
  let c0_i32_26 : BitVec 32 := 0#32
  let v62 : BitVec 1 := Scalar.cmpi .ne v61 c0_i32_26
  let v63 : BitVec 1 := Scalar.andi v60 v62
  let c1_i32_27 : BitVec 32 := 1#32
  let v64 : BitVec 32 := Scalar.subi v49 c1_i32_27
  let v65 : BitVec 32 := Scalar.select v63 v64 v49
  let c0_i32_28 : BitVec 32 := 0#32
  ![v20.toNat, v48.toNat, v65.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.addi v0 c1_i32
  let c1024_i32 : BitVec 32 := 1024#32
  let v2 : BitVec 32 := Scalar.muli v1 c1024_i32
  let c1024_i32_0 : BitVec 32 := 1024#32
  let v3 : BitVec 32 := Scalar.muli arg1 c1024_i32_0
  let c1024_i32_1 : BitVec 32 := 1024#32
  let v4 : BitVec 32 := Scalar.divsi v2 c1024_i32_1
  let c0_i32 : BitVec 32 := 0#32
  let v5 : BitVec 1 := Scalar.cmpi .sgt v2 c0_i32
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c1024_i32_1 c0_i32_3
  let v11 : BitVec 32 := Scalar.extui v10
  let c0_i32_4 : BitVec 32 := 0#32
  let v12 : BitVec 1 := Scalar.cmpi .slt c1024_i32_1 c0_i32_4
  let v13 : BitVec 32 := Scalar.extui v12
  let v14 : BitVec 32 := Scalar.subi v11 v13
  let v15 : BitVec 1 := Scalar.cmpi .ne v9 v14
  let v16 : BitVec 32 := Scalar.remsi v2 c1024_i32_1
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c1024_i32_7 : BitVec 32 := 1024#32
  let c0_i32_8 : BitVec 32 := 0#32
  let v21 : BitVec 1 := Scalar.cmpi .eq c1024_i32_7 c0_i32_8
  let c1_i32_9 : BitVec 32 := 1#32
  let v22 : BitVec 32 := Scalar.select v21 c1_i32_9 c1024_i32_7
  let v23 : BitVec 32 := Scalar.remsi v2 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let v31 : BitVec 32 := Scalar.addi c0_i32_13 v30
  let c1024_i32_14 : BitVec 32 := 1024#32
  let v32 : BitVec 32 := Scalar.divsi v31 c1024_i32_14
  let c0_i32_15 : BitVec 32 := 0#32
  let v33 : BitVec 1 := Scalar.cmpi .sgt v31 c0_i32_15
  let v34 : BitVec 32 := Scalar.extui v33
  let c0_i32_16 : BitVec 32 := 0#32
  let v35 : BitVec 1 := Scalar.cmpi .slt v31 c0_i32_16
  let v36 : BitVec 32 := Scalar.extui v35
  let v37 : BitVec 32 := Scalar.subi v34 v36
  let c0_i32_17 : BitVec 32 := 0#32
  let v38 : BitVec 1 := Scalar.cmpi .sgt c1024_i32_14 c0_i32_17
  let v39 : BitVec 32 := Scalar.extui v38
  let c0_i32_18 : BitVec 32 := 0#32
  let v40 : BitVec 1 := Scalar.cmpi .slt c1024_i32_14 c0_i32_18
  let v41 : BitVec 32 := Scalar.extui v40
  let v42 : BitVec 32 := Scalar.subi v39 v41
  let v43 : BitVec 1 := Scalar.cmpi .ne v37 v42
  let v44 : BitVec 32 := Scalar.remsi v31 c1024_i32_14
  let c0_i32_19 : BitVec 32 := 0#32
  let v45 : BitVec 1 := Scalar.cmpi .ne v44 c0_i32_19
  let v46 : BitVec 1 := Scalar.andi v43 v45
  let c1_i32_20 : BitVec 32 := 1#32
  let v47 : BitVec 32 := Scalar.subi v32 c1_i32_20
  let v48 : BitVec 32 := Scalar.select v46 v47 v32
  let c1024_i32_21 : BitVec 32 := 1024#32
  let v49 : BitVec 32 := Scalar.divsi v3 c1024_i32_21
  let c0_i32_22 : BitVec 32 := 0#32
  let v50 : BitVec 1 := Scalar.cmpi .sgt v3 c0_i32_22
  let v51 : BitVec 32 := Scalar.extui v50
  let c0_i32_23 : BitVec 32 := 0#32
  let v52 : BitVec 1 := Scalar.cmpi .slt v3 c0_i32_23
  let v53 : BitVec 32 := Scalar.extui v52
  let v54 : BitVec 32 := Scalar.subi v51 v53
  let c0_i32_24 : BitVec 32 := 0#32
  let v55 : BitVec 1 := Scalar.cmpi .sgt c1024_i32_21 c0_i32_24
  let v56 : BitVec 32 := Scalar.extui v55
  let c0_i32_25 : BitVec 32 := 0#32
  let v57 : BitVec 1 := Scalar.cmpi .slt c1024_i32_21 c0_i32_25
  let v58 : BitVec 32 := Scalar.extui v57
  let v59 : BitVec 32 := Scalar.subi v56 v58
  let v60 : BitVec 1 := Scalar.cmpi .ne v54 v59
  let v61 : BitVec 32 := Scalar.remsi v3 c1024_i32_21
  let c0_i32_26 : BitVec 32 := 0#32
  let v62 : BitVec 1 := Scalar.cmpi .ne v61 c0_i32_26
  let v63 : BitVec 1 := Scalar.andi v60 v62
  let c1_i32_27 : BitVec 32 := 1#32
  let v64 : BitVec 32 := Scalar.subi v49 c1_i32_27
  let v65 : BitVec 32 := Scalar.select v63 v64 v49
  let c0_i32_28 : BitVec 32 := 0#32
  ![v20.toNat, v48.toNat, v65.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c2_i32 : BitVec 32 := 2#32
  let v1 : BitVec 32 := Scalar.addi v0 c2_i32
  let c1024_i32 : BitVec 32 := 1024#32
  let v2 : BitVec 32 := Scalar.muli v1 c1024_i32
  let c1024_i32_0 : BitVec 32 := 1024#32
  let v3 : BitVec 32 := Scalar.muli arg1 c1024_i32_0
  let c1024_i32_1 : BitVec 32 := 1024#32
  let v4 : BitVec 32 := Scalar.divsi v2 c1024_i32_1
  let c0_i32 : BitVec 32 := 0#32
  let v5 : BitVec 1 := Scalar.cmpi .sgt v2 c0_i32
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c1024_i32_1 c0_i32_3
  let v11 : BitVec 32 := Scalar.extui v10
  let c0_i32_4 : BitVec 32 := 0#32
  let v12 : BitVec 1 := Scalar.cmpi .slt c1024_i32_1 c0_i32_4
  let v13 : BitVec 32 := Scalar.extui v12
  let v14 : BitVec 32 := Scalar.subi v11 v13
  let v15 : BitVec 1 := Scalar.cmpi .ne v9 v14
  let v16 : BitVec 32 := Scalar.remsi v2 c1024_i32_1
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1024_i32_6 : BitVec 32 := 1024#32
  let c0_i32_7 : BitVec 32 := 0#32
  let v21 : BitVec 1 := Scalar.cmpi .eq c1024_i32_6 c0_i32_7
  let c1_i32_8 : BitVec 32 := 1#32
  let v22 : BitVec 32 := Scalar.select v21 c1_i32_8 c1024_i32_6
  let v23 : BitVec 32 := Scalar.remsi v2 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let v31 : BitVec 32 := Scalar.addi c0_i32_12 v30
  let c1024_i32_13 : BitVec 32 := 1024#32
  let v32 : BitVec 32 := Scalar.divsi v31 c1024_i32_13
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c0_i32_16 : BitVec 32 := 0#32
  let v38 : BitVec 1 := Scalar.cmpi .sgt c1024_i32_13 c0_i32_16
  let v39 : BitVec 32 := Scalar.extui v38
  let c0_i32_17 : BitVec 32 := 0#32
  let v40 : BitVec 1 := Scalar.cmpi .slt c1024_i32_13 c0_i32_17
  let v41 : BitVec 32 := Scalar.extui v40
  let v42 : BitVec 32 := Scalar.subi v39 v41
  let v43 : BitVec 1 := Scalar.cmpi .ne v37 v42
  let v44 : BitVec 32 := Scalar.remsi v31 c1024_i32_13
  let c0_i32_18 : BitVec 32 := 0#32
  let v45 : BitVec 1 := Scalar.cmpi .ne v44 c0_i32_18
  let v46 : BitVec 1 := Scalar.andi v43 v45
  let c1_i32_19 : BitVec 32 := 1#32
  let v47 : BitVec 32 := Scalar.subi v32 c1_i32_19
  let v48 : BitVec 32 := Scalar.select v46 v47 v32
  let c1024_i32_20 : BitVec 32 := 1024#32
  let v49 : BitVec 32 := Scalar.divsi v3 c1024_i32_20
  let c0_i32_21 : BitVec 32 := 0#32
  let v50 : BitVec 1 := Scalar.cmpi .sgt v3 c0_i32_21
  let v51 : BitVec 32 := Scalar.extui v50
  let c0_i32_22 : BitVec 32 := 0#32
  let v52 : BitVec 1 := Scalar.cmpi .slt v3 c0_i32_22
  let v53 : BitVec 32 := Scalar.extui v52
  let v54 : BitVec 32 := Scalar.subi v51 v53
  let c0_i32_23 : BitVec 32 := 0#32
  let v55 : BitVec 1 := Scalar.cmpi .sgt c1024_i32_20 c0_i32_23
  let v56 : BitVec 32 := Scalar.extui v55
  let c0_i32_24 : BitVec 32 := 0#32
  let v57 : BitVec 1 := Scalar.cmpi .slt c1024_i32_20 c0_i32_24
  let v58 : BitVec 32 := Scalar.extui v57
  let v59 : BitVec 32 := Scalar.subi v56 v58
  let v60 : BitVec 1 := Scalar.cmpi .ne v54 v59
  let v61 : BitVec 32 := Scalar.remsi v3 c1024_i32_20
  let c0_i32_25 : BitVec 32 := 0#32
  let v62 : BitVec 1 := Scalar.cmpi .ne v61 c0_i32_25
  let v63 : BitVec 1 := Scalar.andi v60 v62
  let c1_i32_26 : BitVec 32 := 1#32
  let v64 : BitVec 32 := Scalar.subi v49 c1_i32_26
  let v65 : BitVec 32 := Scalar.select v63 v64 v49
  let c0_i32_27 : BitVec 32 := 0#32
  ![v20.toNat, v48.toNat, v65.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c3_i32 : BitVec 32 := 3#32
  let v1 : BitVec 32 := Scalar.addi v0 c3_i32
  let c1024_i32 : BitVec 32 := 1024#32
  let v2 : BitVec 32 := Scalar.muli v1 c1024_i32
  let c1024_i32_0 : BitVec 32 := 1024#32
  let v3 : BitVec 32 := Scalar.muli arg1 c1024_i32_0
  let c1024_i32_1 : BitVec 32 := 1024#32
  let v4 : BitVec 32 := Scalar.divsi v2 c1024_i32_1
  let c0_i32 : BitVec 32 := 0#32
  let v5 : BitVec 1 := Scalar.cmpi .sgt v2 c0_i32
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c1024_i32_1 c0_i32_3
  let v11 : BitVec 32 := Scalar.extui v10
  let c0_i32_4 : BitVec 32 := 0#32
  let v12 : BitVec 1 := Scalar.cmpi .slt c1024_i32_1 c0_i32_4
  let v13 : BitVec 32 := Scalar.extui v12
  let v14 : BitVec 32 := Scalar.subi v11 v13
  let v15 : BitVec 1 := Scalar.cmpi .ne v9 v14
  let v16 : BitVec 32 := Scalar.remsi v2 c1024_i32_1
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1024_i32_6 : BitVec 32 := 1024#32
  let c0_i32_7 : BitVec 32 := 0#32
  let v21 : BitVec 1 := Scalar.cmpi .eq c1024_i32_6 c0_i32_7
  let c1_i32_8 : BitVec 32 := 1#32
  let v22 : BitVec 32 := Scalar.select v21 c1_i32_8 c1024_i32_6
  let v23 : BitVec 32 := Scalar.remsi v2 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let v31 : BitVec 32 := Scalar.addi c0_i32_12 v30
  let c1024_i32_13 : BitVec 32 := 1024#32
  let v32 : BitVec 32 := Scalar.divsi v31 c1024_i32_13
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c0_i32_16 : BitVec 32 := 0#32
  let v38 : BitVec 1 := Scalar.cmpi .sgt c1024_i32_13 c0_i32_16
  let v39 : BitVec 32 := Scalar.extui v38
  let c0_i32_17 : BitVec 32 := 0#32
  let v40 : BitVec 1 := Scalar.cmpi .slt c1024_i32_13 c0_i32_17
  let v41 : BitVec 32 := Scalar.extui v40
  let v42 : BitVec 32 := Scalar.subi v39 v41
  let v43 : BitVec 1 := Scalar.cmpi .ne v37 v42
  let v44 : BitVec 32 := Scalar.remsi v31 c1024_i32_13
  let c0_i32_18 : BitVec 32 := 0#32
  let v45 : BitVec 1 := Scalar.cmpi .ne v44 c0_i32_18
  let v46 : BitVec 1 := Scalar.andi v43 v45
  let c1_i32_19 : BitVec 32 := 1#32
  let v47 : BitVec 32 := Scalar.subi v32 c1_i32_19
  let v48 : BitVec 32 := Scalar.select v46 v47 v32
  let c1024_i32_20 : BitVec 32 := 1024#32
  let v49 : BitVec 32 := Scalar.divsi v3 c1024_i32_20
  let c0_i32_21 : BitVec 32 := 0#32
  let v50 : BitVec 1 := Scalar.cmpi .sgt v3 c0_i32_21
  let v51 : BitVec 32 := Scalar.extui v50
  let c0_i32_22 : BitVec 32 := 0#32
  let v52 : BitVec 1 := Scalar.cmpi .slt v3 c0_i32_22
  let v53 : BitVec 32 := Scalar.extui v52
  let v54 : BitVec 32 := Scalar.subi v51 v53
  let c0_i32_23 : BitVec 32 := 0#32
  let v55 : BitVec 1 := Scalar.cmpi .sgt c1024_i32_20 c0_i32_23
  let v56 : BitVec 32 := Scalar.extui v55
  let c0_i32_24 : BitVec 32 := 0#32
  let v57 : BitVec 1 := Scalar.cmpi .slt c1024_i32_20 c0_i32_24
  let v58 : BitVec 32 := Scalar.extui v57
  let v59 : BitVec 32 := Scalar.subi v56 v58
  let v60 : BitVec 1 := Scalar.cmpi .ne v54 v59
  let v61 : BitVec 32 := Scalar.remsi v3 c1024_i32_20
  let c0_i32_25 : BitVec 32 := 0#32
  let v62 : BitVec 1 := Scalar.cmpi .ne v61 c0_i32_25
  let v63 : BitVec 1 := Scalar.andi v60 v62
  let c1_i32_26 : BitVec 32 := 1#32
  let v64 : BitVec 32 := Scalar.subi v49 c1_i32_26
  let v65 : BitVec 32 := Scalar.select v63 v64 v49
  let c0_i32_27 : BitVec 32 := 0#32
  ![v20.toNat, v48.toNat, v65.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== AttnOutPlainIdeal.lean ====
abbrev S4096x4096 : Shape := ⟨2, ![4096, 4096]⟩
abbrev S4096x8192 : Shape := ⟨2, ![4096, 8192]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .f32⟩
  | .hbm, ⟨3, _⟩ => ⟨S4096x8192, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩

abbrev nD : Nat := 1
abbrev τ : Topo := Topo.v7x

variable {F : FTy → Type} [FloatOps F]
-- ==== SsmInU.lean ====
abbrev S4096x4096 : Shape := ⟨2, ![4096, 4096]⟩
abbrev S4096x8192 : Shape := ⟨2, ![4096, 8192]⟩
abbrev S2x2048x4x2048 : Shape := ⟨4, ![2, 2048, 4, 2048]⟩
abbrev S4x2048x2x2048 : Shape := ⟨4, ![4, 2048, 2, 2048]⟩
abbrev S4x2048x4096 : Shape := ⟨3, ![4, 2048, 4096]⟩
abbrev S4x1024x4096 : Shape := ⟨3, ![4, 1024, 4096]⟩
abbrev S4x5120x4096 : Shape := ⟨3, ![4, 5120, 4096]⟩
abbrev S1024x4096 : Shape := ⟨2, ![1024, 4096]⟩
abbrev S1x1024x1024 : Shape := ⟨3, ![1, 1024, 1024]⟩
abbrev S1024x1024 : Shape := ⟨2, ![1024, 1024]⟩

abbrev nBuf : Space → Nat
  | .hbm => 14
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x8192, .f32⟩
  | .hbm, ⟨3, _⟩ => ⟨S4096x4096, .f32⟩
  | .hbm, ⟨4, _⟩ => ⟨S4096x4096, .f32⟩
  | .hbm, ⟨5, _⟩ => ⟨S2x2048x4x2048, .f32⟩
  | .hbm, ⟨6, _⟩ => ⟨S4x2048x2x2048, .f32⟩
  | .hbm, ⟨7, _⟩ => ⟨S4x2048x4096, .f32⟩
  | .hbm, ⟨8, _⟩ => ⟨S4x1024x4096, .f32⟩
  | .hbm, ⟨9, _⟩ => ⟨S4x1024x4096, .f32⟩
  | .hbm, ⟨10, _⟩ => ⟨S4x1024x4096, .f32⟩
  | .hbm, ⟨11, _⟩ => ⟨S4x5120x4096, .f32⟩
  | .hbm, ⟨12, _⟩ => ⟨S4x5120x4096, .bf16⟩
  | .hbm, ⟨13, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .f32⟩
  | .local _ .vmem, ⟨11, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1024_i32 : BitVec 32 := 1024#32
  let v2 : BitVec 32 := Scalar.muli v1 c1024_i32
  let c1024_i32_0 : BitVec 32 := 1024#32
  let v3 : BitVec 32 := Scalar.muli arg1 c1024_i32_0
  let c2048_i32 : BitVec 32 := 2048#32
  let v4 : BitVec 32 := Scalar.divsi v3 c2048_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c2048_i32 c0_i32_3
  let v11 : BitVec 32 := Scalar.extui v10
  let c0_i32_4 : BitVec 32 := 0#32
  let v12 : BitVec 1 := Scalar.cmpi .slt c2048_i32 c0_i32_4
  let v13 : BitVec 32 := Scalar.extui v12
  let v14 : BitVec 32 := Scalar.subi v11 v13
  let v15 : BitVec 1 := Scalar.cmpi .ne v9 v14
  let v16 : BitVec 32 := Scalar.remsi v3 c2048_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c0_i32_6 : BitVec 32 := 0#32
  let v21 : BitVec 32 := Scalar.addi c0_i32_6 v20
  let c2048_i32_7 : BitVec 32 := 2048#32
  let c0_i32_8 : BitVec 32 := 0#32
  let v22 : BitVec 1 := Scalar.cmpi .eq c2048_i32_7 c0_i32_8
  let c1_i32_9 : BitVec 32 := 1#32
  let v23 : BitVec 32 := Scalar.select v22 c1_i32_9 c2048_i32_7
  let v24 : BitVec 32 := Scalar.remsi v2 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let c1024_i32_13 : BitVec 32 := 1024#32
  let v32 : BitVec 32 := Scalar.addi c1024_i32_13 v31
  let c2048_i32_14 : BitVec 32 := 2048#32
  let v33 : BitVec 32 := Scalar.divsi v2 c2048_i32_14
  let c0_i32_15 : BitVec 32 := 0#32
  let v34 : BitVec 1 := Scalar.cmpi .sgt v2 c0_i32_15
  let v35 : BitVec 32 := Scalar.extui v34
  let c0_i32_16 : BitVec 32 := 0#32
  let v36 : BitVec 1 := Scalar.cmpi .slt v2 c0_i32_16
  let v37 : BitVec 32 := Scalar.extui v36
  let v38 : BitVec 32 := Scalar.subi v35 v37
  let c0_i32_17 : BitVec 32 := 0#32
  let v39 : BitVec 1 := Scalar.cmpi .sgt c2048_i32_14 c0_i32_17
  let v40 : BitVec 32 := Scalar.extui v39
  let c0_i32_18 : BitVec 32 := 0#32
  let v41 : BitVec 1 := Scalar.cmpi .slt c2048_i32_14 c0_i32_18
  let v42 : BitVec 32 := Scalar.extui v41
  let v43 : BitVec 32 := Scalar.subi v40 v42
  let v44 : BitVec 1 := Scalar.cmpi .ne v38 v43
  let v45 : BitVec 32 := Scalar.remsi v2 c2048_i32_14
  let c0_i32_19 : BitVec 32 := 0#32
  let v46 : BitVec 1 := Scalar.cmpi .ne v45 c0_i32_19
  let v47 : BitVec 1 := Scalar.andi v44 v46
  let c1_i32_20 : BitVec 32 := 1#32
  let v48 : BitVec 32 := Scalar.subi v33 c1_i32_20
  let v49 : BitVec 32 := Scalar.select v47 v48 v33
  let c2048_i32_21 : BitVec 32 := 2048#32
  let v50 : BitVec 32 := Scalar.muli v49 c2048_i32_21
  let c2048_i32_22 : BitVec 32 := 2048#32
  let c0_i32_23 : BitVec 32 := 0#32
  let v51 : BitVec 1 := Scalar.cmpi .eq c2048_i32_22 c0_i32_23
  let c1_i32_24 : BitVec 32 := 1#32
  let v52 : BitVec 32 := Scalar.select v51 c1_i32_24 c2048_i32_22
  let v53 : BitVec 32 := Scalar.remsi v3 v52
  let c0_i32_25 : BitVec 32 := 0#32
  let v54 : BitVec 1 := Scalar.cmpi .ne v53 c0_i32_25
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c1024_i32_28 : BitVec 32 := 1024#32
  let v62 : BitVec 32 := Scalar.divsi v32 c1024_i32_28
  let c0_i32_29 : BitVec 32 := 0#32
  let v63 : BitVec 1 := Scalar.cmpi .sgt v32 c0_i32_29
  let v64 : BitVec 32 := Scalar.extui v63
  let c0_i32_30 : BitVec 32 := 0#32
  let v65 : BitVec 1 := Scalar.cmpi .slt v32 c0_i32_30
  let v66 : BitVec 32 := Scalar.extui v65
  let v67 : BitVec 32 := Scalar.subi v64 v66
  let c0_i32_31 : BitVec 32 := 0#32
  let v68 : BitVec 1 := Scalar.cmpi .sgt c1024_i32_28 c0_i32_31
  let v69 : BitVec 32 := Scalar.extui v68
  let c0_i32_32 : BitVec 32 := 0#32
  let v70 : BitVec 1 := Scalar.cmpi .slt c1024_i32_28 c0_i32_32
  let v71 : BitVec 32 := Scalar.extui v70
  let v72 : BitVec 32 := Scalar.subi v69 v71
  let v73 : BitVec 1 := Scalar.cmpi .ne v67 v72
  let v74 : BitVec 32 := Scalar.remsi v32 c1024_i32_28
  let c0_i32_33 : BitVec 32 := 0#32
  let v75 : BitVec 1 := Scalar.cmpi .ne v74 c0_i32_33
  let v76 : BitVec 1 := Scalar.andi v73 v75
  let c1_i32_34 : BitVec 32 := 1#32
  let v77 : BitVec 32 := Scalar.subi v62 c1_i32_34
  let v78 : BitVec 32 := Scalar.select v76 v77 v62
  let c1024_i32_35 : BitVec 32 := 1024#32
  let v79 : BitVec 32 := Scalar.divsi v61 c1024_i32_35
  let c0_i32_36 : BitVec 32 := 0#32
  let v80 : BitVec 1 := Scalar.cmpi .sgt v61 c0_i32_36
  let v81 : BitVec 32 := Scalar.extui v80
  let c0_i32_37 : BitVec 32 := 0#32
  let v82 : BitVec 1 := Scalar.cmpi .slt v61 c0_i32_37
  let v83 : BitVec 32 := Scalar.extui v82
  let v84 : BitVec 32 := Scalar.subi v81 v83
  let c0_i32_38 : BitVec 32 := 0#32
  let v85 : BitVec 1 := Scalar.cmpi .sgt c1024_i32_35 c0_i32_38
  let v86 : BitVec 32 := Scalar.extui v85
  let c0_i32_39 : BitVec 32 := 0#32
  let v87 : BitVec 1 := Scalar.cmpi .slt c1024_i32_35 c0_i32_39
  let v88 : BitVec 32 := Scalar.extui v87
  let v89 : BitVec 32 := Scalar.subi v86 v88
  let v90 : BitVec 1 := Scalar.cmpi .ne v84 v89
  let v91 : BitVec 32 := Scalar.remsi v61 c1024_i32_35
  let c0_i32_40 : BitVec 32 := 0#32
  let v92 : BitVec 1 := Scalar.cmpi .ne v91 c0_i32_40
  let v93 : BitVec 1 := Scalar.andi v90 v92
  let c1_i32_41 : BitVec 32 := 1#32
  let v94 : BitVec 32 := Scalar.subi v79 c1_i32_41
  let v95 : BitVec 32 := Scalar.select v93 v94 v79
  let c0_i32_42 : BitVec 32 := 0#32
  ![v21.toNat, v78.toNat, v95.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.addi v0 c1_i32
  let c1024_i32 : BitVec 32 := 1024#32
  let v2 : BitVec 32 := Scalar.muli v1 c1024_i32
  let c1024_i32_0 : BitVec 32 := 1024#32
  let v3 : BitVec 32 := Scalar.muli arg1 c1024_i32_0
  let c2048_i32 : BitVec 32 := 2048#32
  let v4 : BitVec 32 := Scalar.divsi v3 c2048_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let v21 : BitVec 32 := Scalar.addi c0_i32_6 v20
  let c2048_i32_7 : BitVec 32 := 2048#32
  let c0_i32_8 : BitVec 32 := 0#32
  let v22 : BitVec 1 := Scalar.cmpi .eq c2048_i32_7 c0_i32_8
  let c1_i32_9 : BitVec 32 := 1#32
  let v23 : BitVec 32 := Scalar.select v22 c1_i32_9 c2048_i32_7
  let v24 : BitVec 32 := Scalar.remsi v2 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let c1024_i32_13 : BitVec 32 := 1024#32
  let v32 : BitVec 32 := Scalar.addi c1024_i32_13 v31
  let c2048_i32_14 : BitVec 32 := 2048#32
  let v33 : BitVec 32 := Scalar.divsi v2 c2048_i32_14
  let c0_i32_15 : BitVec 32 := 0#32
  let v34 : BitVec 1 := Scalar.cmpi .sgt v2 c0_i32_15
  let v35 : BitVec 32 := Scalar.extui v34
  let c0_i32_16 : BitVec 32 := 0#32
  let v36 : BitVec 1 := Scalar.cmpi .slt v2 c0_i32_16
  let v37 : BitVec 32 := Scalar.extui v36
  let v38 : BitVec 32 := Scalar.subi v35 v37
  let c0_i32_17 : BitVec 32 := 0#32
  let v39 : BitVec 1 := Scalar.cmpi .sgt c2048_i32_14 c0_i32_17
  let v40 : BitVec 32 := Scalar.extui v39
  let c0_i32_18 : BitVec 32 := 0#32
  let v41 : BitVec 1 := Scalar.cmpi .slt c2048_i32_14 c0_i32_18
  let v42 : BitVec 32 := Scalar.extui v41
  let v43 : BitVec 32 := Scalar.subi v40 v42
  let v44 : BitVec 1 := Scalar.cmpi .ne v38 v43
  let v45 : BitVec 32 := Scalar.remsi v2 c2048_i32_14
  let c0_i32_19 : BitVec 32 := 0#32
  let v46 : BitVec 1 := Scalar.cmpi .ne v45 c0_i32_19
  let v47 : BitVec 1 := Scalar.andi v44 v46
  let c1_i32_20 : BitVec 32 := 1#32
  let v48 : BitVec 32 := Scalar.subi v33 c1_i32_20
  let v49 : BitVec 32 := Scalar.select v47 v48 v33
  let c2048_i32_21 : BitVec 32 := 2048#32
  let v50 : BitVec 32 := Scalar.muli v49 c2048_i32_21
  let c2048_i32_22 : BitVec 32 := 2048#32
  let c0_i32_23 : BitVec 32 := 0#32
  let v51 : BitVec 1 := Scalar.cmpi .eq c2048_i32_22 c0_i32_23
  let c1_i32_24 : BitVec 32 := 1#32
  let v52 : BitVec 32 := Scalar.select v51 c1_i32_24 c2048_i32_22
  let v53 : BitVec 32 := Scalar.remsi v3 v52
  let c0_i32_25 : BitVec 32 := 0#32
  let v54 : BitVec 1 := Scalar.cmpi .ne v53 c0_i32_25
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c1024_i32_28 : BitVec 32 := 1024#32
  let v62 : BitVec 32 := Scalar.divsi v32 c1024_i32_28
  let c0_i32_29 : BitVec 32 := 0#32
  let v63 : BitVec 1 := Scalar.cmpi .sgt v32 c0_i32_29
  let v64 : BitVec 32 := Scalar.extui v63
  let c0_i32_30 : BitVec 32 := 0#32
  let v65 : BitVec 1 := Scalar.cmpi .slt v32 c0_i32_30
  let v66 : BitVec 32 := Scalar.extui v65
  let v67 : BitVec 32 := Scalar.subi v64 v66
  let c0_i32_31 : BitVec 32 := 0#32
  let v68 : BitVec 1 := Scalar.cmpi .sgt c1024_i32_28 c0_i32_31
  let v69 : BitVec 32 := Scalar.extui v68
  let c0_i32_32 : BitVec 32 := 0#32
  let v70 : BitVec 1 := Scalar.cmpi .slt c1024_i32_28 c0_i32_32
  let v71 : BitVec 32 := Scalar.extui v70
  let v72 : BitVec 32 := Scalar.subi v69 v71
  let v73 : BitVec 1 := Scalar.cmpi .ne v67 v72
  let v74 : BitVec 32 := Scalar.remsi v32 c1024_i32_28
  let c0_i32_33 : BitVec 32 := 0#32
  let v75 : BitVec 1 := Scalar.cmpi .ne v74 c0_i32_33
  let v76 : BitVec 1 := Scalar.andi v73 v75
  let c1_i32_34 : BitVec 32 := 1#32
  let v77 : BitVec 32 := Scalar.subi v62 c1_i32_34
  let v78 : BitVec 32 := Scalar.select v76 v77 v62
  let c1024_i32_35 : BitVec 32 := 1024#32
  let v79 : BitVec 32 := Scalar.divsi v61 c1024_i32_35
  let c0_i32_36 : BitVec 32 := 0#32
  let v80 : BitVec 1 := Scalar.cmpi .sgt v61 c0_i32_36
  let v81 : BitVec 32 := Scalar.extui v80
  let c0_i32_37 : BitVec 32 := 0#32
  let v82 : BitVec 1 := Scalar.cmpi .slt v61 c0_i32_37
  let v83 : BitVec 32 := Scalar.extui v82
  let v84 : BitVec 32 := Scalar.subi v81 v83
  let c0_i32_38 : BitVec 32 := 0#32
  let v85 : BitVec 1 := Scalar.cmpi .sgt c1024_i32_35 c0_i32_38
  let v86 : BitVec 32 := Scalar.extui v85
  let c0_i32_39 : BitVec 32 := 0#32
  let v87 : BitVec 1 := Scalar.cmpi .slt c1024_i32_35 c0_i32_39
  let v88 : BitVec 32 := Scalar.extui v87
  let v89 : BitVec 32 := Scalar.subi v86 v88
  let v90 : BitVec 1 := Scalar.cmpi .ne v84 v89
  let v91 : BitVec 32 := Scalar.remsi v61 c1024_i32_35
  let c0_i32_40 : BitVec 32 := 0#32
  let v92 : BitVec 1 := Scalar.cmpi .ne v91 c0_i32_40
  let v93 : BitVec 1 := Scalar.andi v90 v92
  let c1_i32_41 : BitVec 32 := 1#32
  let v94 : BitVec 32 := Scalar.subi v79 c1_i32_41
  let v95 : BitVec 32 := Scalar.select v93 v94 v79
  let c0_i32_42 : BitVec 32 := 0#32
  ![v21.toNat, v78.toNat, v95.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c2_i32 : BitVec 32 := 2#32
  let v1 : BitVec 32 := Scalar.addi v0 c2_i32
  let c1024_i32 : BitVec 32 := 1024#32
  let v2 : BitVec 32 := Scalar.muli v1 c1024_i32
  let c1024_i32_0 : BitVec 32 := 1024#32
  let v3 : BitVec 32 := Scalar.muli arg1 c1024_i32_0
  let c2048_i32 : BitVec 32 := 2048#32
  let v4 : BitVec 32 := Scalar.divsi v3 c2048_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let v21 : BitVec 32 := Scalar.addi c0_i32_5 v20
  let c2048_i32_6 : BitVec 32 := 2048#32
  let c0_i32_7 : BitVec 32 := 0#32
  let v22 : BitVec 1 := Scalar.cmpi .eq c2048_i32_6 c0_i32_7
  let c1_i32_8 : BitVec 32 := 1#32
  let v23 : BitVec 32 := Scalar.select v22 c1_i32_8 c2048_i32_6
  let v24 : BitVec 32 := Scalar.remsi v2 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let c1024_i32_12 : BitVec 32 := 1024#32
  let v32 : BitVec 32 := Scalar.addi c1024_i32_12 v31
  let c2048_i32_13 : BitVec 32 := 2048#32
  let v33 : BitVec 32 := Scalar.divsi v2 c2048_i32_13
  let c0_i32_14 : BitVec 32 := 0#32
  let v34 : BitVec 1 := Scalar.cmpi .sgt v2 c0_i32_14
  let v35 : BitVec 32 := Scalar.extui v34
  let c0_i32_15 : BitVec 32 := 0#32
  let v36 : BitVec 1 := Scalar.cmpi .slt v2 c0_i32_15
  let v37 : BitVec 32 := Scalar.extui v36
  let v38 : BitVec 32 := Scalar.subi v35 v37
  let c0_i32_16 : BitVec 32 := 0#32
  let v39 : BitVec 1 := Scalar.cmpi .sgt c2048_i32_13 c0_i32_16
  let v40 : BitVec 32 := Scalar.extui v39
  let c0_i32_17 : BitVec 32 := 0#32
  let v41 : BitVec 1 := Scalar.cmpi .slt c2048_i32_13 c0_i32_17
  let v42 : BitVec 32 := Scalar.extui v41
  let v43 : BitVec 32 := Scalar.subi v40 v42
  let v44 : BitVec 1 := Scalar.cmpi .ne v38 v43
  let v45 : BitVec 32 := Scalar.remsi v2 c2048_i32_13
  let c0_i32_18 : BitVec 32 := 0#32
  let v46 : BitVec 1 := Scalar.cmpi .ne v45 c0_i32_18
  let v47 : BitVec 1 := Scalar.andi v44 v46
  let c1_i32_19 : BitVec 32 := 1#32
  let v48 : BitVec 32 := Scalar.subi v33 c1_i32_19
  let v49 : BitVec 32 := Scalar.select v47 v48 v33
  let c2048_i32_20 : BitVec 32 := 2048#32
  let v50 : BitVec 32 := Scalar.muli v49 c2048_i32_20
  let c2048_i32_21 : BitVec 32 := 2048#32
  let c0_i32_22 : BitVec 32 := 0#32
  let v51 : BitVec 1 := Scalar.cmpi .eq c2048_i32_21 c0_i32_22
  let c1_i32_23 : BitVec 32 := 1#32
  let v52 : BitVec 32 := Scalar.select v51 c1_i32_23 c2048_i32_21
  let v53 : BitVec 32 := Scalar.remsi v3 v52
  let c0_i32_24 : BitVec 32 := 0#32
  let v54 : BitVec 1 := Scalar.cmpi .ne v53 c0_i32_24
  let c0_i32_25 : BitVec 32 := 0#32
  let v55 : BitVec 1 := Scalar.cmpi .slt v53 c0_i32_25
  let c0_i32_26 : BitVec 32 := 0#32
  let v56 : BitVec 1 := Scalar.cmpi .slt v52 c0_i32_26
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c1024_i32_27 : BitVec 32 := 1024#32
  let v62 : BitVec 32 := Scalar.divsi v32 c1024_i32_27
  let c0_i32_28 : BitVec 32 := 0#32
  let v63 : BitVec 1 := Scalar.cmpi .sgt v32 c0_i32_28
  let v64 : BitVec 32 := Scalar.extui v63
  let c0_i32_29 : BitVec 32 := 0#32
  let v65 : BitVec 1 := Scalar.cmpi .slt v32 c0_i32_29
  let v66 : BitVec 32 := Scalar.extui v65
  let v67 : BitVec 32 := Scalar.subi v64 v66
  let c0_i32_30 : BitVec 32 := 0#32
  let v68 : BitVec 1 := Scalar.cmpi .sgt c1024_i32_27 c0_i32_30
  let v69 : BitVec 32 := Scalar.extui v68
  let c0_i32_31 : BitVec 32 := 0#32
  let v70 : BitVec 1 := Scalar.cmpi .slt c1024_i32_27 c0_i32_31
  let v71 : BitVec 32 := Scalar.extui v70
  let v72 : BitVec 32 := Scalar.subi v69 v71
  let v73 : BitVec 1 := Scalar.cmpi .ne v67 v72
  let v74 : BitVec 32 := Scalar.remsi v32 c1024_i32_27
  let c0_i32_32 : BitVec 32 := 0#32
  let v75 : BitVec 1 := Scalar.cmpi .ne v74 c0_i32_32
  let v76 : BitVec 1 := Scalar.andi v73 v75
  let c1_i32_33 : BitVec 32 := 1#32
  let v77 : BitVec 32 := Scalar.subi v62 c1_i32_33
  let v78 : BitVec 32 := Scalar.select v76 v77 v62
  let c1024_i32_34 : BitVec 32 := 1024#32
  let v79 : BitVec 32 := Scalar.divsi v61 c1024_i32_34
  let c0_i32_35 : BitVec 32 := 0#32
  let v80 : BitVec 1 := Scalar.cmpi .sgt v61 c0_i32_35
  let v81 : BitVec 32 := Scalar.extui v80
  let c0_i32_36 : BitVec 32 := 0#32
  let v82 : BitVec 1 := Scalar.cmpi .slt v61 c0_i32_36
  let v83 : BitVec 32 := Scalar.extui v82
  let v84 : BitVec 32 := Scalar.subi v81 v83
  let c0_i32_37 : BitVec 32 := 0#32
  let v85 : BitVec 1 := Scalar.cmpi .sgt c1024_i32_34 c0_i32_37
  let v86 : BitVec 32 := Scalar.extui v85
  let c0_i32_38 : BitVec 32 := 0#32
  let v87 : BitVec 1 := Scalar.cmpi .slt c1024_i32_34 c0_i32_38
  let v88 : BitVec 32 := Scalar.extui v87
  let v89 : BitVec 32 := Scalar.subi v86 v88
  let v90 : BitVec 1 := Scalar.cmpi .ne v84 v89
  let v91 : BitVec 32 := Scalar.remsi v61 c1024_i32_34
  let c0_i32_39 : BitVec 32 := 0#32
  let v92 : BitVec 1 := Scalar.cmpi .ne v91 c0_i32_39
  let v93 : BitVec 1 := Scalar.andi v90 v92
  let c1_i32_40 : BitVec 32 := 1#32
  let v94 : BitVec 32 := Scalar.subi v79 c1_i32_40
  let v95 : BitVec 32 := Scalar.select v93 v94 v79
  let c0_i32_41 : BitVec 32 := 0#32
  ![v21.toNat, v78.toNat, v95.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c3_i32 : BitVec 32 := 3#32
  let v1 : BitVec 32 := Scalar.addi v0 c3_i32
  let c1024_i32 : BitVec 32 := 1024#32
  let v2 : BitVec 32 := Scalar.muli v1 c1024_i32
  let c1024_i32_0 : BitVec 32 := 1024#32
  let v3 : BitVec 32 := Scalar.muli arg1 c1024_i32_0
  let c2048_i32 : BitVec 32 := 2048#32
  let v4 : BitVec 32 := Scalar.divsi v3 c2048_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let v21 : BitVec 32 := Scalar.addi c0_i32_5 v20
  let c2048_i32_6 : BitVec 32 := 2048#32
  let c0_i32_7 : BitVec 32 := 0#32
  let v22 : BitVec 1 := Scalar.cmpi .eq c2048_i32_6 c0_i32_7
  let c1_i32_8 : BitVec 32 := 1#32
  let v23 : BitVec 32 := Scalar.select v22 c1_i32_8 c2048_i32_6
  let v24 : BitVec 32 := Scalar.remsi v2 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let c1024_i32_12 : BitVec 32 := 1024#32
  let v32 : BitVec 32 := Scalar.addi c1024_i32_12 v31
  let c2048_i32_13 : BitVec 32 := 2048#32
  let v33 : BitVec 32 := Scalar.divsi v2 c2048_i32_13
  let c0_i32_14 : BitVec 32 := 0#32
  let v34 : BitVec 1 := Scalar.cmpi .sgt v2 c0_i32_14
  let v35 : BitVec 32 := Scalar.extui v34
  let c0_i32_15 : BitVec 32 := 0#32
  let v36 : BitVec 1 := Scalar.cmpi .slt v2 c0_i32_15
  let v37 : BitVec 32 := Scalar.extui v36
  let v38 : BitVec 32 := Scalar.subi v35 v37
  let c0_i32_16 : BitVec 32 := 0#32
  let v39 : BitVec 1 := Scalar.cmpi .sgt c2048_i32_13 c0_i32_16
  let v40 : BitVec 32 := Scalar.extui v39
  let c0_i32_17 : BitVec 32 := 0#32
  let v41 : BitVec 1 := Scalar.cmpi .slt c2048_i32_13 c0_i32_17
  let v42 : BitVec 32 := Scalar.extui v41
  let v43 : BitVec 32 := Scalar.subi v40 v42
  let v44 : BitVec 1 := Scalar.cmpi .ne v38 v43
  let v45 : BitVec 32 := Scalar.remsi v2 c2048_i32_13
  let c0_i32_18 : BitVec 32 := 0#32
  let v46 : BitVec 1 := Scalar.cmpi .ne v45 c0_i32_18
  let v47 : BitVec 1 := Scalar.andi v44 v46
  let c1_i32_19 : BitVec 32 := 1#32
  let v48 : BitVec 32 := Scalar.subi v33 c1_i32_19
  let v49 : BitVec 32 := Scalar.select v47 v48 v33
  let c2048_i32_20 : BitVec 32 := 2048#32
  let v50 : BitVec 32 := Scalar.muli v49 c2048_i32_20
  let c2048_i32_21 : BitVec 32 := 2048#32
  let c0_i32_22 : BitVec 32 := 0#32
  let v51 : BitVec 1 := Scalar.cmpi .eq c2048_i32_21 c0_i32_22
  let c1_i32_23 : BitVec 32 := 1#32
  let v52 : BitVec 32 := Scalar.select v51 c1_i32_23 c2048_i32_21
  let v53 : BitVec 32 := Scalar.remsi v3 v52
  let c0_i32_24 : BitVec 32 := 0#32
  let v54 : BitVec 1 := Scalar.cmpi .ne v53 c0_i32_24
  let c0_i32_25 : BitVec 32 := 0#32
  let v55 : BitVec 1 := Scalar.cmpi .slt v53 c0_i32_25
  let c0_i32_26 : BitVec 32 := 0#32
  let v56 : BitVec 1 := Scalar.cmpi .slt v52 c0_i32_26
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c1024_i32_27 : BitVec 32 := 1024#32
  let v62 : BitVec 32 := Scalar.divsi v32 c1024_i32_27
  let c0_i32_28 : BitVec 32 := 0#32
  let v63 : BitVec 1 := Scalar.cmpi .sgt v32 c0_i32_28
  let v64 : BitVec 32 := Scalar.extui v63
  let c0_i32_29 : BitVec 32 := 0#32
  let v65 : BitVec 1 := Scalar.cmpi .slt v32 c0_i32_29
  let v66 : BitVec 32 := Scalar.extui v65
  let v67 : BitVec 32 := Scalar.subi v64 v66
  let c0_i32_30 : BitVec 32 := 0#32
  let v68 : BitVec 1 := Scalar.cmpi .sgt c1024_i32_27 c0_i32_30
  let v69 : BitVec 32 := Scalar.extui v68
  let c0_i32_31 : BitVec 32 := 0#32
  let v70 : BitVec 1 := Scalar.cmpi .slt c1024_i32_27 c0_i32_31
  let v71 : BitVec 32 := Scalar.extui v70
  let v72 : BitVec 32 := Scalar.subi v69 v71
  let v73 : BitVec 1 := Scalar.cmpi .ne v67 v72
  let v74 : BitVec 32 := Scalar.remsi v32 c1024_i32_27
  let c0_i32_32 : BitVec 32 := 0#32
  let v75 : BitVec 1 := Scalar.cmpi .ne v74 c0_i32_32
  let v76 : BitVec 1 := Scalar.andi v73 v75
  let c1_i32_33 : BitVec 32 := 1#32
  let v77 : BitVec 32 := Scalar.subi v62 c1_i32_33
  let v78 : BitVec 32 := Scalar.select v76 v77 v62
  let c1024_i32_34 : BitVec 32 := 1024#32
  let v79 : BitVec 32 := Scalar.divsi v61 c1024_i32_34
  let c0_i32_35 : BitVec 32 := 0#32
  let v80 : BitVec 1 := Scalar.cmpi .sgt v61 c0_i32_35
  let v81 : BitVec 32 := Scalar.extui v80
  let c0_i32_36 : BitVec 32 := 0#32
  let v82 : BitVec 1 := Scalar.cmpi .slt v61 c0_i32_36
  let v83 : BitVec 32 := Scalar.extui v82
  let v84 : BitVec 32 := Scalar.subi v81 v83
  let c0_i32_37 : BitVec 32 := 0#32
  let v85 : BitVec 1 := Scalar.cmpi .sgt c1024_i32_34 c0_i32_37
  let v86 : BitVec 32 := Scalar.extui v85
  let c0_i32_38 : BitVec 32 := 0#32
  let v87 : BitVec 1 := Scalar.cmpi .slt c1024_i32_34 c0_i32_38
  let v88 : BitVec 32 := Scalar.extui v87
  let v89 : BitVec 32 := Scalar.subi v86 v88
  let v90 : BitVec 1 := Scalar.cmpi .ne v84 v89
  let v91 : BitVec 32 := Scalar.remsi v61 c1024_i32_34
  let c0_i32_39 : BitVec 32 := 0#32
  let v92 : BitVec 1 := Scalar.cmpi .ne v91 c0_i32_39
  let v93 : BitVec 1 := Scalar.andi v90 v92
  let c1_i32_40 : BitVec 32 := 1#32
  let v94 : BitVec 32 := Scalar.subi v79 c1_i32_40
  let v95 : BitVec 32 := Scalar.select v93 v94 v79
  let c0_i32_41 : BitVec 32 := 0#32
  ![v21.toNat, v78.toNat, v95.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== SsmInUIdeal.lean ====
abbrev S4096x4096 : Shape := ⟨2, ![4096, 4096]⟩
abbrev S4096x8192 : Shape := ⟨2, ![4096, 8192]⟩
abbrev S2x2048x4x2048 : Shape := ⟨4, ![2, 2048, 4, 2048]⟩
abbrev S4x2048x2x2048 : Shape := ⟨4, ![4, 2048, 2, 2048]⟩
abbrev S4x2048x4096 : Shape := ⟨3, ![4, 2048, 4096]⟩
abbrev S4x1024x4096 : Shape := ⟨3, ![4, 1024, 4096]⟩
abbrev S4x5120x4096 : Shape := ⟨3, ![4, 5120, 4096]⟩
abbrev S1024x4096 : Shape := ⟨2, ![1024, 4096]⟩
abbrev S1x1024x1024 : Shape := ⟨3, ![1, 1024, 1024]⟩
abbrev S1024x1024 : Shape := ⟨2, ![1024, 1024]⟩

abbrev nBuf : Space → Nat
  | .hbm => 14
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x8192, .f32⟩
  | .hbm, ⟨3, _⟩ => ⟨S4096x4096, .f32⟩
  | .hbm, ⟨4, _⟩ => ⟨S4096x4096, .f32⟩
  | .hbm, ⟨5, _⟩ => ⟨S2x2048x4x2048, .f32⟩
  | .hbm, ⟨6, _⟩ => ⟨S4x2048x2x2048, .f32⟩
  | .hbm, ⟨7, _⟩ => ⟨S4x2048x4096, .f32⟩
  | .hbm, ⟨8, _⟩ => ⟨S4x1024x4096, .f32⟩
  | .hbm, ⟨9, _⟩ => ⟨S4x1024x4096, .f32⟩
  | .hbm, ⟨10, _⟩ => ⟨S4x1024x4096, .f32⟩
  | .hbm, ⟨11, _⟩ => ⟨S4x5120x4096, .f32⟩
  | .hbm, ⟨12, _⟩ => ⟨S4x5120x4096, .bf16⟩
  | .hbm, ⟨13, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .f32⟩
  | .local _ .vmem, ⟨11, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1024_i32 : BitVec 32 := 1024#32
  let v2 : BitVec 32 := Scalar.muli v1 c1024_i32
  let c1024_i32_0 : BitVec 32 := 1024#32
  let v3 : BitVec 32 := Scalar.muli arg1 c1024_i32_0
  let c2048_i32 : BitVec 32 := 2048#32
  let v4 : BitVec 32 := Scalar.divsi v3 c2048_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c2048_i32 c0_i32_3
  let v11 : BitVec 32 := Scalar.extui v10
  let c0_i32_4 : BitVec 32 := 0#32
  let v12 : BitVec 1 := Scalar.cmpi .slt c2048_i32 c0_i32_4
  let v13 : BitVec 32 := Scalar.extui v12
  let v14 : BitVec 32 := Scalar.subi v11 v13
  let v15 : BitVec 1 := Scalar.cmpi .ne v9 v14
  let v16 : BitVec 32 := Scalar.remsi v3 c2048_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c0_i32_6 : BitVec 32 := 0#32
  let v21 : BitVec 32 := Scalar.addi c0_i32_6 v20
  let c2048_i32_7 : BitVec 32 := 2048#32
  let c0_i32_8 : BitVec 32 := 0#32
  let v22 : BitVec 1 := Scalar.cmpi .eq c2048_i32_7 c0_i32_8
  let c1_i32_9 : BitVec 32 := 1#32
  let v23 : BitVec 32 := Scalar.select v22 c1_i32_9 c2048_i32_7
  let v24 : BitVec 32 := Scalar.remsi v2 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let c1024_i32_13 : BitVec 32 := 1024#32
  let v32 : BitVec 32 := Scalar.addi c1024_i32_13 v31
  let c2048_i32_14 : BitVec 32 := 2048#32
  let v33 : BitVec 32 := Scalar.divsi v2 c2048_i32_14
  let c0_i32_15 : BitVec 32 := 0#32
  let v34 : BitVec 1 := Scalar.cmpi .sgt v2 c0_i32_15
  let v35 : BitVec 32 := Scalar.extui v34
  let c0_i32_16 : BitVec 32 := 0#32
  let v36 : BitVec 1 := Scalar.cmpi .slt v2 c0_i32_16
  let v37 : BitVec 32 := Scalar.extui v36
  let v38 : BitVec 32 := Scalar.subi v35 v37
  let c0_i32_17 : BitVec 32 := 0#32
  let v39 : BitVec 1 := Scalar.cmpi .sgt c2048_i32_14 c0_i32_17
  let v40 : BitVec 32 := Scalar.extui v39
  let c0_i32_18 : BitVec 32 := 0#32
  let v41 : BitVec 1 := Scalar.cmpi .slt c2048_i32_14 c0_i32_18
  let v42 : BitVec 32 := Scalar.extui v41
  let v43 : BitVec 32 := Scalar.subi v40 v42
  let v44 : BitVec 1 := Scalar.cmpi .ne v38 v43
  let v45 : BitVec 32 := Scalar.remsi v2 c2048_i32_14
  let c0_i32_19 : BitVec 32 := 0#32
  let v46 : BitVec 1 := Scalar.cmpi .ne v45 c0_i32_19
  let v47 : BitVec 1 := Scalar.andi v44 v46
  let c1_i32_20 : BitVec 32 := 1#32
  let v48 : BitVec 32 := Scalar.subi v33 c1_i32_20
  let v49 : BitVec 32 := Scalar.select v47 v48 v33
  let c2048_i32_21 : BitVec 32 := 2048#32
  let v50 : BitVec 32 := Scalar.muli v49 c2048_i32_21
  let c2048_i32_22 : BitVec 32 := 2048#32
  let c0_i32_23 : BitVec 32 := 0#32
  let v51 : BitVec 1 := Scalar.cmpi .eq c2048_i32_22 c0_i32_23
  let c1_i32_24 : BitVec 32 := 1#32
  let v52 : BitVec 32 := Scalar.select v51 c1_i32_24 c2048_i32_22
  let v53 : BitVec 32 := Scalar.remsi v3 v52
  let c0_i32_25 : BitVec 32 := 0#32
  let v54 : BitVec 1 := Scalar.cmpi .ne v53 c0_i32_25
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c1024_i32_28 : BitVec 32 := 1024#32
  let v62 : BitVec 32 := Scalar.divsi v32 c1024_i32_28
  let c0_i32_29 : BitVec 32 := 0#32
  let v63 : BitVec 1 := Scalar.cmpi .sgt v32 c0_i32_29
  let v64 : BitVec 32 := Scalar.extui v63
  let c0_i32_30 : BitVec 32 := 0#32
  let v65 : BitVec 1 := Scalar.cmpi .slt v32 c0_i32_30
  let v66 : BitVec 32 := Scalar.extui v65
  let v67 : BitVec 32 := Scalar.subi v64 v66
  let c0_i32_31 : BitVec 32 := 0#32
  let v68 : BitVec 1 := Scalar.cmpi .sgt c1024_i32_28 c0_i32_31
  let v69 : BitVec 32 := Scalar.extui v68
  let c0_i32_32 : BitVec 32 := 0#32
  let v70 : BitVec 1 := Scalar.cmpi .slt c1024_i32_28 c0_i32_32
  let v71 : BitVec 32 := Scalar.extui v70
  let v72 : BitVec 32 := Scalar.subi v69 v71
  let v73 : BitVec 1 := Scalar.cmpi .ne v67 v72
  let v74 : BitVec 32 := Scalar.remsi v32 c1024_i32_28
  let c0_i32_33 : BitVec 32 := 0#32
  let v75 : BitVec 1 := Scalar.cmpi .ne v74 c0_i32_33
  let v76 : BitVec 1 := Scalar.andi v73 v75
  let c1_i32_34 : BitVec 32 := 1#32
  let v77 : BitVec 32 := Scalar.subi v62 c1_i32_34
  let v78 : BitVec 32 := Scalar.select v76 v77 v62
  let c1024_i32_35 : BitVec 32 := 1024#32
  let v79 : BitVec 32 := Scalar.divsi v61 c1024_i32_35
  let c0_i32_36 : BitVec 32 := 0#32
  let v80 : BitVec 1 := Scalar.cmpi .sgt v61 c0_i32_36
  let v81 : BitVec 32 := Scalar.extui v80
  let c0_i32_37 : BitVec 32 := 0#32
  let v82 : BitVec 1 := Scalar.cmpi .slt v61 c0_i32_37
  let v83 : BitVec 32 := Scalar.extui v82
  let v84 : BitVec 32 := Scalar.subi v81 v83
  let c0_i32_38 : BitVec 32 := 0#32
  let v85 : BitVec 1 := Scalar.cmpi .sgt c1024_i32_35 c0_i32_38
  let v86 : BitVec 32 := Scalar.extui v85
  let c0_i32_39 : BitVec 32 := 0#32
  let v87 : BitVec 1 := Scalar.cmpi .slt c1024_i32_35 c0_i32_39
  let v88 : BitVec 32 := Scalar.extui v87
  let v89 : BitVec 32 := Scalar.subi v86 v88
  let v90 : BitVec 1 := Scalar.cmpi .ne v84 v89
  let v91 : BitVec 32 := Scalar.remsi v61 c1024_i32_35
  let c0_i32_40 : BitVec 32 := 0#32
  let v92 : BitVec 1 := Scalar.cmpi .ne v91 c0_i32_40
  let v93 : BitVec 1 := Scalar.andi v90 v92
  let c1_i32_41 : BitVec 32 := 1#32
  let v94 : BitVec 32 := Scalar.subi v79 c1_i32_41
  let v95 : BitVec 32 := Scalar.select v93 v94 v79
  let c0_i32_42 : BitVec 32 := 0#32
  ![v21.toNat, v78.toNat, v95.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.addi v0 c1_i32
  let c1024_i32 : BitVec 32 := 1024#32
  let v2 : BitVec 32 := Scalar.muli v1 c1024_i32
  let c1024_i32_0 : BitVec 32 := 1024#32
  let v3 : BitVec 32 := Scalar.muli arg1 c1024_i32_0
  let c2048_i32 : BitVec 32 := 2048#32
  let v4 : BitVec 32 := Scalar.divsi v3 c2048_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let v21 : BitVec 32 := Scalar.addi c0_i32_6 v20
  let c2048_i32_7 : BitVec 32 := 2048#32
  let c0_i32_8 : BitVec 32 := 0#32
  let v22 : BitVec 1 := Scalar.cmpi .eq c2048_i32_7 c0_i32_8
  let c1_i32_9 : BitVec 32 := 1#32
  let v23 : BitVec 32 := Scalar.select v22 c1_i32_9 c2048_i32_7
  let v24 : BitVec 32 := Scalar.remsi v2 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let c1024_i32_13 : BitVec 32 := 1024#32
  let v32 : BitVec 32 := Scalar.addi c1024_i32_13 v31
  let c2048_i32_14 : BitVec 32 := 2048#32
  let v33 : BitVec 32 := Scalar.divsi v2 c2048_i32_14
  let c0_i32_15 : BitVec 32 := 0#32
  let v34 : BitVec 1 := Scalar.cmpi .sgt v2 c0_i32_15
  let v35 : BitVec 32 := Scalar.extui v34
  let c0_i32_16 : BitVec 32 := 0#32
  let v36 : BitVec 1 := Scalar.cmpi .slt v2 c0_i32_16
  let v37 : BitVec 32 := Scalar.extui v36
  let v38 : BitVec 32 := Scalar.subi v35 v37
  let c0_i32_17 : BitVec 32 := 0#32
  let v39 : BitVec 1 := Scalar.cmpi .sgt c2048_i32_14 c0_i32_17
  let v40 : BitVec 32 := Scalar.extui v39
  let c0_i32_18 : BitVec 32 := 0#32
  let v41 : BitVec 1 := Scalar.cmpi .slt c2048_i32_14 c0_i32_18
  let v42 : BitVec 32 := Scalar.extui v41
  let v43 : BitVec 32 := Scalar.subi v40 v42
  let v44 : BitVec 1 := Scalar.cmpi .ne v38 v43
  let v45 : BitVec 32 := Scalar.remsi v2 c2048_i32_14
  let c0_i32_19 : BitVec 32 := 0#32
  let v46 : BitVec 1 := Scalar.cmpi .ne v45 c0_i32_19
  let v47 : BitVec 1 := Scalar.andi v44 v46
  let c1_i32_20 : BitVec 32 := 1#32
  let v48 : BitVec 32 := Scalar.subi v33 c1_i32_20
  let v49 : BitVec 32 := Scalar.select v47 v48 v33
  let c2048_i32_21 : BitVec 32 := 2048#32
  let v50 : BitVec 32 := Scalar.muli v49 c2048_i32_21
  let c2048_i32_22 : BitVec 32 := 2048#32
  let c0_i32_23 : BitVec 32 := 0#32
  let v51 : BitVec 1 := Scalar.cmpi .eq c2048_i32_22 c0_i32_23
  let c1_i32_24 : BitVec 32 := 1#32
  let v52 : BitVec 32 := Scalar.select v51 c1_i32_24 c2048_i32_22
  let v53 : BitVec 32 := Scalar.remsi v3 v52
  let c0_i32_25 : BitVec 32 := 0#32
  let v54 : BitVec 1 := Scalar.cmpi .ne v53 c0_i32_25
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c1024_i32_28 : BitVec 32 := 1024#32
  let v62 : BitVec 32 := Scalar.divsi v32 c1024_i32_28
  let c0_i32_29 : BitVec 32 := 0#32
  let v63 : BitVec 1 := Scalar.cmpi .sgt v32 c0_i32_29
  let v64 : BitVec 32 := Scalar.extui v63
  let c0_i32_30 : BitVec 32 := 0#32
  let v65 : BitVec 1 := Scalar.cmpi .slt v32 c0_i32_30
  let v66 : BitVec 32 := Scalar.extui v65
  let v67 : BitVec 32 := Scalar.subi v64 v66
  let c0_i32_31 : BitVec 32 := 0#32
  let v68 : BitVec 1 := Scalar.cmpi .sgt c1024_i32_28 c0_i32_31
  let v69 : BitVec 32 := Scalar.extui v68
  let c0_i32_32 : BitVec 32 := 0#32
  let v70 : BitVec 1 := Scalar.cmpi .slt c1024_i32_28 c0_i32_32
  let v71 : BitVec 32 := Scalar.extui v70
  let v72 : BitVec 32 := Scalar.subi v69 v71
  let v73 : BitVec 1 := Scalar.cmpi .ne v67 v72
  let v74 : BitVec 32 := Scalar.remsi v32 c1024_i32_28
  let c0_i32_33 : BitVec 32 := 0#32
  let v75 : BitVec 1 := Scalar.cmpi .ne v74 c0_i32_33
  let v76 : BitVec 1 := Scalar.andi v73 v75
  let c1_i32_34 : BitVec 32 := 1#32
  let v77 : BitVec 32 := Scalar.subi v62 c1_i32_34
  let v78 : BitVec 32 := Scalar.select v76 v77 v62
  let c1024_i32_35 : BitVec 32 := 1024#32
  let v79 : BitVec 32 := Scalar.divsi v61 c1024_i32_35
  let c0_i32_36 : BitVec 32 := 0#32
  let v80 : BitVec 1 := Scalar.cmpi .sgt v61 c0_i32_36
  let v81 : BitVec 32 := Scalar.extui v80
  let c0_i32_37 : BitVec 32 := 0#32
  let v82 : BitVec 1 := Scalar.cmpi .slt v61 c0_i32_37
  let v83 : BitVec 32 := Scalar.extui v82
  let v84 : BitVec 32 := Scalar.subi v81 v83
  let c0_i32_38 : BitVec 32 := 0#32
  let v85 : BitVec 1 := Scalar.cmpi .sgt c1024_i32_35 c0_i32_38
  let v86 : BitVec 32 := Scalar.extui v85
  let c0_i32_39 : BitVec 32 := 0#32
  let v87 : BitVec 1 := Scalar.cmpi .slt c1024_i32_35 c0_i32_39
  let v88 : BitVec 32 := Scalar.extui v87
  let v89 : BitVec 32 := Scalar.subi v86 v88
  let v90 : BitVec 1 := Scalar.cmpi .ne v84 v89
  let v91 : BitVec 32 := Scalar.remsi v61 c1024_i32_35
  let c0_i32_40 : BitVec 32 := 0#32
  let v92 : BitVec 1 := Scalar.cmpi .ne v91 c0_i32_40
  let v93 : BitVec 1 := Scalar.andi v90 v92
  let c1_i32_41 : BitVec 32 := 1#32
  let v94 : BitVec 32 := Scalar.subi v79 c1_i32_41
  let v95 : BitVec 32 := Scalar.select v93 v94 v79
  let c0_i32_42 : BitVec 32 := 0#32
  ![v21.toNat, v78.toNat, v95.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c2_i32 : BitVec 32 := 2#32
  let v1 : BitVec 32 := Scalar.addi v0 c2_i32
  let c1024_i32 : BitVec 32 := 1024#32
  let v2 : BitVec 32 := Scalar.muli v1 c1024_i32
  let c1024_i32_0 : BitVec 32 := 1024#32
  let v3 : BitVec 32 := Scalar.muli arg1 c1024_i32_0
  let c2048_i32 : BitVec 32 := 2048#32
  let v4 : BitVec 32 := Scalar.divsi v3 c2048_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let v21 : BitVec 32 := Scalar.addi c0_i32_5 v20
  let c2048_i32_6 : BitVec 32 := 2048#32
  let c0_i32_7 : BitVec 32 := 0#32
  let v22 : BitVec 1 := Scalar.cmpi .eq c2048_i32_6 c0_i32_7
  let c1_i32_8 : BitVec 32 := 1#32
  let v23 : BitVec 32 := Scalar.select v22 c1_i32_8 c2048_i32_6
  let v24 : BitVec 32 := Scalar.remsi v2 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let c1024_i32_12 : BitVec 32 := 1024#32
  let v32 : BitVec 32 := Scalar.addi c1024_i32_12 v31
  let c2048_i32_13 : BitVec 32 := 2048#32
  let v33 : BitVec 32 := Scalar.divsi v2 c2048_i32_13
  let c0_i32_14 : BitVec 32 := 0#32
  let v34 : BitVec 1 := Scalar.cmpi .sgt v2 c0_i32_14
  let v35 : BitVec 32 := Scalar.extui v34
  let c0_i32_15 : BitVec 32 := 0#32
  let v36 : BitVec 1 := Scalar.cmpi .slt v2 c0_i32_15
  let v37 : BitVec 32 := Scalar.extui v36
  let v38 : BitVec 32 := Scalar.subi v35 v37
  let c0_i32_16 : BitVec 32 := 0#32
  let v39 : BitVec 1 := Scalar.cmpi .sgt c2048_i32_13 c0_i32_16
  let v40 : BitVec 32 := Scalar.extui v39
  let c0_i32_17 : BitVec 32 := 0#32
  let v41 : BitVec 1 := Scalar.cmpi .slt c2048_i32_13 c0_i32_17
  let v42 : BitVec 32 := Scalar.extui v41
  let v43 : BitVec 32 := Scalar.subi v40 v42
  let v44 : BitVec 1 := Scalar.cmpi .ne v38 v43
  let v45 : BitVec 32 := Scalar.remsi v2 c2048_i32_13
  let c0_i32_18 : BitVec 32 := 0#32
  let v46 : BitVec 1 := Scalar.cmpi .ne v45 c0_i32_18
  let v47 : BitVec 1 := Scalar.andi v44 v46
  let c1_i32_19 : BitVec 32 := 1#32
  let v48 : BitVec 32 := Scalar.subi v33 c1_i32_19
  let v49 : BitVec 32 := Scalar.select v47 v48 v33
  let c2048_i32_20 : BitVec 32 := 2048#32
  let v50 : BitVec 32 := Scalar.muli v49 c2048_i32_20
  let c2048_i32_21 : BitVec 32 := 2048#32
  let c0_i32_22 : BitVec 32 := 0#32
  let v51 : BitVec 1 := Scalar.cmpi .eq c2048_i32_21 c0_i32_22
  let c1_i32_23 : BitVec 32 := 1#32
  let v52 : BitVec 32 := Scalar.select v51 c1_i32_23 c2048_i32_21
  let v53 : BitVec 32 := Scalar.remsi v3 v52
  let c0_i32_24 : BitVec 32 := 0#32
  let v54 : BitVec 1 := Scalar.cmpi .ne v53 c0_i32_24
  let c0_i32_25 : BitVec 32 := 0#32
  let v55 : BitVec 1 := Scalar.cmpi .slt v53 c0_i32_25
  let c0_i32_26 : BitVec 32 := 0#32
  let v56 : BitVec 1 := Scalar.cmpi .slt v52 c0_i32_26
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c1024_i32_27 : BitVec 32 := 1024#32
  let v62 : BitVec 32 := Scalar.divsi v32 c1024_i32_27
  let c0_i32_28 : BitVec 32 := 0#32
  let v63 : BitVec 1 := Scalar.cmpi .sgt v32 c0_i32_28
  let v64 : BitVec 32 := Scalar.extui v63
  let c0_i32_29 : BitVec 32 := 0#32
  let v65 : BitVec 1 := Scalar.cmpi .slt v32 c0_i32_29
  let v66 : BitVec 32 := Scalar.extui v65
  let v67 : BitVec 32 := Scalar.subi v64 v66
  let c0_i32_30 : BitVec 32 := 0#32
  let v68 : BitVec 1 := Scalar.cmpi .sgt c1024_i32_27 c0_i32_30
  let v69 : BitVec 32 := Scalar.extui v68
  let c0_i32_31 : BitVec 32 := 0#32
  let v70 : BitVec 1 := Scalar.cmpi .slt c1024_i32_27 c0_i32_31
  let v71 : BitVec 32 := Scalar.extui v70
  let v72 : BitVec 32 := Scalar.subi v69 v71
  let v73 : BitVec 1 := Scalar.cmpi .ne v67 v72
  let v74 : BitVec 32 := Scalar.remsi v32 c1024_i32_27
  let c0_i32_32 : BitVec 32 := 0#32
  let v75 : BitVec 1 := Scalar.cmpi .ne v74 c0_i32_32
  let v76 : BitVec 1 := Scalar.andi v73 v75
  let c1_i32_33 : BitVec 32 := 1#32
  let v77 : BitVec 32 := Scalar.subi v62 c1_i32_33
  let v78 : BitVec 32 := Scalar.select v76 v77 v62
  let c1024_i32_34 : BitVec 32 := 1024#32
  let v79 : BitVec 32 := Scalar.divsi v61 c1024_i32_34
  let c0_i32_35 : BitVec 32 := 0#32
  let v80 : BitVec 1 := Scalar.cmpi .sgt v61 c0_i32_35
  let v81 : BitVec 32 := Scalar.extui v80
  let c0_i32_36 : BitVec 32 := 0#32
  let v82 : BitVec 1 := Scalar.cmpi .slt v61 c0_i32_36
  let v83 : BitVec 32 := Scalar.extui v82
  let v84 : BitVec 32 := Scalar.subi v81 v83
  let c0_i32_37 : BitVec 32 := 0#32
  let v85 : BitVec 1 := Scalar.cmpi .sgt c1024_i32_34 c0_i32_37
  let v86 : BitVec 32 := Scalar.extui v85
  let c0_i32_38 : BitVec 32 := 0#32
  let v87 : BitVec 1 := Scalar.cmpi .slt c1024_i32_34 c0_i32_38
  let v88 : BitVec 32 := Scalar.extui v87
  let v89 : BitVec 32 := Scalar.subi v86 v88
  let v90 : BitVec 1 := Scalar.cmpi .ne v84 v89
  let v91 : BitVec 32 := Scalar.remsi v61 c1024_i32_34
  let c0_i32_39 : BitVec 32 := 0#32
  let v92 : BitVec 1 := Scalar.cmpi .ne v91 c0_i32_39
  let v93 : BitVec 1 := Scalar.andi v90 v92
  let c1_i32_40 : BitVec 32 := 1#32
  let v94 : BitVec 32 := Scalar.subi v79 c1_i32_40
  let v95 : BitVec 32 := Scalar.select v93 v94 v79
  let c0_i32_41 : BitVec 32 := 0#32
  ![v21.toNat, v78.toNat, v95.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c3_i32 : BitVec 32 := 3#32
  let v1 : BitVec 32 := Scalar.addi v0 c3_i32
  let c1024_i32 : BitVec 32 := 1024#32
  let v2 : BitVec 32 := Scalar.muli v1 c1024_i32
  let c1024_i32_0 : BitVec 32 := 1024#32
  let v3 : BitVec 32 := Scalar.muli arg1 c1024_i32_0
  let c2048_i32 : BitVec 32 := 2048#32
  let v4 : BitVec 32 := Scalar.divsi v3 c2048_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let v21 : BitVec 32 := Scalar.addi c0_i32_5 v20
  let c2048_i32_6 : BitVec 32 := 2048#32
  let c0_i32_7 : BitVec 32 := 0#32
  let v22 : BitVec 1 := Scalar.cmpi .eq c2048_i32_6 c0_i32_7
  let c1_i32_8 : BitVec 32 := 1#32
  let v23 : BitVec 32 := Scalar.select v22 c1_i32_8 c2048_i32_6
  let v24 : BitVec 32 := Scalar.remsi v2 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let c1024_i32_12 : BitVec 32 := 1024#32
  let v32 : BitVec 32 := Scalar.addi c1024_i32_12 v31
  let c2048_i32_13 : BitVec 32 := 2048#32
  let v33 : BitVec 32 := Scalar.divsi v2 c2048_i32_13
  let c0_i32_14 : BitVec 32 := 0#32
  let v34 : BitVec 1 := Scalar.cmpi .sgt v2 c0_i32_14
  let v35 : BitVec 32 := Scalar.extui v34
  let c0_i32_15 : BitVec 32 := 0#32
  let v36 : BitVec 1 := Scalar.cmpi .slt v2 c0_i32_15
  let v37 : BitVec 32 := Scalar.extui v36
  let v38 : BitVec 32 := Scalar.subi v35 v37
  let c0_i32_16 : BitVec 32 := 0#32
  let v39 : BitVec 1 := Scalar.cmpi .sgt c2048_i32_13 c0_i32_16
  let v40 : BitVec 32 := Scalar.extui v39
  let c0_i32_17 : BitVec 32 := 0#32
  let v41 : BitVec 1 := Scalar.cmpi .slt c2048_i32_13 c0_i32_17
  let v42 : BitVec 32 := Scalar.extui v41
  let v43 : BitVec 32 := Scalar.subi v40 v42
  let v44 : BitVec 1 := Scalar.cmpi .ne v38 v43
  let v45 : BitVec 32 := Scalar.remsi v2 c2048_i32_13
  let c0_i32_18 : BitVec 32 := 0#32
  let v46 : BitVec 1 := Scalar.cmpi .ne v45 c0_i32_18
  let v47 : BitVec 1 := Scalar.andi v44 v46
  let c1_i32_19 : BitVec 32 := 1#32
  let v48 : BitVec 32 := Scalar.subi v33 c1_i32_19
  let v49 : BitVec 32 := Scalar.select v47 v48 v33
  let c2048_i32_20 : BitVec 32 := 2048#32
  let v50 : BitVec 32 := Scalar.muli v49 c2048_i32_20
  let c2048_i32_21 : BitVec 32 := 2048#32
  let c0_i32_22 : BitVec 32 := 0#32
  let v51 : BitVec 1 := Scalar.cmpi .eq c2048_i32_21 c0_i32_22
  let c1_i32_23 : BitVec 32 := 1#32
  let v52 : BitVec 32 := Scalar.select v51 c1_i32_23 c2048_i32_21
  let v53 : BitVec 32 := Scalar.remsi v3 v52
  let c0_i32_24 : BitVec 32 := 0#32
  let v54 : BitVec 1 := Scalar.cmpi .ne v53 c0_i32_24
  let c0_i32_25 : BitVec 32 := 0#32
  let v55 : BitVec 1 := Scalar.cmpi .slt v53 c0_i32_25
  let c0_i32_26 : BitVec 32 := 0#32
  let v56 : BitVec 1 := Scalar.cmpi .slt v52 c0_i32_26
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c1024_i32_27 : BitVec 32 := 1024#32
  let v62 : BitVec 32 := Scalar.divsi v32 c1024_i32_27
  let c0_i32_28 : BitVec 32 := 0#32
  let v63 : BitVec 1 := Scalar.cmpi .sgt v32 c0_i32_28
  let v64 : BitVec 32 := Scalar.extui v63
  let c0_i32_29 : BitVec 32 := 0#32
  let v65 : BitVec 1 := Scalar.cmpi .slt v32 c0_i32_29
  let v66 : BitVec 32 := Scalar.extui v65
  let v67 : BitVec 32 := Scalar.subi v64 v66
  let c0_i32_30 : BitVec 32 := 0#32
  let v68 : BitVec 1 := Scalar.cmpi .sgt c1024_i32_27 c0_i32_30
  let v69 : BitVec 32 := Scalar.extui v68
  let c0_i32_31 : BitVec 32 := 0#32
  let v70 : BitVec 1 := Scalar.cmpi .slt c1024_i32_27 c0_i32_31
  let v71 : BitVec 32 := Scalar.extui v70
  let v72 : BitVec 32 := Scalar.subi v69 v71
  let v73 : BitVec 1 := Scalar.cmpi .ne v67 v72
  let v74 : BitVec 32 := Scalar.remsi v32 c1024_i32_27
  let c0_i32_32 : BitVec 32 := 0#32
  let v75 : BitVec 1 := Scalar.cmpi .ne v74 c0_i32_32
  let v76 : BitVec 1 := Scalar.andi v73 v75
  let c1_i32_33 : BitVec 32 := 1#32
  let v77 : BitVec 32 := Scalar.subi v62 c1_i32_33
  let v78 : BitVec 32 := Scalar.select v76 v77 v62
  let c1024_i32_34 : BitVec 32 := 1024#32
  let v79 : BitVec 32 := Scalar.divsi v61 c1024_i32_34
  let c0_i32_35 : BitVec 32 := 0#32
  let v80 : BitVec 1 := Scalar.cmpi .sgt v61 c0_i32_35
  let v81 : BitVec 32 := Scalar.extui v80
  let c0_i32_36 : BitVec 32 := 0#32
  let v82 : BitVec 1 := Scalar.cmpi .slt v61 c0_i32_36
  let v83 : BitVec 32 := Scalar.extui v82
  let v84 : BitVec 32 := Scalar.subi v81 v83
  let c0_i32_37 : BitVec 32 := 0#32
  let v85 : BitVec 1 := Scalar.cmpi .sgt c1024_i32_34 c0_i32_37
  let v86 : BitVec 32 := Scalar.extui v85
  let c0_i32_38 : BitVec 32 := 0#32
  let v87 : BitVec 1 := Scalar.cmpi .slt c1024_i32_34 c0_i32_38
  let v88 : BitVec 32 := Scalar.extui v87
  let v89 : BitVec 32 := Scalar.subi v86 v88
  let v90 : BitVec 1 := Scalar.cmpi .ne v84 v89
  let v91 : BitVec 32 := Scalar.remsi v61 c1024_i32_34
  let c0_i32_39 : BitVec 32 := 0#32
  let v92 : BitVec 1 := Scalar.cmpi .ne v91 c0_i32_39
  let v93 : BitVec 1 := Scalar.andi v90 v92
  let c1_i32_40 : BitVec 32 := 1#32
  let v94 : BitVec 32 := Scalar.subi v79 c1_i32_40
  let v95 : BitVec 32 := Scalar.select v93 v94 v79
  let c0_i32_41 : BitVec 32 := 0#32
  ![v21.toNat, v78.toNat, v95.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== SsmInUPlainIdeal.lean ====
abbrev S4096x4096 : Shape := ⟨2, ![4096, 4096]⟩
abbrev S4096x8192 : Shape := ⟨2, ![4096, 8192]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x8192, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x8192, .f32⟩
  | .hbm, ⟨7, _⟩ => ⟨S4096x4096, .f32⟩
  | .hbm, ⟨8, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== SsmInGate.lean ====
abbrev S4096x4096 : Shape := ⟨2, ![4096, 4096]⟩
abbrev S4096x8192 : Shape := ⟨2, ![4096, 8192]⟩
abbrev S2x2048x4x2048 : Shape := ⟨4, ![2, 2048, 4, 2048]⟩
abbrev S4x2048x2x2048 : Shape := ⟨4, ![4, 2048, 2, 2048]⟩
abbrev S4x2048x4096 : Shape := ⟨3, ![4, 2048, 4096]⟩
abbrev S4x1024x4096 : Shape := ⟨3, ![4, 1024, 4096]⟩
abbrev S4x5120x4096 : Shape := ⟨3, ![4, 5120, 4096]⟩
abbrev S1024x4096 : Shape := ⟨2, ![1024, 4096]⟩
abbrev S1x1024x1024 : Shape := ⟨3, ![1, 1024, 1024]⟩
abbrev S1024x1024 : Shape := ⟨2, ![1024, 1024]⟩

abbrev nBuf : Space → Nat
  | .hbm => 14
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x8192, .f32⟩
  | .hbm, ⟨3, _⟩ => ⟨S4096x4096, .f32⟩
  | .hbm, ⟨4, _⟩ => ⟨S4096x4096, .f32⟩
  | .hbm, ⟨5, _⟩ => ⟨S2x2048x4x2048, .f32⟩
  | .hbm, ⟨6, _⟩ => ⟨S4x2048x2x2048, .f32⟩
  | .hbm, ⟨7, _⟩ => ⟨S4x2048x4096, .f32⟩
  | .hbm, ⟨8, _⟩ => ⟨S4x1024x4096, .f32⟩
  | .hbm, ⟨9, _⟩ => ⟨S4x1024x4096, .f32⟩
  | .hbm, ⟨10, _⟩ => ⟨S4x1024x4096, .f32⟩
  | .hbm, ⟨11, _⟩ => ⟨S4x5120x4096, .f32⟩
  | .hbm, ⟨12, _⟩ => ⟨S4x5120x4096, .bf16⟩
  | .hbm, ⟨13, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .f32⟩
  | .local _ .vmem, ⟨11, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1024_i32 : BitVec 32 := 1024#32
  let v2 : BitVec 32 := Scalar.muli v1 c1024_i32
  let c1024_i32_0 : BitVec 32 := 1024#32
  let v3 : BitVec 32 := Scalar.muli arg1 c1024_i32_0
  let c2048_i32 : BitVec 32 := 2048#32
  let v4 : BitVec 32 := Scalar.divsi v3 c2048_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c2048_i32 c0_i32_3
  let v11 : BitVec 32 := Scalar.extui v10
  let c0_i32_4 : BitVec 32 := 0#32
  let v12 : BitVec 1 := Scalar.cmpi .slt c2048_i32 c0_i32_4
  let v13 : BitVec 32 := Scalar.extui v12
  let v14 : BitVec 32 := Scalar.subi v11 v13
  let v15 : BitVec 1 := Scalar.cmpi .ne v9 v14
  let v16 : BitVec 32 := Scalar.remsi v3 c2048_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c2_i32 : BitVec 32 := 2#32
  let v21 : BitVec 32 := Scalar.addi c2_i32 v20
  let c2048_i32_6 : BitVec 32 := 2048#32
  let c0_i32_7 : BitVec 32 := 0#32
  let v22 : BitVec 1 := Scalar.cmpi .eq c2048_i32_6 c0_i32_7
  let c1_i32_8 : BitVec 32 := 1#32
  let v23 : BitVec 32 := Scalar.select v22 c1_i32_8 c2048_i32_6
  let v24 : BitVec 32 := Scalar.remsi v2 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let c1024_i32_12 : BitVec 32 := 1024#32
  let v32 : BitVec 32 := Scalar.addi c1024_i32_12 v31
  let c2048_i32_13 : BitVec 32 := 2048#32
  let v33 : BitVec 32 := Scalar.divsi v2 c2048_i32_13
  let c0_i32_14 : BitVec 32 := 0#32
  let v34 : BitVec 1 := Scalar.cmpi .sgt v2 c0_i32_14
  let v35 : BitVec 32 := Scalar.extui v34
  let c0_i32_15 : BitVec 32 := 0#32
  let v36 : BitVec 1 := Scalar.cmpi .slt v2 c0_i32_15
  let v37 : BitVec 32 := Scalar.extui v36
  let v38 : BitVec 32 := Scalar.subi v35 v37
  let c0_i32_16 : BitVec 32 := 0#32
  let v39 : BitVec 1 := Scalar.cmpi .sgt c2048_i32_13 c0_i32_16
  let v40 : BitVec 32 := Scalar.extui v39
  let c0_i32_17 : BitVec 32 := 0#32
  let v41 : BitVec 1 := Scalar.cmpi .slt c2048_i32_13 c0_i32_17
  let v42 : BitVec 32 := Scalar.extui v41
  let v43 : BitVec 32 := Scalar.subi v40 v42
  let v44 : BitVec 1 := Scalar.cmpi .ne v38 v43
  let v45 : BitVec 32 := Scalar.remsi v2 c2048_i32_13
  let c0_i32_18 : BitVec 32 := 0#32
  let v46 : BitVec 1 := Scalar.cmpi .ne v45 c0_i32_18
  let v47 : BitVec 1 := Scalar.andi v44 v46
  let c1_i32_19 : BitVec 32 := 1#32
  let v48 : BitVec 32 := Scalar.subi v33 c1_i32_19
  let v49 : BitVec 32 := Scalar.select v47 v48 v33
  let c2048_i32_20 : BitVec 32 := 2048#32
  let v50 : BitVec 32 := Scalar.muli v49 c2048_i32_20
  let c2048_i32_21 : BitVec 32 := 2048#32
  let c0_i32_22 : BitVec 32 := 0#32
  let v51 : BitVec 1 := Scalar.cmpi .eq c2048_i32_21 c0_i32_22
  let c1_i32_23 : BitVec 32 := 1#32
  let v52 : BitVec 32 := Scalar.select v51 c1_i32_23 c2048_i32_21
  let v53 : BitVec 32 := Scalar.remsi v3 v52
  let c0_i32_24 : BitVec 32 := 0#32
  let v54 : BitVec 1 := Scalar.cmpi .ne v53 c0_i32_24
  let c0_i32_25 : BitVec 32 := 0#32
  let v55 : BitVec 1 := Scalar.cmpi .slt v53 c0_i32_25
  let c0_i32_26 : BitVec 32 := 0#32
  let v56 : BitVec 1 := Scalar.cmpi .slt v52 c0_i32_26
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c1024_i32_27 : BitVec 32 := 1024#32
  let v62 : BitVec 32 := Scalar.divsi v32 c1024_i32_27
  let c0_i32_28 : BitVec 32 := 0#32
  let v63 : BitVec 1 := Scalar.cmpi .sgt v32 c0_i32_28
  let v64 : BitVec 32 := Scalar.extui v63
  let c0_i32_29 : BitVec 32 := 0#32
  let v65 : BitVec 1 := Scalar.cmpi .slt v32 c0_i32_29
  let v66 : BitVec 32 := Scalar.extui v65
  let v67 : BitVec 32 := Scalar.subi v64 v66
  let c0_i32_30 : BitVec 32 := 0#32
  let v68 : BitVec 1 := Scalar.cmpi .sgt c1024_i32_27 c0_i32_30
  let v69 : BitVec 32 := Scalar.extui v68
  let c0_i32_31 : BitVec 32 := 0#32
  let v70 : BitVec 1 := Scalar.cmpi .slt c1024_i32_27 c0_i32_31
  let v71 : BitVec 32 := Scalar.extui v70
  let v72 : BitVec 32 := Scalar.subi v69 v71
  let v73 : BitVec 1 := Scalar.cmpi .ne v67 v72
  let v74 : BitVec 32 := Scalar.remsi v32 c1024_i32_27
  let c0_i32_32 : BitVec 32 := 0#32
  let v75 : BitVec 1 := Scalar.cmpi .ne v74 c0_i32_32
  let v76 : BitVec 1 := Scalar.andi v73 v75
  let c1_i32_33 : BitVec 32 := 1#32
  let v77 : BitVec 32 := Scalar.subi v62 c1_i32_33
  let v78 : BitVec 32 := Scalar.select v76 v77 v62
  let c1024_i32_34 : BitVec 32 := 1024#32
  let v79 : BitVec 32 := Scalar.divsi v61 c1024_i32_34
  let c0_i32_35 : BitVec 32 := 0#32
  let v80 : BitVec 1 := Scalar.cmpi .sgt v61 c0_i32_35
  let v81 : BitVec 32 := Scalar.extui v80
  let c0_i32_36 : BitVec 32 := 0#32
  let v82 : BitVec 1 := Scalar.cmpi .slt v61 c0_i32_36
  let v83 : BitVec 32 := Scalar.extui v82
  let v84 : BitVec 32 := Scalar.subi v81 v83
  let c0_i32_37 : BitVec 32 := 0#32
  let v85 : BitVec 1 := Scalar.cmpi .sgt c1024_i32_34 c0_i32_37
  let v86 : BitVec 32 := Scalar.extui v85
  let c0_i32_38 : BitVec 32 := 0#32
  let v87 : BitVec 1 := Scalar.cmpi .slt c1024_i32_34 c0_i32_38
  let v88 : BitVec 32 := Scalar.extui v87
  let v89 : BitVec 32 := Scalar.subi v86 v88
  let v90 : BitVec 1 := Scalar.cmpi .ne v84 v89
  let v91 : BitVec 32 := Scalar.remsi v61 c1024_i32_34
  let c0_i32_39 : BitVec 32 := 0#32
  let v92 : BitVec 1 := Scalar.cmpi .ne v91 c0_i32_39
  let v93 : BitVec 1 := Scalar.andi v90 v92
  let c1_i32_40 : BitVec 32 := 1#32
  let v94 : BitVec 32 := Scalar.subi v79 c1_i32_40
  let v95 : BitVec 32 := Scalar.select v93 v94 v79
  let c0_i32_41 : BitVec 32 := 0#32
  ![v21.toNat, v78.toNat, v95.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.addi v0 c1_i32
  let c1024_i32 : BitVec 32 := 1024#32
  let v2 : BitVec 32 := Scalar.muli v1 c1024_i32
  let c1024_i32_0 : BitVec 32 := 1024#32
  let v3 : BitVec 32 := Scalar.muli arg1 c1024_i32_0
  let c2048_i32 : BitVec 32 := 2048#32
  let v4 : BitVec 32 := Scalar.divsi v3 c2048_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c2_i32 : BitVec 32 := 2#32
  let v21 : BitVec 32 := Scalar.addi c2_i32 v20
  let c2048_i32_6 : BitVec 32 := 2048#32
  let c0_i32_7 : BitVec 32 := 0#32
  let v22 : BitVec 1 := Scalar.cmpi .eq c2048_i32_6 c0_i32_7
  let c1_i32_8 : BitVec 32 := 1#32
  let v23 : BitVec 32 := Scalar.select v22 c1_i32_8 c2048_i32_6
  let v24 : BitVec 32 := Scalar.remsi v2 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let c1024_i32_12 : BitVec 32 := 1024#32
  let v32 : BitVec 32 := Scalar.addi c1024_i32_12 v31
  let c2048_i32_13 : BitVec 32 := 2048#32
  let v33 : BitVec 32 := Scalar.divsi v2 c2048_i32_13
  let c0_i32_14 : BitVec 32 := 0#32
  let v34 : BitVec 1 := Scalar.cmpi .sgt v2 c0_i32_14
  let v35 : BitVec 32 := Scalar.extui v34
  let c0_i32_15 : BitVec 32 := 0#32
  let v36 : BitVec 1 := Scalar.cmpi .slt v2 c0_i32_15
  let v37 : BitVec 32 := Scalar.extui v36
  let v38 : BitVec 32 := Scalar.subi v35 v37
  let c0_i32_16 : BitVec 32 := 0#32
  let v39 : BitVec 1 := Scalar.cmpi .sgt c2048_i32_13 c0_i32_16
  let v40 : BitVec 32 := Scalar.extui v39
  let c0_i32_17 : BitVec 32 := 0#32
  let v41 : BitVec 1 := Scalar.cmpi .slt c2048_i32_13 c0_i32_17
  let v42 : BitVec 32 := Scalar.extui v41
  let v43 : BitVec 32 := Scalar.subi v40 v42
  let v44 : BitVec 1 := Scalar.cmpi .ne v38 v43
  let v45 : BitVec 32 := Scalar.remsi v2 c2048_i32_13
  let c0_i32_18 : BitVec 32 := 0#32
  let v46 : BitVec 1 := Scalar.cmpi .ne v45 c0_i32_18
  let v47 : BitVec 1 := Scalar.andi v44 v46
  let c1_i32_19 : BitVec 32 := 1#32
  let v48 : BitVec 32 := Scalar.subi v33 c1_i32_19
  let v49 : BitVec 32 := Scalar.select v47 v48 v33
  let c2048_i32_20 : BitVec 32 := 2048#32
  let v50 : BitVec 32 := Scalar.muli v49 c2048_i32_20
  let c2048_i32_21 : BitVec 32 := 2048#32
  let c0_i32_22 : BitVec 32 := 0#32
  let v51 : BitVec 1 := Scalar.cmpi .eq c2048_i32_21 c0_i32_22
  let c1_i32_23 : BitVec 32 := 1#32
  let v52 : BitVec 32 := Scalar.select v51 c1_i32_23 c2048_i32_21
  let v53 : BitVec 32 := Scalar.remsi v3 v52
  let c0_i32_24 : BitVec 32 := 0#32
  let v54 : BitVec 1 := Scalar.cmpi .ne v53 c0_i32_24
  let c0_i32_25 : BitVec 32 := 0#32
  let v55 : BitVec 1 := Scalar.cmpi .slt v53 c0_i32_25
  let c0_i32_26 : BitVec 32 := 0#32
  let v56 : BitVec 1 := Scalar.cmpi .slt v52 c0_i32_26
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c1024_i32_27 : BitVec 32 := 1024#32
  let v62 : BitVec 32 := Scalar.divsi v32 c1024_i32_27
  let c0_i32_28 : BitVec 32 := 0#32
  let v63 : BitVec 1 := Scalar.cmpi .sgt v32 c0_i32_28
  let v64 : BitVec 32 := Scalar.extui v63
  let c0_i32_29 : BitVec 32 := 0#32
  let v65 : BitVec 1 := Scalar.cmpi .slt v32 c0_i32_29
  let v66 : BitVec 32 := Scalar.extui v65
  let v67 : BitVec 32 := Scalar.subi v64 v66
  let c0_i32_30 : BitVec 32 := 0#32
  let v68 : BitVec 1 := Scalar.cmpi .sgt c1024_i32_27 c0_i32_30
  let v69 : BitVec 32 := Scalar.extui v68
  let c0_i32_31 : BitVec 32 := 0#32
  let v70 : BitVec 1 := Scalar.cmpi .slt c1024_i32_27 c0_i32_31
  let v71 : BitVec 32 := Scalar.extui v70
  let v72 : BitVec 32 := Scalar.subi v69 v71
  let v73 : BitVec 1 := Scalar.cmpi .ne v67 v72
  let v74 : BitVec 32 := Scalar.remsi v32 c1024_i32_27
  let c0_i32_32 : BitVec 32 := 0#32
  let v75 : BitVec 1 := Scalar.cmpi .ne v74 c0_i32_32
  let v76 : BitVec 1 := Scalar.andi v73 v75
  let c1_i32_33 : BitVec 32 := 1#32
  let v77 : BitVec 32 := Scalar.subi v62 c1_i32_33
  let v78 : BitVec 32 := Scalar.select v76 v77 v62
  let c1024_i32_34 : BitVec 32 := 1024#32
  let v79 : BitVec 32 := Scalar.divsi v61 c1024_i32_34
  let c0_i32_35 : BitVec 32 := 0#32
  let v80 : BitVec 1 := Scalar.cmpi .sgt v61 c0_i32_35
  let v81 : BitVec 32 := Scalar.extui v80
  let c0_i32_36 : BitVec 32 := 0#32
  let v82 : BitVec 1 := Scalar.cmpi .slt v61 c0_i32_36
  let v83 : BitVec 32 := Scalar.extui v82
  let v84 : BitVec 32 := Scalar.subi v81 v83
  let c0_i32_37 : BitVec 32 := 0#32
  let v85 : BitVec 1 := Scalar.cmpi .sgt c1024_i32_34 c0_i32_37
  let v86 : BitVec 32 := Scalar.extui v85
  let c0_i32_38 : BitVec 32 := 0#32
  let v87 : BitVec 1 := Scalar.cmpi .slt c1024_i32_34 c0_i32_38
  let v88 : BitVec 32 := Scalar.extui v87
  let v89 : BitVec 32 := Scalar.subi v86 v88
  let v90 : BitVec 1 := Scalar.cmpi .ne v84 v89
  let v91 : BitVec 32 := Scalar.remsi v61 c1024_i32_34
  let c0_i32_39 : BitVec 32 := 0#32
  let v92 : BitVec 1 := Scalar.cmpi .ne v91 c0_i32_39
  let v93 : BitVec 1 := Scalar.andi v90 v92
  let c1_i32_40 : BitVec 32 := 1#32
  let v94 : BitVec 32 := Scalar.subi v79 c1_i32_40
  let v95 : BitVec 32 := Scalar.select v93 v94 v79
  let c0_i32_41 : BitVec 32 := 0#32
  ![v21.toNat, v78.toNat, v95.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c2_i32 : BitVec 32 := 2#32
  let v1 : BitVec 32 := Scalar.addi v0 c2_i32
  let c1024_i32 : BitVec 32 := 1024#32
  let v2 : BitVec 32 := Scalar.muli v1 c1024_i32
  let c1024_i32_0 : BitVec 32 := 1024#32
  let v3 : BitVec 32 := Scalar.muli arg1 c1024_i32_0
  let c2048_i32 : BitVec 32 := 2048#32
  let v4 : BitVec 32 := Scalar.divsi v3 c2048_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c2_i32_5 : BitVec 32 := 2#32
  let v21 : BitVec 32 := Scalar.addi c2_i32_5 v20
  let c2048_i32_6 : BitVec 32 := 2048#32
  let c0_i32_7 : BitVec 32 := 0#32
  let v22 : BitVec 1 := Scalar.cmpi .eq c2048_i32_6 c0_i32_7
  let c1_i32_8 : BitVec 32 := 1#32
  let v23 : BitVec 32 := Scalar.select v22 c1_i32_8 c2048_i32_6
  let v24 : BitVec 32 := Scalar.remsi v2 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let c1024_i32_12 : BitVec 32 := 1024#32
  let v32 : BitVec 32 := Scalar.addi c1024_i32_12 v31
  let c2048_i32_13 : BitVec 32 := 2048#32
  let v33 : BitVec 32 := Scalar.divsi v2 c2048_i32_13
  let c0_i32_14 : BitVec 32 := 0#32
  let v34 : BitVec 1 := Scalar.cmpi .sgt v2 c0_i32_14
  let v35 : BitVec 32 := Scalar.extui v34
  let c0_i32_15 : BitVec 32 := 0#32
  let v36 : BitVec 1 := Scalar.cmpi .slt v2 c0_i32_15
  let v37 : BitVec 32 := Scalar.extui v36
  let v38 : BitVec 32 := Scalar.subi v35 v37
  let c0_i32_16 : BitVec 32 := 0#32
  let v39 : BitVec 1 := Scalar.cmpi .sgt c2048_i32_13 c0_i32_16
  let v40 : BitVec 32 := Scalar.extui v39
  let c0_i32_17 : BitVec 32 := 0#32
  let v41 : BitVec 1 := Scalar.cmpi .slt c2048_i32_13 c0_i32_17
  let v42 : BitVec 32 := Scalar.extui v41
  let v43 : BitVec 32 := Scalar.subi v40 v42
  let v44 : BitVec 1 := Scalar.cmpi .ne v38 v43
  let v45 : BitVec 32 := Scalar.remsi v2 c2048_i32_13
  let c0_i32_18 : BitVec 32 := 0#32
  let v46 : BitVec 1 := Scalar.cmpi .ne v45 c0_i32_18
  let v47 : BitVec 1 := Scalar.andi v44 v46
  let c1_i32_19 : BitVec 32 := 1#32
  let v48 : BitVec 32 := Scalar.subi v33 c1_i32_19
  let v49 : BitVec 32 := Scalar.select v47 v48 v33
  let c2048_i32_20 : BitVec 32 := 2048#32
  let v50 : BitVec 32 := Scalar.muli v49 c2048_i32_20
  let c2048_i32_21 : BitVec 32 := 2048#32
  let c0_i32_22 : BitVec 32 := 0#32
  let v51 : BitVec 1 := Scalar.cmpi .eq c2048_i32_21 c0_i32_22
  let c1_i32_23 : BitVec 32 := 1#32
  let v52 : BitVec 32 := Scalar.select v51 c1_i32_23 c2048_i32_21
  let v53 : BitVec 32 := Scalar.remsi v3 v52
  let c0_i32_24 : BitVec 32 := 0#32
  let v54 : BitVec 1 := Scalar.cmpi .ne v53 c0_i32_24
  let c0_i32_25 : BitVec 32 := 0#32
  let v55 : BitVec 1 := Scalar.cmpi .slt v53 c0_i32_25
  let c0_i32_26 : BitVec 32 := 0#32
  let v56 : BitVec 1 := Scalar.cmpi .slt v52 c0_i32_26
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c1024_i32_27 : BitVec 32 := 1024#32
  let v62 : BitVec 32 := Scalar.divsi v32 c1024_i32_27
  let c0_i32_28 : BitVec 32 := 0#32
  let v63 : BitVec 1 := Scalar.cmpi .sgt v32 c0_i32_28
  let v64 : BitVec 32 := Scalar.extui v63
  let c0_i32_29 : BitVec 32 := 0#32
  let v65 : BitVec 1 := Scalar.cmpi .slt v32 c0_i32_29
  let v66 : BitVec 32 := Scalar.extui v65
  let v67 : BitVec 32 := Scalar.subi v64 v66
  let c0_i32_30 : BitVec 32 := 0#32
  let v68 : BitVec 1 := Scalar.cmpi .sgt c1024_i32_27 c0_i32_30
  let v69 : BitVec 32 := Scalar.extui v68
  let c0_i32_31 : BitVec 32 := 0#32
  let v70 : BitVec 1 := Scalar.cmpi .slt c1024_i32_27 c0_i32_31
  let v71 : BitVec 32 := Scalar.extui v70
  let v72 : BitVec 32 := Scalar.subi v69 v71
  let v73 : BitVec 1 := Scalar.cmpi .ne v67 v72
  let v74 : BitVec 32 := Scalar.remsi v32 c1024_i32_27
  let c0_i32_32 : BitVec 32 := 0#32
  let v75 : BitVec 1 := Scalar.cmpi .ne v74 c0_i32_32
  let v76 : BitVec 1 := Scalar.andi v73 v75
  let c1_i32_33 : BitVec 32 := 1#32
  let v77 : BitVec 32 := Scalar.subi v62 c1_i32_33
  let v78 : BitVec 32 := Scalar.select v76 v77 v62
  let c1024_i32_34 : BitVec 32 := 1024#32
  let v79 : BitVec 32 := Scalar.divsi v61 c1024_i32_34
  let c0_i32_35 : BitVec 32 := 0#32
  let v80 : BitVec 1 := Scalar.cmpi .sgt v61 c0_i32_35
  let v81 : BitVec 32 := Scalar.extui v80
  let c0_i32_36 : BitVec 32 := 0#32
  let v82 : BitVec 1 := Scalar.cmpi .slt v61 c0_i32_36
  let v83 : BitVec 32 := Scalar.extui v82
  let v84 : BitVec 32 := Scalar.subi v81 v83
  let c0_i32_37 : BitVec 32 := 0#32
  let v85 : BitVec 1 := Scalar.cmpi .sgt c1024_i32_34 c0_i32_37
  let v86 : BitVec 32 := Scalar.extui v85
  let c0_i32_38 : BitVec 32 := 0#32
  let v87 : BitVec 1 := Scalar.cmpi .slt c1024_i32_34 c0_i32_38
  let v88 : BitVec 32 := Scalar.extui v87
  let v89 : BitVec 32 := Scalar.subi v86 v88
  let v90 : BitVec 1 := Scalar.cmpi .ne v84 v89
  let v91 : BitVec 32 := Scalar.remsi v61 c1024_i32_34
  let c0_i32_39 : BitVec 32 := 0#32
  let v92 : BitVec 1 := Scalar.cmpi .ne v91 c0_i32_39
  let v93 : BitVec 1 := Scalar.andi v90 v92
  let c1_i32_40 : BitVec 32 := 1#32
  let v94 : BitVec 32 := Scalar.subi v79 c1_i32_40
  let v95 : BitVec 32 := Scalar.select v93 v94 v79
  let c0_i32_41 : BitVec 32 := 0#32
  ![v21.toNat, v78.toNat, v95.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c3_i32 : BitVec 32 := 3#32
  let v1 : BitVec 32 := Scalar.addi v0 c3_i32
  let c1024_i32 : BitVec 32 := 1024#32
  let v2 : BitVec 32 := Scalar.muli v1 c1024_i32
  let c1024_i32_0 : BitVec 32 := 1024#32
  let v3 : BitVec 32 := Scalar.muli arg1 c1024_i32_0
  let c2048_i32 : BitVec 32 := 2048#32
  let v4 : BitVec 32 := Scalar.divsi v3 c2048_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c2_i32 : BitVec 32 := 2#32
  let v21 : BitVec 32 := Scalar.addi c2_i32 v20
  let c2048_i32_5 : BitVec 32 := 2048#32
  let c0_i32_6 : BitVec 32 := 0#32
  let v22 : BitVec 1 := Scalar.cmpi .eq c2048_i32_5 c0_i32_6
  let c1_i32_7 : BitVec 32 := 1#32
  let v23 : BitVec 32 := Scalar.select v22 c1_i32_7 c2048_i32_5
  let v24 : BitVec 32 := Scalar.remsi v2 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c1024_i32_11 : BitVec 32 := 1024#32
  let v32 : BitVec 32 := Scalar.addi c1024_i32_11 v31
  let c2048_i32_12 : BitVec 32 := 2048#32
  let v33 : BitVec 32 := Scalar.divsi v2 c2048_i32_12
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c0_i32_15 : BitVec 32 := 0#32
  let v39 : BitVec 1 := Scalar.cmpi .sgt c2048_i32_12 c0_i32_15
  let v40 : BitVec 32 := Scalar.extui v39
  let c0_i32_16 : BitVec 32 := 0#32
  let v41 : BitVec 1 := Scalar.cmpi .slt c2048_i32_12 c0_i32_16
  let v42 : BitVec 32 := Scalar.extui v41
  let v43 : BitVec 32 := Scalar.subi v40 v42
  let v44 : BitVec 1 := Scalar.cmpi .ne v38 v43
  let v45 : BitVec 32 := Scalar.remsi v2 c2048_i32_12
  let c0_i32_17 : BitVec 32 := 0#32
  let v46 : BitVec 1 := Scalar.cmpi .ne v45 c0_i32_17
  let v47 : BitVec 1 := Scalar.andi v44 v46
  let c1_i32_18 : BitVec 32 := 1#32
  let v48 : BitVec 32 := Scalar.subi v33 c1_i32_18
  let v49 : BitVec 32 := Scalar.select v47 v48 v33
  let c2048_i32_19 : BitVec 32 := 2048#32
  let v50 : BitVec 32 := Scalar.muli v49 c2048_i32_19
  let c2048_i32_20 : BitVec 32 := 2048#32
  let c0_i32_21 : BitVec 32 := 0#32
  let v51 : BitVec 1 := Scalar.cmpi .eq c2048_i32_20 c0_i32_21
  let c1_i32_22 : BitVec 32 := 1#32
  let v52 : BitVec 32 := Scalar.select v51 c1_i32_22 c2048_i32_20
  let v53 : BitVec 32 := Scalar.remsi v3 v52
  let c0_i32_23 : BitVec 32 := 0#32
  let v54 : BitVec 1 := Scalar.cmpi .ne v53 c0_i32_23
  let c0_i32_24 : BitVec 32 := 0#32
  let v55 : BitVec 1 := Scalar.cmpi .slt v53 c0_i32_24
  let c0_i32_25 : BitVec 32 := 0#32
  let v56 : BitVec 1 := Scalar.cmpi .slt v52 c0_i32_25
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c1024_i32_26 : BitVec 32 := 1024#32
  let v62 : BitVec 32 := Scalar.divsi v32 c1024_i32_26
  let c0_i32_27 : BitVec 32 := 0#32
  let v63 : BitVec 1 := Scalar.cmpi .sgt v32 c0_i32_27
  let v64 : BitVec 32 := Scalar.extui v63
  let c0_i32_28 : BitVec 32 := 0#32
  let v65 : BitVec 1 := Scalar.cmpi .slt v32 c0_i32_28
  let v66 : BitVec 32 := Scalar.extui v65
  let v67 : BitVec 32 := Scalar.subi v64 v66
  let c0_i32_29 : BitVec 32 := 0#32
  let v68 : BitVec 1 := Scalar.cmpi .sgt c1024_i32_26 c0_i32_29
  let v69 : BitVec 32 := Scalar.extui v68
  let c0_i32_30 : BitVec 32 := 0#32
  let v70 : BitVec 1 := Scalar.cmpi .slt c1024_i32_26 c0_i32_30
  let v71 : BitVec 32 := Scalar.extui v70
  let v72 : BitVec 32 := Scalar.subi v69 v71
  let v73 : BitVec 1 := Scalar.cmpi .ne v67 v72
  let v74 : BitVec 32 := Scalar.remsi v32 c1024_i32_26
  let c0_i32_31 : BitVec 32 := 0#32
  let v75 : BitVec 1 := Scalar.cmpi .ne v74 c0_i32_31
  let v76 : BitVec 1 := Scalar.andi v73 v75
  let c1_i32_32 : BitVec 32 := 1#32
  let v77 : BitVec 32 := Scalar.subi v62 c1_i32_32
  let v78 : BitVec 32 := Scalar.select v76 v77 v62
  let c1024_i32_33 : BitVec 32 := 1024#32
  let v79 : BitVec 32 := Scalar.divsi v61 c1024_i32_33
  let c0_i32_34 : BitVec 32 := 0#32
  let v80 : BitVec 1 := Scalar.cmpi .sgt v61 c0_i32_34
  let v81 : BitVec 32 := Scalar.extui v80
  let c0_i32_35 : BitVec 32 := 0#32
  let v82 : BitVec 1 := Scalar.cmpi .slt v61 c0_i32_35
  let v83 : BitVec 32 := Scalar.extui v82
  let v84 : BitVec 32 := Scalar.subi v81 v83
  let c0_i32_36 : BitVec 32 := 0#32
  let v85 : BitVec 1 := Scalar.cmpi .sgt c1024_i32_33 c0_i32_36
  let v86 : BitVec 32 := Scalar.extui v85
  let c0_i32_37 : BitVec 32 := 0#32
  let v87 : BitVec 1 := Scalar.cmpi .slt c1024_i32_33 c0_i32_37
  let v88 : BitVec 32 := Scalar.extui v87
  let v89 : BitVec 32 := Scalar.subi v86 v88
  let v90 : BitVec 1 := Scalar.cmpi .ne v84 v89
  let v91 : BitVec 32 := Scalar.remsi v61 c1024_i32_33
  let c0_i32_38 : BitVec 32 := 0#32
  let v92 : BitVec 1 := Scalar.cmpi .ne v91 c0_i32_38
  let v93 : BitVec 1 := Scalar.andi v90 v92
  let c1_i32_39 : BitVec 32 := 1#32
  let v94 : BitVec 32 := Scalar.subi v79 c1_i32_39
  let v95 : BitVec 32 := Scalar.select v93 v94 v79
  let c0_i32_40 : BitVec 32 := 0#32
  ![v21.toNat, v78.toNat, v95.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== SsmInGateIdeal.lean ====
abbrev S4096x4096 : Shape := ⟨2, ![4096, 4096]⟩
abbrev S4096x8192 : Shape := ⟨2, ![4096, 8192]⟩
abbrev S2x2048x4x2048 : Shape := ⟨4, ![2, 2048, 4, 2048]⟩
abbrev S4x2048x2x2048 : Shape := ⟨4, ![4, 2048, 2, 2048]⟩
abbrev S4x2048x4096 : Shape := ⟨3, ![4, 2048, 4096]⟩
abbrev S4x1024x4096 : Shape := ⟨3, ![4, 1024, 4096]⟩
abbrev S4x5120x4096 : Shape := ⟨3, ![4, 5120, 4096]⟩
abbrev S1024x4096 : Shape := ⟨2, ![1024, 4096]⟩
abbrev S1x1024x1024 : Shape := ⟨3, ![1, 1024, 1024]⟩
abbrev S1024x1024 : Shape := ⟨2, ![1024, 1024]⟩

abbrev nBuf : Space → Nat
  | .hbm => 14
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x8192, .f32⟩
  | .hbm, ⟨3, _⟩ => ⟨S4096x4096, .f32⟩
  | .hbm, ⟨4, _⟩ => ⟨S4096x4096, .f32⟩
  | .hbm, ⟨5, _⟩ => ⟨S2x2048x4x2048, .f32⟩
  | .hbm, ⟨6, _⟩ => ⟨S4x2048x2x2048, .f32⟩
  | .hbm, ⟨7, _⟩ => ⟨S4x2048x4096, .f32⟩
  | .hbm, ⟨8, _⟩ => ⟨S4x1024x4096, .f32⟩
  | .hbm, ⟨9, _⟩ => ⟨S4x1024x4096, .f32⟩
  | .hbm, ⟨10, _⟩ => ⟨S4x1024x4096, .f32⟩
  | .hbm, ⟨11, _⟩ => ⟨S4x5120x4096, .f32⟩
  | .hbm, ⟨12, _⟩ => ⟨S4x5120x4096, .bf16⟩
  | .hbm, ⟨13, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .f32⟩
  | .local _ .vmem, ⟨11, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1024_i32 : BitVec 32 := 1024#32
  let v2 : BitVec 32 := Scalar.muli v1 c1024_i32
  let c1024_i32_0 : BitVec 32 := 1024#32
  let v3 : BitVec 32 := Scalar.muli arg1 c1024_i32_0
  let c2048_i32 : BitVec 32 := 2048#32
  let v4 : BitVec 32 := Scalar.divsi v3 c2048_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c2048_i32 c0_i32_3
  let v11 : BitVec 32 := Scalar.extui v10
  let c0_i32_4 : BitVec 32 := 0#32
  let v12 : BitVec 1 := Scalar.cmpi .slt c2048_i32 c0_i32_4
  let v13 : BitVec 32 := Scalar.extui v12
  let v14 : BitVec 32 := Scalar.subi v11 v13
  let v15 : BitVec 1 := Scalar.cmpi .ne v9 v14
  let v16 : BitVec 32 := Scalar.remsi v3 c2048_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c2_i32 : BitVec 32 := 2#32
  let v21 : BitVec 32 := Scalar.addi c2_i32 v20
  let c2048_i32_6 : BitVec 32 := 2048#32
  let c0_i32_7 : BitVec 32 := 0#32
  let v22 : BitVec 1 := Scalar.cmpi .eq c2048_i32_6 c0_i32_7
  let c1_i32_8 : BitVec 32 := 1#32
  let v23 : BitVec 32 := Scalar.select v22 c1_i32_8 c2048_i32_6
  let v24 : BitVec 32 := Scalar.remsi v2 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let c1024_i32_12 : BitVec 32 := 1024#32
  let v32 : BitVec 32 := Scalar.addi c1024_i32_12 v31
  let c2048_i32_13 : BitVec 32 := 2048#32
  let v33 : BitVec 32 := Scalar.divsi v2 c2048_i32_13
  let c0_i32_14 : BitVec 32 := 0#32
  let v34 : BitVec 1 := Scalar.cmpi .sgt v2 c0_i32_14
  let v35 : BitVec 32 := Scalar.extui v34
  let c0_i32_15 : BitVec 32 := 0#32
  let v36 : BitVec 1 := Scalar.cmpi .slt v2 c0_i32_15
  let v37 : BitVec 32 := Scalar.extui v36
  let v38 : BitVec 32 := Scalar.subi v35 v37
  let c0_i32_16 : BitVec 32 := 0#32
  let v39 : BitVec 1 := Scalar.cmpi .sgt c2048_i32_13 c0_i32_16
  let v40 : BitVec 32 := Scalar.extui v39
  let c0_i32_17 : BitVec 32 := 0#32
  let v41 : BitVec 1 := Scalar.cmpi .slt c2048_i32_13 c0_i32_17
  let v42 : BitVec 32 := Scalar.extui v41
  let v43 : BitVec 32 := Scalar.subi v40 v42
  let v44 : BitVec 1 := Scalar.cmpi .ne v38 v43
  let v45 : BitVec 32 := Scalar.remsi v2 c2048_i32_13
  let c0_i32_18 : BitVec 32 := 0#32
  let v46 : BitVec 1 := Scalar.cmpi .ne v45 c0_i32_18
  let v47 : BitVec 1 := Scalar.andi v44 v46
  let c1_i32_19 : BitVec 32 := 1#32
  let v48 : BitVec 32 := Scalar.subi v33 c1_i32_19
  let v49 : BitVec 32 := Scalar.select v47 v48 v33
  let c2048_i32_20 : BitVec 32 := 2048#32
  let v50 : BitVec 32 := Scalar.muli v49 c2048_i32_20
  let c2048_i32_21 : BitVec 32 := 2048#32
  let c0_i32_22 : BitVec 32 := 0#32
  let v51 : BitVec 1 := Scalar.cmpi .eq c2048_i32_21 c0_i32_22
  let c1_i32_23 : BitVec 32 := 1#32
  let v52 : BitVec 32 := Scalar.select v51 c1_i32_23 c2048_i32_21
  let v53 : BitVec 32 := Scalar.remsi v3 v52
  let c0_i32_24 : BitVec 32 := 0#32
  let v54 : BitVec 1 := Scalar.cmpi .ne v53 c0_i32_24
  let c0_i32_25 : BitVec 32 := 0#32
  let v55 : BitVec 1 := Scalar.cmpi .slt v53 c0_i32_25
  let c0_i32_26 : BitVec 32 := 0#32
  let v56 : BitVec 1 := Scalar.cmpi .slt v52 c0_i32_26
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c1024_i32_27 : BitVec 32 := 1024#32
  let v62 : BitVec 32 := Scalar.divsi v32 c1024_i32_27
  let c0_i32_28 : BitVec 32 := 0#32
  let v63 : BitVec 1 := Scalar.cmpi .sgt v32 c0_i32_28
  let v64 : BitVec 32 := Scalar.extui v63
  let c0_i32_29 : BitVec 32 := 0#32
  let v65 : BitVec 1 := Scalar.cmpi .slt v32 c0_i32_29
  let v66 : BitVec 32 := Scalar.extui v65
  let v67 : BitVec 32 := Scalar.subi v64 v66
  let c0_i32_30 : BitVec 32 := 0#32
  let v68 : BitVec 1 := Scalar.cmpi .sgt c1024_i32_27 c0_i32_30
  let v69 : BitVec 32 := Scalar.extui v68
  let c0_i32_31 : BitVec 32 := 0#32
  let v70 : BitVec 1 := Scalar.cmpi .slt c1024_i32_27 c0_i32_31
  let v71 : BitVec 32 := Scalar.extui v70
  let v72 : BitVec 32 := Scalar.subi v69 v71
  let v73 : BitVec 1 := Scalar.cmpi .ne v67 v72
  let v74 : BitVec 32 := Scalar.remsi v32 c1024_i32_27
  let c0_i32_32 : BitVec 32 := 0#32
  let v75 : BitVec 1 := Scalar.cmpi .ne v74 c0_i32_32
  let v76 : BitVec 1 := Scalar.andi v73 v75
  let c1_i32_33 : BitVec 32 := 1#32
  let v77 : BitVec 32 := Scalar.subi v62 c1_i32_33
  let v78 : BitVec 32 := Scalar.select v76 v77 v62
  let c1024_i32_34 : BitVec 32 := 1024#32
  let v79 : BitVec 32 := Scalar.divsi v61 c1024_i32_34
  let c0_i32_35 : BitVec 32 := 0#32
  let v80 : BitVec 1 := Scalar.cmpi .sgt v61 c0_i32_35
  let v81 : BitVec 32 := Scalar.extui v80
  let c0_i32_36 : BitVec 32 := 0#32
  let v82 : BitVec 1 := Scalar.cmpi .slt v61 c0_i32_36
  let v83 : BitVec 32 := Scalar.extui v82
  let v84 : BitVec 32 := Scalar.subi v81 v83
  let c0_i32_37 : BitVec 32 := 0#32
  let v85 : BitVec 1 := Scalar.cmpi .sgt c1024_i32_34 c0_i32_37
  let v86 : BitVec 32 := Scalar.extui v85
  let c0_i32_38 : BitVec 32 := 0#32
  let v87 : BitVec 1 := Scalar.cmpi .slt c1024_i32_34 c0_i32_38
  let v88 : BitVec 32 := Scalar.extui v87
  let v89 : BitVec 32 := Scalar.subi v86 v88
  let v90 : BitVec 1 := Scalar.cmpi .ne v84 v89
  let v91 : BitVec 32 := Scalar.remsi v61 c1024_i32_34
  let c0_i32_39 : BitVec 32 := 0#32
  let v92 : BitVec 1 := Scalar.cmpi .ne v91 c0_i32_39
  let v93 : BitVec 1 := Scalar.andi v90 v92
  let c1_i32_40 : BitVec 32 := 1#32
  let v94 : BitVec 32 := Scalar.subi v79 c1_i32_40
  let v95 : BitVec 32 := Scalar.select v93 v94 v79
  let c0_i32_41 : BitVec 32 := 0#32
  ![v21.toNat, v78.toNat, v95.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.addi v0 c1_i32
  let c1024_i32 : BitVec 32 := 1024#32
  let v2 : BitVec 32 := Scalar.muli v1 c1024_i32
  let c1024_i32_0 : BitVec 32 := 1024#32
  let v3 : BitVec 32 := Scalar.muli arg1 c1024_i32_0
  let c2048_i32 : BitVec 32 := 2048#32
  let v4 : BitVec 32 := Scalar.divsi v3 c2048_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c2_i32 : BitVec 32 := 2#32
  let v21 : BitVec 32 := Scalar.addi c2_i32 v20
  let c2048_i32_6 : BitVec 32 := 2048#32
  let c0_i32_7 : BitVec 32 := 0#32
  let v22 : BitVec 1 := Scalar.cmpi .eq c2048_i32_6 c0_i32_7
  let c1_i32_8 : BitVec 32 := 1#32
  let v23 : BitVec 32 := Scalar.select v22 c1_i32_8 c2048_i32_6
  let v24 : BitVec 32 := Scalar.remsi v2 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let c1024_i32_12 : BitVec 32 := 1024#32
  let v32 : BitVec 32 := Scalar.addi c1024_i32_12 v31
  let c2048_i32_13 : BitVec 32 := 2048#32
  let v33 : BitVec 32 := Scalar.divsi v2 c2048_i32_13
  let c0_i32_14 : BitVec 32 := 0#32
  let v34 : BitVec 1 := Scalar.cmpi .sgt v2 c0_i32_14
  let v35 : BitVec 32 := Scalar.extui v34
  let c0_i32_15 : BitVec 32 := 0#32
  let v36 : BitVec 1 := Scalar.cmpi .slt v2 c0_i32_15
  let v37 : BitVec 32 := Scalar.extui v36
  let v38 : BitVec 32 := Scalar.subi v35 v37
  let c0_i32_16 : BitVec 32 := 0#32
  let v39 : BitVec 1 := Scalar.cmpi .sgt c2048_i32_13 c0_i32_16
  let v40 : BitVec 32 := Scalar.extui v39
  let c0_i32_17 : BitVec 32 := 0#32
  let v41 : BitVec 1 := Scalar.cmpi .slt c2048_i32_13 c0_i32_17
  let v42 : BitVec 32 := Scalar.extui v41
  let v43 : BitVec 32 := Scalar.subi v40 v42
  let v44 : BitVec 1 := Scalar.cmpi .ne v38 v43
  let v45 : BitVec 32 := Scalar.remsi v2 c2048_i32_13
  let c0_i32_18 : BitVec 32 := 0#32
  let v46 : BitVec 1 := Scalar.cmpi .ne v45 c0_i32_18
  let v47 : BitVec 1 := Scalar.andi v44 v46
  let c1_i32_19 : BitVec 32 := 1#32
  let v48 : BitVec 32 := Scalar.subi v33 c1_i32_19
  let v49 : BitVec 32 := Scalar.select v47 v48 v33
  let c2048_i32_20 : BitVec 32 := 2048#32
  let v50 : BitVec 32 := Scalar.muli v49 c2048_i32_20
  let c2048_i32_21 : BitVec 32 := 2048#32
  let c0_i32_22 : BitVec 32 := 0#32
  let v51 : BitVec 1 := Scalar.cmpi .eq c2048_i32_21 c0_i32_22
  let c1_i32_23 : BitVec 32 := 1#32
  let v52 : BitVec 32 := Scalar.select v51 c1_i32_23 c2048_i32_21
  let v53 : BitVec 32 := Scalar.remsi v3 v52
  let c0_i32_24 : BitVec 32 := 0#32
  let v54 : BitVec 1 := Scalar.cmpi .ne v53 c0_i32_24
  let c0_i32_25 : BitVec 32 := 0#32
  let v55 : BitVec 1 := Scalar.cmpi .slt v53 c0_i32_25
  let c0_i32_26 : BitVec 32 := 0#32
  let v56 : BitVec 1 := Scalar.cmpi .slt v52 c0_i32_26
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c1024_i32_27 : BitVec 32 := 1024#32
  let v62 : BitVec 32 := Scalar.divsi v32 c1024_i32_27
  let c0_i32_28 : BitVec 32 := 0#32
  let v63 : BitVec 1 := Scalar.cmpi .sgt v32 c0_i32_28
  let v64 : BitVec 32 := Scalar.extui v63
  let c0_i32_29 : BitVec 32 := 0#32
  let v65 : BitVec 1 := Scalar.cmpi .slt v32 c0_i32_29
  let v66 : BitVec 32 := Scalar.extui v65
  let v67 : BitVec 32 := Scalar.subi v64 v66
  let c0_i32_30 : BitVec 32 := 0#32
  let v68 : BitVec 1 := Scalar.cmpi .sgt c1024_i32_27 c0_i32_30
  let v69 : BitVec 32 := Scalar.extui v68
  let c0_i32_31 : BitVec 32 := 0#32
  let v70 : BitVec 1 := Scalar.cmpi .slt c1024_i32_27 c0_i32_31
  let v71 : BitVec 32 := Scalar.extui v70
  let v72 : BitVec 32 := Scalar.subi v69 v71
  let v73 : BitVec 1 := Scalar.cmpi .ne v67 v72
  let v74 : BitVec 32 := Scalar.remsi v32 c1024_i32_27
  let c0_i32_32 : BitVec 32 := 0#32
  let v75 : BitVec 1 := Scalar.cmpi .ne v74 c0_i32_32
  let v76 : BitVec 1 := Scalar.andi v73 v75
  let c1_i32_33 : BitVec 32 := 1#32
  let v77 : BitVec 32 := Scalar.subi v62 c1_i32_33
  let v78 : BitVec 32 := Scalar.select v76 v77 v62
  let c1024_i32_34 : BitVec 32 := 1024#32
  let v79 : BitVec 32 := Scalar.divsi v61 c1024_i32_34
  let c0_i32_35 : BitVec 32 := 0#32
  let v80 : BitVec 1 := Scalar.cmpi .sgt v61 c0_i32_35
  let v81 : BitVec 32 := Scalar.extui v80
  let c0_i32_36 : BitVec 32 := 0#32
  let v82 : BitVec 1 := Scalar.cmpi .slt v61 c0_i32_36
  let v83 : BitVec 32 := Scalar.extui v82
  let v84 : BitVec 32 := Scalar.subi v81 v83
  let c0_i32_37 : BitVec 32 := 0#32
  let v85 : BitVec 1 := Scalar.cmpi .sgt c1024_i32_34 c0_i32_37
  let v86 : BitVec 32 := Scalar.extui v85
  let c0_i32_38 : BitVec 32 := 0#32
  let v87 : BitVec 1 := Scalar.cmpi .slt c1024_i32_34 c0_i32_38
  let v88 : BitVec 32 := Scalar.extui v87
  let v89 : BitVec 32 := Scalar.subi v86 v88
  let v90 : BitVec 1 := Scalar.cmpi .ne v84 v89
  let v91 : BitVec 32 := Scalar.remsi v61 c1024_i32_34
  let c0_i32_39 : BitVec 32 := 0#32
  let v92 : BitVec 1 := Scalar.cmpi .ne v91 c0_i32_39
  let v93 : BitVec 1 := Scalar.andi v90 v92
  let c1_i32_40 : BitVec 32 := 1#32
  let v94 : BitVec 32 := Scalar.subi v79 c1_i32_40
  let v95 : BitVec 32 := Scalar.select v93 v94 v79
  let c0_i32_41 : BitVec 32 := 0#32
  ![v21.toNat, v78.toNat, v95.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c2_i32 : BitVec 32 := 2#32
  let v1 : BitVec 32 := Scalar.addi v0 c2_i32
  let c1024_i32 : BitVec 32 := 1024#32
  let v2 : BitVec 32 := Scalar.muli v1 c1024_i32
  let c1024_i32_0 : BitVec 32 := 1024#32
  let v3 : BitVec 32 := Scalar.muli arg1 c1024_i32_0
  let c2048_i32 : BitVec 32 := 2048#32
  let v4 : BitVec 32 := Scalar.divsi v3 c2048_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c2_i32_5 : BitVec 32 := 2#32
  let v21 : BitVec 32 := Scalar.addi c2_i32_5 v20
  let c2048_i32_6 : BitVec 32 := 2048#32
  let c0_i32_7 : BitVec 32 := 0#32
  let v22 : BitVec 1 := Scalar.cmpi .eq c2048_i32_6 c0_i32_7
  let c1_i32_8 : BitVec 32 := 1#32
  let v23 : BitVec 32 := Scalar.select v22 c1_i32_8 c2048_i32_6
  let v24 : BitVec 32 := Scalar.remsi v2 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let c1024_i32_12 : BitVec 32 := 1024#32
  let v32 : BitVec 32 := Scalar.addi c1024_i32_12 v31
  let c2048_i32_13 : BitVec 32 := 2048#32
  let v33 : BitVec 32 := Scalar.divsi v2 c2048_i32_13
  let c0_i32_14 : BitVec 32 := 0#32
  let v34 : BitVec 1 := Scalar.cmpi .sgt v2 c0_i32_14
  let v35 : BitVec 32 := Scalar.extui v34
  let c0_i32_15 : BitVec 32 := 0#32
  let v36 : BitVec 1 := Scalar.cmpi .slt v2 c0_i32_15
  let v37 : BitVec 32 := Scalar.extui v36
  let v38 : BitVec 32 := Scalar.subi v35 v37
  let c0_i32_16 : BitVec 32 := 0#32
  let v39 : BitVec 1 := Scalar.cmpi .sgt c2048_i32_13 c0_i32_16
  let v40 : BitVec 32 := Scalar.extui v39
  let c0_i32_17 : BitVec 32 := 0#32
  let v41 : BitVec 1 := Scalar.cmpi .slt c2048_i32_13 c0_i32_17
  let v42 : BitVec 32 := Scalar.extui v41
  let v43 : BitVec 32 := Scalar.subi v40 v42
  let v44 : BitVec 1 := Scalar.cmpi .ne v38 v43
  let v45 : BitVec 32 := Scalar.remsi v2 c2048_i32_13
  let c0_i32_18 : BitVec 32 := 0#32
  let v46 : BitVec 1 := Scalar.cmpi .ne v45 c0_i32_18
  let v47 : BitVec 1 := Scalar.andi v44 v46
  let c1_i32_19 : BitVec 32 := 1#32
  let v48 : BitVec 32 := Scalar.subi v33 c1_i32_19
  let v49 : BitVec 32 := Scalar.select v47 v48 v33
  let c2048_i32_20 : BitVec 32 := 2048#32
  let v50 : BitVec 32 := Scalar.muli v49 c2048_i32_20
  let c2048_i32_21 : BitVec 32 := 2048#32
  let c0_i32_22 : BitVec 32 := 0#32
  let v51 : BitVec 1 := Scalar.cmpi .eq c2048_i32_21 c0_i32_22
  let c1_i32_23 : BitVec 32 := 1#32
  let v52 : BitVec 32 := Scalar.select v51 c1_i32_23 c2048_i32_21
  let v53 : BitVec 32 := Scalar.remsi v3 v52
  let c0_i32_24 : BitVec 32 := 0#32
  let v54 : BitVec 1 := Scalar.cmpi .ne v53 c0_i32_24
  let c0_i32_25 : BitVec 32 := 0#32
  let v55 : BitVec 1 := Scalar.cmpi .slt v53 c0_i32_25
  let c0_i32_26 : BitVec 32 := 0#32
  let v56 : BitVec 1 := Scalar.cmpi .slt v52 c0_i32_26
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c1024_i32_27 : BitVec 32 := 1024#32
  let v62 : BitVec 32 := Scalar.divsi v32 c1024_i32_27
  let c0_i32_28 : BitVec 32 := 0#32
  let v63 : BitVec 1 := Scalar.cmpi .sgt v32 c0_i32_28
  let v64 : BitVec 32 := Scalar.extui v63
  let c0_i32_29 : BitVec 32 := 0#32
  let v65 : BitVec 1 := Scalar.cmpi .slt v32 c0_i32_29
  let v66 : BitVec 32 := Scalar.extui v65
  let v67 : BitVec 32 := Scalar.subi v64 v66
  let c0_i32_30 : BitVec 32 := 0#32
  let v68 : BitVec 1 := Scalar.cmpi .sgt c1024_i32_27 c0_i32_30
  let v69 : BitVec 32 := Scalar.extui v68
  let c0_i32_31 : BitVec 32 := 0#32
  let v70 : BitVec 1 := Scalar.cmpi .slt c1024_i32_27 c0_i32_31
  let v71 : BitVec 32 := Scalar.extui v70
  let v72 : BitVec 32 := Scalar.subi v69 v71
  let v73 : BitVec 1 := Scalar.cmpi .ne v67 v72
  let v74 : BitVec 32 := Scalar.remsi v32 c1024_i32_27
  let c0_i32_32 : BitVec 32 := 0#32
  let v75 : BitVec 1 := Scalar.cmpi .ne v74 c0_i32_32
  let v76 : BitVec 1 := Scalar.andi v73 v75
  let c1_i32_33 : BitVec 32 := 1#32
  let v77 : BitVec 32 := Scalar.subi v62 c1_i32_33
  let v78 : BitVec 32 := Scalar.select v76 v77 v62
  let c1024_i32_34 : BitVec 32 := 1024#32
  let v79 : BitVec 32 := Scalar.divsi v61 c1024_i32_34
  let c0_i32_35 : BitVec 32 := 0#32
  let v80 : BitVec 1 := Scalar.cmpi .sgt v61 c0_i32_35
  let v81 : BitVec 32 := Scalar.extui v80
  let c0_i32_36 : BitVec 32 := 0#32
  let v82 : BitVec 1 := Scalar.cmpi .slt v61 c0_i32_36
  let v83 : BitVec 32 := Scalar.extui v82
  let v84 : BitVec 32 := Scalar.subi v81 v83
  let c0_i32_37 : BitVec 32 := 0#32
  let v85 : BitVec 1 := Scalar.cmpi .sgt c1024_i32_34 c0_i32_37
  let v86 : BitVec 32 := Scalar.extui v85
  let c0_i32_38 : BitVec 32 := 0#32
  let v87 : BitVec 1 := Scalar.cmpi .slt c1024_i32_34 c0_i32_38
  let v88 : BitVec 32 := Scalar.extui v87
  let v89 : BitVec 32 := Scalar.subi v86 v88
  let v90 : BitVec 1 := Scalar.cmpi .ne v84 v89
  let v91 : BitVec 32 := Scalar.remsi v61 c1024_i32_34
  let c0_i32_39 : BitVec 32 := 0#32
  let v92 : BitVec 1 := Scalar.cmpi .ne v91 c0_i32_39
  let v93 : BitVec 1 := Scalar.andi v90 v92
  let c1_i32_40 : BitVec 32 := 1#32
  let v94 : BitVec 32 := Scalar.subi v79 c1_i32_40
  let v95 : BitVec 32 := Scalar.select v93 v94 v79
  let c0_i32_41 : BitVec 32 := 0#32
  ![v21.toNat, v78.toNat, v95.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c3_i32 : BitVec 32 := 3#32
  let v1 : BitVec 32 := Scalar.addi v0 c3_i32
  let c1024_i32 : BitVec 32 := 1024#32
  let v2 : BitVec 32 := Scalar.muli v1 c1024_i32
  let c1024_i32_0 : BitVec 32 := 1024#32
  let v3 : BitVec 32 := Scalar.muli arg1 c1024_i32_0
  let c2048_i32 : BitVec 32 := 2048#32
  let v4 : BitVec 32 := Scalar.divsi v3 c2048_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c2_i32 : BitVec 32 := 2#32
  let v21 : BitVec 32 := Scalar.addi c2_i32 v20
  let c2048_i32_5 : BitVec 32 := 2048#32
  let c0_i32_6 : BitVec 32 := 0#32
  let v22 : BitVec 1 := Scalar.cmpi .eq c2048_i32_5 c0_i32_6
  let c1_i32_7 : BitVec 32 := 1#32
  let v23 : BitVec 32 := Scalar.select v22 c1_i32_7 c2048_i32_5
  let v24 : BitVec 32 := Scalar.remsi v2 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c1024_i32_11 : BitVec 32 := 1024#32
  let v32 : BitVec 32 := Scalar.addi c1024_i32_11 v31
  let c2048_i32_12 : BitVec 32 := 2048#32
  let v33 : BitVec 32 := Scalar.divsi v2 c2048_i32_12
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c0_i32_15 : BitVec 32 := 0#32
  let v39 : BitVec 1 := Scalar.cmpi .sgt c2048_i32_12 c0_i32_15
  let v40 : BitVec 32 := Scalar.extui v39
  let c0_i32_16 : BitVec 32 := 0#32
  let v41 : BitVec 1 := Scalar.cmpi .slt c2048_i32_12 c0_i32_16
  let v42 : BitVec 32 := Scalar.extui v41
  let v43 : BitVec 32 := Scalar.subi v40 v42
  let v44 : BitVec 1 := Scalar.cmpi .ne v38 v43
  let v45 : BitVec 32 := Scalar.remsi v2 c2048_i32_12
  let c0_i32_17 : BitVec 32 := 0#32
  let v46 : BitVec 1 := Scalar.cmpi .ne v45 c0_i32_17
  let v47 : BitVec 1 := Scalar.andi v44 v46
  let c1_i32_18 : BitVec 32 := 1#32
  let v48 : BitVec 32 := Scalar.subi v33 c1_i32_18
  let v49 : BitVec 32 := Scalar.select v47 v48 v33
  let c2048_i32_19 : BitVec 32 := 2048#32
  let v50 : BitVec 32 := Scalar.muli v49 c2048_i32_19
  let c2048_i32_20 : BitVec 32 := 2048#32
  let c0_i32_21 : BitVec 32 := 0#32
  let v51 : BitVec 1 := Scalar.cmpi .eq c2048_i32_20 c0_i32_21
  let c1_i32_22 : BitVec 32 := 1#32
  let v52 : BitVec 32 := Scalar.select v51 c1_i32_22 c2048_i32_20
  let v53 : BitVec 32 := Scalar.remsi v3 v52
  let c0_i32_23 : BitVec 32 := 0#32
  let v54 : BitVec 1 := Scalar.cmpi .ne v53 c0_i32_23
  let c0_i32_24 : BitVec 32 := 0#32
  let v55 : BitVec 1 := Scalar.cmpi .slt v53 c0_i32_24
  let c0_i32_25 : BitVec 32 := 0#32
  let v56 : BitVec 1 := Scalar.cmpi .slt v52 c0_i32_25
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c1024_i32_26 : BitVec 32 := 1024#32
  let v62 : BitVec 32 := Scalar.divsi v32 c1024_i32_26
  let c0_i32_27 : BitVec 32 := 0#32
  let v63 : BitVec 1 := Scalar.cmpi .sgt v32 c0_i32_27
  let v64 : BitVec 32 := Scalar.extui v63
  let c0_i32_28 : BitVec 32 := 0#32
  let v65 : BitVec 1 := Scalar.cmpi .slt v32 c0_i32_28
  let v66 : BitVec 32 := Scalar.extui v65
  let v67 : BitVec 32 := Scalar.subi v64 v66
  let c0_i32_29 : BitVec 32 := 0#32
  let v68 : BitVec 1 := Scalar.cmpi .sgt c1024_i32_26 c0_i32_29
  let v69 : BitVec 32 := Scalar.extui v68
  let c0_i32_30 : BitVec 32 := 0#32
  let v70 : BitVec 1 := Scalar.cmpi .slt c1024_i32_26 c0_i32_30
  let v71 : BitVec 32 := Scalar.extui v70
  let v72 : BitVec 32 := Scalar.subi v69 v71
  let v73 : BitVec 1 := Scalar.cmpi .ne v67 v72
  let v74 : BitVec 32 := Scalar.remsi v32 c1024_i32_26
  let c0_i32_31 : BitVec 32 := 0#32
  let v75 : BitVec 1 := Scalar.cmpi .ne v74 c0_i32_31
  let v76 : BitVec 1 := Scalar.andi v73 v75
  let c1_i32_32 : BitVec 32 := 1#32
  let v77 : BitVec 32 := Scalar.subi v62 c1_i32_32
  let v78 : BitVec 32 := Scalar.select v76 v77 v62
  let c1024_i32_33 : BitVec 32 := 1024#32
  let v79 : BitVec 32 := Scalar.divsi v61 c1024_i32_33
  let c0_i32_34 : BitVec 32 := 0#32
  let v80 : BitVec 1 := Scalar.cmpi .sgt v61 c0_i32_34
  let v81 : BitVec 32 := Scalar.extui v80
  let c0_i32_35 : BitVec 32 := 0#32
  let v82 : BitVec 1 := Scalar.cmpi .slt v61 c0_i32_35
  let v83 : BitVec 32 := Scalar.extui v82
  let v84 : BitVec 32 := Scalar.subi v81 v83
  let c0_i32_36 : BitVec 32 := 0#32
  let v85 : BitVec 1 := Scalar.cmpi .sgt c1024_i32_33 c0_i32_36
  let v86 : BitVec 32 := Scalar.extui v85
  let c0_i32_37 : BitVec 32 := 0#32
  let v87 : BitVec 1 := Scalar.cmpi .slt c1024_i32_33 c0_i32_37
  let v88 : BitVec 32 := Scalar.extui v87
  let v89 : BitVec 32 := Scalar.subi v86 v88
  let v90 : BitVec 1 := Scalar.cmpi .ne v84 v89
  let v91 : BitVec 32 := Scalar.remsi v61 c1024_i32_33
  let c0_i32_38 : BitVec 32 := 0#32
  let v92 : BitVec 1 := Scalar.cmpi .ne v91 c0_i32_38
  let v93 : BitVec 1 := Scalar.andi v90 v92
  let c1_i32_39 : BitVec 32 := 1#32
  let v94 : BitVec 32 := Scalar.subi v79 c1_i32_39
  let v95 : BitVec 32 := Scalar.select v93 v94 v79
  let c0_i32_40 : BitVec 32 := 0#32
  ![v21.toNat, v78.toNat, v95.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== SsmInGatePlainIdeal.lean ====
abbrev S4096x4096 : Shape := ⟨2, ![4096, 4096]⟩
abbrev S4096x8192 : Shape := ⟨2, ![4096, 8192]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x8192, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x8192, .f32⟩
  | .hbm, ⟨7, _⟩ => ⟨S4096x4096, .f32⟩
  | .hbm, ⟨8, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== GluMm.lean ====
abbrev S4096x4096 : Shape := ⟨2, ![4096, 4096]⟩
abbrev S4096x8192 : Shape := ⟨2, ![4096, 8192]⟩
abbrev S4096 : Shape := ⟨1, ![4096]⟩
abbrev S2x2048x4x2048 : Shape := ⟨4, ![2, 2048, 4, 2048]⟩
abbrev S4x2048x2x2048 : Shape := ⟨4, ![4, 2048, 2, 2048]⟩
abbrev S4x2048x4096 : Shape := ⟨3, ![4, 2048, 4096]⟩
abbrev S4x1024x4096 : Shape := ⟨3, ![4, 1024, 4096]⟩
abbrev S4x5120x4096 : Shape := ⟨3, ![4, 5120, 4096]⟩
abbrev S_ : Shape := ⟨0, ![]⟩
abbrev S1x4096 : Shape := ⟨2, ![1, 4096]⟩
abbrev S1024x4096 : Shape := ⟨2, ![1024, 4096]⟩
abbrev S1x1024x512 : Shape := ⟨3, ![1, 1024, 512]⟩
abbrev S1024x512 : Shape := ⟨2, ![1024, 512]⟩
abbrev S1x512 : Shape := ⟨2, ![1, 512]⟩
abbrev S1024x1024 : Shape := ⟨2, ![1024, 1024]⟩

abbrev nBuf : Space → Nat
  | .hbm => 61
  | .vmem => 20
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x8192, .f32⟩
  | .hbm, ⟨4, _⟩ => ⟨S4096x4096, .f32⟩
  | .hbm, ⟨5, _⟩ => ⟨S4096x4096, .f32⟩
  | .hbm, ⟨6, _⟩ => ⟨S4096, .f32⟩
  | .hbm, ⟨7, _⟩ => ⟨S2x2048x4x2048, .f32⟩
  | .hbm, ⟨8, _⟩ => ⟨S4x2048x2x2048, .f32⟩
  | .hbm, ⟨9, _⟩ => ⟨S4x2048x4096, .f32⟩
  | .hbm, ⟨10, _⟩ => ⟨S4x1024x4096, .f32⟩
  | .hbm, ⟨11, _⟩ => ⟨S4x1024x4096, .f32⟩
  | .hbm, ⟨12, _⟩ => ⟨S4x1024x4096, .f32⟩
  | .hbm, ⟨13, _⟩ => ⟨S4x5120x4096, .f32⟩
  | .hbm, ⟨14, _⟩ => ⟨S4x5120x4096, .bf16⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S4096x4096, .bf16⟩
  | .hbm, ⟨58, _⟩ => ⟨S1x4096, .f32⟩
  | .hbm, ⟨59, _⟩ => ⟨S4096x4096, .f32⟩
  | .hbm, ⟨60, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1x512, .f32⟩
  | .local _ .vmem, ⟨15, _⟩ => ⟨S1x512, .f32⟩
  | .local _ .vmem, ⟨16, _⟩ => ⟨S1024x512, .f32⟩
  | .local _ .vmem, ⟨17, _⟩ => ⟨S1024x512, .f32⟩
  | .local _ .vmem, ⟨18, _⟩ => ⟨S1024x512, .bf16⟩
  | .local _ .vmem, ⟨19, _⟩ => ⟨S1024x512, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41_0 : Ref sig .tc := ⟨.hbm, 59, rfl⟩
abbrev main_v41_1 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1024_i32 : BitVec 32 := 1024#32
  let v2 : BitVec 32 := Scalar.muli v1 c1024_i32
  let c512_i32 : BitVec 32 := 512#32
  let v3 : BitVec 32 := Scalar.muli arg1 c512_i32
  let c1024_i32_0 : BitVec 32 := 1024#32
  let v4 : BitVec 32 := Scalar.divsi v2 c1024_i32_0
  let c0_i32_1 : BitVec 32 := 0#32
  let v5 : BitVec 1 := Scalar.cmpi .sgt v2 c0_i32_1
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c1024_i32_0 c0_i32_3
  let v11 : BitVec 32 := Scalar.extui v10
  let c0_i32_4 : BitVec 32 := 0#32
  let v12 : BitVec 1 := Scalar.cmpi .slt c1024_i32_0 c0_i32_4
  let v13 : BitVec 32 := Scalar.extui v12
  let v14 : BitVec 32 := Scalar.subi v11 v13
  let v15 : BitVec 1 := Scalar.cmpi .ne v9 v14
  let v16 : BitVec 32 := Scalar.remsi v2 c1024_i32_0
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1024_i32_6 : BitVec 32 := 1024#32
  let c0_i32_7 : BitVec 32 := 0#32
  let v21 : BitVec 1 := Scalar.cmpi .eq c1024_i32_6 c0_i32_7
  let c1_i32_8 : BitVec 32 := 1#32
  let v22 : BitVec 32 := Scalar.select v21 c1_i32_8 c1024_i32_6
  let v23 : BitVec 32 := Scalar.remsi v2 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c3072_i32 : BitVec 32 := 3072#32
  let v31 : BitVec 32 := Scalar.addi c3072_i32 v30
  let c1024_i32_12 : BitVec 32 := 1024#32
  let v32 : BitVec 32 := Scalar.divsi v31 c1024_i32_12
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c0_i32_15 : BitVec 32 := 0#32
  let v38 : BitVec 1 := Scalar.cmpi .sgt c1024_i32_12 c0_i32_15
  let v39 : BitVec 32 := Scalar.extui v38
  let c0_i32_16 : BitVec 32 := 0#32
  let v40 : BitVec 1 := Scalar.cmpi .slt c1024_i32_12 c0_i32_16
  let v41 : BitVec 32 := Scalar.extui v40
  let v42 : BitVec 32 := Scalar.subi v39 v41
  let v43 : BitVec 1 := Scalar.cmpi .ne v37 v42
  let v44 : BitVec 32 := Scalar.remsi v31 c1024_i32_12
  let c0_i32_17 : BitVec 32 := 0#32
  let v45 : BitVec 1 := Scalar.cmpi .ne v44 c0_i32_17
  let v46 : BitVec 1 := Scalar.andi v43 v45
  let c1_i32_18 : BitVec 32 := 1#32
  let v47 : BitVec 32 := Scalar.subi v32 c1_i32_18
  let v48 : BitVec 32 := Scalar.select v46 v47 v32
  let c512_i32_19 : BitVec 32 := 512#32
  let v49 : BitVec 32 := Scalar.divsi v3 c512_i32_19
  let c0_i32_20 : BitVec 32 := 0#32
  let v50 : BitVec 1 := Scalar.cmpi .sgt v3 c0_i32_20
  let v51 : BitVec 32 := Scalar.extui v50
  let c0_i32_21 : BitVec 32 := 0#32
  let v52 : BitVec 1 := Scalar.cmpi .slt v3 c0_i32_21
  let v53 : BitVec 32 := Scalar.extui v52
  let v54 : BitVec 32 := Scalar.subi v51 v53
  let c0_i32_22 : BitVec 32 := 0#32
  let v55 : BitVec 1 := Scalar.cmpi .sgt c512_i32_19 c0_i32_22
  let v56 : BitVec 32 := Scalar.extui v55
  let c0_i32_23 : BitVec 32 := 0#32
  let v57 : BitVec 1 := Scalar.cmpi .slt c512_i32_19 c0_i32_23
  let v58 : BitVec 32 := Scalar.extui v57
  let v59 : BitVec 32 := Scalar.subi v56 v58
  let v60 : BitVec 1 := Scalar.cmpi .ne v54 v59
  let v61 : BitVec 32 := Scalar.remsi v3 c512_i32_19
  let c0_i32_24 : BitVec 32 := 0#32
  let v62 : BitVec 1 := Scalar.cmpi .ne v61 c0_i32_24
  let v63 : BitVec 1 := Scalar.andi v60 v62
  let c1_i32_25 : BitVec 32 := 1#32
  let v64 : BitVec 32 := Scalar.subi v49 c1_i32_25
  let v65 : BitVec 32 := Scalar.select v63 v64 v49
  let c0_i32_26 : BitVec 32 := 0#32
  ![v20.toNat, v48.toNat, v65.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.addi v0 c1_i32
  let c1024_i32 : BitVec 32 := 1024#32
  let v2 : BitVec 32 := Scalar.muli v1 c1024_i32
  let c512_i32 : BitVec 32 := 512#32
  let v3 : BitVec 32 := Scalar.muli arg1 c512_i32
  let c1024_i32_0 : BitVec 32 := 1024#32
  let v4 : BitVec 32 := Scalar.divsi v2 c1024_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v2 c1024_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1024_i32_6 : BitVec 32 := 1024#32
  let c0_i32_7 : BitVec 32 := 0#32
  let v21 : BitVec 1 := Scalar.cmpi .eq c1024_i32_6 c0_i32_7
  let c1_i32_8 : BitVec 32 := 1#32
  let v22 : BitVec 32 := Scalar.select v21 c1_i32_8 c1024_i32_6
  let v23 : BitVec 32 := Scalar.remsi v2 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c3072_i32 : BitVec 32 := 3072#32
  let v31 : BitVec 32 := Scalar.addi c3072_i32 v30
  let c1024_i32_12 : BitVec 32 := 1024#32
  let v32 : BitVec 32 := Scalar.divsi v31 c1024_i32_12
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c0_i32_15 : BitVec 32 := 0#32
  let v38 : BitVec 1 := Scalar.cmpi .sgt c1024_i32_12 c0_i32_15
  let v39 : BitVec 32 := Scalar.extui v38
  let c0_i32_16 : BitVec 32 := 0#32
  let v40 : BitVec 1 := Scalar.cmpi .slt c1024_i32_12 c0_i32_16
  let v41 : BitVec 32 := Scalar.extui v40
  let v42 : BitVec 32 := Scalar.subi v39 v41
  let v43 : BitVec 1 := Scalar.cmpi .ne v37 v42
  let v44 : BitVec 32 := Scalar.remsi v31 c1024_i32_12
  let c0_i32_17 : BitVec 32 := 0#32
  let v45 : BitVec 1 := Scalar.cmpi .ne v44 c0_i32_17
  let v46 : BitVec 1 := Scalar.andi v43 v45
  let c1_i32_18 : BitVec 32 := 1#32
  let v47 : BitVec 32 := Scalar.subi v32 c1_i32_18
  let v48 : BitVec 32 := Scalar.select v46 v47 v32
  let c512_i32_19 : BitVec 32 := 512#32
  let v49 : BitVec 32 := Scalar.divsi v3 c512_i32_19
  let c0_i32_20 : BitVec 32 := 0#32
  let v50 : BitVec 1 := Scalar.cmpi .sgt v3 c0_i32_20
  let v51 : BitVec 32 := Scalar.extui v50
  let c0_i32_21 : BitVec 32 := 0#32
  let v52 : BitVec 1 := Scalar.cmpi .slt v3 c0_i32_21
  let v53 : BitVec 32 := Scalar.extui v52
  let v54 : BitVec 32 := Scalar.subi v51 v53
  let c0_i32_22 : BitVec 32 := 0#32
  let v55 : BitVec 1 := Scalar.cmpi .sgt c512_i32_19 c0_i32_22
  let v56 : BitVec 32 := Scalar.extui v55
  let c0_i32_23 : BitVec 32 := 0#32
  let v57 : BitVec 1 := Scalar.cmpi .slt c512_i32_19 c0_i32_23
  let v58 : BitVec 32 := Scalar.extui v57
  let v59 : BitVec 32 := Scalar.subi v56 v58
  let v60 : BitVec 1 := Scalar.cmpi .ne v54 v59
  let v61 : BitVec 32 := Scalar.remsi v3 c512_i32_19
  let c0_i32_24 : BitVec 32 := 0#32
  let v62 : BitVec 1 := Scalar.cmpi .ne v61 c0_i32_24
  let v63 : BitVec 1 := Scalar.andi v60 v62
  let c1_i32_25 : BitVec 32 := 1#32
  let v64 : BitVec 32 := Scalar.subi v49 c1_i32_25
  let v65 : BitVec 32 := Scalar.select v63 v64 v49
  let c0_i32_26 : BitVec 32 := 0#32
  ![v20.toNat, v48.toNat, v65.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c2_i32 : BitVec 32 := 2#32
  let v1 : BitVec 32 := Scalar.addi v0 c2_i32
  let c1024_i32 : BitVec 32 := 1024#32
  let v2 : BitVec 32 := Scalar.muli v1 c1024_i32
  let c512_i32 : BitVec 32 := 512#32
  let v3 : BitVec 32 := Scalar.muli arg1 c512_i32
  let c1024_i32_0 : BitVec 32 := 1024#32
  let v4 : BitVec 32 := Scalar.divsi v2 c1024_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v2 c1024_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c1024_i32_5 : BitVec 32 := 1024#32
  let c0_i32_6 : BitVec 32 := 0#32
  let v21 : BitVec 1 := Scalar.cmpi .eq c1024_i32_5 c0_i32_6
  let c1_i32_7 : BitVec 32 := 1#32
  let v22 : BitVec 32 := Scalar.select v21 c1_i32_7 c1024_i32_5
  let v23 : BitVec 32 := Scalar.remsi v2 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c3072_i32 : BitVec 32 := 3072#32
  let v31 : BitVec 32 := Scalar.addi c3072_i32 v30
  let c1024_i32_11 : BitVec 32 := 1024#32
  let v32 : BitVec 32 := Scalar.divsi v31 c1024_i32_11
  let c0_i32_12 : BitVec 32 := 0#32
  let v33 : BitVec 1 := Scalar.cmpi .sgt v31 c0_i32_12
  let v34 : BitVec 32 := Scalar.extui v33
  let c0_i32_13 : BitVec 32 := 0#32
  let v35 : BitVec 1 := Scalar.cmpi .slt v31 c0_i32_13
  let v36 : BitVec 32 := Scalar.extui v35
  let v37 : BitVec 32 := Scalar.subi v34 v36
  let c0_i32_14 : BitVec 32 := 0#32
  let v38 : BitVec 1 := Scalar.cmpi .sgt c1024_i32_11 c0_i32_14
  let v39 : BitVec 32 := Scalar.extui v38
  let c0_i32_15 : BitVec 32 := 0#32
  let v40 : BitVec 1 := Scalar.cmpi .slt c1024_i32_11 c0_i32_15
  let v41 : BitVec 32 := Scalar.extui v40
  let v42 : BitVec 32 := Scalar.subi v39 v41
  let v43 : BitVec 1 := Scalar.cmpi .ne v37 v42
  let v44 : BitVec 32 := Scalar.remsi v31 c1024_i32_11
  let c0_i32_16 : BitVec 32 := 0#32
  let v45 : BitVec 1 := Scalar.cmpi .ne v44 c0_i32_16
  let v46 : BitVec 1 := Scalar.andi v43 v45
  let c1_i32_17 : BitVec 32 := 1#32
  let v47 : BitVec 32 := Scalar.subi v32 c1_i32_17
  let v48 : BitVec 32 := Scalar.select v46 v47 v32
  let c512_i32_18 : BitVec 32 := 512#32
  let v49 : BitVec 32 := Scalar.divsi v3 c512_i32_18
  let c0_i32_19 : BitVec 32 := 0#32
  let v50 : BitVec 1 := Scalar.cmpi .sgt v3 c0_i32_19
  let v51 : BitVec 32 := Scalar.extui v50
  let c0_i32_20 : BitVec 32 := 0#32
  let v52 : BitVec 1 := Scalar.cmpi .slt v3 c0_i32_20
  let v53 : BitVec 32 := Scalar.extui v52
  let v54 : BitVec 32 := Scalar.subi v51 v53
  let c0_i32_21 : BitVec 32 := 0#32
  let v55 : BitVec 1 := Scalar.cmpi .sgt c512_i32_18 c0_i32_21
  let v56 : BitVec 32 := Scalar.extui v55
  let c0_i32_22 : BitVec 32 := 0#32
  let v57 : BitVec 1 := Scalar.cmpi .slt c512_i32_18 c0_i32_22
  let v58 : BitVec 32 := Scalar.extui v57
  let v59 : BitVec 32 := Scalar.subi v56 v58
  let v60 : BitVec 1 := Scalar.cmpi .ne v54 v59
  let v61 : BitVec 32 := Scalar.remsi v3 c512_i32_18
  let c0_i32_23 : BitVec 32 := 0#32
  let v62 : BitVec 1 := Scalar.cmpi .ne v61 c0_i32_23
  let v63 : BitVec 1 := Scalar.andi v60 v62
  let c1_i32_24 : BitVec 32 := 1#32
  let v64 : BitVec 32 := Scalar.subi v49 c1_i32_24
  let v65 : BitVec 32 := Scalar.select v63 v64 v49
  let c0_i32_25 : BitVec 32 := 0#32
  ![v20.toNat, v48.toNat, v65.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c3_i32 : BitVec 32 := 3#32
  let v1 : BitVec 32 := Scalar.addi v0 c3_i32
  let c1024_i32 : BitVec 32 := 1024#32
  let v2 : BitVec 32 := Scalar.muli v1 c1024_i32
  let c512_i32 : BitVec 32 := 512#32
  let v3 : BitVec 32 := Scalar.muli arg1 c512_i32
  let c1024_i32_0 : BitVec 32 := 1024#32
  let v4 : BitVec 32 := Scalar.divsi v2 c1024_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v2 c1024_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c1024_i32_5 : BitVec 32 := 1024#32
  let c0_i32_6 : BitVec 32 := 0#32
  let v21 : BitVec 1 := Scalar.cmpi .eq c1024_i32_5 c0_i32_6
  let c1_i32_7 : BitVec 32 := 1#32
  let v22 : BitVec 32 := Scalar.select v21 c1_i32_7 c1024_i32_5
  let v23 : BitVec 32 := Scalar.remsi v2 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c3072_i32 : BitVec 32 := 3072#32
  let v31 : BitVec 32 := Scalar.addi c3072_i32 v30
  let c1024_i32_11 : BitVec 32 := 1024#32
  let v32 : BitVec 32 := Scalar.divsi v31 c1024_i32_11
  let c0_i32_12 : BitVec 32 := 0#32
  let v33 : BitVec 1 := Scalar.cmpi .sgt v31 c0_i32_12
  let v34 : BitVec 32 := Scalar.extui v33
  let c0_i32_13 : BitVec 32 := 0#32
  let v35 : BitVec 1 := Scalar.cmpi .slt v31 c0_i32_13
  let v36 : BitVec 32 := Scalar.extui v35
  let v37 : BitVec 32 := Scalar.subi v34 v36
  let c0_i32_14 : BitVec 32 := 0#32
  let v38 : BitVec 1 := Scalar.cmpi .sgt c1024_i32_11 c0_i32_14
  let v39 : BitVec 32 := Scalar.extui v38
  let c0_i32_15 : BitVec 32 := 0#32
  let v40 : BitVec 1 := Scalar.cmpi .slt c1024_i32_11 c0_i32_15
  let v41 : BitVec 32 := Scalar.extui v40
  let v42 : BitVec 32 := Scalar.subi v39 v41
  let v43 : BitVec 1 := Scalar.cmpi .ne v37 v42
  let v44 : BitVec 32 := Scalar.remsi v31 c1024_i32_11
  let c0_i32_16 : BitVec 32 := 0#32
  let v45 : BitVec 1 := Scalar.cmpi .ne v44 c0_i32_16
  let v46 : BitVec 1 := Scalar.andi v43 v45
  let c1_i32_17 : BitVec 32 := 1#32
  let v47 : BitVec 32 := Scalar.subi v32 c1_i32_17
  let v48 : BitVec 32 := Scalar.select v46 v47 v32
  let c512_i32_18 : BitVec 32 := 512#32
  let v49 : BitVec 32 := Scalar.divsi v3 c512_i32_18
  let c0_i32_19 : BitVec 32 := 0#32
  let v50 : BitVec 1 := Scalar.cmpi .sgt v3 c0_i32_19
  let v51 : BitVec 32 := Scalar.extui v50
  let c0_i32_20 : BitVec 32 := 0#32
  let v52 : BitVec 1 := Scalar.cmpi .slt v3 c0_i32_20
  let v53 : BitVec 32 := Scalar.extui v52
  let v54 : BitVec 32 := Scalar.subi v51 v53
  let c0_i32_21 : BitVec 32 := 0#32
  let v55 : BitVec 1 := Scalar.cmpi .sgt c512_i32_18 c0_i32_21
  let v56 : BitVec 32 := Scalar.extui v55
  let c0_i32_22 : BitVec 32 := 0#32
  let v57 : BitVec 1 := Scalar.cmpi .slt c512_i32_18 c0_i32_22
  let v58 : BitVec 32 := Scalar.extui v57
  let v59 : BitVec 32 := Scalar.subi v56 v58
  let v60 : BitVec 1 := Scalar.cmpi .ne v54 v59
  let v61 : BitVec 32 := Scalar.remsi v3 c512_i32_18
  let c0_i32_23 : BitVec 32 := 0#32
  let v62 : BitVec 1 := Scalar.cmpi .ne v61 c0_i32_23
  let v63 : BitVec 1 := Scalar.andi v60 v62
  let c1_i32_24 : BitVec 32 := 1#32
  let v64 : BitVec 32 := Scalar.subi v49 c1_i32_24
  let v65 : BitVec 32 := Scalar.select v63 v64 v49
  let c0_i32_25 : BitVec 32 := 0#32
  ![v20.toNat, v48.toNat, v65.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== GluMmPlainIdeal.lean ====
abbrev S4096x4096 : Shape := ⟨2, ![4096, 4096]⟩
abbrev S4096x8192 : Shape := ⟨2, ![4096, 8192]⟩
abbrev S4096 : Shape := ⟨1, ![4096]⟩
abbrev S_ : Shape := ⟨0, ![]⟩
abbrev S1x4096 : Shape := ⟨2, ![1, 4096]⟩

abbrev nBuf : Space → Nat
  | .hbm => 48
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x8192, .f32⟩
  | .hbm, ⟨4, _⟩ => ⟨S4096x4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S1x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩

abbrev nD : Nat := 1
abbrev τ : Topo := Topo.v7x

variable {F : FTy → Type} [FloatOps F]
-- ==== SsmOut.lean ====
abbrev S4096x4096 : Shape := ⟨2, ![4096, 4096]⟩
abbrev S4096x8192 : Shape := ⟨2, ![4096, 8192]⟩
abbrev S2x2048x4x2048 : Shape := ⟨4, ![2, 2048, 4, 2048]⟩
abbrev S4x2048x2x2048 : Shape := ⟨4, ![4, 2048, 2, 2048]⟩
abbrev S4x2048x4096 : Shape := ⟨3, ![4, 2048, 4096]⟩
abbrev S4x1024x4096 : Shape := ⟨3, ![4, 1024, 4096]⟩
abbrev S4x5120x4096 : Shape := ⟨3, ![4, 5120, 4096]⟩
abbrev S1024x4096 : Shape := ⟨2, ![1024, 4096]⟩
abbrev S1x1024x1024 : Shape := ⟨3, ![1, 1024, 1024]⟩
abbrev S1024x1024 : Shape := ⟨2, ![1024, 1024]⟩

abbrev nBuf : Space → Nat
  | .hbm => 15
  | .vmem => 14
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .f32⟩
  | .hbm, ⟨3, _⟩ => ⟨S4096x8192, .f32⟩
  | .hbm, ⟨4, _⟩ => ⟨S4096x4096, .f32⟩
  | .hbm, ⟨5, _⟩ => ⟨S4096x4096, .f32⟩
  | .hbm, ⟨6, _⟩ => ⟨S2x2048x4x2048, .f32⟩
  | .hbm, ⟨7, _⟩ => ⟨S4x2048x2x2048, .f32⟩
  | .hbm, ⟨8, _⟩ => ⟨S4x2048x4096, .f32⟩
  | .hbm, ⟨9, _⟩ => ⟨S4x1024x4096, .f32⟩
  | .hbm, ⟨10, _⟩ => ⟨S4x1024x4096, .f32⟩
  | .hbm, ⟨11, _⟩ => ⟨S4x1024x4096, .f32⟩
  | .hbm, ⟨12, _⟩ => ⟨S4x5120x4096, .f32⟩
  | .hbm, ⟨13, _⟩ => ⟨S4x5120x4096, .bf16⟩
  | .hbm, ⟨14, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1024_i32 : BitVec 32 := 1024#32
  let v2 : BitVec 32 := Scalar.muli v1 c1024_i32
  let c1024_i32_0 : BitVec 32 := 1024#32
  let v3 : BitVec 32 := Scalar.muli arg1 c1024_i32_0
  let c1024_i32_1 : BitVec 32 := 1024#32
  let v4 : BitVec 32 := Scalar.divsi v2 c1024_i32_1
  let c0_i32_2 : BitVec 32 := 0#32
  let v5 : BitVec 1 := Scalar.cmpi .sgt v2 c0_i32_2
  let v6 : BitVec 32 := Scalar.extui v5
  let c0_i32_3 : BitVec 32 := 0#32
  let v7 : BitVec 1 := Scalar.cmpi .slt v2 c0_i32_3
  let v8 : BitVec 32 := Scalar.extui v7
  let v9 : BitVec 32 := Scalar.subi v6 v8
  let c0_i32_4 : BitVec 32 := 0#32
  let v10 : BitVec 1 := Scalar.cmpi .sgt c1024_i32_1 c0_i32_4
  let v11 : BitVec 32 := Scalar.extui v10
  let c0_i32_5 : BitVec 32 := 0#32
  let v12 : BitVec 1 := Scalar.cmpi .slt c1024_i32_1 c0_i32_5
  let v13 : BitVec 32 := Scalar.extui v12
  let v14 : BitVec 32 := Scalar.subi v11 v13
  let v15 : BitVec 1 := Scalar.cmpi .ne v9 v14
  let v16 : BitVec 32 := Scalar.remsi v2 c1024_i32_1
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c1024_i32_7 : BitVec 32 := 1024#32
  let c0_i32_8 : BitVec 32 := 0#32
  let v21 : BitVec 1 := Scalar.cmpi .eq c1024_i32_7 c0_i32_8
  let c1_i32_9 : BitVec 32 := 1#32
  let v22 : BitVec 32 := Scalar.select v21 c1_i32_9 c1024_i32_7
  let v23 : BitVec 32 := Scalar.remsi v2 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c4096_i32 : BitVec 32 := 4096#32
  let v31 : BitVec 32 := Scalar.addi c4096_i32 v30
  let c1024_i32_13 : BitVec 32 := 1024#32
  let v32 : BitVec 32 := Scalar.divsi v31 c1024_i32_13
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c0_i32_16 : BitVec 32 := 0#32
  let v38 : BitVec 1 := Scalar.cmpi .sgt c1024_i32_13 c0_i32_16
  let v39 : BitVec 32 := Scalar.extui v38
  let c0_i32_17 : BitVec 32 := 0#32
  let v40 : BitVec 1 := Scalar.cmpi .slt c1024_i32_13 c0_i32_17
  let v41 : BitVec 32 := Scalar.extui v40
  let v42 : BitVec 32 := Scalar.subi v39 v41
  let v43 : BitVec 1 := Scalar.cmpi .ne v37 v42
  let v44 : BitVec 32 := Scalar.remsi v31 c1024_i32_13
  let c0_i32_18 : BitVec 32 := 0#32
  let v45 : BitVec 1 := Scalar.cmpi .ne v44 c0_i32_18
  let v46 : BitVec 1 := Scalar.andi v43 v45
  let c1_i32_19 : BitVec 32 := 1#32
  let v47 : BitVec 32 := Scalar.subi v32 c1_i32_19
  let v48 : BitVec 32 := Scalar.select v46 v47 v32
  let c1024_i32_20 : BitVec 32 := 1024#32
  let v49 : BitVec 32 := Scalar.divsi v3 c1024_i32_20
  let c0_i32_21 : BitVec 32 := 0#32
  let v50 : BitVec 1 := Scalar.cmpi .sgt v3 c0_i32_21
  let v51 : BitVec 32 := Scalar.extui v50
  let c0_i32_22 : BitVec 32 := 0#32
  let v52 : BitVec 1 := Scalar.cmpi .slt v3 c0_i32_22
  let v53 : BitVec 32 := Scalar.extui v52
  let v54 : BitVec 32 := Scalar.subi v51 v53
  let c0_i32_23 : BitVec 32 := 0#32
  let v55 : BitVec 1 := Scalar.cmpi .sgt c1024_i32_20 c0_i32_23
  let v56 : BitVec 32 := Scalar.extui v55
  let c0_i32_24 : BitVec 32 := 0#32
  let v57 : BitVec 1 := Scalar.cmpi .slt c1024_i32_20 c0_i32_24
  let v58 : BitVec 32 := Scalar.extui v57
  let v59 : BitVec 32 := Scalar.subi v56 v58
  let v60 : BitVec 1 := Scalar.cmpi .ne v54 v59
  let v61 : BitVec 32 := Scalar.remsi v3 c1024_i32_20
  let c0_i32_25 : BitVec 32 := 0#32
  let v62 : BitVec 1 := Scalar.cmpi .ne v61 c0_i32_25
  let v63 : BitVec 1 := Scalar.andi v60 v62
  let c1_i32_26 : BitVec 32 := 1#32
  let v64 : BitVec 32 := Scalar.subi v49 c1_i32_26
  let v65 : BitVec 32 := Scalar.select v63 v64 v49
  let c0_i32_27 : BitVec 32 := 0#32
  ![v20.toNat, v48.toNat, v65.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.addi v0 c1_i32
  let c1024_i32 : BitVec 32 := 1024#32
  let v2 : BitVec 32 := Scalar.muli v1 c1024_i32
  let c1024_i32_0 : BitVec 32 := 1024#32
  let v3 : BitVec 32 := Scalar.muli arg1 c1024_i32_0
  let c1024_i32_1 : BitVec 32 := 1024#32
  let v4 : BitVec 32 := Scalar.divsi v2 c1024_i32_1
  let c0_i32 : BitVec 32 := 0#32
  let v5 : BitVec 1 := Scalar.cmpi .sgt v2 c0_i32
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c1024_i32_1 c0_i32_3
  let v11 : BitVec 32 := Scalar.extui v10
  let c0_i32_4 : BitVec 32 := 0#32
  let v12 : BitVec 1 := Scalar.cmpi .slt c1024_i32_1 c0_i32_4
  let v13 : BitVec 32 := Scalar.extui v12
  let v14 : BitVec 32 := Scalar.subi v11 v13
  let v15 : BitVec 1 := Scalar.cmpi .ne v9 v14
  let v16 : BitVec 32 := Scalar.remsi v2 c1024_i32_1
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c1024_i32_7 : BitVec 32 := 1024#32
  let c0_i32_8 : BitVec 32 := 0#32
  let v21 : BitVec 1 := Scalar.cmpi .eq c1024_i32_7 c0_i32_8
  let c1_i32_9 : BitVec 32 := 1#32
  let v22 : BitVec 32 := Scalar.select v21 c1_i32_9 c1024_i32_7
  let v23 : BitVec 32 := Scalar.remsi v2 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c4096_i32 : BitVec 32 := 4096#32
  let v31 : BitVec 32 := Scalar.addi c4096_i32 v30
  let c1024_i32_13 : BitVec 32 := 1024#32
  let v32 : BitVec 32 := Scalar.divsi v31 c1024_i32_13
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c0_i32_16 : BitVec 32 := 0#32
  let v38 : BitVec 1 := Scalar.cmpi .sgt c1024_i32_13 c0_i32_16
  let v39 : BitVec 32 := Scalar.extui v38
  let c0_i32_17 : BitVec 32 := 0#32
  let v40 : BitVec 1 := Scalar.cmpi .slt c1024_i32_13 c0_i32_17
  let v41 : BitVec 32 := Scalar.extui v40
  let v42 : BitVec 32 := Scalar.subi v39 v41
  let v43 : BitVec 1 := Scalar.cmpi .ne v37 v42
  let v44 : BitVec 32 := Scalar.remsi v31 c1024_i32_13
  let c0_i32_18 : BitVec 32 := 0#32
  let v45 : BitVec 1 := Scalar.cmpi .ne v44 c0_i32_18
  let v46 : BitVec 1 := Scalar.andi v43 v45
  let c1_i32_19 : BitVec 32 := 1#32
  let v47 : BitVec 32 := Scalar.subi v32 c1_i32_19
  let v48 : BitVec 32 := Scalar.select v46 v47 v32
  let c1024_i32_20 : BitVec 32 := 1024#32
  let v49 : BitVec 32 := Scalar.divsi v3 c1024_i32_20
  let c0_i32_21 : BitVec 32 := 0#32
  let v50 : BitVec 1 := Scalar.cmpi .sgt v3 c0_i32_21
  let v51 : BitVec 32 := Scalar.extui v50
  let c0_i32_22 : BitVec 32 := 0#32
  let v52 : BitVec 1 := Scalar.cmpi .slt v3 c0_i32_22
  let v53 : BitVec 32 := Scalar.extui v52
  let v54 : BitVec 32 := Scalar.subi v51 v53
  let c0_i32_23 : BitVec 32 := 0#32
  let v55 : BitVec 1 := Scalar.cmpi .sgt c1024_i32_20 c0_i32_23
  let v56 : BitVec 32 := Scalar.extui v55
  let c0_i32_24 : BitVec 32 := 0#32
  let v57 : BitVec 1 := Scalar.cmpi .slt c1024_i32_20 c0_i32_24
  let v58 : BitVec 32 := Scalar.extui v57
  let v59 : BitVec 32 := Scalar.subi v56 v58
  let v60 : BitVec 1 := Scalar.cmpi .ne v54 v59
  let v61 : BitVec 32 := Scalar.remsi v3 c1024_i32_20
  let c0_i32_25 : BitVec 32 := 0#32
  let v62 : BitVec 1 := Scalar.cmpi .ne v61 c0_i32_25
  let v63 : BitVec 1 := Scalar.andi v60 v62
  let c1_i32_26 : BitVec 32 := 1#32
  let v64 : BitVec 32 := Scalar.subi v49 c1_i32_26
  let v65 : BitVec 32 := Scalar.select v63 v64 v49
  let c0_i32_27 : BitVec 32 := 0#32
  ![v20.toNat, v48.toNat, v65.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c2_i32 : BitVec 32 := 2#32
  let v1 : BitVec 32 := Scalar.addi v0 c2_i32
  let c1024_i32 : BitVec 32 := 1024#32
  let v2 : BitVec 32 := Scalar.muli v1 c1024_i32
  let c1024_i32_0 : BitVec 32 := 1024#32
  let v3 : BitVec 32 := Scalar.muli arg1 c1024_i32_0
  let c1024_i32_1 : BitVec 32 := 1024#32
  let v4 : BitVec 32 := Scalar.divsi v2 c1024_i32_1
  let c0_i32 : BitVec 32 := 0#32
  let v5 : BitVec 1 := Scalar.cmpi .sgt v2 c0_i32
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c1024_i32_1 c0_i32_3
  let v11 : BitVec 32 := Scalar.extui v10
  let c0_i32_4 : BitVec 32 := 0#32
  let v12 : BitVec 1 := Scalar.cmpi .slt c1024_i32_1 c0_i32_4
  let v13 : BitVec 32 := Scalar.extui v12
  let v14 : BitVec 32 := Scalar.subi v11 v13
  let v15 : BitVec 1 := Scalar.cmpi .ne v9 v14
  let v16 : BitVec 32 := Scalar.remsi v2 c1024_i32_1
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1024_i32_6 : BitVec 32 := 1024#32
  let c0_i32_7 : BitVec 32 := 0#32
  let v21 : BitVec 1 := Scalar.cmpi .eq c1024_i32_6 c0_i32_7
  let c1_i32_8 : BitVec 32 := 1#32
  let v22 : BitVec 32 := Scalar.select v21 c1_i32_8 c1024_i32_6
  let v23 : BitVec 32 := Scalar.remsi v2 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c4096_i32 : BitVec 32 := 4096#32
  let v31 : BitVec 32 := Scalar.addi c4096_i32 v30
  let c1024_i32_12 : BitVec 32 := 1024#32
  let v32 : BitVec 32 := Scalar.divsi v31 c1024_i32_12
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c0_i32_15 : BitVec 32 := 0#32
  let v38 : BitVec 1 := Scalar.cmpi .sgt c1024_i32_12 c0_i32_15
  let v39 : BitVec 32 := Scalar.extui v38
  let c0_i32_16 : BitVec 32 := 0#32
  let v40 : BitVec 1 := Scalar.cmpi .slt c1024_i32_12 c0_i32_16
  let v41 : BitVec 32 := Scalar.extui v40
  let v42 : BitVec 32 := Scalar.subi v39 v41
  let v43 : BitVec 1 := Scalar.cmpi .ne v37 v42
  let v44 : BitVec 32 := Scalar.remsi v31 c1024_i32_12
  let c0_i32_17 : BitVec 32 := 0#32
  let v45 : BitVec 1 := Scalar.cmpi .ne v44 c0_i32_17
  let v46 : BitVec 1 := Scalar.andi v43 v45
  let c1_i32_18 : BitVec 32 := 1#32
  let v47 : BitVec 32 := Scalar.subi v32 c1_i32_18
  let v48 : BitVec 32 := Scalar.select v46 v47 v32
  let c1024_i32_19 : BitVec 32 := 1024#32
  let v49 : BitVec 32 := Scalar.divsi v3 c1024_i32_19
  let c0_i32_20 : BitVec 32 := 0#32
  let v50 : BitVec 1 := Scalar.cmpi .sgt v3 c0_i32_20
  let v51 : BitVec 32 := Scalar.extui v50
  let c0_i32_21 : BitVec 32 := 0#32
  let v52 : BitVec 1 := Scalar.cmpi .slt v3 c0_i32_21
  let v53 : BitVec 32 := Scalar.extui v52
  let v54 : BitVec 32 := Scalar.subi v51 v53
  let c0_i32_22 : BitVec 32 := 0#32
  let v55 : BitVec 1 := Scalar.cmpi .sgt c1024_i32_19 c0_i32_22
  let v56 : BitVec 32 := Scalar.extui v55
  let c0_i32_23 : BitVec 32 := 0#32
  let v57 : BitVec 1 := Scalar.cmpi .slt c1024_i32_19 c0_i32_23
  let v58 : BitVec 32 := Scalar.extui v57
  let v59 : BitVec 32 := Scalar.subi v56 v58
  let v60 : BitVec 1 := Scalar.cmpi .ne v54 v59
  let v61 : BitVec 32 := Scalar.remsi v3 c1024_i32_19
  let c0_i32_24 : BitVec 32 := 0#32
  let v62 : BitVec 1 := Scalar.cmpi .ne v61 c0_i32_24
  let v63 : BitVec 1 := Scalar.andi v60 v62
  let c1_i32_25 : BitVec 32 := 1#32
  let v64 : BitVec 32 := Scalar.subi v49 c1_i32_25
  let v65 : BitVec 32 := Scalar.select v63 v64 v49
  let c0_i32_26 : BitVec 32 := 0#32
  ![v20.toNat, v48.toNat, v65.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c3_i32 : BitVec 32 := 3#32
  let v1 : BitVec 32 := Scalar.addi v0 c3_i32
  let c1024_i32 : BitVec 32 := 1024#32
  let v2 : BitVec 32 := Scalar.muli v1 c1024_i32
  let c1024_i32_0 : BitVec 32 := 1024#32
  let v3 : BitVec 32 := Scalar.muli arg1 c1024_i32_0
  let c1024_i32_1 : BitVec 32 := 1024#32
  let v4 : BitVec 32 := Scalar.divsi v2 c1024_i32_1
  let c0_i32 : BitVec 32 := 0#32
  let v5 : BitVec 1 := Scalar.cmpi .sgt v2 c0_i32
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c0_i32_3 : BitVec 32 := 0#32
  let v10 : BitVec 1 := Scalar.cmpi .sgt c1024_i32_1 c0_i32_3
  let v11 : BitVec 32 := Scalar.extui v10
  let c0_i32_4 : BitVec 32 := 0#32
  let v12 : BitVec 1 := Scalar.cmpi .slt c1024_i32_1 c0_i32_4
  let v13 : BitVec 32 := Scalar.extui v12
  let v14 : BitVec 32 := Scalar.subi v11 v13
  let v15 : BitVec 1 := Scalar.cmpi .ne v9 v14
  let v16 : BitVec 32 := Scalar.remsi v2 c1024_i32_1
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1024_i32_6 : BitVec 32 := 1024#32
  let c0_i32_7 : BitVec 32 := 0#32
  let v21 : BitVec 1 := Scalar.cmpi .eq c1024_i32_6 c0_i32_7
  let c1_i32_8 : BitVec 32 := 1#32
  let v22 : BitVec 32 := Scalar.select v21 c1_i32_8 c1024_i32_6
  let v23 : BitVec 32 := Scalar.remsi v2 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c4096_i32 : BitVec 32 := 4096#32
  let v31 : BitVec 32 := Scalar.addi c4096_i32 v30
  let c1024_i32_12 : BitVec 32 := 1024#32
  let v32 : BitVec 32 := Scalar.divsi v31 c1024_i32_12
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c0_i32_15 : BitVec 32 := 0#32
  let v38 : BitVec 1 := Scalar.cmpi .sgt c1024_i32_12 c0_i32_15
  let v39 : BitVec 32 := Scalar.extui v38
  let c0_i32_16 : BitVec 32 := 0#32
  let v40 : BitVec 1 := Scalar.cmpi .slt c1024_i32_12 c0_i32_16
  let v41 : BitVec 32 := Scalar.extui v40
  let v42 : BitVec 32 := Scalar.subi v39 v41
  let v43 : BitVec 1 := Scalar.cmpi .ne v37 v42
  let v44 : BitVec 32 := Scalar.remsi v31 c1024_i32_12
  let c0_i32_17 : BitVec 32 := 0#32
  let v45 : BitVec 1 := Scalar.cmpi .ne v44 c0_i32_17
  let v46 : BitVec 1 := Scalar.andi v43 v45
  let c1_i32_18 : BitVec 32 := 1#32
  let v47 : BitVec 32 := Scalar.subi v32 c1_i32_18
  let v48 : BitVec 32 := Scalar.select v46 v47 v32
  let c1024_i32_19 : BitVec 32 := 1024#32
  let v49 : BitVec 32 := Scalar.divsi v3 c1024_i32_19
  let c0_i32_20 : BitVec 32 := 0#32
  let v50 : BitVec 1 := Scalar.cmpi .sgt v3 c0_i32_20
  let v51 : BitVec 32 := Scalar.extui v50
  let c0_i32_21 : BitVec 32 := 0#32
  let v52 : BitVec 1 := Scalar.cmpi .slt v3 c0_i32_21
  let v53 : BitVec 32 := Scalar.extui v52
  let v54 : BitVec 32 := Scalar.subi v51 v53
  let c0_i32_22 : BitVec 32 := 0#32
  let v55 : BitVec 1 := Scalar.cmpi .sgt c1024_i32_19 c0_i32_22
  let v56 : BitVec 32 := Scalar.extui v55
  let c0_i32_23 : BitVec 32 := 0#32
  let v57 : BitVec 1 := Scalar.cmpi .slt c1024_i32_19 c0_i32_23
  let v58 : BitVec 32 := Scalar.extui v57
  let v59 : BitVec 32 := Scalar.subi v56 v58
  let v60 : BitVec 1 := Scalar.cmpi .ne v54 v59
  let v61 : BitVec 32 := Scalar.remsi v3 c1024_i32_19
  let c0_i32_24 : BitVec 32 := 0#32
  let v62 : BitVec 1 := Scalar.cmpi .ne v61 c0_i32_24
  let v63 : BitVec 1 := Scalar.andi v60 v62
  let c1_i32_25 : BitVec 32 := 1#32
  let v64 : BitVec 32 := Scalar.subi v49 c1_i32_25
  let v65 : BitVec 32 := Scalar.select v63 v64 v49
  let c0_i32_26 : BitVec 32 := 0#32
  ![v20.toNat, v48.toNat, v65.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== SsmOutPlainIdeal.lean ====
abbrev S4096x4096 : Shape := ⟨2, ![4096, 4096]⟩
abbrev S4096x8192 : Shape := ⟨2, ![4096, 8192]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .f32⟩
  | .hbm, ⟨3, _⟩ => ⟨S4096x8192, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩

abbrev nD : Nat := 1
abbrev τ : Topo := Topo.v7x

variable {F : FTy → Type} [FloatOps F]
-- ==== Proof.Reals.lean ====
/- Vectors of real numbers: the vectors whose elements are real, named by a function of natural coordinates, and what each
   operation makes of them at the extended reals. -/
module

public import proofs.«01_k».proof.Proof.Gen.KernelIdeal
public import Idealize.ShloMosaic.Lib.Pointwise
public import Idealize.ShloMosaic.Lib.Pipeline.Value

@[expose] public section

set_option maxRecDepth 16384

noncomputable section

namespace Cert.Attn

open Idealize.ShloMosaic

/-- The matrix of the real numbers `g r c`. -/
def up2 (n m : ℕ) (g : ℕ → ℕ → ℝ) : (⟨2, ![n, m]⟩ : Shape).Idx → EReal := fun j => ((g (j 0).val (j 1).val : ℝ) : EReal)

/-- The array of rank three of the real numbers `g p r c`. -/
def up3 (l n m : ℕ) (g : ℕ → ℕ → ℕ → ℝ) : (⟨3, ![l, n, m]⟩ : Shape).Idx → EReal :=
  fun j => ((g (j 0).val (j 1).val (j 2).val : ℝ) : EReal)

/-- The vector of the real numbers `g r`. -/
def up1 (n : ℕ) (g : ℕ → ℝ) : (⟨1, ![n]⟩ : Shape).Idx → EReal := fun j => ((g (j 0).val : ℝ) : EReal)

theorem up2_congr {n m : ℕ} {f g : ℕ → ℕ → ℝ} (h : ∀ r < n, ∀ c < m, f r c = g r c) : up2 n m f = up2 n m g := by
  funext j
  exact congrArg _ (h _ (j 0).isLt _ (j 1).isLt)

theorem up3_congr {l n m : ℕ} {f g : ℕ → ℕ → ℕ → ℝ} (h : ∀ p < l, ∀ r < n, ∀ c < m, f p r c = g p r c) :
    up3 l n m f = up3 l n m g := by
  funext j
  exact congrArg _ (h _ (j 0).isLt _ (j 1).isLt _ (j 2).isLt)

section ops
variable {n m : ℕ} {φ : FTy} (f g : ℕ → ℕ → ℝ)

theorem addf_up2 : addf (F := Ideal) (φ := φ) (up2 n m f) (up2 n m g) = up2 n m (fun r c => f r c + g r c) := by
  funext j; exact (EReal.coe_add _ _).symm

theorem subf_up2 : subf (F := Ideal) (φ := φ) (up2 n m f) (up2 n m g) = up2 n m (fun r c => f r c - g r c) := by
  funext j; exact (EReal.coe_sub _ _).symm

theorem mulf_up2 : mulf (F := Ideal) (φ := φ) (up2 n m f) (up2 n m g) = up2 n m (fun r c => f r c * g r c) := by
  funext j; exact (EReal.coe_mul _ _).symm

theorem minimumf_up2 : minimumf (F := Ideal) (φ := φ) (up2 n m f) (up2 n m g) = up2 n m (fun r c => min (f r c) (g r c)) := by
  funext j; exact (EReal.coe_strictMono.monotone.map_min).symm

theorem absf_up2 : absf (F := Ideal) (φ := φ) (up2 n m f) = up2 n m (fun r c => |f r c|) := by
  funext j
  show max ((f _ _ : ℝ) : EReal) (-((f _ _ : ℝ) : EReal)) = ((|f _ _| : ℝ) : EReal)
  rw [← EReal.coe_neg, ← EReal.coe_strictMono.monotone.map_max]; rfl

theorem exp_up2 : exp (F := Ideal) (φ := φ) (up2 n m f) = up2 n m (fun r c => Real.exp (f r c)) := by
  funext j; exact Ideal.exp_coe _

theorem log_up2 : log (F := Ideal) (φ := φ) (up2 n m fun r c => 1 + Real.exp (f r c)) = up2 n m (fun r c => Real.log (1 + Real.exp (f r c))) := by
  funext j
  refine (Ideal.log_coe _).trans (if_neg (not_le.mpr ?_))
  positivity

theorem truncf_up2 {ψ : FTy} (h : FTy.bits ψ < FTy.bits φ) : truncf (F := Ideal) ψ (φ := φ) (up2 n m f) h = up2 n m f := rfl
theorem extf_up2 {ψ : FTy} (h : FTy.bits φ < FTy.bits ψ) : extf (F := Ideal) ψ (φ := φ) (up2 n m f) h = up2 n m f := rfl

theorem ofBits_zero : (Scalar.ofBits (F := Ideal) .f32 0x00000000#32) = ((0 : ℝ) : EReal) := by
  show Ideal.ofBits .f32 _ = _
  rw [Ideal.ofBits_zero_f32]; rfl
theorem ofBits_one : (Scalar.ofBits (F := Ideal) .f32 0x3F800000#32) = ((1 : ℝ) : EReal) := by
  show Ideal.ofBits .f32 _ = _
  rw [Ideal.ofBits_one_f32]; rfl

/-- The scale of the scores, as the programs' constant has it. -/
def scl : ℝ := 11863283 / 134217728

theorem ofBits_scl : (Scalar.ofBits (F := Ideal) .f32 0x3DB504F3#32) = ((scl : ℝ) : EReal) := by
  show Ideal.ofBits .f32 _ = _
  simp [Ideal.ofBits, Ideal.ieee, scl, -EReal.coe_mul]
  norm_num [← EReal.coe_mul]

theorem broadcast_up2 (x : ℝ) : broadcast (⟨2, ![n, m]⟩ : Shape) (x : EReal) = up2 n m (fun _ _ => x) := rfl

theorem constant_zero_up2 : (constant (F := Ideal) (⟨2, ![n, m]⟩ : Shape) .f32 0x00000000#32) = up2 n m (fun _ _ => 0) := by
  funext j; exact ofBits_zero

theorem coe_sum {ι : Type} (S : Finset ι) (f : ι → ℝ) : ((∑ i ∈ S, f i : ℝ) : EReal) = ∑ i ∈ S, (f i : EReal) := by
  classical
  refine Finset.induction_on S (by simp) fun i S hi ih => ?_
  rw [Finset.sum_insert hi, Finset.sum_insert hi, EReal.coe_add, ih]

/-- A finite sum of real products, over the positions below `K`. -/
theorem sum_coe_mul (K : ℕ) (a b : ℕ → ℝ) :
    (∑ k : Fin K, ((a k.val : ℝ) : EReal) * ((b k.val : ℝ) : EReal)) = ((∑ k ∈ Finset.range K, a k * b k : ℝ) : EReal) := by
  rw [← Fin.sum_univ_eq_sum_range (fun k => a k * b k), coe_sum]
  exact Finset.sum_congr rfl fun k _ => (EReal.coe_mul _ _).symm

end ops

open Cert.KernelIdeal

section products
variable {φ₁ φ₂ : FTy} (a b e : ℕ → ℕ → ℝ)

theorem matmul_nt_512 : matmul (F := Ideal) (φ₁ := φ₁) (φ₂ := φ₂) dot_S512x128_S256x128_S512x256_1_1_0_0_n_n none (up2 512 128 a) (up2 256 128 b)
    (up2 512 256 e) = up2 512 256 (fun r s => e r s + ∑ d ∈ Finset.range 128, a r d * b s d) := by
  funext j
  pointwise
  exact (congrArg (((e (j 0).val (j 1).val : ℝ) : EReal) + ·) (sum_coe_mul 128 (fun d => a (j 0).val d) (fun d => b (j 1).val d))).trans
    (EReal.coe_add _ _).symm

theorem matmul_tri_512 : matmul (F := Ideal) (φ₁ := φ₁) (φ₂ := φ₂) dot_S512x256_S256x256_S512x256_1_0_0_1_n_n none (up2 512 256 a) (up2 256 256 b)
    (up2 512 256 e) = up2 512 256 (fun r s => e r s + ∑ d ∈ Finset.range 256, a r d * b d s) := by
  funext j
  pointwise
  exact (congrArg (((e (j 0).val (j 1).val : ℝ) : EReal) + ·) (sum_coe_mul 256 (fun d => a (j 0).val d) (fun d => b d (j 1).val))).trans
    (EReal.coe_add _ _).symm

theorem matmul_nn_512 : matmul (F := Ideal) (φ₁ := φ₁) (φ₂ := φ₂) dot_S512x256_S256x128_S512x128_1_0_0_1_n_n none (up2 512 256 a) (up2 256 128 b)
    (up2 512 128 e) = up2 512 128 (fun r s => e r s + ∑ d ∈ Finset.range 256, a r d * b d s) := by
  funext j
  pointwise
  exact (congrArg (((e (j 0).val (j 1).val : ℝ) : EReal) + ·) (sum_coe_mul 256 (fun d => a (j 0).val d) (fun d => b d (j 1).val))).trans
    (EReal.coe_add _ _).symm

theorem matmul_tn_512 : matmul (F := Ideal) (φ₁ := φ₁) (φ₂ := φ₂) dot_S512x256_S512x128_S256x128_0_0_1_1_n_n none (up2 512 256 a) (up2 512 128 b)
    (up2 256 128 e) = up2 256 128 (fun r s => e r s + ∑ d ∈ Finset.range 512, a d r * b d s) := by
  funext j
  pointwise
  exact (congrArg (((e (j 0).val (j 1).val : ℝ) : EReal) + ·) (sum_coe_mul 512 (fun d => a d (j 0).val) (fun d => b d (j 1).val))).trans
    (EReal.coe_add _ _).symm

theorem matmul_nt_256 : matmul (F := Ideal) (φ₁ := φ₁) (φ₂ := φ₂) dot_S256x128_S256x128_S256x256_1_1_0_0_n_n none (up2 256 128 a) (up2 256 128 b)
    (up2 256 256 e) = up2 256 256 (fun r s => e r s + ∑ d ∈ Finset.range 128, a r d * b s d) := by
  funext j
  pointwise
  exact (congrArg (((e (j 0).val (j 1).val : ℝ) : EReal) + ·) (sum_coe_mul 128 (fun d => a (j 0).val d) (fun d => b (j 1).val d))).trans
    (EReal.coe_add _ _).symm

theorem matmul_tri_256 : matmul (F := Ideal) (φ₁ := φ₁) (φ₂ := φ₂) dot_S256x256_S256x256_S256x256_1_0_0_1_n_n none (up2 256 256 a) (up2 256 256 b)
    (up2 256 256 e) = up2 256 256 (fun r s => e r s + ∑ d ∈ Finset.range 256, a r d * b d s) := by
  funext j
  pointwise
  exact (congrArg (((e (j 0).val (j 1).val : ℝ) : EReal) + ·) (sum_coe_mul 256 (fun d => a (j 0).val d) (fun d => b d (j 1).val))).trans
    (EReal.coe_add _ _).symm

theorem matmul_nn_256 : matmul (F := Ideal) (φ₁ := φ₁) (φ₂ := φ₂) dot_S256x256_S256x128_S256x128_1_0_0_1_n_n none (up2 256 256 a) (up2 256 128 b)
    (up2 256 128 e) = up2 256 128 (fun r s => e r s + ∑ d ∈ Finset.range 256, a r d * b d s) := by
  funext j
  pointwise
  exact (congrArg (((e (j 0).val (j 1).val : ℝ) : EReal) + ·) (sum_coe_mul 256 (fun d => a (j 0).val d) (fun d => b d (j 1).val))).trans
    (EReal.coe_add _ _).symm

theorem matmul_tn_256 : matmul (F := Ideal) (φ₁ := φ₁) (φ₂ := φ₂) dot_S256x256_S256x128_S256x128_0_0_1_1_n_n none (up2 256 256 a) (up2 256 128 b)
    (up2 256 128 e) = up2 256 128 (fun r s => e r s + ∑ d ∈ Finset.range 256, a d r * b d s) := by
  funext j
  pointwise
  exact (congrArg (((e (j 0).val (j 1).val : ℝ) : EReal) + ·) (sum_coe_mul 256 (fun d => a d (j 0).val) (fun d => b d (j 1).val))).trans
    (EReal.coe_add _ _).symm

end products

end Cert.Attn

end
-- ==== Proof.Reals2.lean ====
module

public import proofs.«01_k».proof.Proof.Reals
public import proofs.«01_k».proof.Proof.Gen.KernelIdeal.Skeleton

@[expose] public section

set_option maxRecDepth 16384

noncomputable section

namespace Cert.Attn

open Idealize.ShloMosaic Cert.KernelIdeal Cert.KernelIdeal.Gen

/-- The mask of the coordinates with `p r c`. -/
def mk2 (n m : ℕ) (p : ℕ → ℕ → Prop) [∀ r c, Decidable (p r c)] : IVec ⟨2, ![n, m]⟩ 1 :=
  fun j => if p (j 0).val (j 1).val then 1#1 else 0#1

theorem select_up2 {n m : ℕ} (p : ℕ → ℕ → Prop) [∀ r c, Decidable (p r c)] (f g : ℕ → ℕ → ℝ) :
    select (α := EReal) (mk2 n m p) (up2 n m f) (up2 n m g) = up2 n m (fun r c => if p r c then f r c else g r c) := by
  funext j
  by_cases h : p (j 0).val (j 1).val <;> simp [select, Scalar.select, mk2, up2, h]

theorem sum_coe (K : ℕ) (a : ℕ → ℝ) : (∑ k : Fin K, ((a k.val : ℝ) : EReal)) = ((∑ k ∈ Finset.range K, a k : ℝ) : EReal) := by
  rw [← Fin.sum_univ_eq_sum_range, coe_sum]

theorem cmpi_slt_ofNat (a b : ℕ) (ha : a < 2147483648) (hb : b < 2147483648) :
    IntOp.cmpi .slt (BitVec.ofNat 32 a) (BitVec.ofNat 32 b) = if a < b then 1#1 else 0#1 := by
  have e : (BitVec.ofNat 32 a).slt (BitVec.ofNat 32 b) = decide (a < b) := by
    simp only [BitVec.slt, BitVec.toInt, BitVec.toNat_ofNat]
    rw [Nat.mod_eq_of_lt (by omega), Nat.mod_eq_of_lt (by omega), if_pos (by omega), if_pos (by omega)]
    simp
  by_cases h : a < b <;> simp [IntOp.cmpi, e, h]

theorem cmpi_sle_ofNat (a b : ℕ) (ha : a < 2147483648) (hb : b < 2147483648) :
    IntOp.cmpi .sle (BitVec.ofNat 32 a) (BitVec.ofNat 32 b) = if a ≤ b then 1#1 else 0#1 := by
  have e : (BitVec.ofNat 32 a).sle (BitVec.ofNat 32 b) = decide (a ≤ b) := by
    simp only [BitVec.sle, BitVec.toInt, BitVec.toNat_ofNat]
    rw [Nat.mod_eq_of_lt (by omega), Nat.mod_eq_of_lt (by omega), if_pos (by omega), if_pos (by omega)]
    simp
  by_cases h : a ≤ b <;> simp [IntOp.cmpi, e, h]

theorem tri_le : k0_pay129 (F := Ideal) = up2 256 256 (fun s c => if s ≤ c then 1 else 0) := by
  have e : cmpi .sle (iota .tc S256x256 32 [0] iota_S256x256_d0_w32) (iota .tc S256x256 32 [1] iota_S256x256_d1_w32)
      = mk2 256 256 (fun s c => s ≤ c) := by
    funext j
    have h0 : (j 0).val < 256 := (j 0).isLt
    have h1 : (j 1).val < 256 := (j 1).isLt
    pointwise
    exact cmpi_sle_ofNat _ _ (lt_trans h0 (by decide)) (lt_trans h1 (by decide))
  unfold k0_pay129
  dsimp only
  rw [e]
  simp only [truncf_up2, ofBits_zero, ofBits_one, broadcast_up2, select_up2]

theorem tri_lt : k0_pay130 (F := Ideal) = up2 256 256 (fun s c => if s < c then 1 else 0) := by
  have e : cmpi .slt (iota .tc S256x256 32 [0] iota_S256x256_d0_w32) (iota .tc S256x256 32 [1] iota_S256x256_d1_w32)
      = mk2 256 256 (fun s c => s < c) := by
    funext j
    have h0 : (j 0).val < 256 := (j 0).isLt
    have h1 : (j 1).val < 256 := (j 1).isLt
    pointwise
    exact cmpi_slt_ofNat _ _ (lt_trans h0 (by decide)) (lt_trans h1 (by decide))
  unfold k0_pay130
  dsimp only
  rw [e]
  simp only [truncf_up2, ofBits_zero, ofBits_one, broadcast_up2, select_up2]

theorem rowsum_512 (f : ℕ → ℕ → ℝ) : multiReduction (F := Ideal) (φ := .f32) .add [1] S512 (up2 512 256 f) 0x00000000#32 reduces_S512x256_S512 (.inl rfl) rfl
    = up1 512 (fun r => ∑ c ∈ Finset.range 256, f r c) := by
  funext j
  pointwise
  exact sum_coe 256 fun c => f (j 0).val c

theorem shapeCast_col_512 (f : ℕ → ℝ) : shapeCast S512x1 (up1 512 f) shapeCasts_S512_S512x1 = up2 512 1 (fun r _ => f r) := by
  funext j
  pointwise
  rfl

theorem shapeCast_drop_512 (f : ℕ → ℕ → ℕ → ℝ) :
    shapeCast S512x1 (up3 1 512 1 f) shapeCasts_S1x512x1_S512x1 = up2 512 1 (fun r _ => f 0 r 0) := by
  funext j
  pointwise
  rfl

theorem shapeCast_add_512 (f : ℕ → ℕ → ℝ) :
    shapeCast S1x512x1 (up2 512 1 f) shapeCasts_S512x1_S1x512x1 = up3 1 512 1 (fun _ r _ => f r 0) := by
  funext j
  pointwise
  rfl

theorem broadcastTo_512 (f : ℕ → ℕ → ℝ) :
    broadcastTo S512x256 (up2 512 1 f) broadcasts_S512x1_S512x256 = up2 512 256 (fun r _ => f r 0) := by
  funext j
  pointwise
  rfl

theorem shapeCast_same_512 (f : ℕ → ℕ → ℝ) : shapeCast S512x128 (up2 512 128 f) shapeCasts_S512x128_S512x128 = up2 512 128 f := by
  funext j
  pointwise

theorem rowsum_256 (f : ℕ → ℕ → ℝ) : multiReduction (F := Ideal) (φ := .f32) .add [1] S256 (up2 256 256 f) 0x00000000#32 reduces_S256x256_S256 (.inl rfl) rfl
    = up1 256 (fun r => ∑ c ∈ Finset.range 256, f r c) := by
  funext j
  pointwise
  exact sum_coe 256 fun c => f (j 0).val c

theorem shapeCast_col_256 (f : ℕ → ℝ) : shapeCast S256x1 (up1 256 f) shapeCasts_S256_S256x1 = up2 256 1 (fun r _ => f r) := by
  funext j
  pointwise
  rfl

theorem shapeCast_drop_256 (f : ℕ → ℕ → ℕ → ℝ) :
    shapeCast S256x1 (up3 1 256 1 f) shapeCasts_S1x256x1_S256x1 = up2 256 1 (fun r _ => f 0 r 0) := by
  funext j
  pointwise
  rfl

theorem shapeCast_add_256 (f : ℕ → ℕ → ℝ) :
    shapeCast S1x256x1 (up2 256 1 f) shapeCasts_S256x1_S1x256x1 = up3 1 256 1 (fun _ r _ => f r 0) := by
  funext j
  pointwise
  rfl

theorem broadcastTo_256 (f : ℕ → ℕ → ℝ) :
    broadcastTo S256x256 (up2 256 1 f) broadcasts_S256x1_S256x256 = up2 256 256 (fun r _ => f r 0) := by
  funext j
  pointwise
  rfl

theorem shapeCast_same_256 (f : ℕ → ℕ → ℝ) : shapeCast S256x128 (up2 256 128 f) shapeCasts_S256x128_S256x128 = up2 256 128 f := by
  funext j
  pointwise

theorem mask0 (i : grid0.Coords) : k0_pay143 (BitVec.ofNat 32 (i 2).val) (k0_pay131 i) (iota Kind.tc S512x256 32 [1] iota_S512x256_d1_w32)
    = mk2 512 256 (fun r c => 512 * (i 2).val + c < 512 * (i 2).val + r) := by
  funext j
  have h : (i 2).val < 4 := (i 2).isLt
  have h0 : (j 0).val < 512 := (j 0).isLt
  have h1 : (j 1).val < 256 := (j 1).isLt
  unfold k0_pay143 k0_pay131
  pointwise
  simp only [IntOp.addi, Scalar.addi, Scalar.muli, IntOp.muli, ← BitVec.ofNat_add, ← BitVec.ofNat_mul]
  refine (cmpi_slt_ofNat _ _ (by omega) (by omega)).trans ?_
  unfold mk2
  exact if_congr (by omega) rfl rfl

theorem mask1 (i : grid0.Coords) : k0_pay157 (k0_pay131 i) (iota Kind.tc S512x256 32 [1] iota_S512x256_d1_w32)
      (Scalar.addi (Scalar.muli (BitVec.ofNat 32 (i 2).val) 2#32) 1#32)
    = mk2 256 256 (fun r c => 512 * (i 2).val + 256 + c < 512 * (i 2).val + (256 + r)) := by
  funext j
  have h : (i 2).val < 4 := (i 2).isLt
  have h0 : (j 0).val < 256 := (j 0).isLt
  have h1 : (j 1).val < 256 := (j 1).isLt
  unfold k0_pay157 k0_pay131
  pointwise
  simp only [IntOp.addi, Scalar.addi, Scalar.muli, IntOp.muli, ← BitVec.ofNat_add, ← BitVec.ofNat_mul]
  refine (cmpi_slt_ofNat _ _ (by omega) (by omega)).trans ?_
  unfold mk2
  exact if_congr (by omega) rfl rfl

end Cert.Attn

end
-- ==== Proof.Tile.lean ====
/- One tile of the backward pass, as a function of the vectors the body loads: the scores, the weights, the gradient of the
   scores and what the tile adds to each accumulator, for the whole 512 rows of a block with no mask, for the 512 rows under the
   causal mask and for the last 256 rows under it; and each of them at vectors of real numbers. -/
module

public import proofs.«01_k».proof.Proof.Reals2

@[expose] public section

set_option maxRecDepth 16384

noncomputable section

namespace Cert.Attn

open Idealize.ShloMosaic Cert.KernelIdeal Cert.KernelIdeal.Gen

/-- The logarithm of the logistic function, in the stable form. -/
def lsg (x : ℝ) : ℝ := min x 0 - Real.log (1 + Real.exp (0 - |x|))

/-- The scores of a tile. -/
def rz (Q K : ℕ → ℕ → ℝ) (r s : ℕ) : ℝ := (0 + ∑ d ∈ Finset.range 128, Q r d * K s d) * scl

/-- The inner products of the cotangent's rows with the values. -/
def rdw (D V : ℕ → ℕ → ℝ) (r s : ℕ) : ℝ := 0 + ∑ d ∈ Finset.range 128, D r d * V s d

/-- The product with a triangle of ones, in two parts: the rounded matrix and what rounding left, which is zero. -/
def rcum (B T : ℕ → ℕ → ℝ) (r s : ℕ) : ℝ :=
  (0 + ∑ c ∈ Finset.range 256, B r c * T c s) + (0 + ∑ c ∈ Finset.range 256, (B r c - B r c) * T c s)

def rle (c s : ℕ) : ℝ := if c ≤ s then 1 else 0
def rlt (c s : ℕ) : ℝ := if c < s then 1 else 0

section rows_512

def cz512 (q : FVec Ideal S512x128 .bf16) (k : FVec Ideal S256x128 .bf16) : FVec Ideal S512x256 .f32 :=
  mulf (matmul dot_S512x128_S256x128_S512x256_1_1_0_0_n_n none q k (constant S512x256 .f32 0x00000000#32)) (broadcast S512x256 (Scalar.ofBits (F := Ideal) .f32 0x3DB504F3#32))

def cdw512 (d : FVec Ideal S512x128 .bf16) (v : FVec Ideal S256x128 .bf16) : FVec Ideal S512x256 .f32 :=
  matmul dot_S512x128_S256x128_S512x256_1_1_0_0_n_n none d v (constant S512x256 .f32 0x00000000#32)

def ca512 (z : FVec Ideal S512x256 .f32) : FVec Ideal S512x256 .f32 :=
  subf (minimumf z (broadcast S512x256 (Scalar.ofBits (F := Ideal) .f32 0x00000000#32))) (log (addf (broadcast S512x256 (Scalar.ofBits (F := Ideal) .f32 0x3F800000#32)) (exp (subf (broadcast S512x256 (Scalar.ofBits (F := Ideal) .f32 0x00000000#32)) (absf z)))))

def ccum512 (b : FVec Ideal S512x256 .f32) (t : FVec Ideal S256x256 .bf16) : FVec Ideal S512x256 .f32 :=
  addf (matmul dot_S512x256_S256x256_S512x256_1_0_0_1_n_n none (truncf .bf16 b bitsLt_bf16_f32) t (constant S512x256 .f32 0x00000000#32))
    (matmul dot_S512x256_S256x256_S512x256_1_0_0_1_n_n none (truncf .bf16 (subf b (extf .f32 (truncf .bf16 b bitsLt_bf16_f32) bitsLt_bf16_f32)) bitsLt_bf16_f32) t
      (constant S512x256 .f32 0x00000000#32))

/-- The sum of a tile's rows, as a column. -/
def csum512 (b : FVec Ideal S512x256 .f32) : FVec Ideal S512x1 .f32 :=
  shapeCast S512x1 (multiReduction .add [1] S512 b 0x00000000#32 reduces_S512x256_S512 (.inl rfl) rfl) shapeCasts_S512_S512x1

theorem cz512_up (Q K : ℕ → ℕ → ℝ) : cz512 (up2 512 128 Q) (up2 256 128 K) = up2 512 256 (rz Q K) := by
  unfold cz512
  simp only [constant_zero_up2, ofBits_scl, broadcast_up2, matmul_nt_512, mulf_up2]
  rfl

theorem cdw512_up (D V : ℕ → ℕ → ℝ) : cdw512 (up2 512 128 D) (up2 256 128 V) = up2 512 256 (rdw D V) := by
  unfold cdw512
  simp only [constant_zero_up2, matmul_nt_512]
  rfl

theorem ca512_up (Z : ℕ → ℕ → ℝ) : ca512 (up2 512 256 Z) = up2 512 256 (fun r s => lsg (Z r s)) := by
  unfold ca512
  simp only [ofBits_zero, ofBits_one, broadcast_up2, minimumf_up2, absf_up2, subf_up2, exp_up2, addf_up2, log_up2]
  rfl

theorem ccum512_up (B T : ℕ → ℕ → ℝ) : ccum512 (up2 512 256 B) (up2 256 256 T) = up2 512 256 (rcum B T) := by
  unfold ccum512
  simp only [constant_zero_up2, truncf_up2, extf_up2, subf_up2, matmul_tri_512, addf_up2]
  rfl

theorem csum512_up (B : ℕ → ℕ → ℝ) : csum512 (up2 512 256 B) = up2 512 1 (fun r _ => ∑ c ∈ Finset.range 256, B r c) := by
  exact (congrArg (fun x => shapeCast S512x1 x shapeCasts_S512_S512x1) (rowsum_512 B)).trans (shapeCast_col_512 _)

end rows_512

def rbm (p : ℕ → ℕ → Prop) [∀ r c, Decidable (p r c)] (Q K : ℕ → ℕ → ℝ) (r s : ℕ) : ℝ := if p r s then lsg (rz Q K r s) - rz Q K r s else 0

def rwm (p : ℕ → ℕ → Prop) [∀ r c, Decidable (p r c)] (Q K : ℕ → ℕ → ℝ) (R : ℕ → ℝ) (r s : ℕ) : ℝ :=
  if p r s then Real.exp (lsg (rz Q K r s) + (R r - rcum (rbm p Q K) rle r s)) else 0

def rdlm (p : ℕ → ℕ → Prop) [∀ r c, Decidable (p r c)] (Q K D V : ℕ → ℕ → ℝ) (R : ℕ → ℝ) (r s : ℕ) : ℝ := rdw D V r s * rwm p Q K R r s

def rdzm (p : ℕ → ℕ → Prop) [∀ r c, Decidable (p r c)] (Q K D V : ℕ → ℕ → ℝ) (R P : ℕ → ℝ) (r s : ℕ) : ℝ :=
  (if p r s then rdlm p Q K D V R r s * (1 - Real.exp (lsg (rz Q K r s))) - Real.exp (lsg (rz Q K r s)) * (P r + rcum (rdlm p Q K D V R) rlt r s) else 0) * scl

section tile_512
variable (m : IVec S512x256 1) (q d : FVec Ideal S512x128 .bf16) (k v : FVec Ideal S256x128 .bf16) (rem swept : FVec Ideal S512x1 .f32)

def cb512 : FVec Ideal S512x256 .f32 := select m (subf (ca512 (cz512 q k)) (cz512 q k)) (broadcast S512x256 (Scalar.ofBits (F := Ideal) .f32 0x00000000#32))

def cw512 : FVec Ideal S512x256 .f32 :=
  select m (exp (addf (ca512 (cz512 q k)) (subf (broadcastTo S512x256 rem broadcasts_S512x1_S512x256) (ccum512 (cb512 m q k) k0_pay129)))) (broadcast S512x256 (Scalar.ofBits (F := Ideal) .f32 0x00000000#32))

def cdl512 : FVec Ideal S512x256 .f32 := mulf (cdw512 d v) (cw512 m q k rem)

def cdz512 : FVec Ideal S512x256 .bf16 :=
  truncf .bf16 (mulf (select m (subf (mulf (cdl512 m q d k v rem) (subf (broadcast S512x256 (Scalar.ofBits (F := Ideal) .f32 0x3F800000#32)) (exp (ca512 (cz512 q k))))) (mulf (exp (ca512 (cz512 q k))) (addf (broadcastTo S512x256 swept broadcasts_S512x1_S512x256) (ccum512 (cdl512 m q d k v rem) k0_pay130)))) (broadcast S512x256 (Scalar.ofBits (F := Ideal) .f32 0x00000000#32))) (broadcast S512x256 (Scalar.ofBits (F := Ideal) .f32 0x3DB504F3#32))) bitsLt_bf16_f32

/-- What the tile adds to the gradient of the queries. -/
def cdq512 : FVec Ideal S512x128 .f32 := matmul dot_S512x256_S256x128_S512x128_1_0_0_1_n_n none (cdz512 m q d k v rem swept) k (constant S512x128 .f32 0x00000000#32)

/-- The tile's rows of the gradient of the keys, after. -/
def cdk512 (o : FVec Ideal S256x128 .f32) : FVec Ideal S256x128 .f32 :=
  addf (shapeCast S256x128 o shapeCasts_S256x128_S256x128)
    (matmul dot_S512x256_S512x128_S256x128_0_0_1_1_n_n none (cdz512 m q d k v rem swept) q (constant S256x128 .f32 0x00000000#32))

/-- The tile's rows of the gradient of the values, after. -/
def cdv512 (o : FVec Ideal S256x128 .f32) : FVec Ideal S256x128 .f32 :=
  shapeCast S256x128 (addf o (matmul dot_S512x256_S512x128_S256x128_0_0_1_1_n_n none (truncf .bf16 (cw512 m q k rem) bitsLt_bf16_f32) d
    (constant S256x128 .f32 0x00000000#32))) shapeCasts_S256x128_S256x128

end tile_512

section tile_512_up
variable (p : ℕ → ℕ → Prop) [∀ r c, Decidable (p r c)] (Q D K V : ℕ → ℕ → ℝ) (R P : ℕ → ℝ)

theorem cb512_up : cb512 (mk2 512 256 p) (up2 512 128 Q) (up2 256 128 K) = up2 512 256 (rbm p Q K) := by
  unfold cb512
  simp only [cz512_up, ca512_up, subf_up2, ofBits_zero, broadcast_up2, select_up2]
  rfl

theorem cw512_up : cw512 (mk2 512 256 p) (up2 512 128 Q) (up2 256 128 K) (up2 512 1 fun r _ => R r) = up2 512 256 (rwm p Q K R) := by
  unfold cw512
  simp only [cb512_up, tri_le, ccum512_up, cz512_up, ca512_up, broadcastTo_512, subf_up2, addf_up2, exp_up2, ofBits_zero, broadcast_up2, select_up2]
  rfl

theorem cdl512_up : cdl512 (mk2 512 256 p) (up2 512 128 Q) (up2 512 128 D) (up2 256 128 K) (up2 256 128 V) (up2 512 1 fun r _ => R r)
    = up2 512 256 (rdlm p Q K D V R) := by
  unfold cdl512
  simp only [cdw512_up, cw512_up, mulf_up2]
  rfl

theorem cdz512_up : cdz512 (mk2 512 256 p) (up2 512 128 Q) (up2 512 128 D) (up2 256 128 K) (up2 256 128 V) (up2 512 1 fun r _ => R r) (up2 512 1 fun r _ => P r)
    = up2 512 256 (rdzm p Q K D V R P) := by
  unfold cdz512
  simp only [cdl512_up, tri_lt, ccum512_up, cz512_up, ca512_up, broadcastTo_512, subf_up2, addf_up2, mulf_up2, exp_up2, ofBits_zero, ofBits_one, ofBits_scl, broadcast_up2, truncf_up2, select_up2]
  rfl

theorem cdq512_up : cdq512 (mk2 512 256 p) (up2 512 128 Q) (up2 512 128 D) (up2 256 128 K) (up2 256 128 V) (up2 512 1 fun r _ => R r) (up2 512 1 fun r _ => P r)
    = up2 512 128 (fun r c => 0 + ∑ s ∈ Finset.range 256, rdzm p Q K D V R P r s * K s c) := by
  unfold cdq512
  simp only [cdz512_up, constant_zero_up2, matmul_nn_512]

theorem cdk512_up (O : ℕ → ℕ → ℝ) : cdk512 (mk2 512 256 p) (up2 512 128 Q) (up2 512 128 D) (up2 256 128 K) (up2 256 128 V) (up2 512 1 fun r _ => R r)
    (up2 512 1 fun r _ => P r) (up2 256 128 O)
    = up2 256 128 (fun s c => O s c + (0 + ∑ r ∈ Finset.range 512, rdzm p Q K D V R P r s * Q r c)) := by
  unfold cdk512
  simp only [cdz512_up, constant_zero_up2, matmul_tn_512, shapeCast_same_256, addf_up2]

theorem cdv512_up (O : ℕ → ℕ → ℝ) : cdv512 (mk2 512 256 p) (up2 512 128 Q) (up2 512 128 D) (up2 256 128 K) (up2 512 1 fun r _ => R r) (up2 256 128 O)
    = up2 256 128 (fun s c => O s c + (0 + ∑ r ∈ Finset.range 512, rwm p Q K R r s * D r c)) := by
  unfold cdv512
  simp only [cw512_up, truncf_up2, constant_zero_up2, matmul_tn_512, shapeCast_same_256, addf_up2]

end tile_512_up

section rows_256

def cz256 (q : FVec Ideal S256x128 .bf16) (k : FVec Ideal S256x128 .bf16) : FVec Ideal S256x256 .f32 :=
  mulf (matmul dot_S256x128_S256x128_S256x256_1_1_0_0_n_n none q k (constant S256x256 .f32 0x00000000#32)) (broadcast S256x256 (Scalar.ofBits (F := Ideal) .f32 0x3DB504F3#32))

def cdw256 (d : FVec Ideal S256x128 .bf16) (v : FVec Ideal S256x128 .bf16) : FVec Ideal S256x256 .f32 :=
  matmul dot_S256x128_S256x128_S256x256_1_1_0_0_n_n none d v (constant S256x256 .f32 0x00000000#32)

def ca256 (z : FVec Ideal S256x256 .f32) : FVec Ideal S256x256 .f32 :=
  subf (minimumf z (broadcast S256x256 (Scalar.ofBits (F := Ideal) .f32 0x00000000#32))) (log (addf (broadcast S256x256 (Scalar.ofBits (F := Ideal) .f32 0x3F800000#32)) (exp (subf (broadcast S256x256 (Scalar.ofBits (F := Ideal) .f32 0x00000000#32)) (absf z)))))

def ccum256 (b : FVec Ideal S256x256 .f32) (t : FVec Ideal S256x256 .bf16) : FVec Ideal S256x256 .f32 :=
  addf (matmul dot_S256x256_S256x256_S256x256_1_0_0_1_n_n none (truncf .bf16 b bitsLt_bf16_f32) t (constant S256x256 .f32 0x00000000#32))
    (matmul dot_S256x256_S256x256_S256x256_1_0_0_1_n_n none (truncf .bf16 (subf b (extf .f32 (truncf .bf16 b bitsLt_bf16_f32) bitsLt_bf16_f32)) bitsLt_bf16_f32) t
      (constant S256x256 .f32 0x00000000#32))

/-- The sum of a tile's rows, as a column. -/
def csum256 (b : FVec Ideal S256x256 .f32) : FVec Ideal S256x1 .f32 :=
  shapeCast S256x1 (multiReduction .add [1] S256 b 0x00000000#32 reduces_S256x256_S256 (.inl rfl) rfl) shapeCasts_S256_S256x1

theorem cz256_up (Q K : ℕ → ℕ → ℝ) : cz256 (up2 256 128 Q) (up2 256 128 K) = up2 256 256 (rz Q K) := by
  unfold cz256
  simp only [constant_zero_up2, ofBits_scl, broadcast_up2, matmul_nt_256, mulf_up2]
  rfl

theorem cdw256_up (D V : ℕ → ℕ → ℝ) : cdw256 (up2 256 128 D) (up2 256 128 V) = up2 256 256 (rdw D V) := by
  unfold cdw256
  simp only [constant_zero_up2, matmul_nt_256]
  rfl

theorem ca256_up (Z : ℕ → ℕ → ℝ) : ca256 (up2 256 256 Z) = up2 256 256 (fun r s => lsg (Z r s)) := by
  unfold ca256
  simp only [ofBits_zero, ofBits_one, broadcast_up2, minimumf_up2, absf_up2, subf_up2, exp_up2, addf_up2, log_up2]
  rfl

theorem ccum256_up (B T : ℕ → ℕ → ℝ) : ccum256 (up2 256 256 B) (up2 256 256 T) = up2 256 256 (rcum B T) := by
  unfold ccum256
  simp only [constant_zero_up2, truncf_up2, extf_up2, subf_up2, matmul_tri_256, addf_up2]
  rfl

theorem csum256_up (B : ℕ → ℕ → ℝ) : csum256 (up2 256 256 B) = up2 256 1 (fun r _ => ∑ c ∈ Finset.range 256, B r c) := by
  exact (congrArg (fun x => shapeCast S256x1 x shapeCasts_S256_S256x1) (rowsum_256 B)).trans (shapeCast_col_256 _)

end rows_256

section tile_256
variable (m : IVec S256x256 1) (q d : FVec Ideal S256x128 .bf16) (k v : FVec Ideal S256x128 .bf16) (rem swept : FVec Ideal S256x1 .f32)

def cb256 : FVec Ideal S256x256 .f32 := select m (subf (ca256 (cz256 q k)) (cz256 q k)) (broadcast S256x256 (Scalar.ofBits (F := Ideal) .f32 0x00000000#32))

def cw256 : FVec Ideal S256x256 .f32 :=
  select m (exp (addf (ca256 (cz256 q k)) (subf (broadcastTo S256x256 rem broadcasts_S256x1_S256x256) (ccum256 (cb256 m q k) k0_pay129)))) (broadcast S256x256 (Scalar.ofBits (F := Ideal) .f32 0x00000000#32))

def cdl256 : FVec Ideal S256x256 .f32 := mulf (cdw256 d v) (cw256 m q k rem)

def cdz256 : FVec Ideal S256x256 .bf16 :=
  truncf .bf16 (mulf (select m (subf (mulf (cdl256 m q d k v rem) (subf (broadcast S256x256 (Scalar.ofBits (F := Ideal) .f32 0x3F800000#32)) (exp (ca256 (cz256 q k))))) (mulf (exp (ca256 (cz256 q k))) (addf (broadcastTo S256x256 swept broadcasts_S256x1_S256x256) (ccum256 (cdl256 m q d k v rem) k0_pay130)))) (broadcast S256x256 (Scalar.ofBits (F := Ideal) .f32 0x00000000#32))) (broadcast S256x256 (Scalar.ofBits (F := Ideal) .f32 0x3DB504F3#32))) bitsLt_bf16_f32

/-- What the tile adds to the gradient of the queries. -/
def cdq256 : FVec Ideal S256x128 .f32 := matmul dot_S256x256_S256x128_S256x128_1_0_0_1_n_n none (cdz256 m q d k v rem swept) k (constant S256x128 .f32 0x00000000#32)

/-- The tile's rows of the gradient of the keys, after. -/
def cdk256 (o : FVec Ideal S256x128 .f32) : FVec Ideal S256x128 .f32 :=
  addf (shapeCast S256x128 o shapeCasts_S256x128_S256x128)
    (matmul dot_S256x256_S256x128_S256x128_0_0_1_1_n_n none (cdz256 m q d k v rem swept) q (constant S256x128 .f32 0x00000000#32))

/-- The tile's rows of the gradient of the values, after. -/
def cdv256 (o : FVec Ideal S256x128 .f32) : FVec Ideal S256x128 .f32 :=
  shapeCast S256x128 (addf o (matmul dot_S256x256_S256x128_S256x128_0_0_1_1_n_n none (truncf .bf16 (cw256 m q k rem) bitsLt_bf16_f32) d
    (constant S256x128 .f32 0x00000000#32))) shapeCasts_S256x128_S256x128

end tile_256

section tile_256_up
variable (p : ℕ → ℕ → Prop) [∀ r c, Decidable (p r c)] (Q D K V : ℕ → ℕ → ℝ) (R P : ℕ → ℝ)

theorem cb256_up : cb256 (mk2 256 256 p) (up2 256 128 Q) (up2 256 128 K) = up2 256 256 (rbm p Q K) := by
  unfold cb256
  simp only [cz256_up, ca256_up, subf_up2, ofBits_zero, broadcast_up2, select_up2]
  rfl

theorem cw256_up : cw256 (mk2 256 256 p) (up2 256 128 Q) (up2 256 128 K) (up2 256 1 fun r _ => R r) = up2 256 256 (rwm p Q K R) := by
  unfold cw256
  simp only [cb256_up, tri_le, ccum256_up, cz256_up, ca256_up, broadcastTo_256, subf_up2, addf_up2, exp_up2, ofBits_zero, broadcast_up2, select_up2]
  rfl

theorem cdl256_up : cdl256 (mk2 256 256 p) (up2 256 128 Q) (up2 256 128 D) (up2 256 128 K) (up2 256 128 V) (up2 256 1 fun r _ => R r)
    = up2 256 256 (rdlm p Q K D V R) := by
  unfold cdl256
  simp only [cdw256_up, cw256_up, mulf_up2]
  rfl

theorem cdz256_up : cdz256 (mk2 256 256 p) (up2 256 128 Q) (up2 256 128 D) (up2 256 128 K) (up2 256 128 V) (up2 256 1 fun r _ => R r) (up2 256 1 fun r _ => P r)
    = up2 256 256 (rdzm p Q K D V R P) := by
  unfold cdz256
  simp only [cdl256_up, tri_lt, ccum256_up, cz256_up, ca256_up, broadcastTo_256, subf_up2, addf_up2, mulf_up2, exp_up2, ofBits_zero, ofBits_one, ofBits_scl, broadcast_up2, truncf_up2, select_up2]
  rfl

theorem cdq256_up : cdq256 (mk2 256 256 p) (up2 256 128 Q) (up2 256 128 D) (up2 256 128 K) (up2 256 128 V) (up2 256 1 fun r _ => R r) (up2 256 1 fun r _ => P r)
    = up2 256 128 (fun r c => 0 + ∑ s ∈ Finset.range 256, rdzm p Q K D V R P r s * K s c) := by
  unfold cdq256
  simp only [cdz256_up, constant_zero_up2, matmul_nn_256]

theorem cdk256_up (O : ℕ → ℕ → ℝ) : cdk256 (mk2 256 256 p) (up2 256 128 Q) (up2 256 128 D) (up2 256 128 K) (up2 256 128 V) (up2 256 1 fun r _ => R r)
    (up2 256 1 fun r _ => P r) (up2 256 128 O)
    = up2 256 128 (fun s c => O s c + (0 + ∑ r ∈ Finset.range 256, rdzm p Q K D V R P r s * Q r c)) := by
  unfold cdk256
  simp only [cdz256_up, constant_zero_up2, matmul_tn_256, shapeCast_same_256, addf_up2]

theorem cdv256_up (O : ℕ → ℕ → ℝ) : cdv256 (mk2 256 256 p) (up2 256 128 Q) (up2 256 128 D) (up2 256 128 K) (up2 256 1 fun r _ => R r) (up2 256 128 O)
    = up2 256 128 (fun s c => O s c + (0 + ∑ r ∈ Finset.range 256, rwm p Q K R r s * D r c)) := by
  unfold cdv256
  simp only [cw256_up, truncf_up2, constant_zero_up2, matmul_tn_256, shapeCast_same_256, addf_up2]

end tile_256_up

def rbu (Q K : ℕ → ℕ → ℝ) (r s : ℕ) : ℝ := lsg (rz Q K r s) - rz Q K r s

def rwu (Q K : ℕ → ℕ → ℝ) (R : ℕ → ℝ) (r s : ℕ) : ℝ :=
  Real.exp (lsg (rz Q K r s) + (R r - rcum (rbu Q K) rle r s))

def rdlu (Q K D V : ℕ → ℕ → ℝ) (R : ℕ → ℝ) (r s : ℕ) : ℝ := rdw D V r s * rwu Q K R r s

def rdzu (Q K D V : ℕ → ℕ → ℝ) (R P : ℕ → ℝ) (r s : ℕ) : ℝ :=
  (rdlu Q K D V R r s * (1 - Real.exp (lsg (rz Q K r s))) - Real.exp (lsg (rz Q K r s)) * (P r + rcum (rdlu Q K D V R) rlt r s)) * scl

section tile_512u
variable (q d : FVec Ideal S512x128 .bf16) (k v : FVec Ideal S256x128 .bf16) (rem swept : FVec Ideal S512x1 .f32)

def cb512u : FVec Ideal S512x256 .f32 := (subf (ca512 (cz512 q k)) (cz512 q k))

def cw512u : FVec Ideal S512x256 .f32 :=
  (exp (addf (ca512 (cz512 q k)) (subf (broadcastTo S512x256 rem broadcasts_S512x1_S512x256) (ccum512 (cb512u q k) k0_pay129))))

def cdl512u : FVec Ideal S512x256 .f32 := mulf (cdw512 d v) (cw512u q k rem)

def cdz512u : FVec Ideal S512x256 .bf16 :=
  truncf .bf16 (mulf ((subf (mulf (cdl512u q d k v rem) (subf (broadcast S512x256 (Scalar.ofBits (F := Ideal) .f32 0x3F800000#32)) (exp (ca512 (cz512 q k))))) (mulf (exp (ca512 (cz512 q k))) (addf (broadcastTo S512x256 swept broadcasts_S512x1_S512x256) (ccum512 (cdl512u q d k v rem) k0_pay130))))) (broadcast S512x256 (Scalar.ofBits (F := Ideal) .f32 0x3DB504F3#32))) bitsLt_bf16_f32

/-- What the tile adds to the gradient of the queries. -/
def cdq512u : FVec Ideal S512x128 .f32 := matmul dot_S512x256_S256x128_S512x128_1_0_0_1_n_n none (cdz512u q d k v rem swept) k (constant S512x128 .f32 0x00000000#32)

/-- The tile's rows of the gradient of the keys, after. -/
def cdk512u (o : FVec Ideal S256x128 .f32) : FVec Ideal S256x128 .f32 :=
  addf (shapeCast S256x128 o shapeCasts_S256x128_S256x128)
    (matmul dot_S512x256_S512x128_S256x128_0_0_1_1_n_n none (cdz512u q d k v rem swept) q (constant S256x128 .f32 0x00000000#32))

/-- The tile's rows of the gradient of the values, after. -/
def cdv512u (o : FVec Ideal S256x128 .f32) : FVec Ideal S256x128 .f32 :=
  shapeCast S256x128 (addf o (matmul dot_S512x256_S512x128_S256x128_0_0_1_1_n_n none (truncf .bf16 (cw512u q k rem) bitsLt_bf16_f32) d
    (constant S256x128 .f32 0x00000000#32))) shapeCasts_S256x128_S256x128

end tile_512u

section tile_512u_up
variable (Q D K V : ℕ → ℕ → ℝ) (R P : ℕ → ℝ)

theorem cb512u_up : cb512u (up2 512 128 Q) (up2 256 128 K) = up2 512 256 (rbu Q K) := by
  unfold cb512u
  simp only [cz512_up, ca512_up, subf_up2, ofBits_zero, broadcast_up2]
  rfl

theorem cw512u_up : cw512u (up2 512 128 Q) (up2 256 128 K) (up2 512 1 fun r _ => R r) = up2 512 256 (rwu Q K R) := by
  unfold cw512u
  simp only [cb512u_up, tri_le, ccum512_up, cz512_up, ca512_up, broadcastTo_512, subf_up2, addf_up2, exp_up2, ofBits_zero, broadcast_up2]
  rfl

theorem cdl512u_up : cdl512u (up2 512 128 Q) (up2 512 128 D) (up2 256 128 K) (up2 256 128 V) (up2 512 1 fun r _ => R r)
    = up2 512 256 (rdlu Q K D V R) := by
  unfold cdl512u
  simp only [cdw512_up, cw512u_up, mulf_up2]
  rfl

theorem cdz512u_up : cdz512u (up2 512 128 Q) (up2 512 128 D) (up2 256 128 K) (up2 256 128 V) (up2 512 1 fun r _ => R r) (up2 512 1 fun r _ => P r)
    = up2 512 256 (rdzu Q K D V R P) := by
  unfold cdz512u
  simp only [cdl512u_up, tri_lt, ccum512_up, cz512_up, ca512_up, broadcastTo_512, subf_up2, addf_up2, mulf_up2, exp_up2, ofBits_zero, ofBits_one, ofBits_scl, broadcast_up2, truncf_up2]
  rfl

theorem cdq512u_up : cdq512u (up2 512 128 Q) (up2 512 128 D) (up2 256 128 K) (up2 256 128 V) (up2 512 1 fun r _ => R r) (up2 512 1 fun r _ => P r)
    = up2 512 128 (fun r c => 0 + ∑ s ∈ Finset.range 256, rdzu Q K D V R P r s * K s c) := by
  unfold cdq512u
  simp only [cdz512u_up, constant_zero_up2, matmul_nn_512]

theorem cdk512u_up (O : ℕ → ℕ → ℝ) : cdk512u (up2 512 128 Q) (up2 512 128 D) (up2 256 128 K) (up2 256 128 V) (up2 512 1 fun r _ => R r)
    (up2 512 1 fun r _ => P r) (up2 256 128 O)
    = up2 256 128 (fun s c => O s c + (0 + ∑ r ∈ Finset.range 512, rdzu Q K D V R P r s * Q r c)) := by
  unfold cdk512u
  simp only [cdz512u_up, constant_zero_up2, matmul_tn_512, shapeCast_same_256, addf_up2]

theorem cdv512u_up (O : ℕ → ℕ → ℝ) : cdv512u (up2 512 128 Q) (up2 512 128 D) (up2 256 128 K) (up2 512 1 fun r _ => R r) (up2 256 128 O)
    = up2 256 128 (fun s c => O s c + (0 + ∑ r ∈ Finset.range 512, rwu Q K R r s * D r c)) := by
  unfold cdv512u
  simp only [cw512u_up, truncf_up2, constant_zero_up2, matmul_tn_512, shapeCast_same_256, addf_up2]

end tile_512u_up

end Cert.Attn

end
-- ==== Proof.Model.lean ====
/- One block of 512 rows of the backward pass over the real numbers, for both heads of the block: the gradients as functions of the row
   and the key, what has been accumulated when each head has run over its first keys, and a tile of 256 keys in these terms. -/
module

public import proofs.«01_k».proof.Proof.Tile

@[expose] public section

set_option maxRecDepth 16384

noncomputable section

namespace Cert.Attn

open Idealize.ShloMosaic Cert.KernelIdeal Cert.KernelIdeal.Gen

/-- What a block of rows is given: the rows of the queries and of the cotangent, all keys and values, each row's sum of logarithms,
    and the accumulators of the keys and the values as the blocks before left them. Columns 0 to 127 are the first head's. -/
structure Block where
  q : ℕ → ℕ → ℝ
  d : ℕ → ℕ → ℝ
  k : ℕ → ℕ → ℝ
  v : ℕ → ℕ → ℝ
  bt : ℕ → ℕ → ℝ
  t0 : ℕ
  dk0 : ℕ → ℕ → ℝ
  dv0 : ℕ → ℕ → ℝ

/-- The columns of head `h`. -/
def hd (f : ℕ → ℕ → ℝ) (h r c : ℕ) : ℝ := f r (128 * h + c)

namespace Block
variable (x : Block)

def z (h r s : ℕ) : ℝ := rz (hd x.q h) (hd x.k h) r s
def b (h r s : ℕ) : ℝ := if s < x.t0 + r then lsg (x.z h r s) - x.z h r s else 0
def w (h r s : ℕ) : ℝ :=
  if s < x.t0 + r then Real.exp (lsg (x.z h r s) + (x.bt h r - ∑ j ∈ Finset.range (s + 1), x.b h r j)) else 0
def dl (h r s : ℕ) : ℝ := rdw (hd x.d h) (hd x.v h) r s * x.w h r s
def dz (h r s : ℕ) : ℝ :=
  (if s < x.t0 + r then x.dl h r s * (1 - Real.exp (lsg (x.z h r s))) - Real.exp (lsg (x.z h r s)) * ∑ j ∈ Finset.range s, x.dl h r j
    else 0) * scl

/-- What is left of each row's sum after the first `L` keys. -/
def pb (L h r : ℕ) : ℝ := x.bt h r - ∑ j ∈ Finset.range L, x.b h r j
/-- The row's sum of the gradient of the logarithms over the first `L` keys. -/
def pdl (L h r : ℕ) : ℝ := ∑ j ∈ Finset.range L, x.dl h r j

/-- The gradient of the queries over the first `n h` keys of head `h`. -/
def dq (n : ℕ → ℕ) (r c : ℕ) : ℝ := ∑ s ∈ Finset.range (n (c / 128)), x.dz (c / 128) r s * x.k s c
/-- The gradient of the keys when head `h` has run over its first `n h` keys. -/
def dk (n : ℕ → ℕ) (s c : ℕ) : ℝ :=
  x.dk0 s c + if s < n (c / 128) then ∑ r ∈ Finset.range 512, x.dz (c / 128) r s * x.q r c else 0
/-- The gradient of the values, likewise. -/
def dv (n : ℕ → ℕ) (s c : ℕ) : ℝ :=
  x.dv0 s c + if s < n (c / 128) then ∑ r ∈ Finset.range 512, x.w (c / 128) r s * x.d r c else 0

theorem b_of_le {h r s : ℕ} (hs : x.t0 + r ≤ s) : x.b h r s = 0 := if_neg (by omega)
theorem w_of_le {h r s : ℕ} (hs : x.t0 + r ≤ s) : x.w h r s = 0 := if_neg (by omega)
theorem dl_of_le {h r s : ℕ} (hs : x.t0 + r ≤ s) : x.dl h r s = 0 := by rw [dl, w_of_le x hs, mul_zero]
theorem dz_of_le {h r s : ℕ} (hs : x.t0 + r ≤ s) : x.dz h r s = 0 := by rw [dz, if_neg (by omega), zero_mul]

end Block

/-- The two counts, one for each head. -/
def cn (a b h : ℕ) : ℕ := if h = 0 then a else b

theorem sum_tri_le (B : ℕ → ℝ) {s : ℕ} (hs : s < 256) :
    ∑ c ∈ Finset.range 256, B c * rle c s = ∑ c ∈ Finset.range (s + 1), B c := by
  simp only [rle, mul_ite, mul_one, mul_zero]
  rw [← Finset.sum_filter]
  refine Finset.sum_congr ?_ fun _ _ => rfl
  ext c
  simp only [Finset.mem_filter, Finset.mem_range]
  omega

theorem sum_tri_lt (B : ℕ → ℝ) {s : ℕ} (hs : s < 256) :
    ∑ c ∈ Finset.range 256, B c * rlt c s = ∑ c ∈ Finset.range s, B c := by
  simp only [rlt, mul_ite, mul_one, mul_zero]
  rw [← Finset.sum_filter]
  refine Finset.sum_congr ?_ fun _ _ => rfl
  ext c
  simp only [Finset.mem_filter, Finset.mem_range]
  omega

theorem rcum_eq (B T : ℕ → ℕ → ℝ) (r s : ℕ) : rcum B T r s = ∑ c ∈ Finset.range 256, B r c * T c s := by
  unfold rcum
  simp

theorem sum_split (f : ℕ → ℝ) (L n : ℕ) :
    ∑ j ∈ Finset.range (L + n), f j = ∑ j ∈ Finset.range L, f j + ∑ j ∈ Finset.range n, f (L + j) :=
  Finset.sum_range_add f L n

section tile
variable (x : Block) (h a L : ℕ)

/-- The inputs of the tile with keys from `L` on and rows from `a` on. -/
abbrev tQ (r c : ℕ) : ℝ := x.q (a + r) (128 * h + c)
abbrev tD (r c : ℕ) : ℝ := x.d (a + r) (128 * h + c)
abbrev tK (s c : ℕ) : ℝ := x.k (L + s) (128 * h + c)
abbrev tV (s c : ℕ) : ℝ := x.v (L + s) (128 * h + c)

theorem rz_tile (r s : ℕ) : rz (tQ x h a) (tK x h L) r s = x.z h (a + r) (L + s) := rfl
theorem rdw_tile (r s : ℕ) : rdw (tD x h a) (tV x h L) r s = rdw (hd x.d h) (hd x.v h) (a + r) (L + s) := rfl

section masked
variable (p : ℕ → ℕ → Prop) [∀ r s, Decidable (p r s)] (hp : ∀ r s, p r s ↔ L + s < x.t0 + (a + r))
include hp

theorem rbm_tile (r s : ℕ) : rbm p (tQ x h a) (tK x h L) r s = x.b h (a + r) (L + s) := by
  unfold rbm Block.b
  simp only [hp, rz_tile]

theorem rwm_tile (r : ℕ) {s : ℕ} (hs : s < 256) :
    rwm p (tQ x h a) (tK x h L) (fun r => x.pb L h (a + r)) r s = x.w h (a + r) (L + s) := by
  unfold rwm Block.w Block.pb
  rw [rcum_eq, sum_tri_le _ hs]
  simp only [hp, rz_tile, rbm_tile x h a L p hp]
  rw [show L + s + 1 = L + (s + 1) from rfl, sum_split _ L (s + 1), sub_sub]

theorem rdlm_tile (r : ℕ) {s : ℕ} (hs : s < 256) :
    rdlm p (tQ x h a) (tK x h L) (tD x h a) (tV x h L) (fun r => x.pb L h (a + r)) r s = x.dl h (a + r) (L + s) := by
  unfold rdlm Block.dl
  rw [rdw_tile, rwm_tile x h a L p hp r hs]

theorem rdzm_tile (r : ℕ) {s : ℕ} (hs : s < 256) :
    rdzm p (tQ x h a) (tK x h L) (tD x h a) (tV x h L) (fun r => x.pb L h (a + r)) (fun r => x.pdl L h (a + r)) r s
      = x.dz h (a + r) (L + s) := by
  unfold rdzm Block.dz Block.pdl
  rw [rcum_eq, sum_tri_lt _ hs, rdlm_tile x h a L p hp r hs,
    Finset.sum_congr rfl (fun c hc => rdlm_tile x h a L p hp r (lt_trans (Finset.mem_range.1 hc) hs)), ← sum_split]
  simp only [hp, rz_tile]

end masked

section whole
variable (hL : ∀ r s, s < 256 → L + s < x.t0 + (a + r))
include hL

theorem rbu_tile (r : ℕ) {s : ℕ} (hs : s < 256) : rbu (tQ x h a) (tK x h L) r s = x.b h (a + r) (L + s) := by
  unfold rbu Block.b
  rw [if_pos (hL r s hs)]
  rfl

theorem rwu_tile (r : ℕ) {s : ℕ} (hs : s < 256) :
    rwu (tQ x h a) (tK x h L) (fun r => x.pb L h (a + r)) r s = x.w h (a + r) (L + s) := by
  unfold rwu Block.w Block.pb
  rw [rcum_eq, sum_tri_le _ hs, if_pos (hL r s hs),
    Finset.sum_congr rfl (fun c hc => rbu_tile x h a L hL r (lt_of_lt_of_le (Finset.mem_range.1 hc) hs)),
    show L + s + 1 = L + (s + 1) from rfl, sum_split _ L (s + 1), sub_sub]
  rfl

theorem rdlu_tile (r : ℕ) {s : ℕ} (hs : s < 256) :
    rdlu (tQ x h a) (tK x h L) (tD x h a) (tV x h L) (fun r => x.pb L h (a + r)) r s = x.dl h (a + r) (L + s) := by
  unfold rdlu Block.dl
  rw [rdw_tile, rwu_tile x h a L hL r hs]

theorem rdzu_tile (r : ℕ) {s : ℕ} (hs : s < 256) :
    rdzu (tQ x h a) (tK x h L) (tD x h a) (tV x h L) (fun r => x.pb L h (a + r)) (fun r => x.pdl L h (a + r)) r s
      = x.dz h (a + r) (L + s) := by
  unfold rdzu Block.dz Block.pdl
  rw [rcum_eq, sum_tri_lt _ hs, rdlu_tile x h a L hL r hs,
    Finset.sum_congr rfl (fun c hc => rdlu_tile x h a L hL r (lt_trans (Finset.mem_range.1 hc) hs)), ← sum_split, if_pos (hL r s hs)]
  rfl

end whole
end tile

end Cert.Attn

end
-- ==== Proof.Whole.lean ====
/- The backward pass over the real numbers for whole arrays: the gradients as sums over all keys and all rows of a head, and a block of 512
   rows of two heads as a part of them. -/
module

public import proofs.«01_k».proof.Proof.Model

@[expose] public section

noncomputable section

namespace Cert.Attn

/-- The four arrays: queries, keys, values and the cotangent, each of 4096 rows (2 times 2048) and 4096 columns (32 heads of 128). -/
structure Step where
  q : ℕ → ℕ → ℝ
  k : ℕ → ℕ → ℝ
  v : ℕ → ℕ → ℝ
  d : ℕ → ℕ → ℝ

/-- The rows of sequence `n` and the columns of head `H`. -/
def part (f : ℕ → ℕ → ℝ) (n H r c : ℕ) : ℝ := f (2048 * n + r) (128 * H + c)

namespace Step
variable (x : Step) (n H : ℕ)

def z (r s : ℕ) : ℝ := rz (part x.q n H) (part x.k n H) r s
/-- The logarithm of what a key leaves of a row. -/
def l (r s : ℕ) : ℝ := if s < r then lsg (x.z n H r s) - x.z n H r s else 0
def w (r s : ℕ) : ℝ :=
  if s < r then Real.exp (lsg (x.z n H r s) + (∑ j ∈ Finset.range 2048, x.l n H r j - ∑ j ∈ Finset.range (s + 1), x.l n H r j)) else 0
def dl (r s : ℕ) : ℝ := rdw (part x.d n H) (part x.v n H) r s * x.w n H r s
def dz (r s : ℕ) : ℝ :=
  (if s < r then x.dl n H r s * (1 - Real.exp (lsg (x.z n H r s))) - Real.exp (lsg (x.z n H r s)) * ∑ j ∈ Finset.range s, x.dl n H r j
    else 0) * scl

theorem w_of_le {r s : ℕ} (h : r ≤ s) : x.w n H r s = 0 := if_neg (by omega)
theorem dz_of_le {r s : ℕ} (h : r ≤ s) : x.dz n H r s = 0 := by rw [dz, if_neg (by omega), zero_mul]

/-- The three gradients, at a row and a column of the whole arrays. -/
def dq (i c : ℕ) : ℝ := ∑ s ∈ Finset.range 2048, x.dz (i / 2048) (c / 128) (i % 2048) s * x.k (2048 * (i / 2048) + s) c
def dk (i c : ℕ) : ℝ := ∑ r ∈ Finset.range 2048, x.dz (i / 2048) (c / 128) r (i % 2048) * x.q (2048 * (i / 2048) + r) c
def dv (i c : ℕ) : ℝ := ∑ r ∈ Finset.range 2048, x.w (i / 2048) (c / 128) r (i % 2048) * x.d (2048 * (i / 2048) + r) c

/-- Block `i` of the rows of sequence `n` and of the heads `2 * p` and `2 * p + 1`. -/
def block (n p i : ℕ) : Block where
  q r c := x.q (2048 * n + (512 * i + r)) (256 * p + c)
  d r c := x.d (2048 * n + (512 * i + r)) (256 * p + c)
  k s c := x.k (2048 * n + s) (256 * p + c)
  v s c := x.v (2048 * n + s) (256 * p + c)
  bt h r := ∑ j ∈ Finset.range 2048, x.l n (2 * p + h) (512 * i + r) j
  t0 := 512 * i
  dk0 s c := ∑ r ∈ Finset.range (512 * i), x.dz n (2 * p + c / 128) r s * x.q (2048 * n + r) (256 * p + c)
  dv0 s c := ∑ r ∈ Finset.range (512 * i), x.w n (2 * p + c / 128) r s * x.d (2048 * n + r) (256 * p + c)

variable (p i : ℕ)

theorem col (h c : ℕ) : 256 * p + (128 * h + c) = 128 * (2 * p + h) + c := by omega

theorem block_z (h r s : ℕ) : (x.block n p i).z h r s = x.z n (2 * p + h) (512 * i + r) s := by
  simp only [Block.z, z, rz, hd, part, block, col]

theorem block_b (h r s : ℕ) : (x.block n p i).b h r s = x.l n (2 * p + h) (512 * i + r) s := by
  unfold Block.b l
  rw [block_z]
  rfl

theorem block_w (h r s : ℕ) : (x.block n p i).w h r s = x.w n (2 * p + h) (512 * i + r) s := by
  unfold Block.w w
  simp only [block_z, block_b]
  rfl

theorem block_dl (h r s : ℕ) : (x.block n p i).dl h r s = x.dl n (2 * p + h) (512 * i + r) s := by
  unfold Block.dl dl
  rw [block_w]
  simp only [rdw, hd, part, block, col]

theorem block_dz (h r s : ℕ) : (x.block n p i).dz h r s = x.dz n (2 * p + h) (512 * i + r) s := by
  unfold Block.dz dz
  simp only [block_z, block_dl]
  rfl

theorem block_dk0 : (x.block n p 0).dk0 = fun _ _ => 0 := by
  funext s c; simp [block]
theorem block_dv0 : (x.block n p 0).dv0 = fun _ _ => 0 := by
  funext s c; simp [block]

variable (N : ℕ → ℕ) (hN : ∀ h, 512 * i + 512 ≤ N h)
include hN

theorem block_dk : (x.block n p i).dk N = (x.block n p (i + 1)).dk0 := by
  funext s c
  unfold Block.dk
  have h1 : (x.block n p (i + 1)).dk0 s c = (x.block n p i).dk0 s c
      + ∑ r ∈ Finset.range 512, x.dz n (2 * p + c / 128) (512 * i + r) s * x.q (2048 * n + (512 * i + r)) (256 * p + c) := by
    show ∑ r ∈ Finset.range (512 * (i + 1)), _ = _
    rw [show 512 * (i + 1) = 512 * i + 512 from by omega, Finset.sum_range_add]
    rfl
  rw [h1]
  congr 1
  simp only [block_dz]
  split
  · rfl
  · rename_i hs
    refine (Finset.sum_eq_zero fun r hr => ?_).symm
    rw [dz_of_le x n _ (by have := hN (c / 128); have := Finset.mem_range.1 hr; omega), zero_mul]

theorem block_dv : (x.block n p i).dv N = (x.block n p (i + 1)).dv0 := by
  funext s c
  unfold Block.dv
  have h1 : (x.block n p (i + 1)).dv0 s c = (x.block n p i).dv0 s c
      + ∑ r ∈ Finset.range 512, x.w n (2 * p + c / 128) (512 * i + r) s * x.d (2048 * n + (512 * i + r)) (256 * p + c) := by
    show ∑ r ∈ Finset.range (512 * (i + 1)), _ = _
    rw [show 512 * (i + 1) = 512 * i + 512 from by omega, Finset.sum_range_add]
    rfl
  rw [h1]
  congr 1
  simp only [block_w]
  split
  · rfl
  · rename_i hs
    refine (Finset.sum_eq_zero fun r hr => ?_).symm
    rw [w_of_le x n _ (by have := hN (c / 128); have := Finset.mem_range.1 hr; omega), zero_mul]

theorem block_dq (hN' : ∀ h, N h ≤ 2048) {r c : ℕ} (hr : r < 512) (hi : i < 4) :
    (x.block n p i).dq N r c = x.dq (2048 * n + (512 * i + r)) (256 * p + c) := by
  unfold Block.dq dq
  rw [show (2048 * n + (512 * i + r)) / 2048 = n from by omega, show (2048 * n + (512 * i + r)) % 2048 = 512 * i + r from by omega,
    show (256 * p + c) / 128 = 2 * p + c / 128 from by omega]
  simp only [block_dz]
  refine Finset.sum_subset (fun a ha => ?_) (fun a _ ha => ?_)
  · have := hN' (c / 128); have := Finset.mem_range.1 ha; exact Finset.mem_range.2 (by omega)
  · have h1 : ¬ a < N (c / 128) := fun h => ha (Finset.mem_range.2 h)
    have := hN (c / 128)
    rw [dz_of_le x n _ (by omega), zero_mul]

omit hN

theorem last_dk {s c : ℕ} (hs : s < 2048) : (x.block n p 4).dk0 s c = x.dk (2048 * n + s) (256 * p + c) := by
  unfold dk
  rw [show (2048 * n + s) / 2048 = n from by omega, show (2048 * n + s) % 2048 = s from by omega,
    show (256 * p + c) / 128 = 2 * p + c / 128 from by omega]
  rfl

theorem last_dv {s c : ℕ} (hs : s < 2048) : (x.block n p 4).dv0 s c = x.dv (2048 * n + s) (256 * p + c) := by
  unfold dv
  rw [show (2048 * n + s) / 2048 = n from by omega, show (2048 * n + s) % 2048 = s from by omega,
    show (256 * p + c) / 128 = 2 * p + c / 128 from by omega]
  rfl

end Step

end Cert.Attn

end
-- ==== Proof.Arrays.lean ====
/- Arrays of rank four of real numbers, and what the operations of the plain mathematics make of them at the extended reals. -/
module

public import proofs.«01_k».proof.Proof.Reals2
public import proofs.«01_k».proof.Proof.Gen.ReferenceIdeal

@[expose] public section

set_option maxRecDepth 16384

noncomputable section

namespace Cert.Attn

open Idealize.ShloMosaic

/-- The array of the real numbers `g n h r c`. -/
def up4 (a b n m : ℕ) (g : ℕ → ℕ → ℕ → ℕ → ℝ) : (⟨4, ![a, b, n, m]⟩ : Shape).Idx → EReal :=
  fun j => ((g (j 0).val (j 1).val (j 2).val (j 3).val : ℝ) : EReal)

theorem up4_congr {a b n m : ℕ} {f g : ℕ → ℕ → ℕ → ℕ → ℝ} (h : ∀ p < a, ∀ q < b, ∀ r < n, ∀ c < m, f p q r c = g p q r c) :
    up4 a b n m f = up4 a b n m g := by
  funext j
  exact congrArg _ (h _ (j 0).isLt _ (j 1).isLt _ (j 2).isLt _ (j 3).isLt)

section ops
variable {a b n m : ℕ} {φ : FTy} (f g : ℕ → ℕ → ℕ → ℕ → ℝ)

theorem addf_up4 : addf (F := Ideal) (φ := φ) (up4 a b n m f) (up4 a b n m g) = up4 a b n m (fun p q r c => f p q r c + g p q r c) := by
  funext j; exact (EReal.coe_add _ _).symm

theorem subf_up4 : subf (F := Ideal) (φ := φ) (up4 a b n m f) (up4 a b n m g) = up4 a b n m (fun p q r c => f p q r c - g p q r c) := by
  funext j; exact (EReal.coe_sub _ _).symm

theorem mulf_up4 : mulf (F := Ideal) (φ := φ) (up4 a b n m f) (up4 a b n m g) = up4 a b n m (fun p q r c => f p q r c * g p q r c) := by
  funext j; exact (EReal.coe_mul _ _).symm

theorem maximumf_up4 : maximumf (F := Ideal) (φ := φ) (up4 a b n m f) (up4 a b n m g) = up4 a b n m (fun p q r c => max (f p q r c) (g p q r c)) := by
  funext j; exact (EReal.coe_strictMono.monotone.map_max).symm

theorem negf_up4 : Host.negf (F := Ideal) (φ := φ) (up4 a b n m f) = up4 a b n m (fun p q r c => -f p q r c) := by
  funext j; exact (EReal.coe_neg _).symm

theorem absf_up4 : Host.absf (F := Ideal) (φ := φ) (up4 a b n m f) = up4 a b n m (fun p q r c => |f p q r c|) := by
  funext j
  show max ((f _ _ _ _ : ℝ) : EReal) (-((f _ _ _ _ : ℝ) : EReal)) = ((|f _ _ _ _| : ℝ) : EReal)
  rw [← EReal.coe_neg, ← EReal.coe_strictMono.monotone.map_max]; rfl

theorem exp_up4 : Host.exp (F := Ideal) (φ := φ) (up4 a b n m f) = up4 a b n m (fun p q r c => Real.exp (f p q r c)) := by
  funext j; exact Ideal.exp_coe _

theorem log1p_up4 : Host.log1p (F := Ideal) (φ := φ) (up4 a b n m fun p q r c => Real.exp (f p q r c))
    = up4 a b n m (fun p q r c => Real.log (1 + Real.exp (f p q r c))) := by
  funext j
  show Ideal.log (1 + ((Real.exp (f _ _ _ _) : ℝ) : EReal)) = _
  rw [show (1 : EReal) = ((1 : ℝ) : EReal) from rfl, ← EReal.coe_add]
  refine (Ideal.log_coe _).trans (if_neg (not_le.mpr ?_))
  positivity

/-- The mask of the coordinates with `p n h r c`. -/
def mk4 (a b n m : ℕ) (p : ℕ → ℕ → ℕ → ℕ → Prop) [∀ n h r c, Decidable (p n h r c)] : IVec ⟨4, ![a, b, n, m]⟩ 1 :=
  fun j => if p (j 0).val (j 1).val (j 2).val (j 3).val then 1#1 else 0#1

theorem select_up4 (p : ℕ → ℕ → ℕ → ℕ → Prop) [∀ n h r c, Decidable (p n h r c)] :
    select (α := EReal) (mk4 a b n m p) (up4 a b n m f) (up4 a b n m g) = up4 a b n m (fun k h r c => if p k h r c then f k h r c else g k h r c) := by
  funext j
  by_cases h : p (j 0).val (j 1).val (j 2).val (j 3).val <;> simp [select, Scalar.select, mk4, up4, h]

/-- A real number differs from itself nowhere. -/
theorem une_up4 : cmpf (F := Ideal) (φ := φ) .une (up4 a b n m f) (up4 a b n m f) = mk4 a b n m (fun _ _ _ _ => False) := by
  funext j
  simp [cmpf, FloatOps.cmpf, Ideal.cmp, mk4]

/-- A real number is nowhere infinite. -/
theorem oeq_up4 : cmpf (F := Ideal) (φ := φ) .oeq (up4 a b n m f) (fun _ => (⊤ : EReal)) = mk4 a b n m (fun _ _ _ _ => False) := by
  funext j
  simp [cmpf, FloatOps.cmpf, Ideal.cmp, mk4, up4]

theorem ofBits_inf : (Scalar.ofBits (F := Ideal) .f32 0x7F800000#32) = (⊤ : EReal) := by
  show Ideal.ofBits .f32 _ = _
  simp [Ideal.ofBits, Ideal.ieee]

end ops

section layout
open Cert.ReferenceIdeal Cert.ReferenceIdeal.Gen

/-- A matrix of the whole arrays, taken apart into heads. -/
theorem heads_up (f : ℕ → ℕ → ℝ) :
    transpose S2x32x2048x128 [0, 2, 1, 3] (shapeCast S2x2048x32x128 (extf (F := Ideal) .f32 (φ := .bf16) (up2 4096 4096 f) bitsLt_bf16_f32)
      shapeCasts_S4096x4096_S2x2048x32x128) transposes_S2x2048x32x128_S2x32x2048x128_0_2_1_3
    = up4 2 32 2048 128 (fun n h r c => f (2048 * n + r) (128 * h + c)) := by
  funext j
  pointwise
  unfold up2 up4
  dsimp only
  rw [Nat.mul_comm 2048, Nat.mul_comm 128]
  rfl

/-- The heads put together again. -/
theorem unheads_up (g : ℕ → ℕ → ℕ → ℕ → ℝ) :
    shapeCast S4096x4096 (transpose S2x2048x32x128 [0, 2, 1, 3] (up4 2 32 2048 128 g) transposes_S2x32x2048x128_S2x2048x32x128_0_2_1_3)
      shapeCasts_S2x2048x32x128_S4096x4096
    = up2 4096 4096 (fun i c => g (i / 2048) (c / 128) (i % 2048) (c % 128)) := by
  funext j
  pointwise
  rfl

theorem swap_up (g : ℕ → ℕ → ℕ → ℕ → ℝ) :
    transpose S2x32x2048x128 [0, 1, 3, 2] (up4 2 32 128 2048 g) transposes_S2x32x128x2048_S2x32x2048x128_0_1_3_2
    = up4 2 32 2048 128 (fun n h r c => g n h c r) := by
  funext j
  pointwise
  rfl

theorem mask_up :
    broadcastInDim S2x32x2048x2048 ![2, 3] bcast_S2048x2048_S2x32x2048x2048_2_3 (cmpi .slt (broadcastInDim S2048x2048 ![0, 1] bcast_S1x2048_S2048x2048_0_1
      (broadcastInDim S1x2048 ![1] bcast_S2048_S1x2048_1 (iotaInDim S2048 32 0))) (broadcastInDim S2048x2048 ![0, 1] bcast_S2048x1_S2048x2048_0_1
      (broadcastInDim S2048x1 ![0] bcast_S2048_S2048x1_0 (iotaInDim S2048 32 0))))
    = mk4 2 32 2048 2048 (fun _ _ r s => s < r) := by
  funext j
  have h0 : (j 2).val < 2048 := (j 2).isLt
  have h1 : (j 3).val < 2048 := (j 3).isLt
  pointwise
  exact cmpi_slt_ofNat _ _ (lt_trans h1 (by decide)) (lt_trans h0 (by decide))

theorem const4_up (x : BitVec 32) (y : ℝ) (h : Scalar.ofBits (F := Ideal) .f32 x = (y : EReal)) :
    broadcastInDim S2x32x2048x2048 ![] bcast_S_S2x32x2048x2048 (constant (F := Ideal) S_ .f32 x) = up4 2 32 2048 2048 (fun _ _ _ _ => y) := by
  funext j
  exact h

theorem inf4_up : broadcastInDim S2x32x2048x2048 ![] bcast_S_S2x32x2048x2048 (constant (F := Ideal) S_ .f32 0x7F800000#32) = fun _ => (⊤ : EReal) := by
  funext j
  exact ofBits_inf

end layout

section products
open Cert.ReferenceIdeal Cert.ReferenceIdeal.Gen
variable {φ₁ φ₂ : FTy} (f g : ℕ → ℕ → ℕ → ℕ → ℝ)

theorem dot_nt : Host.dotGeneral (F := Ideal) (φ₁ := φ₁) (φ₂ := φ₂) dot_S2x32x2048x128_S2x32x2048x128_S2x32x2048x2048_3_3_2_2_01_01 none
    (up4 2 32 2048 128 f) (up4 2 32 2048 128 g) = up4 2 32 2048 2048 (fun n h r s => ∑ d ∈ Finset.range 128, f n h r d * g n h s d) := by
  funext j
  pointwise
  exact sum_coe_mul 128 (fun d => f (j 0).val (j 1).val (j 2).val d) (fun d => g (j 0).val (j 1).val (j 3).val d)

theorem dot_nn : Host.dotGeneral (F := Ideal) (φ₁ := φ₁) (φ₂ := φ₂) dot_S2x32x2048x2048_S2x32x2048x128_S2x32x2048x128_3_2_2_3_01_01 none
    (up4 2 32 2048 2048 f) (up4 2 32 2048 128 g) = up4 2 32 2048 128 (fun n h r c => ∑ s ∈ Finset.range 2048, f n h r s * g n h s c) := by
  funext j
  pointwise
  exact sum_coe_mul 2048 (fun d => f (j 0).val (j 1).val (j 2).val d) (fun d => g (j 0).val (j 1).val d (j 3).val)

theorem dot_tn : Host.dotGeneral (F := Ideal) (φ₁ := φ₁) (φ₂ := φ₂) dot_S2x32x2048x2048_S2x32x2048x128_S2x32x2048x128_2_2_3_3_01_01 none
    (up4 2 32 2048 2048 f) (up4 2 32 2048 128 g) = up4 2 32 2048 128 (fun n h s c => ∑ r ∈ Finset.range 2048, f n h r s * g n h r c) := by
  funext j
  pointwise
  exact sum_coe_mul 2048 (fun d => f (j 0).val (j 1).val d (j 2).val) (fun d => g (j 0).val (j 1).val d (j 3).val)

theorem dot_tt : Host.dotGeneral (F := Ideal) (φ₁ := φ₁) (φ₂ := φ₂) dot_S2x32x2048x128_S2x32x2048x2048_S2x32x128x2048_2_2_3_3_01_01 none
    (up4 2 32 2048 128 f) (up4 2 32 2048 2048 g) = up4 2 32 128 2048 (fun n h c s => ∑ r ∈ Finset.range 2048, f n h r c * g n h r s) := by
  funext j
  pointwise
  exact sum_coe_mul 2048 (fun d => f (j 0).val (j 1).val d (j 2).val) (fun d => g (j 0).val (j 1).val d (j 3).val)

end products

section sums
open Cert.ReferenceIdeal Cert.ReferenceIdeal.Gen

theorem foldl_coe {ι : Type} (l : List ι) (f : EReal → ι → EReal) (g : ι → ℝ) (hf : ∀ a i, f a i = a + ((g i : ℝ) : EReal)) (z : ℝ) :
    l.foldl f (z : EReal) = ((z + (l.map g).sum : ℝ) : EReal) := by
  induction l generalizing z with
  | nil => simp
  | cons i l ih =>
    rw [List.foldl_cons, hf, ← EReal.coe_add, ih, List.map_cons, List.sum_cons, add_assoc]

/-- The window of the running sums: its positions in order are the offsets of the last axis. -/
abbrev Win : Shape := ⟨4, ![1, 1, 1, 2048]⟩

theorem win_numel : Win.numel = 2048 := by
  show ∏ a : Fin 4, (![1, 1, 1, 2048] : Fin 4 → ℕ) a = 2048
  simp [Fin.prod_univ_four]

theorem win_symm (k : Fin Win.numel) :
    (Win.rowMajor.symm k 0).val = 0 ∧ (Win.rowMajor.symm k 1).val = 0 ∧ (Win.rowMajor.symm k 2).val = 0 ∧ (Win.rowMajor.symm k 3).val = k.val := by
  have e : (Win.rowMajor (Win.rowMajor.symm k)).val = k.val := by rw [Equiv.apply_symm_apply]
  rw [Shape.rowMajor_val_four] at e
  have h0 : (Win.rowMajor.symm k 0).val < 1 := (Win.rowMajor.symm k 0).isLt
  have h1 : (Win.rowMajor.symm k 1).val < 1 := (Win.rowMajor.symm k 1).isLt
  have h2 : (Win.rowMajor.symm k 2).val < 1 := (Win.rowMajor.symm k 2).isLt
  refine ⟨by omega, by omega, by omega, ?_⟩
  have e' : (((Win.rowMajor.symm k 0).val * 1 + (Win.rowMajor.symm k 1).val) * 1 + (Win.rowMajor.symm k 2).val) * 2048 + (Win.rowMajor.symm k 3).val = k.val := e
  omega

theorem sum_from (f : ℕ → ℝ) {s : ℕ} (hs : s ≤ 2048) :
    ∑ k ∈ Finset.range 2048, (if s + k < 2048 then f (s + k) else 0) = ∑ j ∈ Finset.range 2048, f j - ∑ j ∈ Finset.range s, f j := by
  have h1 : ∑ j ∈ Finset.range 2048, f j = ∑ j ∈ Finset.range s, f j + ∑ k ∈ Finset.range (2048 - s), f (s + k) := by
    rw [← Finset.sum_range_add, Nat.add_sub_cancel' hs]
  rw [h1, add_sub_cancel_left, ← Finset.sum_filter]
  refine Finset.sum_congr (Finset.ext fun k => ?_) fun _ _ => rfl
  rw [Finset.mem_filter, Finset.mem_range, Finset.mem_range]
  omega

theorem sum_upto (f : ℕ → ℝ) {s : ℕ} (hs : s < 2048) :
    ∑ k ∈ Finset.range 2048, (if 2047 ≤ s + k then f (s + k - 2047) else 0) = ∑ j ∈ Finset.range (s + 1), f j := by
  have e : Finset.range 2048 = Finset.range ((2047 - s) + (s + 1)) := by rw [show (2047 - s) + (s + 1) = 2048 from by omega]
  rw [e, Finset.sum_range_add, Finset.sum_eq_zero fun k hk => if_neg (by have := Finset.mem_range.1 hk; omega), zero_add]
  refine Finset.sum_congr rfl fun k hk => ?_
  rw [if_pos (by omega), show s + (2047 - s + k) - 2047 = k from by omega]

/-- The sums from each position on. -/
theorem revsum_up (f : ℕ → ℕ → ℕ → ℕ → ℝ) (v : FVec Ideal S_ .f32) (hv : ∀ i, v i = ((0 : ℝ) : EReal)) :
    Host.reduceWindowAdd (F := Ideal) (φ := .f32) ![1, 1, 1, 2048] ![1, 1, 1, 1] ![0, 0, 0, 0] ![0, 0, 0, 2047] (up4 2 32 2048 2048 f) v
      reduceWindows_S2x32x2048x2048_S2x32x2048x2048_w1s1p0_0_w1s1p0_0_w1s1p0_0_w2048s1p0_2047 h_S_
    = up4 2 32 2048 2048 (fun n h r s => ∑ j ∈ Finset.range 2048, f n h r j - ∑ j ∈ Finset.range s, f n h r j) := by
  funext j
  have b0 : (j 0).val < 2 := (j 0).isLt
  have b1 : (j 1).val < 32 := (j 1).isLt
  have b2 : (j 2).val < 2048 := (j 2).isLt
  have b3 : (j 3).val < 2048 := (j 3).isLt
  show List.foldl _ _ _ = _
  dsimp only
  rw [hv]
  refine (foldl_coe _ _ (fun k : Fin Win.numel => if (j 3).val + k.val < 2048 then f (j 0).val (j 1).val (j 2).val ((j 3).val + k.val) else 0) (fun a k => ?_) 0).trans ?_
  · obtain ⟨w0, w1, w2, w3⟩ := win_symm k
    show _ + _ = _
    congr 1
    split
    · next hin =>
      have h3 := (hin 3).2
      change (j 3).val * 1 + (Win.rowMajor.symm k 3).val - 0 < 2048 at h3
      rw [w3] at h3
      rw [if_pos (by omega)]
      show ((f ((j 0).val * 1 + (Win.rowMajor.symm k 0).val - 0) ((j 1).val * 1 + (Win.rowMajor.symm k 1).val - 0) ((j 2).val * 1 + (Win.rowMajor.symm k 2).val - 0)
        ((j 3).val * 1 + (Win.rowMajor.symm k 3).val - 0) : ℝ) : EReal) = _
      rw [w0, w1, w2, w3]
      simp only [Nat.mul_one, Nat.add_zero, Nat.sub_zero]
    · next hin =>
      rw [if_neg fun hle => hin fun a => by
        match a with
        | ⟨0, _⟩ =>
          show 0 ≤ (j 0).val * 1 + (Win.rowMajor.symm k 0).val ∧ (j 0).val * 1 + (Win.rowMajor.symm k 0).val - 0 < 2
          omega
        | ⟨1, _⟩ =>
          show 0 ≤ (j 1).val * 1 + (Win.rowMajor.symm k 1).val ∧ (j 1).val * 1 + (Win.rowMajor.symm k 1).val - 0 < 32
          omega
        | ⟨2, _⟩ =>
          show 0 ≤ (j 2).val * 1 + (Win.rowMajor.symm k 2).val ∧ (j 2).val * 1 + (Win.rowMajor.symm k 2).val - 0 < 2048
          omega
        | ⟨3, _⟩ =>
          show 0 ≤ (j 3).val * 1 + (Win.rowMajor.symm k 3).val ∧ (j 3).val * 1 + (Win.rowMajor.symm k 3).val - 0 < 2048
          omega]
  · unfold up4
    dsimp only
    rw [← sum_from (f (j 0).val (j 1).val (j 2).val) b3.le, zero_add, ← List.ofFn_eq_map, List.sum_ofFn,
      Fin.sum_univ_eq_sum_range (fun k => if (j 3).val + k < 2048 then f (j 0).val (j 1).val (j 2).val ((j 3).val + k) else 0) Win.numel, win_numel]

/-- The sums up to each position. -/
theorem cumsum_up (f : ℕ → ℕ → ℕ → ℕ → ℝ) (v : FVec Ideal S_ .f32) (hv : ∀ i, v i = ((0 : ℝ) : EReal)) :
    Host.reduceWindowAdd (F := Ideal) (φ := .f32) ![1, 1, 1, 2048] ![1, 1, 1, 1] ![0, 0, 0, 2047] ![0, 0, 0, 0] (up4 2 32 2048 2048 f) v
      reduceWindows_S2x32x2048x2048_S2x32x2048x2048_w1s1p0_0_w1s1p0_0_w1s1p0_0_w2048s1p2047_0 h_S_
    = up4 2 32 2048 2048 (fun n h r s => ∑ j ∈ Finset.range (s + 1), f n h r j) := by
  funext j
  have b0 : (j 0).val < 2 := (j 0).isLt
  have b1 : (j 1).val < 32 := (j 1).isLt
  have b2 : (j 2).val < 2048 := (j 2).isLt
  have b3 : (j 3).val < 2048 := (j 3).isLt
  show List.foldl _ _ _ = _
  dsimp only
  rw [hv]
  refine (foldl_coe _ _ (fun k : Fin Win.numel => if 2047 ≤ (j 3).val + k.val then f (j 0).val (j 1).val (j 2).val ((j 3).val + k.val - 2047) else 0) (fun a k => ?_) 0).trans ?_
  · obtain ⟨w0, w1, w2, w3⟩ := win_symm k
    have bk : k.val < 2048 := lt_of_lt_of_eq k.isLt win_numel
    show _ + _ = _
    congr 1
    split
    · next hin =>
      have h3 := (hin 3).1
      change 2047 ≤ (j 3).val * 1 + (Win.rowMajor.symm k 3).val at h3
      rw [w3] at h3
      rw [if_pos (by omega)]
      show ((f ((j 0).val * 1 + (Win.rowMajor.symm k 0).val - 0) ((j 1).val * 1 + (Win.rowMajor.symm k 1).val - 0) ((j 2).val * 1 + (Win.rowMajor.symm k 2).val - 0)
        ((j 3).val * 1 + (Win.rowMajor.symm k 3).val - 2047) : ℝ) : EReal) = _
      rw [w0, w1, w2, w3]
      simp only [Nat.mul_one, Nat.add_zero, Nat.sub_zero]
    · next hin =>
      rw [if_neg fun hle => hin fun a => by
        match a with
        | ⟨0, _⟩ =>
          show 0 ≤ (j 0).val * 1 + (Win.rowMajor.symm k 0).val ∧ (j 0).val * 1 + (Win.rowMajor.symm k 0).val - 0 < 2
          omega
        | ⟨1, _⟩ =>
          show 0 ≤ (j 1).val * 1 + (Win.rowMajor.symm k 1).val ∧ (j 1).val * 1 + (Win.rowMajor.symm k 1).val - 0 < 32
          omega
        | ⟨2, _⟩ =>
          show 0 ≤ (j 2).val * 1 + (Win.rowMajor.symm k 2).val ∧ (j 2).val * 1 + (Win.rowMajor.symm k 2).val - 0 < 2048
          omega
        | ⟨3, _⟩ =>
          show 2047 ≤ (j 3).val * 1 + (Win.rowMajor.symm k 3).val ∧ (j 3).val * 1 + (Win.rowMajor.symm k 3).val - 2047 < 2048
          omega]
  · unfold up4
    dsimp only
    rw [← sum_upto (f (j 0).val (j 1).val (j 2).val) b3, zero_add, ← List.ofFn_eq_map, List.sum_ofFn,
      Fin.sum_univ_eq_sum_range (fun k => if 2047 ≤ (j 3).val + k then f (j 0).val (j 1).val (j 2).val ((j 3).val + k - 2047) else 0) Win.numel, win_numel]

end sums

end Cert.Attn

end
-- ==== Proof.Plain.lean ====
/- The plain mathematics of the backward pass, step by step, and its three results when the arrays hold real numbers. -/
module

public import proofs.«01_k».proof.Proof.Whole
public import proofs.«01_k».proof.Proof.Arrays
public import proofs.«01_k».proof.Proof.Gen.ReferenceIdeal.Run

@[expose] public section

set_option maxRecDepth 16384

noncomputable section

namespace Cert.Attn

open Idealize.ShloMosaic Cert.ReferenceIdeal Cert.ReferenceIdeal.Gen

abbrev A2 := FVec Ideal S4096x4096 .bf16
abbrev A4 := FVec Ideal S2x32x2048x2048 .f32

def heads (x : A2) : FVec Ideal S2x32x2048x128 .f32 :=
  transpose S2x32x2048x128 [0, 2, 1, 3] (shapeCast S2x2048x32x128 (extf .f32 x bitsLt_bf16_f32) shapeCasts_S4096x4096_S2x2048x32x128)
    transposes_S2x2048x32x128_S2x32x2048x128_0_2_1_3

def unheads (x : FVec Ideal S2x32x2048x128 .f32) : FVec Ideal S4096x4096 .f32 :=
  shapeCast S4096x4096 (transpose S2x2048x32x128 [0, 2, 1, 3] x transposes_S2x32x2048x128_S2x2048x32x128_0_2_1_3)
    shapeCasts_S2x2048x32x128_S4096x4096

def zero4 : A4 := broadcastInDim S2x32x2048x2048 ![] bcast_S_S2x32x2048x2048 (constant S_ .f32 0x00000000#32)
def inf4 : A4 := broadcastInDim S2x32x2048x2048 ![] bcast_S_S2x32x2048x2048 (constant S_ .f32 0x7F800000#32)
def scale4 : A4 := broadcastInDim S2x32x2048x2048 ![] bcast_S_S2x32x2048x2048 (constant S_ .f32 0x3DB504F3#32)

def mask4 : IVec S2x32x2048x2048 1 :=
  broadcastInDim S2x32x2048x2048 ![2, 3] bcast_S2048x2048_S2x32x2048x2048_2_3 (cmpi .slt (broadcastInDim S2048x2048 ![0, 1] bcast_S1x2048_S2048x2048_0_1
    (broadcastInDim S1x2048 ![1] bcast_S2048_S1x2048_1 (iotaInDim S2048 32 0))) (broadcastInDim S2048x2048 ![0, 1] bcast_S2048x1_S2048x2048_0_1
    (broadcastInDim S2048x1 ![0] bcast_S2048_S2048x1_0 (iotaInDim S2048 32 0))))

/-- The scores. -/
def scores (q k : A2) : A4 :=
  mulf (Host.dotGeneral dot_S2x32x2048x128_S2x32x2048x128_S2x32x2048x2048_3_3_2_2_01_01 none (heads q) (heads k)) scale4

/-- The logarithm of one plus the exponential. -/
def splus (x : A4) : A4 :=
  select (cmpf .une (subf x zero4) (subf x zero4)) (addf x zero4)
    (addf (maximumf x zero4) (Host.log1p (Host.exp (Host.negf (Host.absf (subf x zero4))))))

/-- The logarithm of the logistic function. -/
def loglog (x : A4) : A4 := Host.negf (splus (Host.negf x))

/-- One minus the logistic function. -/
def colog (x : A4) : A4 :=
  Host.exp (subf (select (cmpf .oeq (Host.negf x) inf4) zero4 (Host.negf x)) (select (cmpf .oeq (splus (Host.negf x)) inf4) zero4 (splus (Host.negf x))))

/-- The logarithm of what each key leaves of a row. -/
def leaves (z : A4) : A4 := select mask4 (loglog (Host.negf z)) zero4

/-- The sums over the later keys. -/
def later (b : A4) : A4 :=
  subf (Host.reduceWindowAdd ![1, 1, 1, 2048] ![1, 1, 1, 1] ![0, 0, 0, 0] ![0, 0, 0, 2047] b
    (broadcastInDim S_ ![] bcast_S_S_ (constant S_ .f32 0x00000000#32)) reduceWindows_S2x32x2048x2048_S2x32x2048x2048_w1s1p0_0_w1s1p0_0_w1s1p0_0_w2048s1p0_2047 h_S_) b

/-- The weights, before the mask and after it. -/
def weight (z : A4) : A4 := Host.exp (addf (loglog z) (later (leaves z)))
def weights (z : A4) : A4 := select mask4 (weight z) zero4

/-- The gradient of the weights' logarithms. -/
def dlog (z : A4) (v d : A2) : A4 :=
  mulf (select mask4 (Host.dotGeneral dot_S2x32x2048x128_S2x32x2048x128_S2x32x2048x2048_3_3_2_2_01_01 none (heads d) (heads v)) zero4) (weight z)

/-- The sums over the keys before. -/
def before (l : A4) : A4 :=
  addf (Host.negf l) (Host.reduceWindowAdd ![1, 1, 1, 2048] ![1, 1, 1, 1] ![0, 0, 0, 2047] ![0, 0, 0, 0] l
    (broadcastInDim S_ ![] bcast_S_S_ (constant S_ .f32 0x00000000#32)) reduceWindows_S2x32x2048x2048_S2x32x2048x2048_w1s1p0_0_w1s1p0_0_w1s1p0_0_w2048s1p2047_0 h_S_)

/-- The gradient of the scores, from the gradient of the logarithms. -/
def dscore (z l : A4) : A4 :=
  mulf (addf (Host.negf (mulf (Host.negf l) (colog z)))
    (Host.negf (Host.negf (mulf (Host.negf (select mask4 (before l) zero4)) (colog (Host.negf z)))))) scale4

/-- The three results. -/
def plain_dq (q k v d : A2) : FVec Ideal S4096x4096 .f32 :=
  unheads (Host.dotGeneral dot_S2x32x2048x2048_S2x32x2048x128_S2x32x2048x128_3_2_2_3_01_01 none (dscore (scores q k) (dlog (scores q k) v d)) (heads k))
def plain_dk (q k v d : A2) : FVec Ideal S4096x4096 .f32 :=
  unheads (Host.dotGeneral dot_S2x32x2048x2048_S2x32x2048x128_S2x32x2048x128_2_2_3_3_01_01 none (dscore (scores q k) (dlog (scores q k) v d)) (heads q))
def plain_dv (q k v d : A2) : FVec Ideal S4096x4096 .bf16 :=
  truncf .bf16 (unheads (transpose S2x32x2048x128 [0, 1, 3, 2] (Host.dotGeneral dot_S2x32x2048x128_S2x32x2048x2048_S2x32x128x2048_2_2_3_3_01_01 none
    (heads d) (weights (scores q k))) transposes_S2x32x128x2048_S2x32x2048x128_0_1_3_2)) bitsLt_bf16_f32

section run
open TcCoe
variable (m : (ℓ : Loc nD τ sig) → Buf (Elt Ideal) ℓ) (c : Dev nD)

theorem res_dq : Value.res_main_v56 (F := Ideal) m c = plain_dq (m ((c.tc : Thread nD τ).loc main_arg0)) (m ((c.tc : Thread nD τ).loc main_arg1))
    (m ((c.tc : Thread nD τ).loc main_arg2)) (m ((c.tc : Thread nD τ).loc main_arg3)) := rfl
theorem res_dk : Value.res_main_v54 (F := Ideal) m c = plain_dk (m ((c.tc : Thread nD τ).loc main_arg0)) (m ((c.tc : Thread nD τ).loc main_arg1))
    (m ((c.tc : Thread nD τ).loc main_arg2)) (m ((c.tc : Thread nD τ).loc main_arg3)) := rfl
theorem res_dv : Value.res_main_v57 (F := Ideal) m c = plain_dv (m ((c.tc : Thread nD τ).loc main_arg0)) (m ((c.tc : Thread nD τ).loc main_arg1))
    (m ((c.tc : Thread nD τ).loc main_arg2)) (m ((c.tc : Thread nD τ).loc main_arg3)) := rfl

end run

/-! ## At real numbers -/

section values
variable (f g : ℕ → ℕ → ℕ → ℕ → ℝ)

theorem zero4_up : zero4 = up4 2 32 2048 2048 (fun _ _ _ _ => 0) := const4_up _ _ ofBits_zero
theorem scale4_up : scale4 = up4 2 32 2048 2048 (fun _ _ _ _ => scl) := const4_up _ _ ofBits_scl
theorem mask4_up : mask4 = mk4 2 32 2048 2048 (fun _ _ r s => s < r) := mask_up
theorem inf4_eq : inf4 = fun _ => (⊤ : EReal) := inf4_up

def sp (x : ℝ) : ℝ := max x 0 + Real.log (1 + Real.exp (-|x|))

theorem splus_up : splus (up4 2 32 2048 2048 f) = up4 2 32 2048 2048 (fun n h r s => sp (f n h r s)) := by
  unfold splus
  simp only [zero4_up, subf_up4, une_up4, addf_up4, maximumf_up4, absf_up4, negf_up4, exp_up4, log1p_up4, select_up4, if_false, sub_zero]
  rfl

theorem sp_neg (x : ℝ) : -sp (-x) = lsg x := by
  unfold sp lsg
  rw [abs_neg, zero_sub]
  rcases le_total x 0 with h | h
  · rw [max_eq_left (by linarith), min_eq_left h]; ring
  · rw [max_eq_right (by linarith), min_eq_right h]; ring

theorem sp_pos (x : ℝ) : -sp x = lsg x - x := by
  unfold sp lsg
  rw [zero_sub]
  rcases le_total x 0 with h | h
  · rw [max_eq_right h, min_eq_left h]; ring
  · rw [max_eq_left h, min_eq_right h]; ring

theorem loglog_up : loglog (up4 2 32 2048 2048 f) = up4 2 32 2048 2048 (fun n h r s => lsg (f n h r s)) := by
  unfold loglog
  simp only [negf_up4, splus_up, sp_neg]

theorem colog_up : colog (up4 2 32 2048 2048 f) = up4 2 32 2048 2048 (fun n h r s => Real.exp (lsg (f n h r s) - f n h r s)) := by
  unfold colog
  simp only [negf_up4, splus_up, inf4_eq, oeq_up4, zero4_up, select_up4, if_false, subf_up4, exp_up4]
  refine up4_congr fun n _ h _ r _ s _ => ?_
  rw [← sp_neg]; congr 1; ring

theorem leaves_up : leaves (up4 2 32 2048 2048 f) = up4 2 32 2048 2048 (fun n h r s => if s < r then lsg (f n h r s) - f n h r s else 0) := by
  unfold leaves loglog
  simp only [negf_up4, splus_up, neg_neg, sp_pos, zero4_up, mask4_up, select_up4]

theorem later_up : later (up4 2 32 2048 2048 f)
    = up4 2 32 2048 2048 (fun n h r s => ∑ j ∈ Finset.range 2048, f n h r j - ∑ j ∈ Finset.range (s + 1), f n h r j) := by
  unfold later
  rw [revsum_up f (broadcastInDim S_ ![] bcast_S_S_ (constant S_ .f32 0x00000000#32)) fun i => ofBits_zero, subf_up4]
  refine up4_congr fun n _ h _ r _ s _ => ?_
  rw [Finset.sum_range_succ (fun j => f n h r j) s]; ring

theorem before_up : before (up4 2 32 2048 2048 f) = up4 2 32 2048 2048 (fun n h r s => ∑ j ∈ Finset.range s, f n h r j) := by
  unfold before
  rw [cumsum_up f (broadcastInDim S_ ![] bcast_S_S_ (constant S_ .f32 0x00000000#32)) fun i => ofBits_zero, negf_up4, addf_up4]
  refine up4_congr fun n _ h _ r _ s _ => ?_
  rw [Finset.sum_range_succ]; ring

theorem one_add_exp_lsg (x : ℝ) : Real.exp (lsg x) = 1 - Real.exp (lsg x - x) := by
  have h1 : ∀ y : ℝ, 0 < 1 + Real.exp y := fun y => by positivity
  have e : lsg x = x - Real.log (1 + Real.exp x) := by
    unfold lsg
    rw [zero_sub]
    rcases le_total x 0 with h | h
    · rw [min_eq_left h, abs_of_nonpos h, neg_neg]
    · rw [min_eq_right h, abs_of_nonneg h]
      have : 1 + Real.exp x = Real.exp x * (1 + Real.exp (-x)) := by rw [mul_add, ← Real.exp_add]; simp [add_comm]
      rw [this, Real.log_mul (Real.exp_pos x).ne' (h1 _).ne', Real.log_exp]; ring
  rw [e, show x - Real.log (1 + Real.exp x) - x = -Real.log (1 + Real.exp x) from by ring, Real.exp_sub, Real.exp_neg, Real.exp_log (h1 x)]
  field_simp [(h1 x).ne']
  ring

variable (x : Step)

theorem heads_eq (a : ℕ → ℕ → ℝ) : heads (up2 4096 4096 a) = up4 2 32 2048 128 (fun n h r c => part a n h r c) := heads_up a

theorem scores_up : scores (up2 4096 4096 x.q) (up2 4096 4096 x.k) = up4 2 32 2048 2048 x.z := by
  unfold scores
  simp only [heads_eq, dot_nt, scale4_up, mulf_up4]
  refine up4_congr fun n _ h _ r _ s _ => ?_
  unfold Step.z rz
  rw [zero_add]

theorem leaves_eq : leaves (up4 2 32 2048 2048 x.z) = up4 2 32 2048 2048 x.l := leaves_up x.z

theorem weights_up : weights (up4 2 32 2048 2048 x.z) = up4 2 32 2048 2048 x.w := by
  unfold weights weight
  simp only [leaves_eq, later_up, loglog_up, addf_up4, exp_up4, zero4_up, mask4_up, select_up4]
  rfl

theorem dlog_up : dlog (up4 2 32 2048 2048 x.z) (up2 4096 4096 x.v) (up2 4096 4096 x.d) = up4 2 32 2048 2048 x.dl := by
  unfold dlog weight
  simp only [leaves_eq, later_up, loglog_up, addf_up4, exp_up4, zero4_up, mask4_up, select_up4, heads_eq, dot_nt, mulf_up4]
  refine up4_congr fun n _ h _ r _ s _ => ?_
  unfold Step.dl Step.w rdw
  rw [zero_add]
  split <;> simp

theorem dscore_up : dscore (up4 2 32 2048 2048 x.z) (up4 2 32 2048 2048 x.dl) = up4 2 32 2048 2048 x.dz := by
  unfold dscore
  simp only [negf_up4, colog_up, before_up, zero4_up, scale4_up, mask4_up, select_up4, mulf_up4, addf_up4]
  refine up4_congr fun n _ h _ r _ s _ => ?_
  unfold Step.dz
  congr 1
  have e1 : Real.exp (lsg (-x.z n h r s) - -x.z n h r s) = Real.exp (lsg (x.z n h r s)) := by
    rw [← sp_neg, neg_neg, sp_pos]; congr 1; ring
  have e2 : Real.exp (lsg (x.z n h r s) - x.z n h r s) = 1 - Real.exp (lsg (x.z n h r s)) := by
    rw [one_add_exp_lsg]; ring
  rw [e1, e2]
  split
  · ring
  · rename_i hs
    rw [Step.dl, Step.w_of_le x n h (by omega)]
    ring

theorem plain_dq_up : plain_dq (up2 4096 4096 x.q) (up2 4096 4096 x.k) (up2 4096 4096 x.v) (up2 4096 4096 x.d) = up2 4096 4096 x.dq := by
  unfold plain_dq
  rw [scores_up, dlog_up, dscore_up, heads_eq, dot_nn]
  refine (unheads_up _).trans (up2_congr fun i _ c _ => ?_)
  unfold Step.dq part
  rw [Nat.div_add_mod]

theorem plain_dk_up : plain_dk (up2 4096 4096 x.q) (up2 4096 4096 x.k) (up2 4096 4096 x.v) (up2 4096 4096 x.d) = up2 4096 4096 x.dk := by
  unfold plain_dk
  rw [scores_up, dlog_up, dscore_up, heads_eq, dot_tn]
  refine (unheads_up _).trans (up2_congr fun i _ c _ => ?_)
  unfold Step.dk part
  rw [Nat.div_add_mod]

theorem plain_dv_up : plain_dv (up2 4096 4096 x.q) (up2 4096 4096 x.k) (up2 4096 4096 x.v) (up2 4096 4096 x.d) = up2 4096 4096 x.dv := by
  unfold plain_dv
  rw [scores_up, weights_up, heads_eq, dot_tt, swap_up]
  refine (congrArg (fun y : FVec Ideal S4096x4096 .f32 => truncf .bf16 y bitsLt_bf16_f32) (unheads_up _)).trans ?_
  refine Eq.trans (b := up2 4096 4096 fun i c => ∑ r ∈ Finset.range 2048, part x.d (i / 2048) (c / 128) r (c % 128) * x.w (i / 2048) (c / 128) r (i % 2048))
    rfl (up2_congr fun i _ c _ => ?_)
  unfold Step.dv part
  rw [Nat.div_add_mod]
  exact Finset.sum_congr rfl fun r _ => mul_comm _ _

end values

end Cert.Attn

end
-- ==== Proof.Inputs.lean ====
/- What each grid point is given: the blocks of the four arrays and of the rows' sums, when the arrays hold real numbers. -/
module

public import proofs.«01_k».proof.Proof.Whole
public import proofs.«01_k».proof.Proof.Gen.KernelIdeal.Value
public import Idealize.ShloMosaic.Lib.Pipeline.ValueKit

@[expose] public section

set_option maxRecDepth 16384

noncomputable section

namespace Cert.Attn

open Idealize.ShloMosaic Idealize.ShloMosaic.TcCoe Idealize.SL.Sem Cert.KernelIdeal Cert.KernelIdeal.Gen

/-- Grid point `t` is block `t % 4` of the rows of sequence `t / 64` and of the pair `t / 4 % 16` of heads. -/
theorem coords_eq : ∀ t : Fin cfg0.N, (grid0.coords t 0).val = t.val / 64 ∧ (grid0.coords t 1).val = t.val / 4 % 16 ∧ (grid0.coords t 2).val = t.val % 4 :=
  (by decide +kernel : ∀ t : Fin grid0.N, _)

theorem idx_eq : ∀ t : Fin cfg0.N, win0_0.index t = ![4 * (t.val / 64) + t.val % 4, t.val / 4 % 16]
    ∧ win0_1.index t = ![t.val / 64, t.val / 4 % 16] ∧ win0_2.index t = ![t.val / 64, t.val / 4 % 16]
    ∧ win0_3.index t = ![4 * (t.val / 64) + t.val % 4, t.val / 4 % 16] ∧ win0_4.index t = ![t.val / 64, t.val / 4 % 16, t.val % 4, 0]
    ∧ win0_5.index t = ![4 * (t.val / 64) + t.val % 4, t.val / 4 % 16] ∧ win0_6.index t = ![t.val / 64, t.val / 4 % 16]
    ∧ win0_7.index t = ![t.val / 64, t.val / 4 % 16] :=
  (by decide +kernel : ∀ t : Fin grid0.N, _)

section inputs
variable (m : (ℓ : Loc nD τ sig) → Buf (Elt Ideal) ℓ) (c : Dev nD) (x : Step) (t : Fin cfg0.N)

/-- The block of the step that grid point `t` works on. -/
abbrev pblock : Block := x.block (t.val / 64) (t.val / 4 % 16) (t.val % 4)

theorem in0 (h : m ((c : Thread nD τ).loc main_arg0) = up2 4096 4096 x.q) : (iblk m c 0 t : Vec Ideal S512x256 .bf16) = up2 512 256 (pblock x t).q := by
  funext y
  refine (congrFun ((V_main_arg0 m c).trans h) (((cfg0.win 0).blk t).view.emb y)).trans ?_
  unfold up2
  blk_simp [idx_eq t]
  exact congrArg (fun a : ℝ => (a : EReal)) (congrArg₂ x.q (by omega) (by omega))

theorem in1 (h : m ((c : Thread nD τ).loc main_arg1) = up2 4096 4096 x.k) : (iblk m c 1 t : Vec Ideal S2048x256 .bf16) = up2 2048 256 (pblock x t).k := by
  funext y
  refine (congrFun ((V_main_arg1 m c).trans h) (((cfg0.win 1).blk t).view.emb y)).trans ?_
  unfold up2
  blk_simp [idx_eq t]
  exact congrArg (fun a : ℝ => (a : EReal)) (congrArg₂ x.k (by omega) (by omega))

theorem in2 (h : m ((c : Thread nD τ).loc main_arg2) = up2 4096 4096 x.v) : (iblk m c 2 t : Vec Ideal S2048x256 .bf16) = up2 2048 256 (pblock x t).v := by
  funext y
  refine (congrFun ((V_main_arg2 m c).trans h) (((cfg0.win 2).blk t).view.emb y)).trans ?_
  unfold up2
  blk_simp [idx_eq t]
  exact congrArg (fun a : ℝ => (a : EReal)) (congrArg₂ x.v (by omega) (by omega))

theorem in3 (h : m ((c : Thread nD τ).loc main_arg3) = up2 4096 4096 x.d) : (iblk m c 3 t : Vec Ideal S512x256 .bf16) = up2 512 256 (pblock x t).d := by
  funext y
  refine (congrFun ((V_main_arg3 m c).trans h) (((cfg0.win 3).blk t).view.emb y)).trans ?_
  unfold up2
  blk_simp [idx_eq t]
  exact congrArg (fun a : ℝ => (a : EReal)) (congrArg₂ x.d (by omega) (by omega))

theorem in4 (h : ∀ j, V m c main_v20 j = ((∑ k ∈ Finset.range 2048, x.l (j 0).val (j 1).val (j 2).val k : ℝ) : EReal)) (j : S1x2x512x1.Idx) :
    (iblk m c 4 t : Vec Ideal S1x2x512x1 .f32) j = (((pblock x t).bt (j 1).val (j 2).val : ℝ) : EReal) := by
  refine (h (((cfg0.win 4).blk t).view.emb j)).trans ?_
  blk_simp [idx_eq t]
  rw [Nat.mul_comm (t.val / 4 % 16) 2, Nat.mul_comm (t.val % 4) 512]
  rfl

end inputs

end Cert.Attn

end
-- ==== Proof.TileEq.lean ====
/- A tile of the program in terms of the block: what each of its vectors is when the vectors it loads are the block's. -/
module

public import proofs.«01_k».proof.Proof.Model

@[expose] public section

set_option maxRecDepth 16384

noncomputable section

namespace Cert.Attn

open Idealize.ShloMosaic Cert.KernelIdeal Cert.KernelIdeal.Gen

/-- What is left of the rows' sums when a tile's keys are taken off, and the tile's gradient added to the running sum. -/
theorem pb_succ (x : Block) (L h r : ℕ) : x.pb L h r - ∑ s ∈ Finset.range 256, x.b h r (L + s) = x.pb (L + 256) h r := by
  unfold Block.pb
  rw [sum_split _ L 256, sub_sub]

theorem pdl_succ (x : Block) (L h r : ℕ) : x.pdl L h r + ∑ s ∈ Finset.range 256, x.dl h r (L + s) = x.pdl (L + 256) h r := by
  unfold Block.pdl
  rw [sum_split _ L 256]

section tile_512
variable (x : Block) (h a L : ℕ) {m : IVec S512x256 1} {q d : FVec Ideal S512x128 .bf16} {k v : FVec Ideal S256x128 .bf16}
  {rem swept : FVec Ideal S512x1 .f32}
  (hm : ∃ (p : ℕ → ℕ → Prop) (_ : ∀ r s, Decidable (p r s)), m = mk2 512 256 p ∧ ∀ r s, p r s ↔ L + s < x.t0 + (a + r))
  (hq : q = up2 512 128 (tQ x h a)) (hd : d = up2 512 128 (tD x h a)) (hk : k = up2 256 128 (tK x h L)) (hv : v = up2 256 128 (tV x h L))
  (hr : rem = up2 512 1 fun r _ => x.pb L h (a + r)) (hs : swept = up2 512 1 fun r _ => x.pdl L h (a + r))

include hm hq hk in
theorem rem512_eq (hr : rem = up2 512 1 fun r _ => x.pb L h (a + r)) :
    subf rem (csum512 (cb512 m q k)) = up2 512 1 fun r _ => x.pb (L + 256) h (a + r) := by
  obtain ⟨p, _, rfl, hp⟩ := hm
  subst hq hk hr
  rw [cb512_up, csum512_up, subf_up2]
  refine up2_congr fun r _ c _ => ?_
  rw [← pb_succ, Finset.sum_congr rfl fun s hs => rbm_tile x h a L p hp r s]

include hm hq hd hk hv hr in
theorem swept512_eq (hs : swept = up2 512 1 fun r _ => x.pdl L h (a + r)) :
    addf swept (csum512 (cdl512 m q d k v rem)) = up2 512 1 fun r _ => x.pdl (L + 256) h (a + r) := by
  obtain ⟨p, _, rfl, hp⟩ := hm
  subst hq hd hk hv hr hs
  rw [cdl512_up, csum512_up, addf_up2]
  refine up2_congr fun r _ c _ => ?_
  rw [← pdl_succ, Finset.sum_congr rfl fun s hs => rdlm_tile x h a L p hp r (Finset.mem_range.1 hs)]

include hm hq hd hk hv hr hs in
theorem dq512_eq : cdq512 m q d k v rem swept
    = up2 512 128 fun r c => ∑ s ∈ Finset.range 256, x.dz h (a + r) (L + s) * x.k (L + s) (128 * h + c) := by
  obtain ⟨p, _, rfl, hp⟩ := hm
  subst hq hd hk hv hr hs
  rw [cdq512_up]
  refine up2_congr fun r _ c _ => ?_
  rw [zero_add]
  exact Finset.sum_congr rfl fun s hs => by rw [rdzm_tile x h a L p hp r (Finset.mem_range.1 hs)]

include hm hq hd hk hv hr hs in
theorem dk512_eq (O : ℕ → ℕ → ℝ) {o : FVec Ideal S256x128 .f32} (ho : o = up2 256 128 O) : cdk512 m q d k v rem swept o
    = up2 256 128 fun s c => O s c + ∑ r ∈ Finset.range 512, x.dz h (a + r) (L + s) * x.q (a + r) (128 * h + c) := by
  obtain ⟨p, _, rfl, hp⟩ := hm
  subst hq hd hk hv hr hs ho
  rw [cdk512_up]
  refine up2_congr fun s hs c _ => ?_
  rw [zero_add]
  exact congrArg _ (Finset.sum_congr rfl fun r _ => by rw [rdzm_tile x h a L p hp r hs])

include hm hq hk hr in
theorem dv512_eq (hd : d = up2 512 128 (tD x h a)) (O : ℕ → ℕ → ℝ) {o : FVec Ideal S256x128 .f32} (ho : o = up2 256 128 O) : cdv512 m q d k rem o
    = up2 256 128 fun s c => O s c + ∑ r ∈ Finset.range 512, x.w h (a + r) (L + s) * x.d (a + r) (128 * h + c) := by
  obtain ⟨p, _, rfl, hp⟩ := hm
  subst hq hd hk hr ho
  rw [cdv512_up]
  refine up2_congr fun s hs c _ => ?_
  rw [zero_add]
  exact congrArg _ (Finset.sum_congr rfl fun r _ => by rw [rwm_tile x h a L p hp r hs])

end tile_512

section tile_256
variable (x : Block) (h a L : ℕ) {m : IVec S256x256 1} {q d : FVec Ideal S256x128 .bf16} {k v : FVec Ideal S256x128 .bf16}
  {rem swept : FVec Ideal S256x1 .f32}
  (hm : ∃ (p : ℕ → ℕ → Prop) (_ : ∀ r s, Decidable (p r s)), m = mk2 256 256 p ∧ ∀ r s, p r s ↔ L + s < x.t0 + (a + r))
  (hq : q = up2 256 128 (tQ x h a)) (hd : d = up2 256 128 (tD x h a)) (hk : k = up2 256 128 (tK x h L)) (hv : v = up2 256 128 (tV x h L))
  (hr : rem = up2 256 1 fun r _ => x.pb L h (a + r)) (hs : swept = up2 256 1 fun r _ => x.pdl L h (a + r))

include hm hq hk in
theorem rem256_eq (hr : rem = up2 256 1 fun r _ => x.pb L h (a + r)) :
    subf rem (csum256 (cb256 m q k)) = up2 256 1 fun r _ => x.pb (L + 256) h (a + r) := by
  obtain ⟨p, _, rfl, hp⟩ := hm
  subst hq hk hr
  rw [cb256_up, csum256_up, subf_up2]
  refine up2_congr fun r _ c _ => ?_
  rw [← pb_succ, Finset.sum_congr rfl fun s hs => rbm_tile x h a L p hp r s]

include hm hq hd hk hv hr in
theorem swept256_eq (hs : swept = up2 256 1 fun r _ => x.pdl L h (a + r)) :
    addf swept (csum256 (cdl256 m q d k v rem)) = up2 256 1 fun r _ => x.pdl (L + 256) h (a + r) := by
  obtain ⟨p, _, rfl, hp⟩ := hm
  subst hq hd hk hv hr hs
  rw [cdl256_up, csum256_up, addf_up2]
  refine up2_congr fun r _ c _ => ?_
  rw [← pdl_succ, Finset.sum_congr rfl fun s hs => rdlm_tile x h a L p hp r (Finset.mem_range.1 hs)]

include hm hq hd hk hv hr hs in
theorem dq256_eq : cdq256 m q d k v rem swept
    = up2 256 128 fun r c => ∑ s ∈ Finset.range 256, x.dz h (a + r) (L + s) * x.k (L + s) (128 * h + c) := by
  obtain ⟨p, _, rfl, hp⟩ := hm
  subst hq hd hk hv hr hs
  rw [cdq256_up]
  refine up2_congr fun r _ c _ => ?_
  rw [zero_add]
  exact Finset.sum_congr rfl fun s hs => by rw [rdzm_tile x h a L p hp r (Finset.mem_range.1 hs)]

include hm hq hd hk hv hr hs in
theorem dk256_eq (O : ℕ → ℕ → ℝ) {o : FVec Ideal S256x128 .f32} (ho : o = up2 256 128 O) : cdk256 m q d k v rem swept o
    = up2 256 128 fun s c => O s c + ∑ r ∈ Finset.range 256, x.dz h (a + r) (L + s) * x.q (a + r) (128 * h + c) := by
  obtain ⟨p, _, rfl, hp⟩ := hm
  subst hq hd hk hv hr hs ho
  rw [cdk256_up]
  refine up2_congr fun s hs c _ => ?_
  rw [zero_add]
  exact congrArg _ (Finset.sum_congr rfl fun r _ => by rw [rdzm_tile x h a L p hp r hs])

include hm hq hk hr in
theorem dv256_eq (hd : d = up2 256 128 (tD x h a)) (O : ℕ → ℕ → ℝ) {o : FVec Ideal S256x128 .f32} (ho : o = up2 256 128 O) : cdv256 m q d k rem o
    = up2 256 128 fun s c => O s c + ∑ r ∈ Finset.range 256, x.w h (a + r) (L + s) * x.d (a + r) (128 * h + c) := by
  obtain ⟨p, _, rfl, hp⟩ := hm
  subst hq hd hk hr ho
  rw [cdv256_up]
  refine up2_congr fun s hs c _ => ?_
  rw [zero_add]
  exact congrArg _ (Finset.sum_congr rfl fun r _ => by rw [rwm_tile x h a L p hp r hs])

end tile_256

section tile_512u
variable (x : Block) (h a L : ℕ) {q d : FVec Ideal S512x128 .bf16} {k v : FVec Ideal S256x128 .bf16}
  {rem swept : FVec Ideal S512x1 .f32}
  (hL : ∀ r s, s < 256 → L + s < x.t0 + (a + r))
  (hq : q = up2 512 128 (tQ x h a)) (hd : d = up2 512 128 (tD x h a)) (hk : k = up2 256 128 (tK x h L)) (hv : v = up2 256 128 (tV x h L))
  (hr : rem = up2 512 1 fun r _ => x.pb L h (a + r)) (hs : swept = up2 512 1 fun r _ => x.pdl L h (a + r))

include hL hq hk in
theorem rem512u_eq (hr : rem = up2 512 1 fun r _ => x.pb L h (a + r)) :
    subf rem (csum512 (cb512u q k)) = up2 512 1 fun r _ => x.pb (L + 256) h (a + r) := by
  subst hq hk hr
  rw [cb512u_up, csum512_up, subf_up2]
  refine up2_congr fun r _ c _ => ?_
  rw [← pb_succ, Finset.sum_congr rfl fun s hs => rbu_tile x h a L hL r (Finset.mem_range.1 hs)]

include hL hq hd hk hv hr in
theorem swept512u_eq (hs : swept = up2 512 1 fun r _ => x.pdl L h (a + r)) :
    addf swept (csum512 (cdl512u q d k v rem)) = up2 512 1 fun r _ => x.pdl (L + 256) h (a + r) := by
  subst hq hd hk hv hr hs
  rw [cdl512u_up, csum512_up, addf_up2]
  refine up2_congr fun r _ c _ => ?_
  rw [← pdl_succ, Finset.sum_congr rfl fun s hs => rdlu_tile x h a L hL r (Finset.mem_range.1 hs)]

include hL hq hd hk hv hr hs in
theorem dq512u_eq : cdq512u q d k v rem swept
    = up2 512 128 fun r c => ∑ s ∈ Finset.range 256, x.dz h (a + r) (L + s) * x.k (L + s) (128 * h + c) := by
  subst hq hd hk hv hr hs
  rw [cdq512u_up]
  refine up2_congr fun r _ c _ => ?_
  rw [zero_add]
  exact Finset.sum_congr rfl fun s hs => by rw [rdzu_tile x h a L hL r (Finset.mem_range.1 hs)]

include hL hq hd hk hv hr hs in
theorem dk512u_eq (O : ℕ → ℕ → ℝ) {o : FVec Ideal S256x128 .f32} (ho : o = up2 256 128 O) : cdk512u q d k v rem swept o
    = up2 256 128 fun s c => O s c + ∑ r ∈ Finset.range 512, x.dz h (a + r) (L + s) * x.q (a + r) (128 * h + c) := by
  subst hq hd hk hv hr hs ho
  rw [cdk512u_up]
  refine up2_congr fun s hs c _ => ?_
  rw [zero_add]
  exact congrArg _ (Finset.sum_congr rfl fun r _ => by rw [rdzu_tile x h a L hL r hs])

include hL hq hk hr in
theorem dv512u_eq (hd : d = up2 512 128 (tD x h a)) (O : ℕ → ℕ → ℝ) {o : FVec Ideal S256x128 .f32} (ho : o = up2 256 128 O) : cdv512u q d k rem o
    = up2 256 128 fun s c => O s c + ∑ r ∈ Finset.range 512, x.w h (a + r) (L + s) * x.d (a + r) (128 * h + c) := by
  subst hq hd hk hr ho
  rw [cdv512u_up]
  refine up2_congr fun s hs c _ => ?_
  rw [zero_add]
  exact congrArg _ (Finset.sum_congr rfl fun r _ => by rw [rwu_tile x h a L hL r hs])

end tile_512u

end Cert.Attn

end
-- ==== Proof.Windows.lean ====
/- Windows of matrices of real numbers: what a load reads of contents known as a matrix, and what the contents are after the store of
   a window known as a matrix. -/
module

public import proofs.«01_k».proof.Proof.Reals
public import Idealize.ShloMosaic.Lib.VecWindow

@[expose] public section

set_option maxRecDepth 16384

noncomputable section

namespace Cert.Attn

open Idealize.ShloMosaic

theorem window_up2 {N M n m : ℕ} (G g : ℕ → ℕ → ℝ) {off : Fin 2 → ℕ} (a b : ℕ) (ho : off = ![a, b])
    (inb : ∀ i, off i + (![n, m] : Fin 2 → ℕ) i ≤ (⟨2, ![N, M]⟩ : Shape).size i)
    (hg : ∀ r < n, ∀ c < m, G (a + r) (b + c) = g r c) :
    VecWindow.window (s := ⟨2, ![N, M]⟩) (up2 N M G) off ![n, m] inb = up2 n m g := by
  subst ho
  funext y
  have e0 : ((Rect.unit (s := ⟨2, ![N, M]⟩) ![a, b] ![n, m] inb).emb y 0).val = a + (y 0).val := by
    show a + 1 * (y 0).val = _; omega
  have e1 : ((Rect.unit (s := ⟨2, ![N, M]⟩) ![a, b] ![n, m] inb).emb y 1).val = b + (y 1).val := by
    show b + 1 * (y 1).val = _; omega
  show ((G _ _ : ℝ) : EReal) = ((g _ _ : ℝ) : EReal)
  rw [e0, e1]
  exact congrArg _ (hg _ (y 0).isLt _ (y 1).isLt)

theorem window_up3 {L N M l n m : ℕ} (G g : ℕ → ℕ → ℕ → ℝ) {off : Fin 3 → ℕ} (o a b : ℕ) (ho : off = ![o, a, b])
    (inb : ∀ i, off i + (![l, n, m] : Fin 3 → ℕ) i ≤ (⟨3, ![L, N, M]⟩ : Shape).size i)
    (hg : ∀ p < l, ∀ r < n, ∀ c < m, G (o + p) (a + r) (b + c) = g p r c) :
    VecWindow.window (s := ⟨3, ![L, N, M]⟩) (up3 L N M G) off ![l, n, m] inb = up3 l n m g := by
  subst ho
  funext y
  have e0 : ((Rect.unit (s := ⟨3, ![L, N, M]⟩) ![o, a, b] ![l, n, m] inb).emb y 0).val = o + (y 0).val := by
    show o + 1 * (y 0).val = _; omega
  have e1 : ((Rect.unit (s := ⟨3, ![L, N, M]⟩) ![o, a, b] ![l, n, m] inb).emb y 1).val = a + (y 1).val := by
    show a + 1 * (y 1).val = _; omega
  have e2 : ((Rect.unit (s := ⟨3, ![L, N, M]⟩) ![o, a, b] ![l, n, m] inb).emb y 2).val = b + (y 2).val := by
    show b + 1 * (y 2).val = _; omega
  show ((G _ _ _ : ℝ) : EReal) = ((g _ _ _ : ℝ) : EReal)
  rw [e0, e1, e2]
  exact congrArg _ (hg _ (y 0).isLt _ (y 1).isLt _ (y 2).isLt)

theorem put_up2 {N M n m : ℕ} (G G' g : ℕ → ℕ → ℝ) (a b : ℕ)
    (hg : ∀ r < n, ∀ c < m, g r c = G' (a + r) (b + c))
    (hG : ∀ r < N, ∀ c < M, ¬ (a ≤ r ∧ r < a + n ∧ b ≤ c ∧ c < b + m) → G r c = G' r c) :
    VecWindow.put (s := ⟨2, ![N, M]⟩) (up2 N M G) ![a, b] ![n, m] (up2 n m g) = up2 N M G' := by
  funext y
  unfold VecWindow.put
  split
  next h =>
    have h0 := h 0
    have h1 := h 1
    have h0' : a ≤ (y 0).val ∧ (y 0).val < a + n := h0
    have h1' : b ≤ (y 1).val ∧ (y 1).val < b + m := h1
    show ((g ((y 0).val - a) ((y 1).val - b) : ℝ) : EReal) = ((G' _ _ : ℝ) : EReal)
    rw [hg _ (by omega) _ (by omega)]
    congr 2 <;> omega
  next h =>
    refine congrArg _ (hG _ (y 0).isLt _ (y 1).isLt fun hh => h ?_)
    intro i
    fin_cases i
    · exact ⟨hh.1, hh.2.1⟩
    · exact hh.2.2

theorem put_up3 {L N M l n m : ℕ} (G G' g : ℕ → ℕ → ℕ → ℝ) (o a b : ℕ)
    (hg : ∀ p < l, ∀ r < n, ∀ c < m, g p r c = G' (o + p) (a + r) (b + c))
    (hG : ∀ p < L, ∀ r < N, ∀ c < M, ¬ (o ≤ p ∧ p < o + l ∧ a ≤ r ∧ r < a + n ∧ b ≤ c ∧ c < b + m) → G p r c = G' p r c) :
    VecWindow.put (s := ⟨3, ![L, N, M]⟩) (up3 L N M G) ![o, a, b] ![l, n, m] (up3 l n m g) = up3 L N M G' := by
  funext y
  unfold VecWindow.put
  split
  next h =>
    have h0 : o ≤ (y 0).val ∧ (y 0).val < o + l := h 0
    have h1 : a ≤ (y 1).val ∧ (y 1).val < a + n := h 1
    have h2 : b ≤ (y 2).val ∧ (y 2).val < b + m := h 2
    show ((g ((y 0).val - o) ((y 1).val - a) ((y 2).val - b) : ℝ) : EReal) = ((G' _ _ _ : ℝ) : EReal)
    rw [hg _ (by omega) _ (by omega) _ (by omega)]
    congr 2 <;> omega
  next h =>
    refine congrArg _ (hG _ (y 0).isLt _ (y 1).isLt _ (y 2).isLt fun hh => h ?_)
    intro i
    fin_cases i
    · exact ⟨hh.1, hh.2.1⟩
    · exact ⟨hh.2.2.1, hh.2.2.2.1⟩
    · exact hh.2.2.2.2

section views
variable {sig : RefSig} {κ : Kind} {sp : Space}

theorem readAt2_f32 {N M n m : ℕ} (v : View sig κ sp ⟨2, ![N, M]⟩ .f32) {f : v.ty.Contents (Elt Ideal)} {G : ℕ → ℕ → ℝ}
    (hf : v.read (Elt Ideal) f = up2 N M G) (g : ℕ → ℕ → ℝ) {off : Fin 2 → ℕ} (a b : ℕ) (ho : off = ![a, b])
    (inb : ∀ i, off i + (![n, m] : Fin 2 → ℕ) i ≤ (⟨2, ![N, M]⟩ : Shape).size i)
    (hg : ∀ r < n, ∀ c < m, G (a + r) (b + c) = g r c) :
    v.readAt (Elt Ideal) (Rect.unit off ![n, m] inb).toLoadRect f = up2 n m g := by
  rw [View.readAt_unit v f inb rfl inb, hf]
  exact window_up2 G g a b ho inb hg

theorem readAt2_bf16 {N M n m : ℕ} (v : View sig κ sp ⟨2, ![N, M]⟩ .bf16) {f : v.ty.Contents (Elt Ideal)} {G : ℕ → ℕ → ℝ}
    (hf : v.read (Elt Ideal) f = up2 N M G) (g : ℕ → ℕ → ℝ) {off : Fin 2 → ℕ} (a b : ℕ) (ho : off = ![a, b])
    (inb : ∀ i, off i + (![n, m] : Fin 2 → ℕ) i ≤ (⟨2, ![N, M]⟩ : Shape).size i)
    (hg : ∀ r < n, ∀ c < m, G (a + r) (b + c) = g r c) :
    v.readAt (Elt Ideal) (Rect.unit off ![n, m] inb).toLoadRect f = up2 n m g := by
  rw [View.readAt_unit v f inb rfl inb, hf]
  exact window_up2 G g a b ho inb hg

theorem readAt3 {L N M l n m : ℕ} (v : View sig κ sp ⟨3, ![L, N, M]⟩ .f32) {f : v.ty.Contents (Elt Ideal)} {G : ℕ → ℕ → ℕ → ℝ}
    (hf : v.read (Elt Ideal) f = up3 L N M G) (g : ℕ → ℕ → ℕ → ℝ) {off : Fin 3 → ℕ} (o a b : ℕ) (ho : off = ![o, a, b])
    (inb : ∀ i, off i + (![l, n, m] : Fin 3 → ℕ) i ≤ (⟨3, ![L, N, M]⟩ : Shape).size i)
    (hg : ∀ p < l, ∀ r < n, ∀ c < m, G (o + p) (a + r) (b + c) = g p r c) :
    v.readAt (Elt Ideal) (Rect.unit off ![l, n, m] inb).toLoadRect f = up3 l n m g := by
  rw [View.readAt_unit v f inb rfl inb, hf]
  exact window_up3 G g o a b ho inb hg

theorem writes2 {N M n m : ℕ} (v : View sig κ sp ⟨2, ![N, M]⟩ .f32) {f : v.ty.Contents (Elt Ideal)}
    {L : List (View.Piece (Elt Ideal) ⟨2, ![N, M]⟩ .f32)} {G : ℕ → ℕ → ℝ} (hf : v.read (Elt Ideal) (v.writes (Elt Ideal) f L) = up2 N M G)
    (G' : ℕ → ℕ → ℝ) {off : Fin 2 → ℕ} (a b : ℕ) (ho : off = ![a, b])
    (inb : ∀ i, off i + (![n, m] : Fin 2 → ℕ) i ≤ (⟨2, ![N, M]⟩ : Shape).size i)
    {w : (Rect.unit (s := ⟨2, ![N, M]⟩) off ![n, m] inb).shape.Idx → EReal} {g : ℕ → ℕ → ℝ} (hw : w = up2 n m g)
    (hg : ∀ r < n, ∀ c < m, g r c = G' (a + r) (b + c))
    (hG : ∀ r < N, ∀ c < M, ¬ (a ≤ r ∧ r < a + n ∧ b ≤ c ∧ c < b + m) → G r c = G' r c) :
    v.read (Elt Ideal) (v.writes (Elt Ideal) f (⟨Rect.unit (s := ⟨2, ![N, M]⟩) off ![n, m] inb, w⟩ :: L)) = up2 N M G' := by
  rw [View.read_writes_cons_put v f inb w L ho, hf, hw]
  exact put_up2 G G' g a b hg hG

theorem writes3 {K N M l n m : ℕ} (v : View sig κ sp ⟨3, ![K, N, M]⟩ .f32) {f : v.ty.Contents (Elt Ideal)}
    {L : List (View.Piece (Elt Ideal) ⟨3, ![K, N, M]⟩ .f32)} {G : ℕ → ℕ → ℕ → ℝ} (hf : v.read (Elt Ideal) (v.writes (Elt Ideal) f L) = up3 K N M G)
    (G' : ℕ → ℕ → ℕ → ℝ) {off : Fin 3 → ℕ} (o a b : ℕ) (ho : off = ![o, a, b])
    (inb : ∀ i, off i + (![l, n, m] : Fin 3 → ℕ) i ≤ (⟨3, ![K, N, M]⟩ : Shape).size i)
    {w : (Rect.unit (s := ⟨3, ![K, N, M]⟩) off ![l, n, m] inb).shape.Idx → EReal} {g : ℕ → ℕ → ℕ → ℝ} (hw : w = up3 l n m g)
    (hg : ∀ p < l, ∀ r < n, ∀ c < m, g p r c = G' (o + p) (a + r) (b + c))
    (hG : ∀ p < K, ∀ r < N, ∀ c < M, ¬ (o ≤ p ∧ p < o + l ∧ a ≤ r ∧ r < a + n ∧ b ≤ c ∧ c < b + m) → G p r c = G' p r c) :
    v.read (Elt Ideal) (v.writes (Elt Ideal) f (⟨Rect.unit (s := ⟨3, ![K, N, M]⟩) off ![l, n, m] inb, w⟩ :: L)) = up3 K N M G' := by
  rw [View.read_writes_cons_put v f inb w L ho, hf, hw]
  exact put_up3 G G' g o a b hg hG

end views

end Cert.Attn

end
-- ==== Proof.State.lean ====
/- What the buffers of a grid point hold, in terms of the block: the inputs, and the accumulators when head `h` has run over its first
   `n h` keys. Also the real-number steps from one such state to the next, one for each store. -/
module

public import proofs.«01_k».proof.Proof.TileEq
public import proofs.«01_k».proof.Proof.Windows

@[expose] public section

set_option maxRecDepth 16384

noncomputable section

namespace Cert.Attn

open Idealize.ShloMosaic Cert.KernelIdeal Cert.KernelIdeal.Gen

/-- The contents of the input buffers. -/
structure Ins (x : Block) (arg3 : Memref sig .tc .vmem S512x256 .bf16) (arg4 : Memref sig .tc .vmem S2048x256 .bf16)
    (arg5 : Memref sig .tc .vmem S2048x256 .bf16) (arg6 : Memref sig .tc .vmem S512x256 .bf16)
    (X3 : BufTy.Contents (Elt Ideal) arg3.view.ty) (X4 : BufTy.Contents (Elt Ideal) arg4.view.ty)
    (X5 : BufTy.Contents (Elt Ideal) arg5.view.ty) (X6 : BufTy.Contents (Elt Ideal) arg6.view.ty) : Prop where
  q : arg3.view.read (Elt Ideal) X3 = up2 512 256 x.q
  k : arg4.view.read (Elt Ideal) X4 = up2 2048 256 x.k
  v : arg5.view.read (Elt Ideal) X5 = up2 2048 256 x.v
  d : arg6.view.read (Elt Ideal) X6 = up2 512 256 x.d

/-- The contents of the accumulators. -/
structure Acc (x : Block) (n : ℕ → ℕ) (arg8 : Memref sig .tc .vmem S512x256 .f32) (arg9 : Memref sig .tc .vmem S2048x256 .f32)
    (arg11 arg12 : Memref sig .tc .vmem S2x512x1 .f32) (arg13 : Memref sig .tc .vmem S2048x256 .f32)
    (f8 : BufTy.Contents (Elt Ideal) arg8.view.ty) (f9 : BufTy.Contents (Elt Ideal) arg9.view.ty)
    (f11 : BufTy.Contents (Elt Ideal) arg11.view.ty) (f12 : BufTy.Contents (Elt Ideal) arg12.view.ty)
    (f13 : BufTy.Contents (Elt Ideal) arg13.view.ty) : Prop where
  dq : arg8.view.read (Elt Ideal) f8 = up2 512 256 (x.dq n)
  dk : arg9.view.read (Elt Ideal) f9 = up2 2048 256 (x.dk n)
  pb : arg11.view.read (Elt Ideal) f11 = up3 2 512 1 fun h r _ => x.pb (n h) h r
  pdl : arg12.view.read (Elt Ideal) f12 = up3 2 512 1 fun h r _ => x.pdl (n h) h r
  dv : arg13.view.read (Elt Ideal) f13 = up2 2048 256 (x.dv n)

section steps
variable (x : Block)

theorem div0 {c : ℕ} (hc : c < 128) : (128 * 0 + c) / 128 = 0 := by omega
theorem div1 {c : ℕ} (hc : c < 128) : (128 * 1 + c) / 128 = 1 := by omega

/-- The queries' gradient with `n` more keys. -/
theorem dq_add {m m' : ℕ → ℕ} (r c L n : ℕ) (h : m (c / 128) = L) (h' : m' (c / 128) = L + n) :
    x.dq m r c + ∑ s ∈ Finset.range n, x.dz (c / 128) r (L + s) * x.k (L + s) c = x.dq m' r c := by
  unfold Block.dq
  rw [h, h', sum_split _ L n]

theorem dq_same {m m' : ℕ → ℕ} (r c : ℕ) (h : m (c / 128) = m' (c / 128)) : x.dq m r c = x.dq m' r c := by
  unfold Block.dq
  rw [h]

/-- The keys' gradient at a key that has just been run over, all rows at once. -/
theorem dk_add {m m' : ℕ → ℕ} (s c : ℕ) (h : m (c / 128) ≤ s) (h' : s < m' (c / 128)) :
    x.dk m s c + ∑ r ∈ Finset.range 512, x.dz (c / 128) r s * x.q r c = x.dk m' s c := by
  unfold Block.dk
  rw [if_neg (by omega), if_pos h', add_zero]

theorem dk_same {m m' : ℕ → ℕ} (s c : ℕ) (h : s < m (c / 128) ↔ s < m' (c / 128)) : x.dk m s c = x.dk m' s c := by
  unfold Block.dk
  simp only [h]

theorem dv_add {m m' : ℕ → ℕ} (s c : ℕ) (h : m (c / 128) ≤ s) (h' : s < m' (c / 128)) :
    x.dv m s c + ∑ r ∈ Finset.range 512, x.w (c / 128) r s * x.d r c = x.dv m' s c := by
  unfold Block.dv
  rw [if_neg (by omega), if_pos h', add_zero]

theorem dv_same {m m' : ℕ → ℕ} (s c : ℕ) (h : s < m (c / 128) ↔ s < m' (c / 128)) : x.dv m s c = x.dv m' s c := by
  unfold Block.dv
  simp only [h]

/-- A tile's part of the queries' gradient, for its rows. -/
theorem dq_tile {m m' : ℕ → ℕ} (h a L r : ℕ) {c : ℕ} (hc : c < 128) (hm : m h = L) (hm' : m' h = L + 256) :
    x.dq m (a + r) (128 * h + c) + ∑ s ∈ Finset.range 256, x.dz h (a + r) (L + s) * x.k (L + s) (128 * h + c) = x.dq m' (a + r) (128 * h + c) := by
  have e : (128 * h + c) / 128 = h := by omega
  have := dq_add x (m := m) (m' := m') (a + r) (128 * h + c) L 256 (by rw [e, hm]) (by rw [e, hm'])
  rwa [e] at this

/-- Rows before the tile's are masked: their gradient is unchanged. -/
theorem dq_low {m m' : ℕ → ℕ} (h L r : ℕ) {c : ℕ} (hc : c / 128 = h) (hm : m h = L) (hm' : m' h = L + 256) (hr : x.t0 + r ≤ L) :
    x.dq m r c = x.dq m' r c := by
  rw [← dq_add x (m := m) (m' := m') r c L 256 (by rw [hc, hm]) (by rw [hc, hm']),
    Finset.sum_eq_zero (fun s _ => by rw [x.dz_of_le (show x.t0 + r ≤ L + s by omega), zero_mul]), add_zero]

theorem dk_tile {m m' : ℕ → ℕ} (h L : ℕ) {s c : ℕ} (hs : s < 256) (hc : c < 128) (hm : m h ≤ L) (hm' : L + 256 ≤ m' h) :
    x.dk m (L + s) (128 * h + c) + ∑ r ∈ Finset.range 512, x.dz h (0 + r) (L + s) * x.q (0 + r) (128 * h + c) = x.dk m' (L + s) (128 * h + c) := by
  have e : (128 * h + c) / 128 = h := by omega
  have := dk_add x (m := m) (m' := m') (L + s) (128 * h + c) (by rw [e]; omega) (by rw [e]; omega)
  rw [e] at this
  simpa only [zero_add] using this

theorem dv_tile {m m' : ℕ → ℕ} (h L : ℕ) {s c : ℕ} (hs : s < 256) (hc : c < 128) (hm : m h ≤ L) (hm' : L + 256 ≤ m' h) :
    x.dv m (L + s) (128 * h + c) + ∑ r ∈ Finset.range 512, x.w h (0 + r) (L + s) * x.d (0 + r) (128 * h + c) = x.dv m' (L + s) (128 * h + c) := by
  have e : (128 * h + c) / 128 = h := by omega
  have := dv_add x (m := m) (m' := m') (L + s) (128 * h + c) (by rw [e]; omega) (by rw [e]; omega)
  rw [e] at this
  simpa only [zero_add] using this

/-- A sum over the block's rows whose first half vanishes. -/
theorem sum_upper (f : ℕ → ℝ) (h : ∀ r < 256, f r = 0) : ∑ r ∈ Finset.range 512, f r = ∑ r ∈ Finset.range 256, f (256 + r) := by
  rw [show 512 = 256 + 256 from rfl, sum_split, Finset.sum_eq_zero (fun r hr => h r (Finset.mem_range.1 hr)), zero_add]

/-- The same when the tile lies past the first 256 rows' diagonal, so that only the last 256 rows take part. -/
theorem dk_upper {m m' : ℕ → ℕ} (h L : ℕ) {s c : ℕ} (hs : s < 256) (hc : c < 128) (hm : m h ≤ L) (hm' : L + 256 ≤ m' h) (hL : x.t0 + 256 ≤ L) :
    x.dk m (L + s) (128 * h + c) + ∑ r ∈ Finset.range 256, x.dz h (256 + r) (L + s) * x.q (256 + r) (128 * h + c) = x.dk m' (L + s) (128 * h + c) := by
  rw [← dk_tile x h L hs hc hm hm']
  simp only [zero_add]
  rw [sum_upper _ fun r hr => by rw [x.dz_of_le (by omega), zero_mul]]

theorem dv_upper {m m' : ℕ → ℕ} (h L : ℕ) {s c : ℕ} (hs : s < 256) (hc : c < 128) (hm : m h ≤ L) (hm' : L + 256 ≤ m' h) (hL : x.t0 + 256 ≤ L) :
    x.dv m (L + s) (128 * h + c) + ∑ r ∈ Finset.range 256, x.w h (256 + r) (L + s) * x.d (256 + r) (128 * h + c) = x.dv m' (L + s) (128 * h + c) := by
  rw [← dv_tile x h L hs hc hm hm']
  simp only [zero_add]
  rw [sum_upper _ fun r hr => by rw [x.w_of_le (by omega), zero_mul]]

theorem pb_low (h L : ℕ) {r : ℕ} (hr : x.t0 + r ≤ L) : x.pb L h r = x.pb (L + 256) h r := by
  rw [← pb_succ, Finset.sum_eq_zero (fun s _ => x.b_of_le (show x.t0 + r ≤ L + s by omega)), sub_zero]

theorem pdl_low (h L : ℕ) {r : ℕ} (hr : x.t0 + r ≤ L) : x.pdl L h r = x.pdl (L + 256) h r := by
  rw [← pdl_succ, Finset.sum_eq_zero (fun s _ => x.dl_of_le (show x.t0 + r ≤ L + s by omega)), add_zero]

end steps

theorem add_cast_512 {o t : FVec Ideal S512x128 .f32} {O T : ℕ → ℕ → ℝ} (ho : o = up2 512 128 O) (ht : t = up2 512 128 T) :
    addf (shapeCast S512x128 o shapeCasts_S512x128_S512x128) t = up2 512 128 fun r c => O r c + T r c := by
  subst ho ht
  rw [shapeCast_same_512, addf_up2]

theorem add_cast_256 {o t : FVec Ideal S256x128 .f32} {O T : ℕ → ℕ → ℝ} (ho : o = up2 256 128 O) (ht : t = up2 256 128 T) :
    addf (shapeCast S256x128 o shapeCasts_S256x128_S256x128) t = up2 256 128 fun r c => O r c + T r c := by
  subst ho ht
  rw [shapeCast_same_256, addf_up2]

theorem add_512 {o t : FVec Ideal S512x128 .f32} {O T : ℕ → ℕ → ℝ} (ho : o = up2 512 128 O) (ht : t = up2 512 128 T) :
    addf o t = up2 512 128 fun r c => O r c + T r c := by
  subst ho ht
  exact addf_up2 ..

theorem col_512 {o : FVec Ideal S512x1 .f32} {O : ℕ → ℝ} (ho : o = up2 512 1 fun r _ => O r) :
    shapeCast S1x512x1 o shapeCasts_S512x1_S1x512x1 = up3 1 512 1 fun _ r _ => O r := by
  subst ho
  exact shapeCast_add_512 _

theorem col_256 {o : FVec Ideal S256x1 .f32} {O : ℕ → ℝ} (ho : o = up2 256 1 fun r _ => O r) :
    shapeCast S1x256x1 o shapeCasts_S256x1_S1x256x1 = up3 1 256 1 fun _ r _ => O r := by
  subst ho
  exact shapeCast_add_256 _

theorem drop_512 {o : FVec Ideal S1x512x1 .f32} {O : ℕ → ℝ} (ho : o = up3 1 512 1 fun _ r _ => O r) :
    shapeCast S512x1 o shapeCasts_S1x512x1_S512x1 = up2 512 1 fun r _ => O r := by
  subst ho
  exact shapeCast_drop_512 _

theorem drop_256 {o : FVec Ideal S1x256x1 .f32} {O : ℕ → ℝ} (ho : o = up3 1 256 1 fun _ r _ => O r) :
    shapeCast S256x1 o shapeCasts_S1x256x1_S256x1 = up2 256 1 fun r _ => O r := by
  subst ho
  exact shapeCast_drop_256 _

end Cert.Attn

end
-- ==== Proof.Trip.lean ====
/- One trip of the loop over the blocks of keys before the diagonal: it takes the state after `512 k` keys to the state after `512 (k+1)`. -/
module

public import proofs.«01_k».proof.Proof.State
public import proofs.«01_k».proof.Proof.Gen.KernelIdeal.Value

@[expose] public section

set_option maxRecDepth 16384

noncomputable section

namespace Cert.Attn

open Idealize.ShloMosaic Cert.KernelIdeal Cert.KernelIdeal.Gen Idealize.SL.Sem Idealize.ShloMosaic.TcCoe

section trip
variable (x : Block) (𝒱 : Variants) (c : Dev nD) (bd : Option 𝒱.V) (i : grid0.Coords) (arg3 : Memref sig .tc .vmem S512x256 .bf16) (harg3 : arg3.IsWhole)
  (arg4 : Memref sig .tc .vmem S2048x256 .bf16) (harg4 : arg4.IsWhole) (arg5 : Memref sig .tc .vmem S2048x256 .bf16) (harg5 : arg5.IsWhole)
  (arg6 : Memref sig .tc .vmem S512x256 .bf16) (harg6 : arg6.IsWhole) (arg7 : Memref sig .tc .vmem S1x2x512x1 .f32) (harg7 : arg7.IsWhole)
  (arg8 : Memref sig .tc .vmem S512x256 .f32) (harg8 : arg8.IsWhole) (arg9 : Memref sig .tc .vmem S2048x256 .f32) (harg9 : arg9.IsWhole)
  (arg10 : Memref sig .tc .vmem S2048x256 .bf16) (harg10 : arg10.IsWhole) (arg11 : Memref sig .tc .vmem S2x512x1 .f32) (harg11 : arg11.IsWhole)
  (arg12 : Memref sig .tc .vmem S2x512x1 .f32) (harg12 : arg12.IsWhole) (arg13 : Memref sig .tc .vmem S2048x256 .f32) (harg13 : arg13.IsWhole)
  (arg2 : BitVec 32) (v20 v21 : IVec S512x256 32) (v32 : FVec Ideal S2x512x1 .f32)
  {X3 : BufTy.Contents (Elt Ideal) arg3.view.ty} {X4 : BufTy.Contents (Elt Ideal) arg4.view.ty} {X5 : BufTy.Contents (Elt Ideal) arg5.view.ty}
  {X6 : BufTy.Contents (Elt Ideal) arg6.view.ty} (k : Fin (k0_t1_loop i).trips)
  {f8 : BufTy.Contents (Elt Ideal) arg8.view.ty} {f9 : BufTy.Contents (Elt Ideal) arg9.view.ty} {f11 : BufTy.Contents (Elt Ideal) arg11.view.ty}
  {f12 : BufTy.Contents (Elt Ideal) arg12.view.ty} {f13 : BufTy.Contents (Elt Ideal) arg13.view.ty}

theorem trip_acc (hI : Ins x arg3 arg4 arg5 arg6 X3 X4 X5 X6)
    (hA : Acc x (cn (512 * k.val) (512 * k.val)) arg8 arg9 arg11 arg12 arg13 f8 f9 f11 f12 f13) (hk : 512 * k.val + 512 ≤ x.t0) :
    Acc x (cn (512 * (k.val + 1)) (512 * (k.val + 1))) arg8 arg9 arg11 arg12 arg13
      (arg8.view.writes (Elt Ideal) f8 (tripL_k0_t1 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 X3 X4 X5 X6 k f8 f9 f11 f12 f13).1)
      (arg9.view.writes (Elt Ideal) f9 (tripL_k0_t1 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 X3 X4 X5 X6 k f8 f9 f11 f12 f13).2.1)
      (arg11.view.writes (Elt Ideal) f11 (tripL_k0_t1 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 X3 X4 X5 X6 k f8 f9 f11 f12 f13).2.2.1)
      (arg12.view.writes (Elt Ideal) f12 (tripL_k0_t1 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 X3 X4 X5 X6 k f8 f9 f11 f12 f13).2.2.2.1)
      (arg13.view.writes (Elt Ideal) f13 (tripL_k0_t1 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 X3 X4 X5 X6 k f8 f9 f11 f12 f13).2.2.2.2) := by
  have hq0 := readAt2_bf16 arg3.view hI.q (tQ x 0 0) (n := 512) (m := 128) (off := ![0, 0]) 0 0 rfl inb_S512x256_S512x128_0_0 (fun _ _ _ _ => rfl)
  have hd0 := readAt2_bf16 arg6.view hI.d (tD x 0 0) (n := 512) (m := 128) (off := ![0, 0]) 0 0 rfl inb_S512x256_S512x128_0_0 (fun _ _ _ _ => rfl)
  have hr0 := drop_512 (readAt3 arg11.view hA.pb (fun _ r _ => x.pb (512 * k.val) 0 (0 + r)) (l := 1) (n := 512) (m := 1) (off := ![0, 0, 0]) 0 0 0 rfl
    inb_S2x512x1_S1x512x1_0_0_0 (fun p hp _ _ _ _ => by cases Nat.lt_one_iff.1 hp; rfl))
  have hs0 := drop_512 (readAt3 arg12.view hA.pdl (fun _ r _ => x.pdl (512 * k.val) 0 (0 + r)) (l := 1) (n := 512) (m := 1) (off := ![0, 0, 0]) 0 0 0 rfl
    inb_S2x512x1_S1x512x1_0_0_0 (fun p hp _ _ _ _ => by cases Nat.lt_one_iff.1 hp; rfl))
  have hk00 := readAt2_bf16 arg4.view hI.k (tK x 0 (512 * k.val + 256 * 0)) (n := 256) (m := 128) (off := k0_off1 i k 0#32) (512 * k.val + 256 * 0) 0 (k0_off1_eq i k 0) (k0_off1_inb i k 0) (fun _ _ _ _ => rfl)
  have hv00 := readAt2_bf16 arg5.view hI.v (tV x 0 (512 * k.val + 256 * 0)) (n := 256) (m := 128) (off := k0_off1 i k 0#32) (512 * k.val + 256 * 0) 0 (k0_off1_eq i k 0) (k0_off1_inb i k 0) (fun _ _ _ _ => rfl)
  have ho00 := readAt2_f32 arg9.view hA.dk (fun s c => x.dk (cn (512 * k.val) (512 * k.val)) ((512 * k.val + 256 * 0) + s) (0 + c)) (n := 256) (m := 128) (off := k0_off1 i k 0#32) (512 * k.val + 256 * 0) 0 (k0_off1_eq i k 0) (k0_off1_inb i k 0) (fun _ _ _ _ => rfl)
  have hu00 := readAt2_f32 arg13.view hA.dv (fun s c => x.dv (cn (512 * k.val) (512 * k.val)) ((512 * k.val + 256 * 0) + s) (0 + c)) (n := 256) (m := 128) (off := k0_off1 i k 0#32) (512 * k.val + 256 * 0) 0 (k0_off1_eq i k 0) (k0_off1_inb i k 0) (fun _ _ _ _ => rfl)
  have hL00 : ∀ r s, s < 256 → (512 * k.val + 256 * 0) + s < x.t0 + (0 + r) := fun r s hs => by omega
  have hk01 := readAt2_bf16 arg4.view hI.k (tK x 0 (512 * k.val + 256 * 1)) (n := 256) (m := 128) (off := k0_off1 i k 1#32) (512 * k.val + 256 * 1) 0 (k0_off1_eq i k 1) (k0_off1_inb i k 1) (fun _ _ _ _ => rfl)
  have hv01 := readAt2_bf16 arg5.view hI.v (tV x 0 (512 * k.val + 256 * 1)) (n := 256) (m := 128) (off := k0_off1 i k 1#32) (512 * k.val + 256 * 1) 0 (k0_off1_eq i k 1) (k0_off1_inb i k 1) (fun _ _ _ _ => rfl)
  have ho01 := readAt2_f32 arg9.view hA.dk (fun s c => x.dk (cn (512 * k.val) (512 * k.val)) ((512 * k.val + 256 * 1) + s) (0 + c)) (n := 256) (m := 128) (off := k0_off1 i k 1#32) (512 * k.val + 256 * 1) 0 (k0_off1_eq i k 1) (k0_off1_inb i k 1) (fun _ _ _ _ => rfl)
  have hu01 := readAt2_f32 arg13.view hA.dv (fun s c => x.dv (cn (512 * k.val) (512 * k.val)) ((512 * k.val + 256 * 1) + s) (0 + c)) (n := 256) (m := 128) (off := k0_off1 i k 1#32) (512 * k.val + 256 * 1) 0 (k0_off1_eq i k 1) (k0_off1_inb i k 1) (fun _ _ _ _ => rfl)
  have hL01 : ∀ r s, s < 256 → (512 * k.val + 256 * 1) + s < x.t0 + (0 + r) := fun r s hs => by omega
  have hr01 := rem512u_eq x 0 0 (512 * k.val + 256 * 0) hL00 hq0 hk00 hr0
  have hs01 := swept512u_eq x 0 0 (512 * k.val + 256 * 0) hL00 hq0 hd0 hk00 hv00 hr0 hs0
  have hr02 := rem512u_eq x 0 0 (512 * k.val + 256 * 1) hL01 hq0 hk01 hr01
  have hs02 := swept512u_eq x 0 0 (512 * k.val + 256 * 1) hL01 hq0 hd0 hk01 hv01 hr01 hs01
  have hqo0 := readAt2_f32 arg8.view hA.dq (fun r c => x.dq (cn (512 * k.val) (512 * k.val)) (0 + r) (0 + c)) (n := 512) (m := 128) (off := ![0, 0]) 0 0 rfl inb_S512x256_S512x128_0_0 (fun _ _ _ _ => rfl)
  have hdq00 := dq512u_eq x 0 0 (512 * k.val + 256 * 0) hL00 hq0 hd0 hk00 hv00 hr0 hs0
  have hdq01 := dq512u_eq x 0 0 (512 * k.val + 256 * 1) hL01 hq0 hd0 hk01 hv01 hr01 hs01
  have hdk00 := dk512u_eq x 0 0 (512 * k.val + 256 * 0) hL00 hq0 hd0 hk00 hv00 hr0 hs0 _ ho00
  have hdv00 := dv512u_eq x 0 0 (512 * k.val + 256 * 0) hL00 hq0 hk00 hr0 hd0 _ hu00
  have hdk01 := dk512u_eq x 0 0 (512 * k.val + 256 * 1) hL01 hq0 hd0 hk01 hv01 hr01 hs01 _ ho01
  have hdv01 := dv512u_eq x 0 0 (512 * k.val + 256 * 1) hL01 hq0 hk01 hr01 hd0 _ hu01
  have hq1 := readAt2_bf16 arg3.view hI.q (tQ x 1 0) (n := 512) (m := 128) (off := ![0, 128]) 0 128 rfl inb_S512x256_S512x128_0_128 (fun _ _ _ _ => rfl)
  have hd1 := readAt2_bf16 arg6.view hI.d (tD x 1 0) (n := 512) (m := 128) (off := ![0, 128]) 0 128 rfl inb_S512x256_S512x128_0_128 (fun _ _ _ _ => rfl)
  have hr1 := drop_512 (readAt3 arg11.view hA.pb (fun _ r _ => x.pb (512 * k.val) 1 (0 + r)) (l := 1) (n := 512) (m := 1) (off := ![1, 0, 0]) 1 0 0 rfl
    inb_S2x512x1_S1x512x1_1_0_0 (fun p hp _ _ _ _ => by cases Nat.lt_one_iff.1 hp; rfl))
  have hs1 := drop_512 (readAt3 arg12.view hA.pdl (fun _ r _ => x.pdl (512 * k.val) 1 (0 + r)) (l := 1) (n := 512) (m := 1) (off := ![1, 0, 0]) 1 0 0 rfl
    inb_S2x512x1_S1x512x1_1_0_0 (fun p hp _ _ _ _ => by cases Nat.lt_one_iff.1 hp; rfl))
  have hk10 := readAt2_bf16 arg4.view hI.k (tK x 1 (512 * k.val + 256 * 0)) (n := 256) (m := 128) (off := k0_off2 i k 0#32) (512 * k.val + 256 * 0) 128 (k0_off2_eq i k 0) (k0_off2_inb i k 0) (fun _ _ _ _ => rfl)
  have hv10 := readAt2_bf16 arg5.view hI.v (tV x 1 (512 * k.val + 256 * 0)) (n := 256) (m := 128) (off := k0_off2 i k 0#32) (512 * k.val + 256 * 0) 128 (k0_off2_eq i k 0) (k0_off2_inb i k 0) (fun _ _ _ _ => rfl)
  have ho10 := readAt2_f32 arg9.view hA.dk (fun s c => x.dk (cn (512 * k.val) (512 * k.val)) ((512 * k.val + 256 * 0) + s) (128 + c)) (n := 256) (m := 128) (off := k0_off2 i k 0#32) (512 * k.val + 256 * 0) 128 (k0_off2_eq i k 0) (k0_off2_inb i k 0) (fun _ _ _ _ => rfl)
  have hu10 := readAt2_f32 arg13.view hA.dv (fun s c => x.dv (cn (512 * k.val) (512 * k.val)) ((512 * k.val + 256 * 0) + s) (128 + c)) (n := 256) (m := 128) (off := k0_off2 i k 0#32) (512 * k.val + 256 * 0) 128 (k0_off2_eq i k 0) (k0_off2_inb i k 0) (fun _ _ _ _ => rfl)
  have hL10 : ∀ r s, s < 256 → (512 * k.val + 256 * 0) + s < x.t0 + (0 + r) := fun r s hs => by omega
  have hk11 := readAt2_bf16 arg4.view hI.k (tK x 1 (512 * k.val + 256 * 1)) (n := 256) (m := 128) (off := k0_off2 i k 1#32) (512 * k.val + 256 * 1) 128 (k0_off2_eq i k 1) (k0_off2_inb i k 1) (fun _ _ _ _ => rfl)
  have hv11 := readAt2_bf16 arg5.view hI.v (tV x 1 (512 * k.val + 256 * 1)) (n := 256) (m := 128) (off := k0_off2 i k 1#32) (512 * k.val + 256 * 1) 128 (k0_off2_eq i k 1) (k0_off2_inb i k 1) (fun _ _ _ _ => rfl)
  have ho11 := readAt2_f32 arg9.view hA.dk (fun s c => x.dk (cn (512 * k.val) (512 * k.val)) ((512 * k.val + 256 * 1) + s) (128 + c)) (n := 256) (m := 128) (off := k0_off2 i k 1#32) (512 * k.val + 256 * 1) 128 (k0_off2_eq i k 1) (k0_off2_inb i k 1) (fun _ _ _ _ => rfl)
  have hu11 := readAt2_f32 arg13.view hA.dv (fun s c => x.dv (cn (512 * k.val) (512 * k.val)) ((512 * k.val + 256 * 1) + s) (128 + c)) (n := 256) (m := 128) (off := k0_off2 i k 1#32) (512 * k.val + 256 * 1) 128 (k0_off2_eq i k 1) (k0_off2_inb i k 1) (fun _ _ _ _ => rfl)
  have hL11 : ∀ r s, s < 256 → (512 * k.val + 256 * 1) + s < x.t0 + (0 + r) := fun r s hs => by omega
  have hr11 := rem512u_eq x 1 0 (512 * k.val + 256 * 0) hL10 hq1 hk10 hr1
  have hs11 := swept512u_eq x 1 0 (512 * k.val + 256 * 0) hL10 hq1 hd1 hk10 hv10 hr1 hs1
  have hr12 := rem512u_eq x 1 0 (512 * k.val + 256 * 1) hL11 hq1 hk11 hr11
  have hs12 := swept512u_eq x 1 0 (512 * k.val + 256 * 1) hL11 hq1 hd1 hk11 hv11 hr11 hs11
  have hqo1 := readAt2_f32 arg8.view hA.dq (fun r c => x.dq (cn (512 * k.val) (512 * k.val)) (0 + r) (128 + c)) (n := 512) (m := 128) (off := ![0, 128]) 0 128 rfl inb_S512x256_S512x128_0_128 (fun _ _ _ _ => rfl)
  have hdq10 := dq512u_eq x 1 0 (512 * k.val + 256 * 0) hL10 hq1 hd1 hk10 hv10 hr1 hs1
  have hdq11 := dq512u_eq x 1 0 (512 * k.val + 256 * 1) hL11 hq1 hd1 hk11 hv11 hr11 hs11
  have hdk10 := dk512u_eq x 1 0 (512 * k.val + 256 * 0) hL10 hq1 hd1 hk10 hv10 hr1 hs1 _ ho10
  have hdv10 := dv512u_eq x 1 0 (512 * k.val + 256 * 0) hL10 hq1 hk10 hr1 hd1 _ hu10
  have hdk11 := dk512u_eq x 1 0 (512 * k.val + 256 * 1) hL11 hq1 hd1 hk11 hv11 hr11 hs11 _ ho11
  have hdv11 := dv512u_eq x 1 0 (512 * k.val + 256 * 1) hL11 hq1 hk11 hr11 hd1 _ hu11
  unfold tripL_k0_t1 trip_k0_t1
  have e0 : 512 * k.val + 256 * 0 = 512 * k.val := rfl
  have e1 : 512 * k.val + 256 * 1 + 256 = 512 * (k.val + 1) := by omega
  have hn0 : ∀ h, cn (512 * k.val) (512 * k.val) h = 512 * k.val := fun h => by unfold cn; split <;> rfl
  refine ⟨?_, ?_, ?_, ?_, ?_⟩
  · clear * - hA hqo0 hqo1 hdq00 hdq01 hdq10 hdq11 e1
    dsimp only
    refine writes2 _ (writes2 (L := []) _ hA.dq (x.dq (cn (512 * (k.val + 1)) (512 * k.val))) 0 0 rfl _ (add_cast_512 hqo0 (add_512 hdq00 hdq01)) ?_ ?_)
      _ 0 128 rfl _ (add_cast_512 hqo1 (add_512 hdq10 hdq11)) ?_ ?_
    · intro r _ c hc
      rw [← add_assoc]
      exact (congrArg (· + _) (dq_tile x 0 0 (512 * k.val) r hc (m' := cn (512 * k.val + 256) 0) rfl rfl)).trans
        (dq_tile x 0 0 (512 * k.val + 256) r hc rfl e1.symm)
    · intro r hr c hc hn
      refine dq_same x r c ?_
      unfold cn
      split_ifs <;> omega
    · intro r _ c hc
      rw [← add_assoc]
      exact (congrArg (· + _) (dq_tile x 1 0 (512 * k.val) r hc (m' := cn 0 (512 * k.val + 256)) rfl rfl)).trans
        (dq_tile x 1 0 (512 * k.val + 256) r hc rfl e1.symm)
    · intro r hr c hc hn
      refine dq_same x r c ?_
      unfold cn
      split_ifs <;> omega
  · clear * - hA hdk00 hdk01 hdk10 hdk11 hdv00 hdv01 hdv10 hdv11 e1 hn0
    dsimp only
    refine writes2 _ (writes2 _ (writes2 _ (writes2 (L := []) _ hA.dk (x.dk (cn (512 * k.val + 256) (512 * k.val))) (512 * k.val + 256 * 0) 0 (k0_off1_eq i k 0) _ hdk00 ?_ ?_) (x.dk (cn (512 * (k.val + 1)) (512 * k.val))) (512 * k.val + 256 * 1) 0 (k0_off1_eq i k 1) _ hdk01 ?_ ?_) (x.dk (cn (512 * (k.val + 1)) (512 * k.val + 256))) (512 * k.val + 256 * 0) 128 (k0_off2_eq i k 0) _ hdk10 ?_ ?_) (x.dk (cn (512 * (k.val + 1)) (512 * (k.val + 1)))) (512 * k.val + 256 * 1) 128 (k0_off2_eq i k 1) _ hdk11 ?_ ?_
    · intro s hs c hc
      refine dk_tile x 0 (512 * k.val + 256 * 0) hs hc ((hn0 _).trans_le ?_) ?_
      · omega
      · show _ ≤ 512 * k.val + 256
        omega
    · intro s hs c hc hn
      refine dk_same x s c ?_
      unfold cn
      split_ifs <;> omega
    · intro s hs c hc
      refine dk_tile x 0 (512 * k.val + 256 * 1) hs hc ((hn0 _).trans_le ?_) ?_
      · omega
      · show _ ≤ 512 * (k.val + 1)
        omega
    · intro s hs c hc hn
      refine dk_same x s c ?_
      unfold cn
      split_ifs <;> omega
    · intro s hs c hc
      refine dk_tile x 1 (512 * k.val + 256 * 0) hs hc ((hn0 _).trans_le ?_) ?_
      · omega
      · show _ ≤ 512 * k.val + 256
        omega
    · intro s hs c hc hn
      refine dk_same x s c ?_
      unfold cn
      split_ifs <;> omega
    · intro s hs c hc
      refine dk_tile x 1 (512 * k.val + 256 * 1) hs hc ((hn0 _).trans_le ?_) ?_
      · omega
      · show _ ≤ 512 * (k.val + 1)
        omega
    · intro s hs c hc hn
      refine dk_same x s c ?_
      unfold cn
      split_ifs <;> omega
  · clear * - hA hr02 hr12 e1
    dsimp only
    refine writes3 _ (writes3 (L := []) _ hA.pb (fun h r _ => x.pb (cn (512 * (k.val + 1)) (512 * k.val) h) h r) 0 0 0 rfl _ (col_512 hr02) ?_ ?_)
      _ 1 0 0 rfl _ (col_512 hr12) ?_ ?_
    · intro p hp r _ c _
      cases Nat.lt_one_iff.1 hp
      rw [e1]
      rfl
    · intro p hp r hr c hc hn
      congr 1
      unfold cn
      split_ifs <;> omega
    · intro p hp r _ c _
      cases Nat.lt_one_iff.1 hp
      rw [e1]
      rfl
    · intro p hp r hr c hc hn
      congr 1
      unfold cn
      split_ifs <;> omega
  · clear * - hA hs02 hs12 e1
    dsimp only
    refine writes3 _ (writes3 (L := []) _ hA.pdl (fun h r _ => x.pdl (cn (512 * (k.val + 1)) (512 * k.val) h) h r) 0 0 0 rfl _ (col_512 hs02) ?_ ?_)
      _ 1 0 0 rfl _ (col_512 hs12) ?_ ?_
    · intro p hp r _ c _
      cases Nat.lt_one_iff.1 hp
      rw [e1]
      rfl
    · intro p hp r hr c hc hn
      congr 1
      unfold cn
      split_ifs <;> omega
    · intro p hp r _ c _
      cases Nat.lt_one_iff.1 hp
      rw [e1]
      rfl
    · intro p hp r hr c hc hn
      congr 1
      unfold cn
      split_ifs <;> omega
  · clear * - hA hdk00 hdk01 hdk10 hdk11 hdv00 hdv01 hdv10 hdv11 e1 hn0
    dsimp only
    refine writes2 _ (writes2 _ (writes2 _ (writes2 (L := []) _ hA.dv (x.dv (cn (512 * k.val + 256) (512 * k.val))) (512 * k.val + 256 * 0) 0 (k0_off1_eq i k 0) _ hdv00 ?_ ?_) (x.dv (cn (512 * (k.val + 1)) (512 * k.val))) (512 * k.val + 256 * 1) 0 (k0_off1_eq i k 1) _ hdv01 ?_ ?_) (x.dv (cn (512 * (k.val + 1)) (512 * k.val + 256))) (512 * k.val + 256 * 0) 128 (k0_off2_eq i k 0) _ hdv10 ?_ ?_) (x.dv (cn (512 * (k.val + 1)) (512 * (k.val + 1)))) (512 * k.val + 256 * 1) 128 (k0_off2_eq i k 1) _ hdv11 ?_ ?_
    · intro s hs c hc
      refine dv_tile x 0 (512 * k.val + 256 * 0) hs hc ((hn0 _).trans_le ?_) ?_
      · omega
      · show _ ≤ 512 * k.val + 256
        omega
    · intro s hs c hc hn
      refine dv_same x s c ?_
      unfold cn
      split_ifs <;> omega
    · intro s hs c hc
      refine dv_tile x 0 (512 * k.val + 256 * 1) hs hc ((hn0 _).trans_le ?_) ?_
      · omega
      · show _ ≤ 512 * (k.val + 1)
        omega
    · intro s hs c hc hn
      refine dv_same x s c ?_
      unfold cn
      split_ifs <;> omega
    · intro s hs c hc
      refine dv_tile x 1 (512 * k.val + 256 * 0) hs hc ((hn0 _).trans_le ?_) ?_
      · omega
      · show _ ≤ 512 * k.val + 256
        omega
    · intro s hs c hc hn
      refine dv_same x s c ?_
      unfold cn
      split_ifs <;> omega
    · intro s hs c hc
      refine dv_tile x 1 (512 * k.val + 256 * 1) hs hc ((hn0 _).trans_le ?_) ?_
      · omega
      · show _ ≤ 512 * (k.val + 1)
        omega
    · intro s hs c hc hn
      refine dv_same x s c ?_
      unfold cn
      split_ifs <;> omega

end trip

end Cert.Attn

end
-- ==== Proof.Loop.lean ====
/- The loop over the blocks of keys before the diagonal: after it every row has run over the keys before its own block. The loop
   over the remainder of that range makes no trip. -/
module

public import proofs.«01_k».proof.Proof.Trip

@[expose] public section

set_option maxRecDepth 16384

noncomputable section

namespace Cert.Attn

open Idealize.ShloMosaic Cert.KernelIdeal Cert.KernelIdeal.Gen Idealize.SL.Sem Idealize.ShloMosaic.TcCoe

/-- The loop runs over the blocks of keys before the diagonal. -/
theorem trips1 (i : grid0.Coords) : (k0_t1_loop i).trips = (i 2).val := by
  have h : ∀ n < 4, Scf.trips (0#32) (Scalar.addi 0#32 (Scalar.muli (Scalar.divsi (Scalar.subi (BitVec.ofNat 32 n) 0#32) 1#32) 1#32)) 1#32 = n := by decide
  exact h _ (i 2).isLt

theorem trips2 (i : grid0.Coords) : (k0_t2_loop i).trips = 0 := Nat.le_zero.1 (k0_t2_abs i).2.1

section loop
variable (x : Block) (𝒱 : Variants) (c : Dev nD) (bd : Option 𝒱.V) (i : grid0.Coords) (arg3 : Memref sig .tc .vmem S512x256 .bf16) (harg3 : arg3.IsWhole)
  (arg4 : Memref sig .tc .vmem S2048x256 .bf16) (harg4 : arg4.IsWhole) (arg5 : Memref sig .tc .vmem S2048x256 .bf16) (harg5 : arg5.IsWhole)
  (arg6 : Memref sig .tc .vmem S512x256 .bf16) (harg6 : arg6.IsWhole) (arg7 : Memref sig .tc .vmem S1x2x512x1 .f32) (harg7 : arg7.IsWhole)
  (arg8 : Memref sig .tc .vmem S512x256 .f32) (harg8 : arg8.IsWhole) (arg9 : Memref sig .tc .vmem S2048x256 .f32) (harg9 : arg9.IsWhole)
  (arg10 : Memref sig .tc .vmem S2048x256 .bf16) (harg10 : arg10.IsWhole) (arg11 : Memref sig .tc .vmem S2x512x1 .f32) (harg11 : arg11.IsWhole)
  (arg12 : Memref sig .tc .vmem S2x512x1 .f32) (harg12 : arg12.IsWhole) (arg13 : Memref sig .tc .vmem S2048x256 .f32) (harg13 : arg13.IsWhole)
  (arg2 : BitVec 32) (v20 v21 : IVec S512x256 32) (v32 : FVec Ideal S2x512x1 .f32)
  {X3 : BufTy.Contents (Elt Ideal) arg3.view.ty} {X4 : BufTy.Contents (Elt Ideal) arg4.view.ty} {X5 : BufTy.Contents (Elt Ideal) arg5.view.ty}
  {X6 : BufTy.Contents (Elt Ideal) arg6.view.ty}
   {G8 : BufTy.Contents (Elt Ideal) arg8.view.ty} {G9 : BufTy.Contents (Elt Ideal) arg9.view.ty} {G11 : BufTy.Contents (Elt Ideal) arg11.view.ty} {G12 : BufTy.Contents (Elt Ideal) arg12.view.ty} {G13 : BufTy.Contents (Elt Ideal) arg13.view.ty}

theorem loop_acc (ht : x.t0 = 512 * (i 2).val) (hI : Ins x arg3 arg4 arg5 arg6 X3 X4 X5 X6) (hA : Acc x (cn 0 0) arg8 arg9 arg11 arg12 arg13 G8 G9 G11 G12 G13) :
    ∀ n, n ≤ (k0_t1_loop i).trips → Acc x (cn (512 * n) (512 * n)) arg8 arg9 arg11 arg12 arg13
      (arg8.view.writes (Elt Ideal) G8 (pb_k0_t1 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 X3 X4 X5 X6 G8 G9 G11 G12 G13 n).1)
      (arg9.view.writes (Elt Ideal) G9 (pb_k0_t1 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 X3 X4 X5 X6 G8 G9 G11 G12 G13 n).2.1)
      (arg11.view.writes (Elt Ideal) G11 (pb_k0_t1 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 X3 X4 X5 X6 G8 G9 G11 G12 G13 n).2.2.1)
      (arg12.view.writes (Elt Ideal) G12 (pb_k0_t1 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 X3 X4 X5 X6 G8 G9 G11 G12 G13 n).2.2.2.1)
      (arg13.view.writes (Elt Ideal) G13 (pb_k0_t1 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 X3 X4 X5 X6 G8 G9 G11 G12 G13 n).2.2.2.2) := by
  intro n
  induction n with
  | zero => exact fun _ => hA
  | succ n ih =>
    intro hn
    have h := trip_acc x 𝒱 c bd i arg3 harg3 arg4 harg4 arg5 harg5 arg6 harg6 arg7 harg7 arg8 harg8 arg9 harg9 arg10 harg10 arg11 harg11 arg12 harg12 arg13 harg13 arg2 v20 v21 v32 ⟨n, hn⟩ hI (ih (Nat.le_of_succ_le hn)) (by have := trips1 i; simp only [ht]; omega)
    have e := pb_k0_t1_succ (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 X3 X4 X5 X6 G8 G9 G11 G12 G13 ⟨n, hn⟩
    simp only [Fin.val_mk] at e
    refine e.symm ▸ ?_
    simp only [View.writes_append]
    exact h

theorem loop2_nil (v37 : BitVec 32) : pb_k0_t2 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 v37 X3 X4 X5 X6 G8 G9 G11 G12 G13 (Scf.trips (k0_t2_loop i).lb (k0_t2_loop i).ub (k0_t2_loop i).st)
    = ([], [], [], [], []) := by
  have h : Scf.trips (k0_t2_loop i).lb (k0_t2_loop i).ub (k0_t2_loop i).st = 0 := trips2 i
  rw [h]
  rfl

theorem loops_first {B8 : List (View.Piece (Elt Ideal) S512x256 .f32)} {B9 : List (View.Piece (Elt Ideal) S2048x256 .f32)} {B11 : List (View.Piece (Elt Ideal) S2x512x1 .f32)} {B12 : List (View.Piece (Elt Ideal) S2x512x1 .f32)} {B13 : List (View.Piece (Elt Ideal) S2048x256 .f32)} {Y8 : BufTy.Contents (Elt Ideal) arg8.view.ty} {Y9 : BufTy.Contents (Elt Ideal) arg9.view.ty} {Y11 : BufTy.Contents (Elt Ideal) arg11.view.ty} {Y12 : BufTy.Contents (Elt Ideal) arg12.view.ty} {Y13 : BufTy.Contents (Elt Ideal) arg13.view.ty} (v37 : BitVec 32) (ht : x.t0 = 512 * (i 2).val) (hI : Ins x arg3 arg4 arg5 arg6 X3 X4 X5 X6)
    (hA : Acc x (cn 0 0) arg8 arg9 arg11 arg12 arg13 (arg8.view.writes (Elt Ideal) G8 B8) (arg9.view.writes (Elt Ideal) G9 B9) (arg11.view.writes (Elt Ideal) G11 B11) (arg12.view.writes (Elt Ideal) G12 B12) (arg13.view.writes (Elt Ideal) G13 B13)) :
    Acc x (cn (512 * (i 2).val) (512 * (i 2).val)) arg8 arg9 arg11 arg12 arg13
      (arg8.view.writes (Elt Ideal) G8 ((pb_k0_t2 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 v37 X3 X4 X5 X6 Y8 Y9 Y11 Y12 Y13 (Scf.trips (k0_t2_loop i).lb (k0_t2_loop i).ub (k0_t2_loop i).st)).1 ++ ((pb_k0_t1 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 X3 X4 X5 X6 (arg8.view.writes (Elt Ideal) G8 B8) (arg9.view.writes (Elt Ideal) G9 B9) (arg11.view.writes (Elt Ideal) G11 B11) (arg12.view.writes (Elt Ideal) G12 B12) (arg13.view.writes (Elt Ideal) G13 B13) (Scf.trips (k0_t1_loop i).lb (k0_t1_loop i).ub (k0_t1_loop i).st)).1 ++ B8)))
      (arg9.view.writes (Elt Ideal) G9 ((pb_k0_t2 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 v37 X3 X4 X5 X6 Y8 Y9 Y11 Y12 Y13 (Scf.trips (k0_t2_loop i).lb (k0_t2_loop i).ub (k0_t2_loop i).st)).2.1 ++ ((pb_k0_t1 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 X3 X4 X5 X6 (arg8.view.writes (Elt Ideal) G8 B8) (arg9.view.writes (Elt Ideal) G9 B9) (arg11.view.writes (Elt Ideal) G11 B11) (arg12.view.writes (Elt Ideal) G12 B12) (arg13.view.writes (Elt Ideal) G13 B13) (Scf.trips (k0_t1_loop i).lb (k0_t1_loop i).ub (k0_t1_loop i).st)).2.1 ++ B9)))
      (arg11.view.writes (Elt Ideal) G11 ((pb_k0_t2 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 v37 X3 X4 X5 X6 Y8 Y9 Y11 Y12 Y13 (Scf.trips (k0_t2_loop i).lb (k0_t2_loop i).ub (k0_t2_loop i).st)).2.2.1 ++ ((pb_k0_t1 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 X3 X4 X5 X6 (arg8.view.writes (Elt Ideal) G8 B8) (arg9.view.writes (Elt Ideal) G9 B9) (arg11.view.writes (Elt Ideal) G11 B11) (arg12.view.writes (Elt Ideal) G12 B12) (arg13.view.writes (Elt Ideal) G13 B13) (Scf.trips (k0_t1_loop i).lb (k0_t1_loop i).ub (k0_t1_loop i).st)).2.2.1 ++ B11)))
      (arg12.view.writes (Elt Ideal) G12 ((pb_k0_t2 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 v37 X3 X4 X5 X6 Y8 Y9 Y11 Y12 Y13 (Scf.trips (k0_t2_loop i).lb (k0_t2_loop i).ub (k0_t2_loop i).st)).2.2.2.1 ++ ((pb_k0_t1 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 X3 X4 X5 X6 (arg8.view.writes (Elt Ideal) G8 B8) (arg9.view.writes (Elt Ideal) G9 B9) (arg11.view.writes (Elt Ideal) G11 B11) (arg12.view.writes (Elt Ideal) G12 B12) (arg13.view.writes (Elt Ideal) G13 B13) (Scf.trips (k0_t1_loop i).lb (k0_t1_loop i).ub (k0_t1_loop i).st)).2.2.2.1 ++ B12)))
      (arg13.view.writes (Elt Ideal) G13 ((pb_k0_t2 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 v37 X3 X4 X5 X6 Y8 Y9 Y11 Y12 Y13 (Scf.trips (k0_t2_loop i).lb (k0_t2_loop i).ub (k0_t2_loop i).st)).2.2.2.2 ++ ((pb_k0_t1 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 X3 X4 X5 X6 (arg8.view.writes (Elt Ideal) G8 B8) (arg9.view.writes (Elt Ideal) G9 B9) (arg11.view.writes (Elt Ideal) G11 B11) (arg12.view.writes (Elt Ideal) G12 B12) (arg13.view.writes (Elt Ideal) G13 B13) (Scf.trips (k0_t1_loop i).lb (k0_t1_loop i).ub (k0_t1_loop i).st)).2.2.2.2 ++ B13))) := by
  have h := loop_acc x 𝒱 c bd i arg3 harg3 arg4 harg4 arg5 harg5 arg6 harg6 arg7 harg7 arg8 harg8 arg9 harg9 arg10 harg10 arg11 harg11 arg12 harg12 arg13 harg13 arg2 v20 v21 v32 ht hI hA (Scf.trips (k0_t1_loop i).lb (k0_t1_loop i).ub (k0_t1_loop i).st) le_rfl
  rw [show 512 * (Scf.trips (k0_t1_loop i).lb (k0_t1_loop i).ub (k0_t1_loop i).st) = 512 * (i 2).val from congrArg _ (trips1 i)] at h
  rw [loop2_nil]
  generalize pb_k0_t1 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 X3 X4 X5 X6 (arg8.view.writes (Elt Ideal) G8 B8) (arg9.view.writes (Elt Ideal) G9 B9) (arg11.view.writes (Elt Ideal) G11 B11) (arg12.view.writes (Elt Ideal) G12 B12) (arg13.view.writes (Elt Ideal) G13 B13) (Scf.trips (k0_t1_loop i).lb (k0_t1_loop i).ub (k0_t1_loop i).st) = P at h ⊢
  exact ⟨(congrArg (arg8.view.read (Elt Ideal)) (View.writes_append arg8.view G8 P.1 B8)).trans h.dq, (congrArg (arg9.view.read (Elt Ideal)) (View.writes_append arg9.view G9 P.2.1 B9)).trans h.dk, (congrArg (arg11.view.read (Elt Ideal)) (View.writes_append arg11.view G11 P.2.2.1 B11)).trans h.pb, (congrArg (arg12.view.read (Elt Ideal)) (View.writes_append arg12.view G12 P.2.2.2.1 B12)).trans h.pdl, (congrArg (arg13.view.read (Elt Ideal)) (View.writes_append arg13.view G13 P.2.2.2.2 B13)).trans h.dv⟩

theorem loops_next {B8 : List (View.Piece (Elt Ideal) S512x256 .f32)} {B11 : List (View.Piece (Elt Ideal) S2x512x1 .f32)} {B12 : List (View.Piece (Elt Ideal) S2x512x1 .f32)} {Y8 : BufTy.Contents (Elt Ideal) arg8.view.ty} {Y9 : BufTy.Contents (Elt Ideal) arg9.view.ty} {Y11 : BufTy.Contents (Elt Ideal) arg11.view.ty} {Y12 : BufTy.Contents (Elt Ideal) arg12.view.ty} {Y13 : BufTy.Contents (Elt Ideal) arg13.view.ty} (v37 : BitVec 32) (ht : x.t0 = 512 * (i 2).val) (hI : Ins x arg3 arg4 arg5 arg6 X3 X4 X5 X6)
    (hA : Acc x (cn 0 0) arg8 arg9 arg11 arg12 arg13 (arg8.view.writes (Elt Ideal) G8 B8) G9 (arg11.view.writes (Elt Ideal) G11 B11) (arg12.view.writes (Elt Ideal) G12 B12) G13) :
    Acc x (cn (512 * (i 2).val) (512 * (i 2).val)) arg8 arg9 arg11 arg12 arg13
      (arg8.view.writes (Elt Ideal) G8 ((pb_k0_t2 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 v37 X3 X4 X5 X6 Y8 Y9 Y11 Y12 Y13 (Scf.trips (k0_t2_loop i).lb (k0_t2_loop i).ub (k0_t2_loop i).st)).1 ++ ((pb_k0_t1 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 X3 X4 X5 X6 (arg8.view.writes (Elt Ideal) G8 B8) G9 (arg11.view.writes (Elt Ideal) G11 B11) (arg12.view.writes (Elt Ideal) G12 B12) G13 (Scf.trips (k0_t1_loop i).lb (k0_t1_loop i).ub (k0_t1_loop i).st)).1 ++ B8)))
      (arg9.view.writes (Elt Ideal) G9 ((pb_k0_t2 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 v37 X3 X4 X5 X6 Y8 Y9 Y11 Y12 Y13 (Scf.trips (k0_t2_loop i).lb (k0_t2_loop i).ub (k0_t2_loop i).st)).2.1 ++ (pb_k0_t1 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 X3 X4 X5 X6 (arg8.view.writes (Elt Ideal) G8 B8) G9 (arg11.view.writes (Elt Ideal) G11 B11) (arg12.view.writes (Elt Ideal) G12 B12) G13 (Scf.trips (k0_t1_loop i).lb (k0_t1_loop i).ub (k0_t1_loop i).st)).2.1))
      (arg11.view.writes (Elt Ideal) G11 ((pb_k0_t2 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 v37 X3 X4 X5 X6 Y8 Y9 Y11 Y12 Y13 (Scf.trips (k0_t2_loop i).lb (k0_t2_loop i).ub (k0_t2_loop i).st)).2.2.1 ++ ((pb_k0_t1 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 X3 X4 X5 X6 (arg8.view.writes (Elt Ideal) G8 B8) G9 (arg11.view.writes (Elt Ideal) G11 B11) (arg12.view.writes (Elt Ideal) G12 B12) G13 (Scf.trips (k0_t1_loop i).lb (k0_t1_loop i).ub (k0_t1_loop i).st)).2.2.1 ++ B11)))
      (arg12.view.writes (Elt Ideal) G12 ((pb_k0_t2 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 v37 X3 X4 X5 X6 Y8 Y9 Y11 Y12 Y13 (Scf.trips (k0_t2_loop i).lb (k0_t2_loop i).ub (k0_t2_loop i).st)).2.2.2.1 ++ ((pb_k0_t1 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 X3 X4 X5 X6 (arg8.view.writes (Elt Ideal) G8 B8) G9 (arg11.view.writes (Elt Ideal) G11 B11) (arg12.view.writes (Elt Ideal) G12 B12) G13 (Scf.trips (k0_t1_loop i).lb (k0_t1_loop i).ub (k0_t1_loop i).st)).2.2.2.1 ++ B12)))
      (arg13.view.writes (Elt Ideal) G13 ((pb_k0_t2 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 v37 X3 X4 X5 X6 Y8 Y9 Y11 Y12 Y13 (Scf.trips (k0_t2_loop i).lb (k0_t2_loop i).ub (k0_t2_loop i).st)).2.2.2.2 ++ (pb_k0_t1 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 X3 X4 X5 X6 (arg8.view.writes (Elt Ideal) G8 B8) G9 (arg11.view.writes (Elt Ideal) G11 B11) (arg12.view.writes (Elt Ideal) G12 B12) G13 (Scf.trips (k0_t1_loop i).lb (k0_t1_loop i).ub (k0_t1_loop i).st)).2.2.2.2)) := by
  have h := loop_acc x 𝒱 c bd i arg3 harg3 arg4 harg4 arg5 harg5 arg6 harg6 arg7 harg7 arg8 harg8 arg9 harg9 arg10 harg10 arg11 harg11 arg12 harg12 arg13 harg13 arg2 v20 v21 v32 ht hI hA (Scf.trips (k0_t1_loop i).lb (k0_t1_loop i).ub (k0_t1_loop i).st) le_rfl
  rw [show 512 * (Scf.trips (k0_t1_loop i).lb (k0_t1_loop i).ub (k0_t1_loop i).st) = 512 * (i 2).val from congrArg _ (trips1 i)] at h
  rw [loop2_nil]
  generalize pb_k0_t1 (F := Ideal) 𝒱 c bd i arg3 harg3 arg4 harg4 arg5 harg5 arg6 harg6 arg7 harg7 arg8 harg8 arg9 harg9 arg10 harg10 arg11 harg11 arg12 harg12 arg13 harg13 arg2 k0_pay129 k0_pay130 v20 v21 v32 X3 X4 X5 X6 (arg8.view.writes (Elt Ideal) G8 B8) G9 (arg11.view.writes (Elt Ideal) G11 B11) (arg12.view.writes (Elt Ideal) G12 B12) G13 (Scf.trips (k0_t1_loop i).lb (k0_t1_loop i).ub (k0_t1_loop i).st) = P at h ⊢
  exact ⟨(congrArg (arg8.view.read (Elt Ideal)) (View.writes_append arg8.view G8 P.1 B8)).trans h.dq, h.dk, (congrArg (arg11.view.read (Elt Ideal)) (View.writes_append arg11.view G11 P.2.2.1 B11)).trans h.pb, (congrArg (arg12.view.read (Elt Ideal)) (View.writes_append arg12.view G12 P.2.2.2.1 B12)).trans h.pdl, h.dv⟩

end loop

end Cert.Attn
-- ==== Proof.Diag.lean ====
/- The two tiles on the diagonal, for each head: the stores of each, and the state they lead to. The second tile of keys meets only the
   last 256 rows of the block. -/
module

public import proofs.«01_k».proof.Proof.State
public import proofs.«01_k».proof.Proof.Gen.KernelIdeal.Value

@[expose] public section

set_option maxRecDepth 16384

noncomputable section

namespace Cert.Attn

open Idealize.ShloMosaic Cert.KernelIdeal Cert.KernelIdeal.Gen Idealize.SL.Sem Idealize.ShloMosaic.TcCoe

section diag
variable (x : Block) (i : grid0.Coords) (arg3 : Memref sig .tc .vmem S512x256 .bf16)
  (arg4 : Memref sig .tc .vmem S2048x256 .bf16) (arg5 : Memref sig .tc .vmem S2048x256 .bf16)
  (arg6 : Memref sig .tc .vmem S512x256 .bf16)
  (arg8 : Memref sig .tc .vmem S512x256 .f32) (arg9 : Memref sig .tc .vmem S2048x256 .f32)
  (arg11 arg12 : Memref sig .tc .vmem S2x512x1 .f32) (arg13 : Memref sig .tc .vmem S2048x256 .f32)
  (X3 : BufTy.Contents (Elt Ideal) arg3.view.ty) (X4 : BufTy.Contents (Elt Ideal) arg4.view.ty) (X5 : BufTy.Contents (Elt Ideal) arg5.view.ty)
  (X6 : BufTy.Contents (Elt Ideal) arg6.view.ty)
  (f8 : BufTy.Contents (Elt Ideal) arg8.view.ty) (f9 : BufTy.Contents (Elt Ideal) arg9.view.ty) (f11 : BufTy.Contents (Elt Ideal) arg11.view.ty)
  (f12 : BufTy.Contents (Elt Ideal) arg12.view.ty) (f13 : BufTy.Contents (Elt Ideal) arg13.view.ty)

/-- The mask of the first tile of the diagonal. -/
def dmask0 : IVec S512x256 1 := k0_pay143 (BitVec.ofNat 32 (i 2).val) (k0_pay131 i) (iota Kind.tc S512x256 32 [1] iota_S512x256_d1_w32)
/-- The mask of the second tile of the diagonal, for the last 256 rows. -/
def dmask1 : IVec S256x256 1 :=
  k0_pay157 (k0_pay131 i) (iota Kind.tc S512x256 32 [1] iota_S512x256_d1_w32) (Scalar.addi (Scalar.muli (BitVec.ofNat 32 (i 2).val) 2#32) 1#32)

section stage_00

def rem00 : FVec Ideal S512x1 .f32 := (shapeCast S512x1 (arg11.view.readAt (Elt Ideal) (Rect.unit (s := S2x512x1) ![0, 0, 0] S1x512x1.size inb_S2x512x1_S1x512x1_0_0_0).toLoadRect f11) shapeCasts_S1x512x1_S512x1)
def swept00 : FVec Ideal S512x1 .f32 := (shapeCast S512x1 (arg12.view.readAt (Elt Ideal) (Rect.unit (s := S2x512x1) ![0, 0, 0] S1x512x1.size inb_S2x512x1_S1x512x1_0_0_0).toLoadRect f12) shapeCasts_S1x512x1_S512x1)

def dqPiece00 : View.Piece (Elt Ideal) S512x256 .f32 :=
  ⟨Rect.unit (s := S512x256) ![0, 0] S512x128.size inb_S512x256_S512x128_0_0, addf (shapeCast S512x128 (arg8.view.readAt (Elt Ideal) (Rect.unit (s := S512x256) ![0, 0] S512x128.size inb_S512x256_S512x128_0_0).toLoadRect f8) shapeCasts_S512x128_S512x128)
    (cdq512 (dmask0 i) (arg3.view.readAt (Elt Ideal) (Rect.unit (s := S512x256) ![0, 0] S512x128.size inb_S512x256_S512x128_0_0).toLoadRect X3) (arg6.view.readAt (Elt Ideal) (Rect.unit (s := S512x256) ![0, 0] S512x128.size inb_S512x256_S512x128_0_0).toLoadRect X6) (arg4.view.readAt (Elt Ideal) (Rect.unit (s := S2048x256) (k0_off5 i 0#32) S256x128.size (k0_off5_inb i 0)).toLoadRect X4) (arg5.view.readAt (Elt Ideal) (Rect.unit (s := S2048x256) (k0_off5 i 0#32) S256x128.size (k0_off5_inb i 0)).toLoadRect X5) (rem00 arg11 f11) (swept00 arg12 f12))⟩
def dkPiece00 : View.Piece (Elt Ideal) S2048x256 .f32 :=
  ⟨Rect.unit (s := S2048x256) (k0_off5 i 0#32) S256x128.size (k0_off5_inb i 0), cdk512 (dmask0 i) (arg3.view.readAt (Elt Ideal) (Rect.unit (s := S512x256) ![0, 0] S512x128.size inb_S512x256_S512x128_0_0).toLoadRect X3) (arg6.view.readAt (Elt Ideal) (Rect.unit (s := S512x256) ![0, 0] S512x128.size inb_S512x256_S512x128_0_0).toLoadRect X6) (arg4.view.readAt (Elt Ideal) (Rect.unit (s := S2048x256) (k0_off5 i 0#32) S256x128.size (k0_off5_inb i 0)).toLoadRect X4) (arg5.view.readAt (Elt Ideal) (Rect.unit (s := S2048x256) (k0_off5 i 0#32) S256x128.size (k0_off5_inb i 0)).toLoadRect X5) (rem00 arg11 f11) (swept00 arg12 f12)
    (arg9.view.readAt (Elt Ideal) (Rect.unit (s := S2048x256) (k0_off5 i 0#32) S256x128.size (k0_off5_inb i 0)).toLoadRect f9)⟩
def dvPiece00 : View.Piece (Elt Ideal) S2048x256 .f32 :=
  ⟨Rect.unit (s := S2048x256) (k0_off5 i 0#32) S256x128.size (k0_off5_inb i 0), cdv512 (dmask0 i) (arg3.view.readAt (Elt Ideal) (Rect.unit (s := S512x256) ![0, 0] S512x128.size inb_S512x256_S512x128_0_0).toLoadRect X3) (arg6.view.readAt (Elt Ideal) (Rect.unit (s := S512x256) ![0, 0] S512x128.size inb_S512x256_S512x128_0_0).toLoadRect X6) (arg4.view.readAt (Elt Ideal) (Rect.unit (s := S2048x256) (k0_off5 i 0#32) S256x128.size (k0_off5_inb i 0)).toLoadRect X4) (rem00 arg11 f11) (arg13.view.readAt (Elt Ideal) (Rect.unit (s := S2048x256) (k0_off5 i 0#32) S256x128.size (k0_off5_inb i 0)).toLoadRect f13)⟩
def pbPiece00 : View.Piece (Elt Ideal) S2x512x1 .f32 :=
  ⟨Rect.unit (s := S2x512x1) ![0, 0, 0] S1x512x1.size inb_S2x512x1_S1x512x1_0_0_0, shapeCast S1x512x1 (subf (rem00 arg11 f11) (csum512 (cb512 (dmask0 i) (arg3.view.readAt (Elt Ideal) (Rect.unit (s := S512x256) ![0, 0] S512x128.size inb_S512x256_S512x128_0_0).toLoadRect X3) (arg4.view.readAt (Elt Ideal) (Rect.unit (s := S2048x256) (k0_off5 i 0#32) S256x128.size (k0_off5_inb i 0)).toLoadRect X4)))) shapeCasts_S512x1_S1x512x1⟩
def pdlPiece00 : View.Piece (Elt Ideal) S2x512x1 .f32 :=
  ⟨Rect.unit (s := S2x512x1) ![0, 0, 0] S1x512x1.size inb_S2x512x1_S1x512x1_0_0_0, shapeCast S1x512x1 (addf (swept00 arg12 f12)
    (csum512 (cdl512 (dmask0 i) (arg3.view.readAt (Elt Ideal) (Rect.unit (s := S512x256) ![0, 0] S512x128.size inb_S512x256_S512x128_0_0).toLoadRect X3) (arg6.view.readAt (Elt Ideal) (Rect.unit (s := S512x256) ![0, 0] S512x128.size inb_S512x256_S512x128_0_0).toLoadRect X6) (arg4.view.readAt (Elt Ideal) (Rect.unit (s := S2048x256) (k0_off5 i 0#32) S256x128.size (k0_off5_inb i 0)).toLoadRect X4) (arg5.view.readAt (Elt Ideal) (Rect.unit (s := S2048x256) (k0_off5 i 0#32) S256x128.size (k0_off5_inb i 0)).toLoadRect X5) (rem00 arg11 f11)))) shapeCasts_S512x1_S1x512x1⟩

variable {G8 : BufTy.Contents (Elt Ideal) arg8.view.ty} {G9 : BufTy.Contents (Elt Ideal) arg9.view.ty} {G11 : BufTy.Contents (Elt Ideal) arg11.view.ty}
  {G12 : BufTy.Contents (Elt Ideal) arg12.view.ty} {G13 : BufTy.Contents (Elt Ideal) arg13.view.ty}
  {B8 : List (View.Piece (Elt Ideal) S512x256 .f32)} {B9 B13 : List (View.Piece (Elt Ideal) S2048x256 .f32)} {B11 B12 : List (View.Piece (Elt Ideal) S2x512x1 .f32)}

theorem acc00 (ht : x.t0 = 512 * (i 2).val) (hI : Ins x arg3 arg4 arg5 arg6 X3 X4 X5 X6)
    (hA : Acc x (cn (512 * (i 2).val) (512 * (i 2).val)) arg8 arg9 arg11 arg12 arg13 (arg8.view.writes (Elt Ideal) G8 B8) (arg9.view.writes (Elt Ideal) G9 B9)
      (arg11.view.writes (Elt Ideal) G11 B11) (arg12.view.writes (Elt Ideal) G12 B12) (arg13.view.writes (Elt Ideal) G13 B13)) :
    Acc x (cn (512 * (i 2).val + 256) (512 * (i 2).val)) arg8 arg9 arg11 arg12 arg13
      (arg8.view.writes (Elt Ideal) G8 (dqPiece00 i arg3 arg4 arg5 arg6 arg8 arg11 arg12 X3 X4 X5 X6 (arg8.view.writes (Elt Ideal) G8 B8)
        (arg11.view.writes (Elt Ideal) G11 B11) (arg12.view.writes (Elt Ideal) G12 B12) :: B8))
      (arg9.view.writes (Elt Ideal) G9 (dkPiece00 i arg3 arg4 arg5 arg6 arg9 arg11 arg12 X3 X4 X5 X6 (arg9.view.writes (Elt Ideal) G9 B9)
        (arg11.view.writes (Elt Ideal) G11 B11) (arg12.view.writes (Elt Ideal) G12 B12) :: B9))
      (arg11.view.writes (Elt Ideal) G11 (pbPiece00 i arg3 arg4 arg11 X3 X4 (arg11.view.writes (Elt Ideal) G11 B11) :: B11))
      (arg12.view.writes (Elt Ideal) G12 (pdlPiece00 i arg3 arg4 arg5 arg6 arg11 arg12 X3 X4 X5 X6 (arg11.view.writes (Elt Ideal) G11 B11)
        (arg12.view.writes (Elt Ideal) G12 B12) :: B12))
      (arg13.view.writes (Elt Ideal) G13 (dvPiece00 i arg3 arg4 arg6 arg11 arg13 X3 X4 X6 (arg11.view.writes (Elt Ideal) G11 B11)
        (arg13.view.writes (Elt Ideal) G13 B13) :: B13)) := by
  have hm : ∃ (p : ℕ → ℕ → Prop) (_ : ∀ r s, Decidable (p r s)), dmask0 i = mk2 512 256 p ∧ ∀ r s, p r s ↔ (512 * (i 2).val + 256 * 0) + s < x.t0 + (0 + r) :=
    ⟨_, _, mask0 i, fun r s => by rw [ht]; omega⟩
  have hq := readAt2_bf16 arg3.view hI.q (tQ x 0 0) (n := 512) (m := 128) (off := ![0, 0]) 0 0 rfl inb_S512x256_S512x128_0_0 (fun _ _ _ _ => rfl)
  have hd := readAt2_bf16 arg6.view hI.d (tD x 0 0) (n := 512) (m := 128) (off := ![0, 0]) 0 0 rfl inb_S512x256_S512x128_0_0 (fun _ _ _ _ => rfl)
  have hk := readAt2_bf16 arg4.view hI.k (tK x 0 (512 * (i 2).val + 256 * 0)) (n := 256) (m := 128) (off := k0_off5 i 0#32) (512 * (i 2).val + 256 * 0) 0 (k0_off5_eq i 0) (k0_off5_inb i 0) (fun _ _ _ _ => rfl)
  have hv := readAt2_bf16 arg5.view hI.v (tV x 0 (512 * (i 2).val + 256 * 0)) (n := 256) (m := 128) (off := k0_off5 i 0#32) (512 * (i 2).val + 256 * 0) 0 (k0_off5_eq i 0) (k0_off5_inb i 0) (fun _ _ _ _ => rfl)
  have ho := readAt2_f32 arg9.view hA.dk (fun s c => x.dk (cn (512 * (i 2).val) (512 * (i 2).val)) ((512 * (i 2).val + 256 * 0) + s) (0 + c)) (n := 256) (m := 128) (off := k0_off5 i 0#32) (512 * (i 2).val + 256 * 0) 0 (k0_off5_eq i 0) (k0_off5_inb i 0) (fun _ _ _ _ => rfl)
  have hu := readAt2_f32 arg13.view hA.dv (fun s c => x.dv (cn (512 * (i 2).val) (512 * (i 2).val)) ((512 * (i 2).val + 256 * 0) + s) (0 + c)) (n := 256) (m := 128) (off := k0_off5 i 0#32) (512 * (i 2).val + 256 * 0) 0 (k0_off5_eq i 0) (k0_off5_inb i 0) (fun _ _ _ _ => rfl)
  have hqo := readAt2_f32 arg8.view hA.dq (fun r c => x.dq (cn (512 * (i 2).val) (512 * (i 2).val)) (0 + r) (0 + c)) (n := 512) (m := 128) (off := ![0, 0]) 0 0 rfl inb_S512x256_S512x128_0_0 (fun _ _ _ _ => rfl)
  have hr : rem00 arg11 (arg11.view.writes (Elt Ideal) G11 B11) = up2 512 1 fun r _ => x.pb (512 * (i 2).val + 256 * 0) 0 (0 + r) :=
    drop_512 (readAt3 arg11.view hA.pb (fun _ r _ => x.pb (512 * (i 2).val + 256 * 0) 0 (0 + r)) (l := 1) (n := 512) (m := 1) (off := ![0, 0, 0]) 0 0 0 rfl
      inb_S2x512x1_S1x512x1_0_0_0 (fun p hp _ _ _ _ => by cases Nat.lt_one_iff.1 hp; rfl))
  have hs : swept00 arg12 (arg12.view.writes (Elt Ideal) G12 B12) = up2 512 1 fun r _ => x.pdl (512 * (i 2).val + 256 * 0) 0 (0 + r) :=
    drop_512 (readAt3 arg12.view hA.pdl (fun _ r _ => x.pdl (512 * (i 2).val + 256 * 0) 0 (0 + r)) (l := 1) (n := 512) (m := 1) (off := ![0, 0, 0]) 0 0 0 rfl
      inb_S2x512x1_S1x512x1_0_0_0 (fun p hp _ _ _ _ => by cases Nat.lt_one_iff.1 hp; rfl))
  have hn0 : (cn (512 * (i 2).val) (512 * (i 2).val)) 0 = (512 * (i 2).val + 256 * 0) := rfl
  have hn1 : (cn (512 * (i 2).val + 256) (512 * (i 2).val)) 0 = (512 * (i 2).val + 256 * 0) + 256 := rfl
  refine ⟨?_, ?_, ?_, ?_, ?_⟩
  · refine writes2 _ hA.dq (x.dq (cn (512 * (i 2).val + 256) (512 * (i 2).val))) 0 0 rfl _ (add_cast_512 hqo (dq512_eq x 0 0 (512 * (i 2).val + 256 * 0) hm hq hd hk hv hr hs)) ?_ ?_
    · intro r _ c hc
      exact dq_tile x 0 0 (512 * (i 2).val + 256 * 0) r hc hn0 hn1
    · intro r hr c hc hn
      refine dq_same x r c ?_
      unfold cn
      split_ifs <;> omega
  · refine writes2 _ hA.dk (x.dk (cn (512 * (i 2).val + 256) (512 * (i 2).val))) (512 * (i 2).val + 256 * 0) 0 (k0_off5_eq i 0) _ (dk512_eq x 0 0 (512 * (i 2).val + 256 * 0) hm hq hd hk hv hr hs _ ho) ?_ ?_
    · intro s hs c hc
      exact dk_tile x 0 (512 * (i 2).val + 256 * 0) hs hc hn0.le hn1.ge
    · intro s hs c hc hn
      refine dk_same x s c ?_
      unfold cn
      split_ifs <;> omega
  · refine writes3 _ hA.pb (fun h r _ => x.pb (cn (512 * (i 2).val + 256) (512 * (i 2).val) h) h r) 0 0 0 rfl _ (col_512 (rem512_eq x 0 0 (512 * (i 2).val + 256 * 0) hm hq hk hr)) ?_ ?_
    · intro p hp r _ c _
      cases Nat.lt_one_iff.1 hp
      rfl
    · intro p hp r hr c hc hn
      have e : cn (512 * (i 2).val) (512 * (i 2).val) p = cn (512 * (i 2).val + 256) (512 * (i 2).val) p := by
        unfold cn
        split_ifs <;> omega
      exact congrArg (x.pb · p r) e
  · refine writes3 _ hA.pdl (fun h r _ => x.pdl (cn (512 * (i 2).val + 256) (512 * (i 2).val) h) h r) 0 0 0 rfl _ (col_512 (swept512_eq x 0 0 (512 * (i 2).val + 256 * 0) hm hq hd hk hv hr hs)) ?_ ?_
    · intro p hp r _ c _
      cases Nat.lt_one_iff.1 hp
      rfl
    · intro p hp r hr c hc hn
      have e : cn (512 * (i 2).val) (512 * (i 2).val) p = cn (512 * (i 2).val + 256) (512 * (i 2).val) p := by
        unfold cn
        split_ifs <;> omega
      exact congrArg (x.pdl · p r) e
  · refine writes2 _ hA.dv (x.dv (cn (512 * (i 2).val + 256) (512 * (i 2).val))) (512 * (i 2).val + 256 * 0) 0 (k0_off5_eq i 0) _ (dv512_eq x 0 0 (512 * (i 2).val + 256 * 0) hm hq hk hr hd _ hu) ?_ ?_
    · intro s hs c hc
      exact dv_tile x 0 (512 * (i 2).val + 256 * 0) hs hc hn0.le hn1.ge
    · intro s hs c hc hn
      refine dv_same x s c ?_
      unfold cn
      split_ifs <;> omega

end stage_00

section stage_01

def rem01 : FVec Ideal S256x1 .f32 := (shapeCast S256x1 (arg11.view.readAt (Elt Ideal) (Rect.unit (s := S2x512x1) ![0, 256, 0] S1x256x1.size inb_S2x512x1_S1x256x1_0_256_0).toLoadRect f11) shapeCasts_S1x256x1_S256x1)
def swept01 : FVec Ideal S256x1 .f32 := (shapeCast S256x1 (arg12.view.readAt (Elt Ideal) (Rect.unit (s := S2x512x1) ![0, 256, 0] S1x256x1.size inb_S2x512x1_S1x256x1_0_256_0).toLoadRect f12) shapeCasts_S1x256x1_S256x1)

def dqPiece01 : View.Piece (Elt Ideal) S512x256 .f32 :=
  ⟨Rect.unit (s := S512x256) ![256, 0] S256x128.size inb_S512x256_S256x128_256_0, addf (shapeCast S256x128 (arg8.view.readAt (Elt Ideal) (Rect.unit (s := S512x256) ![256, 0] S256x128.size inb_S512x256_S256x128_256_0).toLoadRect f8) shapeCasts_S256x128_S256x128)
    (cdq256 (dmask1 i) (arg3.view.readAt (Elt Ideal) (Rect.unit (s := S512x256) ![256, 0] S256x128.size inb_S512x256_S256x128_256_0).toLoadRect X3) (arg6.view.readAt (Elt Ideal) (Rect.unit (s := S512x256) ![256, 0] S256x128.size inb_S512x256_S256x128_256_0).toLoadRect X6) (arg4.view.readAt (Elt Ideal) (Rect.unit (s := S2048x256) (k0_off5 i 1#32) S256x128.size (k0_off5_inb i 1)).toLoadRect X4) (arg5.view.readAt (Elt Ideal) (Rect.unit (s := S2048x256) (k0_off5 i 1#32) S256x128.size (k0_off5_inb i 1)).toLoadRect X5) (rem01 arg11 f11) (swept01 arg12 f12))⟩
def dkPiece01 : View.Piece (Elt Ideal) S2048x256 .f32 :=
  ⟨Rect.unit (s := S2048x256) (k0_off5 i 1#32) S256x128.size (k0_off5_inb i 1), cdk256 (dmask1 i) (arg3.view.readAt (Elt Ideal) (Rect.unit (s := S512x256) ![256, 0] S256x128.size inb_S512x256_S256x128_256_0).toLoadRect X3) (arg6.view.readAt (Elt Ideal) (Rect.unit (s := S512x256) ![256, 0] S256x128.size inb_S512x256_S256x128_256_0).toLoadRect X6) (arg4.view.readAt (Elt Ideal) (Rect.unit (s := S2048x256) (k0_off5 i 1#32) S256x128.size (k0_off5_inb i 1)).toLoadRect X4) (arg5.view.readAt (Elt Ideal) (Rect.unit (s := S2048x256) (k0_off5 i 1#32) S256x128.size (k0_off5_inb i 1)).toLoadRect X5) (rem01 arg11 f11) (swept01 arg12 f12)
    (arg9.view.readAt (Elt Ideal) (Rect.unit (s := S2048x256) (k0_off5 i 1#32) S256x128.size (k0_off5_inb i 1)).toLoadRect f9)⟩
def dvPiece01 : View.Piece (Elt Ideal) S2048x256 .f32 :=
  ⟨Rect.unit (s := S2048x256) (k0_off5 i 1#32) S256x128.size (k0_off5_inb i 1), cdv256 (dmask1 i) (arg3.view.readAt (Elt Ideal) (Rect.unit (s := S512x256) ![256, 0] S256x128.size inb_S512x256_S256x128_256_0).toLoadRect X3) (arg6.view.readAt (Elt Ideal) (Rect.unit (s := S512x256) ![256, 0] S256x128.size inb_S512x256_S256x128_256_0).toLoadRect X6) (arg4.view.readAt (Elt Ideal) (Rect.unit (s := S2048x256) (k0_off5 i 1#32) S256x128.size (k0_off5_inb i 1)).toLoadRect X4) (rem01 arg11 f11) (arg13.view.readAt (Elt Ideal) (Rect.unit (s := S2048x256) (k0_off5 i 1#32) S256x128.size (k0_off5_inb i 1)).toLoadRect f13)⟩
def pbPiece01 : View.Piece (Elt Ideal) S2x512x1 .f32 :=
  ⟨Rect.unit (s := S2x512x1) ![0, 256, 0] S1x256x1.size inb_S2x512x1_S1x256x1_0_256_0, shapeCast S1x256x1 (subf (rem01 arg11 f11) (csum256 (cb256 (dmask1 i) (arg3.view.readAt (Elt Ideal) (Rect.unit (s := S512x256) ![256, 0] S256x128.size inb_S512x256_S256x128_256_0).toLoadRect X3) (arg4.view.readAt (Elt Ideal) (Rect.unit (s := S2048x256) (k0_off5 i 1#32) S256x128.size (k0_off5_inb i 1)).toLoadRect X4)))) shapeCasts_S256x1_S1x256x1⟩
def pdlPiece01 : View.Piece (Elt Ideal) S2x512x1 .f32 :=
  ⟨Rect.unit (s := S2x512x1) ![0, 256, 0] S1x256x1.size inb_S2x512x1_S1x256x1_0_256_0, shapeCast S1x256x1 (addf (swept01 arg12 f12)
    (csum256 (cdl256 (dmask1 i) (arg3.view.readAt (Elt Ideal) (Rect.unit (s := S512x256) ![256, 0] S256x128.size inb_S512x256_S256x128_256_0).toLoadRect X3) (arg6.view.readAt (Elt Ideal) (Rect.unit (s := S512x256) ![256, 0] S256x128.size inb_S512x256_S256x128_256_0).toLoadRect X6) (arg4.view.readAt (Elt Ideal) (Rect.unit (s := S2048x256) (k0_off5 i 1#32) S256x128.size (k0_off5_inb i 1)).toLoadRect X4) (arg5.view.readAt (Elt Ideal) (Rect.unit (s := S2048x256) (k0_off5 i 1#32) S256x128.size (k0_off5_inb i 1)).toLoadRect X5) (rem01 arg11 f11)))) shapeCasts_S256x1_S1x256x1⟩

variable {G8 : BufTy.Contents (Elt Ideal) arg8.view.ty} {G9 : BufTy.Contents (Elt Ideal) arg9.view.ty} {G11 : BufTy.Contents (Elt Ideal) arg11.view.ty}
  {G12 : BufTy.Contents (Elt Ideal) arg12.view.ty} {G13 : BufTy.Contents (Elt Ideal) arg13.view.ty}
  {B8 : List (View.Piece (Elt Ideal) S512x256 .f32)} {B9 B13 : List (View.Piece (Elt Ideal) S2048x256 .f32)} {B11 B12 : List (View.Piece (Elt Ideal) S2x512x1 .f32)}

theorem acc01 (ht : x.t0 = 512 * (i 2).val) (hI : Ins x arg3 arg4 arg5 arg6 X3 X4 X5 X6)
    (hA : Acc x (cn (512 * (i 2).val + 256) (512 * (i 2).val)) arg8 arg9 arg11 arg12 arg13 (arg8.view.writes (Elt Ideal) G8 B8) (arg9.view.writes (Elt Ideal) G9 B9)
      (arg11.view.writes (Elt Ideal) G11 B11) (arg12.view.writes (Elt Ideal) G12 B12) (arg13.view.writes (Elt Ideal) G13 B13)) :
    Acc x (cn (512 * (i 2).val + 512) (512 * (i 2).val)) arg8 arg9 arg11 arg12 arg13
      (arg8.view.writes (Elt Ideal) G8 (dqPiece01 i arg3 arg4 arg5 arg6 arg8 arg11 arg12 X3 X4 X5 X6 (arg8.view.writes (Elt Ideal) G8 B8)
        (arg11.view.writes (Elt Ideal) G11 B11) (arg12.view.writes (Elt Ideal) G12 B12) :: B8))
      (arg9.view.writes (Elt Ideal) G9 (dkPiece01 i arg3 arg4 arg5 arg6 arg9 arg11 arg12 X3 X4 X5 X6 (arg9.view.writes (Elt Ideal) G9 B9)
        (arg11.view.writes (Elt Ideal) G11 B11) (arg12.view.writes (Elt Ideal) G12 B12) :: B9))
      (arg11.view.writes (Elt Ideal) G11 (pbPiece01 i arg3 arg4 arg11 X3 X4 (arg11.view.writes (Elt Ideal) G11 B11) :: B11))
      (arg12.view.writes (Elt Ideal) G12 (pdlPiece01 i arg3 arg4 arg5 arg6 arg11 arg12 X3 X4 X5 X6 (arg11.view.writes (Elt Ideal) G11 B11)
        (arg12.view.writes (Elt Ideal) G12 B12) :: B12))
      (arg13.view.writes (Elt Ideal) G13 (dvPiece01 i arg3 arg4 arg6 arg11 arg13 X3 X4 X6 (arg11.view.writes (Elt Ideal) G11 B11)
        (arg13.view.writes (Elt Ideal) G13 B13) :: B13)) := by
  have hm : ∃ (p : ℕ → ℕ → Prop) (_ : ∀ r s, Decidable (p r s)), dmask1 i = mk2 256 256 p ∧ ∀ r s, p r s ↔ (512 * (i 2).val + 256 * 1) + s < x.t0 + (256 + r) :=
    ⟨_, _, mask1 i, fun r s => by rw [ht]⟩
  have hq := readAt2_bf16 arg3.view hI.q (tQ x 0 256) (n := 256) (m := 128) (off := ![256, 0]) 256 0 rfl inb_S512x256_S256x128_256_0 (fun _ _ _ _ => rfl)
  have hd := readAt2_bf16 arg6.view hI.d (tD x 0 256) (n := 256) (m := 128) (off := ![256, 0]) 256 0 rfl inb_S512x256_S256x128_256_0 (fun _ _ _ _ => rfl)
  have hk := readAt2_bf16 arg4.view hI.k (tK x 0 (512 * (i 2).val + 256 * 1)) (n := 256) (m := 128) (off := k0_off5 i 1#32) (512 * (i 2).val + 256 * 1) 0 (k0_off5_eq i 1) (k0_off5_inb i 1) (fun _ _ _ _ => rfl)
  have hv := readAt2_bf16 arg5.view hI.v (tV x 0 (512 * (i 2).val + 256 * 1)) (n := 256) (m := 128) (off := k0_off5 i 1#32) (512 * (i 2).val + 256 * 1) 0 (k0_off5_eq i 1) (k0_off5_inb i 1) (fun _ _ _ _ => rfl)
  have ho := readAt2_f32 arg9.view hA.dk (fun s c => x.dk (cn (512 * (i 2).val + 256) (512 * (i 2).val)) ((512 * (i 2).val + 256 * 1) + s) (0 + c)) (n := 256) (m := 128) (off := k0_off5 i 1#32) (512 * (i 2).val + 256 * 1) 0 (k0_off5_eq i 1) (k0_off5_inb i 1) (fun _ _ _ _ => rfl)
  have hu := readAt2_f32 arg13.view hA.dv (fun s c => x.dv (cn (512 * (i 2).val + 256) (512 * (i 2).val)) ((512 * (i 2).val + 256 * 1) + s) (0 + c)) (n := 256) (m := 128) (off := k0_off5 i 1#32) (512 * (i 2).val + 256 * 1) 0 (k0_off5_eq i 1) (k0_off5_inb i 1) (fun _ _ _ _ => rfl)
  have hqo := readAt2_f32 arg8.view hA.dq (fun r c => x.dq (cn (512 * (i 2).val + 256) (512 * (i 2).val)) (256 + r) (0 + c)) (n := 256) (m := 128) (off := ![256, 0]) 256 0 rfl inb_S512x256_S256x128_256_0 (fun _ _ _ _ => rfl)
  have hr : rem01 arg11 (arg11.view.writes (Elt Ideal) G11 B11) = up2 256 1 fun r _ => x.pb (512 * (i 2).val + 256 * 1) 0 (256 + r) :=
    drop_256 (readAt3 arg11.view hA.pb (fun _ r _ => x.pb (512 * (i 2).val + 256 * 1) 0 (256 + r)) (l := 1) (n := 256) (m := 1) (off := ![0, 256, 0]) 0 256 0 rfl
      inb_S2x512x1_S1x256x1_0_256_0 (fun p hp _ _ _ _ => by cases Nat.lt_one_iff.1 hp; rfl))
  have hs : swept01 arg12 (arg12.view.writes (Elt Ideal) G12 B12) = up2 256 1 fun r _ => x.pdl (512 * (i 2).val + 256 * 1) 0 (256 + r) :=
    drop_256 (readAt3 arg12.view hA.pdl (fun _ r _ => x.pdl (512 * (i 2).val + 256 * 1) 0 (256 + r)) (l := 1) (n := 256) (m := 1) (off := ![0, 256, 0]) 0 256 0 rfl
      inb_S2x512x1_S1x256x1_0_256_0 (fun p hp _ _ _ _ => by cases Nat.lt_one_iff.1 hp; rfl))
  have hn0 : (cn (512 * (i 2).val + 256) (512 * (i 2).val)) 0 = (512 * (i 2).val + 256 * 1) := rfl
  have hn1 : (cn (512 * (i 2).val + 512) (512 * (i 2).val)) 0 = (512 * (i 2).val + 256 * 1) + 256 := rfl
  refine ⟨?_, ?_, ?_, ?_, ?_⟩
  · refine writes2 _ hA.dq (x.dq (cn (512 * (i 2).val + 512) (512 * (i 2).val))) 256 0 rfl _ (add_cast_256 hqo (dq256_eq x 0 256 (512 * (i 2).val + 256 * 1) hm hq hd hk hv hr hs)) ?_ ?_
    · intro r _ c hc
      exact dq_tile x 0 256 (512 * (i 2).val + 256 * 1) r hc hn0 hn1
    · intro r hr c hc hn
      by_cases hh : c / 128 = 0
      · exact dq_low x 0 (512 * (i 2).val + 256 * 1) r hh hn0 hn1 (by rw [ht]; omega)
      · refine dq_same x r c ?_
        unfold cn
        split_ifs <;> omega
  · refine writes2 _ hA.dk (x.dk (cn (512 * (i 2).val + 512) (512 * (i 2).val))) (512 * (i 2).val + 256 * 1) 0 (k0_off5_eq i 1) _ (dk256_eq x 0 256 (512 * (i 2).val + 256 * 1) hm hq hd hk hv hr hs _ ho) ?_ ?_
    · intro s hs c hc
      exact dk_upper x 0 (512 * (i 2).val + 256 * 1) hs hc hn0.le hn1.ge (by rw [ht])
    · intro s hs c hc hn
      refine dk_same x s c ?_
      unfold cn
      split_ifs <;> omega
  · refine writes3 _ hA.pb (fun h r _ => x.pb (cn (512 * (i 2).val + 512) (512 * (i 2).val) h) h r) 0 256 0 rfl _ (col_256 (rem256_eq x 0 256 (512 * (i 2).val + 256 * 1) hm hq hk hr)) ?_ ?_
    · intro p hp r _ c _
      cases Nat.lt_one_iff.1 hp
      rfl
    · intro p hp r hr c hc hn
      by_cases hh : p = 0
      · subst hh
        exact pb_low x 0 (512 * (i 2).val + 256 * 1) (by rw [ht]; omega)
      · have e : cn (512 * (i 2).val + 256) (512 * (i 2).val) p = cn (512 * (i 2).val + 512) (512 * (i 2).val) p := by
          unfold cn
          split_ifs <;> omega
        exact congrArg (x.pb · p r) e
  · refine writes3 _ hA.pdl (fun h r _ => x.pdl (cn (512 * (i 2).val + 512) (512 * (i 2).val) h) h r) 0 256 0 rfl _ (col_256 (swept256_eq x 0 256 (512 * (i 2).val + 256 * 1) hm hq hd hk hv hr hs)) ?_ ?_
    · intro p hp r _ c _
      cases Nat.lt_one_iff.1 hp
      rfl
    · intro p hp r hr c hc hn
      by_cases hh : p = 0
      · subst hh
        exact pdl_low x 0 (512 * (i 2).val + 256 * 1) (by rw [ht]; omega)
      · have e : cn (512 * (i 2).val + 256) (512 * (i 2).val) p = cn (512 * (i 2).val + 512) (512 * (i 2).val) p := by
          unfold cn
          split_ifs <;> omega
        exact congrArg (x.pdl · p r) e
  · refine writes2 _ hA.dv (x.dv (cn (512 * (i 2).val + 512) (512 * (i 2).val))) (512 * (i 2).val + 256 * 1) 0 (k0_off5_eq i 1) _ (dv256_eq x 0 256 (512 * (i 2).val + 256 * 1) hm hq hk hr hd _ hu) ?_ ?_
    · intro s hs c hc
      exact dv_upper x 0 (512 * (i 2).val + 256 * 1) hs hc hn0.le hn1.ge (by rw [ht])
    · intro s hs c hc hn
      refine dv_same x s c ?_
      unfold cn
      split_ifs <;> omega

end stage_01

section stage_10

def rem10 : FVec Ideal S512x1 .f32 := (shapeCast S512x1 (arg11.view.readAt (Elt Ideal) (Rect.unit (s := S2x512x1) ![1, 0, 0] S1x512x1.size inb_S2x512x1_S1x512x1_1_0_0).toLoadRect f11) shapeCasts_S1x512x1_S512x1)
def swept10 : FVec Ideal S512x1 .f32 := (shapeCast S512x1 (arg12.view.readAt (Elt Ideal) (Rect.unit (s := S2x512x1) ![1, 0, 0] S1x512x1.size inb_S2x512x1_S1x512x1_1_0_0).toLoadRect f12) shapeCasts_S1x512x1_S512x1)

def dqPiece10 : View.Piece (Elt Ideal) S512x256 .f32 :=
  ⟨Rect.unit (s := S512x256) ![0, 128] S512x128.size inb_S512x256_S512x128_0_128, addf (shapeCast S512x128 (arg8.view.readAt (Elt Ideal) (Rect.unit (s := S512x256) ![0, 128] S512x128.size inb_S512x256_S512x128_0_128).toLoadRect f8) shapeCasts_S512x128_S512x128)
    (cdq512 (dmask0 i) (arg3.view.readAt (Elt Ideal) (Rect.unit (s := S512x256) ![0, 128] S512x128.size inb_S512x256_S512x128_0_128).toLoadRect X3) (arg6.view.readAt (Elt Ideal) (Rect.unit (s := S512x256) ![0, 128] S512x128.size inb_S512x256_S512x128_0_128).toLoadRect X6) (arg4.view.readAt (Elt Ideal) (Rect.unit (s := S2048x256) (k0_off6 i 0#32) S256x128.size (k0_off6_inb i 0)).toLoadRect X4) (arg5.view.readAt (Elt Ideal) (Rect.unit (s := S2048x256) (k0_off6 i 0#32) S256x128.size (k0_off6_inb i 0)).toLoadRect X5) (rem10 arg11 f11) (swept10 arg12 f12))⟩
def dkPiece10 : View.Piece (Elt Ideal) S2048x256 .f32 :=
  ⟨Rect.unit (s := S2048x256) (k0_off6 i 0#32) S256x128.size (k0_off6_inb i 0), cdk512 (dmask0 i) (arg3.view.readAt (Elt Ideal) (Rect.unit (s := S512x256) ![0, 128] S512x128.size inb_S512x256_S512x128_0_128).toLoadRect X3) (arg6.view.readAt (Elt Ideal) (Rect.unit (s := S512x256) ![0, 128] S512x128.size inb_S512x256_S512x128_0_128).toLoadRect X6) (arg4.view.readAt (Elt Ideal) (Rect.unit (s := S2048x256) (k0_off6 i 0#32) S256x128.size (k0_off6_inb i 0)).toLoadRect X4) (arg5.view.readAt (Elt Ideal) (Rect.unit (s := S2048x256) (k0_off6 i 0#32) S256x128.size (k0_off6_inb i 0)).toLoadRect X5) (rem10 arg11 f11) (swept10 arg12 f12)
    (arg9.view.readAt (Elt Ideal) (Rect.unit (s := S2048x256) (k0_off6 i 0#32) S256x128.size (k0_off6_inb i 0)).toLoadRect f9)⟩
def dvPiece10 : View.Piece (Elt Ideal) S2048x256 .f32 :=
  ⟨Rect.unit (s := S2048x256) (k0_off6 i 0#32) S256x128.size (k0_off6_inb i 0), cdv512 (dmask0 i) (arg3.view.readAt (Elt Ideal) (Rect.unit (s := S512x256) ![0, 128] S512x128.size inb_S512x256_S512x128_0_128).toLoadRect X3) (arg6.view.readAt (Elt Ideal) (Rect.unit (s := S512x256) ![0, 128] S512x128.size inb_S512x256_S512x128_0_128).toLoadRect X6) (arg4.view.readAt (Elt Ideal) (Rect.unit (s := S2048x256) (k0_off6 i 0#32) S256x128.size (k0_off6_inb i 0)).toLoadRect X4) (rem10 arg11 f11) (arg13.view.readAt (Elt Ideal) (Rect.unit (s := S2048x256) (k0_off6 i 0#32) S256x128.size (k0_off6_inb i 0)).toLoadRect f13)⟩
def pbPiece10 : View.Piece (Elt Ideal) S2x512x1 .f32 :=
  ⟨Rect.unit (s := S2x512x1) ![1, 0, 0] S1x512x1.size inb_S2x512x1_S1x512x1_1_0_0, shapeCast S1x512x1 (subf (rem10 arg11 f11) (csum512 (cb512 (dmask0 i) (arg3.view.readAt (Elt Ideal) (Rect.unit (s := S512x256) ![0, 128] S512x128.size inb_S512x256_S512x128_0_128).toLoadRect X3) (arg4.view.readAt (Elt Ideal) (Rect.unit (s := S2048x256) (k0_off6 i 0#32) S256x128.size (k0_off6_inb i 0)).toLoadRect X4)))) shapeCasts_S512x1_S1x512x1⟩
def pdlPiece10 : View.Piece (Elt Ideal) S2x512x1 .f32 :=
  ⟨Rect.unit (s := S2x512x1) ![1, 0, 0] S1x512x1.size inb_S2x512x1_S1x512x1_1_0_0, shapeCast S1x512x1 (addf (swept10 arg12 f12)
    (csum512 (cdl512 (dmask0 i) (arg3.view.readAt (Elt Ideal) (Rect.unit (s := S512x256) ![0, 128] S512x128.size inb_S512x256_S512x128_0_128).toLoadRect X3) (arg6.view.readAt (Elt Ideal) (Rect.unit (s := S512x256) ![0, 128] S512x128.size inb_S512x256_S512x128_0_128).toLoadRect X6) (arg4.view.readAt (Elt Ideal) (Rect.unit (s := S2048x256) (k0_off6 i 0#32) S256x128.size (k0_off6_inb i 0)).toLoadRect X4) (arg5.view.readAt (Elt Ideal) (Rect.unit (s := S2048x256) (k0_off6 i 0#32) S256x128.size (k0_off6_inb i 0)).toLoadRect X5) (rem10 arg11 f11)))) shapeCasts_S512x1_S1x512x1⟩

variable {G8 : BufTy.Contents (Elt Ideal) arg8.view.ty} {G9 : BufTy.Contents (Elt Ideal) arg9.view.ty} {G11 : BufTy.Contents (Elt Ideal) arg11.view.ty}
  {G12 : BufTy.Contents (Elt Ideal) arg12.view.ty} {G13 : BufTy.Contents (Elt Ideal) arg13.view.ty}
  {B8 : List (View.Piece (Elt Ideal) S512x256 .f32)} {B9 B13 : List (View.Piece (Elt Ideal) S2048x256 .f32)} {B11 B12 : List (View.Piece (Elt Ideal) S2x512x1 .f32)}

theorem acc10 (ht : x.t0 = 512 * (i 2).val) (hI : Ins x arg3 arg4 arg5 arg6 X3 X4 X5 X6)
    (hA : Acc x (cn (512 * (i 2).val + 512) (512 * (i 2).val)) arg8 arg9 arg11 arg12 arg13 (arg8.view.writes (Elt Ideal) G8 B8) (arg9.view.writes (Elt Ideal) G9 B9)
      (arg11.view.writes (Elt Ideal) G11 B11) (arg12.view.writes (Elt Ideal) G12 B12) (arg13.view.writes (Elt Ideal) G13 B13)) :
    Acc x (cn (512 * (i 2).val + 512) (512 * (i 2).val + 256)) arg8 arg9 arg11 arg12 arg13
      (arg8.view.writes (Elt Ideal) G8 (dqPiece10 i arg3 arg4 arg5 arg6 arg8 arg11 arg12 X3 X4 X5 X6 (arg8.view.writes (Elt Ideal) G8 B8)
        (arg11.view.writes (Elt Ideal) G11 B11) (arg12.view.writes (Elt Ideal) G12 B12) :: B8))
      (arg9.view.writes (Elt Ideal) G9 (dkPiece10 i arg3 arg4 arg5 arg6 arg9 arg11 arg12 X3 X4 X5 X6 (arg9.view.writes (Elt Ideal) G9 B9)
        (arg11.view.writes (Elt Ideal) G11 B11) (arg12.view.writes (Elt Ideal) G12 B12) :: B9))
      (arg11.view.writes (Elt Ideal) G11 (pbPiece10 i arg3 arg4 arg11 X3 X4 (arg11.view.writes (Elt Ideal) G11 B11) :: B11))
      (arg12.view.writes (Elt Ideal) G12 (pdlPiece10 i arg3 arg4 arg5 arg6 arg11 arg12 X3 X4 X5 X6 (arg11.view.writes (Elt Ideal) G11 B11)
        (arg12.view.writes (Elt Ideal) G12 B12) :: B12))
      (arg13.view.writes (Elt Ideal) G13 (dvPiece10 i arg3 arg4 arg6 arg11 arg13 X3 X4 X6 (arg11.view.writes (Elt Ideal) G11 B11)
        (arg13.view.writes (Elt Ideal) G13 B13) :: B13)) := by
  have hm : ∃ (p : ℕ → ℕ → Prop) (_ : ∀ r s, Decidable (p r s)), dmask0 i = mk2 512 256 p ∧ ∀ r s, p r s ↔ (512 * (i 2).val + 256 * 0) + s < x.t0 + (0 + r) :=
    ⟨_, _, mask0 i, fun r s => by rw [ht]; omega⟩
  have hq := readAt2_bf16 arg3.view hI.q (tQ x 1 0) (n := 512) (m := 128) (off := ![0, 128]) 0 128 rfl inb_S512x256_S512x128_0_128 (fun _ _ _ _ => rfl)
  have hd := readAt2_bf16 arg6.view hI.d (tD x 1 0) (n := 512) (m := 128) (off := ![0, 128]) 0 128 rfl inb_S512x256_S512x128_0_128 (fun _ _ _ _ => rfl)
  have hk := readAt2_bf16 arg4.view hI.k (tK x 1 (512 * (i 2).val + 256 * 0)) (n := 256) (m := 128) (off := k0_off6 i 0#32) (512 * (i 2).val + 256 * 0) 128 (k0_off6_eq i 0) (k0_off6_inb i 0) (fun _ _ _ _ => rfl)
  have hv := readAt2_bf16 arg5.view hI.v (tV x 1 (512 * (i 2).val + 256 * 0)) (n := 256) (m := 128) (off := k0_off6 i 0#32) (512 * (i 2).val + 256 * 0) 128 (k0_off6_eq i 0) (k0_off6_inb i 0) (fun _ _ _ _ => rfl)
  have ho := readAt2_f32 arg9.view hA.dk (fun s c => x.dk (cn (512 * (i 2).val + 512) (512 * (i 2).val)) ((512 * (i 2).val + 256 * 0) + s) (128 + c)) (n := 256) (m := 128) (off := k0_off6 i 0#32) (512 * (i 2).val + 256 * 0) 128 (k0_off6_eq i 0) (k0_off6_inb i 0) (fun _ _ _ _ => rfl)
  have hu := readAt2_f32 arg13.view hA.dv (fun s c => x.dv (cn (512 * (i 2).val + 512) (512 * (i 2).val)) ((512 * (i 2).val + 256 * 0) + s) (128 + c)) (n := 256) (m := 128) (off := k0_off6 i 0#32) (512 * (i 2).val + 256 * 0) 128 (k0_off6_eq i 0) (k0_off6_inb i 0) (fun _ _ _ _ => rfl)
  have hqo := readAt2_f32 arg8.view hA.dq (fun r c => x.dq (cn (512 * (i 2).val + 512) (512 * (i 2).val)) (0 + r) (128 + c)) (n := 512) (m := 128) (off := ![0, 128]) 0 128 rfl inb_S512x256_S512x128_0_128 (fun _ _ _ _ => rfl)
  have hr : rem10 arg11 (arg11.view.writes (Elt Ideal) G11 B11) = up2 512 1 fun r _ => x.pb (512 * (i 2).val + 256 * 0) 1 (0 + r) :=
    drop_512 (readAt3 arg11.view hA.pb (fun _ r _ => x.pb (512 * (i 2).val + 256 * 0) 1 (0 + r)) (l := 1) (n := 512) (m := 1) (off := ![1, 0, 0]) 1 0 0 rfl
      inb_S2x512x1_S1x512x1_1_0_0 (fun p hp _ _ _ _ => by cases Nat.lt_one_iff.1 hp; rfl))
  have hs : swept10 arg12 (arg12.view.writes (Elt Ideal) G12 B12) = up2 512 1 fun r _ => x.pdl (512 * (i 2).val + 256 * 0) 1 (0 + r) :=
    drop_512 (readAt3 arg12.view hA.pdl (fun _ r _ => x.pdl (512 * (i 2).val + 256 * 0) 1 (0 + r)) (l := 1) (n := 512) (m := 1) (off := ![1, 0, 0]) 1 0 0 rfl
      inb_S2x512x1_S1x512x1_1_0_0 (fun p hp _ _ _ _ => by cases Nat.lt_one_iff.1 hp; rfl))
  have hn0 : (cn (512 * (i 2).val + 512) (512 * (i 2).val)) 1 = (512 * (i 2).val + 256 * 0) := rfl
  have hn1 : (cn (512 * (i 2).val + 512) (512 * (i 2).val + 256)) 1 = (512 * (i 2).val + 256 * 0) + 256 := rfl
  refine ⟨?_, ?_, ?_, ?_, ?_⟩
  · refine writes2 _ hA.dq (x.dq (cn (512 * (i 2).val + 512) (512 * (i 2).val + 256))) 0 128 rfl _ (add_cast_512 hqo (dq512_eq x 1 0 (512 * (i 2).val + 256 * 0) hm hq hd hk hv hr hs)) ?_ ?_
    · intro r _ c hc
      exact dq_tile x 1 0 (512 * (i 2).val + 256 * 0) r hc hn0 hn1
    · intro r hr c hc hn
      refine dq_same x r c ?_
      unfold cn
      split_ifs <;> omega
  · refine writes2 _ hA.dk (x.dk (cn (512 * (i 2).val + 512) (512 * (i 2).val + 256))) (512 * (i 2).val + 256 * 0) 128 (k0_off6_eq i 0) _ (dk512_eq x 1 0 (512 * (i 2).val + 256 * 0) hm hq hd hk hv hr hs _ ho) ?_ ?_
    · intro s hs c hc
      exact dk_tile x 1 (512 * (i 2).val + 256 * 0) hs hc hn0.le hn1.ge
    · intro s hs c hc hn
      refine dk_same x s c ?_
      unfold cn
      split_ifs <;> omega
  · refine writes3 _ hA.pb (fun h r _ => x.pb (cn (512 * (i 2).val + 512) (512 * (i 2).val + 256) h) h r) 1 0 0 rfl _ (col_512 (rem512_eq x 1 0 (512 * (i 2).val + 256 * 0) hm hq hk hr)) ?_ ?_
    · intro p hp r _ c _
      cases Nat.lt_one_iff.1 hp
      rfl
    · intro p hp r hr c hc hn
      have e : cn (512 * (i 2).val + 512) (512 * (i 2).val) p = cn (512 * (i 2).val + 512) (512 * (i 2).val + 256) p := by
        unfold cn
        split_ifs <;> omega
      exact congrArg (x.pb · p r) e
  · refine writes3 _ hA.pdl (fun h r _ => x.pdl (cn (512 * (i 2).val + 512) (512 * (i 2).val + 256) h) h r) 1 0 0 rfl _ (col_512 (swept512_eq x 1 0 (512 * (i 2).val + 256 * 0) hm hq hd hk hv hr hs)) ?_ ?_
    · intro p hp r _ c _
      cases Nat.lt_one_iff.1 hp
      rfl
    · intro p hp r hr c hc hn
      have e : cn (512 * (i 2).val + 512) (512 * (i 2).val) p = cn (512 * (i 2).val + 512) (512 * (i 2).val + 256) p := by
        unfold cn
        split_ifs <;> omega
      exact congrArg (x.pdl · p r) e
  · refine writes2 _ hA.dv (x.dv (cn (512 * (i 2).val + 512) (512 * (i 2).val + 256))) (512 * (i 2).val + 256 * 0) 128 (k0_off6_eq i 0) _ (dv512_eq x 1 0 (512 * (i 2).val + 256 * 0) hm hq hk hr hd _ hu) ?_ ?_
    · intro s hs c hc
      exact dv_tile x 1 (512 * (i 2).val + 256 * 0) hs hc hn0.le hn1.ge
    · intro s hs c hc hn
      refine dv_same x s c ?_
      unfold cn
      split_ifs <;> omega

end stage_10

section stage_11

def rem11 : FVec Ideal S256x1 .f32 := (shapeCast S256x1 (arg11.view.readAt (Elt Ideal) (Rect.unit (s := S2x512x1) ![1, 256, 0] S1x256x1.size inb_S2x512x1_S1x256x1_1_256_0).toLoadRect f11) shapeCasts_S1x256x1_S256x1)
def swept11 : FVec Ideal S256x1 .f32 := (shapeCast S256x1 (arg12.view.readAt (Elt Ideal) (Rect.unit (s := S2x512x1) ![1, 256, 0] S1x256x1.size inb_S2x512x1_S1x256x1_1_256_0).toLoadRect f12) shapeCasts_S1x256x1_S256x1)

def dqPiece11 : View.Piece (Elt Ideal) S512x256 .f32 :=
  ⟨Rect.unit (s := S512x256) ![256, 128] S256x128.size inb_S512x256_S256x128_256_128, addf (shapeCast S256x128 (arg8.view.readAt (Elt Ideal) (Rect.unit (s := S512x256) ![256, 128] S256x128.size inb_S512x256_S256x128_256_128).toLoadRect f8) shapeCasts_S256x128_S256x128)
    (cdq256 (dmask1 i) (arg3.view.readAt (Elt Ideal) (Rect.unit (s := S512x256) ![256, 128] S256x128.size inb_S512x256_S256x128_256_128).toLoadRect X3) (arg6.view.readAt (Elt Ideal) (Rect.unit (s := S512x256) ![256, 128] S256x128.size inb_S512x256_S256x128_256_128).toLoadRect X6) (arg4.view.readAt (Elt Ideal) (Rect.unit (s := S2048x256) (k0_off6 i 1#32) S256x128.size (k0_off6_inb i 1)).toLoadRect X4) (arg5.view.readAt (Elt Ideal) (Rect.unit (s := S2048x256) (k0_off6 i 1#32) S256x128.size (k0_off6_inb i 1)).toLoadRect X5) (rem11 arg11 f11) (swept11 arg12 f12))⟩
def dkPiece11 : View.Piece (Elt Ideal) S2048x256 .f32 :=
  ⟨Rect.unit (s := S2048x256) (k0_off6 i 1#32) S256x128.size (k0_off6_inb i 1), cdk256 (dmask1 i) (arg3.view.readAt (Elt Ideal) (Rect.unit (s := S512x256) ![256, 128] S256x128.size inb_S512x256_S256x128_256_128).toLoadRect X3) (arg6.view.readAt (Elt Ideal) (Rect.unit (s := S512x256) ![256, 128] S256x128.size inb_S512x256_S256x128_256_128).toLoadRect X6) (arg4.view.readAt (Elt Ideal) (Rect.unit (s := S2048x256) (k0_off6 i 1#32) S256x128.size (k0_off6_inb i 1)).toLoadRect X4) (arg5.view.readAt (Elt Ideal) (Rect.unit (s := S2048x256) (k0_off6 i 1#32) S256x128.size (k0_off6_inb i 1)).toLoadRect X5) (rem11 arg11 f11) (swept11 arg12 f12)
    (arg9.view.readAt (Elt Ideal) (Rect.unit (s := S2048x256) (k0_off6 i 1#32) S256x128.size (k0_off6_inb i 1)).toLoadRect f9)⟩
def dvPiece11 : View.Piece (Elt Ideal) S2048x256 .f32 :=
  ⟨Rect.unit (s := S2048x256) (k0_off6 i 1#32) S256x128.size (k0_off6_inb i 1), cdv256 (dmask1 i) (arg3.view.readAt (Elt Ideal) (Rect.unit (s := S512x256) ![256, 128] S256x128.size inb_S512x256_S256x128_256_128).toLoadRect X3) (arg6.view.readAt (Elt Ideal) (Rect.unit (s := S512x256) ![256, 128] S256x128.size inb_S512x256_S256x128_256_128).toLoadRect X6) (arg4.view.readAt (Elt Ideal) (Rect.unit (s := S2048x256) (k0_off6 i 1#32) S256x128.size (k0_off6_inb i 1)).toLoadRect X4) (rem11 arg11 f11) (arg13.view.readAt (Elt Ideal) (Rect.unit (s := S2048x256) (k0_off6 i 1#32) S256x128.size (k0_off6_inb i 1)).toLoadRect f13)⟩
def pbPiece11 : View.Piece (Elt Ideal) S2x512x1 .f32 :=
  ⟨Rect.unit (s := S2x512x1) ![1, 256, 0] S1x256x1.size inb_S2x512x1_S1x256x1_1_256_0, shapeCast S1x256x1 (subf (rem11 arg11 f11) (csum256 (cb256 (dmask1 i) (arg3.view.readAt (Elt Ideal) (Rect.unit (s := S512x256) ![256, 128] S256x128.size inb_S512x256_S256x128_256_128).toLoadRect X3) (arg4.view.readAt (Elt Ideal) (Rect.unit (s := S2048x256) (k0_off6 i 1#32) S256x128.size (k0_off6_inb i 1)).toLoadRect X4)))) shapeCasts_S256x1_S1x256x1⟩
def pdlPiece11 : View.Piece (Elt Ideal) S2x512x1 .f32 :=
  ⟨Rect.unit (s := S2x512x1) ![1, 256, 0] S1x256x1.size inb_S2x512x1_S1x256x1_1_256_0, shapeCast S1x256x1 (addf (swept11 arg12 f12)
    (csum256 (cdl256 (dmask1 i) (arg3.view.readAt (Elt Ideal) (Rect.unit (s := S512x256) ![256, 128] S256x128.size inb_S512x256_S256x128_256_128).toLoadRect X3) (arg6.view.readAt (Elt Ideal) (Rect.unit (s := S512x256) ![256, 128] S256x128.size inb_S512x256_S256x128_256_128).toLoadRect X6) (arg4.view.readAt (Elt Ideal) (Rect.unit (s := S2048x256) (k0_off6 i 1#32) S256x128.size (k0_off6_inb i 1)).toLoadRect X4) (arg5.view.readAt (Elt Ideal) (Rect.unit (s := S2048x256) (k0_off6 i 1#32) S256x128.size (k0_off6_inb i 1)).toLoadRect X5) (rem11 arg11 f11)))) shapeCasts_S256x1_S1x256x1⟩

variable {G8 : BufTy.Contents (Elt Ideal) arg8.view.ty} {G9 : BufTy.Contents (Elt Ideal) arg9.view.ty} {G11 : BufTy.Contents (Elt Ideal) arg11.view.ty}
  {G12 : BufTy.Contents (Elt Ideal) arg12.view.ty} {G13 : BufTy.Contents (Elt Ideal) arg13.view.ty}
  {B8 : List (View.Piece (Elt Ideal) S512x256 .f32)} {B9 B13 : List (View.Piece (Elt Ideal) S2048x256 .f32)} {B11 B12 : List (View.Piece (Elt Ideal) S2x512x1 .f32)}

theorem acc11 (ht : x.t0 = 512 * (i 2).val) (hI : Ins x arg3 arg4 arg5 arg6 X3 X4 X5 X6)
    (hA : Acc x (cn (512 * (i 2).val + 512) (512 * (i 2).val + 256)) arg8 arg9 arg11 arg12 arg13 (arg8.view.writes (Elt Ideal) G8 B8) (arg9.view.writes (Elt Ideal) G9 B9)
      (arg11.view.writes (Elt Ideal) G11 B11) (arg12.view.writes (Elt Ideal) G12 B12) (arg13.view.writes (Elt Ideal) G13 B13)) :
    Acc x (cn (512 * (i 2).val + 512) (512 * (i 2).val + 512)) arg8 arg9 arg11 arg12 arg13
      (arg8.view.writes (Elt Ideal) G8 (dqPiece11 i arg3 arg4 arg5 arg6 arg8 arg11 arg12 X3 X4 X5 X6 (arg8.view.writes (Elt Ideal) G8 B8)
        (arg11.view.writes (Elt Ideal) G11 B11) (arg12.view.writes (Elt Ideal) G12 B12) :: B8))
      (arg9.view.writes (Elt Ideal) G9 (dkPiece11 i arg3 arg4 arg5 arg6 arg9 arg11 arg12 X3 X4 X5 X6 (arg9.view.writes (Elt Ideal) G9 B9)
        (arg11.view.writes (Elt Ideal) G11 B11) (arg12.view.writes (Elt Ideal) G12 B12) :: B9))
      (arg11.view.writes (Elt Ideal) G11 (pbPiece11 i arg3 arg4 arg11 X3 X4 (arg11.view.writes (Elt Ideal) G11 B11) :: B11))
      (arg12.view.writes (Elt Ideal) G12 (pdlPiece11 i arg3 arg4 arg5 arg6 arg11 arg12 X3 X4 X5 X6 (arg11.view.writes (Elt Ideal) G11 B11)
        (arg12.view.writes (Elt Ideal) G12 B12) :: B12))
      (arg13.view.writes (Elt Ideal) G13 (dvPiece11 i arg3 arg4 arg6 arg11 arg13 X3 X4 X6 (arg11.view.writes (Elt Ideal) G11 B11)
        (arg13.view.writes (Elt Ideal) G13 B13) :: B13)) := by
  have hm : ∃ (p : ℕ → ℕ → Prop) (_ : ∀ r s, Decidable (p r s)), dmask1 i = mk2 256 256 p ∧ ∀ r s, p r s ↔ (512 * (i 2).val + 256 * 1) + s < x.t0 + (256 + r) :=
    ⟨_, _, mask1 i, fun r s => by rw [ht]⟩
  have hq := readAt2_bf16 arg3.view hI.q (tQ x 1 256) (n := 256) (m := 128) (off := ![256, 128]) 256 128 rfl inb_S512x256_S256x128_256_128 (fun _ _ _ _ => rfl)
  have hd := readAt2_bf16 arg6.view hI.d (tD x 1 256) (n := 256) (m := 128) (off := ![256, 128]) 256 128 rfl inb_S512x256_S256x128_256_128 (fun _ _ _ _ => rfl)
  have hk := readAt2_bf16 arg4.view hI.k (tK x 1 (512 * (i 2).val + 256 * 1)) (n := 256) (m := 128) (off := k0_off6 i 1#32) (512 * (i 2).val + 256 * 1) 128 (k0_off6_eq i 1) (k0_off6_inb i 1) (fun _ _ _ _ => rfl)
  have hv := readAt2_bf16 arg5.view hI.v (tV x 1 (512 * (i 2).val + 256 * 1)) (n := 256) (m := 128) (off := k0_off6 i 1#32) (512 * (i 2).val + 256 * 1) 128 (k0_off6_eq i 1) (k0_off6_inb i 1) (fun _ _ _ _ => rfl)
  have ho := readAt2_f32 arg9.view hA.dk (fun s c => x.dk (cn (512 * (i 2).val + 512) (512 * (i 2).val + 256)) ((512 * (i 2).val + 256 * 1) + s) (128 + c)) (n := 256) (m := 128) (off := k0_off6 i 1#32) (512 * (i 2).val + 256 * 1) 128 (k0_off6_eq i 1) (k0_off6_inb i 1) (fun _ _ _ _ => rfl)
  have hu := readAt2_f32 arg13.view hA.dv (fun s c => x.dv (cn (512 * (i 2).val + 512) (512 * (i 2).val + 256)) ((512 * (i 2).val + 256 * 1) + s) (128 + c)) (n := 256) (m := 128) (off := k0_off6 i 1#32) (512 * (i 2).val + 256 * 1) 128 (k0_off6_eq i 1) (k0_off6_inb i 1) (fun _ _ _ _ => rfl)
  have hqo := readAt2_f32 arg8.view hA.dq (fun r c => x.dq (cn (512 * (i 2).val + 512) (512 * (i 2).val + 256)) (256 + r) (128 + c)) (n := 256) (m := 128) (off := ![256, 128]) 256 128 rfl inb_S512x256_S256x128_256_128 (fun _ _ _ _ => rfl)
  have hr : rem11 arg11 (arg11.view.writes (Elt Ideal) G11 B11) = up2 256 1 fun r _ => x.pb (512 * (i 2).val + 256 * 1) 1 (256 + r) :=
    drop_256 (readAt3 arg11.view hA.pb (fun _ r _ => x.pb (512 * (i 2).val + 256 * 1) 1 (256 + r)) (l := 1) (n := 256) (m := 1) (off := ![1, 256, 0]) 1 256 0 rfl
      inb_S2x512x1_S1x256x1_1_256_0 (fun p hp _ _ _ _ => by cases Nat.lt_one_iff.1 hp; rfl))
  have hs : swept11 arg12 (arg12.view.writes (Elt Ideal) G12 B12) = up2 256 1 fun r _ => x.pdl (512 * (i 2).val + 256 * 1) 1 (256 + r) :=
    drop_256 (readAt3 arg12.view hA.pdl (fun _ r _ => x.pdl (512 * (i 2).val + 256 * 1) 1 (256 + r)) (l := 1) (n := 256) (m := 1) (off := ![1, 256, 0]) 1 256 0 rfl
      inb_S2x512x1_S1x256x1_1_256_0 (fun p hp _ _ _ _ => by cases Nat.lt_one_iff.1 hp; rfl))
  have hn0 : (cn (512 * (i 2).val + 512) (512 * (i 2).val + 256)) 1 = (512 * (i 2).val + 256 * 1) := rfl
  have hn1 : (cn (512 * (i 2).val + 512) (512 * (i 2).val + 512)) 1 = (512 * (i 2).val + 256 * 1) + 256 := rfl
  refine ⟨?_, ?_, ?_, ?_, ?_⟩
  · refine writes2 _ hA.dq (x.dq (cn (512 * (i 2).val + 512) (512 * (i 2).val + 512))) 256 128 rfl _ (add_cast_256 hqo (dq256_eq x 1 256 (512 * (i 2).val + 256 * 1) hm hq hd hk hv hr hs)) ?_ ?_
    · intro r _ c hc
      exact dq_tile x 1 256 (512 * (i 2).val + 256 * 1) r hc hn0 hn1
    · intro r hr c hc hn
      by_cases hh : c / 128 = 1
      · exact dq_low x 1 (512 * (i 2).val + 256 * 1) r hh hn0 hn1 (by rw [ht]; omega)
      · refine dq_same x r c ?_
        unfold cn
        split_ifs <;> omega
  · refine writes2 _ hA.dk (x.dk (cn (512 * (i 2).val + 512) (512 * (i 2).val + 512))) (512 * (i 2).val + 256 * 1) 128 (k0_off6_eq i 1) _ (dk256_eq x 1 256 (512 * (i 2).val + 256 * 1) hm hq hd hk hv hr hs _ ho) ?_ ?_
    · intro s hs c hc
      exact dk_upper x 1 (512 * (i 2).val + 256 * 1) hs hc hn0.le hn1.ge (by rw [ht])
    · intro s hs c hc hn
      refine dk_same x s c ?_
      unfold cn
      split_ifs <;> omega
  · refine writes3 _ hA.pb (fun h r _ => x.pb (cn (512 * (i 2).val + 512) (512 * (i 2).val + 512) h) h r) 1 256 0 rfl _ (col_256 (rem256_eq x 1 256 (512 * (i 2).val + 256 * 1) hm hq hk hr)) ?_ ?_
    · intro p hp r _ c _
      cases Nat.lt_one_iff.1 hp
      rfl
    · intro p hp r hr c hc hn
      by_cases hh : p = 1
      · subst hh
        exact pb_low x 1 (512 * (i 2).val + 256 * 1) (by rw [ht]; omega)
      · have e : cn (512 * (i 2).val + 512) (512 * (i 2).val + 256) p = cn (512 * (i 2).val + 512) (512 * (i 2).val + 512) p := by
          unfold cn
          split_ifs <;> omega
        exact congrArg (x.pb · p r) e
  · refine writes3 _ hA.pdl (fun h r _ => x.pdl (cn (512 * (i 2).val + 512) (512 * (i 2).val + 512) h) h r) 1 256 0 rfl _ (col_256 (swept256_eq x 1 256 (512 * (i 2).val + 256 * 1) hm hq hd hk hv hr hs)) ?_ ?_
    · intro p hp r _ c _
      cases Nat.lt_one_iff.1 hp
      rfl
    · intro p hp r hr c hc hn
      by_cases hh : p = 1
      · subst hh
        exact pdl_low x 1 (512 * (i 2).val + 256 * 1) (by rw [ht]; omega)
      · have e : cn (512 * (i 2).val + 512) (512 * (i 2).val + 256) p = cn (512 * (i 2).val + 512) (512 * (i 2).val + 512) p := by
          unfold cn
          split_ifs <;> omega
        exact congrArg (x.pdl · p r) e
  · refine writes2 _ hA.dv (x.dv (cn (512 * (i 2).val + 512) (512 * (i 2).val + 512))) (512 * (i 2).val + 256 * 1) 128 (k0_off6_eq i 1) _ (dv256_eq x 1 256 (512 * (i 2).val + 256 * 1) hm hq hk hr hd _ hu) ?_ ?_
    · intro s hs c hc
      exact dv_upper x 1 (512 * (i 2).val + 256 * 1) hs hc hn0.le hn1.ge (by rw [ht])
    · intro s hs c hc hn
      refine dv_same x s c ?_
      unfold cn
      split_ifs <;> omega

end stage_11

end diag

end Cert.Attn

end
-- ==== Proof.Base.lean ====
/- The accumulators before a block's loops: cleared, or as the earlier blocks left them. -/
module

public import proofs.«01_k».proof.Proof.Loop
public import proofs.«01_k».proof.Proof.Diag

@[expose] public section

set_option maxRecDepth 16384

noncomputable section

namespace Cert.Attn

open Idealize.ShloMosaic Cert.KernelIdeal Cert.KernelIdeal.Gen Idealize.SL.Sem Idealize.ShloMosaic.TcCoe

section base
variable (x : Block)

theorem dq_zero : x.dq (cn 0 0) = fun _ _ => 0 := by
  funext r c
  have h : cn 0 0 (c / 128) = 0 := by unfold cn; split <;> rfl
  unfold Block.dq
  rw [h, Finset.range_zero, Finset.sum_empty]

theorem dk_zero : x.dk (cn 0 0) = x.dk0 := by
  funext s c
  have h : cn 0 0 (c / 128) = 0 := by unfold cn; split <;> rfl
  unfold Block.dk
  rw [h, if_neg (Nat.not_lt_zero s), add_zero]

theorem dv_zero : x.dv (cn 0 0) = x.dv0 := by
  funext s c
  have h : cn 0 0 (c / 128) = 0 := by unfold cn; split <;> rfl
  unfold Block.dv
  rw [h, if_neg (Nat.not_lt_zero s), add_zero]

theorem pay132_up2 : k0_pay132 (F := Ideal) = up2 512 256 fun _ _ => 0 := by
  funext j; exact ofBits_zero

theorem pay127_up2 : k0_pay127 (F := Ideal) = up2 2048 256 fun _ _ => 0 := by
  funext j; exact ofBits_zero

theorem pay128_up2 : k0_pay128 (F := Ideal) = up2 2048 256 fun _ _ => 0 := by
  funext j
  unfold k0_pay128
  pointwise
  exact EReal.coe_zero.symm

theorem pay134_up3 : k0_pay134 (F := Ideal) = up3 2 512 1 fun h r _ => x.pdl (cn 0 0 h) h r := by
  funext j
  have h : cn 0 0 (j 0).val = 0 := by unfold cn; split <;> rfl
  unfold k0_pay134 up3 Block.pdl
  dsimp only
  rw [h, Finset.range_zero, Finset.sum_empty]
  pointwise
  exact EReal.coe_zero.symm

theorem pay133_up3 {x4 : Vec Ideal S1x2x512x1 .f32} (h4 : ∀ j, x4 j = ((x.bt (j 1).val (j 2).val : ℝ) : EReal)) :
    k0_pay133 x4 = up3 2 512 1 fun h r _ => x.pb (cn 0 0 h) h r := by
  funext j
  have h : cn 0 0 (j 0).val = 0 := by unfold cn; split <;> rfl
  unfold k0_pay133 up3 Block.pb
  dsimp only
  rw [h, Finset.range_zero, Finset.sum_empty, sub_zero]
  pointwise
  rw [h4]
  rfl

end base

section acc
variable (x : Block) (arg7 : Memref sig .tc .vmem S1x2x512x1 .f32) (harg7 : arg7.IsWhole)
  (arg8 : Memref sig .tc .vmem S512x256 .f32) (arg9 : Memref sig .tc .vmem S2048x256 .f32) (harg9 : arg9.IsWhole)
  (arg11 arg12 : Memref sig .tc .vmem S2x512x1 .f32) (arg13 : Memref sig .tc .vmem S2048x256 .f32) (harg13 : arg13.IsWhole)
  (G8 : BufTy.Contents (Elt Ideal) arg8.view.ty) (G9 : BufTy.Contents (Elt Ideal) arg9.view.ty) (G11 : BufTy.Contents (Elt Ideal) arg11.view.ty)
  (G12 : BufTy.Contents (Elt Ideal) arg12.view.ty) (G13 : BufTy.Contents (Elt Ideal) arg13.view.ty)
  (x4 : Vec Ideal S1x2x512x1 .f32) (h4 : ∀ j, x4 j = ((x.bt (j 1).val (j 2).val : ℝ) : EReal))

/-- The stores that clear the queries' gradient. -/
def clear8 : List (View.Piece (Elt Ideal) S512x256 .f32) :=
  [⟨Rect.unit (s := S512x256) ![0, 0] S512x256.size inb_S512x256_S512x256_0_0, k0_pay132 (F := Ideal)⟩]
/-- The store of the row sums. -/
def fill11 : List (View.Piece (Elt Ideal) S2x512x1 .f32) :=
  [⟨Rect.unit (s := S2x512x1) ![0, 0, 0] S2x512x1.size inb_S2x512x1_S2x512x1_0_0_0,
    k0_pay133 (View.readAt (Elt Ideal) arg7.view (Rect.unit (s := S1x2x512x1) ![0, 0, 0, 0] S1x2x512x1.size inb_S1x2x512x1_S1x2x512x1_0_0_0_0).toLoadRect (harg7.unread x4))⟩]
/-- The store that clears the sums of the gradient. -/
def clear12 : List (View.Piece (Elt Ideal) S2x512x1 .f32) :=
  [⟨Rect.unit (s := S2x512x1) ![0, 0, 0] S2x512x1.size inb_S2x512x1_S2x512x1_0_0_0, k0_pay134 (F := Ideal)⟩]
/-- The store that clears the keys' gradient. -/
def clear9 : List (View.Piece (Elt Ideal) S2048x256 .f32) :=
  [⟨Rect.unit (s := S2048x256) ![0, 0] S2048x256.size inb_S2048x256_S2048x256_0_0, k0_pay127 (F := Ideal)⟩]
/-- The store that clears the values' gradient. -/
def clear13 : List (View.Piece (Elt Ideal) S2048x256 .f32) :=
  [⟨Rect.unit (s := S2048x256) ![0, 0] S2048x256.size inb_S2048x256_S2048x256_0_0, k0_pay128 (F := Ideal)⟩]

include h4

theorem fill11_read : arg11.view.read (Elt Ideal) (arg11.view.writes (Elt Ideal) G11 (fill11 arg7 harg7 x4)) = up3 2 512 1 fun h r _ => x.pb (cn 0 0 h) h r := by
  unfold fill11
  refine (View.read_writes_full arg11.view G11 inb_S2x512x1_S2x512x1_0_0_0 _ []).trans ?_
  refine (congrArg k0_pay133 ?_).trans (pay133_up3 x h4)
  exact (View.readAt_full arg7.view _ inb_S1x2x512x1_S1x2x512x1_0_0_0_0).trans (harg7.read_unread x4)

/-- A block that is not the first of its heads starts from what the block before left. -/
theorem base_next {xo6 xs2 : Vec Ideal S2048x256 .f32} (h6 : xo6 = up2 2048 256 x.dk0) (h2 : xs2 = up2 2048 256 x.dv0) :
    Acc x (cn 0 0) arg8 arg9 arg11 arg12 arg13 (arg8.view.writes (Elt Ideal) G8 clear8) (harg9.unread xo6)
      (arg11.view.writes (Elt Ideal) G11 (fill11 arg7 harg7 x4)) (arg12.view.writes (Elt Ideal) G12 clear12) (harg13.unread xs2) where
  dq := by rw [dq_zero]; exact (View.read_writes_full arg8.view G8 inb_S512x256_S512x256_0_0 _ []).trans pay132_up2
  dk := by rw [dk_zero, harg9.read_unread, h6]
  pb := fill11_read x arg7 harg7 arg11 G11 x4 h4
  pdl := (View.read_writes_full arg12.view G12 inb_S2x512x1_S2x512x1_0_0_0 _ []).trans (pay134_up3 x)
  dv := by rw [dv_zero, harg13.read_unread, h2]

/-- The first block of its heads starts from zero. -/
theorem base_first (h6 : x.dk0 = fun _ _ => 0) (h2 : x.dv0 = fun _ _ => 0) :
    Acc x (cn 0 0) arg8 arg9 arg11 arg12 arg13 (arg8.view.writes (Elt Ideal) G8 clear8) (arg9.view.writes (Elt Ideal) G9 clear9)
      (arg11.view.writes (Elt Ideal) G11 (fill11 arg7 harg7 x4)) (arg12.view.writes (Elt Ideal) G12 clear12) (arg13.view.writes (Elt Ideal) G13 clear13) where
  dq := by rw [dq_zero]; exact (View.read_writes_full arg8.view G8 inb_S512x256_S512x256_0_0 _ []).trans pay132_up2
  dk := by rw [dk_zero, h6]; exact (View.read_writes_full arg9.view G9 inb_S2048x256_S2048x256_0_0 _ []).trans pay127_up2
  pb := fill11_read x arg7 harg7 arg11 G11 x4 h4
  pdl := (View.read_writes_full arg12.view G12 inb_S2x512x1_S2x512x1_0_0_0 _ []).trans (pay134_up3 x)
  dv := by rw [dv_zero, h2]; exact (View.read_writes_full arg13.view G13 inb_S2048x256_S2048x256_0_0 _ []).trans pay128_up2

end acc

end Cert.Attn

end
-- ==== Proof.CaseA.lean ====
/- The first block of rows of its heads: what it leaves in the buffers. -/
module

public import proofs.«01_k».proof.Proof.Base

@[expose] public section

set_option maxRecDepth 65536

noncomputable section

namespace Cert.Attn

open Idealize.ShloMosaic Cert.KernelIdeal Cert.KernelIdeal.Gen Idealize.SL.Sem Idealize.ShloMosaic.TcCoe

section case
variable (x : Block) (c : Dev nD) (i : grid0.Coords) (arg3 : Memref sig .tc .vmem S512x256 .bf16) (harg3 : arg3.IsWhole)
  (arg4 : Memref sig .tc .vmem S2048x256 .bf16) (harg4 : arg4.IsWhole) (arg5 : Memref sig .tc .vmem S2048x256 .bf16) (harg5 : arg5.IsWhole)
  (arg6 : Memref sig .tc .vmem S512x256 .bf16) (harg6 : arg6.IsWhole) (arg7 : Memref sig .tc .vmem S1x2x512x1 .f32) (harg7 : arg7.IsWhole)
  (arg8 : Memref sig .tc .vmem S512x256 .f32) (harg8 : arg8.IsWhole) (arg9 : Memref sig .tc .vmem S2048x256 .f32) (harg9 : arg9.IsWhole)
  (arg10 : Memref sig .tc .vmem S2048x256 .bf16) (harg10 : arg10.IsWhole) (arg11 : Memref sig .tc .vmem S2x512x1 .f32) (harg11 : arg11.IsWhole)
  (arg12 : Memref sig .tc .vmem S2x512x1 .f32) (harg12 : arg12.IsWhole) (arg13 : Memref sig .tc .vmem S2048x256 .f32) (harg13 : arg13.IsWhole)
  (hc0 : cond0_0 i) (hc1 : ¬cond0_1 i)
  (x0 : Vec Ideal S512x256 .bf16) (x1 : Vec Ideal S2048x256 .bf16) (x2 : Vec Ideal S2048x256 .bf16) (x3 : Vec Ideal S512x256 .bf16)
  (x4 : Vec Ideal S1x2x512x1 .f32)
  (ht : x.t0 = 512 * (i 2).val) (h0 : x0 = up2 512 256 x.q) (h1 : x1 = up2 2048 256 x.k) (h2 : x2 = up2 2048 256 x.v) (h3 : x3 = up2 512 256 x.d)
  (h4 : ∀ j, x4 j = ((x.bt (j 1).val (j 2).val : ℝ) : EReal))
  (h6 : x.dk0 = fun _ _ => 0) (h7 : x.dv0 = fun _ _ => 0)

include ht h0 h1 h2 h3 h4 h6 h7

theorem acc_A : ∃ f11 f12, Acc x (cn (512 * (i 2).val + 512) (512 * (i 2).val + 512)) arg8 arg9 arg11 arg12 arg13
      (arg8.view.writes (Elt Ideal) arg8.view.junk (kernelRun0_A (F := Ideal) c i arg3 harg3 arg4 harg4 arg5 harg5 arg6 harg6 arg7 harg7 arg8 harg8 arg9 harg9 arg10 harg10 arg11 harg11 arg12 harg12 arg13 harg13 hc0 hc1 x0 x1 x2 x3 x4).1)
      (arg9.view.writes (Elt Ideal) arg9.view.junk (kernelRun0_A (F := Ideal) c i arg3 harg3 arg4 harg4 arg5 harg5 arg6 harg6 arg7 harg7 arg8 harg8 arg9 harg9 arg10 harg10 arg11 harg11 arg12 harg12 arg13 harg13 hc0 hc1 x0 x1 x2 x3 x4).2.1) f11 f12
      (arg13.view.writes (Elt Ideal) arg13.view.junk (kernelRun0_A (F := Ideal) c i arg3 harg3 arg4 harg4 arg5 harg5 arg6 harg6 arg7 harg7 arg8 harg8 arg9 harg9 arg10 harg10 arg11 harg11 arg12 harg12 arg13 harg13 hc0 hc1 x0 x1 x2 x3 x4).2.2.2.1) := by
  have hI : Ins x arg3 arg4 arg5 arg6 (harg3.unread x0) (harg4.unread x1) (harg5.unread x2) (harg6.unread x3) :=
    ⟨(harg3.read_unread x0).trans h0, (harg4.read_unread x1).trans h1, (harg5.read_unread x2).trans h2, (harg6.read_unread x3).trans h3⟩
  have a0 := base_first x arg7 harg7 arg8 arg9 arg11 arg12 arg13 arg8.view.junk arg9.view.junk arg11.view.junk arg12.view.junk arg13.view.junk x4 h4 h6 h7
  have a1 := loops_first x Variants.none c none i arg3 harg3 arg4 harg4 arg5 harg5 arg6 harg6 arg7 harg7 arg8 harg8 arg9 harg9 arg10 harg10 arg11 harg11 arg12 harg12 arg13 harg13 (BitVec.ofNat 32 (i 2).val) (k0_pay131 i) (iota Kind.tc S512x256 32 [1] iota_S512x256_d1_w32) k0_pay134
      (Y8 := (arg8.view.writes (Elt Ideal) arg8.view.junk ((pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) k0_pay129 k0_pay130 (k0_pay131 i) (iota Kind.tc S512x256 32 [1] iota_S512x256_d1_w32) k0_pay134 (harg3.unread x0) (harg4.unread x1) (harg5.unread x2) (harg6.unread x3) (arg8.view.writes (Elt Ideal) arg8.view.junk clear8) (arg9.view.writes (Elt Ideal) arg9.view.junk clear9) (arg11.view.writes (Elt Ideal) arg11.view.junk (fill11 arg7 harg7 x4)) (arg12.view.writes (Elt Ideal) arg12.view.junk clear12) (arg13.view.writes (Elt Ideal) arg13.view.junk clear13) (Scf.trips (k0_t1_loop i).lb (k0_t1_loop i).ub (k0_t1_loop i).st)).1 ++ clear8)))
      (Y9 := (arg9.view.writes (Elt Ideal) arg9.view.junk ((pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) k0_pay129 k0_pay130 (k0_pay131 i) (iota Kind.tc S512x256 32 [1] iota_S512x256_d1_w32) k0_pay134 (harg3.unread x0) (harg4.unread x1) (harg5.unread x2) (harg6.unread x3) (arg8.view.writes (Elt Ideal) arg8.view.junk clear8) (arg9.view.writes (Elt Ideal) arg9.view.junk clear9) (arg11.view.writes (Elt Ideal) arg11.view.junk (fill11 arg7 harg7 x4)) (arg12.view.writes (Elt Ideal) arg12.view.junk clear12) (arg13.view.writes (Elt Ideal) arg13.view.junk clear13) (Scf.trips (k0_t1_loop i).lb (k0_t1_loop i).ub (k0_t1_loop i).st)).2.1 ++ clear9)))
      (Y11 := (arg11.view.writes (Elt Ideal) arg11.view.junk ((pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) k0_pay129 k0_pay130 (k0_pay131 i) (iota Kind.tc S512x256 32 [1] iota_S512x256_d1_w32) k0_pay134 (harg3.unread x0) (harg4.unread x1) (harg5.unread x2) (harg6.unread x3) (arg8.view.writes (Elt Ideal) arg8.view.junk clear8) (arg9.view.writes (Elt Ideal) arg9.view.junk clear9) (arg11.view.writes (Elt Ideal) arg11.view.junk (fill11 arg7 harg7 x4)) (arg12.view.writes (Elt Ideal) arg12.view.junk clear12) (arg13.view.writes (Elt Ideal) arg13.view.junk clear13) (Scf.trips (k0_t1_loop i).lb (k0_t1_loop i).ub (k0_t1_loop i).st)).2.2.1 ++ (fill11 arg7 harg7 x4))))
      (Y12 := (arg12.view.writes (Elt Ideal) arg12.view.junk ((pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) k0_pay129 k0_pay130 (k0_pay131 i) (iota Kind.tc S512x256 32 [1] iota_S512x256_d1_w32) k0_pay134 (harg3.unread x0) (harg4.unread x1) (harg5.unread x2) (harg6.unread x3) (arg8.view.writes (Elt Ideal) arg8.view.junk clear8) (arg9.view.writes (Elt Ideal) arg9.view.junk clear9) (arg11.view.writes (Elt Ideal) arg11.view.junk (fill11 arg7 harg7 x4)) (arg12.view.writes (Elt Ideal) arg12.view.junk clear12) (arg13.view.writes (Elt Ideal) arg13.view.junk clear13) (Scf.trips (k0_t1_loop i).lb (k0_t1_loop i).ub (k0_t1_loop i).st)).2.2.2.1 ++ clear12)))
      (Y13 := (arg13.view.writes (Elt Ideal) arg13.view.junk ((pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) k0_pay129 k0_pay130 (k0_pay131 i) (iota Kind.tc S512x256 32 [1] iota_S512x256_d1_w32) k0_pay134 (harg3.unread x0) (harg4.unread x1) (harg5.unread x2) (harg6.unread x3) (arg8.view.writes (Elt Ideal) arg8.view.junk clear8) (arg9.view.writes (Elt Ideal) arg9.view.junk clear9) (arg11.view.writes (Elt Ideal) arg11.view.junk (fill11 arg7 harg7 x4)) (arg12.view.writes (Elt Ideal) arg12.view.junk clear12) (arg13.view.writes (Elt Ideal) arg13.view.junk clear13) (Scf.trips (k0_t1_loop i).lb (k0_t1_loop i).ub (k0_t1_loop i).st)).2.2.2.2 ++ clear13)))
      (Scalar.addi 0#32 (Scalar.muli (Scalar.divsi (Scalar.subi (BitVec.ofNat 32 (i 2).val) 0#32) 1#32) 1#32)) ht hI a0
  have a2 := acc00 x i arg3 arg4 arg5 arg6 arg8 arg9 arg11 arg12 arg13 (harg3.unread x0) (harg4.unread x1) (harg5.unread x2) (harg6.unread x3) ht hI a1
  have a3 := acc01 x i arg3 arg4 arg5 arg6 arg8 arg9 arg11 arg12 arg13 (harg3.unread x0) (harg4.unread x1) (harg5.unread x2) (harg6.unread x3) ht hI a2
  have a4 := acc10 x i arg3 arg4 arg5 arg6 arg8 arg9 arg11 arg12 arg13 (harg3.unread x0) (harg4.unread x1) (harg5.unread x2) (harg6.unread x3) ht hI a3
  have a5 := acc11 x i arg3 arg4 arg5 arg6 arg8 arg9 arg11 arg12 arg13 (harg3.unread x0) (harg4.unread x1) (harg5.unread x2) (harg6.unread x3) ht hI a4
  exact ⟨_, _, a5⟩

theorem point_A : out0_A_5 (F := Ideal) c i arg3 harg3 arg4 harg4 arg5 harg5 arg6 harg6 arg7 harg7 arg8 harg8 arg9 harg9 arg10 harg10 arg11 harg11 arg12 harg12 arg13 harg13 hc0 hc1 x0 x1 x2 x3 x4 = up2 512 256 (x.dq (cn (512 * (i 2).val + 512) (512 * (i 2).val + 512)))
    ∧ out0_A_6 (F := Ideal) c i arg3 harg3 arg4 harg4 arg5 harg5 arg6 harg6 arg7 harg7 arg8 harg8 arg9 harg9 arg10 harg10 arg11 harg11 arg12 harg12 arg13 harg13 hc0 hc1 x0 x1 x2 x3 x4 = up2 2048 256 (x.dk (cn (512 * (i 2).val + 512) (512 * (i 2).val + 512)))
    ∧ sout0_A_2 (F := Ideal) c i arg3 harg3 arg4 harg4 arg5 harg5 arg6 harg6 arg7 harg7 arg8 harg8 arg9 harg9 arg10 harg10 arg11 harg11 arg12 harg12 arg13 harg13 hc0 hc1 x0 x1 x2 x3 x4 = up2 2048 256 (x.dv (cn (512 * (i 2).val + 512) (512 * (i 2).val + 512))) := by
  obtain ⟨f11, f12, h⟩ := acc_A x c i arg3 harg3 arg4 harg4 arg5 harg5 arg6 harg6 arg7 harg7 arg8 harg8 arg9 harg9 arg10 harg10 arg11 harg11 arg12 harg12 arg13 harg13 (hc0 := hc0) (hc1 := hc1) x0 x1 x2 x3 x4 ht h0 h1 h2 h3 h4 h6 h7
  refine ⟨?_, ?_, ?_⟩
  · exact (View.read_writes_of_cover VO0_5 VO0_5.junk arg8.view arg8.view.junk _ (cover0_A_5 (F := Ideal) c i arg3 harg3 arg4 harg4 arg5 harg5 arg6 harg6 arg7 harg7 arg8 harg8 arg9 harg9 arg10 harg10 arg11 harg11 arg12 harg12 arg13 harg13 hc0 hc1 x0 x1 x2 x3 x4)).trans h.dq
  · exact (View.read_writes_of_cover VO0_6 VO0_6.junk arg9.view arg9.view.junk _ (cover0_A_6 (F := Ideal) c i arg3 harg3 arg4 harg4 arg5 harg5 arg6 harg6 arg7 harg7 arg8 harg8 arg9 harg9 arg10 harg10 arg11 harg11 arg12 harg12 arg13 harg13 hc0 hc1 x0 x1 x2 x3 x4)).trans h.dk
  · exact (View.read_writes_of_cover VS0_2 VS0_2.junk arg13.view arg13.view.junk _ (scover0_A_2 (F := Ideal) c i arg3 harg3 arg4 harg4 arg5 harg5 arg6 harg6 arg7 harg7 arg8 harg8 arg9 harg9 arg10 harg10 arg11 harg11 arg12 harg12 arg13 harg13 hc0 hc1 x0 x1 x2 x3 x4)).trans h.dv

end case

end Cert.Attn

end
-- ==== Proof.CaseB.lean ====
/- A block of rows that is neither the first nor the last of its heads: what it leaves in the buffers. -/
module

public import proofs.«01_k».proof.Proof.Base

@[expose] public section

set_option maxRecDepth 65536

noncomputable section

namespace Cert.Attn

open Idealize.ShloMosaic Cert.KernelIdeal Cert.KernelIdeal.Gen Idealize.SL.Sem Idealize.ShloMosaic.TcCoe

section case
variable (x : Block) (c : Dev nD) (i : grid0.Coords) (arg3 : Memref sig .tc .vmem S512x256 .bf16) (harg3 : arg3.IsWhole)
  (arg4 : Memref sig .tc .vmem S2048x256 .bf16) (harg4 : arg4.IsWhole) (arg5 : Memref sig .tc .vmem S2048x256 .bf16) (harg5 : arg5.IsWhole)
  (arg6 : Memref sig .tc .vmem S512x256 .bf16) (harg6 : arg6.IsWhole) (arg7 : Memref sig .tc .vmem S1x2x512x1 .f32) (harg7 : arg7.IsWhole)
  (arg8 : Memref sig .tc .vmem S512x256 .f32) (harg8 : arg8.IsWhole) (arg9 : Memref sig .tc .vmem S2048x256 .f32) (harg9 : arg9.IsWhole)
  (arg10 : Memref sig .tc .vmem S2048x256 .bf16) (harg10 : arg10.IsWhole) (arg11 : Memref sig .tc .vmem S2x512x1 .f32) (harg11 : arg11.IsWhole)
  (arg12 : Memref sig .tc .vmem S2x512x1 .f32) (harg12 : arg12.IsWhole) (arg13 : Memref sig .tc .vmem S2048x256 .f32) (harg13 : arg13.IsWhole)
  (hc0 : ¬cond0_0 i) (hc1 : ¬cond0_1 i)
  (x0 : Vec Ideal S512x256 .bf16) (x1 : Vec Ideal S2048x256 .bf16) (x2 : Vec Ideal S2048x256 .bf16) (x3 : Vec Ideal S512x256 .bf16)
  (x4 : Vec Ideal S1x2x512x1 .f32) (xo6 : Vec Ideal S2048x256 .f32) (xs2 : Vec Ideal S2048x256 .f32)
  (ht : x.t0 = 512 * (i 2).val) (h0 : x0 = up2 512 256 x.q) (h1 : x1 = up2 2048 256 x.k) (h2 : x2 = up2 2048 256 x.v) (h3 : x3 = up2 512 256 x.d)
  (h4 : ∀ j, x4 j = ((x.bt (j 1).val (j 2).val : ℝ) : EReal))
  (h6 : xo6 = up2 2048 256 x.dk0) (h7 : xs2 = up2 2048 256 x.dv0)

include ht h0 h1 h2 h3 h4 h6 h7

theorem acc_B : ∃ f11 f12, Acc x (cn (512 * (i 2).val + 512) (512 * (i 2).val + 512)) arg8 arg9 arg11 arg12 arg13
      (arg8.view.writes (Elt Ideal) arg8.view.junk (kernelRun0_B (F := Ideal) c i arg3 harg3 arg4 harg4 arg5 harg5 arg6 harg6 arg7 harg7 arg8 harg8 arg9 harg9 arg10 harg10 arg11 harg11 arg12 harg12 arg13 harg13 hc0 hc1 x0 x1 x2 x3 x4 xo6 xs2).1)
      (arg9.view.writes (Elt Ideal) (harg9.unread xo6) (kernelRun0_B (F := Ideal) c i arg3 harg3 arg4 harg4 arg5 harg5 arg6 harg6 arg7 harg7 arg8 harg8 arg9 harg9 arg10 harg10 arg11 harg11 arg12 harg12 arg13 harg13 hc0 hc1 x0 x1 x2 x3 x4 xo6 xs2).2.1) f11 f12
      (arg13.view.writes (Elt Ideal) (harg13.unread xs2) (kernelRun0_B (F := Ideal) c i arg3 harg3 arg4 harg4 arg5 harg5 arg6 harg6 arg7 harg7 arg8 harg8 arg9 harg9 arg10 harg10 arg11 harg11 arg12 harg12 arg13 harg13 hc0 hc1 x0 x1 x2 x3 x4 xo6 xs2).2.2.2.1) := by
  have hI : Ins x arg3 arg4 arg5 arg6 (harg3.unread x0) (harg4.unread x1) (harg5.unread x2) (harg6.unread x3) :=
    ⟨(harg3.read_unread x0).trans h0, (harg4.read_unread x1).trans h1, (harg5.read_unread x2).trans h2, (harg6.read_unread x3).trans h3⟩
  have a0 := base_next x arg7 harg7 arg8 arg9 harg9 arg11 arg12 arg13 harg13 arg8.view.junk arg11.view.junk arg12.view.junk x4 h4 h6 h7
  have a1 := loops_next x Variants.none c none i arg3 harg3 arg4 harg4 arg5 harg5 arg6 harg6 arg7 harg7 arg8 harg8 arg9 harg9 arg10 harg10 arg11 harg11 arg12 harg12 arg13 harg13 (BitVec.ofNat 32 (i 2).val) (k0_pay131 i) (iota Kind.tc S512x256 32 [1] iota_S512x256_d1_w32) k0_pay134
      (Y8 := (arg8.view.writes (Elt Ideal) arg8.view.junk ((pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) k0_pay129 k0_pay130 (k0_pay131 i) (iota Kind.tc S512x256 32 [1] iota_S512x256_d1_w32) k0_pay134 (harg3.unread x0) (harg4.unread x1) (harg5.unread x2) (harg6.unread x3) (arg8.view.writes (Elt Ideal) arg8.view.junk clear8) (harg9.unread xo6) (arg11.view.writes (Elt Ideal) arg11.view.junk (fill11 arg7 harg7 x4)) (arg12.view.writes (Elt Ideal) arg12.view.junk clear12) (harg13.unread xs2) (Scf.trips (k0_t1_loop i).lb (k0_t1_loop i).ub (k0_t1_loop i).st)).1 ++ clear8)))
      (Y9 := (arg9.view.writes (Elt Ideal) (harg9.unread xo6) (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) k0_pay129 k0_pay130 (k0_pay131 i) (iota Kind.tc S512x256 32 [1] iota_S512x256_d1_w32) k0_pay134 (harg3.unread x0) (harg4.unread x1) (harg5.unread x2) (harg6.unread x3) (arg8.view.writes (Elt Ideal) arg8.view.junk clear8) (harg9.unread xo6) (arg11.view.writes (Elt Ideal) arg11.view.junk (fill11 arg7 harg7 x4)) (arg12.view.writes (Elt Ideal) arg12.view.junk clear12) (harg13.unread xs2) (Scf.trips (k0_t1_loop i).lb (k0_t1_loop i).ub (k0_t1_loop i).st)).2.1))
      (Y11 := (arg11.view.writes (Elt Ideal) arg11.view.junk ((pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) k0_pay129 k0_pay130 (k0_pay131 i) (iota Kind.tc S512x256 32 [1] iota_S512x256_d1_w32) k0_pay134 (harg3.unread x0) (harg4.unread x1) (harg5.unread x2) (harg6.unread x3) (arg8.view.writes (Elt Ideal) arg8.view.junk clear8) (harg9.unread xo6) (arg11.view.writes (Elt Ideal) arg11.view.junk (fill11 arg7 harg7 x4)) (arg12.view.writes (Elt Ideal) arg12.view.junk clear12) (harg13.unread xs2) (Scf.trips (k0_t1_loop i).lb (k0_t1_loop i).ub (k0_t1_loop i).st)).2.2.1 ++ (fill11 arg7 harg7 x4))))
      (Y12 := (arg12.view.writes (Elt Ideal) arg12.view.junk ((pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) k0_pay129 k0_pay130 (k0_pay131 i) (iota Kind.tc S512x256 32 [1] iota_S512x256_d1_w32) k0_pay134 (harg3.unread x0) (harg4.unread x1) (harg5.unread x2) (harg6.unread x3) (arg8.view.writes (Elt Ideal) arg8.view.junk clear8) (harg9.unread xo6) (arg11.view.writes (Elt Ideal) arg11.view.junk (fill11 arg7 harg7 x4)) (arg12.view.writes (Elt Ideal) arg12.view.junk clear12) (harg13.unread xs2) (Scf.trips (k0_t1_loop i).lb (k0_t1_loop i).ub (k0_t1_loop i).st)).2.2.2.1 ++ clear12)))
      (Y13 := (arg13.view.writes (Elt Ideal) (harg13.unread xs2) (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) k0_pay129 k0_pay130 (k0_pay131 i) (iota Kind.tc S512x256 32 [1] iota_S512x256_d1_w32) k0_pay134 (harg3.unread x0) (harg4.unread x1) (harg5.unread x2) (harg6.unread x3) (arg8.view.writes (Elt Ideal) arg8.view.junk clear8) (harg9.unread xo6) (arg11.view.writes (Elt Ideal) arg11.view.junk (fill11 arg7 harg7 x4)) (arg12.view.writes (Elt Ideal) arg12.view.junk clear12) (harg13.unread xs2) (Scf.trips (k0_t1_loop i).lb (k0_t1_loop i).ub (k0_t1_loop i).st)).2.2.2.2))
      (Scalar.addi 0#32 (Scalar.muli (Scalar.divsi (Scalar.subi (BitVec.ofNat 32 (i 2).val) 0#32) 1#32) 1#32)) ht hI a0
  have a2 := acc00 x i arg3 arg4 arg5 arg6 arg8 arg9 arg11 arg12 arg13 (harg3.unread x0) (harg4.unread x1) (harg5.unread x2) (harg6.unread x3) ht hI a1
  have a3 := acc01 x i arg3 arg4 arg5 arg6 arg8 arg9 arg11 arg12 arg13 (harg3.unread x0) (harg4.unread x1) (harg5.unread x2) (harg6.unread x3) ht hI a2
  have a4 := acc10 x i arg3 arg4 arg5 arg6 arg8 arg9 arg11 arg12 arg13 (harg3.unread x0) (harg4.unread x1) (harg5.unread x2) (harg6.unread x3) ht hI a3
  have a5 := acc11 x i arg3 arg4 arg5 arg6 arg8 arg9 arg11 arg12 arg13 (harg3.unread x0) (harg4.unread x1) (harg5.unread x2) (harg6.unread x3) ht hI a4
  exact ⟨_, _, a5⟩

theorem point_B : out0_B_5 (F := Ideal) c i arg3 harg3 arg4 harg4 arg5 harg5 arg6 harg6 arg7 harg7 arg8 harg8 arg9 harg9 arg10 harg10 arg11 harg11 arg12 harg12 arg13 harg13 hc0 hc1 x0 x1 x2 x3 x4 xo6 xs2 = up2 512 256 (x.dq (cn (512 * (i 2).val + 512) (512 * (i 2).val + 512)))
    ∧ out0_B_6 (F := Ideal) c i arg3 harg3 arg4 harg4 arg5 harg5 arg6 harg6 arg7 harg7 arg8 harg8 arg9 harg9 arg10 harg10 arg11 harg11 arg12 harg12 arg13 harg13 hc0 hc1 x0 x1 x2 x3 x4 xo6 xs2 = up2 2048 256 (x.dk (cn (512 * (i 2).val + 512) (512 * (i 2).val + 512)))
    ∧ sout0_B_2 (F := Ideal) c i arg3 harg3 arg4 harg4 arg5 harg5 arg6 harg6 arg7 harg7 arg8 harg8 arg9 harg9 arg10 harg10 arg11 harg11 arg12 harg12 arg13 harg13 hc0 hc1 x0 x1 x2 x3 x4 xo6 xs2 = up2 2048 256 (x.dv (cn (512 * (i 2).val + 512) (512 * (i 2).val + 512))) := by
  obtain ⟨f11, f12, h⟩ := acc_B x c i arg3 harg3 arg4 harg4 arg5 harg5 arg6 harg6 arg7 harg7 arg8 harg8 arg9 harg9 arg10 harg10 arg11 harg11 arg12 harg12 arg13 harg13 (hc0 := hc0) (hc1 := hc1) x0 x1 x2 x3 x4 xo6 xs2 ht h0 h1 h2 h3 h4 h6 h7
  refine ⟨?_, ?_, ?_⟩
  · exact (View.read_writes_of_cover VO0_5 VO0_5.junk arg8.view arg8.view.junk _ (cover0_B_5 (F := Ideal) c i arg3 harg3 arg4 harg4 arg5 harg5 arg6 harg6 arg7 harg7 arg8 harg8 arg9 harg9 arg10 harg10 arg11 harg11 arg12 harg12 arg13 harg13 hc0 hc1 x0 x1 x2 x3 x4 xo6 xs2)).trans h.dq
  · exact h.dk
  · exact h.dv

end case

end Cert.Attn

end
-- ==== Proof.CaseC.lean ====
/- The last block of rows of its heads: what it leaves in the buffers. -/
module

public import proofs.«01_k».proof.Proof.Base

@[expose] public section

set_option maxRecDepth 65536

noncomputable section

namespace Cert.Attn

open Idealize.ShloMosaic Cert.KernelIdeal Cert.KernelIdeal.Gen Idealize.SL.Sem Idealize.ShloMosaic.TcCoe

section case
variable (x : Block) (c : Dev nD) (i : grid0.Coords) (arg3 : Memref sig .tc .vmem S512x256 .bf16) (harg3 : arg3.IsWhole)
  (arg4 : Memref sig .tc .vmem S2048x256 .bf16) (harg4 : arg4.IsWhole) (arg5 : Memref sig .tc .vmem S2048x256 .bf16) (harg5 : arg5.IsWhole)
  (arg6 : Memref sig .tc .vmem S512x256 .bf16) (harg6 : arg6.IsWhole) (arg7 : Memref sig .tc .vmem S1x2x512x1 .f32) (harg7 : arg7.IsWhole)
  (arg8 : Memref sig .tc .vmem S512x256 .f32) (harg8 : arg8.IsWhole) (arg9 : Memref sig .tc .vmem S2048x256 .f32) (harg9 : arg9.IsWhole)
  (arg10 : Memref sig .tc .vmem S2048x256 .bf16) (harg10 : arg10.IsWhole) (arg11 : Memref sig .tc .vmem S2x512x1 .f32) (harg11 : arg11.IsWhole)
  (arg12 : Memref sig .tc .vmem S2x512x1 .f32) (harg12 : arg12.IsWhole) (arg13 : Memref sig .tc .vmem S2048x256 .f32) (harg13 : arg13.IsWhole)
  (hc0 : ¬cond0_0 i) (hc1 : cond0_1 i)
  (x0 : Vec Ideal S512x256 .bf16) (x1 : Vec Ideal S2048x256 .bf16) (x2 : Vec Ideal S2048x256 .bf16) (x3 : Vec Ideal S512x256 .bf16)
  (x4 : Vec Ideal S1x2x512x1 .f32) (xo6 : Vec Ideal S2048x256 .f32) (xs2 : Vec Ideal S2048x256 .f32)
  (ht : x.t0 = 512 * (i 2).val) (h0 : x0 = up2 512 256 x.q) (h1 : x1 = up2 2048 256 x.k) (h2 : x2 = up2 2048 256 x.v) (h3 : x3 = up2 512 256 x.d)
  (h4 : ∀ j, x4 j = ((x.bt (j 1).val (j 2).val : ℝ) : EReal))
  (h6 : xo6 = up2 2048 256 x.dk0) (h7 : xs2 = up2 2048 256 x.dv0)

include ht h0 h1 h2 h3 h4 h6 h7

theorem acc_C : ∃ f11 f12, Acc x (cn (512 * (i 2).val + 512) (512 * (i 2).val + 512)) arg8 arg9 arg11 arg12 arg13
      (arg8.view.writes (Elt Ideal) arg8.view.junk (kernelRun0_C (F := Ideal) c i arg3 harg3 arg4 harg4 arg5 harg5 arg6 harg6 arg7 harg7 arg8 harg8 arg9 harg9 arg10 harg10 arg11 harg11 arg12 harg12 arg13 harg13 hc0 hc1 x0 x1 x2 x3 x4 xo6 xs2).1)
      (arg9.view.writes (Elt Ideal) (harg9.unread xo6) (kernelRun0_C (F := Ideal) c i arg3 harg3 arg4 harg4 arg5 harg5 arg6 harg6 arg7 harg7 arg8 harg8 arg9 harg9 arg10 harg10 arg11 harg11 arg12 harg12 arg13 harg13 hc0 hc1 x0 x1 x2 x3 x4 xo6 xs2).2.1) f11 f12
      (arg13.view.writes (Elt Ideal) (harg13.unread xs2) (kernelRun0_C (F := Ideal) c i arg3 harg3 arg4 harg4 arg5 harg5 arg6 harg6 arg7 harg7 arg8 harg8 arg9 harg9 arg10 harg10 arg11 harg11 arg12 harg12 arg13 harg13 hc0 hc1 x0 x1 x2 x3 x4 xo6 xs2).2.2.2.1) := by
  have hI : Ins x arg3 arg4 arg5 arg6 (harg3.unread x0) (harg4.unread x1) (harg5.unread x2) (harg6.unread x3) :=
    ⟨(harg3.read_unread x0).trans h0, (harg4.read_unread x1).trans h1, (harg5.read_unread x2).trans h2, (harg6.read_unread x3).trans h3⟩
  have a0 := base_next x arg7 harg7 arg8 arg9 harg9 arg11 arg12 arg13 harg13 arg8.view.junk arg11.view.junk arg12.view.junk x4 h4 h6 h7
  have a1 := loops_next x Variants.none c none i arg3 harg3 arg4 harg4 arg5 harg5 arg6 harg6 arg7 harg7 arg8 harg8 arg9 harg9 arg10 harg10 arg11 harg11 arg12 harg12 arg13 harg13 (BitVec.ofNat 32 (i 2).val) (k0_pay131 i) (iota Kind.tc S512x256 32 [1] iota_S512x256_d1_w32) k0_pay134
      (Y8 := (arg8.view.writes (Elt Ideal) arg8.view.junk ((pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) k0_pay129 k0_pay130 (k0_pay131 i) (iota Kind.tc S512x256 32 [1] iota_S512x256_d1_w32) k0_pay134 (harg3.unread x0) (harg4.unread x1) (harg5.unread x2) (harg6.unread x3) (arg8.view.writes (Elt Ideal) arg8.view.junk clear8) (harg9.unread xo6) (arg11.view.writes (Elt Ideal) arg11.view.junk (fill11 arg7 harg7 x4)) (arg12.view.writes (Elt Ideal) arg12.view.junk clear12) (harg13.unread xs2) (Scf.trips (k0_t1_loop i).lb (k0_t1_loop i).ub (k0_t1_loop i).st)).1 ++ clear8)))
      (Y9 := (arg9.view.writes (Elt Ideal) (harg9.unread xo6) (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) k0_pay129 k0_pay130 (k0_pay131 i) (iota Kind.tc S512x256 32 [1] iota_S512x256_d1_w32) k0_pay134 (harg3.unread x0) (harg4.unread x1) (harg5.unread x2) (harg6.unread x3) (arg8.view.writes (Elt Ideal) arg8.view.junk clear8) (harg9.unread xo6) (arg11.view.writes (Elt Ideal) arg11.view.junk (fill11 arg7 harg7 x4)) (arg12.view.writes (Elt Ideal) arg12.view.junk clear12) (harg13.unread xs2) (Scf.trips (k0_t1_loop i).lb (k0_t1_loop i).ub (k0_t1_loop i).st)).2.1))
      (Y11 := (arg11.view.writes (Elt Ideal) arg11.view.junk ((pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) k0_pay129 k0_pay130 (k0_pay131 i) (iota Kind.tc S512x256 32 [1] iota_S512x256_d1_w32) k0_pay134 (harg3.unread x0) (harg4.unread x1) (harg5.unread x2) (harg6.unread x3) (arg8.view.writes (Elt Ideal) arg8.view.junk clear8) (harg9.unread xo6) (arg11.view.writes (Elt Ideal) arg11.view.junk (fill11 arg7 harg7 x4)) (arg12.view.writes (Elt Ideal) arg12.view.junk clear12) (harg13.unread xs2) (Scf.trips (k0_t1_loop i).lb (k0_t1_loop i).ub (k0_t1_loop i).st)).2.2.1 ++ (fill11 arg7 harg7 x4))))
      (Y12 := (arg12.view.writes (Elt Ideal) arg12.view.junk ((pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) k0_pay129 k0_pay130 (k0_pay131 i) (iota Kind.tc S512x256 32 [1] iota_S512x256_d1_w32) k0_pay134 (harg3.unread x0) (harg4.unread x1) (harg5.unread x2) (harg6.unread x3) (arg8.view.writes (Elt Ideal) arg8.view.junk clear8) (harg9.unread xo6) (arg11.view.writes (Elt Ideal) arg11.view.junk (fill11 arg7 harg7 x4)) (arg12.view.writes (Elt Ideal) arg12.view.junk clear12) (harg13.unread xs2) (Scf.trips (k0_t1_loop i).lb (k0_t1_loop i).ub (k0_t1_loop i).st)).2.2.2.1 ++ clear12)))
      (Y13 := (arg13.view.writes (Elt Ideal) (harg13.unread xs2) (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) k0_pay129 k0_pay130 (k0_pay131 i) (iota Kind.tc S512x256 32 [1] iota_S512x256_d1_w32) k0_pay134 (harg3.unread x0) (harg4.unread x1) (harg5.unread x2) (harg6.unread x3) (arg8.view.writes (Elt Ideal) arg8.view.junk clear8) (harg9.unread xo6) (arg11.view.writes (Elt Ideal) arg11.view.junk (fill11 arg7 harg7 x4)) (arg12.view.writes (Elt Ideal) arg12.view.junk clear12) (harg13.unread xs2) (Scf.trips (k0_t1_loop i).lb (k0_t1_loop i).ub (k0_t1_loop i).st)).2.2.2.2))
      (Scalar.addi 0#32 (Scalar.muli (Scalar.divsi (Scalar.subi (BitVec.ofNat 32 (i 2).val) 0#32) 1#32) 1#32)) ht hI a0
  have a2 := acc00 x i arg3 arg4 arg5 arg6 arg8 arg9 arg11 arg12 arg13 (harg3.unread x0) (harg4.unread x1) (harg5.unread x2) (harg6.unread x3) ht hI a1
  have a3 := acc01 x i arg3 arg4 arg5 arg6 arg8 arg9 arg11 arg12 arg13 (harg3.unread x0) (harg4.unread x1) (harg5.unread x2) (harg6.unread x3) ht hI a2
  have a4 := acc10 x i arg3 arg4 arg5 arg6 arg8 arg9 arg11 arg12 arg13 (harg3.unread x0) (harg4.unread x1) (harg5.unread x2) (harg6.unread x3) ht hI a3
  have a5 := acc11 x i arg3 arg4 arg5 arg6 arg8 arg9 arg11 arg12 arg13 (harg3.unread x0) (harg4.unread x1) (harg5.unread x2) (harg6.unread x3) ht hI a4
  exact ⟨_, _, a5⟩

theorem point_C : out0_C_5 (F := Ideal) c i arg3 harg3 arg4 harg4 arg5 harg5 arg6 harg6 arg7 harg7 arg8 harg8 arg9 harg9 arg10 harg10 arg11 harg11 arg12 harg12 arg13 harg13 hc0 hc1 x0 x1 x2 x3 x4 xo6 xs2 = up2 512 256 (x.dq (cn (512 * (i 2).val + 512) (512 * (i 2).val + 512)))
    ∧ out0_C_6 (F := Ideal) c i arg3 harg3 arg4 harg4 arg5 harg5 arg6 harg6 arg7 harg7 arg8 harg8 arg9 harg9 arg10 harg10 arg11 harg11 arg12 harg12 arg13 harg13 hc0 hc1 x0 x1 x2 x3 x4 xo6 xs2 = up2 2048 256 (x.dk (cn (512 * (i 2).val + 512) (512 * (i 2).val + 512)))
    ∧ sout0_C_2 (F := Ideal) c i arg3 harg3 arg4 harg4 arg5 harg5 arg6 harg6 arg7 harg7 arg8 harg8 arg9 harg9 arg10 harg10 arg11 harg11 arg12 harg12 arg13 harg13 hc0 hc1 x0 x1 x2 x3 x4 xo6 xs2 = up2 2048 256 (x.dv (cn (512 * (i 2).val + 512) (512 * (i 2).val + 512)))
    ∧ out0_C_7 (F := Ideal) c i arg3 harg3 arg4 harg4 arg5 harg5 arg6 harg6 arg7 harg7 arg8 harg8 arg9 harg9 arg10 harg10 arg11 harg11 arg12 harg12 arg13 harg13 hc0 hc1 x0 x1 x2 x3 x4 xo6 xs2 = up2 2048 256 (x.dv (cn (512 * (i 2).val + 512) (512 * (i 2).val + 512))) := by
  obtain ⟨f11, f12, h⟩ := acc_C x c i arg3 harg3 arg4 harg4 arg5 harg5 arg6 harg6 arg7 harg7 arg8 harg8 arg9 harg9 arg10 harg10 arg11 harg11 arg12 harg12 arg13 harg13 (hc0 := hc0) (hc1 := hc1) x0 x1 x2 x3 x4 xo6 xs2 ht h0 h1 h2 h3 h4 h6 h7
  refine ⟨?_, ?_, ?_, ?_⟩
  · exact (View.read_writes_of_cover VO0_5 VO0_5.junk arg8.view arg8.view.junk _ (cover0_C_5 (F := Ideal) c i arg3 harg3 arg4 harg4 arg5 harg5 arg6 harg6 arg7 harg7 arg8 harg8 arg9 harg9 arg10 harg10 arg11 harg11 arg12 harg12 arg13 harg13 hc0 hc1 x0 x1 x2 x3 x4 xo6 xs2)).trans h.dq
  · exact h.dk
  · exact h.dv
  · have e : (kernelRun0_C (F := Ideal) c i arg3 harg3 arg4 harg4 arg5 harg5 arg6 harg6 arg7 harg7 arg8 harg8 arg9 harg9 arg10 harg10 arg11 harg11 arg12 harg12 arg13 harg13 hc0 hc1 x0 x1 x2 x3 x4 xo6 xs2).2.2.1 = [⟨Rect.unit (s := S2048x256) ![0, 0] S2048x256.size inb_S2048x256_S2048x256_0_0,
        k0_pay4 (arg13.view.readAt (Elt Ideal) (Rect.unit (s := S2048x256) ![0, 0] S2048x256.size inb_S2048x256_S2048x256_0_0).toLoadRect
          (arg13.view.writes (Elt Ideal) (harg13.unread xs2) (kernelRun0_C (F := Ideal) c i arg3 harg3 arg4 harg4 arg5 harg5 arg6 harg6 arg7 harg7 arg8 harg8 arg9 harg9 arg10 harg10 arg11 harg11 arg12 harg12 arg13 harg13 hc0 hc1 x0 x1 x2 x3 x4 xo6 xs2).2.2.2.1))⟩] := rfl
    unfold out0_C_7
    rw [e]
    refine (View.read_writes_full VO0_7 VO0_7.junk inb_S2048x256_S2048x256_0_0 _ []).trans ?_
    refine (congrArg k0_pay4 ((View.readAt_full arg13.view _ inb_S2048x256_S2048x256_0_0).trans h.dv)).trans ?_
    exact truncf_up2 _ bitsLt_bf16_f32

end case

end Cert.Attn

end
-- ==== Proof.Points.lean ====
/- What every grid point leaves behind: the gradient of its block of queries, and the gradients of keys and values summed over the blocks
   of rows so far; and the three arrays after the whole run. -/
module

public import proofs.«01_k».proof.Proof.Inputs
public import proofs.«01_k».proof.Proof.CaseA
public import proofs.«01_k».proof.Proof.CaseB
public import proofs.«01_k».proof.Proof.CaseC

@[expose] public section

set_option maxRecDepth 16384

noncomputable section

namespace Cert.Attn

open Idealize.ShloMosaic Idealize.ShloMosaic.TcCoe Idealize.SL.Sem Cert.KernelIdeal Cert.KernelIdeal.Gen

section points
variable (m : (ℓ : Loc nD τ sig) → Buf (Elt Ideal) ℓ) (c : Dev nD) (x : Step)
  (hq : m ((c : Thread nD τ).loc main_arg0) = up2 4096 4096 x.q) (hk : m ((c : Thread nD τ).loc main_arg1) = up2 4096 4096 x.k)
  (hv : m ((c : Thread nD τ).loc main_arg2) = up2 4096 4096 x.v) (hd : m ((c : Thread nD τ).loc main_arg3) = up2 4096 4096 x.d)
  (hb : ∀ j, V m c main_v20 j = ((∑ k ∈ Finset.range 2048, x.l (j 0).val (j 1).val (j 2).val k : ℝ) : EReal))

/-- How many keys each of the two heads runs over at grid point `t`. -/
def keys (t : Fin cfg0.N) : ℕ → ℕ := cn (512 * (grid0.coords t 2).val + 512) (512 * (grid0.coords t 2).val + 512)

theorem keys_eq (t : Fin cfg0.N) (h : ℕ) : keys t h = 512 * (t.val % 4) + 512 := by
  unfold keys cn
  rw [(coords_eq t).2.2, ite_self]

/-- The block after the one of point `t`, of the same heads: its accumulators are what point `t` leaves. -/
abbrev nblock (t : Fin cfg0.N) : Block := x.block (t.val / 64) (t.val / 4 % 16) (t.val % 4 + 1)

theorem after_dk (t : Fin cfg0.N) : (pblock x t).dk (keys t) = (nblock x t).dk0 :=
  Step.block_dk x _ _ _ _ fun h => (keys_eq t h).ge
theorem after_dv (t : Fin cfg0.N) : (pblock x t).dv (keys t) = (nblock x t).dv0 :=
  Step.block_dv x _ _ _ _ fun h => (keys_eq t h).ge

/-- What point `t` leaves in the three blocks it writes and in the accumulator of the values. -/
structure Left (t : Fin cfg0.N) : Prop where
  dq : (outsAt0 m c t.val t.isLt).1 = up2 512 256 ((pblock x t).dq (keys t))
  dk : (outsAt0 m c t.val t.isLt).2.1 = up2 2048 256 (nblock x t).dk0
  dv : (outsAt0 m c t.val t.isLt).2.2.2 = up2 2048 256 (nblock x t).dv0
  last : t.val % 4 = 3 → (outsAt0 m c t.val t.isLt).2.2.1 = up2 2048 256 (nblock x t).dv0

include hq hk hv hd hb

theorem left_A (t : Fin cfg0.N) (h0 : t.val % 4 = 0) : Left m c x t := by
  have h1 : ¬ t.val % 4 = 3 := by omega
  have e := outsAt0_A m c t h0 h1
  obtain ⟨p1, p2, p3⟩ := point_A (pblock x t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (hc0 := (hcond0_0 t).mpr h0) (hc1 := fun h => h1 ((hcond0_1 t).mp h)) (iblk m c 0 t) (iblk m c 1 t) (iblk m c 2 t) (iblk m c 3 t) (iblk m c 4 t)
    (by rw [coords_eq t |>.2.2]; rfl) (in0 m c x t hq) (in1 m c x t hk) (in2 m c x t hv) (in3 m c x t hd) (in4 m c x t hb)
    (by show (x.block _ _ (t.val % 4)).dk0 = _; rw [h0]; exact Step.block_dk0 x _ _) (by show (x.block _ _ (t.val % 4)).dv0 = _; rw [h0]; exact Step.block_dv0 x _ _)
  refine ⟨(congrArg (fun a => a.1) e).trans p1, (congrArg (fun a => a.2.1) e).trans (p2.trans (congrArg (up2 2048 256) (after_dk x t))),
    (congrArg (fun a => a.2.2.2) e).trans (p3.trans (congrArg (up2 2048 256) (after_dv x t))), fun h => absurd h h1⟩

theorem left_B (t : Fin cfg0.N) (h0 : ¬ t.val % 4 = 0) (h1 : ¬ t.val % 4 = 3) (hp : t.val - 1 < cfg0.N) (ih : Left m c x ⟨t.val - 1, hp⟩) : Left m c x t := by
  have e := outsAt0_B m c t h0 h1
  have eb : nblock x ⟨t.val - 1, hp⟩ = pblock x t := by
    show x.block _ _ _ = x.block _ _ _
    dsimp only
    congr 1 <;> omega
  obtain ⟨p1, p2, p3⟩ := point_B (pblock x t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (hc0 := fun h => h0 ((hcond0_0 t).mp h)) (hc1 := fun h => h1 ((hcond0_1 t).mp h)) (iblk m c 0 t) (iblk m c 1 t) (iblk m c 2 t) (iblk m c 3 t) (iblk m c 4 t)
    _ _ (by rw [coords_eq t |>.2.2]; rfl) (in0 m c x t hq) (in1 m c x t hk) (in2 m c x t hv) (in3 m c x t hd) (in4 m c x t hb)
    (ih.dk.trans (by rw [eb])) (ih.dv.trans (by rw [eb]))
  refine ⟨(congrArg (fun a => a.1) e).trans p1, (congrArg (fun a => a.2.1) e).trans (p2.trans (congrArg (up2 2048 256) (after_dk x t))),
    (congrArg (fun a => a.2.2.2) e).trans (p3.trans (congrArg (up2 2048 256) (after_dv x t))), fun h => absurd h h1⟩

theorem left_C (t : Fin cfg0.N) (h0 : ¬ t.val % 4 = 0) (h1 : t.val % 4 = 3) (hp : t.val - 1 < cfg0.N) (ih : Left m c x ⟨t.val - 1, hp⟩) : Left m c x t := by
  have e := outsAt0_C m c t h0 h1
  have eb : nblock x ⟨t.val - 1, hp⟩ = pblock x t := by
    show x.block _ _ _ = x.block _ _ _
    dsimp only
    congr 1 <;> omega
  obtain ⟨p1, p2, p3, p4⟩ := point_C (pblock x t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (hc0 := fun h => h0 ((hcond0_0 t).mp h)) (hc1 := (hcond0_1 t).mpr h1) (iblk m c 0 t) (iblk m c 1 t) (iblk m c 2 t) (iblk m c 3 t) (iblk m c 4 t)
    _ _ (by rw [coords_eq t |>.2.2]; rfl) (in0 m c x t hq) (in1 m c x t hk) (in2 m c x t hv) (in3 m c x t hd) (in4 m c x t hb)
    (ih.dk.trans (by rw [eb])) (ih.dv.trans (by rw [eb]))
  refine ⟨(congrArg (fun a => a.1) e).trans p1, (congrArg (fun a => a.2.1) e).trans (p2.trans (congrArg (up2 2048 256) (after_dk x t))),
    (congrArg (fun a => a.2.2.2) e).trans (p3.trans (congrArg (up2 2048 256) (after_dv x t))), fun _ => ?_⟩
  rw [e, ← after_dv x t]
  dsimp only
  unfold keys
  rw [p4]

theorem left : ∀ (n : ℕ) (hn : n < cfg0.N), Left m c x ⟨n, hn⟩
  | 0, hn => left_A m c x hq hk hv hd hb ⟨0, hn⟩ rfl
  | n + 1, hn => by
    by_cases h0 : (n + 1) % 4 = 0
    · exact left_A m c x hq hk hv hd hb ⟨n + 1, hn⟩ h0
    · have ih := left n (Nat.lt_of_succ_lt hn)
      by_cases h1 : (n + 1) % 4 = 3
      · exact left_C m c x hq hk hv hd hb ⟨n + 1, hn⟩ h0 h1 (Nat.lt_of_succ_lt hn) ih
      · exact left_B m c x hq hk hv hd hb ⟨n + 1, hn⟩ h0 h1 (Nat.lt_of_succ_lt hn) ih

theorem final_dq : (dats m 0 c).arrAt 5 (cfgs 0).N = up2 4096 4096 x.dq := by
  refine (dats m 0 c).arrAt_eq_of_covers 5 _ (by decide +kernel) fun t hf y => ?_
  blk_simp
  rw [after0_5, (left m c x hq hk hv hd hb t.val t.isLt).dq]
  unfold up2
  blk_simp [idx_eq t]
  refine congrArg (fun a : ℝ => (a : EReal)) ((Step.block_dq x _ _ _ _ (fun h => (keys_eq _ h).ge) (fun h => ?_) (y 0).isLt (Nat.mod_lt _ (by omega))).trans (congrArg₂ x.dq ?_ ?_))
  · rw [keys_eq]; dsimp only; omega
  · dsimp only; omega
  · dsimp only; omega

theorem final_dk : (dats m 0 c).arrAt 6 (cfgs 0).N = up2 4096 4096 x.dk := by
  refine (dats m 0 c).arrAt_eq_of_covers 6 _ (by decide +kernel) fun t hf y => ?_
  blk_simp
  rw [after0_6, (left m c x hq hk hv hd hb t.val t.isLt).dk]
  have h3 := (flush0_6 t).1 hf
  unfold up2
  blk_simp [idx_eq t]
  rw [show nblock x ⟨t.val, t.isLt⟩ = x.block (t.val / 64) (t.val / 4 % 16) 4 from by show x.block _ _ (t.val % 4 + 1) = _; rw [h3]]
  exact congrArg (fun a : ℝ => (a : EReal)) ((Step.last_dk x _ _ (y 0).isLt).trans (congrArg₂ x.dk (by omega) (by omega)))

theorem final_dv : (dats m 0 c).arrAt 7 (cfgs 0).N = up2 4096 4096 x.dv := by
  refine (dats m 0 c).arrAt_eq_of_covers 7 _ (by decide +kernel) fun t hf y => ?_
  blk_simp
  rw [after0_7, (left m c x hq hk hv hd hb t.val t.isLt).last ((flush0_7 t).1 hf)]
  have h3 := (flush0_7 t).1 hf
  unfold up2
  blk_simp [idx_eq t]
  rw [show nblock x ⟨t.val, t.isLt⟩ = x.block (t.val / 64) (t.val / 4 % 16) 4 from by show x.block _ _ (t.val % 4 + 1) = _; rw [h3]]
  exact congrArg (fun a : ℝ => (a : EReal)) ((Step.last_dv x _ _ (y 0).isLt).trans (congrArg₂ x.dv (by omega) (by omega)))

end points

end Cert.Attn

end
-- ==== Proof.Rests.lean ====
/- The row sums the host hands the kernel, at real numbers. -/
module

public import proofs.«01_k».proof.Proof.Plain
public import proofs.«01_k».proof.Proof.Points

@[expose] public section

set_option maxRecDepth 16384

noncomputable section

namespace Cert.Attn

open Idealize.ShloMosaic Cert.ReferenceIdeal Cert.ReferenceIdeal.Gen

/-- The row sums, in the order the host takes them. -/
def rests (q k : A2) : FVec Ideal ⟨4, ![2, 32, 2048, 1]⟩ .f32 :=
  broadcastInDim ⟨4, ![2, 32, 2048, 1]⟩ ![0, 1, 2] KernelIdeal.Gen.facts.bcast_S2x32x2048_S2x32x2048x1_0_1_2
    (Host.reduceAdd (leaves (scores q k)) (constant S_ .f32 0x00000000#32) KernelIdeal.Gen.facts.reducesTo_S2x32x2048x2048_S2x32x2048_d3 KernelIdeal.Gen.facts.h_S_)

theorem rests_up (x : Step) (j : (⟨4, ![2, 32, 2048, 1]⟩ : Shape).Idx) :
    rests (up2 4096 4096 x.q) (up2 4096 4096 x.k) j = ((∑ k ∈ Finset.range 2048, x.l (j 0).val (j 1).val (j 2).val k : ℝ) : EReal) := by
  unfold rests
  rw [scores_up, leaves_eq]
  pointwise
  exact sum_coe 2048 fun k => x.l (j 0).val (j 1).val (j 2).val k

end Cert.Attn

namespace Cert.KernelIdeal.Value
open Idealize.ShloMosaic Cert.KernelIdeal Cert.KernelIdeal.Gen Idealize.SL.Sem TcCoe Cert.Attn

variable (m : (ℓ : Loc nD τ sig) → Buf (Elt Ideal) ℓ) (c : Dev nD)

theorem entry_rests : V (F := Ideal) m c main_v20 = rests (m ((c : Thread nD τ).loc main_arg0)) (m ((c : Thread nD τ).loc main_arg1)) := by
  entry_read
  rfl

end Cert.KernelIdeal.Value

end
-- ==== Proof.Finite.lean ====
/- Matrices all of whose elements are finite are matrices of real numbers. -/
module

public import proofs.«01_k».proof.Pre_finite
public import proofs.«01_k».proof.Proof.Arrays
public import Idealize.ShloMosaic.Lib.ReduceAll

@[expose] public section

set_option maxRecDepth 16384

noncomputable section

namespace Cert.Attn

open Idealize.ShloMosaic

/-- The real numbers a matrix holds. -/
def real2 (a : (⟨2, ![4096, 4096]⟩ : Shape).Idx → EReal) (r c : ℕ) : ℝ :=
  open Classical in if h : ∃ j : (⟨2, ![4096, 4096]⟩ : Shape).Idx, (j 0).val = r ∧ (j 1).val = c then (a h.choose).toReal else 0

theorem real2_eq (a : (⟨2, ![4096, 4096]⟩ : Shape).Idx → EReal) (h : ∀ j, a j ≠ ⊤ ∧ a j ≠ ⊥) : a = up2 4096 4096 (real2 a) := by
  funext j
  have e : ∃ i : (⟨2, ![4096, 4096]⟩ : Shape).Idx, (i 0).val = (j 0).val ∧ (i 1).val = (j 1).val := ⟨j, rfl, rfl⟩
  have ej : e.choose = j := by
    funext i
    fin_cases i
    · exact Fin.ext e.choose_spec.1
    · exact Fin.ext e.choose_spec.2
  unfold up2 real2
  rw [dif_pos e, ej]
  exact (EReal.coe_toReal (h j).1 (h j).2).symm

instance : Subsingleton Pre_finite.S_.Idx := ⟨fun a b => funext fun i => i.elim0⟩

/-- An element is below infinity in absolute value only when it is neither infinity. -/
theorem finite_of_lt {x : EReal} (h : FloatOps.cmpf (F := Ideal) (φ := .f32) .olt (FloatOps.hostAbsf (F := Ideal) (φ := .f32) x) (⊤ : EReal) = 1#1) : x ≠ ⊤ ∧ x ≠ ⊥ := by
  have : max x (-x) < ⊤ := by
    have h2 : BitVec.ofBool (decide (max x (-x) < ⊤)) = 1#1 := h
    by_contra hn
    simp [hn] at h2
  constructor
  · rintro rfl; simp at this
  · rintro rfl; simp at this

open Pre_finite Pre_finite.Facts in
theorem finite_of_all [Pre_finite.Facts] (a : FVec Ideal S4096x4096 .bf16)
    (h : ∀ j, Host.reduce IntOp.andi (cmpf (F := Ideal) .olt (Host.absf (extf .f32 a bitsLt_bf16_f32))
      (broadcastInDim S4096x4096 ![] bcast_S_S4096x4096 (constant S_ .f32 0x7F800000#32))) (constantI S_ 1 1#1) reducesTo_S4096x4096_S_d0_1 h_S_ j = 1#1) :
    a = up2 4096 4096 (real2 a) := by
  refine real2_eq a fun j => ?_
  have e := Host.reduce_andi_all _ _ _ _ (fun i => i.elim0) (h _) j
  refine finite_of_lt (x := a j) (Eq.trans ?_ e)
  exact congrArg (FloatOps.cmpf (F := Ideal) (φ := .f32) .olt _) ofBits_inf.symm

theorem finite_args [Pre_finite.Facts] (a b c d : FVec Ideal Pre_finite.S4096x4096 .bf16) (h : Pre_finite.fn (F := Ideal) a b c d = fun _ => 1#1) :
    a = up2 4096 4096 (real2 a) ∧ b = up2 4096 4096 (real2 b) ∧ c = up2 4096 4096 (real2 c) ∧ d = up2 4096 4096 (real2 d) := by
  have e := fun j => (IntOp.andi_eq_one).1 (congrFun h j)
  have e' := fun j => (IntOp.andi_eq_one).1 (e j).1
  have e'' := fun j => (IntOp.andi_eq_one).1 (e' j).1
  exact ⟨finite_of_all a fun j => (e'' j).1, finite_of_all b fun j => (e'' j).2, finite_of_all c fun j => (e' j).2, finite_of_all d fun j => (e j).2⟩

end Cert.Attn

end
-- ==== Proof.RestBuffer.lean ====
module

public import Idealize.ShloMosaic.Lib.Pipeline.ValueKit
public import Idealize.ShloMosaic.Lib.Claim
public import Idealize.ShloMosaic.Lib.Pointwise

/-! The buffer that holds the output projections' and the state-space branch's weights, read entry by entry. Each of its four
    slabs has 5120 rows: 1024 of `attn_out`, 2048 of `ssm_in`, 1024 of `glu_w`, 1024 of `ssm_out`. -/

@[expose] public section

set_option maxRecDepth 16384

noncomputable section

namespace Cert.Rest

open Idealize.ShloMosaic Idealize.ShloMosaic.ValueIdx

abbrev D2 : Shape := ⟨2, ![4096, 4096]⟩
abbrev D2x2 : Shape := ⟨2, ![4096, 8192]⟩
abbrev Q : Shape := ⟨3, ![4, 1024, 4096]⟩
abbrev H : Shape := ⟨3, ![4, 2048, 4096]⟩
abbrev H4 : Shape := ⟨4, ![2, 2048, 4, 2048]⟩
abbrev H4t : Shape := ⟨4, ![4, 2048, 2, 2048]⟩
abbrev B : Shape := ⟨3, ![4, 5120, 4096]⟩

theorem castQ : D2.ShapeCasts Q := by decide
theorem castH4 : D2x2.ShapeCasts H4 := by decide
theorem castH : H4t.ShapeCasts H := by decide
theorem transH : H4.Transposes [2, 1, 0, 3] H4t := by decide
theorem catB : Shape.Concatenates [Q, H, Q, Q] B 1 := by decide
theorem narrow : FTy.bf16.bits < FTy.f32.bits := by decide

variable (wo : FVec Ideal D2 .f32) (wi : FVec Ideal D2x2 .f32) (wg ws : FVec Ideal D2 .f32)

/-- The four slabs' parts, one below the other, narrowed. -/
def pack (a : FVec Ideal Q .f32) (b : FVec Ideal H .f32) (c d : FVec Ideal Q .f32) : FVec Ideal B .bf16 :=
  truncf .bf16 (concatenate B 1 [⟨Q, a⟩, ⟨H, b⟩, ⟨Q, c⟩, ⟨Q, d⟩] catB) narrow

/-- The buffer, packed by the host from the four weights. -/
def buffer : FVec Ideal B .bf16 :=
  pack (shapeCast Q wo castQ) (shapeCast H (transpose H4t [2, 1, 0, 3] (shapeCast H4 wi castH4) transH) castH) (shapeCast Q wg castQ)
    (shapeCast Q ws castQ)

theorem pack_congr {a a' : FVec Ideal Q .f32} {b b' : FVec Ideal H .f32} {c c' d d' : FVec Ideal Q .f32} (ha : a = a') (hb : b = b')
    (hc : c = c') (hd : d = d') : pack a b c d = pack a' b' c' d' := by
  rw [ha, hb, hc, hd]

/-- A sum over 4096 as four sums over 1024, in the order the kernel adds them. -/
theorem sum_four (f : Fin 4096 → EReal) : ∑ k, f k = (((∑ k : Fin 1024, f ⟨k.val, by omega⟩) + ∑ k : Fin 1024, f ⟨1024 + k.val, by omega⟩)
    + ∑ k : Fin 1024, f ⟨2048 + k.val, by omega⟩) + ∑ k : Fin 1024, f ⟨3072 + k.val, by omega⟩ := by
  refine (Fin.sum_univ_tiles 4 1024 rfl f).trans ((Fin.sum_univ_four _).trans ?_)
  refine congrArg₂ (· + ·) (congrArg₂ (· + ·) (congrArg₂ (· + ·) ?_ ?_) ?_) ?_ <;>
    exact Finset.sum_congr rfl fun k _ => congrArg f (Fin.ext (by simp))

theorem ix2_of {a b : ℕ} (x : Fin a) (y : Fin b) (j : (⟨2, ![a, b]⟩ : Shape).Idx) (hx : (x : ℕ) = j 0) (hy : (y : ℕ) = j 1) :
    Idealize.ShloMosaic.ix2 x y = j := by
  funext k
  match k with
  | 0 => exact Fin.ext hx
  | 1 => exact Fin.ext hy

theorem buffer_attn_out (i : B.Idx) (j : D2.Idx) (h1 : (i 1 : ℕ) < 1024) (hr : (j 0 : ℕ) = 1024 * (i 0 : ℕ) + (i 1 : ℕ))
    (hc : (j 1 : ℕ) = (i 2 : ℕ)) : buffer wo wi wg ws i = wo j := by
  pointwise [buffer, pack]
  refine (dif_pos h1).trans (congrArg wo (ix2_of _ _ _ ?_ ?_))
  · show (i 0 : ℕ) * 1024 + (i 1 : ℕ) = j 0
    omega
  · exact hc.symm

theorem buffer_ssm_in (i : B.Idx) (j : D2x2.Idx) (h0 : 1024 ≤ (i 1 : ℕ)) (h1 : (i 1 : ℕ) < 3072)
    (hr : (j 0 : ℕ) = 2048 * ((i 2 : ℕ) / 2048) + ((i 1 : ℕ) - 1024)) (hc : (j 1 : ℕ) = 2048 * (i 0 : ℕ) + (i 2 : ℕ) % 2048) :
    buffer wo wi wg ws i = wi j := by
  pointwise [buffer, pack]
  refine (dif_neg (by omega)).trans ?_
  refine (dif_pos (by omega)).trans (congrArg wi (ix2_of _ _ _ ?_ ?_))
  · show (i 2 : ℕ) / 2048 * 2048 + ((i 1 : ℕ) - 1024) = j 0
    omega
  · show (i 0 : ℕ) * 2048 + (i 2 : ℕ) % 2048 = j 1
    omega

theorem buffer_glu (i : B.Idx) (j : D2.Idx) (h0 : 3072 ≤ (i 1 : ℕ)) (h1 : (i 1 : ℕ) < 4096)
    (hr : (j 0 : ℕ) = 1024 * (i 0 : ℕ) + ((i 1 : ℕ) - 3072)) (hc : (j 1 : ℕ) = (i 2 : ℕ)) : buffer wo wi wg ws i = wg j := by
  pointwise [buffer, pack]
  refine (dif_neg (by omega)).trans ?_
  refine (dif_neg (by omega)).trans ?_
  refine (dif_pos (by omega)).trans (congrArg wg (ix2_of _ _ _ ?_ ?_))
  · show (i 0 : ℕ) * 1024 + ((i 1 : ℕ) - 1024 - 2048) = j 0
    omega
  · exact hc.symm

theorem buffer_ssm_out (i : B.Idx) (j : D2.Idx) (h0 : 4096 ≤ (i 1 : ℕ))
    (hr : (j 0 : ℕ) = 1024 * (i 0 : ℕ) + ((i 1 : ℕ) - 4096)) (hc : (j 1 : ℕ) = (i 2 : ℕ)) : buffer wo wi wg ws i = ws j := by
  pointwise [buffer, pack]
  refine (dif_neg (by omega)).trans ?_
  refine (dif_neg (by omega)).trans ?_
  refine (dif_neg (by omega)).trans (congrArg ws (ix2_of _ _ _ ?_ ?_))
  · show (i 0 : ℕ) * 1024 + ((i 1 : ℕ) - 1024 - 2048 - 1024) = j 0
    omega
  · exact hc.symm

end Cert.Rest

end
-- ==== Proof.SsmOutDgrad.lean ====
module

public import proofs.«01_k».proof.Defs
public import proofs.«01_k».proof.Proof.Gen.SsmOutDgrad
public import proofs.«01_k».proof.Proof.Gen.SsmOutDgrad.Frame
public import proofs.«01_k».proof.Proof.Gen.SsmOutDgradIdeal
public import proofs.«01_k».proof.Proof.Gen.SsmOutDgradIdeal.Value
public import proofs.«01_k».proof.Proof.Gen.SsmOutDgradPlainIdeal
public import proofs.«01_k».proof.Proof.Gen.SsmOutDgradPlainIdeal.Run
public import proofs.«01_k».proof.Proof.RestBuffer
public import Idealize.ShloMosaic.Lib.Pipeline.ValueKit
public import Idealize.ShloMosaic.Lib.Claim
public import Idealize.ShloMosaic.Lib.Pointwise
public import Idealize.ShloMosaic.Adequacy
public import Idealize.ShloMosaic.Init

/-! The gradient of the state-space branch's output projection with respect to its input. -/

@[expose] public section

set_option maxRecDepth 16384

noncomputable section

namespace Cert.SsmOutDgradPlainIdeal

open Cert.SsmOutDgradPlainIdeal.Gen Idealize.ShloMosaic

/-- The reference's result as a function of its arguments. -/
def REF (a4 : FVec Ideal S4096x4096 .f32) (a5 : FVec Ideal S4096x4096 .bf16) : FVec Ideal S4096x4096 .f32 :=
  Host.dotGeneral dot_S4096x4096_S4096x4096_S4096x4096_1_1_0_0_n_n none (extf .f32 a5 bitsLt_bf16_f32) a4

end Cert.SsmOutDgradPlainIdeal

namespace Cert.SsmOutDgradIdeal.Value

open Cert.SsmOutDgradIdeal Cert.SsmOutDgradIdeal.Gen Idealize.ShloMosaic Idealize.ShloMosaic.TcCoe Idealize.SL.Sem
open Idealize.ShloMosaic.Pipeline (Dat)
open Cert.SsmOutDgradPlainIdeal (REF)

variable (m : (ℓ : Loc nD τ sig) → Buf (Elt Ideal) ℓ)

/-- The blocks each grid point works on. -/
theorem idx : ∀ t : Fin cfg0.N, win0_0.index t = ![t.val / 4, 0] ∧ win0_1.index t = ![t.val % 4, 4, 0] ∧ win0_2.index t = ![t.val / 4, t.val % 4] ∧ t.val / 4 < 4 :=
  (by decide +kernel : ∀ t : Fin grid0.N, _)

/-- The result, of the arguments as the memory holds them. -/
def result (c : Dev nD) : FVec Ideal S4096x4096 .f32 :=
  REF (m ((c : Thread nD τ).loc main_arg4)) (m ((c : Thread nD τ).loc main_arg5))

/-- The packed weights, as the kernel finds them. -/
theorem V_packed (c : Dev nD) : V m c main_v7 = Cert.Rest.buffer (m ((c : Thread nD τ).loc main_arg1)) (m ((c : Thread nD τ).loc main_arg2)) (m ((c : Thread nD τ).loc main_arg3)) (m ((c : Thread nD τ).loc main_arg4)) := by
  unfold V
  after_results_simp
  refine Cert.Rest.pack_congr ?_ ?_ ?_ ?_
  all_goals
    repeat first
      | rw [StableHlo.reshape_result] | rw [StableHlo.unary_result]
      | (rw [StableHlo.reshape_result_ne]; rotate_left; decide)
      | (rw [StableHlo.unary_result_ne]; rotate_left; decide)
  all_goals rfl

/-- What a grid point stores is its block of the result. -/
theorem point (c : Dev nD) (t : Fin cfg0.N) (y : S1024x1024.Idx) :
    k0_pay1 (F := Ideal) (iblk m c 0 t) (iblk m c 1 t) y = REF (m ((c : Thread nD τ).loc main_arg4)) (m ((c : Thread nD τ).loc main_arg5)) (((cfg0.win 2).blk t).view.emb y) := by
  have hy0 : (y 0 : ℕ) < 1024 := (y 0).isLt
  have hy1 : (y 1 : ℕ) < 1024 := (y 1).isLt
  pointwise [k0_pay1, REF]
  refine Finset.sum_congr rfl fun x _ => ?_
  · have hx := x.isLt
    refine Ideal.mul_congr ?_ ?_
    · blk_point [iblk, V, idx t]
    · refine (congrFun (V_packed m c) _).trans (Cert.Rest.buffer_ssm_out _ _ _ _ _ _ ?_ ?_ ?_)
      all_goals blk_simp [idx t]
      all_goals first | omega | (dsimp only; omega)

/-- The output array is the result. -/
theorem final (c : Dev nD) : (dats m 0 c).arrAt 2 (cfgs 0).N = result m c := by
  refine (dats m 0 c).arrAt_eq_of_covers 2 _ (by decide +kernel) fun t _ y => ?_
  blk_simp
  rw [after0_2]; frame_out
  exact point m c t y

end Cert.SsmOutDgradIdeal.Value

namespace Cert.Proof.SsmOutDgrad

open Idealize.ShloMosaic Idealize.ShloMosaic.TcCoe Idealize.SL.Sem

theorem frame_reference : Cert.quiescent_SsmOutDgradPlainIdeal (hSsmOutDgradPlainIdeal := Cert.SsmOutDgradPlainIdeal.Gen.facts) := fun m ρ _ =>
  (θ_run Cert.SsmOutDgradPlainIdeal.defs _ _).mono (fun r h => ⟨fun c => (h c).2, sem_eq_zero_of_no_sems (by decide) r.2⟩)
    (Cert.SsmOutDgradPlainIdeal.Value.run (F := Ideal) m ρ)

theorem algebraic : Cert.algebraic_SsmOutDgradIdeal_SsmOutDgradPlainIdeal (hSsmOutDgradIdeal := Cert.SsmOutDgradIdeal.Gen.facts)
    (hSsmOutDgradPlainIdeal := Cert.SsmOutDgradPlainIdeal.Gen.facts) := by
  intro m g m' g' _ hargs
  refine ⟨fun c => Cert.SsmOutDgradIdeal.Value.result m c, ?_, ?_⟩
  · exact (θ_run Cert.SsmOutDgradIdeal.defs _ _).mono (fun r h c => ⟨(h c).1.trans (Cert.SsmOutDgradIdeal.Value.final m c), (h c).2⟩)
      (Cert.SsmOutDgradIdeal.Value.run_blocks (F := Ideal) m g)
  · refine (θ_run Cert.SsmOutDgradPlainIdeal.defs _ _).mono (fun r h c => ⟨(h c).1.trans ?_, (h c).2⟩) (Cert.SsmOutDgradPlainIdeal.Value.run (F := Ideal) m' g')
    obtain ⟨a0, a1, a2, a3, a4, a5⟩ := hargs c
    rw [a4, a5]; rfl

end Cert.Proof.SsmOutDgrad

end
-- ==== Proof.Gates.lean ====
/- The derivatives of the gates at the extended reals: the kernel's grouping of the terms and the chain rule's. -/
module

public import proofs.«01_k».proof.Proof.Reals
public import Idealize.ShloMosaic.Lib.Pointwise

@[expose] public section

noncomputable section

namespace Cert.Gates

open Idealize.ShloMosaic

/-- The logistic function. -/
def sig (g : EReal) : EReal := Ideal.div 1 (1 + Ideal.exp (-g))

theorem sig_top : sig ⊤ = 1 := by
  have h : (1 : EReal) + Ideal.exp (-⊤) = ((1 : ℝ) : EReal) := by simp
  rw [sig, h, Ideal.div_coe one_ne_zero]
  simp

theorem sig_bot : sig ⊥ = 0 := by
  have h : (1 : EReal) + Ideal.exp (-⊥) = ⊤ := by
    rw [EReal.neg_bot, Ideal.exp_top]; exact EReal.coe_add_top 1
  rw [sig, h, Ideal.div, if_neg (by simp), EReal.inv_top, mul_zero]

theorem sig_coe (x : ℝ) : sig x = ((1 / (1 + Real.exp (-x)) : ℝ) : EReal) := by
  have h : (1 : EReal) + Ideal.exp (-(x : EReal)) = ((1 + Real.exp (-x) : ℝ) : EReal) := by
    rw [← EReal.coe_neg, Ideal.exp_coe, EReal.coe_add]; rfl
  rw [sig, h, Ideal.div_coe (by positivity), one_mul]

/-- The derivative of `x · sig x`, times a real number, in the kernel's grouping and the chain rule's. -/
theorem silu_deriv (t : ℝ) (g : EReal) :
    (t : EReal) * (sig g * (1 + g * (1 - sig g))) = t * sig g + (t * g) * (sig g * (1 - sig g)) := by
  have h1 : (1 : EReal) - 1 = 0 := by rw [← EReal.coe_one, ← EReal.coe_sub, sub_self]; rfl
  induction g using EReal.rec with
  | top => rw [sig_top, h1]; simp
  | bot => rw [sig_bot]; simp
  | coe x =>
    rw [sig_coe]
    norm_cast
    ring_nf

/-- The hyperbolic tangent inside `gelu`. -/
def gth (C a : ℝ) (x : EReal) : EReal := Ideal.tanh (C * (x + a * (x * x * x)))

theorem gth_top {C a : ℝ} (hC : 0 < C) (ha : 0 < a) : gth C a ⊤ = 1 := by
  have h : (C : EReal) * (⊤ + a * (⊤ * ⊤ * ⊤)) = ⊤ := by
    rw [EReal.top_mul_top, EReal.top_mul_top, EReal.coe_mul_top_of_pos ha, EReal.top_add_top, EReal.coe_mul_top_of_pos hC]
  rw [gth, h, Ideal.tanh_top]

theorem gth_bot {C a : ℝ} (hC : 0 < C) (ha : 0 < a) : gth C a ⊥ = -1 := by
  have h : (C : EReal) * (⊥ + a * (⊥ * ⊥ * ⊥)) = ⊥ := by
    rw [EReal.bot_mul_bot, EReal.top_mul_bot, EReal.coe_mul_bot_of_pos ha, EReal.bot_add, EReal.coe_mul_bot_of_pos hC]
  rw [gth, h, Ideal.tanh_bot]

theorem gth_coe (C a x : ℝ) : gth C a x = ((Real.tanh (C * (x + a * (x * x * x))) : ℝ) : EReal) := by
  rw [gth, ← Ideal.tanh_coe]; norm_cast

/-- The derivative of `gelu`, times a real number, in the kernel's grouping and the chain rule's. -/
theorem gelu_deriv {C a : ℝ} (hC : 0 < C) (ha : 0 < a) (t : ℝ) (x : EReal) :
    (t : EReal) * (((1 / 2 : ℝ) : EReal) * (1 + gth C a x)
        + ((1 / 2 : ℝ) : EReal) * x * (1 - gth C a x * gth C a x) * C * (1 + ((3 * a : ℝ) : EReal) * (x * x)))
      = t * (((1 / 2 : ℝ) : EReal) * (1 + gth C a x))
        + C * (((1 / 2 : ℝ) : EReal) * (x * t) * ((1 + gth C a x) * (1 - gth C a x)))
        + a * (C * (((1 / 2 : ℝ) : EReal) * (x * t) * ((1 + gth C a x) * (1 - gth C a x)))) * (((3 : ℝ) : EReal) * (x * x)) := by
  have h1 : (1 : EReal) - 1 = 0 := by rw [← EReal.coe_one, ← EReal.coe_sub, sub_self]; rfl
  have h2 : (1 : EReal) + -1 = 0 := h1
  induction x using EReal.rec with
  | top => rw [gth_top hC ha, mul_one, h1]; simp
  | bot => rw [gth_bot hC ha, neg_mul_neg, mul_one, h1, h2]; simp
  | coe x =>
    rw [gth_coe]
    norm_cast
    ring_nf

/-- `silu_deriv` in the order the two programs multiply in. -/
theorem silu_grad (t : ℝ) (g : EReal) :
    (t : EReal) * (sig g * (1 + g * (1 - sig g))) = t * sig g + g * t * (sig g * (1 - sig g)) := by
  rw [mul_comm g (t : EReal), silu_deriv]

/-- The cubic term's constant, as a quotient taken after the product. -/
theorem cubic (y : EReal) : ((44715 : ℝ) : EReal) * (y * ((1 / 1000000 : ℝ) : EReal)) = ((8943 / 200000 : ℝ) : EReal) * y := by
  rw [mul_comm y, ← mul_assoc, ← EReal.coe_mul]
  norm_num

/-- `gelu_deriv` with the constants of the two programs. -/
theorem gelu_grad {C : ℝ} (hC : 0 < C) (t : ℝ) (x : EReal) :
    (t : EReal) * (((1 / 2 : ℝ) : EReal) * (1 + Ideal.tanh (C * (x + ((8943 / 200000 : ℝ) : EReal) * x * (x * x))))
        + ((1 / 2 : ℝ) : EReal) * x * (1 - Ideal.tanh (C * (x + ((8943 / 200000 : ℝ) : EReal) * x * (x * x))) * Ideal.tanh (C * (x + ((8943 / 200000 : ℝ) : EReal) * x * (x * x)))) * C
          * (1 + ((26829 / 200000 : ℝ) : EReal) * (x * x)))
      = t * (((1 / 2 : ℝ) : EReal) * (1 + Ideal.tanh (C * (x + Ideal.div (((44715 : ℝ) : EReal) * (x * x * x)) ((1000000 : ℝ) : EReal)))))
        + C * (((1 / 2 : ℝ) : EReal) * (x * t) * ((1 + Ideal.tanh (C * (x + Ideal.div (((44715 : ℝ) : EReal) * (x * x * x)) ((1000000 : ℝ) : EReal)))) * (1 - Ideal.tanh (C * (x + Ideal.div (((44715 : ℝ) : EReal) * (x * x * x)) ((1000000 : ℝ) : EReal))))))
        + ((44715 : ℝ) : EReal) * Ideal.div (C * (((1 / 2 : ℝ) : EReal) * (x * t) * ((1 + Ideal.tanh (C * (x + Ideal.div (((44715 : ℝ) : EReal) * (x * x * x)) ((1000000 : ℝ) : EReal)))) * (1 - Ideal.tanh (C * (x + Ideal.div (((44715 : ℝ) : EReal) * (x * x * x)) ((1000000 : ℝ) : EReal))))))) ((1000000 : ℝ) : EReal)
          * (((3 : ℝ) : EReal) * (x * x)) := by
  have hd : ∀ y, Ideal.div y ((1000000 : ℝ) : EReal) = y * ((1 / 1000000 : ℝ) : EReal) := Ideal.div_coe (by norm_num)
  have ht : Ideal.tanh (C * (x + ((8943 / 200000 : ℝ) : EReal) * x * (x * x))) = gth C (8943 / 200000) x := by
    rw [gth, mul_assoc _ x, mul_assoc x x x]
  have h3 : (26829 / 200000 : ℝ) = 3 * (8943 / 200000) := by norm_num
  simp only [hd, mul_assoc ((44715 : ℝ) : EReal) (_ * _) (((1 / 1000000 : ℝ) : EReal)), cubic]
  rw [ht, h3]
  exact gelu_deriv hC (by norm_num) t x

section words

theorem ofBits_half : Ideal.ofBits .f32 0x3F000000#32 = ((1 / 2 : ℝ) : EReal) := by
  simp [Ideal.ofBits, Ideal.ieee, -EReal.coe_mul]
  norm_num [← EReal.coe_mul]

theorem ofBits_three : Ideal.ofBits .f32 0x40400000#32 = ((3 : ℝ) : EReal) := by
  simp [Ideal.ofBits, Ideal.ieee, -EReal.coe_mul]
  norm_num [← EReal.coe_mul]

theorem ofBits_cubic : Ideal.ofBits .f32 0x472EAB00#32 = ((44715 : ℝ) : EReal) := by
  simp [Ideal.ofBits, Ideal.ieee, -EReal.coe_mul]
  norm_num [← EReal.coe_mul]

theorem ofBits_million : Ideal.ofBits .f32 0x49742400#32 = ((1000000 : ℝ) : EReal) := by
  simp [Ideal.ofBits, Ideal.ieee, -EReal.coe_mul]
  norm_num [← EReal.coe_mul]

/-- The root of `2 / π`, as the programs' constant has it. -/
def rootc : ℝ := 13386282 / 16777216

theorem rootc_pos : 0 < rootc := by norm_num [rootc]

theorem ofBits_rootc : Ideal.ofBits .f32 0x3F4C422A#32 = ((rootc : ℝ) : EReal) := by
  simp [Ideal.ofBits, Ideal.ieee, rootc, -EReal.coe_mul]
  norm_num [← EReal.coe_mul]

end words

/-- A sum of products of real numbers is a real number. -/
theorem sum_mul_real {n : ℕ} (f g : Fin n → EReal) (hf : ∀ k, f k ≠ ⊤ ∧ f k ≠ ⊥) (hg : ∀ k, g k ≠ ⊤ ∧ g k ≠ ⊥) :
    ∃ t : ℝ, ∑ k, f k * g k = t := by
  classical
  suffices h : ∀ S : Finset (Fin n), ∃ t : ℝ, ∑ k ∈ S, f k * g k = t from h _
  intro S
  refine Finset.induction_on S ⟨0, by simp⟩ fun k S hk ⟨t, ht⟩ => ?_
  refine ⟨(f k).toReal * (g k).toReal + t, ?_⟩
  rw [Finset.sum_insert hk, ht, EReal.coe_add, EReal.coe_mul, EReal.coe_toReal (hf k).1 (hf k).2, EReal.coe_toReal (hg k).1 (hg k).2]

end Cert.Gates

end
-- ==== Proof.FiniteGates.lean ====
/- The preconditions of the two gate gradients, read element by element. -/
module

public import proofs.«01_k».proof.Pre_finite_gate
public import proofs.«01_k».proof.Pre_finite_glu
public import proofs.«01_k».proof.Proof.Finite

@[expose] public section

set_option maxRecDepth 16384

noncomputable section

namespace Cert.Gates

open Idealize.ShloMosaic

/-- No element of the matrix is infinite. -/
def Finite (a : (⟨2, ![4096, 4096]⟩ : Shape).Idx → EReal) : Prop := ∀ j, a j ≠ ⊤ ∧ a j ≠ ⊥

theorem facts_gate : Pre_finite_gate.Facts where
  bitsLt_bf16_f32 := by decide
  bcast_S_S4096x4096 := by decide
  reducesTo_S4096x4096_S_d0_1 := by decide
  h_S_ := by decide

theorem facts_glu : Pre_finite_glu.Facts where
  bitsLt_bf16_f32 := by decide
  bcast_S_S4096x4096 := by decide
  reducesTo_S4096x4096_S_d0_1 := by decide
  h_S_ := by decide

open Pre_finite_gate Pre_finite_gate.Facts in
theorem finite_of_all [Pre_finite_gate.Facts] (a : FVec Ideal S4096x4096 .f32)
    (h : ∀ j, Host.reduce IntOp.andi (cmpf (F := Ideal) .olt (Host.absf a)
      (broadcastInDim S4096x4096 ![] bcast_S_S4096x4096 (constant S_ .f32 0x7F800000#32))) (constantI S_ 1 1#1) reducesTo_S4096x4096_S_d0_1 h_S_ j = 1#1) :
    Finite a := fun j => by
  have e := Host.reduce_andi_all _ _ _ _ (fun i => i.elim0) (h (fun i => i.elim0)) j
  refine Cert.Attn.finite_of_lt (x := a j) (Eq.trans ?_ e)
  exact congrArg (FloatOps.cmpf (F := Ideal) (φ := .f32) .olt _) Cert.Attn.ofBits_inf.symm

attribute [local instance] facts_gate facts_glu

open Pre_finite_gate in
theorem gate_args (a0 : FVec Ideal S4096x4096 .bf16) (a1 : FVec Ideal S4096x4096 .f32) (a2 : FVec Ideal S4096x8192 .f32) (a3 a4 a5 a6 : FVec Ideal S4096x4096 .f32)
    (h : Pre_finite_gate.fn (F := Ideal) a0 a1 a2 a3 a4 a5 a6 = fun _ => 1#1) : Finite a0 ∧ Finite a1 ∧ Finite a5 := by
  have e := fun j => (IntOp.andi_eq_one).1 (congrFun h j)
  have e' := fun j => (IntOp.andi_eq_one).1 (e j).1
  exact ⟨finite_of_all a0 fun j => (e' j).1, finite_of_all a1 fun j => (e' j).2, finite_of_all a5 fun j => (e j).2⟩

open Pre_finite_glu in
theorem glu_args (a0 : FVec Ideal S4096x4096 .bf16) (a1 a2 a3 : FVec Ideal S4096x4096 .f32) (a4 : FVec Ideal S4096x8192 .f32) (a5 a6 : FVec Ideal S4096x4096 .f32)
    (h : Pre_finite_glu.fn (F := Ideal) a0 a1 a2 a3 a4 a5 a6 = fun _ => 1#1) : Finite a0 ∧ Finite a1 ∧ Finite a5 := by
  have e := fun j => (IntOp.andi_eq_one).1 (congrFun h j)
  have e' := fun j => (IntOp.andi_eq_one).1 (e j).1
  exact ⟨finite_of_all a0 fun j => (e' j).1, finite_of_all a1 fun j => (e' j).2, finite_of_all a5 fun j => (e j).2⟩

end Cert.Gates

end
-- ==== Proof.AttnOutDgrad.lean ====
module

public import proofs.«01_k».proof.Defs
public import proofs.«01_k».proof.Proof.Gen.AttnOutDgrad
public import proofs.«01_k».proof.Proof.Gen.AttnOutDgrad.Frame
public import proofs.«01_k».proof.Proof.Gen.AttnOutDgradIdeal
public import proofs.«01_k».proof.Proof.Gen.AttnOutDgradIdeal.Value
public import proofs.«01_k».proof.Proof.Gen.AttnOutDgradPlainIdeal
public import proofs.«01_k».proof.Proof.Gen.AttnOutDgradPlainIdeal.Run
public import proofs.«01_k».proof.Proof.RestBuffer
public import proofs.«01_k».proof.Proof.Gates
public import proofs.«01_k».proof.Proof.FiniteGates
public import Idealize.ShloMosaic.Lib.Pipeline.ValueKit
public import Idealize.ShloMosaic.Lib.Claim
public import Idealize.ShloMosaic.Lib.Pointwise
public import Idealize.ShloMosaic.Adequacy
public import Idealize.ShloMosaic.Init

/-! The gradient of the attention's output projection with respect to the attention's output and its gate. -/

@[expose] public section

set_option maxRecDepth 16384

noncomputable section

namespace Cert.AttnOutDgradPlainIdeal

open Cert.AttnOutDgradPlainIdeal.Gen Idealize.ShloMosaic

/-- The gradient of the gated output, as the reference computes it. -/
def DOG (a0 : FVec Ideal S4096x4096 .bf16) (a1 : FVec Ideal S4096x4096 .f32) : FVec Ideal S4096x4096 .f32 :=
  Host.dotGeneral dot_S4096x4096_S4096x4096_S4096x4096_1_1_0_0_n_n none (extf .f32 a0 bitsLt_bf16_f32) a1

/-- The reference's gradient of the output as a function of its arguments. -/
def OUT (a0 : FVec Ideal S4096x4096 .bf16) (a1 a6 : FVec Ideal S4096x4096 .f32) : FVec Ideal S4096x4096 .bf16 :=
  truncf .bf16 (mulf (DOG a0 a1) (mulf a6 (Host.divf (broadcastInDim S4096x4096 ![] bcast_S_S4096x4096 (constant S_ .f32 0x3F800000#32)) (addf (broadcastInDim S4096x4096 ![] bcast_S_S4096x4096 (constant S_ .f32 0x3F800000#32)) (Host.exp (Host.negf a6)))))) bitsLt_bf16_f32

/-- The reference's gradient of the gate as a function of its arguments. -/
def GATE (a0 : FVec Ideal S4096x4096 .bf16) (a1 a5 a6 : FVec Ideal S4096x4096 .f32) : FVec Ideal S4096x4096 .bf16 :=
  truncf .bf16 (addf (mulf (mulf a5 (DOG a0 a1)) (Host.divf (broadcastInDim S4096x4096 ![] bcast_S_S4096x4096 (constant S_ .f32 0x3F800000#32)) (addf (broadcastInDim S4096x4096 ![] bcast_S_S4096x4096 (constant S_ .f32 0x3F800000#32)) (Host.exp (Host.negf a6))))) (mulf (mulf a6 (mulf a5 (DOG a0 a1))) (mulf (Host.divf (broadcastInDim S4096x4096 ![] bcast_S_S4096x4096 (constant S_ .f32 0x3F800000#32)) (addf (broadcastInDim S4096x4096 ![] bcast_S_S4096x4096 (constant S_ .f32 0x3F800000#32)) (Host.exp (Host.negf a6)))) (subf (broadcastInDim S4096x4096 ![] bcast_S_S4096x4096 (constant S_ .f32 0x3F800000#32)) (Host.divf (broadcastInDim S4096x4096 ![] bcast_S_S4096x4096 (constant S_ .f32 0x3F800000#32)) (addf (broadcastInDim S4096x4096 ![] bcast_S_S4096x4096 (constant S_ .f32 0x3F800000#32)) (Host.exp (Host.negf a6)))))))) bitsLt_bf16_f32

end Cert.AttnOutDgradPlainIdeal

namespace Cert.AttnOutDgradIdeal.Value

open Cert.AttnOutDgradIdeal Cert.AttnOutDgradIdeal.Gen Idealize.ShloMosaic Idealize.ShloMosaic.TcCoe Idealize.SL.Sem
open Idealize.ShloMosaic.Pipeline (Dat)
open Cert.AttnOutDgradPlainIdeal (DOG OUT GATE)

variable (m : (ℓ : Loc nD τ sig) → Buf (Elt Ideal) ℓ)

/-- The blocks each grid point works on. -/
theorem idx : ∀ t : Fin cfg0.N, win0_0.index t = ![t.val / 8, 0] ∧ win0_1.index t = ![t.val % 8 / 2, t.val % 2, 0] ∧ win0_2.index t = ![t.val / 8, t.val % 8] ∧ win0_3.index t = ![t.val / 8, t.val % 8] ∧ win0_4.index t = ![t.val / 8, t.val % 8] ∧ win0_5.index t = ![t.val / 8, t.val % 8] ∧ t.val / 8 < 4 :=
  (by decide +kernel : ∀ t : Fin grid0.N, _)

/-- The two results, of the arguments as the memory holds them. -/
def out (c : Dev nD) : FVec Ideal S4096x4096 .bf16 :=
  OUT (m ((c : Thread nD τ).loc main_arg0)) (m ((c : Thread nD τ).loc main_arg1)) (m ((c : Thread nD τ).loc main_arg6))

@[inherit_doc out]
def gate (c : Dev nD) : FVec Ideal S4096x4096 .bf16 :=
  GATE (m ((c : Thread nD τ).loc main_arg0)) (m ((c : Thread nD τ).loc main_arg1)) (m ((c : Thread nD τ).loc main_arg5)) (m ((c : Thread nD τ).loc main_arg6))

/-- The packed weights, as the kernel finds them. -/
theorem V_packed (c : Dev nD) : V m c main_v7 = Cert.Rest.buffer (m ((c : Thread nD τ).loc main_arg1)) (m ((c : Thread nD τ).loc main_arg2)) (m ((c : Thread nD τ).loc main_arg3)) (m ((c : Thread nD τ).loc main_arg4)) := by
  unfold V
  after_results_simp
  refine Cert.Rest.pack_congr ?_ ?_ ?_ ?_
  all_goals
    repeat first
      | rw [StableHlo.reshape_result] | rw [StableHlo.unary_result]
      | (rw [StableHlo.reshape_result_ne]; rotate_left; decide)
      | (rw [StableHlo.unary_result_ne]; rotate_left; decide)
  all_goals rfl

theorem idx2_ext {a b : ℕ} (i j : (⟨2, ![a, b]⟩ : Shape).Idx) (h0 : (i 0 : ℕ) = j 0) (h1 : (i 1 : ℕ) = j 1) : i = j := by
  funext k
  match k with
  | 0 => exact Fin.ext h0
  | 1 => exact Fin.ext h1

/-- The product of a grid point is its block of the gradient of the gated output. -/
theorem point_dog (c : Dev nD) (t : Fin cfg0.N) (y : S1024x512.Idx) :
    k0_pay1 (F := Ideal) (iblk m c 0 t) (iblk m c 1 t) y = DOG (m ((c : Thread nD τ).loc main_arg0)) (m ((c : Thread nD τ).loc main_arg1)) (((cfg0.win 4).blk t).view.emb y) := by
  have hy0 : (y 0 : ℕ) < 1024 := (y 0).isLt
  have hy1 : (y 1 : ℕ) < 512 := (y 1).isLt
  pointwise [k0_pay1, DOG]
  refine Finset.sum_congr rfl fun x _ => ?_
  have hx := x.isLt
  refine Ideal.mul_congr ?_ ?_
  · refine (congrFun (V_main_arg0 m c) _).trans (congrArg _ (idx2_ext _ _ ?_ ?_))
    all_goals blk_simp [idx t]
  · refine (congrFun (V_packed m c) _).trans (Cert.Rest.buffer_attn_out _ _ _ _ _ _ ?_ ?_ ?_)
    all_goals blk_simp [idx t]
    all_goals first | omega | (dsimp only; omega)

/-- What a grid point stores of the gradient of the output is its block of it. -/
theorem point_out (c : Dev nD) (t : Fin cfg0.N) (y : S1024x512.Idx) :
    k0_pay3 (F := Ideal) (iblk m c 0 t) (iblk m c 1 t) (iblk m c 3 t) y = OUT (m ((c : Thread nD τ).loc main_arg0)) (m ((c : Thread nD τ).loc main_arg1)) (m ((c : Thread nD τ).loc main_arg6)) (((cfg0.win 4).blk t).view.emb y) := by
  have h6 : iblk m c 3 t y = (m ((c : Thread nD τ).loc main_arg6)) (((cfg0.win 4).blk t).view.emb y) := by
    refine (congrFun (V_main_arg6 m c) _).trans (congrArg _ (idx2_ext _ _ ?_ ?_))
    all_goals blk_simp [idx t]
  have hd := point_dog m c t y
  pointwise [k0_pay3, k0_pay2, OUT]
  rw [h6, hd, zero_sub]

/-- The gradient of the gated output holds real numbers when its two factors do. -/
theorem dog_real (c : Dev nD) (h0 : Cert.Gates.Finite (m ((c : Thread nD τ).loc main_arg0))) (h1 : Cert.Gates.Finite (m ((c : Thread nD τ).loc main_arg1))) (j : S4096x4096.Idx) :
    ∃ r : ℝ, DOG (m ((c : Thread nD τ).loc main_arg0)) (m ((c : Thread nD τ).loc main_arg1)) j = r := by
  pointwise [DOG]
  exact Cert.Gates.sum_mul_real _ _ (fun _ => h0 _) (fun _ => h1 _)

/-- What a grid point stores of the gradient of the gate is its block of it. -/
theorem point_gate (c : Dev nD) (h0 : Cert.Gates.Finite (m ((c : Thread nD τ).loc main_arg0))) (h1 : Cert.Gates.Finite (m ((c : Thread nD τ).loc main_arg1))) (hf : Cert.Gates.Finite (m ((c : Thread nD τ).loc main_arg5))) (t : Fin cfg0.N) (y : S1024x512.Idx) :
    k0_pay4 (F := Ideal) (iblk m c 0 t) (iblk m c 1 t) (iblk m c 2 t) (iblk m c 3 t) y = GATE (m ((c : Thread nD τ).loc main_arg0)) (m ((c : Thread nD τ).loc main_arg1)) (m ((c : Thread nD τ).loc main_arg5)) (m ((c : Thread nD τ).loc main_arg6)) (((cfg0.win 5).blk t).view.emb y) := by
  have h5 : iblk m c 2 t y = (m ((c : Thread nD τ).loc main_arg5)) (((cfg0.win 5).blk t).view.emb y) := by
    refine (congrFun (V_main_arg5 m c) _).trans (congrArg _ (idx2_ext _ _ ?_ ?_))
    all_goals blk_simp [idx t]
  have h6 : iblk m c 3 t y = (m ((c : Thread nD τ).loc main_arg6)) (((cfg0.win 5).blk t).view.emb y) := by
    refine (congrFun (V_main_arg6 m c) _).trans (congrArg _ (idx2_ext _ _ ?_ ?_))
    all_goals blk_simp [idx t]
  have hd : k0_pay1 (F := Ideal) (iblk m c 0 t) (iblk m c 1 t) y = DOG (m ((c : Thread nD τ).loc main_arg0)) (m ((c : Thread nD τ).loc main_arg1)) (((cfg0.win 5).blk t).view.emb y) := point_dog m c t y
  obtain ⟨r, hr⟩ := dog_real m c h0 h1 (((cfg0.win 5).blk t).view.emb y)
  have ho := hf (((cfg0.win 5).blk t).view.emb y)
  pointwise [k0_pay4, k0_pay2, GATE]
  rw [h5, h6, hd, hr, zero_sub, ← EReal.coe_toReal ho.1 ho.2, mul_comm ((EReal.toReal _ : ℝ) : EReal) (r : EReal), ← EReal.coe_mul]
  exact Cert.Gates.silu_grad _ (m ((c : Thread nD τ).loc main_arg6) (((cfg0.win 5).blk t).view.emb y))

/-- The first output array is the gradient of the output. -/
theorem final_out (c : Dev nD) : (dats m 0 c).arrAt 4 (cfgs 0).N = out m c := by
  refine (dats m 0 c).arrAt_eq_of_covers 4 _ (by decide +kernel) fun t _ y => ?_
  blk_simp
  rw [after0_4]; frame_out
  exact point_out m c t y

/-- The second output array is the gradient of the gate. -/
theorem final_gate (c : Dev nD) (h0 : Cert.Gates.Finite (m ((c : Thread nD τ).loc main_arg0))) (h1 : Cert.Gates.Finite (m ((c : Thread nD τ).loc main_arg1))) (hf : Cert.Gates.Finite (m ((c : Thread nD τ).loc main_arg5))) :
    (dats m 0 c).arrAt 5 (cfgs 0).N = gate m c := by
  refine (dats m 0 c).arrAt_eq_of_covers 5 _ (by decide +kernel) fun t _ y => ?_
  blk_simp
  rw [after0_5]; frame_out
  exact point_gate m c h0 h1 hf t y

end Cert.AttnOutDgradIdeal.Value

namespace Cert.Proof.AttnOutDgrad

open Idealize.ShloMosaic Idealize.ShloMosaic.TcCoe Idealize.SL.Sem

theorem frame_reference : Cert.quiescent_AttnOutDgradPlainIdeal (hAttnOutDgradPlainIdeal := Cert.AttnOutDgradPlainIdeal.Gen.facts) := fun m ρ _ =>
  (θ_run Cert.AttnOutDgradPlainIdeal.defs _ _).mono (fun r h => ⟨fun c => (h c).2.2, sem_eq_zero_of_no_sems (by decide) r.2⟩)
    (Cert.AttnOutDgradPlainIdeal.Value.run (F := Ideal) m ρ)

theorem algebraic : Cert.algebraic_AttnOutDgradIdeal_AttnOutDgradPlainIdeal_pre_finite_gate (hAttnOutDgradIdeal := Cert.AttnOutDgradIdeal.Gen.facts)
    (hAttnOutDgradPlainIdeal := Cert.AttnOutDgradPlainIdeal.Gen.facts) (hPre_finite_gate := Cert.Gates.facts_gate) := by
  intro m g m' g' hpre hargs
  have hf := fun c => Cert.Gates.gate_args _ _ _ _ _ _ _ (hpre c)
  refine ⟨fun c => Cert.AttnOutDgradIdeal.Value.out m c, fun c => Cert.AttnOutDgradIdeal.Value.gate m c, ?_, ?_⟩
  · exact (θ_run Cert.AttnOutDgradIdeal.defs _ _).mono (fun r h c => ⟨(h c).1.trans (Cert.AttnOutDgradIdeal.Value.final_out m c),
      (h c).2.1.trans (Cert.AttnOutDgradIdeal.Value.final_gate m c (hf c).1 (hf c).2.1 (hf c).2.2), (h c).2.2⟩) (Cert.AttnOutDgradIdeal.Value.run_blocks (F := Ideal) m g)
  · refine (θ_run Cert.AttnOutDgradPlainIdeal.defs _ _).mono (fun r h c => ⟨(h c).1.trans ?_, (h c).2.1.trans ?_, (h c).2.2⟩)
      (Cert.AttnOutDgradPlainIdeal.Value.run (F := Ideal) m' g')
    · obtain ⟨a0, a1, a2, a3, a4, a5, a6⟩ := hargs c
      rw [a0, a1, a6]; rfl
    · obtain ⟨a0, a1, a2, a3, a4, a5, a6⟩ := hargs c
      rw [a0, a1, a5, a6]; rfl

end Cert.Proof.AttnOutDgrad

end
-- ==== Proof.GluDgrad.lean ====
module

public import proofs.«01_k».proof.Defs
public import proofs.«01_k».proof.Proof.Gen.GluDgrad
public import proofs.«01_k».proof.Proof.Gen.GluDgrad.Frame
public import proofs.«01_k».proof.Proof.Gen.GluDgradIdeal
public import proofs.«01_k».proof.Proof.Gen.GluDgradIdeal.Value
public import proofs.«01_k».proof.Proof.Gen.GluDgradPlainIdeal
public import proofs.«01_k».proof.Proof.Gen.GluDgradPlainIdeal.Run
public import proofs.«01_k».proof.Proof.RestBuffer
public import proofs.«01_k».proof.Proof.Gates
public import proofs.«01_k».proof.Proof.FiniteGates
public import Idealize.ShloMosaic.Lib.Pipeline.ValueKit
public import Idealize.ShloMosaic.Lib.Claim
public import Idealize.ShloMosaic.Lib.Pointwise
public import Idealize.ShloMosaic.Adequacy
public import Idealize.ShloMosaic.Init

/-! The gradient of the gated linear unit with respect to the input of its `gelu`. -/

@[expose] public section

set_option maxRecDepth 16384

noncomputable section

namespace Cert.GluDgradPlainIdeal

open Cert.GluDgradPlainIdeal.Gen Idealize.ShloMosaic

/-- The reference's product with the weights. -/
def DOG (a0 : FVec Ideal S4096x4096 .bf16) (a5 : FVec Ideal S4096x4096 .f32) : FVec Ideal S4096x4096 .f32 :=
  Host.dotGeneral dot_S4096x4096_S4096x4096_S4096x4096_1_1_0_0_n_n none (extf .f32 a0 bitsLt_bf16_f32) a5

/-- The gradient of the gated result, as the reference computes it. -/
def DT (a0 : FVec Ideal S4096x4096 .bf16) (a1 a5 : FVec Ideal S4096x4096 .f32) : FVec Ideal S4096x4096 .f32 :=
  addf a1 (DOG a0 a5)

/-- The hyperbolic tangent in the reference's `gelu`. -/
def TANH (a2 : FVec Ideal S4096x4096 .f32) : FVec Ideal S4096x4096 .f32 :=
  Host.tanh (mulf (broadcastInDim S4096x4096 ![] bcast_S_S4096x4096 (constant S_ .f32 0x3F4C422A#32)) (addf a2 (Host.divf (mulf (broadcastInDim S4096x4096 ![] bcast_S_S4096x4096 (constant S_ .f32 0x472EAB00#32)) (mulf (mulf a2 a2) a2)) (broadcastInDim S4096x4096 ![] bcast_S_S4096x4096 (constant S_ .f32 0x49742400#32)))))

/-- The gradient of that tangent's argument. -/
def INNER (a0 : FVec Ideal S4096x4096 .bf16) (a1 a2 a5 : FVec Ideal S4096x4096 .f32) : FVec Ideal S4096x4096 .f32 :=
  mulf (broadcastInDim S4096x4096 ![] bcast_S_S4096x4096 (constant S_ .f32 0x3F4C422A#32)) (mulf (mulf (broadcastInDim S4096x4096 ![] bcast_S_S4096x4096 (constant S_ .f32 0x3F000000#32)) (mulf a2 (DT a0 a1 a5))) (mulf (addf (broadcastInDim S4096x4096 ![] bcast_S_S4096x4096 (constant S_ .f32 0x3F800000#32)) (TANH a2)) (subf (broadcastInDim S4096x4096 ![] bcast_S_S4096x4096 (constant S_ .f32 0x3F800000#32)) (TANH a2))))

/-- The reference's result as a function of its arguments. -/
def DY (a0 : FVec Ideal S4096x4096 .bf16) (a1 a2 a5 : FVec Ideal S4096x4096 .f32) : FVec Ideal S4096x4096 .f32 :=
  addf (addf (mulf (DT a0 a1 a5) (mulf (broadcastInDim S4096x4096 ![] bcast_S_S4096x4096 (constant S_ .f32 0x3F000000#32)) (addf (broadcastInDim S4096x4096 ![] bcast_S_S4096x4096 (constant S_ .f32 0x3F800000#32)) (TANH a2)))) (INNER a0 a1 a2 a5))
    (mulf (mulf (broadcastInDim S4096x4096 ![] bcast_S_S4096x4096 (constant S_ .f32 0x472EAB00#32)) (Host.divf (INNER a0 a1 a2 a5) (broadcastInDim S4096x4096 ![] bcast_S_S4096x4096 (constant S_ .f32 0x49742400#32)))) (mulf (broadcastInDim S4096x4096 ![] bcast_S_S4096x4096 (constant S_ .f32 0x40400000#32)) (mulf a2 a2)))

theorem DY_apply (a0 : FVec Ideal S4096x4096 .bf16) (a1 a2 a5 : FVec Ideal S4096x4096 .f32) (j : S4096x4096.Idx) :
    DY a0 a1 a2 a5 j = (a1 j + DOG a0 a5 j) * (Ideal.ofBits .f32 0x3F000000#32 * (Ideal.ofBits .f32 0x3F800000#32 + (Ideal.tanh (Ideal.ofBits .f32 0x3F4C422A#32 * (a2 j + Ideal.div (Ideal.ofBits .f32 0x472EAB00#32 * (a2 j * a2 j * a2 j)) (Ideal.ofBits .f32 0x49742400#32))))))
      + (Ideal.ofBits .f32 0x3F4C422A#32 * (Ideal.ofBits .f32 0x3F000000#32 * (a2 j * (a1 j + DOG a0 a5 j)) * ((Ideal.ofBits .f32 0x3F800000#32 + (Ideal.tanh (Ideal.ofBits .f32 0x3F4C422A#32 * (a2 j + Ideal.div (Ideal.ofBits .f32 0x472EAB00#32 * (a2 j * a2 j * a2 j)) (Ideal.ofBits .f32 0x49742400#32))))) * (Ideal.ofBits .f32 0x3F800000#32 - (Ideal.tanh (Ideal.ofBits .f32 0x3F4C422A#32 * (a2 j + Ideal.div (Ideal.ofBits .f32 0x472EAB00#32 * (a2 j * a2 j * a2 j)) (Ideal.ofBits .f32 0x49742400#32))))))))
      + Ideal.ofBits .f32 0x472EAB00#32 * Ideal.div (Ideal.ofBits .f32 0x3F4C422A#32 * (Ideal.ofBits .f32 0x3F000000#32 * (a2 j * (a1 j + DOG a0 a5 j)) * ((Ideal.ofBits .f32 0x3F800000#32 + (Ideal.tanh (Ideal.ofBits .f32 0x3F4C422A#32 * (a2 j + Ideal.div (Ideal.ofBits .f32 0x472EAB00#32 * (a2 j * a2 j * a2 j)) (Ideal.ofBits .f32 0x49742400#32))))) * (Ideal.ofBits .f32 0x3F800000#32 - (Ideal.tanh (Ideal.ofBits .f32 0x3F4C422A#32 * (a2 j + Ideal.div (Ideal.ofBits .f32 0x472EAB00#32 * (a2 j * a2 j * a2 j)) (Ideal.ofBits .f32 0x49742400#32)))))))) (Ideal.ofBits .f32 0x49742400#32)
        * (Ideal.ofBits .f32 0x40400000#32 * (a2 j * a2 j)) := rfl

end Cert.GluDgradPlainIdeal

namespace Cert.GluDgradIdeal.Value

open Cert.GluDgradIdeal Cert.GluDgradIdeal.Gen Idealize.ShloMosaic Idealize.ShloMosaic.TcCoe Idealize.SL.Sem
open Idealize.ShloMosaic.Pipeline (Dat)
open Cert.GluDgradPlainIdeal (DOG DT TANH INNER DY)

variable (m : (ℓ : Loc nD τ sig) → Buf (Elt Ideal) ℓ)

/-- The blocks each grid point works on. -/
theorem idx : ∀ t : Fin cfg0.N, win0_0.index t = ![t.val / 8, 0] ∧ win0_1.index t = ![t.val % 8 / 2, 6 + t.val % 2, 0] ∧ win0_2.index t = ![t.val / 8, t.val % 8] ∧ win0_3.index t = ![t.val / 8, t.val % 8] ∧ win0_4.index t = ![t.val / 8, t.val % 8] ∧ t.val / 8 < 4 :=
  (by decide +kernel : ∀ t : Fin grid0.N, _)

/-- The result, of the arguments as the memory holds them. -/
def out (c : Dev nD) : FVec Ideal S4096x4096 .f32 :=
  DY (m ((c : Thread nD τ).loc main_arg0)) (m ((c : Thread nD τ).loc main_arg1)) (m ((c : Thread nD τ).loc main_arg2)) (m ((c : Thread nD τ).loc main_arg5))

/-- The packed weights, as the kernel finds them. -/
theorem V_packed (c : Dev nD) : V m c main_v7 = Cert.Rest.buffer (m ((c : Thread nD τ).loc main_arg3)) (m ((c : Thread nD τ).loc main_arg4)) (m ((c : Thread nD τ).loc main_arg5)) (m ((c : Thread nD τ).loc main_arg6)) := by
  unfold V
  after_results_simp
  refine Cert.Rest.pack_congr ?_ ?_ ?_ ?_
  all_goals
    repeat first
      | rw [StableHlo.reshape_result] | rw [StableHlo.unary_result]
      | (rw [StableHlo.reshape_result_ne]; rotate_left; decide)
      | (rw [StableHlo.unary_result_ne]; rotate_left; decide)
  all_goals rfl

theorem idx2_ext {a b : ℕ} (i j : (⟨2, ![a, b]⟩ : Shape).Idx) (h0 : (i 0 : ℕ) = j 0) (h1 : (i 1 : ℕ) = j 1) : i = j := by
  funext k
  match k with
  | 0 => exact Fin.ext h0
  | 1 => exact Fin.ext h1

/-- The product a grid point takes with its block of the weights. -/
def MM (v0 : FVec Ideal S1024x4096 .bf16) (v1 : Vec Ideal S1x512x4096 .bf16) : FVec Ideal S1024x512 .f32 :=
  matmul dot_S1024x4096_S512x4096_S1024x512_1_1_0_0_n_n none v0 (shapeCast S512x4096 v1 shapeCasts_S1x512x4096_S512x4096 : FVec Ideal S512x4096 .bf16) (constant S1024x512 .f32 0x00000000#32)

/-- That product is the grid point's block of the reference's product. -/
theorem point_dog (c : Dev nD) (t : Fin cfg0.N) (y : S1024x512.Idx) :
    MM (iblk m c 0 t) (iblk m c 1 t) y = DOG (m ((c : Thread nD τ).loc main_arg0)) (m ((c : Thread nD τ).loc main_arg5)) (((cfg0.win 4).blk t).view.emb y) := by
  have hy0 : (y 0 : ℕ) < 1024 := (y 0).isLt
  have hy1 : (y 1 : ℕ) < 512 := (y 1).isLt
  pointwise [MM, DOG]
  refine Finset.sum_congr rfl fun x _ => ?_
  have hx := x.isLt
  refine Ideal.mul_congr ?_ ?_
  · refine (congrFun (V_main_arg0 m c) _).trans (congrArg _ (idx2_ext _ _ ?_ ?_))
    all_goals blk_simp [idx t]
  · refine (congrFun (V_packed m c) _).trans (Cert.Rest.buffer_glu _ _ _ _ _ _ ?_ ?_ ?_ ?_)
    all_goals blk_simp [idx t]
    all_goals first | omega | (dsimp only; omega)

/-- The product holds real numbers when its two factors do. -/
theorem dog_real (c : Dev nD) (h0 : Cert.Gates.Finite (m ((c : Thread nD τ).loc main_arg0))) (h5 : Cert.Gates.Finite (m ((c : Thread nD τ).loc main_arg5))) (j : S4096x4096.Idx) :
    ∃ r : ℝ, DOG (m ((c : Thread nD τ).loc main_arg0)) (m ((c : Thread nD τ).loc main_arg5)) j = r := by
  pointwise [DOG]
  exact Cert.Gates.sum_mul_real _ _ (fun _ => h0 _) (fun _ => h5 _)

theorem pay_apply (v0 : Vec Ideal S1024x4096 .bf16) (v1 : Vec Ideal S1x512x4096 .bf16) (v4 v5 : Vec Ideal S1024x512 .f32) (y : S1024x512.Idx) :
    k0_pay1 (F := Ideal) v0 v1 v4 v5 y = (v4 y + MM v0 v1 y)
      * (Ideal.ofBits .f32 0x3F000000#32 * (Ideal.ofBits .f32 0x3F800000#32 + (Ideal.tanh (Ideal.ofBits .f32 0x3F4C422A#32 * (v5 y + Named.named (F := Ideal) (φ := .f32) Cert.GluDgradIdeal.κ "cubic" 0x3D372713#32 * v5 y * (v5 y * v5 y)))))
        + Ideal.ofBits .f32 0x3F000000#32 * v5 y * (Ideal.ofBits .f32 0x3F800000#32 - (Ideal.tanh (Ideal.ofBits .f32 0x3F4C422A#32 * (v5 y + Named.named (F := Ideal) (φ := .f32) Cert.GluDgradIdeal.κ "cubic" 0x3D372713#32 * v5 y * (v5 y * v5 y)))) * (Ideal.tanh (Ideal.ofBits .f32 0x3F4C422A#32 * (v5 y + Named.named (F := Ideal) (φ := .f32) Cert.GluDgradIdeal.κ "cubic" 0x3D372713#32 * v5 y * (v5 y * v5 y))))) * Ideal.ofBits .f32 0x3F4C422A#32
          * (Ideal.ofBits .f32 0x3F800000#32 + Named.named (F := Ideal) (φ := .f32) Cert.GluDgradIdeal.κ "three_cubic" 0x3E095D4F#32 * (v5 y * v5 y))) := rfl

theorem named_cubic : Named.named (F := Ideal) (φ := .f32) Cert.GluDgradIdeal.κ "cubic" 0x3D372713#32 = ((8943 / 200000 : ℝ) : EReal) :=
  IdealRules.named_const.ideal_named_scalar _ _ _ _ rfl

theorem named_three_cubic : Named.named (F := Ideal) (φ := .f32) Cert.GluDgradIdeal.κ "three_cubic" 0x3E095D4F#32 = ((26829 / 200000 : ℝ) : EReal) :=
  IdealRules.named_const.ideal_named_scalar _ _ _ _ rfl

/-- What a grid point stores is its block of the result. -/
theorem point (c : Dev nD) (h0 : Cert.Gates.Finite (m ((c : Thread nD τ).loc main_arg0))) (h1 : Cert.Gates.Finite (m ((c : Thread nD τ).loc main_arg1))) (hg : Cert.Gates.Finite (m ((c : Thread nD τ).loc main_arg5))) (t : Fin cfg0.N) (y : S1024x512.Idx) :
    k0_pay1 (F := Ideal) (iblk m c 0 t) (iblk m c 1 t) (iblk m c 2 t) (iblk m c 3 t) y = DY (m ((c : Thread nD τ).loc main_arg0)) (m ((c : Thread nD τ).loc main_arg1)) (m ((c : Thread nD τ).loc main_arg2)) (m ((c : Thread nD τ).loc main_arg5)) (((cfg0.win 4).blk t).view.emb y) := by
  have h1' : iblk m c 2 t y = (m ((c : Thread nD τ).loc main_arg1)) (((cfg0.win 4).blk t).view.emb y) := by
    refine (congrFun (V_main_arg1 m c) _).trans (congrArg _ (idx2_ext _ _ ?_ ?_))
    all_goals blk_simp [idx t]
  have h2 : iblk m c 3 t y = (m ((c : Thread nD τ).loc main_arg2)) (((cfg0.win 4).blk t).view.emb y) := by
    refine (congrFun (V_main_arg2 m c) _).trans (congrArg _ (idx2_ext _ _ ?_ ?_))
    all_goals blk_simp [idx t]
  obtain ⟨r, hr⟩ := dog_real m c h0 hg (((cfg0.win 4).blk t).view.emb y)
  have ht := h1 (((cfg0.win 4).blk t).view.emb y)
  rw [pay_apply, Cert.GluDgradPlainIdeal.DY_apply, point_dog, h1', h2, hr, ← EReal.coe_toReal ht.1 ht.2, ← EReal.coe_add,
    named_cubic, named_three_cubic, Cert.Gates.ofBits_half, Ideal.ofBits_one_f32, Cert.Gates.ofBits_rootc, Cert.Gates.ofBits_three, Cert.Gates.ofBits_cubic, Cert.Gates.ofBits_million]
  exact Cert.Gates.gelu_grad Cert.Gates.rootc_pos _ _

/-- The output array is the result. -/
theorem final (c : Dev nD) (h0 : Cert.Gates.Finite (m ((c : Thread nD τ).loc main_arg0))) (h1 : Cert.Gates.Finite (m ((c : Thread nD τ).loc main_arg1))) (hg : Cert.Gates.Finite (m ((c : Thread nD τ).loc main_arg5))) :
    (dats m 0 c).arrAt 4 (cfgs 0).N = out m c := by
  refine (dats m 0 c).arrAt_eq_of_covers 4 _ (by decide +kernel) fun t _ y => ?_
  blk_simp
  rw [after0_4]; frame_out
  exact point m c h0 h1 hg t y

end Cert.GluDgradIdeal.Value

namespace Cert.Proof.GluDgrad

open Idealize.ShloMosaic Idealize.ShloMosaic.TcCoe Idealize.SL.Sem

theorem frame_reference : Cert.quiescent_GluDgradPlainIdeal (hGluDgradPlainIdeal := Cert.GluDgradPlainIdeal.Gen.facts) := fun m ρ _ =>
  (θ_run Cert.GluDgradPlainIdeal.defs _ _).mono (fun r h => ⟨fun c => (h c).2, sem_eq_zero_of_no_sems (by decide) r.2⟩)
    (Cert.GluDgradPlainIdeal.Value.run (F := Ideal) m ρ)

theorem algebraic : Cert.algebraic_GluDgradIdeal_GluDgradPlainIdeal_pre_finite_glu (hGluDgradIdeal := Cert.GluDgradIdeal.Gen.facts)
    (hGluDgradPlainIdeal := Cert.GluDgradPlainIdeal.Gen.facts) (hPre_finite_glu := Cert.Gates.facts_glu) := by
  intro m g m' g' hpre hargs
  have hf := fun c => Cert.Gates.glu_args _ _ _ _ _ _ _ (hpre c)
  refine ⟨fun c => Cert.GluDgradIdeal.Value.out m c, ?_, ?_⟩
  · exact (θ_run Cert.GluDgradIdeal.defs _ _).mono (fun r h c => ⟨(h c).1.trans (Cert.GluDgradIdeal.Value.final m c (hf c).1 (hf c).2.1 (hf c).2.2), (h c).2⟩)
      (Cert.GluDgradIdeal.Value.run_blocks (F := Ideal) m g)
  · refine (θ_run Cert.GluDgradPlainIdeal.defs _ _).mono (fun r h c => ⟨(h c).1.trans ?_, (h c).2⟩)
      (Cert.GluDgradPlainIdeal.Value.run (F := Ideal) m' g')
    obtain ⟨a0, a1, a2, a3, a4, a5, a6⟩ := hargs c
    change Cert.GluDgradPlainIdeal.DY (m' ((c : Thread Cert.GluDgradPlainIdeal.nD Cert.GluDgradPlainIdeal.τ).loc Cert.GluDgradPlainIdeal.main_arg0)) _ _ _ = _
    rw [a0, a1, a2, a5]; rfl

end Cert.Proof.GluDgrad

end
-- ==== Proof.SsmInDgradU.lean ====
module

public import proofs.«01_k».proof.Defs
public import proofs.«01_k».proof.Proof.Gen.SsmInDgradU
public import proofs.«01_k».proof.Proof.Gen.SsmInDgradU.Frame
public import proofs.«01_k».proof.Proof.Gen.SsmInDgradUIdeal
public import proofs.«01_k».proof.Proof.Gen.SsmInDgradUIdeal.Value
public import proofs.«01_k».proof.Proof.Gen.SsmInDgradUPlainIdeal
public import proofs.«01_k».proof.Proof.Gen.SsmInDgradUPlainIdeal.Run
public import proofs.«01_k».proof.Proof.RestBuffer
public import Idealize.ShloMosaic.Lib.Pipeline.ValueKit
public import Idealize.ShloMosaic.Lib.Claim
public import Idealize.ShloMosaic.Lib.Pointwise
public import Idealize.ShloMosaic.Adequacy
public import Idealize.ShloMosaic.Init

/-! The gradient of the state-space branch's projection to its input, with respect to what is projected. -/

@[expose] public section

set_option maxRecDepth 16384

noncomputable section

namespace Cert.SsmInDgradUPlainIdeal

open Cert.SsmInDgradUPlainIdeal.Gen Idealize.ShloMosaic

/-- The reference's result as a function of its arguments. -/
def REF (a2 : FVec Ideal S4096x8192 .f32) (a5 : FVec Ideal S4096x4096 .bf16) : FVec Ideal S4096x4096 .f32 :=
  Host.dotGeneral dot_S4096x4096_S4096x4096_S4096x4096_1_1_0_0_n_n none (extf .f32 a5 bitsLt_bf16_f32) (extractStridedSlice S4096x4096 ![0, 0] a2 slices_S4096x8192_S4096x4096_0_0)

end Cert.SsmInDgradUPlainIdeal

namespace Cert.SsmInDgradUIdeal.Value

open Cert.SsmInDgradUIdeal Cert.SsmInDgradUIdeal.Gen Idealize.ShloMosaic Idealize.ShloMosaic.TcCoe Idealize.SL.Sem
open Idealize.ShloMosaic.Pipeline (Dat)
open Cert.SsmInDgradUPlainIdeal (REF)

variable (m : (ℓ : Loc nD τ sig) → Buf (Elt Ideal) ℓ)

/-- The blocks each grid point works on. -/
theorem idx : ∀ t : Fin cfg0.N, win0_0.index t = ![t.val / 4, 0] ∧ win0_1.index t = ![0, 1 + t.val % 4 % 2, t.val % 4 / 2] ∧ win0_2.index t = ![1, 1 + t.val % 4 % 2, t.val % 4 / 2] ∧ win0_3.index t = ![t.val / 4, t.val % 4] ∧ t.val / 4 < 4 :=
  (by decide +kernel : ∀ t : Fin grid0.N, _)

/-- The result, of the arguments as the memory holds them. -/
def result (c : Dev nD) : FVec Ideal S4096x4096 .f32 :=
  REF (m ((c : Thread nD τ).loc main_arg2)) (m ((c : Thread nD τ).loc main_arg5))

/-- The packed weights, as the kernel finds them. -/
theorem V_packed (c : Dev nD) : V m c main_v7 = Cert.Rest.buffer (m ((c : Thread nD τ).loc main_arg1)) (m ((c : Thread nD τ).loc main_arg2)) (m ((c : Thread nD τ).loc main_arg3)) (m ((c : Thread nD τ).loc main_arg4)) := by
  unfold V
  after_results_simp
  refine Cert.Rest.pack_congr ?_ ?_ ?_ ?_
  all_goals
    repeat first
      | rw [StableHlo.reshape_result] | rw [StableHlo.unary_result]
      | (rw [StableHlo.reshape_result_ne]; rotate_left; decide)
      | (rw [StableHlo.unary_result_ne]; rotate_left; decide)
  all_goals rfl

/-- What a grid point stores is its block of the result. -/
theorem point (c : Dev nD) (t : Fin cfg0.N) (y : S1024x1024.Idx) :
    k0_pay1 (F := Ideal) (View.ld (iblk m c 0 t) r0_0) (iblk m c 1 t) (View.ld (iblk m c 0 t) r0_2) (iblk m c 2 t) y = REF (m ((c : Thread nD τ).loc main_arg2)) (m ((c : Thread nD τ).loc main_arg5)) (((cfg0.win 3).blk t).view.emb y) := by
  have hy0 : (y 0 : ℕ) < 1024 := (y 0).isLt
  have hy1 : (y 1 : ℕ) < 1024 := (y 1).isLt
  pointwise [k0_pay1, REF]
  rw [Fin.sum_univ_two_halves 2048 2048 rfl]
  refine congrArg₂ (· + ·) (Finset.sum_congr rfl fun x _ => ?_) (Finset.sum_congr rfl fun x _ => ?_)
  · have hx := x.isLt
    refine Ideal.mul_congr ?_ ?_
    · blk_point [iblk, V, idx t]
    · refine (congrFun (V_packed m c) _).trans (Cert.Rest.buffer_ssm_in _ _ _ _ _ _ ?_ ?_ ?_ ?_)
      all_goals blk_simp [idx t]
      all_goals first | omega | (dsimp only; omega)
  · have hx := x.isLt
    refine Ideal.mul_congr ?_ ?_
    · blk_point [iblk, V, idx t]
    · refine (congrFun (V_packed m c) _).trans (Cert.Rest.buffer_ssm_in _ _ _ _ _ _ ?_ ?_ ?_ ?_)
      all_goals blk_simp [idx t]
      all_goals first | omega | (dsimp only; omega)

/-- The output array is the result. -/
theorem final (c : Dev nD) : (dats m 0 c).arrAt 3 (cfgs 0).N = result m c := by
  refine (dats m 0 c).arrAt_eq_of_covers 3 _ (by decide +kernel) fun t _ y => ?_
  blk_simp
  rw [after0_3]; frame_out
  exact point m c t y

end Cert.SsmInDgradUIdeal.Value

namespace Cert.Proof.SsmInDgradU

open Idealize.ShloMosaic Idealize.ShloMosaic.TcCoe Idealize.SL.Sem

theorem frame_reference : Cert.quiescent_SsmInDgradUPlainIdeal (hSsmInDgradUPlainIdeal := Cert.SsmInDgradUPlainIdeal.Gen.facts) := fun m ρ _ =>
  (θ_run Cert.SsmInDgradUPlainIdeal.defs _ _).mono (fun r h => ⟨fun c => (h c).2, sem_eq_zero_of_no_sems (by decide) r.2⟩)
    (Cert.SsmInDgradUPlainIdeal.Value.run (F := Ideal) m ρ)

theorem algebraic : Cert.algebraic_SsmInDgradUIdeal_SsmInDgradUPlainIdeal (hSsmInDgradUIdeal := Cert.SsmInDgradUIdeal.Gen.facts)
    (hSsmInDgradUPlainIdeal := Cert.SsmInDgradUPlainIdeal.Gen.facts) := by
  intro m g m' g' _ hargs
  refine ⟨fun c => Cert.SsmInDgradUIdeal.Value.result m c, ?_, ?_⟩
  · exact (θ_run Cert.SsmInDgradUIdeal.defs _ _).mono (fun r h c => ⟨(h c).1.trans (Cert.SsmInDgradUIdeal.Value.final m c), (h c).2⟩)
      (Cert.SsmInDgradUIdeal.Value.run_blocks (F := Ideal) m g)
  · refine (θ_run Cert.SsmInDgradUPlainIdeal.defs _ _).mono (fun r h c => ⟨(h c).1.trans ?_, (h c).2⟩) (Cert.SsmInDgradUPlainIdeal.Value.run (F := Ideal) m' g')
    obtain ⟨a0, a1, a2, a3, a4, a5⟩ := hargs c
    rw [a2, a5]; rfl

end Cert.Proof.SsmInDgradU

end
-- ==== Proof.SsmInDgradGate.lean ====
module

public import proofs.«01_k».proof.Defs
public import proofs.«01_k».proof.Proof.Gen.SsmInDgradGate
public import proofs.«01_k».proof.Proof.Gen.SsmInDgradGate.Frame
public import proofs.«01_k».proof.Proof.Gen.SsmInDgradGateIdeal
public import proofs.«01_k».proof.Proof.Gen.SsmInDgradGateIdeal.Value
public import proofs.«01_k».proof.Proof.Gen.SsmInDgradGatePlainIdeal
public import proofs.«01_k».proof.Proof.Gen.SsmInDgradGatePlainIdeal.Run
public import proofs.«01_k».proof.Proof.RestBuffer
public import Idealize.ShloMosaic.Lib.Pipeline.ValueKit
public import Idealize.ShloMosaic.Lib.Claim
public import Idealize.ShloMosaic.Lib.Pointwise
public import Idealize.ShloMosaic.Adequacy
public import Idealize.ShloMosaic.Init

/-! The gradient of the state-space branch's projection to its gate, with respect to what is projected. -/

@[expose] public section

set_option maxRecDepth 16384

noncomputable section

namespace Cert.SsmInDgradGatePlainIdeal

open Cert.SsmInDgradGatePlainIdeal.Gen Idealize.ShloMosaic

/-- The reference's result as a function of its arguments. -/
def REF (a2 : FVec Ideal S4096x8192 .f32) (a5 : FVec Ideal S4096x4096 .bf16) (a6 : FVec Ideal S4096x4096 .f32) : FVec Ideal S4096x4096 .f32 :=
  addf a6 (Host.dotGeneral dot_S4096x4096_S4096x4096_S4096x4096_1_1_0_0_n_n none (extf .f32 a5 bitsLt_bf16_f32) (extractStridedSlice S4096x4096 ![0, 4096] a2 slices_S4096x8192_S4096x4096_0_4096))

end Cert.SsmInDgradGatePlainIdeal

namespace Cert.SsmInDgradGateIdeal.Value

open Cert.SsmInDgradGateIdeal Cert.SsmInDgradGateIdeal.Gen Idealize.ShloMosaic Idealize.ShloMosaic.TcCoe Idealize.SL.Sem
open Idealize.ShloMosaic.Pipeline (Dat)
open Cert.SsmInDgradGatePlainIdeal (REF)

variable (m : (ℓ : Loc nD τ sig) → Buf (Elt Ideal) ℓ)

/-- The blocks each grid point works on. -/
theorem idx : ∀ t : Fin cfg0.N, win0_0.index t = ![t.val / 4, 0] ∧ win0_1.index t = ![2, 1 + t.val % 4 % 2, t.val % 4 / 2] ∧ win0_2.index t = ![3, 1 + t.val % 4 % 2, t.val % 4 / 2] ∧ win0_3.index t = ![t.val / 4, t.val % 4] ∧ win0_4.index t = ![t.val / 4, t.val % 4] ∧ t.val / 4 < 4 :=
  (by decide +kernel : ∀ t : Fin grid0.N, _)

/-- The result, of the arguments as the memory holds them. -/
def result (c : Dev nD) : FVec Ideal S4096x4096 .f32 :=
  REF (m ((c : Thread nD τ).loc main_arg2)) (m ((c : Thread nD τ).loc main_arg5)) (m ((c : Thread nD τ).loc main_arg6))

/-- The packed weights, as the kernel finds them. -/
theorem V_packed (c : Dev nD) : V m c main_v7 = Cert.Rest.buffer (m ((c : Thread nD τ).loc main_arg1)) (m ((c : Thread nD τ).loc main_arg2)) (m ((c : Thread nD τ).loc main_arg3)) (m ((c : Thread nD τ).loc main_arg4)) := by
  unfold V
  after_results_simp
  refine Cert.Rest.pack_congr ?_ ?_ ?_ ?_
  all_goals
    repeat first
      | rw [StableHlo.reshape_result] | rw [StableHlo.unary_result]
      | (rw [StableHlo.reshape_result_ne]; rotate_left; decide)
      | (rw [StableHlo.unary_result_ne]; rotate_left; decide)
  all_goals rfl

/-- What a grid point stores is its block of the result. -/
theorem point (c : Dev nD) (t : Fin cfg0.N) (y : S1024x1024.Idx) :
    k0_pay1 (F := Ideal) (View.ld (iblk m c 0 t) r0_0) (iblk m c 1 t) (View.ld (iblk m c 0 t) r0_2) (iblk m c 2 t) (iblk m c 3 t) y = REF (m ((c : Thread nD τ).loc main_arg2)) (m ((c : Thread nD τ).loc main_arg5)) (m ((c : Thread nD τ).loc main_arg6)) (((cfg0.win 4).blk t).view.emb y) := by
  have hy0 : (y 0 : ℕ) < 1024 := (y 0).isLt
  have hy1 : (y 1 : ℕ) < 1024 := (y 1).isLt
  pointwise [k0_pay1, REF]
  rw [Fin.sum_univ_two_halves 2048 2048 rfl]
  refine (add_comm (G := EReal) _ _).trans (congrArg₂ (· + ·) ?_ (congrArg₂ (· + ·) (Finset.sum_congr rfl fun x _ => ?_) (Finset.sum_congr rfl fun x _ => ?_)))
  · blk_point [iblk, V, idx t]
  · have hx := x.isLt
    refine Ideal.mul_congr ?_ ?_
    · blk_point [iblk, V, idx t]
    · refine (congrFun (V_packed m c) _).trans (Cert.Rest.buffer_ssm_in _ _ _ _ _ _ ?_ ?_ ?_ ?_)
      all_goals blk_simp [idx t]
      all_goals first | omega | (dsimp only; omega)
  · have hx := x.isLt
    refine Ideal.mul_congr ?_ ?_
    · blk_point [iblk, V, idx t]
    · refine (congrFun (V_packed m c) _).trans (Cert.Rest.buffer_ssm_in _ _ _ _ _ _ ?_ ?_ ?_ ?_)
      all_goals blk_simp [idx t]
      all_goals first | omega | (dsimp only; omega)

/-- The output array is the result. -/
theorem final (c : Dev nD) : (dats m 0 c).arrAt 4 (cfgs 0).N = result m c := by
  refine (dats m 0 c).arrAt_eq_of_covers 4 _ (by decide +kernel) fun t _ y => ?_
  blk_simp
  rw [after0_4]; frame_out
  exact point m c t y

end Cert.SsmInDgradGateIdeal.Value

namespace Cert.Proof.SsmInDgradGate

open Idealize.ShloMosaic Idealize.ShloMosaic.TcCoe Idealize.SL.Sem

theorem frame_reference : Cert.quiescent_SsmInDgradGatePlainIdeal (hSsmInDgradGatePlainIdeal := Cert.SsmInDgradGatePlainIdeal.Gen.facts) := fun m ρ _ =>
  (θ_run Cert.SsmInDgradGatePlainIdeal.defs _ _).mono (fun r h => ⟨fun c => (h c).2, sem_eq_zero_of_no_sems (by decide) r.2⟩)
    (Cert.SsmInDgradGatePlainIdeal.Value.run (F := Ideal) m ρ)

theorem algebraic : Cert.algebraic_SsmInDgradGateIdeal_SsmInDgradGatePlainIdeal (hSsmInDgradGateIdeal := Cert.SsmInDgradGateIdeal.Gen.facts)
    (hSsmInDgradGatePlainIdeal := Cert.SsmInDgradGatePlainIdeal.Gen.facts) := by
  intro m g m' g' _ hargs
  refine ⟨fun c => Cert.SsmInDgradGateIdeal.Value.result m c, ?_, ?_⟩
  · exact (θ_run Cert.SsmInDgradGateIdeal.defs _ _).mono (fun r h c => ⟨(h c).1.trans (Cert.SsmInDgradGateIdeal.Value.final m c), (h c).2⟩)
      (Cert.SsmInDgradGateIdeal.Value.run_blocks (F := Ideal) m g)
  · refine (θ_run Cert.SsmInDgradGatePlainIdeal.defs _ _).mono (fun r h c => ⟨(h c).1.trans ?_, (h c).2⟩) (Cert.SsmInDgradGatePlainIdeal.Value.run (F := Ideal) m' g')
    obtain ⟨a0, a1, a2, a3, a4, a5, a6⟩ := hargs c
    rw [a2, a5, a6]; rfl

end Cert.Proof.SsmInDgradGate

end
-- ==== Proof.AttnInDgrad0.lean ====
module

public import proofs.«01_k».proof.Defs
public import proofs.«01_k».proof.Proof.Gen.AttnInDgrad0
public import proofs.«01_k».proof.Proof.Gen.AttnInDgrad0.Frame
public import proofs.«01_k».proof.Proof.Gen.AttnInDgrad0Ideal
public import proofs.«01_k».proof.Proof.Gen.AttnInDgrad0Ideal.Value
public import proofs.«01_k».proof.Proof.Gen.AttnInDgrad0PlainIdeal
public import proofs.«01_k».proof.Proof.Gen.AttnInDgrad0PlainIdeal.Run
public import Idealize.ShloMosaic.Lib.Pipeline.ValueKit
public import Idealize.ShloMosaic.Lib.Claim
public import Idealize.ShloMosaic.Lib.Pointwise
public import Idealize.ShloMosaic.Adequacy
public import Idealize.ShloMosaic.Init

/-! The gradient of the attention's projection to its queries, with respect to what is projected. -/

@[expose] public section

set_option maxRecDepth 16384

noncomputable section

namespace Cert.AttnInDgrad0PlainIdeal

open Cert.AttnInDgrad0PlainIdeal.Gen Idealize.ShloMosaic

/-- The reference's result as a function of its arguments. -/
def REF (a1 : FVec Ideal S4096x16384 .f32) (a2 : FVec Ideal S4096x4096 .bf16) : FVec Ideal S4096x4096 .f32 :=
  Host.dotGeneral dot_S4096x4096_S4096x4096_S4096x4096_1_1_0_0_n_n none (extf .f32 a2 bitsLt_bf16_f32) (extractStridedSlice S4096x4096 ![0, 0] a1 slices_S4096x16384_S4096x4096_0_0)

end Cert.AttnInDgrad0PlainIdeal

namespace Cert.AttnInDgrad0Ideal.Value

open Cert.AttnInDgrad0Ideal Cert.AttnInDgrad0Ideal.Gen Idealize.ShloMosaic Idealize.ShloMosaic.TcCoe Idealize.SL.Sem
open Idealize.ShloMosaic.Pipeline (Dat)
open Cert.AttnInDgrad0PlainIdeal (REF)

variable (m : (ℓ : Loc nD τ sig) → Buf (Elt Ideal) ℓ)

/-- The blocks each grid point works on. -/
theorem idx : ∀ t : Fin cfg0.N, win0_0.index t = ![t.val / 4, 0] ∧ win0_1.index t = ![0, t.val % 4, 0] ∧ win0_2.index t = ![t.val / 4, t.val % 4] ∧ t.val / 4 < 4 :=
  (by decide +kernel : ∀ t : Fin grid0.N, _)

/-- The result, of the arguments as the memory holds them. -/
def result (c : Dev nD) : FVec Ideal S4096x4096 .f32 :=
  REF (m ((c : Thread nD τ).loc main_arg1)) (m ((c : Thread nD τ).loc main_arg2))

/-- What a grid point stores is its block of the result. -/
theorem point (c : Dev nD) (t : Fin cfg0.N) (y : S1024x1024.Idx) :
    k0_pay1 (F := Ideal) (iblk m c 0 t) (iblk m c 1 t) y = REF (m ((c : Thread nD τ).loc main_arg1)) (m ((c : Thread nD τ).loc main_arg2)) (((cfg0.win 2).blk t).view.emb y) := by
  pointwise [k0_pay1, REF]
  blk_point [iblk, V, idx t]

/-- The output array is the result. -/
theorem final (c : Dev nD) : (dats m 0 c).arrAt 2 (cfgs 0).N = result m c := by
  refine (dats m 0 c).arrAt_eq_of_covers 2 _ (by decide +kernel) fun t _ y => ?_
  blk_simp
  rw [after0_2]; frame_out
  exact point m c t y

end Cert.AttnInDgrad0Ideal.Value

namespace Cert.Proof.AttnInDgrad0

open Idealize.ShloMosaic Idealize.ShloMosaic.TcCoe Idealize.SL.Sem

theorem frame_reference : Cert.quiescent_AttnInDgrad0PlainIdeal (hAttnInDgrad0PlainIdeal := Cert.AttnInDgrad0PlainIdeal.Gen.facts) := fun m ρ _ =>
  (θ_run Cert.AttnInDgrad0PlainIdeal.defs _ _).mono (fun r h => ⟨fun c => (h c).2, sem_eq_zero_of_no_sems (by decide) r.2⟩)
    (Cert.AttnInDgrad0PlainIdeal.Value.run (F := Ideal) m ρ)

theorem algebraic : Cert.algebraic_AttnInDgrad0Ideal_AttnInDgrad0PlainIdeal (hAttnInDgrad0Ideal := Cert.AttnInDgrad0Ideal.Gen.facts)
    (hAttnInDgrad0PlainIdeal := Cert.AttnInDgrad0PlainIdeal.Gen.facts) := by
  intro m g m' g' _ hargs
  refine ⟨fun c => Cert.AttnInDgrad0Ideal.Value.result m c, ?_, ?_⟩
  · exact (θ_run Cert.AttnInDgrad0Ideal.defs _ _).mono (fun r h c => ⟨(h c).1.trans (Cert.AttnInDgrad0Ideal.Value.final m c), (h c).2⟩)
      (Cert.AttnInDgrad0Ideal.Value.run_blocks (F := Ideal) m g)
  · refine (θ_run Cert.AttnInDgrad0PlainIdeal.defs _ _).mono (fun r h c => ⟨(h c).1.trans ?_, (h c).2⟩) (Cert.AttnInDgrad0PlainIdeal.Value.run (F := Ideal) m' g')
    obtain ⟨a0, a1, a2⟩ := hargs c
    rw [a1, a2]; rfl

end Cert.Proof.AttnInDgrad0

end
-- ==== Proof.AttnInDgrad1.lean ====
module

public import proofs.«01_k».proof.Defs
public import proofs.«01_k».proof.Proof.Gen.AttnInDgrad1
public import proofs.«01_k».proof.Proof.Gen.AttnInDgrad1.Frame
public import proofs.«01_k».proof.Proof.Gen.AttnInDgrad1Ideal
public import proofs.«01_k».proof.Proof.Gen.AttnInDgrad1Ideal.Value
public import proofs.«01_k».proof.Proof.Gen.AttnInDgrad1PlainIdeal
public import proofs.«01_k».proof.Proof.Gen.AttnInDgrad1PlainIdeal.Run
public import Idealize.ShloMosaic.Lib.Pipeline.ValueKit
public import Idealize.ShloMosaic.Lib.Claim
public import Idealize.ShloMosaic.Lib.Pointwise
public import Idealize.ShloMosaic.Adequacy
public import Idealize.ShloMosaic.Init

/-! The gradient of the attention's projection to its keys, with respect to what is projected. -/

@[expose] public section

set_option maxRecDepth 16384

noncomputable section

namespace Cert.AttnInDgrad1PlainIdeal

open Cert.AttnInDgrad1PlainIdeal.Gen Idealize.ShloMosaic

/-- The reference's result as a function of its arguments. -/
def REF (a1 : FVec Ideal S4096x16384 .f32) (a2 : FVec Ideal S4096x4096 .bf16) (a3 : FVec Ideal S4096x4096 .f32) : FVec Ideal S4096x4096 .f32 :=
  addf a3 (Host.dotGeneral dot_S4096x4096_S4096x4096_S4096x4096_1_1_0_0_n_n none (extf .f32 a2 bitsLt_bf16_f32) (extractStridedSlice S4096x4096 ![0, 4096] a1 slices_S4096x16384_S4096x4096_0_4096))

end Cert.AttnInDgrad1PlainIdeal

namespace Cert.AttnInDgrad1Ideal.Value

open Cert.AttnInDgrad1Ideal Cert.AttnInDgrad1Ideal.Gen Idealize.ShloMosaic Idealize.ShloMosaic.TcCoe Idealize.SL.Sem
open Idealize.ShloMosaic.Pipeline (Dat)
open Cert.AttnInDgrad1PlainIdeal (REF)

variable (m : (ℓ : Loc nD τ sig) → Buf (Elt Ideal) ℓ)

/-- The blocks each grid point works on. -/
theorem idx : ∀ t : Fin cfg0.N, win0_0.index t = ![t.val / 4, 0] ∧ win0_1.index t = ![1, t.val % 4, 0] ∧ win0_2.index t = ![t.val / 4, t.val % 4] ∧ win0_3.index t = ![t.val / 4, t.val % 4] ∧ t.val / 4 < 4 :=
  (by decide +kernel : ∀ t : Fin grid0.N, _)

/-- The result, of the arguments as the memory holds them. -/
def result (c : Dev nD) : FVec Ideal S4096x4096 .f32 :=
  REF (m ((c : Thread nD τ).loc main_arg1)) (m ((c : Thread nD τ).loc main_arg2)) (m ((c : Thread nD τ).loc main_arg3))

/-- What a grid point stores is its block of the result. -/
theorem point (c : Dev nD) (t : Fin cfg0.N) (y : S1024x1024.Idx) :
    k0_pay1 (F := Ideal) (iblk m c 0 t) (iblk m c 1 t) (iblk m c 2 t) y = REF (m ((c : Thread nD τ).loc main_arg1)) (m ((c : Thread nD τ).loc main_arg2)) (m ((c : Thread nD τ).loc main_arg3)) (((cfg0.win 3).blk t).view.emb y) := by
  pointwise [k0_pay1, REF]
  blk_point [iblk, V, idx t]

/-- The output array is the result. -/
theorem final (c : Dev nD) : (dats m 0 c).arrAt 3 (cfgs 0).N = result m c := by
  refine (dats m 0 c).arrAt_eq_of_covers 3 _ (by decide +kernel) fun t _ y => ?_
  blk_simp
  rw [after0_3]; frame_out
  exact point m c t y

end Cert.AttnInDgrad1Ideal.Value

namespace Cert.Proof.AttnInDgrad1

open Idealize.ShloMosaic Idealize.ShloMosaic.TcCoe Idealize.SL.Sem

theorem frame_reference : Cert.quiescent_AttnInDgrad1PlainIdeal (hAttnInDgrad1PlainIdeal := Cert.AttnInDgrad1PlainIdeal.Gen.facts) := fun m ρ _ =>
  (θ_run Cert.AttnInDgrad1PlainIdeal.defs _ _).mono (fun r h => ⟨fun c => (h c).2, sem_eq_zero_of_no_sems (by decide) r.2⟩)
    (Cert.AttnInDgrad1PlainIdeal.Value.run (F := Ideal) m ρ)

theorem algebraic : Cert.algebraic_AttnInDgrad1Ideal_AttnInDgrad1PlainIdeal (hAttnInDgrad1Ideal := Cert.AttnInDgrad1Ideal.Gen.facts)
    (hAttnInDgrad1PlainIdeal := Cert.AttnInDgrad1PlainIdeal.Gen.facts) := by
  intro m g m' g' _ hargs
  refine ⟨fun c => Cert.AttnInDgrad1Ideal.Value.result m c, ?_, ?_⟩
  · exact (θ_run Cert.AttnInDgrad1Ideal.defs _ _).mono (fun r h c => ⟨(h c).1.trans (Cert.AttnInDgrad1Ideal.Value.final m c), (h c).2⟩)
      (Cert.AttnInDgrad1Ideal.Value.run_blocks (F := Ideal) m g)
  · refine (θ_run Cert.AttnInDgrad1PlainIdeal.defs _ _).mono (fun r h c => ⟨(h c).1.trans ?_, (h c).2⟩) (Cert.AttnInDgrad1PlainIdeal.Value.run (F := Ideal) m' g')
    obtain ⟨a0, a1, a2, a3⟩ := hargs c
    rw [a1, a2, a3]; rfl

end Cert.Proof.AttnInDgrad1

end
-- ==== Proof.AttnInDgrad2.lean ====
module

public import proofs.«01_k».proof.Defs
public import proofs.«01_k».proof.Proof.Gen.AttnInDgrad2
public import proofs.«01_k».proof.Proof.Gen.AttnInDgrad2.Frame
public import proofs.«01_k».proof.Proof.Gen.AttnInDgrad2Ideal
public import proofs.«01_k».proof.Proof.Gen.AttnInDgrad2Ideal.Value
public import proofs.«01_k».proof.Proof.Gen.AttnInDgrad2PlainIdeal
public import proofs.«01_k».proof.Proof.Gen.AttnInDgrad2PlainIdeal.Run
public import Idealize.ShloMosaic.Lib.Pipeline.ValueKit
public import Idealize.ShloMosaic.Lib.Claim
public import Idealize.ShloMosaic.Lib.Pointwise
public import Idealize.ShloMosaic.Adequacy
public import Idealize.ShloMosaic.Init

/-! The gradient of the attention's projection to its values, with respect to what is projected. -/

@[expose] public section

set_option maxRecDepth 16384

noncomputable section

namespace Cert.AttnInDgrad2PlainIdeal

open Cert.AttnInDgrad2PlainIdeal.Gen Idealize.ShloMosaic

/-- The reference's result as a function of its arguments. -/
def REF (a1 : FVec Ideal S4096x16384 .f32) (a2 : FVec Ideal S4096x4096 .bf16) (a3 : FVec Ideal S4096x4096 .f32) : FVec Ideal S4096x4096 .f32 :=
  addf a3 (Host.dotGeneral dot_S4096x4096_S4096x4096_S4096x4096_1_1_0_0_n_n none (extf .f32 a2 bitsLt_bf16_f32) (extractStridedSlice S4096x4096 ![0, 8192] a1 slices_S4096x16384_S4096x4096_0_8192))

end Cert.AttnInDgrad2PlainIdeal

namespace Cert.AttnInDgrad2Ideal.Value

open Cert.AttnInDgrad2Ideal Cert.AttnInDgrad2Ideal.Gen Idealize.ShloMosaic Idealize.ShloMosaic.TcCoe Idealize.SL.Sem
open Idealize.ShloMosaic.Pipeline (Dat)
open Cert.AttnInDgrad2PlainIdeal (REF)

variable (m : (ℓ : Loc nD τ sig) → Buf (Elt Ideal) ℓ)

/-- The blocks each grid point works on. -/
theorem idx : ∀ t : Fin cfg0.N, win0_0.index t = ![t.val / 4, 0] ∧ win0_1.index t = ![2, t.val % 4, 0] ∧ win0_2.index t = ![t.val / 4, t.val % 4] ∧ win0_3.index t = ![t.val / 4, t.val % 4] ∧ t.val / 4 < 4 :=
  (by decide +kernel : ∀ t : Fin grid0.N, _)

/-- The result, of the arguments as the memory holds them. -/
def result (c : Dev nD) : FVec Ideal S4096x4096 .f32 :=
  REF (m ((c : Thread nD τ).loc main_arg1)) (m ((c : Thread nD τ).loc main_arg2)) (m ((c : Thread nD τ).loc main_arg3))

/-- What a grid point stores is its block of the result. -/
theorem point (c : Dev nD) (t : Fin cfg0.N) (y : S1024x1024.Idx) :
    k0_pay1 (F := Ideal) (iblk m c 0 t) (iblk m c 1 t) (iblk m c 2 t) y = REF (m ((c : Thread nD τ).loc main_arg1)) (m ((c : Thread nD τ).loc main_arg2)) (m ((c : Thread nD τ).loc main_arg3)) (((cfg0.win 3).blk t).view.emb y) := by
  pointwise [k0_pay1, REF]
  blk_point [iblk, V, idx t]

/-- The output array is the result. -/
theorem final (c : Dev nD) : (dats m 0 c).arrAt 3 (cfgs 0).N = result m c := by
  refine (dats m 0 c).arrAt_eq_of_covers 3 _ (by decide +kernel) fun t _ y => ?_
  blk_simp
  rw [after0_3]; frame_out
  exact point m c t y

end Cert.AttnInDgrad2Ideal.Value

namespace Cert.Proof.AttnInDgrad2

open Idealize.ShloMosaic Idealize.ShloMosaic.TcCoe Idealize.SL.Sem

theorem frame_reference : Cert.quiescent_AttnInDgrad2PlainIdeal (hAttnInDgrad2PlainIdeal := Cert.AttnInDgrad2PlainIdeal.Gen.facts) := fun m ρ _ =>
  (θ_run Cert.AttnInDgrad2PlainIdeal.defs _ _).mono (fun r h => ⟨fun c => (h c).2, sem_eq_zero_of_no_sems (by decide) r.2⟩)
    (Cert.AttnInDgrad2PlainIdeal.Value.run (F := Ideal) m ρ)

theorem algebraic : Cert.algebraic_AttnInDgrad2Ideal_AttnInDgrad2PlainIdeal (hAttnInDgrad2Ideal := Cert.AttnInDgrad2Ideal.Gen.facts)
    (hAttnInDgrad2PlainIdeal := Cert.AttnInDgrad2PlainIdeal.Gen.facts) := by
  intro m g m' g' _ hargs
  refine ⟨fun c => Cert.AttnInDgrad2Ideal.Value.result m c, ?_, ?_⟩
  · exact (θ_run Cert.AttnInDgrad2Ideal.defs _ _).mono (fun r h c => ⟨(h c).1.trans (Cert.AttnInDgrad2Ideal.Value.final m c), (h c).2⟩)
      (Cert.AttnInDgrad2Ideal.Value.run_blocks (F := Ideal) m g)
  · refine (θ_run Cert.AttnInDgrad2PlainIdeal.defs _ _).mono (fun r h c => ⟨(h c).1.trans ?_, (h c).2⟩) (Cert.AttnInDgrad2PlainIdeal.Value.run (F := Ideal) m' g')
    obtain ⟨a0, a1, a2, a3⟩ := hargs c
    rw [a1, a2, a3]; rfl

end Cert.Proof.AttnInDgrad2

end
-- ==== Proof.AttnInDgrad3.lean ====
module

public import proofs.«01_k».proof.Defs
public import proofs.«01_k».proof.Proof.Gen.AttnInDgrad3
public import proofs.«01_k».proof.Proof.Gen.AttnInDgrad3.Frame
public import proofs.«01_k».proof.Proof.Gen.AttnInDgrad3Ideal
public import proofs.«01_k».proof.Proof.Gen.AttnInDgrad3Ideal.Value
public import proofs.«01_k».proof.Proof.Gen.AttnInDgrad3PlainIdeal
public import proofs.«01_k».proof.Proof.Gen.AttnInDgrad3PlainIdeal.Run
public import Idealize.ShloMosaic.Lib.Pipeline.ValueKit
public import Idealize.ShloMosaic.Lib.Claim
public import Idealize.ShloMosaic.Lib.Pointwise
public import Idealize.ShloMosaic.Adequacy
public import Idealize.ShloMosaic.Init

/-! The gradient of the attention's projection to its gate, with respect to what is projected. -/

@[expose] public section

set_option maxRecDepth 16384

noncomputable section

namespace Cert.AttnInDgrad3PlainIdeal

open Cert.AttnInDgrad3PlainIdeal.Gen Idealize.ShloMosaic

/-- The reference's result as a function of its arguments. -/
def REF (a1 : FVec Ideal S4096x16384 .f32) (a2 : FVec Ideal S4096x4096 .bf16) (a3 : FVec Ideal S4096x4096 .f32) : FVec Ideal S4096x4096 .f32 :=
  addf a3 (Host.dotGeneral dot_S4096x4096_S4096x4096_S4096x4096_1_1_0_0_n_n none (extf .f32 a2 bitsLt_bf16_f32) (extractStridedSlice S4096x4096 ![0, 12288] a1 slices_S4096x16384_S4096x4096_0_12288))

end Cert.AttnInDgrad3PlainIdeal

namespace Cert.AttnInDgrad3Ideal.Value

open Cert.AttnInDgrad3Ideal Cert.AttnInDgrad3Ideal.Gen Idealize.ShloMosaic Idealize.ShloMosaic.TcCoe Idealize.SL.Sem
open Idealize.ShloMosaic.Pipeline (Dat)
open Cert.AttnInDgrad3PlainIdeal (REF)

variable (m : (ℓ : Loc nD τ sig) → Buf (Elt Ideal) ℓ)

/-- The blocks each grid point works on. -/
theorem idx : ∀ t : Fin cfg0.N, win0_0.index t = ![t.val / 4, 0] ∧ win0_1.index t = ![3, t.val % 4, 0] ∧ win0_2.index t = ![t.val / 4, t.val % 4] ∧ win0_3.index t = ![t.val / 4, t.val % 4] ∧ t.val / 4 < 4 :=
  (by decide +kernel : ∀ t : Fin grid0.N, _)

/-- The result, of the arguments as the memory holds them. -/
def result (c : Dev nD) : FVec Ideal S4096x4096 .f32 :=
  REF (m ((c : Thread nD τ).loc main_arg1)) (m ((c : Thread nD τ).loc main_arg2)) (m ((c : Thread nD τ).loc main_arg3))

/-- What a grid point stores is its block of the result. -/
theorem point (c : Dev nD) (t : Fin cfg0.N) (y : S1024x1024.Idx) :
    k0_pay1 (F := Ideal) (iblk m c 0 t) (iblk m c 1 t) (iblk m c 2 t) y = REF (m ((c : Thread nD τ).loc main_arg1)) (m ((c : Thread nD τ).loc main_arg2)) (m ((c : Thread nD τ).loc main_arg3)) (((cfg0.win 3).blk t).view.emb y) := by
  pointwise [k0_pay1, REF]
  blk_point [iblk, V, idx t]

/-- The output array is the result. -/
theorem final (c : Dev nD) : (dats m 0 c).arrAt 3 (cfgs 0).N = result m c := by
  refine (dats m 0 c).arrAt_eq_of_covers 3 _ (by decide +kernel) fun t _ y => ?_
  blk_simp
  rw [after0_3]; frame_out
  exact point m c t y

end Cert.AttnInDgrad3Ideal.Value

namespace Cert.Proof.AttnInDgrad3

open Idealize.ShloMosaic Idealize.ShloMosaic.TcCoe Idealize.SL.Sem

theorem frame_reference : Cert.quiescent_AttnInDgrad3PlainIdeal (hAttnInDgrad3PlainIdeal := Cert.AttnInDgrad3PlainIdeal.Gen.facts) := fun m ρ _ =>
  (θ_run Cert.AttnInDgrad3PlainIdeal.defs _ _).mono (fun r h => ⟨fun c => (h c).2, sem_eq_zero_of_no_sems (by decide) r.2⟩)
    (Cert.AttnInDgrad3PlainIdeal.Value.run (F := Ideal) m ρ)

theorem algebraic : Cert.algebraic_AttnInDgrad3Ideal_AttnInDgrad3PlainIdeal (hAttnInDgrad3Ideal := Cert.AttnInDgrad3Ideal.Gen.facts)
    (hAttnInDgrad3PlainIdeal := Cert.AttnInDgrad3PlainIdeal.Gen.facts) := by
  intro m g m' g' _ hargs
  refine ⟨fun c => Cert.AttnInDgrad3Ideal.Value.result m c, ?_, ?_⟩
  · exact (θ_run Cert.AttnInDgrad3Ideal.defs _ _).mono (fun r h c => ⟨(h c).1.trans (Cert.AttnInDgrad3Ideal.Value.final m c), (h c).2⟩)
      (Cert.AttnInDgrad3Ideal.Value.run_blocks (F := Ideal) m g)
  · refine (θ_run Cert.AttnInDgrad3PlainIdeal.defs _ _).mono (fun r h c => ⟨(h c).1.trans ?_, (h c).2⟩) (Cert.AttnInDgrad3PlainIdeal.Value.run (F := Ideal) m' g')
    obtain ⟨a0, a1, a2, a3⟩ := hargs c
    rw [a1, a2, a3]; rfl

end Cert.Proof.AttnInDgrad3

end
-- ==== Proof.SsmOutWgrad.lean ====
module

public import proofs.«01_k».proof.Defs
public import proofs.«01_k».proof.Proof.Gen.SsmOutWgrad
public import proofs.«01_k».proof.Proof.Gen.SsmOutWgrad.Frame
public import proofs.«01_k».proof.Proof.Gen.SsmOutWgradIdeal
public import proofs.«01_k».proof.Proof.Gen.SsmOutWgradIdeal.Value
public import proofs.«01_k».proof.Proof.Gen.SsmOutWgradPlainIdeal
public import proofs.«01_k».proof.Proof.Gen.SsmOutWgradPlainIdeal.Run
public import Idealize.ShloMosaic.Lib.Pipeline.ValueKit
public import Idealize.ShloMosaic.Lib.Claim
public import Idealize.ShloMosaic.Lib.Pointwise
public import Idealize.ShloMosaic.Adequacy
public import Idealize.ShloMosaic.Init

/-! The gradient of the state-space branch's output weights, written into the gradients' buffer. -/

@[expose] public section

set_option maxRecDepth 16384

noncomputable section

namespace Cert.SsmOutWgradPlainIdeal

open Cert.SsmOutWgradPlainIdeal.Gen Idealize.ShloMosaic

/-- The block the reference writes. -/
def upd (a0 : FVec Ideal S4096x4096 .bf16) (a2 : FVec Ideal S4096x4096 .bf16) : FVec Ideal S4x1024x4096 .f32 :=
  shapeCast _ (transpose S4096x4096 [1, 0] (Host.dotGeneral dot_S4096x4096_S4096x4096_S4096x4096_0_0_1_1_n_n none (extf .f32 a2 bitsLt_bf16_f32) (extf .f32 a0 bitsLt_bf16_f32)) transposes_S4096x4096_S4096x4096_1_0) shapeCasts_S4096x4096_S4x1024x4096

/-- The reference's result as a function of its arguments. -/
def REF (a0 : FVec Ideal S4096x4096 .bf16) (a2 : FVec Ideal S4096x4096 .bf16) (a3 : FVec Ideal S4x5120x4096 .f32) : FVec Ideal S4x5120x4096 .f32 :=
  Host.dynamicUpdateSlice a3 (upd a0 a2) (fun k => (((![constantI S_ 32 0#32, constantI S_ 32 4096#32, constantI S_ 32 0#32] : Fin 3 → (⟨S_, .i32⟩ : BufTy).Contents (Elt Ideal))) k (Shape.Idx.first h_S_)).toInt) updateFits_S4x5120x4096_S4x1024x4096

end Cert.SsmOutWgradPlainIdeal

namespace Cert.SsmOutWgradIdeal.Value

open Cert.SsmOutWgradIdeal Cert.SsmOutWgradIdeal.Gen Idealize.ShloMosaic Idealize.ShloMosaic.TcCoe Idealize.SL.Sem
open Idealize.ShloMosaic.Pipeline (Dat)
open Cert.SsmOutWgradPlainIdeal (REF)

variable (m : (ℓ : Loc nD τ sig) → Buf (Elt Ideal) ℓ)

/-- The blocks each grid point works on. -/
theorem idx : ∀ t : Fin cfg0.N, win0_0.index t = ![0, t.val / 4] ∧ win0_1.index t = ![0, t.val % 4] ∧ win0_2.index t = ![t.val / 4, 4, t.val % 4] ∧ t.val / 4 < 4 :=
  (by decide +kernel : ∀ t : Fin grid0.N, _)

/-- The result, of the arguments as the memory holds them. -/
def result (c : Dev nD) : FVec Ideal S4x5120x4096 .f32 :=
  REF (m ((c : Thread nD τ).loc main_arg0)) (m ((c : Thread nD τ).loc main_arg2)) (m ((c : Thread nD τ).loc main_arg3))

/-- The reference's update, at a constant place. -/
theorem REF_eq (a0 : FVec Ideal S4096x4096 .bf16) (a2 : FVec Ideal S4096x4096 .bf16) (a3 : FVec Ideal S4x5120x4096 .f32) : REF a0 a2 a3 = updateSlice (s := S4x5120x4096) (u := Cert.SsmOutWgradPlainIdeal.S4x1024x4096) a3 (Cert.SsmOutWgradPlainIdeal.upd a0 a2) ![0, 4096, 0] (by decide) :=
  Host.dynamicUpdateSlice_eq_updateSlice _ _ _ _ _ (fun a => by match a with | 0 => rfl | 1 => rfl | 2 => rfl) _

/-- The gradient buffer, as the kernel finds it. -/
theorem V_main_v0 (c : Dev nD) : V m c main_v0 = m ((c : Thread nD τ).loc main_arg3) := by
  unfold V; after_results; try rfl

/-- What a grid point stores is its block of the result. -/
theorem point (c : Dev nD) (t : Fin cfg0.N) (y : S1x1024x1024.Idx) :
    k0_pay1 (F := Ideal) (iblk m c 0 t) (iblk m c 1 t) y = REF (m ((c : Thread nD τ).loc main_arg0)) (m ((c : Thread nD τ).loc main_arg2)) (m ((c : Thread nD τ).loc main_arg3)) (((cfg0.win 2).blk t).view.emb y) := by
  have hy0 : (y 0 : ℕ) < 1 := (y 0).isLt
  have hy1 : (y 1 : ℕ) < 1024 := (y 1).isLt
  have hy2 : (y 2 : ℕ) < 1024 := (y 2).isLt
  have ht := (idx t).2.2.2
  rw [REF_eq]
  pointwise [k0_pay1, Cert.SsmOutWgradPlainIdeal.upd]
  have h0 : ((((View.whole main_v0).slice ((win0 2).rect t)).emb y 0 : ℕ)) = t.val / 4 := by blk_simp [idx t]
  have h1 : ((((View.whole main_v0).slice ((win0 2).rect t)).emb y 1 : ℕ)) = (4) * 1024 + (y 1 : ℕ) := by blk_simp [idx t]
  have h2 : ((((View.whole main_v0).slice ((win0 2).rect t)).emb y 2 : ℕ)) = (t.val % 4) * 1024 + (y 2 : ℕ) := by blk_simp [idx t]
  symm
  refine (dif_pos (by omega)).trans ?_
  symm
  refine Finset.sum_congr rfl fun x _ => (mul_comm (G := EReal) _ _).trans (Ideal.mul_congr ?_ ?_)
  · blk_point [iblk, V, idx t]
  · blk_point [iblk, V, idx t]

/-- The output array is the result: the blocks stored, the rest of the buffer as it was. -/
theorem final (c : Dev nD) : (dats m 0 c).arrAt 2 (cfgs 0).N = result m c := by
  have h := (dats m 0 c).arrAt_eq_of_coversWhere 2 (result m c) (fun β => β 1 = 4) (by decide +kernel) (P := fun i => 4096 ≤ (i 1 : ℕ) ∧ (i 1 : ℕ) < 5120) (fun t hf y => ?_)
    (fun j => by blk_simp [Pipeline.Window.cell_apply]; omega)
  · refine h.trans (funext fun i => ?_)
    by_cases h1 : 4096 ≤ (i 1 : ℕ) ∧ (i 1 : ℕ) < 5120
    · exact if_pos h1
    · refine (if_neg h1).trans ((congrFun ((A_eq m c 2).trans (V_main_v0 m c)) i).trans ?_)
      unfold result
      rw [REF_eq]
      pointwise [Cert.SsmOutWgradPlainIdeal.upd]
      have b0 : (i 0 : ℕ) < 4 := (i 0).isLt
      have b1 : (i 1 : ℕ) < 5120 := (i 1).isLt
      symm
      refine (dif_neg (by omega)).trans rfl
  · blk_simp
    rw [after0_2]; unfold outsAt0; frame_out
    exact point m c t y

end Cert.SsmOutWgradIdeal.Value

namespace Cert.Proof.SsmOutWgrad

open Idealize.ShloMosaic Idealize.ShloMosaic.TcCoe Idealize.SL.Sem

theorem frame_reference : Cert.quiescent_SsmOutWgradPlainIdeal (hSsmOutWgradPlainIdeal := Cert.SsmOutWgradPlainIdeal.Gen.facts) := fun m ρ _ =>
  (θ_run Cert.SsmOutWgradPlainIdeal.defs _ _).mono (fun r h => ⟨fun c => (h c).2, sem_eq_zero_of_no_sems (by decide) r.2⟩)
    (Cert.SsmOutWgradPlainIdeal.Value.run (F := Ideal) m ρ)

theorem algebraic : Cert.algebraic_SsmOutWgradIdeal_SsmOutWgradPlainIdeal (hSsmOutWgradIdeal := Cert.SsmOutWgradIdeal.Gen.facts)
    (hSsmOutWgradPlainIdeal := Cert.SsmOutWgradPlainIdeal.Gen.facts) := by
  intro m g m' g' _ hargs
  refine ⟨fun c => Cert.SsmOutWgradIdeal.Value.result m c, ?_, ?_⟩
  · exact (θ_run Cert.SsmOutWgradIdeal.defs _ _).mono (fun r h c => ⟨(h c).1.trans (Cert.SsmOutWgradIdeal.Value.final m c), (h c).2⟩)
      (Cert.SsmOutWgradIdeal.Value.run_blocks (F := Ideal) m g)
  · refine (θ_run Cert.SsmOutWgradPlainIdeal.defs _ _).mono (fun r h c => ⟨(h c).1.trans ?_, (h c).2⟩) (Cert.SsmOutWgradPlainIdeal.Value.run (F := Ideal) m' g')
    obtain ⟨a0, a1, a2, a3⟩ := hargs c
    rw [a0, a2, a3]; rfl

end Cert.Proof.SsmOutWgrad

end
-- ==== Proof.GluWgrad.lean ====
module

public import proofs.«01_k».proof.Defs
public import proofs.«01_k».proof.Proof.Gen.GluWgrad
public import proofs.«01_k».proof.Proof.Gen.GluWgrad.Frame
public import proofs.«01_k».proof.Proof.Gen.GluWgradIdeal
public import proofs.«01_k».proof.Proof.Gen.GluWgradIdeal.Value
public import proofs.«01_k».proof.Proof.Gen.GluWgradPlainIdeal
public import proofs.«01_k».proof.Proof.Gen.GluWgradPlainIdeal.Run
public import Idealize.ShloMosaic.Lib.Pipeline.ValueKit
public import Idealize.ShloMosaic.Lib.Claim
public import Idealize.ShloMosaic.Lib.Pointwise
public import Idealize.ShloMosaic.Adequacy
public import Idealize.ShloMosaic.Init

/-! The gradient of the gated linear unit's weights, written into the gradients' buffer. -/

@[expose] public section

set_option maxRecDepth 16384

noncomputable section

namespace Cert.GluWgradPlainIdeal

open Cert.GluWgradPlainIdeal.Gen Idealize.ShloMosaic

/-- The block the reference writes. -/
def upd (a0 : FVec Ideal S4096x4096 .bf16) (a2 : FVec Ideal S4096x4096 .bf16) : FVec Ideal S4x1024x4096 .f32 :=
  shapeCast _ (transpose S4096x4096 [1, 0] (Host.dotGeneral dot_S4096x4096_S4096x4096_S4096x4096_0_0_1_1_n_n none (extf .f32 a2 bitsLt_bf16_f32) (extf .f32 a0 bitsLt_bf16_f32)) transposes_S4096x4096_S4096x4096_1_0) shapeCasts_S4096x4096_S4x1024x4096

/-- The reference's result as a function of its arguments. -/
def REF (a0 : FVec Ideal S4096x4096 .bf16) (a2 : FVec Ideal S4096x4096 .bf16) (a3 : FVec Ideal S4x5120x4096 .f32) : FVec Ideal S4x5120x4096 .f32 :=
  Host.dynamicUpdateSlice a3 (upd a0 a2) (fun k => (((![constantI S_ 32 0#32, constantI S_ 32 3072#32, constantI S_ 32 0#32] : Fin 3 → (⟨S_, .i32⟩ : BufTy).Contents (Elt Ideal))) k (Shape.Idx.first h_S_)).toInt) updateFits_S4x5120x4096_S4x1024x4096

end Cert.GluWgradPlainIdeal

namespace Cert.GluWgradIdeal.Value

open Cert.GluWgradIdeal Cert.GluWgradIdeal.Gen Idealize.ShloMosaic Idealize.ShloMosaic.TcCoe Idealize.SL.Sem
open Idealize.ShloMosaic.Pipeline (Dat)
open Cert.GluWgradPlainIdeal (REF)

variable (m : (ℓ : Loc nD τ sig) → Buf (Elt Ideal) ℓ)

/-- The blocks each grid point works on. -/
theorem idx : ∀ t : Fin cfg0.N, win0_0.index t = ![0, t.val / 4] ∧ win0_1.index t = ![0, t.val % 4] ∧ win0_2.index t = ![t.val / 4, 3, t.val % 4] ∧ t.val / 4 < 4 :=
  (by decide +kernel : ∀ t : Fin grid0.N, _)

/-- The result, of the arguments as the memory holds them. -/
def result (c : Dev nD) : FVec Ideal S4x5120x4096 .f32 :=
  REF (m ((c : Thread nD τ).loc main_arg0)) (m ((c : Thread nD τ).loc main_arg2)) (m ((c : Thread nD τ).loc main_arg3))

/-- The reference's update, at a constant place. -/
theorem REF_eq (a0 : FVec Ideal S4096x4096 .bf16) (a2 : FVec Ideal S4096x4096 .bf16) (a3 : FVec Ideal S4x5120x4096 .f32) : REF a0 a2 a3 = updateSlice (s := S4x5120x4096) (u := Cert.GluWgradPlainIdeal.S4x1024x4096) a3 (Cert.GluWgradPlainIdeal.upd a0 a2) ![0, 3072, 0] (by decide) :=
  Host.dynamicUpdateSlice_eq_updateSlice _ _ _ _ _ (fun a => by match a with | 0 => rfl | 1 => rfl | 2 => rfl) _

/-- The gradient buffer, as the kernel finds it. -/
theorem V_main_v0 (c : Dev nD) : V m c main_v0 = m ((c : Thread nD τ).loc main_arg3) := by
  unfold V; after_results; try rfl

/-- What a grid point stores is its block of the result. -/
theorem point (c : Dev nD) (t : Fin cfg0.N) (y : S1x1024x1024.Idx) :
    k0_pay1 (F := Ideal) (iblk m c 0 t) (iblk m c 1 t) y = REF (m ((c : Thread nD τ).loc main_arg0)) (m ((c : Thread nD τ).loc main_arg2)) (m ((c : Thread nD τ).loc main_arg3)) (((cfg0.win 2).blk t).view.emb y) := by
  have hy0 : (y 0 : ℕ) < 1 := (y 0).isLt
  have hy1 : (y 1 : ℕ) < 1024 := (y 1).isLt
  have hy2 : (y 2 : ℕ) < 1024 := (y 2).isLt
  have ht := (idx t).2.2.2
  rw [REF_eq]
  pointwise [k0_pay1, Cert.GluWgradPlainIdeal.upd]
  have h0 : ((((View.whole main_v0).slice ((win0 2).rect t)).emb y 0 : ℕ)) = t.val / 4 := by blk_simp [idx t]
  have h1 : ((((View.whole main_v0).slice ((win0 2).rect t)).emb y 1 : ℕ)) = (3) * 1024 + (y 1 : ℕ) := by blk_simp [idx t]
  have h2 : ((((View.whole main_v0).slice ((win0 2).rect t)).emb y 2 : ℕ)) = (t.val % 4) * 1024 + (y 2 : ℕ) := by blk_simp [idx t]
  symm
  refine (dif_pos (by omega)).trans ?_
  symm
  refine Finset.sum_congr rfl fun x _ => (mul_comm (G := EReal) _ _).trans (Ideal.mul_congr ?_ ?_)
  · blk_point [iblk, V, idx t]
  · blk_point [iblk, V, idx t]

/-- The output array is the result: the blocks stored, the rest of the buffer as it was. -/
theorem final (c : Dev nD) : (dats m 0 c).arrAt 2 (cfgs 0).N = result m c := by
  have h := (dats m 0 c).arrAt_eq_of_coversWhere 2 (result m c) (fun β => β 1 = 3) (by decide +kernel) (P := fun i => 3072 ≤ (i 1 : ℕ) ∧ (i 1 : ℕ) < 4096) (fun t hf y => ?_)
    (fun j => by blk_simp [Pipeline.Window.cell_apply]; omega)
  · refine h.trans (funext fun i => ?_)
    by_cases h1 : 3072 ≤ (i 1 : ℕ) ∧ (i 1 : ℕ) < 4096
    · exact if_pos h1
    · refine (if_neg h1).trans ((congrFun ((A_eq m c 2).trans (V_main_v0 m c)) i).trans ?_)
      unfold result
      rw [REF_eq]
      pointwise [Cert.GluWgradPlainIdeal.upd]
      have b0 : (i 0 : ℕ) < 4 := (i 0).isLt
      have b1 : (i 1 : ℕ) < 5120 := (i 1).isLt
      symm
      refine (dif_neg (by omega)).trans rfl
  · blk_simp
    rw [after0_2]; unfold outsAt0; frame_out
    exact point m c t y

end Cert.GluWgradIdeal.Value

namespace Cert.Proof.GluWgrad

open Idealize.ShloMosaic Idealize.ShloMosaic.TcCoe Idealize.SL.Sem

theorem frame_reference : Cert.quiescent_GluWgradPlainIdeal (hGluWgradPlainIdeal := Cert.GluWgradPlainIdeal.Gen.facts) := fun m ρ _ =>
  (θ_run Cert.GluWgradPlainIdeal.defs _ _).mono (fun r h => ⟨fun c => (h c).2, sem_eq_zero_of_no_sems (by decide) r.2⟩)
    (Cert.GluWgradPlainIdeal.Value.run (F := Ideal) m ρ)

theorem algebraic : Cert.algebraic_GluWgradIdeal_GluWgradPlainIdeal (hGluWgradIdeal := Cert.GluWgradIdeal.Gen.facts)
    (hGluWgradPlainIdeal := Cert.GluWgradPlainIdeal.Gen.facts) := by
  intro m g m' g' _ hargs
  refine ⟨fun c => Cert.GluWgradIdeal.Value.result m c, ?_, ?_⟩
  · exact (θ_run Cert.GluWgradIdeal.defs _ _).mono (fun r h c => ⟨(h c).1.trans (Cert.GluWgradIdeal.Value.final m c), (h c).2⟩)
      (Cert.GluWgradIdeal.Value.run_blocks (F := Ideal) m g)
  · refine (θ_run Cert.GluWgradPlainIdeal.defs _ _).mono (fun r h c => ⟨(h c).1.trans ?_, (h c).2⟩) (Cert.GluWgradPlainIdeal.Value.run (F := Ideal) m' g')
    obtain ⟨a0, a1, a2, a3⟩ := hargs c
    rw [a0, a2, a3]; rfl

end Cert.Proof.GluWgrad

end
-- ==== Proof.SsmInWgradU.lean ====
module

public import proofs.«01_k».proof.Defs
public import proofs.«01_k».proof.Proof.Gen.SsmInWgradU
public import proofs.«01_k».proof.Proof.Gen.SsmInWgradU.Frame
public import proofs.«01_k».proof.Proof.Gen.SsmInWgradUIdeal
public import proofs.«01_k».proof.Proof.Gen.SsmInWgradUIdeal.Value
public import proofs.«01_k».proof.Proof.Gen.SsmInWgradUPlainIdeal
public import proofs.«01_k».proof.Proof.Gen.SsmInWgradUPlainIdeal.Run
public import Idealize.ShloMosaic.Lib.Pipeline.ValueKit
public import Idealize.ShloMosaic.Lib.Claim
public import Idealize.ShloMosaic.Lib.Pointwise
public import Idealize.ShloMosaic.Adequacy
public import Idealize.ShloMosaic.Init

/-! The gradient of the weights of the state-space branch's projection to its input, written into the gradients' buffer. -/

@[expose] public section

set_option maxRecDepth 16384

noncomputable section

namespace Cert.SsmInWgradUPlainIdeal

open Cert.SsmInWgradUPlainIdeal.Gen Idealize.ShloMosaic

/-- The block the reference writes. -/
def upd (a0 : FVec Ideal S4096x4096 .bf16) (a2 : FVec Ideal S4096x4096 .bf16) : FVec Ideal S2x2048x4096 .f32 :=
  shapeCast _ (transpose S2x2048x2x2048 [2, 1, 0, 3] (shapeCast _ (transpose S4096x4096 [1, 0] (Host.dotGeneral dot_S4096x4096_S4096x4096_S4096x4096_0_0_1_1_n_n none (extf .f32 a2 bitsLt_bf16_f32) (extf .f32 a0 bitsLt_bf16_f32)) transposes_S4096x4096_S4096x4096_1_0) shapeCasts_S4096x4096_S2x2048x2x2048) transposes_S2x2048x2x2048_S2x2048x2x2048_2_1_0_3) shapeCasts_S2x2048x2x2048_S2x2048x4096

/-- The reference's result as a function of its arguments. -/
def REF (a0 : FVec Ideal S4096x4096 .bf16) (a2 : FVec Ideal S4096x4096 .bf16) (a3 : FVec Ideal S4x5120x4096 .f32) : FVec Ideal S4x5120x4096 .f32 :=
  Host.dynamicUpdateSlice a3 (upd a0 a2) (fun k => (((![constantI S_ 32 0#32, constantI S_ 32 1024#32, constantI S_ 32 0#32] : Fin 3 → (⟨S_, .i32⟩ : BufTy).Contents (Elt Ideal))) k (Shape.Idx.first h_S_)).toInt) updateFits_S4x5120x4096_S2x2048x4096

end Cert.SsmInWgradUPlainIdeal

namespace Cert.SsmInWgradUIdeal.Value

open Cert.SsmInWgradUIdeal Cert.SsmInWgradUIdeal.Gen Idealize.ShloMosaic Idealize.ShloMosaic.TcCoe Idealize.SL.Sem
open Idealize.ShloMosaic.Pipeline (Dat)
open Cert.SsmInWgradUPlainIdeal (REF)

variable (m : (ℓ : Loc nD τ sig) → Buf (Elt Ideal) ℓ)

/-- The blocks each grid point works on. -/
theorem idx : ∀ t : Fin cfg0.N, win0_0.index t = ![0, t.val / 4] ∧ win0_1.index t = ![0, t.val % 4] ∧ win0_2.index t = ![0 + t.val % 4 / 2, 1 + t.val / 4 % 2, 2 * (t.val / 4 / 2) + t.val % 4 % 2] ∧ t.val / 4 < 4 :=
  (by decide +kernel : ∀ t : Fin grid0.N, _)

/-- The result, of the arguments as the memory holds them. -/
def result (c : Dev nD) : FVec Ideal S4x5120x4096 .f32 :=
  REF (m ((c : Thread nD τ).loc main_arg0)) (m ((c : Thread nD τ).loc main_arg2)) (m ((c : Thread nD τ).loc main_arg3))

/-- The reference's update, at a constant place. -/
theorem REF_eq (a0 : FVec Ideal S4096x4096 .bf16) (a2 : FVec Ideal S4096x4096 .bf16) (a3 : FVec Ideal S4x5120x4096 .f32) : REF a0 a2 a3 = updateSlice (s := S4x5120x4096) (u := Cert.SsmInWgradUPlainIdeal.S2x2048x4096) a3 (Cert.SsmInWgradUPlainIdeal.upd a0 a2) ![0, 1024, 0] (by decide) :=
  Host.dynamicUpdateSlice_eq_updateSlice _ _ _ _ _ (fun a => by match a with | 0 => rfl | 1 => rfl | 2 => rfl) _

/-- The gradient buffer, as the kernel finds it. -/
theorem V_main_v0 (c : Dev nD) : V m c main_v0 = m ((c : Thread nD τ).loc main_arg3) := by
  unfold V; after_results; try rfl

/-- What a grid point stores is its block of the result. -/
theorem point (c : Dev nD) (t : Fin cfg0.N) (y : S1x1024x1024.Idx) :
    k0_pay1 (F := Ideal) (iblk m c 0 t) (iblk m c 1 t) y = REF (m ((c : Thread nD τ).loc main_arg0)) (m ((c : Thread nD τ).loc main_arg2)) (m ((c : Thread nD τ).loc main_arg3)) (((cfg0.win 2).blk t).view.emb y) := by
  have hy0 : (y 0 : ℕ) < 1 := (y 0).isLt
  have hy1 : (y 1 : ℕ) < 1024 := (y 1).isLt
  have hy2 : (y 2 : ℕ) < 1024 := (y 2).isLt
  have ht := (idx t).2.2.2
  rw [REF_eq]
  pointwise [k0_pay1, Cert.SsmInWgradUPlainIdeal.upd]
  have h0 : ((((View.whole main_v0).slice ((win0 2).rect t)).emb y 0 : ℕ)) = 0 + t.val % 4 / 2 := by blk_simp [idx t]
  have h1 : ((((View.whole main_v0).slice ((win0 2).rect t)).emb y 1 : ℕ)) = (1 + t.val / 4 % 2) * 1024 + (y 1 : ℕ) := by blk_simp [idx t]
  have h2 : ((((View.whole main_v0).slice ((win0 2).rect t)).emb y 2 : ℕ)) = (2 * (t.val / 4 / 2) + t.val % 4 % 2) * 1024 + (y 2 : ℕ) := by blk_simp [idx t]
  symm
  refine (dif_pos (by omega)).trans ?_
  symm
  refine Finset.sum_congr rfl fun x _ => (mul_comm (G := EReal) _ _).trans (Ideal.mul_congr ?_ ?_)
  · blk_point [iblk, V, idx t]
  · blk_point [iblk, V, idx t]

/-- The output array is the result: the blocks stored, the rest of the buffer as it was. -/
theorem final (c : Dev nD) : (dats m 0 c).arrAt 2 (cfgs 0).N = result m c := by
  have h := (dats m 0 c).arrAt_eq_of_coversWhere 2 (result m c) (fun β => (β 0 = 0 ∨ β 0 = 1) ∧ (β 1 = 1 ∨ β 1 = 2)) (by decide +kernel) (P := fun i => 0 ≤ (i 0 : ℕ) ∧ (i 0 : ℕ) < 2 ∧ 1024 ≤ (i 1 : ℕ) ∧ (i 1 : ℕ) < 3072) (fun t hf y => ?_)
    (fun j => by blk_simp [Pipeline.Window.cell_apply]; omega)
  · refine h.trans (funext fun i => ?_)
    by_cases h1 : 0 ≤ (i 0 : ℕ) ∧ (i 0 : ℕ) < 2 ∧ 1024 ≤ (i 1 : ℕ) ∧ (i 1 : ℕ) < 3072
    · exact if_pos h1
    · refine (if_neg h1).trans ((congrFun ((A_eq m c 2).trans (V_main_v0 m c)) i).trans ?_)
      unfold result
      rw [REF_eq]
      pointwise [Cert.SsmInWgradUPlainIdeal.upd]
      have b0 : (i 0 : ℕ) < 4 := (i 0).isLt
      have b1 : (i 1 : ℕ) < 5120 := (i 1).isLt
      symm
      refine (dif_neg (by omega)).trans rfl
  · blk_simp
    rw [after0_2]; unfold outsAt0; frame_out
    exact point m c t y

end Cert.SsmInWgradUIdeal.Value

namespace Cert.Proof.SsmInWgradU

open Idealize.ShloMosaic Idealize.ShloMosaic.TcCoe Idealize.SL.Sem

theorem frame_reference : Cert.quiescent_SsmInWgradUPlainIdeal (hSsmInWgradUPlainIdeal := Cert.SsmInWgradUPlainIdeal.Gen.facts) := fun m ρ _ =>
  (θ_run Cert.SsmInWgradUPlainIdeal.defs _ _).mono (fun r h => ⟨fun c => (h c).2, sem_eq_zero_of_no_sems (by decide) r.2⟩)
    (Cert.SsmInWgradUPlainIdeal.Value.run (F := Ideal) m ρ)

theorem algebraic : Cert.algebraic_SsmInWgradUIdeal_SsmInWgradUPlainIdeal (hSsmInWgradUIdeal := Cert.SsmInWgradUIdeal.Gen.facts)
    (hSsmInWgradUPlainIdeal := Cert.SsmInWgradUPlainIdeal.Gen.facts) := by
  intro m g m' g' _ hargs
  refine ⟨fun c => Cert.SsmInWgradUIdeal.Value.result m c, ?_, ?_⟩
  · exact (θ_run Cert.SsmInWgradUIdeal.defs _ _).mono (fun r h c => ⟨(h c).1.trans (Cert.SsmInWgradUIdeal.Value.final m c), (h c).2⟩)
      (Cert.SsmInWgradUIdeal.Value.run_blocks (F := Ideal) m g)
  · refine (θ_run Cert.SsmInWgradUPlainIdeal.defs _ _).mono (fun r h c => ⟨(h c).1.trans ?_, (h c).2⟩) (Cert.SsmInWgradUPlainIdeal.Value.run (F := Ideal) m' g')
    obtain ⟨a0, a1, a2, a3⟩ := hargs c
    rw [a0, a2, a3]; rfl

end Cert.Proof.SsmInWgradU

end
-- ==== Proof.SsmInWgradGate.lean ====
module

public import proofs.«01_k».proof.Defs
public import proofs.«01_k».proof.Proof.Gen.SsmInWgradGate
public import proofs.«01_k».proof.Proof.Gen.SsmInWgradGate.Frame
public import proofs.«01_k».proof.Proof.Gen.SsmInWgradGateIdeal
public import proofs.«01_k».proof.Proof.Gen.SsmInWgradGateIdeal.Value
public import proofs.«01_k».proof.Proof.Gen.SsmInWgradGatePlainIdeal
public import proofs.«01_k».proof.Proof.Gen.SsmInWgradGatePlainIdeal.Run
public import Idealize.ShloMosaic.Lib.Pipeline.ValueKit
public import Idealize.ShloMosaic.Lib.Claim
public import Idealize.ShloMosaic.Lib.Pointwise
public import Idealize.ShloMosaic.Adequacy
public import Idealize.ShloMosaic.Init

/-! The gradient of the weights of the state-space branch's projection to its gate, written into the gradients' buffer. -/

@[expose] public section

set_option maxRecDepth 16384

noncomputable section

namespace Cert.SsmInWgradGatePlainIdeal

open Cert.SsmInWgradGatePlainIdeal.Gen Idealize.ShloMosaic

/-- The block the reference writes. -/
def upd (a0 : FVec Ideal S4096x4096 .bf16) (a2 : FVec Ideal S4096x4096 .bf16) : FVec Ideal S2x2048x4096 .f32 :=
  shapeCast _ (transpose S2x2048x2x2048 [2, 1, 0, 3] (shapeCast _ (transpose S4096x4096 [1, 0] (Host.dotGeneral dot_S4096x4096_S4096x4096_S4096x4096_0_0_1_1_n_n none (extf .f32 a2 bitsLt_bf16_f32) (extf .f32 a0 bitsLt_bf16_f32)) transposes_S4096x4096_S4096x4096_1_0) shapeCasts_S4096x4096_S2x2048x2x2048) transposes_S2x2048x2x2048_S2x2048x2x2048_2_1_0_3) shapeCasts_S2x2048x2x2048_S2x2048x4096

/-- The reference's result as a function of its arguments. -/
def REF (a0 : FVec Ideal S4096x4096 .bf16) (a2 : FVec Ideal S4096x4096 .bf16) (a3 : FVec Ideal S4x5120x4096 .f32) : FVec Ideal S4x5120x4096 .f32 :=
  Host.dynamicUpdateSlice a3 (upd a0 a2) (fun k => (((![constantI S_ 32 2#32, constantI S_ 32 1024#32, constantI S_ 32 0#32] : Fin 3 → (⟨S_, .i32⟩ : BufTy).Contents (Elt Ideal))) k (Shape.Idx.first h_S_)).toInt) updateFits_S4x5120x4096_S2x2048x4096

end Cert.SsmInWgradGatePlainIdeal

namespace Cert.SsmInWgradGateIdeal.Value

open Cert.SsmInWgradGateIdeal Cert.SsmInWgradGateIdeal.Gen Idealize.ShloMosaic Idealize.ShloMosaic.TcCoe Idealize.SL.Sem
open Idealize.ShloMosaic.Pipeline (Dat)
open Cert.SsmInWgradGatePlainIdeal (REF)

variable (m : (ℓ : Loc nD τ sig) → Buf (Elt Ideal) ℓ)

/-- The blocks each grid point works on. -/
theorem idx : ∀ t : Fin cfg0.N, win0_0.index t = ![0, t.val / 4] ∧ win0_1.index t = ![0, t.val % 4] ∧ win0_2.index t = ![2 + t.val % 4 / 2, 1 + t.val / 4 % 2, 2 * (t.val / 4 / 2) + t.val % 4 % 2] ∧ t.val / 4 < 4 :=
  (by decide +kernel : ∀ t : Fin grid0.N, _)

/-- The result, of the arguments as the memory holds them. -/
def result (c : Dev nD) : FVec Ideal S4x5120x4096 .f32 :=
  REF (m ((c : Thread nD τ).loc main_arg0)) (m ((c : Thread nD τ).loc main_arg2)) (m ((c : Thread nD τ).loc main_arg3))

/-- The reference's update, at a constant place. -/
theorem REF_eq (a0 : FVec Ideal S4096x4096 .bf16) (a2 : FVec Ideal S4096x4096 .bf16) (a3 : FVec Ideal S4x5120x4096 .f32) : REF a0 a2 a3 = updateSlice (s := S4x5120x4096) (u := Cert.SsmInWgradGatePlainIdeal.S2x2048x4096) a3 (Cert.SsmInWgradGatePlainIdeal.upd a0 a2) ![2, 1024, 0] (by decide) :=
  Host.dynamicUpdateSlice_eq_updateSlice _ _ _ _ _ (fun a => by match a with | 0 => rfl | 1 => rfl | 2 => rfl) _

/-- The gradient buffer, as the kernel finds it. -/
theorem V_main_v0 (c : Dev nD) : V m c main_v0 = m ((c : Thread nD τ).loc main_arg3) := by
  unfold V; after_results; try rfl

/-- What a grid point stores is its block of the result. -/
theorem point (c : Dev nD) (t : Fin cfg0.N) (y : S1x1024x1024.Idx) :
    k0_pay1 (F := Ideal) (iblk m c 0 t) (iblk m c 1 t) y = REF (m ((c : Thread nD τ).loc main_arg0)) (m ((c : Thread nD τ).loc main_arg2)) (m ((c : Thread nD τ).loc main_arg3)) (((cfg0.win 2).blk t).view.emb y) := by
  have hy0 : (y 0 : ℕ) < 1 := (y 0).isLt
  have hy1 : (y 1 : ℕ) < 1024 := (y 1).isLt
  have hy2 : (y 2 : ℕ) < 1024 := (y 2).isLt
  have ht := (idx t).2.2.2
  rw [REF_eq]
  pointwise [k0_pay1, Cert.SsmInWgradGatePlainIdeal.upd]
  have h0 : ((((View.whole main_v0).slice ((win0 2).rect t)).emb y 0 : ℕ)) = 2 + t.val % 4 / 2 := by blk_simp [idx t]
  have h1 : ((((View.whole main_v0).slice ((win0 2).rect t)).emb y 1 : ℕ)) = (1 + t.val / 4 % 2) * 1024 + (y 1 : ℕ) := by blk_simp [idx t]
  have h2 : ((((View.whole main_v0).slice ((win0 2).rect t)).emb y 2 : ℕ)) = (2 * (t.val / 4 / 2) + t.val % 4 % 2) * 1024 + (y 2 : ℕ) := by blk_simp [idx t]
  symm
  refine (dif_pos (by omega)).trans ?_
  symm
  refine Finset.sum_congr rfl fun x _ => (mul_comm (G := EReal) _ _).trans (Ideal.mul_congr ?_ ?_)
  · blk_point [iblk, V, idx t]
  · blk_point [iblk, V, idx t]

/-- The output array is the result: the blocks stored, the rest of the buffer as it was. -/
theorem final (c : Dev nD) : (dats m 0 c).arrAt 2 (cfgs 0).N = result m c := by
  have h := (dats m 0 c).arrAt_eq_of_coversWhere 2 (result m c) (fun β => (β 0 = 2 ∨ β 0 = 3) ∧ (β 1 = 1 ∨ β 1 = 2)) (by decide +kernel) (P := fun i => 2 ≤ (i 0 : ℕ) ∧ (i 0 : ℕ) < 4 ∧ 1024 ≤ (i 1 : ℕ) ∧ (i 1 : ℕ) < 3072) (fun t hf y => ?_)
    (fun j => by blk_simp [Pipeline.Window.cell_apply]; omega)
  · refine h.trans (funext fun i => ?_)
    by_cases h1 : 2 ≤ (i 0 : ℕ) ∧ (i 0 : ℕ) < 4 ∧ 1024 ≤ (i 1 : ℕ) ∧ (i 1 : ℕ) < 3072
    · exact if_pos h1
    · refine (if_neg h1).trans ((congrFun ((A_eq m c 2).trans (V_main_v0 m c)) i).trans ?_)
      unfold result
      rw [REF_eq]
      pointwise [Cert.SsmInWgradGatePlainIdeal.upd]
      have b0 : (i 0 : ℕ) < 4 := (i 0).isLt
      have b1 : (i 1 : ℕ) < 5120 := (i 1).isLt
      symm
      refine (dif_neg (by omega)).trans rfl
  · blk_simp
    rw [after0_2]; unfold outsAt0; frame_out
    exact point m c t y

end Cert.SsmInWgradGateIdeal.Value

namespace Cert.Proof.SsmInWgradGate

open Idealize.ShloMosaic Idealize.ShloMosaic.TcCoe Idealize.SL.Sem

theorem frame_reference : Cert.quiescent_SsmInWgradGatePlainIdeal (hSsmInWgradGatePlainIdeal := Cert.SsmInWgradGatePlainIdeal.Gen.facts) := fun m ρ _ =>
  (θ_run Cert.SsmInWgradGatePlainIdeal.defs _ _).mono (fun r h => ⟨fun c => (h c).2, sem_eq_zero_of_no_sems (by decide) r.2⟩)
    (Cert.SsmInWgradGatePlainIdeal.Value.run (F := Ideal) m ρ)

theorem algebraic : Cert.algebraic_SsmInWgradGateIdeal_SsmInWgradGatePlainIdeal (hSsmInWgradGateIdeal := Cert.SsmInWgradGateIdeal.Gen.facts)
    (hSsmInWgradGatePlainIdeal := Cert.SsmInWgradGatePlainIdeal.Gen.facts) := by
  intro m g m' g' _ hargs
  refine ⟨fun c => Cert.SsmInWgradGateIdeal.Value.result m c, ?_, ?_⟩
  · exact (θ_run Cert.SsmInWgradGateIdeal.defs _ _).mono (fun r h c => ⟨(h c).1.trans (Cert.SsmInWgradGateIdeal.Value.final m c), (h c).2⟩)
      (Cert.SsmInWgradGateIdeal.Value.run_blocks (F := Ideal) m g)
  · refine (θ_run Cert.SsmInWgradGatePlainIdeal.defs _ _).mono (fun r h c => ⟨(h c).1.trans ?_, (h c).2⟩) (Cert.SsmInWgradGatePlainIdeal.Value.run (F := Ideal) m' g')
    obtain ⟨a0, a1, a2, a3⟩ := hargs c
    rw [a0, a2, a3]; rfl

end Cert.Proof.SsmInWgradGate

end
-- ==== Proof.AttnOutWgrad.lean ====
module

public import proofs.«01_k».proof.Defs
public import proofs.«01_k».proof.Proof.Gen.AttnOutWgrad
public import proofs.«01_k».proof.Proof.Gen.AttnOutWgrad.Frame
public import proofs.«01_k».proof.Proof.Gen.AttnOutWgradIdeal
public import proofs.«01_k».proof.Proof.Gen.AttnOutWgradIdeal.Value
public import proofs.«01_k».proof.Proof.Gen.AttnOutWgradPlainIdeal
public import proofs.«01_k».proof.Proof.Gen.AttnOutWgradPlainIdeal.Run
public import Idealize.ShloMosaic.Lib.Pipeline.ValueKit
public import Idealize.ShloMosaic.Lib.Claim
public import Idealize.ShloMosaic.Lib.Pointwise
public import Idealize.ShloMosaic.Adequacy
public import Idealize.ShloMosaic.Init

/-! The gradient of the attention's output weights, written into the gradients' buffer. -/

@[expose] public section

set_option maxRecDepth 16384

noncomputable section

namespace Cert.AttnOutWgradPlainIdeal

open Cert.AttnOutWgradPlainIdeal.Gen Idealize.ShloMosaic

/-- The block the reference writes. -/
def upd (a0 : FVec Ideal S4096x4096 .bf16) (a2 : FVec Ideal S4096x4096 .bf16) : FVec Ideal S4x1024x4096 .f32 :=
  shapeCast _ (transpose S4096x4096 [1, 0] (Host.dotGeneral dot_S4096x4096_S4096x4096_S4096x4096_0_0_1_1_n_n none (extf .f32 a2 bitsLt_bf16_f32) (extf .f32 a0 bitsLt_bf16_f32)) transposes_S4096x4096_S4096x4096_1_0) shapeCasts_S4096x4096_S4x1024x4096

/-- The reference's result as a function of its arguments. -/
def REF (a0 : FVec Ideal S4096x4096 .bf16) (a2 : FVec Ideal S4096x4096 .bf16) (a3 : FVec Ideal S4x5120x4096 .f32) : FVec Ideal S4x5120x4096 .f32 :=
  Host.dynamicUpdateSlice a3 (upd a0 a2) (fun k => (((![constantI S_ 32 0#32, constantI S_ 32 0#32, constantI S_ 32 0#32] : Fin 3 → (⟨S_, .i32⟩ : BufTy).Contents (Elt Ideal))) k (Shape.Idx.first h_S_)).toInt) updateFits_S4x5120x4096_S4x1024x4096

end Cert.AttnOutWgradPlainIdeal

namespace Cert.AttnOutWgradIdeal.Value

open Cert.AttnOutWgradIdeal Cert.AttnOutWgradIdeal.Gen Idealize.ShloMosaic Idealize.ShloMosaic.TcCoe Idealize.SL.Sem
open Idealize.ShloMosaic.Pipeline (Dat)
open Cert.AttnOutWgradPlainIdeal (REF)

variable (m : (ℓ : Loc nD τ sig) → Buf (Elt Ideal) ℓ)

/-- The blocks each grid point works on. -/
theorem idx : ∀ t : Fin cfg0.N, win0_0.index t = ![0, t.val / 4] ∧ win0_1.index t = ![0, t.val % 4] ∧ win0_2.index t = ![t.val / 4, 0, t.val % 4] ∧ t.val / 4 < 4 :=
  (by decide +kernel : ∀ t : Fin grid0.N, _)

/-- The result, of the arguments as the memory holds them. -/
def result (c : Dev nD) : FVec Ideal S4x5120x4096 .f32 :=
  REF (m ((c : Thread nD τ).loc main_arg0)) (m ((c : Thread nD τ).loc main_arg2)) (m ((c : Thread nD τ).loc main_arg3))

/-- The reference's update, at a constant place. -/
theorem REF_eq (a0 : FVec Ideal S4096x4096 .bf16) (a2 : FVec Ideal S4096x4096 .bf16) (a3 : FVec Ideal S4x5120x4096 .f32) : REF a0 a2 a3 = updateSlice (s := S4x5120x4096) (u := Cert.AttnOutWgradPlainIdeal.S4x1024x4096) a3 (Cert.AttnOutWgradPlainIdeal.upd a0 a2) ![0, 0, 0] (by decide) :=
  Host.dynamicUpdateSlice_eq_updateSlice _ _ _ _ _ (fun a => by match a with | 0 => rfl | 1 => rfl | 2 => rfl) _

/-- The gradient buffer, as the kernel finds it. -/
theorem V_main_v0 (c : Dev nD) : V m c main_v0 = m ((c : Thread nD τ).loc main_arg3) := by
  unfold V; after_results; try rfl

/-- What a grid point stores is its block of the result. -/
theorem point (c : Dev nD) (t : Fin cfg0.N) (y : S1x1024x1024.Idx) :
    k0_pay1 (F := Ideal) (iblk m c 0 t) (iblk m c 1 t) y = REF (m ((c : Thread nD τ).loc main_arg0)) (m ((c : Thread nD τ).loc main_arg2)) (m ((c : Thread nD τ).loc main_arg3)) (((cfg0.win 2).blk t).view.emb y) := by
  have hy0 : (y 0 : ℕ) < 1 := (y 0).isLt
  have hy1 : (y 1 : ℕ) < 1024 := (y 1).isLt
  have hy2 : (y 2 : ℕ) < 1024 := (y 2).isLt
  have ht := (idx t).2.2.2
  rw [REF_eq]
  pointwise [k0_pay1, Cert.AttnOutWgradPlainIdeal.upd]
  have h0 : ((((View.whole main_v0).slice ((win0 2).rect t)).emb y 0 : ℕ)) = t.val / 4 := by blk_simp [idx t]
  have h1 : ((((View.whole main_v0).slice ((win0 2).rect t)).emb y 1 : ℕ)) = (0) * 1024 + (y 1 : ℕ) := by blk_simp [idx t]
  have h2 : ((((View.whole main_v0).slice ((win0 2).rect t)).emb y 2 : ℕ)) = (t.val % 4) * 1024 + (y 2 : ℕ) := by blk_simp [idx t]
  symm
  refine (dif_pos (by omega)).trans ?_
  symm
  refine Finset.sum_congr rfl fun x _ => (mul_comm (G := EReal) _ _).trans (Ideal.mul_congr ?_ ?_)
  · blk_point [iblk, V, idx t]
  · blk_point [iblk, V, idx t]

/-- The output array is the result: the blocks stored, the rest of the buffer as it was. -/
theorem final (c : Dev nD) : (dats m 0 c).arrAt 2 (cfgs 0).N = result m c := by
  have h := (dats m 0 c).arrAt_eq_of_coversWhere 2 (result m c) (fun β => β 1 = 0) (by decide +kernel) (P := fun i => 0 ≤ (i 1 : ℕ) ∧ (i 1 : ℕ) < 1024) (fun t hf y => ?_)
    (fun j => by blk_simp [Pipeline.Window.cell_apply]; omega)
  · refine h.trans (funext fun i => ?_)
    by_cases h1 : 0 ≤ (i 1 : ℕ) ∧ (i 1 : ℕ) < 1024
    · exact if_pos h1
    · refine (if_neg h1).trans ((congrFun ((A_eq m c 2).trans (V_main_v0 m c)) i).trans ?_)
      unfold result
      rw [REF_eq]
      pointwise [Cert.AttnOutWgradPlainIdeal.upd]
      have b0 : (i 0 : ℕ) < 4 := (i 0).isLt
      have b1 : (i 1 : ℕ) < 5120 := (i 1).isLt
      symm
      refine (dif_neg (by omega)).trans rfl
  · blk_simp
    rw [after0_2]; unfold outsAt0; frame_out
    exact point m c t y

end Cert.AttnOutWgradIdeal.Value

namespace Cert.Proof.AttnOutWgrad

open Idealize.ShloMosaic Idealize.ShloMosaic.TcCoe Idealize.SL.Sem

theorem frame_reference : Cert.quiescent_AttnOutWgradPlainIdeal (hAttnOutWgradPlainIdeal := Cert.AttnOutWgradPlainIdeal.Gen.facts) := fun m ρ _ =>
  (θ_run Cert.AttnOutWgradPlainIdeal.defs _ _).mono (fun r h => ⟨fun c => (h c).2, sem_eq_zero_of_no_sems (by decide) r.2⟩)
    (Cert.AttnOutWgradPlainIdeal.Value.run (F := Ideal) m ρ)

theorem algebraic : Cert.algebraic_AttnOutWgradIdeal_AttnOutWgradPlainIdeal (hAttnOutWgradIdeal := Cert.AttnOutWgradIdeal.Gen.facts)
    (hAttnOutWgradPlainIdeal := Cert.AttnOutWgradPlainIdeal.Gen.facts) := by
  intro m g m' g' _ hargs
  refine ⟨fun c => Cert.AttnOutWgradIdeal.Value.result m c, ?_, ?_⟩
  · exact (θ_run Cert.AttnOutWgradIdeal.defs _ _).mono (fun r h c => ⟨(h c).1.trans (Cert.AttnOutWgradIdeal.Value.final m c), (h c).2⟩)
      (Cert.AttnOutWgradIdeal.Value.run_blocks (F := Ideal) m g)
  · refine (θ_run Cert.AttnOutWgradPlainIdeal.defs _ _).mono (fun r h c => ⟨(h c).1.trans ?_, (h c).2⟩) (Cert.AttnOutWgradPlainIdeal.Value.run (F := Ideal) m' g')
    obtain ⟨a0, a1, a2, a3⟩ := hargs c
    rw [a0, a2, a3]; rfl

end Cert.Proof.AttnOutWgrad

end
-- ==== Proof.AttnInWgrad0.lean ====
module

public import proofs.«01_k».proof.Defs
public import proofs.«01_k».proof.Proof.Gen.AttnInWgrad0
public import proofs.«01_k».proof.Proof.Gen.AttnInWgrad0.Frame
public import proofs.«01_k».proof.Proof.Gen.AttnInWgrad0Ideal
public import proofs.«01_k».proof.Proof.Gen.AttnInWgrad0Ideal.Value
public import proofs.«01_k».proof.Proof.Gen.AttnInWgrad0PlainIdeal
public import proofs.«01_k».proof.Proof.Gen.AttnInWgrad0PlainIdeal.Run
public import Idealize.ShloMosaic.Lib.Pipeline.ValueKit
public import Idealize.ShloMosaic.Lib.Claim
public import Idealize.ShloMosaic.Lib.Pointwise
public import Idealize.ShloMosaic.Adequacy
public import Idealize.ShloMosaic.Init

/-! The gradient of the weights of the attention's projection to its queries, written into the gradients' buffer. -/

@[expose] public section

set_option maxRecDepth 16384

noncomputable section

namespace Cert.AttnInWgrad0PlainIdeal

open Cert.AttnInWgrad0PlainIdeal.Gen Idealize.ShloMosaic

/-- The block the reference writes. -/
def upd (a0 : FVec Ideal S4096x4096 .bf16) (a2 : FVec Ideal S4096x4096 .bf16) : FVec Ideal S1x4096x4096 .f32 :=
  broadcastInDim S1x4096x4096 ![1, 2] bcast_S4096x4096_S1x4096x4096_1_2 (transpose S4096x4096 [1, 0] (Host.dotGeneral dot_S4096x4096_S4096x4096_S4096x4096_0_0_1_1_n_n none (extf .f32 a2 bitsLt_bf16_f32) (extf .f32 a0 bitsLt_bf16_f32)) transposes_S4096x4096_S4096x4096_1_0)

/-- The reference's result as a function of its arguments. -/
def REF (a0 : FVec Ideal S4096x4096 .bf16) (a2 : FVec Ideal S4096x4096 .bf16) (a3 : FVec Ideal S4x4096x4096 .f32) : FVec Ideal S4x4096x4096 .f32 :=
  Host.dynamicUpdateSlice a3 (upd a0 a2) (fun k => (((![constantI S_ 32 0#32, constantI S_ 32 0#32, constantI S_ 32 0#32] : Fin 3 → (⟨S_, .i32⟩ : BufTy).Contents (Elt Ideal))) k (Shape.Idx.first h_S_)).toInt) updateFits_S4x4096x4096_S1x4096x4096

end Cert.AttnInWgrad0PlainIdeal

namespace Cert.AttnInWgrad0Ideal.Value

open Cert.AttnInWgrad0Ideal Cert.AttnInWgrad0Ideal.Gen Idealize.ShloMosaic Idealize.ShloMosaic.TcCoe Idealize.SL.Sem
open Idealize.ShloMosaic.Pipeline (Dat)
open Cert.AttnInWgrad0PlainIdeal (REF)

variable (m : (ℓ : Loc nD τ sig) → Buf (Elt Ideal) ℓ)

/-- The blocks each grid point works on. -/
theorem idx : ∀ t : Fin cfg0.N, win0_0.index t = ![0, t.val / 4] ∧ win0_1.index t = ![0, t.val % 4] ∧ win0_2.index t = ![0, t.val / 4, t.val % 4] ∧ t.val / 4 < 4 :=
  (by decide +kernel : ∀ t : Fin grid0.N, _)

/-- The result, of the arguments as the memory holds them. -/
def result (c : Dev nD) : FVec Ideal S4x4096x4096 .f32 :=
  REF (m ((c : Thread nD τ).loc main_arg0)) (m ((c : Thread nD τ).loc main_arg2)) (m ((c : Thread nD τ).loc main_arg3))

/-- The reference's update, at a constant place. -/
theorem REF_eq (a0 : FVec Ideal S4096x4096 .bf16) (a2 : FVec Ideal S4096x4096 .bf16) (a3 : FVec Ideal S4x4096x4096 .f32) : REF a0 a2 a3 = updateSlice (s := S4x4096x4096) (u := Cert.AttnInWgrad0PlainIdeal.S1x4096x4096) a3 (Cert.AttnInWgrad0PlainIdeal.upd a0 a2) ![0, 0, 0] (by decide) :=
  Host.dynamicUpdateSlice_eq_updateSlice _ _ _ _ _ (fun a => by match a with | 0 => rfl | 1 => rfl | 2 => rfl) _

/-- The gradient buffer, as the kernel finds it. -/
theorem V_main_v0 (c : Dev nD) : V m c main_v0 = m ((c : Thread nD τ).loc main_arg3) := by
  unfold V; after_results; try rfl

/-- What a grid point stores is its block of the result. -/
theorem point (c : Dev nD) (t : Fin cfg0.N) (y : S1x1024x1024.Idx) :
    k0_pay1 (F := Ideal) (iblk m c 0 t) (iblk m c 1 t) y = REF (m ((c : Thread nD τ).loc main_arg0)) (m ((c : Thread nD τ).loc main_arg2)) (m ((c : Thread nD τ).loc main_arg3)) (((cfg0.win 2).blk t).view.emb y) := by
  have hy0 : (y 0 : ℕ) < 1 := (y 0).isLt
  have hy1 : (y 1 : ℕ) < 1024 := (y 1).isLt
  have hy2 : (y 2 : ℕ) < 1024 := (y 2).isLt
  have ht := (idx t).2.2.2
  rw [REF_eq]
  pointwise [k0_pay1, Cert.AttnInWgrad0PlainIdeal.upd]
  have h0 : ((((View.whole main_v0).slice ((win0 2).rect t)).emb y 0 : ℕ)) = 0 := by blk_simp [idx t]
  have h1 : ((((View.whole main_v0).slice ((win0 2).rect t)).emb y 1 : ℕ)) = (t.val / 4) * 1024 + (y 1 : ℕ) := by blk_simp [idx t]
  have h2 : ((((View.whole main_v0).slice ((win0 2).rect t)).emb y 2 : ℕ)) = (t.val % 4) * 1024 + (y 2 : ℕ) := by blk_simp [idx t]
  symm
  refine (dif_pos (by omega)).trans ?_
  symm
  refine Finset.sum_congr rfl fun x _ => (mul_comm (G := EReal) _ _).trans (Ideal.mul_congr ?_ ?_)
  · blk_point [iblk, V, idx t]
  · blk_point [iblk, V, idx t]

/-- The output array is the result: the blocks stored, the rest of the buffer as it was. -/
theorem final (c : Dev nD) : (dats m 0 c).arrAt 2 (cfgs 0).N = result m c := by
  have h := (dats m 0 c).arrAt_eq_of_coversWhere 2 (result m c) (fun β => β 0 = 0) (by decide +kernel) (P := fun i => (i 0 : ℕ) = 0) (fun t hf y => ?_)
    (fun j => by blk_simp [Pipeline.Window.cell_apply]; omega)
  · refine h.trans (funext fun i => ?_)
    by_cases h1 : (i 0 : ℕ) = 0
    · exact if_pos h1
    · refine (if_neg h1).trans ((congrFun ((A_eq m c 2).trans (V_main_v0 m c)) i).trans ?_)
      unfold result
      rw [REF_eq]
      pointwise [Cert.AttnInWgrad0PlainIdeal.upd]
      have b0 : (i 0 : ℕ) < 4 := (i 0).isLt
      have b1 : (i 1 : ℕ) < 4096 := (i 1).isLt
      symm
      refine (dif_neg (by omega)).trans rfl
  · blk_simp
    rw [after0_2]; unfold outsAt0; frame_out
    exact point m c t y

end Cert.AttnInWgrad0Ideal.Value

namespace Cert.Proof.AttnInWgrad0

open Idealize.ShloMosaic Idealize.ShloMosaic.TcCoe Idealize.SL.Sem

theorem frame_reference : Cert.quiescent_AttnInWgrad0PlainIdeal (hAttnInWgrad0PlainIdeal := Cert.AttnInWgrad0PlainIdeal.Gen.facts) := fun m ρ _ =>
  (θ_run Cert.AttnInWgrad0PlainIdeal.defs _ _).mono (fun r h => ⟨fun c => (h c).2, sem_eq_zero_of_no_sems (by decide) r.2⟩)
    (Cert.AttnInWgrad0PlainIdeal.Value.run (F := Ideal) m ρ)

theorem algebraic : Cert.algebraic_AttnInWgrad0Ideal_AttnInWgrad0PlainIdeal (hAttnInWgrad0Ideal := Cert.AttnInWgrad0Ideal.Gen.facts)
    (hAttnInWgrad0PlainIdeal := Cert.AttnInWgrad0PlainIdeal.Gen.facts) := by
  intro m g m' g' _ hargs
  refine ⟨fun c => Cert.AttnInWgrad0Ideal.Value.result m c, ?_, ?_⟩
  · exact (θ_run Cert.AttnInWgrad0Ideal.defs _ _).mono (fun r h c => ⟨(h c).1.trans (Cert.AttnInWgrad0Ideal.Value.final m c), (h c).2⟩)
      (Cert.AttnInWgrad0Ideal.Value.run_blocks (F := Ideal) m g)
  · refine (θ_run Cert.AttnInWgrad0PlainIdeal.defs _ _).mono (fun r h c => ⟨(h c).1.trans ?_, (h c).2⟩) (Cert.AttnInWgrad0PlainIdeal.Value.run (F := Ideal) m' g')
    obtain ⟨a0, a1, a2, a3⟩ := hargs c
    rw [a0, a2, a3]; rfl

end Cert.Proof.AttnInWgrad0

end
-- ==== Proof.AttnInWgrad1.lean ====
module

public import proofs.«01_k».proof.Defs
public import proofs.«01_k».proof.Proof.Gen.AttnInWgrad1
public import proofs.«01_k».proof.Proof.Gen.AttnInWgrad1.Frame
public import proofs.«01_k».proof.Proof.Gen.AttnInWgrad1Ideal
public import proofs.«01_k».proof.Proof.Gen.AttnInWgrad1Ideal.Value
public import proofs.«01_k».proof.Proof.Gen.AttnInWgrad1PlainIdeal
public import proofs.«01_k».proof.Proof.Gen.AttnInWgrad1PlainIdeal.Run
public import Idealize.ShloMosaic.Lib.Pipeline.ValueKit
public import Idealize.ShloMosaic.Lib.Claim
public import Idealize.ShloMosaic.Lib.Pointwise
public import Idealize.ShloMosaic.Adequacy
public import Idealize.ShloMosaic.Init

/-! The gradient of the weights of the attention's projection to its keys, written into the gradients' buffer. -/

@[expose] public section

set_option maxRecDepth 16384

noncomputable section

namespace Cert.AttnInWgrad1PlainIdeal

open Cert.AttnInWgrad1PlainIdeal.Gen Idealize.ShloMosaic

/-- The block the reference writes. -/
def upd (a0 : FVec Ideal S4096x4096 .bf16) (a2 : FVec Ideal S4096x4096 .bf16) : FVec Ideal S1x4096x4096 .f32 :=
  broadcastInDim S1x4096x4096 ![1, 2] bcast_S4096x4096_S1x4096x4096_1_2 (transpose S4096x4096 [1, 0] (Host.dotGeneral dot_S4096x4096_S4096x4096_S4096x4096_0_0_1_1_n_n none (extf .f32 a2 bitsLt_bf16_f32) (extf .f32 a0 bitsLt_bf16_f32)) transposes_S4096x4096_S4096x4096_1_0)

/-- The reference's result as a function of its arguments. -/
def REF (a0 : FVec Ideal S4096x4096 .bf16) (a2 : FVec Ideal S4096x4096 .bf16) (a3 : FVec Ideal S4x4096x4096 .f32) : FVec Ideal S4x4096x4096 .f32 :=
  Host.dynamicUpdateSlice a3 (upd a0 a2) (fun k => (((![constantI S_ 32 1#32, constantI S_ 32 0#32, constantI S_ 32 0#32] : Fin 3 → (⟨S_, .i32⟩ : BufTy).Contents (Elt Ideal))) k (Shape.Idx.first h_S_)).toInt) updateFits_S4x4096x4096_S1x4096x4096

end Cert.AttnInWgrad1PlainIdeal

namespace Cert.AttnInWgrad1Ideal.Value

open Cert.AttnInWgrad1Ideal Cert.AttnInWgrad1Ideal.Gen Idealize.ShloMosaic Idealize.ShloMosaic.TcCoe Idealize.SL.Sem
open Idealize.ShloMosaic.Pipeline (Dat)
open Cert.AttnInWgrad1PlainIdeal (REF)

variable (m : (ℓ : Loc nD τ sig) → Buf (Elt Ideal) ℓ)

/-- The blocks each grid point works on. -/
theorem idx : ∀ t : Fin cfg0.N, win0_0.index t = ![0, t.val / 4] ∧ win0_1.index t = ![0, t.val % 4] ∧ win0_2.index t = ![1, t.val / 4, t.val % 4] ∧ t.val / 4 < 4 :=
  (by decide +kernel : ∀ t : Fin grid0.N, _)

/-- The result, of the arguments as the memory holds them. -/
def result (c : Dev nD) : FVec Ideal S4x4096x4096 .f32 :=
  REF (m ((c : Thread nD τ).loc main_arg0)) (m ((c : Thread nD τ).loc main_arg2)) (m ((c : Thread nD τ).loc main_arg3))

/-- The reference's update, at a constant place. -/
theorem REF_eq (a0 : FVec Ideal S4096x4096 .bf16) (a2 : FVec Ideal S4096x4096 .bf16) (a3 : FVec Ideal S4x4096x4096 .f32) : REF a0 a2 a3 = updateSlice (s := S4x4096x4096) (u := Cert.AttnInWgrad1PlainIdeal.S1x4096x4096) a3 (Cert.AttnInWgrad1PlainIdeal.upd a0 a2) ![1, 0, 0] (by decide) :=
  Host.dynamicUpdateSlice_eq_updateSlice _ _ _ _ _ (fun a => by match a with | 0 => rfl | 1 => rfl | 2 => rfl) _

/-- The gradient buffer, as the kernel finds it. -/
theorem V_main_v0 (c : Dev nD) : V m c main_v0 = m ((c : Thread nD τ).loc main_arg3) := by
  unfold V; after_results; try rfl

/-- What a grid point stores is its block of the result. -/
theorem point (c : Dev nD) (t : Fin cfg0.N) (y : S1x1024x1024.Idx) :
    k0_pay1 (F := Ideal) (iblk m c 0 t) (iblk m c 1 t) y = REF (m ((c : Thread nD τ).loc main_arg0)) (m ((c : Thread nD τ).loc main_arg2)) (m ((c : Thread nD τ).loc main_arg3)) (((cfg0.win 2).blk t).view.emb y) := by
  have hy0 : (y 0 : ℕ) < 1 := (y 0).isLt
  have hy1 : (y 1 : ℕ) < 1024 := (y 1).isLt
  have hy2 : (y 2 : ℕ) < 1024 := (y 2).isLt
  have ht := (idx t).2.2.2
  rw [REF_eq]
  pointwise [k0_pay1, Cert.AttnInWgrad1PlainIdeal.upd]
  have h0 : ((((View.whole main_v0).slice ((win0 2).rect t)).emb y 0 : ℕ)) = 1 := by blk_simp [idx t]
  have h1 : ((((View.whole main_v0).slice ((win0 2).rect t)).emb y 1 : ℕ)) = (t.val / 4) * 1024 + (y 1 : ℕ) := by blk_simp [idx t]
  have h2 : ((((View.whole main_v0).slice ((win0 2).rect t)).emb y 2 : ℕ)) = (t.val % 4) * 1024 + (y 2 : ℕ) := by blk_simp [idx t]
  symm
  refine (dif_pos (by omega)).trans ?_
  symm
  refine Finset.sum_congr rfl fun x _ => (mul_comm (G := EReal) _ _).trans (Ideal.mul_congr ?_ ?_)
  · blk_point [iblk, V, idx t]
  · blk_point [iblk, V, idx t]

/-- The output array is the result: the blocks stored, the rest of the buffer as it was. -/
theorem final (c : Dev nD) : (dats m 0 c).arrAt 2 (cfgs 0).N = result m c := by
  have h := (dats m 0 c).arrAt_eq_of_coversWhere 2 (result m c) (fun β => β 0 = 1) (by decide +kernel) (P := fun i => (i 0 : ℕ) = 1) (fun t hf y => ?_)
    (fun j => by blk_simp [Pipeline.Window.cell_apply]; omega)
  · refine h.trans (funext fun i => ?_)
    by_cases h1 : (i 0 : ℕ) = 1
    · exact if_pos h1
    · refine (if_neg h1).trans ((congrFun ((A_eq m c 2).trans (V_main_v0 m c)) i).trans ?_)
      unfold result
      rw [REF_eq]
      pointwise [Cert.AttnInWgrad1PlainIdeal.upd]
      have b0 : (i 0 : ℕ) < 4 := (i 0).isLt
      have b1 : (i 1 : ℕ) < 4096 := (i 1).isLt
      symm
      refine (dif_neg (by omega)).trans rfl
  · blk_simp
    rw [after0_2]; unfold outsAt0; frame_out
    exact point m c t y

end Cert.AttnInWgrad1Ideal.Value

namespace Cert.Proof.AttnInWgrad1

open Idealize.ShloMosaic Idealize.ShloMosaic.TcCoe Idealize.SL.Sem

theorem frame_reference : Cert.quiescent_AttnInWgrad1PlainIdeal (hAttnInWgrad1PlainIdeal := Cert.AttnInWgrad1PlainIdeal.Gen.facts) := fun m ρ _ =>
  (θ_run Cert.AttnInWgrad1PlainIdeal.defs _ _).mono (fun r h => ⟨fun c => (h c).2, sem_eq_zero_of_no_sems (by decide) r.2⟩)
    (Cert.AttnInWgrad1PlainIdeal.Value.run (F := Ideal) m ρ)

theorem algebraic : Cert.algebraic_AttnInWgrad1Ideal_AttnInWgrad1PlainIdeal (hAttnInWgrad1Ideal := Cert.AttnInWgrad1Ideal.Gen.facts)
    (hAttnInWgrad1PlainIdeal := Cert.AttnInWgrad1PlainIdeal.Gen.facts) := by
  intro m g m' g' _ hargs
  refine ⟨fun c => Cert.AttnInWgrad1Ideal.Value.result m c, ?_, ?_⟩
  · exact (θ_run Cert.AttnInWgrad1Ideal.defs _ _).mono (fun r h c => ⟨(h c).1.trans (Cert.AttnInWgrad1Ideal.Value.final m c), (h c).2⟩)
      (Cert.AttnInWgrad1Ideal.Value.run_blocks (F := Ideal) m g)
  · refine (θ_run Cert.AttnInWgrad1PlainIdeal.defs _ _).mono (fun r h c => ⟨(h c).1.trans ?_, (h c).2⟩) (Cert.AttnInWgrad1PlainIdeal.Value.run (F := Ideal) m' g')
    obtain ⟨a0, a1, a2, a3⟩ := hargs c
    rw [a0, a2, a3]; rfl

end Cert.Proof.AttnInWgrad1

end
-- ==== Proof.AttnInWgrad2.lean ====
module

public import proofs.«01_k».proof.Defs
public import proofs.«01_k».proof.Proof.Gen.AttnInWgrad2
public import proofs.«01_k».proof.Proof.Gen.AttnInWgrad2.Frame
public import proofs.«01_k».proof.Proof.Gen.AttnInWgrad2Ideal
public import proofs.«01_k».proof.Proof.Gen.AttnInWgrad2Ideal.Value
public import proofs.«01_k».proof.Proof.Gen.AttnInWgrad2PlainIdeal
public import proofs.«01_k».proof.Proof.Gen.AttnInWgrad2PlainIdeal.Run
public import Idealize.ShloMosaic.Lib.Pipeline.ValueKit
public import Idealize.ShloMosaic.Lib.Claim
public import Idealize.ShloMosaic.Lib.Pointwise
public import Idealize.ShloMosaic.Adequacy
public import Idealize.ShloMosaic.Init

/-! The gradient of the weights of the attention's projection to its values, written into the gradients' buffer. -/

@[expose] public section

set_option maxRecDepth 16384

noncomputable section

namespace Cert.AttnInWgrad2PlainIdeal

open Cert.AttnInWgrad2PlainIdeal.Gen Idealize.ShloMosaic

/-- The block the reference writes. -/
def upd (a0 : FVec Ideal S4096x4096 .bf16) (a2 : FVec Ideal S4096x4096 .bf16) : FVec Ideal S1x4096x4096 .f32 :=
  broadcastInDim S1x4096x4096 ![1, 2] bcast_S4096x4096_S1x4096x4096_1_2 (transpose S4096x4096 [1, 0] (Host.dotGeneral dot_S4096x4096_S4096x4096_S4096x4096_0_0_1_1_n_n none (extf .f32 a2 bitsLt_bf16_f32) (extf .f32 a0 bitsLt_bf16_f32)) transposes_S4096x4096_S4096x4096_1_0)

/-- The reference's result as a function of its arguments. -/
def REF (a0 : FVec Ideal S4096x4096 .bf16) (a2 : FVec Ideal S4096x4096 .bf16) (a3 : FVec Ideal S4x4096x4096 .f32) : FVec Ideal S4x4096x4096 .f32 :=
  Host.dynamicUpdateSlice a3 (upd a0 a2) (fun k => (((![constantI S_ 32 2#32, constantI S_ 32 0#32, constantI S_ 32 0#32] : Fin 3 → (⟨S_, .i32⟩ : BufTy).Contents (Elt Ideal))) k (Shape.Idx.first h_S_)).toInt) updateFits_S4x4096x4096_S1x4096x4096

end Cert.AttnInWgrad2PlainIdeal

namespace Cert.AttnInWgrad2Ideal.Value

open Cert.AttnInWgrad2Ideal Cert.AttnInWgrad2Ideal.Gen Idealize.ShloMosaic Idealize.ShloMosaic.TcCoe Idealize.SL.Sem
open Idealize.ShloMosaic.Pipeline (Dat)
open Cert.AttnInWgrad2PlainIdeal (REF)

variable (m : (ℓ : Loc nD τ sig) → Buf (Elt Ideal) ℓ)

/-- The blocks each grid point works on. -/
theorem idx : ∀ t : Fin cfg0.N, win0_0.index t = ![0, t.val / 4] ∧ win0_1.index t = ![0, t.val % 4] ∧ win0_2.index t = ![2, t.val / 4, t.val % 4] ∧ t.val / 4 < 4 :=
  (by decide +kernel : ∀ t : Fin grid0.N, _)

/-- The result, of the arguments as the memory holds them. -/
def result (c : Dev nD) : FVec Ideal S4x4096x4096 .f32 :=
  REF (m ((c : Thread nD τ).loc main_arg0)) (m ((c : Thread nD τ).loc main_arg2)) (m ((c : Thread nD τ).loc main_arg3))

/-- The reference's update, at a constant place. -/
theorem REF_eq (a0 : FVec Ideal S4096x4096 .bf16) (a2 : FVec Ideal S4096x4096 .bf16) (a3 : FVec Ideal S4x4096x4096 .f32) : REF a0 a2 a3 = updateSlice (s := S4x4096x4096) (u := Cert.AttnInWgrad2PlainIdeal.S1x4096x4096) a3 (Cert.AttnInWgrad2PlainIdeal.upd a0 a2) ![2, 0, 0] (by decide) :=
  Host.dynamicUpdateSlice_eq_updateSlice _ _ _ _ _ (fun a => by match a with | 0 => rfl | 1 => rfl | 2 => rfl) _

/-- The gradient buffer, as the kernel finds it. -/
theorem V_main_v0 (c : Dev nD) : V m c main_v0 = m ((c : Thread nD τ).loc main_arg3) := by
  unfold V; after_results; try rfl

/-- What a grid point stores is its block of the result. -/
theorem point (c : Dev nD) (t : Fin cfg0.N) (y : S1x1024x1024.Idx) :
    k0_pay1 (F := Ideal) (iblk m c 0 t) (iblk m c 1 t) y = REF (m ((c : Thread nD τ).loc main_arg0)) (m ((c : Thread nD τ).loc main_arg2)) (m ((c : Thread nD τ).loc main_arg3)) (((cfg0.win 2).blk t).view.emb y) := by
  have hy0 : (y 0 : ℕ) < 1 := (y 0).isLt
  have hy1 : (y 1 : ℕ) < 1024 := (y 1).isLt
  have hy2 : (y 2 : ℕ) < 1024 := (y 2).isLt
  have ht := (idx t).2.2.2
  rw [REF_eq]
  pointwise [k0_pay1, Cert.AttnInWgrad2PlainIdeal.upd]
  have h0 : ((((View.whole main_v0).slice ((win0 2).rect t)).emb y 0 : ℕ)) = 2 := by blk_simp [idx t]
  have h1 : ((((View.whole main_v0).slice ((win0 2).rect t)).emb y 1 : ℕ)) = (t.val / 4) * 1024 + (y 1 : ℕ) := by blk_simp [idx t]
  have h2 : ((((View.whole main_v0).slice ((win0 2).rect t)).emb y 2 : ℕ)) = (t.val % 4) * 1024 + (y 2 : ℕ) := by blk_simp [idx t]
  symm
  refine (dif_pos (by omega)).trans ?_
  symm
  refine Finset.sum_congr rfl fun x _ => (mul_comm (G := EReal) _ _).trans (Ideal.mul_congr ?_ ?_)
  · blk_point [iblk, V, idx t]
  · blk_point [iblk, V, idx t]

/-- The output array is the result: the blocks stored, the rest of the buffer as it was. -/
theorem final (c : Dev nD) : (dats m 0 c).arrAt 2 (cfgs 0).N = result m c := by
  have h := (dats m 0 c).arrAt_eq_of_coversWhere 2 (result m c) (fun β => β 0 = 2) (by decide +kernel) (P := fun i => (i 0 : ℕ) = 2) (fun t hf y => ?_)
    (fun j => by blk_simp [Pipeline.Window.cell_apply]; omega)
  · refine h.trans (funext fun i => ?_)
    by_cases h1 : (i 0 : ℕ) = 2
    · exact if_pos h1
    · refine (if_neg h1).trans ((congrFun ((A_eq m c 2).trans (V_main_v0 m c)) i).trans ?_)
      unfold result
      rw [REF_eq]
      pointwise [Cert.AttnInWgrad2PlainIdeal.upd]
      have b0 : (i 0 : ℕ) < 4 := (i 0).isLt
      have b1 : (i 1 : ℕ) < 4096 := (i 1).isLt
      symm
      refine (dif_neg (by omega)).trans rfl
  · blk_simp
    rw [after0_2]; unfold outsAt0; frame_out
    exact point m c t y

end Cert.AttnInWgrad2Ideal.Value

namespace Cert.Proof.AttnInWgrad2

open Idealize.ShloMosaic Idealize.ShloMosaic.TcCoe Idealize.SL.Sem

theorem frame_reference : Cert.quiescent_AttnInWgrad2PlainIdeal (hAttnInWgrad2PlainIdeal := Cert.AttnInWgrad2PlainIdeal.Gen.facts) := fun m ρ _ =>
  (θ_run Cert.AttnInWgrad2PlainIdeal.defs _ _).mono (fun r h => ⟨fun c => (h c).2, sem_eq_zero_of_no_sems (by decide) r.2⟩)
    (Cert.AttnInWgrad2PlainIdeal.Value.run (F := Ideal) m ρ)

theorem algebraic : Cert.algebraic_AttnInWgrad2Ideal_AttnInWgrad2PlainIdeal (hAttnInWgrad2Ideal := Cert.AttnInWgrad2Ideal.Gen.facts)
    (hAttnInWgrad2PlainIdeal := Cert.AttnInWgrad2PlainIdeal.Gen.facts) := by
  intro m g m' g' _ hargs
  refine ⟨fun c => Cert.AttnInWgrad2Ideal.Value.result m c, ?_, ?_⟩
  · exact (θ_run Cert.AttnInWgrad2Ideal.defs _ _).mono (fun r h c => ⟨(h c).1.trans (Cert.AttnInWgrad2Ideal.Value.final m c), (h c).2⟩)
      (Cert.AttnInWgrad2Ideal.Value.run_blocks (F := Ideal) m g)
  · refine (θ_run Cert.AttnInWgrad2PlainIdeal.defs _ _).mono (fun r h c => ⟨(h c).1.trans ?_, (h c).2⟩) (Cert.AttnInWgrad2PlainIdeal.Value.run (F := Ideal) m' g')
    obtain ⟨a0, a1, a2, a3⟩ := hargs c
    rw [a0, a2, a3]; rfl

end Cert.Proof.AttnInWgrad2

end
-- ==== Proof.AttnInWgrad3.lean ====
module

public import proofs.«01_k».proof.Defs
public import proofs.«01_k».proof.Proof.Gen.AttnInWgrad3
public import proofs.«01_k».proof.Proof.Gen.AttnInWgrad3.Frame
public import proofs.«01_k».proof.Proof.Gen.AttnInWgrad3Ideal
public import proofs.«01_k».proof.Proof.Gen.AttnInWgrad3Ideal.Value
public import proofs.«01_k».proof.Proof.Gen.AttnInWgrad3PlainIdeal
public import proofs.«01_k».proof.Proof.Gen.AttnInWgrad3PlainIdeal.Run
public import Idealize.ShloMosaic.Lib.Pipeline.ValueKit
public import Idealize.ShloMosaic.Lib.Claim
public import Idealize.ShloMosaic.Lib.Pointwise
public import Idealize.ShloMosaic.Adequacy
public import Idealize.ShloMosaic.Init

/-! The gradient of the weights of the attention's projection to its gate, written into the gradients' buffer. -/

@[expose] public section

set_option maxRecDepth 16384

noncomputable section

namespace Cert.AttnInWgrad3PlainIdeal

open Cert.AttnInWgrad3PlainIdeal.Gen Idealize.ShloMosaic

/-- The block the reference writes. -/
def upd (a0 : FVec Ideal S4096x4096 .bf16) (a2 : FVec Ideal S4096x4096 .bf16) : FVec Ideal S1x4096x4096 .f32 :=
  broadcastInDim S1x4096x4096 ![1, 2] bcast_S4096x4096_S1x4096x4096_1_2 (transpose S4096x4096 [1, 0] (Host.dotGeneral dot_S4096x4096_S4096x4096_S4096x4096_0_0_1_1_n_n none (extf .f32 a2 bitsLt_bf16_f32) (extf .f32 a0 bitsLt_bf16_f32)) transposes_S4096x4096_S4096x4096_1_0)

/-- The reference's result as a function of its arguments. -/
def REF (a0 : FVec Ideal S4096x4096 .bf16) (a2 : FVec Ideal S4096x4096 .bf16) (a3 : FVec Ideal S4x4096x4096 .f32) : FVec Ideal S4x4096x4096 .f32 :=
  Host.dynamicUpdateSlice a3 (upd a0 a2) (fun k => (((![constantI S_ 32 3#32, constantI S_ 32 0#32, constantI S_ 32 0#32] : Fin 3 → (⟨S_, .i32⟩ : BufTy).Contents (Elt Ideal))) k (Shape.Idx.first h_S_)).toInt) updateFits_S4x4096x4096_S1x4096x4096

end Cert.AttnInWgrad3PlainIdeal

namespace Cert.AttnInWgrad3Ideal.Value

open Cert.AttnInWgrad3Ideal Cert.AttnInWgrad3Ideal.Gen Idealize.ShloMosaic Idealize.ShloMosaic.TcCoe Idealize.SL.Sem
open Idealize.ShloMosaic.Pipeline (Dat)
open Cert.AttnInWgrad3PlainIdeal (REF)

variable (m : (ℓ : Loc nD τ sig) → Buf (Elt Ideal) ℓ)

/-- The blocks each grid point works on. -/
theorem idx : ∀ t : Fin cfg0.N, win0_0.index t = ![0, t.val / 4] ∧ win0_1.index t = ![0, t.val % 4] ∧ win0_2.index t = ![3, t.val / 4, t.val % 4] ∧ t.val / 4 < 4 :=
  (by decide +kernel : ∀ t : Fin grid0.N, _)

/-- The result, of the arguments as the memory holds them. -/
def result (c : Dev nD) : FVec Ideal S4x4096x4096 .f32 :=
  REF (m ((c : Thread nD τ).loc main_arg0)) (m ((c : Thread nD τ).loc main_arg2)) (m ((c : Thread nD τ).loc main_arg3))

/-- The reference's update, at a constant place. -/
theorem REF_eq (a0 : FVec Ideal S4096x4096 .bf16) (a2 : FVec Ideal S4096x4096 .bf16) (a3 : FVec Ideal S4x4096x4096 .f32) : REF a0 a2 a3 = updateSlice (s := S4x4096x4096) (u := Cert.AttnInWgrad3PlainIdeal.S1x4096x4096) a3 (Cert.AttnInWgrad3PlainIdeal.upd a0 a2) ![3, 0, 0] (by decide) :=
  Host.dynamicUpdateSlice_eq_updateSlice _ _ _ _ _ (fun a => by match a with | 0 => rfl | 1 => rfl | 2 => rfl) _

/-- The gradient buffer, as the kernel finds it. -/
theorem V_main_v0 (c : Dev nD) : V m c main_v0 = m ((c : Thread nD τ).loc main_arg3) := by
  unfold V; after_results; try rfl

/-- What a grid point stores is its block of the result. -/
theorem point (c : Dev nD) (t : Fin cfg0.N) (y : S1x1024x1024.Idx) :
    k0_pay1 (F := Ideal) (iblk m c 0 t) (iblk m c 1 t) y = REF (m ((c : Thread nD τ).loc main_arg0)) (m ((c : Thread nD τ).loc main_arg2)) (m ((c : Thread nD τ).loc main_arg3)) (((cfg0.win 2).blk t).view.emb y) := by
  have hy0 : (y 0 : ℕ) < 1 := (y 0).isLt
  have hy1 : (y 1 : ℕ) < 1024 := (y 1).isLt
  have hy2 : (y 2 : ℕ) < 1024 := (y 2).isLt
  have ht := (idx t).2.2.2
  rw [REF_eq]
  pointwise [k0_pay1, Cert.AttnInWgrad3PlainIdeal.upd]
  have h0 : ((((View.whole main_v0).slice ((win0 2).rect t)).emb y 0 : ℕ)) = 3 := by blk_simp [idx t]
  have h1 : ((((View.whole main_v0).slice ((win0 2).rect t)).emb y 1 : ℕ)) = (t.val / 4) * 1024 + (y 1 : ℕ) := by blk_simp [idx t]
  have h2 : ((((View.whole main_v0).slice ((win0 2).rect t)).emb y 2 : ℕ)) = (t.val % 4) * 1024 + (y 2 : ℕ) := by blk_simp [idx t]
  symm
  refine (dif_pos (by omega)).trans ?_
  symm
  refine Finset.sum_congr rfl fun x _ => (mul_comm (G := EReal) _ _).trans (Ideal.mul_congr ?_ ?_)
  · blk_point [iblk, V, idx t]
  · blk_point [iblk, V, idx t]

/-- The output array is the result: the blocks stored, the rest of the buffer as it was. -/
theorem final (c : Dev nD) : (dats m 0 c).arrAt 2 (cfgs 0).N = result m c := by
  have h := (dats m 0 c).arrAt_eq_of_coversWhere 2 (result m c) (fun β => β 0 = 3) (by decide +kernel) (P := fun i => (i 0 : ℕ) = 3) (fun t hf y => ?_)
    (fun j => by blk_simp [Pipeline.Window.cell_apply]; omega)
  · refine h.trans (funext fun i => ?_)
    by_cases h1 : (i 0 : ℕ) = 3
    · exact if_pos h1
    · refine (if_neg h1).trans ((congrFun ((A_eq m c 2).trans (V_main_v0 m c)) i).trans ?_)
      unfold result
      rw [REF_eq]
      pointwise [Cert.AttnInWgrad3PlainIdeal.upd]
      have b0 : (i 0 : ℕ) < 4 := (i 0).isLt
      have b1 : (i 1 : ℕ) < 4096 := (i 1).isLt
      symm
      refine (dif_neg (by omega)).trans rfl
  · blk_simp
    rw [after0_2]; unfold outsAt0; frame_out
    exact point m c t y

end Cert.AttnInWgrad3Ideal.Value

namespace Cert.Proof.AttnInWgrad3

open Idealize.ShloMosaic Idealize.ShloMosaic.TcCoe Idealize.SL.Sem

theorem frame_reference : Cert.quiescent_AttnInWgrad3PlainIdeal (hAttnInWgrad3PlainIdeal := Cert.AttnInWgrad3PlainIdeal.Gen.facts) := fun m ρ _ =>
  (θ_run Cert.AttnInWgrad3PlainIdeal.defs _ _).mono (fun r h => ⟨fun c => (h c).2, sem_eq_zero_of_no_sems (by decide) r.2⟩)
    (Cert.AttnInWgrad3PlainIdeal.Value.run (F := Ideal) m ρ)

theorem algebraic : Cert.algebraic_AttnInWgrad3Ideal_AttnInWgrad3PlainIdeal (hAttnInWgrad3Ideal := Cert.AttnInWgrad3Ideal.Gen.facts)
    (hAttnInWgrad3PlainIdeal := Cert.AttnInWgrad3PlainIdeal.Gen.facts) := by
  intro m g m' g' _ hargs
  refine ⟨fun c => Cert.AttnInWgrad3Ideal.Value.result m c, ?_, ?_⟩
  · exact (θ_run Cert.AttnInWgrad3Ideal.defs _ _).mono (fun r h c => ⟨(h c).1.trans (Cert.AttnInWgrad3Ideal.Value.final m c), (h c).2⟩)
      (Cert.AttnInWgrad3Ideal.Value.run_blocks (F := Ideal) m g)
  · refine (θ_run Cert.AttnInWgrad3PlainIdeal.defs _ _).mono (fun r h c => ⟨(h c).1.trans ?_, (h c).2⟩) (Cert.AttnInWgrad3PlainIdeal.Value.run (F := Ideal) m' g')
    obtain ⟨a0, a1, a2, a3⟩ := hargs c
    rw [a0, a2, a3]; rfl

end Cert.Proof.AttnInWgrad3

end
-- ==== Proof.AttnIn0.lean ====
module

public import proofs.«01_k».proof.Defs
public import proofs.«01_k».proof.Proof.Gen.AttnIn0
public import proofs.«01_k».proof.Proof.Gen.AttnIn0.Frame
public import proofs.«01_k».proof.Proof.Gen.AttnIn0Ideal
public import proofs.«01_k».proof.Proof.Gen.AttnIn0Ideal.Value
public import proofs.«01_k».proof.Proof.Gen.AttnIn0PlainIdeal
public import proofs.«01_k».proof.Proof.Gen.AttnIn0PlainIdeal.Run
public import Idealize.ShloMosaic.Lib.Pipeline.ValueKit
public import Idealize.ShloMosaic.Lib.Claim
public import Idealize.ShloMosaic.Lib.Pointwise
public import Idealize.ShloMosaic.Adequacy
public import Idealize.ShloMosaic.Init

/-! The attention's projection to its queries. -/

@[expose] public section

set_option maxRecDepth 16384

noncomputable section

namespace Cert.AttnIn0PlainIdeal

open Cert.AttnIn0PlainIdeal.Gen Idealize.ShloMosaic

/-- The reference's result as a function of its arguments. -/
def REF (a0 : FVec Ideal S4096x4096 .bf16) (a1 : FVec Ideal S4096x16384 .f32) : FVec Ideal S4096x4096 .f32 :=
  extractStridedSlice S4096x4096 ![0, 0] (Host.dotGeneral dot_S4096x4096_S4096x16384_S4096x16384_1_0_0_1_n_n none (extf .f32 a0 bitsLt_bf16_f32) a1) slices_S4096x16384_S4096x4096_0_0

end Cert.AttnIn0PlainIdeal

namespace Cert.AttnIn0Ideal.Value

open Cert.AttnIn0Ideal Cert.AttnIn0Ideal.Gen Idealize.ShloMosaic Idealize.ShloMosaic.TcCoe Idealize.SL.Sem
open Idealize.ShloMosaic.Pipeline (Dat)
open Cert.AttnIn0PlainIdeal (REF)

variable (m : (ℓ : Loc nD τ sig) → Buf (Elt Ideal) ℓ)

/-- The blocks each grid point works on. -/
theorem idx : ∀ t : Fin cfg0.N, win0_0.index t = ![t.val / 4, 0] ∧ win0_1.index t = ![0, 0, t.val % 4] ∧ win0_2.index t = ![t.val / 4, t.val % 4] ∧ t.val / 4 < 4 :=
  (by decide +kernel : ∀ t : Fin grid0.N, _)

/-- The result, of the arguments as the memory holds them. -/
def result (c : Dev nD) : FVec Ideal S4096x4096 .f32 :=
  REF (m ((c : Thread nD τ).loc main_arg0)) (m ((c : Thread nD τ).loc main_arg1))

/-- What a grid point stores is its block of the result. -/
theorem point (c : Dev nD) (t : Fin cfg0.N) (y : S1024x1024.Idx) :
    k0_pay1 (F := Ideal) (iblk m c 0 t) (iblk m c 1 t) y = REF (m ((c : Thread nD τ).loc main_arg0)) (m ((c : Thread nD τ).loc main_arg1)) (((cfg0.win 2).blk t).view.emb y) := by
  pointwise [k0_pay1, REF]
  blk_point [iblk, V, idx t]

/-- The output array is the result. -/
theorem final (c : Dev nD) : (dats m 0 c).arrAt 2 (cfgs 0).N = result m c := by
  refine (dats m 0 c).arrAt_eq_of_covers 2 _ (by decide +kernel) fun t _ y => ?_
  blk_simp
  rw [after0_2]; frame_out
  exact point m c t y

end Cert.AttnIn0Ideal.Value

namespace Cert.Proof.AttnIn0

open Idealize.ShloMosaic Idealize.ShloMosaic.TcCoe Idealize.SL.Sem

theorem frame_reference : Cert.quiescent_AttnIn0PlainIdeal (hAttnIn0PlainIdeal := Cert.AttnIn0PlainIdeal.Gen.facts) := fun m ρ _ =>
  (θ_run Cert.AttnIn0PlainIdeal.defs _ _).mono (fun r h => ⟨fun c => (h c).2, sem_eq_zero_of_no_sems (by decide) r.2⟩)
    (Cert.AttnIn0PlainIdeal.Value.run (F := Ideal) m ρ)

theorem algebraic : Cert.algebraic_AttnIn0Ideal_AttnIn0PlainIdeal (hAttnIn0Ideal := Cert.AttnIn0Ideal.Gen.facts)
    (hAttnIn0PlainIdeal := Cert.AttnIn0PlainIdeal.Gen.facts) := by
  intro m g m' g' _ hargs
  refine ⟨fun c => Cert.AttnIn0Ideal.Value.result m c, ?_, ?_⟩
  · exact (θ_run Cert.AttnIn0Ideal.defs _ _).mono (fun r h c => ⟨(h c).1.trans (Cert.AttnIn0Ideal.Value.final m c), (h c).2⟩)
      (Cert.AttnIn0Ideal.Value.run_blocks (F := Ideal) m g)
  · refine (θ_run Cert.AttnIn0PlainIdeal.defs _ _).mono (fun r h c => ⟨(h c).1.trans ?_, (h c).2⟩) (Cert.AttnIn0PlainIdeal.Value.run (F := Ideal) m' g')
    obtain ⟨a0, a1⟩ := hargs c
    rw [a0, a1]; rfl

end Cert.Proof.AttnIn0

end
-- ==== Proof.AttnIn1.lean ====
module

public import proofs.«01_k».proof.Defs
public import proofs.«01_k».proof.Proof.Gen.AttnIn1
public import proofs.«01_k».proof.Proof.Gen.AttnIn1.Frame
public import proofs.«01_k».proof.Proof.Gen.AttnIn1Ideal
public import proofs.«01_k».proof.Proof.Gen.AttnIn1Ideal.Value
public import proofs.«01_k».proof.Proof.Gen.AttnIn1PlainIdeal
public import proofs.«01_k».proof.Proof.Gen.AttnIn1PlainIdeal.Run
public import Idealize.ShloMosaic.Lib.Pipeline.ValueKit
public import Idealize.ShloMosaic.Lib.Claim
public import Idealize.ShloMosaic.Lib.Pointwise
public import Idealize.ShloMosaic.Adequacy
public import Idealize.ShloMosaic.Init

/-! The attention's projection to its keys. -/

@[expose] public section

set_option maxRecDepth 16384

noncomputable section

namespace Cert.AttnIn1PlainIdeal

open Cert.AttnIn1PlainIdeal.Gen Idealize.ShloMosaic

/-- The reference's result as a function of its arguments. -/
def REF (a0 : FVec Ideal S4096x4096 .bf16) (a1 : FVec Ideal S4096x16384 .f32) : FVec Ideal S4096x4096 .f32 :=
  extractStridedSlice S4096x4096 ![0, 4096] (Host.dotGeneral dot_S4096x4096_S4096x16384_S4096x16384_1_0_0_1_n_n none (extf .f32 a0 bitsLt_bf16_f32) a1) slices_S4096x16384_S4096x4096_0_4096

end Cert.AttnIn1PlainIdeal

namespace Cert.AttnIn1Ideal.Value

open Cert.AttnIn1Ideal Cert.AttnIn1Ideal.Gen Idealize.ShloMosaic Idealize.ShloMosaic.TcCoe Idealize.SL.Sem
open Idealize.ShloMosaic.Pipeline (Dat)
open Cert.AttnIn1PlainIdeal (REF)

variable (m : (ℓ : Loc nD τ sig) → Buf (Elt Ideal) ℓ)

/-- The blocks each grid point works on. -/
theorem idx : ∀ t : Fin cfg0.N, win0_0.index t = ![t.val / 4, 0] ∧ win0_1.index t = ![1, 0, t.val % 4] ∧ win0_2.index t = ![t.val / 4, t.val % 4] ∧ t.val / 4 < 4 :=
  (by decide +kernel : ∀ t : Fin grid0.N, _)

/-- The result, of the arguments as the memory holds them. -/
def result (c : Dev nD) : FVec Ideal S4096x4096 .f32 :=
  REF (m ((c : Thread nD τ).loc main_arg0)) (m ((c : Thread nD τ).loc main_arg1))

/-- What a grid point stores is its block of the result. -/
theorem point (c : Dev nD) (t : Fin cfg0.N) (y : S1024x1024.Idx) :
    k0_pay1 (F := Ideal) (iblk m c 0 t) (iblk m c 1 t) y = REF (m ((c : Thread nD τ).loc main_arg0)) (m ((c : Thread nD τ).loc main_arg1)) (((cfg0.win 2).blk t).view.emb y) := by
  pointwise [k0_pay1, REF]
  blk_point [iblk, V, idx t]

/-- The output array is the result. -/
theorem final (c : Dev nD) : (dats m 0 c).arrAt 2 (cfgs 0).N = result m c := by
  refine (dats m 0 c).arrAt_eq_of_covers 2 _ (by decide +kernel) fun t _ y => ?_
  blk_simp
  rw [after0_2]; frame_out
  exact point m c t y

end Cert.AttnIn1Ideal.Value

namespace Cert.Proof.AttnIn1

open Idealize.ShloMosaic Idealize.ShloMosaic.TcCoe Idealize.SL.Sem

theorem frame_reference : Cert.quiescent_AttnIn1PlainIdeal (hAttnIn1PlainIdeal := Cert.AttnIn1PlainIdeal.Gen.facts) := fun m ρ _ =>
  (θ_run Cert.AttnIn1PlainIdeal.defs _ _).mono (fun r h => ⟨fun c => (h c).2, sem_eq_zero_of_no_sems (by decide) r.2⟩)
    (Cert.AttnIn1PlainIdeal.Value.run (F := Ideal) m ρ)

theorem algebraic : Cert.algebraic_AttnIn1Ideal_AttnIn1PlainIdeal (hAttnIn1Ideal := Cert.AttnIn1Ideal.Gen.facts)
    (hAttnIn1PlainIdeal := Cert.AttnIn1PlainIdeal.Gen.facts) := by
  intro m g m' g' _ hargs
  refine ⟨fun c => Cert.AttnIn1Ideal.Value.result m c, ?_, ?_⟩
  · exact (θ_run Cert.AttnIn1Ideal.defs _ _).mono (fun r h c => ⟨(h c).1.trans (Cert.AttnIn1Ideal.Value.final m c), (h c).2⟩)
      (Cert.AttnIn1Ideal.Value.run_blocks (F := Ideal) m g)
  · refine (θ_run Cert.AttnIn1PlainIdeal.defs _ _).mono (fun r h c => ⟨(h c).1.trans ?_, (h c).2⟩) (Cert.AttnIn1PlainIdeal.Value.run (F := Ideal) m' g')
    obtain ⟨a0, a1⟩ := hargs c
    rw [a0, a1]; rfl

end Cert.Proof.AttnIn1

end
-- ==== Proof.AttnIn2.lean ====
module

public import proofs.«01_k».proof.Defs
public import proofs.«01_k».proof.Proof.Gen.AttnIn2
public import proofs.«01_k».proof.Proof.Gen.AttnIn2.Frame
public import proofs.«01_k».proof.Proof.Gen.AttnIn2Ideal
public import proofs.«01_k».proof.Proof.Gen.AttnIn2Ideal.Value
public import proofs.«01_k».proof.Proof.Gen.AttnIn2PlainIdeal
public import proofs.«01_k».proof.Proof.Gen.AttnIn2PlainIdeal.Run
public import Idealize.ShloMosaic.Lib.Pipeline.ValueKit
public import Idealize.ShloMosaic.Lib.Claim
public import Idealize.ShloMosaic.Lib.Pointwise
public import Idealize.ShloMosaic.Adequacy
public import Idealize.ShloMosaic.Init

/-! The attention's projection to its values. -/

@[expose] public section

set_option maxRecDepth 16384

noncomputable section

namespace Cert.AttnIn2PlainIdeal

open Cert.AttnIn2PlainIdeal.Gen Idealize.ShloMosaic

/-- The reference's result as a function of its arguments. -/
def REF (a0 : FVec Ideal S4096x4096 .bf16) (a1 : FVec Ideal S4096x16384 .f32) : FVec Ideal S4096x4096 .bf16 :=
  truncf .bf16 (extractStridedSlice S4096x4096 ![0, 8192] (Host.dotGeneral dot_S4096x4096_S4096x16384_S4096x16384_1_0_0_1_n_n none (extf .f32 a0 bitsLt_bf16_f32) a1) slices_S4096x16384_S4096x4096_0_8192) bitsLt_bf16_f32

end Cert.AttnIn2PlainIdeal

namespace Cert.AttnIn2Ideal.Value

open Cert.AttnIn2Ideal Cert.AttnIn2Ideal.Gen Idealize.ShloMosaic Idealize.ShloMosaic.TcCoe Idealize.SL.Sem
open Idealize.ShloMosaic.Pipeline (Dat)
open Cert.AttnIn2PlainIdeal (REF)

variable (m : (ℓ : Loc nD τ sig) → Buf (Elt Ideal) ℓ)

/-- The blocks each grid point works on. -/
theorem idx : ∀ t : Fin cfg0.N, win0_0.index t = ![t.val / 4, 0] ∧ win0_1.index t = ![2, 0, t.val % 4] ∧ win0_2.index t = ![t.val / 4, t.val % 4] ∧ t.val / 4 < 4 :=
  (by decide +kernel : ∀ t : Fin grid0.N, _)

/-- The result, of the arguments as the memory holds them. -/
def result (c : Dev nD) : FVec Ideal S4096x4096 .bf16 :=
  REF (m ((c : Thread nD τ).loc main_arg0)) (m ((c : Thread nD τ).loc main_arg1))

/-- What a grid point stores is its block of the result. -/
theorem point (c : Dev nD) (t : Fin cfg0.N) (y : S1024x1024.Idx) :
    k0_pay1 (F := Ideal) (iblk m c 0 t) (iblk m c 1 t) y = REF (m ((c : Thread nD τ).loc main_arg0)) (m ((c : Thread nD τ).loc main_arg1)) (((cfg0.win 2).blk t).view.emb y) := by
  pointwise [k0_pay1, REF]
  blk_point [iblk, V, idx t]

/-- The output array is the result. -/
theorem final (c : Dev nD) : (dats m 0 c).arrAt 2 (cfgs 0).N = result m c := by
  refine (dats m 0 c).arrAt_eq_of_covers 2 _ (by decide +kernel) fun t _ y => ?_
  blk_simp
  rw [after0_2]; frame_out
  exact point m c t y

end Cert.AttnIn2Ideal.Value

namespace Cert.Proof.AttnIn2

open Idealize.ShloMosaic Idealize.ShloMosaic.TcCoe Idealize.SL.Sem

theorem frame_reference : Cert.quiescent_AttnIn2PlainIdeal (hAttnIn2PlainIdeal := Cert.AttnIn2PlainIdeal.Gen.facts) := fun m ρ _ =>
  (θ_run Cert.AttnIn2PlainIdeal.defs _ _).mono (fun r h => ⟨fun c => (h c).2, sem_eq_zero_of_no_sems (by decide) r.2⟩)
    (Cert.AttnIn2PlainIdeal.Value.run (F := Ideal) m ρ)

theorem algebraic : Cert.algebraic_AttnIn2Ideal_AttnIn2PlainIdeal (hAttnIn2Ideal := Cert.AttnIn2Ideal.Gen.facts)
    (hAttnIn2PlainIdeal := Cert.AttnIn2PlainIdeal.Gen.facts) := by
  intro m g m' g' _ hargs
  refine ⟨fun c => Cert.AttnIn2Ideal.Value.result m c, ?_, ?_⟩
  · exact (θ_run Cert.AttnIn2Ideal.defs _ _).mono (fun r h c => ⟨(h c).1.trans (Cert.AttnIn2Ideal.Value.final m c), (h c).2⟩)
      (Cert.AttnIn2Ideal.Value.run_blocks (F := Ideal) m g)
  · refine (θ_run Cert.AttnIn2PlainIdeal.defs _ _).mono (fun r h c => ⟨(h c).1.trans ?_, (h c).2⟩) (Cert.AttnIn2PlainIdeal.Value.run (F := Ideal) m' g')
    obtain ⟨a0, a1⟩ := hargs c
    rw [a0, a1]; rfl

end Cert.Proof.AttnIn2

end
-- ==== Proof.AttnIn3.lean ====
module

public import proofs.«01_k».proof.Defs
public import proofs.«01_k».proof.Proof.Gen.AttnIn3
public import proofs.«01_k».proof.Proof.Gen.AttnIn3.Frame
public import proofs.«01_k».proof.Proof.Gen.AttnIn3Ideal
public import proofs.«01_k».proof.Proof.Gen.AttnIn3Ideal.Value
public import proofs.«01_k».proof.Proof.Gen.AttnIn3PlainIdeal
public import proofs.«01_k».proof.Proof.Gen.AttnIn3PlainIdeal.Run
public import Idealize.ShloMosaic.Lib.Pipeline.ValueKit
public import Idealize.ShloMosaic.Lib.Claim
public import Idealize.ShloMosaic.Lib.Pointwise
public import Idealize.ShloMosaic.Adequacy
public import Idealize.ShloMosaic.Init

/-! The attention's projection to its gate. -/

@[expose] public section

set_option maxRecDepth 16384

noncomputable section

namespace Cert.AttnIn3PlainIdeal

open Cert.AttnIn3PlainIdeal.Gen Idealize.ShloMosaic

/-- The reference's result as a function of its arguments. -/
def REF (a0 : FVec Ideal S4096x4096 .bf16) (a1 : FVec Ideal S4096x16384 .f32) : FVec Ideal S4096x4096 .f32 :=
  extractStridedSlice S4096x4096 ![0, 12288] (Host.dotGeneral dot_S4096x4096_S4096x16384_S4096x16384_1_0_0_1_n_n none (extf .f32 a0 bitsLt_bf16_f32) a1) slices_S4096x16384_S4096x4096_0_12288

end Cert.AttnIn3PlainIdeal

namespace Cert.AttnIn3Ideal.Value

open Cert.AttnIn3Ideal Cert.AttnIn3Ideal.Gen Idealize.ShloMosaic Idealize.ShloMosaic.TcCoe Idealize.SL.Sem
open Idealize.ShloMosaic.Pipeline (Dat)
open Cert.AttnIn3PlainIdeal (REF)

variable (m : (ℓ : Loc nD τ sig) → Buf (Elt Ideal) ℓ)

/-- The blocks each grid point works on. -/
theorem idx : ∀ t : Fin cfg0.N, win0_0.index t = ![t.val / 4, 0] ∧ win0_1.index t = ![3, 0, t.val % 4] ∧ win0_2.index t = ![t.val / 4, t.val % 4] ∧ t.val / 4 < 4 :=
  (by decide +kernel : ∀ t : Fin grid0.N, _)

/-- The result, of the arguments as the memory holds them. -/
def result (c : Dev nD) : FVec Ideal S4096x4096 .f32 :=
  REF (m ((c : Thread nD τ).loc main_arg0)) (m ((c : Thread nD τ).loc main_arg1))

/-- What a grid point stores is its block of the result. -/
theorem point (c : Dev nD) (t : Fin cfg0.N) (y : S1024x1024.Idx) :
    k0_pay1 (F := Ideal) (iblk m c 0 t) (iblk m c 1 t) y = REF (m ((c : Thread nD τ).loc main_arg0)) (m ((c : Thread nD τ).loc main_arg1)) (((cfg0.win 2).blk t).view.emb y) := by
  pointwise [k0_pay1, REF]
  blk_point [iblk, V, idx t]

/-- The output array is the result. -/
theorem final (c : Dev nD) : (dats m 0 c).arrAt 2 (cfgs 0).N = result m c := by
  refine (dats m 0 c).arrAt_eq_of_covers 2 _ (by decide +kernel) fun t _ y => ?_
  blk_simp
  rw [after0_2]; frame_out
  exact point m c t y

end Cert.AttnIn3Ideal.Value

namespace Cert.Proof.AttnIn3

open Idealize.ShloMosaic Idealize.ShloMosaic.TcCoe Idealize.SL.Sem

theorem frame_reference : Cert.quiescent_AttnIn3PlainIdeal (hAttnIn3PlainIdeal := Cert.AttnIn3PlainIdeal.Gen.facts) := fun m ρ _ =>
  (θ_run Cert.AttnIn3PlainIdeal.defs _ _).mono (fun r h => ⟨fun c => (h c).2, sem_eq_zero_of_no_sems (by decide) r.2⟩)
    (Cert.AttnIn3PlainIdeal.Value.run (F := Ideal) m ρ)

theorem algebraic : Cert.algebraic_AttnIn3Ideal_AttnIn3PlainIdeal (hAttnIn3Ideal := Cert.AttnIn3Ideal.Gen.facts)
    (hAttnIn3PlainIdeal := Cert.AttnIn3PlainIdeal.Gen.facts) := by
  intro m g m' g' _ hargs
  refine ⟨fun c => Cert.AttnIn3Ideal.Value.result m c, ?_, ?_⟩
  · exact (θ_run Cert.AttnIn3Ideal.defs _ _).mono (fun r h c => ⟨(h c).1.trans (Cert.AttnIn3Ideal.Value.final m c), (h c).2⟩)
      (Cert.AttnIn3Ideal.Value.run_blocks (F := Ideal) m g)
  · refine (θ_run Cert.AttnIn3PlainIdeal.defs _ _).mono (fun r h c => ⟨(h c).1.trans ?_, (h c).2⟩) (Cert.AttnIn3PlainIdeal.Value.run (F := Ideal) m' g')
    obtain ⟨a0, a1⟩ := hargs c
    rw [a0, a1]; rfl

end Cert.Proof.AttnIn3

end
-- ==== Proof.AttnOut.lean ====
module

public import proofs.«01_k».proof.Defs
public import proofs.«01_k».proof.Proof.Gen.AttnOut
public import proofs.«01_k».proof.Proof.Gen.AttnOut.Frame
public import proofs.«01_k».proof.Proof.Gen.AttnOutIdeal
public import proofs.«01_k».proof.Proof.Gen.AttnOutIdeal.Value
public import proofs.«01_k».proof.Proof.Gen.AttnOutPlainIdeal
public import proofs.«01_k».proof.Proof.Gen.AttnOutPlainIdeal.Run
public import proofs.«01_k».proof.Proof.RestBuffer
public import Idealize.ShloMosaic.Lib.Pipeline.ValueKit
public import Idealize.ShloMosaic.Lib.Claim
public import Idealize.ShloMosaic.Lib.Pointwise
public import Idealize.ShloMosaic.Adequacy
public import Idealize.ShloMosaic.Init

/-! The attention's output projection, added to the residual stream. -/

@[expose] public section

set_option maxRecDepth 16384

noncomputable section

namespace Cert.AttnOutPlainIdeal

open Cert.AttnOutPlainIdeal.Gen Idealize.ShloMosaic

/-- The reference's result as a function of its arguments. -/
def REF (a0 : FVec Ideal S4096x4096 .bf16) (a1 : FVec Ideal S4096x4096 .f32) (a2 : FVec Ideal S4096x4096 .f32) : FVec Ideal S4096x4096 .f32 :=
  addf a1 (Host.dotGeneral dot_S4096x4096_S4096x4096_S4096x4096_1_0_0_1_n_n none (extf .f32 a0 bitsLt_bf16_f32) a2)

end Cert.AttnOutPlainIdeal

namespace Cert.AttnOutIdeal.Value

open Cert.AttnOutIdeal Cert.AttnOutIdeal.Gen Idealize.ShloMosaic Idealize.ShloMosaic.TcCoe Idealize.SL.Sem
open Idealize.ShloMosaic.Pipeline (Dat)
open Cert.AttnOutPlainIdeal (REF)

variable (m : (ℓ : Loc nD τ sig) → Buf (Elt Ideal) ℓ)

/-- The blocks each grid point works on. -/
theorem idx : ∀ t : Fin cfg0.N, win0_0.index t = ![t.val / 4, 0] ∧ win0_1.index t = ![0, 0, t.val % 4] ∧ win0_2.index t = ![1, 0, t.val % 4] ∧ win0_3.index t = ![2, 0, t.val % 4] ∧ win0_4.index t = ![3, 0, t.val % 4] ∧ win0_5.index t = ![t.val / 4, t.val % 4] ∧ win0_6.index t = ![t.val / 4, t.val % 4] ∧ t.val / 4 < 4 :=
  (by decide +kernel : ∀ t : Fin grid0.N, _)

/-- The result, of the arguments as the memory holds them. -/
def result (c : Dev nD) : FVec Ideal S4096x4096 .f32 :=
  REF (m ((c : Thread nD τ).loc main_arg0)) (m ((c : Thread nD τ).loc main_arg1)) (m ((c : Thread nD τ).loc main_arg2))

/-- The packed weights, as the kernel finds them. -/
theorem V_packed (c : Dev nD) : V m c main_v7 = Cert.Rest.buffer (m ((c : Thread nD τ).loc main_arg2)) (m ((c : Thread nD τ).loc main_arg3)) (m ((c : Thread nD τ).loc main_arg4)) (m ((c : Thread nD τ).loc main_arg5)) := by
  unfold V
  after_results_simp
  refine Cert.Rest.pack_congr ?_ ?_ ?_ ?_
  all_goals
    repeat first
      | rw [StableHlo.reshape_result] | rw [StableHlo.unary_result]
      | (rw [StableHlo.reshape_result_ne]; rotate_left; decide)
      | (rw [StableHlo.unary_result_ne]; rotate_left; decide)
  all_goals rfl

/-- What a grid point stores is its block of the result. -/
theorem point (c : Dev nD) (t : Fin cfg0.N) (y : S1024x1024.Idx) :
    k0_pay1 (F := Ideal) (View.ld (iblk m c 0 t) r0_0) (iblk m c 1 t) (View.ld (iblk m c 0 t) r0_2) (iblk m c 2 t) (View.ld (iblk m c 0 t) r0_3) (iblk m c 3 t) (View.ld (iblk m c 0 t) r0_4) (iblk m c 4 t) (iblk m c 5 t) y = REF (m ((c : Thread nD τ).loc main_arg0)) (m ((c : Thread nD τ).loc main_arg1)) (m ((c : Thread nD τ).loc main_arg2)) (((cfg0.win 6).blk t).view.emb y) := by
  have hy0 : (y 0 : ℕ) < 1024 := (y 0).isLt
  have hy1 : (y 1 : ℕ) < 1024 := (y 1).isLt
  pointwise [k0_pay1, REF]
  rw [Cert.Rest.sum_four]
  refine (add_comm (G := EReal) _ _).trans (congrArg₂ (· + ·) ?_ (congrArg₂ (· + ·) (congrArg₂ (· + ·) (congrArg₂ (· + ·) (Finset.sum_congr rfl fun x _ => ?_) (Finset.sum_congr rfl fun x _ => ?_)) (Finset.sum_congr rfl fun x _ => ?_)) (Finset.sum_congr rfl fun x _ => ?_)))
  · blk_point [iblk, V, idx t]
  · have hx := x.isLt
    refine Ideal.mul_congr ?_ ?_
    · blk_point [iblk, V, idx t]
    · refine (congrFun (V_packed m c) _).trans (Cert.Rest.buffer_attn_out _ _ _ _ _ _ ?_ ?_ ?_)
      all_goals blk_simp [idx t]
      all_goals first | omega | (dsimp only; omega)
  · have hx := x.isLt
    refine Ideal.mul_congr ?_ ?_
    · blk_point [iblk, V, idx t]
    · refine (congrFun (V_packed m c) _).trans (Cert.Rest.buffer_attn_out _ _ _ _ _ _ ?_ ?_ ?_)
      all_goals blk_simp [idx t]
      all_goals first | omega | (dsimp only; omega)
  · have hx := x.isLt
    refine Ideal.mul_congr ?_ ?_
    · blk_point [iblk, V, idx t]
    · refine (congrFun (V_packed m c) _).trans (Cert.Rest.buffer_attn_out _ _ _ _ _ _ ?_ ?_ ?_)
      all_goals blk_simp [idx t]
      all_goals first | omega | (dsimp only; omega)
  · have hx := x.isLt
    refine Ideal.mul_congr ?_ ?_
    · blk_point [iblk, V, idx t]
    · refine (congrFun (V_packed m c) _).trans (Cert.Rest.buffer_attn_out _ _ _ _ _ _ ?_ ?_ ?_)
      all_goals blk_simp [idx t]
      all_goals first | omega | (dsimp only; omega)

/-- The output array is the result. -/
theorem final (c : Dev nD) : (dats m 0 c).arrAt 6 (cfgs 0).N = result m c := by
  refine (dats m 0 c).arrAt_eq_of_covers 6 _ (by decide +kernel) fun t _ y => ?_
  blk_simp
  rw [after0_6]; frame_out
  exact point m c t y

end Cert.AttnOutIdeal.Value

namespace Cert.Proof.AttnOut

open Idealize.ShloMosaic Idealize.ShloMosaic.TcCoe Idealize.SL.Sem

theorem frame_reference : Cert.quiescent_AttnOutPlainIdeal (hAttnOutPlainIdeal := Cert.AttnOutPlainIdeal.Gen.facts) := fun m ρ _ =>
  (θ_run Cert.AttnOutPlainIdeal.defs _ _).mono (fun r h => ⟨fun c => (h c).2, sem_eq_zero_of_no_sems (by decide) r.2⟩)
    (Cert.AttnOutPlainIdeal.Value.run (F := Ideal) m ρ)

theorem algebraic : Cert.algebraic_AttnOutIdeal_AttnOutPlainIdeal (hAttnOutIdeal := Cert.AttnOutIdeal.Gen.facts)
    (hAttnOutPlainIdeal := Cert.AttnOutPlainIdeal.Gen.facts) := by
  intro m g m' g' _ hargs
  refine ⟨fun c => Cert.AttnOutIdeal.Value.result m c, ?_, ?_⟩
  · exact (θ_run Cert.AttnOutIdeal.defs _ _).mono (fun r h c => ⟨(h c).1.trans (Cert.AttnOutIdeal.Value.final m c), (h c).2⟩)
      (Cert.AttnOutIdeal.Value.run_blocks (F := Ideal) m g)
  · refine (θ_run Cert.AttnOutPlainIdeal.defs _ _).mono (fun r h c => ⟨(h c).1.trans ?_, (h c).2⟩) (Cert.AttnOutPlainIdeal.Value.run (F := Ideal) m' g')
    obtain ⟨a0, a1, a2, a3, a4, a5⟩ := hargs c
    rw [a0, a1, a2]; rfl

end Cert.Proof.AttnOut

end
-- ==== Proof.SsmInU.lean ====
module

public import proofs.«01_k».proof.Defs
public import proofs.«01_k».proof.Proof.Gen.SsmInU
public import proofs.«01_k».proof.Proof.Gen.SsmInU.Frame
public import proofs.«01_k».proof.Proof.Gen.SsmInUIdeal
public import proofs.«01_k».proof.Proof.Gen.SsmInUIdeal.Value
public import proofs.«01_k».proof.Proof.Gen.SsmInUPlainIdeal
public import proofs.«01_k».proof.Proof.Gen.SsmInUPlainIdeal.Run
public import proofs.«01_k».proof.Proof.RestBuffer
public import Idealize.ShloMosaic.Lib.Pipeline.ValueKit
public import Idealize.ShloMosaic.Lib.Claim
public import Idealize.ShloMosaic.Lib.Pointwise
public import Idealize.ShloMosaic.Adequacy
public import Idealize.ShloMosaic.Init

/-! The state-space branch's projection to its input. -/

@[expose] public section

set_option maxRecDepth 16384

noncomputable section

namespace Cert.SsmInUPlainIdeal

open Cert.SsmInUPlainIdeal.Gen Idealize.ShloMosaic

/-- The reference's result as a function of its arguments. -/
def REF (a0 : FVec Ideal S4096x4096 .bf16) (a2 : FVec Ideal S4096x8192 .f32) : FVec Ideal S4096x4096 .f32 :=
  extractStridedSlice S4096x4096 ![0, 0] (Host.dotGeneral dot_S4096x4096_S4096x8192_S4096x8192_1_0_0_1_n_n none (extf .f32 a0 bitsLt_bf16_f32) a2) slices_S4096x8192_S4096x4096_0_0

end Cert.SsmInUPlainIdeal

namespace Cert.SsmInUIdeal.Value

open Cert.SsmInUIdeal Cert.SsmInUIdeal.Gen Idealize.ShloMosaic Idealize.ShloMosaic.TcCoe Idealize.SL.Sem
open Idealize.ShloMosaic.Pipeline (Dat)
open Cert.SsmInUPlainIdeal (REF)

variable (m : (ℓ : Loc nD τ sig) → Buf (Elt Ideal) ℓ)

/-- The blocks each grid point works on. -/
theorem idx : ∀ t : Fin cfg0.N, win0_0.index t = ![t.val / 4, 0] ∧ win0_1.index t = ![0 + t.val % 4 / 2, 1, 0 + t.val % 4 % 2] ∧ win0_2.index t = ![0 + t.val % 4 / 2, 2, 0 + t.val % 4 % 2] ∧ win0_3.index t = ![0 + t.val % 4 / 2, 1, 2 + t.val % 4 % 2] ∧ win0_4.index t = ![0 + t.val % 4 / 2, 2, 2 + t.val % 4 % 2] ∧ win0_5.index t = ![t.val / 4, t.val % 4] ∧ t.val / 4 < 4 :=
  (by decide +kernel : ∀ t : Fin grid0.N, _)

/-- The result, of the arguments as the memory holds them. -/
def result (c : Dev nD) : FVec Ideal S4096x4096 .f32 :=
  REF (m ((c : Thread nD τ).loc main_arg0)) (m ((c : Thread nD τ).loc main_arg2))

/-- The packed weights, as the kernel finds them. -/
theorem V_packed (c : Dev nD) : V m c main_v7 = Cert.Rest.buffer (m ((c : Thread nD τ).loc main_arg1)) (m ((c : Thread nD τ).loc main_arg2)) (m ((c : Thread nD τ).loc main_arg3)) (m ((c : Thread nD τ).loc main_arg4)) := by
  unfold V
  after_results_simp
  refine Cert.Rest.pack_congr ?_ ?_ ?_ ?_
  all_goals
    repeat first
      | rw [StableHlo.reshape_result] | rw [StableHlo.unary_result]
      | (rw [StableHlo.reshape_result_ne]; rotate_left; decide)
      | (rw [StableHlo.unary_result_ne]; rotate_left; decide)
  all_goals rfl

/-- What a grid point stores is its block of the result. -/
theorem point (c : Dev nD) (t : Fin cfg0.N) (y : S1024x1024.Idx) :
    k0_pay1 (F := Ideal) (View.ld (iblk m c 0 t) r0_0) (iblk m c 1 t) (View.ld (iblk m c 0 t) r0_2) (iblk m c 2 t) (View.ld (iblk m c 0 t) r0_3) (iblk m c 3 t) (View.ld (iblk m c 0 t) r0_4) (iblk m c 4 t) y = REF (m ((c : Thread nD τ).loc main_arg0)) (m ((c : Thread nD τ).loc main_arg2)) (((cfg0.win 5).blk t).view.emb y) := by
  have hy0 : (y 0 : ℕ) < 1024 := (y 0).isLt
  have hy1 : (y 1 : ℕ) < 1024 := (y 1).isLt
  pointwise [k0_pay1, REF]
  rw [Cert.Rest.sum_four]
  refine congrArg₂ (· + ·) (congrArg₂ (· + ·) (congrArg₂ (· + ·) (Finset.sum_congr rfl fun x _ => ?_) (Finset.sum_congr rfl fun x _ => ?_)) (Finset.sum_congr rfl fun x _ => ?_)) (Finset.sum_congr rfl fun x _ => ?_)
  · have hx := x.isLt
    refine Ideal.mul_congr ?_ ?_
    · blk_point [iblk, V, idx t]
    · refine (congrFun (V_packed m c) _).trans (Cert.Rest.buffer_ssm_in _ _ _ _ _ _ ?_ ?_ ?_ ?_)
      all_goals blk_simp [idx t]
      all_goals first | omega | (dsimp only; omega)
  · have hx := x.isLt
    refine Ideal.mul_congr ?_ ?_
    · blk_point [iblk, V, idx t]
    · refine (congrFun (V_packed m c) _).trans (Cert.Rest.buffer_ssm_in _ _ _ _ _ _ ?_ ?_ ?_ ?_)
      all_goals blk_simp [idx t]
      all_goals first | omega | (dsimp only; omega)
  · have hx := x.isLt
    refine Ideal.mul_congr ?_ ?_
    · blk_point [iblk, V, idx t]
    · refine (congrFun (V_packed m c) _).trans (Cert.Rest.buffer_ssm_in _ _ _ _ _ _ ?_ ?_ ?_ ?_)
      all_goals blk_simp [idx t]
      all_goals first | omega | (dsimp only; omega)
  · have hx := x.isLt
    refine Ideal.mul_congr ?_ ?_
    · blk_point [iblk, V, idx t]
    · refine (congrFun (V_packed m c) _).trans (Cert.Rest.buffer_ssm_in _ _ _ _ _ _ ?_ ?_ ?_ ?_)
      all_goals blk_simp [idx t]
      all_goals first | omega | (dsimp only; omega)

/-- The output array is the result. -/
theorem final (c : Dev nD) : (dats m 0 c).arrAt 5 (cfgs 0).N = result m c := by
  refine (dats m 0 c).arrAt_eq_of_covers 5 _ (by decide +kernel) fun t _ y => ?_
  blk_simp
  rw [after0_5]; frame_out
  exact point m c t y

end Cert.SsmInUIdeal.Value

namespace Cert.Proof.SsmInU

open Idealize.ShloMosaic Idealize.ShloMosaic.TcCoe Idealize.SL.Sem

theorem frame_reference : Cert.quiescent_SsmInUPlainIdeal (hSsmInUPlainIdeal := Cert.SsmInUPlainIdeal.Gen.facts) := fun m ρ _ =>
  (θ_run Cert.SsmInUPlainIdeal.defs _ _).mono (fun r h => ⟨fun c => (h c).2, sem_eq_zero_of_no_sems (by decide) r.2⟩)
    (Cert.SsmInUPlainIdeal.Value.run (F := Ideal) m ρ)

theorem algebraic : Cert.algebraic_SsmInUIdeal_SsmInUPlainIdeal (hSsmInUIdeal := Cert.SsmInUIdeal.Gen.facts)
    (hSsmInUPlainIdeal := Cert.SsmInUPlainIdeal.Gen.facts) := by
  intro m g m' g' _ hargs
  refine ⟨fun c => Cert.SsmInUIdeal.Value.result m c, ?_, ?_⟩
  · exact (θ_run Cert.SsmInUIdeal.defs _ _).mono (fun r h c => ⟨(h c).1.trans (Cert.SsmInUIdeal.Value.final m c), (h c).2⟩)
      (Cert.SsmInUIdeal.Value.run_blocks (F := Ideal) m g)
  · refine (θ_run Cert.SsmInUPlainIdeal.defs _ _).mono (fun r h c => ⟨(h c).1.trans ?_, (h c).2⟩) (Cert.SsmInUPlainIdeal.Value.run (F := Ideal) m' g')
    obtain ⟨a0, a1, a2, a3, a4⟩ := hargs c
    rw [a0, a2]; rfl

end Cert.Proof.SsmInU

end
-- ==== Proof.SsmInGate.lean ====
module

public import proofs.«01_k».proof.Defs
public import proofs.«01_k».proof.Proof.Gen.SsmInGate
public import proofs.«01_k».proof.Proof.Gen.SsmInGate.Frame
public import proofs.«01_k».proof.Proof.Gen.SsmInGateIdeal
public import proofs.«01_k».proof.Proof.Gen.SsmInGateIdeal.Value
public import proofs.«01_k».proof.Proof.Gen.SsmInGatePlainIdeal
public import proofs.«01_k».proof.Proof.Gen.SsmInGatePlainIdeal.Run
public import proofs.«01_k».proof.Proof.RestBuffer
public import Idealize.ShloMosaic.Lib.Pipeline.ValueKit
public import Idealize.ShloMosaic.Lib.Claim
public import Idealize.ShloMosaic.Lib.Pointwise
public import Idealize.ShloMosaic.Adequacy
public import Idealize.ShloMosaic.Init

/-! The state-space branch's projection to its gate. -/

@[expose] public section

set_option maxRecDepth 16384

noncomputable section

namespace Cert.SsmInGatePlainIdeal

open Cert.SsmInGatePlainIdeal.Gen Idealize.ShloMosaic

/-- The reference's result as a function of its arguments. -/
def REF (a0 : FVec Ideal S4096x4096 .bf16) (a2 : FVec Ideal S4096x8192 .f32) : FVec Ideal S4096x4096 .f32 :=
  extractStridedSlice S4096x4096 ![0, 4096] (Host.dotGeneral dot_S4096x4096_S4096x8192_S4096x8192_1_0_0_1_n_n none (extf .f32 a0 bitsLt_bf16_f32) a2) slices_S4096x8192_S4096x4096_0_4096

end Cert.SsmInGatePlainIdeal

namespace Cert.SsmInGateIdeal.Value

open Cert.SsmInGateIdeal Cert.SsmInGateIdeal.Gen Idealize.ShloMosaic Idealize.ShloMosaic.TcCoe Idealize.SL.Sem
open Idealize.ShloMosaic.Pipeline (Dat)
open Cert.SsmInGatePlainIdeal (REF)

variable (m : (ℓ : Loc nD τ sig) → Buf (Elt Ideal) ℓ)

/-- The blocks each grid point works on. -/
theorem idx : ∀ t : Fin cfg0.N, win0_0.index t = ![t.val / 4, 0] ∧ win0_1.index t = ![2 + t.val % 4 / 2, 1, 0 + t.val % 4 % 2] ∧ win0_2.index t = ![2 + t.val % 4 / 2, 2, 0 + t.val % 4 % 2] ∧ win0_3.index t = ![2 + t.val % 4 / 2, 1, 2 + t.val % 4 % 2] ∧ win0_4.index t = ![2 + t.val % 4 / 2, 2, 2 + t.val % 4 % 2] ∧ win0_5.index t = ![t.val / 4, t.val % 4] ∧ t.val / 4 < 4 :=
  (by decide +kernel : ∀ t : Fin grid0.N, _)

/-- The result, of the arguments as the memory holds them. -/
def result (c : Dev nD) : FVec Ideal S4096x4096 .f32 :=
  REF (m ((c : Thread nD τ).loc main_arg0)) (m ((c : Thread nD τ).loc main_arg2))

/-- The packed weights, as the kernel finds them. -/
theorem V_packed (c : Dev nD) : V m c main_v7 = Cert.Rest.buffer (m ((c : Thread nD τ).loc main_arg1)) (m ((c : Thread nD τ).loc main_arg2)) (m ((c : Thread nD τ).loc main_arg3)) (m ((c : Thread nD τ).loc main_arg4)) := by
  unfold V
  after_results_simp
  refine Cert.Rest.pack_congr ?_ ?_ ?_ ?_
  all_goals
    repeat first
      | rw [StableHlo.reshape_result] | rw [StableHlo.unary_result]
      | (rw [StableHlo.reshape_result_ne]; rotate_left; decide)
      | (rw [StableHlo.unary_result_ne]; rotate_left; decide)
  all_goals rfl

/-- What a grid point stores is its block of the result. -/
theorem point (c : Dev nD) (t : Fin cfg0.N) (y : S1024x1024.Idx) :
    k0_pay1 (F := Ideal) (View.ld (iblk m c 0 t) r0_0) (iblk m c 1 t) (View.ld (iblk m c 0 t) r0_2) (iblk m c 2 t) (View.ld (iblk m c 0 t) r0_3) (iblk m c 3 t) (View.ld (iblk m c 0 t) r0_4) (iblk m c 4 t) y = REF (m ((c : Thread nD τ).loc main_arg0)) (m ((c : Thread nD τ).loc main_arg2)) (((cfg0.win 5).blk t).view.emb y) := by
  have hy0 : (y 0 : ℕ) < 1024 := (y 0).isLt
  have hy1 : (y 1 : ℕ) < 1024 := (y 1).isLt
  pointwise [k0_pay1, REF]
  rw [Cert.Rest.sum_four]
  refine congrArg₂ (· + ·) (congrArg₂ (· + ·) (congrArg₂ (· + ·) (Finset.sum_congr rfl fun x _ => ?_) (Finset.sum_congr rfl fun x _ => ?_)) (Finset.sum_congr rfl fun x _ => ?_)) (Finset.sum_congr rfl fun x _ => ?_)
  · have hx := x.isLt
    refine Ideal.mul_congr ?_ ?_
    · blk_point [iblk, V, idx t]
    · refine (congrFun (V_packed m c) _).trans (Cert.Rest.buffer_ssm_in _ _ _ _ _ _ ?_ ?_ ?_ ?_)
      all_goals blk_simp [idx t]
      all_goals first | omega | (dsimp only; omega)
  · have hx := x.isLt
    refine Ideal.mul_congr ?_ ?_
    · blk_point [iblk, V, idx t]
    · refine (congrFun (V_packed m c) _).trans (Cert.Rest.buffer_ssm_in _ _ _ _ _ _ ?_ ?_ ?_ ?_)
      all_goals blk_simp [idx t]
      all_goals first | omega | (dsimp only; omega)
  · have hx := x.isLt
    refine Ideal.mul_congr ?_ ?_
    · blk_point [iblk, V, idx t]
    · refine (congrFun (V_packed m c) _).trans (Cert.Rest.buffer_ssm_in _ _ _ _ _ _ ?_ ?_ ?_ ?_)
      all_goals blk_simp [idx t]
      all_goals first | omega | (dsimp only; omega)
  · have hx := x.isLt
    refine Ideal.mul_congr ?_ ?_
    · blk_point [iblk, V, idx t]
    · refine (congrFun (V_packed m c) _).trans (Cert.Rest.buffer_ssm_in _ _ _ _ _ _ ?_ ?_ ?_ ?_)
      all_goals blk_simp [idx t]
      all_goals first | omega | (dsimp only; omega)

/-- The output array is the result. -/
theorem final (c : Dev nD) : (dats m 0 c).arrAt 5 (cfgs 0).N = result m c := by
  refine (dats m 0 c).arrAt_eq_of_covers 5 _ (by decide +kernel) fun t _ y => ?_
  blk_simp
  rw [after0_5]; frame_out
  exact point m c t y

end Cert.SsmInGateIdeal.Value

namespace Cert.Proof.SsmInGate

open Idealize.ShloMosaic Idealize.ShloMosaic.TcCoe Idealize.SL.Sem

theorem frame_reference : Cert.quiescent_SsmInGatePlainIdeal (hSsmInGatePlainIdeal := Cert.SsmInGatePlainIdeal.Gen.facts) := fun m ρ _ =>
  (θ_run Cert.SsmInGatePlainIdeal.defs _ _).mono (fun r h => ⟨fun c => (h c).2, sem_eq_zero_of_no_sems (by decide) r.2⟩)
    (Cert.SsmInGatePlainIdeal.Value.run (F := Ideal) m ρ)

theorem algebraic : Cert.algebraic_SsmInGateIdeal_SsmInGatePlainIdeal (hSsmInGateIdeal := Cert.SsmInGateIdeal.Gen.facts)
    (hSsmInGatePlainIdeal := Cert.SsmInGatePlainIdeal.Gen.facts) := by
  intro m g m' g' _ hargs
  refine ⟨fun c => Cert.SsmInGateIdeal.Value.result m c, ?_, ?_⟩
  · exact (θ_run Cert.SsmInGateIdeal.defs _ _).mono (fun r h c => ⟨(h c).1.trans (Cert.SsmInGateIdeal.Value.final m c), (h c).2⟩)
      (Cert.SsmInGateIdeal.Value.run_blocks (F := Ideal) m g)
  · refine (θ_run Cert.SsmInGatePlainIdeal.defs _ _).mono (fun r h c => ⟨(h c).1.trans ?_, (h c).2⟩) (Cert.SsmInGatePlainIdeal.Value.run (F := Ideal) m' g')
    obtain ⟨a0, a1, a2, a3, a4⟩ := hargs c
    rw [a0, a2]; rfl

end Cert.Proof.SsmInGate

end
-- ==== Proof.GluMm.lean ====
module

public import proofs.«01_k».proof.Defs
public import proofs.«01_k».proof.Proof.Gen.GluMm
public import proofs.«01_k».proof.Proof.Gen.GluMm.Frame
public import proofs.«01_k».proof.Proof.Gen.GluMmIdeal
public import proofs.«01_k».proof.Proof.Gen.GluMmIdeal.Value
public import proofs.«01_k».proof.Proof.Gen.GluMmPlainIdeal
public import proofs.«01_k».proof.Proof.Gen.GluMmPlainIdeal.Run
public import proofs.«01_k».proof.Proof.RestBuffer
public import Idealize.ShloMosaic.Lib.Pipeline.ValueKit
public import Idealize.ShloMosaic.Lib.Claim
public import Idealize.ShloMosaic.Lib.Pointwise
public import Idealize.ShloMosaic.Adequacy
public import Idealize.ShloMosaic.Init

/-! The gated linear unit: its product and the gated result. -/

@[expose] public section

set_option maxRecDepth 16384

noncomputable section

namespace Cert.GluMmPlainIdeal

open Cert.GluMmPlainIdeal.Gen Idealize.ShloMosaic

/-- The reference's `gelu`. -/
def gelu (y : FVec Ideal S4096x4096 .f32) : FVec Ideal S4096x4096 .f32 :=
  mulf y (mulf (broadcastInDim S4096x4096 ![] bcast_S_S4096x4096 (constant S_ .f32 0x3F000000#32)) (addf (broadcastInDim S4096x4096 ![] bcast_S_S4096x4096 (constant S_ .f32 0x3F800000#32)) (Host.tanh (mulf (broadcastInDim S4096x4096 ![] bcast_S_S4096x4096 (constant S_ .f32 0x3F4C422A#32)) (addf y (mulf (broadcastInDim S4096x4096 ![] bcast_S_S4096x4096 (constant S_ .f32 0x3D372713#32)) (mulf (mulf y y) y)))))))

/-- The reference's product as a function of its arguments. -/
def PROD (a0 a4 : FVec Ideal S4096x4096 .f32) : FVec Ideal S4096x4096 .f32 :=
  Host.dotGeneral dot_S4096x4096_S4096x4096_S4096x4096_1_0_0_1_n_n none (gelu a0) a4

/-- The reference's gated result as a function of its arguments. -/
def REF (a0 a1 a4 : FVec Ideal S4096x4096 .f32) (a6 : FVec Ideal S4096 .f32) : FVec Ideal S4096x4096 .bf16 :=
  truncf .bf16 (mulf (mulf (gelu a0) (Host.divf (broadcastInDim S4096x4096 ![] bcast_S_S4096x4096 (constant S_ .f32 0x3F800000#32)) (addf (broadcastInDim S4096x4096 ![] bcast_S_S4096x4096 (constant S_ .f32 0x3F800000#32)) (Host.exp (Host.negf (addf (PROD a0 a4) (broadcastInDim S4096x4096 ![0, 1] bcast_S1x4096_S4096x4096_0_1 (broadcastInDim S1x4096 ![1] bcast_S4096_S1x4096_1 a6)))))))) (mulf a1 (Host.divf (broadcastInDim S4096x4096 ![] bcast_S_S4096x4096 (constant S_ .f32 0x3F800000#32)) (addf (broadcastInDim S4096x4096 ![] bcast_S_S4096x4096 (constant S_ .f32 0x3F800000#32)) (Host.exp (Host.negf a1)))))) bitsLt_bf16_f32

end Cert.GluMmPlainIdeal

namespace Cert.GluMmIdeal.Value

open Cert.GluMmIdeal Cert.GluMmIdeal.Gen Idealize.ShloMosaic Idealize.ShloMosaic.TcCoe Idealize.SL.Sem
open Idealize.ShloMosaic.Pipeline (Dat)
open Cert.GluMmPlainIdeal (gelu PROD REF)

variable (m : (ℓ : Loc nD τ sig) → Buf (Elt Ideal) ℓ)

/-- The blocks each grid point works on. -/
theorem idx : ∀ t : Fin cfg0.N, win0_0.index t = ![t.val / 8, 0] ∧ win0_1.index t = ![0, 3, t.val % 8] ∧ win0_2.index t = ![1, 3, t.val % 8] ∧ win0_3.index t = ![2, 3, t.val % 8] ∧ win0_4.index t = ![3, 3, t.val % 8] ∧ win0_5.index t = ![t.val / 8, t.val % 8] ∧ win0_6.index t = ![t.val / 8, t.val % 8] ∧ win0_7.index t = ![0, t.val % 8] ∧ win0_8.index t = ![t.val / 8, t.val % 8] ∧ win0_9.index t = ![t.val / 8, t.val % 8] ∧ t.val / 8 < 4 :=
  (by decide +kernel : ∀ t : Fin grid0.N, _)

/-- The two results, of the arguments as the memory holds them. -/
def product (c : Dev nD) : FVec Ideal S4096x4096 .f32 :=
  PROD (m ((c : Thread nD τ).loc main_arg0)) (m ((c : Thread nD τ).loc main_arg4))

@[inherit_doc product]
def gated (c : Dev nD) : FVec Ideal S4096x4096 .bf16 :=
  REF (m ((c : Thread nD τ).loc main_arg0)) (m ((c : Thread nD τ).loc main_arg1)) (m ((c : Thread nD τ).loc main_arg4)) (m ((c : Thread nD τ).loc main_arg6))

/-- The packed weights, as the kernel finds them. -/
theorem V_packed (c : Dev nD) : V m c main_v7 = Cert.Rest.buffer (m ((c : Thread nD τ).loc main_arg2)) (m ((c : Thread nD τ).loc main_arg3)) (m ((c : Thread nD τ).loc main_arg4)) (m ((c : Thread nD τ).loc main_arg5)) := by
  unfold V
  after_results_simp
  refine Cert.Rest.pack_congr ?_ ?_ ?_ ?_
  all_goals
    repeat first
      | rw [StableHlo.reshape_result] | rw [StableHlo.unary_result]
      | (rw [StableHlo.reshape_result_ne]; rotate_left; decide)
      | (rw [StableHlo.unary_result_ne]; rotate_left; decide)
  all_goals rfl

/-- The kernel's `gelu` and the reference's: the same product, grouped otherwise. -/
theorem gelu_eq (h k a y : EReal) (f : EReal → EReal) :
    h * y * (1 + f (k * (y + a * y * (y * y)))) = y * (h * (1 + f (k * (y + a * (y * y * y))))) := by
  rw [mul_assoc a y, mul_assoc y y y, mul_assoc h y, mul_left_comm]

theorem idx2_ext {a b : ℕ} (i j : (⟨2, ![a, b]⟩ : Shape).Idx) (h0 : (i 0 : ℕ) = j 0) (h1 : (i 1 : ℕ) = j 1) : i = j := by
  funext k
  match k with
  | 0 => exact Fin.ext h0
  | 1 => exact Fin.ext h1

/-- The first factor, as the kernel finds it, is `gelu` of the branch's output. -/
theorem V_factor (c : Dev nD) : V m c main_v39 = gelu (m ((c : Thread nD τ).loc main_arg0)) := by
  unfold V
  after_results_simp
  funext i
  pointwise [gelu]
  exact gelu_eq _ _ _ _ _

/-- The bias, as the kernel finds it. -/
theorem V_bias (c : Dev nD) (i : S1x4096.Idx) (j : S4096.Idx) (h : (i 1 : ℕ) = j 0) : V m c main_v40 i = (m ((c : Thread nD τ).loc main_arg6)) j := by
  unfold V
  after_results_simp
  pointwise []
  refine congrArg ((m ((c : Thread nD τ).loc main_arg6))) (funext fun k => ?_)
  match k with
  | 0 => exact Fin.ext h

set_option maxHeartbeats 2000000 in
/-- What a grid point stores of the product is its block of it. -/
theorem point_product (c : Dev nD) (t : Fin cfg0.N) (y : S1024x512.Idx) :
    k0_pay4 (F := Ideal) (iblk m c 0 t) (iblk m c 1 t) (iblk m c 2 t) (iblk m c 3 t) (iblk m c 4 t) (iblk m c 5 t) (iblk m c 6 t) (iblk m c 7 t) y = PROD (m ((c : Thread nD τ).loc main_arg0)) (m ((c : Thread nD τ).loc main_arg4)) (((cfg0.win 8).blk t).view.emb y) := by
  have hy0 : (y 0 : ℕ) < 1024 := (y 0).isLt
  have hy1 : (y 1 : ℕ) < 512 := (y 1).isLt
  unfold k0_pay4
  simp (disch := decide) only [View.ld_unit_lit']
  pointwise [k0_pay2, PROD]
  rw [Cert.Rest.sum_four]
  refine congrArg₂ (· + ·) (congrArg₂ (· + ·) (congrArg₂ (· + ·) (Finset.sum_congr rfl fun x _ => ?_) (Finset.sum_congr rfl fun x _ => ?_)) (Finset.sum_congr rfl fun x _ => ?_)) (Finset.sum_congr rfl fun x _ => ?_)
  all_goals
    have hx := x.isLt
    refine Ideal.mul_congr ?_ ?_
    · refine (congrFun (V_factor m c) _).trans (congrArg (gelu _) (idx2_ext _ _ ?_ ?_))
      all_goals blk_simp [idx t]
    · refine (congrFun (V_packed m c) _).trans (Cert.Rest.buffer_glu _ _ _ _ _ _ ?_ ?_ ?_ ?_)
      all_goals blk_simp [idx t]
      all_goals first | omega | (dsimp only; omega)

set_option maxHeartbeats 2000000 in
/-- What a grid point stores of the gated result is its block of it. -/
theorem point_gated (c : Dev nD) (t : Fin cfg0.N) (y : S1024x512.Idx) (v : FVec Ideal S1024x512 .f32) (hv : v y = PROD (m ((c : Thread nD τ).loc main_arg0)) (m ((c : Thread nD τ).loc main_arg4)) (((cfg0.win 9).blk t).view.emb y)) :
    k0_pay1 (F := Ideal) v (iblk m c 5 t) (iblk m c 6 t) (k0_pay3 (iblk m c 7 t)) y = REF (m ((c : Thread nD τ).loc main_arg0)) (m ((c : Thread nD τ).loc main_arg1)) (m ((c : Thread nD τ).loc main_arg4)) (m ((c : Thread nD τ).loc main_arg6)) (((cfg0.win 9).blk t).view.emb y) := by
  have h5 : iblk m c 5 t y = (m ((c : Thread nD τ).loc main_arg0)) (((cfg0.win 9).blk t).view.emb y) := by
    refine (congrFun (V_main_arg0 m c) _).trans (congrArg _ (idx2_ext _ _ ?_ ?_))
    all_goals blk_simp [idx t]
  have h6 : iblk m c 6 t y = (m ((c : Thread nD τ).loc main_arg1)) (((cfg0.win 9).blk t).view.emb y) := by
    refine (congrFun (V_main_arg1 m c) _).trans (congrArg _ (idx2_ext _ _ ?_ ?_))
    all_goals blk_simp [idx t]
  have h7 : iblk m c 7 t (ix2 0 (y 1)) = (m ((c : Thread nD τ).loc main_arg6)) (ix1 (((cfg0.win 9).blk t).view.emb y 1)) := by
    refine V_bias m c _ _ ?_
    blk_simp [idx t]
  pointwise [k0_pay1, k0_pay3, REF, gelu]
  rw [h5, h6, h7, hv, zero_sub, zero_sub]
  exact congrArg₂ (· * ·) (congrArg₂ (· * ·) (gelu_eq _ _ _ _ _) rfl) rfl

/-- The first output array is the product. -/
theorem final_product (c : Dev nD) : (dats m 0 c).arrAt 8 (cfgs 0).N = product m c := by
  refine (dats m 0 c).arrAt_eq_of_covers 8 _ (by decide +kernel) fun t _ y => ?_
  blk_simp
  rw [after0_8]; frame_out
  exact point_product m c t y

/-- The second output array is the gated result. -/
theorem final_gated (c : Dev nD) : (dats m 0 c).arrAt 9 (cfgs 0).N = gated m c := by
  refine (dats m 0 c).arrAt_eq_of_covers 9 _ (by decide +kernel) fun t _ y => ?_
  blk_simp
  rw [after0_9]; frame_out
  exact point_gated m c t y _ (point_product m c t y)

end Cert.GluMmIdeal.Value

namespace Cert.Proof.GluMm

open Idealize.ShloMosaic Idealize.ShloMosaic.TcCoe Idealize.SL.Sem

theorem frame_reference : Cert.quiescent_GluMmPlainIdeal (hGluMmPlainIdeal := Cert.GluMmPlainIdeal.Gen.facts) := fun m ρ _ =>
  (θ_run Cert.GluMmPlainIdeal.defs _ _).mono (fun r h => ⟨fun c => (h c).2.2, sem_eq_zero_of_no_sems (by decide) r.2⟩)
    (Cert.GluMmPlainIdeal.Value.run (F := Ideal) m ρ)

theorem algebraic : Cert.algebraic_GluMmIdeal_GluMmPlainIdeal (hGluMmIdeal := Cert.GluMmIdeal.Gen.facts)
    (hGluMmPlainIdeal := Cert.GluMmPlainIdeal.Gen.facts) := by
  intro m g m' g' _ hargs
  refine ⟨fun c => Cert.GluMmIdeal.Value.product m c, fun c => Cert.GluMmIdeal.Value.gated m c, ?_, ?_⟩
  · exact (θ_run Cert.GluMmIdeal.defs _ _).mono (fun r h c => ⟨(h c).1.trans (Cert.GluMmIdeal.Value.final_product m c),
      (h c).2.1.trans (Cert.GluMmIdeal.Value.final_gated m c), (h c).2.2⟩) (Cert.GluMmIdeal.Value.run_blocks (F := Ideal) m g)
  · refine (θ_run Cert.GluMmPlainIdeal.defs _ _).mono (fun r h c => ⟨(h c).1.trans ?_, (h c).2.1.trans ?_, (h c).2.2⟩)
      (Cert.GluMmPlainIdeal.Value.run (F := Ideal) m' g')
    · obtain ⟨a0, a1, a2, a3, a4, a5, a6⟩ := hargs c
      rw [a0, a4]; rfl
    · obtain ⟨a0, a1, a2, a3, a4, a5, a6⟩ := hargs c
      rw [a0, a1, a4, a6]; rfl

end Cert.Proof.GluMm

end
-- ==== Proof.SsmOut.lean ====
module

public import proofs.«01_k».proof.Defs
public import proofs.«01_k».proof.Proof.Gen.SsmOut
public import proofs.«01_k».proof.Proof.Gen.SsmOut.Frame
public import proofs.«01_k».proof.Proof.Gen.SsmOutIdeal
public import proofs.«01_k».proof.Proof.Gen.SsmOutIdeal.Value
public import proofs.«01_k».proof.Proof.Gen.SsmOutPlainIdeal
public import proofs.«01_k».proof.Proof.Gen.SsmOutPlainIdeal.Run
public import proofs.«01_k».proof.Proof.RestBuffer
public import Idealize.ShloMosaic.Lib.Pipeline.ValueKit
public import Idealize.ShloMosaic.Lib.Claim
public import Idealize.ShloMosaic.Lib.Pointwise
public import Idealize.ShloMosaic.Adequacy
public import Idealize.ShloMosaic.Init

/-! The state-space branch's output projection, added to the residual stream. -/

@[expose] public section

set_option maxRecDepth 16384

noncomputable section

namespace Cert.SsmOutPlainIdeal

open Cert.SsmOutPlainIdeal.Gen Idealize.ShloMosaic

/-- The reference's result as a function of its arguments. -/
def REF (a0 : FVec Ideal S4096x4096 .bf16) (a1 : FVec Ideal S4096x4096 .f32) (a5 : FVec Ideal S4096x4096 .f32) : FVec Ideal S4096x4096 .f32 :=
  addf a1 (Host.dotGeneral dot_S4096x4096_S4096x4096_S4096x4096_1_0_0_1_n_n none (extf .f32 a0 bitsLt_bf16_f32) a5)

end Cert.SsmOutPlainIdeal

namespace Cert.SsmOutIdeal.Value

open Cert.SsmOutIdeal Cert.SsmOutIdeal.Gen Idealize.ShloMosaic Idealize.ShloMosaic.TcCoe Idealize.SL.Sem
open Idealize.ShloMosaic.Pipeline (Dat)
open Cert.SsmOutPlainIdeal (REF)

variable (m : (ℓ : Loc nD τ sig) → Buf (Elt Ideal) ℓ)

/-- The blocks each grid point works on. -/
theorem idx : ∀ t : Fin cfg0.N, win0_0.index t = ![t.val / 4, 0] ∧ win0_1.index t = ![0, 4, t.val % 4] ∧ win0_2.index t = ![1, 4, t.val % 4] ∧ win0_3.index t = ![2, 4, t.val % 4] ∧ win0_4.index t = ![3, 4, t.val % 4] ∧ win0_5.index t = ![t.val / 4, t.val % 4] ∧ win0_6.index t = ![t.val / 4, t.val % 4] ∧ t.val / 4 < 4 :=
  (by decide +kernel : ∀ t : Fin grid0.N, _)

/-- The result, of the arguments as the memory holds them. -/
def result (c : Dev nD) : FVec Ideal S4096x4096 .f32 :=
  REF (m ((c : Thread nD τ).loc main_arg0)) (m ((c : Thread nD τ).loc main_arg1)) (m ((c : Thread nD τ).loc main_arg5))

/-- The packed weights, as the kernel finds them. -/
theorem V_packed (c : Dev nD) : V m c main_v7 = Cert.Rest.buffer (m ((c : Thread nD τ).loc main_arg2)) (m ((c : Thread nD τ).loc main_arg3)) (m ((c : Thread nD τ).loc main_arg4)) (m ((c : Thread nD τ).loc main_arg5)) := by
  unfold V
  after_results_simp
  refine Cert.Rest.pack_congr ?_ ?_ ?_ ?_
  all_goals
    repeat first
      | rw [StableHlo.reshape_result] | rw [StableHlo.unary_result]
      | (rw [StableHlo.reshape_result_ne]; rotate_left; decide)
      | (rw [StableHlo.unary_result_ne]; rotate_left; decide)
  all_goals rfl

/-- What a grid point stores is its block of the result. -/
theorem point (c : Dev nD) (t : Fin cfg0.N) (y : S1024x1024.Idx) :
    k0_pay1 (F := Ideal) (View.ld (iblk m c 0 t) r0_0) (iblk m c 1 t) (View.ld (iblk m c 0 t) r0_2) (iblk m c 2 t) (View.ld (iblk m c 0 t) r0_3) (iblk m c 3 t) (View.ld (iblk m c 0 t) r0_4) (iblk m c 4 t) (iblk m c 5 t) y = REF (m ((c : Thread nD τ).loc main_arg0)) (m ((c : Thread nD τ).loc main_arg1)) (m ((c : Thread nD τ).loc main_arg5)) (((cfg0.win 6).blk t).view.emb y) := by
  have hy0 : (y 0 : ℕ) < 1024 := (y 0).isLt
  have hy1 : (y 1 : ℕ) < 1024 := (y 1).isLt
  pointwise [k0_pay1, REF]
  rw [Cert.Rest.sum_four]
  refine (add_comm (G := EReal) _ _).trans (congrArg₂ (· + ·) ?_ (congrArg₂ (· + ·) (congrArg₂ (· + ·) (congrArg₂ (· + ·) (Finset.sum_congr rfl fun x _ => ?_) (Finset.sum_congr rfl fun x _ => ?_)) (Finset.sum_congr rfl fun x _ => ?_)) (Finset.sum_congr rfl fun x _ => ?_)))
  · blk_point [iblk, V, idx t]
  · have hx := x.isLt
    refine Ideal.mul_congr ?_ ?_
    · blk_point [iblk, V, idx t]
    · refine (congrFun (V_packed m c) _).trans (Cert.Rest.buffer_ssm_out _ _ _ _ _ _ ?_ ?_ ?_)
      all_goals blk_simp [idx t]
      all_goals first | omega | (dsimp only; omega)
  · have hx := x.isLt
    refine Ideal.mul_congr ?_ ?_
    · blk_point [iblk, V, idx t]
    · refine (congrFun (V_packed m c) _).trans (Cert.Rest.buffer_ssm_out _ _ _ _ _ _ ?_ ?_ ?_)
      all_goals blk_simp [idx t]
      all_goals first | omega | (dsimp only; omega)
  · have hx := x.isLt
    refine Ideal.mul_congr ?_ ?_
    · blk_point [iblk, V, idx t]
    · refine (congrFun (V_packed m c) _).trans (Cert.Rest.buffer_ssm_out _ _ _ _ _ _ ?_ ?_ ?_)
      all_goals blk_simp [idx t]
      all_goals first | omega | (dsimp only; omega)
  · have hx := x.isLt
    refine Ideal.mul_congr ?_ ?_
    · blk_point [iblk, V, idx t]
    · refine (congrFun (V_packed m c) _).trans (Cert.Rest.buffer_ssm_out _ _ _ _ _ _ ?_ ?_ ?_)
      all_goals blk_simp [idx t]
      all_goals first | omega | (dsimp only; omega)

/-- The output array is the result. -/
theorem final (c : Dev nD) : (dats m 0 c).arrAt 6 (cfgs 0).N = result m c := by
  refine (dats m 0 c).arrAt_eq_of_covers 6 _ (by decide +kernel) fun t _ y => ?_
  blk_simp
  rw [after0_6]; frame_out
  exact point m c t y

end Cert.SsmOutIdeal.Value

namespace Cert.Proof.SsmOut

open Idealize.ShloMosaic Idealize.ShloMosaic.TcCoe Idealize.SL.Sem

theorem frame_reference : Cert.quiescent_SsmOutPlainIdeal (hSsmOutPlainIdeal := Cert.SsmOutPlainIdeal.Gen.facts) := fun m ρ _ =>
  (θ_run Cert.SsmOutPlainIdeal.defs _ _).mono (fun r h => ⟨fun c => (h c).2, sem_eq_zero_of_no_sems (by decide) r.2⟩)
    (Cert.SsmOutPlainIdeal.Value.run (F := Ideal) m ρ)

theorem algebraic : Cert.algebraic_SsmOutIdeal_SsmOutPlainIdeal (hSsmOutIdeal := Cert.SsmOutIdeal.Gen.facts)
    (hSsmOutPlainIdeal := Cert.SsmOutPlainIdeal.Gen.facts) := by
  intro m g m' g' _ hargs
  refine ⟨fun c => Cert.SsmOutIdeal.Value.result m c, ?_, ?_⟩
  · exact (θ_run Cert.SsmOutIdeal.defs _ _).mono (fun r h c => ⟨(h c).1.trans (Cert.SsmOutIdeal.Value.final m c), (h c).2⟩)
      (Cert.SsmOutIdeal.Value.run_blocks (F := Ideal) m g)
  · refine (θ_run Cert.SsmOutPlainIdeal.defs _ _).mono (fun r h c => ⟨(h c).1.trans ?_, (h c).2⟩) (Cert.SsmOutPlainIdeal.Value.run (F := Ideal) m' g')
    obtain ⟨a0, a1, a2, a3, a4, a5⟩ := hargs c
    rw [a0, a1, a5]; rfl

end Cert.Proof.SsmOut

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Rests
public import proofs.«01_k».proof.Proof.Finite
public import proofs.«01_k».proof.Proof.SsmOutDgrad
public import proofs.«01_k».proof.Proof.AttnOutDgrad
public import proofs.«01_k».proof.Proof.GluDgrad
public import proofs.«01_k».proof.Proof.SsmInDgradU
public import proofs.«01_k».proof.Proof.SsmInDgradGate
public import proofs.«01_k».proof.Proof.AttnInDgrad0
public import proofs.«01_k».proof.Proof.AttnInDgrad1
public import proofs.«01_k».proof.Proof.AttnInDgrad2
public import proofs.«01_k».proof.Proof.AttnInDgrad3
public import proofs.«01_k».proof.Proof.SsmOutWgrad
public import proofs.«01_k».proof.Proof.GluWgrad
public import proofs.«01_k».proof.Proof.SsmInWgradU
public import proofs.«01_k».proof.Proof.SsmInWgradGate
public import proofs.«01_k».proof.Proof.AttnOutWgrad
public import proofs.«01_k».proof.Proof.AttnInWgrad0
public import proofs.«01_k».proof.Proof.AttnInWgrad1
public import proofs.«01_k».proof.Proof.AttnInWgrad2
public import proofs.«01_k».proof.Proof.AttnInWgrad3
public import proofs.«01_k».proof.Proof.AttnIn0
public import proofs.«01_k».proof.Proof.AttnIn1
public import proofs.«01_k».proof.Proof.AttnIn2
public import proofs.«01_k».proof.Proof.AttnIn3
public import proofs.«01_k».proof.Proof.AttnOut
public import proofs.«01_k».proof.Proof.SsmInU
public import proofs.«01_k».proof.Proof.SsmInGate
public import proofs.«01_k».proof.Proof.GluMm
public import proofs.«01_k».proof.Proof.SsmOut
public import Idealize.ShloMosaic.Adequacy
public import Idealize.ShloMosaic.Init

@[expose] public section

noncomputable section

namespace Cert.Proof

open Idealize.ShloMosaic Idealize.SL.Sem

/-- The reference runs and leaves its arguments alone; it has no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem facts_finite : Cert.Pre_finite.Facts where
  bitsLt_bf16_f32 := by decide
  bcast_S_S4096x4096 := by decide
  reducesTo_S4096x4096_S_d0_1 := by decide
  h_S_ := by decide

open Cert.Attn in
/-- The kernel's three results are those of the plain mathematics, whenever the arrays hold real numbers. -/
theorem algebraic : Cert.algebraic_KernelIdeal_ReferenceIdeal_pre_finite (hKernelIdeal := Cert.KernelIdeal.Gen.facts)
    (hReferenceIdeal := Cert.ReferenceIdeal.Gen.facts) (hPre_finite := facts_finite) := by
  intro m g m' g' hpre hargs
  let x : (c : Dev Cert.KernelIdeal.nD) → Step := fun c =>
    ⟨real2 (m ((c.tc : Thread Cert.KernelIdeal.nD Cert.KernelIdeal.τ).loc Cert.KernelIdeal.main_arg0)),
      real2 (m ((c.tc : Thread Cert.KernelIdeal.nD Cert.KernelIdeal.τ).loc Cert.KernelIdeal.main_arg1)),
      real2 (m ((c.tc : Thread Cert.KernelIdeal.nD Cert.KernelIdeal.τ).loc Cert.KernelIdeal.main_arg2)),
      real2 (m ((c.tc : Thread Cert.KernelIdeal.nD Cert.KernelIdeal.τ).loc Cert.KernelIdeal.main_arg3))⟩
  have hx := fun c => @finite_args facts_finite _ _ _ _ (hpre c)
  refine ⟨fun c => up2 4096 4096 (x c).dq, fun c => up2 4096 4096 (x c).dk, fun c => up2 4096 4096 (x c).dv, ?_, ?_⟩
  · refine (θ_run Cert.KernelIdeal.defs _ _).mono (fun r h c => ?_) (Cert.KernelIdeal.Value.run_blocks (F := Ideal) m g)
    obtain ⟨hq, hk, hv, hd⟩ := hx c
    have hb : ∀ j, Cert.KernelIdeal.Gen.V (F := Ideal) m c Cert.KernelIdeal.main_v20 j
        = ((∑ k ∈ Finset.range 2048, (x c).l (j 0).val (j 1).val (j 2).val k : ℝ) : EReal) := fun j =>
      (congrFun ((Cert.KernelIdeal.Value.entry_rests m c).trans (congrArg₂ rests hq hk)) j).trans (rests_up (x c) j)
    obtain ⟨h0, h1, h2, h3⟩ := h c
    exact ⟨h0.trans (final_dq m c (x c) hq hk hv hd hb), h1.trans (final_dk m c (x c) hq hk hv hd hb),
      h2.trans (final_dv m c (x c) hq hk hv hd hb), h3⟩
  · refine (θ_run Cert.ReferenceIdeal.defs _ _).mono (fun r h c => ?_) (Cert.ReferenceIdeal.Value.run (F := Ideal) m' g')
    obtain ⟨hq, hk, hv, hd⟩ := hx c
    obtain ⟨a0, a1, a2, a3⟩ := hargs c
    have b0 := a0.trans hq
    have b1 := a1.trans hk
    have b2 := a2.trans hv
    have b3 := a3.trans hd
    obtain ⟨h0, h1, h2, h3⟩ := h c
    refine ⟨h0.trans ((res_dq m' c).trans ?_), h1.trans ((res_dk m' c).trans ?_), h2.trans ((res_dv m' c).trans ?_), h3⟩
    · rw [b0, b1, b2, b3]; exact plain_dq_up (x c)
    · rw [b0, b1, b2, b3]; exact plain_dk_up (x c)
    · rw [b0, b1, b2, b3]; exact plain_dv_up (x c)

theorem claim : Cert.Claim := ⟨Cert.Kernel.Gen.facts, Cert.KernelIdeal.Gen.facts, Cert.ReferenceIdeal.Gen.facts,
  Cert.SsmOutDgrad.Gen.facts, Cert.SsmOutDgradIdeal.Gen.facts, Cert.SsmOutDgradPlainIdeal.Gen.facts,
  Cert.AttnOutDgrad.Gen.facts, Cert.AttnOutDgradIdeal.Gen.facts, Cert.AttnOutDgradPlainIdeal.Gen.facts,
  Cert.GluDgrad.Gen.facts, Cert.GluDgradIdeal.Gen.facts, Cert.GluDgradPlainIdeal.Gen.facts,
  Cert.SsmInDgradU.Gen.facts, Cert.SsmInDgradUIdeal.Gen.facts, Cert.SsmInDgradUPlainIdeal.Gen.facts,
  Cert.SsmInDgradGate.Gen.facts, Cert.SsmInDgradGateIdeal.Gen.facts, Cert.SsmInDgradGatePlainIdeal.Gen.facts,
  Cert.AttnInDgrad0.Gen.facts, Cert.AttnInDgrad0Ideal.Gen.facts, Cert.AttnInDgrad0PlainIdeal.Gen.facts,
  Cert.AttnInDgrad1.Gen.facts, Cert.AttnInDgrad1Ideal.Gen.facts, Cert.AttnInDgrad1PlainIdeal.Gen.facts,
  Cert.AttnInDgrad2.Gen.facts, Cert.AttnInDgrad2Ideal.Gen.facts, Cert.AttnInDgrad2PlainIdeal.Gen.facts,
  Cert.AttnInDgrad3.Gen.facts, Cert.AttnInDgrad3Ideal.Gen.facts, Cert.AttnInDgrad3PlainIdeal.Gen.facts,
  Cert.SsmOutWgrad.Gen.facts, Cert.SsmOutWgradIdeal.Gen.facts, Cert.SsmOutWgradPlainIdeal.Gen.facts,
  Cert.GluWgrad.Gen.facts, Cert.GluWgradIdeal.Gen.facts, Cert.GluWgradPlainIdeal.Gen.facts,
  Cert.SsmInWgradU.Gen.facts, Cert.SsmInWgradUIdeal.Gen.facts, Cert.SsmInWgradUPlainIdeal.Gen.facts,
  Cert.SsmInWgradGate.Gen.facts, Cert.SsmInWgradGateIdeal.Gen.facts, Cert.SsmInWgradGatePlainIdeal.Gen.facts,
  Cert.AttnOutWgrad.Gen.facts, Cert.AttnOutWgradIdeal.Gen.facts, Cert.AttnOutWgradPlainIdeal.Gen.facts,
  Cert.AttnInWgrad0.Gen.facts, Cert.AttnInWgrad0Ideal.Gen.facts, Cert.AttnInWgrad0PlainIdeal.Gen.facts,
  Cert.AttnInWgrad1.Gen.facts, Cert.AttnInWgrad1Ideal.Gen.facts, Cert.AttnInWgrad1PlainIdeal.Gen.facts,
  Cert.AttnInWgrad2.Gen.facts, Cert.AttnInWgrad2Ideal.Gen.facts, Cert.AttnInWgrad2PlainIdeal.Gen.facts,
  Cert.AttnInWgrad3.Gen.facts, Cert.AttnInWgrad3Ideal.Gen.facts, Cert.AttnInWgrad3PlainIdeal.Gen.facts,
  Cert.AttnIn0.Gen.facts, Cert.AttnIn0Ideal.Gen.facts, Cert.AttnIn0PlainIdeal.Gen.facts,
  Cert.AttnIn1.Gen.facts, Cert.AttnIn1Ideal.Gen.facts, Cert.AttnIn1PlainIdeal.Gen.facts,
  Cert.AttnIn2.Gen.facts, Cert.AttnIn2Ideal.Gen.facts, Cert.AttnIn2PlainIdeal.Gen.facts,
  Cert.AttnIn3.Gen.facts, Cert.AttnIn3Ideal.Gen.facts, Cert.AttnIn3PlainIdeal.Gen.facts,
  Cert.AttnOut.Gen.facts, Cert.AttnOutIdeal.Gen.facts, Cert.AttnOutPlainIdeal.Gen.facts,
  Cert.SsmInU.Gen.facts, Cert.SsmInUIdeal.Gen.facts, Cert.SsmInUPlainIdeal.Gen.facts,
  Cert.SsmInGate.Gen.facts, Cert.SsmInGateIdeal.Gen.facts, Cert.SsmInGatePlainIdeal.Gen.facts,
  Cert.GluMm.Gen.facts, Cert.GluMmIdeal.Gen.facts, Cert.GluMmPlainIdeal.Gen.facts,
  Cert.SsmOut.Gen.facts, Cert.SsmOutIdeal.Gen.facts, Cert.SsmOutPlainIdeal.Gen.facts,
  facts_finite, Cert.Gates.facts_gate, Cert.Gates.facts_glu,
  fun m ρ _ => Cert.Kernel.Gen.frame (F := Bits) m ρ, fun m ρ _ => Cert.KernelIdeal.Gen.frame m ρ, fun m ρ _ => Cert.KernelIdeal.Gen.frame m ρ,
  frame_reference, fun m ρ _ => frame_reference m ρ trivial,
  fun m ρ _ => Cert.SsmOutDgrad.Gen.frame (F := Bits) m ρ, fun m ρ _ => Cert.SsmOutDgradIdeal.Gen.frame m ρ, Cert.Proof.SsmOutDgrad.frame_reference,
  fun m ρ _ => Cert.AttnOutDgrad.Gen.frame (F := Bits) m ρ, fun m ρ _ => Cert.AttnOutDgradIdeal.Gen.frame m ρ, fun m ρ _ => Cert.AttnOutDgradIdeal.Gen.frame m ρ,
  Cert.Proof.AttnOutDgrad.frame_reference, fun m ρ _ => Cert.Proof.AttnOutDgrad.frame_reference m ρ trivial,
  fun m ρ _ => Cert.GluDgrad.Gen.frame (F := Bits) m ρ, fun m ρ _ => Cert.GluDgradIdeal.Gen.frame m ρ, fun m ρ _ => Cert.GluDgradIdeal.Gen.frame m ρ,
  Cert.Proof.GluDgrad.frame_reference, fun m ρ _ => Cert.Proof.GluDgrad.frame_reference m ρ trivial,
  fun m ρ _ => Cert.SsmInDgradU.Gen.frame (F := Bits) m ρ, fun m ρ _ => Cert.SsmInDgradUIdeal.Gen.frame m ρ, Cert.Proof.SsmInDgradU.frame_reference,
  fun m ρ _ => Cert.SsmInDgradGate.Gen.frame (F := Bits) m ρ, fun m ρ _ => Cert.SsmInDgradGateIdeal.Gen.frame m ρ, Cert.Proof.SsmInDgradGate.frame_reference,
  fun m ρ _ => Cert.AttnInDgrad0.Gen.frame (F := Bits) m ρ, fun m ρ _ => Cert.AttnInDgrad0Ideal.Gen.frame m ρ, Cert.Proof.AttnInDgrad0.frame_reference,
  fun m ρ _ => Cert.AttnInDgrad1.Gen.frame (F := Bits) m ρ, fun m ρ _ => Cert.AttnInDgrad1Ideal.Gen.frame m ρ, Cert.Proof.AttnInDgrad1.frame_reference,
  fun m ρ _ => Cert.AttnInDgrad2.Gen.frame (F := Bits) m ρ, fun m ρ _ => Cert.AttnInDgrad2Ideal.Gen.frame m ρ, Cert.Proof.AttnInDgrad2.frame_reference,
  fun m ρ _ => Cert.AttnInDgrad3.Gen.frame (F := Bits) m ρ, fun m ρ _ => Cert.AttnInDgrad3Ideal.Gen.frame m ρ, Cert.Proof.AttnInDgrad3.frame_reference,
  fun m ρ _ => Cert.SsmOutWgrad.Gen.frame (F := Bits) m ρ, fun m ρ _ => Cert.SsmOutWgradIdeal.Gen.frame m ρ, Cert.Proof.SsmOutWgrad.frame_reference,
  fun m ρ _ => Cert.GluWgrad.Gen.frame (F := Bits) m ρ, fun m ρ _ => Cert.GluWgradIdeal.Gen.frame m ρ, Cert.Proof.GluWgrad.frame_reference,
  fun m ρ _ => Cert.SsmInWgradU.Gen.frame (F := Bits) m ρ, fun m ρ _ => Cert.SsmInWgradUIdeal.Gen.frame m ρ, Cert.Proof.SsmInWgradU.frame_reference,
  fun m ρ _ => Cert.SsmInWgradGate.Gen.frame (F := Bits) m ρ, fun m ρ _ => Cert.SsmInWgradGateIdeal.Gen.frame m ρ, Cert.Proof.SsmInWgradGate.frame_reference,
  fun m ρ _ => Cert.AttnOutWgrad.Gen.frame (F := Bits) m ρ, fun m ρ _ => Cert.AttnOutWgradIdeal.Gen.frame m ρ, Cert.Proof.AttnOutWgrad.frame_reference,
  fun m ρ _ => Cert.AttnInWgrad0.Gen.frame (F := Bits) m ρ, fun m ρ _ => Cert.AttnInWgrad0Ideal.Gen.frame m ρ, Cert.Proof.AttnInWgrad0.frame_reference,
  fun m ρ _ => Cert.AttnInWgrad1.Gen.frame (F := Bits) m ρ, fun m ρ _ => Cert.AttnInWgrad1Ideal.Gen.frame m ρ, Cert.Proof.AttnInWgrad1.frame_reference,
  fun m ρ _ => Cert.AttnInWgrad2.Gen.frame (F := Bits) m ρ, fun m ρ _ => Cert.AttnInWgrad2Ideal.Gen.frame m ρ, Cert.Proof.AttnInWgrad2.frame_reference,
  fun m ρ _ => Cert.AttnInWgrad3.Gen.frame (F := Bits) m ρ, fun m ρ _ => Cert.AttnInWgrad3Ideal.Gen.frame m ρ, Cert.Proof.AttnInWgrad3.frame_reference,
  fun m ρ _ => Cert.AttnIn0.Gen.frame (F := Bits) m ρ, fun m ρ _ => Cert.AttnIn0Ideal.Gen.frame m ρ, Cert.Proof.AttnIn0.frame_reference,
  fun m ρ _ => Cert.AttnIn1.Gen.frame (F := Bits) m ρ, fun m ρ _ => Cert.AttnIn1Ideal.Gen.frame m ρ, Cert.Proof.AttnIn1.frame_reference,
  fun m ρ _ => Cert.AttnIn2.Gen.frame (F := Bits) m ρ, fun m ρ _ => Cert.AttnIn2Ideal.Gen.frame m ρ, Cert.Proof.AttnIn2.frame_reference,
  fun m ρ _ => Cert.AttnIn3.Gen.frame (F := Bits) m ρ, fun m ρ _ => Cert.AttnIn3Ideal.Gen.frame m ρ, Cert.Proof.AttnIn3.frame_reference,
  fun m ρ _ => Cert.AttnOut.Gen.frame (F := Bits) m ρ, fun m ρ _ => Cert.AttnOutIdeal.Gen.frame m ρ, Cert.Proof.AttnOut.frame_reference,
  fun m ρ _ => Cert.SsmInU.Gen.frame (F := Bits) m ρ, fun m ρ _ => Cert.SsmInUIdeal.Gen.frame m ρ, Cert.Proof.SsmInU.frame_reference,
  fun m ρ _ => Cert.SsmInGate.Gen.frame (F := Bits) m ρ, fun m ρ _ => Cert.SsmInGateIdeal.Gen.frame m ρ, Cert.Proof.SsmInGate.frame_reference,
  fun m ρ _ => Cert.GluMm.Gen.frame (F := Bits) m ρ, fun m ρ _ => Cert.GluMmIdeal.Gen.frame m ρ, Cert.Proof.GluMm.frame_reference,
  fun m ρ _ => Cert.SsmOut.Gen.frame (F := Bits) m ρ, fun m ρ _ => Cert.SsmOutIdeal.Gen.frame m ρ, Cert.Proof.SsmOut.frame_reference,
  trivial, algebraic,
  trivial, Cert.Proof.SsmOutDgrad.algebraic,
  trivial, Cert.Proof.AttnOutDgrad.algebraic,
  ⟨IdealRules.named_const.statement Cert.GluDgradIdeal.κ "cubic" .f32 0x3D372713#32 ((8943 / 200000 : ℝ) : EReal) rfl,
    IdealRules.named_const.statement Cert.GluDgradIdeal.κ "three_cubic" .f32 0x3E095D4F#32 ((26829 / 200000 : ℝ) : EReal) rfl⟩, Cert.Proof.GluDgrad.algebraic,
  trivial, Cert.Proof.SsmInDgradU.algebraic,
  trivial, Cert.Proof.SsmInDgradGate.algebraic,
  trivial, Cert.Proof.AttnInDgrad0.algebraic,
  trivial, Cert.Proof.AttnInDgrad1.algebraic,
  trivial, Cert.Proof.AttnInDgrad2.algebraic,
  trivial, Cert.Proof.AttnInDgrad3.algebraic,
  trivial, Cert.Proof.SsmOutWgrad.algebraic,
  trivial, Cert.Proof.GluWgrad.algebraic,
  trivial, Cert.Proof.SsmInWgradU.algebraic,
  trivial, Cert.Proof.SsmInWgradGate.algebraic,
  trivial, Cert.Proof.AttnOutWgrad.algebraic,
  trivial, Cert.Proof.AttnInWgrad0.algebraic,
  trivial, Cert.Proof.AttnInWgrad1.algebraic,
  trivial, Cert.Proof.AttnInWgrad2.algebraic,
  trivial, Cert.Proof.AttnInWgrad3.algebraic,
  trivial, Cert.Proof.AttnIn0.algebraic,
  trivial, Cert.Proof.AttnIn1.algebraic,
  trivial, Cert.Proof.AttnIn2.algebraic,
  trivial, Cert.Proof.AttnIn3.algebraic,
  trivial, Cert.Proof.AttnOut.algebraic,
  trivial, Cert.Proof.SsmInU.algebraic,
  trivial, Cert.Proof.SsmInGate.algebraic,
  trivial, Cert.Proof.GluMm.algebraic,
  trivial, Cert.Proof.SsmOut.algebraic⟩

end Cert.Proof

end
